-- ==== Defs.lean ====
def Pre_GdnB (m : (ℓ : Loc Cert.GdnB.nD Cert.GdnB.τ Cert.GdnB.sig) → Buf (Elt Bits) ℓ) : Prop :=
  True

def Pre_GdnBIdeal (m : (ℓ : Loc Cert.GdnBIdeal.nD Cert.GdnBIdeal.τ Cert.GdnBIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWRefIdeal (m : (ℓ : Loc Cert.DownWRefIdeal.nD Cert.DownWRefIdeal.τ Cert.DownWRefIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_QkvW (m : (ℓ : Loc Cert.QkvW.nD Cert.QkvW.τ Cert.QkvW.sig) → Buf (Elt Bits) ℓ) : Prop :=
  True

def Pre_QkvWIdeal (m : (ℓ : Loc Cert.QkvWIdeal.nD Cert.QkvWIdeal.τ Cert.QkvWIdeal.sig) → Buf (Elt Ideal) ℓ) : Prop :=
  True

def Pre_QkvWRefIdeal (m : (ℓ : Loc Cert.QkvWRefIdeal.nD Cert.QkvWRefIdeal.τ Cert.QkvWRefIdeal.sig) → Buf (Elt Ideal) ℓ) : Prop :=
  True

def Pre_GateW (m : (ℓ : Loc Cert.GateW.nD Cert.GateW.τ Cert.GateW.sig) → Buf (Elt Bits) ℓ) : Prop :=
  True

def Pre_GateWIdeal (m : (ℓ : Loc Cert.GateWIdeal.nD Cert.GateWIdeal.τ Cert.GateWIdeal.sig) → Buf (Elt Ideal) ℓ) : Prop :=
  True

def Pre_GateWRefIdeal (m : (ℓ : Loc Cert.GateWRefIdeal.nD Cert.GateWRefIdeal.τ Cert.GateWRefIdeal.sig) → Buf (Elt Ideal) ℓ) : Prop :=
  True

def Pre_PoolBaW (m : (ℓ : Loc Cert.PoolBaW.nD Cert.PoolBaW.τ Cert.PoolBaW.sig) → Buf (Elt Bits) ℓ) : Prop :=
  True

def Pre_PoolBaWIdeal (m : (ℓ : Loc Cert.PoolBaWIdeal.nD Cert.PoolBaWIdeal.τ Cert.PoolBaWIdeal.sig) → Buf (Elt Ideal) ℓ) : Prop :=
  True

def Pre_PoolBaWRefIdeal (m : (ℓ : Loc Cert.PoolBaWRefIdeal.nD Cert.PoolBaWRefIdeal.τ Cert.PoolBaWRefIdeal.sig) → Buf (Elt Ideal) ℓ) : Prop :=
  True

def Pre_DownX (m : (ℓ : Loc Cert.DownX.nD Cert.DownX.τ Cert.DownX.sig) → Buf (Elt Bits) ℓ) : Prop :=
  True

def Pre_DownXIdeal (m : (ℓ : Loc Cert.DownXIdeal.nD Cert.DownXIdeal.τ Cert.DownXIdeal.sig) → Buf (Elt Ideal) ℓ) : Prop :=
  True

def Pre_DownXRefIdeal (m : (ℓ : Loc Cert.DownXRefIdeal.nD Cert.DownXRefIdeal.τ Cert.DownXRefIdeal.sig) → Buf (Elt Ideal) ℓ) : Prop :=
  True

def Pre_OutX (m : (ℓ : Loc Cert.OutX.nD Cert.OutX.τ Cert.OutX.sig) → Buf (Elt Bits) ℓ) : Prop :=
  True

def Pre_OutXIdeal (m : (ℓ : Loc Cert.OutXIdeal.nD Cert.OutXIdeal.τ Cert.OutXIdeal.sig) → Buf (Elt Ideal) ℓ) : Prop :=
  True

def Pre_OutXRefIdeal (m : (ℓ : Loc Cert.OutXRefIdeal.nD Cert.OutXRefIdeal.τ Cert.OutXRefIdeal.sig) → Buf (Elt Ideal) ℓ) : Prop :=
  True

def Pre_UpX (m : (ℓ : Loc Cert.UpX.nD Cert.UpX.τ Cert.UpX.sig) → Buf (Elt Bits) ℓ) : Prop :=
  True

def Pre_UpXIdeal (m : (ℓ : Loc Cert.UpXIdeal.nD Cert.UpXIdeal.τ Cert.UpXIdeal.sig) → Buf (Elt Ideal) ℓ) : Prop :=
  True

def Pre_UpXRefIdeal (m : (ℓ : Loc Cert.UpXRefIdeal.nD Cert.UpXRefIdeal.τ Cert.UpXRefIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXRefIdeal (m : (ℓ : Loc Cert.InXRefIdeal.nD Cert.InXRefIdeal.τ Cert.InXRefIdeal.sig) → Buf (Elt Ideal) ℓ) : Prop :=
  True

def Pre_QkvF (m : (ℓ : Loc Cert.QkvF.nD Cert.QkvF.τ Cert.QkvF.sig) → Buf (Elt Bits) ℓ) : Prop :=
  True

def Pre_QkvFIdeal (m : (ℓ : Loc Cert.QkvFIdeal.nD Cert.QkvFIdeal.τ Cert.QkvFIdeal.sig) → Buf (Elt Ideal) ℓ) : Prop :=
  True

def Pre_QkvFRefIdeal (m : (ℓ : Loc Cert.QkvFRefIdeal.nD Cert.QkvFRefIdeal.τ Cert.QkvFRefIdeal.sig) → Buf (Elt Ideal) ℓ) : Prop :=
  True

def Pre_ZF (m : (ℓ : Loc Cert.ZF.nD Cert.ZF.τ Cert.ZF.sig) → Buf (Elt Bits) ℓ) : Prop :=
  True

def Pre_ZFIdeal (m : (ℓ : Loc Cert.ZFIdeal.nD Cert.ZFIdeal.τ Cert.ZFIdeal.sig) → Buf (Elt Ideal) ℓ) : Prop :=
  True

def Pre_ZFRefIdeal (m : (ℓ : Loc Cert.ZFRefIdeal.nD Cert.ZFRefIdeal.τ Cert.ZFRefIdeal.sig) → Buf (Elt Ideal) ℓ) : Prop :=
  True

def Pre_GateF (m : (ℓ : Loc Cert.GateF.nD Cert.GateF.τ Cert.GateF.sig) → Buf (Elt Bits) ℓ) : Prop :=
  True

def Pre_GateFIdeal (m : (ℓ : Loc Cert.GateFIdeal.nD Cert.GateFIdeal.τ Cert.GateFIdeal.sig) → Buf (Elt Ideal) ℓ) : Prop :=
  True

def Pre_GateFRefIdeal (m : (ℓ : Loc Cert.GateFRefIdeal.nD Cert.GateFRefIdeal.τ Cert.GateFRefIdeal.sig) → Buf (Elt Ideal) ℓ) : Prop :=
  True

def Pre_PoolBaF (m : (ℓ : Loc Cert.PoolBaF.nD Cert.PoolBaF.τ Cert.PoolBaF.sig) → Buf (Elt Bits) ℓ) : Prop :=
  True

def Pre_PoolBaFIdeal (m : (ℓ : Loc Cert.PoolBaFIdeal.nD Cert.PoolBaFIdeal.τ Cert.PoolBaFIdeal.sig) → Buf (Elt Ideal) ℓ) : Prop :=
  True

def Pre_PoolBaFRefIdeal (m : (ℓ : Loc Cert.PoolBaFRefIdeal.nD Cert.PoolBaFRefIdeal.τ Cert.PoolBaFRefIdeal.sig) → Buf (Elt Ideal) ℓ) : Prop :=
  True

def Pre_UpF (m : (ℓ : Loc Cert.UpF.nD Cert.UpF.τ Cert.UpF.sig) → Buf (Elt Bits) ℓ) : Prop :=
  True

def Pre_UpFIdeal (m : (ℓ : Loc Cert.UpFIdeal.nD Cert.UpFIdeal.τ Cert.UpFIdeal.sig) → Buf (Elt Ideal) ℓ) : Prop :=
  True

def Pre_UpFRefIdeal (m : (ℓ : Loc Cert.UpFRefIdeal.nD Cert.UpFRefIdeal.τ Cert.UpFRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_OutF (m : (ℓ : Loc Cert.OutF.nD Cert.OutF.τ Cert.OutF.sig) → Buf (Elt Bits) ℓ) : Prop :=
  True

def Pre_OutFIdeal (m : (ℓ : Loc Cert.OutFIdeal.nD Cert.OutFIdeal.τ Cert.OutFIdeal.sig) → Buf (Elt Ideal) ℓ) : Prop :=
  True

def Pre_OutFRefIdeal (m : (ℓ : Loc Cert.OutFRefIdeal.nD Cert.OutFRefIdeal.τ Cert.OutFRefIdeal.sig) → Buf (Elt Ideal) ℓ) : Prop :=
  True

def Pre_DownF (m : (ℓ : Loc Cert.DownF.nD Cert.DownF.τ Cert.DownF.sig) → Buf (Elt Bits) ℓ) : Prop :=
  True

def Pre_DownFIdeal (m : (ℓ : Loc Cert.DownFIdeal.nD Cert.DownFIdeal.τ Cert.DownFIdeal.sig) → Buf (Elt Ideal) ℓ) : Prop :=
  True

def Pre_DownFRefIdeal (m : (ℓ : Loc Cert.DownFRefIdeal.nD Cert.DownFRefIdeal.τ Cert.DownFRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidRefIdeal (m : (ℓ : Loc Cert.FfnMidRefIdeal.nD Cert.FfnMidRefIdeal.τ Cert.FfnMidRefIdeal.sig) → Buf (Elt Ideal) ℓ) : Prop :=
  True

def Pre_RmsF (m : (ℓ : Loc Cert.RmsF.nD Cert.RmsF.τ Cert.RmsF.sig) → Buf (Elt Bits) ℓ) : Prop :=
  True

def Pre_RmsFIdeal (m : (ℓ : Loc Cert.RmsFIdeal.nD Cert.RmsFIdeal.τ Cert.RmsFIdeal.sig) → Buf (Elt Ideal) ℓ) : Prop :=
  True

def Pre_RmsFRefIdeal (m : (ℓ : Loc Cert.RmsFRefIdeal.nD Cert.RmsFRefIdeal.τ Cert.RmsFRefIdeal.sig) → Buf (Elt Ideal) ℓ) : Prop :=
  True

def Pre_ConvF (m : (ℓ : Loc Cert.ConvF.nD Cert.ConvF.τ Cert.ConvF.sig) → Buf (Elt Bits) ℓ) : Prop :=
  True

def Pre_ConvFIdeal (m : (ℓ : Loc Cert.ConvFIdeal.nD Cert.ConvFIdeal.τ Cert.ConvFIdeal.sig) → Buf (Elt Ideal) ℓ) : Prop :=
  True

def Pre_ConvFRefIdeal (m : (ℓ : Loc Cert.ConvFRefIdeal.nD Cert.ConvFRefIdeal.τ Cert.ConvFRefIdeal.sig) → Buf (Elt Ideal) ℓ) : Prop :=
  True

def Pre_PoolF (m : (ℓ : Loc Cert.PoolF.nD Cert.PoolF.τ Cert.PoolF.sig) → Buf (Elt Bits) ℓ) : Prop :=
  True

def Pre_PoolFIdeal (m : (ℓ : Loc Cert.PoolFIdeal.nD Cert.PoolFIdeal.τ Cert.PoolFIdeal.sig) → Buf (Elt Ideal) ℓ) : Prop :=
  True

def Pre_PoolFRefIdeal (m : (ℓ : Loc Cert.PoolFRefIdeal.nD Cert.PoolFRefIdeal.τ Cert.PoolFRefIdeal.sig) → Buf (Elt Ideal) ℓ) : Prop :=
  True

def Pre_MixF (m : (ℓ : Loc Cert.MixF.nD Cert.MixF.τ Cert.MixF.sig) → Buf (Elt Bits) ℓ) : Prop :=
  True

def Pre_MixFIdeal (m : (ℓ : Loc Cert.MixFIdeal.nD Cert.MixFIdeal.τ Cert.MixFIdeal.sig) → Buf (Elt Ideal) ℓ) : Prop :=
  True

def Pre_MixFRefIdeal (m : (ℓ : Loc Cert.MixFRefIdeal.nD Cert.MixFRefIdeal.τ Cert.MixFRefIdeal.sig) → Buf (Elt Ideal) ℓ) : Prop :=
  True

def Pre_FfnF (m : (ℓ : Loc Cert.FfnF.nD Cert.FfnF.τ Cert.FfnF.sig) → Buf (Elt Bits) ℓ) : Prop :=
  True

def Pre_FfnFIdeal (m : (ℓ : Loc Cert.FfnFIdeal.nD Cert.FfnFIdeal.τ Cert.FfnFIdeal.sig) → Buf (Elt Ideal) ℓ) : Prop :=
  True

def Pre_FfnFRefIdeal (m : (ℓ : Loc Cert.FfnFRefIdeal.nD Cert.FfnFRefIdeal.τ Cert.FfnFRefIdeal.sig) → Buf (Elt Ideal) ℓ) : Prop :=
  True

def Pre_DownL (m : (ℓ : Loc Cert.DownL.nD Cert.DownL.τ Cert.DownL.sig) → Buf (Elt Bits) ℓ) : Prop :=
  True

def Pre_DownLIdeal (m : (ℓ : Loc Cert.DownLIdeal.nD Cert.DownLIdeal.τ Cert.DownLIdeal.sig) → Buf (Elt Ideal) ℓ) : Prop :=
  True

def Pre_DownLRefIdeal (m : (ℓ : Loc Cert.DownLRefIdeal.nD Cert.DownLRefIdeal.τ Cert.DownLRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AdIn (m : (ℓ : Loc Cert.AdIn.nD Cert.AdIn.τ Cert.AdIn.sig) → Buf (Elt Bits) ℓ) : Prop :=
  True

def Pre_AdInIdeal (m : (ℓ : Loc Cert.AdInIdeal.nD Cert.AdInIdeal.τ Cert.AdInIdeal.sig) → Buf (Elt Ideal) ℓ) : Prop :=
  True

def Pre_AdInRefIdeal (m : (ℓ : Loc Cert.AdInRefIdeal.nD Cert.AdInRefIdeal.τ Cert.AdInRefIdeal.sig) → Buf (Elt Ideal) ℓ) : Prop :=
  True

def Pre_AdUp (m : (ℓ : Loc Cert.AdUp.nD Cert.AdUp.τ Cert.AdUp.sig) → Buf (Elt Bits) ℓ) : Prop :=
  True

def Pre_AdUpIdeal (m : (ℓ : Loc Cert.AdUpIdeal.nD Cert.AdUpIdeal.τ Cert.AdUpIdeal.sig) → Buf (Elt Ideal) ℓ) : Prop :=
  True

def Pre_AdUpRefIdeal (m : (ℓ : Loc Cert.AdUpRefIdeal.nD Cert.AdUpRefIdeal.τ Cert.AdUpRefIdeal.sig) → Buf (Elt Ideal) ℓ) : Prop :=
  True

def Pre_AdOut (m : (ℓ : Loc Cert.AdOut.nD Cert.AdOut.τ Cert.AdOut.sig) → Buf (Elt Bits) ℓ) : Prop :=
  True

def Pre_AdOutIdeal (m : (ℓ : Loc Cert.AdOutIdeal.nD Cert.AdOutIdeal.τ Cert.AdOutIdeal.sig) → Buf (Elt Ideal) ℓ) : Prop :=
  True

def Pre_AdOutRefIdeal (m : (ℓ : Loc Cert.AdOutRefIdeal.nD Cert.AdOutRefIdeal.τ Cert.AdOutRefIdeal.sig) → Buf (Elt Ideal) ℓ) : Prop :=
  True

def Pre_AdDown (m : (ℓ : Loc Cert.AdDown.nD Cert.AdDown.τ Cert.AdDown.sig) → Buf (Elt Bits) ℓ) : Prop :=
  True

def Pre_AdDownIdeal (m : (ℓ : Loc Cert.AdDownIdeal.nD Cert.AdDownIdeal.τ Cert.AdDownIdeal.sig) → Buf (Elt Ideal) ℓ) : Prop :=
  True

def Pre_AdDownRefIdeal (m : (ℓ : Loc Cert.AdDownRefIdeal.nD Cert.AdDownRefIdeal.τ Cert.AdDownRefIdeal.sig) → Buf (Elt Ideal) ℓ) : Prop :=
  True

def Pre_AdPool (m : (ℓ : Loc Cert.AdPool.nD Cert.AdPool.τ Cert.AdPool.sig) → Buf (Elt Bits) ℓ) : Prop :=
  True

def Pre_AdPoolIdeal (m : (ℓ : Loc Cert.AdPoolIdeal.nD Cert.AdPoolIdeal.τ Cert.AdPoolIdeal.sig) → Buf (Elt Ideal) ℓ) : Prop :=
  True

def Pre_AdPoolRefIdeal (m : (ℓ : Loc Cert.AdPoolRefIdeal.nD Cert.AdPoolRefIdeal.τ Cert.AdPoolRefIdeal.sig) → Buf (Elt Ideal) ℓ) : Prop :=
  True

def Pre_AdConvQ (m : (ℓ : Loc Cert.AdConvQ.nD Cert.AdConvQ.τ Cert.AdConvQ.sig) → Buf (Elt Bits) ℓ) : Prop :=
  True

def Pre_AdConvQIdeal (m : (ℓ : Loc Cert.AdConvQIdeal.nD Cert.AdConvQIdeal.τ Cert.AdConvQIdeal.sig) → Buf (Elt Ideal) ℓ) : Prop :=
  True

def Pre_AdConvQRefIdeal (m : (ℓ : Loc Cert.AdConvQRefIdeal.nD Cert.AdConvQRefIdeal.τ Cert.AdConvQRefIdeal.sig) → Buf (Elt Ideal) ℓ) : Prop :=
  True

def Pre_AdConvF (m : (ℓ : Loc Cert.AdConvF.nD Cert.AdConvF.τ Cert.AdConvF.sig) → Buf (Elt Bits) ℓ) : Prop :=
  True

def Pre_AdConvFIdeal (m : (ℓ : Loc Cert.AdConvFIdeal.nD Cert.AdConvFIdeal.τ Cert.AdConvFIdeal.sig) → Buf (Elt Ideal) ℓ) : Prop :=
  True

def Pre_AdConvFRefIdeal (m : (ℓ : Loc Cert.AdConvFRefIdeal.nD Cert.AdConvFRefIdeal.τ Cert.AdConvFRefIdeal.sig) → Buf (Elt Ideal) ℓ) : Prop :=
  True

def Pre_AdMeta (m : (ℓ : Loc Cert.AdMeta.nD Cert.AdMeta.τ Cert.AdMeta.sig) → Buf (Elt Bits) ℓ) : Prop :=
  True

def Pre_AdMetaIdeal (m : (ℓ : Loc Cert.AdMetaIdeal.nD Cert.AdMetaIdeal.τ Cert.AdMetaIdeal.sig) → Buf (Elt Ideal) ℓ) : Prop :=
  True

def Pre_AdMetaRefIdeal (m : (ℓ : Loc Cert.AdMetaRefIdeal.nD Cert.AdMetaRefIdeal.τ Cert.AdMetaRefIdeal.sig) → Buf (Elt Ideal) ℓ) : Prop :=
  True

def Pre_AdNorm (m : (ℓ : Loc Cert.AdNorm.nD Cert.AdNorm.τ Cert.AdNorm.sig) → Buf (Elt Bits) ℓ) : Prop :=
  True

def Pre_AdNormIdeal (m : (ℓ : Loc Cert.AdNormIdeal.nD Cert.AdNormIdeal.τ Cert.AdNormIdeal.sig) → Buf (Elt Ideal) ℓ) : Prop :=
  True

def Pre_AdNormRefIdeal (m : (ℓ : Loc Cert.AdNormRefIdeal.nD Cert.AdNormRefIdeal.τ Cert.AdNormRefIdeal.sig) → Buf (Elt Ideal) ℓ) : Prop :=
  True

def Pre_AdHead (m : (ℓ : Loc Cert.AdHead.nD Cert.AdHead.τ Cert.AdHead.sig) → Buf (Elt Bits) ℓ) : Prop :=
  True

def Pre_AdHeadIdeal (m : (ℓ : Loc Cert.AdHeadIdeal.nD Cert.AdHeadIdeal.τ Cert.AdHeadIdeal.sig) → Buf (Elt Ideal) ℓ) : Prop :=
  True

def Pre_AdHeadRefIdeal (m : (ℓ : Loc Cert.AdHeadRefIdeal.nD Cert.AdHeadRefIdeal.τ Cert.AdHeadRefIdeal.sig) → Buf (Elt Ideal) ℓ) : Prop :=
  True

def Pre_AdHeadN (m : (ℓ : Loc Cert.AdHeadN.nD Cert.AdHeadN.τ Cert.AdHeadN.sig) → Buf (Elt Bits) ℓ) : Prop :=
  True

def Pre_AdHeadNIdeal (m : (ℓ : Loc Cert.AdHeadNIdeal.nD Cert.AdHeadNIdeal.τ Cert.AdHeadNIdeal.sig) → Buf (Elt Ideal) ℓ) : Prop :=
  True

def Pre_AdHeadNRefIdeal (m : (ℓ : Loc Cert.AdHeadNRefIdeal.nD Cert.AdHeadNRefIdeal.τ Cert.AdHeadNRefIdeal.sig) → Buf (Elt Ideal) ℓ) : Prop :=
  True

def Pre_AdFin (m : (ℓ : Loc Cert.AdFin.nD Cert.AdFin.τ Cert.AdFin.sig) → Buf (Elt Bits) ℓ) : Prop :=
  True

def Pre_AdFinIdeal (m : (ℓ : Loc Cert.AdFinIdeal.nD Cert.AdFinIdeal.τ Cert.AdFinIdeal.sig) → Buf (Elt Ideal) ℓ) : Prop :=
  True

def Pre_AdFinRefIdeal (m : (ℓ : Loc Cert.AdFinRefIdeal.nD Cert.AdFinRefIdeal.τ Cert.AdFinRefIdeal.sig) → Buf (Elt Ideal) ℓ) : Prop :=
  True

def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapRefIdeal (m : (ℓ : Loc Cert.SwapRefIdeal.nD Cert.SwapRefIdeal.τ Cert.SwapRefIdeal.sig) → Buf (Elt Ideal) ℓ) : Prop :=
  True

def Pre_Scat (m : (ℓ : Loc Cert.Scat.nD Cert.Scat.τ Cert.Scat.sig) → Buf (Elt Bits) ℓ) : Prop :=
  True

def Pre_ScatIdeal (m : (ℓ : Loc Cert.ScatIdeal.nD Cert.ScatIdeal.τ Cert.ScatIdeal.sig) → Buf (Elt Ideal) ℓ) : Prop :=
  True

def Pre_ScatRefIdeal (m : (ℓ : Loc Cert.ScatRefIdeal.nD Cert.ScatRefIdeal.τ Cert.ScatRefIdeal.sig) → Buf (Elt Ideal) ℓ) : Prop :=
  True

def Pre_Gath (m : (ℓ : Loc Cert.Gath.nD Cert.Gath.τ Cert.Gath.sig) → Buf (Elt Bits) ℓ) : Prop :=
  True

def Pre_GathIdeal (m : (ℓ : Loc Cert.GathIdeal.nD Cert.GathIdeal.τ Cert.GathIdeal.sig) → Buf (Elt Ideal) ℓ) : Prop :=
  True

def Pre_GathRefIdeal (m : (ℓ : Loc Cert.GathRefIdeal.nD Cert.GathRefIdeal.τ Cert.GathRefIdeal.sig) → Buf (Elt Ideal) ℓ) : Prop :=
  True

def quiescent_GdnB [hGdnB : Cert.GdnB.Facts] : Prop :=
  ∀ (m : (ℓ : Loc Cert.GdnB.nD Cert.GdnB.τ Cert.GdnB.sig) → Buf (Elt Bits) ℓ) (g : Dev Cert.GdnB.nD → PrngReg), Pre_GdnB m →
    θ_run (Cert.GdnB.defs (F := Bits)) (onTc (τ := Cert.GdnB.τ) (Cert.GdnB.main (F := Bits))) ⟨m, fun _ => 0, g⟩ (fun r => (∀ c : Dev Cert.GdnB.nD,
      r.2.mem ((c.tc : Thread Cert.GdnB.nD Cert.GdnB.τ).loc Cert.GdnB.main_arg0) = m ((c.tc : Thread Cert.GdnB.nD Cert.GdnB.τ).loc Cert.GdnB.main_arg0)
      ∧ r.2.mem ((c.tc : Thread Cert.GdnB.nD Cert.GdnB.τ).loc Cert.GdnB.main_arg1) = m ((c.tc : Thread Cert.GdnB.nD Cert.GdnB.τ).loc Cert.GdnB.main_arg1)
      ∧ r.2.mem ((c.tc : Thread Cert.GdnB.nD Cert.GdnB.τ).loc Cert.GdnB.main_arg2) = m ((c.tc : Thread Cert.GdnB.nD Cert.GdnB.τ).loc Cert.GdnB.main_arg2)
      ∧ r.2.mem ((c.tc : Thread Cert.GdnB.nD Cert.GdnB.τ).loc Cert.GdnB.main_arg3) = m ((c.tc : Thread Cert.GdnB.nD Cert.GdnB.τ).loc Cert.GdnB.main_arg3)
      ∧ r.2.mem ((c.tc : Thread Cert.GdnB.nD Cert.GdnB.τ).loc Cert.GdnB.main_arg4) = m ((c.tc : Thread Cert.GdnB.nD Cert.GdnB.τ).loc Cert.GdnB.main_arg4)
      ∧ r.2.mem ((c.tc : Thread Cert.GdnB.nD Cert.GdnB.τ).loc Cert.GdnB.main_arg5) = m ((c.tc : Thread Cert.GdnB.nD Cert.GdnB.τ).loc Cert.GdnB.main_arg5)
      ∧ r.2.mem ((c.tc : Thread Cert.GdnB.nD Cert.GdnB.τ).loc Cert.GdnB.main_arg6) = m ((c.tc : Thread Cert.GdnB.nD Cert.GdnB.τ).loc Cert.GdnB.main_arg6)
      ∧ r.2.mem ((c.tc : Thread Cert.GdnB.nD Cert.GdnB.τ).loc Cert.GdnB.main_arg7) = m ((c.tc : Thread Cert.GdnB.nD Cert.GdnB.τ).loc Cert.GdnB.main_arg7)
      ∧ r.2.mem ((c.tc : Thread Cert.GdnB.nD Cert.GdnB.τ).loc Cert.GdnB.main_arg8) = m ((c.tc : Thread Cert.GdnB.nD Cert.GdnB.τ).loc Cert.GdnB.main_arg8))
      ∧ r.2.sem = fun _ => 0)

def quiescent_GdnBIdeal [hGdnBIdeal : Cert.GdnBIdeal.Facts] : Prop :=
  ∀ (m : (ℓ : Loc Cert.GdnBIdeal.nD Cert.GdnBIdeal.τ Cert.GdnBIdeal.sig) → Buf (Elt Ideal) ℓ) (g : Dev Cert.GdnBIdeal.nD → PrngReg), Pre_GdnBIdeal m →
    θ_run (Cert.GdnBIdeal.defs (F := Ideal)) (onTc (τ := Cert.GdnBIdeal.τ) (Cert.GdnBIdeal.main (F := Ideal))) ⟨m, fun _ => 0, g⟩ (fun r => (∀ c : Dev Cert.GdnBIdeal.nD,
      r.2.mem ((c.tc : Thread Cert.GdnBIdeal.nD Cert.GdnBIdeal.τ).loc Cert.GdnBIdeal.main_arg0) = m ((c.tc : Thread Cert.GdnBIdeal.nD Cert.GdnBIdeal.τ).loc Cert.GdnBIdeal.main_arg0)
      ∧ r.2.mem ((c.tc : Thread Cert.GdnBIdeal.nD Cert.GdnBIdeal.τ).loc Cert.GdnBIdeal.main_arg1) = m ((c.tc : Thread Cert.GdnBIdeal.nD Cert.GdnBIdeal.τ).loc Cert.GdnBIdeal.main_arg1)
      ∧ r.2.mem ((c.tc : Thread Cert.GdnBIdeal.nD Cert.GdnBIdeal.τ).loc Cert.GdnBIdeal.main_arg2) = m ((c.tc : Thread Cert.GdnBIdeal.nD Cert.GdnBIdeal.τ).loc Cert.GdnBIdeal.main_arg2)
      ∧ r.2.mem ((c.tc : Thread Cert.GdnBIdeal.nD Cert.GdnBIdeal.τ).loc Cert.GdnBIdeal.main_arg3) = m ((c.tc : Thread Cert.GdnBIdeal.nD Cert.GdnBIdeal.τ).loc Cert.GdnBIdeal.main_arg3)
      ∧ r.2.mem ((c.tc : Thread Cert.GdnBIdeal.nD Cert.GdnBIdeal.τ).loc Cert.GdnBIdeal.main_arg4) = m ((c.tc : Thread Cert.GdnBIdeal.nD Cert.GdnBIdeal.τ).loc Cert.GdnBIdeal.main_arg4)
      ∧ r.2.mem ((c.tc : Thread Cert.GdnBIdeal.nD Cert.GdnBIdeal.τ).loc Cert.GdnBIdeal.main_arg5) = m ((c.tc : Thread Cert.GdnBIdeal.nD Cert.GdnBIdeal.τ).loc Cert.GdnBIdeal.main_arg5)
      ∧ r.2.mem ((c.tc : Thread Cert.GdnBIdeal.nD Cert.GdnBIdeal.τ).loc Cert.GdnBIdeal.main_arg6) = m ((c.tc : Thread Cert.GdnBIdeal.nD Cert.GdnBIdeal.τ).loc Cert.GdnBIdeal.main_arg6)
      ∧ r.2.mem ((c.tc : Thread Cert.GdnBIdeal.nD Cert.GdnBIdeal.τ).loc Cert.GdnBIdeal.main_arg7) = m ((c.tc : Thread Cert.GdnBIdeal.nD Cert.GdnBIdeal.τ).loc Cert.GdnBIdeal.main_arg7)
      ∧ r.2.mem ((c.tc : Thread Cert.GdnBIdeal.nD Cert.GdnBIdeal.τ).loc Cert.GdnBIdeal.main_arg8) = m ((c.tc : Thread Cert.GdnBIdeal.nD Cert.GdnBIdeal.τ).loc Cert.GdnBIdeal.main_arg8))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWRefIdeal [hDownWRefIdeal : Cert.DownWRefIdeal.Facts] : Prop :=
  ∀ (m : (ℓ : Loc Cert.DownWRefIdeal.nD Cert.DownWRefIdeal.τ Cert.DownWRefIdeal.sig) → Buf (Elt Ideal) ℓ) (g : Dev Cert.DownWRefIdeal.nD → PrngReg), Pre_DownWRefIdeal m →
    θ_run (Cert.DownWRefIdeal.defs (F := Ideal)) (onTc (τ := Cert.DownWRefIdeal.τ) (Cert.DownWRefIdeal.main (F := Ideal))) ⟨m, fun _ => 0, g⟩ (fun r => (∀ c : Dev Cert.DownWRefIdeal.nD,
      r.2.mem ((c.tc : Thread Cert.DownWRefIdeal.nD Cert.DownWRefIdeal.τ).loc Cert.DownWRefIdeal.main_arg0) = m ((c.tc : Thread Cert.DownWRefIdeal.nD Cert.DownWRefIdeal.τ).loc Cert.DownWRefIdeal.main_arg0)
      ∧ r.2.mem ((c.tc : Thread Cert.DownWRefIdeal.nD Cert.DownWRefIdeal.τ).loc Cert.DownWRefIdeal.main_arg1) = m ((c.tc : Thread Cert.DownWRefIdeal.nD Cert.DownWRefIdeal.τ).loc Cert.DownWRefIdeal.main_arg1))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1))
      ∧ r.2.sem = fun _ => 0)

def quiescent_QkvW [hQkvW : Cert.QkvW.Facts] : Prop :=
  ∀ (m : (ℓ : Loc Cert.QkvW.nD Cert.QkvW.τ Cert.QkvW.sig) → Buf (Elt Bits) ℓ) (g : Dev Cert.QkvW.nD → PrngReg), Pre_QkvW m →
    θ_run (Cert.QkvW.defs (F := Bits)) (onTc (τ := Cert.QkvW.τ) (Cert.QkvW.main (F := Bits))) ⟨m, fun _ => 0, g⟩ (fun r => (∀ c : Dev Cert.QkvW.nD,
      r.2.mem ((c.tc : Thread Cert.QkvW.nD Cert.QkvW.τ).loc Cert.QkvW.main_arg0) = m ((c.tc : Thread Cert.QkvW.nD Cert.QkvW.τ).loc Cert.QkvW.main_arg0)
      ∧ r.2.mem ((c.tc : Thread Cert.QkvW.nD Cert.QkvW.τ).loc Cert.QkvW.main_arg1) = m ((c.tc : Thread Cert.QkvW.nD Cert.QkvW.τ).loc Cert.QkvW.main_arg1))
      ∧ r.2.sem = fun _ => 0)

def quiescent_QkvWIdeal [hQkvWIdeal : Cert.QkvWIdeal.Facts] : Prop :=
  ∀ (m : (ℓ : Loc Cert.QkvWIdeal.nD Cert.QkvWIdeal.τ Cert.QkvWIdeal.sig) → Buf (Elt Ideal) ℓ) (g : Dev Cert.QkvWIdeal.nD → PrngReg), Pre_QkvWIdeal m →
    θ_run (Cert.QkvWIdeal.defs (F := Ideal)) (onTc (τ := Cert.QkvWIdeal.τ) (Cert.QkvWIdeal.main (F := Ideal))) ⟨m, fun _ => 0, g⟩ (fun r => (∀ c : Dev Cert.QkvWIdeal.nD,
      r.2.mem ((c.tc : Thread Cert.QkvWIdeal.nD Cert.QkvWIdeal.τ).loc Cert.QkvWIdeal.main_arg0) = m ((c.tc : Thread Cert.QkvWIdeal.nD Cert.QkvWIdeal.τ).loc Cert.QkvWIdeal.main_arg0)
      ∧ r.2.mem ((c.tc : Thread Cert.QkvWIdeal.nD Cert.QkvWIdeal.τ).loc Cert.QkvWIdeal.main_arg1) = m ((c.tc : Thread Cert.QkvWIdeal.nD Cert.QkvWIdeal.τ).loc Cert.QkvWIdeal.main_arg1))
      ∧ r.2.sem = fun _ => 0)

def quiescent_QkvWRefIdeal [hQkvWRefIdeal : Cert.QkvWRefIdeal.Facts] : Prop :=
  ∀ (m : (ℓ : Loc Cert.QkvWRefIdeal.nD Cert.QkvWRefIdeal.τ Cert.QkvWRefIdeal.sig) → Buf (Elt Ideal) ℓ) (g : Dev Cert.QkvWRefIdeal.nD → PrngReg), Pre_QkvWRefIdeal m →
    θ_run (Cert.QkvWRefIdeal.defs (F := Ideal)) (onTc (τ := Cert.QkvWRefIdeal.τ) (Cert.QkvWRefIdeal.main (F := Ideal))) ⟨m, fun _ => 0, g⟩ (fun r => (∀ c : Dev Cert.QkvWRefIdeal.nD,
      r.2.mem ((c.tc : Thread Cert.QkvWRefIdeal.nD Cert.QkvWRefIdeal.τ).loc Cert.QkvWRefIdeal.main_arg0) = m ((c.tc : Thread Cert.QkvWRefIdeal.nD Cert.QkvWRefIdeal.τ).loc Cert.QkvWRefIdeal.main_arg0)
      ∧ r.2.mem ((c.tc : Thread Cert.QkvWRefIdeal.nD Cert.QkvWRefIdeal.τ).loc Cert.QkvWRefIdeal.main_arg1) = m ((c.tc : Thread Cert.QkvWRefIdeal.nD Cert.QkvWRefIdeal.τ).loc Cert.QkvWRefIdeal.main_arg1))
      ∧ r.2.sem = fun _ => 0)

def quiescent_GateW [hGateW : Cert.GateW.Facts] : Prop :=
  ∀ (m : (ℓ : Loc Cert.GateW.nD Cert.GateW.τ Cert.GateW.sig) → Buf (Elt Bits) ℓ) (g : Dev Cert.GateW.nD → PrngReg), Pre_GateW m →
    θ_run (Cert.GateW.defs (F := Bits)) (onTc (τ := Cert.GateW.τ) (Cert.GateW.main (F := Bits))) ⟨m, fun _ => 0, g⟩ (fun r => (∀ c : Dev Cert.GateW.nD,
      r.2.mem ((c.tc : Thread Cert.GateW.nD Cert.GateW.τ).loc Cert.GateW.main_arg0) = m ((c.tc : Thread Cert.GateW.nD Cert.GateW.τ).loc Cert.GateW.main_arg0)
      ∧ r.2.mem ((c.tc : Thread Cert.GateW.nD Cert.GateW.τ).loc Cert.GateW.main_arg1) = m ((c.tc : Thread Cert.GateW.nD Cert.GateW.τ).loc Cert.GateW.main_arg1))
      ∧ r.2.sem = fun _ => 0)

def quiescent_GateWIdeal [hGateWIdeal : Cert.GateWIdeal.Facts] : Prop :=
  ∀ (m : (ℓ : Loc Cert.GateWIdeal.nD Cert.GateWIdeal.τ Cert.GateWIdeal.sig) → Buf (Elt Ideal) ℓ) (g : Dev Cert.GateWIdeal.nD → PrngReg), Pre_GateWIdeal m →
    θ_run (Cert.GateWIdeal.defs (F := Ideal)) (onTc (τ := Cert.GateWIdeal.τ) (Cert.GateWIdeal.main (F := Ideal))) ⟨m, fun _ => 0, g⟩ (fun r => (∀ c : Dev Cert.GateWIdeal.nD,
      r.2.mem ((c.tc : Thread Cert.GateWIdeal.nD Cert.GateWIdeal.τ).loc Cert.GateWIdeal.main_arg0) = m ((c.tc : Thread Cert.GateWIdeal.nD Cert.GateWIdeal.τ).loc Cert.GateWIdeal.main_arg0)
      ∧ r.2.mem ((c.tc : Thread Cert.GateWIdeal.nD Cert.GateWIdeal.τ).loc Cert.GateWIdeal.main_arg1) = m ((c.tc : Thread Cert.GateWIdeal.nD Cert.GateWIdeal.τ).loc Cert.GateWIdeal.main_arg1))
      ∧ r.2.sem = fun _ => 0)

def quiescent_GateWRefIdeal [hGateWRefIdeal : Cert.GateWRefIdeal.Facts] : Prop :=
  ∀ (m : (ℓ : Loc Cert.GateWRefIdeal.nD Cert.GateWRefIdeal.τ Cert.GateWRefIdeal.sig) → Buf (Elt Ideal) ℓ) (g : Dev Cert.GateWRefIdeal.nD → PrngReg), Pre_GateWRefIdeal m →
    θ_run (Cert.GateWRefIdeal.defs (F := Ideal)) (onTc (τ := Cert.GateWRefIdeal.τ) (Cert.GateWRefIdeal.main (F := Ideal))) ⟨m, fun _ => 0, g⟩ (fun r => (∀ c : Dev Cert.GateWRefIdeal.nD,
      r.2.mem ((c.tc : Thread Cert.GateWRefIdeal.nD Cert.GateWRefIdeal.τ).loc Cert.GateWRefIdeal.main_arg0) = m ((c.tc : Thread Cert.GateWRefIdeal.nD Cert.GateWRefIdeal.τ).loc Cert.GateWRefIdeal.main_arg0)
      ∧ r.2.mem ((c.tc : Thread Cert.GateWRefIdeal.nD Cert.GateWRefIdeal.τ).loc Cert.GateWRefIdeal.main_arg1) = m ((c.tc : Thread Cert.GateWRefIdeal.nD Cert.GateWRefIdeal.τ).loc Cert.GateWRefIdeal.main_arg1))
      ∧ r.2.sem = fun _ => 0)

def quiescent_PoolBaW [hPoolBaW : Cert.PoolBaW.Facts] : Prop :=
  ∀ (m : (ℓ : Loc Cert.PoolBaW.nD Cert.PoolBaW.τ Cert.PoolBaW.sig) → Buf (Elt Bits) ℓ) (g : Dev Cert.PoolBaW.nD → PrngReg), Pre_PoolBaW m →
    θ_run (Cert.PoolBaW.defs (F := Bits)) (onTc (τ := Cert.PoolBaW.τ) (Cert.PoolBaW.main (F := Bits))) ⟨m, fun _ => 0, g⟩ (fun r => (∀ c : Dev Cert.PoolBaW.nD,
      r.2.mem ((c.tc : Thread Cert.PoolBaW.nD Cert.PoolBaW.τ).loc Cert.PoolBaW.main_arg0) = m ((c.tc : Thread Cert.PoolBaW.nD Cert.PoolBaW.τ).loc Cert.PoolBaW.main_arg0)
      ∧ r.2.mem ((c.tc : Thread Cert.PoolBaW.nD Cert.PoolBaW.τ).loc Cert.PoolBaW.main_arg1) = m ((c.tc : Thread Cert.PoolBaW.nD Cert.PoolBaW.τ).loc Cert.PoolBaW.main_arg1))
      ∧ r.2.sem = fun _ => 0)

def quiescent_PoolBaWIdeal [hPoolBaWIdeal : Cert.PoolBaWIdeal.Facts] : Prop :=
  ∀ (m : (ℓ : Loc Cert.PoolBaWIdeal.nD Cert.PoolBaWIdeal.τ Cert.PoolBaWIdeal.sig) → Buf (Elt Ideal) ℓ) (g : Dev Cert.PoolBaWIdeal.nD → PrngReg), Pre_PoolBaWIdeal m →
    θ_run (Cert.PoolBaWIdeal.defs (F := Ideal)) (onTc (τ := Cert.PoolBaWIdeal.τ) (Cert.PoolBaWIdeal.main (F := Ideal))) ⟨m, fun _ => 0, g⟩ (fun r => (∀ c : Dev Cert.PoolBaWIdeal.nD,
      r.2.mem ((c.tc : Thread Cert.PoolBaWIdeal.nD Cert.PoolBaWIdeal.τ).loc Cert.PoolBaWIdeal.main_arg0) = m ((c.tc : Thread Cert.PoolBaWIdeal.nD Cert.PoolBaWIdeal.τ).loc Cert.PoolBaWIdeal.main_arg0)
      ∧ r.2.mem ((c.tc : Thread Cert.PoolBaWIdeal.nD Cert.PoolBaWIdeal.τ).loc Cert.PoolBaWIdeal.main_arg1) = m ((c.tc : Thread Cert.PoolBaWIdeal.nD Cert.PoolBaWIdeal.τ).loc Cert.PoolBaWIdeal.main_arg1))
      ∧ r.2.sem = fun _ => 0)

def quiescent_PoolBaWRefIdeal [hPoolBaWRefIdeal : Cert.PoolBaWRefIdeal.Facts] : Prop :=
  ∀ (m : (ℓ : Loc Cert.PoolBaWRefIdeal.nD Cert.PoolBaWRefIdeal.τ Cert.PoolBaWRefIdeal.sig) → Buf (Elt Ideal) ℓ) (g : Dev Cert.PoolBaWRefIdeal.nD → PrngReg), Pre_PoolBaWRefIdeal m →
    θ_run (Cert.PoolBaWRefIdeal.defs (F := Ideal)) (onTc (τ := Cert.PoolBaWRefIdeal.τ) (Cert.PoolBaWRefIdeal.main (F := Ideal))) ⟨m, fun _ => 0, g⟩ (fun r => (∀ c : Dev Cert.PoolBaWRefIdeal.nD,
      r.2.mem ((c.tc : Thread Cert.PoolBaWRefIdeal.nD Cert.PoolBaWRefIdeal.τ).loc Cert.PoolBaWRefIdeal.main_arg0) = m ((c.tc : Thread Cert.PoolBaWRefIdeal.nD Cert.PoolBaWRefIdeal.τ).loc Cert.PoolBaWRefIdeal.main_arg0)
      ∧ r.2.mem ((c.tc : Thread Cert.PoolBaWRefIdeal.nD Cert.PoolBaWRefIdeal.τ).loc Cert.PoolBaWRefIdeal.main_arg1) = m ((c.tc : Thread Cert.PoolBaWRefIdeal.nD Cert.PoolBaWRefIdeal.τ).loc Cert.PoolBaWRefIdeal.main_arg1))
      ∧ r.2.sem = fun _ => 0)

def quiescent_DownX [hDownX : Cert.DownX.Facts] : Prop :=
  ∀ (m : (ℓ : Loc Cert.DownX.nD Cert.DownX.τ Cert.DownX.sig) → Buf (Elt Bits) ℓ) (g : Dev Cert.DownX.nD → PrngReg), Pre_DownX m →
    θ_run (Cert.DownX.defs (F := Bits)) (onTc (τ := Cert.DownX.τ) (Cert.DownX.main (F := Bits))) ⟨m, fun _ => 0, g⟩ (fun r => (∀ c : Dev Cert.DownX.nD,
      r.2.mem ((c.tc : Thread Cert.DownX.nD Cert.DownX.τ).loc Cert.DownX.main_arg0) = m ((c.tc : Thread Cert.DownX.nD Cert.DownX.τ).loc Cert.DownX.main_arg0)
      ∧ r.2.mem ((c.tc : Thread Cert.DownX.nD Cert.DownX.τ).loc Cert.DownX.main_arg1) = m ((c.tc : Thread Cert.DownX.nD Cert.DownX.τ).loc Cert.DownX.main_arg1))
      ∧ r.2.sem = fun _ => 0)

def quiescent_DownXIdeal [hDownXIdeal : Cert.DownXIdeal.Facts] : Prop :=
  ∀ (m : (ℓ : Loc Cert.DownXIdeal.nD Cert.DownXIdeal.τ Cert.DownXIdeal.sig) → Buf (Elt Ideal) ℓ) (g : Dev Cert.DownXIdeal.nD → PrngReg), Pre_DownXIdeal m →
    θ_run (Cert.DownXIdeal.defs (F := Ideal)) (onTc (τ := Cert.DownXIdeal.τ) (Cert.DownXIdeal.main (F := Ideal))) ⟨m, fun _ => 0, g⟩ (fun r => (∀ c : Dev Cert.DownXIdeal.nD,
      r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
      ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ r.2.sem = fun _ => 0)

def quiescent_DownXRefIdeal [hDownXRefIdeal : Cert.DownXRefIdeal.Facts] : Prop :=
  ∀ (m : (ℓ : Loc Cert.DownXRefIdeal.nD Cert.DownXRefIdeal.τ Cert.DownXRefIdeal.sig) → Buf (Elt Ideal) ℓ) (g : Dev Cert.DownXRefIdeal.nD → PrngReg), Pre_DownXRefIdeal m →
    θ_run (Cert.DownXRefIdeal.defs (F := Ideal)) (onTc (τ := Cert.DownXRefIdeal.τ) (Cert.DownXRefIdeal.main (F := Ideal))) ⟨m, fun _ => 0, g⟩ (fun r => (∀ c : Dev Cert.DownXRefIdeal.nD,
      r.2.mem ((c.tc : Thread Cert.DownXRefIdeal.nD Cert.DownXRefIdeal.τ).loc Cert.DownXRefIdeal.main_arg0) = m ((c.tc : Thread Cert.DownXRefIdeal.nD Cert.DownXRefIdeal.τ).loc Cert.DownXRefIdeal.main_arg0)
      ∧ r.2.mem ((c.tc : Thread Cert.DownXRefIdeal.nD Cert.DownXRefIdeal.τ).loc Cert.DownXRefIdeal.main_arg1) = m ((c.tc : Thread Cert.DownXRefIdeal.nD Cert.DownXRefIdeal.τ).loc Cert.DownXRefIdeal.main_arg1))
      ∧ r.2.sem = fun _ => 0)

def quiescent_OutX [hOutX : Cert.OutX.Facts] : Prop :=
  ∀ (m : (ℓ : Loc Cert.OutX.nD Cert.OutX.τ Cert.OutX.sig) → Buf (Elt Bits) ℓ) (g : Dev Cert.OutX.nD → PrngReg), Pre_OutX m →
    θ_run (Cert.OutX.defs (F := Bits)) (onTc (τ := Cert.OutX.τ) (Cert.OutX.main (F := Bits))) ⟨m, fun _ => 0, g⟩ (fun r => (∀ c : Dev Cert.OutX.nD,
      r.2.mem ((c.tc : Thread Cert.OutX.nD Cert.OutX.τ).loc Cert.OutX.main_arg0) = m ((c.tc : Thread Cert.OutX.nD Cert.OutX.τ).loc Cert.OutX.main_arg0)
      ∧ r.2.mem ((c.tc : Thread Cert.OutX.nD Cert.OutX.τ).loc Cert.OutX.main_arg1) = m ((c.tc : Thread Cert.OutX.nD Cert.OutX.τ).loc Cert.OutX.main_arg1))
      ∧ r.2.sem = fun _ => 0)

def quiescent_OutXIdeal [hOutXIdeal : Cert.OutXIdeal.Facts] : Prop :=
  ∀ (m : (ℓ : Loc Cert.OutXIdeal.nD Cert.OutXIdeal.τ Cert.OutXIdeal.sig) → Buf (Elt Ideal) ℓ) (g : Dev Cert.OutXIdeal.nD → PrngReg), Pre_OutXIdeal m →
    θ_run (Cert.OutXIdeal.defs (F := Ideal)) (onTc (τ := Cert.OutXIdeal.τ) (Cert.OutXIdeal.main (F := Ideal))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ r.2.sem = fun _ => 0)

def quiescent_OutXRefIdeal [hOutXRefIdeal : Cert.OutXRefIdeal.Facts] : Prop :=
  ∀ (m : (ℓ : Loc Cert.OutXRefIdeal.nD Cert.OutXRefIdeal.τ Cert.OutXRefIdeal.sig) → Buf (Elt Ideal) ℓ) (g : Dev Cert.OutXRefIdeal.nD → PrngReg), Pre_OutXRefIdeal m →
    θ_run (Cert.OutXRefIdeal.defs (F := Ideal)) (onTc (τ := Cert.OutXRefIdeal.τ) (Cert.OutXRefIdeal.main (F := Ideal))) ⟨m, fun _ => 0, g⟩ (fun r => (∀ c : Dev Cert.OutXRefIdeal.nD,
      r.2.mem ((c.tc : Thread Cert.OutXRefIdeal.nD Cert.OutXRefIdeal.τ).loc Cert.OutXRefIdeal.main_arg0) = m ((c.tc : Thread Cert.OutXRefIdeal.nD Cert.OutXRefIdeal.τ).loc Cert.OutXRefIdeal.main_arg0)
      ∧ r.2.mem ((c.tc : Thread Cert.OutXRefIdeal.nD Cert.OutXRefIdeal.τ).loc Cert.OutXRefIdeal.main_arg1) = m ((c.tc : Thread Cert.OutXRefIdeal.nD Cert.OutXRefIdeal.τ).loc Cert.OutXRefIdeal.main_arg1))
      ∧ r.2.sem = fun _ => 0)

def quiescent_UpX [hUpX : Cert.UpX.Facts] : Prop :=
  ∀ (m : (ℓ : Loc Cert.UpX.nD Cert.UpX.τ Cert.UpX.sig) → Buf (Elt Bits) ℓ) (g : Dev Cert.UpX.nD → PrngReg), Pre_UpX m →
    θ_run (Cert.UpX.defs (F := Bits)) (onTc (τ := Cert.UpX.τ) (Cert.UpX.main (F := Bits))) ⟨m, fun _ => 0, g⟩ (fun r => (∀ c : Dev Cert.UpX.nD,
      r.2.mem ((c.tc : Thread Cert.UpX.nD Cert.UpX.τ).loc Cert.UpX.main_arg0) = m ((c.tc : Thread Cert.UpX.nD Cert.UpX.τ).loc Cert.UpX.main_arg0)
      ∧ r.2.mem ((c.tc : Thread Cert.UpX.nD Cert.UpX.τ).loc Cert.UpX.main_arg1) = m ((c.tc : Thread Cert.UpX.nD Cert.UpX.τ).loc Cert.UpX.main_arg1)
      ∧ r.2.mem ((c.tc : Thread Cert.UpX.nD Cert.UpX.τ).loc Cert.UpX.main_arg2) = m ((c.tc : Thread Cert.UpX.nD Cert.UpX.τ).loc Cert.UpX.main_arg2)
      ∧ r.2.mem ((c.tc : Thread Cert.UpX.nD Cert.UpX.τ).loc Cert.UpX.main_arg3) = m ((c.tc : Thread Cert.UpX.nD Cert.UpX.τ).loc Cert.UpX.main_arg3))
      ∧ r.2.sem = fun _ => 0)

def quiescent_UpXIdeal [hUpXIdeal : Cert.UpXIdeal.Facts] : Prop :=
  ∀ (m : (ℓ : Loc Cert.UpXIdeal.nD Cert.UpXIdeal.τ Cert.UpXIdeal.sig) → Buf (Elt Ideal) ℓ) (g : Dev Cert.UpXIdeal.nD → PrngReg), Pre_UpXIdeal m →
    θ_run (Cert.UpXIdeal.defs (F := Ideal)) (onTc (τ := Cert.UpXIdeal.τ) (Cert.UpXIdeal.main (F := Ideal))) ⟨m, fun _ => 0, g⟩ (fun r => (∀ c : Dev Cert.UpXIdeal.nD,
      r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
      ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1)
      ∧ r.2.mem ((c.tc : Thread Cert.UpXIdeal.nD Cert.UpXIdeal.τ).loc Cert.UpXIdeal.main_arg2) = m ((c.tc : Thread Cert.UpXIdeal.nD Cert.UpXIdeal.τ).loc Cert.UpXIdeal.main_arg2)
      ∧ r.2.mem ((c.tc : Thread Cert.UpXIdeal.nD Cert.UpXIdeal.τ).loc Cert.UpXIdeal.main_arg3) = m ((c.tc : Thread Cert.UpXIdeal.nD Cert.UpXIdeal.τ).loc Cert.UpXIdeal.main_arg3))
      ∧ r.2.sem = fun _ => 0)

def quiescent_UpXRefIdeal [hUpXRefIdeal : Cert.UpXRefIdeal.Facts] : Prop :=
  ∀ (m : (ℓ : Loc Cert.UpXRefIdeal.nD Cert.UpXRefIdeal.τ Cert.UpXRefIdeal.sig) → Buf (Elt Ideal) ℓ) (g : Dev Cert.UpXRefIdeal.nD → PrngReg), Pre_UpXRefIdeal m →
    θ_run (Cert.UpXRefIdeal.defs (F := Ideal)) (onTc (τ := Cert.UpXRefIdeal.τ) (Cert.UpXRefIdeal.main (F := Ideal))) ⟨m, fun _ => 0, g⟩ (fun r => (∀ c : Dev Cert.UpXRefIdeal.nD,
      r.2.mem ((c.tc : Thread Cert.UpXRefIdeal.nD Cert.UpXRefIdeal.τ).loc Cert.UpXRefIdeal.main_arg0) = m ((c.tc : Thread Cert.UpXRefIdeal.nD Cert.UpXRefIdeal.τ).loc Cert.UpXRefIdeal.main_arg0)
      ∧ r.2.mem ((c.tc : Thread Cert.UpXRefIdeal.nD Cert.UpXRefIdeal.τ).loc Cert.UpXRefIdeal.main_arg1) = m ((c.tc : Thread Cert.UpXRefIdeal.nD Cert.UpXRefIdeal.τ).loc Cert.UpXRefIdeal.main_arg1)
      ∧ r.2.mem ((c.tc : Thread Cert.UpXRefIdeal.nD Cert.UpXRefIdeal.τ).loc Cert.UpXRefIdeal.main_arg2) = m ((c.tc : Thread Cert.UpXRefIdeal.nD Cert.UpXRefIdeal.τ).loc Cert.UpXRefIdeal.main_arg2)
      ∧ r.2.mem ((c.tc : Thread Cert.UpXRefIdeal.nD Cert.UpXRefIdeal.τ).loc Cert.UpXRefIdeal.main_arg3) = m ((c.tc : Thread Cert.UpXRefIdeal.nD Cert.UpXRefIdeal.τ).loc Cert.UpXRefIdeal.main_arg3))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1)
      ∧ r.2.mem ((c.tc : Thread Cert.InX.nD Cert.InX.τ).loc Cert.InX.main_arg2) = m ((c.tc : Thread Cert.InX.nD Cert.InX.τ).loc Cert.InX.main_arg2)
      ∧ r.2.mem ((c.tc : Thread Cert.InX.nD Cert.InX.τ).loc Cert.InX.main_arg3) = m ((c.tc : Thread Cert.InX.nD Cert.InX.τ).loc Cert.InX.main_arg3)
      ∧ r.2.mem ((c.tc : Thread Cert.InX.nD Cert.InX.τ).loc Cert.InX.main_arg4) = m ((c.tc : Thread Cert.InX.nD Cert.InX.τ).loc Cert.InX.main_arg4)
      ∧ r.2.mem ((c.tc : Thread Cert.InX.nD Cert.InX.τ).loc Cert.InX.main_arg5) = m ((c.tc : Thread Cert.InX.nD Cert.InX.τ).loc Cert.InX.main_arg5)
      ∧ r.2.mem ((c.tc : Thread Cert.InX.nD Cert.InX.τ).loc Cert.InX.main_arg6) = m ((c.tc : Thread Cert.InX.nD Cert.InX.τ).loc Cert.InX.main_arg6)
      ∧ r.2.mem ((c.tc : Thread Cert.InX.nD Cert.InX.τ).loc Cert.InX.main_arg7) = m ((c.tc : Thread Cert.InX.nD Cert.InX.τ).loc Cert.InX.main_arg7))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
      ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
      ∧ r.2.mem ((c.tc : Thread Cert.InXIdeal.nD Cert.InXIdeal.τ).loc Cert.InXIdeal.main_arg4) = m ((c.tc : Thread Cert.InXIdeal.nD Cert.InXIdeal.τ).loc Cert.InXIdeal.main_arg4)
      ∧ r.2.mem ((c.tc : Thread Cert.InXIdeal.nD Cert.InXIdeal.τ).loc Cert.InXIdeal.main_arg5) = m ((c.tc : Thread Cert.InXIdeal.nD Cert.InXIdeal.τ).loc Cert.InXIdeal.main_arg5)
      ∧ r.2.mem ((c.tc : Thread Cert.InXIdeal.nD Cert.InXIdeal.τ).loc Cert.InXIdeal.main_arg6) = m ((c.tc : Thread Cert.InXIdeal.nD Cert.InXIdeal.τ).loc Cert.InXIdeal.main_arg6)
      ∧ r.2.mem ((c.tc : Thread Cert.InXIdeal.nD Cert.InXIdeal.τ).loc Cert.InXIdeal.main_arg7) = m ((c.tc : Thread Cert.InXIdeal.nD Cert.InXIdeal.τ).loc Cert.InXIdeal.main_arg7))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1)
      ∧ r.2.mem ((c.tc : Thread Cert.InXRefIdeal.nD Cert.InXRefIdeal.τ).loc Cert.InXRefIdeal.main_arg2) = m ((c.tc : Thread Cert.InXRefIdeal.nD Cert.InXRefIdeal.τ).loc Cert.InXRefIdeal.main_arg2)
      ∧ r.2.mem ((c.tc : Thread Cert.InXRefIdeal.nD Cert.InXRefIdeal.τ).loc Cert.InXRefIdeal.main_arg3) = m ((c.tc : Thread Cert.InXRefIdeal.nD Cert.InXRefIdeal.τ).loc Cert.InXRefIdeal.main_arg3)
      ∧ r.2.mem ((c.tc : Thread Cert.InXRefIdeal.nD Cert.InXRefIdeal.τ).loc Cert.InXRefIdeal.main_arg4) = m ((c.tc : Thread Cert.InXRefIdeal.nD Cert.InXRefIdeal.τ).loc Cert.InXRefIdeal.main_arg4)
      ∧ r.2.mem ((c.tc : Thread Cert.InXRefIdeal.nD Cert.InXRefIdeal.τ).loc Cert.InXRefIdeal.main_arg5) = m ((c.tc : Thread Cert.InXRefIdeal.nD Cert.InXRefIdeal.τ).loc Cert.InXRefIdeal.main_arg5)
      ∧ r.2.mem ((c.tc : Thread Cert.InXRefIdeal.nD Cert.InXRefIdeal.τ).loc Cert.InXRefIdeal.main_arg6) = m ((c.tc : Thread Cert.InXRefIdeal.nD Cert.InXRefIdeal.τ).loc Cert.InXRefIdeal.main_arg6)
      ∧ r.2.mem ((c.tc : Thread Cert.InXRefIdeal.nD Cert.InXRefIdeal.τ).loc Cert.InXRefIdeal.main_arg7) = m ((c.tc : Thread Cert.InXRefIdeal.nD Cert.InXRefIdeal.τ).loc Cert.InXRefIdeal.main_arg7))
      ∧ r.2.sem = fun _ => 0)

def quiescent_QkvF [hQkvF : Cert.QkvF.Facts] : Prop :=
  ∀ (m : (ℓ : Loc Cert.QkvF.nD Cert.QkvF.τ Cert.QkvF.sig) → Buf (Elt Bits) ℓ) (g : Dev Cert.QkvF.nD → PrngReg), Pre_QkvF m →
    θ_run (Cert.QkvF.defs (F := Bits)) (onTc (τ := Cert.QkvF.τ) (Cert.QkvF.main (F := Bits))) ⟨m, fun _ => 0, g⟩ (fun r => (∀ c : Dev Cert.QkvF.nD,
      r.2.mem ((c.tc : Thread Cert.QkvF.nD Cert.QkvF.τ).loc Cert.QkvF.main_arg0) = m ((c.tc : Thread Cert.QkvF.nD Cert.QkvF.τ).loc Cert.QkvF.main_arg0)
      ∧ r.2.mem ((c.tc : Thread Cert.QkvF.nD Cert.QkvF.τ).loc Cert.QkvF.main_arg1) = m ((c.tc : Thread Cert.QkvF.nD Cert.QkvF.τ).loc Cert.QkvF.main_arg1))
      ∧ r.2.sem = fun _ => 0)

def quiescent_QkvFIdeal [hQkvFIdeal : Cert.QkvFIdeal.Facts] : Prop :=
  ∀ (m : (ℓ : Loc Cert.QkvFIdeal.nD Cert.QkvFIdeal.τ Cert.QkvFIdeal.sig) → Buf (Elt Ideal) ℓ) (g : Dev Cert.QkvFIdeal.nD → PrngReg), Pre_QkvFIdeal m →
    θ_run (Cert.QkvFIdeal.defs (F := Ideal)) (onTc (τ := Cert.QkvFIdeal.τ) (Cert.QkvFIdeal.main (F := Ideal))) ⟨m, fun _ => 0, g⟩ (fun r => (∀ c : Dev Cert.QkvFIdeal.nD,
      r.2.mem ((c.tc : Thread Cert.QkvFIdeal.nD Cert.QkvFIdeal.τ).loc Cert.QkvFIdeal.main_arg0) = m ((c.tc : Thread Cert.QkvFIdeal.nD Cert.QkvFIdeal.τ).loc Cert.QkvFIdeal.main_arg0)
      ∧ r.2.mem ((c.tc : Thread Cert.QkvFIdeal.nD Cert.QkvFIdeal.τ).loc Cert.QkvFIdeal.main_arg1) = m ((c.tc : Thread Cert.QkvFIdeal.nD Cert.QkvFIdeal.τ).loc Cert.QkvFIdeal.main_arg1))
      ∧ r.2.sem = fun _ => 0)

def quiescent_QkvFRefIdeal [hQkvFRefIdeal : Cert.QkvFRefIdeal.Facts] : Prop :=
  ∀ (m : (ℓ : Loc Cert.QkvFRefIdeal.nD Cert.QkvFRefIdeal.τ Cert.QkvFRefIdeal.sig) → Buf (Elt Ideal) ℓ) (g : Dev Cert.QkvFRefIdeal.nD → PrngReg), Pre_QkvFRefIdeal m →
    θ_run (Cert.QkvFRefIdeal.defs (F := Ideal)) (onTc (τ := Cert.QkvFRefIdeal.τ) (Cert.QkvFRefIdeal.main (F := Ideal))) ⟨m, fun _ => 0, g⟩ (fun r => (∀ c : Dev Cert.QkvFRefIdeal.nD,
      r.2.mem ((c.tc : Thread Cert.QkvFRefIdeal.nD Cert.QkvFRefIdeal.τ).loc Cert.QkvFRefIdeal.main_arg0) = m ((c.tc : Thread Cert.QkvFRefIdeal.nD Cert.QkvFRefIdeal.τ).loc Cert.QkvFRefIdeal.main_arg0)
      ∧ r.2.mem ((c.tc : Thread Cert.QkvFRefIdeal.nD Cert.QkvFRefIdeal.τ).loc Cert.QkvFRefIdeal.main_arg1) = m ((c.tc : Thread Cert.QkvFRefIdeal.nD Cert.QkvFRefIdeal.τ).loc Cert.QkvFRefIdeal.main_arg1))
      ∧ r.2.sem = fun _ => 0)

def quiescent_ZF [hZF : Cert.ZF.Facts] : Prop :=
  ∀ (m : (ℓ : Loc Cert.ZF.nD Cert.ZF.τ Cert.ZF.sig) → Buf (Elt Bits) ℓ) (g : Dev Cert.ZF.nD → PrngReg), Pre_ZF m →
    θ_run (Cert.ZF.defs (F := Bits)) (onTc (τ := Cert.ZF.τ) (Cert.ZF.main (F := Bits))) ⟨m, fun _ => 0, g⟩ (fun r => (∀ c : Dev Cert.ZF.nD,
      r.2.mem ((c.tc : Thread Cert.ZF.nD Cert.ZF.τ).loc Cert.ZF.main_arg0) = m ((c.tc : Thread Cert.ZF.nD Cert.ZF.τ).loc Cert.ZF.main_arg0)
      ∧ r.2.mem ((c.tc : Thread Cert.ZF.nD Cert.ZF.τ).loc Cert.ZF.main_arg1) = m ((c.tc : Thread Cert.ZF.nD Cert.ZF.τ).loc Cert.ZF.main_arg1))
      ∧ r.2.sem = fun _ => 0)

def quiescent_ZFIdeal [hZFIdeal : Cert.ZFIdeal.Facts] : Prop :=
  ∀ (m : (ℓ : Loc Cert.ZFIdeal.nD Cert.ZFIdeal.τ Cert.ZFIdeal.sig) → Buf (Elt Ideal) ℓ) (g : Dev Cert.ZFIdeal.nD → PrngReg), Pre_ZFIdeal m →
    θ_run (Cert.ZFIdeal.defs (F := Ideal)) (onTc (τ := Cert.ZFIdeal.τ) (Cert.ZFIdeal.main (F := Ideal))) ⟨m, fun _ => 0, g⟩ (fun r => (∀ c : Dev Cert.ZFIdeal.nD,
      r.2.mem ((c.tc : Thread Cert.ZFIdeal.nD Cert.ZFIdeal.τ).loc Cert.ZFIdeal.main_arg0) = m ((c.tc : Thread Cert.ZFIdeal.nD Cert.ZFIdeal.τ).loc Cert.ZFIdeal.main_arg0)
      ∧ r.2.mem ((c.tc : Thread Cert.ZFIdeal.nD Cert.ZFIdeal.τ).loc Cert.ZFIdeal.main_arg1) = m ((c.tc : Thread Cert.ZFIdeal.nD Cert.ZFIdeal.τ).loc Cert.ZFIdeal.main_arg1))
      ∧ r.2.sem = fun _ => 0)

def quiescent_ZFRefIdeal [hZFRefIdeal : Cert.ZFRefIdeal.Facts] : Prop :=
  ∀ (m : (ℓ : Loc Cert.ZFRefIdeal.nD Cert.ZFRefIdeal.τ Cert.ZFRefIdeal.sig) → Buf (Elt Ideal) ℓ) (g : Dev Cert.ZFRefIdeal.nD → PrngReg), Pre_ZFRefIdeal m →
    θ_run (Cert.ZFRefIdeal.defs (F := Ideal)) (onTc (τ := Cert.ZFRefIdeal.τ) (Cert.ZFRefIdeal.main (F := Ideal))) ⟨m, fun _ => 0, g⟩ (fun r => (∀ c : Dev Cert.ZFRefIdeal.nD,
      r.2.mem ((c.tc : Thread Cert.ZFRefIdeal.nD Cert.ZFRefIdeal.τ).loc Cert.ZFRefIdeal.main_arg0) = m ((c.tc : Thread Cert.ZFRefIdeal.nD Cert.ZFRefIdeal.τ).loc Cert.ZFRefIdeal.main_arg0)
      ∧ r.2.mem ((c.tc : Thread Cert.ZFRefIdeal.nD Cert.ZFRefIdeal.τ).loc Cert.ZFRefIdeal.main_arg1) = m ((c.tc : Thread Cert.ZFRefIdeal.nD Cert.ZFRefIdeal.τ).loc Cert.ZFRefIdeal.main_arg1))
      ∧ r.2.sem = fun _ => 0)

def quiescent_GateF [hGateF : Cert.GateF.Facts] : Prop :=
  ∀ (m : (ℓ : Loc Cert.GateF.nD Cert.GateF.τ Cert.GateF.sig) → Buf (Elt Bits) ℓ) (g : Dev Cert.GateF.nD → PrngReg), Pre_GateF m →
    θ_run (Cert.GateF.defs (F := Bits)) (onTc (τ := Cert.GateF.τ) (Cert.GateF.main (F := Bits))) ⟨m, fun _ => 0, g⟩ (fun r => (∀ c : Dev Cert.GateF.nD,
      r.2.mem ((c.tc : Thread Cert.GateF.nD Cert.GateF.τ).loc Cert.GateF.main_arg0) = m ((c.tc : Thread Cert.GateF.nD Cert.GateF.τ).loc Cert.GateF.main_arg0)
      ∧ r.2.mem ((c.tc : Thread Cert.GateF.nD Cert.GateF.τ).loc Cert.GateF.main_arg1) = m ((c.tc : Thread Cert.GateF.nD Cert.GateF.τ).loc Cert.GateF.main_arg1))
      ∧ r.2.sem = fun _ => 0)

def quiescent_GateFIdeal [hGateFIdeal : Cert.GateFIdeal.Facts] : Prop :=
  ∀ (m : (ℓ : Loc Cert.GateFIdeal.nD Cert.GateFIdeal.τ Cert.GateFIdeal.sig) → Buf (Elt Ideal) ℓ) (g : Dev Cert.GateFIdeal.nD → PrngReg), Pre_GateFIdeal m →
    θ_run (Cert.GateFIdeal.defs (F := Ideal)) (onTc (τ := Cert.GateFIdeal.τ) (Cert.GateFIdeal.main (F := Ideal))) ⟨m, fun _ => 0, g⟩ (fun r => (∀ c : Dev Cert.GateFIdeal.nD,
      r.2.mem ((c.tc : Thread Cert.GateFIdeal.nD Cert.GateFIdeal.τ).loc Cert.GateFIdeal.main_arg0) = m ((c.tc : Thread Cert.GateFIdeal.nD Cert.GateFIdeal.τ).loc Cert.GateFIdeal.main_arg0)
      ∧ r.2.mem ((c.tc : Thread Cert.GateFIdeal.nD Cert.GateFIdeal.τ).loc Cert.GateFIdeal.main_arg1) = m ((c.tc : Thread Cert.GateFIdeal.nD Cert.GateFIdeal.τ).loc Cert.GateFIdeal.main_arg1))
      ∧ r.2.sem = fun _ => 0)

def quiescent_GateFRefIdeal [hGateFRefIdeal : Cert.GateFRefIdeal.Facts] : Prop :=
  ∀ (m : (ℓ : Loc Cert.GateFRefIdeal.nD Cert.GateFRefIdeal.τ Cert.GateFRefIdeal.sig) → Buf (Elt Ideal) ℓ) (g : Dev Cert.GateFRefIdeal.nD → PrngReg), Pre_GateFRefIdeal m →
    θ_run (Cert.GateFRefIdeal.defs (F := Ideal)) (onTc (τ := Cert.GateFRefIdeal.τ) (Cert.GateFRefIdeal.main (F := Ideal))) ⟨m, fun _ => 0, g⟩ (fun r => (∀ c : Dev Cert.GateFRefIdeal.nD,
      r.2.mem ((c.tc : Thread Cert.GateFRefIdeal.nD Cert.GateFRefIdeal.τ).loc Cert.GateFRefIdeal.main_arg0) = m ((c.tc : Thread Cert.GateFRefIdeal.nD Cert.GateFRefIdeal.τ).loc Cert.GateFRefIdeal.main_arg0)
      ∧ r.2.mem ((c.tc : Thread Cert.GateFRefIdeal.nD Cert.GateFRefIdeal.τ).loc Cert.GateFRefIdeal.main_arg1) = m ((c.tc : Thread Cert.GateFRefIdeal.nD Cert.GateFRefIdeal.τ).loc Cert.GateFRefIdeal.main_arg1))
      ∧ r.2.sem = fun _ => 0)

def quiescent_PoolBaF [hPoolBaF : Cert.PoolBaF.Facts] : Prop :=
  ∀ (m : (ℓ : Loc Cert.PoolBaF.nD Cert.PoolBaF.τ Cert.PoolBaF.sig) → Buf (Elt Bits) ℓ) (g : Dev Cert.PoolBaF.nD → PrngReg), Pre_PoolBaF m →
    θ_run (Cert.PoolBaF.defs (F := Bits)) (onTc (τ := Cert.PoolBaF.τ) (Cert.PoolBaF.main (F := Bits))) ⟨m, fun _ => 0, g⟩ (fun r => (∀ c : Dev Cert.PoolBaF.nD,
      r.2.mem ((c.tc : Thread Cert.PoolBaF.nD Cert.PoolBaF.τ).loc Cert.PoolBaF.main_arg0) = m ((c.tc : Thread Cert.PoolBaF.nD Cert.PoolBaF.τ).loc Cert.PoolBaF.main_arg0)
      ∧ r.2.mem ((c.tc : Thread Cert.PoolBaF.nD Cert.PoolBaF.τ).loc Cert.PoolBaF.main_arg1) = m ((c.tc : Thread Cert.PoolBaF.nD Cert.PoolBaF.τ).loc Cert.PoolBaF.main_arg1))
      ∧ r.2.sem = fun _ => 0)

def quiescent_PoolBaFIdeal [hPoolBaFIdeal : Cert.PoolBaFIdeal.Facts] : Prop :=
  ∀ (m : (ℓ : Loc Cert.PoolBaFIdeal.nD Cert.PoolBaFIdeal.τ Cert.PoolBaFIdeal.sig) → Buf (Elt Ideal) ℓ) (g : Dev Cert.PoolBaFIdeal.nD → PrngReg), Pre_PoolBaFIdeal m →
    θ_run (Cert.PoolBaFIdeal.defs (F := Ideal)) (onTc (τ := Cert.PoolBaFIdeal.τ) (Cert.PoolBaFIdeal.main (F := Ideal))) ⟨m, fun _ => 0, g⟩ (fun r => (∀ c : Dev Cert.PoolBaFIdeal.nD,
      r.2.mem ((c.tc : Thread Cert.PoolBaFIdeal.nD Cert.PoolBaFIdeal.τ).loc Cert.PoolBaFIdeal.main_arg0) = m ((c.tc : Thread Cert.PoolBaFIdeal.nD Cert.PoolBaFIdeal.τ).loc Cert.PoolBaFIdeal.main_arg0)
      ∧ r.2.mem ((c.tc : Thread Cert.PoolBaFIdeal.nD Cert.PoolBaFIdeal.τ).loc Cert.PoolBaFIdeal.main_arg1) = m ((c.tc : Thread Cert.PoolBaFIdeal.nD Cert.PoolBaFIdeal.τ).loc Cert.PoolBaFIdeal.main_arg1))
      ∧ r.2.sem = fun _ => 0)

def quiescent_PoolBaFRefIdeal [hPoolBaFRefIdeal : Cert.PoolBaFRefIdeal.Facts] : Prop :=
  ∀ (m : (ℓ : Loc Cert.PoolBaFRefIdeal.nD Cert.PoolBaFRefIdeal.τ Cert.PoolBaFRefIdeal.sig) → Buf (Elt Ideal) ℓ) (g : Dev Cert.PoolBaFRefIdeal.nD → PrngReg), Pre_PoolBaFRefIdeal m →
    θ_run (Cert.PoolBaFRefIdeal.defs (F := Ideal)) (onTc (τ := Cert.PoolBaFRefIdeal.τ) (Cert.PoolBaFRefIdeal.main (F := Ideal))) ⟨m, fun _ => 0, g⟩ (fun r => (∀ c : Dev Cert.PoolBaFRefIdeal.nD,
      r.2.mem ((c.tc : Thread Cert.PoolBaFRefIdeal.nD Cert.PoolBaFRefIdeal.τ).loc Cert.PoolBaFRefIdeal.main_arg0) = m ((c.tc : Thread Cert.PoolBaFRefIdeal.nD Cert.PoolBaFRefIdeal.τ).loc Cert.PoolBaFRefIdeal.main_arg0)
      ∧ r.2.mem ((c.tc : Thread Cert.PoolBaFRefIdeal.nD Cert.PoolBaFRefIdeal.τ).loc Cert.PoolBaFRefIdeal.main_arg1) = m ((c.tc : Thread Cert.PoolBaFRefIdeal.nD Cert.PoolBaFRefIdeal.τ).loc Cert.PoolBaFRefIdeal.main_arg1))
      ∧ r.2.sem = fun _ => 0)

def quiescent_UpF [hUpF : Cert.UpF.Facts] : Prop :=
  ∀ (m : (ℓ : Loc Cert.UpF.nD Cert.UpF.τ Cert.UpF.sig) → Buf (Elt Bits) ℓ) (g : Dev Cert.UpF.nD → PrngReg), Pre_UpF m →
    θ_run (Cert.UpF.defs (F := Bits)) (onTc (τ := Cert.UpF.τ) (Cert.UpF.main (F := Bits))) ⟨m, fun _ => 0, g⟩ (fun r => (∀ c : Dev Cert.UpF.nD,
      r.2.mem ((c.tc : Thread Cert.UpF.nD Cert.UpF.τ).loc Cert.UpF.main_arg0) = m ((c.tc : Thread Cert.UpF.nD Cert.UpF.τ).loc Cert.UpF.main_arg0)
      ∧ r.2.mem ((c.tc : Thread Cert.UpF.nD Cert.UpF.τ).loc Cert.UpF.main_arg1) = m ((c.tc : Thread Cert.UpF.nD Cert.UpF.τ).loc Cert.UpF.main_arg1))
      ∧ r.2.sem = fun _ => 0)

def quiescent_UpFIdeal [hUpFIdeal : Cert.UpFIdeal.Facts] : Prop :=
  ∀ (m : (ℓ : Loc Cert.UpFIdeal.nD Cert.UpFIdeal.τ Cert.UpFIdeal.sig) → Buf (Elt Ideal) ℓ) (g : Dev Cert.UpFIdeal.nD → PrngReg), Pre_UpFIdeal m →
    θ_run (Cert.UpFIdeal.defs (F := Ideal)) (onTc (τ := Cert.UpFIdeal.τ) (Cert.UpFIdeal.main (F := Ideal))) ⟨m, fun _ => 0, g⟩ (fun r => (∀ c : Dev Cert.UpFIdeal.nD,
      r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
      ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1))
      ∧ r.2.sem = fun _ => 0)

def quiescent_UpFRefIdeal [hUpFRefIdeal : Cert.UpFRefIdeal.Facts] : Prop :=
  ∀ (m : (ℓ : Loc Cert.UpFRefIdeal.nD Cert.UpFRefIdeal.τ Cert.UpFRefIdeal.sig) → Buf (Elt Ideal) ℓ) (g : Dev Cert.UpFRefIdeal.nD → PrngReg), Pre_UpFRefIdeal m →
    θ_run (Cert.UpFRefIdeal.defs (F := Ideal)) (onTc (τ := Cert.UpFRefIdeal.τ) (Cert.UpFRefIdeal.main (F := Ideal))) ⟨m, fun _ => 0, g⟩ (fun r => (∀ c : Dev Cert.UpFRefIdeal.nD,
      r.2.mem ((c.tc : Thread Cert.UpFRefIdeal.nD Cert.UpFRefIdeal.τ).loc Cert.UpFRefIdeal.main_arg0) = m ((c.tc : Thread Cert.UpFRefIdeal.nD Cert.UpFRefIdeal.τ).loc Cert.UpFRefIdeal.main_arg0)
      ∧ r.2.mem ((c.tc : Thread Cert.UpFRefIdeal.nD Cert.UpFRefIdeal.τ).loc Cert.UpFRefIdeal.main_arg1) = m ((c.tc : Thread Cert.UpFRefIdeal.nD Cert.UpFRefIdeal.τ).loc Cert.UpFRefIdeal.main_arg1))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_OutF [hOutF : Cert.OutF.Facts] : Prop :=
  ∀ (m : (ℓ : Loc Cert.OutF.nD Cert.OutF.τ Cert.OutF.sig) → Buf (Elt Bits) ℓ) (g : Dev Cert.OutF.nD → PrngReg), Pre_OutF m →
    θ_run (Cert.OutF.defs (F := Bits)) (onTc (τ := Cert.OutF.τ) (Cert.OutF.main (F := Bits))) ⟨m, fun _ => 0, g⟩ (fun r => (∀ c : Dev Cert.OutF.nD,
      r.2.mem ((c.tc : Thread Cert.OutF.nD Cert.OutF.τ).loc Cert.OutF.main_arg0) = m ((c.tc : Thread Cert.OutF.nD Cert.OutF.τ).loc Cert.OutF.main_arg0)
      ∧ r.2.mem ((c.tc : Thread Cert.OutF.nD Cert.OutF.τ).loc Cert.OutF.main_arg1) = m ((c.tc : Thread Cert.OutF.nD Cert.OutF.τ).loc Cert.OutF.main_arg1)
      ∧ r.2.mem ((c.tc : Thread Cert.OutF.nD Cert.OutF.τ).loc Cert.OutF.main_arg2) = m ((c.tc : Thread Cert.OutF.nD Cert.OutF.τ).loc Cert.OutF.main_arg2)
      ∧ r.2.mem ((c.tc : Thread Cert.OutF.nD Cert.OutF.τ).loc Cert.OutF.main_arg3) = m ((c.tc : Thread Cert.OutF.nD Cert.OutF.τ).loc Cert.OutF.main_arg3))
      ∧ r.2.sem = fun _ => 0)

def quiescent_OutFIdeal [hOutFIdeal : Cert.OutFIdeal.Facts] : Prop :=
  ∀ (m : (ℓ : Loc Cert.OutFIdeal.nD Cert.OutFIdeal.τ Cert.OutFIdeal.sig) → Buf (Elt Ideal) ℓ) (g : Dev Cert.OutFIdeal.nD → PrngReg), Pre_OutFIdeal m →
    θ_run (Cert.OutFIdeal.defs (F := Ideal)) (onTc (τ := Cert.OutFIdeal.τ) (Cert.OutFIdeal.main (F := Ideal))) ⟨m, fun _ => 0, g⟩ (fun r => (∀ c : Dev Cert.OutFIdeal.nD,
      r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
      ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
      ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2)
      ∧ r.2.mem ((c.tc : Thread Cert.OutFIdeal.nD Cert.OutFIdeal.τ).loc Cert.OutFIdeal.main_arg3) = m ((c.tc : Thread Cert.OutFIdeal.nD Cert.OutFIdeal.τ).loc Cert.OutFIdeal.main_arg3))
      ∧ r.2.sem = fun _ => 0)

def quiescent_OutFRefIdeal [hOutFRefIdeal : Cert.OutFRefIdeal.Facts] : Prop :=
  ∀ (m : (ℓ : Loc Cert.OutFRefIdeal.nD Cert.OutFRefIdeal.τ Cert.OutFRefIdeal.sig) → Buf (Elt Ideal) ℓ) (g : Dev Cert.OutFRefIdeal.nD → PrngReg), Pre_OutFRefIdeal m →
    θ_run (Cert.OutFRefIdeal.defs (F := Ideal)) (onTc (τ := Cert.OutFRefIdeal.τ) (Cert.OutFRefIdeal.main (F := Ideal))) ⟨m, fun _ => 0, g⟩ (fun r => (∀ c : Dev Cert.OutFRefIdeal.nD,
      r.2.mem ((c.tc : Thread Cert.OutFRefIdeal.nD Cert.OutFRefIdeal.τ).loc Cert.OutFRefIdeal.main_arg0) = m ((c.tc : Thread Cert.OutFRefIdeal.nD Cert.OutFRefIdeal.τ).loc Cert.OutFRefIdeal.main_arg0)
      ∧ r.2.mem ((c.tc : Thread Cert.OutFRefIdeal.nD Cert.OutFRefIdeal.τ).loc Cert.OutFRefIdeal.main_arg1) = m ((c.tc : Thread Cert.OutFRefIdeal.nD Cert.OutFRefIdeal.τ).loc Cert.OutFRefIdeal.main_arg1)
      ∧ r.2.mem ((c.tc : Thread Cert.OutFRefIdeal.nD Cert.OutFRefIdeal.τ).loc Cert.OutFRefIdeal.main_arg2) = m ((c.tc : Thread Cert.OutFRefIdeal.nD Cert.OutFRefIdeal.τ).loc Cert.OutFRefIdeal.main_arg2)
      ∧ r.2.mem ((c.tc : Thread Cert.OutFRefIdeal.nD Cert.OutFRefIdeal.τ).loc Cert.OutFRefIdeal.main_arg3) = m ((c.tc : Thread Cert.OutFRefIdeal.nD Cert.OutFRefIdeal.τ).loc Cert.OutFRefIdeal.main_arg3))
      ∧ r.2.sem = fun _ => 0)

def quiescent_DownF [hDownF : Cert.DownF.Facts] : Prop :=
  ∀ (m : (ℓ : Loc Cert.DownF.nD Cert.DownF.τ Cert.DownF.sig) → Buf (Elt Bits) ℓ) (g : Dev Cert.DownF.nD → PrngReg), Pre_DownF m →
    θ_run (Cert.DownF.defs (F := Bits)) (onTc (τ := Cert.DownF.τ) (Cert.DownF.main (F := Bits))) ⟨m, fun _ => 0, g⟩ (fun r => (∀ c : Dev Cert.DownF.nD,
      r.2.mem ((c.tc : Thread Cert.DownF.nD Cert.DownF.τ).loc Cert.DownF.main_arg0) = m ((c.tc : Thread Cert.DownF.nD Cert.DownF.τ).loc Cert.DownF.main_arg0)
      ∧ r.2.mem ((c.tc : Thread Cert.DownF.nD Cert.DownF.τ).loc Cert.DownF.main_arg1) = m ((c.tc : Thread Cert.DownF.nD Cert.DownF.τ).loc Cert.DownF.main_arg1)
      ∧ r.2.mem ((c.tc : Thread Cert.DownF.nD Cert.DownF.τ).loc Cert.DownF.main_arg2) = m ((c.tc : Thread Cert.DownF.nD Cert.DownF.τ).loc Cert.DownF.main_arg2)
      ∧ r.2.mem ((c.tc : Thread Cert.DownF.nD Cert.DownF.τ).loc Cert.DownF.main_arg3) = m ((c.tc : Thread Cert.DownF.nD Cert.DownF.τ).loc Cert.DownF.main_arg3))
      ∧ r.2.sem = fun _ => 0)

def quiescent_DownFIdeal [hDownFIdeal : Cert.DownFIdeal.Facts] : Prop :=
  ∀ (m : (ℓ : Loc Cert.DownFIdeal.nD Cert.DownFIdeal.τ Cert.DownFIdeal.sig) → Buf (Elt Ideal) ℓ) (g : Dev Cert.DownFIdeal.nD → PrngReg), Pre_DownFIdeal m →
    θ_run (Cert.DownFIdeal.defs (F := Ideal)) (onTc (τ := Cert.DownFIdeal.τ) (Cert.DownFIdeal.main (F := Ideal))) ⟨m, fun _ => 0, g⟩ (fun r => (∀ c : Dev Cert.DownFIdeal.nD,
      r.2.mem ((c.tc : Thread Cert.DownFIdeal.nD Cert.DownFIdeal.τ).loc Cert.DownFIdeal.main_arg0) = m ((c.tc : Thread Cert.DownFIdeal.nD Cert.DownFIdeal.τ).loc Cert.DownFIdeal.main_arg0)
      ∧ r.2.mem ((c.tc : Thread Cert.DownFIdeal.nD Cert.DownFIdeal.τ).loc Cert.DownFIdeal.main_arg1) = m ((c.tc : Thread Cert.DownFIdeal.nD Cert.DownFIdeal.τ).loc Cert.DownFIdeal.main_arg1)
      ∧ r.2.mem ((c.tc : Thread Cert.DownFIdeal.nD Cert.DownFIdeal.τ).loc Cert.DownFIdeal.main_arg2) = m ((c.tc : Thread Cert.DownFIdeal.nD Cert.DownFIdeal.τ).loc Cert.DownFIdeal.main_arg2)
      ∧ r.2.mem ((c.tc : Thread Cert.DownFIdeal.nD Cert.DownFIdeal.τ).loc Cert.DownFIdeal.main_arg3) = m ((c.tc : Thread Cert.DownFIdeal.nD Cert.DownFIdeal.τ).loc Cert.DownFIdeal.main_arg3))
      ∧ r.2.sem = fun _ => 0)

def quiescent_DownFRefIdeal [hDownFRefIdeal : Cert.DownFRefIdeal.Facts] : Prop :=
  ∀ (m : (ℓ : Loc Cert.DownFRefIdeal.nD Cert.DownFRefIdeal.τ Cert.DownFRefIdeal.sig) → Buf (Elt Ideal) ℓ) (g : Dev Cert.DownFRefIdeal.nD → PrngReg), Pre_DownFRefIdeal m →
    θ_run (Cert.DownFRefIdeal.defs (F := Ideal)) (onTc (τ := Cert.DownFRefIdeal.τ) (Cert.DownFRefIdeal.main (F := Ideal))) ⟨m, fun _ => 0, g⟩ (fun r => (∀ c : Dev Cert.DownFRefIdeal.nD,
      r.2.mem ((c.tc : Thread Cert.DownFRefIdeal.nD Cert.DownFRefIdeal.τ).loc Cert.DownFRefIdeal.main_arg0) = m ((c.tc : Thread Cert.DownFRefIdeal.nD Cert.DownFRefIdeal.τ).loc Cert.DownFRefIdeal.main_arg0)
      ∧ r.2.mem ((c.tc : Thread Cert.DownFRefIdeal.nD Cert.DownFRefIdeal.τ).loc Cert.DownFRefIdeal.main_arg1) = m ((c.tc : Thread Cert.DownFRefIdeal.nD Cert.DownFRefIdeal.τ).loc Cert.DownFRefIdeal.main_arg1)
      ∧ r.2.mem ((c.tc : Thread Cert.DownFRefIdeal.nD Cert.DownFRefIdeal.τ).loc Cert.DownFRefIdeal.main_arg2) = m ((c.tc : Thread Cert.DownFRefIdeal.nD Cert.DownFRefIdeal.τ).loc Cert.DownFRefIdeal.main_arg2)
      ∧ r.2.mem ((c.tc : Thread Cert.DownFRefIdeal.nD Cert.DownFRefIdeal.τ).loc Cert.DownFRefIdeal.main_arg3) = m ((c.tc : Thread Cert.DownFRefIdeal.nD Cert.DownFRefIdeal.τ).loc Cert.DownFRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3)
      ∧ r.2.mem ((c.tc : Thread Cert.FfnMid.nD Cert.FfnMid.τ).loc Cert.FfnMid.main_arg4) = m ((c.tc : Thread Cert.FfnMid.nD Cert.FfnMid.τ).loc Cert.FfnMid.main_arg4))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4))
      ∧ r.2.sem = fun _ => 0)

def quiescent_FfnMidRefIdeal [hFfnMidRefIdeal : Cert.FfnMidRefIdeal.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3)
      ∧ r.2.mem ((c.tc : Thread Cert.FfnMidRefIdeal.nD Cert.FfnMidRefIdeal.τ).loc Cert.FfnMidRefIdeal.main_arg4) = m ((c.tc : Thread Cert.FfnMidRefIdeal.nD Cert.FfnMidRefIdeal.τ).loc Cert.FfnMidRefIdeal.main_arg4))
      ∧ r.2.sem = fun _ => 0)

def quiescent_RmsF [hRmsF : Cert.RmsF.Facts] : Prop :=
  ∀ (m : (ℓ : Loc Cert.RmsF.nD Cert.RmsF.τ Cert.RmsF.sig) → Buf (Elt Bits) ℓ) (g : Dev Cert.RmsF.nD → PrngReg), Pre_RmsF m →
    θ_run (Cert.RmsF.defs (F := Bits)) (onTc (τ := Cert.RmsF.τ) (Cert.RmsF.main (F := Bits))) ⟨m, fun _ => 0, g⟩ (fun r => (∀ c : Dev Cert.RmsF.nD,
      r.2.mem ((c.tc : Thread Cert.RmsF.nD Cert.RmsF.τ).loc Cert.RmsF.main_arg0) = m ((c.tc : Thread Cert.RmsF.nD Cert.RmsF.τ).loc Cert.RmsF.main_arg0)
      ∧ r.2.mem ((c.tc : Thread Cert.RmsF.nD Cert.RmsF.τ).loc Cert.RmsF.main_arg1) = m ((c.tc : Thread Cert.RmsF.nD Cert.RmsF.τ).loc Cert.RmsF.main_arg1))
      ∧ r.2.sem = fun _ => 0)

def quiescent_RmsFIdeal [hRmsFIdeal : Cert.RmsFIdeal.Facts] : Prop :=
  ∀ (m : (ℓ : Loc Cert.RmsFIdeal.nD Cert.RmsFIdeal.τ Cert.RmsFIdeal.sig) → Buf (Elt Ideal) ℓ) (g : Dev Cert.RmsFIdeal.nD → PrngReg), Pre_RmsFIdeal m →
    θ_run (Cert.RmsFIdeal.defs (F := Ideal)) (onTc (τ := Cert.RmsFIdeal.τ) (Cert.RmsFIdeal.main (F := Ideal))) ⟨m, fun _ => 0, g⟩ (fun r => (∀ c : Dev Cert.RmsFIdeal.nD,
      r.2.mem ((c.tc : Thread Cert.RmsFIdeal.nD Cert.RmsFIdeal.τ).loc Cert.RmsFIdeal.main_arg0) = m ((c.tc : Thread Cert.RmsFIdeal.nD Cert.RmsFIdeal.τ).loc Cert.RmsFIdeal.main_arg0)
      ∧ r.2.mem ((c.tc : Thread Cert.RmsFIdeal.nD Cert.RmsFIdeal.τ).loc Cert.RmsFIdeal.main_arg1) = m ((c.tc : Thread Cert.RmsFIdeal.nD Cert.RmsFIdeal.τ).loc Cert.RmsFIdeal.main_arg1))
      ∧ r.2.sem = fun _ => 0)

def quiescent_RmsFRefIdeal [hRmsFRefIdeal : Cert.RmsFRefIdeal.Facts] : Prop :=
  ∀ (m : (ℓ : Loc Cert.RmsFRefIdeal.nD Cert.RmsFRefIdeal.τ Cert.RmsFRefIdeal.sig) → Buf (Elt Ideal) ℓ) (g : Dev Cert.RmsFRefIdeal.nD → PrngReg), Pre_RmsFRefIdeal m →
    θ_run (Cert.RmsFRefIdeal.defs (F := Ideal)) (onTc (τ := Cert.RmsFRefIdeal.τ) (Cert.RmsFRefIdeal.main (F := Ideal))) ⟨m, fun _ => 0, g⟩ (fun r => (∀ c : Dev Cert.RmsFRefIdeal.nD,
      r.2.mem ((c.tc : Thread Cert.RmsFRefIdeal.nD Cert.RmsFRefIdeal.τ).loc Cert.RmsFRefIdeal.main_arg0) = m ((c.tc : Thread Cert.RmsFRefIdeal.nD Cert.RmsFRefIdeal.τ).loc Cert.RmsFRefIdeal.main_arg0)
      ∧ r.2.mem ((c.tc : Thread Cert.RmsFRefIdeal.nD Cert.RmsFRefIdeal.τ).loc Cert.RmsFRefIdeal.main_arg1) = m ((c.tc : Thread Cert.RmsFRefIdeal.nD Cert.RmsFRefIdeal.τ).loc Cert.RmsFRefIdeal.main_arg1))
      ∧ r.2.sem = fun _ => 0)

def quiescent_ConvF [hConvF : Cert.ConvF.Facts] : Prop :=
  ∀ (m : (ℓ : Loc Cert.ConvF.nD Cert.ConvF.τ Cert.ConvF.sig) → Buf (Elt Bits) ℓ) (g : Dev Cert.ConvF.nD → PrngReg), Pre_ConvF m →
    θ_run (Cert.ConvF.defs (F := Bits)) (onTc (τ := Cert.ConvF.τ) (Cert.ConvF.main (F := Bits))) ⟨m, fun _ => 0, g⟩ (fun r => (∀ c : Dev Cert.ConvF.nD,
      r.2.mem ((c.tc : Thread Cert.ConvF.nD Cert.ConvF.τ).loc Cert.ConvF.main_arg0) = m ((c.tc : Thread Cert.ConvF.nD Cert.ConvF.τ).loc Cert.ConvF.main_arg0)
      ∧ r.2.mem ((c.tc : Thread Cert.ConvF.nD Cert.ConvF.τ).loc Cert.ConvF.main_arg1) = m ((c.tc : Thread Cert.ConvF.nD Cert.ConvF.τ).loc Cert.ConvF.main_arg1))
      ∧ r.2.sem = fun _ => 0)

def quiescent_ConvFIdeal [hConvFIdeal : Cert.ConvFIdeal.Facts] : Prop :=
  ∀ (m : (ℓ : Loc Cert.ConvFIdeal.nD Cert.ConvFIdeal.τ Cert.ConvFIdeal.sig) → Buf (Elt Ideal) ℓ) (g : Dev Cert.ConvFIdeal.nD → PrngReg), Pre_ConvFIdeal m →
    θ_run (Cert.ConvFIdeal.defs (F := Ideal)) (onTc (τ := Cert.ConvFIdeal.τ) (Cert.ConvFIdeal.main (F := Ideal))) ⟨m, fun _ => 0, g⟩ (fun r => (∀ c : Dev Cert.ConvFIdeal.nD,
      r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
      ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1))
      ∧ r.2.sem = fun _ => 0)

def quiescent_ConvFRefIdeal [hConvFRefIdeal : Cert.ConvFRefIdeal.Facts] : Prop :=
  ∀ (m : (ℓ : Loc Cert.ConvFRefIdeal.nD Cert.ConvFRefIdeal.τ Cert.ConvFRefIdeal.sig) → Buf (Elt Ideal) ℓ) (g : Dev Cert.ConvFRefIdeal.nD → PrngReg), Pre_ConvFRefIdeal m →
    θ_run (Cert.ConvFRefIdeal.defs (F := Ideal)) (onTc (τ := Cert.ConvFRefIdeal.τ) (Cert.ConvFRefIdeal.main (F := Ideal))) ⟨m, fun _ => 0, g⟩ (fun r => (∀ c : Dev Cert.ConvFRefIdeal.nD,
      r.2.mem ((c.tc : Thread Cert.ConvFRefIdeal.nD Cert.ConvFRefIdeal.τ).loc Cert.ConvFRefIdeal.main_arg0) = m ((c.tc : Thread Cert.ConvFRefIdeal.nD Cert.ConvFRefIdeal.τ).loc Cert.ConvFRefIdeal.main_arg0)
      ∧ r.2.mem ((c.tc : Thread Cert.ConvFRefIdeal.nD Cert.ConvFRefIdeal.τ).loc Cert.ConvFRefIdeal.main_arg1) = m ((c.tc : Thread Cert.ConvFRefIdeal.nD Cert.ConvFRefIdeal.τ).loc Cert.ConvFRefIdeal.main_arg1))
      ∧ r.2.sem = fun _ => 0)

def quiescent_PoolF [hPoolF : Cert.PoolF.Facts] : Prop :=
  ∀ (m : (ℓ : Loc Cert.PoolF.nD Cert.PoolF.τ Cert.PoolF.sig) → Buf (Elt Bits) ℓ) (g : Dev Cert.PoolF.nD → PrngReg), Pre_PoolF m →
    θ_run (Cert.PoolF.defs (F := Bits)) (onTc (τ := Cert.PoolF.τ) (Cert.PoolF.main (F := Bits))) ⟨m, fun _ => 0, g⟩ (fun r => (∀ c : Dev Cert.PoolF.nD,
      r.2.mem ((c.tc : Thread Cert.PoolF.nD Cert.PoolF.τ).loc Cert.PoolF.main_arg0) = m ((c.tc : Thread Cert.PoolF.nD Cert.PoolF.τ).loc Cert.PoolF.main_arg0))
      ∧ r.2.sem = fun _ => 0)

def quiescent_PoolFIdeal [hPoolFIdeal : Cert.PoolFIdeal.Facts] : Prop :=
  ∀ (m : (ℓ : Loc Cert.PoolFIdeal.nD Cert.PoolFIdeal.τ Cert.PoolFIdeal.sig) → Buf (Elt Ideal) ℓ) (g : Dev Cert.PoolFIdeal.nD → PrngReg), Pre_PoolFIdeal m →
    θ_run (Cert.PoolFIdeal.defs (F := Ideal)) (onTc (τ := Cert.PoolFIdeal.τ) (Cert.PoolFIdeal.main (F := Ideal))) ⟨m, fun _ => 0, g⟩ (fun r => (∀ c : Dev Cert.PoolFIdeal.nD,
      r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0))
      ∧ r.2.sem = fun _ => 0)

def quiescent_PoolFRefIdeal [hPoolFRefIdeal : Cert.PoolFRefIdeal.Facts] : Prop :=
  ∀ (m : (ℓ : Loc Cert.PoolFRefIdeal.nD Cert.PoolFRefIdeal.τ Cert.PoolFRefIdeal.sig) → Buf (Elt Ideal) ℓ) (g : Dev Cert.PoolFRefIdeal.nD → PrngReg), Pre_PoolFRefIdeal m →
    θ_run (Cert.PoolFRefIdeal.defs (F := Ideal)) (onTc (τ := Cert.PoolFRefIdeal.τ) (Cert.PoolFRefIdeal.main (F := Ideal))) ⟨m, fun _ => 0, g⟩ (fun r => (∀ c : Dev Cert.PoolFRefIdeal.nD,
      r.2.mem ((c.tc : Thread Cert.PoolFRefIdeal.nD Cert.PoolFRefIdeal.τ).loc Cert.PoolFRefIdeal.main_arg0) = m ((c.tc : Thread Cert.PoolFRefIdeal.nD Cert.PoolFRefIdeal.τ).loc Cert.PoolFRefIdeal.main_arg0))
      ∧ r.2.sem = fun _ => 0)

def quiescent_MixF [hMixF : Cert.MixF.Facts] : Prop :=
  ∀ (m : (ℓ : Loc Cert.MixF.nD Cert.MixF.τ Cert.MixF.sig) → Buf (Elt Bits) ℓ) (g : Dev Cert.MixF.nD → PrngReg), Pre_MixF m →
    θ_run (Cert.MixF.defs (F := Bits)) (onTc (τ := Cert.MixF.τ) (Cert.MixF.main (F := Bits))) ⟨m, fun _ => 0, g⟩ (fun r => (∀ c : Dev Cert.MixF.nD,
      r.2.mem ((c.tc : Thread Cert.MixF.nD Cert.MixF.τ).loc Cert.MixF.main_arg0) = m ((c.tc : Thread Cert.MixF.nD Cert.MixF.τ).loc Cert.MixF.main_arg0)
      ∧ r.2.mem ((c.tc : Thread Cert.MixF.nD Cert.MixF.τ).loc Cert.MixF.main_arg1) = m ((c.tc : Thread Cert.MixF.nD Cert.MixF.τ).loc Cert.MixF.main_arg1)
      ∧ r.2.mem ((c.tc : Thread Cert.MixF.nD Cert.MixF.τ).loc Cert.MixF.main_arg2) = m ((c.tc : Thread Cert.MixF.nD Cert.MixF.τ).loc Cert.MixF.main_arg2)
      ∧ r.2.mem ((c.tc : Thread Cert.MixF.nD Cert.MixF.τ).loc Cert.MixF.main_arg3) = m ((c.tc : Thread Cert.MixF.nD Cert.MixF.τ).loc Cert.MixF.main_arg3)
      ∧ r.2.mem ((c.tc : Thread Cert.MixF.nD Cert.MixF.τ).loc Cert.MixF.main_arg4) = m ((c.tc : Thread Cert.MixF.nD Cert.MixF.τ).loc Cert.MixF.main_arg4))
      ∧ r.2.sem = fun _ => 0)

def quiescent_MixFIdeal [hMixFIdeal : Cert.MixFIdeal.Facts] : Prop :=
  ∀ (m : (ℓ : Loc Cert.MixFIdeal.nD Cert.MixFIdeal.τ Cert.MixFIdeal.sig) → Buf (Elt Ideal) ℓ) (g : Dev Cert.MixFIdeal.nD → PrngReg), Pre_MixFIdeal m →
    θ_run (Cert.MixFIdeal.defs (F := Ideal)) (onTc (τ := Cert.MixFIdeal.τ) (Cert.MixFIdeal.main (F := Ideal))) ⟨m, fun _ => 0, g⟩ (fun r => (∀ c : Dev Cert.MixFIdeal.nD,
      r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
      ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
      ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
      ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3)
      ∧ r.2.mem ((c.tc : Thread Cert.MixFIdeal.nD Cert.MixFIdeal.τ).loc Cert.MixFIdeal.main_arg4) = m ((c.tc : Thread Cert.MixFIdeal.nD Cert.MixFIdeal.τ).loc Cert.MixFIdeal.main_arg4))
      ∧ r.2.sem = fun _ => 0)

def quiescent_MixFRefIdeal [hMixFRefIdeal : Cert.MixFRefIdeal.Facts] : Prop :=
  ∀ (m : (ℓ : Loc Cert.MixFRefIdeal.nD Cert.MixFRefIdeal.τ Cert.MixFRefIdeal.sig) → Buf (Elt Ideal) ℓ) (g : Dev Cert.MixFRefIdeal.nD → PrngReg), Pre_MixFRefIdeal m →
    θ_run (Cert.MixFRefIdeal.defs (F := Ideal)) (onTc (τ := Cert.MixFRefIdeal.τ) (Cert.MixFRefIdeal.main (F := Ideal))) ⟨m, fun _ => 0, g⟩ (fun r => (∀ c : Dev Cert.MixFRefIdeal.nD,
      r.2.mem ((c.tc : Thread Cert.MixFRefIdeal.nD Cert.MixFRefIdeal.τ).loc Cert.MixFRefIdeal.main_arg0) = m ((c.tc : Thread Cert.MixFRefIdeal.nD Cert.MixFRefIdeal.τ).loc Cert.MixFRefIdeal.main_arg0)
      ∧ r.2.mem ((c.tc : Thread Cert.MixFRefIdeal.nD Cert.MixFRefIdeal.τ).loc Cert.MixFRefIdeal.main_arg1) = m ((c.tc : Thread Cert.MixFRefIdeal.nD Cert.MixFRefIdeal.τ).loc Cert.MixFRefIdeal.main_arg1)
      ∧ r.2.mem ((c.tc : Thread Cert.MixFRefIdeal.nD Cert.MixFRefIdeal.τ).loc Cert.MixFRefIdeal.main_arg2) = m ((c.tc : Thread Cert.MixFRefIdeal.nD Cert.MixFRefIdeal.τ).loc Cert.MixFRefIdeal.main_arg2)
      ∧ r.2.mem ((c.tc : Thread Cert.MixFRefIdeal.nD Cert.MixFRefIdeal.τ).loc Cert.MixFRefIdeal.main_arg3) = m ((c.tc : Thread Cert.MixFRefIdeal.nD Cert.MixFRefIdeal.τ).loc Cert.MixFRefIdeal.main_arg3)
      ∧ r.2.mem ((c.tc : Thread Cert.MixFRefIdeal.nD Cert.MixFRefIdeal.τ).loc Cert.MixFRefIdeal.main_arg4) = m ((c.tc : Thread Cert.MixFRefIdeal.nD Cert.MixFRefIdeal.τ).loc Cert.MixFRefIdeal.main_arg4))
      ∧ r.2.sem = fun _ => 0)

def quiescent_FfnF [hFfnF : Cert.FfnF.Facts] : Prop :=
  ∀ (m : (ℓ : Loc Cert.FfnF.nD Cert.FfnF.τ Cert.FfnF.sig) → Buf (Elt Bits) ℓ) (g : Dev Cert.FfnF.nD → PrngReg), Pre_FfnF m →
    θ_run (Cert.FfnF.defs (F := Bits)) (onTc (τ := Cert.FfnF.τ) (Cert.FfnF.main (F := Bits))) ⟨m, fun _ => 0, g⟩ (fun r => (∀ c : Dev Cert.FfnF.nD,
      r.2.mem ((c.tc : Thread Cert.FfnF.nD Cert.FfnF.τ).loc Cert.FfnF.main_arg0) = m ((c.tc : Thread Cert.FfnF.nD Cert.FfnF.τ).loc Cert.FfnF.main_arg0)
      ∧ r.2.mem ((c.tc : Thread Cert.FfnF.nD Cert.FfnF.τ).loc Cert.FfnF.main_arg1) = m ((c.tc : Thread Cert.FfnF.nD Cert.FfnF.τ).loc Cert.FfnF.main_arg1)
      ∧ r.2.mem ((c.tc : Thread Cert.FfnF.nD Cert.FfnF.τ).loc Cert.FfnF.main_arg2) = m ((c.tc : Thread Cert.FfnF.nD Cert.FfnF.τ).loc Cert.FfnF.main_arg2)
      ∧ r.2.mem ((c.tc : Thread Cert.FfnF.nD Cert.FfnF.τ).loc Cert.FfnF.main_arg3) = m ((c.tc : Thread Cert.FfnF.nD Cert.FfnF.τ).loc Cert.FfnF.main_arg3))
      ∧ r.2.sem = fun _ => 0)

def quiescent_FfnFIdeal [hFfnFIdeal : Cert.FfnFIdeal.Facts] : Prop :=
  ∀ (m : (ℓ : Loc Cert.FfnFIdeal.nD Cert.FfnFIdeal.τ Cert.FfnFIdeal.sig) → Buf (Elt Ideal) ℓ) (g : Dev Cert.FfnFIdeal.nD → PrngReg), Pre_FfnFIdeal m →
    θ_run (Cert.FfnFIdeal.defs (F := Ideal)) (onTc (τ := Cert.FfnFIdeal.τ) (Cert.FfnFIdeal.main (F := Ideal))) ⟨m, fun _ => 0, g⟩ (fun r => (∀ c : Dev Cert.FfnFIdeal.nD,
      r.2.mem ((c.tc : Thread Cert.FfnFIdeal.nD Cert.FfnFIdeal.τ).loc Cert.FfnFIdeal.main_arg0) = m ((c.tc : Thread Cert.FfnFIdeal.nD Cert.FfnFIdeal.τ).loc Cert.FfnFIdeal.main_arg0)
      ∧ r.2.mem ((c.tc : Thread Cert.FfnFIdeal.nD Cert.FfnFIdeal.τ).loc Cert.FfnFIdeal.main_arg1) = m ((c.tc : Thread Cert.FfnFIdeal.nD Cert.FfnFIdeal.τ).loc Cert.FfnFIdeal.main_arg1)
      ∧ r.2.mem ((c.tc : Thread Cert.FfnFIdeal.nD Cert.FfnFIdeal.τ).loc Cert.FfnFIdeal.main_arg2) = m ((c.tc : Thread Cert.FfnFIdeal.nD Cert.FfnFIdeal.τ).loc Cert.FfnFIdeal.main_arg2)
      ∧ r.2.mem ((c.tc : Thread Cert.FfnFIdeal.nD Cert.FfnFIdeal.τ).loc Cert.FfnFIdeal.main_arg3) = m ((c.tc : Thread Cert.FfnFIdeal.nD Cert.FfnFIdeal.τ).loc Cert.FfnFIdeal.main_arg3))
      ∧ r.2.sem = fun _ => 0)

def quiescent_FfnFRefIdeal [hFfnFRefIdeal : Cert.FfnFRefIdeal.Facts] : Prop :=
  ∀ (m : (ℓ : Loc Cert.FfnFRefIdeal.nD Cert.FfnFRefIdeal.τ Cert.FfnFRefIdeal.sig) → Buf (Elt Ideal) ℓ) (g : Dev Cert.FfnFRefIdeal.nD → PrngReg), Pre_FfnFRefIdeal m →
    θ_run (Cert.FfnFRefIdeal.defs (F := Ideal)) (onTc (τ := Cert.FfnFRefIdeal.τ) (Cert.FfnFRefIdeal.main (F := Ideal))) ⟨m, fun _ => 0, g⟩ (fun r => (∀ c : Dev Cert.FfnFRefIdeal.nD,
      r.2.mem ((c.tc : Thread Cert.FfnFRefIdeal.nD Cert.FfnFRefIdeal.τ).loc Cert.FfnFRefIdeal.main_arg0) = m ((c.tc : Thread Cert.FfnFRefIdeal.nD Cert.FfnFRefIdeal.τ).loc Cert.FfnFRefIdeal.main_arg0)
      ∧ r.2.mem ((c.tc : Thread Cert.FfnFRefIdeal.nD Cert.FfnFRefIdeal.τ).loc Cert.FfnFRefIdeal.main_arg1) = m ((c.tc : Thread Cert.FfnFRefIdeal.nD Cert.FfnFRefIdeal.τ).loc Cert.FfnFRefIdeal.main_arg1)
      ∧ r.2.mem ((c.tc : Thread Cert.FfnFRefIdeal.nD Cert.FfnFRefIdeal.τ).loc Cert.FfnFRefIdeal.main_arg2) = m ((c.tc : Thread Cert.FfnFRefIdeal.nD Cert.FfnFRefIdeal.τ).loc Cert.FfnFRefIdeal.main_arg2)
      ∧ r.2.mem ((c.tc : Thread Cert.FfnFRefIdeal.nD Cert.FfnFRefIdeal.τ).loc Cert.FfnFRefIdeal.main_arg3) = m ((c.tc : Thread Cert.FfnFRefIdeal.nD Cert.FfnFRefIdeal.τ).loc Cert.FfnFRefIdeal.main_arg3))
      ∧ r.2.sem = fun _ => 0)

def quiescent_DownL [hDownL : Cert.DownL.Facts] : Prop :=
  ∀ (m : (ℓ : Loc Cert.DownL.nD Cert.DownL.τ Cert.DownL.sig) → Buf (Elt Bits) ℓ) (g : Dev Cert.DownL.nD → PrngReg), Pre_DownL m →
    θ_run (Cert.DownL.defs (F := Bits)) (onTc (τ := Cert.DownL.τ) (Cert.DownL.main (F := Bits))) ⟨m, fun _ => 0, g⟩ (fun r => (∀ c : Dev Cert.DownL.nD,
      r.2.mem ((c.tc : Thread Cert.DownL.nD Cert.DownL.τ).loc Cert.DownL.main_arg0) = m ((c.tc : Thread Cert.DownL.nD Cert.DownL.τ).loc Cert.DownL.main_arg0)
      ∧ r.2.mem ((c.tc : Thread Cert.DownL.nD Cert.DownL.τ).loc Cert.DownL.main_arg1) = m ((c.tc : Thread Cert.DownL.nD Cert.DownL.τ).loc Cert.DownL.main_arg1)
      ∧ r.2.mem ((c.tc : Thread Cert.DownL.nD Cert.DownL.τ).loc Cert.DownL.main_arg2) = m ((c.tc : Thread Cert.DownL.nD Cert.DownL.τ).loc Cert.DownL.main_arg2))
      ∧ r.2.sem = fun _ => 0)

def quiescent_DownLIdeal [hDownLIdeal : Cert.DownLIdeal.Facts] : Prop :=
  ∀ (m : (ℓ : Loc Cert.DownLIdeal.nD Cert.DownLIdeal.τ Cert.DownLIdeal.sig) → Buf (Elt Ideal) ℓ) (g : Dev Cert.DownLIdeal.nD → PrngReg), Pre_DownLIdeal m →
    θ_run (Cert.DownLIdeal.defs (F := Ideal)) (onTc (τ := Cert.DownLIdeal.τ) (Cert.DownLIdeal.main (F := Ideal))) ⟨m, fun _ => 0, g⟩ (fun r => (∀ c : Dev Cert.DownLIdeal.nD,
      r.2.mem ((c.tc : Thread Cert.DownLIdeal.nD Cert.DownLIdeal.τ).loc Cert.DownLIdeal.main_arg0) = m ((c.tc : Thread Cert.DownLIdeal.nD Cert.DownLIdeal.τ).loc Cert.DownLIdeal.main_arg0)
      ∧ r.2.mem ((c.tc : Thread Cert.DownLIdeal.nD Cert.DownLIdeal.τ).loc Cert.DownLIdeal.main_arg1) = m ((c.tc : Thread Cert.DownLIdeal.nD Cert.DownLIdeal.τ).loc Cert.DownLIdeal.main_arg1)
      ∧ r.2.mem ((c.tc : Thread Cert.DownLIdeal.nD Cert.DownLIdeal.τ).loc Cert.DownLIdeal.main_arg2) = m ((c.tc : Thread Cert.DownLIdeal.nD Cert.DownLIdeal.τ).loc Cert.DownLIdeal.main_arg2))
      ∧ r.2.sem = fun _ => 0)

def quiescent_DownLRefIdeal [hDownLRefIdeal : Cert.DownLRefIdeal.Facts] : Prop :=
  ∀ (m : (ℓ : Loc Cert.DownLRefIdeal.nD Cert.DownLRefIdeal.τ Cert.DownLRefIdeal.sig) → Buf (Elt Ideal) ℓ) (g : Dev Cert.DownLRefIdeal.nD → PrngReg), Pre_DownLRefIdeal m →
    θ_run (Cert.DownLRefIdeal.defs (F := Ideal)) (onTc (τ := Cert.DownLRefIdeal.τ) (Cert.DownLRefIdeal.main (F := Ideal))) ⟨m, fun _ => 0, g⟩ (fun r => (∀ c : Dev Cert.DownLRefIdeal.nD,
      r.2.mem ((c.tc : Thread Cert.DownLRefIdeal.nD Cert.DownLRefIdeal.τ).loc Cert.DownLRefIdeal.main_arg0) = m ((c.tc : Thread Cert.DownLRefIdeal.nD Cert.DownLRefIdeal.τ).loc Cert.DownLRefIdeal.main_arg0)
      ∧ r.2.mem ((c.tc : Thread Cert.DownLRefIdeal.nD Cert.DownLRefIdeal.τ).loc Cert.DownLRefIdeal.main_arg1) = m ((c.tc : Thread Cert.DownLRefIdeal.nD Cert.DownLRefIdeal.τ).loc Cert.DownLRefIdeal.main_arg1)
      ∧ r.2.mem ((c.tc : Thread Cert.DownLRefIdeal.nD Cert.DownLRefIdeal.τ).loc Cert.DownLRefIdeal.main_arg2) = m ((c.tc : Thread Cert.DownLRefIdeal.nD Cert.DownLRefIdeal.τ).loc Cert.DownLRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_AdIn [hAdIn : Cert.AdIn.Facts] : Prop :=
  ∀ (m : (ℓ : Loc Cert.AdIn.nD Cert.AdIn.τ Cert.AdIn.sig) → Buf (Elt Bits) ℓ) (g : Dev Cert.AdIn.nD → PrngReg), Pre_AdIn m →
    θ_run (Cert.AdIn.defs (F := Bits)) (onTc (τ := Cert.AdIn.τ) (Cert.AdIn.main (F := Bits))) ⟨m, fun _ => 0, g⟩ (fun r => (∀ c : Dev Cert.AdIn.nD,
      r.2.mem ((c.tc : Thread Cert.AdIn.nD Cert.AdIn.τ).loc Cert.AdIn.main_arg0) = m ((c.tc : Thread Cert.AdIn.nD Cert.AdIn.τ).loc Cert.AdIn.main_arg0)
      ∧ r.2.mem ((c.tc : Thread Cert.AdIn.nD Cert.AdIn.τ).loc Cert.AdIn.main_arg1) = m ((c.tc : Thread Cert.AdIn.nD Cert.AdIn.τ).loc Cert.AdIn.main_arg1)
      ∧ r.2.mem ((c.tc : Thread Cert.AdIn.nD Cert.AdIn.τ).loc Cert.AdIn.main_arg2) = m ((c.tc : Thread Cert.AdIn.nD Cert.AdIn.τ).loc Cert.AdIn.main_arg2)
      ∧ r.2.mem ((c.tc : Thread Cert.AdIn.nD Cert.AdIn.τ).loc Cert.AdIn.main_arg3) = m ((c.tc : Thread Cert.AdIn.nD Cert.AdIn.τ).loc Cert.AdIn.main_arg3))
      ∧ r.2.sem = fun _ => 0)

def quiescent_AdInIdeal [hAdInIdeal : Cert.AdInIdeal.Facts] : Prop :=
  ∀ (m : (ℓ : Loc Cert.AdInIdeal.nD Cert.AdInIdeal.τ Cert.AdInIdeal.sig) → Buf (Elt Ideal) ℓ) (g : Dev Cert.AdInIdeal.nD → PrngReg), Pre_AdInIdeal m →
    θ_run (Cert.AdInIdeal.defs (F := Ideal)) (onTc (τ := Cert.AdInIdeal.τ) (Cert.AdInIdeal.main (F := Ideal))) ⟨m, fun _ => 0, g⟩ (fun r => (∀ c : Dev Cert.AdInIdeal.nD,
      r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
      ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
      ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
      ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ r.2.sem = fun _ => 0)

def quiescent_AdInRefIdeal [hAdInRefIdeal : Cert.AdInRefIdeal.Facts] : Prop :=
  ∀ (m : (ℓ : Loc Cert.AdInRefIdeal.nD Cert.AdInRefIdeal.τ Cert.AdInRefIdeal.sig) → Buf (Elt Ideal) ℓ) (g : Dev Cert.AdInRefIdeal.nD → PrngReg), Pre_AdInRefIdeal m →
    θ_run (Cert.AdInRefIdeal.defs (F := Ideal)) (onTc (τ := Cert.AdInRefIdeal.τ) (Cert.AdInRefIdeal.main (F := Ideal))) ⟨m, fun _ => 0, g⟩ (fun r => (∀ c : Dev Cert.AdInRefIdeal.nD,
      r.2.mem ((c.tc : Thread Cert.AdInRefIdeal.nD Cert.AdInRefIdeal.τ).loc Cert.AdInRefIdeal.main_arg0) = m ((c.tc : Thread Cert.AdInRefIdeal.nD Cert.AdInRefIdeal.τ).loc Cert.AdInRefIdeal.main_arg0)
      ∧ r.2.mem ((c.tc : Thread Cert.AdInRefIdeal.nD Cert.AdInRefIdeal.τ).loc Cert.AdInRefIdeal.main_arg1) = m ((c.tc : Thread Cert.AdInRefIdeal.nD Cert.AdInRefIdeal.τ).loc Cert.AdInRefIdeal.main_arg1)
      ∧ r.2.mem ((c.tc : Thread Cert.AdInRefIdeal.nD Cert.AdInRefIdeal.τ).loc Cert.AdInRefIdeal.main_arg2) = m ((c.tc : Thread Cert.AdInRefIdeal.nD Cert.AdInRefIdeal.τ).loc Cert.AdInRefIdeal.main_arg2)
      ∧ r.2.mem ((c.tc : Thread Cert.AdInRefIdeal.nD Cert.AdInRefIdeal.τ).loc Cert.AdInRefIdeal.main_arg3) = m ((c.tc : Thread Cert.AdInRefIdeal.nD Cert.AdInRefIdeal.τ).loc Cert.AdInRefIdeal.main_arg3))
      ∧ r.2.sem = fun _ => 0)

def quiescent_AdUp [hAdUp : Cert.AdUp.Facts] : Prop :=
  ∀ (m : (ℓ : Loc Cert.AdUp.nD Cert.AdUp.τ Cert.AdUp.sig) → Buf (Elt Bits) ℓ) (g : Dev Cert.AdUp.nD → PrngReg), Pre_AdUp m →
    θ_run (Cert.AdUp.defs (F := Bits)) (onTc (τ := Cert.AdUp.τ) (Cert.AdUp.main (F := Bits))) ⟨m, fun _ => 0, g⟩ (fun r => (∀ c : Dev Cert.AdUp.nD,
      r.2.mem ((c.tc : Thread Cert.AdUp.nD Cert.AdUp.τ).loc Cert.AdUp.main_arg0) = m ((c.tc : Thread Cert.AdUp.nD Cert.AdUp.τ).loc Cert.AdUp.main_arg0)
      ∧ r.2.mem ((c.tc : Thread Cert.AdUp.nD Cert.AdUp.τ).loc Cert.AdUp.main_arg1) = m ((c.tc : Thread Cert.AdUp.nD Cert.AdUp.τ).loc Cert.AdUp.main_arg1)
      ∧ r.2.mem ((c.tc : Thread Cert.AdUp.nD Cert.AdUp.τ).loc Cert.AdUp.main_arg2) = m ((c.tc : Thread Cert.AdUp.nD Cert.AdUp.τ).loc Cert.AdUp.main_arg2)
      ∧ r.2.mem ((c.tc : Thread Cert.AdUp.nD Cert.AdUp.τ).loc Cert.AdUp.main_arg3) = m ((c.tc : Thread Cert.AdUp.nD Cert.AdUp.τ).loc Cert.AdUp.main_arg3))
      ∧ r.2.sem = fun _ => 0)

def quiescent_AdUpIdeal [hAdUpIdeal : Cert.AdUpIdeal.Facts] : Prop :=
  ∀ (m : (ℓ : Loc Cert.AdUpIdeal.nD Cert.AdUpIdeal.τ Cert.AdUpIdeal.sig) → Buf (Elt Ideal) ℓ) (g : Dev Cert.AdUpIdeal.nD → PrngReg), Pre_AdUpIdeal m →
    θ_run (Cert.AdUpIdeal.defs (F := Ideal)) (onTc (τ := Cert.AdUpIdeal.τ) (Cert.AdUpIdeal.main (F := Ideal))) ⟨m, fun _ => 0, g⟩ (fun r => (∀ c : Dev Cert.AdUpIdeal.nD,
      r.2.mem ((c.tc : Thread Cert.AdUpIdeal.nD Cert.AdUpIdeal.τ).loc Cert.AdUpIdeal.main_arg0) = m ((c.tc : Thread Cert.AdUpIdeal.nD Cert.AdUpIdeal.τ).loc Cert.AdUpIdeal.main_arg0)
      ∧ r.2.mem ((c.tc : Thread Cert.AdUpIdeal.nD Cert.AdUpIdeal.τ).loc Cert.AdUpIdeal.main_arg1) = m ((c.tc : Thread Cert.AdUpIdeal.nD Cert.AdUpIdeal.τ).loc Cert.AdUpIdeal.main_arg1)
      ∧ r.2.mem ((c.tc : Thread Cert.AdUpIdeal.nD Cert.AdUpIdeal.τ).loc Cert.AdUpIdeal.main_arg2) = m ((c.tc : Thread Cert.AdUpIdeal.nD Cert.AdUpIdeal.τ).loc Cert.AdUpIdeal.main_arg2)
      ∧ r.2.mem ((c.tc : Thread Cert.AdUpIdeal.nD Cert.AdUpIdeal.τ).loc Cert.AdUpIdeal.main_arg3) = m ((c.tc : Thread Cert.AdUpIdeal.nD Cert.AdUpIdeal.τ).loc Cert.AdUpIdeal.main_arg3))
      ∧ r.2.sem = fun _ => 0)

def quiescent_AdUpRefIdeal [hAdUpRefIdeal : Cert.AdUpRefIdeal.Facts] : Prop :=
  ∀ (m : (ℓ : Loc Cert.AdUpRefIdeal.nD Cert.AdUpRefIdeal.τ Cert.AdUpRefIdeal.sig) → Buf (Elt Ideal) ℓ) (g : Dev Cert.AdUpRefIdeal.nD → PrngReg), Pre_AdUpRefIdeal m →
    θ_run (Cert.AdUpRefIdeal.defs (F := Ideal)) (onTc (τ := Cert.AdUpRefIdeal.τ) (Cert.AdUpRefIdeal.main (F := Ideal))) ⟨m, fun _ => 0, g⟩ (fun r => (∀ c : Dev Cert.AdUpRefIdeal.nD,
      r.2.mem ((c.tc : Thread Cert.AdUpRefIdeal.nD Cert.AdUpRefIdeal.τ).loc Cert.AdUpRefIdeal.main_arg0) = m ((c.tc : Thread Cert.AdUpRefIdeal.nD Cert.AdUpRefIdeal.τ).loc Cert.AdUpRefIdeal.main_arg0)
      ∧ r.2.mem ((c.tc : Thread Cert.AdUpRefIdeal.nD Cert.AdUpRefIdeal.τ).loc Cert.AdUpRefIdeal.main_arg1) = m ((c.tc : Thread Cert.AdUpRefIdeal.nD Cert.AdUpRefIdeal.τ).loc Cert.AdUpRefIdeal.main_arg1)
      ∧ r.2.mem ((c.tc : Thread Cert.AdUpRefIdeal.nD Cert.AdUpRefIdeal.τ).loc Cert.AdUpRefIdeal.main_arg2) = m ((c.tc : Thread Cert.AdUpRefIdeal.nD Cert.AdUpRefIdeal.τ).loc Cert.AdUpRefIdeal.main_arg2)
      ∧ r.2.mem ((c.tc : Thread Cert.AdUpRefIdeal.nD Cert.AdUpRefIdeal.τ).loc Cert.AdUpRefIdeal.main_arg3) = m ((c.tc : Thread Cert.AdUpRefIdeal.nD Cert.AdUpRefIdeal.τ).loc Cert.AdUpRefIdeal.main_arg3))
      ∧ r.2.sem = fun _ => 0)

def quiescent_AdOut [hAdOut : Cert.AdOut.Facts] : Prop :=
  ∀ (m : (ℓ : Loc Cert.AdOut.nD Cert.AdOut.τ Cert.AdOut.sig) → Buf (Elt Bits) ℓ) (g : Dev Cert.AdOut.nD → PrngReg), Pre_AdOut m →
    θ_run (Cert.AdOut.defs (F := Bits)) (onTc (τ := Cert.AdOut.τ) (Cert.AdOut.main (F := Bits))) ⟨m, fun _ => 0, g⟩ (fun r => (∀ c : Dev Cert.AdOut.nD,
      r.2.mem ((c.tc : Thread Cert.AdOut.nD Cert.AdOut.τ).loc Cert.AdOut.main_arg0) = m ((c.tc : Thread Cert.AdOut.nD Cert.AdOut.τ).loc Cert.AdOut.main_arg0)
      ∧ r.2.mem ((c.tc : Thread Cert.AdOut.nD Cert.AdOut.τ).loc Cert.AdOut.main_arg1) = m ((c.tc : Thread Cert.AdOut.nD Cert.AdOut.τ).loc Cert.AdOut.main_arg1)
      ∧ r.2.mem ((c.tc : Thread Cert.AdOut.nD Cert.AdOut.τ).loc Cert.AdOut.main_arg2) = m ((c.tc : Thread Cert.AdOut.nD Cert.AdOut.τ).loc Cert.AdOut.main_arg2)
      ∧ r.2.mem ((c.tc : Thread Cert.AdOut.nD Cert.AdOut.τ).loc Cert.AdOut.main_arg3) = m ((c.tc : Thread Cert.AdOut.nD Cert.AdOut.τ).loc Cert.AdOut.main_arg3))
      ∧ r.2.sem = fun _ => 0)

def quiescent_AdOutIdeal [hAdOutIdeal : Cert.AdOutIdeal.Facts] : Prop :=
  ∀ (m : (ℓ : Loc Cert.AdOutIdeal.nD Cert.AdOutIdeal.τ Cert.AdOutIdeal.sig) → Buf (Elt Ideal) ℓ) (g : Dev Cert.AdOutIdeal.nD → PrngReg), Pre_AdOutIdeal m →
    θ_run (Cert.AdOutIdeal.defs (F := Ideal)) (onTc (τ := Cert.AdOutIdeal.τ) (Cert.AdOutIdeal.main (F := Ideal))) ⟨m, fun _ => 0, g⟩ (fun r => (∀ c : Dev Cert.AdOutIdeal.nD,
      r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
      ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
      ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
      ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3))
      ∧ r.2.sem = fun _ => 0)

def quiescent_AdOutRefIdeal [hAdOutRefIdeal : Cert.AdOutRefIdeal.Facts] : Prop :=
  ∀ (m : (ℓ : Loc Cert.AdOutRefIdeal.nD Cert.AdOutRefIdeal.τ Cert.AdOutRefIdeal.sig) → Buf (Elt Ideal) ℓ) (g : Dev Cert.AdOutRefIdeal.nD → PrngReg), Pre_AdOutRefIdeal m →
    θ_run (Cert.AdOutRefIdeal.defs (F := Ideal)) (onTc (τ := Cert.AdOutRefIdeal.τ) (Cert.AdOutRefIdeal.main (F := Ideal))) ⟨m, fun _ => 0, g⟩ (fun r => (∀ c : Dev Cert.AdOutRefIdeal.nD,
      r.2.mem ((c.tc : Thread Cert.AdOutRefIdeal.nD Cert.AdOutRefIdeal.τ).loc Cert.AdOutRefIdeal.main_arg0) = m ((c.tc : Thread Cert.AdOutRefIdeal.nD Cert.AdOutRefIdeal.τ).loc Cert.AdOutRefIdeal.main_arg0)
      ∧ r.2.mem ((c.tc : Thread Cert.AdOutRefIdeal.nD Cert.AdOutRefIdeal.τ).loc Cert.AdOutRefIdeal.main_arg1) = m ((c.tc : Thread Cert.AdOutRefIdeal.nD Cert.AdOutRefIdeal.τ).loc Cert.AdOutRefIdeal.main_arg1)
      ∧ r.2.mem ((c.tc : Thread Cert.AdOutRefIdeal.nD Cert.AdOutRefIdeal.τ).loc Cert.AdOutRefIdeal.main_arg2) = m ((c.tc : Thread Cert.AdOutRefIdeal.nD Cert.AdOutRefIdeal.τ).loc Cert.AdOutRefIdeal.main_arg2)
      ∧ r.2.mem ((c.tc : Thread Cert.AdOutRefIdeal.nD Cert.AdOutRefIdeal.τ).loc Cert.AdOutRefIdeal.main_arg3) = m ((c.tc : Thread Cert.AdOutRefIdeal.nD Cert.AdOutRefIdeal.τ).loc Cert.AdOutRefIdeal.main_arg3))
      ∧ r.2.sem = fun _ => 0)

def quiescent_AdDown [hAdDown : Cert.AdDown.Facts] : Prop :=
  ∀ (m : (ℓ : Loc Cert.AdDown.nD Cert.AdDown.τ Cert.AdDown.sig) → Buf (Elt Bits) ℓ) (g : Dev Cert.AdDown.nD → PrngReg), Pre_AdDown m →
    θ_run (Cert.AdDown.defs (F := Bits)) (onTc (τ := Cert.AdDown.τ) (Cert.AdDown.main (F := Bits))) ⟨m, fun _ => 0, g⟩ (fun r => (∀ c : Dev Cert.AdDown.nD,
      r.2.mem ((c.tc : Thread Cert.AdDown.nD Cert.AdDown.τ).loc Cert.AdDown.main_arg0) = m ((c.tc : Thread Cert.AdDown.nD Cert.AdDown.τ).loc Cert.AdDown.main_arg0)
      ∧ r.2.mem ((c.tc : Thread Cert.AdDown.nD Cert.AdDown.τ).loc Cert.AdDown.main_arg1) = m ((c.tc : Thread Cert.AdDown.nD Cert.AdDown.τ).loc Cert.AdDown.main_arg1)
      ∧ r.2.mem ((c.tc : Thread Cert.AdDown.nD Cert.AdDown.τ).loc Cert.AdDown.main_arg2) = m ((c.tc : Thread Cert.AdDown.nD Cert.AdDown.τ).loc Cert.AdDown.main_arg2)
      ∧ r.2.mem ((c.tc : Thread Cert.AdDown.nD Cert.AdDown.τ).loc Cert.AdDown.main_arg3) = m ((c.tc : Thread Cert.AdDown.nD Cert.AdDown.τ).loc Cert.AdDown.main_arg3))
      ∧ r.2.sem = fun _ => 0)

def quiescent_AdDownIdeal [hAdDownIdeal : Cert.AdDownIdeal.Facts] : Prop :=
  ∀ (m : (ℓ : Loc Cert.AdDownIdeal.nD Cert.AdDownIdeal.τ Cert.AdDownIdeal.sig) → Buf (Elt Ideal) ℓ) (g : Dev Cert.AdDownIdeal.nD → PrngReg), Pre_AdDownIdeal m →
    θ_run (Cert.AdDownIdeal.defs (F := Ideal)) (onTc (τ := Cert.AdDownIdeal.τ) (Cert.AdDownIdeal.main (F := Ideal))) ⟨m, fun _ => 0, g⟩ (fun r => (∀ c : Dev Cert.AdDownIdeal.nD,
      r.2.mem ((c.tc : Thread Cert.AdDownIdeal.nD Cert.AdDownIdeal.τ).loc Cert.AdDownIdeal.main_arg0) = m ((c.tc : Thread Cert.AdDownIdeal.nD Cert.AdDownIdeal.τ).loc Cert.AdDownIdeal.main_arg0)
      ∧ r.2.mem ((c.tc : Thread Cert.AdDownIdeal.nD Cert.AdDownIdeal.τ).loc Cert.AdDownIdeal.main_arg1) = m ((c.tc : Thread Cert.AdDownIdeal.nD Cert.AdDownIdeal.τ).loc Cert.AdDownIdeal.main_arg1)
      ∧ r.2.mem ((c.tc : Thread Cert.AdDownIdeal.nD Cert.AdDownIdeal.τ).loc Cert.AdDownIdeal.main_arg2) = m ((c.tc : Thread Cert.AdDownIdeal.nD Cert.AdDownIdeal.τ).loc Cert.AdDownIdeal.main_arg2)
      ∧ r.2.mem ((c.tc : Thread Cert.AdDownIdeal.nD Cert.AdDownIdeal.τ).loc Cert.AdDownIdeal.main_arg3) = m ((c.tc : Thread Cert.AdDownIdeal.nD Cert.AdDownIdeal.τ).loc Cert.AdDownIdeal.main_arg3))
      ∧ r.2.sem = fun _ => 0)

def quiescent_AdDownRefIdeal [hAdDownRefIdeal : Cert.AdDownRefIdeal.Facts] : Prop :=
  ∀ (m : (ℓ : Loc Cert.AdDownRefIdeal.nD Cert.AdDownRefIdeal.τ Cert.AdDownRefIdeal.sig) → Buf (Elt Ideal) ℓ) (g : Dev Cert.AdDownRefIdeal.nD → PrngReg), Pre_AdDownRefIdeal m →
    θ_run (Cert.AdDownRefIdeal.defs (F := Ideal)) (onTc (τ := Cert.AdDownRefIdeal.τ) (Cert.AdDownRefIdeal.main (F := Ideal))) ⟨m, fun _ => 0, g⟩ (fun r => (∀ c : Dev Cert.AdDownRefIdeal.nD,
      r.2.mem ((c.tc : Thread Cert.AdDownRefIdeal.nD Cert.AdDownRefIdeal.τ).loc Cert.AdDownRefIdeal.main_arg0) = m ((c.tc : Thread Cert.AdDownRefIdeal.nD Cert.AdDownRefIdeal.τ).loc Cert.AdDownRefIdeal.main_arg0)
      ∧ r.2.mem ((c.tc : Thread Cert.AdDownRefIdeal.nD Cert.AdDownRefIdeal.τ).loc Cert.AdDownRefIdeal.main_arg1) = m ((c.tc : Thread Cert.AdDownRefIdeal.nD Cert.AdDownRefIdeal.τ).loc Cert.AdDownRefIdeal.main_arg1)
      ∧ r.2.mem ((c.tc : Thread Cert.AdDownRefIdeal.nD Cert.AdDownRefIdeal.τ).loc Cert.AdDownRefIdeal.main_arg2) = m ((c.tc : Thread Cert.AdDownRefIdeal.nD Cert.AdDownRefIdeal.τ).loc Cert.AdDownRefIdeal.main_arg2)
      ∧ r.2.mem ((c.tc : Thread Cert.AdDownRefIdeal.nD Cert.AdDownRefIdeal.τ).loc Cert.AdDownRefIdeal.main_arg3) = m ((c.tc : Thread Cert.AdDownRefIdeal.nD Cert.AdDownRefIdeal.τ).loc Cert.AdDownRefIdeal.main_arg3))
      ∧ r.2.sem = fun _ => 0)

def quiescent_AdPool [hAdPool : Cert.AdPool.Facts] : Prop :=
  ∀ (m : (ℓ : Loc Cert.AdPool.nD Cert.AdPool.τ Cert.AdPool.sig) → Buf (Elt Bits) ℓ) (g : Dev Cert.AdPool.nD → PrngReg), Pre_AdPool m →
    θ_run (Cert.AdPool.defs (F := Bits)) (onTc (τ := Cert.AdPool.τ) (Cert.AdPool.main (F := Bits))) ⟨m, fun _ => 0, g⟩ (fun r => (∀ c : Dev Cert.AdPool.nD,
      r.2.mem ((c.tc : Thread Cert.AdPool.nD Cert.AdPool.τ).loc Cert.AdPool.main_arg0) = m ((c.tc : Thread Cert.AdPool.nD Cert.AdPool.τ).loc Cert.AdPool.main_arg0)
      ∧ r.2.mem ((c.tc : Thread Cert.AdPool.nD Cert.AdPool.τ).loc Cert.AdPool.main_arg1) = m ((c.tc : Thread Cert.AdPool.nD Cert.AdPool.τ).loc Cert.AdPool.main_arg1)
      ∧ r.2.mem ((c.tc : Thread Cert.AdPool.nD Cert.AdPool.τ).loc Cert.AdPool.main_arg2) = m ((c.tc : Thread Cert.AdPool.nD Cert.AdPool.τ).loc Cert.AdPool.main_arg2)
      ∧ r.2.mem ((c.tc : Thread Cert.AdPool.nD Cert.AdPool.τ).loc Cert.AdPool.main_arg3) = m ((c.tc : Thread Cert.AdPool.nD Cert.AdPool.τ).loc Cert.AdPool.main_arg3))
      ∧ r.2.sem = fun _ => 0)

def quiescent_AdPoolIdeal [hAdPoolIdeal : Cert.AdPoolIdeal.Facts] : Prop :=
  ∀ (m : (ℓ : Loc Cert.AdPoolIdeal.nD Cert.AdPoolIdeal.τ Cert.AdPoolIdeal.sig) → Buf (Elt Ideal) ℓ) (g : Dev Cert.AdPoolIdeal.nD → PrngReg), Pre_AdPoolIdeal m →
    θ_run (Cert.AdPoolIdeal.defs (F := Ideal)) (onTc (τ := Cert.AdPoolIdeal.τ) (Cert.AdPoolIdeal.main (F := Ideal))) ⟨m, fun _ => 0, g⟩ (fun r => (∀ c : Dev Cert.AdPoolIdeal.nD,
      r.2.mem ((c.tc : Thread Cert.AdPoolIdeal.nD Cert.AdPoolIdeal.τ).loc Cert.AdPoolIdeal.main_arg0) = m ((c.tc : Thread Cert.AdPoolIdeal.nD Cert.AdPoolIdeal.τ).loc Cert.AdPoolIdeal.main_arg0)
      ∧ r.2.mem ((c.tc : Thread Cert.AdPoolIdeal.nD Cert.AdPoolIdeal.τ).loc Cert.AdPoolIdeal.main_arg1) = m ((c.tc : Thread Cert.AdPoolIdeal.nD Cert.AdPoolIdeal.τ).loc Cert.AdPoolIdeal.main_arg1)
      ∧ r.2.mem ((c.tc : Thread Cert.AdPoolIdeal.nD Cert.AdPoolIdeal.τ).loc Cert.AdPoolIdeal.main_arg2) = m ((c.tc : Thread Cert.AdPoolIdeal.nD Cert.AdPoolIdeal.τ).loc Cert.AdPoolIdeal.main_arg2)
      ∧ r.2.mem ((c.tc : Thread Cert.AdPoolIdeal.nD Cert.AdPoolIdeal.τ).loc Cert.AdPoolIdeal.main_arg3) = m ((c.tc : Thread Cert.AdPoolIdeal.nD Cert.AdPoolIdeal.τ).loc Cert.AdPoolIdeal.main_arg3))
      ∧ r.2.sem = fun _ => 0)

def quiescent_AdPoolRefIdeal [hAdPoolRefIdeal : Cert.AdPoolRefIdeal.Facts] : Prop :=
  ∀ (m : (ℓ : Loc Cert.AdPoolRefIdeal.nD Cert.AdPoolRefIdeal.τ Cert.AdPoolRefIdeal.sig) → Buf (Elt Ideal) ℓ) (g : Dev Cert.AdPoolRefIdeal.nD → PrngReg), Pre_AdPoolRefIdeal m →
    θ_run (Cert.AdPoolRefIdeal.defs (F := Ideal)) (onTc (τ := Cert.AdPoolRefIdeal.τ) (Cert.AdPoolRefIdeal.main (F := Ideal))) ⟨m, fun _ => 0, g⟩ (fun r => (∀ c : Dev Cert.AdPoolRefIdeal.nD,
      r.2.mem ((c.tc : Thread Cert.AdPoolRefIdeal.nD Cert.AdPoolRefIdeal.τ).loc Cert.AdPoolRefIdeal.main_arg0) = m ((c.tc : Thread Cert.AdPoolRefIdeal.nD Cert.AdPoolRefIdeal.τ).loc Cert.AdPoolRefIdeal.main_arg0)
      ∧ r.2.mem ((c.tc : Thread Cert.AdPoolRefIdeal.nD Cert.AdPoolRefIdeal.τ).loc Cert.AdPoolRefIdeal.main_arg1) = m ((c.tc : Thread Cert.AdPoolRefIdeal.nD Cert.AdPoolRefIdeal.τ).loc Cert.AdPoolRefIdeal.main_arg1)
      ∧ r.2.mem ((c.tc : Thread Cert.AdPoolRefIdeal.nD Cert.AdPoolRefIdeal.τ).loc Cert.AdPoolRefIdeal.main_arg2) = m ((c.tc : Thread Cert.AdPoolRefIdeal.nD Cert.AdPoolRefIdeal.τ).loc Cert.AdPoolRefIdeal.main_arg2)
      ∧ r.2.mem ((c.tc : Thread Cert.AdPoolRefIdeal.nD Cert.AdPoolRefIdeal.τ).loc Cert.AdPoolRefIdeal.main_arg3) = m ((c.tc : Thread Cert.AdPoolRefIdeal.nD Cert.AdPoolRefIdeal.τ).loc Cert.AdPoolRefIdeal.main_arg3))
      ∧ r.2.sem = fun _ => 0)

def quiescent_AdConvQ [hAdConvQ : Cert.AdConvQ.Facts] : Prop :=
  ∀ (m : (ℓ : Loc Cert.AdConvQ.nD Cert.AdConvQ.τ Cert.AdConvQ.sig) → Buf (Elt Bits) ℓ) (g : Dev Cert.AdConvQ.nD → PrngReg), Pre_AdConvQ m →
    θ_run (Cert.AdConvQ.defs (F := Bits)) (onTc (τ := Cert.AdConvQ.τ) (Cert.AdConvQ.main (F := Bits))) ⟨m, fun _ => 0, g⟩ (fun r => (∀ c : Dev Cert.AdConvQ.nD,
      r.2.mem ((c.tc : Thread Cert.AdConvQ.nD Cert.AdConvQ.τ).loc Cert.AdConvQ.main_arg0) = m ((c.tc : Thread Cert.AdConvQ.nD Cert.AdConvQ.τ).loc Cert.AdConvQ.main_arg0)
      ∧ r.2.mem ((c.tc : Thread Cert.AdConvQ.nD Cert.AdConvQ.τ).loc Cert.AdConvQ.main_arg1) = m ((c.tc : Thread Cert.AdConvQ.nD Cert.AdConvQ.τ).loc Cert.AdConvQ.main_arg1)
      ∧ r.2.mem ((c.tc : Thread Cert.AdConvQ.nD Cert.AdConvQ.τ).loc Cert.AdConvQ.main_arg2) = m ((c.tc : Thread Cert.AdConvQ.nD Cert.AdConvQ.τ).loc Cert.AdConvQ.main_arg2)
      ∧ r.2.mem ((c.tc : Thread Cert.AdConvQ.nD Cert.AdConvQ.τ).loc Cert.AdConvQ.main_arg3) = m ((c.tc : Thread Cert.AdConvQ.nD Cert.AdConvQ.τ).loc Cert.AdConvQ.main_arg3))
      ∧ r.2.sem = fun _ => 0)

def quiescent_AdConvQIdeal [hAdConvQIdeal : Cert.AdConvQIdeal.Facts] : Prop :=
  ∀ (m : (ℓ : Loc Cert.AdConvQIdeal.nD Cert.AdConvQIdeal.τ Cert.AdConvQIdeal.sig) → Buf (Elt Ideal) ℓ) (g : Dev Cert.AdConvQIdeal.nD → PrngReg), Pre_AdConvQIdeal m →
    θ_run (Cert.AdConvQIdeal.defs (F := Ideal)) (onTc (τ := Cert.AdConvQIdeal.τ) (Cert.AdConvQIdeal.main (F := Ideal))) ⟨m, fun _ => 0, g⟩ (fun r => (∀ c : Dev Cert.AdConvQIdeal.nD,
      r.2.mem ((c.tc : Thread Cert.AdConvQIdeal.nD Cert.AdConvQIdeal.τ).loc Cert.AdConvQIdeal.main_arg0) = m ((c.tc : Thread Cert.AdConvQIdeal.nD Cert.AdConvQIdeal.τ).loc Cert.AdConvQIdeal.main_arg0)
      ∧ r.2.mem ((c.tc : Thread Cert.AdConvQIdeal.nD Cert.AdConvQIdeal.τ).loc Cert.AdConvQIdeal.main_arg1) = m ((c.tc : Thread Cert.AdConvQIdeal.nD Cert.AdConvQIdeal.τ).loc Cert.AdConvQIdeal.main_arg1)
      ∧ r.2.mem ((c.tc : Thread Cert.AdConvQIdeal.nD Cert.AdConvQIdeal.τ).loc Cert.AdConvQIdeal.main_arg2) = m ((c.tc : Thread Cert.AdConvQIdeal.nD Cert.AdConvQIdeal.τ).loc Cert.AdConvQIdeal.main_arg2)
      ∧ r.2.mem ((c.tc : Thread Cert.AdConvQIdeal.nD Cert.AdConvQIdeal.τ).loc Cert.AdConvQIdeal.main_arg3) = m ((c.tc : Thread Cert.AdConvQIdeal.nD Cert.AdConvQIdeal.τ).loc Cert.AdConvQIdeal.main_arg3))
      ∧ r.2.sem = fun _ => 0)

def quiescent_AdConvQRefIdeal [hAdConvQRefIdeal : Cert.AdConvQRefIdeal.Facts] : Prop :=
  ∀ (m : (ℓ : Loc Cert.AdConvQRefIdeal.nD Cert.AdConvQRefIdeal.τ Cert.AdConvQRefIdeal.sig) → Buf (Elt Ideal) ℓ) (g : Dev Cert.AdConvQRefIdeal.nD → PrngReg), Pre_AdConvQRefIdeal m →
    θ_run (Cert.AdConvQRefIdeal.defs (F := Ideal)) (onTc (τ := Cert.AdConvQRefIdeal.τ) (Cert.AdConvQRefIdeal.main (F := Ideal))) ⟨m, fun _ => 0, g⟩ (fun r => (∀ c : Dev Cert.AdConvQRefIdeal.nD,
      r.2.mem ((c.tc : Thread Cert.AdConvQRefIdeal.nD Cert.AdConvQRefIdeal.τ).loc Cert.AdConvQRefIdeal.main_arg0) = m ((c.tc : Thread Cert.AdConvQRefIdeal.nD Cert.AdConvQRefIdeal.τ).loc Cert.AdConvQRefIdeal.main_arg0)
      ∧ r.2.mem ((c.tc : Thread Cert.AdConvQRefIdeal.nD Cert.AdConvQRefIdeal.τ).loc Cert.AdConvQRefIdeal.main_arg1) = m ((c.tc : Thread Cert.AdConvQRefIdeal.nD Cert.AdConvQRefIdeal.τ).loc Cert.AdConvQRefIdeal.main_arg1)
      ∧ r.2.mem ((c.tc : Thread Cert.AdConvQRefIdeal.nD Cert.AdConvQRefIdeal.τ).loc Cert.AdConvQRefIdeal.main_arg2) = m ((c.tc : Thread Cert.AdConvQRefIdeal.nD Cert.AdConvQRefIdeal.τ).loc Cert.AdConvQRefIdeal.main_arg2)
      ∧ r.2.mem ((c.tc : Thread Cert.AdConvQRefIdeal.nD Cert.AdConvQRefIdeal.τ).loc Cert.AdConvQRefIdeal.main_arg3) = m ((c.tc : Thread Cert.AdConvQRefIdeal.nD Cert.AdConvQRefIdeal.τ).loc Cert.AdConvQRefIdeal.main_arg3))
      ∧ r.2.sem = fun _ => 0)

def quiescent_AdConvF [hAdConvF : Cert.AdConvF.Facts] : Prop :=
  ∀ (m : (ℓ : Loc Cert.AdConvF.nD Cert.AdConvF.τ Cert.AdConvF.sig) → Buf (Elt Bits) ℓ) (g : Dev Cert.AdConvF.nD → PrngReg), Pre_AdConvF m →
    θ_run (Cert.AdConvF.defs (F := Bits)) (onTc (τ := Cert.AdConvF.τ) (Cert.AdConvF.main (F := Bits))) ⟨m, fun _ => 0, g⟩ (fun r => (∀ c : Dev Cert.AdConvF.nD,
      r.2.mem ((c.tc : Thread Cert.AdConvF.nD Cert.AdConvF.τ).loc Cert.AdConvF.main_arg0) = m ((c.tc : Thread Cert.AdConvF.nD Cert.AdConvF.τ).loc Cert.AdConvF.main_arg0)
      ∧ r.2.mem ((c.tc : Thread Cert.AdConvF.nD Cert.AdConvF.τ).loc Cert.AdConvF.main_arg1) = m ((c.tc : Thread Cert.AdConvF.nD Cert.AdConvF.τ).loc Cert.AdConvF.main_arg1)
      ∧ r.2.mem ((c.tc : Thread Cert.AdConvF.nD Cert.AdConvF.τ).loc Cert.AdConvF.main_arg2) = m ((c.tc : Thread Cert.AdConvF.nD Cert.AdConvF.τ).loc Cert.AdConvF.main_arg2)
      ∧ r.2.mem ((c.tc : Thread Cert.AdConvF.nD Cert.AdConvF.τ).loc Cert.AdConvF.main_arg3) = m ((c.tc : Thread Cert.AdConvF.nD Cert.AdConvF.τ).loc Cert.AdConvF.main_arg3))
      ∧ r.2.sem = fun _ => 0)

def quiescent_AdConvFIdeal [hAdConvFIdeal : Cert.AdConvFIdeal.Facts] : Prop :=
  ∀ (m : (ℓ : Loc Cert.AdConvFIdeal.nD Cert.AdConvFIdeal.τ Cert.AdConvFIdeal.sig) → Buf (Elt Ideal) ℓ) (g : Dev Cert.AdConvFIdeal.nD → PrngReg), Pre_AdConvFIdeal m →
    θ_run (Cert.AdConvFIdeal.defs (F := Ideal)) (onTc (τ := Cert.AdConvFIdeal.τ) (Cert.AdConvFIdeal.main (F := Ideal))) ⟨m, fun _ => 0, g⟩ (fun r => (∀ c : Dev Cert.AdConvFIdeal.nD,
      r.2.mem ((c.tc : Thread Cert.AdConvFIdeal.nD Cert.AdConvFIdeal.τ).loc Cert.AdConvFIdeal.main_arg0) = m ((c.tc : Thread Cert.AdConvFIdeal.nD Cert.AdConvFIdeal.τ).loc Cert.AdConvFIdeal.main_arg0)
      ∧ r.2.mem ((c.tc : Thread Cert.AdConvFIdeal.nD Cert.AdConvFIdeal.τ).loc Cert.AdConvFIdeal.main_arg1) = m ((c.tc : Thread Cert.AdConvFIdeal.nD Cert.AdConvFIdeal.τ).loc Cert.AdConvFIdeal.main_arg1)
      ∧ r.2.mem ((c.tc : Thread Cert.AdConvFIdeal.nD Cert.AdConvFIdeal.τ).loc Cert.AdConvFIdeal.main_arg2) = m ((c.tc : Thread Cert.AdConvFIdeal.nD Cert.AdConvFIdeal.τ).loc Cert.AdConvFIdeal.main_arg2)
      ∧ r.2.mem ((c.tc : Thread Cert.AdConvFIdeal.nD Cert.AdConvFIdeal.τ).loc Cert.AdConvFIdeal.main_arg3) = m ((c.tc : Thread Cert.AdConvFIdeal.nD Cert.AdConvFIdeal.τ).loc Cert.AdConvFIdeal.main_arg3))
      ∧ r.2.sem = fun _ => 0)

def quiescent_AdConvFRefIdeal [hAdConvFRefIdeal : Cert.AdConvFRefIdeal.Facts] : Prop :=
  ∀ (m : (ℓ : Loc Cert.AdConvFRefIdeal.nD Cert.AdConvFRefIdeal.τ Cert.AdConvFRefIdeal.sig) → Buf (Elt Ideal) ℓ) (g : Dev Cert.AdConvFRefIdeal.nD → PrngReg), Pre_AdConvFRefIdeal m →
    θ_run (Cert.AdConvFRefIdeal.defs (F := Ideal)) (onTc (τ := Cert.AdConvFRefIdeal.τ) (Cert.AdConvFRefIdeal.main (F := Ideal))) ⟨m, fun _ => 0, g⟩ (fun r => (∀ c : Dev Cert.AdConvFRefIdeal.nD,
      r.2.mem ((c.tc : Thread Cert.AdConvFRefIdeal.nD Cert.AdConvFRefIdeal.τ).loc Cert.AdConvFRefIdeal.main_arg0) = m ((c.tc : Thread Cert.AdConvFRefIdeal.nD Cert.AdConvFRefIdeal.τ).loc Cert.AdConvFRefIdeal.main_arg0)
      ∧ r.2.mem ((c.tc : Thread Cert.AdConvFRefIdeal.nD Cert.AdConvFRefIdeal.τ).loc Cert.AdConvFRefIdeal.main_arg1) = m ((c.tc : Thread Cert.AdConvFRefIdeal.nD Cert.AdConvFRefIdeal.τ).loc Cert.AdConvFRefIdeal.main_arg1)
      ∧ r.2.mem ((c.tc : Thread Cert.AdConvFRefIdeal.nD Cert.AdConvFRefIdeal.τ).loc Cert.AdConvFRefIdeal.main_arg2) = m ((c.tc : Thread Cert.AdConvFRefIdeal.nD Cert.AdConvFRefIdeal.τ).loc Cert.AdConvFRefIdeal.main_arg2)
      ∧ r.2.mem ((c.tc : Thread Cert.AdConvFRefIdeal.nD Cert.AdConvFRefIdeal.τ).loc Cert.AdConvFRefIdeal.main_arg3) = m ((c.tc : Thread Cert.AdConvFRefIdeal.nD Cert.AdConvFRefIdeal.τ).loc Cert.AdConvFRefIdeal.main_arg3))
      ∧ r.2.sem = fun _ => 0)

def quiescent_AdMeta [hAdMeta : Cert.AdMeta.Facts] : Prop :=
  ∀ (m : (ℓ : Loc Cert.AdMeta.nD Cert.AdMeta.τ Cert.AdMeta.sig) → Buf (Elt Bits) ℓ) (g : Dev Cert.AdMeta.nD → PrngReg), Pre_AdMeta m →
    θ_run (Cert.AdMeta.defs (F := Bits)) (onTc (τ := Cert.AdMeta.τ) (Cert.AdMeta.main (F := Bits))) ⟨m, fun _ => 0, g⟩ (fun r => (∀ c : Dev Cert.AdMeta.nD,
      r.2.mem ((c.tc : Thread Cert.AdMeta.nD Cert.AdMeta.τ).loc Cert.AdMeta.main_arg0) = m ((c.tc : Thread Cert.AdMeta.nD Cert.AdMeta.τ).loc Cert.AdMeta.main_arg0)
      ∧ r.2.mem ((c.tc : Thread Cert.AdMeta.nD Cert.AdMeta.τ).loc Cert.AdMeta.main_arg1) = m ((c.tc : Thread Cert.AdMeta.nD Cert.AdMeta.τ).loc Cert.AdMeta.main_arg1)
      ∧ r.2.mem ((c.tc : Thread Cert.AdMeta.nD Cert.AdMeta.τ).loc Cert.AdMeta.main_arg2) = m ((c.tc : Thread Cert.AdMeta.nD Cert.AdMeta.τ).loc Cert.AdMeta.main_arg2)
      ∧ r.2.mem ((c.tc : Thread Cert.AdMeta.nD Cert.AdMeta.τ).loc Cert.AdMeta.main_arg3) = m ((c.tc : Thread Cert.AdMeta.nD Cert.AdMeta.τ).loc Cert.AdMeta.main_arg3))
      ∧ r.2.sem = fun _ => 0)

def quiescent_AdMetaIdeal [hAdMetaIdeal : Cert.AdMetaIdeal.Facts] : Prop :=
  ∀ (m : (ℓ : Loc Cert.AdMetaIdeal.nD Cert.AdMetaIdeal.τ Cert.AdMetaIdeal.sig) → Buf (Elt Ideal) ℓ) (g : Dev Cert.AdMetaIdeal.nD → PrngReg), Pre_AdMetaIdeal m →
    θ_run (Cert.AdMetaIdeal.defs (F := Ideal)) (onTc (τ := Cert.AdMetaIdeal.τ) (Cert.AdMetaIdeal.main (F := Ideal))) ⟨m, fun _ => 0, g⟩ (fun r => (∀ c : Dev Cert.AdMetaIdeal.nD,
      r.2.mem ((c.tc : Thread Cert.AdMetaIdeal.nD Cert.AdMetaIdeal.τ).loc Cert.AdMetaIdeal.main_arg0) = m ((c.tc : Thread Cert.AdMetaIdeal.nD Cert.AdMetaIdeal.τ).loc Cert.AdMetaIdeal.main_arg0)
      ∧ r.2.mem ((c.tc : Thread Cert.AdMetaIdeal.nD Cert.AdMetaIdeal.τ).loc Cert.AdMetaIdeal.main_arg1) = m ((c.tc : Thread Cert.AdMetaIdeal.nD Cert.AdMetaIdeal.τ).loc Cert.AdMetaIdeal.main_arg1)
      ∧ r.2.mem ((c.tc : Thread Cert.AdMetaIdeal.nD Cert.AdMetaIdeal.τ).loc Cert.AdMetaIdeal.main_arg2) = m ((c.tc : Thread Cert.AdMetaIdeal.nD Cert.AdMetaIdeal.τ).loc Cert.AdMetaIdeal.main_arg2)
      ∧ r.2.mem ((c.tc : Thread Cert.AdMetaIdeal.nD Cert.AdMetaIdeal.τ).loc Cert.AdMetaIdeal.main_arg3) = m ((c.tc : Thread Cert.AdMetaIdeal.nD Cert.AdMetaIdeal.τ).loc Cert.AdMetaIdeal.main_arg3))
      ∧ r.2.sem = fun _ => 0)

def quiescent_AdMetaRefIdeal [hAdMetaRefIdeal : Cert.AdMetaRefIdeal.Facts] : Prop :=
  ∀ (m : (ℓ : Loc Cert.AdMetaRefIdeal.nD Cert.AdMetaRefIdeal.τ Cert.AdMetaRefIdeal.sig) → Buf (Elt Ideal) ℓ) (g : Dev Cert.AdMetaRefIdeal.nD → PrngReg), Pre_AdMetaRefIdeal m →
    θ_run (Cert.AdMetaRefIdeal.defs (F := Ideal)) (onTc (τ := Cert.AdMetaRefIdeal.τ) (Cert.AdMetaRefIdeal.main (F := Ideal))) ⟨m, fun _ => 0, g⟩ (fun r => (∀ c : Dev Cert.AdMetaRefIdeal.nD,
      r.2.mem ((c.tc : Thread Cert.AdMetaRefIdeal.nD Cert.AdMetaRefIdeal.τ).loc Cert.AdMetaRefIdeal.main_arg0) = m ((c.tc : Thread Cert.AdMetaRefIdeal.nD Cert.AdMetaRefIdeal.τ).loc Cert.AdMetaRefIdeal.main_arg0)
      ∧ r.2.mem ((c.tc : Thread Cert.AdMetaRefIdeal.nD Cert.AdMetaRefIdeal.τ).loc Cert.AdMetaRefIdeal.main_arg1) = m ((c.tc : Thread Cert.AdMetaRefIdeal.nD Cert.AdMetaRefIdeal.τ).loc Cert.AdMetaRefIdeal.main_arg1)
      ∧ r.2.mem ((c.tc : Thread Cert.AdMetaRefIdeal.nD Cert.AdMetaRefIdeal.τ).loc Cert.AdMetaRefIdeal.main_arg2) = m ((c.tc : Thread Cert.AdMetaRefIdeal.nD Cert.AdMetaRefIdeal.τ).loc Cert.AdMetaRefIdeal.main_arg2)
      ∧ r.2.mem ((c.tc : Thread Cert.AdMetaRefIdeal.nD Cert.AdMetaRefIdeal.τ).loc Cert.AdMetaRefIdeal.main_arg3) = m ((c.tc : Thread Cert.AdMetaRefIdeal.nD Cert.AdMetaRefIdeal.τ).loc Cert.AdMetaRefIdeal.main_arg3))
      ∧ r.2.sem = fun _ => 0)

def quiescent_AdNorm [hAdNorm : Cert.AdNorm.Facts] : Prop :=
  ∀ (m : (ℓ : Loc Cert.AdNorm.nD Cert.AdNorm.τ Cert.AdNorm.sig) → Buf (Elt Bits) ℓ) (g : Dev Cert.AdNorm.nD → PrngReg), Pre_AdNorm m →
    θ_run (Cert.AdNorm.defs (F := Bits)) (onTc (τ := Cert.AdNorm.τ) (Cert.AdNorm.main (F := Bits))) ⟨m, fun _ => 0, g⟩ (fun r => (∀ c : Dev Cert.AdNorm.nD,
      r.2.mem ((c.tc : Thread Cert.AdNorm.nD Cert.AdNorm.τ).loc Cert.AdNorm.main_arg0) = m ((c.tc : Thread Cert.AdNorm.nD Cert.AdNorm.τ).loc Cert.AdNorm.main_arg0)
      ∧ r.2.mem ((c.tc : Thread Cert.AdNorm.nD Cert.AdNorm.τ).loc Cert.AdNorm.main_arg1) = m ((c.tc : Thread Cert.AdNorm.nD Cert.AdNorm.τ).loc Cert.AdNorm.main_arg1)
      ∧ r.2.mem ((c.tc : Thread Cert.AdNorm.nD Cert.AdNorm.τ).loc Cert.AdNorm.main_arg2) = m ((c.tc : Thread Cert.AdNorm.nD Cert.AdNorm.τ).loc Cert.AdNorm.main_arg2)
      ∧ r.2.mem ((c.tc : Thread Cert.AdNorm.nD Cert.AdNorm.τ).loc Cert.AdNorm.main_arg3) = m ((c.tc : Thread Cert.AdNorm.nD Cert.AdNorm.τ).loc Cert.AdNorm.main_arg3))
      ∧ r.2.sem = fun _ => 0)

def quiescent_AdNormIdeal [hAdNormIdeal : Cert.AdNormIdeal.Facts] : Prop :=
  ∀ (m : (ℓ : Loc Cert.AdNormIdeal.nD Cert.AdNormIdeal.τ Cert.AdNormIdeal.sig) → Buf (Elt Ideal) ℓ) (g : Dev Cert.AdNormIdeal.nD → PrngReg), Pre_AdNormIdeal m →
    θ_run (Cert.AdNormIdeal.defs (F := Ideal)) (onTc (τ := Cert.AdNormIdeal.τ) (Cert.AdNormIdeal.main (F := Ideal))) ⟨m, fun _ => 0, g⟩ (fun r => (∀ c : Dev Cert.AdNormIdeal.nD,
      r.2.mem ((c.tc : Thread Cert.AdNormIdeal.nD Cert.AdNormIdeal.τ).loc Cert.AdNormIdeal.main_arg0) = m ((c.tc : Thread Cert.AdNormIdeal.nD Cert.AdNormIdeal.τ).loc Cert.AdNormIdeal.main_arg0)
      ∧ r.2.mem ((c.tc : Thread Cert.AdNormIdeal.nD Cert.AdNormIdeal.τ).loc Cert.AdNormIdeal.main_arg1) = m ((c.tc : Thread Cert.AdNormIdeal.nD Cert.AdNormIdeal.τ).loc Cert.AdNormIdeal.main_arg1)
      ∧ r.2.mem ((c.tc : Thread Cert.AdNormIdeal.nD Cert.AdNormIdeal.τ).loc Cert.AdNormIdeal.main_arg2) = m ((c.tc : Thread Cert.AdNormIdeal.nD Cert.AdNormIdeal.τ).loc Cert.AdNormIdeal.main_arg2)
      ∧ r.2.mem ((c.tc : Thread Cert.AdNormIdeal.nD Cert.AdNormIdeal.τ).loc Cert.AdNormIdeal.main_arg3) = m ((c.tc : Thread Cert.AdNormIdeal.nD Cert.AdNormIdeal.τ).loc Cert.AdNormIdeal.main_arg3))
      ∧ r.2.sem = fun _ => 0)

def quiescent_AdNormRefIdeal [hAdNormRefIdeal : Cert.AdNormRefIdeal.Facts] : Prop :=
  ∀ (m : (ℓ : Loc Cert.AdNormRefIdeal.nD Cert.AdNormRefIdeal.τ Cert.AdNormRefIdeal.sig) → Buf (Elt Ideal) ℓ) (g : Dev Cert.AdNormRefIdeal.nD → PrngReg), Pre_AdNormRefIdeal m →
    θ_run (Cert.AdNormRefIdeal.defs (F := Ideal)) (onTc (τ := Cert.AdNormRefIdeal.τ) (Cert.AdNormRefIdeal.main (F := Ideal))) ⟨m, fun _ => 0, g⟩ (fun r => (∀ c : Dev Cert.AdNormRefIdeal.nD,
      r.2.mem ((c.tc : Thread Cert.AdNormRefIdeal.nD Cert.AdNormRefIdeal.τ).loc Cert.AdNormRefIdeal.main_arg0) = m ((c.tc : Thread Cert.AdNormRefIdeal.nD Cert.AdNormRefIdeal.τ).loc Cert.AdNormRefIdeal.main_arg0)
      ∧ r.2.mem ((c.tc : Thread Cert.AdNormRefIdeal.nD Cert.AdNormRefIdeal.τ).loc Cert.AdNormRefIdeal.main_arg1) = m ((c.tc : Thread Cert.AdNormRefIdeal.nD Cert.AdNormRefIdeal.τ).loc Cert.AdNormRefIdeal.main_arg1)
      ∧ r.2.mem ((c.tc : Thread Cert.AdNormRefIdeal.nD Cert.AdNormRefIdeal.τ).loc Cert.AdNormRefIdeal.main_arg2) = m ((c.tc : Thread Cert.AdNormRefIdeal.nD Cert.AdNormRefIdeal.τ).loc Cert.AdNormRefIdeal.main_arg2)
      ∧ r.2.mem ((c.tc : Thread Cert.AdNormRefIdeal.nD Cert.AdNormRefIdeal.τ).loc Cert.AdNormRefIdeal.main_arg3) = m ((c.tc : Thread Cert.AdNormRefIdeal.nD Cert.AdNormRefIdeal.τ).loc Cert.AdNormRefIdeal.main_arg3))
      ∧ r.2.sem = fun _ => 0)

def quiescent_AdHead [hAdHead : Cert.AdHead.Facts] : Prop :=
  ∀ (m : (ℓ : Loc Cert.AdHead.nD Cert.AdHead.τ Cert.AdHead.sig) → Buf (Elt Bits) ℓ) (g : Dev Cert.AdHead.nD → PrngReg), Pre_AdHead m →
    θ_run (Cert.AdHead.defs (F := Bits)) (onTc (τ := Cert.AdHead.τ) (Cert.AdHead.main (F := Bits))) ⟨m, fun _ => 0, g⟩ (fun r => (∀ c : Dev Cert.AdHead.nD,
      r.2.mem ((c.tc : Thread Cert.AdHead.nD Cert.AdHead.τ).loc Cert.AdHead.main_arg0) = m ((c.tc : Thread Cert.AdHead.nD Cert.AdHead.τ).loc Cert.AdHead.main_arg0)
      ∧ r.2.mem ((c.tc : Thread Cert.AdHead.nD Cert.AdHead.τ).loc Cert.AdHead.main_arg1) = m ((c.tc : Thread Cert.AdHead.nD Cert.AdHead.τ).loc Cert.AdHead.main_arg1)
      ∧ r.2.mem ((c.tc : Thread Cert.AdHead.nD Cert.AdHead.τ).loc Cert.AdHead.main_arg2) = m ((c.tc : Thread Cert.AdHead.nD Cert.AdHead.τ).loc Cert.AdHead.main_arg2)
      ∧ r.2.mem ((c.tc : Thread Cert.AdHead.nD Cert.AdHead.τ).loc Cert.AdHead.main_arg3) = m ((c.tc : Thread Cert.AdHead.nD Cert.AdHead.τ).loc Cert.AdHead.main_arg3))
      ∧ r.2.sem = fun _ => 0)

def quiescent_AdHeadIdeal [hAdHeadIdeal : Cert.AdHeadIdeal.Facts] : Prop :=
  ∀ (m : (ℓ : Loc Cert.AdHeadIdeal.nD Cert.AdHeadIdeal.τ Cert.AdHeadIdeal.sig) → Buf (Elt Ideal) ℓ) (g : Dev Cert.AdHeadIdeal.nD → PrngReg), Pre_AdHeadIdeal m →
    θ_run (Cert.AdHeadIdeal.defs (F := Ideal)) (onTc (τ := Cert.AdHeadIdeal.τ) (Cert.AdHeadIdeal.main (F := Ideal))) ⟨m, fun _ => 0, g⟩ (fun r => (∀ c : Dev Cert.AdHeadIdeal.nD,
      r.2.mem ((c.tc : Thread Cert.AdHeadIdeal.nD Cert.AdHeadIdeal.τ).loc Cert.AdHeadIdeal.main_arg0) = m ((c.tc : Thread Cert.AdHeadIdeal.nD Cert.AdHeadIdeal.τ).loc Cert.AdHeadIdeal.main_arg0)
      ∧ r.2.mem ((c.tc : Thread Cert.AdHeadIdeal.nD Cert.AdHeadIdeal.τ).loc Cert.AdHeadIdeal.main_arg1) = m ((c.tc : Thread Cert.AdHeadIdeal.nD Cert.AdHeadIdeal.τ).loc Cert.AdHeadIdeal.main_arg1)
      ∧ r.2.mem ((c.tc : Thread Cert.AdHeadIdeal.nD Cert.AdHeadIdeal.τ).loc Cert.AdHeadIdeal.main_arg2) = m ((c.tc : Thread Cert.AdHeadIdeal.nD Cert.AdHeadIdeal.τ).loc Cert.AdHeadIdeal.main_arg2)
      ∧ r.2.mem ((c.tc : Thread Cert.AdHeadIdeal.nD Cert.AdHeadIdeal.τ).loc Cert.AdHeadIdeal.main_arg3) = m ((c.tc : Thread Cert.AdHeadIdeal.nD Cert.AdHeadIdeal.τ).loc Cert.AdHeadIdeal.main_arg3))
      ∧ r.2.sem = fun _ => 0)

def quiescent_AdHeadRefIdeal [hAdHeadRefIdeal : Cert.AdHeadRefIdeal.Facts] : Prop :=
  ∀ (m : (ℓ : Loc Cert.AdHeadRefIdeal.nD Cert.AdHeadRefIdeal.τ Cert.AdHeadRefIdeal.sig) → Buf (Elt Ideal) ℓ) (g : Dev Cert.AdHeadRefIdeal.nD → PrngReg), Pre_AdHeadRefIdeal m →
    θ_run (Cert.AdHeadRefIdeal.defs (F := Ideal)) (onTc (τ := Cert.AdHeadRefIdeal.τ) (Cert.AdHeadRefIdeal.main (F := Ideal))) ⟨m, fun _ => 0, g⟩ (fun r => (∀ c : Dev Cert.AdHeadRefIdeal.nD,
      r.2.mem ((c.tc : Thread Cert.AdHeadRefIdeal.nD Cert.AdHeadRefIdeal.τ).loc Cert.AdHeadRefIdeal.main_arg0) = m ((c.tc : Thread Cert.AdHeadRefIdeal.nD Cert.AdHeadRefIdeal.τ).loc Cert.AdHeadRefIdeal.main_arg0)
      ∧ r.2.mem ((c.tc : Thread Cert.AdHeadRefIdeal.nD Cert.AdHeadRefIdeal.τ).loc Cert.AdHeadRefIdeal.main_arg1) = m ((c.tc : Thread Cert.AdHeadRefIdeal.nD Cert.AdHeadRefIdeal.τ).loc Cert.AdHeadRefIdeal.main_arg1)
      ∧ r.2.mem ((c.tc : Thread Cert.AdHeadRefIdeal.nD Cert.AdHeadRefIdeal.τ).loc Cert.AdHeadRefIdeal.main_arg2) = m ((c.tc : Thread Cert.AdHeadRefIdeal.nD Cert.AdHeadRefIdeal.τ).loc Cert.AdHeadRefIdeal.main_arg2)
      ∧ r.2.mem ((c.tc : Thread Cert.AdHeadRefIdeal.nD Cert.AdHeadRefIdeal.τ).loc Cert.AdHeadRefIdeal.main_arg3) = m ((c.tc : Thread Cert.AdHeadRefIdeal.nD Cert.AdHeadRefIdeal.τ).loc Cert.AdHeadRefIdeal.main_arg3))
      ∧ r.2.sem = fun _ => 0)

def quiescent_AdHeadN [hAdHeadN : Cert.AdHeadN.Facts] : Prop :=
  ∀ (m : (ℓ : Loc Cert.AdHeadN.nD Cert.AdHeadN.τ Cert.AdHeadN.sig) → Buf (Elt Bits) ℓ) (g : Dev Cert.AdHeadN.nD → PrngReg), Pre_AdHeadN m →
    θ_run (Cert.AdHeadN.defs (F := Bits)) (onTc (τ := Cert.AdHeadN.τ) (Cert.AdHeadN.main (F := Bits))) ⟨m, fun _ => 0, g⟩ (fun r => (∀ c : Dev Cert.AdHeadN.nD,
      r.2.mem ((c.tc : Thread Cert.AdHeadN.nD Cert.AdHeadN.τ).loc Cert.AdHeadN.main_arg0) = m ((c.tc : Thread Cert.AdHeadN.nD Cert.AdHeadN.τ).loc Cert.AdHeadN.main_arg0)
      ∧ r.2.mem ((c.tc : Thread Cert.AdHeadN.nD Cert.AdHeadN.τ).loc Cert.AdHeadN.main_arg1) = m ((c.tc : Thread Cert.AdHeadN.nD Cert.AdHeadN.τ).loc Cert.AdHeadN.main_arg1)
      ∧ r.2.mem ((c.tc : Thread Cert.AdHeadN.nD Cert.AdHeadN.τ).loc Cert.AdHeadN.main_arg2) = m ((c.tc : Thread Cert.AdHeadN.nD Cert.AdHeadN.τ).loc Cert.AdHeadN.main_arg2)
      ∧ r.2.mem ((c.tc : Thread Cert.AdHeadN.nD Cert.AdHeadN.τ).loc Cert.AdHeadN.main_arg3) = m ((c.tc : Thread Cert.AdHeadN.nD Cert.AdHeadN.τ).loc Cert.AdHeadN.main_arg3))
      ∧ r.2.sem = fun _ => 0)

def quiescent_AdHeadNIdeal [hAdHeadNIdeal : Cert.AdHeadNIdeal.Facts] : Prop :=
  ∀ (m : (ℓ : Loc Cert.AdHeadNIdeal.nD Cert.AdHeadNIdeal.τ Cert.AdHeadNIdeal.sig) → Buf (Elt Ideal) ℓ) (g : Dev Cert.AdHeadNIdeal.nD → PrngReg), Pre_AdHeadNIdeal m →
    θ_run (Cert.AdHeadNIdeal.defs (F := Ideal)) (onTc (τ := Cert.AdHeadNIdeal.τ) (Cert.AdHeadNIdeal.main (F := Ideal))) ⟨m, fun _ => 0, g⟩ (fun r => (∀ c : Dev Cert.AdHeadNIdeal.nD,
      r.2.mem ((c.tc : Thread Cert.AdHeadNIdeal.nD Cert.AdHeadNIdeal.τ).loc Cert.AdHeadNIdeal.main_arg0) = m ((c.tc : Thread Cert.AdHeadNIdeal.nD Cert.AdHeadNIdeal.τ).loc Cert.AdHeadNIdeal.main_arg0)
      ∧ r.2.mem ((c.tc : Thread Cert.AdHeadNIdeal.nD Cert.AdHeadNIdeal.τ).loc Cert.AdHeadNIdeal.main_arg1) = m ((c.tc : Thread Cert.AdHeadNIdeal.nD Cert.AdHeadNIdeal.τ).loc Cert.AdHeadNIdeal.main_arg1)
      ∧ r.2.mem ((c.tc : Thread Cert.AdHeadNIdeal.nD Cert.AdHeadNIdeal.τ).loc Cert.AdHeadNIdeal.main_arg2) = m ((c.tc : Thread Cert.AdHeadNIdeal.nD Cert.AdHeadNIdeal.τ).loc Cert.AdHeadNIdeal.main_arg2)
      ∧ r.2.mem ((c.tc : Thread Cert.AdHeadNIdeal.nD Cert.AdHeadNIdeal.τ).loc Cert.AdHeadNIdeal.main_arg3) = m ((c.tc : Thread Cert.AdHeadNIdeal.nD Cert.AdHeadNIdeal.τ).loc Cert.AdHeadNIdeal.main_arg3))
      ∧ r.2.sem = fun _ => 0)

def quiescent_AdHeadNRefIdeal [hAdHeadNRefIdeal : Cert.AdHeadNRefIdeal.Facts] : Prop :=
  ∀ (m : (ℓ : Loc Cert.AdHeadNRefIdeal.nD Cert.AdHeadNRefIdeal.τ Cert.AdHeadNRefIdeal.sig) → Buf (Elt Ideal) ℓ) (g : Dev Cert.AdHeadNRefIdeal.nD → PrngReg), Pre_AdHeadNRefIdeal m →
    θ_run (Cert.AdHeadNRefIdeal.defs (F := Ideal)) (onTc (τ := Cert.AdHeadNRefIdeal.τ) (Cert.AdHeadNRefIdeal.main (F := Ideal))) ⟨m, fun _ => 0, g⟩ (fun r => (∀ c : Dev Cert.AdHeadNRefIdeal.nD,
      r.2.mem ((c.tc : Thread Cert.AdHeadNRefIdeal.nD Cert.AdHeadNRefIdeal.τ).loc Cert.AdHeadNRefIdeal.main_arg0) = m ((c.tc : Thread Cert.AdHeadNRefIdeal.nD Cert.AdHeadNRefIdeal.τ).loc Cert.AdHeadNRefIdeal.main_arg0)
      ∧ r.2.mem ((c.tc : Thread Cert.AdHeadNRefIdeal.nD Cert.AdHeadNRefIdeal.τ).loc Cert.AdHeadNRefIdeal.main_arg1) = m ((c.tc : Thread Cert.AdHeadNRefIdeal.nD Cert.AdHeadNRefIdeal.τ).loc Cert.AdHeadNRefIdeal.main_arg1)
      ∧ r.2.mem ((c.tc : Thread Cert.AdHeadNRefIdeal.nD Cert.AdHeadNRefIdeal.τ).loc Cert.AdHeadNRefIdeal.main_arg2) = m ((c.tc : Thread Cert.AdHeadNRefIdeal.nD Cert.AdHeadNRefIdeal.τ).loc Cert.AdHeadNRefIdeal.main_arg2)
      ∧ r.2.mem ((c.tc : Thread Cert.AdHeadNRefIdeal.nD Cert.AdHeadNRefIdeal.τ).loc Cert.AdHeadNRefIdeal.main_arg3) = m ((c.tc : Thread Cert.AdHeadNRefIdeal.nD Cert.AdHeadNRefIdeal.τ).loc Cert.AdHeadNRefIdeal.main_arg3))
      ∧ r.2.sem = fun _ => 0)

def quiescent_AdFin [hAdFin : Cert.AdFin.Facts] : Prop :=
  ∀ (m : (ℓ : Loc Cert.AdFin.nD Cert.AdFin.τ Cert.AdFin.sig) → Buf (Elt Bits) ℓ) (g : Dev Cert.AdFin.nD → PrngReg), Pre_AdFin m →
    θ_run (Cert.AdFin.defs (F := Bits)) (onTc (τ := Cert.AdFin.τ) (Cert.AdFin.main (F := Bits))) ⟨m, fun _ => 0, g⟩ (fun r => (∀ c : Dev Cert.AdFin.nD,
      r.2.mem ((c.tc : Thread Cert.AdFin.nD Cert.AdFin.τ).loc Cert.AdFin.main_arg0) = m ((c.tc : Thread Cert.AdFin.nD Cert.AdFin.τ).loc Cert.AdFin.main_arg0)
      ∧ r.2.mem ((c.tc : Thread Cert.AdFin.nD Cert.AdFin.τ).loc Cert.AdFin.main_arg1) = m ((c.tc : Thread Cert.AdFin.nD Cert.AdFin.τ).loc Cert.AdFin.main_arg1)
      ∧ r.2.mem ((c.tc : Thread Cert.AdFin.nD Cert.AdFin.τ).loc Cert.AdFin.main_arg2) = m ((c.tc : Thread Cert.AdFin.nD Cert.AdFin.τ).loc Cert.AdFin.main_arg2)
      ∧ r.2.mem ((c.tc : Thread Cert.AdFin.nD Cert.AdFin.τ).loc Cert.AdFin.main_arg3) = m ((c.tc : Thread Cert.AdFin.nD Cert.AdFin.τ).loc Cert.AdFin.main_arg3))
      ∧ r.2.sem = fun _ => 0)

def quiescent_AdFinIdeal [hAdFinIdeal : Cert.AdFinIdeal.Facts] : Prop :=
  ∀ (m : (ℓ : Loc Cert.AdFinIdeal.nD Cert.AdFinIdeal.τ Cert.AdFinIdeal.sig) → Buf (Elt Ideal) ℓ) (g : Dev Cert.AdFinIdeal.nD → PrngReg), Pre_AdFinIdeal m →
    θ_run (Cert.AdFinIdeal.defs (F := Ideal)) (onTc (τ := Cert.AdFinIdeal.τ) (Cert.AdFinIdeal.main (F := Ideal))) ⟨m, fun _ => 0, g⟩ (fun r => (∀ c : Dev Cert.AdFinIdeal.nD,
      r.2.mem ((c.tc : Thread Cert.AdFinIdeal.nD Cert.AdFinIdeal.τ).loc Cert.AdFinIdeal.main_arg0) = m ((c.tc : Thread Cert.AdFinIdeal.nD Cert.AdFinIdeal.τ).loc Cert.AdFinIdeal.main_arg0)
      ∧ r.2.mem ((c.tc : Thread Cert.AdFinIdeal.nD Cert.AdFinIdeal.τ).loc Cert.AdFinIdeal.main_arg1) = m ((c.tc : Thread Cert.AdFinIdeal.nD Cert.AdFinIdeal.τ).loc Cert.AdFinIdeal.main_arg1)
      ∧ r.2.mem ((c.tc : Thread Cert.AdFinIdeal.nD Cert.AdFinIdeal.τ).loc Cert.AdFinIdeal.main_arg2) = m ((c.tc : Thread Cert.AdFinIdeal.nD Cert.AdFinIdeal.τ).loc Cert.AdFinIdeal.main_arg2)
      ∧ r.2.mem ((c.tc : Thread Cert.AdFinIdeal.nD Cert.AdFinIdeal.τ).loc Cert.AdFinIdeal.main_arg3) = m ((c.tc : Thread Cert.AdFinIdeal.nD Cert.AdFinIdeal.τ).loc Cert.AdFinIdeal.main_arg3))
      ∧ r.2.sem = fun _ => 0)

def quiescent_AdFinRefIdeal [hAdFinRefIdeal : Cert.AdFinRefIdeal.Facts] : Prop :=
  ∀ (m : (ℓ : Loc Cert.AdFinRefIdeal.nD Cert.AdFinRefIdeal.τ Cert.AdFinRefIdeal.sig) → Buf (Elt Ideal) ℓ) (g : Dev Cert.AdFinRefIdeal.nD → PrngReg), Pre_AdFinRefIdeal m →
    θ_run (Cert.AdFinRefIdeal.defs (F := Ideal)) (onTc (τ := Cert.AdFinRefIdeal.τ) (Cert.AdFinRefIdeal.main (F := Ideal))) ⟨m, fun _ => 0, g⟩ (fun r => (∀ c : Dev Cert.AdFinRefIdeal.nD,
      r.2.mem ((c.tc : Thread Cert.AdFinRefIdeal.nD Cert.AdFinRefIdeal.τ).loc Cert.AdFinRefIdeal.main_arg0) = m ((c.tc : Thread Cert.AdFinRefIdeal.nD Cert.AdFinRefIdeal.τ).loc Cert.AdFinRefIdeal.main_arg0)
      ∧ r.2.mem ((c.tc : Thread Cert.AdFinRefIdeal.nD Cert.AdFinRefIdeal.τ).loc Cert.AdFinRefIdeal.main_arg1) = m ((c.tc : Thread Cert.AdFinRefIdeal.nD Cert.AdFinRefIdeal.τ).loc Cert.AdFinRefIdeal.main_arg1)
      ∧ r.2.mem ((c.tc : Thread Cert.AdFinRefIdeal.nD Cert.AdFinRefIdeal.τ).loc Cert.AdFinRefIdeal.main_arg2) = m ((c.tc : Thread Cert.AdFinRefIdeal.nD Cert.AdFinRefIdeal.τ).loc Cert.AdFinRefIdeal.main_arg2)
      ∧ r.2.mem ((c.tc : Thread Cert.AdFinRefIdeal.nD Cert.AdFinRefIdeal.τ).loc Cert.AdFinRefIdeal.main_arg3) = m ((c.tc : Thread Cert.AdFinRefIdeal.nD Cert.AdFinRefIdeal.τ).loc Cert.AdFinRefIdeal.main_arg3))
      ∧ r.2.sem = fun _ => 0)

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0)
      ∧ r.2.mem ((c.tc : Thread Cert.Swap.nD Cert.Swap.τ).loc Cert.Swap.main_arg1) = m ((c.tc : Thread Cert.Swap.nD Cert.Swap.τ).loc Cert.Swap.main_arg1)
      ∧ r.2.mem ((c.tc : Thread Cert.Swap.nD Cert.Swap.τ).loc Cert.Swap.main_arg2) = m ((c.tc : Thread Cert.Swap.nD Cert.Swap.τ).loc Cert.Swap.main_arg2)
      ∧ r.2.mem ((c.tc : Thread Cert.Swap.nD Cert.Swap.τ).loc Cert.Swap.main_arg3) = m ((c.tc : Thread Cert.Swap.nD Cert.Swap.τ).loc Cert.Swap.main_arg3)
      ∧ r.2.mem ((c.tc : Thread Cert.Swap.nD Cert.Swap.τ).loc Cert.Swap.main_arg4) = m ((c.tc : Thread Cert.Swap.nD Cert.Swap.τ).loc Cert.Swap.main_arg4))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0)
      ∧ r.2.mem ((c.tc : Thread Cert.SwapIdeal.nD Cert.SwapIdeal.τ).loc Cert.SwapIdeal.main_arg1) = m ((c.tc : Thread Cert.SwapIdeal.nD Cert.SwapIdeal.τ).loc Cert.SwapIdeal.main_arg1)
      ∧ r.2.mem ((c.tc : Thread Cert.SwapIdeal.nD Cert.SwapIdeal.τ).loc Cert.SwapIdeal.main_arg2) = m ((c.tc : Thread Cert.SwapIdeal.nD Cert.SwapIdeal.τ).loc Cert.SwapIdeal.main_arg2)
      ∧ r.2.mem ((c.tc : Thread Cert.SwapIdeal.nD Cert.SwapIdeal.τ).loc Cert.SwapIdeal.main_arg3) = m ((c.tc : Thread Cert.SwapIdeal.nD Cert.SwapIdeal.τ).loc Cert.SwapIdeal.main_arg3)
      ∧ r.2.mem ((c.tc : Thread Cert.SwapIdeal.nD Cert.SwapIdeal.τ).loc Cert.SwapIdeal.main_arg4) = m ((c.tc : Thread Cert.SwapIdeal.nD Cert.SwapIdeal.τ).loc Cert.SwapIdeal.main_arg4))
      ∧ r.2.sem = fun _ => 0)

def quiescent_SwapRefIdeal [hSwapRefIdeal : Cert.SwapRefIdeal.Facts] : Prop :=
  ∀ (m : (ℓ : Loc Cert.SwapRefIdeal.nD Cert.SwapRefIdeal.τ Cert.SwapRefIdeal.sig) → Buf (Elt Ideal) ℓ) (g : Dev Cert.SwapRefIdeal.nD → PrngReg), Pre_SwapRefIdeal m →
    θ_run (Cert.SwapRefIdeal.defs (F := Ideal)) (onTc (τ := Cert.SwapRefIdeal.τ) (Cert.SwapRefIdeal.main (F := Ideal))) ⟨m, fun _ => 0, g⟩ (fun r => (∀ c : Dev Cert.SwapRefIdeal.nD,
      r.2.mem ((c.tc : Thread Cert.SwapRefIdeal.nD Cert.SwapRefIdeal.τ).loc Cert.SwapRefIdeal.main_arg0) = m ((c.tc : Thread Cert.SwapRefIdeal.nD Cert.SwapRefIdeal.τ).loc Cert.SwapRefIdeal.main_arg0)
      ∧ r.2.mem ((c.tc : Thread Cert.SwapRefIdeal.nD Cert.SwapRefIdeal.τ).loc Cert.SwapRefIdeal.main_arg1) = m ((c.tc : Thread Cert.SwapRefIdeal.nD Cert.SwapRefIdeal.τ).loc Cert.SwapRefIdeal.main_arg1)
      ∧ r.2.mem ((c.tc : Thread Cert.SwapRefIdeal.nD Cert.SwapRefIdeal.τ).loc Cert.SwapRefIdeal.main_arg2) = m ((c.tc : Thread Cert.SwapRefIdeal.nD Cert.SwapRefIdeal.τ).loc Cert.SwapRefIdeal.main_arg2)
      ∧ r.2.mem ((c.tc : Thread Cert.SwapRefIdeal.nD Cert.SwapRefIdeal.τ).loc Cert.SwapRefIdeal.main_arg3) = m ((c.tc : Thread Cert.SwapRefIdeal.nD Cert.SwapRefIdeal.τ).loc Cert.SwapRefIdeal.main_arg3)
      ∧ r.2.mem ((c.tc : Thread Cert.SwapRefIdeal.nD Cert.SwapRefIdeal.τ).loc Cert.SwapRefIdeal.main_arg4) = m ((c.tc : Thread Cert.SwapRefIdeal.nD Cert.SwapRefIdeal.τ).loc Cert.SwapRefIdeal.main_arg4))
      ∧ r.2.sem = fun _ => 0)

def quiescent_Scat [hScat : Cert.Scat.Facts] : Prop :=
  ∀ (m : (ℓ : Loc Cert.Scat.nD Cert.Scat.τ Cert.Scat.sig) → Buf (Elt Bits) ℓ) (g : Dev Cert.Scat.nD → PrngReg), Pre_Scat m →
    θ_run (Cert.Scat.defs (F := Bits)) (onTc (τ := Cert.Scat.τ) (Cert.Scat.main (F := Bits))) ⟨m, fun _ => 0, g⟩ (fun r => (∀ c : Dev Cert.Scat.nD,
      r.2.mem ((c.tc : Thread Cert.Scat.nD Cert.Scat.τ).loc Cert.Scat.main_arg0) = m ((c.tc : Thread Cert.Scat.nD Cert.Scat.τ).loc Cert.Scat.main_arg0)
      ∧ r.2.mem ((c.tc : Thread Cert.Scat.nD Cert.Scat.τ).loc Cert.Scat.main_arg1) = m ((c.tc : Thread Cert.Scat.nD Cert.Scat.τ).loc Cert.Scat.main_arg1)
      ∧ r.2.mem ((c.tc : Thread Cert.Scat.nD Cert.Scat.τ).loc Cert.Scat.main_arg2) = m ((c.tc : Thread Cert.Scat.nD Cert.Scat.τ).loc Cert.Scat.main_arg2)
      ∧ r.2.mem ((c.tc : Thread Cert.Scat.nD Cert.Scat.τ).loc Cert.Scat.main_arg3) = m ((c.tc : Thread Cert.Scat.nD Cert.Scat.τ).loc Cert.Scat.main_arg3)
      ∧ r.2.mem ((c.tc : Thread Cert.Scat.nD Cert.Scat.τ).loc Cert.Scat.main_arg4) = m ((c.tc : Thread Cert.Scat.nD Cert.Scat.τ).loc Cert.Scat.main_arg4))
      ∧ r.2.sem = fun _ => 0)

def quiescent_ScatIdeal [hScatIdeal : Cert.ScatIdeal.Facts] : Prop :=
  ∀ (m : (ℓ : Loc Cert.ScatIdeal.nD Cert.ScatIdeal.τ Cert.ScatIdeal.sig) → Buf (Elt Ideal) ℓ) (g : Dev Cert.ScatIdeal.nD → PrngReg), Pre_ScatIdeal m →
    θ_run (Cert.ScatIdeal.defs (F := Ideal)) (onTc (τ := Cert.ScatIdeal.τ) (Cert.ScatIdeal.main (F := Ideal))) ⟨m, fun _ => 0, g⟩ (fun r => (∀ c : Dev Cert.ScatIdeal.nD,
      r.2.mem ((c.tc : Thread Cert.ScatIdeal.nD Cert.ScatIdeal.τ).loc Cert.ScatIdeal.main_arg0) = m ((c.tc : Thread Cert.ScatIdeal.nD Cert.ScatIdeal.τ).loc Cert.ScatIdeal.main_arg0)
      ∧ r.2.mem ((c.tc : Thread Cert.ScatIdeal.nD Cert.ScatIdeal.τ).loc Cert.ScatIdeal.main_arg1) = m ((c.tc : Thread Cert.ScatIdeal.nD Cert.ScatIdeal.τ).loc Cert.ScatIdeal.main_arg1)
      ∧ r.2.mem ((c.tc : Thread Cert.ScatIdeal.nD Cert.ScatIdeal.τ).loc Cert.ScatIdeal.main_arg2) = m ((c.tc : Thread Cert.ScatIdeal.nD Cert.ScatIdeal.τ).loc Cert.ScatIdeal.main_arg2)
      ∧ r.2.mem ((c.tc : Thread Cert.ScatIdeal.nD Cert.ScatIdeal.τ).loc Cert.ScatIdeal.main_arg3) = m ((c.tc : Thread Cert.ScatIdeal.nD Cert.ScatIdeal.τ).loc Cert.ScatIdeal.main_arg3)
      ∧ r.2.mem ((c.tc : Thread Cert.ScatIdeal.nD Cert.ScatIdeal.τ).loc Cert.ScatIdeal.main_arg4) = m ((c.tc : Thread Cert.ScatIdeal.nD Cert.ScatIdeal.τ).loc Cert.ScatIdeal.main_arg4))
      ∧ r.2.sem = fun _ => 0)

def quiescent_ScatRefIdeal [hScatRefIdeal : Cert.ScatRefIdeal.Facts] : Prop :=
  ∀ (m : (ℓ : Loc Cert.ScatRefIdeal.nD Cert.ScatRefIdeal.τ Cert.ScatRefIdeal.sig) → Buf (Elt Ideal) ℓ) (g : Dev Cert.ScatRefIdeal.nD → PrngReg), Pre_ScatRefIdeal m →
    θ_run (Cert.ScatRefIdeal.defs (F := Ideal)) (onTc (τ := Cert.ScatRefIdeal.τ) (Cert.ScatRefIdeal.main (F := Ideal))) ⟨m, fun _ => 0, g⟩ (fun r => (∀ c : Dev Cert.ScatRefIdeal.nD,
      r.2.mem ((c.tc : Thread Cert.ScatRefIdeal.nD Cert.ScatRefIdeal.τ).loc Cert.ScatRefIdeal.main_arg0) = m ((c.tc : Thread Cert.ScatRefIdeal.nD Cert.ScatRefIdeal.τ).loc Cert.ScatRefIdeal.main_arg0)
      ∧ r.2.mem ((c.tc : Thread Cert.ScatRefIdeal.nD Cert.ScatRefIdeal.τ).loc Cert.ScatRefIdeal.main_arg1) = m ((c.tc : Thread Cert.ScatRefIdeal.nD Cert.ScatRefIdeal.τ).loc Cert.ScatRefIdeal.main_arg1)
      ∧ r.2.mem ((c.tc : Thread Cert.ScatRefIdeal.nD Cert.ScatRefIdeal.τ).loc Cert.ScatRefIdeal.main_arg2) = m ((c.tc : Thread Cert.ScatRefIdeal.nD Cert.ScatRefIdeal.τ).loc Cert.ScatRefIdeal.main_arg2)
      ∧ r.2.mem ((c.tc : Thread Cert.ScatRefIdeal.nD Cert.ScatRefIdeal.τ).loc Cert.ScatRefIdeal.main_arg3) = m ((c.tc : Thread Cert.ScatRefIdeal.nD Cert.ScatRefIdeal.τ).loc Cert.ScatRefIdeal.main_arg3)
      ∧ r.2.mem ((c.tc : Thread Cert.ScatRefIdeal.nD Cert.ScatRefIdeal.τ).loc Cert.ScatRefIdeal.main_arg4) = m ((c.tc : Thread Cert.ScatRefIdeal.nD Cert.ScatRefIdeal.τ).loc Cert.ScatRefIdeal.main_arg4))
      ∧ r.2.sem = fun _ => 0)

def quiescent_Gath [hGath : Cert.Gath.Facts] : Prop :=
  ∀ (m : (ℓ : Loc Cert.Gath.nD Cert.Gath.τ Cert.Gath.sig) → Buf (Elt Bits) ℓ) (g : Dev Cert.Gath.nD → PrngReg), Pre_Gath m →
    θ_run (Cert.Gath.defs (F := Bits)) (onTc (τ := Cert.Gath.τ) (Cert.Gath.main (F := Bits))) ⟨m, fun _ => 0, g⟩ (fun r => (∀ c : Dev Cert.Gath.nD,
      r.2.mem ((c.tc : Thread Cert.Gath.nD Cert.Gath.τ).loc Cert.Gath.main_arg0) = m ((c.tc : Thread Cert.Gath.nD Cert.Gath.τ).loc Cert.Gath.main_arg0)
      ∧ r.2.mem ((c.tc : Thread Cert.Gath.nD Cert.Gath.τ).loc Cert.Gath.main_arg1) = m ((c.tc : Thread Cert.Gath.nD Cert.Gath.τ).loc Cert.Gath.main_arg1)
      ∧ r.2.mem ((c.tc : Thread Cert.Gath.nD Cert.Gath.τ).loc Cert.Gath.main_arg2) = m ((c.tc : Thread Cert.Gath.nD Cert.Gath.τ).loc Cert.Gath.main_arg2)
      ∧ r.2.mem ((c.tc : Thread Cert.Gath.nD Cert.Gath.τ).loc Cert.Gath.main_arg3) = m ((c.tc : Thread Cert.Gath.nD Cert.Gath.τ).loc Cert.Gath.main_arg3)
      ∧ r.2.mem ((c.tc : Thread Cert.Gath.nD Cert.Gath.τ).loc Cert.Gath.main_arg4) = m ((c.tc : Thread Cert.Gath.nD Cert.Gath.τ).loc Cert.Gath.main_arg4))
      ∧ r.2.sem = fun _ => 0)

def quiescent_GathIdeal [hGathIdeal : Cert.GathIdeal.Facts] : Prop :=
  ∀ (m : (ℓ : Loc Cert.GathIdeal.nD Cert.GathIdeal.τ Cert.GathIdeal.sig) → Buf (Elt Ideal) ℓ) (g : Dev Cert.GathIdeal.nD → PrngReg), Pre_GathIdeal m →
    θ_run (Cert.GathIdeal.defs (F := Ideal)) (onTc (τ := Cert.GathIdeal.τ) (Cert.GathIdeal.main (F := Ideal))) ⟨m, fun _ => 0, g⟩ (fun r => (∀ c : Dev Cert.GathIdeal.nD,
      r.2.mem ((c.tc : Thread Cert.GathIdeal.nD Cert.GathIdeal.τ).loc Cert.GathIdeal.main_arg0) = m ((c.tc : Thread Cert.GathIdeal.nD Cert.GathIdeal.τ).loc Cert.GathIdeal.main_arg0)
      ∧ r.2.mem ((c.tc : Thread Cert.GathIdeal.nD Cert.GathIdeal.τ).loc Cert.GathIdeal.main_arg1) = m ((c.tc : Thread Cert.GathIdeal.nD Cert.GathIdeal.τ).loc Cert.GathIdeal.main_arg1)
      ∧ r.2.mem ((c.tc : Thread Cert.GathIdeal.nD Cert.GathIdeal.τ).loc Cert.GathIdeal.main_arg2) = m ((c.tc : Thread Cert.GathIdeal.nD Cert.GathIdeal.τ).loc Cert.GathIdeal.main_arg2)
      ∧ r.2.mem ((c.tc : Thread Cert.GathIdeal.nD Cert.GathIdeal.τ).loc Cert.GathIdeal.main_arg3) = m ((c.tc : Thread Cert.GathIdeal.nD Cert.GathIdeal.τ).loc Cert.GathIdeal.main_arg3)
      ∧ r.2.mem ((c.tc : Thread Cert.GathIdeal.nD Cert.GathIdeal.τ).loc Cert.GathIdeal.main_arg4) = m ((c.tc : Thread Cert.GathIdeal.nD Cert.GathIdeal.τ).loc Cert.GathIdeal.main_arg4))
      ∧ r.2.sem = fun _ => 0)

def quiescent_GathRefIdeal [hGathRefIdeal : Cert.GathRefIdeal.Facts] : Prop :=
  ∀ (m : (ℓ : Loc Cert.GathRefIdeal.nD Cert.GathRefIdeal.τ Cert.GathRefIdeal.sig) → Buf (Elt Ideal) ℓ) (g : Dev Cert.GathRefIdeal.nD → PrngReg), Pre_GathRefIdeal m →
    θ_run (Cert.GathRefIdeal.defs (F := Ideal)) (onTc (τ := Cert.GathRefIdeal.τ) (Cert.GathRefIdeal.main (F := Ideal))) ⟨m, fun _ => 0, g⟩ (fun r => (∀ c : Dev Cert.GathRefIdeal.nD,
      r.2.mem ((c.tc : Thread Cert.GathRefIdeal.nD Cert.GathRefIdeal.τ).loc Cert.GathRefIdeal.main_arg0) = m ((c.tc : Thread Cert.GathRefIdeal.nD Cert.GathRefIdeal.τ).loc Cert.GathRefIdeal.main_arg0)
      ∧ r.2.mem ((c.tc : Thread Cert.GathRefIdeal.nD Cert.GathRefIdeal.τ).loc Cert.GathRefIdeal.main_arg1) = m ((c.tc : Thread Cert.GathRefIdeal.nD Cert.GathRefIdeal.τ).loc Cert.GathRefIdeal.main_arg1)
      ∧ r.2.mem ((c.tc : Thread Cert.GathRefIdeal.nD Cert.GathRefIdeal.τ).loc Cert.GathRefIdeal.main_arg2) = m ((c.tc : Thread Cert.GathRefIdeal.nD Cert.GathRefIdeal.τ).loc Cert.GathRefIdeal.main_arg2)
      ∧ r.2.mem ((c.tc : Thread Cert.GathRefIdeal.nD Cert.GathRefIdeal.τ).loc Cert.GathRefIdeal.main_arg3) = m ((c.tc : Thread Cert.GathRefIdeal.nD Cert.GathRefIdeal.τ).loc Cert.GathRefIdeal.main_arg3)
      ∧ r.2.mem ((c.tc : Thread Cert.GathRefIdeal.nD Cert.GathRefIdeal.τ).loc Cert.GathRefIdeal.main_arg4) = m ((c.tc : Thread Cert.GathRefIdeal.nD Cert.GathRefIdeal.τ).loc Cert.GathRefIdeal.main_arg4))
      ∧ r.2.sem = fun _ => 0)

def preserves_GdnB_GdnBIdeal : Prop :=
  True

def preserves_DownW_DownWIdeal : Prop :=
  True

def algebraic_DownWIdeal_DownWRefIdeal [hDownWIdeal : Cert.DownWIdeal.Facts] [hDownWRefIdeal : Cert.DownWRefIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWRefIdeal.nD Cert.DownWRefIdeal.τ Cert.DownWRefIdeal.sig) → Buf (Elt Ideal) ℓ) (g' : Dev Cert.DownWRefIdeal.nD → PrngReg), Pre_DownWIdeal m →
    (∀ c : Dev Cert.DownWIdeal.nD,
      m' ((c.tc : Thread Cert.DownWRefIdeal.nD Cert.DownWRefIdeal.τ).loc Cert.DownWRefIdeal.main_arg0) = m ((c.tc : Thread Cert.DownWIdeal.nD Cert.DownWIdeal.τ).loc Cert.DownWIdeal.main_arg0)
      ∧ m' ((c.tc : Thread Cert.DownWRefIdeal.nD Cert.DownWRefIdeal.τ).loc Cert.DownWRefIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v0)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWRefIdeal.defs (F := Ideal)) (onTc (τ := Cert.DownWRefIdeal.τ) (Cert.DownWRefIdeal.main (F := Ideal))) ⟨m', fun _ => 0, g'⟩ (fun r => ∀ c : Dev Cert.DownWRefIdeal.nD,
          r.2.mem ((c.tc : Thread Cert.DownWRefIdeal.nD Cert.DownWRefIdeal.τ).loc Cert.DownWRefIdeal.main_v6) = v0 c
          ∧ r.2.mem ((c.tc : Thread Cert.DownWRefIdeal.nD Cert.DownWRefIdeal.τ).loc Cert.DownWRefIdeal.main_arg0) = m' ((c.tc : Thread Cert.DownWRefIdeal.nD Cert.DownWRefIdeal.τ).loc Cert.DownWRefIdeal.main_arg0)
          ∧ r.2.mem ((c.tc : Thread Cert.DownWRefIdeal.nD Cert.DownWRefIdeal.τ).loc Cert.DownWRefIdeal.main_arg1) = m' ((c.tc : Thread Cert.DownWRefIdeal.nD Cert.DownWRefIdeal.τ).loc Cert.DownWRefIdeal.main_arg1))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)) →
    ∃ (v0 : (c : Dev Cert.UpWIdeal.nD) → Buf (Elt Ideal) ((c.tc : Thread Cert.UpWIdeal.nD Cert.UpWIdeal.τ).loc Cert.UpWIdeal.main_v0)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v0) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v6) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v6) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1))

def preserves_QkvW_QkvWIdeal : Prop :=
  True

def algebraic_QkvWIdeal_QkvWRefIdeal [hQkvWIdeal : Cert.QkvWIdeal.Facts] [hQkvWRefIdeal : Cert.QkvWRefIdeal.Facts] : Prop :=
  ∀ (m : (ℓ : Loc Cert.QkvWIdeal.nD Cert.QkvWIdeal.τ Cert.QkvWIdeal.sig) → Buf (Elt Ideal) ℓ) (g : Dev Cert.QkvWIdeal.nD → PrngReg)
    (m' : (ℓ : Loc Cert.QkvWRefIdeal.nD Cert.QkvWRefIdeal.τ Cert.QkvWRefIdeal.sig) → Buf (Elt Ideal) ℓ) (g' : Dev Cert.QkvWRefIdeal.nD → PrngReg), Pre_QkvWIdeal m →
    (∀ c : Dev Cert.QkvWIdeal.nD,
      m' ((c.tc : Thread Cert.QkvWRefIdeal.nD Cert.QkvWRefIdeal.τ).loc Cert.QkvWRefIdeal.main_arg0) = m ((c.tc : Thread Cert.QkvWIdeal.nD Cert.QkvWIdeal.τ).loc Cert.QkvWIdeal.main_arg0)
      ∧ m' ((c.tc : Thread Cert.QkvWRefIdeal.nD Cert.QkvWRefIdeal.τ).loc Cert.QkvWRefIdeal.main_arg1) = m ((c.tc : Thread Cert.QkvWIdeal.nD Cert.QkvWIdeal.τ).loc Cert.QkvWIdeal.main_arg1)) →
    ∃ (v0 : (c : Dev Cert.QkvWIdeal.nD) → Buf (Elt Ideal) ((c.tc : Thread Cert.QkvWIdeal.nD Cert.QkvWIdeal.τ).loc Cert.QkvWIdeal.main_v0)),
      θ_run (Cert.QkvWIdeal.defs (F := Ideal)) (onTc (τ := Cert.QkvWIdeal.τ) (Cert.QkvWIdeal.main (F := Ideal))) ⟨m, fun _ => 0, g⟩ (fun r => ∀ c : Dev Cert.QkvWIdeal.nD,
          r.2.mem ((c.tc : Thread Cert.QkvWIdeal.nD Cert.QkvWIdeal.τ).loc Cert.QkvWIdeal.main_v0) = v0 c
          ∧ r.2.mem ((c.tc : Thread Cert.QkvWIdeal.nD Cert.QkvWIdeal.τ).loc Cert.QkvWIdeal.main_arg0) = m ((c.tc : Thread Cert.QkvWIdeal.nD Cert.QkvWIdeal.τ).loc Cert.QkvWIdeal.main_arg0)
          ∧ r.2.mem ((c.tc : Thread Cert.QkvWIdeal.nD Cert.QkvWIdeal.τ).loc Cert.QkvWIdeal.main_arg1) = m ((c.tc : Thread Cert.QkvWIdeal.nD Cert.QkvWIdeal.τ).loc Cert.QkvWIdeal.main_arg1))
      ∧ θ_run (Cert.QkvWRefIdeal.defs (F := Ideal)) (onTc (τ := Cert.QkvWRefIdeal.τ) (Cert.QkvWRefIdeal.main (F := Ideal))) ⟨m', fun _ => 0, g'⟩ (fun r => ∀ c : Dev Cert.QkvWRefIdeal.nD,
          r.2.mem ((c.tc : Thread Cert.QkvWRefIdeal.nD Cert.QkvWRefIdeal.τ).loc Cert.QkvWRefIdeal.main_v6) = v0 c
          ∧ r.2.mem ((c.tc : Thread Cert.QkvWRefIdeal.nD Cert.QkvWRefIdeal.τ).loc Cert.QkvWRefIdeal.main_arg0) = m' ((c.tc : Thread Cert.QkvWRefIdeal.nD Cert.QkvWRefIdeal.τ).loc Cert.QkvWRefIdeal.main_arg0)
          ∧ r.2.mem ((c.tc : Thread Cert.QkvWRefIdeal.nD Cert.QkvWRefIdeal.τ).loc Cert.QkvWRefIdeal.main_arg1) = m' ((c.tc : Thread Cert.QkvWRefIdeal.nD Cert.QkvWRefIdeal.τ).loc Cert.QkvWRefIdeal.main_arg1))

def preserves_GateW_GateWIdeal : Prop :=
  True

def algebraic_GateWIdeal_GateWRefIdeal [hGateWIdeal : Cert.GateWIdeal.Facts] [hGateWRefIdeal : Cert.GateWRefIdeal.Facts] : Prop :=
  ∀ (m : (ℓ : Loc Cert.GateWIdeal.nD Cert.GateWIdeal.τ Cert.GateWIdeal.sig) → Buf (Elt Ideal) ℓ) (g : Dev Cert.GateWIdeal.nD → PrngReg)
    (m' : (ℓ : Loc Cert.GateWRefIdeal.nD Cert.GateWRefIdeal.τ Cert.GateWRefIdeal.sig) → Buf (Elt Ideal) ℓ) (g' : Dev Cert.GateWRefIdeal.nD → PrngReg), Pre_GateWIdeal m →
    (∀ c : Dev Cert.GateWIdeal.nD,
      m' ((c.tc : Thread Cert.GateWRefIdeal.nD Cert.GateWRefIdeal.τ).loc Cert.GateWRefIdeal.main_arg0) = m ((c.tc : Thread Cert.GateWIdeal.nD Cert.GateWIdeal.τ).loc Cert.GateWIdeal.main_arg0)
      ∧ m' ((c.tc : Thread Cert.GateWRefIdeal.nD Cert.GateWRefIdeal.τ).loc Cert.GateWRefIdeal.main_arg1) = m ((c.tc : Thread Cert.GateWIdeal.nD Cert.GateWIdeal.τ).loc Cert.GateWIdeal.main_arg1)) →
    ∃ (v0 : (c : Dev Cert.GateWIdeal.nD) → Buf (Elt Ideal) ((c.tc : Thread Cert.GateWIdeal.nD Cert.GateWIdeal.τ).loc Cert.GateWIdeal.main_v0)),
      θ_run (Cert.GateWIdeal.defs (F := Ideal)) (onTc (τ := Cert.GateWIdeal.τ) (Cert.GateWIdeal.main (F := Ideal))) ⟨m, fun _ => 0, g⟩ (fun r => ∀ c : Dev Cert.GateWIdeal.nD,
          r.2.mem ((c.tc : Thread Cert.GateWIdeal.nD Cert.GateWIdeal.τ).loc Cert.GateWIdeal.main_v0) = v0 c
          ∧ r.2.mem ((c.tc : Thread Cert.GateWIdeal.nD Cert.GateWIdeal.τ).loc Cert.GateWIdeal.main_arg0) = m ((c.tc : Thread Cert.GateWIdeal.nD Cert.GateWIdeal.τ).loc Cert.GateWIdeal.main_arg0)
          ∧ r.2.mem ((c.tc : Thread Cert.GateWIdeal.nD Cert.GateWIdeal.τ).loc Cert.GateWIdeal.main_arg1) = m ((c.tc : Thread Cert.GateWIdeal.nD Cert.GateWIdeal.τ).loc Cert.GateWIdeal.main_arg1))
      ∧ θ_run (Cert.GateWRefIdeal.defs (F := Ideal)) (onTc (τ := Cert.GateWRefIdeal.τ) (Cert.GateWRefIdeal.main (F := Ideal))) ⟨m', fun _ => 0, g'⟩ (fun r => ∀ c : Dev Cert.GateWRefIdeal.nD,
          r.2.mem ((c.tc : Thread Cert.GateWRefIdeal.nD Cert.GateWRefIdeal.τ).loc Cert.GateWRefIdeal.main_v6) = v0 c
          ∧ r.2.mem ((c.tc : Thread Cert.GateWRefIdeal.nD Cert.GateWRefIdeal.τ).loc Cert.GateWRefIdeal.main_arg0) = m' ((c.tc : Thread Cert.GateWRefIdeal.nD Cert.GateWRefIdeal.τ).loc Cert.GateWRefIdeal.main_arg0)
          ∧ r.2.mem ((c.tc : Thread Cert.GateWRefIdeal.nD Cert.GateWRefIdeal.τ).loc Cert.GateWRefIdeal.main_arg1) = m' ((c.tc : Thread Cert.GateWRefIdeal.nD Cert.GateWRefIdeal.τ).loc Cert.GateWRefIdeal.main_arg1))

def preserves_PoolBaW_PoolBaWIdeal : Prop :=
  True

def algebraic_PoolBaWIdeal_PoolBaWRefIdeal [hPoolBaWIdeal : Cert.PoolBaWIdeal.Facts] [hPoolBaWRefIdeal : Cert.PoolBaWRefIdeal.Facts] : Prop :=
  ∀ (m : (ℓ : Loc Cert.PoolBaWIdeal.nD Cert.PoolBaWIdeal.τ Cert.PoolBaWIdeal.sig) → Buf (Elt Ideal) ℓ) (g : Dev Cert.PoolBaWIdeal.nD → PrngReg)
    (m' : (ℓ : Loc Cert.PoolBaWRefIdeal.nD Cert.PoolBaWRefIdeal.τ Cert.PoolBaWRefIdeal.sig) → Buf (Elt Ideal) ℓ) (g' : Dev Cert.PoolBaWRefIdeal.nD → PrngReg), Pre_PoolBaWIdeal m →
    (∀ c : Dev Cert.PoolBaWIdeal.nD,
      m' ((c.tc : Thread Cert.PoolBaWRefIdeal.nD Cert.PoolBaWRefIdeal.τ).loc Cert.PoolBaWRefIdeal.main_arg0) = m ((c.tc : Thread Cert.PoolBaWIdeal.nD Cert.PoolBaWIdeal.τ).loc Cert.PoolBaWIdeal.main_arg0)
      ∧ m' ((c.tc : Thread Cert.PoolBaWRefIdeal.nD Cert.PoolBaWRefIdeal.τ).loc Cert.PoolBaWRefIdeal.main_arg1) = m ((c.tc : Thread Cert.PoolBaWIdeal.nD Cert.PoolBaWIdeal.τ).loc Cert.PoolBaWIdeal.main_arg1)) →
    ∃ (v0 : (c : Dev Cert.PoolBaWIdeal.nD) → Buf (Elt Ideal) ((c.tc : Thread Cert.PoolBaWIdeal.nD Cert.PoolBaWIdeal.τ).loc Cert.PoolBaWIdeal.main_v0)),
      θ_run (Cert.PoolBaWIdeal.defs (F := Ideal)) (onTc (τ := Cert.PoolBaWIdeal.τ) (Cert.PoolBaWIdeal.main (F := Ideal))) ⟨m, fun _ => 0, g⟩ (fun r => ∀ c : Dev Cert.PoolBaWIdeal.nD,
          r.2.mem ((c.tc : Thread Cert.PoolBaWIdeal.nD Cert.PoolBaWIdeal.τ).loc Cert.PoolBaWIdeal.main_v0) = v0 c
          ∧ r.2.mem ((c.tc : Thread Cert.PoolBaWIdeal.nD Cert.PoolBaWIdeal.τ).loc Cert.PoolBaWIdeal.main_arg0) = m ((c.tc : Thread Cert.PoolBaWIdeal.nD Cert.PoolBaWIdeal.τ).loc Cert.PoolBaWIdeal.main_arg0)
          ∧ r.2.mem ((c.tc : Thread Cert.PoolBaWIdeal.nD Cert.PoolBaWIdeal.τ).loc Cert.PoolBaWIdeal.main_arg1) = m ((c.tc : Thread Cert.PoolBaWIdeal.nD Cert.PoolBaWIdeal.τ).loc Cert.PoolBaWIdeal.main_arg1))
      ∧ θ_run (Cert.PoolBaWRefIdeal.defs (F := Ideal)) (onTc (τ := Cert.PoolBaWRefIdeal.τ) (Cert.PoolBaWRefIdeal.main (F := Ideal))) ⟨m', fun _ => 0, g'⟩ (fun r => ∀ c : Dev Cert.PoolBaWRefIdeal.nD,
          r.2.mem ((c.tc : Thread Cert.PoolBaWRefIdeal.nD Cert.PoolBaWRefIdeal.τ).loc Cert.PoolBaWRefIdeal.main_v6) = v0 c
          ∧ r.2.mem ((c.tc : Thread Cert.PoolBaWRefIdeal.nD Cert.PoolBaWRefIdeal.τ).loc Cert.PoolBaWRefIdeal.main_arg0) = m' ((c.tc : Thread Cert.PoolBaWRefIdeal.nD Cert.PoolBaWRefIdeal.τ).loc Cert.PoolBaWRefIdeal.main_arg0)
          ∧ r.2.mem ((c.tc : Thread Cert.PoolBaWRefIdeal.nD Cert.PoolBaWRefIdeal.τ).loc Cert.PoolBaWRefIdeal.main_arg1) = m' ((c.tc : Thread Cert.PoolBaWRefIdeal.nD Cert.PoolBaWRefIdeal.τ).loc Cert.PoolBaWRefIdeal.main_arg1))

def preserves_DownX_DownXIdeal : Prop :=
  True

def algebraic_DownXIdeal_DownXRefIdeal [hDownXIdeal : Cert.DownXIdeal.Facts] [hDownXRefIdeal : Cert.DownXRefIdeal.Facts] : Prop :=
  ∀ (m : (ℓ : Loc Cert.DownXIdeal.nD Cert.DownXIdeal.τ Cert.DownXIdeal.sig) → Buf (Elt Ideal) ℓ) (g : Dev Cert.DownXIdeal.nD → PrngReg)
    (m' : (ℓ : Loc Cert.DownXRefIdeal.nD Cert.DownXRefIdeal.τ Cert.DownXRefIdeal.sig) → Buf (Elt Ideal) ℓ) (g' : Dev Cert.DownXRefIdeal.nD → PrngReg), Pre_DownXIdeal m →
    (∀ c : Dev Cert.DownXIdeal.nD,
      m' ((c.tc : Thread Cert.DownXRefIdeal.nD Cert.DownXRefIdeal.τ).loc Cert.DownXRefIdeal.main_arg0) = m ((c.tc : Thread Cert.DownXIdeal.nD Cert.DownXIdeal.τ).loc Cert.DownXIdeal.main_arg0)
      ∧ m' ((c.tc : Thread Cert.DownXRefIdeal.nD Cert.DownXRefIdeal.τ).loc Cert.DownXRefIdeal.main_arg1) = m ((c.tc : Thread Cert.DownXIdeal.nD Cert.DownXIdeal.τ).loc Cert.DownXIdeal.main_arg1)) →
    ∃ (v0 : (c : Dev Cert.DownXIdeal.nD) → Buf (Elt Ideal) ((c.tc : Thread Cert.DownXIdeal.nD Cert.DownXIdeal.τ).loc Cert.DownXIdeal.main_v0)),
      θ_run (Cert.DownXIdeal.defs (F := Ideal)) (onTc (τ := Cert.DownXIdeal.τ) (Cert.DownXIdeal.main (F := Ideal))) ⟨m, fun _ => 0, g⟩ (fun r => ∀ c : Dev Cert.DownXIdeal.nD,
          r.2.mem ((c.tc : Thread Cert.DownXIdeal.nD Cert.DownXIdeal.τ).loc Cert.DownXIdeal.main_v0) = v0 c
          ∧ r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
          ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1))
      ∧ θ_run (Cert.DownXRefIdeal.defs (F := Ideal)) (onTc (τ := Cert.DownXRefIdeal.τ) (Cert.DownXRefIdeal.main (F := Ideal))) ⟨m', fun _ => 0, g'⟩ (fun r => ∀ c : Dev Cert.DownXRefIdeal.nD,
          r.2.mem ((c.tc : Thread Cert.DownXRefIdeal.nD Cert.DownXRefIdeal.τ).loc Cert.DownXRefIdeal.main_v6) = v0 c
          ∧ r.2.mem ((c.tc : Thread Cert.DownXRefIdeal.nD Cert.DownXRefIdeal.τ).loc Cert.DownXRefIdeal.main_arg0) = m' ((c.tc : Thread Cert.DownXRefIdeal.nD Cert.DownXRefIdeal.τ).loc Cert.DownXRefIdeal.main_arg0)
          ∧ r.2.mem ((c.tc : Thread Cert.DownXRefIdeal.nD Cert.DownXRefIdeal.τ).loc Cert.DownXRefIdeal.main_arg1) = m' ((c.tc : Thread Cert.DownXRefIdeal.nD Cert.DownXRefIdeal.τ).loc Cert.DownXRefIdeal.main_arg1))

def preserves_OutX_OutXIdeal : Prop :=
  True

def algebraic_OutXIdeal_OutXRefIdeal [hOutXIdeal : Cert.OutXIdeal.Facts] [hOutXRefIdeal : Cert.OutXRefIdeal.Facts] : Prop :=
  ∀ (m : (ℓ : Loc Cert.OutXIdeal.nD Cert.OutXIdeal.τ Cert.OutXIdeal.sig) → Buf (Elt Ideal) ℓ) (g : Dev Cert.OutXIdeal.nD → PrngReg)
    (m' : (ℓ : Loc Cert.OutXRefIdeal.nD Cert.OutXRefIdeal.τ Cert.OutXRefIdeal.sig) → Buf (Elt Ideal) ℓ) (g' : Dev Cert.OutXRefIdeal.nD → PrngReg), Pre_OutXIdeal m →
    (∀ c : Dev Cert.OutXIdeal.nD,
      m' ((c.tc : Thread Cert.OutXRefIdeal.nD Cert.OutXRefIdeal.τ).loc Cert.OutXRefIdeal.main_arg0) = m ((c.tc : Thread Cert.OutXIdeal.nD Cert.OutXIdeal.τ).loc Cert.OutXIdeal.main_arg0)
      ∧ m' ((c.tc : Thread Cert.OutXRefIdeal.nD Cert.OutXRefIdeal.τ).loc Cert.OutXRefIdeal.main_arg1) = m ((c.tc : Thread Cert.OutXIdeal.nD Cert.OutXIdeal.τ).loc Cert.OutXIdeal.main_arg1)) →
    ∃ (v0 : (c : Dev Cert.OutXIdeal.nD) → Buf (Elt Ideal) ((c.tc : Thread Cert.OutXIdeal.nD Cert.OutXIdeal.τ).loc Cert.OutXIdeal.main_v0)),
      θ_run (Cert.OutXIdeal.defs (F := Ideal)) (onTc (τ := Cert.OutXIdeal.τ) (Cert.OutXIdeal.main (F := Ideal))) ⟨m, fun _ => 0, g⟩ (fun r => ∀ c : Dev Cert.OutXIdeal.nD,
          r.2.mem ((c.tc : Thread Cert.OutXIdeal.nD Cert.OutXIdeal.τ).loc Cert.OutXIdeal.main_v0) = v0 c
          ∧ r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
          ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ θ_run (Cert.OutXRefIdeal.defs (F := Ideal)) (onTc (τ := Cert.OutXRefIdeal.τ) (Cert.OutXRefIdeal.main (F := Ideal))) ⟨m', fun _ => 0, g'⟩ (fun r => ∀ c : Dev Cert.OutXRefIdeal.nD,
          r.2.mem ((c.tc : Thread Cert.OutXRefIdeal.nD Cert.OutXRefIdeal.τ).loc Cert.OutXRefIdeal.main_v6) = v0 c
          ∧ r.2.mem ((c.tc : Thread Cert.OutXRefIdeal.nD Cert.OutXRefIdeal.τ).loc Cert.OutXRefIdeal.main_arg0) = m' ((c.tc : Thread Cert.OutXRefIdeal.nD Cert.OutXRefIdeal.τ).loc Cert.OutXRefIdeal.main_arg0)
          ∧ r.2.mem ((c.tc : Thread Cert.OutXRefIdeal.nD Cert.OutXRefIdeal.τ).loc Cert.OutXRefIdeal.main_arg1) = m' ((c.tc : Thread Cert.OutXRefIdeal.nD Cert.OutXRefIdeal.τ).loc Cert.OutXRefIdeal.main_arg1))

def preserves_UpX_UpXIdeal : Prop :=
  True

def algebraic_UpXIdeal_UpXRefIdeal [hUpXIdeal : Cert.UpXIdeal.Facts] [hUpXRefIdeal : Cert.UpXRefIdeal.Facts] : Prop :=
  ∀ (m : (ℓ : Loc Cert.UpXIdeal.nD Cert.UpXIdeal.τ Cert.UpXIdeal.sig) → Buf (Elt Ideal) ℓ) (g : Dev Cert.UpXIdeal.nD → PrngReg)
    (m' : (ℓ : Loc Cert.UpXRefIdeal.nD Cert.UpXRefIdeal.τ Cert.UpXRefIdeal.sig) → Buf (Elt Ideal) ℓ) (g' : Dev Cert.UpXRefIdeal.nD → PrngReg), Pre_UpXIdeal m →
    (∀ c : Dev Cert.UpXIdeal.nD,
      m' ((c.tc : Thread Cert.UpXRefIdeal.nD Cert.UpXRefIdeal.τ).loc Cert.UpXRefIdeal.main_arg0) = m ((c.tc : Thread Cert.UpXIdeal.nD Cert.UpXIdeal.τ).loc Cert.UpXIdeal.main_arg0)
      ∧ m' ((c.tc : Thread Cert.UpXRefIdeal.nD Cert.UpXRefIdeal.τ).loc Cert.UpXRefIdeal.main_arg1) = m ((c.tc : Thread Cert.UpXIdeal.nD Cert.UpXIdeal.τ).loc Cert.UpXIdeal.main_arg1)
      ∧ m' ((c.tc : Thread Cert.UpXRefIdeal.nD Cert.UpXRefIdeal.τ).loc Cert.UpXRefIdeal.main_arg2) = m ((c.tc : Thread Cert.UpXIdeal.nD Cert.UpXIdeal.τ).loc Cert.UpXIdeal.main_arg2)
      ∧ m' ((c.tc : Thread Cert.UpXRefIdeal.nD Cert.UpXRefIdeal.τ).loc Cert.UpXRefIdeal.main_arg3) = m ((c.tc : Thread Cert.UpXIdeal.nD Cert.UpXIdeal.τ).loc Cert.UpXIdeal.main_arg3)) →
    ∃ (v0 : (c : Dev Cert.UpXIdeal.nD) → Buf (Elt Ideal) ((c.tc : Thread Cert.UpXIdeal.nD Cert.UpXIdeal.τ).loc Cert.UpXIdeal.main_v0)),
      θ_run (Cert.UpXIdeal.defs (F := Ideal)) (onTc (τ := Cert.UpXIdeal.τ) (Cert.UpXIdeal.main (F := Ideal))) ⟨m, fun _ => 0, g⟩ (fun r => ∀ c : Dev Cert.UpXIdeal.nD,
          r.2.mem ((c.tc : Thread Cert.UpXIdeal.nD Cert.UpXIdeal.τ).loc Cert.UpXIdeal.main_v0) = v0 c
          ∧ r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
          ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1)
          ∧ r.2.mem ((c.tc : Thread Cert.UpXIdeal.nD Cert.UpXIdeal.τ).loc Cert.UpXIdeal.main_arg2) = m ((c.tc : Thread Cert.UpXIdeal.nD Cert.UpXIdeal.τ).loc Cert.UpXIdeal.main_arg2)
          ∧ r.2.mem ((c.tc : Thread Cert.UpXIdeal.nD Cert.UpXIdeal.τ).loc Cert.UpXIdeal.main_arg3) = m ((c.tc : Thread Cert.UpXIdeal.nD Cert.UpXIdeal.τ).loc Cert.UpXIdeal.main_arg3))
      ∧ θ_run (Cert.UpXRefIdeal.defs (F := Ideal)) (onTc (τ := Cert.UpXRefIdeal.τ) (Cert.UpXRefIdeal.main (F := Ideal))) ⟨m', fun _ => 0, g'⟩ (fun r => ∀ c : Dev Cert.UpXRefIdeal.nD,
          r.2.mem ((c.tc : Thread Cert.UpXRefIdeal.nD Cert.UpXRefIdeal.τ).loc Cert.UpXRefIdeal.main_v13) = v0 c
          ∧ r.2.mem ((c.tc : Thread Cert.UpXRefIdeal.nD Cert.UpXRefIdeal.τ).loc Cert.UpXRefIdeal.main_arg0) = m' ((c.tc : Thread Cert.UpXRefIdeal.nD Cert.UpXRefIdeal.τ).loc Cert.UpXRefIdeal.main_arg0)
          ∧ r.2.mem ((c.tc : Thread Cert.UpXRefIdeal.nD Cert.UpXRefIdeal.τ).loc Cert.UpXRefIdeal.main_arg1) = m' ((c.tc : Thread Cert.UpXRefIdeal.nD Cert.UpXRefIdeal.τ).loc Cert.UpXRefIdeal.main_arg1)
          ∧ r.2.mem ((c.tc : Thread Cert.UpXRefIdeal.nD Cert.UpXRefIdeal.τ).loc Cert.UpXRefIdeal.main_arg2) = m' ((c.tc : Thread Cert.UpXRefIdeal.nD Cert.UpXRefIdeal.τ).loc Cert.UpXRefIdeal.main_arg2)
          ∧ r.2.mem ((c.tc : Thread Cert.UpXRefIdeal.nD Cert.UpXRefIdeal.τ).loc Cert.UpXRefIdeal.main_arg3) = m' ((c.tc : Thread Cert.UpXRefIdeal.nD Cert.UpXRefIdeal.τ).loc Cert.UpXRefIdeal.main_arg3))

def preserves_InX_InXIdeal : Prop :=
  True

def algebraic_InXIdeal_InXRefIdeal [hInXIdeal : Cert.InXIdeal.Facts] [hInXRefIdeal : Cert.InXRefIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)
      ∧ m' ((c.tc : Thread Cert.InXRefIdeal.nD Cert.InXRefIdeal.τ).loc Cert.InXRefIdeal.main_arg2) = m ((c.tc : Thread Cert.InXIdeal.nD Cert.InXIdeal.τ).loc Cert.InXIdeal.main_arg2)
      ∧ m' ((c.tc : Thread Cert.InXRefIdeal.nD Cert.InXRefIdeal.τ).loc Cert.InXRefIdeal.main_arg3) = m ((c.tc : Thread Cert.InXIdeal.nD Cert.InXIdeal.τ).loc Cert.InXIdeal.main_arg3)
      ∧ m' ((c.tc : Thread Cert.InXRefIdeal.nD Cert.InXRefIdeal.τ).loc Cert.InXRefIdeal.main_arg4) = m ((c.tc : Thread Cert.InXIdeal.nD Cert.InXIdeal.τ).loc Cert.InXIdeal.main_arg4)
      ∧ m' ((c.tc : Thread Cert.InXRefIdeal.nD Cert.InXRefIdeal.τ).loc Cert.InXRefIdeal.main_arg5) = m ((c.tc : Thread Cert.InXIdeal.nD Cert.InXIdeal.τ).loc Cert.InXIdeal.main_arg5)
      ∧ m' ((c.tc : Thread Cert.InXRefIdeal.nD Cert.InXRefIdeal.τ).loc Cert.InXRefIdeal.main_arg6) = m ((c.tc : Thread Cert.InXIdeal.nD Cert.InXIdeal.τ).loc Cert.InXIdeal.main_arg6)
      ∧ m' ((c.tc : Thread Cert.InXRefIdeal.nD Cert.InXRefIdeal.τ).loc Cert.InXRefIdeal.main_arg7) = m ((c.tc : Thread Cert.InXIdeal.nD Cert.InXIdeal.τ).loc Cert.InXIdeal.main_arg7)) →
    ∃ (v0 : (c : Dev Cert.InXIdeal.nD) → Buf (Elt Ideal) ((c.tc : Thread Cert.InXIdeal.nD Cert.InXIdeal.τ).loc Cert.InXIdeal.main_v0)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v0) = v0 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
          ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
          ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
          ∧ r.2.mem ((c.tc : Thread Cert.InXIdeal.nD Cert.InXIdeal.τ).loc Cert.InXIdeal.main_arg4) = m ((c.tc : Thread Cert.InXIdeal.nD Cert.InXIdeal.τ).loc Cert.InXIdeal.main_arg4)
          ∧ r.2.mem ((c.tc : Thread Cert.InXIdeal.nD Cert.InXIdeal.τ).loc Cert.InXIdeal.main_arg5) = m ((c.tc : Thread Cert.InXIdeal.nD Cert.InXIdeal.τ).loc Cert.InXIdeal.main_arg5)
          ∧ r.2.mem ((c.tc : Thread Cert.InXIdeal.nD Cert.InXIdeal.τ).loc Cert.InXIdeal.main_arg6) = m ((c.tc : Thread Cert.InXIdeal.nD Cert.InXIdeal.τ).loc Cert.InXIdeal.main_arg6)
          ∧ r.2.mem ((c.tc : Thread Cert.InXIdeal.nD Cert.InXIdeal.τ).loc Cert.InXIdeal.main_arg7) = m ((c.tc : Thread Cert.InXIdeal.nD Cert.InXIdeal.τ).loc Cert.InXIdeal.main_arg7))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v27) = v0 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1)
          ∧ r.2.mem ((c.tc : Thread Cert.InXRefIdeal.nD Cert.InXRefIdeal.τ).loc Cert.InXRefIdeal.main_arg2) = m' ((c.tc : Thread Cert.InXRefIdeal.nD Cert.InXRefIdeal.τ).loc Cert.InXRefIdeal.main_arg2)
          ∧ r.2.mem ((c.tc : Thread Cert.InXRefIdeal.nD Cert.InXRefIdeal.τ).loc Cert.InXRefIdeal.main_arg3) = m' ((c.tc : Thread Cert.InXRefIdeal.nD Cert.InXRefIdeal.τ).loc Cert.InXRefIdeal.main_arg3)
          ∧ r.2.mem ((c.tc : Thread Cert.InXRefIdeal.nD Cert.InXRefIdeal.τ).loc Cert.InXRefIdeal.main_arg4) = m' ((c.tc : Thread Cert.InXRefIdeal.nD Cert.InXRefIdeal.τ).loc Cert.InXRefIdeal.main_arg4)
          ∧ r.2.mem ((c.tc : Thread Cert.InXRefIdeal.nD Cert.InXRefIdeal.τ).loc Cert.InXRefIdeal.main_arg5) = m' ((c.tc : Thread Cert.InXRefIdeal.nD Cert.InXRefIdeal.τ).loc Cert.InXRefIdeal.main_arg5)
          ∧ r.2.mem ((c.tc : Thread Cert.InXRefIdeal.nD Cert.InXRefIdeal.τ).loc Cert.InXRefIdeal.main_arg6) = m' ((c.tc : Thread Cert.InXRefIdeal.nD Cert.InXRefIdeal.τ).loc Cert.InXRefIdeal.main_arg6)
          ∧ r.2.mem ((c.tc : Thread Cert.InXRefIdeal.nD Cert.InXRefIdeal.τ).loc Cert.InXRefIdeal.main_arg7) = m' ((c.tc : Thread Cert.InXRefIdeal.nD Cert.InXRefIdeal.τ).loc Cert.InXRefIdeal.main_arg7))

def preserves_QkvF_QkvFIdeal : Prop :=
  True

def algebraic_QkvFIdeal_QkvFRefIdeal [hQkvFIdeal : Cert.QkvFIdeal.Facts] [hQkvFRefIdeal : Cert.QkvFRefIdeal.Facts] : Prop :=
  ∀ (m : (ℓ : Loc Cert.QkvFIdeal.nD Cert.QkvFIdeal.τ Cert.QkvFIdeal.sig) → Buf (Elt Ideal) ℓ) (g : Dev Cert.QkvFIdeal.nD → PrngReg)
    (m' : (ℓ : Loc Cert.QkvFRefIdeal.nD Cert.QkvFRefIdeal.τ Cert.QkvFRefIdeal.sig) → Buf (Elt Ideal) ℓ) (g' : Dev Cert.QkvFRefIdeal.nD → PrngReg), Pre_QkvFIdeal m →
    (∀ c : Dev Cert.QkvFIdeal.nD,
      m' ((c.tc : Thread Cert.QkvFRefIdeal.nD Cert.QkvFRefIdeal.τ).loc Cert.QkvFRefIdeal.main_arg0) = m ((c.tc : Thread Cert.QkvFIdeal.nD Cert.QkvFIdeal.τ).loc Cert.QkvFIdeal.main_arg0)
      ∧ m' ((c.tc : Thread Cert.QkvFRefIdeal.nD Cert.QkvFRefIdeal.τ).loc Cert.QkvFRefIdeal.main_arg1) = m ((c.tc : Thread Cert.QkvFIdeal.nD Cert.QkvFIdeal.τ).loc Cert.QkvFIdeal.main_arg1)) →
    ∃ (v0 : (c : Dev Cert.QkvFIdeal.nD) → Buf (Elt Ideal) ((c.tc : Thread Cert.QkvFIdeal.nD Cert.QkvFIdeal.τ).loc Cert.QkvFIdeal.main_v0)),
      θ_run (Cert.QkvFIdeal.defs (F := Ideal)) (onTc (τ := Cert.QkvFIdeal.τ) (Cert.QkvFIdeal.main (F := Ideal))) ⟨m, fun _ => 0, g⟩ (fun r => ∀ c : Dev Cert.QkvFIdeal.nD,
          r.2.mem ((c.tc : Thread Cert.QkvFIdeal.nD Cert.QkvFIdeal.τ).loc Cert.QkvFIdeal.main_v0) = v0 c
          ∧ r.2.mem ((c.tc : Thread Cert.QkvFIdeal.nD Cert.QkvFIdeal.τ).loc Cert.QkvFIdeal.main_arg0) = m ((c.tc : Thread Cert.QkvFIdeal.nD Cert.QkvFIdeal.τ).loc Cert.QkvFIdeal.main_arg0)
          ∧ r.2.mem ((c.tc : Thread Cert.QkvFIdeal.nD Cert.QkvFIdeal.τ).loc Cert.QkvFIdeal.main_arg1) = m ((c.tc : Thread Cert.QkvFIdeal.nD Cert.QkvFIdeal.τ).loc Cert.QkvFIdeal.main_arg1))
      ∧ θ_run (Cert.QkvFRefIdeal.defs (F := Ideal)) (onTc (τ := Cert.QkvFRefIdeal.τ) (Cert.QkvFRefIdeal.main (F := Ideal))) ⟨m', fun _ => 0, g'⟩ (fun r => ∀ c : Dev Cert.QkvFRefIdeal.nD,
          r.2.mem ((c.tc : Thread Cert.QkvFRefIdeal.nD Cert.QkvFRefIdeal.τ).loc Cert.QkvFRefIdeal.main_v2) = v0 c
          ∧ r.2.mem ((c.tc : Thread Cert.QkvFRefIdeal.nD Cert.QkvFRefIdeal.τ).loc Cert.QkvFRefIdeal.main_arg0) = m' ((c.tc : Thread Cert.QkvFRefIdeal.nD Cert.QkvFRefIdeal.τ).loc Cert.QkvFRefIdeal.main_arg0)
          ∧ r.2.mem ((c.tc : Thread Cert.QkvFRefIdeal.nD Cert.QkvFRefIdeal.τ).loc Cert.QkvFRefIdeal.main_arg1) = m' ((c.tc : Thread Cert.QkvFRefIdeal.nD Cert.QkvFRefIdeal.τ).loc Cert.QkvFRefIdeal.main_arg1))

def preserves_ZF_ZFIdeal : Prop :=
  True

def algebraic_ZFIdeal_ZFRefIdeal [hZFIdeal : Cert.ZFIdeal.Facts] [hZFRefIdeal : Cert.ZFRefIdeal.Facts] : Prop :=
  ∀ (m : (ℓ : Loc Cert.ZFIdeal.nD Cert.ZFIdeal.τ Cert.ZFIdeal.sig) → Buf (Elt Ideal) ℓ) (g : Dev Cert.ZFIdeal.nD → PrngReg)
    (m' : (ℓ : Loc Cert.ZFRefIdeal.nD Cert.ZFRefIdeal.τ Cert.ZFRefIdeal.sig) → Buf (Elt Ideal) ℓ) (g' : Dev Cert.ZFRefIdeal.nD → PrngReg), Pre_ZFIdeal m →
    (∀ c : Dev Cert.ZFIdeal.nD,
      m' ((c.tc : Thread Cert.ZFRefIdeal.nD Cert.ZFRefIdeal.τ).loc Cert.ZFRefIdeal.main_arg0) = m ((c.tc : Thread Cert.ZFIdeal.nD Cert.ZFIdeal.τ).loc Cert.ZFIdeal.main_arg0)
      ∧ m' ((c.tc : Thread Cert.ZFRefIdeal.nD Cert.ZFRefIdeal.τ).loc Cert.ZFRefIdeal.main_arg1) = m ((c.tc : Thread Cert.ZFIdeal.nD Cert.ZFIdeal.τ).loc Cert.ZFIdeal.main_arg1)) →
    ∃ (v0 : (c : Dev Cert.ZFIdeal.nD) → Buf (Elt Ideal) ((c.tc : Thread Cert.ZFIdeal.nD Cert.ZFIdeal.τ).loc Cert.ZFIdeal.main_v0)),
      θ_run (Cert.ZFIdeal.defs (F := Ideal)) (onTc (τ := Cert.ZFIdeal.τ) (Cert.ZFIdeal.main (F := Ideal))) ⟨m, fun _ => 0, g⟩ (fun r => ∀ c : Dev Cert.ZFIdeal.nD,
          r.2.mem ((c.tc : Thread Cert.ZFIdeal.nD Cert.ZFIdeal.τ).loc Cert.ZFIdeal.main_v0) = v0 c
          ∧ r.2.mem ((c.tc : Thread Cert.ZFIdeal.nD Cert.ZFIdeal.τ).loc Cert.ZFIdeal.main_arg0) = m ((c.tc : Thread Cert.ZFIdeal.nD Cert.ZFIdeal.τ).loc Cert.ZFIdeal.main_arg0)
          ∧ r.2.mem ((c.tc : Thread Cert.ZFIdeal.nD Cert.ZFIdeal.τ).loc Cert.ZFIdeal.main_arg1) = m ((c.tc : Thread Cert.ZFIdeal.nD Cert.ZFIdeal.τ).loc Cert.ZFIdeal.main_arg1))
      ∧ θ_run (Cert.ZFRefIdeal.defs (F := Ideal)) (onTc (τ := Cert.ZFRefIdeal.τ) (Cert.ZFRefIdeal.main (F := Ideal))) ⟨m', fun _ => 0, g'⟩ (fun r => ∀ c : Dev Cert.ZFRefIdeal.nD,
          r.2.mem ((c.tc : Thread Cert.ZFRefIdeal.nD Cert.ZFRefIdeal.τ).loc Cert.ZFRefIdeal.main_v2) = v0 c
          ∧ r.2.mem ((c.tc : Thread Cert.ZFRefIdeal.nD Cert.ZFRefIdeal.τ).loc Cert.ZFRefIdeal.main_arg0) = m' ((c.tc : Thread Cert.ZFRefIdeal.nD Cert.ZFRefIdeal.τ).loc Cert.ZFRefIdeal.main_arg0)
          ∧ r.2.mem ((c.tc : Thread Cert.ZFRefIdeal.nD Cert.ZFRefIdeal.τ).loc Cert.ZFRefIdeal.main_arg1) = m' ((c.tc : Thread Cert.ZFRefIdeal.nD Cert.ZFRefIdeal.τ).loc Cert.ZFRefIdeal.main_arg1))

def preserves_GateF_GateFIdeal : Prop :=
  True

def algebraic_GateFIdeal_GateFRefIdeal [hGateFIdeal : Cert.GateFIdeal.Facts] [hGateFRefIdeal : Cert.GateFRefIdeal.Facts] : Prop :=
  ∀ (m : (ℓ : Loc Cert.GateFIdeal.nD Cert.GateFIdeal.τ Cert.GateFIdeal.sig) → Buf (Elt Ideal) ℓ) (g : Dev Cert.GateFIdeal.nD → PrngReg)
    (m' : (ℓ : Loc Cert.GateFRefIdeal.nD Cert.GateFRefIdeal.τ Cert.GateFRefIdeal.sig) → Buf (Elt Ideal) ℓ) (g' : Dev Cert.GateFRefIdeal.nD → PrngReg), Pre_GateFIdeal m →
    (∀ c : Dev Cert.GateFIdeal.nD,
      m' ((c.tc : Thread Cert.GateFRefIdeal.nD Cert.GateFRefIdeal.τ).loc Cert.GateFRefIdeal.main_arg0) = m ((c.tc : Thread Cert.GateFIdeal.nD Cert.GateFIdeal.τ).loc Cert.GateFIdeal.main_arg0)
      ∧ m' ((c.tc : Thread Cert.GateFRefIdeal.nD Cert.GateFRefIdeal.τ).loc Cert.GateFRefIdeal.main_arg1) = m ((c.tc : Thread Cert.GateFIdeal.nD Cert.GateFIdeal.τ).loc Cert.GateFIdeal.main_arg1)) →
    ∃ (v0 : (c : Dev Cert.GateFIdeal.nD) → Buf (Elt Ideal) ((c.tc : Thread Cert.GateFIdeal.nD Cert.GateFIdeal.τ).loc Cert.GateFIdeal.main_v0)),
      θ_run (Cert.GateFIdeal.defs (F := Ideal)) (onTc (τ := Cert.GateFIdeal.τ) (Cert.GateFIdeal.main (F := Ideal))) ⟨m, fun _ => 0, g⟩ (fun r => ∀ c : Dev Cert.GateFIdeal.nD,
          r.2.mem ((c.tc : Thread Cert.GateFIdeal.nD Cert.GateFIdeal.τ).loc Cert.GateFIdeal.main_v0) = v0 c
          ∧ r.2.mem ((c.tc : Thread Cert.GateFIdeal.nD Cert.GateFIdeal.τ).loc Cert.GateFIdeal.main_arg0) = m ((c.tc : Thread Cert.GateFIdeal.nD Cert.GateFIdeal.τ).loc Cert.GateFIdeal.main_arg0)
          ∧ r.2.mem ((c.tc : Thread Cert.GateFIdeal.nD Cert.GateFIdeal.τ).loc Cert.GateFIdeal.main_arg1) = m ((c.tc : Thread Cert.GateFIdeal.nD Cert.GateFIdeal.τ).loc Cert.GateFIdeal.main_arg1))
      ∧ θ_run (Cert.GateFRefIdeal.defs (F := Ideal)) (onTc (τ := Cert.GateFRefIdeal.τ) (Cert.GateFRefIdeal.main (F := Ideal))) ⟨m', fun _ => 0, g'⟩ (fun r => ∀ c : Dev Cert.GateFRefIdeal.nD,
          r.2.mem ((c.tc : Thread Cert.GateFRefIdeal.nD Cert.GateFRefIdeal.τ).loc Cert.GateFRefIdeal.main_v2) = v0 c
          ∧ r.2.mem ((c.tc : Thread Cert.GateFRefIdeal.nD Cert.GateFRefIdeal.τ).loc Cert.GateFRefIdeal.main_arg0) = m' ((c.tc : Thread Cert.GateFRefIdeal.nD Cert.GateFRefIdeal.τ).loc Cert.GateFRefIdeal.main_arg0)
          ∧ r.2.mem ((c.tc : Thread Cert.GateFRefIdeal.nD Cert.GateFRefIdeal.τ).loc Cert.GateFRefIdeal.main_arg1) = m' ((c.tc : Thread Cert.GateFRefIdeal.nD Cert.GateFRefIdeal.τ).loc Cert.GateFRefIdeal.main_arg1))

def preserves_PoolBaF_PoolBaFIdeal : Prop :=
  True

def algebraic_PoolBaFIdeal_PoolBaFRefIdeal [hPoolBaFIdeal : Cert.PoolBaFIdeal.Facts] [hPoolBaFRefIdeal : Cert.PoolBaFRefIdeal.Facts] : Prop :=
  ∀ (m : (ℓ : Loc Cert.PoolBaFIdeal.nD Cert.PoolBaFIdeal.τ Cert.PoolBaFIdeal.sig) → Buf (Elt Ideal) ℓ) (g : Dev Cert.PoolBaFIdeal.nD → PrngReg)
    (m' : (ℓ : Loc Cert.PoolBaFRefIdeal.nD Cert.PoolBaFRefIdeal.τ Cert.PoolBaFRefIdeal.sig) → Buf (Elt Ideal) ℓ) (g' : Dev Cert.PoolBaFRefIdeal.nD → PrngReg), Pre_PoolBaFIdeal m →
    (∀ c : Dev Cert.PoolBaFIdeal.nD,
      m' ((c.tc : Thread Cert.PoolBaFRefIdeal.nD Cert.PoolBaFRefIdeal.τ).loc Cert.PoolBaFRefIdeal.main_arg0) = m ((c.tc : Thread Cert.PoolBaFIdeal.nD Cert.PoolBaFIdeal.τ).loc Cert.PoolBaFIdeal.main_arg0)
      ∧ m' ((c.tc : Thread Cert.PoolBaFRefIdeal.nD Cert.PoolBaFRefIdeal.τ).loc Cert.PoolBaFRefIdeal.main_arg1) = m ((c.tc : Thread Cert.PoolBaFIdeal.nD Cert.PoolBaFIdeal.τ).loc Cert.PoolBaFIdeal.main_arg1)) →
    ∃ (v0 : (c : Dev Cert.PoolBaFIdeal.nD) → Buf (Elt Ideal) ((c.tc : Thread Cert.PoolBaFIdeal.nD Cert.PoolBaFIdeal.τ).loc Cert.PoolBaFIdeal.main_v0)),
      θ_run (Cert.PoolBaFIdeal.defs (F := Ideal)) (onTc (τ := Cert.PoolBaFIdeal.τ) (Cert.PoolBaFIdeal.main (F := Ideal))) ⟨m, fun _ => 0, g⟩ (fun r => ∀ c : Dev Cert.PoolBaFIdeal.nD,
          r.2.mem ((c.tc : Thread Cert.PoolBaFIdeal.nD Cert.PoolBaFIdeal.τ).loc Cert.PoolBaFIdeal.main_v0) = v0 c
          ∧ r.2.mem ((c.tc : Thread Cert.PoolBaFIdeal.nD Cert.PoolBaFIdeal.τ).loc Cert.PoolBaFIdeal.main_arg0) = m ((c.tc : Thread Cert.PoolBaFIdeal.nD Cert.PoolBaFIdeal.τ).loc Cert.PoolBaFIdeal.main_arg0)
          ∧ r.2.mem ((c.tc : Thread Cert.PoolBaFIdeal.nD Cert.PoolBaFIdeal.τ).loc Cert.PoolBaFIdeal.main_arg1) = m ((c.tc : Thread Cert.PoolBaFIdeal.nD Cert.PoolBaFIdeal.τ).loc Cert.PoolBaFIdeal.main_arg1))
      ∧ θ_run (Cert.PoolBaFRefIdeal.defs (F := Ideal)) (onTc (τ := Cert.PoolBaFRefIdeal.τ) (Cert.PoolBaFRefIdeal.main (F := Ideal))) ⟨m', fun _ => 0, g'⟩ (fun r => ∀ c : Dev Cert.PoolBaFRefIdeal.nD,
          r.2.mem ((c.tc : Thread Cert.PoolBaFRefIdeal.nD Cert.PoolBaFRefIdeal.τ).loc Cert.PoolBaFRefIdeal.main_v2) = v0 c
          ∧ r.2.mem ((c.tc : Thread Cert.PoolBaFRefIdeal.nD Cert.PoolBaFRefIdeal.τ).loc Cert.PoolBaFRefIdeal.main_arg0) = m' ((c.tc : Thread Cert.PoolBaFRefIdeal.nD Cert.PoolBaFRefIdeal.τ).loc Cert.PoolBaFRefIdeal.main_arg0)
          ∧ r.2.mem ((c.tc : Thread Cert.PoolBaFRefIdeal.nD Cert.PoolBaFRefIdeal.τ).loc Cert.PoolBaFRefIdeal.main_arg1) = m' ((c.tc : Thread Cert.PoolBaFRefIdeal.nD Cert.PoolBaFRefIdeal.τ).loc Cert.PoolBaFRefIdeal.main_arg1))

def preserves_UpF_UpFIdeal : Prop :=
  True

def algebraic_UpFIdeal_UpFRefIdeal [hUpFIdeal : Cert.UpFIdeal.Facts] [hUpFRefIdeal : Cert.UpFRefIdeal.Facts] : Prop :=
  ∀ (m : (ℓ : Loc Cert.UpFIdeal.nD Cert.UpFIdeal.τ Cert.UpFIdeal.sig) → Buf (Elt Ideal) ℓ) (g : Dev Cert.UpFIdeal.nD → PrngReg)
    (m' : (ℓ : Loc Cert.UpFRefIdeal.nD Cert.UpFRefIdeal.τ Cert.UpFRefIdeal.sig) → Buf (Elt Ideal) ℓ) (g' : Dev Cert.UpFRefIdeal.nD → PrngReg), Pre_UpFIdeal m →
    (∀ c : Dev Cert.UpFIdeal.nD,
      m' ((c.tc : Thread Cert.UpFRefIdeal.nD Cert.UpFRefIdeal.τ).loc Cert.UpFRefIdeal.main_arg0) = m ((c.tc : Thread Cert.UpFIdeal.nD Cert.UpFIdeal.τ).loc Cert.UpFIdeal.main_arg0)
      ∧ m' ((c.tc : Thread Cert.UpFRefIdeal.nD Cert.UpFRefIdeal.τ).loc Cert.UpFRefIdeal.main_arg1) = m ((c.tc : Thread Cert.UpFIdeal.nD Cert.UpFIdeal.τ).loc Cert.UpFIdeal.main_arg1)) →
    ∃ (v0 : (c : Dev Cert.UpFIdeal.nD) → Buf (Elt Ideal) ((c.tc : Thread Cert.UpFIdeal.nD Cert.UpFIdeal.τ).loc Cert.UpFIdeal.main_v0)),
      θ_run (Cert.UpFIdeal.defs (F := Ideal)) (onTc (τ := Cert.UpFIdeal.τ) (Cert.UpFIdeal.main (F := Ideal))) ⟨m, fun _ => 0, g⟩ (fun r => ∀ c : Dev Cert.UpFIdeal.nD,
          r.2.mem ((c.tc : Thread Cert.UpFIdeal.nD Cert.UpFIdeal.τ).loc Cert.UpFIdeal.main_v0) = v0 c
          ∧ r.2.mem ((c.tc : Thread Cert.UpFIdeal.nD Cert.UpFIdeal.τ).loc Cert.UpFIdeal.main_arg0) = m ((c.tc : Thread Cert.UpFIdeal.nD Cert.UpFIdeal.τ).loc Cert.UpFIdeal.main_arg0)
          ∧ r.2.mem ((c.tc : Thread Cert.UpFIdeal.nD Cert.UpFIdeal.τ).loc Cert.UpFIdeal.main_arg1) = m ((c.tc : Thread Cert.UpFIdeal.nD Cert.UpFIdeal.τ).loc Cert.UpFIdeal.main_arg1))
      ∧ θ_run (Cert.UpFRefIdeal.defs (F := Ideal)) (onTc (τ := Cert.UpFRefIdeal.τ) (Cert.UpFRefIdeal.main (F := Ideal))) ⟨m', fun _ => 0, g'⟩ (fun r => ∀ c : Dev Cert.UpFRefIdeal.nD,
          r.2.mem ((c.tc : Thread Cert.UpFRefIdeal.nD Cert.UpFRefIdeal.τ).loc Cert.UpFRefIdeal.main_v2) = v0 c
          ∧ r.2.mem ((c.tc : Thread Cert.UpFRefIdeal.nD Cert.UpFRefIdeal.τ).loc Cert.UpFRefIdeal.main_arg0) = m' ((c.tc : Thread Cert.UpFRefIdeal.nD Cert.UpFRefIdeal.τ).loc Cert.UpFRefIdeal.main_arg0)
          ∧ r.2.mem ((c.tc : Thread Cert.UpFRefIdeal.nD Cert.UpFRefIdeal.τ).loc Cert.UpFRefIdeal.main_arg1) = m' ((c.tc : Thread Cert.UpFRefIdeal.nD Cert.UpFRefIdeal.τ).loc Cert.UpFRefIdeal.main_arg1))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)
      ∧ m' ((c.tc : Thread Cert.RmsRefIdeal.nD Cert.RmsRefIdeal.τ).loc Cert.RmsRefIdeal.main_arg3) = m ((c.tc : Thread Cert.RmsIdeal.nD Cert.RmsIdeal.τ).loc Cert.RmsIdeal.main_arg3)) →
    ∃ (v0 : (c : Dev Cert.RmsIdeal.nD) → Buf (Elt Ideal) ((c.tc : Thread Cert.RmsIdeal.nD Cert.RmsIdeal.τ).loc Cert.RmsIdeal.main_v0_0)) (v1 : (c : Dev Cert.RmsIdeal.nD) → Buf (Elt Ideal) ((c.tc : Thread Cert.RmsIdeal.nD Cert.RmsIdeal.τ).loc Cert.RmsIdeal.main_v0_1)) (v2 : (c : Dev Cert.RmsIdeal.nD) → Buf (Elt Ideal) ((c.tc : Thread Cert.RmsIdeal.nD Cert.RmsIdeal.τ).loc Cert.RmsIdeal.main_v0_2)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0_0) = v0 c
          ∧ r.2.mem ((c.tc : Thread Cert.RmsIdeal.nD Cert.RmsIdeal.τ).loc Cert.RmsIdeal.main_v0_1) = v1 c
          ∧ r.2.mem ((c.tc : Thread Cert.RmsIdeal.nD Cert.RmsIdeal.τ).loc Cert.RmsIdeal.main_v0_2) = v2 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v39) = v0 c
          ∧ r.2.mem ((c.tc : Thread Cert.RmsRefIdeal.nD Cert.RmsRefIdeal.τ).loc Cert.RmsRefIdeal.main_v40) = v1 c
          ∧ r.2.mem ((c.tc : Thread Cert.RmsRefIdeal.nD Cert.RmsRefIdeal.τ).loc Cert.RmsRefIdeal.main_v17) = v2 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3))

def preserves_OutF_OutFIdeal : Prop :=
  True

def algebraic_OutFIdeal_OutFRefIdeal [hOutFIdeal : Cert.OutFIdeal.Facts] [hOutFRefIdeal : Cert.OutFRefIdeal.Facts] : Prop :=
  ∀ (m : (ℓ : Loc Cert.OutFIdeal.nD Cert.OutFIdeal.τ Cert.OutFIdeal.sig) → Buf (Elt Ideal) ℓ) (g : Dev Cert.OutFIdeal.nD → PrngReg)
    (m' : (ℓ : Loc Cert.OutFRefIdeal.nD Cert.OutFRefIdeal.τ Cert.OutFRefIdeal.sig) → Buf (Elt Ideal) ℓ) (g' : Dev Cert.OutFRefIdeal.nD → PrngReg), Pre_OutFIdeal m →
    (∀ c : Dev Cert.OutFIdeal.nD,
      m' ((c.tc : Thread Cert.OutFRefIdeal.nD Cert.OutFRefIdeal.τ).loc Cert.OutFRefIdeal.main_arg0) = m ((c.tc : Thread Cert.OutFIdeal.nD Cert.OutFIdeal.τ).loc Cert.OutFIdeal.main_arg0)
      ∧ m' ((c.tc : Thread Cert.OutFRefIdeal.nD Cert.OutFRefIdeal.τ).loc Cert.OutFRefIdeal.main_arg1) = m ((c.tc : Thread Cert.OutFIdeal.nD Cert.OutFIdeal.τ).loc Cert.OutFIdeal.main_arg1)
      ∧ m' ((c.tc : Thread Cert.OutFRefIdeal.nD Cert.OutFRefIdeal.τ).loc Cert.OutFRefIdeal.main_arg2) = m ((c.tc : Thread Cert.OutFIdeal.nD Cert.OutFIdeal.τ).loc Cert.OutFIdeal.main_arg2)
      ∧ m' ((c.tc : Thread Cert.OutFRefIdeal.nD Cert.OutFRefIdeal.τ).loc Cert.OutFRefIdeal.main_arg3) = m ((c.tc : Thread Cert.OutFIdeal.nD Cert.OutFIdeal.τ).loc Cert.OutFIdeal.main_arg3)) →
    ∃ (v0 : (c : Dev Cert.OutFIdeal.nD) → Buf (Elt Ideal) ((c.tc : Thread Cert.OutFIdeal.nD Cert.OutFIdeal.τ).loc Cert.OutFIdeal.main_v0_0)) (v1 : (c : Dev Cert.OutFIdeal.nD) → Buf (Elt Ideal) ((c.tc : Thread Cert.OutFIdeal.nD Cert.OutFIdeal.τ).loc Cert.OutFIdeal.main_v0_1)) (v2 : (c : Dev Cert.OutFIdeal.nD) → Buf (Elt Ideal) ((c.tc : Thread Cert.OutFIdeal.nD Cert.OutFIdeal.τ).loc Cert.OutFIdeal.main_v0_2)),
      θ_run (Cert.OutFIdeal.defs (F := Ideal)) (onTc (τ := Cert.OutFIdeal.τ) (Cert.OutFIdeal.main (F := Ideal))) ⟨m, fun _ => 0, g⟩ (fun r => ∀ c : Dev Cert.OutFIdeal.nD,
          r.2.mem ((c.tc : Thread Cert.OutFIdeal.nD Cert.OutFIdeal.τ).loc Cert.OutFIdeal.main_v0_0) = v0 c
          ∧ r.2.mem ((c.tc : Thread Cert.OutFIdeal.nD Cert.OutFIdeal.τ).loc Cert.OutFIdeal.main_v0_1) = v1 c
          ∧ r.2.mem ((c.tc : Thread Cert.OutFIdeal.nD Cert.OutFIdeal.τ).loc Cert.OutFIdeal.main_v0_2) = v2 c
          ∧ r.2.mem ((c.tc : Thread Cert.OutFIdeal.nD Cert.OutFIdeal.τ).loc Cert.OutFIdeal.main_arg0) = m ((c.tc : Thread Cert.OutFIdeal.nD Cert.OutFIdeal.τ).loc Cert.OutFIdeal.main_arg0)
          ∧ r.2.mem ((c.tc : Thread Cert.OutFIdeal.nD Cert.OutFIdeal.τ).loc Cert.OutFIdeal.main_arg1) = m ((c.tc : Thread Cert.OutFIdeal.nD Cert.OutFIdeal.τ).loc Cert.OutFIdeal.main_arg1)
          ∧ r.2.mem ((c.tc : Thread Cert.OutFIdeal.nD Cert.OutFIdeal.τ).loc Cert.OutFIdeal.main_arg2) = m ((c.tc : Thread Cert.OutFIdeal.nD Cert.OutFIdeal.τ).loc Cert.OutFIdeal.main_arg2)
          ∧ r.2.mem ((c.tc : Thread Cert.OutFIdeal.nD Cert.OutFIdeal.τ).loc Cert.OutFIdeal.main_arg3) = m ((c.tc : Thread Cert.OutFIdeal.nD Cert.OutFIdeal.τ).loc Cert.OutFIdeal.main_arg3))
      ∧ θ_run (Cert.OutFRefIdeal.defs (F := Ideal)) (onTc (τ := Cert.OutFRefIdeal.τ) (Cert.OutFRefIdeal.main (F := Ideal))) ⟨m', fun _ => 0, g'⟩ (fun r => ∀ c : Dev Cert.OutFRefIdeal.nD,
          r.2.mem ((c.tc : Thread Cert.OutFRefIdeal.nD Cert.OutFRefIdeal.τ).loc Cert.OutFRefIdeal.main_v3) = v0 c
          ∧ r.2.mem ((c.tc : Thread Cert.OutFRefIdeal.nD Cert.OutFRefIdeal.τ).loc Cert.OutFRefIdeal.main_v16) = v1 c
          ∧ r.2.mem ((c.tc : Thread Cert.OutFRefIdeal.nD Cert.OutFRefIdeal.τ).loc Cert.OutFRefIdeal.main_v18) = v2 c
          ∧ r.2.mem ((c.tc : Thread Cert.OutFRefIdeal.nD Cert.OutFRefIdeal.τ).loc Cert.OutFRefIdeal.main_arg0) = m' ((c.tc : Thread Cert.OutFRefIdeal.nD Cert.OutFRefIdeal.τ).loc Cert.OutFRefIdeal.main_arg0)
          ∧ r.2.mem ((c.tc : Thread Cert.OutFRefIdeal.nD Cert.OutFRefIdeal.τ).loc Cert.OutFRefIdeal.main_arg1) = m' ((c.tc : Thread Cert.OutFRefIdeal.nD Cert.OutFRefIdeal.τ).loc Cert.OutFRefIdeal.main_arg1)
          ∧ r.2.mem ((c.tc : Thread Cert.OutFRefIdeal.nD Cert.OutFRefIdeal.τ).loc Cert.OutFRefIdeal.main_arg2) = m' ((c.tc : Thread Cert.OutFRefIdeal.nD Cert.OutFRefIdeal.τ).loc Cert.OutFRefIdeal.main_arg2)
          ∧ r.2.mem ((c.tc : Thread Cert.OutFRefIdeal.nD Cert.OutFRefIdeal.τ).loc Cert.OutFRefIdeal.main_arg3) = m' ((c.tc : Thread Cert.OutFRefIdeal.nD Cert.OutFRefIdeal.τ).loc Cert.OutFRefIdeal.main_arg3))

def preserves_DownF_DownFIdeal : Prop :=
  True

def algebraic_DownFIdeal_DownFRefIdeal [hDownFIdeal : Cert.DownFIdeal.Facts] [hDownFRefIdeal : Cert.DownFRefIdeal.Facts] : Prop :=
  ∀ (m : (ℓ : Loc Cert.DownFIdeal.nD Cert.DownFIdeal.τ Cert.DownFIdeal.sig) → Buf (Elt Ideal) ℓ) (g : Dev Cert.DownFIdeal.nD → PrngReg)
    (m' : (ℓ : Loc Cert.DownFRefIdeal.nD Cert.DownFRefIdeal.τ Cert.DownFRefIdeal.sig) → Buf (Elt Ideal) ℓ) (g' : Dev Cert.DownFRefIdeal.nD → PrngReg), Pre_DownFIdeal m →
    (∀ c : Dev Cert.DownFIdeal.nD,
      m' ((c.tc : Thread Cert.DownFRefIdeal.nD Cert.DownFRefIdeal.τ).loc Cert.DownFRefIdeal.main_arg0) = m ((c.tc : Thread Cert.DownFIdeal.nD Cert.DownFIdeal.τ).loc Cert.DownFIdeal.main_arg0)
      ∧ m' ((c.tc : Thread Cert.DownFRefIdeal.nD Cert.DownFRefIdeal.τ).loc Cert.DownFRefIdeal.main_arg1) = m ((c.tc : Thread Cert.DownFIdeal.nD Cert.DownFIdeal.τ).loc Cert.DownFIdeal.main_arg1)
      ∧ m' ((c.tc : Thread Cert.DownFRefIdeal.nD Cert.DownFRefIdeal.τ).loc Cert.DownFRefIdeal.main_arg2) = m ((c.tc : Thread Cert.DownFIdeal.nD Cert.DownFIdeal.τ).loc Cert.DownFIdeal.main_arg2)
      ∧ m' ((c.tc : Thread Cert.DownFRefIdeal.nD Cert.DownFRefIdeal.τ).loc Cert.DownFRefIdeal.main_arg3) = m ((c.tc : Thread Cert.DownFIdeal.nD Cert.DownFIdeal.τ).loc Cert.DownFIdeal.main_arg3)) →
    ∃ (v0 : (c : Dev Cert.DownFIdeal.nD) → Buf (Elt Ideal) ((c.tc : Thread Cert.DownFIdeal.nD Cert.DownFIdeal.τ).loc Cert.DownFIdeal.main_v0_0)) (v1 : (c : Dev Cert.DownFIdeal.nD) → Buf (Elt Ideal) ((c.tc : Thread Cert.DownFIdeal.nD Cert.DownFIdeal.τ).loc Cert.DownFIdeal.main_v0_1)) (v2 : (c : Dev Cert.DownFIdeal.nD) → Buf (Elt Ideal) ((c.tc : Thread Cert.DownFIdeal.nD Cert.DownFIdeal.τ).loc Cert.DownFIdeal.main_v0_2)),
      θ_run (Cert.DownFIdeal.defs (F := Ideal)) (onTc (τ := Cert.DownFIdeal.τ) (Cert.DownFIdeal.main (F := Ideal))) ⟨m, fun _ => 0, g⟩ (fun r => ∀ c : Dev Cert.DownFIdeal.nD,
          r.2.mem ((c.tc : Thread Cert.DownFIdeal.nD Cert.DownFIdeal.τ).loc Cert.DownFIdeal.main_v0_0) = v0 c
          ∧ r.2.mem ((c.tc : Thread Cert.DownFIdeal.nD Cert.DownFIdeal.τ).loc Cert.DownFIdeal.main_v0_1) = v1 c
          ∧ r.2.mem ((c.tc : Thread Cert.DownFIdeal.nD Cert.DownFIdeal.τ).loc Cert.DownFIdeal.main_v0_2) = v2 c
          ∧ r.2.mem ((c.tc : Thread Cert.DownFIdeal.nD Cert.DownFIdeal.τ).loc Cert.DownFIdeal.main_arg0) = m ((c.tc : Thread Cert.DownFIdeal.nD Cert.DownFIdeal.τ).loc Cert.DownFIdeal.main_arg0)
          ∧ r.2.mem ((c.tc : Thread Cert.DownFIdeal.nD Cert.DownFIdeal.τ).loc Cert.DownFIdeal.main_arg1) = m ((c.tc : Thread Cert.DownFIdeal.nD Cert.DownFIdeal.τ).loc Cert.DownFIdeal.main_arg1)
          ∧ r.2.mem ((c.tc : Thread Cert.DownFIdeal.nD Cert.DownFIdeal.τ).loc Cert.DownFIdeal.main_arg2) = m ((c.tc : Thread Cert.DownFIdeal.nD Cert.DownFIdeal.τ).loc Cert.DownFIdeal.main_arg2)
          ∧ r.2.mem ((c.tc : Thread Cert.DownFIdeal.nD Cert.DownFIdeal.τ).loc Cert.DownFIdeal.main_arg3) = m ((c.tc : Thread Cert.DownFIdeal.nD Cert.DownFIdeal.τ).loc Cert.DownFIdeal.main_arg3))
      ∧ θ_run (Cert.DownFRefIdeal.defs (F := Ideal)) (onTc (τ := Cert.DownFRefIdeal.τ) (Cert.DownFRefIdeal.main (F := Ideal))) ⟨m', fun _ => 0, g'⟩ (fun r => ∀ c : Dev Cert.DownFRefIdeal.nD,
          r.2.mem ((c.tc : Thread Cert.DownFRefIdeal.nD Cert.DownFRefIdeal.τ).loc Cert.DownFRefIdeal.main_v3) = v0 c
          ∧ r.2.mem ((c.tc : Thread Cert.DownFRefIdeal.nD Cert.DownFRefIdeal.τ).loc Cert.DownFRefIdeal.main_v16) = v1 c
          ∧ r.2.mem ((c.tc : Thread Cert.DownFRefIdeal.nD Cert.DownFRefIdeal.τ).loc Cert.DownFRefIdeal.main_v18) = v2 c
          ∧ r.2.mem ((c.tc : Thread Cert.DownFRefIdeal.nD Cert.DownFRefIdeal.τ).loc Cert.DownFRefIdeal.main_arg0) = m' ((c.tc : Thread Cert.DownFRefIdeal.nD Cert.DownFRefIdeal.τ).loc Cert.DownFRefIdeal.main_arg0)
          ∧ r.2.mem ((c.tc : Thread Cert.DownFRefIdeal.nD Cert.DownFRefIdeal.τ).loc Cert.DownFRefIdeal.main_arg1) = m' ((c.tc : Thread Cert.DownFRefIdeal.nD Cert.DownFRefIdeal.τ).loc Cert.DownFRefIdeal.main_arg1)
          ∧ r.2.mem ((c.tc : Thread Cert.DownFRefIdeal.nD Cert.DownFRefIdeal.τ).loc Cert.DownFRefIdeal.main_arg2) = m' ((c.tc : Thread Cert.DownFRefIdeal.nD Cert.DownFRefIdeal.τ).loc Cert.DownFRefIdeal.main_arg2)
          ∧ r.2.mem ((c.tc : Thread Cert.DownFRefIdeal.nD Cert.DownFRefIdeal.τ).loc Cert.DownFRefIdeal.main_arg3) = m' ((c.tc : Thread Cert.DownFRefIdeal.nD Cert.DownFRefIdeal.τ).loc Cert.DownFRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v76) = v0 c
          ∧ r.2.mem ((c.tc : Thread Cert.ConvRefIdeal.nD Cert.ConvRefIdeal.τ).loc Cert.ConvRefIdeal.main_v77) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)) (v2 : (c : Dev Cert.MixIdeal.nD) → Buf (Elt Ideal) ((c.tc : Thread Cert.MixIdeal.nD Cert.MixIdeal.τ).loc Cert.MixIdeal.main_v0_2)) (v3 : (c : Dev Cert.MixIdeal.nD) → Buf (Elt Ideal) ((c.tc : Thread Cert.MixIdeal.nD Cert.MixIdeal.τ).loc Cert.MixIdeal.main_v0_3)) (v4 : (c : Dev Cert.MixIdeal.nD) → Buf (Elt Ideal) ((c.tc : Thread Cert.MixIdeal.nD Cert.MixIdeal.τ).loc Cert.MixIdeal.main_v0_4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_v0_2) = v2 c
          ∧ r.2.mem ((c.tc : Thread Cert.MixIdeal.nD Cert.MixIdeal.τ).loc Cert.MixIdeal.main_v0_3) = v3 c
          ∧ r.2.mem ((c.tc : Thread Cert.MixIdeal.nD Cert.MixIdeal.τ).loc Cert.MixIdeal.main_v0_4) = v4 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v24) = v0 c
          ∧ r.2.mem ((c.tc : Thread Cert.MixRefIdeal.nD Cert.MixRefIdeal.τ).loc Cert.MixRefIdeal.main_v40) = v1 c
          ∧ r.2.mem ((c.tc : Thread Cert.MixRefIdeal.nD Cert.MixRefIdeal.τ).loc Cert.MixRefIdeal.main_v39) = v2 c
          ∧ r.2.mem ((c.tc : Thread Cert.MixRefIdeal.nD Cert.MixRefIdeal.τ).loc Cert.MixRefIdeal.main_v38) = v3 c
          ∧ r.2.mem ((c.tc : Thread Cert.MixRefIdeal.nD Cert.MixRefIdeal.τ).loc Cert.MixRefIdeal.main_v30) = v4 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)) →
    ∃ (v0 : (c : Dev Cert.PoolIdeal.nD) → Buf (Elt Ideal) ((c.tc : Thread Cert.PoolIdeal.nD Cert.PoolIdeal.τ).loc Cert.PoolIdeal.main_v0)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v220) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0))

def preserves_FfnMid_FfnMidIdeal : Prop :=
  True

def algebraic_FfnMidIdeal_FfnMidRefIdeal [hFfnMidIdeal : Cert.FfnMidIdeal.Facts] [hFfnMidRefIdeal : Cert.FfnMidRefIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidRefIdeal.nD Cert.FfnMidRefIdeal.τ Cert.FfnMidRefIdeal.sig) → Buf (Elt Ideal) ℓ) (g' : Dev Cert.FfnMidRefIdeal.nD → PrngReg), Pre_FfnMidIdeal m →
    (∀ c : Dev Cert.FfnMidIdeal.nD,
      m' ((c.tc : Thread Cert.FfnMidRefIdeal.nD Cert.FfnMidRefIdeal.τ).loc Cert.FfnMidRefIdeal.main_arg0) = m ((c.tc : Thread Cert.FfnMidIdeal.nD Cert.FfnMidIdeal.τ).loc Cert.FfnMidIdeal.main_arg0)
      ∧ m' ((c.tc : Thread Cert.FfnMidRefIdeal.nD Cert.FfnMidRefIdeal.τ).loc Cert.FfnMidRefIdeal.main_arg1) = m ((c.tc : Thread Cert.FfnMidIdeal.nD Cert.FfnMidIdeal.τ).loc Cert.FfnMidIdeal.main_arg1)
      ∧ m' ((c.tc : Thread Cert.FfnMidRefIdeal.nD Cert.FfnMidRefIdeal.τ).loc Cert.FfnMidRefIdeal.main_arg2) = m ((c.tc : Thread Cert.FfnMidIdeal.nD Cert.FfnMidIdeal.τ).loc Cert.FfnMidIdeal.main_arg2)
      ∧ m' ((c.tc : Thread Cert.FfnMidRefIdeal.nD Cert.FfnMidRefIdeal.τ).loc Cert.FfnMidRefIdeal.main_arg3) = m ((c.tc : Thread Cert.FfnMidIdeal.nD Cert.FfnMidIdeal.τ).loc Cert.FfnMidIdeal.main_arg3)
      ∧ m' ((c.tc : Thread Cert.FfnMidRefIdeal.nD Cert.FfnMidRefIdeal.τ).loc Cert.FfnMidRefIdeal.main_arg4) = m ((c.tc : Thread Cert.FfnMidIdeal.nD Cert.FfnMidIdeal.τ).loc Cert.FfnMidIdeal.main_arg4)) →
    ∃ (v0 : (c : Dev Cert.FfnMidIdeal.nD) → Buf (Elt Ideal) ((c.tc : Thread Cert.FfnMidIdeal.nD Cert.FfnMidIdeal.τ).loc Cert.FfnMidIdeal.main_v44_0)) (v1 : (c : Dev Cert.FfnMidIdeal.nD) → Buf (Elt Ideal) ((c.tc : Thread Cert.FfnMidIdeal.nD Cert.FfnMidIdeal.τ).loc Cert.FfnMidIdeal.main_v44_1)) (v2 : (c : Dev Cert.FfnMidIdeal.nD) → Buf (Elt Ideal) ((c.tc : Thread Cert.FfnMidIdeal.nD Cert.FfnMidIdeal.τ).loc Cert.FfnMidIdeal.main_v44_2)) (v3 : (c : Dev Cert.FfnMidIdeal.nD) → Buf (Elt Ideal) ((c.tc : Thread Cert.FfnMidIdeal.nD Cert.FfnMidIdeal.τ).loc Cert.FfnMidIdeal.main_v44_3)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v44_0) = v0 c
          ∧ r.2.mem ((c.tc : Thread Cert.FfnMidIdeal.nD Cert.FfnMidIdeal.τ).loc Cert.FfnMidIdeal.main_v44_1) = v1 c
          ∧ r.2.mem ((c.tc : Thread Cert.FfnMidIdeal.nD Cert.FfnMidIdeal.τ).loc Cert.FfnMidIdeal.main_v44_2) = v2 c
          ∧ r.2.mem ((c.tc : Thread Cert.FfnMidIdeal.nD Cert.FfnMidIdeal.τ).loc Cert.FfnMidIdeal.main_v44_3) = v3 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
          ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4))
      ∧ θ_run (Cert.FfnMidRefIdeal.defs (F := Ideal)) (onTc (τ := Cert.FfnMidRefIdeal.τ) (Cert.FfnMidRefIdeal.main (F := Ideal))) ⟨m', fun _ => 0, g'⟩ (fun r => ∀ c : Dev Cert.FfnMidRefIdeal.nD,
          r.2.mem ((c.tc : Thread Cert.FfnMidRefIdeal.nD Cert.FfnMidRefIdeal.τ).loc Cert.FfnMidRefIdeal.main_v117) = v0 c
          ∧ r.2.mem ((c.tc : Thread Cert.FfnMidRefIdeal.nD Cert.FfnMidRefIdeal.τ).loc Cert.FfnMidRefIdeal.main_v118) = v1 c
          ∧ r.2.mem ((c.tc : Thread Cert.FfnMidRefIdeal.nD Cert.FfnMidRefIdeal.τ).loc Cert.FfnMidRefIdeal.main_v119) = v2 c
          ∧ r.2.mem ((c.tc : Thread Cert.FfnMidRefIdeal.nD Cert.FfnMidRefIdeal.τ).loc Cert.FfnMidRefIdeal.main_v120) = v3 c
          ∧ r.2.mem ((c.tc : Thread Cert.FfnMidRefIdeal.nD Cert.FfnMidRefIdeal.τ).loc Cert.FfnMidRefIdeal.main_arg0) = m' ((c.tc : Thread Cert.FfnMidRefIdeal.nD Cert.FfnMidRefIdeal.τ).loc Cert.FfnMidRefIdeal.main_arg0)
          ∧ r.2.mem ((c.tc : Thread Cert.FfnMidRefIdeal.nD Cert.FfnMidRefIdeal.τ).loc Cert.FfnMidRefIdeal.main_arg1) = m' ((c.tc : Thread Cert.FfnMidRefIdeal.nD Cert.FfnMidRefIdeal.τ).loc Cert.FfnMidRefIdeal.main_arg1)
          ∧ r.2.mem ((c.tc : Thread Cert.FfnMidRefIdeal.nD Cert.FfnMidRefIdeal.τ).loc Cert.FfnMidRefIdeal.main_arg2) = m' ((c.tc : Thread Cert.FfnMidRefIdeal.nD Cert.FfnMidRefIdeal.τ).loc Cert.FfnMidRefIdeal.main_arg2)
          ∧ r.2.mem ((c.tc : Thread Cert.FfnMidRefIdeal.nD Cert.FfnMidRefIdeal.τ).loc Cert.FfnMidRefIdeal.main_arg3) = m' ((c.tc : Thread Cert.FfnMidRefIdeal.nD Cert.FfnMidRefIdeal.τ).loc Cert.FfnMidRefIdeal.main_arg3)
          ∧ r.2.mem ((c.tc : Thread Cert.FfnMidRefIdeal.nD Cert.FfnMidRefIdeal.τ).loc Cert.FfnMidRefIdeal.main_arg4) = m' ((c.tc : Thread Cert.FfnMidRefIdeal.nD Cert.FfnMidRefIdeal.τ).loc Cert.FfnMidRefIdeal.main_arg4))

def preserves_RmsF_RmsFIdeal : Prop :=
  True

def algebraic_RmsFIdeal_RmsFRefIdeal [hRmsFIdeal : Cert.RmsFIdeal.Facts] [hRmsFRefIdeal : Cert.RmsFRefIdeal.Facts] : Prop :=
  ∀ (m : (ℓ : Loc Cert.RmsFIdeal.nD Cert.RmsFIdeal.τ Cert.RmsFIdeal.sig) → Buf (Elt Ideal) ℓ) (g : Dev Cert.RmsFIdeal.nD → PrngReg)
    (m' : (ℓ : Loc Cert.RmsFRefIdeal.nD Cert.RmsFRefIdeal.τ Cert.RmsFRefIdeal.sig) → Buf (Elt Ideal) ℓ) (g' : Dev Cert.RmsFRefIdeal.nD → PrngReg), Pre_RmsFIdeal m →
    (∀ c : Dev Cert.RmsFIdeal.nD,
      m' ((c.tc : Thread Cert.RmsFRefIdeal.nD Cert.RmsFRefIdeal.τ).loc Cert.RmsFRefIdeal.main_arg0) = m ((c.tc : Thread Cert.RmsFIdeal.nD Cert.RmsFIdeal.τ).loc Cert.RmsFIdeal.main_arg0)
      ∧ m' ((c.tc : Thread Cert.RmsFRefIdeal.nD Cert.RmsFRefIdeal.τ).loc Cert.RmsFRefIdeal.main_arg1) = m ((c.tc : Thread Cert.RmsFIdeal.nD Cert.RmsFIdeal.τ).loc Cert.RmsFIdeal.main_arg1)) →
    ∃ (v0 : (c : Dev Cert.RmsFIdeal.nD) → Buf (Elt Ideal) ((c.tc : Thread Cert.RmsFIdeal.nD Cert.RmsFIdeal.τ).loc Cert.RmsFIdeal.main_v0_0)) (v1 : (c : Dev Cert.RmsFIdeal.nD) → Buf (Elt Ideal) ((c.tc : Thread Cert.RmsFIdeal.nD Cert.RmsFIdeal.τ).loc Cert.RmsFIdeal.main_v0_1)),
      θ_run (Cert.RmsFIdeal.defs (F := Ideal)) (onTc (τ := Cert.RmsFIdeal.τ) (Cert.RmsFIdeal.main (F := Ideal))) ⟨m, fun _ => 0, g⟩ (fun r => ∀ c : Dev Cert.RmsFIdeal.nD,
          r.2.mem ((c.tc : Thread Cert.RmsFIdeal.nD Cert.RmsFIdeal.τ).loc Cert.RmsFIdeal.main_v0_0) = v0 c
          ∧ r.2.mem ((c.tc : Thread Cert.RmsFIdeal.nD Cert.RmsFIdeal.τ).loc Cert.RmsFIdeal.main_v0_1) = v1 c
          ∧ r.2.mem ((c.tc : Thread Cert.RmsFIdeal.nD Cert.RmsFIdeal.τ).loc Cert.RmsFIdeal.main_arg0) = m ((c.tc : Thread Cert.RmsFIdeal.nD Cert.RmsFIdeal.τ).loc Cert.RmsFIdeal.main_arg0)
          ∧ r.2.mem ((c.tc : Thread Cert.RmsFIdeal.nD Cert.RmsFIdeal.τ).loc Cert.RmsFIdeal.main_arg1) = m ((c.tc : Thread Cert.RmsFIdeal.nD Cert.RmsFIdeal.τ).loc Cert.RmsFIdeal.main_arg1))
      ∧ θ_run (Cert.RmsFRefIdeal.defs (F := Ideal)) (onTc (τ := Cert.RmsFRefIdeal.τ) (Cert.RmsFRefIdeal.main (F := Ideal))) ⟨m', fun _ => 0, g'⟩ (fun r => ∀ c : Dev Cert.RmsFRefIdeal.nD,
          r.2.mem ((c.tc : Thread Cert.RmsFRefIdeal.nD Cert.RmsFRefIdeal.τ).loc Cert.RmsFRefIdeal.main_v12) = v0 c
          ∧ r.2.mem ((c.tc : Thread Cert.RmsFRefIdeal.nD Cert.RmsFRefIdeal.τ).loc Cert.RmsFRefIdeal.main_v14) = v1 c
          ∧ r.2.mem ((c.tc : Thread Cert.RmsFRefIdeal.nD Cert.RmsFRefIdeal.τ).loc Cert.RmsFRefIdeal.main_arg0) = m' ((c.tc : Thread Cert.RmsFRefIdeal.nD Cert.RmsFRefIdeal.τ).loc Cert.RmsFRefIdeal.main_arg0)
          ∧ r.2.mem ((c.tc : Thread Cert.RmsFRefIdeal.nD Cert.RmsFRefIdeal.τ).loc Cert.RmsFRefIdeal.main_arg1) = m' ((c.tc : Thread Cert.RmsFRefIdeal.nD Cert.RmsFRefIdeal.τ).loc Cert.RmsFRefIdeal.main_arg1))

def preserves_ConvF_ConvFIdeal : Prop :=
  True

def algebraic_ConvFIdeal_ConvFRefIdeal [hConvFIdeal : Cert.ConvFIdeal.Facts] [hConvFRefIdeal : Cert.ConvFRefIdeal.Facts] : Prop :=
  ∀ (m : (ℓ : Loc Cert.ConvFIdeal.nD Cert.ConvFIdeal.τ Cert.ConvFIdeal.sig) → Buf (Elt Ideal) ℓ) (g : Dev Cert.ConvFIdeal.nD → PrngReg)
    (m' : (ℓ : Loc Cert.ConvFRefIdeal.nD Cert.ConvFRefIdeal.τ Cert.ConvFRefIdeal.sig) → Buf (Elt Ideal) ℓ) (g' : Dev Cert.ConvFRefIdeal.nD → PrngReg), Pre_ConvFIdeal m →
    (∀ c : Dev Cert.ConvFIdeal.nD,
      m' ((c.tc : Thread Cert.ConvFRefIdeal.nD Cert.ConvFRefIdeal.τ).loc Cert.ConvFRefIdeal.main_arg0) = m ((c.tc : Thread Cert.ConvFIdeal.nD Cert.ConvFIdeal.τ).loc Cert.ConvFIdeal.main_arg0)
      ∧ m' ((c.tc : Thread Cert.ConvFRefIdeal.nD Cert.ConvFRefIdeal.τ).loc Cert.ConvFRefIdeal.main_arg1) = m ((c.tc : Thread Cert.ConvFIdeal.nD Cert.ConvFIdeal.τ).loc Cert.ConvFIdeal.main_arg1)) →
    ∃ (v0 : (c : Dev Cert.ConvFIdeal.nD) → Buf (Elt Ideal) ((c.tc : Thread Cert.ConvFIdeal.nD Cert.ConvFIdeal.τ).loc Cert.ConvFIdeal.main_v0)),
      θ_run (Cert.ConvFIdeal.defs (F := Ideal)) (onTc (τ := Cert.ConvFIdeal.τ) (Cert.ConvFIdeal.main (F := Ideal))) ⟨m, fun _ => 0, g⟩ (fun r => ∀ c : Dev Cert.ConvFIdeal.nD,
          r.2.mem ((c.tc : Thread Cert.ConvFIdeal.nD Cert.ConvFIdeal.τ).loc Cert.ConvFIdeal.main_v0) = v0 c
          ∧ r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
          ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1))
      ∧ θ_run (Cert.ConvFRefIdeal.defs (F := Ideal)) (onTc (τ := Cert.ConvFRefIdeal.τ) (Cert.ConvFRefIdeal.main (F := Ideal))) ⟨m', fun _ => 0, g'⟩ (fun r => ∀ c : Dev Cert.ConvFRefIdeal.nD,
          r.2.mem ((c.tc : Thread Cert.ConvFRefIdeal.nD Cert.ConvFRefIdeal.τ).loc Cert.ConvFRefIdeal.main_v28) = v0 c
          ∧ r.2.mem ((c.tc : Thread Cert.ConvFRefIdeal.nD Cert.ConvFRefIdeal.τ).loc Cert.ConvFRefIdeal.main_arg0) = m' ((c.tc : Thread Cert.ConvFRefIdeal.nD Cert.ConvFRefIdeal.τ).loc Cert.ConvFRefIdeal.main_arg0)
          ∧ r.2.mem ((c.tc : Thread Cert.ConvFRefIdeal.nD Cert.ConvFRefIdeal.τ).loc Cert.ConvFRefIdeal.main_arg1) = m' ((c.tc : Thread Cert.ConvFRefIdeal.nD Cert.ConvFRefIdeal.τ).loc Cert.ConvFRefIdeal.main_arg1))

def preserves_PoolF_PoolFIdeal : Prop :=
  True

def algebraic_PoolFIdeal_PoolFRefIdeal [hPoolFIdeal : Cert.PoolFIdeal.Facts] [hPoolFRefIdeal : Cert.PoolFRefIdeal.Facts] : Prop :=
  ∀ (m : (ℓ : Loc Cert.PoolFIdeal.nD Cert.PoolFIdeal.τ Cert.PoolFIdeal.sig) → Buf (Elt Ideal) ℓ) (g : Dev Cert.PoolFIdeal.nD → PrngReg)
    (m' : (ℓ : Loc Cert.PoolFRefIdeal.nD Cert.PoolFRefIdeal.τ Cert.PoolFRefIdeal.sig) → Buf (Elt Ideal) ℓ) (g' : Dev Cert.PoolFRefIdeal.nD → PrngReg), Pre_PoolFIdeal m →
    (∀ c : Dev Cert.PoolFIdeal.nD,
      m' ((c.tc : Thread Cert.PoolFRefIdeal.nD Cert.PoolFRefIdeal.τ).loc Cert.PoolFRefIdeal.main_arg0) = m ((c.tc : Thread Cert.PoolFIdeal.nD Cert.PoolFIdeal.τ).loc Cert.PoolFIdeal.main_arg0)) →
    ∃ (v0 : (c : Dev Cert.PoolFIdeal.nD) → Buf (Elt Ideal) ((c.tc : Thread Cert.PoolFIdeal.nD Cert.PoolFIdeal.τ).loc Cert.PoolFIdeal.main_v0)),
      θ_run (Cert.PoolFIdeal.defs (F := Ideal)) (onTc (τ := Cert.PoolFIdeal.τ) (Cert.PoolFIdeal.main (F := Ideal))) ⟨m, fun _ => 0, g⟩ (fun r => ∀ c : Dev Cert.PoolFIdeal.nD,
          r.2.mem ((c.tc : Thread Cert.PoolFIdeal.nD Cert.PoolFIdeal.τ).loc Cert.PoolFIdeal.main_v0) = v0 c
          ∧ r.2.mem ((c.tc : Thread Cert.PoolFIdeal.nD Cert.PoolFIdeal.τ).loc Cert.PoolFIdeal.main_arg0) = m ((c.tc : Thread Cert.PoolFIdeal.nD Cert.PoolFIdeal.τ).loc Cert.PoolFIdeal.main_arg0))
      ∧ θ_run (Cert.PoolFRefIdeal.defs (F := Ideal)) (onTc (τ := Cert.PoolFRefIdeal.τ) (Cert.PoolFRefIdeal.main (F := Ideal))) ⟨m', fun _ => 0, g'⟩ (fun r => ∀ c : Dev Cert.PoolFRefIdeal.nD,
          r.2.mem ((c.tc : Thread Cert.PoolFRefIdeal.nD Cert.PoolFRefIdeal.τ).loc Cert.PoolFRefIdeal.main_v114) = v0 c
          ∧ r.2.mem ((c.tc : Thread Cert.PoolFRefIdeal.nD Cert.PoolFRefIdeal.τ).loc Cert.PoolFRefIdeal.main_arg0) = m' ((c.tc : Thread Cert.PoolFRefIdeal.nD Cert.PoolFRefIdeal.τ).loc Cert.PoolFRefIdeal.main_arg0))

def preserves_MixF_MixFIdeal : Prop :=
  True

def algebraic_MixFIdeal_MixFRefIdeal [hMixFIdeal : Cert.MixFIdeal.Facts] [hMixFRefIdeal : Cert.MixFRefIdeal.Facts] : Prop :=
  ∀ (m : (ℓ : Loc Cert.MixFIdeal.nD Cert.MixFIdeal.τ Cert.MixFIdeal.sig) → Buf (Elt Ideal) ℓ) (g : Dev Cert.MixFIdeal.nD → PrngReg)
    (m' : (ℓ : Loc Cert.MixFRefIdeal.nD Cert.MixFRefIdeal.τ Cert.MixFRefIdeal.sig) → Buf (Elt Ideal) ℓ) (g' : Dev Cert.MixFRefIdeal.nD → PrngReg), Pre_MixFIdeal m →
    (∀ c : Dev Cert.MixFIdeal.nD,
      m' ((c.tc : Thread Cert.MixFRefIdeal.nD Cert.MixFRefIdeal.τ).loc Cert.MixFRefIdeal.main_arg0) = m ((c.tc : Thread Cert.MixFIdeal.nD Cert.MixFIdeal.τ).loc Cert.MixFIdeal.main_arg0)
      ∧ m' ((c.tc : Thread Cert.MixFRefIdeal.nD Cert.MixFRefIdeal.τ).loc Cert.MixFRefIdeal.main_arg1) = m ((c.tc : Thread Cert.MixFIdeal.nD Cert.MixFIdeal.τ).loc Cert.MixFIdeal.main_arg1)
      ∧ m' ((c.tc : Thread Cert.MixFRefIdeal.nD Cert.MixFRefIdeal.τ).loc Cert.MixFRefIdeal.main_arg2) = m ((c.tc : Thread Cert.MixFIdeal.nD Cert.MixFIdeal.τ).loc Cert.MixFIdeal.main_arg2)
      ∧ m' ((c.tc : Thread Cert.MixFRefIdeal.nD Cert.MixFRefIdeal.τ).loc Cert.MixFRefIdeal.main_arg3) = m ((c.tc : Thread Cert.MixFIdeal.nD Cert.MixFIdeal.τ).loc Cert.MixFIdeal.main_arg3)
      ∧ m' ((c.tc : Thread Cert.MixFRefIdeal.nD Cert.MixFRefIdeal.τ).loc Cert.MixFRefIdeal.main_arg4) = m ((c.tc : Thread Cert.MixFIdeal.nD Cert.MixFIdeal.τ).loc Cert.MixFIdeal.main_arg4)) →
    ∃ (v0 : (c : Dev Cert.MixFIdeal.nD) → Buf (Elt Ideal) ((c.tc : Thread Cert.MixFIdeal.nD Cert.MixFIdeal.τ).loc Cert.MixFIdeal.main_v0_0)) (v1 : (c : Dev Cert.MixFIdeal.nD) → Buf (Elt Ideal) ((c.tc : Thread Cert.MixFIdeal.nD Cert.MixFIdeal.τ).loc Cert.MixFIdeal.main_v0_1)),
      θ_run (Cert.MixFIdeal.defs (F := Ideal)) (onTc (τ := Cert.MixFIdeal.τ) (Cert.MixFIdeal.main (F := Ideal))) ⟨m, fun _ => 0, g⟩ (fun r => ∀ c : Dev Cert.MixFIdeal.nD,
          r.2.mem ((c.tc : Thread Cert.MixFIdeal.nD Cert.MixFIdeal.τ).loc Cert.MixFIdeal.main_v0_0) = v0 c
          ∧ r.2.mem ((c.tc : Thread Cert.MixFIdeal.nD Cert.MixFIdeal.τ).loc Cert.MixFIdeal.main_v0_1) = v1 c
          ∧ r.2.mem ((c.tc : Thread Cert.MixFIdeal.nD Cert.MixFIdeal.τ).loc Cert.MixFIdeal.main_arg0) = m ((c.tc : Thread Cert.MixFIdeal.nD Cert.MixFIdeal.τ).loc Cert.MixFIdeal.main_arg0)
          ∧ r.2.mem ((c.tc : Thread Cert.MixFIdeal.nD Cert.MixFIdeal.τ).loc Cert.MixFIdeal.main_arg1) = m ((c.tc : Thread Cert.MixFIdeal.nD Cert.MixFIdeal.τ).loc Cert.MixFIdeal.main_arg1)
          ∧ r.2.mem ((c.tc : Thread Cert.MixFIdeal.nD Cert.MixFIdeal.τ).loc Cert.MixFIdeal.main_arg2) = m ((c.tc : Thread Cert.MixFIdeal.nD Cert.MixFIdeal.τ).loc Cert.MixFIdeal.main_arg2)
          ∧ r.2.mem ((c.tc : Thread Cert.MixFIdeal.nD Cert.MixFIdeal.τ).loc Cert.MixFIdeal.main_arg3) = m ((c.tc : Thread Cert.MixFIdeal.nD Cert.MixFIdeal.τ).loc Cert.MixFIdeal.main_arg3)
          ∧ r.2.mem ((c.tc : Thread Cert.MixFIdeal.nD Cert.MixFIdeal.τ).loc Cert.MixFIdeal.main_arg4) = m ((c.tc : Thread Cert.MixFIdeal.nD Cert.MixFIdeal.τ).loc Cert.MixFIdeal.main_arg4))
      ∧ θ_run (Cert.MixFRefIdeal.defs (F := Ideal)) (onTc (τ := Cert.MixFRefIdeal.τ) (Cert.MixFRefIdeal.main (F := Ideal))) ⟨m', fun _ => 0, g'⟩ (fun r => ∀ c : Dev Cert.MixFRefIdeal.nD,
          r.2.mem ((c.tc : Thread Cert.MixFRefIdeal.nD Cert.MixFRefIdeal.τ).loc Cert.MixFRefIdeal.main_v17) = v0 c
          ∧ r.2.mem ((c.tc : Thread Cert.MixFRefIdeal.nD Cert.MixFRefIdeal.τ).loc Cert.MixFRefIdeal.main_v19) = v1 c
          ∧ r.2.mem ((c.tc : Thread Cert.MixFRefIdeal.nD Cert.MixFRefIdeal.τ).loc Cert.MixFRefIdeal.main_arg0) = m' ((c.tc : Thread Cert.MixFRefIdeal.nD Cert.MixFRefIdeal.τ).loc Cert.MixFRefIdeal.main_arg0)
          ∧ r.2.mem ((c.tc : Thread Cert.MixFRefIdeal.nD Cert.MixFRefIdeal.τ).loc Cert.MixFRefIdeal.main_arg1) = m' ((c.tc : Thread Cert.MixFRefIdeal.nD Cert.MixFRefIdeal.τ).loc Cert.MixFRefIdeal.main_arg1)
          ∧ r.2.mem ((c.tc : Thread Cert.MixFRefIdeal.nD Cert.MixFRefIdeal.τ).loc Cert.MixFRefIdeal.main_arg2) = m' ((c.tc : Thread Cert.MixFRefIdeal.nD Cert.MixFRefIdeal.τ).loc Cert.MixFRefIdeal.main_arg2)
          ∧ r.2.mem ((c.tc : Thread Cert.MixFRefIdeal.nD Cert.MixFRefIdeal.τ).loc Cert.MixFRefIdeal.main_arg3) = m' ((c.tc : Thread Cert.MixFRefIdeal.nD Cert.MixFRefIdeal.τ).loc Cert.MixFRefIdeal.main_arg3)
          ∧ r.2.mem ((c.tc : Thread Cert.MixFRefIdeal.nD Cert.MixFRefIdeal.τ).loc Cert.MixFRefIdeal.main_arg4) = m' ((c.tc : Thread Cert.MixFRefIdeal.nD Cert.MixFRefIdeal.τ).loc Cert.MixFRefIdeal.main_arg4))

def preserves_FfnF_FfnFIdeal : Prop :=
  True

def algebraic_FfnFIdeal_FfnFRefIdeal [hFfnFIdeal : Cert.FfnFIdeal.Facts] [hFfnFRefIdeal : Cert.FfnFRefIdeal.Facts] : Prop :=
  ∀ (m : (ℓ : Loc Cert.FfnFIdeal.nD Cert.FfnFIdeal.τ Cert.FfnFIdeal.sig) → Buf (Elt Ideal) ℓ) (g : Dev Cert.FfnFIdeal.nD → PrngReg)
    (m' : (ℓ : Loc Cert.FfnFRefIdeal.nD Cert.FfnFRefIdeal.τ Cert.FfnFRefIdeal.sig) → Buf (Elt Ideal) ℓ) (g' : Dev Cert.FfnFRefIdeal.nD → PrngReg), Pre_FfnFIdeal m →
    (∀ c : Dev Cert.FfnFIdeal.nD,
      m' ((c.tc : Thread Cert.FfnFRefIdeal.nD Cert.FfnFRefIdeal.τ).loc Cert.FfnFRefIdeal.main_arg0) = m ((c.tc : Thread Cert.FfnFIdeal.nD Cert.FfnFIdeal.τ).loc Cert.FfnFIdeal.main_arg0)
      ∧ m' ((c.tc : Thread Cert.FfnFRefIdeal.nD Cert.FfnFRefIdeal.τ).loc Cert.FfnFRefIdeal.main_arg1) = m ((c.tc : Thread Cert.FfnFIdeal.nD Cert.FfnFIdeal.τ).loc Cert.FfnFIdeal.main_arg1)
      ∧ m' ((c.tc : Thread Cert.FfnFRefIdeal.nD Cert.FfnFRefIdeal.τ).loc Cert.FfnFRefIdeal.main_arg2) = m ((c.tc : Thread Cert.FfnFIdeal.nD Cert.FfnFIdeal.τ).loc Cert.FfnFIdeal.main_arg2)
      ∧ m' ((c.tc : Thread Cert.FfnFRefIdeal.nD Cert.FfnFRefIdeal.τ).loc Cert.FfnFRefIdeal.main_arg3) = m ((c.tc : Thread Cert.FfnFIdeal.nD Cert.FfnFIdeal.τ).loc Cert.FfnFIdeal.main_arg3)) →
    ∃ (v0 : (c : Dev Cert.FfnFIdeal.nD) → Buf (Elt Ideal) ((c.tc : Thread Cert.FfnFIdeal.nD Cert.FfnFIdeal.τ).loc Cert.FfnFIdeal.main_v0_0)) (v1 : (c : Dev Cert.FfnFIdeal.nD) → Buf (Elt Ideal) ((c.tc : Thread Cert.FfnFIdeal.nD Cert.FfnFIdeal.τ).loc Cert.FfnFIdeal.main_v0_1)) (v2 : (c : Dev Cert.FfnFIdeal.nD) → Buf (Elt Ideal) ((c.tc : Thread Cert.FfnFIdeal.nD Cert.FfnFIdeal.τ).loc Cert.FfnFIdeal.main_v0_2)) (v3 : (c : Dev Cert.FfnFIdeal.nD) → Buf (Elt Ideal) ((c.tc : Thread Cert.FfnFIdeal.nD Cert.FfnFIdeal.τ).loc Cert.FfnFIdeal.main_v0_3)),
      θ_run (Cert.FfnFIdeal.defs (F := Ideal)) (onTc (τ := Cert.FfnFIdeal.τ) (Cert.FfnFIdeal.main (F := Ideal))) ⟨m, fun _ => 0, g⟩ (fun r => ∀ c : Dev Cert.FfnFIdeal.nD,
          r.2.mem ((c.tc : Thread Cert.FfnFIdeal.nD Cert.FfnFIdeal.τ).loc Cert.FfnFIdeal.main_v0_0) = v0 c
          ∧ r.2.mem ((c.tc : Thread Cert.FfnFIdeal.nD Cert.FfnFIdeal.τ).loc Cert.FfnFIdeal.main_v0_1) = v1 c
          ∧ r.2.mem ((c.tc : Thread Cert.FfnFIdeal.nD Cert.FfnFIdeal.τ).loc Cert.FfnFIdeal.main_v0_2) = v2 c
          ∧ r.2.mem ((c.tc : Thread Cert.FfnFIdeal.nD Cert.FfnFIdeal.τ).loc Cert.FfnFIdeal.main_v0_3) = v3 c
          ∧ r.2.mem ((c.tc : Thread Cert.FfnFIdeal.nD Cert.FfnFIdeal.τ).loc Cert.FfnFIdeal.main_arg0) = m ((c.tc : Thread Cert.FfnFIdeal.nD Cert.FfnFIdeal.τ).loc Cert.FfnFIdeal.main_arg0)
          ∧ r.2.mem ((c.tc : Thread Cert.FfnFIdeal.nD Cert.FfnFIdeal.τ).loc Cert.FfnFIdeal.main_arg1) = m ((c.tc : Thread Cert.FfnFIdeal.nD Cert.FfnFIdeal.τ).loc Cert.FfnFIdeal.main_arg1)
          ∧ r.2.mem ((c.tc : Thread Cert.FfnFIdeal.nD Cert.FfnFIdeal.τ).loc Cert.FfnFIdeal.main_arg2) = m ((c.tc : Thread Cert.FfnFIdeal.nD Cert.FfnFIdeal.τ).loc Cert.FfnFIdeal.main_arg2)
          ∧ r.2.mem ((c.tc : Thread Cert.FfnFIdeal.nD Cert.FfnFIdeal.τ).loc Cert.FfnFIdeal.main_arg3) = m ((c.tc : Thread Cert.FfnFIdeal.nD Cert.FfnFIdeal.τ).loc Cert.FfnFIdeal.main_arg3))
      ∧ θ_run (Cert.FfnFRefIdeal.defs (F := Ideal)) (onTc (τ := Cert.FfnFRefIdeal.τ) (Cert.FfnFRefIdeal.main (F := Ideal))) ⟨m', fun _ => 0, g'⟩ (fun r => ∀ c : Dev Cert.FfnFRefIdeal.nD,
          r.2.mem ((c.tc : Thread Cert.FfnFRefIdeal.nD Cert.FfnFRefIdeal.τ).loc Cert.FfnFRefIdeal.main_v21) = v0 c
          ∧ r.2.mem ((c.tc : Thread Cert.FfnFRefIdeal.nD Cert.FfnFRefIdeal.τ).loc Cert.FfnFRefIdeal.main_v43) = v1 c
          ∧ r.2.mem ((c.tc : Thread Cert.FfnFRefIdeal.nD Cert.FfnFRefIdeal.τ).loc Cert.FfnFRefIdeal.main_v46) = v2 c
          ∧ r.2.mem ((c.tc : Thread Cert.FfnFRefIdeal.nD Cert.FfnFRefIdeal.τ).loc Cert.FfnFRefIdeal.main_v48) = v3 c
          ∧ r.2.mem ((c.tc : Thread Cert.FfnFRefIdeal.nD Cert.FfnFRefIdeal.τ).loc Cert.FfnFRefIdeal.main_arg0) = m' ((c.tc : Thread Cert.FfnFRefIdeal.nD Cert.FfnFRefIdeal.τ).loc Cert.FfnFRefIdeal.main_arg0)
          ∧ r.2.mem ((c.tc : Thread Cert.FfnFRefIdeal.nD Cert.FfnFRefIdeal.τ).loc Cert.FfnFRefIdeal.main_arg1) = m' ((c.tc : Thread Cert.FfnFRefIdeal.nD Cert.FfnFRefIdeal.τ).loc Cert.FfnFRefIdeal.main_arg1)
          ∧ r.2.mem ((c.tc : Thread Cert.FfnFRefIdeal.nD Cert.FfnFRefIdeal.τ).loc Cert.FfnFRefIdeal.main_arg2) = m' ((c.tc : Thread Cert.FfnFRefIdeal.nD Cert.FfnFRefIdeal.τ).loc Cert.FfnFRefIdeal.main_arg2)
          ∧ r.2.mem ((c.tc : Thread Cert.FfnFRefIdeal.nD Cert.FfnFRefIdeal.τ).loc Cert.FfnFRefIdeal.main_arg3) = m' ((c.tc : Thread Cert.FfnFRefIdeal.nD Cert.FfnFRefIdeal.τ).loc Cert.FfnFRefIdeal.main_arg3))

def preserves_DownL_DownLIdeal : Prop :=
  True

def algebraic_DownLIdeal_DownLRefIdeal [hDownLIdeal : Cert.DownLIdeal.Facts] [hDownLRefIdeal : Cert.DownLRefIdeal.Facts] : Prop :=
  ∀ (m : (ℓ : Loc Cert.DownLIdeal.nD Cert.DownLIdeal.τ Cert.DownLIdeal.sig) → Buf (Elt Ideal) ℓ) (g : Dev Cert.DownLIdeal.nD → PrngReg)
    (m' : (ℓ : Loc Cert.DownLRefIdeal.nD Cert.DownLRefIdeal.τ Cert.DownLRefIdeal.sig) → Buf (Elt Ideal) ℓ) (g' : Dev Cert.DownLRefIdeal.nD → PrngReg), Pre_DownLIdeal m →
    (∀ c : Dev Cert.DownLIdeal.nD,
      m' ((c.tc : Thread Cert.DownLRefIdeal.nD Cert.DownLRefIdeal.τ).loc Cert.DownLRefIdeal.main_arg0) = m ((c.tc : Thread Cert.DownLIdeal.nD Cert.DownLIdeal.τ).loc Cert.DownLIdeal.main_arg0)
      ∧ m' ((c.tc : Thread Cert.DownLRefIdeal.nD Cert.DownLRefIdeal.τ).loc Cert.DownLRefIdeal.main_arg1) = m ((c.tc : Thread Cert.DownLIdeal.nD Cert.DownLIdeal.τ).loc Cert.DownLIdeal.main_arg1)
      ∧ m' ((c.tc : Thread Cert.DownLRefIdeal.nD Cert.DownLRefIdeal.τ).loc Cert.DownLRefIdeal.main_arg2) = m ((c.tc : Thread Cert.DownLIdeal.nD Cert.DownLIdeal.τ).loc Cert.DownLIdeal.main_arg2)) →
    ∃ (v0 : (c : Dev Cert.DownLIdeal.nD) → Buf (Elt Ideal) ((c.tc : Thread Cert.DownLIdeal.nD Cert.DownLIdeal.τ).loc Cert.DownLIdeal.main_v0)),
      θ_run (Cert.DownLIdeal.defs (F := Ideal)) (onTc (τ := Cert.DownLIdeal.τ) (Cert.DownLIdeal.main (F := Ideal))) ⟨m, fun _ => 0, g⟩ (fun r => ∀ c : Dev Cert.DownLIdeal.nD,
          r.2.mem ((c.tc : Thread Cert.DownLIdeal.nD Cert.DownLIdeal.τ).loc Cert.DownLIdeal.main_v0) = v0 c
          ∧ r.2.mem ((c.tc : Thread Cert.DownLIdeal.nD Cert.DownLIdeal.τ).loc Cert.DownLIdeal.main_arg0) = m ((c.tc : Thread Cert.DownLIdeal.nD Cert.DownLIdeal.τ).loc Cert.DownLIdeal.main_arg0)
          ∧ r.2.mem ((c.tc : Thread Cert.DownLIdeal.nD Cert.DownLIdeal.τ).loc Cert.DownLIdeal.main_arg1) = m ((c.tc : Thread Cert.DownLIdeal.nD Cert.DownLIdeal.τ).loc Cert.DownLIdeal.main_arg1)
          ∧ r.2.mem ((c.tc : Thread Cert.DownLIdeal.nD Cert.DownLIdeal.τ).loc Cert.DownLIdeal.main_arg2) = m ((c.tc : Thread Cert.DownLIdeal.nD Cert.DownLIdeal.τ).loc Cert.DownLIdeal.main_arg2))
      ∧ θ_run (Cert.DownLRefIdeal.defs (F := Ideal)) (onTc (τ := Cert.DownLRefIdeal.τ) (Cert.DownLRefIdeal.main (F := Ideal))) ⟨m', fun _ => 0, g'⟩ (fun r => ∀ c : Dev Cert.DownLRefIdeal.nD,
          r.2.mem ((c.tc : Thread Cert.DownLRefIdeal.nD Cert.DownLRefIdeal.τ).loc Cert.DownLRefIdeal.main_v3) = v0 c
          ∧ r.2.mem ((c.tc : Thread Cert.DownLRefIdeal.nD Cert.DownLRefIdeal.τ).loc Cert.DownLRefIdeal.main_arg0) = m' ((c.tc : Thread Cert.DownLRefIdeal.nD Cert.DownLRefIdeal.τ).loc Cert.DownLRefIdeal.main_arg0)
          ∧ r.2.mem ((c.tc : Thread Cert.DownLRefIdeal.nD Cert.DownLRefIdeal.τ).loc Cert.DownLRefIdeal.main_arg1) = m' ((c.tc : Thread Cert.DownLRefIdeal.nD Cert.DownLRefIdeal.τ).loc Cert.DownLRefIdeal.main_arg1)
          ∧ r.2.mem ((c.tc : Thread Cert.DownLRefIdeal.nD Cert.DownLRefIdeal.τ).loc Cert.DownLRefIdeal.main_arg2) = m' ((c.tc : Thread Cert.DownLRefIdeal.nD Cert.DownLRefIdeal.τ).loc Cert.DownLRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)) (v3 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_v0_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v52) = v0 c
          ∧ r.2.mem ((c.tc : Thread Cert.LossRefIdeal.nD Cert.LossRefIdeal.τ).loc Cert.LossRefIdeal.main_v51) = v1 c
          ∧ r.2.mem ((c.tc : Thread Cert.LossRefIdeal.nD Cert.LossRefIdeal.τ).loc Cert.LossRefIdeal.main_v53) = v2 c
          ∧ r.2.mem ((c.tc : Thread Cert.LossRefIdeal.nD Cert.LossRefIdeal.τ).loc Cert.LossRefIdeal.main_v35) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_AdIn_AdInIdeal : Prop :=
  True

def algebraic_AdInIdeal_AdInRefIdeal [hAdInIdeal : Cert.AdInIdeal.Facts] [hAdInRefIdeal : Cert.AdInRefIdeal.Facts] : Prop :=
  ∀ (m : (ℓ : Loc Cert.AdInIdeal.nD Cert.AdInIdeal.τ Cert.AdInIdeal.sig) → Buf (Elt Ideal) ℓ) (g : Dev Cert.AdInIdeal.nD → PrngReg)
    (m' : (ℓ : Loc Cert.AdInRefIdeal.nD Cert.AdInRefIdeal.τ Cert.AdInRefIdeal.sig) → Buf (Elt Ideal) ℓ) (g' : Dev Cert.AdInRefIdeal.nD → PrngReg), Pre_AdInIdeal m →
    (∀ c : Dev Cert.AdInIdeal.nD,
      m' ((c.tc : Thread Cert.AdInRefIdeal.nD Cert.AdInRefIdeal.τ).loc Cert.AdInRefIdeal.main_arg0) = m ((c.tc : Thread Cert.AdInIdeal.nD Cert.AdInIdeal.τ).loc Cert.AdInIdeal.main_arg0)
      ∧ m' ((c.tc : Thread Cert.AdInRefIdeal.nD Cert.AdInRefIdeal.τ).loc Cert.AdInRefIdeal.main_arg1) = m ((c.tc : Thread Cert.AdInIdeal.nD Cert.AdInIdeal.τ).loc Cert.AdInIdeal.main_arg1)
      ∧ m' ((c.tc : Thread Cert.AdInRefIdeal.nD Cert.AdInRefIdeal.τ).loc Cert.AdInRefIdeal.main_arg2) = m ((c.tc : Thread Cert.AdInIdeal.nD Cert.AdInIdeal.τ).loc Cert.AdInIdeal.main_arg2)
      ∧ m' ((c.tc : Thread Cert.AdInRefIdeal.nD Cert.AdInRefIdeal.τ).loc Cert.AdInRefIdeal.main_arg3) = m ((c.tc : Thread Cert.AdInIdeal.nD Cert.AdInIdeal.τ).loc Cert.AdInIdeal.main_arg3)) →
    ∃ (v0 : (c : Dev Cert.AdInIdeal.nD) → Buf (Elt Ideal) ((c.tc : Thread Cert.AdInIdeal.nD Cert.AdInIdeal.τ).loc Cert.AdInIdeal.main_v4_0)) (v1 : (c : Dev Cert.AdInIdeal.nD) → Buf (Elt Ideal) ((c.tc : Thread Cert.AdInIdeal.nD Cert.AdInIdeal.τ).loc Cert.AdInIdeal.main_v4_1)) (v2 : (c : Dev Cert.AdInIdeal.nD) → Buf (Elt Ideal) ((c.tc : Thread Cert.AdInIdeal.nD Cert.AdInIdeal.τ).loc Cert.AdInIdeal.main_v4_2)),
      θ_run (Cert.AdInIdeal.defs (F := Ideal)) (onTc (τ := Cert.AdInIdeal.τ) (Cert.AdInIdeal.main (F := Ideal))) ⟨m, fun _ => 0, g⟩ (fun r => ∀ c : Dev Cert.AdInIdeal.nD,
          r.2.mem ((c.tc : Thread Cert.AdInIdeal.nD Cert.AdInIdeal.τ).loc Cert.AdInIdeal.main_v4_0) = v0 c
          ∧ r.2.mem ((c.tc : Thread Cert.AdInIdeal.nD Cert.AdInIdeal.τ).loc Cert.AdInIdeal.main_v4_1) = v1 c
          ∧ r.2.mem ((c.tc : Thread Cert.AdInIdeal.nD Cert.AdInIdeal.τ).loc Cert.AdInIdeal.main_v4_2) = v2 c
          ∧ r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
          ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
          ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
          ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ θ_run (Cert.AdInRefIdeal.defs (F := Ideal)) (onTc (τ := Cert.AdInRefIdeal.τ) (Cert.AdInRefIdeal.main (F := Ideal))) ⟨m', fun _ => 0, g'⟩ (fun r => ∀ c : Dev Cert.AdInRefIdeal.nD,
          r.2.mem ((c.tc : Thread Cert.AdInRefIdeal.nD Cert.AdInRefIdeal.τ).loc Cert.AdInRefIdeal.main_v24) = v0 c
          ∧ r.2.mem ((c.tc : Thread Cert.AdInRefIdeal.nD Cert.AdInRefIdeal.τ).loc Cert.AdInRefIdeal.main_v25) = v1 c
          ∧ r.2.mem ((c.tc : Thread Cert.AdInRefIdeal.nD Cert.AdInRefIdeal.τ).loc Cert.AdInRefIdeal.main_v26) = v2 c
          ∧ r.2.mem ((c.tc : Thread Cert.AdInRefIdeal.nD Cert.AdInRefIdeal.τ).loc Cert.AdInRefIdeal.main_arg0) = m' ((c.tc : Thread Cert.AdInRefIdeal.nD Cert.AdInRefIdeal.τ).loc Cert.AdInRefIdeal.main_arg0)
          ∧ r.2.mem ((c.tc : Thread Cert.AdInRefIdeal.nD Cert.AdInRefIdeal.τ).loc Cert.AdInRefIdeal.main_arg1) = m' ((c.tc : Thread Cert.AdInRefIdeal.nD Cert.AdInRefIdeal.τ).loc Cert.AdInRefIdeal.main_arg1)
          ∧ r.2.mem ((c.tc : Thread Cert.AdInRefIdeal.nD Cert.AdInRefIdeal.τ).loc Cert.AdInRefIdeal.main_arg2) = m' ((c.tc : Thread Cert.AdInRefIdeal.nD Cert.AdInRefIdeal.τ).loc Cert.AdInRefIdeal.main_arg2)
          ∧ r.2.mem ((c.tc : Thread Cert.AdInRefIdeal.nD Cert.AdInRefIdeal.τ).loc Cert.AdInRefIdeal.main_arg3) = m' ((c.tc : Thread Cert.AdInRefIdeal.nD Cert.AdInRefIdeal.τ).loc Cert.AdInRefIdeal.main_arg3))

def preserves_AdUp_AdUpIdeal : Prop :=
  True

def algebraic_AdUpIdeal_AdUpRefIdeal [hAdUpIdeal : Cert.AdUpIdeal.Facts] [hAdUpRefIdeal : Cert.AdUpRefIdeal.Facts] : Prop :=
  ∀ (m : (ℓ : Loc Cert.AdUpIdeal.nD Cert.AdUpIdeal.τ Cert.AdUpIdeal.sig) → Buf (Elt Ideal) ℓ) (g : Dev Cert.AdUpIdeal.nD → PrngReg)
    (m' : (ℓ : Loc Cert.AdUpRefIdeal.nD Cert.AdUpRefIdeal.τ Cert.AdUpRefIdeal.sig) → Buf (Elt Ideal) ℓ) (g' : Dev Cert.AdUpRefIdeal.nD → PrngReg), Pre_AdUpIdeal m →
    (∀ c : Dev Cert.AdUpIdeal.nD,
      m' ((c.tc : Thread Cert.AdUpRefIdeal.nD Cert.AdUpRefIdeal.τ).loc Cert.AdUpRefIdeal.main_arg0) = m ((c.tc : Thread Cert.AdUpIdeal.nD Cert.AdUpIdeal.τ).loc Cert.AdUpIdeal.main_arg0)
      ∧ m' ((c.tc : Thread Cert.AdUpRefIdeal.nD Cert.AdUpRefIdeal.τ).loc Cert.AdUpRefIdeal.main_arg1) = m ((c.tc : Thread Cert.AdUpIdeal.nD Cert.AdUpIdeal.τ).loc Cert.AdUpIdeal.main_arg1)
      ∧ m' ((c.tc : Thread Cert.AdUpRefIdeal.nD Cert.AdUpRefIdeal.τ).loc Cert.AdUpRefIdeal.main_arg2) = m ((c.tc : Thread Cert.AdUpIdeal.nD Cert.AdUpIdeal.τ).loc Cert.AdUpIdeal.main_arg2)
      ∧ m' ((c.tc : Thread Cert.AdUpRefIdeal.nD Cert.AdUpRefIdeal.τ).loc Cert.AdUpRefIdeal.main_arg3) = m ((c.tc : Thread Cert.AdUpIdeal.nD Cert.AdUpIdeal.τ).loc Cert.AdUpIdeal.main_arg3)) →
    ∃ (v0 : (c : Dev Cert.AdUpIdeal.nD) → Buf (Elt Ideal) ((c.tc : Thread Cert.AdUpIdeal.nD Cert.AdUpIdeal.τ).loc Cert.AdUpIdeal.main_v4_0)) (v1 : (c : Dev Cert.AdUpIdeal.nD) → Buf (Elt Ideal) ((c.tc : Thread Cert.AdUpIdeal.nD Cert.AdUpIdeal.τ).loc Cert.AdUpIdeal.main_v4_1)) (v2 : (c : Dev Cert.AdUpIdeal.nD) → Buf (Elt Ideal) ((c.tc : Thread Cert.AdUpIdeal.nD Cert.AdUpIdeal.τ).loc Cert.AdUpIdeal.main_v4_2)),
      θ_run (Cert.AdUpIdeal.defs (F := Ideal)) (onTc (τ := Cert.AdUpIdeal.τ) (Cert.AdUpIdeal.main (F := Ideal))) ⟨m, fun _ => 0, g⟩ (fun r => ∀ c : Dev Cert.AdUpIdeal.nD,
          r.2.mem ((c.tc : Thread Cert.AdUpIdeal.nD Cert.AdUpIdeal.τ).loc Cert.AdUpIdeal.main_v4_0) = v0 c
          ∧ r.2.mem ((c.tc : Thread Cert.AdUpIdeal.nD Cert.AdUpIdeal.τ).loc Cert.AdUpIdeal.main_v4_1) = v1 c
          ∧ r.2.mem ((c.tc : Thread Cert.AdUpIdeal.nD Cert.AdUpIdeal.τ).loc Cert.AdUpIdeal.main_v4_2) = v2 c
          ∧ r.2.mem ((c.tc : Thread Cert.AdUpIdeal.nD Cert.AdUpIdeal.τ).loc Cert.AdUpIdeal.main_arg0) = m ((c.tc : Thread Cert.AdUpIdeal.nD Cert.AdUpIdeal.τ).loc Cert.AdUpIdeal.main_arg0)
          ∧ r.2.mem ((c.tc : Thread Cert.AdUpIdeal.nD Cert.AdUpIdeal.τ).loc Cert.AdUpIdeal.main_arg1) = m ((c.tc : Thread Cert.AdUpIdeal.nD Cert.AdUpIdeal.τ).loc Cert.AdUpIdeal.main_arg1)
          ∧ r.2.mem ((c.tc : Thread Cert.AdUpIdeal.nD Cert.AdUpIdeal.τ).loc Cert.AdUpIdeal.main_arg2) = m ((c.tc : Thread Cert.AdUpIdeal.nD Cert.AdUpIdeal.τ).loc Cert.AdUpIdeal.main_arg2)
          ∧ r.2.mem ((c.tc : Thread Cert.AdUpIdeal.nD Cert.AdUpIdeal.τ).loc Cert.AdUpIdeal.main_arg3) = m ((c.tc : Thread Cert.AdUpIdeal.nD Cert.AdUpIdeal.τ).loc Cert.AdUpIdeal.main_arg3))
      ∧ θ_run (Cert.AdUpRefIdeal.defs (F := Ideal)) (onTc (τ := Cert.AdUpRefIdeal.τ) (Cert.AdUpRefIdeal.main (F := Ideal))) ⟨m', fun _ => 0, g'⟩ (fun r => ∀ c : Dev Cert.AdUpRefIdeal.nD,
          r.2.mem ((c.tc : Thread Cert.AdUpRefIdeal.nD Cert.AdUpRefIdeal.τ).loc Cert.AdUpRefIdeal.main_v24) = v0 c
          ∧ r.2.mem ((c.tc : Thread Cert.AdUpRefIdeal.nD Cert.AdUpRefIdeal.τ).loc Cert.AdUpRefIdeal.main_v25) = v1 c
          ∧ r.2.mem ((c.tc : Thread Cert.AdUpRefIdeal.nD Cert.AdUpRefIdeal.τ).loc Cert.AdUpRefIdeal.main_v26) = v2 c
          ∧ r.2.mem ((c.tc : Thread Cert.AdUpRefIdeal.nD Cert.AdUpRefIdeal.τ).loc Cert.AdUpRefIdeal.main_arg0) = m' ((c.tc : Thread Cert.AdUpRefIdeal.nD Cert.AdUpRefIdeal.τ).loc Cert.AdUpRefIdeal.main_arg0)
          ∧ r.2.mem ((c.tc : Thread Cert.AdUpRefIdeal.nD Cert.AdUpRefIdeal.τ).loc Cert.AdUpRefIdeal.main_arg1) = m' ((c.tc : Thread Cert.AdUpRefIdeal.nD Cert.AdUpRefIdeal.τ).loc Cert.AdUpRefIdeal.main_arg1)
          ∧ r.2.mem ((c.tc : Thread Cert.AdUpRefIdeal.nD Cert.AdUpRefIdeal.τ).loc Cert.AdUpRefIdeal.main_arg2) = m' ((c.tc : Thread Cert.AdUpRefIdeal.nD Cert.AdUpRefIdeal.τ).loc Cert.AdUpRefIdeal.main_arg2)
          ∧ r.2.mem ((c.tc : Thread Cert.AdUpRefIdeal.nD Cert.AdUpRefIdeal.τ).loc Cert.AdUpRefIdeal.main_arg3) = m' ((c.tc : Thread Cert.AdUpRefIdeal.nD Cert.AdUpRefIdeal.τ).loc Cert.AdUpRefIdeal.main_arg3))

def preserves_AdOut_AdOutIdeal : Prop :=
  True

def algebraic_AdOutIdeal_AdOutRefIdeal [hAdOutIdeal : Cert.AdOutIdeal.Facts] [hAdOutRefIdeal : Cert.AdOutRefIdeal.Facts] : Prop :=
  ∀ (m : (ℓ : Loc Cert.AdOutIdeal.nD Cert.AdOutIdeal.τ Cert.AdOutIdeal.sig) → Buf (Elt Ideal) ℓ) (g : Dev Cert.AdOutIdeal.nD → PrngReg)
    (m' : (ℓ : Loc Cert.AdOutRefIdeal.nD Cert.AdOutRefIdeal.τ Cert.AdOutRefIdeal.sig) → Buf (Elt Ideal) ℓ) (g' : Dev Cert.AdOutRefIdeal.nD → PrngReg), Pre_AdOutIdeal m →
    (∀ c : Dev Cert.AdOutIdeal.nD,
      m' ((c.tc : Thread Cert.AdOutRefIdeal.nD Cert.AdOutRefIdeal.τ).loc Cert.AdOutRefIdeal.main_arg0) = m ((c.tc : Thread Cert.AdOutIdeal.nD Cert.AdOutIdeal.τ).loc Cert.AdOutIdeal.main_arg0)
      ∧ m' ((c.tc : Thread Cert.AdOutRefIdeal.nD Cert.AdOutRefIdeal.τ).loc Cert.AdOutRefIdeal.main_arg1) = m ((c.tc : Thread Cert.AdOutIdeal.nD Cert.AdOutIdeal.τ).loc Cert.AdOutIdeal.main_arg1)
      ∧ m' ((c.tc : Thread Cert.AdOutRefIdeal.nD Cert.AdOutRefIdeal.τ).loc Cert.AdOutRefIdeal.main_arg2) = m ((c.tc : Thread Cert.AdOutIdeal.nD Cert.AdOutIdeal.τ).loc Cert.AdOutIdeal.main_arg2)
      ∧ m' ((c.tc : Thread Cert.AdOutRefIdeal.nD Cert.AdOutRefIdeal.τ).loc Cert.AdOutRefIdeal.main_arg3) = m ((c.tc : Thread Cert.AdOutIdeal.nD Cert.AdOutIdeal.τ).loc Cert.AdOutIdeal.main_arg3)) →
    ∃ (v0 : (c : Dev Cert.AdOutIdeal.nD) → Buf (Elt Ideal) ((c.tc : Thread Cert.AdOutIdeal.nD Cert.AdOutIdeal.τ).loc Cert.AdOutIdeal.main_v4_0)) (v1 : (c : Dev Cert.AdOutIdeal.nD) → Buf (Elt Ideal) ((c.tc : Thread Cert.AdOutIdeal.nD Cert.AdOutIdeal.τ).loc Cert.AdOutIdeal.main_v4_1)) (v2 : (c : Dev Cert.AdOutIdeal.nD) → Buf (Elt Ideal) ((c.tc : Thread Cert.AdOutIdeal.nD Cert.AdOutIdeal.τ).loc Cert.AdOutIdeal.main_v4_2)),
      θ_run (Cert.AdOutIdeal.defs (F := Ideal)) (onTc (τ := Cert.AdOutIdeal.τ) (Cert.AdOutIdeal.main (F := Ideal))) ⟨m, fun _ => 0, g⟩ (fun r => ∀ c : Dev Cert.AdOutIdeal.nD,
          r.2.mem ((c.tc : Thread Cert.AdOutIdeal.nD Cert.AdOutIdeal.τ).loc Cert.AdOutIdeal.main_v4_0) = v0 c
          ∧ r.2.mem ((c.tc : Thread Cert.AdOutIdeal.nD Cert.AdOutIdeal.τ).loc Cert.AdOutIdeal.main_v4_1) = v1 c
          ∧ r.2.mem ((c.tc : Thread Cert.AdOutIdeal.nD Cert.AdOutIdeal.τ).loc Cert.AdOutIdeal.main_v4_2) = v2 c
          ∧ r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
          ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
          ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
          ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3))
      ∧ θ_run (Cert.AdOutRefIdeal.defs (F := Ideal)) (onTc (τ := Cert.AdOutRefIdeal.τ) (Cert.AdOutRefIdeal.main (F := Ideal))) ⟨m', fun _ => 0, g'⟩ (fun r => ∀ c : Dev Cert.AdOutRefIdeal.nD,
          r.2.mem ((c.tc : Thread Cert.AdOutRefIdeal.nD Cert.AdOutRefIdeal.τ).loc Cert.AdOutRefIdeal.main_v24) = v0 c
          ∧ r.2.mem ((c.tc : Thread Cert.AdOutRefIdeal.nD Cert.AdOutRefIdeal.τ).loc Cert.AdOutRefIdeal.main_v25) = v1 c
          ∧ r.2.mem ((c.tc : Thread Cert.AdOutRefIdeal.nD Cert.AdOutRefIdeal.τ).loc Cert.AdOutRefIdeal.main_v26) = v2 c
          ∧ r.2.mem ((c.tc : Thread Cert.AdOutRefIdeal.nD Cert.AdOutRefIdeal.τ).loc Cert.AdOutRefIdeal.main_arg0) = m' ((c.tc : Thread Cert.AdOutRefIdeal.nD Cert.AdOutRefIdeal.τ).loc Cert.AdOutRefIdeal.main_arg0)
          ∧ r.2.mem ((c.tc : Thread Cert.AdOutRefIdeal.nD Cert.AdOutRefIdeal.τ).loc Cert.AdOutRefIdeal.main_arg1) = m' ((c.tc : Thread Cert.AdOutRefIdeal.nD Cert.AdOutRefIdeal.τ).loc Cert.AdOutRefIdeal.main_arg1)
          ∧ r.2.mem ((c.tc : Thread Cert.AdOutRefIdeal.nD Cert.AdOutRefIdeal.τ).loc Cert.AdOutRefIdeal.main_arg2) = m' ((c.tc : Thread Cert.AdOutRefIdeal.nD Cert.AdOutRefIdeal.τ).loc Cert.AdOutRefIdeal.main_arg2)
          ∧ r.2.mem ((c.tc : Thread Cert.AdOutRefIdeal.nD Cert.AdOutRefIdeal.τ).loc Cert.AdOutRefIdeal.main_arg3) = m' ((c.tc : Thread Cert.AdOutRefIdeal.nD Cert.AdOutRefIdeal.τ).loc Cert.AdOutRefIdeal.main_arg3))

def preserves_AdDown_AdDownIdeal : Prop :=
  True

def algebraic_AdDownIdeal_AdDownRefIdeal [hAdDownIdeal : Cert.AdDownIdeal.Facts] [hAdDownRefIdeal : Cert.AdDownRefIdeal.Facts] : Prop :=
  ∀ (m : (ℓ : Loc Cert.AdDownIdeal.nD Cert.AdDownIdeal.τ Cert.AdDownIdeal.sig) → Buf (Elt Ideal) ℓ) (g : Dev Cert.AdDownIdeal.nD → PrngReg)
    (m' : (ℓ : Loc Cert.AdDownRefIdeal.nD Cert.AdDownRefIdeal.τ Cert.AdDownRefIdeal.sig) → Buf (Elt Ideal) ℓ) (g' : Dev Cert.AdDownRefIdeal.nD → PrngReg), Pre_AdDownIdeal m →
    (∀ c : Dev Cert.AdDownIdeal.nD,
      m' ((c.tc : Thread Cert.AdDownRefIdeal.nD Cert.AdDownRefIdeal.τ).loc Cert.AdDownRefIdeal.main_arg0) = m ((c.tc : Thread Cert.AdDownIdeal.nD Cert.AdDownIdeal.τ).loc Cert.AdDownIdeal.main_arg0)
      ∧ m' ((c.tc : Thread Cert.AdDownRefIdeal.nD Cert.AdDownRefIdeal.τ).loc Cert.AdDownRefIdeal.main_arg1) = m ((c.tc : Thread Cert.AdDownIdeal.nD Cert.AdDownIdeal.τ).loc Cert.AdDownIdeal.main_arg1)
      ∧ m' ((c.tc : Thread Cert.AdDownRefIdeal.nD Cert.AdDownRefIdeal.τ).loc Cert.AdDownRefIdeal.main_arg2) = m ((c.tc : Thread Cert.AdDownIdeal.nD Cert.AdDownIdeal.τ).loc Cert.AdDownIdeal.main_arg2)
      ∧ m' ((c.tc : Thread Cert.AdDownRefIdeal.nD Cert.AdDownRefIdeal.τ).loc Cert.AdDownRefIdeal.main_arg3) = m ((c.tc : Thread Cert.AdDownIdeal.nD Cert.AdDownIdeal.τ).loc Cert.AdDownIdeal.main_arg3)) →
    ∃ (v0 : (c : Dev Cert.AdDownIdeal.nD) → Buf (Elt Ideal) ((c.tc : Thread Cert.AdDownIdeal.nD Cert.AdDownIdeal.τ).loc Cert.AdDownIdeal.main_v4_0)) (v1 : (c : Dev Cert.AdDownIdeal.nD) → Buf (Elt Ideal) ((c.tc : Thread Cert.AdDownIdeal.nD Cert.AdDownIdeal.τ).loc Cert.AdDownIdeal.main_v4_1)) (v2 : (c : Dev Cert.AdDownIdeal.nD) → Buf (Elt Ideal) ((c.tc : Thread Cert.AdDownIdeal.nD Cert.AdDownIdeal.τ).loc Cert.AdDownIdeal.main_v4_2)),
      θ_run (Cert.AdDownIdeal.defs (F := Ideal)) (onTc (τ := Cert.AdDownIdeal.τ) (Cert.AdDownIdeal.main (F := Ideal))) ⟨m, fun _ => 0, g⟩ (fun r => ∀ c : Dev Cert.AdDownIdeal.nD,
          r.2.mem ((c.tc : Thread Cert.AdDownIdeal.nD Cert.AdDownIdeal.τ).loc Cert.AdDownIdeal.main_v4_0) = v0 c
          ∧ r.2.mem ((c.tc : Thread Cert.AdDownIdeal.nD Cert.AdDownIdeal.τ).loc Cert.AdDownIdeal.main_v4_1) = v1 c
          ∧ r.2.mem ((c.tc : Thread Cert.AdDownIdeal.nD Cert.AdDownIdeal.τ).loc Cert.AdDownIdeal.main_v4_2) = v2 c
          ∧ r.2.mem ((c.tc : Thread Cert.AdDownIdeal.nD Cert.AdDownIdeal.τ).loc Cert.AdDownIdeal.main_arg0) = m ((c.tc : Thread Cert.AdDownIdeal.nD Cert.AdDownIdeal.τ).loc Cert.AdDownIdeal.main_arg0)
          ∧ r.2.mem ((c.tc : Thread Cert.AdDownIdeal.nD Cert.AdDownIdeal.τ).loc Cert.AdDownIdeal.main_arg1) = m ((c.tc : Thread Cert.AdDownIdeal.nD Cert.AdDownIdeal.τ).loc Cert.AdDownIdeal.main_arg1)
          ∧ r.2.mem ((c.tc : Thread Cert.AdDownIdeal.nD Cert.AdDownIdeal.τ).loc Cert.AdDownIdeal.main_arg2) = m ((c.tc : Thread Cert.AdDownIdeal.nD Cert.AdDownIdeal.τ).loc Cert.AdDownIdeal.main_arg2)
          ∧ r.2.mem ((c.tc : Thread Cert.AdDownIdeal.nD Cert.AdDownIdeal.τ).loc Cert.AdDownIdeal.main_arg3) = m ((c.tc : Thread Cert.AdDownIdeal.nD Cert.AdDownIdeal.τ).loc Cert.AdDownIdeal.main_arg3))
      ∧ θ_run (Cert.AdDownRefIdeal.defs (F := Ideal)) (onTc (τ := Cert.AdDownRefIdeal.τ) (Cert.AdDownRefIdeal.main (F := Ideal))) ⟨m', fun _ => 0, g'⟩ (fun r => ∀ c : Dev Cert.AdDownRefIdeal.nD,
          r.2.mem ((c.tc : Thread Cert.AdDownRefIdeal.nD Cert.AdDownRefIdeal.τ).loc Cert.AdDownRefIdeal.main_v24) = v0 c
          ∧ r.2.mem ((c.tc : Thread Cert.AdDownRefIdeal.nD Cert.AdDownRefIdeal.τ).loc Cert.AdDownRefIdeal.main_v25) = v1 c
          ∧ r.2.mem ((c.tc : Thread Cert.AdDownRefIdeal.nD Cert.AdDownRefIdeal.τ).loc Cert.AdDownRefIdeal.main_v26) = v2 c
          ∧ r.2.mem ((c.tc : Thread Cert.AdDownRefIdeal.nD Cert.AdDownRefIdeal.τ).loc Cert.AdDownRefIdeal.main_arg0) = m' ((c.tc : Thread Cert.AdDownRefIdeal.nD Cert.AdDownRefIdeal.τ).loc Cert.AdDownRefIdeal.main_arg0)
          ∧ r.2.mem ((c.tc : Thread Cert.AdDownRefIdeal.nD Cert.AdDownRefIdeal.τ).loc Cert.AdDownRefIdeal.main_arg1) = m' ((c.tc : Thread Cert.AdDownRefIdeal.nD Cert.AdDownRefIdeal.τ).loc Cert.AdDownRefIdeal.main_arg1)
          ∧ r.2.mem ((c.tc : Thread Cert.AdDownRefIdeal.nD Cert.AdDownRefIdeal.τ).loc Cert.AdDownRefIdeal.main_arg2) = m' ((c.tc : Thread Cert.AdDownRefIdeal.nD Cert.AdDownRefIdeal.τ).loc Cert.AdDownRefIdeal.main_arg2)
          ∧ r.2.mem ((c.tc : Thread Cert.AdDownRefIdeal.nD Cert.AdDownRefIdeal.τ).loc Cert.AdDownRefIdeal.main_arg3) = m' ((c.tc : Thread Cert.AdDownRefIdeal.nD Cert.AdDownRefIdeal.τ).loc Cert.AdDownRefIdeal.main_arg3))

def preserves_AdPool_AdPoolIdeal : Prop :=
  True

def algebraic_AdPoolIdeal_AdPoolRefIdeal [hAdPoolIdeal : Cert.AdPoolIdeal.Facts] [hAdPoolRefIdeal : Cert.AdPoolRefIdeal.Facts] : Prop :=
  ∀ (m : (ℓ : Loc Cert.AdPoolIdeal.nD Cert.AdPoolIdeal.τ Cert.AdPoolIdeal.sig) → Buf (Elt Ideal) ℓ) (g : Dev Cert.AdPoolIdeal.nD → PrngReg)
    (m' : (ℓ : Loc Cert.AdPoolRefIdeal.nD Cert.AdPoolRefIdeal.τ Cert.AdPoolRefIdeal.sig) → Buf (Elt Ideal) ℓ) (g' : Dev Cert.AdPoolRefIdeal.nD → PrngReg), Pre_AdPoolIdeal m →
    (∀ c : Dev Cert.AdPoolIdeal.nD,
      m' ((c.tc : Thread Cert.AdPoolRefIdeal.nD Cert.AdPoolRefIdeal.τ).loc Cert.AdPoolRefIdeal.main_arg0) = m ((c.tc : Thread Cert.AdPoolIdeal.nD Cert.AdPoolIdeal.τ).loc Cert.AdPoolIdeal.main_arg0)
      ∧ m' ((c.tc : Thread Cert.AdPoolRefIdeal.nD Cert.AdPoolRefIdeal.τ).loc Cert.AdPoolRefIdeal.main_arg1) = m ((c.tc : Thread Cert.AdPoolIdeal.nD Cert.AdPoolIdeal.τ).loc Cert.AdPoolIdeal.main_arg1)
      ∧ m' ((c.tc : Thread Cert.AdPoolRefIdeal.nD Cert.AdPoolRefIdeal.τ).loc Cert.AdPoolRefIdeal.main_arg2) = m ((c.tc : Thread Cert.AdPoolIdeal.nD Cert.AdPoolIdeal.τ).loc Cert.AdPoolIdeal.main_arg2)
      ∧ m' ((c.tc : Thread Cert.AdPoolRefIdeal.nD Cert.AdPoolRefIdeal.τ).loc Cert.AdPoolRefIdeal.main_arg3) = m ((c.tc : Thread Cert.AdPoolIdeal.nD Cert.AdPoolIdeal.τ).loc Cert.AdPoolIdeal.main_arg3)) →
    ∃ (v0 : (c : Dev Cert.AdPoolIdeal.nD) → Buf (Elt Ideal) ((c.tc : Thread Cert.AdPoolIdeal.nD Cert.AdPoolIdeal.τ).loc Cert.AdPoolIdeal.main_v4_0)) (v1 : (c : Dev Cert.AdPoolIdeal.nD) → Buf (Elt Ideal) ((c.tc : Thread Cert.AdPoolIdeal.nD Cert.AdPoolIdeal.τ).loc Cert.AdPoolIdeal.main_v4_1)) (v2 : (c : Dev Cert.AdPoolIdeal.nD) → Buf (Elt Ideal) ((c.tc : Thread Cert.AdPoolIdeal.nD Cert.AdPoolIdeal.τ).loc Cert.AdPoolIdeal.main_v4_2)),
      θ_run (Cert.AdPoolIdeal.defs (F := Ideal)) (onTc (τ := Cert.AdPoolIdeal.τ) (Cert.AdPoolIdeal.main (F := Ideal))) ⟨m, fun _ => 0, g⟩ (fun r => ∀ c : Dev Cert.AdPoolIdeal.nD,
          r.2.mem ((c.tc : Thread Cert.AdPoolIdeal.nD Cert.AdPoolIdeal.τ).loc Cert.AdPoolIdeal.main_v4_0) = v0 c
          ∧ r.2.mem ((c.tc : Thread Cert.AdPoolIdeal.nD Cert.AdPoolIdeal.τ).loc Cert.AdPoolIdeal.main_v4_1) = v1 c
          ∧ r.2.mem ((c.tc : Thread Cert.AdPoolIdeal.nD Cert.AdPoolIdeal.τ).loc Cert.AdPoolIdeal.main_v4_2) = v2 c
          ∧ r.2.mem ((c.tc : Thread Cert.AdPoolIdeal.nD Cert.AdPoolIdeal.τ).loc Cert.AdPoolIdeal.main_arg0) = m ((c.tc : Thread Cert.AdPoolIdeal.nD Cert.AdPoolIdeal.τ).loc Cert.AdPoolIdeal.main_arg0)
          ∧ r.2.mem ((c.tc : Thread Cert.AdPoolIdeal.nD Cert.AdPoolIdeal.τ).loc Cert.AdPoolIdeal.main_arg1) = m ((c.tc : Thread Cert.AdPoolIdeal.nD Cert.AdPoolIdeal.τ).loc Cert.AdPoolIdeal.main_arg1)
          ∧ r.2.mem ((c.tc : Thread Cert.AdPoolIdeal.nD Cert.AdPoolIdeal.τ).loc Cert.AdPoolIdeal.main_arg2) = m ((c.tc : Thread Cert.AdPoolIdeal.nD Cert.AdPoolIdeal.τ).loc Cert.AdPoolIdeal.main_arg2)
          ∧ r.2.mem ((c.tc : Thread Cert.AdPoolIdeal.nD Cert.AdPoolIdeal.τ).loc Cert.AdPoolIdeal.main_arg3) = m ((c.tc : Thread Cert.AdPoolIdeal.nD Cert.AdPoolIdeal.τ).loc Cert.AdPoolIdeal.main_arg3))
      ∧ θ_run (Cert.AdPoolRefIdeal.defs (F := Ideal)) (onTc (τ := Cert.AdPoolRefIdeal.τ) (Cert.AdPoolRefIdeal.main (F := Ideal))) ⟨m', fun _ => 0, g'⟩ (fun r => ∀ c : Dev Cert.AdPoolRefIdeal.nD,
          r.2.mem ((c.tc : Thread Cert.AdPoolRefIdeal.nD Cert.AdPoolRefIdeal.τ).loc Cert.AdPoolRefIdeal.main_v24) = v0 c
          ∧ r.2.mem ((c.tc : Thread Cert.AdPoolRefIdeal.nD Cert.AdPoolRefIdeal.τ).loc Cert.AdPoolRefIdeal.main_v25) = v1 c
          ∧ r.2.mem ((c.tc : Thread Cert.AdPoolRefIdeal.nD Cert.AdPoolRefIdeal.τ).loc Cert.AdPoolRefIdeal.main_v26) = v2 c
          ∧ r.2.mem ((c.tc : Thread Cert.AdPoolRefIdeal.nD Cert.AdPoolRefIdeal.τ).loc Cert.AdPoolRefIdeal.main_arg0) = m' ((c.tc : Thread Cert.AdPoolRefIdeal.nD Cert.AdPoolRefIdeal.τ).loc Cert.AdPoolRefIdeal.main_arg0)
          ∧ r.2.mem ((c.tc : Thread Cert.AdPoolRefIdeal.nD Cert.AdPoolRefIdeal.τ).loc Cert.AdPoolRefIdeal.main_arg1) = m' ((c.tc : Thread Cert.AdPoolRefIdeal.nD Cert.AdPoolRefIdeal.τ).loc Cert.AdPoolRefIdeal.main_arg1)
          ∧ r.2.mem ((c.tc : Thread Cert.AdPoolRefIdeal.nD Cert.AdPoolRefIdeal.τ).loc Cert.AdPoolRefIdeal.main_arg2) = m' ((c.tc : Thread Cert.AdPoolRefIdeal.nD Cert.AdPoolRefIdeal.τ).loc Cert.AdPoolRefIdeal.main_arg2)
          ∧ r.2.mem ((c.tc : Thread Cert.AdPoolRefIdeal.nD Cert.AdPoolRefIdeal.τ).loc Cert.AdPoolRefIdeal.main_arg3) = m' ((c.tc : Thread Cert.AdPoolRefIdeal.nD Cert.AdPoolRefIdeal.τ).loc Cert.AdPoolRefIdeal.main_arg3))

def preserves_AdConvQ_AdConvQIdeal : Prop :=
  True

def algebraic_AdConvQIdeal_AdConvQRefIdeal [hAdConvQIdeal : Cert.AdConvQIdeal.Facts] [hAdConvQRefIdeal : Cert.AdConvQRefIdeal.Facts] : Prop :=
  ∀ (m : (ℓ : Loc Cert.AdConvQIdeal.nD Cert.AdConvQIdeal.τ Cert.AdConvQIdeal.sig) → Buf (Elt Ideal) ℓ) (g : Dev Cert.AdConvQIdeal.nD → PrngReg)
    (m' : (ℓ : Loc Cert.AdConvQRefIdeal.nD Cert.AdConvQRefIdeal.τ Cert.AdConvQRefIdeal.sig) → Buf (Elt Ideal) ℓ) (g' : Dev Cert.AdConvQRefIdeal.nD → PrngReg), Pre_AdConvQIdeal m →
    (∀ c : Dev Cert.AdConvQIdeal.nD,
      m' ((c.tc : Thread Cert.AdConvQRefIdeal.nD Cert.AdConvQRefIdeal.τ).loc Cert.AdConvQRefIdeal.main_arg0) = m ((c.tc : Thread Cert.AdConvQIdeal.nD Cert.AdConvQIdeal.τ).loc Cert.AdConvQIdeal.main_arg0)
      ∧ m' ((c.tc : Thread Cert.AdConvQRefIdeal.nD Cert.AdConvQRefIdeal.τ).loc Cert.AdConvQRefIdeal.main_arg1) = m ((c.tc : Thread Cert.AdConvQIdeal.nD Cert.AdConvQIdeal.τ).loc Cert.AdConvQIdeal.main_arg1)
      ∧ m' ((c.tc : Thread Cert.AdConvQRefIdeal.nD Cert.AdConvQRefIdeal.τ).loc Cert.AdConvQRefIdeal.main_arg2) = m ((c.tc : Thread Cert.AdConvQIdeal.nD Cert.AdConvQIdeal.τ).loc Cert.AdConvQIdeal.main_arg2)
      ∧ m' ((c.tc : Thread Cert.AdConvQRefIdeal.nD Cert.AdConvQRefIdeal.τ).loc Cert.AdConvQRefIdeal.main_arg3) = m ((c.tc : Thread Cert.AdConvQIdeal.nD Cert.AdConvQIdeal.τ).loc Cert.AdConvQIdeal.main_arg3)) →
    ∃ (v0 : (c : Dev Cert.AdConvQIdeal.nD) → Buf (Elt Ideal) ((c.tc : Thread Cert.AdConvQIdeal.nD Cert.AdConvQIdeal.τ).loc Cert.AdConvQIdeal.main_v4_0)) (v1 : (c : Dev Cert.AdConvQIdeal.nD) → Buf (Elt Ideal) ((c.tc : Thread Cert.AdConvQIdeal.nD Cert.AdConvQIdeal.τ).loc Cert.AdConvQIdeal.main_v4_1)) (v2 : (c : Dev Cert.AdConvQIdeal.nD) → Buf (Elt Ideal) ((c.tc : Thread Cert.AdConvQIdeal.nD Cert.AdConvQIdeal.τ).loc Cert.AdConvQIdeal.main_v4_2)),
      θ_run (Cert.AdConvQIdeal.defs (F := Ideal)) (onTc (τ := Cert.AdConvQIdeal.τ) (Cert.AdConvQIdeal.main (F := Ideal))) ⟨m, fun _ => 0, g⟩ (fun r => ∀ c : Dev Cert.AdConvQIdeal.nD,
          r.2.mem ((c.tc : Thread Cert.AdConvQIdeal.nD Cert.AdConvQIdeal.τ).loc Cert.AdConvQIdeal.main_v4_0) = v0 c
          ∧ r.2.mem ((c.tc : Thread Cert.AdConvQIdeal.nD Cert.AdConvQIdeal.τ).loc Cert.AdConvQIdeal.main_v4_1) = v1 c
          ∧ r.2.mem ((c.tc : Thread Cert.AdConvQIdeal.nD Cert.AdConvQIdeal.τ).loc Cert.AdConvQIdeal.main_v4_2) = v2 c
          ∧ r.2.mem ((c.tc : Thread Cert.AdConvQIdeal.nD Cert.AdConvQIdeal.τ).loc Cert.AdConvQIdeal.main_arg0) = m ((c.tc : Thread Cert.AdConvQIdeal.nD Cert.AdConvQIdeal.τ).loc Cert.AdConvQIdeal.main_arg0)
          ∧ r.2.mem ((c.tc : Thread Cert.AdConvQIdeal.nD Cert.AdConvQIdeal.τ).loc Cert.AdConvQIdeal.main_arg1) = m ((c.tc : Thread Cert.AdConvQIdeal.nD Cert.AdConvQIdeal.τ).loc Cert.AdConvQIdeal.main_arg1)
          ∧ r.2.mem ((c.tc : Thread Cert.AdConvQIdeal.nD Cert.AdConvQIdeal.τ).loc Cert.AdConvQIdeal.main_arg2) = m ((c.tc : Thread Cert.AdConvQIdeal.nD Cert.AdConvQIdeal.τ).loc Cert.AdConvQIdeal.main_arg2)
          ∧ r.2.mem ((c.tc : Thread Cert.AdConvQIdeal.nD Cert.AdConvQIdeal.τ).loc Cert.AdConvQIdeal.main_arg3) = m ((c.tc : Thread Cert.AdConvQIdeal.nD Cert.AdConvQIdeal.τ).loc Cert.AdConvQIdeal.main_arg3))
      ∧ θ_run (Cert.AdConvQRefIdeal.defs (F := Ideal)) (onTc (τ := Cert.AdConvQRefIdeal.τ) (Cert.AdConvQRefIdeal.main (F := Ideal))) ⟨m', fun _ => 0, g'⟩ (fun r => ∀ c : Dev Cert.AdConvQRefIdeal.nD,
          r.2.mem ((c.tc : Thread Cert.AdConvQRefIdeal.nD Cert.AdConvQRefIdeal.τ).loc Cert.AdConvQRefIdeal.main_v24) = v0 c
          ∧ r.2.mem ((c.tc : Thread Cert.AdConvQRefIdeal.nD Cert.AdConvQRefIdeal.τ).loc Cert.AdConvQRefIdeal.main_v25) = v1 c
          ∧ r.2.mem ((c.tc : Thread Cert.AdConvQRefIdeal.nD Cert.AdConvQRefIdeal.τ).loc Cert.AdConvQRefIdeal.main_v26) = v2 c
          ∧ r.2.mem ((c.tc : Thread Cert.AdConvQRefIdeal.nD Cert.AdConvQRefIdeal.τ).loc Cert.AdConvQRefIdeal.main_arg0) = m' ((c.tc : Thread Cert.AdConvQRefIdeal.nD Cert.AdConvQRefIdeal.τ).loc Cert.AdConvQRefIdeal.main_arg0)
          ∧ r.2.mem ((c.tc : Thread Cert.AdConvQRefIdeal.nD Cert.AdConvQRefIdeal.τ).loc Cert.AdConvQRefIdeal.main_arg1) = m' ((c.tc : Thread Cert.AdConvQRefIdeal.nD Cert.AdConvQRefIdeal.τ).loc Cert.AdConvQRefIdeal.main_arg1)
          ∧ r.2.mem ((c.tc : Thread Cert.AdConvQRefIdeal.nD Cert.AdConvQRefIdeal.τ).loc Cert.AdConvQRefIdeal.main_arg2) = m' ((c.tc : Thread Cert.AdConvQRefIdeal.nD Cert.AdConvQRefIdeal.τ).loc Cert.AdConvQRefIdeal.main_arg2)
          ∧ r.2.mem ((c.tc : Thread Cert.AdConvQRefIdeal.nD Cert.AdConvQRefIdeal.τ).loc Cert.AdConvQRefIdeal.main_arg3) = m' ((c.tc : Thread Cert.AdConvQRefIdeal.nD Cert.AdConvQRefIdeal.τ).loc Cert.AdConvQRefIdeal.main_arg3))

def preserves_AdConvF_AdConvFIdeal : Prop :=
  True

def algebraic_AdConvFIdeal_AdConvFRefIdeal [hAdConvFIdeal : Cert.AdConvFIdeal.Facts] [hAdConvFRefIdeal : Cert.AdConvFRefIdeal.Facts] : Prop :=
  ∀ (m : (ℓ : Loc Cert.AdConvFIdeal.nD Cert.AdConvFIdeal.τ Cert.AdConvFIdeal.sig) → Buf (Elt Ideal) ℓ) (g : Dev Cert.AdConvFIdeal.nD → PrngReg)
    (m' : (ℓ : Loc Cert.AdConvFRefIdeal.nD Cert.AdConvFRefIdeal.τ Cert.AdConvFRefIdeal.sig) → Buf (Elt Ideal) ℓ) (g' : Dev Cert.AdConvFRefIdeal.nD → PrngReg), Pre_AdConvFIdeal m →
    (∀ c : Dev Cert.AdConvFIdeal.nD,
      m' ((c.tc : Thread Cert.AdConvFRefIdeal.nD Cert.AdConvFRefIdeal.τ).loc Cert.AdConvFRefIdeal.main_arg0) = m ((c.tc : Thread Cert.AdConvFIdeal.nD Cert.AdConvFIdeal.τ).loc Cert.AdConvFIdeal.main_arg0)
      ∧ m' ((c.tc : Thread Cert.AdConvFRefIdeal.nD Cert.AdConvFRefIdeal.τ).loc Cert.AdConvFRefIdeal.main_arg1) = m ((c.tc : Thread Cert.AdConvFIdeal.nD Cert.AdConvFIdeal.τ).loc Cert.AdConvFIdeal.main_arg1)
      ∧ m' ((c.tc : Thread Cert.AdConvFRefIdeal.nD Cert.AdConvFRefIdeal.τ).loc Cert.AdConvFRefIdeal.main_arg2) = m ((c.tc : Thread Cert.AdConvFIdeal.nD Cert.AdConvFIdeal.τ).loc Cert.AdConvFIdeal.main_arg2)
      ∧ m' ((c.tc : Thread Cert.AdConvFRefIdeal.nD Cert.AdConvFRefIdeal.τ).loc Cert.AdConvFRefIdeal.main_arg3) = m ((c.tc : Thread Cert.AdConvFIdeal.nD Cert.AdConvFIdeal.τ).loc Cert.AdConvFIdeal.main_arg3)) →
    ∃ (v0 : (c : Dev Cert.AdConvFIdeal.nD) → Buf (Elt Ideal) ((c.tc : Thread Cert.AdConvFIdeal.nD Cert.AdConvFIdeal.τ).loc Cert.AdConvFIdeal.main_v4_0)) (v1 : (c : Dev Cert.AdConvFIdeal.nD) → Buf (Elt Ideal) ((c.tc : Thread Cert.AdConvFIdeal.nD Cert.AdConvFIdeal.τ).loc Cert.AdConvFIdeal.main_v4_1)) (v2 : (c : Dev Cert.AdConvFIdeal.nD) → Buf (Elt Ideal) ((c.tc : Thread Cert.AdConvFIdeal.nD Cert.AdConvFIdeal.τ).loc Cert.AdConvFIdeal.main_v4_2)),
      θ_run (Cert.AdConvFIdeal.defs (F := Ideal)) (onTc (τ := Cert.AdConvFIdeal.τ) (Cert.AdConvFIdeal.main (F := Ideal))) ⟨m, fun _ => 0, g⟩ (fun r => ∀ c : Dev Cert.AdConvFIdeal.nD,
          r.2.mem ((c.tc : Thread Cert.AdConvFIdeal.nD Cert.AdConvFIdeal.τ).loc Cert.AdConvFIdeal.main_v4_0) = v0 c
          ∧ r.2.mem ((c.tc : Thread Cert.AdConvFIdeal.nD Cert.AdConvFIdeal.τ).loc Cert.AdConvFIdeal.main_v4_1) = v1 c
          ∧ r.2.mem ((c.tc : Thread Cert.AdConvFIdeal.nD Cert.AdConvFIdeal.τ).loc Cert.AdConvFIdeal.main_v4_2) = v2 c
          ∧ r.2.mem ((c.tc : Thread Cert.AdConvFIdeal.nD Cert.AdConvFIdeal.τ).loc Cert.AdConvFIdeal.main_arg0) = m ((c.tc : Thread Cert.AdConvFIdeal.nD Cert.AdConvFIdeal.τ).loc Cert.AdConvFIdeal.main_arg0)
          ∧ r.2.mem ((c.tc : Thread Cert.AdConvFIdeal.nD Cert.AdConvFIdeal.τ).loc Cert.AdConvFIdeal.main_arg1) = m ((c.tc : Thread Cert.AdConvFIdeal.nD Cert.AdConvFIdeal.τ).loc Cert.AdConvFIdeal.main_arg1)
          ∧ r.2.mem ((c.tc : Thread Cert.AdConvFIdeal.nD Cert.AdConvFIdeal.τ).loc Cert.AdConvFIdeal.main_arg2) = m ((c.tc : Thread Cert.AdConvFIdeal.nD Cert.AdConvFIdeal.τ).loc Cert.AdConvFIdeal.main_arg2)
          ∧ r.2.mem ((c.tc : Thread Cert.AdConvFIdeal.nD Cert.AdConvFIdeal.τ).loc Cert.AdConvFIdeal.main_arg3) = m ((c.tc : Thread Cert.AdConvFIdeal.nD Cert.AdConvFIdeal.τ).loc Cert.AdConvFIdeal.main_arg3))
      ∧ θ_run (Cert.AdConvFRefIdeal.defs (F := Ideal)) (onTc (τ := Cert.AdConvFRefIdeal.τ) (Cert.AdConvFRefIdeal.main (F := Ideal))) ⟨m', fun _ => 0, g'⟩ (fun r => ∀ c : Dev Cert.AdConvFRefIdeal.nD,
          r.2.mem ((c.tc : Thread Cert.AdConvFRefIdeal.nD Cert.AdConvFRefIdeal.τ).loc Cert.AdConvFRefIdeal.main_v24) = v0 c
          ∧ r.2.mem ((c.tc : Thread Cert.AdConvFRefIdeal.nD Cert.AdConvFRefIdeal.τ).loc Cert.AdConvFRefIdeal.main_v25) = v1 c
          ∧ r.2.mem ((c.tc : Thread Cert.AdConvFRefIdeal.nD Cert.AdConvFRefIdeal.τ).loc Cert.AdConvFRefIdeal.main_v26) = v2 c
          ∧ r.2.mem ((c.tc : Thread Cert.AdConvFRefIdeal.nD Cert.AdConvFRefIdeal.τ).loc Cert.AdConvFRefIdeal.main_arg0) = m' ((c.tc : Thread Cert.AdConvFRefIdeal.nD Cert.AdConvFRefIdeal.τ).loc Cert.AdConvFRefIdeal.main_arg0)
          ∧ r.2.mem ((c.tc : Thread Cert.AdConvFRefIdeal.nD Cert.AdConvFRefIdeal.τ).loc Cert.AdConvFRefIdeal.main_arg1) = m' ((c.tc : Thread Cert.AdConvFRefIdeal.nD Cert.AdConvFRefIdeal.τ).loc Cert.AdConvFRefIdeal.main_arg1)
          ∧ r.2.mem ((c.tc : Thread Cert.AdConvFRefIdeal.nD Cert.AdConvFRefIdeal.τ).loc Cert.AdConvFRefIdeal.main_arg2) = m' ((c.tc : Thread Cert.AdConvFRefIdeal.nD Cert.AdConvFRefIdeal.τ).loc Cert.AdConvFRefIdeal.main_arg2)
          ∧ r.2.mem ((c.tc : Thread Cert.AdConvFRefIdeal.nD Cert.AdConvFRefIdeal.τ).loc Cert.AdConvFRefIdeal.main_arg3) = m' ((c.tc : Thread Cert.AdConvFRefIdeal.nD Cert.AdConvFRefIdeal.τ).loc Cert.AdConvFRefIdeal.main_arg3))

def preserves_AdMeta_AdMetaIdeal : Prop :=
  True

def algebraic_AdMetaIdeal_AdMetaRefIdeal [hAdMetaIdeal : Cert.AdMetaIdeal.Facts] [hAdMetaRefIdeal : Cert.AdMetaRefIdeal.Facts] : Prop :=
  ∀ (m : (ℓ : Loc Cert.AdMetaIdeal.nD Cert.AdMetaIdeal.τ Cert.AdMetaIdeal.sig) → Buf (Elt Ideal) ℓ) (g : Dev Cert.AdMetaIdeal.nD → PrngReg)
    (m' : (ℓ : Loc Cert.AdMetaRefIdeal.nD Cert.AdMetaRefIdeal.τ Cert.AdMetaRefIdeal.sig) → Buf (Elt Ideal) ℓ) (g' : Dev Cert.AdMetaRefIdeal.nD → PrngReg), Pre_AdMetaIdeal m →
    (∀ c : Dev Cert.AdMetaIdeal.nD,
      m' ((c.tc : Thread Cert.AdMetaRefIdeal.nD Cert.AdMetaRefIdeal.τ).loc Cert.AdMetaRefIdeal.main_arg0) = m ((c.tc : Thread Cert.AdMetaIdeal.nD Cert.AdMetaIdeal.τ).loc Cert.AdMetaIdeal.main_arg0)
      ∧ m' ((c.tc : Thread Cert.AdMetaRefIdeal.nD Cert.AdMetaRefIdeal.τ).loc Cert.AdMetaRefIdeal.main_arg1) = m ((c.tc : Thread Cert.AdMetaIdeal.nD Cert.AdMetaIdeal.τ).loc Cert.AdMetaIdeal.main_arg1)
      ∧ m' ((c.tc : Thread Cert.AdMetaRefIdeal.nD Cert.AdMetaRefIdeal.τ).loc Cert.AdMetaRefIdeal.main_arg2) = m ((c.tc : Thread Cert.AdMetaIdeal.nD Cert.AdMetaIdeal.τ).loc Cert.AdMetaIdeal.main_arg2)
      ∧ m' ((c.tc : Thread Cert.AdMetaRefIdeal.nD Cert.AdMetaRefIdeal.τ).loc Cert.AdMetaRefIdeal.main_arg3) = m ((c.tc : Thread Cert.AdMetaIdeal.nD Cert.AdMetaIdeal.τ).loc Cert.AdMetaIdeal.main_arg3)) →
    ∃ (v0 : (c : Dev Cert.AdMetaIdeal.nD) → Buf (Elt Ideal) ((c.tc : Thread Cert.AdMetaIdeal.nD Cert.AdMetaIdeal.τ).loc Cert.AdMetaIdeal.main_v0_0)) (v1 : (c : Dev Cert.AdMetaIdeal.nD) → Buf (Elt Ideal) ((c.tc : Thread Cert.AdMetaIdeal.nD Cert.AdMetaIdeal.τ).loc Cert.AdMetaIdeal.main_v0_1)) (v2 : (c : Dev Cert.AdMetaIdeal.nD) → Buf (Elt Ideal) ((c.tc : Thread Cert.AdMetaIdeal.nD Cert.AdMetaIdeal.τ).loc Cert.AdMetaIdeal.main_v0_2)),
      θ_run (Cert.AdMetaIdeal.defs (F := Ideal)) (onTc (τ := Cert.AdMetaIdeal.τ) (Cert.AdMetaIdeal.main (F := Ideal))) ⟨m, fun _ => 0, g⟩ (fun r => ∀ c : Dev Cert.AdMetaIdeal.nD,
          r.2.mem ((c.tc : Thread Cert.AdMetaIdeal.nD Cert.AdMetaIdeal.τ).loc Cert.AdMetaIdeal.main_v0_0) = v0 c
          ∧ r.2.mem ((c.tc : Thread Cert.AdMetaIdeal.nD Cert.AdMetaIdeal.τ).loc Cert.AdMetaIdeal.main_v0_1) = v1 c
          ∧ r.2.mem ((c.tc : Thread Cert.AdMetaIdeal.nD Cert.AdMetaIdeal.τ).loc Cert.AdMetaIdeal.main_v0_2) = v2 c
          ∧ r.2.mem ((c.tc : Thread Cert.AdMetaIdeal.nD Cert.AdMetaIdeal.τ).loc Cert.AdMetaIdeal.main_arg0) = m ((c.tc : Thread Cert.AdMetaIdeal.nD Cert.AdMetaIdeal.τ).loc Cert.AdMetaIdeal.main_arg0)
          ∧ r.2.mem ((c.tc : Thread Cert.AdMetaIdeal.nD Cert.AdMetaIdeal.τ).loc Cert.AdMetaIdeal.main_arg1) = m ((c.tc : Thread Cert.AdMetaIdeal.nD Cert.AdMetaIdeal.τ).loc Cert.AdMetaIdeal.main_arg1)
          ∧ r.2.mem ((c.tc : Thread Cert.AdMetaIdeal.nD Cert.AdMetaIdeal.τ).loc Cert.AdMetaIdeal.main_arg2) = m ((c.tc : Thread Cert.AdMetaIdeal.nD Cert.AdMetaIdeal.τ).loc Cert.AdMetaIdeal.main_arg2)
          ∧ r.2.mem ((c.tc : Thread Cert.AdMetaIdeal.nD Cert.AdMetaIdeal.τ).loc Cert.AdMetaIdeal.main_arg3) = m ((c.tc : Thread Cert.AdMetaIdeal.nD Cert.AdMetaIdeal.τ).loc Cert.AdMetaIdeal.main_arg3))
      ∧ θ_run (Cert.AdMetaRefIdeal.defs (F := Ideal)) (onTc (τ := Cert.AdMetaRefIdeal.τ) (Cert.AdMetaRefIdeal.main (F := Ideal))) ⟨m', fun _ => 0, g'⟩ (fun r => ∀ c : Dev Cert.AdMetaRefIdeal.nD,
          r.2.mem ((c.tc : Thread Cert.AdMetaRefIdeal.nD Cert.AdMetaRefIdeal.τ).loc Cert.AdMetaRefIdeal.main_v23) = v0 c
          ∧ r.2.mem ((c.tc : Thread Cert.AdMetaRefIdeal.nD Cert.AdMetaRefIdeal.τ).loc Cert.AdMetaRefIdeal.main_v4) = v1 c
          ∧ r.2.mem ((c.tc : Thread Cert.AdMetaRefIdeal.nD Cert.AdMetaRefIdeal.τ).loc Cert.AdMetaRefIdeal.main_v10) = v2 c
          ∧ r.2.mem ((c.tc : Thread Cert.AdMetaRefIdeal.nD Cert.AdMetaRefIdeal.τ).loc Cert.AdMetaRefIdeal.main_arg0) = m' ((c.tc : Thread Cert.AdMetaRefIdeal.nD Cert.AdMetaRefIdeal.τ).loc Cert.AdMetaRefIdeal.main_arg0)
          ∧ r.2.mem ((c.tc : Thread Cert.AdMetaRefIdeal.nD Cert.AdMetaRefIdeal.τ).loc Cert.AdMetaRefIdeal.main_arg1) = m' ((c.tc : Thread Cert.AdMetaRefIdeal.nD Cert.AdMetaRefIdeal.τ).loc Cert.AdMetaRefIdeal.main_arg1)
          ∧ r.2.mem ((c.tc : Thread Cert.AdMetaRefIdeal.nD Cert.AdMetaRefIdeal.τ).loc Cert.AdMetaRefIdeal.main_arg2) = m' ((c.tc : Thread Cert.AdMetaRefIdeal.nD Cert.AdMetaRefIdeal.τ).loc Cert.AdMetaRefIdeal.main_arg2)
          ∧ r.2.mem ((c.tc : Thread Cert.AdMetaRefIdeal.nD Cert.AdMetaRefIdeal.τ).loc Cert.AdMetaRefIdeal.main_arg3) = m' ((c.tc : Thread Cert.AdMetaRefIdeal.nD Cert.AdMetaRefIdeal.τ).loc Cert.AdMetaRefIdeal.main_arg3))

def preserves_AdNorm_AdNormIdeal : Prop :=
  True

def algebraic_AdNormIdeal_AdNormRefIdeal [hAdNormIdeal : Cert.AdNormIdeal.Facts] [hAdNormRefIdeal : Cert.AdNormRefIdeal.Facts] : Prop :=
  ∀ (m : (ℓ : Loc Cert.AdNormIdeal.nD Cert.AdNormIdeal.τ Cert.AdNormIdeal.sig) → Buf (Elt Ideal) ℓ) (g : Dev Cert.AdNormIdeal.nD → PrngReg)
    (m' : (ℓ : Loc Cert.AdNormRefIdeal.nD Cert.AdNormRefIdeal.τ Cert.AdNormRefIdeal.sig) → Buf (Elt Ideal) ℓ) (g' : Dev Cert.AdNormRefIdeal.nD → PrngReg), Pre_AdNormIdeal m →
    (∀ c : Dev Cert.AdNormIdeal.nD,
      m' ((c.tc : Thread Cert.AdNormRefIdeal.nD Cert.AdNormRefIdeal.τ).loc Cert.AdNormRefIdeal.main_arg0) = m ((c.tc : Thread Cert.AdNormIdeal.nD Cert.AdNormIdeal.τ).loc Cert.AdNormIdeal.main_arg0)
      ∧ m' ((c.tc : Thread Cert.AdNormRefIdeal.nD Cert.AdNormRefIdeal.τ).loc Cert.AdNormRefIdeal.main_arg1) = m ((c.tc : Thread Cert.AdNormIdeal.nD Cert.AdNormIdeal.τ).loc Cert.AdNormIdeal.main_arg1)
      ∧ m' ((c.tc : Thread Cert.AdNormRefIdeal.nD Cert.AdNormRefIdeal.τ).loc Cert.AdNormRefIdeal.main_arg2) = m ((c.tc : Thread Cert.AdNormIdeal.nD Cert.AdNormIdeal.τ).loc Cert.AdNormIdeal.main_arg2)
      ∧ m' ((c.tc : Thread Cert.AdNormRefIdeal.nD Cert.AdNormRefIdeal.τ).loc Cert.AdNormRefIdeal.main_arg3) = m ((c.tc : Thread Cert.AdNormIdeal.nD Cert.AdNormIdeal.τ).loc Cert.AdNormIdeal.main_arg3)) →
    ∃ (v0 : (c : Dev Cert.AdNormIdeal.nD) → Buf (Elt Ideal) ((c.tc : Thread Cert.AdNormIdeal.nD Cert.AdNormIdeal.τ).loc Cert.AdNormIdeal.main_v0_0)) (v1 : (c : Dev Cert.AdNormIdeal.nD) → Buf (Elt Ideal) ((c.tc : Thread Cert.AdNormIdeal.nD Cert.AdNormIdeal.τ).loc Cert.AdNormIdeal.main_v0_1)) (v2 : (c : Dev Cert.AdNormIdeal.nD) → Buf (Elt Ideal) ((c.tc : Thread Cert.AdNormIdeal.nD Cert.AdNormIdeal.τ).loc Cert.AdNormIdeal.main_v0_2)),
      θ_run (Cert.AdNormIdeal.defs (F := Ideal)) (onTc (τ := Cert.AdNormIdeal.τ) (Cert.AdNormIdeal.main (F := Ideal))) ⟨m, fun _ => 0, g⟩ (fun r => ∀ c : Dev Cert.AdNormIdeal.nD,
          r.2.mem ((c.tc : Thread Cert.AdNormIdeal.nD Cert.AdNormIdeal.τ).loc Cert.AdNormIdeal.main_v0_0) = v0 c
          ∧ r.2.mem ((c.tc : Thread Cert.AdNormIdeal.nD Cert.AdNormIdeal.τ).loc Cert.AdNormIdeal.main_v0_1) = v1 c
          ∧ r.2.mem ((c.tc : Thread Cert.AdNormIdeal.nD Cert.AdNormIdeal.τ).loc Cert.AdNormIdeal.main_v0_2) = v2 c
          ∧ r.2.mem ((c.tc : Thread Cert.AdNormIdeal.nD Cert.AdNormIdeal.τ).loc Cert.AdNormIdeal.main_arg0) = m ((c.tc : Thread Cert.AdNormIdeal.nD Cert.AdNormIdeal.τ).loc Cert.AdNormIdeal.main_arg0)
          ∧ r.2.mem ((c.tc : Thread Cert.AdNormIdeal.nD Cert.AdNormIdeal.τ).loc Cert.AdNormIdeal.main_arg1) = m ((c.tc : Thread Cert.AdNormIdeal.nD Cert.AdNormIdeal.τ).loc Cert.AdNormIdeal.main_arg1)
          ∧ r.2.mem ((c.tc : Thread Cert.AdNormIdeal.nD Cert.AdNormIdeal.τ).loc Cert.AdNormIdeal.main_arg2) = m ((c.tc : Thread Cert.AdNormIdeal.nD Cert.AdNormIdeal.τ).loc Cert.AdNormIdeal.main_arg2)
          ∧ r.2.mem ((c.tc : Thread Cert.AdNormIdeal.nD Cert.AdNormIdeal.τ).loc Cert.AdNormIdeal.main_arg3) = m ((c.tc : Thread Cert.AdNormIdeal.nD Cert.AdNormIdeal.τ).loc Cert.AdNormIdeal.main_arg3))
      ∧ θ_run (Cert.AdNormRefIdeal.defs (F := Ideal)) (onTc (τ := Cert.AdNormRefIdeal.τ) (Cert.AdNormRefIdeal.main (F := Ideal))) ⟨m', fun _ => 0, g'⟩ (fun r => ∀ c : Dev Cert.AdNormRefIdeal.nD,
          r.2.mem ((c.tc : Thread Cert.AdNormRefIdeal.nD Cert.AdNormRefIdeal.τ).loc Cert.AdNormRefIdeal.main_v23) = v0 c
          ∧ r.2.mem ((c.tc : Thread Cert.AdNormRefIdeal.nD Cert.AdNormRefIdeal.τ).loc Cert.AdNormRefIdeal.main_v4) = v1 c
          ∧ r.2.mem ((c.tc : Thread Cert.AdNormRefIdeal.nD Cert.AdNormRefIdeal.τ).loc Cert.AdNormRefIdeal.main_v10) = v2 c
          ∧ r.2.mem ((c.tc : Thread Cert.AdNormRefIdeal.nD Cert.AdNormRefIdeal.τ).loc Cert.AdNormRefIdeal.main_arg0) = m' ((c.tc : Thread Cert.AdNormRefIdeal.nD Cert.AdNormRefIdeal.τ).loc Cert.AdNormRefIdeal.main_arg0)
          ∧ r.2.mem ((c.tc : Thread Cert.AdNormRefIdeal.nD Cert.AdNormRefIdeal.τ).loc Cert.AdNormRefIdeal.main_arg1) = m' ((c.tc : Thread Cert.AdNormRefIdeal.nD Cert.AdNormRefIdeal.τ).loc Cert.AdNormRefIdeal.main_arg1)
          ∧ r.2.mem ((c.tc : Thread Cert.AdNormRefIdeal.nD Cert.AdNormRefIdeal.τ).loc Cert.AdNormRefIdeal.main_arg2) = m' ((c.tc : Thread Cert.AdNormRefIdeal.nD Cert.AdNormRefIdeal.τ).loc Cert.AdNormRefIdeal.main_arg2)
          ∧ r.2.mem ((c.tc : Thread Cert.AdNormRefIdeal.nD Cert.AdNormRefIdeal.τ).loc Cert.AdNormRefIdeal.main_arg3) = m' ((c.tc : Thread Cert.AdNormRefIdeal.nD Cert.AdNormRefIdeal.τ).loc Cert.AdNormRefIdeal.main_arg3))

def preserves_AdHead_AdHeadIdeal : Prop :=
  True

def algebraic_AdHeadIdeal_AdHeadRefIdeal [hAdHeadIdeal : Cert.AdHeadIdeal.Facts] [hAdHeadRefIdeal : Cert.AdHeadRefIdeal.Facts] : Prop :=
  ∀ (m : (ℓ : Loc Cert.AdHeadIdeal.nD Cert.AdHeadIdeal.τ Cert.AdHeadIdeal.sig) → Buf (Elt Ideal) ℓ) (g : Dev Cert.AdHeadIdeal.nD → PrngReg)
    (m' : (ℓ : Loc Cert.AdHeadRefIdeal.nD Cert.AdHeadRefIdeal.τ Cert.AdHeadRefIdeal.sig) → Buf (Elt Ideal) ℓ) (g' : Dev Cert.AdHeadRefIdeal.nD → PrngReg), Pre_AdHeadIdeal m →
    (∀ c : Dev Cert.AdHeadIdeal.nD,
      m' ((c.tc : Thread Cert.AdHeadRefIdeal.nD Cert.AdHeadRefIdeal.τ).loc Cert.AdHeadRefIdeal.main_arg0) = m ((c.tc : Thread Cert.AdHeadIdeal.nD Cert.AdHeadIdeal.τ).loc Cert.AdHeadIdeal.main_arg0)
      ∧ m' ((c.tc : Thread Cert.AdHeadRefIdeal.nD Cert.AdHeadRefIdeal.τ).loc Cert.AdHeadRefIdeal.main_arg1) = m ((c.tc : Thread Cert.AdHeadIdeal.nD Cert.AdHeadIdeal.τ).loc Cert.AdHeadIdeal.main_arg1)
      ∧ m' ((c.tc : Thread Cert.AdHeadRefIdeal.nD Cert.AdHeadRefIdeal.τ).loc Cert.AdHeadRefIdeal.main_arg2) = m ((c.tc : Thread Cert.AdHeadIdeal.nD Cert.AdHeadIdeal.τ).loc Cert.AdHeadIdeal.main_arg2)
      ∧ m' ((c.tc : Thread Cert.AdHeadRefIdeal.nD Cert.AdHeadRefIdeal.τ).loc Cert.AdHeadRefIdeal.main_arg3) = m ((c.tc : Thread Cert.AdHeadIdeal.nD Cert.AdHeadIdeal.τ).loc Cert.AdHeadIdeal.main_arg3)) →
    ∃ (v0 : (c : Dev Cert.AdHeadIdeal.nD) → Buf (Elt Ideal) ((c.tc : Thread Cert.AdHeadIdeal.nD Cert.AdHeadIdeal.τ).loc Cert.AdHeadIdeal.main_v0_0)) (v1 : (c : Dev Cert.AdHeadIdeal.nD) → Buf (Elt Ideal) ((c.tc : Thread Cert.AdHeadIdeal.nD Cert.AdHeadIdeal.τ).loc Cert.AdHeadIdeal.main_v0_1)) (v2 : (c : Dev Cert.AdHeadIdeal.nD) → Buf (Elt Ideal) ((c.tc : Thread Cert.AdHeadIdeal.nD Cert.AdHeadIdeal.τ).loc Cert.AdHeadIdeal.main_v0_2)),
      θ_run (Cert.AdHeadIdeal.defs (F := Ideal)) (onTc (τ := Cert.AdHeadIdeal.τ) (Cert.AdHeadIdeal.main (F := Ideal))) ⟨m, fun _ => 0, g⟩ (fun r => ∀ c : Dev Cert.AdHeadIdeal.nD,
          r.2.mem ((c.tc : Thread Cert.AdHeadIdeal.nD Cert.AdHeadIdeal.τ).loc Cert.AdHeadIdeal.main_v0_0) = v0 c
          ∧ r.2.mem ((c.tc : Thread Cert.AdHeadIdeal.nD Cert.AdHeadIdeal.τ).loc Cert.AdHeadIdeal.main_v0_1) = v1 c
          ∧ r.2.mem ((c.tc : Thread Cert.AdHeadIdeal.nD Cert.AdHeadIdeal.τ).loc Cert.AdHeadIdeal.main_v0_2) = v2 c
          ∧ r.2.mem ((c.tc : Thread Cert.AdHeadIdeal.nD Cert.AdHeadIdeal.τ).loc Cert.AdHeadIdeal.main_arg0) = m ((c.tc : Thread Cert.AdHeadIdeal.nD Cert.AdHeadIdeal.τ).loc Cert.AdHeadIdeal.main_arg0)
          ∧ r.2.mem ((c.tc : Thread Cert.AdHeadIdeal.nD Cert.AdHeadIdeal.τ).loc Cert.AdHeadIdeal.main_arg1) = m ((c.tc : Thread Cert.AdHeadIdeal.nD Cert.AdHeadIdeal.τ).loc Cert.AdHeadIdeal.main_arg1)
          ∧ r.2.mem ((c.tc : Thread Cert.AdHeadIdeal.nD Cert.AdHeadIdeal.τ).loc Cert.AdHeadIdeal.main_arg2) = m ((c.tc : Thread Cert.AdHeadIdeal.nD Cert.AdHeadIdeal.τ).loc Cert.AdHeadIdeal.main_arg2)
          ∧ r.2.mem ((c.tc : Thread Cert.AdHeadIdeal.nD Cert.AdHeadIdeal.τ).loc Cert.AdHeadIdeal.main_arg3) = m ((c.tc : Thread Cert.AdHeadIdeal.nD Cert.AdHeadIdeal.τ).loc Cert.AdHeadIdeal.main_arg3))
      ∧ θ_run (Cert.AdHeadRefIdeal.defs (F := Ideal)) (onTc (τ := Cert.AdHeadRefIdeal.τ) (Cert.AdHeadRefIdeal.main (F := Ideal))) ⟨m', fun _ => 0, g'⟩ (fun r => ∀ c : Dev Cert.AdHeadRefIdeal.nD,
          r.2.mem ((c.tc : Thread Cert.AdHeadRefIdeal.nD Cert.AdHeadRefIdeal.τ).loc Cert.AdHeadRefIdeal.main_v23) = v0 c
          ∧ r.2.mem ((c.tc : Thread Cert.AdHeadRefIdeal.nD Cert.AdHeadRefIdeal.τ).loc Cert.AdHeadRefIdeal.main_v4) = v1 c
          ∧ r.2.mem ((c.tc : Thread Cert.AdHeadRefIdeal.nD Cert.AdHeadRefIdeal.τ).loc Cert.AdHeadRefIdeal.main_v10) = v2 c
          ∧ r.2.mem ((c.tc : Thread Cert.AdHeadRefIdeal.nD Cert.AdHeadRefIdeal.τ).loc Cert.AdHeadRefIdeal.main_arg0) = m' ((c.tc : Thread Cert.AdHeadRefIdeal.nD Cert.AdHeadRefIdeal.τ).loc Cert.AdHeadRefIdeal.main_arg0)
          ∧ r.2.mem ((c.tc : Thread Cert.AdHeadRefIdeal.nD Cert.AdHeadRefIdeal.τ).loc Cert.AdHeadRefIdeal.main_arg1) = m' ((c.tc : Thread Cert.AdHeadRefIdeal.nD Cert.AdHeadRefIdeal.τ).loc Cert.AdHeadRefIdeal.main_arg1)
          ∧ r.2.mem ((c.tc : Thread Cert.AdHeadRefIdeal.nD Cert.AdHeadRefIdeal.τ).loc Cert.AdHeadRefIdeal.main_arg2) = m' ((c.tc : Thread Cert.AdHeadRefIdeal.nD Cert.AdHeadRefIdeal.τ).loc Cert.AdHeadRefIdeal.main_arg2)
          ∧ r.2.mem ((c.tc : Thread Cert.AdHeadRefIdeal.nD Cert.AdHeadRefIdeal.τ).loc Cert.AdHeadRefIdeal.main_arg3) = m' ((c.tc : Thread Cert.AdHeadRefIdeal.nD Cert.AdHeadRefIdeal.τ).loc Cert.AdHeadRefIdeal.main_arg3))

def preserves_AdHeadN_AdHeadNIdeal : Prop :=
  True

def algebraic_AdHeadNIdeal_AdHeadNRefIdeal [hAdHeadNIdeal : Cert.AdHeadNIdeal.Facts] [hAdHeadNRefIdeal : Cert.AdHeadNRefIdeal.Facts] : Prop :=
  ∀ (m : (ℓ : Loc Cert.AdHeadNIdeal.nD Cert.AdHeadNIdeal.τ Cert.AdHeadNIdeal.sig) → Buf (Elt Ideal) ℓ) (g : Dev Cert.AdHeadNIdeal.nD → PrngReg)
    (m' : (ℓ : Loc Cert.AdHeadNRefIdeal.nD Cert.AdHeadNRefIdeal.τ Cert.AdHeadNRefIdeal.sig) → Buf (Elt Ideal) ℓ) (g' : Dev Cert.AdHeadNRefIdeal.nD → PrngReg), Pre_AdHeadNIdeal m →
    (∀ c : Dev Cert.AdHeadNIdeal.nD,
      m' ((c.tc : Thread Cert.AdHeadNRefIdeal.nD Cert.AdHeadNRefIdeal.τ).loc Cert.AdHeadNRefIdeal.main_arg0) = m ((c.tc : Thread Cert.AdHeadNIdeal.nD Cert.AdHeadNIdeal.τ).loc Cert.AdHeadNIdeal.main_arg0)
      ∧ m' ((c.tc : Thread Cert.AdHeadNRefIdeal.nD Cert.AdHeadNRefIdeal.τ).loc Cert.AdHeadNRefIdeal.main_arg1) = m ((c.tc : Thread Cert.AdHeadNIdeal.nD Cert.AdHeadNIdeal.τ).loc Cert.AdHeadNIdeal.main_arg1)
      ∧ m' ((c.tc : Thread Cert.AdHeadNRefIdeal.nD Cert.AdHeadNRefIdeal.τ).loc Cert.AdHeadNRefIdeal.main_arg2) = m ((c.tc : Thread Cert.AdHeadNIdeal.nD Cert.AdHeadNIdeal.τ).loc Cert.AdHeadNIdeal.main_arg2)
      ∧ m' ((c.tc : Thread Cert.AdHeadNRefIdeal.nD Cert.AdHeadNRefIdeal.τ).loc Cert.AdHeadNRefIdeal.main_arg3) = m ((c.tc : Thread Cert.AdHeadNIdeal.nD Cert.AdHeadNIdeal.τ).loc Cert.AdHeadNIdeal.main_arg3)) →
    ∃ (v0 : (c : Dev Cert.AdHeadNIdeal.nD) → Buf (Elt Ideal) ((c.tc : Thread Cert.AdHeadNIdeal.nD Cert.AdHeadNIdeal.τ).loc Cert.AdHeadNIdeal.main_v0_0)) (v1 : (c : Dev Cert.AdHeadNIdeal.nD) → Buf (Elt Ideal) ((c.tc : Thread Cert.AdHeadNIdeal.nD Cert.AdHeadNIdeal.τ).loc Cert.AdHeadNIdeal.main_v0_1)) (v2 : (c : Dev Cert.AdHeadNIdeal.nD) → Buf (Elt Ideal) ((c.tc : Thread Cert.AdHeadNIdeal.nD Cert.AdHeadNIdeal.τ).loc Cert.AdHeadNIdeal.main_v0_2)),
      θ_run (Cert.AdHeadNIdeal.defs (F := Ideal)) (onTc (τ := Cert.AdHeadNIdeal.τ) (Cert.AdHeadNIdeal.main (F := Ideal))) ⟨m, fun _ => 0, g⟩ (fun r => ∀ c : Dev Cert.AdHeadNIdeal.nD,
          r.2.mem ((c.tc : Thread Cert.AdHeadNIdeal.nD Cert.AdHeadNIdeal.τ).loc Cert.AdHeadNIdeal.main_v0_0) = v0 c
          ∧ r.2.mem ((c.tc : Thread Cert.AdHeadNIdeal.nD Cert.AdHeadNIdeal.τ).loc Cert.AdHeadNIdeal.main_v0_1) = v1 c
          ∧ r.2.mem ((c.tc : Thread Cert.AdHeadNIdeal.nD Cert.AdHeadNIdeal.τ).loc Cert.AdHeadNIdeal.main_v0_2) = v2 c
          ∧ r.2.mem ((c.tc : Thread Cert.AdHeadNIdeal.nD Cert.AdHeadNIdeal.τ).loc Cert.AdHeadNIdeal.main_arg0) = m ((c.tc : Thread Cert.AdHeadNIdeal.nD Cert.AdHeadNIdeal.τ).loc Cert.AdHeadNIdeal.main_arg0)
          ∧ r.2.mem ((c.tc : Thread Cert.AdHeadNIdeal.nD Cert.AdHeadNIdeal.τ).loc Cert.AdHeadNIdeal.main_arg1) = m ((c.tc : Thread Cert.AdHeadNIdeal.nD Cert.AdHeadNIdeal.τ).loc Cert.AdHeadNIdeal.main_arg1)
          ∧ r.2.mem ((c.tc : Thread Cert.AdHeadNIdeal.nD Cert.AdHeadNIdeal.τ).loc Cert.AdHeadNIdeal.main_arg2) = m ((c.tc : Thread Cert.AdHeadNIdeal.nD Cert.AdHeadNIdeal.τ).loc Cert.AdHeadNIdeal.main_arg2)
          ∧ r.2.mem ((c.tc : Thread Cert.AdHeadNIdeal.nD Cert.AdHeadNIdeal.τ).loc Cert.AdHeadNIdeal.main_arg3) = m ((c.tc : Thread Cert.AdHeadNIdeal.nD Cert.AdHeadNIdeal.τ).loc Cert.AdHeadNIdeal.main_arg3))
      ∧ θ_run (Cert.AdHeadNRefIdeal.defs (F := Ideal)) (onTc (τ := Cert.AdHeadNRefIdeal.τ) (Cert.AdHeadNRefIdeal.main (F := Ideal))) ⟨m', fun _ => 0, g'⟩ (fun r => ∀ c : Dev Cert.AdHeadNRefIdeal.nD,
          r.2.mem ((c.tc : Thread Cert.AdHeadNRefIdeal.nD Cert.AdHeadNRefIdeal.τ).loc Cert.AdHeadNRefIdeal.main_v23) = v0 c
          ∧ r.2.mem ((c.tc : Thread Cert.AdHeadNRefIdeal.nD Cert.AdHeadNRefIdeal.τ).loc Cert.AdHeadNRefIdeal.main_v4) = v1 c
          ∧ r.2.mem ((c.tc : Thread Cert.AdHeadNRefIdeal.nD Cert.AdHeadNRefIdeal.τ).loc Cert.AdHeadNRefIdeal.main_v10) = v2 c
          ∧ r.2.mem ((c.tc : Thread Cert.AdHeadNRefIdeal.nD Cert.AdHeadNRefIdeal.τ).loc Cert.AdHeadNRefIdeal.main_arg0) = m' ((c.tc : Thread Cert.AdHeadNRefIdeal.nD Cert.AdHeadNRefIdeal.τ).loc Cert.AdHeadNRefIdeal.main_arg0)
          ∧ r.2.mem ((c.tc : Thread Cert.AdHeadNRefIdeal.nD Cert.AdHeadNRefIdeal.τ).loc Cert.AdHeadNRefIdeal.main_arg1) = m' ((c.tc : Thread Cert.AdHeadNRefIdeal.nD Cert.AdHeadNRefIdeal.τ).loc Cert.AdHeadNRefIdeal.main_arg1)
          ∧ r.2.mem ((c.tc : Thread Cert.AdHeadNRefIdeal.nD Cert.AdHeadNRefIdeal.τ).loc Cert.AdHeadNRefIdeal.main_arg2) = m' ((c.tc : Thread Cert.AdHeadNRefIdeal.nD Cert.AdHeadNRefIdeal.τ).loc Cert.AdHeadNRefIdeal.main_arg2)
          ∧ r.2.mem ((c.tc : Thread Cert.AdHeadNRefIdeal.nD Cert.AdHeadNRefIdeal.τ).loc Cert.AdHeadNRefIdeal.main_arg3) = m' ((c.tc : Thread Cert.AdHeadNRefIdeal.nD Cert.AdHeadNRefIdeal.τ).loc Cert.AdHeadNRefIdeal.main_arg3))

def preserves_AdFin_AdFinIdeal : Prop :=
  True

def algebraic_AdFinIdeal_AdFinRefIdeal [hAdFinIdeal : Cert.AdFinIdeal.Facts] [hAdFinRefIdeal : Cert.AdFinRefIdeal.Facts] : Prop :=
  ∀ (m : (ℓ : Loc Cert.AdFinIdeal.nD Cert.AdFinIdeal.τ Cert.AdFinIdeal.sig) → Buf (Elt Ideal) ℓ) (g : Dev Cert.AdFinIdeal.nD → PrngReg)
    (m' : (ℓ : Loc Cert.AdFinRefIdeal.nD Cert.AdFinRefIdeal.τ Cert.AdFinRefIdeal.sig) → Buf (Elt Ideal) ℓ) (g' : Dev Cert.AdFinRefIdeal.nD → PrngReg), Pre_AdFinIdeal m →
    (∀ c : Dev Cert.AdFinIdeal.nD,
      m' ((c.tc : Thread Cert.AdFinRefIdeal.nD Cert.AdFinRefIdeal.τ).loc Cert.AdFinRefIdeal.main_arg0) = m ((c.tc : Thread Cert.AdFinIdeal.nD Cert.AdFinIdeal.τ).loc Cert.AdFinIdeal.main_arg0)
      ∧ m' ((c.tc : Thread Cert.AdFinRefIdeal.nD Cert.AdFinRefIdeal.τ).loc Cert.AdFinRefIdeal.main_arg1) = m ((c.tc : Thread Cert.AdFinIdeal.nD Cert.AdFinIdeal.τ).loc Cert.AdFinIdeal.main_arg1)
      ∧ m' ((c.tc : Thread Cert.AdFinRefIdeal.nD Cert.AdFinRefIdeal.τ).loc Cert.AdFinRefIdeal.main_arg2) = m ((c.tc : Thread Cert.AdFinIdeal.nD Cert.AdFinIdeal.τ).loc Cert.AdFinIdeal.main_arg2)
      ∧ m' ((c.tc : Thread Cert.AdFinRefIdeal.nD Cert.AdFinRefIdeal.τ).loc Cert.AdFinRefIdeal.main_arg3) = m ((c.tc : Thread Cert.AdFinIdeal.nD Cert.AdFinIdeal.τ).loc Cert.AdFinIdeal.main_arg3)) →
    ∃ (v0 : (c : Dev Cert.AdFinIdeal.nD) → Buf (Elt Ideal) ((c.tc : Thread Cert.AdFinIdeal.nD Cert.AdFinIdeal.τ).loc Cert.AdFinIdeal.main_v4_0)) (v1 : (c : Dev Cert.AdFinIdeal.nD) → Buf (Elt Ideal) ((c.tc : Thread Cert.AdFinIdeal.nD Cert.AdFinIdeal.τ).loc Cert.AdFinIdeal.main_v4_1)) (v2 : (c : Dev Cert.AdFinIdeal.nD) → Buf (Elt Ideal) ((c.tc : Thread Cert.AdFinIdeal.nD Cert.AdFinIdeal.τ).loc Cert.AdFinIdeal.main_v4_2)),
      θ_run (Cert.AdFinIdeal.defs (F := Ideal)) (onTc (τ := Cert.AdFinIdeal.τ) (Cert.AdFinIdeal.main (F := Ideal))) ⟨m, fun _ => 0, g⟩ (fun r => ∀ c : Dev Cert.AdFinIdeal.nD,
          r.2.mem ((c.tc : Thread Cert.AdFinIdeal.nD Cert.AdFinIdeal.τ).loc Cert.AdFinIdeal.main_v4_0) = v0 c
          ∧ r.2.mem ((c.tc : Thread Cert.AdFinIdeal.nD Cert.AdFinIdeal.τ).loc Cert.AdFinIdeal.main_v4_1) = v1 c
          ∧ r.2.mem ((c.tc : Thread Cert.AdFinIdeal.nD Cert.AdFinIdeal.τ).loc Cert.AdFinIdeal.main_v4_2) = v2 c
          ∧ r.2.mem ((c.tc : Thread Cert.AdFinIdeal.nD Cert.AdFinIdeal.τ).loc Cert.AdFinIdeal.main_arg0) = m ((c.tc : Thread Cert.AdFinIdeal.nD Cert.AdFinIdeal.τ).loc Cert.AdFinIdeal.main_arg0)
          ∧ r.2.mem ((c.tc : Thread Cert.AdFinIdeal.nD Cert.AdFinIdeal.τ).loc Cert.AdFinIdeal.main_arg1) = m ((c.tc : Thread Cert.AdFinIdeal.nD Cert.AdFinIdeal.τ).loc Cert.AdFinIdeal.main_arg1)
          ∧ r.2.mem ((c.tc : Thread Cert.AdFinIdeal.nD Cert.AdFinIdeal.τ).loc Cert.AdFinIdeal.main_arg2) = m ((c.tc : Thread Cert.AdFinIdeal.nD Cert.AdFinIdeal.τ).loc Cert.AdFinIdeal.main_arg2)
          ∧ r.2.mem ((c.tc : Thread Cert.AdFinIdeal.nD Cert.AdFinIdeal.τ).loc Cert.AdFinIdeal.main_arg3) = m ((c.tc : Thread Cert.AdFinIdeal.nD Cert.AdFinIdeal.τ).loc Cert.AdFinIdeal.main_arg3))
      ∧ θ_run (Cert.AdFinRefIdeal.defs (F := Ideal)) (onTc (τ := Cert.AdFinRefIdeal.τ) (Cert.AdFinRefIdeal.main (F := Ideal))) ⟨m', fun _ => 0, g'⟩ (fun r => ∀ c : Dev Cert.AdFinRefIdeal.nD,
          r.2.mem ((c.tc : Thread Cert.AdFinRefIdeal.nD Cert.AdFinRefIdeal.τ).loc Cert.AdFinRefIdeal.main_v24) = v0 c
          ∧ r.2.mem ((c.tc : Thread Cert.AdFinRefIdeal.nD Cert.AdFinRefIdeal.τ).loc Cert.AdFinRefIdeal.main_v25) = v1 c
          ∧ r.2.mem ((c.tc : Thread Cert.AdFinRefIdeal.nD Cert.AdFinRefIdeal.τ).loc Cert.AdFinRefIdeal.main_v26) = v2 c
          ∧ r.2.mem ((c.tc : Thread Cert.AdFinRefIdeal.nD Cert.AdFinRefIdeal.τ).loc Cert.AdFinRefIdeal.main_arg0) = m' ((c.tc : Thread Cert.AdFinRefIdeal.nD Cert.AdFinRefIdeal.τ).loc Cert.AdFinRefIdeal.main_arg0)
          ∧ r.2.mem ((c.tc : Thread Cert.AdFinRefIdeal.nD Cert.AdFinRefIdeal.τ).loc Cert.AdFinRefIdeal.main_arg1) = m' ((c.tc : Thread Cert.AdFinRefIdeal.nD Cert.AdFinRefIdeal.τ).loc Cert.AdFinRefIdeal.main_arg1)
          ∧ r.2.mem ((c.tc : Thread Cert.AdFinRefIdeal.nD Cert.AdFinRefIdeal.τ).loc Cert.AdFinRefIdeal.main_arg2) = m' ((c.tc : Thread Cert.AdFinRefIdeal.nD Cert.AdFinRefIdeal.τ).loc Cert.AdFinRefIdeal.main_arg2)
          ∧ r.2.mem ((c.tc : Thread Cert.AdFinRefIdeal.nD Cert.AdFinRefIdeal.τ).loc Cert.AdFinRefIdeal.main_arg3) = m' ((c.tc : Thread Cert.AdFinRefIdeal.nD Cert.AdFinRefIdeal.τ).loc Cert.AdFinRefIdeal.main_arg3))

def preserves_Swap_SwapIdeal : Prop :=
  True

def algebraic_SwapIdeal_SwapRefIdeal [hSwapIdeal : Cert.SwapIdeal.Facts] [hSwapRefIdeal : Cert.SwapRefIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapRefIdeal.nD Cert.SwapRefIdeal.τ Cert.SwapRefIdeal.sig) → Buf (Elt Ideal) ℓ) (g' : Dev Cert.SwapRefIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨4, ![4, 2, 1024, 1668]⟩ ⟨4, ![8, 2, 1024, 1668]⟩ 0 2 c (m' (((0 : Dev Cert.SwapRefIdeal.nD).tc : Thread Cert.SwapRefIdeal.nD Cert.SwapRefIdeal.τ).loc Cert.SwapRefIdeal.main_arg0))
      ∧ m ((c.tc : Thread Cert.SwapIdeal.nD Cert.SwapIdeal.τ).loc Cert.SwapIdeal.main_arg1) = Layout.block ⟨4, ![4, 2, 1024, 1408]⟩ ⟨4, ![8, 2, 1024, 1408]⟩ 0 2 c (m' (((0 : Dev Cert.SwapRefIdeal.nD).tc : Thread Cert.SwapRefIdeal.nD Cert.SwapRefIdeal.τ).loc Cert.SwapRefIdeal.main_arg1))
      ∧ m ((c.tc : Thread Cert.SwapIdeal.nD Cert.SwapIdeal.τ).loc Cert.SwapIdeal.main_arg2) = Layout.block ⟨4, ![4, 2, 704, 1024]⟩ ⟨4, ![8, 2, 704, 1024]⟩ 0 2 c (m' (((0 : Dev Cert.SwapRefIdeal.nD).tc : Thread Cert.SwapRefIdeal.nD Cert.SwapRefIdeal.τ).loc Cert.SwapRefIdeal.main_arg2))
      ∧ m ((c.tc : Thread Cert.SwapIdeal.nD Cert.SwapIdeal.τ).loc Cert.SwapIdeal.main_arg3) = Layout.block ⟨4, ![4, 2, 256, 1024]⟩ ⟨4, ![8, 2, 256, 1024]⟩ 0 2 c (m' (((0 : Dev Cert.SwapRefIdeal.nD).tc : Thread Cert.SwapRefIdeal.nD Cert.SwapRefIdeal.τ).loc Cert.SwapRefIdeal.main_arg3))
      ∧ m ((c.tc : Thread Cert.SwapIdeal.nD Cert.SwapIdeal.τ).loc Cert.SwapIdeal.main_arg4) = Layout.block ⟨4, ![4, 2, 368, 128]⟩ ⟨4, ![8, 2, 368, 128]⟩ 0 2 c (m' (((0 : Dev Cert.SwapRefIdeal.nD).tc : Thread Cert.SwapRefIdeal.nD Cert.SwapRefIdeal.τ).loc Cert.SwapRefIdeal.main_arg4))) →
    ∃ (v0 : Buf (Elt Ideal) (((0 : Dev Cert.SwapRefIdeal.nD).tc : Thread Cert.SwapRefIdeal.nD Cert.SwapRefIdeal.τ).loc Cert.SwapRefIdeal.main_v4)) (v1 : Buf (Elt Ideal) (((0 : Dev Cert.SwapRefIdeal.nD).tc : Thread Cert.SwapRefIdeal.nD Cert.SwapRefIdeal.τ).loc Cert.SwapRefIdeal.main_v9)) (v2 : Buf (Elt Ideal) (((0 : Dev Cert.SwapRefIdeal.nD).tc : Thread Cert.SwapRefIdeal.nD Cert.SwapRefIdeal.τ).loc Cert.SwapRefIdeal.main_v14)) (v3 : Buf (Elt Ideal) (((0 : Dev Cert.SwapRefIdeal.nD).tc : Thread Cert.SwapRefIdeal.nD Cert.SwapRefIdeal.τ).loc Cert.SwapRefIdeal.main_v19)) (v4 : Buf (Elt Ideal) (((0 : Dev Cert.SwapRefIdeal.nD).tc : Thread Cert.SwapRefIdeal.nD Cert.SwapRefIdeal.τ).loc Cert.SwapRefIdeal.main_v24)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1_0) = Layout.block ⟨3, ![4, 1024, 1668]⟩ ⟨3, ![8, 1024, 1668]⟩ 0 2 c v0
          ∧ r.2.mem ((c.tc : Thread Cert.SwapIdeal.nD Cert.SwapIdeal.τ).loc Cert.SwapIdeal.main_v1_1) = Layout.block ⟨3, ![4, 1024, 1408]⟩ ⟨3, ![8, 1024, 1408]⟩ 0 2 c v1
          ∧ r.2.mem ((c.tc : Thread Cert.SwapIdeal.nD Cert.SwapIdeal.τ).loc Cert.SwapIdeal.main_v1_2) = Layout.block ⟨3, ![4, 704, 1024]⟩ ⟨3, ![8, 704, 1024]⟩ 0 2 c v2
          ∧ r.2.mem ((c.tc : Thread Cert.SwapIdeal.nD Cert.SwapIdeal.τ).loc Cert.SwapIdeal.main_v1_3) = Layout.block ⟨3, ![4, 256, 1024]⟩ ⟨3, ![8, 256, 1024]⟩ 0 2 c v3
          ∧ r.2.mem ((c.tc : Thread Cert.SwapIdeal.nD Cert.SwapIdeal.τ).loc Cert.SwapIdeal.main_v1_4) = Layout.block ⟨3, ![4, 368, 128]⟩ ⟨3, ![8, 368, 128]⟩ 0 2 c v4
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0)
          ∧ r.2.mem ((c.tc : Thread Cert.SwapIdeal.nD Cert.SwapIdeal.τ).loc Cert.SwapIdeal.main_arg1) = m ((c.tc : Thread Cert.SwapIdeal.nD Cert.SwapIdeal.τ).loc Cert.SwapIdeal.main_arg1)
          ∧ r.2.mem ((c.tc : Thread Cert.SwapIdeal.nD Cert.SwapIdeal.τ).loc Cert.SwapIdeal.main_arg2) = m ((c.tc : Thread Cert.SwapIdeal.nD Cert.SwapIdeal.τ).loc Cert.SwapIdeal.main_arg2)
          ∧ r.2.mem ((c.tc : Thread Cert.SwapIdeal.nD Cert.SwapIdeal.τ).loc Cert.SwapIdeal.main_arg3) = m ((c.tc : Thread Cert.SwapIdeal.nD Cert.SwapIdeal.τ).loc Cert.SwapIdeal.main_arg3)
          ∧ r.2.mem ((c.tc : Thread Cert.SwapIdeal.nD Cert.SwapIdeal.τ).loc Cert.SwapIdeal.main_arg4) = m ((c.tc : Thread Cert.SwapIdeal.nD Cert.SwapIdeal.τ).loc Cert.SwapIdeal.main_arg4))
      ∧ θ_run (Cert.SwapRefIdeal.defs (F := Ideal)) (onTc (τ := Cert.SwapRefIdeal.τ) (Cert.SwapRefIdeal.main (F := Ideal))) ⟨m', fun _ => 0, g'⟩ (fun r =>
          r.2.mem (((0 : Dev Cert.SwapRefIdeal.nD).tc : Thread Cert.SwapRefIdeal.nD Cert.SwapRefIdeal.τ).loc Cert.SwapRefIdeal.main_v4) = v0
          ∧ r.2.mem (((0 : Dev Cert.SwapRefIdeal.nD).tc : Thread Cert.SwapRefIdeal.nD Cert.SwapRefIdeal.τ).loc Cert.SwapRefIdeal.main_v9) = v1
          ∧ r.2.mem (((0 : Dev Cert.SwapRefIdeal.nD).tc : Thread Cert.SwapRefIdeal.nD Cert.SwapRefIdeal.τ).loc Cert.SwapRefIdeal.main_v14) = v2
          ∧ r.2.mem (((0 : Dev Cert.SwapRefIdeal.nD).tc : Thread Cert.SwapRefIdeal.nD Cert.SwapRefIdeal.τ).loc Cert.SwapRefIdeal.main_v19) = v3
          ∧ r.2.mem (((0 : Dev Cert.SwapRefIdeal.nD).tc : Thread Cert.SwapRefIdeal.nD Cert.SwapRefIdeal.τ).loc Cert.SwapRefIdeal.main_v24) = v4
          ∧ r.2.mem (((0 : Dev Cert.SwapRefIdeal.nD).tc : Thread Cert.SwapRefIdeal.nD Cert.SwapRefIdeal.τ).loc Cert.SwapRefIdeal.main_arg0) = m' (((0 : Dev Cert.SwapRefIdeal.nD).tc : Thread Cert.SwapRefIdeal.nD Cert.SwapRefIdeal.τ).loc Cert.SwapRefIdeal.main_arg0)
          ∧ r.2.mem (((0 : Dev Cert.SwapRefIdeal.nD).tc : Thread Cert.SwapRefIdeal.nD Cert.SwapRefIdeal.τ).loc Cert.SwapRefIdeal.main_arg1) = m' (((0 : Dev Cert.SwapRefIdeal.nD).tc : Thread Cert.SwapRefIdeal.nD Cert.SwapRefIdeal.τ).loc Cert.SwapRefIdeal.main_arg1)
          ∧ r.2.mem (((0 : Dev Cert.SwapRefIdeal.nD).tc : Thread Cert.SwapRefIdeal.nD Cert.SwapRefIdeal.τ).loc Cert.SwapRefIdeal.main_arg2) = m' (((0 : Dev Cert.SwapRefIdeal.nD).tc : Thread Cert.SwapRefIdeal.nD Cert.SwapRefIdeal.τ).loc Cert.SwapRefIdeal.main_arg2)
          ∧ r.2.mem (((0 : Dev Cert.SwapRefIdeal.nD).tc : Thread Cert.SwapRefIdeal.nD Cert.SwapRefIdeal.τ).loc Cert.SwapRefIdeal.main_arg3) = m' (((0 : Dev Cert.SwapRefIdeal.nD).tc : Thread Cert.SwapRefIdeal.nD Cert.SwapRefIdeal.τ).loc Cert.SwapRefIdeal.main_arg3)
          ∧ r.2.mem (((0 : Dev Cert.SwapRefIdeal.nD).tc : Thread Cert.SwapRefIdeal.nD Cert.SwapRefIdeal.τ).loc Cert.SwapRefIdeal.main_arg4) = m' (((0 : Dev Cert.SwapRefIdeal.nD).tc : Thread Cert.SwapRefIdeal.nD Cert.SwapRefIdeal.τ).loc Cert.SwapRefIdeal.main_arg4))

def preserves_Scat_ScatIdeal : Prop :=
  True

def algebraic_ScatIdeal_ScatRefIdeal [hScatIdeal : Cert.ScatIdeal.Facts] [hScatRefIdeal : Cert.ScatRefIdeal.Facts] : Prop :=
  ∀ (m : (ℓ : Loc Cert.ScatIdeal.nD Cert.ScatIdeal.τ Cert.ScatIdeal.sig) → Buf (Elt Ideal) ℓ) (g : Dev Cert.ScatIdeal.nD → PrngReg)
    (m' : (ℓ : Loc Cert.ScatRefIdeal.nD Cert.ScatRefIdeal.τ Cert.ScatRefIdeal.sig) → Buf (Elt Ideal) ℓ) (g' : Dev Cert.ScatRefIdeal.nD → PrngReg), Pre_ScatIdeal m →
    (∀ c : Dev Cert.ScatIdeal.nD,
      m ((c.tc : Thread Cert.ScatIdeal.nD Cert.ScatIdeal.τ).loc Cert.ScatIdeal.main_arg0) = Layout.block ⟨3, ![4, 1024, 1668]⟩ ⟨3, ![16, 1024, 1668]⟩ 0 4 c (m' (((0 : Dev Cert.ScatRefIdeal.nD).tc : Thread Cert.ScatRefIdeal.nD Cert.ScatRefIdeal.τ).loc Cert.ScatRefIdeal.main_arg0))
      ∧ m ((c.tc : Thread Cert.ScatIdeal.nD Cert.ScatIdeal.τ).loc Cert.ScatIdeal.main_arg1) = Layout.block ⟨3, ![4, 1024, 1408]⟩ ⟨3, ![16, 1024, 1408]⟩ 0 4 c (m' (((0 : Dev Cert.ScatRefIdeal.nD).tc : Thread Cert.ScatRefIdeal.nD Cert.ScatRefIdeal.τ).loc Cert.ScatRefIdeal.main_arg1))
      ∧ m ((c.tc : Thread Cert.ScatIdeal.nD Cert.ScatIdeal.τ).loc Cert.ScatIdeal.main_arg2) = Layout.block ⟨3, ![4, 704, 1024]⟩ ⟨3, ![16, 704, 1024]⟩ 0 4 c (m' (((0 : Dev Cert.ScatRefIdeal.nD).tc : Thread Cert.ScatRefIdeal.nD Cert.ScatRefIdeal.τ).loc Cert.ScatRefIdeal.main_arg2))
      ∧ m ((c.tc : Thread Cert.ScatIdeal.nD Cert.ScatIdeal.τ).loc Cert.ScatIdeal.main_arg3) = Layout.block ⟨3, ![4, 256, 1024]⟩ ⟨3, ![16, 256, 1024]⟩ 0 4 c (m' (((0 : Dev Cert.ScatRefIdeal.nD).tc : Thread Cert.ScatRefIdeal.nD Cert.ScatRefIdeal.τ).loc Cert.ScatRefIdeal.main_arg3))
      ∧ m ((c.tc : Thread Cert.ScatIdeal.nD Cert.ScatIdeal.τ).loc Cert.ScatIdeal.main_arg4) = Layout.block ⟨3, ![4, 368, 128]⟩ ⟨3, ![16, 368, 128]⟩ 0 4 c (m' (((0 : Dev Cert.ScatRefIdeal.nD).tc : Thread Cert.ScatRefIdeal.nD Cert.ScatRefIdeal.τ).loc Cert.ScatRefIdeal.main_arg4))) →
    ∃ (v0 : Buf (Elt Ideal) (((0 : Dev Cert.ScatRefIdeal.nD).tc : Thread Cert.ScatRefIdeal.nD Cert.ScatRefIdeal.τ).loc Cert.ScatRefIdeal.main_v2)) (v1 : Buf (Elt Ideal) (((0 : Dev Cert.ScatRefIdeal.nD).tc : Thread Cert.ScatRefIdeal.nD Cert.ScatRefIdeal.τ).loc Cert.ScatRefIdeal.main_v5)) (v2 : Buf (Elt Ideal) (((0 : Dev Cert.ScatRefIdeal.nD).tc : Thread Cert.ScatRefIdeal.nD Cert.ScatRefIdeal.τ).loc Cert.ScatRefIdeal.main_v8)) (v3 : Buf (Elt Ideal) (((0 : Dev Cert.ScatRefIdeal.nD).tc : Thread Cert.ScatRefIdeal.nD Cert.ScatRefIdeal.τ).loc Cert.ScatRefIdeal.main_v11)) (v4 : Buf (Elt Ideal) (((0 : Dev Cert.ScatRefIdeal.nD).tc : Thread Cert.ScatRefIdeal.nD Cert.ScatRefIdeal.τ).loc Cert.ScatRefIdeal.main_v14)),
      θ_run (Cert.ScatIdeal.defs (F := Ideal)) (onTc (τ := Cert.ScatIdeal.τ) (Cert.ScatIdeal.main (F := Ideal))) ⟨m, fun _ => 0, g⟩ (fun r => ∀ c : Dev Cert.ScatIdeal.nD,
          r.2.mem ((c.tc : Thread Cert.ScatIdeal.nD Cert.ScatIdeal.τ).loc Cert.ScatIdeal.main_v19) = Layout.block ⟨3, ![4, 1024, 1668]⟩ ⟨3, ![16, 1024, 1668]⟩ 0 4 c v0
          ∧ r.2.mem ((c.tc : Thread Cert.ScatIdeal.nD Cert.ScatIdeal.τ).loc Cert.ScatIdeal.main_v27) = Layout.block ⟨3, ![4, 1024, 1408]⟩ ⟨3, ![16, 1024, 1408]⟩ 0 4 c v1
          ∧ r.2.mem ((c.tc : Thread Cert.ScatIdeal.nD Cert.ScatIdeal.τ).loc Cert.ScatIdeal.main_v35) = Layout.block ⟨3, ![4, 704, 1024]⟩ ⟨3, ![16, 704, 1024]⟩ 0 4 c v2
          ∧ r.2.mem ((c.tc : Thread Cert.ScatIdeal.nD Cert.ScatIdeal.τ).loc Cert.ScatIdeal.main_v43) = Layout.block ⟨3, ![4, 256, 1024]⟩ ⟨3, ![16, 256, 1024]⟩ 0 4 c v3
          ∧ r.2.mem ((c.tc : Thread Cert.ScatIdeal.nD Cert.ScatIdeal.τ).loc Cert.ScatIdeal.main_v51) = Layout.block ⟨3, ![4, 368, 128]⟩ ⟨3, ![16, 368, 128]⟩ 0 4 c v4
          ∧ r.2.mem ((c.tc : Thread Cert.ScatIdeal.nD Cert.ScatIdeal.τ).loc Cert.ScatIdeal.main_arg0) = m ((c.tc : Thread Cert.ScatIdeal.nD Cert.ScatIdeal.τ).loc Cert.ScatIdeal.main_arg0)
          ∧ r.2.mem ((c.tc : Thread Cert.ScatIdeal.nD Cert.ScatIdeal.τ).loc Cert.ScatIdeal.main_arg1) = m ((c.tc : Thread Cert.ScatIdeal.nD Cert.ScatIdeal.τ).loc Cert.ScatIdeal.main_arg1)
          ∧ r.2.mem ((c.tc : Thread Cert.ScatIdeal.nD Cert.ScatIdeal.τ).loc Cert.ScatIdeal.main_arg2) = m ((c.tc : Thread Cert.ScatIdeal.nD Cert.ScatIdeal.τ).loc Cert.ScatIdeal.main_arg2)
          ∧ r.2.mem ((c.tc : Thread Cert.ScatIdeal.nD Cert.ScatIdeal.τ).loc Cert.ScatIdeal.main_arg3) = m ((c.tc : Thread Cert.ScatIdeal.nD Cert.ScatIdeal.τ).loc Cert.ScatIdeal.main_arg3)
          ∧ r.2.mem ((c.tc : Thread Cert.ScatIdeal.nD Cert.ScatIdeal.τ).loc Cert.ScatIdeal.main_arg4) = m ((c.tc : Thread Cert.ScatIdeal.nD Cert.ScatIdeal.τ).loc Cert.ScatIdeal.main_arg4))
      ∧ θ_run (Cert.ScatRefIdeal.defs (F := Ideal)) (onTc (τ := Cert.ScatRefIdeal.τ) (Cert.ScatRefIdeal.main (F := Ideal))) ⟨m', fun _ => 0, g'⟩ (fun r =>
          r.2.mem (((0 : Dev Cert.ScatRefIdeal.nD).tc : Thread Cert.ScatRefIdeal.nD Cert.ScatRefIdeal.τ).loc Cert.ScatRefIdeal.main_v2) = v0
          ∧ r.2.mem (((0 : Dev Cert.ScatRefIdeal.nD).tc : Thread Cert.ScatRefIdeal.nD Cert.ScatRefIdeal.τ).loc Cert.ScatRefIdeal.main_v5) = v1
          ∧ r.2.mem (((0 : Dev Cert.ScatRefIdeal.nD).tc : Thread Cert.ScatRefIdeal.nD Cert.ScatRefIdeal.τ).loc Cert.ScatRefIdeal.main_v8) = v2
          ∧ r.2.mem (((0 : Dev Cert.ScatRefIdeal.nD).tc : Thread Cert.ScatRefIdeal.nD Cert.ScatRefIdeal.τ).loc Cert.ScatRefIdeal.main_v11) = v3
          ∧ r.2.mem (((0 : Dev Cert.ScatRefIdeal.nD).tc : Thread Cert.ScatRefIdeal.nD Cert.ScatRefIdeal.τ).loc Cert.ScatRefIdeal.main_v14) = v4
          ∧ r.2.mem (((0 : Dev Cert.ScatRefIdeal.nD).tc : Thread Cert.ScatRefIdeal.nD Cert.ScatRefIdeal.τ).loc Cert.ScatRefIdeal.main_arg0) = m' (((0 : Dev Cert.ScatRefIdeal.nD).tc : Thread Cert.ScatRefIdeal.nD Cert.ScatRefIdeal.τ).loc Cert.ScatRefIdeal.main_arg0)
          ∧ r.2.mem (((0 : Dev Cert.ScatRefIdeal.nD).tc : Thread Cert.ScatRefIdeal.nD Cert.ScatRefIdeal.τ).loc Cert.ScatRefIdeal.main_arg1) = m' (((0 : Dev Cert.ScatRefIdeal.nD).tc : Thread Cert.ScatRefIdeal.nD Cert.ScatRefIdeal.τ).loc Cert.ScatRefIdeal.main_arg1)
          ∧ r.2.mem (((0 : Dev Cert.ScatRefIdeal.nD).tc : Thread Cert.ScatRefIdeal.nD Cert.ScatRefIdeal.τ).loc Cert.ScatRefIdeal.main_arg2) = m' (((0 : Dev Cert.ScatRefIdeal.nD).tc : Thread Cert.ScatRefIdeal.nD Cert.ScatRefIdeal.τ).loc Cert.ScatRefIdeal.main_arg2)
          ∧ r.2.mem (((0 : Dev Cert.ScatRefIdeal.nD).tc : Thread Cert.ScatRefIdeal.nD Cert.ScatRefIdeal.τ).loc Cert.ScatRefIdeal.main_arg3) = m' (((0 : Dev Cert.ScatRefIdeal.nD).tc : Thread Cert.ScatRefIdeal.nD Cert.ScatRefIdeal.τ).loc Cert.ScatRefIdeal.main_arg3)
          ∧ r.2.mem (((0 : Dev Cert.ScatRefIdeal.nD).tc : Thread Cert.ScatRefIdeal.nD Cert.ScatRefIdeal.τ).loc Cert.ScatRefIdeal.main_arg4) = m' (((0 : Dev Cert.ScatRefIdeal.nD).tc : Thread Cert.ScatRefIdeal.nD Cert.ScatRefIdeal.τ).loc Cert.ScatRefIdeal.main_arg4))

def preserves_Gath_GathIdeal : Prop :=
  True

def algebraic_GathIdeal_GathRefIdeal [hGathIdeal : Cert.GathIdeal.Facts] [hGathRefIdeal : Cert.GathRefIdeal.Facts] : Prop :=
  ∀ (m : (ℓ : Loc Cert.GathIdeal.nD Cert.GathIdeal.τ Cert.GathIdeal.sig) → Buf (Elt Ideal) ℓ) (g : Dev Cert.GathIdeal.nD → PrngReg)
    (m' : (ℓ : Loc Cert.GathRefIdeal.nD Cert.GathRefIdeal.τ Cert.GathRefIdeal.sig) → Buf (Elt Ideal) ℓ) (g' : Dev Cert.GathRefIdeal.nD → PrngReg), Pre_GathIdeal m →
    (∀ c : Dev Cert.GathIdeal.nD,
      m ((c.tc : Thread Cert.GathIdeal.nD Cert.GathIdeal.τ).loc Cert.GathIdeal.main_arg0) = Layout.blockN ⟨3, ![2, 1024, 1668]⟩ ⟨3, ![8, 1024, 1668]⟩ (Layout.meshBlock [2, 2, 2] ![[0, 1], [], []] c) (m' (((0 : Dev Cert.GathRefIdeal.nD).tc : Thread Cert.GathRefIdeal.nD Cert.GathRefIdeal.τ).loc Cert.GathRefIdeal.main_arg0))
      ∧ m ((c.tc : Thread Cert.GathIdeal.nD Cert.GathIdeal.τ).loc Cert.GathIdeal.main_arg1) = Layout.blockN ⟨3, ![2, 1024, 1408]⟩ ⟨3, ![8, 1024, 1408]⟩ (Layout.meshBlock [2, 2, 2] ![[0, 1], [], []] c) (m' (((0 : Dev Cert.GathRefIdeal.nD).tc : Thread Cert.GathRefIdeal.nD Cert.GathRefIdeal.τ).loc Cert.GathRefIdeal.main_arg1))
      ∧ m ((c.tc : Thread Cert.GathIdeal.nD Cert.GathIdeal.τ).loc Cert.GathIdeal.main_arg2) = Layout.blockN ⟨3, ![2, 704, 1024]⟩ ⟨3, ![8, 704, 1024]⟩ (Layout.meshBlock [2, 2, 2] ![[0, 1], [], []] c) (m' (((0 : Dev Cert.GathRefIdeal.nD).tc : Thread Cert.GathRefIdeal.nD Cert.GathRefIdeal.τ).loc Cert.GathRefIdeal.main_arg2))
      ∧ m ((c.tc : Thread Cert.GathIdeal.nD Cert.GathIdeal.τ).loc Cert.GathIdeal.main_arg3) = Layout.blockN ⟨3, ![2, 256, 1024]⟩ ⟨3, ![8, 256, 1024]⟩ (Layout.meshBlock [2, 2, 2] ![[0, 1], [], []] c) (m' (((0 : Dev Cert.GathRefIdeal.nD).tc : Thread Cert.GathRefIdeal.nD Cert.GathRefIdeal.τ).loc Cert.GathRefIdeal.main_arg3))
      ∧ m ((c.tc : Thread Cert.GathIdeal.nD Cert.GathIdeal.τ).loc Cert.GathIdeal.main_arg4) = Layout.blockN ⟨3, ![2, 416, 128]⟩ ⟨3, ![8, 416, 128]⟩ (Layout.meshBlock [2, 2, 2] ![[0, 1], [], []] c) (m' (((0 : Dev Cert.GathRefIdeal.nD).tc : Thread Cert.GathRefIdeal.nD Cert.GathRefIdeal.τ).loc Cert.GathRefIdeal.main_arg4))) →
    ∃ (v0 : Buf (Elt Ideal) (((0 : Dev Cert.GathRefIdeal.nD).tc : Thread Cert.GathRefIdeal.nD Cert.GathRefIdeal.τ).loc Cert.GathRefIdeal.main_v0)) (v1 : Buf (Elt Ideal) (((0 : Dev Cert.GathRefIdeal.nD).tc : Thread Cert.GathRefIdeal.nD Cert.GathRefIdeal.τ).loc Cert.GathRefIdeal.main_v1)) (v2 : Buf (Elt Ideal) (((0 : Dev Cert.GathRefIdeal.nD).tc : Thread Cert.GathRefIdeal.nD Cert.GathRefIdeal.τ).loc Cert.GathRefIdeal.main_v2)) (v3 : Buf (Elt Ideal) (((0 : Dev Cert.GathRefIdeal.nD).tc : Thread Cert.GathRefIdeal.nD Cert.GathRefIdeal.τ).loc Cert.GathRefIdeal.main_v3)) (v4 : Buf (Elt Ideal) (((0 : Dev Cert.GathRefIdeal.nD).tc : Thread Cert.GathRefIdeal.nD Cert.GathRefIdeal.τ).loc Cert.GathRefIdeal.main_v4)),
      θ_run (Cert.GathIdeal.defs (F := Ideal)) (onTc (τ := Cert.GathIdeal.τ) (Cert.GathIdeal.main (F := Ideal))) ⟨m, fun _ => 0, g⟩ (fun r => ∀ c : Dev Cert.GathIdeal.nD,
          r.2.mem ((c.tc : Thread Cert.GathIdeal.nD Cert.GathIdeal.τ).loc Cert.GathIdeal.main_v16) = v0
          ∧ r.2.mem ((c.tc : Thread Cert.GathIdeal.nD Cert.GathIdeal.τ).loc Cert.GathIdeal.main_v21) = v1
          ∧ r.2.mem ((c.tc : Thread Cert.GathIdeal.nD Cert.GathIdeal.τ).loc Cert.GathIdeal.main_v26) = v2
          ∧ r.2.mem ((c.tc : Thread Cert.GathIdeal.nD Cert.GathIdeal.τ).loc Cert.GathIdeal.main_v31) = v3
          ∧ r.2.mem ((c.tc : Thread Cert.GathIdeal.nD Cert.GathIdeal.τ).loc Cert.GathIdeal.main_v36) = v4
          ∧ r.2.mem ((c.tc : Thread Cert.GathIdeal.nD Cert.GathIdeal.τ).loc Cert.GathIdeal.main_arg0) = m ((c.tc : Thread Cert.GathIdeal.nD Cert.GathIdeal.τ).loc Cert.GathIdeal.main_arg0)
          ∧ r.2.mem ((c.tc : Thread Cert.GathIdeal.nD Cert.GathIdeal.τ).loc Cert.GathIdeal.main_arg1) = m ((c.tc : Thread Cert.GathIdeal.nD Cert.GathIdeal.τ).loc Cert.GathIdeal.main_arg1)
          ∧ r.2.mem ((c.tc : Thread Cert.GathIdeal.nD Cert.GathIdeal.τ).loc Cert.GathIdeal.main_arg2) = m ((c.tc : Thread Cert.GathIdeal.nD Cert.GathIdeal.τ).loc Cert.GathIdeal.main_arg2)
          ∧ r.2.mem ((c.tc : Thread Cert.GathIdeal.nD Cert.GathIdeal.τ).loc Cert.GathIdeal.main_arg3) = m ((c.tc : Thread Cert.GathIdeal.nD Cert.GathIdeal.τ).loc Cert.GathIdeal.main_arg3)
          ∧ r.2.mem ((c.tc : Thread Cert.GathIdeal.nD Cert.GathIdeal.τ).loc Cert.GathIdeal.main_arg4) = m ((c.tc : Thread Cert.GathIdeal.nD Cert.GathIdeal.τ).loc Cert.GathIdeal.main_arg4))
      ∧ θ_run (Cert.GathRefIdeal.defs (F := Ideal)) (onTc (τ := Cert.GathRefIdeal.τ) (Cert.GathRefIdeal.main (F := Ideal))) ⟨m', fun _ => 0, g'⟩ (fun r =>
          r.2.mem (((0 : Dev Cert.GathRefIdeal.nD).tc : Thread Cert.GathRefIdeal.nD Cert.GathRefIdeal.τ).loc Cert.GathRefIdeal.main_v0) = v0
          ∧ r.2.mem (((0 : Dev Cert.GathRefIdeal.nD).tc : Thread Cert.GathRefIdeal.nD Cert.GathRefIdeal.τ).loc Cert.GathRefIdeal.main_v1) = v1
          ∧ r.2.mem (((0 : Dev Cert.GathRefIdeal.nD).tc : Thread Cert.GathRefIdeal.nD Cert.GathRefIdeal.τ).loc Cert.GathRefIdeal.main_v2) = v2
          ∧ r.2.mem (((0 : Dev Cert.GathRefIdeal.nD).tc : Thread Cert.GathRefIdeal.nD Cert.GathRefIdeal.τ).loc Cert.GathRefIdeal.main_v3) = v3
          ∧ r.2.mem (((0 : Dev Cert.GathRefIdeal.nD).tc : Thread Cert.GathRefIdeal.nD Cert.GathRefIdeal.τ).loc Cert.GathRefIdeal.main_v4) = v4
          ∧ r.2.mem (((0 : Dev Cert.GathRefIdeal.nD).tc : Thread Cert.GathRefIdeal.nD Cert.GathRefIdeal.τ).loc Cert.GathRefIdeal.main_arg0) = m' (((0 : Dev Cert.GathRefIdeal.nD).tc : Thread Cert.GathRefIdeal.nD Cert.GathRefIdeal.τ).loc Cert.GathRefIdeal.main_arg0)
          ∧ r.2.mem (((0 : Dev Cert.GathRefIdeal.nD).tc : Thread Cert.GathRefIdeal.nD Cert.GathRefIdeal.τ).loc Cert.GathRefIdeal.main_arg1) = m' (((0 : Dev Cert.GathRefIdeal.nD).tc : Thread Cert.GathRefIdeal.nD Cert.GathRefIdeal.τ).loc Cert.GathRefIdeal.main_arg1)
          ∧ r.2.mem (((0 : Dev Cert.GathRefIdeal.nD).tc : Thread Cert.GathRefIdeal.nD Cert.GathRefIdeal.τ).loc Cert.GathRefIdeal.main_arg2) = m' (((0 : Dev Cert.GathRefIdeal.nD).tc : Thread Cert.GathRefIdeal.nD Cert.GathRefIdeal.τ).loc Cert.GathRefIdeal.main_arg2)
          ∧ r.2.mem (((0 : Dev Cert.GathRefIdeal.nD).tc : Thread Cert.GathRefIdeal.nD Cert.GathRefIdeal.τ).loc Cert.GathRefIdeal.main_arg3) = m' (((0 : Dev Cert.GathRefIdeal.nD).tc : Thread Cert.GathRefIdeal.nD Cert.GathRefIdeal.τ).loc Cert.GathRefIdeal.main_arg3)
          ∧ r.2.mem (((0 : Dev Cert.GathRefIdeal.nD).tc : Thread Cert.GathRefIdeal.nD Cert.GathRefIdeal.τ).loc Cert.GathRefIdeal.main_arg4) = m' (((0 : Dev Cert.GathRefIdeal.nD).tc : Thread Cert.GathRefIdeal.nD Cert.GathRefIdeal.τ).loc Cert.GathRefIdeal.main_arg4))

def Claim : Prop :=
  ∃ (hGdnB : Cert.GdnB.Facts) (hGdnBIdeal : Cert.GdnBIdeal.Facts) (hDownW : Cert.DownW.Facts) (hDownWIdeal : Cert.DownWIdeal.Facts) (hDownWRefIdeal : Cert.DownWRefIdeal.Facts) (hUpW : Cert.UpW.Facts) (hUpWIdeal : Cert.UpWIdeal.Facts) (hUpWRefIdeal : Cert.UpWRefIdeal.Facts) (hOutW : Cert.OutW.Facts) (hOutWIdeal : Cert.OutWIdeal.Facts) (hOutWRefIdeal : Cert.OutWRefIdeal.Facts) (hQkvW : Cert.QkvW.Facts) (hQkvWIdeal : Cert.QkvWIdeal.Facts) (hQkvWRefIdeal : Cert.QkvWRefIdeal.Facts) (hGateW : Cert.GateW.Facts) (hGateWIdeal : Cert.GateWIdeal.Facts) (hGateWRefIdeal : Cert.GateWRefIdeal.Facts) (hPoolBaW : Cert.PoolBaW.Facts) (hPoolBaWIdeal : Cert.PoolBaWIdeal.Facts) (hPoolBaWRefIdeal : Cert.PoolBaWRefIdeal.Facts) (hDownX : Cert.DownX.Facts) (hDownXIdeal : Cert.DownXIdeal.Facts) (hDownXRefIdeal : Cert.DownXRefIdeal.Facts) (hOutX : Cert.OutX.Facts) (hOutXIdeal : Cert.OutXIdeal.Facts) (hOutXRefIdeal : Cert.OutXRefIdeal.Facts) (hUpX : Cert.UpX.Facts) (hUpXIdeal : Cert.UpXIdeal.Facts) (hUpXRefIdeal : Cert.UpXRefIdeal.Facts) (hInX : Cert.InX.Facts) (hInXIdeal : Cert.InXIdeal.Facts) (hInXRefIdeal : Cert.InXRefIdeal.Facts) (hQkvF : Cert.QkvF.Facts) (hQkvFIdeal : Cert.QkvFIdeal.Facts) (hQkvFRefIdeal : Cert.QkvFRefIdeal.Facts) (hZF : Cert.ZF.Facts) (hZFIdeal : Cert.ZFIdeal.Facts) (hZFRefIdeal : Cert.ZFRefIdeal.Facts) (hGateF : Cert.GateF.Facts) (hGateFIdeal : Cert.GateFIdeal.Facts) (hGateFRefIdeal : Cert.GateFRefIdeal.Facts) (hPoolBaF : Cert.PoolBaF.Facts) (hPoolBaFIdeal : Cert.PoolBaFIdeal.Facts) (hPoolBaFRefIdeal : Cert.PoolBaFRefIdeal.Facts) (hUpF : Cert.UpF.Facts) (hUpFIdeal : Cert.UpFIdeal.Facts) (hUpFRefIdeal : Cert.UpFRefIdeal.Facts) (hRms : Cert.Rms.Facts) (hRmsIdeal : Cert.RmsIdeal.Facts) (hRmsRefIdeal : Cert.RmsRefIdeal.Facts) (hOutF : Cert.OutF.Facts) (hOutFIdeal : Cert.OutFIdeal.Facts) (hOutFRefIdeal : Cert.OutFRefIdeal.Facts) (hDownF : Cert.DownF.Facts) (hDownFIdeal : Cert.DownFIdeal.Facts) (hDownFRefIdeal : Cert.DownFRefIdeal.Facts) (hConv : Cert.Conv.Facts) (hConvIdeal : Cert.ConvIdeal.Facts) (hConvRefIdeal : Cert.ConvRefIdeal.Facts) (hMix : Cert.Mix.Facts) (hMixIdeal : Cert.MixIdeal.Facts) (hMixRefIdeal : Cert.MixRefIdeal.Facts) (hPool : Cert.Pool.Facts) (hPoolIdeal : Cert.PoolIdeal.Facts) (hPoolRefIdeal : Cert.PoolRefIdeal.Facts) (hFfnMid : Cert.FfnMid.Facts) (hFfnMidIdeal : Cert.FfnMidIdeal.Facts) (hFfnMidRefIdeal : Cert.FfnMidRefIdeal.Facts) (hRmsF : Cert.RmsF.Facts) (hRmsFIdeal : Cert.RmsFIdeal.Facts) (hRmsFRefIdeal : Cert.RmsFRefIdeal.Facts) (hConvF : Cert.ConvF.Facts) (hConvFIdeal : Cert.ConvFIdeal.Facts) (hConvFRefIdeal : Cert.ConvFRefIdeal.Facts) (hPoolF : Cert.PoolF.Facts) (hPoolFIdeal : Cert.PoolFIdeal.Facts) (hPoolFRefIdeal : Cert.PoolFRefIdeal.Facts) (hMixF : Cert.MixF.Facts) (hMixFIdeal : Cert.MixFIdeal.Facts) (hMixFRefIdeal : Cert.MixFRefIdeal.Facts) (hFfnF : Cert.FfnF.Facts) (hFfnFIdeal : Cert.FfnFIdeal.Facts) (hFfnFRefIdeal : Cert.FfnFRefIdeal.Facts) (hDownL : Cert.DownL.Facts) (hDownLIdeal : Cert.DownLIdeal.Facts) (hDownLRefIdeal : Cert.DownLRefIdeal.Facts) (hLoss : Cert.Loss.Facts) (hLossIdeal : Cert.LossIdeal.Facts) (hLossRefIdeal : Cert.LossRefIdeal.Facts) (hAdIn : Cert.AdIn.Facts) (hAdInIdeal : Cert.AdInIdeal.Facts) (hAdInRefIdeal : Cert.AdInRefIdeal.Facts) (hAdUp : Cert.AdUp.Facts) (hAdUpIdeal : Cert.AdUpIdeal.Facts) (hAdUpRefIdeal : Cert.AdUpRefIdeal.Facts) (hAdOut : Cert.AdOut.Facts) (hAdOutIdeal : Cert.AdOutIdeal.Facts) (hAdOutRefIdeal : Cert.AdOutRefIdeal.Facts) (hAdDown : Cert.AdDown.Facts) (hAdDownIdeal : Cert.AdDownIdeal.Facts) (hAdDownRefIdeal : Cert.AdDownRefIdeal.Facts) (hAdPool : Cert.AdPool.Facts) (hAdPoolIdeal : Cert.AdPoolIdeal.Facts) (hAdPoolRefIdeal : Cert.AdPoolRefIdeal.Facts) (hAdConvQ : Cert.AdConvQ.Facts) (hAdConvQIdeal : Cert.AdConvQIdeal.Facts) (hAdConvQRefIdeal : Cert.AdConvQRefIdeal.Facts) (hAdConvF : Cert.AdConvF.Facts) (hAdConvFIdeal : Cert.AdConvFIdeal.Facts) (hAdConvFRefIdeal : Cert.AdConvFRefIdeal.Facts) (hAdMeta : Cert.AdMeta.Facts) (hAdMetaIdeal : Cert.AdMetaIdeal.Facts) (hAdMetaRefIdeal : Cert.AdMetaRefIdeal.Facts) (hAdNorm : Cert.AdNorm.Facts) (hAdNormIdeal : Cert.AdNormIdeal.Facts) (hAdNormRefIdeal : Cert.AdNormRefIdeal.Facts) (hAdHead : Cert.AdHead.Facts) (hAdHeadIdeal : Cert.AdHeadIdeal.Facts) (hAdHeadRefIdeal : Cert.AdHeadRefIdeal.Facts) (hAdHeadN : Cert.AdHeadN.Facts) (hAdHeadNIdeal : Cert.AdHeadNIdeal.Facts) (hAdHeadNRefIdeal : Cert.AdHeadNRefIdeal.Facts) (hAdFin : Cert.AdFin.Facts) (hAdFinIdeal : Cert.AdFinIdeal.Facts) (hAdFinRefIdeal : Cert.AdFinRefIdeal.Facts) (hSwap : Cert.Swap.Facts) (hSwapIdeal : Cert.SwapIdeal.Facts) (hSwapRefIdeal : Cert.SwapRefIdeal.Facts) (hScat : Cert.Scat.Facts) (hScatIdeal : Cert.ScatIdeal.Facts) (hScatRefIdeal : Cert.ScatRefIdeal.Facts) (hGath : Cert.Gath.Facts) (hGathIdeal : Cert.GathIdeal.Facts) (hGathRefIdeal : Cert.GathRefIdeal.Facts),
    quiescent_GdnB (hGdnB := hGdnB)
    ∧ quiescent_GdnBIdeal (hGdnBIdeal := hGdnBIdeal)
    ∧ quiescent_DownW (hDownW := hDownW)
    ∧ quiescent_DownWIdeal (hDownWIdeal := hDownWIdeal)
    ∧ quiescent_DownWRefIdeal (hDownWRefIdeal := hDownWRefIdeal)
    ∧ quiescent_UpW (hUpW := hUpW)
    ∧ quiescent_UpWIdeal (hUpWIdeal := hUpWIdeal)
    ∧ quiescent_UpWRefIdeal (hUpWRefIdeal := hUpWRefIdeal)
    ∧ quiescent_OutW (hOutW := hOutW)
    ∧ quiescent_OutWIdeal (hOutWIdeal := hOutWIdeal)
    ∧ quiescent_OutWRefIdeal (hOutWRefIdeal := hOutWRefIdeal)
    ∧ quiescent_QkvW (hQkvW := hQkvW)
    ∧ quiescent_QkvWIdeal (hQkvWIdeal := hQkvWIdeal)
    ∧ quiescent_QkvWRefIdeal (hQkvWRefIdeal := hQkvWRefIdeal)
    ∧ quiescent_GateW (hGateW := hGateW)
    ∧ quiescent_GateWIdeal (hGateWIdeal := hGateWIdeal)
    ∧ quiescent_GateWRefIdeal (hGateWRefIdeal := hGateWRefIdeal)
    ∧ quiescent_PoolBaW (hPoolBaW := hPoolBaW)
    ∧ quiescent_PoolBaWIdeal (hPoolBaWIdeal := hPoolBaWIdeal)
    ∧ quiescent_PoolBaWRefIdeal (hPoolBaWRefIdeal := hPoolBaWRefIdeal)
    ∧ quiescent_DownX (hDownX := hDownX)
    ∧ quiescent_DownXIdeal (hDownXIdeal := hDownXIdeal)
    ∧ quiescent_DownXRefIdeal (hDownXRefIdeal := hDownXRefIdeal)
    ∧ quiescent_OutX (hOutX := hOutX)
    ∧ quiescent_OutXIdeal (hOutXIdeal := hOutXIdeal)
    ∧ quiescent_OutXRefIdeal (hOutXRefIdeal := hOutXRefIdeal)
    ∧ quiescent_UpX (hUpX := hUpX)
    ∧ quiescent_UpXIdeal (hUpXIdeal := hUpXIdeal)
    ∧ quiescent_UpXRefIdeal (hUpXRefIdeal := hUpXRefIdeal)
    ∧ quiescent_InX (hInX := hInX)
    ∧ quiescent_InXIdeal (hInXIdeal := hInXIdeal)
    ∧ quiescent_InXRefIdeal (hInXRefIdeal := hInXRefIdeal)
    ∧ quiescent_QkvF (hQkvF := hQkvF)
    ∧ quiescent_QkvFIdeal (hQkvFIdeal := hQkvFIdeal)
    ∧ quiescent_QkvFRefIdeal (hQkvFRefIdeal := hQkvFRefIdeal)
    ∧ quiescent_ZF (hZF := hZF)
    ∧ quiescent_ZFIdeal (hZFIdeal := hZFIdeal)
    ∧ quiescent_ZFRefIdeal (hZFRefIdeal := hZFRefIdeal)
    ∧ quiescent_GateF (hGateF := hGateF)
    ∧ quiescent_GateFIdeal (hGateFIdeal := hGateFIdeal)
    ∧ quiescent_GateFRefIdeal (hGateFRefIdeal := hGateFRefIdeal)
    ∧ quiescent_PoolBaF (hPoolBaF := hPoolBaF)
    ∧ quiescent_PoolBaFIdeal (hPoolBaFIdeal := hPoolBaFIdeal)
    ∧ quiescent_PoolBaFRefIdeal (hPoolBaFRefIdeal := hPoolBaFRefIdeal)
    ∧ quiescent_UpF (hUpF := hUpF)
    ∧ quiescent_UpFIdeal (hUpFIdeal := hUpFIdeal)
    ∧ quiescent_UpFRefIdeal (hUpFRefIdeal := hUpFRefIdeal)
    ∧ quiescent_Rms (hRms := hRms)
    ∧ quiescent_RmsIdeal (hRmsIdeal := hRmsIdeal)
    ∧ quiescent_RmsRefIdeal (hRmsRefIdeal := hRmsRefIdeal)
    ∧ quiescent_OutF (hOutF := hOutF)
    ∧ quiescent_OutFIdeal (hOutFIdeal := hOutFIdeal)
    ∧ quiescent_OutFRefIdeal (hOutFRefIdeal := hOutFRefIdeal)
    ∧ quiescent_DownF (hDownF := hDownF)
    ∧ quiescent_DownFIdeal (hDownFIdeal := hDownFIdeal)
    ∧ quiescent_DownFRefIdeal (hDownFRefIdeal := hDownFRefIdeal)
    ∧ quiescent_Conv (hConv := hConv)
    ∧ quiescent_ConvIdeal (hConvIdeal := hConvIdeal)
    ∧ quiescent_ConvRefIdeal (hConvRefIdeal := hConvRefIdeal)
    ∧ quiescent_Mix (hMix := hMix)
    ∧ quiescent_MixIdeal (hMixIdeal := hMixIdeal)
    ∧ quiescent_MixRefIdeal (hMixRefIdeal := hMixRefIdeal)
    ∧ quiescent_Pool (hPool := hPool)
    ∧ quiescent_PoolIdeal (hPoolIdeal := hPoolIdeal)
    ∧ quiescent_PoolRefIdeal (hPoolRefIdeal := hPoolRefIdeal)
    ∧ quiescent_FfnMid (hFfnMid := hFfnMid)
    ∧ quiescent_FfnMidIdeal (hFfnMidIdeal := hFfnMidIdeal)
    ∧ quiescent_FfnMidRefIdeal (hFfnMidRefIdeal := hFfnMidRefIdeal)
    ∧ quiescent_RmsF (hRmsF := hRmsF)
    ∧ quiescent_RmsFIdeal (hRmsFIdeal := hRmsFIdeal)
    ∧ quiescent_RmsFRefIdeal (hRmsFRefIdeal := hRmsFRefIdeal)
    ∧ quiescent_ConvF (hConvF := hConvF)
    ∧ quiescent_ConvFIdeal (hConvFIdeal := hConvFIdeal)
    ∧ quiescent_ConvFRefIdeal (hConvFRefIdeal := hConvFRefIdeal)
    ∧ quiescent_PoolF (hPoolF := hPoolF)
    ∧ quiescent_PoolFIdeal (hPoolFIdeal := hPoolFIdeal)
    ∧ quiescent_PoolFRefIdeal (hPoolFRefIdeal := hPoolFRefIdeal)
    ∧ quiescent_MixF (hMixF := hMixF)
    ∧ quiescent_MixFIdeal (hMixFIdeal := hMixFIdeal)
    ∧ quiescent_MixFRefIdeal (hMixFRefIdeal := hMixFRefIdeal)
    ∧ quiescent_FfnF (hFfnF := hFfnF)
    ∧ quiescent_FfnFIdeal (hFfnFIdeal := hFfnFIdeal)
    ∧ quiescent_FfnFRefIdeal (hFfnFRefIdeal := hFfnFRefIdeal)
    ∧ quiescent_DownL (hDownL := hDownL)
    ∧ quiescent_DownLIdeal (hDownLIdeal := hDownLIdeal)
    ∧ quiescent_DownLRefIdeal (hDownLRefIdeal := hDownLRefIdeal)
    ∧ quiescent_Loss (hLoss := hLoss)
    ∧ quiescent_LossIdeal (hLossIdeal := hLossIdeal)
    ∧ quiescent_LossRefIdeal (hLossRefIdeal := hLossRefIdeal)
    ∧ quiescent_AdIn (hAdIn := hAdIn)
    ∧ quiescent_AdInIdeal (hAdInIdeal := hAdInIdeal)
    ∧ quiescent_AdInRefIdeal (hAdInRefIdeal := hAdInRefIdeal)
    ∧ quiescent_AdUp (hAdUp := hAdUp)
    ∧ quiescent_AdUpIdeal (hAdUpIdeal := hAdUpIdeal)
    ∧ quiescent_AdUpRefIdeal (hAdUpRefIdeal := hAdUpRefIdeal)
    ∧ quiescent_AdOut (hAdOut := hAdOut)
    ∧ quiescent_AdOutIdeal (hAdOutIdeal := hAdOutIdeal)
    ∧ quiescent_AdOutRefIdeal (hAdOutRefIdeal := hAdOutRefIdeal)
    ∧ quiescent_AdDown (hAdDown := hAdDown)
    ∧ quiescent_AdDownIdeal (hAdDownIdeal := hAdDownIdeal)
    ∧ quiescent_AdDownRefIdeal (hAdDownRefIdeal := hAdDownRefIdeal)
    ∧ quiescent_AdPool (hAdPool := hAdPool)
    ∧ quiescent_AdPoolIdeal (hAdPoolIdeal := hAdPoolIdeal)
    ∧ quiescent_AdPoolRefIdeal (hAdPoolRefIdeal := hAdPoolRefIdeal)
    ∧ quiescent_AdConvQ (hAdConvQ := hAdConvQ)
    ∧ quiescent_AdConvQIdeal (hAdConvQIdeal := hAdConvQIdeal)
    ∧ quiescent_AdConvQRefIdeal (hAdConvQRefIdeal := hAdConvQRefIdeal)
    ∧ quiescent_AdConvF (hAdConvF := hAdConvF)
    ∧ quiescent_AdConvFIdeal (hAdConvFIdeal := hAdConvFIdeal)
    ∧ quiescent_AdConvFRefIdeal (hAdConvFRefIdeal := hAdConvFRefIdeal)
    ∧ quiescent_AdMeta (hAdMeta := hAdMeta)
    ∧ quiescent_AdMetaIdeal (hAdMetaIdeal := hAdMetaIdeal)
    ∧ quiescent_AdMetaRefIdeal (hAdMetaRefIdeal := hAdMetaRefIdeal)
    ∧ quiescent_AdNorm (hAdNorm := hAdNorm)
    ∧ quiescent_AdNormIdeal (hAdNormIdeal := hAdNormIdeal)
    ∧ quiescent_AdNormRefIdeal (hAdNormRefIdeal := hAdNormRefIdeal)
    ∧ quiescent_AdHead (hAdHead := hAdHead)
    ∧ quiescent_AdHeadIdeal (hAdHeadIdeal := hAdHeadIdeal)
    ∧ quiescent_AdHeadRefIdeal (hAdHeadRefIdeal := hAdHeadRefIdeal)
    ∧ quiescent_AdHeadN (hAdHeadN := hAdHeadN)
    ∧ quiescent_AdHeadNIdeal (hAdHeadNIdeal := hAdHeadNIdeal)
    ∧ quiescent_AdHeadNRefIdeal (hAdHeadNRefIdeal := hAdHeadNRefIdeal)
    ∧ quiescent_AdFin (hAdFin := hAdFin)
    ∧ quiescent_AdFinIdeal (hAdFinIdeal := hAdFinIdeal)
    ∧ quiescent_AdFinRefIdeal (hAdFinRefIdeal := hAdFinRefIdeal)
    ∧ quiescent_Swap (hSwap := hSwap)
    ∧ quiescent_SwapIdeal (hSwapIdeal := hSwapIdeal)
    ∧ quiescent_SwapRefIdeal (hSwapRefIdeal := hSwapRefIdeal)
    ∧ quiescent_Scat (hScat := hScat)
    ∧ quiescent_ScatIdeal (hScatIdeal := hScatIdeal)
    ∧ quiescent_ScatRefIdeal (hScatRefIdeal := hScatRefIdeal)
    ∧ quiescent_Gath (hGath := hGath)
    ∧ quiescent_GathIdeal (hGathIdeal := hGathIdeal)
    ∧ quiescent_GathRefIdeal (hGathRefIdeal := hGathRefIdeal)
    ∧ preserves_GdnB_GdnBIdeal
    ∧ preserves_DownW_DownWIdeal
    ∧ algebraic_DownWIdeal_DownWRefIdeal (hDownWIdeal := hDownWIdeal) (hDownWRefIdeal := hDownWRefIdeal)
    ∧ preserves_UpW_UpWIdeal
    ∧ algebraic_UpWIdeal_UpWRefIdeal (hUpWIdeal := hUpWIdeal) (hUpWRefIdeal := hUpWRefIdeal)
    ∧ preserves_OutW_OutWIdeal
    ∧ algebraic_OutWIdeal_OutWRefIdeal (hOutWIdeal := hOutWIdeal) (hOutWRefIdeal := hOutWRefIdeal)
    ∧ preserves_QkvW_QkvWIdeal
    ∧ algebraic_QkvWIdeal_QkvWRefIdeal (hQkvWIdeal := hQkvWIdeal) (hQkvWRefIdeal := hQkvWRefIdeal)
    ∧ preserves_GateW_GateWIdeal
    ∧ algebraic_GateWIdeal_GateWRefIdeal (hGateWIdeal := hGateWIdeal) (hGateWRefIdeal := hGateWRefIdeal)
    ∧ preserves_PoolBaW_PoolBaWIdeal
    ∧ algebraic_PoolBaWIdeal_PoolBaWRefIdeal (hPoolBaWIdeal := hPoolBaWIdeal) (hPoolBaWRefIdeal := hPoolBaWRefIdeal)
    ∧ preserves_DownX_DownXIdeal
    ∧ algebraic_DownXIdeal_DownXRefIdeal (hDownXIdeal := hDownXIdeal) (hDownXRefIdeal := hDownXRefIdeal)
    ∧ preserves_OutX_OutXIdeal
    ∧ algebraic_OutXIdeal_OutXRefIdeal (hOutXIdeal := hOutXIdeal) (hOutXRefIdeal := hOutXRefIdeal)
    ∧ preserves_UpX_UpXIdeal
    ∧ algebraic_UpXIdeal_UpXRefIdeal (hUpXIdeal := hUpXIdeal) (hUpXRefIdeal := hUpXRefIdeal)
    ∧ preserves_InX_InXIdeal
    ∧ algebraic_InXIdeal_InXRefIdeal (hInXIdeal := hInXIdeal) (hInXRefIdeal := hInXRefIdeal)
    ∧ preserves_QkvF_QkvFIdeal
    ∧ algebraic_QkvFIdeal_QkvFRefIdeal (hQkvFIdeal := hQkvFIdeal) (hQkvFRefIdeal := hQkvFRefIdeal)
    ∧ preserves_ZF_ZFIdeal
    ∧ algebraic_ZFIdeal_ZFRefIdeal (hZFIdeal := hZFIdeal) (hZFRefIdeal := hZFRefIdeal)
    ∧ preserves_GateF_GateFIdeal
    ∧ algebraic_GateFIdeal_GateFRefIdeal (hGateFIdeal := hGateFIdeal) (hGateFRefIdeal := hGateFRefIdeal)
    ∧ preserves_PoolBaF_PoolBaFIdeal
    ∧ algebraic_PoolBaFIdeal_PoolBaFRefIdeal (hPoolBaFIdeal := hPoolBaFIdeal) (hPoolBaFRefIdeal := hPoolBaFRefIdeal)
    ∧ preserves_UpF_UpFIdeal
    ∧ algebraic_UpFIdeal_UpFRefIdeal (hUpFIdeal := hUpFIdeal) (hUpFRefIdeal := hUpFRefIdeal)
    ∧ preserves_Rms_RmsIdeal
    ∧ algebraic_RmsIdeal_RmsRefIdeal (hRmsIdeal := hRmsIdeal) (hRmsRefIdeal := hRmsRefIdeal)
    ∧ preserves_OutF_OutFIdeal
    ∧ algebraic_OutFIdeal_OutFRefIdeal (hOutFIdeal := hOutFIdeal) (hOutFRefIdeal := hOutFRefIdeal)
    ∧ preserves_DownF_DownFIdeal
    ∧ algebraic_DownFIdeal_DownFRefIdeal (hDownFIdeal := hDownFIdeal) (hDownFRefIdeal := hDownFRefIdeal)
    ∧ preserves_Conv_ConvIdeal
    ∧ algebraic_ConvIdeal_ConvRefIdeal (hConvIdeal := hConvIdeal) (hConvRefIdeal := hConvRefIdeal)
    ∧ preserves_Mix_MixIdeal
    ∧ algebraic_MixIdeal_MixRefIdeal (hMixIdeal := hMixIdeal) (hMixRefIdeal := hMixRefIdeal)
    ∧ preserves_Pool_PoolIdeal
    ∧ algebraic_PoolIdeal_PoolRefIdeal (hPoolIdeal := hPoolIdeal) (hPoolRefIdeal := hPoolRefIdeal)
    ∧ preserves_FfnMid_FfnMidIdeal
    ∧ algebraic_FfnMidIdeal_FfnMidRefIdeal (hFfnMidIdeal := hFfnMidIdeal) (hFfnMidRefIdeal := hFfnMidRefIdeal)
    ∧ preserves_RmsF_RmsFIdeal
    ∧ algebraic_RmsFIdeal_RmsFRefIdeal (hRmsFIdeal := hRmsFIdeal) (hRmsFRefIdeal := hRmsFRefIdeal)
    ∧ preserves_ConvF_ConvFIdeal
    ∧ algebraic_ConvFIdeal_ConvFRefIdeal (hConvFIdeal := hConvFIdeal) (hConvFRefIdeal := hConvFRefIdeal)
    ∧ preserves_PoolF_PoolFIdeal
    ∧ algebraic_PoolFIdeal_PoolFRefIdeal (hPoolFIdeal := hPoolFIdeal) (hPoolFRefIdeal := hPoolFRefIdeal)
    ∧ preserves_MixF_MixFIdeal
    ∧ algebraic_MixFIdeal_MixFRefIdeal (hMixFIdeal := hMixFIdeal) (hMixFRefIdeal := hMixFRefIdeal)
    ∧ preserves_FfnF_FfnFIdeal
    ∧ algebraic_FfnFIdeal_FfnFRefIdeal (hFfnFIdeal := hFfnFIdeal) (hFfnFRefIdeal := hFfnFRefIdeal)
    ∧ preserves_DownL_DownLIdeal
    ∧ algebraic_DownLIdeal_DownLRefIdeal (hDownLIdeal := hDownLIdeal) (hDownLRefIdeal := hDownLRefIdeal)
    ∧ preserves_Loss_LossIdeal
    ∧ algebraic_LossIdeal_LossRefIdeal (hLossIdeal := hLossIdeal) (hLossRefIdeal := hLossRefIdeal)
    ∧ preserves_AdIn_AdInIdeal
    ∧ algebraic_AdInIdeal_AdInRefIdeal (hAdInIdeal := hAdInIdeal) (hAdInRefIdeal := hAdInRefIdeal)
    ∧ preserves_AdUp_AdUpIdeal
    ∧ algebraic_AdUpIdeal_AdUpRefIdeal (hAdUpIdeal := hAdUpIdeal) (hAdUpRefIdeal := hAdUpRefIdeal)
    ∧ preserves_AdOut_AdOutIdeal
    ∧ algebraic_AdOutIdeal_AdOutRefIdeal (hAdOutIdeal := hAdOutIdeal) (hAdOutRefIdeal := hAdOutRefIdeal)
    ∧ preserves_AdDown_AdDownIdeal
    ∧ algebraic_AdDownIdeal_AdDownRefIdeal (hAdDownIdeal := hAdDownIdeal) (hAdDownRefIdeal := hAdDownRefIdeal)
    ∧ preserves_AdPool_AdPoolIdeal
    ∧ algebraic_AdPoolIdeal_AdPoolRefIdeal (hAdPoolIdeal := hAdPoolIdeal) (hAdPoolRefIdeal := hAdPoolRefIdeal)
    ∧ preserves_AdConvQ_AdConvQIdeal
    ∧ algebraic_AdConvQIdeal_AdConvQRefIdeal (hAdConvQIdeal := hAdConvQIdeal) (hAdConvQRefIdeal := hAdConvQRefIdeal)
    ∧ preserves_AdConvF_AdConvFIdeal
    ∧ algebraic_AdConvFIdeal_AdConvFRefIdeal (hAdConvFIdeal := hAdConvFIdeal) (hAdConvFRefIdeal := hAdConvFRefIdeal)
    ∧ preserves_AdMeta_AdMetaIdeal
    ∧ algebraic_AdMetaIdeal_AdMetaRefIdeal (hAdMetaIdeal := hAdMetaIdeal) (hAdMetaRefIdeal := hAdMetaRefIdeal)
    ∧ preserves_AdNorm_AdNormIdeal
    ∧ algebraic_AdNormIdeal_AdNormRefIdeal (hAdNormIdeal := hAdNormIdeal) (hAdNormRefIdeal := hAdNormRefIdeal)
    ∧ preserves_AdHead_AdHeadIdeal
    ∧ algebraic_AdHeadIdeal_AdHeadRefIdeal (hAdHeadIdeal := hAdHeadIdeal) (hAdHeadRefIdeal := hAdHeadRefIdeal)
    ∧ preserves_AdHeadN_AdHeadNIdeal
    ∧ algebraic_AdHeadNIdeal_AdHeadNRefIdeal (hAdHeadNIdeal := hAdHeadNIdeal) (hAdHeadNRefIdeal := hAdHeadNRefIdeal)
    ∧ preserves_AdFin_AdFinIdeal
    ∧ algebraic_AdFinIdeal_AdFinRefIdeal (hAdFinIdeal := hAdFinIdeal) (hAdFinRefIdeal := hAdFinRefIdeal)
    ∧ preserves_Swap_SwapIdeal
    ∧ algebraic_SwapIdeal_SwapRefIdeal (hSwapIdeal := hSwapIdeal) (hSwapRefIdeal := hSwapRefIdeal)
    ∧ preserves_Scat_ScatIdeal
    ∧ algebraic_ScatIdeal_ScatRefIdeal (hScatIdeal := hScatIdeal) (hScatRefIdeal := hScatRefIdeal)
    ∧ preserves_Gath_GathIdeal
    ∧ algebraic_GathIdeal_GathRefIdeal (hGathIdeal := hGathIdeal) (hGathRefIdeal := hGathRefIdeal)
-- ==== GdnB.lean ====
abbrev S8320x3072 : Shape := ⟨2, ![8320, 3072]⟩
abbrev S8320x1024 : Shape := ⟨2, ![8320, 1024]⟩
abbrev S8320x640 : Shape := ⟨2, ![8320, 640]⟩
abbrev S1x128 : Shape := ⟨2, ![1, 128]⟩
abbrev S130x8x128x128 : Shape := ⟨4, ![130, 8, 128, 128]⟩
abbrev S130x8x64x64 : Shape := ⟨4, ![130, 8, 64, 64]⟩
abbrev S8320x128 : Shape := ⟨2, ![8320, 128]⟩
abbrev S128x3072 : Shape := ⟨2, ![128, 3072]⟩
abbrev S128x1024 : Shape := ⟨2, ![128, 1024]⟩
abbrev S128x128 : Shape := ⟨2, ![128, 128]⟩
abbrev S2x8x128x128 : Shape := ⟨4, ![2, 8, 128, 128]⟩
abbrev S2x8x64x64 : Shape := ⟨4, ![2, 8, 64, 64]⟩
abbrev S8x128x128 : Shape := ⟨3, ![8, 128, 128]⟩
abbrev S1x128x128 : Shape := ⟨3, ![1, 128, 128]⟩
abbrev S64x1 : Shape := ⟨2, ![64, 1]⟩
abbrev S1x1x64x64 : Shape := ⟨4, ![1, 1, 64, 64]⟩
abbrev S64x64 : Shape := ⟨2, ![64, 64]⟩
abbrev S64x3072 : Shape := ⟨2, ![64, 3072]⟩
abbrev S64x1024 : Shape := ⟨2, ![64, 1024]⟩
abbrev S64x128 : Shape := ⟨2, ![64, 128]⟩
abbrev S1x1x128x128 : Shape := ⟨4, ![1, 1, 128, 128]⟩
abbrev S128x64 : Shape := ⟨2, ![128, 64]⟩
abbrev S64 : Shape := ⟨1, ![64]⟩
abbrev S1x64 : Shape := ⟨2, ![1, 64]⟩
abbrev S1x1 : Shape := ⟨2, ![1, 1]⟩
abbrev S64x896 : Shape := ⟨2, ![64, 896]⟩
abbrev S128 : Shape := ⟨1, ![128]⟩
abbrev S64x768 : Shape := ⟨2, ![64, 768]⟩
abbrev S64x640 : Shape := ⟨2, ![64, 640]⟩
abbrev S64x256 : Shape := ⟨2, ![64, 256]⟩
abbrev S64x512 : Shape := ⟨2, ![64, 512]⟩
abbrev S64x384 : Shape := ⟨2, ![64, 384]⟩
abbrev S64x15 : Shape := ⟨2, ![64, 15]⟩
abbrev S64x16 : Shape := ⟨2, ![64, 16]⟩
abbrev S64x112 : Shape := ⟨2, ![64, 112]⟩
abbrev S1 : Shape := ⟨1, ![1]⟩
abbrev S1x1x1 : Shape := ⟨3, ![1, 1, 1]⟩
abbrev S1x15 : Shape := ⟨2, ![1, 15]⟩
abbrev S1x16 : Shape := ⟨2, ![1, 16]⟩
abbrev S1x112 : Shape := ⟨2, ![1, 112]⟩
abbrev S64x14 : Shape := ⟨2, ![64, 14]⟩
abbrev S64x113 : Shape := ⟨2, ![64, 113]⟩
abbrev S1x14 : Shape := ⟨2, ![1, 14]⟩
abbrev S1x113 : Shape := ⟨2, ![1, 113]⟩
abbrev S64x13 : Shape := ⟨2, ![64, 13]⟩
abbrev S64x114 : Shape := ⟨2, ![64, 114]⟩
abbrev S1x13 : Shape := ⟨2, ![1, 13]⟩
abbrev S1x114 : Shape := ⟨2, ![1, 114]⟩
abbrev S64x12 : Shape := ⟨2, ![64, 12]⟩
abbrev S64x115 : Shape := ⟨2, ![64, 115]⟩
abbrev S1x12 : Shape := ⟨2, ![1, 12]⟩
abbrev S1x115 : Shape := ⟨2, ![1, 115]⟩
abbrev S64x11 : Shape := ⟨2, ![64, 11]⟩
abbrev S64x116 : Shape := ⟨2, ![64, 116]⟩
abbrev S1x11 : Shape := ⟨2, ![1, 11]⟩
abbrev S1x116 : Shape := ⟨2, ![1, 116]⟩
abbrev S64x10 : Shape := ⟨2, ![64, 10]⟩
abbrev S64x117 : Shape := ⟨2, ![64, 117]⟩
abbrev S1x10 : Shape := ⟨2, ![1, 10]⟩
abbrev S1x117 : Shape := ⟨2, ![1, 117]⟩
abbrev S64x9 : Shape := ⟨2, ![64, 9]⟩
abbrev S64x118 : Shape := ⟨2, ![64, 118]⟩
abbrev S1x9 : Shape := ⟨2, ![1, 9]⟩
abbrev S1x118 : Shape := ⟨2, ![1, 118]⟩
abbrev S64x8 : Shape := ⟨2, ![64, 8]⟩
abbrev S64x119 : Shape := ⟨2, ![64, 119]⟩
abbrev S1x8 : Shape := ⟨2, ![1, 8]⟩
abbrev S1x119 : Shape := ⟨2, ![1, 119]⟩
abbrev S15x64 : Shape := ⟨2, ![15, 64]⟩
abbrev S16x64 : Shape := ⟨2, ![16, 64]⟩
abbrev S112x64 : Shape := ⟨2, ![112, 64]⟩
abbrev S14x64 : Shape := ⟨2, ![14, 64]⟩
abbrev S113x64 : Shape := ⟨2, ![113, 64]⟩
abbrev S13x64 : Shape := ⟨2, ![13, 64]⟩
abbrev S114x64 : Shape := ⟨2, ![114, 64]⟩
abbrev S12x64 : Shape := ⟨2, ![12, 64]⟩
abbrev S115x64 : Shape := ⟨2, ![115, 64]⟩
abbrev S11x64 : Shape := ⟨2, ![11, 64]⟩
abbrev S116x64 : Shape := ⟨2, ![116, 64]⟩
abbrev S10x64 : Shape := ⟨2, ![10, 64]⟩
abbrev S117x64 : Shape := ⟨2, ![117, 64]⟩
abbrev S9x64 : Shape := ⟨2, ![9, 64]⟩
abbrev S118x64 : Shape := ⟨2, ![118, 64]⟩
abbrev S8x64 : Shape := ⟨2, ![8, 64]⟩
abbrev S119x64 : Shape := ⟨2, ![119, 64]⟩
abbrev S64x7 : Shape := ⟨2, ![64, 7]⟩
abbrev S64x120 : Shape := ⟨2, ![64, 120]⟩
abbrev S64x6 : Shape := ⟨2, ![64, 6]⟩
abbrev S64x121 : Shape := ⟨2, ![64, 121]⟩
abbrev S64x5 : Shape := ⟨2, ![64, 5]⟩
abbrev S64x122 : Shape := ⟨2, ![64, 122]⟩
abbrev S64x4 : Shape := ⟨2, ![64, 4]⟩
abbrev S64x123 : Shape := ⟨2, ![64, 123]⟩
abbrev S64x3 : Shape := ⟨2, ![64, 3]⟩
abbrev S64x124 : Shape := ⟨2, ![64, 124]⟩
abbrev S64x2 : Shape := ⟨2, ![64, 2]⟩
abbrev S64x125 : Shape := ⟨2, ![64, 125]⟩
abbrev S64x126 : Shape := ⟨2, ![64, 126]⟩
abbrev S64x127 : Shape := ⟨2, ![64, 127]⟩
abbrev S64x2944 : Shape := ⟨2, ![64, 2944]⟩
abbrev S64x2816 : Shape := ⟨2, ![64, 2816]⟩
abbrev S64x2688 : Shape := ⟨2, ![64, 2688]⟩
abbrev S64x2560 : Shape := ⟨2, ![64, 2560]⟩
abbrev S64x2432 : Shape := ⟨2, ![64, 2432]⟩
abbrev S64x2304 : Shape := ⟨2, ![64, 2304]⟩
abbrev S64x2176 : Shape := ⟨2, ![64, 2176]⟩
abbrev S64x2048 : Shape := ⟨2, ![64, 2048]⟩
abbrev S64x1920 : Shape := ⟨2, ![64, 1920]⟩
abbrev S64x1792 : Shape := ⟨2, ![64, 1792]⟩
abbrev S64x1152 : Shape := ⟨2, ![64, 1152]⟩
abbrev S64x1664 : Shape := ⟨2, ![64, 1664]⟩
abbrev S64x1280 : Shape := ⟨2, ![64, 1280]⟩
abbrev S64x1536 : Shape := ⟨2, ![64, 1536]⟩
abbrev S64x1408 : Shape := ⟨2, ![64, 1408]⟩
abbrev S63x128 : Shape := ⟨2, ![63, 128]⟩

abbrev nBuf : Space → Nat
  | .hbm => 15
  | .vmem => 25
  | .smem => 0
  | _ => 0

abbrev bufTy : (tb : Table) → Fin (tcTables nBuf tb) → BufTy
  | .hbm, ⟨0, _⟩ => ⟨S8320x3072, .f32⟩
  | .hbm, ⟨1, _⟩ => ⟨S8320x1024, .f32⟩
  | .hbm, ⟨2, _⟩ => ⟨S8320x640, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S130x8x128x128, .f32⟩
  | .hbm, ⟨7, _⟩ => ⟨S130x8x64x64, .f32⟩
  | .hbm, ⟨8, _⟩ => ⟨S8320x1024, .f32⟩
  | .hbm, ⟨9, _⟩ => ⟨S8320x3072, .f32⟩
  | .hbm, ⟨10, _⟩ => ⟨S8320x1024, .bf16⟩
  | .hbm, ⟨11, _⟩ => ⟨S8320x128, .bf16⟩
  | .hbm, ⟨12, _⟩ => ⟨S1x128, .f32⟩
  | .hbm, ⟨13, _⟩ => ⟨S1x128, .f32⟩
  | .hbm, ⟨14, _⟩ => ⟨S1x128, .f32⟩
  | .local _ .vmem, ⟨0, _⟩ => ⟨S128x3072, .f32⟩
  | .local _ .vmem, ⟨1, _⟩ => ⟨S128x3072, .f32⟩
  | .local _ .vmem, ⟨2, _⟩ => ⟨S128x1024, .f32⟩
  | .local _ .vmem, ⟨3, _⟩ => ⟨S128x1024, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S2x8x128x128, .f32⟩
  | .local _ .vmem, ⟨10, _⟩ => ⟨S2x8x128x128, .f32⟩
  | .local _ .vmem, ⟨11, _⟩ => ⟨S2x8x64x64, .f32⟩
  | .local _ .vmem, ⟨12, _⟩ => ⟨S2x8x64x64, .f32⟩
  | .local _ .vmem, ⟨13, _⟩ => ⟨S128x1024, .f32⟩
  | .local _ .vmem, ⟨14, _⟩ => ⟨S128x1024, .f32⟩
  | .local _ .vmem, ⟨15, _⟩ => ⟨S128x3072, .f32⟩
  | .local _ .vmem, ⟨16, _⟩ => ⟨S128x3072, .f32⟩
  | .local _ .vmem, ⟨17, _⟩ => ⟨S128x1024, .bf16⟩
  | .local _ .vmem, ⟨18, _⟩ => ⟨S128x1024, .bf16⟩
  | .local _ .vmem, ⟨19, _⟩ => ⟨S128x128, .bf16⟩
  | .local _ .vmem, ⟨20, _⟩ => ⟨S128x128, .bf16⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S8x128x128, .f32⟩
  | _, _ => ⟨S8320x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.subi c64_i32 arg0
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 4 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c64_i32 : BitVec 32 := 64#32
  let v0 : BitVec 32 := Scalar.subi c64_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x8x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== DownW.lean ====
abbrev S2816x8320 : Shape := ⟨2, ![2816, 8320]⟩
abbrev S8320x1024 : Shape := ⟨2, ![8320, 1024]⟩
abbrev S2816x1024 : Shape := ⟨2, ![2816, 1024]⟩
abbrev S1408x1664 : Shape := ⟨2, ![1408, 1664]⟩
abbrev S1664x1024 : Shape := ⟨2, ![1664, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2816x8320, .bf16⟩
  | .hbm, ⟨1, _⟩ => ⟨S8320x1024, .bf16⟩
  | .hbm, ⟨2, _⟩ => ⟨S2816x1024, .f32⟩
  | .local _ .vmem, ⟨0, _⟩ => ⟨S1408x1664, .bf16⟩
  | .local _ .vmem, ⟨1, _⟩ => ⟨S1408x1664, .bf16⟩
  | .local _ .vmem, ⟨2, _⟩ => ⟨S1664x1024, .bf16⟩
  | .local _ .vmem, ⟨3, _⟩ => ⟨S1664x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S2816x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 5], ![false, false, false]⟩

def k0_cond3 (i : grid0.Coords) : BitVec 1 :=
  let arg2 : BitVec 32 := BitVec.ofNat 32 (i 2).val
  let c4_i32_6 : BitVec 32 := 4#32
  let v11 : BitVec 1 := Scalar.cmpi .eq arg2 c4_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1408x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWRefIdeal.lean ====
abbrev S2816x8320 : Shape := ⟨2, ![2816, 8320]⟩
abbrev S8320x1024 : Shape := ⟨2, ![8320, 1024]⟩
abbrev S8320x2816 : Shape := ⟨2, ![8320, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S2816x8320, .bf16⟩
  | .hbm, ⟨1, _⟩ => ⟨S8320x1024, .bf16⟩
  | .hbm, ⟨2, _⟩ => ⟨S8320x2816, .bf16⟩
  | .hbm, ⟨3, _⟩ => ⟨S_, .f32⟩
  | .hbm, ⟨4, _⟩ => ⟨S2816x1024, .f32⟩
  | .hbm, ⟨5, _⟩ => ⟨S8320x2816, .f32⟩
  | .hbm, ⟨6, _⟩ => ⟨S8320x1024, .f32⟩
  | .hbm, ⟨7, _⟩ => ⟨S8320x1024, .f32⟩
  | .hbm, ⟨8, _⟩ => ⟨S1024x2816, .f32⟩
  | .hbm, ⟨9, _⟩ => ⟨S2816x1024, .f32⟩
  | .hbm, ⟨10, _⟩ => ⟨S8320x2816, .f32⟩
  | _, _ => ⟨S2816x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== UpW.lean ====
abbrev S1024x8320 : Shape := ⟨2, ![1024, 8320]⟩
abbrev S8320x2816 : Shape := ⟨2, ![8320, 2816]⟩
abbrev S1024x2816 : Shape := ⟨2, ![1024, 2816]⟩
abbrev S1024x1664 : Shape := ⟨2, ![1024, 1664]⟩
abbrev S1664x1408 : Shape := ⟨2, ![1664, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S1024x8320, .bf16⟩
  | .hbm, ⟨1, _⟩ => ⟨S8320x2816, .bf16⟩
  | .hbm, ⟨2, _⟩ => ⟨S1024x2816, .f32⟩
  | .local _ .vmem, ⟨0, _⟩ => ⟨S1024x1664, .bf16⟩
  | .local _ .vmem, ⟨1, _⟩ => ⟨S1024x1664, .bf16⟩
  | .local _ .vmem, ⟨2, _⟩ => ⟨S1664x1408, .bf16⟩
  | .local _ .vmem, ⟨3, _⟩ => ⟨S1664x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S1024x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def k0_cond3 (i : grid0.Coords) : BitVec 1 :=
  let arg2 : BitVec 32 := BitVec.ofNat 32 (i 2).val
  let c4_i32_6 : BitVec 32 := 4#32
  let v11 : BitVec 1 := Scalar.cmpi .eq arg2 c4_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1664x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWRefIdeal.lean ====
abbrev S1024x8320 : Shape := ⟨2, ![1024, 8320]⟩
abbrev S8320x2816 : Shape := ⟨2, ![8320, 2816]⟩
abbrev S8320x1024 : Shape := ⟨2, ![8320, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x8320, .bf16⟩
  | .hbm, ⟨1, _⟩ => ⟨S8320x2816, .bf16⟩
  | .hbm, ⟨2, _⟩ => ⟨S8320x1024, .bf16⟩
  | .hbm, ⟨3, _⟩ => ⟨S_, .f32⟩
  | .hbm, ⟨4, _⟩ => ⟨S1024x2816, .f32⟩
  | .hbm, ⟨5, _⟩ => ⟨S8320x1024, .f32⟩
  | .hbm, ⟨6, _⟩ => ⟨S8320x2816, .f32⟩
  | .hbm, ⟨7, _⟩ => ⟨S8320x2816, .f32⟩
  | .hbm, ⟨8, _⟩ => ⟨S2816x1024, .f32⟩
  | .hbm, ⟨9, _⟩ => ⟨S1024x2816, .f32⟩
  | .hbm, ⟨10, _⟩ => ⟨S8320x1024, .f32⟩
  | _, _ => ⟨S1024x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutW.lean ====
abbrev S1024x8320 : Shape := ⟨2, ![1024, 8320]⟩
abbrev S8320x1024 : Shape := ⟨2, ![8320, 1024]⟩
abbrev S1024x1024 : Shape := ⟨2, ![1024, 1024]⟩
abbrev S1024x1664 : Shape := ⟨2, ![1024, 1664]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x8320, .bf16⟩
  | .hbm, ⟨1, _⟩ => ⟨S8320x1024, .bf16⟩
  | .hbm, ⟨2, _⟩ => ⟨S1024x1024, .f32⟩
  | .local _ .vmem, ⟨0, _⟩ => ⟨S1024x1664, .bf16⟩
  | .local _ .vmem, ⟨1, _⟩ => ⟨S1024x1664, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .f32⟩
  | .local _ .vmem, ⟨5, _⟩ => ⟨S1024x1024, .f32⟩
  | _, _ => ⟨S1024x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond3 (i : grid0.Coords) : BitVec 1 :=
  let arg2 : BitVec 32 := BitVec.ofNat 32 (i 2).val
  let c4_i32_6 : BitVec 32 := 4#32
  let v11 : BitVec 1 := Scalar.cmpi .eq arg2 c4_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWRefIdeal.lean ====
abbrev S1024x8320 : Shape := ⟨2, ![1024, 8320]⟩
abbrev S8320x1024 : Shape := ⟨2, ![8320, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x8320, .bf16⟩
  | .hbm, ⟨1, _⟩ => ⟨S8320x1024, .bf16⟩
  | .hbm, ⟨2, _⟩ => ⟨S8320x1024, .bf16⟩
  | .hbm, ⟨3, _⟩ => ⟨S_, .f32⟩
  | .hbm, ⟨4, _⟩ => ⟨S1024x1024, .f32⟩
  | .hbm, ⟨5, _⟩ => ⟨S8320x1024, .f32⟩
  | .hbm, ⟨6, _⟩ => ⟨S8320x1024, .f32⟩
  | .hbm, ⟨7, _⟩ => ⟨S8320x1024, .f32⟩
  | .hbm, ⟨8, _⟩ => ⟨S1024x1024, .f32⟩
  | .hbm, ⟨9, _⟩ => ⟨S1024x1024, .f32⟩
  | .hbm, ⟨10, _⟩ => ⟨S8320x1024, .f32⟩
  | _, _ => ⟨S1024x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== QkvW.lean ====
abbrev S1024x8320 : Shape := ⟨2, ![1024, 8320]⟩
abbrev S8320x3072 : Shape := ⟨2, ![8320, 3072]⟩
abbrev S1024x3072 : Shape := ⟨2, ![1024, 3072]⟩
abbrev S1024x1664 : Shape := ⟨2, ![1024, 1664]⟩
abbrev S1664x1536 : Shape := ⟨2, ![1664, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S1024x8320, .bf16⟩
  | .hbm, ⟨1, _⟩ => ⟨S8320x3072, .bf16⟩
  | .hbm, ⟨2, _⟩ => ⟨S1024x3072, .f32⟩
  | .local _ .vmem, ⟨0, _⟩ => ⟨S1024x1664, .bf16⟩
  | .local _ .vmem, ⟨1, _⟩ => ⟨S1024x1664, .bf16⟩
  | .local _ .vmem, ⟨2, _⟩ => ⟨S1664x1536, .bf16⟩
  | .local _ .vmem, ⟨3, _⟩ => ⟨S1664x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S1024x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def k0_cond3 (i : grid0.Coords) : BitVec 1 :=
  let arg2 : BitVec 32 := BitVec.ofNat 32 (i 2).val
  let c4_i32_6 : BitVec 32 := 4#32
  let v11 : BitVec 1 := Scalar.cmpi .eq arg2 c4_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1664x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvWRefIdeal.lean ====
abbrev S1024x8320 : Shape := ⟨2, ![1024, 8320]⟩
abbrev S8320x3072 : Shape := ⟨2, ![8320, 3072]⟩
abbrev S8320x1024 : Shape := ⟨2, ![8320, 1024]⟩
abbrev S_ : Shape := ⟨0, ![]⟩
abbrev S1024x3072 : Shape := ⟨2, ![1024, 3072]⟩
abbrev S3072x1024 : Shape := ⟨2, ![3072, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x8320, .bf16⟩
  | .hbm, ⟨1, _⟩ => ⟨S8320x3072, .bf16⟩
  | .hbm, ⟨2, _⟩ => ⟨S8320x1024, .bf16⟩
  | .hbm, ⟨3, _⟩ => ⟨S_, .f32⟩
  | .hbm, ⟨4, _⟩ => ⟨S1024x3072, .f32⟩
  | .hbm, ⟨5, _⟩ => ⟨S8320x1024, .f32⟩
  | .hbm, ⟨6, _⟩ => ⟨S8320x3072, .f32⟩
  | .hbm, ⟨7, _⟩ => ⟨S8320x3072, .f32⟩
  | .hbm, ⟨8, _⟩ => ⟨S3072x1024, .f32⟩
  | .hbm, ⟨9, _⟩ => ⟨S1024x3072, .f32⟩
  | .hbm, ⟨10, _⟩ => ⟨S8320x1024, .f32⟩
  | _, _ => ⟨S1024x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GateW.lean ====
abbrev S1024x8320 : Shape := ⟨2, ![1024, 8320]⟩
abbrev S8320x2048 : Shape := ⟨2, ![8320, 2048]⟩
abbrev S1024x2048 : Shape := ⟨2, ![1024, 2048]⟩
abbrev S1024x1664 : Shape := ⟨2, ![1024, 1664]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x8320, .bf16⟩
  | .hbm, ⟨1, _⟩ => ⟨S8320x2048, .bf16⟩
  | .hbm, ⟨2, _⟩ => ⟨S1024x2048, .f32⟩
  | .local _ .vmem, ⟨0, _⟩ => ⟨S1024x1664, .bf16⟩
  | .local _ .vmem, ⟨1, _⟩ => ⟨S1024x1664, .bf16⟩
  | .local _ .vmem, ⟨2, _⟩ => ⟨S1664x1024, .bf16⟩
  | .local _ .vmem, ⟨3, _⟩ => ⟨S1664x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def k0_cond3 (i : grid0.Coords) : BitVec 1 :=
  let arg2 : BitVec 32 := BitVec.ofNat 32 (i 2).val
  let c4_i32_6 : BitVec 32 := 4#32
  let v11 : BitVec 1 := Scalar.cmpi .eq arg2 c4_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateWRefIdeal.lean ====
abbrev S1024x8320 : Shape := ⟨2, ![1024, 8320]⟩
abbrev S8320x2048 : Shape := ⟨2, ![8320, 2048]⟩
abbrev S8320x1024 : Shape := ⟨2, ![8320, 1024]⟩
abbrev S_ : Shape := ⟨0, ![]⟩
abbrev S1024x2048 : Shape := ⟨2, ![1024, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x8320, .bf16⟩
  | .hbm, ⟨1, _⟩ => ⟨S8320x2048, .bf16⟩
  | .hbm, ⟨2, _⟩ => ⟨S8320x1024, .bf16⟩
  | .hbm, ⟨3, _⟩ => ⟨S_, .f32⟩
  | .hbm, ⟨4, _⟩ => ⟨S1024x2048, .f32⟩
  | .hbm, ⟨5, _⟩ => ⟨S8320x1024, .f32⟩
  | .hbm, ⟨6, _⟩ => ⟨S8320x2048, .f32⟩
  | .hbm, ⟨7, _⟩ => ⟨S8320x2048, .f32⟩
  | .hbm, ⟨8, _⟩ => ⟨S2048x1024, .f32⟩
  | .hbm, ⟨9, _⟩ => ⟨S1024x2048, .f32⟩
  | .hbm, ⟨10, _⟩ => ⟨S8320x1024, .f32⟩
  | _, _ => ⟨S1024x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== PoolBaW.lean ====
abbrev S1024x8320 : Shape := ⟨2, ![1024, 8320]⟩
abbrev S8320x640 : Shape := ⟨2, ![8320, 640]⟩
abbrev S1024x640 : Shape := ⟨2, ![1024, 640]⟩
abbrev S1024x1664 : Shape := ⟨2, ![1024, 1664]⟩
abbrev S1664x640 : Shape := ⟨2, ![1664, 640]⟩

abbrev nBuf : Space → Nat
  | .hbm => 3
  | .vmem => 6
  | .smem => 0
  | _ => 0

abbrev bufTy : (tb : Table) → Fin (tcTables nBuf tb) → BufTy
  | .hbm, ⟨0, _⟩ => ⟨S1024x8320, .bf16⟩
  | .hbm, ⟨1, _⟩ => ⟨S8320x640, .bf16⟩
  | .hbm, ⟨2, _⟩ => ⟨S1024x640, .f32⟩
  | .local _ .vmem, ⟨0, _⟩ => ⟨S1024x1664, .bf16⟩
  | .local _ .vmem, ⟨1, _⟩ => ⟨S1024x1664, .bf16⟩
  | .local _ .vmem, ⟨2, _⟩ => ⟨S1664x640, .bf16⟩
  | .local _ .vmem, ⟨3, _⟩ => ⟨S1664x640, .bf16⟩
  | .local _ .vmem, ⟨4, _⟩ => ⟨S1024x640, .f32⟩
  | .local _ .vmem, ⟨5, _⟩ => ⟨S1024x640, .f32⟩
  | _, _ => ⟨S1024x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond3 (i : grid0.Coords) : BitVec 1 :=
  let arg2 : BitVec 32 := BitVec.ofNat 32 (i 2).val
  let c4_i32_6 : BitVec 32 := 4#32
  let v11 : BitVec 1 := Scalar.cmpi .eq arg2 c4_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1664x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== PoolBaWRefIdeal.lean ====
abbrev S1024x8320 : Shape := ⟨2, ![1024, 8320]⟩
abbrev S8320x640 : Shape := ⟨2, ![8320, 640]⟩
abbrev S8320x1024 : Shape := ⟨2, ![8320, 1024]⟩
abbrev S_ : Shape := ⟨0, ![]⟩
abbrev S1024x640 : Shape := ⟨2, ![1024, 640]⟩
abbrev S640x1024 : Shape := ⟨2, ![640, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x8320, .bf16⟩
  | .hbm, ⟨1, _⟩ => ⟨S8320x640, .bf16⟩
  | .hbm, ⟨2, _⟩ => ⟨S8320x1024, .bf16⟩
  | .hbm, ⟨3, _⟩ => ⟨S_, .f32⟩
  | .hbm, ⟨4, _⟩ => ⟨S1024x640, .f32⟩
  | .hbm, ⟨5, _⟩ => ⟨S8320x1024, .f32⟩
  | .hbm, ⟨6, _⟩ => ⟨S8320x640, .f32⟩
  | .hbm, ⟨7, _⟩ => ⟨S8320x640, .f32⟩
  | .hbm, ⟨8, _⟩ => ⟨S640x1024, .f32⟩
  | .hbm, ⟨9, _⟩ => ⟨S1024x640, .f32⟩
  | .hbm, ⟨10, _⟩ => ⟨S8320x1024, .f32⟩
  | _, _ => ⟨S1024x8320, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownX.lean ====
abbrev S8320x1024 : Shape := ⟨2, ![8320, 1024]⟩
abbrev S2816x1024 : Shape := ⟨2, ![2816, 1024]⟩
abbrev S8320x2816 : Shape := ⟨2, ![8320, 2816]⟩
abbrev S640x1024 : Shape := ⟨2, ![640, 1024]⟩
abbrev S1408x1024 : Shape := ⟨2, ![1408, 1024]⟩
abbrev S640x1408 : Shape := ⟨2, ![640, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8320x1024, .bf16⟩
  | .hbm, ⟨1, _⟩ => ⟨S2816x1024, .bf16⟩
  | .hbm, ⟨2, _⟩ => ⟨S8320x2816, .f32⟩
  | .local _ .vmem, ⟨0, _⟩ => ⟨S640x1024, .bf16⟩
  | .local _ .vmem, ⟨1, _⟩ => ⟨S640x1024, .bf16⟩
  | .local _ .vmem, ⟨2, _⟩ => ⟨S1408x1024, .bf16⟩
  | .local _ .vmem, ⟨3, _⟩ => ⟨S1408x1024, .bf16⟩
  | .local _ .vmem, ⟨4, _⟩ => ⟨S640x1408, .f32⟩
  | .local _ .vmem, ⟨5, _⟩ => ⟨S640x1408, .f32⟩
  | .local _ .vmem, ⟨6, _⟩ => ⟨S8x128, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S640x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownXRefIdeal.lean ====
abbrev S8320x1024 : Shape := ⟨2, ![8320, 1024]⟩
abbrev S2816x1024 : Shape := ⟨2, ![2816, 1024]⟩
abbrev S_ : Shape := ⟨0, ![]⟩
abbrev S8320x2816 : Shape := ⟨2, ![8320, 2816]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S2816x1024, .bf16⟩
  | .hbm, ⟨2, _⟩ => ⟨S_, .f32⟩
  | .hbm, ⟨3, _⟩ => ⟨S8320x2816, .f32⟩
  | .hbm, ⟨4, _⟩ => ⟨S2816x1024, .f32⟩
  | .hbm, ⟨5, _⟩ => ⟨S8320x1024, .f32⟩
  | .hbm, ⟨6, _⟩ => ⟨S8320x1024, .f32⟩
  | .hbm, ⟨7, _⟩ => ⟨S1024x2816, .f32⟩
  | .hbm, ⟨8, _⟩ => ⟨S2816x1024, .f32⟩
  | .hbm, ⟨9, _⟩ => ⟨S8320x2816, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutX.lean ====
abbrev S8320x1024 : Shape := ⟨2, ![8320, 1024]⟩
abbrev S1024x1024 : Shape := ⟨2, ![1024, 1024]⟩
abbrev S640x1024 : Shape := ⟨2, ![640, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .local _ .vmem, ⟨0, _⟩ => ⟨S640x1024, .bf16⟩
  | .local _ .vmem, ⟨1, _⟩ => ⟨S640x1024, .bf16⟩
  | .local _ .vmem, ⟨2, _⟩ => ⟨S1024x1024, .bf16⟩
  | .local _ .vmem, ⟨3, _⟩ => ⟨S640x1024, .f32⟩
  | .local _ .vmem, ⟨4, _⟩ => ⟨S640x1024, .f32⟩
  | .local _ .vmem, ⟨5, _⟩ => ⟨S8x128, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutXRefIdeal.lean ====
abbrev S8320x1024 : Shape := ⟨2, ![8320, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S_, .f32⟩
  | .hbm, ⟨3, _⟩ => ⟨S8320x1024, .f32⟩
  | .hbm, ⟨4, _⟩ => ⟨S1024x1024, .f32⟩
  | .hbm, ⟨5, _⟩ => ⟨S8320x1024, .f32⟩
  | .hbm, ⟨6, _⟩ => ⟨S8320x1024, .f32⟩
  | .hbm, ⟨7, _⟩ => ⟨S1024x1024, .f32⟩
  | .hbm, ⟨8, _⟩ => ⟨S1024x1024, .f32⟩
  | .hbm, ⟨9, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpX.lean ====
abbrev S8320x2816 : Shape := ⟨2, ![8320, 2816]⟩
abbrev S1024x2816 : Shape := ⟨2, ![1024, 2816]⟩
abbrev S8320x1024 : Shape := ⟨2, ![8320, 1024]⟩
abbrev S640x2816 : Shape := ⟨2, ![640, 2816]⟩
abbrev S640x1024 : Shape := ⟨2, ![640, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8320x2816, .bf16⟩
  | .hbm, ⟨1, _⟩ => ⟨S1024x2816, .bf16⟩
  | .hbm, ⟨2, _⟩ => ⟨S8320x2816, .bf16⟩
  | .hbm, ⟨3, _⟩ => ⟨S1024x2816, .bf16⟩
  | .hbm, ⟨4, _⟩ => ⟨S8320x1024, .f32⟩
  | .local _ .vmem, ⟨0, _⟩ => ⟨S640x2816, .bf16⟩
  | .local _ .vmem, ⟨1, _⟩ => ⟨S640x2816, .bf16⟩
  | .local _ .vmem, ⟨2, _⟩ => ⟨S1024x2816, .bf16⟩
  | .local _ .vmem, ⟨3, _⟩ => ⟨S640x2816, .bf16⟩
  | .local _ .vmem, ⟨4, _⟩ => ⟨S640x2816, .bf16⟩
  | .local _ .vmem, ⟨5, _⟩ => ⟨S1024x2816, .bf16⟩
  | .local _ .vmem, ⟨6, _⟩ => ⟨S640x1024, .f32⟩
  | .local _ .vmem, ⟨7, _⟩ => ⟨S640x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== UpXRefIdeal.lean ====
abbrev S8320x2816 : Shape := ⟨2, ![8320, 2816]⟩
abbrev S1024x2816 : Shape := ⟨2, ![1024, 2816]⟩
abbrev S_ : Shape := ⟨0, ![]⟩
abbrev S8320x1024 : Shape := ⟨2, ![8320, 1024]⟩
abbrev S2816x1024 : Shape := ⟨2, ![2816, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S1024x2816, .bf16⟩
  | .hbm, ⟨2, _⟩ => ⟨S8320x2816, .bf16⟩
  | .hbm, ⟨3, _⟩ => ⟨S1024x2816, .bf16⟩
  | .hbm, ⟨4, _⟩ => ⟨S_, .f32⟩
  | .hbm, ⟨5, _⟩ => ⟨S8320x1024, .f32⟩
  | .hbm, ⟨6, _⟩ => ⟨S1024x2816, .f32⟩
  | .hbm, ⟨7, _⟩ => ⟨S1024x2816, .f32⟩
  | .hbm, ⟨8, _⟩ => ⟨S8320x2816, .f32⟩
  | .hbm, ⟨9, _⟩ => ⟨S8320x2816, .f32⟩
  | .hbm, ⟨10, _⟩ => ⟨S8320x2816, .f32⟩
  | .hbm, ⟨11, _⟩ => ⟨S8320x2816, .f32⟩
  | .hbm, ⟨12, _⟩ => ⟨S2816x1024, .f32⟩
  | .hbm, ⟨13, _⟩ => ⟨S1024x2816, .f32⟩
  | .hbm, ⟨14, _⟩ => ⟨S8320x1024, .f32⟩
  | .hbm, ⟨15, _⟩ => ⟨S2816x1024, .f32⟩
  | .hbm, ⟨16, _⟩ => ⟨S1024x2816, .f32⟩
  | .hbm, ⟨17, _⟩ => ⟨S8320x1024, .f32⟩
  | .hbm, ⟨18, _⟩ => ⟨S8320x1024, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== InX.lean ====
abbrev S8320x3072 : Shape := ⟨2, ![8320, 3072]⟩
abbrev S1024x3072 : Shape := ⟨2, ![1024, 3072]⟩
abbrev S8320x1024 : Shape := ⟨2, ![8320, 1024]⟩
abbrev S1024x1024 : Shape := ⟨2, ![1024, 1024]⟩
abbrev S8320x2048 : Shape := ⟨2, ![8320, 2048]⟩
abbrev S1024x2048 : Shape := ⟨2, ![1024, 2048]⟩
abbrev S8320x640 : Shape := ⟨2, ![8320, 640]⟩
abbrev S1024x640 : Shape := ⟨2, ![1024, 640]⟩
abbrev S640x3072 : Shape := ⟨2, ![640, 3072]⟩
abbrev S640x1024 : Shape := ⟨2, ![640, 1024]⟩
abbrev S640x2048 : Shape := ⟨2, ![640, 2048]⟩
abbrev S640x640 : Shape := ⟨2, ![640, 640]⟩

abbrev nBuf : Space → Nat
  | .hbm => 9
  | .vmem => 14
  | .smem => 0
  | _ => 0

abbrev bufTy : (tb : Table) → Fin (tcTables nBuf tb) → BufTy
  | .hbm, ⟨0, _⟩ => ⟨S8320x3072, .bf16⟩
  | .hbm, ⟨1, _⟩ => ⟨S1024x3072, .bf16⟩
  | .hbm, ⟨2, _⟩ => ⟨S8320x1024, .bf16⟩
  | .hbm, ⟨3, _⟩ => ⟨S1024x1024, .bf16⟩
  | .hbm, ⟨4, _⟩ => ⟨S8320x2048, .bf16⟩
  | .hbm, ⟨5, _⟩ => ⟨S1024x2048, .bf16⟩
  | .hbm, ⟨6, _⟩ => ⟨S8320x640, .bf16⟩
  | .hbm, ⟨7, _⟩ => ⟨S1024x640, .bf16⟩
  | .hbm, ⟨8, _⟩ => ⟨S8320x1024, .f32⟩
  | .local _ .vmem, ⟨0, _⟩ => ⟨S640x3072, .bf16⟩
  | .local _ .vmem, ⟨1, _⟩ => ⟨S640x3072, .bf16⟩
  | .local _ .vmem, ⟨2, _⟩ => ⟨S1024x3072, .bf16⟩
  | .local _ .vmem, ⟨3, _⟩ => ⟨S640x1024, .bf16⟩
  | .local _ .vmem, ⟨4, _⟩ => ⟨S640x1024, .bf16⟩
  | .local _ .vmem, ⟨5, _⟩ => ⟨S1024x1024, .bf16⟩
  | .local _ .vmem, ⟨6, _⟩ => ⟨S640x2048, .bf16⟩
  | .local _ .vmem, ⟨7, _⟩ => ⟨S640x2048, .bf16⟩
  | .local _ .vmem, ⟨8, _⟩ => ⟨S1024x2048, .bf16⟩
  | .local _ .vmem, ⟨9, _⟩ => ⟨S640x640, .bf16⟩
  | .local _ .vmem, ⟨10, _⟩ => ⟨S640x640, .bf16⟩
  | .local _ .vmem, ⟨11, _⟩ => ⟨S1024x640, .bf16⟩
  | .local _ .vmem, ⟨12, _⟩ => ⟨S640x1024, .f32⟩
  | .local _ .vmem, ⟨13, _⟩ => ⟨S640x1024, .f32⟩
  | _, _ => ⟨S8320x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S640x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x640 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S640x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InXRefIdeal.lean ====
abbrev S8320x3072 : Shape := ⟨2, ![8320, 3072]⟩
abbrev S1024x3072 : Shape := ⟨2, ![1024, 3072]⟩
abbrev S8320x1024 : Shape := ⟨2, ![8320, 1024]⟩
abbrev S1024x1024 : Shape := ⟨2, ![1024, 1024]⟩
abbrev S8320x2048 : Shape := ⟨2, ![8320, 2048]⟩
abbrev S1024x2048 : Shape := ⟨2, ![1024, 2048]⟩
abbrev S8320x640 : Shape := ⟨2, ![8320, 640]⟩
abbrev S1024x640 : Shape := ⟨2, ![1024, 640]⟩
abbrev S_ : Shape := ⟨0, ![]⟩
abbrev S640x1024 : Shape := ⟨2, ![640, 1024]⟩
abbrev S2048x1024 : Shape := ⟨2, ![2048, 1024]⟩
abbrev S3072x1024 : Shape := ⟨2, ![3072, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8320x3072, .bf16⟩
  | .hbm, ⟨1, _⟩ => ⟨S1024x3072, .bf16⟩
  | .hbm, ⟨2, _⟩ => ⟨S8320x1024, .bf16⟩
  | .hbm, ⟨3, _⟩ => ⟨S1024x1024, .bf16⟩
  | .hbm, ⟨4, _⟩ => ⟨S8320x2048, .bf16⟩
  | .hbm, ⟨5, _⟩ => ⟨S1024x2048, .bf16⟩
  | .hbm, ⟨6, _⟩ => ⟨S8320x640, .bf16⟩
  | .hbm, ⟨7, _⟩ => ⟨S1024x640, .bf16⟩
  | .hbm, ⟨8, _⟩ => ⟨S_, .f32⟩
  | .hbm, ⟨9, _⟩ => ⟨S8320x1024, .f32⟩
  | .hbm, ⟨10, _⟩ => ⟨S1024x3072, .f32⟩
  | .hbm, ⟨11, _⟩ => ⟨S1024x1024, .f32⟩
  | .hbm, ⟨12, _⟩ => ⟨S1024x2048, .f32⟩
  | .hbm, ⟨13, _⟩ => ⟨S1024x640, .f32⟩
  | .hbm, ⟨14, _⟩ => ⟨S8320x3072, .f32⟩
  | .hbm, ⟨15, _⟩ => ⟨S8320x1024, .f32⟩
  | .hbm, ⟨16, _⟩ => ⟨S8320x2048, .f32⟩
  | .hbm, ⟨17, _⟩ => ⟨S8320x640, .f32⟩
  | .hbm, ⟨18, _⟩ => ⟨S8320x3072, .f32⟩
  | .hbm, ⟨19, _⟩ => ⟨S8320x1024, .f32⟩
  | .hbm, ⟨20, _⟩ => ⟨S8320x2048, .f32⟩
  | .hbm, ⟨21, _⟩ => ⟨S8320x640, .f32⟩
  | .hbm, ⟨22, _⟩ => ⟨S640x1024, .f32⟩
  | .hbm, ⟨23, _⟩ => ⟨S1024x640, .f32⟩
  | .hbm, ⟨24, _⟩ => ⟨S8320x1024, .f32⟩
  | .hbm, ⟨25, _⟩ => ⟨S2048x1024, .f32⟩
  | .hbm, ⟨26, _⟩ => ⟨S1024x2048, .f32⟩
  | .hbm, ⟨27, _⟩ => ⟨S8320x1024, .f32⟩
  | .hbm, ⟨28, _⟩ => ⟨S8320x1024, .f32⟩
  | .hbm, ⟨29, _⟩ => ⟨S1024x1024, .f32⟩
  | .hbm, ⟨30, _⟩ => ⟨S1024x1024, .f32⟩
  | .hbm, ⟨31, _⟩ => ⟨S8320x1024, .f32⟩
  | .hbm, ⟨32, _⟩ => ⟨S8320x1024, .f32⟩
  | .hbm, ⟨33, _⟩ => ⟨S3072x1024, .f32⟩
  | .hbm, ⟨34, _⟩ => ⟨S1024x3072, .f32⟩
  | .hbm, ⟨35, _⟩ => ⟨S8320x1024, .f32⟩
  | .hbm, ⟨36, _⟩ => ⟨S8320x1024, .f32⟩
  | _, _ => ⟨S8320x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== QkvF.lean ====
abbrev S8320x1024 : Shape := ⟨2, ![8320, 1024]⟩
abbrev S1024x3072 : Shape := ⟨2, ![1024, 3072]⟩
abbrev S8320x3072 : Shape := ⟨2, ![8320, 3072]⟩
abbrev S640x1024 : Shape := ⟨2, ![640, 1024]⟩
abbrev S640x3072 : Shape := ⟨2, ![640, 3072]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x3072, .bf16⟩
  | .hbm, ⟨2, _⟩ => ⟨S8320x3072, .f32⟩
  | .local _ .vmem, ⟨0, _⟩ => ⟨S640x1024, .bf16⟩
  | .local _ .vmem, ⟨1, _⟩ => ⟨S640x1024, .bf16⟩
  | .local _ .vmem, ⟨2, _⟩ => ⟨S1024x3072, .bf16⟩
  | .local _ .vmem, ⟨3, _⟩ => ⟨S640x3072, .f32⟩
  | .local _ .vmem, ⟨4, _⟩ => ⟨S640x3072, .f32⟩
  | .local _ .vmem, ⟨5, _⟩ => ⟨S8x128, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S640x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvFRefIdeal.lean ====
abbrev S8320x1024 : Shape := ⟨2, ![8320, 1024]⟩
abbrev S1024x3072 : Shape := ⟨2, ![1024, 3072]⟩
abbrev S8320x3072 : Shape := ⟨2, ![8320, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x3072, .bf16⟩
  | .hbm, ⟨2, _⟩ => ⟨S8320x1024, .f32⟩
  | .hbm, ⟨3, _⟩ => ⟨S1024x3072, .f32⟩
  | .hbm, ⟨4, _⟩ => ⟨S8320x3072, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ZF.lean ====
abbrev S8320x1024 : Shape := ⟨2, ![8320, 1024]⟩
abbrev S1024x1024 : Shape := ⟨2, ![1024, 1024]⟩
abbrev S640x1024 : Shape := ⟨2, ![640, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .local _ .vmem, ⟨0, _⟩ => ⟨S640x1024, .bf16⟩
  | .local _ .vmem, ⟨1, _⟩ => ⟨S640x1024, .bf16⟩
  | .local _ .vmem, ⟨2, _⟩ => ⟨S1024x1024, .bf16⟩
  | .local _ .vmem, ⟨3, _⟩ => ⟨S640x1024, .f32⟩
  | .local _ .vmem, ⟨4, _⟩ => ⟨S640x1024, .f32⟩
  | .local _ .vmem, ⟨5, _⟩ => ⟨S8x128, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ZFRefIdeal.lean ====
abbrev S8320x1024 : Shape := ⟨2, ![8320, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .hbm, ⟨3, _⟩ => ⟨S1024x1024, .f32⟩
  | .hbm, ⟨4, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GateF.lean ====
abbrev S8320x1024 : Shape := ⟨2, ![8320, 1024]⟩
abbrev S1024x2048 : Shape := ⟨2, ![1024, 2048]⟩
abbrev S8320x2048 : Shape := ⟨2, ![8320, 2048]⟩
abbrev S640x1024 : Shape := ⟨2, ![640, 1024]⟩
abbrev S640x2048 : Shape := ⟨2, ![640, 2048]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x2048, .bf16⟩
  | .hbm, ⟨2, _⟩ => ⟨S8320x2048, .f32⟩
  | .local _ .vmem, ⟨0, _⟩ => ⟨S640x1024, .bf16⟩
  | .local _ .vmem, ⟨1, _⟩ => ⟨S640x1024, .bf16⟩
  | .local _ .vmem, ⟨2, _⟩ => ⟨S1024x2048, .bf16⟩
  | .local _ .vmem, ⟨3, _⟩ => ⟨S640x2048, .f32⟩
  | .local _ .vmem, ⟨4, _⟩ => ⟨S640x2048, .f32⟩
  | .local _ .vmem, ⟨5, _⟩ => ⟨S8x128, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S640x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateFRefIdeal.lean ====
abbrev S8320x1024 : Shape := ⟨2, ![8320, 1024]⟩
abbrev S1024x2048 : Shape := ⟨2, ![1024, 2048]⟩
abbrev S8320x2048 : Shape := ⟨2, ![8320, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x2048, .bf16⟩
  | .hbm, ⟨2, _⟩ => ⟨S8320x1024, .f32⟩
  | .hbm, ⟨3, _⟩ => ⟨S1024x2048, .f32⟩
  | .hbm, ⟨4, _⟩ => ⟨S8320x2048, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PoolBaF.lean ====
abbrev S8320x1024 : Shape := ⟨2, ![8320, 1024]⟩
abbrev S1024x640 : Shape := ⟨2, ![1024, 640]⟩
abbrev S8320x640 : Shape := ⟨2, ![8320, 640]⟩
abbrev S640x1024 : Shape := ⟨2, ![640, 1024]⟩
abbrev S640x640 : Shape := ⟨2, ![640, 640]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x640, .bf16⟩
  | .hbm, ⟨2, _⟩ => ⟨S8320x640, .f32⟩
  | .local _ .vmem, ⟨0, _⟩ => ⟨S640x1024, .bf16⟩
  | .local _ .vmem, ⟨1, _⟩ => ⟨S640x1024, .bf16⟩
  | .local _ .vmem, ⟨2, _⟩ => ⟨S1024x640, .bf16⟩
  | .local _ .vmem, ⟨3, _⟩ => ⟨S640x640, .f32⟩
  | .local _ .vmem, ⟨4, _⟩ => ⟨S640x640, .f32⟩
  | .local _ .vmem, ⟨5, _⟩ => ⟨S8x128, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S640x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PoolBaFRefIdeal.lean ====
abbrev S8320x1024 : Shape := ⟨2, ![8320, 1024]⟩
abbrev S1024x640 : Shape := ⟨2, ![1024, 640]⟩
abbrev S8320x640 : Shape := ⟨2, ![8320, 640]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x640, .bf16⟩
  | .hbm, ⟨2, _⟩ => ⟨S8320x1024, .f32⟩
  | .hbm, ⟨3, _⟩ => ⟨S1024x640, .f32⟩
  | .hbm, ⟨4, _⟩ => ⟨S8320x640, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpF.lean ====
abbrev S8320x1024 : Shape := ⟨2, ![8320, 1024]⟩
abbrev S1024x2816 : Shape := ⟨2, ![1024, 2816]⟩
abbrev S8320x2816 : Shape := ⟨2, ![8320, 2816]⟩
abbrev S640x1024 : Shape := ⟨2, ![640, 1024]⟩
abbrev S640x2816 : Shape := ⟨2, ![640, 2816]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S1024x2816, .bf16⟩
  | .hbm, ⟨2, _⟩ => ⟨S8320x2816, .f32⟩
  | .local _ .vmem, ⟨0, _⟩ => ⟨S640x1024, .bf16⟩
  | .local _ .vmem, ⟨1, _⟩ => ⟨S640x1024, .bf16⟩
  | .local _ .vmem, ⟨2, _⟩ => ⟨S1024x2816, .bf16⟩
  | .local _ .vmem, ⟨3, _⟩ => ⟨S640x2816, .f32⟩
  | .local _ .vmem, ⟨4, _⟩ => ⟨S640x2816, .f32⟩
  | .local _ .vmem, ⟨5, _⟩ => ⟨S8x128, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S640x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFRefIdeal.lean ====
abbrev S8320x1024 : Shape := ⟨2, ![8320, 1024]⟩
abbrev S1024x2816 : Shape := ⟨2, ![1024, 2816]⟩
abbrev S8320x2816 : Shape := ⟨2, ![8320, 2816]⟩

abbrev nBuf : Space → Nat
  | .hbm => 5
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x2816, .bf16⟩
  | .hbm, ⟨2, _⟩ => ⟨S8320x1024, .f32⟩
  | .hbm, ⟨3, _⟩ => ⟨S1024x2816, .f32⟩
  | .hbm, ⟨4, _⟩ => ⟨S8320x2816, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Rms.lean ====
abbrev S8320x1024 : Shape := ⟨2, ![8320, 1024]⟩
abbrev S1x1024 : Shape := ⟨2, ![1, 1024]⟩
abbrev S640x1024 : Shape := ⟨2, ![640, 1024]⟩
abbrev S640 : Shape := ⟨1, ![640]⟩
abbrev S640x1 : Shape := ⟨2, ![640, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .f32⟩
  | .hbm, ⟨3, _⟩ => ⟨S8320x1024, .f32⟩
  | .hbm, ⟨4, _⟩ => ⟨S8320x1024, .f32⟩
  | .hbm, ⟨5, _⟩ => ⟨S8320x1024, .bf16⟩
  | .hbm, ⟨6, _⟩ => ⟨S1x1024, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .bf16⟩
  | .local _ .vmem, ⟨10, _⟩ => ⟨S640x1024, .bf16⟩
  | .local _ .vmem, ⟨11, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsRefIdeal.lean ====
abbrev S8320x1024 : Shape := ⟨2, ![8320, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .f32⟩
  | .hbm, ⟨3, _⟩ => ⟨S8320x1024, .f32⟩
  | .hbm, ⟨4, _⟩ => ⟨S8320x1024, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S_, .f32⟩
  | .hbm, ⟨17, _⟩ => ⟨S8320x1, .f32⟩
  | .hbm, ⟨18, _⟩ => ⟨S8320x1, .f32⟩
  | .hbm, ⟨19, _⟩ => ⟨S8320x1024, .f32⟩
  | .hbm, ⟨20, _⟩ => ⟨S8320x1024, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8320x1024, .f32⟩
  | .hbm, ⟨28, _⟩ => ⟨S8320x1024, .f32⟩
  | .hbm, ⟨29, _⟩ => ⟨S8320x1024, .f32⟩
  | .hbm, ⟨30, _⟩ => ⟨S_, .f32⟩
  | .hbm, ⟨31, _⟩ => ⟨S8320, .f32⟩
  | .hbm, ⟨32, _⟩ => ⟨S8320x1, .f32⟩
  | .hbm, ⟨33, _⟩ => ⟨S8320x1024, .f32⟩
  | .hbm, ⟨34, _⟩ => ⟨S8320x1024, .f32⟩
  | .hbm, ⟨35, _⟩ => ⟨S8320x1, .f32⟩
  | .hbm, ⟨36, _⟩ => ⟨S_, .f32⟩
  | .hbm, ⟨37, _⟩ => ⟨S8320x1, .f32⟩
  | .hbm, ⟨38, _⟩ => ⟨S8320x1, .f32⟩
  | .hbm, ⟨39, _⟩ => ⟨S_, .f32⟩
  | .hbm, ⟨40, _⟩ => ⟨S8320, .f32⟩
  | .hbm, ⟨41, _⟩ => ⟨S8320x1024, .f32⟩
  | .hbm, ⟨42, _⟩ => ⟨S8320x1024, .f32⟩
  | .hbm, ⟨43, _⟩ => ⟨S8320x1024, .f32⟩
  | .hbm, ⟨44, _⟩ => ⟨S8320x1024, .f32⟩
  | .hbm, ⟨45, _⟩ => ⟨S8320x1024, .f32⟩
  | .hbm, ⟨46, _⟩ => ⟨S8320, .i32⟩
  | .hbm, ⟨47, _⟩ => ⟨S8320x1, .i32⟩
  | .hbm, ⟨48, _⟩ => ⟨S_, .i32⟩
  | .hbm, ⟨49, _⟩ => ⟨S8320x1, .i32⟩
  | .hbm, ⟨50, _⟩ => ⟨S8320x1, .i1⟩
  | .hbm, ⟨51, _⟩ => ⟨S8320x1024, .f32⟩
  | .hbm, ⟨52, _⟩ => ⟨S_, .f32⟩
  | .hbm, ⟨53, _⟩ => ⟨S_, .f32⟩
  | .hbm, ⟨54, _⟩ => ⟨S8320x1024, .i1⟩
  | .hbm, ⟨55, _⟩ => ⟨S8320x1024, .f32⟩
  | .hbm, ⟨56, _⟩ => ⟨S8320x1024, .f32⟩
  | .hbm, ⟨57, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== OutF.lean ====
abbrev S8320x1024 : Shape := ⟨2, ![8320, 1024]⟩
abbrev S1024x1024 : Shape := ⟨2, ![1024, 1024]⟩
abbrev S1x1024 : Shape := ⟨2, ![1, 1024]⟩
abbrev S1024x8320 : Shape := ⟨2, ![1024, 8320]⟩
abbrev S640x1024 : Shape := ⟨2, ![640, 1024]⟩
abbrev S1024x640 : Shape := ⟨2, ![1024, 640]⟩
abbrev S8x128 : Shape := ⟨2, ![8, 128]⟩
abbrev S640 : Shape := ⟨1, ![640]⟩
abbrev S640x1 : Shape := ⟨2, ![640, 1]⟩

abbrev nBuf : Space → Nat
  | .hbm => 7
  | .vmem => 13
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .hbm, ⟨3, _⟩ => ⟨S1x1024, .f32⟩
  | .hbm, ⟨4, _⟩ => ⟨S8320x1024, .f32⟩
  | .hbm, ⟨5, _⟩ => ⟨S8320x1024, .bf16⟩
  | .hbm, ⟨6, _⟩ => ⟨S1024x8320, .bf16⟩
  | .local _ .vmem, ⟨0, _⟩ => ⟨S640x1024, .bf16⟩
  | .local _ .vmem, ⟨1, _⟩ => ⟨S640x1024, .bf16⟩
  | .local _ .vmem, ⟨2, _⟩ => ⟨S1024x1024, .bf16⟩
  | .local _ .vmem, ⟨3, _⟩ => ⟨S640x1024, .f32⟩
  | .local _ .vmem, ⟨4, _⟩ => ⟨S640x1024, .f32⟩
  | .local _ .vmem, ⟨5, _⟩ => ⟨S1x1024, .f32⟩
  | .local _ .vmem, ⟨6, _⟩ => ⟨S640x1024, .f32⟩
  | .local _ .vmem, ⟨7, _⟩ => ⟨S640x1024, .f32⟩
  | .local _ .vmem, ⟨8, _⟩ => ⟨S640x1024, .bf16⟩
  | .local _ .vmem, ⟨9, _⟩ => ⟨S640x1024, .bf16⟩
  | .local _ .vmem, ⟨10, _⟩ => ⟨S1024x640, .bf16⟩
  | .local _ .vmem, ⟨11, _⟩ => ⟨S1024x640, .bf16⟩
  | .local _ .vmem, ⟨12, _⟩ => ⟨S8x128, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![1, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]
-- ==== OutFRefIdeal.lean ====
abbrev S8320x1024 : Shape := ⟨2, ![8320, 1024]⟩
abbrev S1024x1024 : Shape := ⟨2, ![1024, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩
abbrev S1024x8320 : Shape := ⟨2, ![1024, 8320]⟩

abbrev nBuf : Space → Nat
  | .hbm => 26
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S1024x1024, .bf16⟩
  | .hbm, ⟨2, _⟩ => ⟨S8320x1024, .f32⟩
  | .hbm, ⟨3, _⟩ => ⟨S1x1024, .f32⟩
  | .hbm, ⟨4, _⟩ => ⟨S8320x1024, .f32⟩
  | .hbm, ⟨5, _⟩ => ⟨S1024x1024, .f32⟩
  | .hbm, ⟨6, _⟩ => ⟨S8320x1024, .f32⟩
  | .hbm, ⟨7, _⟩ => ⟨S8320x1024, .f32⟩
  | .hbm, ⟨8, _⟩ => ⟨S8320x1024, .f32⟩
  | .hbm, ⟨9, _⟩ => ⟨S_, .f32⟩
  | .hbm, ⟨10, _⟩ => ⟨S8320, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S_, .f32⟩
  | .hbm, ⟨16, _⟩ => ⟨S8320x1, .f32⟩
  | .hbm, ⟨17, _⟩ => ⟨S8320x1, .f32⟩
  | .hbm, ⟨18, _⟩ => ⟨S8320x1, .f32⟩
  | .hbm, ⟨19, _⟩ => ⟨S8320x1024, .f32⟩
  | .hbm, ⟨20, _⟩ => ⟨S8320x1024, .f32⟩
  | .hbm, ⟨21, _⟩ => ⟨S8320x1024, .f32⟩
  | .hbm, ⟨22, _⟩ => ⟨S8320x1024, .f32⟩
  | .hbm, ⟨23, _⟩ => ⟨S8320x1024, .bf16⟩
  | .hbm, ⟨24, _⟩ => ⟨S1024x8320, .f32⟩
  | .hbm, ⟨25, _⟩ => ⟨S1024x8320, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== DownF.lean ====
abbrev S8320x2816 : Shape := ⟨2, ![8320, 2816]⟩
abbrev S2816x1024 : Shape := ⟨2, ![2816, 1024]⟩
abbrev S8320x1024 : Shape := ⟨2, ![8320, 1024]⟩
abbrev S1x1024 : Shape := ⟨2, ![1, 1024]⟩
abbrev S1024x8320 : Shape := ⟨2, ![1024, 8320]⟩
abbrev S640x2816 : Shape := ⟨2, ![640, 2816]⟩
abbrev S640x1024 : Shape := ⟨2, ![640, 1024]⟩
abbrev S1024x640 : Shape := ⟨2, ![1024, 640]⟩
abbrev S8x128 : Shape := ⟨2, ![8, 128]⟩
abbrev S640 : Shape := ⟨1, ![640]⟩
abbrev S640x1 : Shape := ⟨2, ![640, 1]⟩

abbrev nBuf : Space → Nat
  | .hbm => 7
  | .vmem => 13
  | .smem => 0
  | _ => 0

abbrev bufTy : (tb : Table) → Fin (tcTables nBuf tb) → BufTy
  | .hbm, ⟨0, _⟩ => ⟨S8320x2816, .bf16⟩
  | .hbm, ⟨1, _⟩ => ⟨S2816x1024, .bf16⟩
  | .hbm, ⟨2, _⟩ => ⟨S8320x1024, .f32⟩
  | .hbm, ⟨3, _⟩ => ⟨S1x1024, .f32⟩
  | .hbm, ⟨4, _⟩ => ⟨S8320x1024, .f32⟩
  | .hbm, ⟨5, _⟩ => ⟨S8320x1024, .bf16⟩
  | .hbm, ⟨6, _⟩ => ⟨S1024x8320, .bf16⟩
  | .local _ .vmem, ⟨0, _⟩ => ⟨S640x2816, .bf16⟩
  | .local _ .vmem, ⟨1, _⟩ => ⟨S640x2816, .bf16⟩
  | .local _ .vmem, ⟨2, _⟩ => ⟨S2816x1024, .bf16⟩
  | .local _ .vmem, ⟨3, _⟩ => ⟨S640x1024, .f32⟩
  | .local _ .vmem, ⟨4, _⟩ => ⟨S640x1024, .f32⟩
  | .local _ .vmem, ⟨5, _⟩ => ⟨S1x1024, .f32⟩
  | .local _ .vmem, ⟨6, _⟩ => ⟨S640x1024, .f32⟩
  | .local _ .vmem, ⟨7, _⟩ => ⟨S640x1024, .f32⟩
  | .local _ .vmem, ⟨8, _⟩ => ⟨S640x1024, .bf16⟩
  | .local _ .vmem, ⟨9, _⟩ => ⟨S640x1024, .bf16⟩
  | .local _ .vmem, ⟨10, _⟩ => ⟨S1024x640, .bf16⟩
  | .local _ .vmem, ⟨11, _⟩ => ⟨S1024x640, .bf16⟩
  | .local _ .vmem, ⟨12, _⟩ => ⟨S8x128, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![1, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S640x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]
-- ==== DownFRefIdeal.lean ====
abbrev S8320x2816 : Shape := ⟨2, ![8320, 2816]⟩
abbrev S2816x1024 : Shape := ⟨2, ![2816, 1024]⟩
abbrev S8320x1024 : Shape := ⟨2, ![8320, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩
abbrev S1024x8320 : Shape := ⟨2, ![1024, 8320]⟩

abbrev nBuf : Space → Nat
  | .hbm => 26
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S2816x1024, .bf16⟩
  | .hbm, ⟨2, _⟩ => ⟨S8320x1024, .f32⟩
  | .hbm, ⟨3, _⟩ => ⟨S1x1024, .f32⟩
  | .hbm, ⟨4, _⟩ => ⟨S8320x2816, .f32⟩
  | .hbm, ⟨5, _⟩ => ⟨S2816x1024, .f32⟩
  | .hbm, ⟨6, _⟩ => ⟨S8320x1024, .f32⟩
  | .hbm, ⟨7, _⟩ => ⟨S8320x1024, .f32⟩
  | .hbm, ⟨8, _⟩ => ⟨S8320x1024, .f32⟩
  | .hbm, ⟨9, _⟩ => ⟨S_, .f32⟩
  | .hbm, ⟨10, _⟩ => ⟨S8320, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S_, .f32⟩
  | .hbm, ⟨16, _⟩ => ⟨S8320x1, .f32⟩
  | .hbm, ⟨17, _⟩ => ⟨S8320x1, .f32⟩
  | .hbm, ⟨18, _⟩ => ⟨S8320x1, .f32⟩
  | .hbm, ⟨19, _⟩ => ⟨S8320x1024, .f32⟩
  | .hbm, ⟨20, _⟩ => ⟨S8320x1024, .f32⟩
  | .hbm, ⟨21, _⟩ => ⟨S8320x1024, .f32⟩
  | .hbm, ⟨22, _⟩ => ⟨S8320x1024, .f32⟩
  | .hbm, ⟨23, _⟩ => ⟨S8320x1024, .bf16⟩
  | .hbm, ⟨24, _⟩ => ⟨S1024x8320, .f32⟩
  | .hbm, ⟨25, _⟩ => ⟨S1024x8320, .bf16⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Conv.lean ====
abbrev S8320x3072 : Shape := ⟨2, ![8320, 3072]⟩
abbrev S4x3072 : Shape := ⟨2, ![4, 3072]⟩
abbrev S8x3072 : Shape := ⟨2, ![8, 3072]⟩
abbrev S640x1536 : Shape := ⟨2, ![640, 1536]⟩
abbrev S8x1536 : Shape := ⟨2, ![8, 1536]⟩
abbrev S4x1536 : Shape := ⟨2, ![4, 1536]⟩
abbrev S648x1536 : Shape := ⟨2, ![648, 1536]⟩
abbrev S1x1536 : Shape := ⟨2, ![1, 1536]⟩
abbrev S1536 : Shape := ⟨1, ![1536]⟩

abbrev nBuf : Space → Nat
  | .hbm => 5
  | .vmem => 16
  | .smem => 0
  | _ => 0

abbrev bufTy : (tb : Table) → Fin (tcTables nBuf tb) → BufTy
  | .hbm, ⟨0, _⟩ => ⟨S8320x3072, .f32⟩
  | .hbm, ⟨1, _⟩ => ⟨S8320x3072, .f32⟩
  | .hbm, ⟨2, _⟩ => ⟨S4x3072, .f32⟩
  | .hbm, ⟨3, _⟩ => ⟨S8320x3072, .bf16⟩
  | .hbm, ⟨4, _⟩ => ⟨S8x3072, .f32⟩
  | .local _ .vmem, ⟨0, _⟩ => ⟨S640x1536, .f32⟩
  | .local _ .vmem, ⟨1, _⟩ => ⟨S640x1536, .f32⟩
  | .local _ .vmem, ⟨2, _⟩ => ⟨S8x1536, .f32⟩
  | .local _ .vmem, ⟨3, _⟩ => ⟨S8x1536, .f32⟩
  | .local _ .vmem, ⟨4, _⟩ => ⟨S640x1536, .f32⟩
  | .local _ .vmem, ⟨5, _⟩ => ⟨S640x1536, .f32⟩
  | .local _ .vmem, ⟨6, _⟩ => ⟨S8x1536, .f32⟩
  | .local _ .vmem, ⟨7, _⟩ => ⟨S8x1536, .f32⟩
  | .local _ .vmem, ⟨8, _⟩ => ⟨S4x1536, .f32⟩
  | .local _ .vmem, ⟨9, _⟩ => ⟨S4x1536, .f32⟩
  | .local _ .vmem, ⟨10, _⟩ => ⟨S640x1536, .bf16⟩
  | .local _ .vmem, ⟨11, _⟩ => ⟨S640x1536, .bf16⟩
  | .local _ .vmem, ⟨12, _⟩ => ⟨S8x1536, .f32⟩
  | .local _ .vmem, ⟨13, _⟩ => ⟨S8x1536, .f32⟩
  | .local _ .vmem, ⟨14, _⟩ => ⟨S648x1536, .f32⟩
  | .local _ .vmem, ⟨15, _⟩ => ⟨S648x1536, .f32⟩
  | _, _ => ⟨S8320x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.muli arg1 c80_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c80_i32 : BitVec 32 := 80#32
  let v1 : BitVec 32 := Scalar.muli v0 c80_i32
  let c1039_i32 : BitVec 32 := 1039#32
  let v2 : BitVec 32 := Scalar.minsi v1 c1039_i32
  let c0_i32 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S640x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S640x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S640x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ConvRefIdeal.lean ====
abbrev S8320x3072 : Shape := ⟨2, ![8320, 3072]⟩
abbrev S4x3072 : Shape := ⟨2, ![4, 3072]⟩
abbrev S_ : Shape := ⟨0, ![]⟩
abbrev S3x3072 : Shape := ⟨2, ![3, 3072]⟩
abbrev S8323x3072 : Shape := ⟨2, ![8323, 3072]⟩
abbrev S1x3072 : Shape := ⟨2, ![1, 3072]⟩
abbrev S3072 : Shape := ⟨1, ![3072]⟩
abbrev S8x3072 : Shape := ⟨2, ![8, 3072]⟩

abbrev nBuf : Space → Nat
  | .hbm => 101
  | .vmem => 0
  | .smem => 0
  | _ => 0

abbrev bufTy : (tb : Table) → Fin (tcTables nBuf tb) → BufTy
  | .hbm, ⟨0, _⟩ => ⟨S8320x3072, .f32⟩
  | .hbm, ⟨1, _⟩ => ⟨S8320x3072, .f32⟩
  | .hbm, ⟨2, _⟩ => ⟨S4x3072, .f32⟩
  | .hbm, ⟨3, _⟩ => ⟨S_, .f32⟩
  | .hbm, ⟨4, _⟩ => ⟨S3x3072, .f32⟩
  | .hbm, ⟨5, _⟩ => ⟨S8323x3072, .f32⟩
  | .hbm, ⟨6, _⟩ => ⟨S_, .f32⟩
  | .hbm, ⟨7, _⟩ => ⟨S3x3072, .f32⟩
  | .hbm, ⟨8, _⟩ => ⟨S8320x3072, .f32⟩
  | .hbm, ⟨9, _⟩ => ⟨S1x3072, .f32⟩
  | .hbm, ⟨10, _⟩ => ⟨S3072, .f32⟩
  | .hbm, ⟨11, _⟩ => ⟨S1x3072, .f32⟩
  | .hbm, ⟨12, _⟩ => ⟨S8320x3072, .f32⟩
  | .hbm, ⟨13, _⟩ => ⟨S8320x3072, .f32⟩
  | .hbm, ⟨14, _⟩ => ⟨S8320x3072, .f32⟩
  | .hbm, ⟨15, _⟩ => ⟨S1x3072, .f32⟩
  | .hbm, ⟨16, _⟩ => ⟨S3072, .f32⟩
  | .hbm, ⟨17, _⟩ => ⟨S1x3072, .f32⟩
  | .hbm, ⟨18, _⟩ => ⟨S8320x3072, .f32⟩
  | .hbm, ⟨19, _⟩ => ⟨S8320x3072, .f32⟩
  | .hbm, ⟨20, _⟩ => ⟨S8320x3072, .f32⟩
  | .hbm, ⟨21, _⟩ => ⟨S8320x3072, .f32⟩
  | .hbm, ⟨22, _⟩ => ⟨S1x3072, .f32⟩
  | .hbm, ⟨23, _⟩ => ⟨S3072, .f32⟩
  | .hbm, ⟨24, _⟩ => ⟨S1x3072, .f32⟩
  | .hbm, ⟨25, _⟩ => ⟨S8320x3072, .f32⟩
  | .hbm, ⟨26, _⟩ => ⟨S8320x3072, .f32⟩
  | .hbm, ⟨27, _⟩ => ⟨S8320x3072, .f32⟩
  | .hbm, ⟨28, _⟩ => ⟨S8320x3072, .f32⟩
  | .hbm, ⟨29, _⟩ => ⟨S1x3072, .f32⟩
  | .hbm, ⟨30, _⟩ => ⟨S3072, .f32⟩
  | .hbm, ⟨31, _⟩ => ⟨S1x3072, .f32⟩
  | .hbm, ⟨32, _⟩ => ⟨S8320x3072, .f32⟩
  | .hbm, ⟨33, _⟩ => ⟨S8320x3072, .f32⟩
  | .hbm, ⟨34, _⟩ => ⟨S8320x3072, .f32⟩
  | .hbm, ⟨35, _⟩ => ⟨S8320x3072, .f32⟩
  | .hbm, ⟨36, _⟩ => ⟨S8320x3072, .f32⟩
  | .hbm, ⟨37, _⟩ => ⟨S8320x3072, .f32⟩
  | .hbm, ⟨38, _⟩ => ⟨S_, .f32⟩
  | .hbm, ⟨39, _⟩ => ⟨S3072, .f32⟩
  | .hbm, ⟨40, _⟩ => ⟨S1x3072, .f32⟩
  | .hbm, ⟨41, _⟩ => ⟨S8320x3072, .f32⟩
  | .hbm, ⟨42, _⟩ => ⟨S8320x3072, .f32⟩
  | .hbm, ⟨43, _⟩ => ⟨S_, .f32⟩
  | .hbm, ⟨44, _⟩ => ⟨S3072, .f32⟩
  | .hbm, ⟨45, _⟩ => ⟨S1x3072, .f32⟩
  | .hbm, ⟨46, _⟩ => ⟨S_, .f32⟩
  | .hbm, ⟨47, _⟩ => ⟨S4x3072, .f32⟩
  | .hbm, ⟨48, _⟩ => ⟨S_, .f32⟩
  | .hbm, ⟨49, _⟩ => ⟨S8323x3072, .f32⟩
  | .hbm, ⟨50, _⟩ => ⟨S8320x3072, .f32⟩
  | .hbm, ⟨51, _⟩ => ⟨S_, .f32⟩
  | .hbm, ⟨52, _⟩ => ⟨S3072, .f32⟩
  | .hbm, ⟨53, _⟩ => ⟨S1x3072, .f32⟩
  | .hbm, ⟨54, _⟩ => ⟨S8320x3072, .f32⟩
  | .hbm, ⟨55, _⟩ => ⟨S8320x3072, .f32⟩
  | .hbm, ⟨56, _⟩ => ⟨S_, .f32⟩
  | .hbm, ⟨57, _⟩ => ⟨S3072, .f32⟩
  | .hbm, ⟨58, _⟩ => ⟨S1x3072, .f32⟩
  | .hbm, ⟨59, _⟩ => ⟨S_, .f32⟩
  | .hbm, ⟨60, _⟩ => ⟨S4x3072, .f32⟩
  | .hbm, ⟨61, _⟩ => ⟨S4x3072, .f32⟩
  | .hbm, ⟨62, _⟩ => ⟨S_, .f32⟩
  | .hbm, ⟨63, _⟩ => ⟨S8323x3072, .f32⟩
  | .hbm, ⟨64, _⟩ => ⟨S8323x3072, .f32⟩
  | .hbm, ⟨65, _⟩ => ⟨S8320x3072, .f32⟩
  | .hbm, ⟨66, _⟩ => ⟨S_, .f32⟩
  | .hbm, ⟨67, _⟩ => ⟨S3072, .f32⟩
  | .hbm, ⟨68, _⟩ => ⟨S1x3072, .f32⟩
  | .hbm, ⟨69, _⟩ => ⟨S8320x3072, .f32⟩
  | .hbm, ⟨70, _⟩ => ⟨S8320x3072, .f32⟩
  | .hbm, ⟨71, _⟩ => ⟨S_, .f32⟩
  | .hbm, ⟨72, _⟩ => ⟨S3072, .f32⟩
  | .hbm, ⟨73, _⟩ => ⟨S1x3072, .f32⟩
  | .hbm, ⟨74, _⟩ => ⟨S_, .f32⟩
  | .hbm, ⟨75, _⟩ => ⟨S4x3072, .f32⟩
  | .hbm, ⟨76, _⟩ => ⟨S4x3072, .f32⟩
  | .hbm, ⟨77, _⟩ => ⟨S_, .f32⟩
  | .hbm, ⟨78, _⟩ => ⟨S8323x3072, .f32⟩
  | .hbm, ⟨79, _⟩ => ⟨S8323x3072, .f32⟩
  | .hbm, ⟨80, _⟩ => ⟨S8320x3072, .f32⟩
  | .hbm, ⟨81, _⟩ => ⟨S_, .f32⟩
  | .hbm, ⟨82, _⟩ => ⟨S3072, .f32⟩
  | .hbm, ⟨83, _⟩ => ⟨S1x3072, .f32⟩
  | .hbm, ⟨84, _⟩ => ⟨S8320x3072, .f32⟩
  | .hbm, ⟨85, _⟩ => ⟨S8320x3072, .f32⟩
  | .hbm, ⟨86, _⟩ => ⟨S_, .f32⟩
  | .hbm, ⟨87, _⟩ => ⟨S3072, .f32⟩
  | .hbm, ⟨88, _⟩ => ⟨S1x3072, .f32⟩
  | .hbm, ⟨89, _⟩ => ⟨S_, .f32⟩
  | .hbm, ⟨90, _⟩ => ⟨S4x3072, .f32⟩
  | .hbm, ⟨91, _⟩ => ⟨S4x3072, .f32⟩
  | .hbm, ⟨92, _⟩ => ⟨S_, .f32⟩
  | .hbm, ⟨93, _⟩ => ⟨S8323x3072, .f32⟩
  | .hbm, ⟨94, _⟩ => ⟨S8323x3072, .f32⟩
  | .hbm, ⟨95, _⟩ => ⟨S3x3072, .f32⟩
  | .hbm, ⟨96, _⟩ => ⟨S8320x3072, .f32⟩
  | .hbm, ⟨97, _⟩ => ⟨S8320x3072, .bf16⟩
  | .hbm, ⟨98, _⟩ => ⟨S_, .i32⟩
  | .hbm, ⟨99, _⟩ => ⟨S_, .f32⟩
  | .hbm, ⟨100, _⟩ => ⟨S8x3072, .f32⟩
  | _, _ => ⟨S8320x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_14 : Ref sig .tc := ⟨.hbm, 86, rfl⟩
abbrev main_v68 : Ref sig .tc := ⟨.hbm, 87, rfl⟩
abbrev main_v69 : Ref sig .tc := ⟨.hbm, 88, rfl⟩
abbrev main_cst_15 : Ref sig .tc := ⟨.hbm, 89, rfl⟩
abbrev main_v70 : Ref sig .tc := ⟨.hbm, 90, rfl⟩
abbrev main_v71 : Ref sig .tc := ⟨.hbm, 91, rfl⟩
abbrev main_cst_16 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_c : Ref sig .tc := ⟨.hbm, 98, rfl⟩
abbrev main_call0_v0 : Ref sig .tc := ⟨.hbm, 99, rfl⟩
abbrev main_v77 : Ref sig .tc := ⟨.hbm, 100, rfl⟩

abbrev nD : Nat := 1
abbrev τ : Topo := Topo.v7x

variable {F : FTy → Type} [FloatOps F]
-- ==== Mix.lean ====
abbrev S8320x1024 : Shape := ⟨2, ![8320, 1024]⟩
abbrev S8320x2048 : Shape := ⟨2, ![8320, 2048]⟩
abbrev S8320x512 : Shape := ⟨2, ![8320, 512]⟩
abbrev S4x128x256 : Shape := ⟨3, ![4, 128, 256]⟩
abbrev S1x1024 : Shape := ⟨2, ![1, 1024]⟩
abbrev S320x1024 : Shape := ⟨2, ![320, 1024]⟩
abbrev S320x2048 : Shape := ⟨2, ![320, 2048]⟩
abbrev S320x512 : Shape := ⟨2, ![320, 512]⟩
abbrev S320x128 : Shape := ⟨2, ![320, 128]⟩
abbrev S1x128x256 : Shape := ⟨3, ![1, 128, 256]⟩
abbrev S128x256 : Shape := ⟨2, ![128, 256]⟩
abbrev S320x256 : Shape := ⟨2, ![320, 256]⟩
abbrev S1024 : Shape := ⟨1, ![1024]⟩
abbrev S3x128x256 : Shape := ⟨3, ![3, 128, 256]⟩
abbrev S320x384 : Shape := ⟨2, ![320, 384]⟩
abbrev S2x128x256 : Shape := ⟨3, ![2, 128, 256]⟩

abbrev nBuf : Space → Nat
  | .hbm => 11
  | .vmem => 18
  | .smem => 0
  | _ => 0

abbrev bufTy : (tb : Table) → Fin (tcTables nBuf tb) → BufTy
  | .hbm, ⟨0, _⟩ => ⟨S8320x1024, .f32⟩
  | .hbm, ⟨1, _⟩ => ⟨S8320x2048, .f32⟩
  | .hbm, ⟨2, _⟩ => ⟨S8320x512, .f32⟩
  | .hbm, ⟨3, _⟩ => ⟨S4x128x256, .f32⟩
  | .hbm, ⟨4, _⟩ => ⟨S1x1024, .f32⟩
  | .hbm, ⟨5, _⟩ => ⟨S8320x1024, .f32⟩
  | .hbm, ⟨6, _⟩ => ⟨S8320x1024, .f32⟩
  | .hbm, ⟨7, _⟩ => ⟨S8320x2048, .bf16⟩
  | .hbm, ⟨8, _⟩ => ⟨S8320x512, .f32⟩
  | .hbm, ⟨9, _⟩ => ⟨S4x128x256, .f32⟩
  | .hbm, ⟨10, _⟩ => ⟨S1x1024, .f32⟩
  | .local _ .vmem, ⟨0, _⟩ => ⟨S320x1024, .f32⟩
  | .local _ .vmem, ⟨1, _⟩ => ⟨S320x1024, .f32⟩
  | .local _ .vmem, ⟨2, _⟩ => ⟨S320x2048, .f32⟩
  | .local _ .vmem, ⟨3, _⟩ => ⟨S320x2048, .f32⟩
  | .local _ .vmem, ⟨4, _⟩ => ⟨S320x512, .f32⟩
  | .local _ .vmem, ⟨5, _⟩ => ⟨S320x512, .f32⟩
  | .local _ .vmem, ⟨6, _⟩ => ⟨S4x128x256, .f32⟩
  | .local _ .vmem, ⟨7, _⟩ => ⟨S1x1024, .f32⟩
  | .local _ .vmem, ⟨8, _⟩ => ⟨S320x1024, .f32⟩
  | .local _ .vmem, ⟨9, _⟩ => ⟨S320x1024, .f32⟩
  | .local _ .vmem, ⟨10, _⟩ => ⟨S320x1024, .f32⟩
  | .local _ .vmem, ⟨11, _⟩ => ⟨S320x1024, .f32⟩
  | .local _ .vmem, ⟨12, _⟩ => ⟨S320x2048, .bf16⟩
  | .local _ .vmem, ⟨13, _⟩ => ⟨S320x2048, .bf16⟩
  | .local _ .vmem, ⟨14, _⟩ => ⟨S320x512, .f32⟩
  | .local _ .vmem, ⟨15, _⟩ => ⟨S320x512, .f32⟩
  | .local _ .vmem, ⟨16, _⟩ => ⟨S4x128x256, .f32⟩
  | .local _ .vmem, ⟨17, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S320x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S320x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S320x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S320x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S320x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MixRefIdeal.lean ====
abbrev S8320x1024 : Shape := ⟨2, ![8320, 1024]⟩
abbrev S8320x2048 : Shape := ⟨2, ![8320, 2048]⟩
abbrev S8320x512 : Shape := ⟨2, ![8320, 512]⟩
abbrev S4x128x256 : Shape := ⟨3, ![4, 128, 256]⟩
abbrev S1x1024 : Shape := ⟨2, ![1, 1024]⟩
abbrev S8320x4x128 : Shape := ⟨3, ![8320, 4, 128]⟩
abbrev S4x256x8320 : Shape := ⟨3, ![4, 256, 8320]⟩
abbrev S8320x4x256 : Shape := ⟨3, ![8320, 4, 256]⟩
abbrev S_ : Shape := ⟨0, ![]⟩
abbrev S1024 : Shape := ⟨1, ![1024]⟩
abbrev S4x8320x128 : Shape := ⟨3, ![4, 8320, 128]⟩
abbrev S4x256x128 : Shape := ⟨3, ![4, 256, 128]⟩

abbrev nBuf : Space → Nat
  | .hbm => 51
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x2048, .f32⟩
  | .hbm, ⟨2, _⟩ => ⟨S8320x512, .f32⟩
  | .hbm, ⟨3, _⟩ => ⟨S4x128x256, .f32⟩
  | .hbm, ⟨4, _⟩ => ⟨S1x1024, .f32⟩
  | .hbm, ⟨5, _⟩ => ⟨S8320x1024, .f32⟩
  | .hbm, ⟨6, _⟩ => ⟨S8320x4x128, .f32⟩
  | .hbm, ⟨7, _⟩ => ⟨S4x256x8320, .f32⟩
  | .hbm, ⟨8, _⟩ => ⟨S8320x4x256, .f32⟩
  | .hbm, ⟨9, _⟩ => ⟨S8320x1024, .f32⟩
  | .hbm, ⟨10, _⟩ => ⟨S8320x1024, .f32⟩
  | .hbm, ⟨11, _⟩ => ⟨S8320x1024, .f32⟩
  | .hbm, ⟨12, _⟩ => ⟨S8320x2048, .f32⟩
  | .hbm, ⟨13, _⟩ => ⟨S8320x2048, .f32⟩
  | .hbm, ⟨14, _⟩ => ⟨S_, .f32⟩
  | .hbm, ⟨15, _⟩ => ⟨S8320x2048, .f32⟩
  | .hbm, ⟨16, _⟩ => ⟨S8320x2048, .f32⟩
  | .hbm, ⟨17, _⟩ => ⟨S_, .f32⟩
  | .hbm, ⟨18, _⟩ => ⟨S8320x2048, .f32⟩
  | .hbm, ⟨19, _⟩ => ⟨S8320x2048, .f32⟩
  | .hbm, ⟨20, _⟩ => ⟨S_, .f32⟩
  | .hbm, ⟨21, _⟩ => ⟨S8320x2048, .f32⟩
  | .hbm, ⟨22, _⟩ => ⟨S8320x2048, .f32⟩
  | .hbm, ⟨23, _⟩ => ⟨S8320x2048, .f32⟩
  | .hbm, ⟨24, _⟩ => ⟨S8320x1024, .f32⟩
  | .hbm, ⟨25, _⟩ => ⟨S8320x1024, .f32⟩
  | .hbm, ⟨26, _⟩ => ⟨S8320x1024, .f32⟩
  | .hbm, ⟨27, _⟩ => ⟨S8320x1024, .f32⟩
  | .hbm, ⟨28, _⟩ => ⟨S8320x1024, .f32⟩
  | .hbm, ⟨29, _⟩ => ⟨S8320x1024, .f32⟩
  | .hbm, ⟨30, _⟩ => ⟨S8320x1024, .f32⟩
  | .hbm, ⟨31, _⟩ => ⟨S8320x1024, .f32⟩
  | .hbm, ⟨32, _⟩ => ⟨S8320x1024, .f32⟩
  | .hbm, ⟨33, _⟩ => ⟨S8320x1024, .f32⟩
  | .hbm, ⟨34, _⟩ => ⟨S8320x1024, .f32⟩
  | .hbm, ⟨35, _⟩ => ⟨S8320x2048, .f32⟩
  | .hbm, ⟨36, _⟩ => ⟨S8320x2048, .f32⟩
  | .hbm, ⟨37, _⟩ => ⟨S8320x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8320x1024, .f32⟩
  | .hbm, ⟨42, _⟩ => ⟨S8320x1024, .f32⟩
  | .hbm, ⟨43, _⟩ => ⟨S8320x4x256, .f32⟩
  | .hbm, ⟨44, _⟩ => ⟨S4x256x8320, .f32⟩
  | .hbm, ⟨45, _⟩ => ⟨S4x8320x128, .f32⟩
  | .hbm, ⟨46, _⟩ => ⟨S8320x4x128, .f32⟩
  | .hbm, ⟨47, _⟩ => ⟨S4x256x128, .f32⟩
  | .hbm, ⟨48, _⟩ => ⟨S4x128x256, .f32⟩
  | .hbm, ⟨49, _⟩ => ⟨S8320x512, .f32⟩
  | .hbm, ⟨50, _⟩ => ⟨S8320x2048, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Pool.lean ====
abbrev S8320x512 : Shape := ⟨2, ![8320, 512]⟩
abbrev S640x512 : Shape := ⟨2, ![640, 512]⟩
abbrev S16x512 : Shape := ⟨2, ![16, 512]⟩
abbrev S656x512 : Shape := ⟨2, ![656, 512]⟩
abbrev S656x1 : Shape := ⟨2, ![656, 1]⟩
abbrev S656x128 : Shape := ⟨2, ![656, 128]⟩
abbrev S640x128 : Shape := ⟨2, ![640, 128]⟩

abbrev nBuf : Space → Nat
  | .hbm => 2
  | .vmem => 7
  | .smem => 0
  | _ => 0

abbrev bufTy : (tb : Table) → Fin (tcTables nBuf tb) → BufTy
  | .hbm, ⟨0, _⟩ => ⟨S8320x512, .f32⟩
  | .hbm, ⟨1, _⟩ => ⟨S8320x512, .bf16⟩
  | .local _ .vmem, ⟨0, _⟩ => ⟨S640x512, .f32⟩
  | .local _ .vmem, ⟨1, _⟩ => ⟨S640x512, .f32⟩
  | .local _ .vmem, ⟨2, _⟩ => ⟨S16x512, .f32⟩
  | .local _ .vmem, ⟨3, _⟩ => ⟨S16x512, .f32⟩
  | .local _ .vmem, ⟨4, _⟩ => ⟨S640x512, .bf16⟩
  | .local _ .vmem, ⟨5, _⟩ => ⟨S640x512, .bf16⟩
  | .local _ .vmem, ⟨6, _⟩ => ⟨S656x512, .f32⟩
  | _, _ => ⟨S8320x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c40_i32 : BitVec 32 := 40#32
  let v1 : BitVec 32 := Scalar.muli v0 c40_i32
  let c519_i32 : BitVec 32 := 519#32
  let v2 : BitVec 32 := Scalar.minsi v1 c519_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PoolRefIdeal.lean ====
abbrev S8320x512 : Shape := ⟨2, ![8320, 512]⟩
abbrev S_ : Shape := ⟨0, ![]⟩
abbrev S8320x4x128 : Shape := ⟨3, ![8320, 4, 128]⟩
abbrev S8320 : Shape := ⟨1, ![8320]⟩
abbrev S8320x1x128 : Shape := ⟨3, ![8320, 1, 128]⟩
abbrev S8320x128 : Shape := ⟨2, ![8320, 128]⟩
abbrev S1x128 : Shape := ⟨2, ![1, 128]⟩
abbrev S8321x128 : Shape := ⟨2, ![8321, 128]⟩
abbrev S8320x1 : Shape := ⟨2, ![8320, 1]⟩
abbrev S3x128 : Shape := ⟨2, ![3, 128]⟩
abbrev S8323x128 : Shape := ⟨2, ![8323, 128]⟩
abbrev S7x128 : Shape := ⟨2, ![7, 128]⟩
abbrev S8327x128 : Shape := ⟨2, ![8327, 128]⟩
abbrev S15x128 : Shape := ⟨2, ![15, 128]⟩
abbrev S8335x128 : Shape := ⟨2, ![8335, 128]⟩

abbrev nBuf : Space → Nat
  | .hbm => 298
  | .vmem => 0
  | .smem => 0
  | _ => 0

abbrev hbmTy0_0 (i : Nat) : BufTy := match i % 128 with
  | 0 => ⟨S8320x512, .f32⟩
  | 1 => ⟨S_, .f32⟩
  | 2 => ⟨S8320x512, .f32⟩
  | 3 => ⟨S8320x4x128, .f32⟩
  | 4 => ⟨S8320, .i32⟩
  | 5 => ⟨S_, .i32⟩
  | 6 => ⟨S8320, .i32⟩
  | 7 => ⟨S8320, .i32⟩
  | 8 => ⟨S8320x1x128, .f32⟩
  | 9 => ⟨S8320x128, .f32⟩
  | 10 => ⟨S_, .f32⟩
  | 11 => ⟨S1x128, .f32⟩
  | 12 => ⟨S8321x128, .f32⟩
  | 13 => ⟨S_, .f32⟩
  | 14 => ⟨S1x128, .f32⟩
  | 15 => ⟨S8320x128, .f32⟩
  | 16 => ⟨S8320x128, .f32⟩
  | 17 => ⟨S8320x128, .f32⟩
  | 18 => ⟨S_, .i32⟩
  | 19 => ⟨S8320, .i32⟩
  | 20 => ⟨S8320, .i32⟩
  | 21 => ⟨S_, .i32⟩
  | 22 => ⟨S_, .i32⟩
  | 23 => ⟨S_, .i32⟩
  | 24 => ⟨S8320, .i32⟩
  | 25 => ⟨S8320, .i32⟩
  | 26 => ⟨S_, .i32⟩
  | 27 => ⟨S8320, .i32⟩
  | 28 => ⟨S8320, .i32⟩
  | 29 => ⟨S8320, .f32⟩
  | 30 => ⟨S8320x1, .f32⟩
  | 31 => ⟨S8320x128, .f32⟩
  | 32 => ⟨S8320x128, .f32⟩
  | 33 => ⟨S8320x128, .f32⟩
  | 34 => ⟨S8320x1x128, .f32⟩
  | 35 => ⟨S8320x128, .f32⟩
  | 36 => ⟨S_, .f32⟩
  | 37 => ⟨S3x128, .f32⟩
  | 38 => ⟨S8323x128, .f32⟩
  | 39 => ⟨S_, .f32⟩
  | 40 => ⟨S3x128, .f32⟩
  | 41 => ⟨S8320x128, .f32⟩
  | 42 => ⟨S8320x128, .f32⟩
  | 43 => ⟨S8320x128, .f32⟩
  | 44 => ⟨S8320x128, .f32⟩
  | 45 => ⟨S8320x128, .f32⟩
  | 46 => ⟨S8320x128, .f32⟩
  | 47 => ⟨S8320x128, .f32⟩
  | 48 => ⟨S_, .i32⟩
  | 49 => ⟨S8320, .i32⟩
  | 50 => ⟨S8320, .i32⟩
  | 51 => ⟨S_, .i32⟩
  | 52 => ⟨S_, .i32⟩
  | 53 => ⟨S_, .i32⟩
  | 54 => ⟨S8320, .i32⟩
  | 55 => ⟨S8320, .i32⟩
  | 56 => ⟨S_, .i32⟩
  | 57 => ⟨S8320, .i32⟩
  | 58 => ⟨S8320, .i32⟩
  | 59 => ⟨S8320, .f32⟩
  | 60 => ⟨S8320x1, .f32⟩
  | 61 => ⟨S8320x128, .f32⟩
  | 62 => ⟨S8320x128, .f32⟩
  | 63 => ⟨S8320x128, .f32⟩
  | 64 => ⟨S8320x1x128, .f32⟩
  | 65 => ⟨S8320x128, .f32⟩
  | 66 => ⟨S_, .f32⟩
  | 67 => ⟨S7x128, .f32⟩
  | 68 => ⟨S8327x128, .f32⟩
  | 69 => ⟨S_, .f32⟩
  | 70 => ⟨S7x128, .f32⟩
  | 71 => ⟨S8320x128, .f32⟩
  | 72 => ⟨S8320x128, .f32⟩
  | 73 => ⟨S8320x128, .f32⟩
  | 74 => ⟨S8320x128, .f32⟩
  | 75 => ⟨S8320x128, .f32⟩
  | 76 => ⟨S8320x128, .f32⟩
  | 77 => ⟨S8320x128, .f32⟩
  | 78 => ⟨S8320x128, .f32⟩
  | 79 => ⟨S8320x128, .f32⟩
  | 80 => ⟨S8320x128, .f32⟩
  | 81 => ⟨S8320x128, .f32⟩
  | 82 => ⟨S8320x128, .f32⟩
  | 83 => ⟨S8320x128, .f32⟩
  | 84 => ⟨S8320x128, .f32⟩
  | 85 => ⟨S8320x128, .f32⟩
  | 86 => ⟨S_, .i32⟩
  | 87 => ⟨S8320, .i32⟩
  | 88 => ⟨S8320, .i32⟩
  | 89 => ⟨S_, .i32⟩
  | 90 => ⟨S_, .i32⟩
  | 91 => ⟨S_, .i32⟩
  | 92 => ⟨S8320, .i32⟩
  | 93 => ⟨S8320, .i32⟩
  | 94 => ⟨S_, .i32⟩
  | 95 => ⟨S8320, .i32⟩
  | 96 => ⟨S8320, .i32⟩
  | 97 => ⟨S8320, .f32⟩
  | 98 => ⟨S8320x1, .f32⟩
  | 99 => ⟨S8320x128, .f32⟩
  | 100 => ⟨S8320x128, .f32⟩
  | 101 => ⟨S8320x128, .f32⟩
  | 102 => ⟨S8320x1x128, .f32⟩
  | 103 => ⟨S8320x128, .f32⟩
  | 104 => ⟨S_, .f32⟩
  | 105 => ⟨S15x128, .f32⟩
  | 106 => ⟨S8335x128, .f32⟩
  | 107 => ⟨S_, .f32⟩
  | 108 => ⟨S15x128, .f32⟩
  | 109 => ⟨S8320x128, .f32⟩
  | 110 => ⟨S8320x128, .f32⟩
  | 111 => ⟨S8320x128, .f32⟩
  | 112 => ⟨S8320x128, .f32⟩
  | 113 => ⟨S8320x128, .f32⟩
  | 114 => ⟨S8320x128, .f32⟩
  | 115 => ⟨S8320x128, .f32⟩
  | 116 => ⟨S8320x128, .f32⟩
  | 117 => ⟨S8320x128, .f32⟩
  | 118 => ⟨S8320x128, .f32⟩
  | 119 => ⟨S8320x128, .f32⟩
  | 120 => ⟨S8320x128, .f32⟩
  | 121 => ⟨S8320x128, .f32⟩
  | 122 => ⟨S8320x128, .f32⟩
  | 123 => ⟨S8320x128, .f32⟩
  | 124 => ⟨S8320x128, .f32⟩
  | 125 => ⟨S8320x128, .f32⟩
  | 126 => ⟨S8320x128, .f32⟩
  | 127 => ⟨S8320x128, .f32⟩
  | _ => ⟨S8320x512, .f32⟩

abbrev hbmTy0_1 (i : Nat) : BufTy := match i % 128 with
  | 0 => ⟨S8320x128, .f32⟩
  | 1 => ⟨S8320x128, .f32⟩
  | 2 => ⟨S8320x128, .f32⟩
  | 3 => ⟨S8320x128, .f32⟩
  | 4 => ⟨S8320x128, .f32⟩
  | 5 => ⟨S8320x128, .f32⟩
  | 6 => ⟨S8320x128, .f32⟩
  | 7 => ⟨S8320x128, .f32⟩
  | 8 => ⟨S8320x128, .f32⟩
  | 9 => ⟨S8320x128, .f32⟩
  | 10 => ⟨S8320x128, .f32⟩
  | 11 => ⟨S8320x128, .f32⟩
  | 12 => ⟨S_, .i32⟩
  | 13 => ⟨S8320, .i32⟩
  | 14 => ⟨S8320, .i32⟩
  | 15 => ⟨S_, .i32⟩
  | 16 => ⟨S_, .i32⟩
  | 17 => ⟨S_, .i32⟩
  | 18 => ⟨S8320, .i32⟩
  | 19 => ⟨S8320, .i32⟩
  | 20 => ⟨S_, .i32⟩
  | 21 => ⟨S8320, .i32⟩
  | 22 => ⟨S8320, .i32⟩
  | 23 => ⟨S8320, .f32⟩
  | 24 => ⟨S8320x1, .f32⟩
  | 25 => ⟨S8320x128, .f32⟩
  | 26 => ⟨S8320x128, .f32⟩
  | 27 => ⟨S8320x128, .f32⟩
  | 28 => ⟨S8320x1x128, .f32⟩
  | 29 => ⟨S8320x1x128, .f32⟩
  | 30 => ⟨S8320x1x128, .f32⟩
  | 31 => ⟨S8320x1x128, .f32⟩
  | 32 => ⟨S8320x4x128, .f32⟩
  | 33 => ⟨S8320x512, .f32⟩
  | 34 => ⟨S8320x4x128, .f32⟩
  | 35 => ⟨S8320x1x128, .f32⟩
  | 36 => ⟨S8320x128, .f32⟩
  | 37 => ⟨S8320x1x128, .f32⟩
  | 38 => ⟨S8320x128, .f32⟩
  | 39 => ⟨S8320x1x128, .f32⟩
  | 40 => ⟨S8320x128, .f32⟩
  | 41 => ⟨S8320x1x128, .f32⟩
  | 42 => ⟨S8320x128, .f32⟩
  | 43 => ⟨S8320x128, .f32⟩
  | 44 => ⟨S8320x128, .f32⟩
  | 45 => ⟨S8320x128, .f32⟩
  | 46 => ⟨S_, .f32⟩
  | 47 => ⟨S8335x128, .f32⟩
  | 48 => ⟨S_, .f32⟩
  | 49 => ⟨S8335x128, .f32⟩
  | 50 => ⟨S8335x128, .f32⟩
  | 51 => ⟨S_, .f32⟩
  | 52 => ⟨S8335x128, .f32⟩
  | 53 => ⟨S8335x128, .f32⟩
  | 54 => ⟨S_, .f32⟩
  | 55 => ⟨S8335x128, .f32⟩
  | 56 => ⟨S8335x128, .f32⟩
  | 57 => ⟨S_, .f32⟩
  | 58 => ⟨S8335x128, .f32⟩
  | 59 => ⟨S8335x128, .f32⟩
  | 60 => ⟨S_, .f32⟩
  | 61 => ⟨S8335x128, .f32⟩
  | 62 => ⟨S8335x128, .f32⟩
  | 63 => ⟨S_, .f32⟩
  | 64 => ⟨S8335x128, .f32⟩
  | 65 => ⟨S8335x128, .f32⟩
  | 66 => ⟨S_, .f32⟩
  | 67 => ⟨S8335x128, .f32⟩
  | 68 => ⟨S8335x128, .f32⟩
  | 69 => ⟨S_, .f32⟩
  | 70 => ⟨S8335x128, .f32⟩
  | 71 => ⟨S8335x128, .f32⟩
  | 72 => ⟨S_, .f32⟩
  | 73 => ⟨S8335x128, .f32⟩
  | 74 => ⟨S8335x128, .f32⟩
  | 75 => ⟨S_, .f32⟩
  | 76 => ⟨S8335x128, .f32⟩
  | 77 => ⟨S8335x128, .f32⟩
  | 78 => ⟨S_, .f32⟩
  | 79 => ⟨S8335x128, .f32⟩
  | 80 => ⟨S8335x128, .f32⟩
  | 81 => ⟨S_, .f32⟩
  | 82 => ⟨S8335x128, .f32⟩
  | 83 => ⟨S8335x128, .f32⟩
  | 84 => ⟨S_, .f32⟩
  | 85 => ⟨S8335x128, .f32⟩
  | 86 => ⟨S8335x128, .f32⟩
  | 87 => ⟨S_, .f32⟩
  | 88 => ⟨S8335x128, .f32⟩
  | 89 => ⟨S8335x128, .f32⟩
  | 90 => ⟨S_, .f32⟩
  | 91 => ⟨S8335x128, .f32⟩
  | 92 => ⟨S8335x128, .f32⟩
  | 93 => ⟨S15x128, .f32⟩
  | 94 => ⟨S8320x128, .f32⟩
  | 95 => ⟨S8320x128, .f32⟩
  | 96 => ⟨S8320x1x128, .f32⟩
  | 97 => ⟨S_, .f32⟩
  | 98 => ⟨S8320x4x128, .f32⟩
  | 99 => ⟨S8320x128, .f32⟩
  | 100 => ⟨S8320x128, .f32⟩
  | 101 => ⟨S8320x128, .f32⟩
  | 102 => ⟨S_, .f32⟩
  | 103 => ⟨S8327x128, .f32⟩
  | 104 => ⟨S_, .f32⟩
  | 105 => ⟨S8327x128, .f32⟩
  | 106 => ⟨S8327x128, .f32⟩
  | 107 => ⟨S_, .f32⟩
  | 108 => ⟨S8327x128, .f32⟩
  | 109 => ⟨S8327x128, .f32⟩
  | 110 => ⟨S_, .f32⟩
  | 111 => ⟨S8327x128, .f32⟩
  | 112 => ⟨S8327x128, .f32⟩
  | 113 => ⟨S_, .f32⟩
  | 114 => ⟨S8327x128, .f32⟩
  | 115 => ⟨S8327x128, .f32⟩
  | 116 => ⟨S_, .f32⟩
  | 117 => ⟨S8327x128, .f32⟩
  | 118 => ⟨S8327x128, .f32⟩
  | 119 => ⟨S_, .f32⟩
  | 120 => ⟨S8327x128, .f32⟩
  | 121 => ⟨S8327x128, .f32⟩
  | 122 => ⟨S_, .f32⟩
  | 123 => ⟨S8327x128, .f32⟩
  | 124 => ⟨S8327x128, .f32⟩
  | 125 => ⟨S7x128, .f32⟩
  | 126 => ⟨S8320x128, .f32⟩
  | 127 => ⟨S8320x128, .f32⟩
  | _ => ⟨S8320x512, .f32⟩

abbrev hbmTy0_2 (i : Nat) : BufTy := match i % 128 with
  | 0 => ⟨S8320x1x128, .f32⟩
  | 1 => ⟨S_, .f32⟩
  | 2 => ⟨S8320x4x128, .f32⟩
  | 3 => ⟨S8320x4x128, .f32⟩
  | 4 => ⟨S8320x128, .f32⟩
  | 5 => ⟨S8320x128, .f32⟩
  | 6 => ⟨S8320x128, .f32⟩
  | 7 => ⟨S_, .f32⟩
  | 8 => ⟨S8323x128, .f32⟩
  | 9 => ⟨S_, .f32⟩
  | 10 => ⟨S8323x128, .f32⟩
  | 11 => ⟨S8323x128, .f32⟩
  | 12 => ⟨S_, .f32⟩
  | 13 => ⟨S8323x128, .f32⟩
  | 14 => ⟨S8323x128, .f32⟩
  | 15 => ⟨S_, .f32⟩
  | 16 => ⟨S8323x128, .f32⟩
  | 17 => ⟨S8323x128, .f32⟩
  | 18 => ⟨S3x128, .f32⟩
  | 19 => ⟨S8320x128, .f32⟩
  | 20 => ⟨S8320x128, .f32⟩
  | 21 => ⟨S8320x1x128, .f32⟩
  | 22 => ⟨S_, .f32⟩
  | 23 => ⟨S8320x4x128, .f32⟩
  | 24 => ⟨S8320x4x128, .f32⟩
  | 25 => ⟨S8320x128, .f32⟩
  | 26 => ⟨S8320x128, .f32⟩
  | 27 => ⟨S8320x128, .f32⟩
  | 28 => ⟨S_, .f32⟩
  | 29 => ⟨S8321x128, .f32⟩
  | 30 => ⟨S_, .f32⟩
  | 31 => ⟨S8321x128, .f32⟩
  | 32 => ⟨S8321x128, .f32⟩
  | 33 => ⟨S1x128, .f32⟩
  | 34 => ⟨S8320x128, .f32⟩
  | 35 => ⟨S8320x128, .f32⟩
  | 36 => ⟨S8320x1x128, .f32⟩
  | 37 => ⟨S_, .f32⟩
  | 38 => ⟨S8320x4x128, .f32⟩
  | 39 => ⟨S8320x4x128, .f32⟩
  | 40 => ⟨S8320x512, .f32⟩
  | 41 => ⟨S8320x512, .bf16⟩
  | _ => ⟨S8320x512, .f32⟩

abbrev hbmTy (i : Nat) : BufTy := match i / 128 with
  | 0 => hbmTy0_0 i
  | 1 => hbmTy0_1 i
  | 2 => hbmTy0_2 i
  | _ => ⟨S8320x512, .f32⟩

abbrev bufTy : (tb : Table) → Fin (tcTables nBuf tb) → BufTy
  | .hbm, ⟨i, _⟩ => hbmTy i
  | _, _ => ⟨S8320x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_c_3 : Ref sig .tc := ⟨.hbm, 21, rfl⟩
abbrev main_c_4 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_c_9 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_cst_11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_v61 : Ref sig .tc := ⟨.hbm, 87, rfl⟩
abbrev main_v62 : Ref sig .tc := ⟨.hbm, 88, rfl⟩
abbrev main_c_13 : Ref sig .tc := ⟨.hbm, 89, rfl⟩
abbrev main_c_14 : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_15 : Ref sig .tc := ⟨.hbm, 104, rfl⟩
abbrev main_v71 : Ref sig .tc := ⟨.hbm, 105, rfl⟩
abbrev main_v72 : Ref sig .tc := ⟨.hbm, 106, rfl⟩
abbrev main_cst_16 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_c_17 : Ref sig .tc := ⟨.hbm, 140, rfl⟩
abbrev main_v105 : Ref sig .tc := ⟨.hbm, 141, rfl⟩
abbrev main_v106 : Ref sig .tc := ⟨.hbm, 142, rfl⟩
abbrev main_c_18 : Ref sig .tc := ⟨.hbm, 143, rfl⟩
abbrev main_c_19 : Ref sig .tc := ⟨.hbm, 144, rfl⟩
abbrev main_call3_v0 : Ref sig .tc := ⟨.hbm, 145, rfl⟩
abbrev main_call3_v1 : Ref sig .tc := ⟨.hbm, 146, rfl⟩
abbrev main_call3_v2 : Ref sig .tc := ⟨.hbm, 147, rfl⟩
abbrev main_call3_v3 : Ref sig .tc := ⟨.hbm, 148, rfl⟩
abbrev main_call3_v4 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_cst_20 : Ref sig .tc := ⟨.hbm, 174, rfl⟩
abbrev main_v131 : Ref sig .tc := ⟨.hbm, 175, rfl⟩
abbrev main_cst_21 : Ref sig .tc := ⟨.hbm, 176, rfl⟩
abbrev main_v132 : Ref sig .tc := ⟨.hbm, 177, rfl⟩
abbrev main_v133 : Ref sig .tc := ⟨.hbm, 178, rfl⟩
abbrev main_cst_22 : Ref sig .tc := ⟨.hbm, 179, rfl⟩
abbrev main_v134 : Ref sig .tc := ⟨.hbm, 180, rfl⟩
abbrev main_v135 : Ref sig .tc := ⟨.hbm, 181, rfl⟩
abbrev main_cst_23 : Ref sig .tc := ⟨.hbm, 182, rfl⟩
abbrev main_v136 : Ref sig .tc := ⟨.hbm, 183, rfl⟩
abbrev main_v137 : Ref sig .tc := ⟨.hbm, 184, rfl⟩
abbrev main_cst_24 : Ref sig .tc := ⟨.hbm, 185, rfl⟩
abbrev main_v138 : Ref sig .tc := ⟨.hbm, 186, rfl⟩
abbrev main_v139 : Ref sig .tc := ⟨.hbm, 187, rfl⟩
abbrev main_cst_25 : Ref sig .tc := ⟨.hbm, 188, rfl⟩
abbrev main_v140 : Ref sig .tc := ⟨.hbm, 189, rfl⟩
abbrev main_v141 : Ref sig .tc := ⟨.hbm, 190, rfl⟩
abbrev main_cst_26 : Ref sig .tc := ⟨.hbm, 191, rfl⟩
abbrev main_v142 : Ref sig .tc := ⟨.hbm, 192, rfl⟩
abbrev main_v143 : Ref sig .tc := ⟨.hbm, 193, rfl⟩
abbrev main_cst_27 : Ref sig .tc := ⟨.hbm, 194, rfl⟩
abbrev main_v144 : Ref sig .tc := ⟨.hbm, 195, rfl⟩
abbrev main_v145 : Ref sig .tc := ⟨.hbm, 196, rfl⟩
abbrev main_cst_28 : Ref sig .tc := ⟨.hbm, 197, rfl⟩
abbrev main_v146 : Ref sig .tc := ⟨.hbm, 198, rfl⟩
abbrev main_v147 : Ref sig .tc := ⟨.hbm, 199, rfl⟩
abbrev main_cst_29 : Ref sig .tc := ⟨.hbm, 200, rfl⟩
abbrev main_v148 : Ref sig .tc := ⟨.hbm, 201, rfl⟩
abbrev main_v149 : Ref sig .tc := ⟨.hbm, 202, rfl⟩
abbrev main_cst_30 : Ref sig .tc := ⟨.hbm, 203, rfl⟩
abbrev main_v150 : Ref sig .tc := ⟨.hbm, 204, rfl⟩
abbrev main_v151 : Ref sig .tc := ⟨.hbm, 205, rfl⟩
abbrev main_cst_31 : Ref sig .tc := ⟨.hbm, 206, rfl⟩
abbrev main_v152 : Ref sig .tc := ⟨.hbm, 207, rfl⟩
abbrev main_v153 : Ref sig .tc := ⟨.hbm, 208, rfl⟩
abbrev main_cst_32 : Ref sig .tc := ⟨.hbm, 209, rfl⟩
abbrev main_v154 : Ref sig .tc := ⟨.hbm, 210, rfl⟩
abbrev main_v155 : Ref sig .tc := ⟨.hbm, 211, rfl⟩
abbrev main_cst_33 : Ref sig .tc := ⟨.hbm, 212, rfl⟩
abbrev main_v156 : Ref sig .tc := ⟨.hbm, 213, rfl⟩
abbrev main_v157 : Ref sig .tc := ⟨.hbm, 214, rfl⟩
abbrev main_cst_34 : Ref sig .tc := ⟨.hbm, 215, rfl⟩
abbrev main_v158 : Ref sig .tc := ⟨.hbm, 216, rfl⟩
abbrev main_v159 : Ref sig .tc := ⟨.hbm, 217, rfl⟩
abbrev main_cst_35 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_cst_36 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_cst_37 : Ref sig .tc := ⟨.hbm, 230, rfl⟩
abbrev main_v170 : Ref sig .tc := ⟨.hbm, 231, rfl⟩
abbrev main_cst_38 : Ref sig .tc := ⟨.hbm, 232, rfl⟩
abbrev main_v171 : Ref sig .tc := ⟨.hbm, 233, rfl⟩
abbrev main_v172 : Ref sig .tc := ⟨.hbm, 234, rfl⟩
abbrev main_cst_39 : Ref sig .tc := ⟨.hbm, 235, rfl⟩
abbrev main_v173 : Ref sig .tc := ⟨.hbm, 236, rfl⟩
abbrev main_v174 : Ref sig .tc := ⟨.hbm, 237, rfl⟩
abbrev main_cst_40 : Ref sig .tc := ⟨.hbm, 238, rfl⟩
abbrev main_v175 : Ref sig .tc := ⟨.hbm, 239, rfl⟩
abbrev main_v176 : Ref sig .tc := ⟨.hbm, 240, rfl⟩
abbrev main_cst_41 : Ref sig .tc := ⟨.hbm, 241, rfl⟩
abbrev main_v177 : Ref sig .tc := ⟨.hbm, 242, rfl⟩
abbrev main_v178 : Ref sig .tc := ⟨.hbm, 243, rfl⟩
abbrev main_cst_42 : Ref sig .tc := ⟨.hbm, 244, rfl⟩
abbrev main_v179 : Ref sig .tc := ⟨.hbm, 245, rfl⟩
abbrev main_v180 : Ref sig .tc := ⟨.hbm, 246, rfl⟩
abbrev main_cst_43 : Ref sig .tc := ⟨.hbm, 247, rfl⟩
abbrev main_v181 : Ref sig .tc := ⟨.hbm, 248, rfl⟩
abbrev main_v182 : Ref sig .tc := ⟨.hbm, 249, rfl⟩
abbrev main_cst_44 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_cst_45 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_cst_46 : Ref sig .tc := ⟨.hbm, 263, rfl⟩
abbrev main_v194 : Ref sig .tc := ⟨.hbm, 264, rfl⟩
abbrev main_cst_47 : Ref sig .tc := ⟨.hbm, 265, rfl⟩
abbrev main_v195 : Ref sig .tc := ⟨.hbm, 266, rfl⟩
abbrev main_v196 : Ref sig .tc := ⟨.hbm, 267, rfl⟩
abbrev main_cst_48 : Ref sig .tc := ⟨.hbm, 268, rfl⟩
abbrev main_v197 : Ref sig .tc := ⟨.hbm, 269, rfl⟩
abbrev main_v198 : Ref sig .tc := ⟨.hbm, 270, rfl⟩
abbrev main_cst_49 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_cst_50 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_cst_51 : Ref sig .tc := ⟨.hbm, 284, rfl⟩
abbrev main_v210 : Ref sig .tc := ⟨.hbm, 285, rfl⟩
abbrev main_cst_52 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_cst_53 : Ref sig .tc := ⟨.hbm, 293, rfl⟩
abbrev main_v217 : Ref sig .tc := ⟨.hbm, 294, rfl⟩
abbrev main_v218 : Ref sig .tc := ⟨.hbm, 295, rfl⟩
abbrev main_v219 : Ref sig .tc := ⟨.hbm, 296, rfl⟩
abbrev main_v220 : Ref sig .tc := ⟨.hbm, 297, rfl⟩

abbrev nD : Nat := 1
abbrev τ : Topo := Topo.v7x

variable {F : FTy → Type} [FloatOps F]
-- ==== FfnMid.lean ====
abbrev S8320x2816 : Shape := ⟨2, ![8320, 2816]⟩
abbrev S3x2816 : Shape := ⟨2, ![3, 2816]⟩
abbrev S_ : Shape := ⟨0, ![]⟩
abbrev S2x2816 : Shape := ⟨2, ![2, 2816]⟩
abbrev S8322x2816 : Shape := ⟨2, ![8322, 2816]⟩
abbrev S1x2816 : Shape := ⟨2, ![1, 2816]⟩
abbrev S2816 : Shape := ⟨1, ![2816]⟩
abbrev S8x2816 : Shape := ⟨2, ![8, 2816]⟩
abbrev S320x1408 : Shape := ⟨2, ![320, 1408]⟩
abbrev S8x1408 : Shape := ⟨2, ![8, 1408]⟩
abbrev S3x1408 : Shape := ⟨2, ![3, 1408]⟩
abbrev S328x1408 : Shape := ⟨2, ![328, 1408]⟩
abbrev S1x1408 : Shape := ⟨2, ![1, 1408]⟩
abbrev S1408 : Shape := ⟨1, ![1408]⟩

abbrev nBuf : Space → Nat
  | .hbm => 55
  | .vmem => 36
  | .smem => 0
  | _ => 0

abbrev bufTy : (tb : Table) → Fin (tcTables nBuf tb) → BufTy
  | .hbm, ⟨0, _⟩ => ⟨S8320x2816, .f32⟩
  | .hbm, ⟨1, _⟩ => ⟨S8320x2816, .f32⟩
  | .hbm, ⟨2, _⟩ => ⟨S8320x2816, .f32⟩
  | .hbm, ⟨3, _⟩ => ⟨S3x2816, .f32⟩
  | .hbm, ⟨4, _⟩ => ⟨S3x2816, .f32⟩
  | .hbm, ⟨5, _⟩ => ⟨S_, .f32⟩
  | .hbm, ⟨6, _⟩ => ⟨S2x2816, .f32⟩
  | .hbm, ⟨7, _⟩ => ⟨S8322x2816, .f32⟩
  | .hbm, ⟨8, _⟩ => ⟨S8320x2816, .f32⟩
  | .hbm, ⟨9, _⟩ => ⟨S1x2816, .f32⟩
  | .hbm, ⟨10, _⟩ => ⟨S2816, .f32⟩
  | .hbm, ⟨11, _⟩ => ⟨S1x2816, .f32⟩
  | .hbm, ⟨12, _⟩ => ⟨S8320x2816, .f32⟩
  | .hbm, ⟨13, _⟩ => ⟨S8320x2816, .f32⟩
  | .hbm, ⟨14, _⟩ => ⟨S8320x2816, .f32⟩
  | .hbm, ⟨15, _⟩ => ⟨S1x2816, .f32⟩
  | .hbm, ⟨16, _⟩ => ⟨S2816, .f32⟩
  | .hbm, ⟨17, _⟩ => ⟨S1x2816, .f32⟩
  | .hbm, ⟨18, _⟩ => ⟨S8320x2816, .f32⟩
  | .hbm, ⟨19, _⟩ => ⟨S8320x2816, .f32⟩
  | .hbm, ⟨20, _⟩ => ⟨S8320x2816, .f32⟩
  | .hbm, ⟨21, _⟩ => ⟨S8320x2816, .f32⟩
  | .hbm, ⟨22, _⟩ => ⟨S1x2816, .f32⟩
  | .hbm, ⟨23, _⟩ => ⟨S2816, .f32⟩
  | .hbm, ⟨24, _⟩ => ⟨S1x2816, .f32⟩
  | .hbm, ⟨25, _⟩ => ⟨S8320x2816, .f32⟩
  | .hbm, ⟨26, _⟩ => ⟨S8320x2816, .f32⟩
  | .hbm, ⟨27, _⟩ => ⟨S8320x2816, .f32⟩
  | .hbm, ⟨28, _⟩ => ⟨S_, .f32⟩
  | .hbm, ⟨29, _⟩ => ⟨S2x2816, .f32⟩
  | .hbm, ⟨30, _⟩ => ⟨S8322x2816, .f32⟩
  | .hbm, ⟨31, _⟩ => ⟨S8320x2816, .f32⟩
  | .hbm, ⟨32, _⟩ => ⟨S1x2816, .f32⟩
  | .hbm, ⟨33, _⟩ => ⟨S2816, .f32⟩
  | .hbm, ⟨34, _⟩ => ⟨S1x2816, .f32⟩
  | .hbm, ⟨35, _⟩ => ⟨S8320x2816, .f32⟩
  | .hbm, ⟨36, _⟩ => ⟨S8320x2816, .f32⟩
  | .hbm, ⟨37, _⟩ => ⟨S8320x2816, .f32⟩
  | .hbm, ⟨38, _⟩ => ⟨S1x2816, .f32⟩
  | .hbm, ⟨39, _⟩ => ⟨S2816, .f32⟩
  | .hbm, ⟨40, _⟩ => ⟨S1x2816, .f32⟩
  | .hbm, ⟨41, _⟩ => ⟨S8320x2816, .f32⟩
  | .hbm, ⟨42, _⟩ => ⟨S8320x2816, .f32⟩
  | .hbm, ⟨43, _⟩ => ⟨S8320x2816, .f32⟩
  | .hbm, ⟨44, _⟩ => ⟨S8320x2816, .f32⟩
  | .hbm, ⟨45, _⟩ => ⟨S1x2816, .f32⟩
  | .hbm, ⟨46, _⟩ => ⟨S2816, .f32⟩
  | .hbm, ⟨47, _⟩ => ⟨S1x2816, .f32⟩
  | .hbm, ⟨48, _⟩ => ⟨S8320x2816, .f32⟩
  | .hbm, ⟨49, _⟩ => ⟨S8320x2816, .f32⟩
  | .hbm, ⟨50, _⟩ => ⟨S8320x2816, .f32⟩
  | .hbm, ⟨51, _⟩ => ⟨S8320x2816, .bf16⟩
  | .hbm, ⟨52, _⟩ => ⟨S8320x2816, .bf16⟩
  | .hbm, ⟨53, _⟩ => ⟨S8x2816, .f32⟩
  | .hbm, ⟨54, _⟩ => ⟨S8x2816, .f32⟩
  | .local _ .vmem, ⟨0, _⟩ => ⟨S320x1408, .f32⟩
  | .local _ .vmem, ⟨1, _⟩ => ⟨S320x1408, .f32⟩
  | .local _ .vmem, ⟨2, _⟩ => ⟨S8x1408, .f32⟩
  | .local _ .vmem, ⟨3, _⟩ => ⟨S8x1408, .f32⟩
  | .local _ .vmem, ⟨4, _⟩ => ⟨S320x1408, .f32⟩
  | .local _ .vmem, ⟨5, _⟩ => ⟨S320x1408, .f32⟩
  | .local _ .vmem, ⟨6, _⟩ => ⟨S8x1408, .f32⟩
  | .local _ .vmem, ⟨7, _⟩ => ⟨S8x1408, .f32⟩
  | .local _ .vmem, ⟨8, _⟩ => ⟨S320x1408, .f32⟩
  | .local _ .vmem, ⟨9, _⟩ => ⟨S320x1408, .f32⟩
  | .local _ .vmem, ⟨10, _⟩ => ⟨S8x1408, .f32⟩
  | .local _ .vmem, ⟨11, _⟩ => ⟨S8x1408, .f32⟩
  | .local _ .vmem, ⟨12, _⟩ => ⟨S320x1408, .f32⟩
  | .local _ .vmem, ⟨13, _⟩ => ⟨S320x1408, .f32⟩
  | .local _ .vmem, ⟨14, _⟩ => ⟨S8x1408, .f32⟩
  | .local _ .vmem, ⟨15, _⟩ => ⟨S8x1408, .f32⟩
  | .local _ .vmem, ⟨16, _⟩ => ⟨S320x1408, .f32⟩
  | .local _ .vmem, ⟨17, _⟩ => ⟨S320x1408, .f32⟩
  | .local _ .vmem, ⟨18, _⟩ => ⟨S8x1408, .f32⟩
  | .local _ .vmem, ⟨19, _⟩ => ⟨S8x1408, .f32⟩
  | .local _ .vmem, ⟨20, _⟩ => ⟨S3x1408, .f32⟩
  | .local _ .vmem, ⟨21, _⟩ => ⟨S3x1408, .f32⟩
  | .local _ .vmem, ⟨22, _⟩ => ⟨S3x1408, .f32⟩
  | .local _ .vmem, ⟨23, _⟩ => ⟨S3x1408, .f32⟩
  | .local _ .vmem, ⟨24, _⟩ => ⟨S320x1408, .bf16⟩
  | .local _ .vmem, ⟨25, _⟩ => ⟨S320x1408, .bf16⟩
  | .local _ .vmem, ⟨26, _⟩ => ⟨S320x1408, .bf16⟩
  | .local _ .vmem, ⟨27, _⟩ => ⟨S320x1408, .bf16⟩
  | .local _ .vmem, ⟨28, _⟩ => ⟨S8x1408, .f32⟩
  | .local _ .vmem, ⟨29, _⟩ => ⟨S8x1408, .f32⟩
  | .local _ .vmem, ⟨30, _⟩ => ⟨S8x1408, .f32⟩
  | .local _ .vmem, ⟨31, _⟩ => ⟨S8x1408, .f32⟩
  | .local _ .vmem, ⟨32, _⟩ => ⟨S328x1408, .f32⟩
  | .local _ .vmem, ⟨33, _⟩ => ⟨S328x1408, .f32⟩
  | .local _ .vmem, ⟨34, _⟩ => ⟨S328x1408, .f32⟩
  | .local _ .vmem, ⟨35, _⟩ => ⟨S328x1408, .f32⟩
  | _, _ => ⟨S8320x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44_0 : Ref sig .tc := ⟨.hbm, 51, rfl⟩
abbrev main_v44_1 : Ref sig .tc := ⟨.hbm, 52, rfl⟩
abbrev main_v44_2 : Ref sig .tc := ⟨.hbm, 53, rfl⟩
abbrev main_v44_3 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨2, ![2, 26], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.muli arg1 c40_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.muli arg1 c40_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c40_i32 : BitVec 32 := 40#32
  let v1 : BitVec 32 := Scalar.muli v0 c40_i32
  let c1039_i32 : BitVec 32 := 1039#32
  let v2 : BitVec 32 := Scalar.minsi v1 c1039_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c40_i32 : BitVec 32 := 40#32
  let v1 : BitVec 32 := Scalar.muli v0 c40_i32
  let c1039_i32 : BitVec 32 := 1039#32
  let v2 : BitVec 32 := Scalar.minsi v1 c1039_i32
  let c0_i32 : BitVec 32 := 0#32
  ![v2.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c40_i32 : BitVec 32 := 40#32
  let v1 : BitVec 32 := Scalar.muli v0 c40_i32
  let c1039_i32 : BitVec 32 := 1039#32
  let v2 : BitVec 32 := Scalar.minsi v1 c1039_i32
  let c0_i32 : BitVec 32 := 0#32
  ![v2.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S320x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S320x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S320x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S320x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S320x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S3x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S3x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S320x1408 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S320x1408 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S8x1408 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S8x1408 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== FfnMidRefIdeal.lean ====
abbrev S8320x2816 : Shape := ⟨2, ![8320, 2816]⟩
abbrev S3x2816 : Shape := ⟨2, ![3, 2816]⟩
abbrev S_ : Shape := ⟨0, ![]⟩
abbrev S2x2816 : Shape := ⟨2, ![2, 2816]⟩
abbrev S8322x2816 : Shape := ⟨2, ![8322, 2816]⟩
abbrev S1x2816 : Shape := ⟨2, ![1, 2816]⟩
abbrev S2816 : Shape := ⟨1, ![2816]⟩
abbrev S8x2816 : Shape := ⟨2, ![8, 2816]⟩

abbrev nBuf : Space → Nat
  | .hbm => 173
  | .vmem => 0
  | .smem => 0
  | _ => 0

abbrev hbmTy0_0 (i : Nat) : BufTy := match i % 128 with
  | 0 => ⟨S8320x2816, .f32⟩
  | 1 => ⟨S8320x2816, .f32⟩
  | 2 => ⟨S8320x2816, .f32⟩
  | 3 => ⟨S3x2816, .f32⟩
  | 4 => ⟨S3x2816, .f32⟩
  | 5 => ⟨S_, .f32⟩
  | 6 => ⟨S2x2816, .f32⟩
  | 7 => ⟨S8322x2816, .f32⟩
  | 8 => ⟨S_, .f32⟩
  | 9 => ⟨S2x2816, .f32⟩
  | 10 => ⟨S8320x2816, .f32⟩
  | 11 => ⟨S1x2816, .f32⟩
  | 12 => ⟨S2816, .f32⟩
  | 13 => ⟨S1x2816, .f32⟩
  | 14 => ⟨S8320x2816, .f32⟩
  | 15 => ⟨S8320x2816, .f32⟩
  | 16 => ⟨S8320x2816, .f32⟩
  | 17 => ⟨S1x2816, .f32⟩
  | 18 => ⟨S2816, .f32⟩
  | 19 => ⟨S1x2816, .f32⟩
  | 20 => ⟨S8320x2816, .f32⟩
  | 21 => ⟨S8320x2816, .f32⟩
  | 22 => ⟨S8320x2816, .f32⟩
  | 23 => ⟨S8320x2816, .f32⟩
  | 24 => ⟨S1x2816, .f32⟩
  | 25 => ⟨S2816, .f32⟩
  | 26 => ⟨S1x2816, .f32⟩
  | 27 => ⟨S8320x2816, .f32⟩
  | 28 => ⟨S8320x2816, .f32⟩
  | 29 => ⟨S8320x2816, .f32⟩
  | 30 => ⟨S_, .f32⟩
  | 31 => ⟨S2x2816, .f32⟩
  | 32 => ⟨S8322x2816, .f32⟩
  | 33 => ⟨S_, .f32⟩
  | 34 => ⟨S2x2816, .f32⟩
  | 35 => ⟨S8320x2816, .f32⟩
  | 36 => ⟨S1x2816, .f32⟩
  | 37 => ⟨S2816, .f32⟩
  | 38 => ⟨S1x2816, .f32⟩
  | 39 => ⟨S8320x2816, .f32⟩
  | 40 => ⟨S8320x2816, .f32⟩
  | 41 => ⟨S8320x2816, .f32⟩
  | 42 => ⟨S1x2816, .f32⟩
  | 43 => ⟨S2816, .f32⟩
  | 44 => ⟨S1x2816, .f32⟩
  | 45 => ⟨S8320x2816, .f32⟩
  | 46 => ⟨S8320x2816, .f32⟩
  | 47 => ⟨S8320x2816, .f32⟩
  | 48 => ⟨S8320x2816, .f32⟩
  | 49 => ⟨S1x2816, .f32⟩
  | 50 => ⟨S2816, .f32⟩
  | 51 => ⟨S1x2816, .f32⟩
  | 52 => ⟨S8320x2816, .f32⟩
  | 53 => ⟨S8320x2816, .f32⟩
  | 54 => ⟨S8320x2816, .f32⟩
  | 55 => ⟨S8320x2816, .f32⟩
  | 56 => ⟨S8320x2816, .f32⟩
  | 57 => ⟨S_, .f32⟩
  | 58 => ⟨S8320x2816, .f32⟩
  | 59 => ⟨S8320x2816, .f32⟩
  | 60 => ⟨S_, .f32⟩
  | 61 => ⟨S8320x2816, .f32⟩
  | 62 => ⟨S8320x2816, .f32⟩
  | 63 => ⟨S_, .f32⟩
  | 64 => ⟨S8320x2816, .f32⟩
  | 65 => ⟨S8320x2816, .f32⟩
  | 66 => ⟨S8320x2816, .f32⟩
  | 67 => ⟨S8320x2816, .f32⟩
  | 68 => ⟨S8320x2816, .f32⟩
  | 69 => ⟨S8320x2816, .f32⟩
  | 70 => ⟨S8320x2816, .f32⟩
  | 71 => ⟨S8320x2816, .f32⟩
  | 72 => ⟨S8320x2816, .f32⟩
  | 73 => ⟨S8320x2816, .f32⟩
  | 74 => ⟨S8320x2816, .f32⟩
  | 75 => ⟨S8320x2816, .f32⟩
  | 76 => ⟨S_, .f32⟩
  | 77 => ⟨S2816, .f32⟩
  | 78 => ⟨S1x2816, .f32⟩
  | 79 => ⟨S8320x2816, .f32⟩
  | 80 => ⟨S8320x2816, .f32⟩
  | 81 => ⟨S_, .f32⟩
  | 82 => ⟨S2816, .f32⟩
  | 83 => ⟨S1x2816, .f32⟩
  | 84 => ⟨S_, .f32⟩
  | 85 => ⟨S3x2816, .f32⟩
  | 86 => ⟨S_, .f32⟩
  | 87 => ⟨S8322x2816, .f32⟩
  | 88 => ⟨S8320x2816, .f32⟩
  | 89 => ⟨S_, .f32⟩
  | 90 => ⟨S2816, .f32⟩
  | 91 => ⟨S1x2816, .f32⟩
  | 92 => ⟨S8320x2816, .f32⟩
  | 93 => ⟨S8320x2816, .f32⟩
  | 94 => ⟨S_, .f32⟩
  | 95 => ⟨S2816, .f32⟩
  | 96 => ⟨S1x2816, .f32⟩
  | 97 => ⟨S_, .f32⟩
  | 98 => ⟨S3x2816, .f32⟩
  | 99 => ⟨S3x2816, .f32⟩
  | 100 => ⟨S_, .f32⟩
  | 101 => ⟨S8322x2816, .f32⟩
  | 102 => ⟨S8322x2816, .f32⟩
  | 103 => ⟨S8320x2816, .f32⟩
  | 104 => ⟨S_, .f32⟩
  | 105 => ⟨S2816, .f32⟩
  | 106 => ⟨S1x2816, .f32⟩
  | 107 => ⟨S8320x2816, .f32⟩
  | 108 => ⟨S8320x2816, .f32⟩
  | 109 => ⟨S_, .f32⟩
  | 110 => ⟨S2816, .f32⟩
  | 111 => ⟨S1x2816, .f32⟩
  | 112 => ⟨S_, .f32⟩
  | 113 => ⟨S3x2816, .f32⟩
  | 114 => ⟨S3x2816, .f32⟩
  | 115 => ⟨S_, .f32⟩
  | 116 => ⟨S8322x2816, .f32⟩
  | 117 => ⟨S8322x2816, .f32⟩
  | 118 => ⟨S2x2816, .f32⟩
  | 119 => ⟨S8320x2816, .f32⟩
  | 120 => ⟨S8320x2816, .f32⟩
  | 121 => ⟨S_, .f32⟩
  | 122 => ⟨S2816, .f32⟩
  | 123 => ⟨S1x2816, .f32⟩
  | 124 => ⟨S8320x2816, .f32⟩
  | 125 => ⟨S8320x2816, .f32⟩
  | 126 => ⟨S_, .f32⟩
  | 127 => ⟨S2816, .f32⟩
  | _ => ⟨S8320x2816, .f32⟩

abbrev hbmTy0_1 (i : Nat) : BufTy := match i % 128 with
  | 0 => ⟨S1x2816, .f32⟩
  | 1 => ⟨S_, .f32⟩
  | 2 => ⟨S3x2816, .f32⟩
  | 3 => ⟨S_, .f32⟩
  | 4 => ⟨S8322x2816, .f32⟩
  | 5 => ⟨S8320x2816, .f32⟩
  | 6 => ⟨S_, .f32⟩
  | 7 => ⟨S2816, .f32⟩
  | 8 => ⟨S1x2816, .f32⟩
  | 9 => ⟨S8320x2816, .f32⟩
  | 10 => ⟨S8320x2816, .f32⟩
  | 11 => ⟨S_, .f32⟩
  | 12 => ⟨S2816, .f32⟩
  | 13 => ⟨S1x2816, .f32⟩
  | 14 => ⟨S_, .f32⟩
  | 15 => ⟨S3x2816, .f32⟩
  | 16 => ⟨S3x2816, .f32⟩
  | 17 => ⟨S_, .f32⟩
  | 18 => ⟨S8322x2816, .f32⟩
  | 19 => ⟨S8322x2816, .f32⟩
  | 20 => ⟨S8320x2816, .f32⟩
  | 21 => ⟨S_, .f32⟩
  | 22 => ⟨S2816, .f32⟩
  | 23 => ⟨S1x2816, .f32⟩
  | 24 => ⟨S8320x2816, .f32⟩
  | 25 => ⟨S8320x2816, .f32⟩
  | 26 => ⟨S_, .f32⟩
  | 27 => ⟨S2816, .f32⟩
  | 28 => ⟨S1x2816, .f32⟩
  | 29 => ⟨S_, .f32⟩
  | 30 => ⟨S3x2816, .f32⟩
  | 31 => ⟨S3x2816, .f32⟩
  | 32 => ⟨S_, .f32⟩
  | 33 => ⟨S8322x2816, .f32⟩
  | 34 => ⟨S8322x2816, .f32⟩
  | 35 => ⟨S2x2816, .f32⟩
  | 36 => ⟨S8320x2816, .f32⟩
  | 37 => ⟨S8320x2816, .bf16⟩
  | 38 => ⟨S8320x2816, .bf16⟩
  | 39 => ⟨S_, .i32⟩
  | 40 => ⟨S_, .f32⟩
  | 41 => ⟨S8x2816, .f32⟩
  | 42 => ⟨S_, .i32⟩
  | 43 => ⟨S_, .f32⟩
  | 44 => ⟨S8x2816, .f32⟩
  | _ => ⟨S8320x2816, .f32⟩

abbrev hbmTy (i : Nat) : BufTy := match i / 128 with
  | 0 => hbmTy0_0 i
  | 1 => hbmTy0_1 i
  | _ => ⟨S8320x2816, .f32⟩

abbrev bufTy : (tb : Table) → Fin (tcTables nBuf tb) → BufTy
  | .hbm, ⟨i, _⟩ => hbmTy i
  | _, _ => ⟨S8320x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_v46_2 : Ref sig .tc := ⟨.hbm, 62, rfl⟩
abbrev main_call0_cst_1 : Ref sig .tc := ⟨.hbm, 63, rfl⟩
abbrev main_call0_v6 : Ref sig .tc := ⟨.hbm, 64, rfl⟩
abbrev main_call0_v7 : Ref sig .tc := ⟨.hbm, 65, rfl⟩
abbrev main_v46_1 : Ref sig .tc := ⟨.hbm, 66, rfl⟩
abbrev main_v46_0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v50 : Ref sig .tc := ⟨.hbm, 74, rfl⟩
abbrev main_v51 : Ref sig .tc := ⟨.hbm, 75, rfl⟩
abbrev main_cst_3 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_4 : Ref sig .tc := ⟨.hbm, 81, rfl⟩
abbrev main_v56 : Ref sig .tc := ⟨.hbm, 82, rfl⟩
abbrev main_v57 : Ref sig .tc := ⟨.hbm, 83, rfl⟩
abbrev main_cst_5 : Ref sig .tc := ⟨.hbm, 84, rfl⟩
abbrev main_v58 : Ref sig .tc := ⟨.hbm, 85, rfl⟩
abbrev main_cst_6 : Ref sig .tc := ⟨.hbm, 86, rfl⟩
abbrev main_v59 : Ref sig .tc := ⟨.hbm, 87, rfl⟩
abbrev main_v60 : Ref sig .tc := ⟨.hbm, 88, rfl⟩
abbrev main_cst_7 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_8 : Ref sig .tc := ⟨.hbm, 94, rfl⟩
abbrev main_v65 : Ref sig .tc := ⟨.hbm, 95, rfl⟩
abbrev main_v66 : Ref sig .tc := ⟨.hbm, 96, rfl⟩
abbrev main_cst_9 : Ref sig .tc := ⟨.hbm, 97, rfl⟩
abbrev main_v67 : Ref sig .tc := ⟨.hbm, 98, rfl⟩
abbrev main_v68 : Ref sig .tc := ⟨.hbm, 99, rfl⟩
abbrev main_cst_10 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_11 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_12 : Ref sig .tc := ⟨.hbm, 109, rfl⟩
abbrev main_v76 : Ref sig .tc := ⟨.hbm, 110, rfl⟩
abbrev main_v77 : Ref sig .tc := ⟨.hbm, 111, rfl⟩
abbrev main_cst_13 : Ref sig .tc := ⟨.hbm, 112, rfl⟩
abbrev main_v78 : Ref sig .tc := ⟨.hbm, 113, rfl⟩
abbrev main_v79 : Ref sig .tc := ⟨.hbm, 114, rfl⟩
abbrev main_cst_14 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_15 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_16 : Ref sig .tc := ⟨.hbm, 126, rfl⟩
abbrev main_v89 : Ref sig .tc := ⟨.hbm, 127, rfl⟩
abbrev main_v90 : Ref sig .tc := ⟨.hbm, 128, rfl⟩
abbrev main_cst_17 : Ref sig .tc := ⟨.hbm, 129, rfl⟩
abbrev main_v91 : Ref sig .tc := ⟨.hbm, 130, rfl⟩
abbrev main_cst_18 : Ref sig .tc := ⟨.hbm, 131, rfl⟩
abbrev main_v92 : Ref sig .tc := ⟨.hbm, 132, rfl⟩
abbrev main_v93 : Ref sig .tc := ⟨.hbm, 133, rfl⟩
abbrev main_cst_19 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_20 : Ref sig .tc := ⟨.hbm, 139, rfl⟩
abbrev main_v98 : Ref sig .tc := ⟨.hbm, 140, rfl⟩
abbrev main_v99 : Ref sig .tc := ⟨.hbm, 141, rfl⟩
abbrev main_cst_21 : Ref sig .tc := ⟨.hbm, 142, rfl⟩
abbrev main_v100 : Ref sig .tc := ⟨.hbm, 143, rfl⟩
abbrev main_v101 : Ref sig .tc := ⟨.hbm, 144, rfl⟩
abbrev main_cst_22 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_23 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_24 : Ref sig .tc := ⟨.hbm, 154, rfl⟩
abbrev main_v109 : Ref sig .tc := ⟨.hbm, 155, rfl⟩
abbrev main_v110 : Ref sig .tc := ⟨.hbm, 156, rfl⟩
abbrev main_cst_25 : Ref sig .tc := ⟨.hbm, 157, rfl⟩
abbrev main_v111 : Ref sig .tc := ⟨.hbm, 158, rfl⟩
abbrev main_v112 : Ref sig .tc := ⟨.hbm, 159, rfl⟩
abbrev main_cst_26 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_c : Ref sig .tc := ⟨.hbm, 167, rfl⟩
abbrev main_call2_v0 : Ref sig .tc := ⟨.hbm, 168, rfl⟩
abbrev main_v119 : Ref sig .tc := ⟨.hbm, 169, rfl⟩
abbrev main_c_27 : Ref sig .tc := ⟨.hbm, 170, rfl⟩
abbrev main_call3_v0 : Ref sig .tc := ⟨.hbm, 171, rfl⟩
abbrev main_v120 : Ref sig .tc := ⟨.hbm, 172, rfl⟩

abbrev nD : Nat := 1
abbrev τ : Topo := Topo.v7x

variable {F : FTy → Type} [FloatOps F]
-- ==== RmsF.lean ====
abbrev S8320x1024 : Shape := ⟨2, ![8320, 1024]⟩
abbrev S1x1024 : Shape := ⟨2, ![1, 1024]⟩
abbrev S1024x8320 : Shape := ⟨2, ![1024, 8320]⟩
abbrev S640x1024 : Shape := ⟨2, ![640, 1024]⟩
abbrev S1024x640 : Shape := ⟨2, ![1024, 640]⟩
abbrev S640 : Shape := ⟨1, ![640]⟩
abbrev S640x1 : Shape := ⟨2, ![640, 1]⟩

abbrev nBuf : Space → Nat
  | .hbm => 4
  | .vmem => 7
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .bf16⟩
  | .hbm, ⟨3, _⟩ => ⟨S1024x8320, .bf16⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S640x1024, .bf16⟩
  | .local _ .vmem, ⟨4, _⟩ => ⟨S640x1024, .bf16⟩
  | .local _ .vmem, ⟨5, _⟩ => ⟨S1024x640, .bf16⟩
  | .local _ .vmem, ⟨6, _⟩ => ⟨S1024x640, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RmsFRefIdeal.lean ====
abbrev S8320x1024 : Shape := ⟨2, ![8320, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩
abbrev S1024x8320 : Shape := ⟨2, ![1024, 8320]⟩

abbrev nBuf : Space → Nat
  | .hbm => 20
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .f32⟩
  | .hbm, ⟨3, _⟩ => ⟨S_, .f32⟩
  | .hbm, ⟨4, _⟩ => ⟨S8320, .f32⟩
  | .hbm, ⟨5, _⟩ => ⟨S8320x1, .f32⟩
  | .hbm, ⟨6, _⟩ => ⟨S_, .f32⟩
  | .hbm, ⟨7, _⟩ => ⟨S8320x1, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S8320x1, .f32⟩
  | .hbm, ⟨13, _⟩ => ⟨S8320x1024, .f32⟩
  | .hbm, ⟨14, _⟩ => ⟨S8320x1024, .f32⟩
  | .hbm, ⟨15, _⟩ => ⟨S8320x1024, .f32⟩
  | .hbm, ⟨16, _⟩ => ⟨S8320x1024, .f32⟩
  | .hbm, ⟨17, _⟩ => ⟨S8320x1024, .bf16⟩
  | .hbm, ⟨18, _⟩ => ⟨S1024x8320, .f32⟩
  | .hbm, ⟨19, _⟩ => ⟨S1024x8320, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== ConvF.lean ====
abbrev S8320x3072 : Shape := ⟨2, ![8320, 3072]⟩
abbrev S4x3072 : Shape := ⟨2, ![4, 3072]⟩
abbrev S640x1536 : Shape := ⟨2, ![640, 1536]⟩
abbrev S8x1536 : Shape := ⟨2, ![8, 1536]⟩
abbrev S4x1536 : Shape := ⟨2, ![4, 1536]⟩
abbrev S648x1536 : Shape := ⟨2, ![648, 1536]⟩
abbrev S1x1536 : Shape := ⟨2, ![1, 1536]⟩

abbrev nBuf : Space → Nat
  | .hbm => 3
  | .vmem => 9
  | .smem => 0
  | _ => 0

abbrev bufTy : (tb : Table) → Fin (tcTables nBuf tb) → BufTy
  | .hbm, ⟨0, _⟩ => ⟨S8320x3072, .f32⟩
  | .hbm, ⟨1, _⟩ => ⟨S4x3072, .f32⟩
  | .hbm, ⟨2, _⟩ => ⟨S8320x3072, .f32⟩
  | .local _ .vmem, ⟨0, _⟩ => ⟨S640x1536, .f32⟩
  | .local _ .vmem, ⟨1, _⟩ => ⟨S640x1536, .f32⟩
  | .local _ .vmem, ⟨2, _⟩ => ⟨S8x1536, .f32⟩
  | .local _ .vmem, ⟨3, _⟩ => ⟨S8x1536, .f32⟩
  | .local _ .vmem, ⟨4, _⟩ => ⟨S4x1536, .f32⟩
  | .local _ .vmem, ⟨5, _⟩ => ⟨S4x1536, .f32⟩
  | .local _ .vmem, ⟨6, _⟩ => ⟨S640x1536, .f32⟩
  | .local _ .vmem, ⟨7, _⟩ => ⟨S640x1536, .f32⟩
  | .local _ .vmem, ⟨8, _⟩ => ⟨S648x1536, .f32⟩
  | _, _ => ⟨S8320x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![13, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.muli arg0 c80_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S640x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvFRefIdeal.lean ====
abbrev S8320x3072 : Shape := ⟨2, ![8320, 3072]⟩
abbrev S4x3072 : Shape := ⟨2, ![4, 3072]⟩
abbrev S_ : Shape := ⟨0, ![]⟩
abbrev S3x3072 : Shape := ⟨2, ![3, 3072]⟩
abbrev S8323x3072 : Shape := ⟨2, ![8323, 3072]⟩
abbrev S1x3072 : Shape := ⟨2, ![1, 3072]⟩
abbrev S3072 : Shape := ⟨1, ![3072]⟩

abbrev nBuf : Space → Nat
  | .hbm => 32
  | .vmem => 0
  | .smem => 0
  | _ => 0

abbrev bufTy : (tb : Table) → Fin (tcTables nBuf tb) → BufTy
  | .hbm, ⟨0, _⟩ => ⟨S8320x3072, .f32⟩
  | .hbm, ⟨1, _⟩ => ⟨S4x3072, .f32⟩
  | .hbm, ⟨2, _⟩ => ⟨S_, .f32⟩
  | .hbm, ⟨3, _⟩ => ⟨S3x3072, .f32⟩
  | .hbm, ⟨4, _⟩ => ⟨S8323x3072, .f32⟩
  | .hbm, ⟨5, _⟩ => ⟨S8320x3072, .f32⟩
  | .hbm, ⟨6, _⟩ => ⟨S1x3072, .f32⟩
  | .hbm, ⟨7, _⟩ => ⟨S3072, .f32⟩
  | .hbm, ⟨8, _⟩ => ⟨S1x3072, .f32⟩
  | .hbm, ⟨9, _⟩ => ⟨S8320x3072, .f32⟩
  | .hbm, ⟨10, _⟩ => ⟨S8320x3072, .f32⟩
  | .hbm, ⟨11, _⟩ => ⟨S8320x3072, .f32⟩
  | .hbm, ⟨12, _⟩ => ⟨S1x3072, .f32⟩
  | .hbm, ⟨13, _⟩ => ⟨S3072, .f32⟩
  | .hbm, ⟨14, _⟩ => ⟨S1x3072, .f32⟩
  | .hbm, ⟨15, _⟩ => ⟨S8320x3072, .f32⟩
  | .hbm, ⟨16, _⟩ => ⟨S8320x3072, .f32⟩
  | .hbm, ⟨17, _⟩ => ⟨S8320x3072, .f32⟩
  | .hbm, ⟨18, _⟩ => ⟨S8320x3072, .f32⟩
  | .hbm, ⟨19, _⟩ => ⟨S1x3072, .f32⟩
  | .hbm, ⟨20, _⟩ => ⟨S3072, .f32⟩
  | .hbm, ⟨21, _⟩ => ⟨S1x3072, .f32⟩
  | .hbm, ⟨22, _⟩ => ⟨S8320x3072, .f32⟩
  | .hbm, ⟨23, _⟩ => ⟨S8320x3072, .f32⟩
  | .hbm, ⟨24, _⟩ => ⟨S8320x3072, .f32⟩
  | .hbm, ⟨25, _⟩ => ⟨S8320x3072, .f32⟩
  | .hbm, ⟨26, _⟩ => ⟨S1x3072, .f32⟩
  | .hbm, ⟨27, _⟩ => ⟨S3072, .f32⟩
  | .hbm, ⟨28, _⟩ => ⟨S1x3072, .f32⟩
  | .hbm, ⟨29, _⟩ => ⟨S8320x3072, .f32⟩
  | .hbm, ⟨30, _⟩ => ⟨S8320x3072, .f32⟩
  | .hbm, ⟨31, _⟩ => ⟨S8320x3072, .f32⟩
  | _, _ => ⟨S8320x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩

abbrev nD : Nat := 1
abbrev τ : Topo := Topo.v7x

variable {F : FTy → Type} [FloatOps F]
-- ==== PoolF.lean ====
abbrev S8320x640 : Shape := ⟨2, ![8320, 640]⟩
abbrev S8320x512 : Shape := ⟨2, ![8320, 512]⟩
abbrev S640x512 : Shape := ⟨2, ![640, 512]⟩
abbrev S16x512 : Shape := ⟨2, ![16, 512]⟩
abbrev S656x512 : Shape := ⟨2, ![656, 512]⟩
abbrev S640x1 : Shape := ⟨2, ![640, 1]⟩
abbrev S640x128 : Shape := ⟨2, ![640, 128]⟩

abbrev nBuf : Space → Nat
  | .hbm => 2
  | .vmem => 7
  | .smem => 0
  | _ => 0

abbrev bufTy : (tb : Table) → Fin (tcTables nBuf tb) → BufTy
  | .hbm, ⟨0, _⟩ => ⟨S8320x640, .f32⟩
  | .hbm, ⟨1, _⟩ => ⟨S8320x512, .f32⟩
  | .local _ .vmem, ⟨0, _⟩ => ⟨S640x512, .f32⟩
  | .local _ .vmem, ⟨1, _⟩ => ⟨S640x512, .f32⟩
  | .local _ .vmem, ⟨2, _⟩ => ⟨S16x512, .f32⟩
  | .local _ .vmem, ⟨3, _⟩ => ⟨S16x512, .f32⟩
  | .local _ .vmem, ⟨4, _⟩ => ⟨S640x512, .f32⟩
  | .local _ .vmem, ⟨5, _⟩ => ⟨S640x512, .f32⟩
  | .local _ .vmem, ⟨6, _⟩ => ⟨S656x512, .f32⟩
  | _, _ => ⟨S8320x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c40_i32 : BitVec 32 := 40#32
  let v0 : BitVec 32 := Scalar.muli arg0 c40_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PoolFRefIdeal.lean ====
abbrev S8320x640 : Shape := ⟨2, ![8320, 640]⟩
abbrev S8320x512 : Shape := ⟨2, ![8320, 512]⟩
abbrev S8320x4x128 : Shape := ⟨3, ![8320, 4, 128]⟩
abbrev S8320 : Shape := ⟨1, ![8320]⟩
abbrev S_ : Shape := ⟨0, ![]⟩
abbrev S8320x1x128 : Shape := ⟨3, ![8320, 1, 128]⟩
abbrev S8320x128 : Shape := ⟨2, ![8320, 128]⟩
abbrev S1x128 : Shape := ⟨2, ![1, 128]⟩
abbrev S8321x128 : Shape := ⟨2, ![8321, 128]⟩
abbrev S8320x1 : Shape := ⟨2, ![8320, 1]⟩
abbrev S3x128 : Shape := ⟨2, ![3, 128]⟩
abbrev S8323x128 : Shape := ⟨2, ![8323, 128]⟩
abbrev S7x128 : Shape := ⟨2, ![7, 128]⟩
abbrev S8327x128 : Shape := ⟨2, ![8327, 128]⟩
abbrev S15x128 : Shape := ⟨2, ![15, 128]⟩
abbrev S8335x128 : Shape := ⟨2, ![8335, 128]⟩

abbrev nBuf : Space → Nat
  | .hbm => 153
  | .vmem => 0
  | .smem => 0
  | _ => 0

abbrev hbmTy0_0 (i : Nat) : BufTy := match i % 128 with
  | 0 => ⟨S8320x640, .f32⟩
  | 1 => ⟨S8320x512, .f32⟩
  | 2 => ⟨S8320x4x128, .f32⟩
  | 3 => ⟨S8320, .i32⟩
  | 4 => ⟨S_, .i32⟩
  | 5 => ⟨S8320, .i32⟩
  | 6 => ⟨S8320, .i32⟩
  | 7 => ⟨S8320x1x128, .f32⟩
  | 8 => ⟨S8320x128, .f32⟩
  | 9 => ⟨S_, .f32⟩
  | 10 => ⟨S1x128, .f32⟩
  | 11 => ⟨S8321x128, .f32⟩
  | 12 => ⟨S8320x128, .f32⟩
  | 13 => ⟨S8320x128, .f32⟩
  | 14 => ⟨S8320x128, .f32⟩
  | 15 => ⟨S_, .i32⟩
  | 16 => ⟨S8320, .i32⟩
  | 17 => ⟨S8320, .i32⟩
  | 18 => ⟨S_, .i32⟩
  | 19 => ⟨S_, .i32⟩
  | 20 => ⟨S_, .i32⟩
  | 21 => ⟨S8320, .i32⟩
  | 22 => ⟨S8320, .i32⟩
  | 23 => ⟨S_, .i32⟩
  | 24 => ⟨S8320, .i32⟩
  | 25 => ⟨S8320, .i32⟩
  | 26 => ⟨S8320, .f32⟩
  | 27 => ⟨S8320x1, .f32⟩
  | 28 => ⟨S8320x128, .f32⟩
  | 29 => ⟨S8320x128, .f32⟩
  | 30 => ⟨S8320x128, .f32⟩
  | 31 => ⟨S8320x1x128, .f32⟩
  | 32 => ⟨S8320x128, .f32⟩
  | 33 => ⟨S_, .f32⟩
  | 34 => ⟨S3x128, .f32⟩
  | 35 => ⟨S8323x128, .f32⟩
  | 36 => ⟨S8320x128, .f32⟩
  | 37 => ⟨S8320x128, .f32⟩
  | 38 => ⟨S8320x128, .f32⟩
  | 39 => ⟨S8320x128, .f32⟩
  | 40 => ⟨S8320x128, .f32⟩
  | 41 => ⟨S8320x128, .f32⟩
  | 42 => ⟨S8320x128, .f32⟩
  | 43 => ⟨S_, .i32⟩
  | 44 => ⟨S8320, .i32⟩
  | 45 => ⟨S8320, .i32⟩
  | 46 => ⟨S_, .i32⟩
  | 47 => ⟨S_, .i32⟩
  | 48 => ⟨S_, .i32⟩
  | 49 => ⟨S8320, .i32⟩
  | 50 => ⟨S8320, .i32⟩
  | 51 => ⟨S_, .i32⟩
  | 52 => ⟨S8320, .i32⟩
  | 53 => ⟨S8320, .i32⟩
  | 54 => ⟨S8320, .f32⟩
  | 55 => ⟨S8320x1, .f32⟩
  | 56 => ⟨S8320x128, .f32⟩
  | 57 => ⟨S8320x128, .f32⟩
  | 58 => ⟨S8320x128, .f32⟩
  | 59 => ⟨S8320x1x128, .f32⟩
  | 60 => ⟨S8320x128, .f32⟩
  | 61 => ⟨S_, .f32⟩
  | 62 => ⟨S7x128, .f32⟩
  | 63 => ⟨S8327x128, .f32⟩
  | 64 => ⟨S8320x128, .f32⟩
  | 65 => ⟨S8320x128, .f32⟩
  | 66 => ⟨S8320x128, .f32⟩
  | 67 => ⟨S8320x128, .f32⟩
  | 68 => ⟨S8320x128, .f32⟩
  | 69 => ⟨S8320x128, .f32⟩
  | 70 => ⟨S8320x128, .f32⟩
  | 71 => ⟨S8320x128, .f32⟩
  | 72 => ⟨S8320x128, .f32⟩
  | 73 => ⟨S8320x128, .f32⟩
  | 74 => ⟨S8320x128, .f32⟩
  | 75 => ⟨S8320x128, .f32⟩
  | 76 => ⟨S8320x128, .f32⟩
  | 77 => ⟨S8320x128, .f32⟩
  | 78 => ⟨S8320x128, .f32⟩
  | 79 => ⟨S_, .i32⟩
  | 80 => ⟨S8320, .i32⟩
  | 81 => ⟨S8320, .i32⟩
  | 82 => ⟨S_, .i32⟩
  | 83 => ⟨S_, .i32⟩
  | 84 => ⟨S_, .i32⟩
  | 85 => ⟨S8320, .i32⟩
  | 86 => ⟨S8320, .i32⟩
  | 87 => ⟨S_, .i32⟩
  | 88 => ⟨S8320, .i32⟩
  | 89 => ⟨S8320, .i32⟩
  | 90 => ⟨S8320, .f32⟩
  | 91 => ⟨S8320x1, .f32⟩
  | 92 => ⟨S8320x128, .f32⟩
  | 93 => ⟨S8320x128, .f32⟩
  | 94 => ⟨S8320x128, .f32⟩
  | 95 => ⟨S8320x1x128, .f32⟩
  | 96 => ⟨S8320x128, .f32⟩
  | 97 => ⟨S_, .f32⟩
  | 98 => ⟨S15x128, .f32⟩
  | 99 => ⟨S8335x128, .f32⟩
  | 100 => ⟨S8320x128, .f32⟩
  | 101 => ⟨S8320x128, .f32⟩
  | 102 => ⟨S8320x128, .f32⟩
  | 103 => ⟨S8320x128, .f32⟩
  | 104 => ⟨S8320x128, .f32⟩
  | 105 => ⟨S8320x128, .f32⟩
  | 106 => ⟨S8320x128, .f32⟩
  | 107 => ⟨S8320x128, .f32⟩
  | 108 => ⟨S8320x128, .f32⟩
  | 109 => ⟨S8320x128, .f32⟩
  | 110 => ⟨S8320x128, .f32⟩
  | 111 => ⟨S8320x128, .f32⟩
  | 112 => ⟨S8320x128, .f32⟩
  | 113 => ⟨S8320x128, .f32⟩
  | 114 => ⟨S8320x128, .f32⟩
  | 115 => ⟨S8320x128, .f32⟩
  | 116 => ⟨S8320x128, .f32⟩
  | 117 => ⟨S8320x128, .f32⟩
  | 118 => ⟨S8320x128, .f32⟩
  | 119 => ⟨S8320x128, .f32⟩
  | 120 => ⟨S8320x128, .f32⟩
  | 121 => ⟨S8320x128, .f32⟩
  | 122 => ⟨S8320x128, .f32⟩
  | 123 => ⟨S8320x128, .f32⟩
  | 124 => ⟨S8320x128, .f32⟩
  | 125 => ⟨S8320x128, .f32⟩
  | 126 => ⟨S8320x128, .f32⟩
  | 127 => ⟨S8320x128, .f32⟩
  | _ => ⟨S8320x640, .f32⟩

abbrev hbmTy0_1 (i : Nat) : BufTy := match i % 128 with
  | 0 => ⟨S8320x128, .f32⟩
  | 1 => ⟨S8320x128, .f32⟩
  | 2 => ⟨S8320x128, .f32⟩
  | 3 => ⟨S_, .i32⟩
  | 4 => ⟨S8320, .i32⟩
  | 5 => ⟨S8320, .i32⟩
  | 6 => ⟨S_, .i32⟩
  | 7 => ⟨S_, .i32⟩
  | 8 => ⟨S_, .i32⟩
  | 9 => ⟨S8320, .i32⟩
  | 10 => ⟨S8320, .i32⟩
  | 11 => ⟨S_, .i32⟩
  | 12 => ⟨S8320, .i32⟩
  | 13 => ⟨S8320, .i32⟩
  | 14 => ⟨S8320, .f32⟩
  | 15 => ⟨S8320x1, .f32⟩
  | 16 => ⟨S8320x128, .f32⟩
  | 17 => ⟨S8320x128, .f32⟩
  | 18 => ⟨S8320x128, .f32⟩
  | 19 => ⟨S8320x1x128, .f32⟩
  | 20 => ⟨S8320x1x128, .f32⟩
  | 21 => ⟨S8320x1x128, .f32⟩
  | 22 => ⟨S8320x1x128, .f32⟩
  | 23 => ⟨S8320x4x128, .f32⟩
  | 24 => ⟨S8320x512, .f32⟩
  | _ => ⟨S8320x640, .f32⟩

abbrev hbmTy (i : Nat) : BufTy := match i / 128 with
  | 0 => hbmTy0_0 i
  | 1 => hbmTy0_1 i
  | _ => ⟨S8320x640, .f32⟩

abbrev bufTy : (tb : Table) → Fin (tcTables nBuf tb) → BufTy
  | .hbm, ⟨i, _⟩ => hbmTy i
  | _, _ => ⟨S8320x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c_0 : Ref sig .tc := ⟨.hbm, 15, rfl⟩
abbrev main_v12 : Ref sig .tc := ⟨.hbm, 16, rfl⟩
abbrev main_v13 : Ref sig .tc := ⟨.hbm, 17, rfl⟩
abbrev main_c_1 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_c_6 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_8 : Ref sig .tc := ⟨.hbm, 79, rfl⟩
abbrev main_v58 : Ref sig .tc := ⟨.hbm, 80, rfl⟩
abbrev main_v59 : Ref sig .tc := ⟨.hbm, 81, rfl⟩
abbrev main_c_9 : Ref sig .tc := ⟨.hbm, 82, rfl⟩
abbrev main_c_10 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_call2_v3 : Ref sig .tc := ⟨.hbm, 87, rfl⟩
abbrev main_call2_v4 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_11 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_c_12 : Ref sig .tc := ⟨.hbm, 131, rfl⟩
abbrev main_v101 : Ref sig .tc := ⟨.hbm, 132, rfl⟩
abbrev main_v102 : Ref sig .tc := ⟨.hbm, 133, rfl⟩
abbrev main_c_13 : Ref sig .tc := ⟨.hbm, 134, rfl⟩
abbrev main_c_14 : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩

abbrev nD : Nat := 1
abbrev τ : Topo := Topo.v7x

variable {F : FTy → Type} [FloatOps F]
-- ==== MixF.lean ====
abbrev S8320x1024 : Shape := ⟨2, ![8320, 1024]⟩
abbrev S8320x2048 : Shape := ⟨2, ![8320, 2048]⟩
abbrev S8320x512 : Shape := ⟨2, ![8320, 512]⟩
abbrev S4x128x256 : Shape := ⟨3, ![4, 128, 256]⟩
abbrev S1x1024 : Shape := ⟨2, ![1, 1024]⟩
abbrev S1024x8320 : Shape := ⟨2, ![1024, 8320]⟩
abbrev S640x1024 : Shape := ⟨2, ![640, 1024]⟩
abbrev S640x2048 : Shape := ⟨2, ![640, 2048]⟩
abbrev S640x512 : Shape := ⟨2, ![640, 512]⟩
abbrev S1024x640 : Shape := ⟨2, ![1024, 640]⟩
abbrev S640x128 : Shape := ⟨2, ![640, 128]⟩
abbrev S1x128x256 : Shape := ⟨3, ![1, 128, 256]⟩
abbrev S128x256 : Shape := ⟨2, ![128, 256]⟩
abbrev S640x256 : Shape := ⟨2, ![640, 256]⟩

abbrev nBuf : Space → Nat
  | .hbm => 7
  | .vmem => 12
  | .smem => 0
  | _ => 0

abbrev bufTy : (tb : Table) → Fin (tcTables nBuf tb) → BufTy
  | .hbm, ⟨0, _⟩ => ⟨S8320x1024, .f32⟩
  | .hbm, ⟨1, _⟩ => ⟨S8320x2048, .f32⟩
  | .hbm, ⟨2, _⟩ => ⟨S8320x512, .f32⟩
  | .hbm, ⟨3, _⟩ => ⟨S4x128x256, .f32⟩
  | .hbm, ⟨4, _⟩ => ⟨S1x1024, .f32⟩
  | .hbm, ⟨5, _⟩ => ⟨S8320x1024, .bf16⟩
  | .hbm, ⟨6, _⟩ => ⟨S1024x8320, .bf16⟩
  | .local _ .vmem, ⟨0, _⟩ => ⟨S640x1024, .f32⟩
  | .local _ .vmem, ⟨1, _⟩ => ⟨S640x1024, .f32⟩
  | .local _ .vmem, ⟨2, _⟩ => ⟨S640x2048, .f32⟩
  | .local _ .vmem, ⟨3, _⟩ => ⟨S640x2048, .f32⟩
  | .local _ .vmem, ⟨4, _⟩ => ⟨S640x512, .f32⟩
  | .local _ .vmem, ⟨5, _⟩ => ⟨S640x512, .f32⟩
  | .local _ .vmem, ⟨6, _⟩ => ⟨S4x128x256, .f32⟩
  | .local _ .vmem, ⟨7, _⟩ => ⟨S1x1024, .f32⟩
  | .local _ .vmem, ⟨8, _⟩ => ⟨S640x1024, .bf16⟩
  | .local _ .vmem, ⟨9, _⟩ => ⟨S640x1024, .bf16⟩
  | .local _ .vmem, ⟨10, _⟩ => ⟨S1024x640, .bf16⟩
  | .local _ .vmem, ⟨11, _⟩ => ⟨S1024x640, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x640 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixFRefIdeal.lean ====
abbrev S8320x1024 : Shape := ⟨2, ![8320, 1024]⟩
abbrev S8320x2048 : Shape := ⟨2, ![8320, 2048]⟩
abbrev S8320x512 : Shape := ⟨2, ![8320, 512]⟩
abbrev S4x128x256 : Shape := ⟨3, ![4, 128, 256]⟩
abbrev S1x1024 : Shape := ⟨2, ![1, 1024]⟩
abbrev S8320x4x128 : Shape := ⟨3, ![8320, 4, 128]⟩
abbrev S4x256x8320 : Shape := ⟨3, ![4, 256, 8320]⟩
abbrev S8320x4x256 : Shape := ⟨3, ![8320, 4, 256]⟩
abbrev S_ : Shape := ⟨0, ![]⟩
abbrev S1024x8320 : Shape := ⟨2, ![1024, 8320]⟩

abbrev nBuf : Space → Nat
  | .hbm => 27
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x2048, .f32⟩
  | .hbm, ⟨2, _⟩ => ⟨S8320x512, .f32⟩
  | .hbm, ⟨3, _⟩ => ⟨S4x128x256, .f32⟩
  | .hbm, ⟨4, _⟩ => ⟨S1x1024, .f32⟩
  | .hbm, ⟨5, _⟩ => ⟨S8320x4x128, .f32⟩
  | .hbm, ⟨6, _⟩ => ⟨S4x256x8320, .f32⟩
  | .hbm, ⟨7, _⟩ => ⟨S8320x4x256, .f32⟩
  | .hbm, ⟨8, _⟩ => ⟨S8320x1024, .f32⟩
  | .hbm, ⟨9, _⟩ => ⟨S8320x1024, .f32⟩
  | .hbm, ⟨10, _⟩ => ⟨S8320x1024, .f32⟩
  | .hbm, ⟨11, _⟩ => ⟨S8320x2048, .f32⟩
  | .hbm, ⟨12, _⟩ => ⟨S8320x2048, .f32⟩
  | .hbm, ⟨13, _⟩ => ⟨S_, .f32⟩
  | .hbm, ⟨14, _⟩ => ⟨S8320x2048, .f32⟩
  | .hbm, ⟨15, _⟩ => ⟨S8320x2048, .f32⟩
  | .hbm, ⟨16, _⟩ => ⟨S_, .f32⟩
  | .hbm, ⟨17, _⟩ => ⟨S8320x2048, .f32⟩
  | .hbm, ⟨18, _⟩ => ⟨S8320x2048, .f32⟩
  | .hbm, ⟨19, _⟩ => ⟨S8320x1024, .f32⟩
  | .hbm, ⟨20, _⟩ => ⟨S8320x1024, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S8320x1024, .bf16⟩
  | .hbm, ⟨25, _⟩ => ⟨S1024x8320, .f32⟩
  | .hbm, ⟨26, _⟩ => ⟨S1024x8320, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== FfnF.lean ====
abbrev S8320x2816 : Shape := ⟨2, ![8320, 2816]⟩
abbrev S3x2816 : Shape := ⟨2, ![3, 2816]⟩
abbrev S2816x8320 : Shape := ⟨2, ![2816, 8320]⟩
abbrev S640x1408 : Shape := ⟨2, ![640, 1408]⟩
abbrev S8x1408 : Shape := ⟨2, ![8, 1408]⟩
abbrev S3x1408 : Shape := ⟨2, ![3, 1408]⟩
abbrev S1408x640 : Shape := ⟨2, ![1408, 640]⟩
abbrev S648x1408 : Shape := ⟨2, ![648, 1408]⟩
abbrev S1x1408 : Shape := ⟨2, ![1, 1408]⟩

abbrev nBuf : Space → Nat
  | .hbm => 8
  | .vmem => 22
  | .smem => 0
  | _ => 0

abbrev bufTy : (tb : Table) → Fin (tcTables nBuf tb) → BufTy
  | .hbm, ⟨0, _⟩ => ⟨S8320x2816, .f32⟩
  | .hbm, ⟨1, _⟩ => ⟨S8320x2816, .f32⟩
  | .hbm, ⟨2, _⟩ => ⟨S3x2816, .f32⟩
  | .hbm, ⟨3, _⟩ => ⟨S3x2816, .f32⟩
  | .hbm, ⟨4, _⟩ => ⟨S8320x2816, .f32⟩
  | .hbm, ⟨5, _⟩ => ⟨S8320x2816, .f32⟩
  | .hbm, ⟨6, _⟩ => ⟨S8320x2816, .bf16⟩
  | .hbm, ⟨7, _⟩ => ⟨S2816x8320, .bf16⟩
  | .local _ .vmem, ⟨0, _⟩ => ⟨S640x1408, .f32⟩
  | .local _ .vmem, ⟨1, _⟩ => ⟨S640x1408, .f32⟩
  | .local _ .vmem, ⟨2, _⟩ => ⟨S8x1408, .f32⟩
  | .local _ .vmem, ⟨3, _⟩ => ⟨S8x1408, .f32⟩
  | .local _ .vmem, ⟨4, _⟩ => ⟨S640x1408, .f32⟩
  | .local _ .vmem, ⟨5, _⟩ => ⟨S640x1408, .f32⟩
  | .local _ .vmem, ⟨6, _⟩ => ⟨S8x1408, .f32⟩
  | .local _ .vmem, ⟨7, _⟩ => ⟨S8x1408, .f32⟩
  | .local _ .vmem, ⟨8, _⟩ => ⟨S3x1408, .f32⟩
  | .local _ .vmem, ⟨9, _⟩ => ⟨S3x1408, .f32⟩
  | .local _ .vmem, ⟨10, _⟩ => ⟨S3x1408, .f32⟩
  | .local _ .vmem, ⟨11, _⟩ => ⟨S3x1408, .f32⟩
  | .local _ .vmem, ⟨12, _⟩ => ⟨S640x1408, .f32⟩
  | .local _ .vmem, ⟨13, _⟩ => ⟨S640x1408, .f32⟩
  | .local _ .vmem, ⟨14, _⟩ => ⟨S640x1408, .f32⟩
  | .local _ .vmem, ⟨15, _⟩ => ⟨S640x1408, .f32⟩
  | .local _ .vmem, ⟨16, _⟩ => ⟨S640x1408, .bf16⟩
  | .local _ .vmem, ⟨17, _⟩ => ⟨S640x1408, .bf16⟩
  | .local _ .vmem, ⟨18, _⟩ => ⟨S1408x640, .bf16⟩
  | .local _ .vmem, ⟨19, _⟩ => ⟨S1408x640, .bf16⟩
  | .local _ .vmem, ⟨20, _⟩ => ⟨S648x1408, .f32⟩
  | .local _ .vmem, ⟨21, _⟩ => ⟨S648x1408, .f32⟩
  | _, _ => ⟨S8320x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![13, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.muli arg0 c80_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.muli arg0 c80_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S640x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S640x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S640x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S640x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S640x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1408x640 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnFRefIdeal.lean ====
abbrev S8320x2816 : Shape := ⟨2, ![8320, 2816]⟩
abbrev S3x2816 : Shape := ⟨2, ![3, 2816]⟩
abbrev S_ : Shape := ⟨0, ![]⟩
abbrev S2x2816 : Shape := ⟨2, ![2, 2816]⟩
abbrev S8322x2816 : Shape := ⟨2, ![8322, 2816]⟩
abbrev S1x2816 : Shape := ⟨2, ![1, 2816]⟩
abbrev S2816 : Shape := ⟨1, ![2816]⟩
abbrev S2816x8320 : Shape := ⟨2, ![2816, 8320]⟩

abbrev nBuf : Space → Nat
  | .hbm => 63
  | .vmem => 0
  | .smem => 0
  | _ => 0

abbrev bufTy : (tb : Table) → Fin (tcTables nBuf tb) → BufTy
  | .hbm, ⟨0, _⟩ => ⟨S8320x2816, .f32⟩
  | .hbm, ⟨1, _⟩ => ⟨S8320x2816, .f32⟩
  | .hbm, ⟨2, _⟩ => ⟨S3x2816, .f32⟩
  | .hbm, ⟨3, _⟩ => ⟨S3x2816, .f32⟩
  | .hbm, ⟨4, _⟩ => ⟨S_, .f32⟩
  | .hbm, ⟨5, _⟩ => ⟨S2x2816, .f32⟩
  | .hbm, ⟨6, _⟩ => ⟨S8322x2816, .f32⟩
  | .hbm, ⟨7, _⟩ => ⟨S8320x2816, .f32⟩
  | .hbm, ⟨8, _⟩ => ⟨S1x2816, .f32⟩
  | .hbm, ⟨9, _⟩ => ⟨S2816, .f32⟩
  | .hbm, ⟨10, _⟩ => ⟨S1x2816, .f32⟩
  | .hbm, ⟨11, _⟩ => ⟨S8320x2816, .f32⟩
  | .hbm, ⟨12, _⟩ => ⟨S8320x2816, .f32⟩
  | .hbm, ⟨13, _⟩ => ⟨S8320x2816, .f32⟩
  | .hbm, ⟨14, _⟩ => ⟨S1x2816, .f32⟩
  | .hbm, ⟨15, _⟩ => ⟨S2816, .f32⟩
  | .hbm, ⟨16, _⟩ => ⟨S1x2816, .f32⟩
  | .hbm, ⟨17, _⟩ => ⟨S8320x2816, .f32⟩
  | .hbm, ⟨18, _⟩ => ⟨S8320x2816, .f32⟩
  | .hbm, ⟨19, _⟩ => ⟨S8320x2816, .f32⟩
  | .hbm, ⟨20, _⟩ => ⟨S8320x2816, .f32⟩
  | .hbm, ⟨21, _⟩ => ⟨S1x2816, .f32⟩
  | .hbm, ⟨22, _⟩ => ⟨S2816, .f32⟩
  | .hbm, ⟨23, _⟩ => ⟨S1x2816, .f32⟩
  | .hbm, ⟨24, _⟩ => ⟨S8320x2816, .f32⟩
  | .hbm, ⟨25, _⟩ => ⟨S8320x2816, .f32⟩
  | .hbm, ⟨26, _⟩ => ⟨S8320x2816, .f32⟩
  | .hbm, ⟨27, _⟩ => ⟨S_, .f32⟩
  | .hbm, ⟨28, _⟩ => ⟨S2x2816, .f32⟩
  | .hbm, ⟨29, _⟩ => ⟨S8322x2816, .f32⟩
  | .hbm, ⟨30, _⟩ => ⟨S8320x2816, .f32⟩
  | .hbm, ⟨31, _⟩ => ⟨S1x2816, .f32⟩
  | .hbm, ⟨32, _⟩ => ⟨S2816, .f32⟩
  | .hbm, ⟨33, _⟩ => ⟨S1x2816, .f32⟩
  | .hbm, ⟨34, _⟩ => ⟨S8320x2816, .f32⟩
  | .hbm, ⟨35, _⟩ => ⟨S8320x2816, .f32⟩
  | .hbm, ⟨36, _⟩ => ⟨S8320x2816, .f32⟩
  | .hbm, ⟨37, _⟩ => ⟨S1x2816, .f32⟩
  | .hbm, ⟨38, _⟩ => ⟨S2816, .f32⟩
  | .hbm, ⟨39, _⟩ => ⟨S1x2816, .f32⟩
  | .hbm, ⟨40, _⟩ => ⟨S8320x2816, .f32⟩
  | .hbm, ⟨41, _⟩ => ⟨S8320x2816, .f32⟩
  | .hbm, ⟨42, _⟩ => ⟨S8320x2816, .f32⟩
  | .hbm, ⟨43, _⟩ => ⟨S8320x2816, .f32⟩
  | .hbm, ⟨44, _⟩ => ⟨S1x2816, .f32⟩
  | .hbm, ⟨45, _⟩ => ⟨S2816, .f32⟩
  | .hbm, ⟨46, _⟩ => ⟨S1x2816, .f32⟩
  | .hbm, ⟨47, _⟩ => ⟨S8320x2816, .f32⟩
  | .hbm, ⟨48, _⟩ => ⟨S8320x2816, .f32⟩
  | .hbm, ⟨49, _⟩ => ⟨S8320x2816, .f32⟩
  | .hbm, ⟨50, _⟩ => ⟨S8320x2816, .f32⟩
  | .hbm, ⟨51, _⟩ => ⟨S8320x2816, .f32⟩
  | .hbm, ⟨52, _⟩ => ⟨S_, .f32⟩
  | .hbm, ⟨53, _⟩ => ⟨S8320x2816, .f32⟩
  | .hbm, ⟨54, _⟩ => ⟨S8320x2816, .f32⟩
  | .hbm, ⟨55, _⟩ => ⟨S_, .f32⟩
  | .hbm, ⟨56, _⟩ => ⟨S8320x2816, .f32⟩
  | .hbm, ⟨57, _⟩ => ⟨S8320x2816, .f32⟩
  | .hbm, ⟨58, _⟩ => ⟨S8320x2816, .f32⟩
  | .hbm, ⟨59, _⟩ => ⟨S8320x2816, .f32⟩
  | .hbm, ⟨60, _⟩ => ⟨S8320x2816, .bf16⟩
  | .hbm, ⟨61, _⟩ => ⟨S2816x8320, .f32⟩
  | .hbm, ⟨62, _⟩ => ⟨S2816x8320, .bf16⟩
  | _, _ => ⟨S8320x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩

abbrev nD : Nat := 1
abbrev τ : Topo := Topo.v7x

variable {F : FTy → Type} [FloatOps F]
-- ==== DownL.lean ====
abbrev S8320x2816 : Shape := ⟨2, ![8320, 2816]⟩
abbrev S2816x1024 : Shape := ⟨2, ![2816, 1024]⟩
abbrev S8320x1024 : Shape := ⟨2, ![8320, 1024]⟩
abbrev S640x2816 : Shape := ⟨2, ![640, 2816]⟩
abbrev S640x1024 : Shape := ⟨2, ![640, 1024]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S8320x2816, .bf16⟩
  | .hbm, ⟨1, _⟩ => ⟨S2816x1024, .bf16⟩
  | .hbm, ⟨2, _⟩ => ⟨S8320x1024, .f32⟩
  | .hbm, ⟨3, _⟩ => ⟨S8320x1024, .f32⟩
  | .local _ .vmem, ⟨0, _⟩ => ⟨S640x2816, .bf16⟩
  | .local _ .vmem, ⟨1, _⟩ => ⟨S640x2816, .bf16⟩
  | .local _ .vmem, ⟨2, _⟩ => ⟨S2816x1024, .bf16⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S8x128, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownLRefIdeal.lean ====
abbrev S8320x2816 : Shape := ⟨2, ![8320, 2816]⟩
abbrev S2816x1024 : Shape := ⟨2, ![2816, 1024]⟩
abbrev S8320x1024 : Shape := ⟨2, ![8320, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S2816x1024, .bf16⟩
  | .hbm, ⟨2, _⟩ => ⟨S8320x1024, .f32⟩
  | .hbm, ⟨3, _⟩ => ⟨S8320x2816, .f32⟩
  | .hbm, ⟨4, _⟩ => ⟨S2816x1024, .f32⟩
  | .hbm, ⟨5, _⟩ => ⟨S8320x1024, .f32⟩
  | .hbm, ⟨6, _⟩ => ⟨S8320x1024, .f32⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Loss.lean ====
abbrev S8320x1024 : Shape := ⟨2, ![8320, 1024]⟩
abbrev S1x1024 : Shape := ⟨2, ![1, 1024]⟩
abbrev S1x128 : Shape := ⟨2, ![1, 128]⟩
abbrev S640x1024 : Shape := ⟨2, ![640, 1024]⟩
abbrev S640x1 : Shape := ⟨2, ![640, 1]⟩
abbrev S640 : Shape := ⟨1, ![640]⟩
abbrev S1 : Shape := ⟨1, ![1]⟩
abbrev S1x1 : Shape := ⟨2, ![1, 1]⟩
abbrev S1x1x1 : Shape := ⟨3, ![1, 1, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .f32⟩
  | .hbm, ⟨3, _⟩ => ⟨S1x128, .f32⟩
  | .hbm, ⟨4, _⟩ => ⟨S8320x1024, .f32⟩
  | .hbm, ⟨5, _⟩ => ⟨S8320x1024, .bf16⟩
  | .hbm, ⟨6, _⟩ => ⟨S1x1024, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S640x1024, .f32⟩
  | .local _ .vmem, ⟨4, _⟩ => ⟨S640x1024, .f32⟩
  | .local _ .vmem, ⟨5, _⟩ => ⟨S1x128, .f32⟩
  | .local _ .vmem, ⟨6, _⟩ => ⟨S640x1024, .f32⟩
  | .local _ .vmem, ⟨7, _⟩ => ⟨S640x1024, .f32⟩
  | .local _ .vmem, ⟨8, _⟩ => ⟨S640x1024, .bf16⟩
  | .local _ .vmem, ⟨9, _⟩ => ⟨S640x1024, .bf16⟩
  | .local _ .vmem, ⟨10, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S8320x1024 : Shape := ⟨2, ![8320, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩
abbrev S8192x1024 : Shape := ⟨2, ![8192, 1024]⟩
abbrev S8192 : Shape := ⟨1, ![8192]⟩
abbrev S1024 : Shape := ⟨1, ![1024]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .f32⟩
  | .hbm, ⟨3, _⟩ => ⟨S8320x1024, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S_, .f32⟩
  | .hbm, ⟨16, _⟩ => ⟨S8320x1, .f32⟩
  | .hbm, ⟨17, _⟩ => ⟨S8320x1, .f32⟩
  | .hbm, ⟨18, _⟩ => ⟨S8320x1024, .f32⟩
  | .hbm, ⟨19, _⟩ => ⟨S8320x1024, .f32⟩
  | .hbm, ⟨20, _⟩ => ⟨S8320x1024, .f32⟩
  | .hbm, ⟨21, _⟩ => ⟨S8320x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8320x1024, .f32⟩
  | .hbm, ⟨49, _⟩ => ⟨S8320x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8320x1024, .f32⟩
  | .hbm, ⟨54, _⟩ => ⟨S8320x1024, .f32⟩
  | .hbm, ⟨55, _⟩ => ⟨S8320x1024, .f32⟩
  | .hbm, ⟨56, _⟩ => ⟨S_, .f32⟩
  | .hbm, ⟨57, _⟩ => ⟨S8320, .f32⟩
  | .hbm, ⟨58, _⟩ => ⟨S8320x1, .f32⟩
  | .hbm, ⟨59, _⟩ => ⟨S8320x1024, .f32⟩
  | .hbm, ⟨60, _⟩ => ⟨S8320x1024, .f32⟩
  | .hbm, ⟨61, _⟩ => ⟨S8320x1, .f32⟩
  | .hbm, ⟨62, _⟩ => ⟨S_, .f32⟩
  | .hbm, ⟨63, _⟩ => ⟨S8320x1, .f32⟩
  | .hbm, ⟨64, _⟩ => ⟨S8320x1, .f32⟩
  | .hbm, ⟨65, _⟩ => ⟨S_, .f32⟩
  | .hbm, ⟨66, _⟩ => ⟨S8320, .f32⟩
  | .hbm, ⟨67, _⟩ => ⟨S8320x1024, .f32⟩
  | .hbm, ⟨68, _⟩ => ⟨S8320x1024, .f32⟩
  | .hbm, ⟨69, _⟩ => ⟨S8320x1024, .f32⟩
  | .hbm, ⟨70, _⟩ => ⟨S8320x1024, .f32⟩
  | .hbm, ⟨71, _⟩ => ⟨S8320x1024, .f32⟩
  | .hbm, ⟨72, _⟩ => ⟨S1x128, .f32⟩
  | .hbm, ⟨73, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== AdIn.lean ====
abbrev S2x1024x1668 : Shape := ⟨3, ![2, 1024, 1668]⟩
abbrev S2048x1668 : Shape := ⟨2, ![2048, 1668]⟩
abbrev S128x1668 : Shape := ⟨2, ![128, 1668]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1668, .f32⟩
  | .hbm, ⟨1, _⟩ => ⟨S2x1024x1668, .f32⟩
  | .hbm, ⟨2, _⟩ => ⟨S2x1024x1668, .f32⟩
  | .hbm, ⟨3, _⟩ => ⟨S2x1024x1668, .f32⟩
  | .hbm, ⟨4, _⟩ => ⟨S2048x1668, .f32⟩
  | .hbm, ⟨5, _⟩ => ⟨S2048x1668, .f32⟩
  | .hbm, ⟨6, _⟩ => ⟨S2048x1668, .f32⟩
  | .hbm, ⟨7, _⟩ => ⟨S2048x1668, .f32⟩
  | .hbm, ⟨8, _⟩ => ⟨S2048x1668, .f32⟩
  | .hbm, ⟨9, _⟩ => ⟨S2048x1668, .f32⟩
  | .hbm, ⟨10, _⟩ => ⟨S2048x1668, .f32⟩
  | .local _ .vmem, ⟨0, _⟩ => ⟨S128x1668, .f32⟩
  | .local _ .vmem, ⟨1, _⟩ => ⟨S128x1668, .f32⟩
  | .local _ .vmem, ⟨2, _⟩ => ⟨S128x1668, .f32⟩
  | .local _ .vmem, ⟨3, _⟩ => ⟨S128x1668, .f32⟩
  | .local _ .vmem, ⟨4, _⟩ => ⟨S128x1668, .f32⟩
  | .local _ .vmem, ⟨5, _⟩ => ⟨S128x1668, .f32⟩
  | .local _ .vmem, ⟨6, _⟩ => ⟨S128x1668, .f32⟩
  | .local _ .vmem, ⟨7, _⟩ => ⟨S128x1668, .f32⟩
  | .local _ .vmem, ⟨8, _⟩ => ⟨S128x1668, .f32⟩
  | .local _ .vmem, ⟨9, _⟩ => ⟨S128x1668, .f32⟩
  | .local _ .vmem, ⟨10, _⟩ => ⟨S128x1668, .f32⟩
  | .local _ .vmem, ⟨11, _⟩ => ⟨S128x1668, .f32⟩
  | .local _ .vmem, ⟨12, _⟩ => ⟨S128x1668, .f32⟩
  | .local _ .vmem, ⟨13, _⟩ => ⟨S128x1668, .f32⟩
  | _, _ => ⟨S2x1024x1668, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1668 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1668 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1668 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1668 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1668 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1668 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1668 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdInRefIdeal.lean ====
abbrev S2x1024x1668 : Shape := ⟨3, ![2, 1024, 1668]⟩
abbrev S_ : Shape := ⟨0, ![]⟩
abbrev S2048x1668 : Shape := ⟨2, ![2048, 1668]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1668, .f32⟩
  | .hbm, ⟨1, _⟩ => ⟨S2x1024x1668, .f32⟩
  | .hbm, ⟨2, _⟩ => ⟨S2x1024x1668, .f32⟩
  | .hbm, ⟨3, _⟩ => ⟨S2x1024x1668, .f32⟩
  | .hbm, ⟨4, _⟩ => ⟨S_, .f32⟩
  | .hbm, ⟨5, _⟩ => ⟨S2x1024x1668, .f32⟩
  | .hbm, ⟨6, _⟩ => ⟨S2x1024x1668, .f32⟩
  | .hbm, ⟨7, _⟩ => ⟨S_, .f32⟩
  | .hbm, ⟨8, _⟩ => ⟨S2x1024x1668, .f32⟩
  | .hbm, ⟨9, _⟩ => ⟨S2x1024x1668, .f32⟩
  | .hbm, ⟨10, _⟩ => ⟨S2x1024x1668, .f32⟩
  | .hbm, ⟨11, _⟩ => ⟨S_, .f32⟩
  | .hbm, ⟨12, _⟩ => ⟨S2x1024x1668, .f32⟩
  | .hbm, ⟨13, _⟩ => ⟨S2x1024x1668, .f32⟩
  | .hbm, ⟨14, _⟩ => ⟨S2x1024x1668, .f32⟩
  | .hbm, ⟨15, _⟩ => ⟨S_, .f32⟩
  | .hbm, ⟨16, _⟩ => ⟨S2x1024x1668, .f32⟩
  | .hbm, ⟨17, _⟩ => ⟨S2x1024x1668, .f32⟩
  | .hbm, ⟨18, _⟩ => ⟨S2x1024x1668, .f32⟩
  | .hbm, ⟨19, _⟩ => ⟨S_, .f32⟩
  | .hbm, ⟨20, _⟩ => ⟨S2x1024x1668, .f32⟩
  | .hbm, ⟨21, _⟩ => ⟨S2x1024x1668, .f32⟩
  | .hbm, ⟨22, _⟩ => ⟨S_, .f32⟩
  | .hbm, ⟨23, _⟩ => ⟨S2x1024x1668, .f32⟩
  | .hbm, ⟨24, _⟩ => ⟨S2x1024x1668, .f32⟩
  | .hbm, ⟨25, _⟩ => ⟨S2x1024x1668, .f32⟩
  | .hbm, ⟨26, _⟩ => ⟨S_, .f32⟩
  | .hbm, ⟨27, _⟩ => ⟨S2x1024x1668, .f32⟩
  | .hbm, ⟨28, _⟩ => ⟨S2x1024x1668, .f32⟩
  | .hbm, ⟨29, _⟩ => ⟨S2x1024x1668, .f32⟩
  | .hbm, ⟨30, _⟩ => ⟨S_, .f32⟩
  | .hbm, ⟨31, _⟩ => ⟨S2x1024x1668, .f32⟩
  | .hbm, ⟨32, _⟩ => ⟨S2x1024x1668, .f32⟩
  | .hbm, ⟨33, _⟩ => ⟨S2x1024x1668, .f32⟩
  | .hbm, ⟨34, _⟩ => ⟨S_, .f32⟩
  | .hbm, ⟨35, _⟩ => ⟨S2x1024x1668, .f32⟩
  | .hbm, ⟨36, _⟩ => ⟨S2x1024x1668, .f32⟩
  | .hbm, ⟨37, _⟩ => ⟨S2048x1668, .f32⟩
  | .hbm, ⟨38, _⟩ => ⟨S2048x1668, .f32⟩
  | .hbm, ⟨39, _⟩ => ⟨S2048x1668, .f32⟩
  | _, _ => ⟨S2x1024x1668, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdUp.lean ====
abbrev S2x1024x1408 : Shape := ⟨3, ![2, 1024, 1408]⟩
abbrev S2048x1408 : Shape := ⟨2, ![2048, 1408]⟩
abbrev S128x1408 : Shape := ⟨2, ![128, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdUpRefIdeal.lean ====
abbrev S2x1024x1408 : Shape := ⟨3, ![2, 1024, 1408]⟩
abbrev S_ : Shape := ⟨0, ![]⟩
abbrev S2048x1408 : Shape := ⟨2, ![2048, 1408]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2048x1408, .f32⟩
  | .hbm, ⟨38, _⟩ => ⟨S2048x1408, .f32⟩
  | .hbm, ⟨39, _⟩ => ⟨S2048x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdOut.lean ====
abbrev S2x256x1024 : Shape := ⟨3, ![2, 256, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdOutRefIdeal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdDown.lean ====
abbrev S2x704x1024 : Shape := ⟨3, ![2, 704, 1024]⟩
abbrev S1408x1024 : Shape := ⟨2, ![1408, 1024]⟩
abbrev S176x1024 : Shape := ⟨2, ![176, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdDownRefIdeal.lean ====
abbrev S2x704x1024 : Shape := ⟨3, ![2, 704, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdPool.lean ====
abbrev S2x4x128x64 : Shape := ⟨4, ![2, 4, 128, 64]⟩
abbrev S1024x64 : Shape := ⟨2, ![1024, 64]⟩

abbrev nBuf : Space → Nat
  | .hbm => 11
  | .vmem => 7
  | .smem => 0
  | _ => 0

abbrev bufTy : (tb : Table) → Fin (tcTables nBuf tb) → BufTy
  | .hbm, ⟨0, _⟩ => ⟨S2x4x128x64, .f32⟩
  | .hbm, ⟨1, _⟩ => ⟨S2x4x128x64, .f32⟩
  | .hbm, ⟨2, _⟩ => ⟨S2x4x128x64, .f32⟩
  | .hbm, ⟨3, _⟩ => ⟨S2x4x128x64, .f32⟩
  | .hbm, ⟨4, _⟩ => ⟨S1024x64, .f32⟩
  | .hbm, ⟨5, _⟩ => ⟨S1024x64, .f32⟩
  | .hbm, ⟨6, _⟩ => ⟨S1024x64, .f32⟩
  | .hbm, ⟨7, _⟩ => ⟨S1024x64, .f32⟩
  | .hbm, ⟨8, _⟩ => ⟨S1024x64, .f32⟩
  | .hbm, ⟨9, _⟩ => ⟨S1024x64, .f32⟩
  | .hbm, ⟨10, _⟩ => ⟨S1024x64, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1024x64, .f32⟩
  | .local _ .vmem, ⟨6, _⟩ => ⟨S1024x64, .f32⟩
  | _, _ => ⟨S2x4x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1024x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdPoolRefIdeal.lean ====
abbrev S2x4x128x64 : Shape := ⟨4, ![2, 4, 128, 64]⟩
abbrev S_ : Shape := ⟨0, ![]⟩
abbrev S1024x64 : Shape := ⟨2, ![1024, 64]⟩

abbrev nBuf : Space → Nat
  | .hbm => 40
  | .vmem => 0
  | .smem => 0
  | _ => 0

abbrev bufTy : (tb : Table) → Fin (tcTables nBuf tb) → BufTy
  | .hbm, ⟨0, _⟩ => ⟨S2x4x128x64, .f32⟩
  | .hbm, ⟨1, _⟩ => ⟨S2x4x128x64, .f32⟩
  | .hbm, ⟨2, _⟩ => ⟨S2x4x128x64, .f32⟩
  | .hbm, ⟨3, _⟩ => ⟨S2x4x128x64, .f32⟩
  | .hbm, ⟨4, _⟩ => ⟨S_, .f32⟩
  | .hbm, ⟨5, _⟩ => ⟨S2x4x128x64, .f32⟩
  | .hbm, ⟨6, _⟩ => ⟨S2x4x128x64, .f32⟩
  | .hbm, ⟨7, _⟩ => ⟨S_, .f32⟩
  | .hbm, ⟨8, _⟩ => ⟨S2x4x128x64, .f32⟩
  | .hbm, ⟨9, _⟩ => ⟨S2x4x128x64, .f32⟩
  | .hbm, ⟨10, _⟩ => ⟨S2x4x128x64, .f32⟩
  | .hbm, ⟨11, _⟩ => ⟨S_, .f32⟩
  | .hbm, ⟨12, _⟩ => ⟨S2x4x128x64, .f32⟩
  | .hbm, ⟨13, _⟩ => ⟨S2x4x128x64, .f32⟩
  | .hbm, ⟨14, _⟩ => ⟨S2x4x128x64, .f32⟩
  | .hbm, ⟨15, _⟩ => ⟨S_, .f32⟩
  | .hbm, ⟨16, _⟩ => ⟨S2x4x128x64, .f32⟩
  | .hbm, ⟨17, _⟩ => ⟨S2x4x128x64, .f32⟩
  | .hbm, ⟨18, _⟩ => ⟨S2x4x128x64, .f32⟩
  | .hbm, ⟨19, _⟩ => ⟨S_, .f32⟩
  | .hbm, ⟨20, _⟩ => ⟨S2x4x128x64, .f32⟩
  | .hbm, ⟨21, _⟩ => ⟨S2x4x128x64, .f32⟩
  | .hbm, ⟨22, _⟩ => ⟨S_, .f32⟩
  | .hbm, ⟨23, _⟩ => ⟨S2x4x128x64, .f32⟩
  | .hbm, ⟨24, _⟩ => ⟨S2x4x128x64, .f32⟩
  | .hbm, ⟨25, _⟩ => ⟨S2x4x128x64, .f32⟩
  | .hbm, ⟨26, _⟩ => ⟨S_, .f32⟩
  | .hbm, ⟨27, _⟩ => ⟨S2x4x128x64, .f32⟩
  | .hbm, ⟨28, _⟩ => ⟨S2x4x128x64, .f32⟩
  | .hbm, ⟨29, _⟩ => ⟨S2x4x128x64, .f32⟩
  | .hbm, ⟨30, _⟩ => ⟨S_, .f32⟩
  | .hbm, ⟨31, _⟩ => ⟨S2x4x128x64, .f32⟩
  | .hbm, ⟨32, _⟩ => ⟨S2x4x128x64, .f32⟩
  | .hbm, ⟨33, _⟩ => ⟨S2x4x128x64, .f32⟩
  | .hbm, ⟨34, _⟩ => ⟨S_, .f32⟩
  | .hbm, ⟨35, _⟩ => ⟨S2x4x128x64, .f32⟩
  | .hbm, ⟨36, _⟩ => ⟨S2x4x128x64, .f32⟩
  | .hbm, ⟨37, _⟩ => ⟨S1024x64, .f32⟩
  | .hbm, ⟨38, _⟩ => ⟨S1024x64, .f32⟩
  | .hbm, ⟨39, _⟩ => ⟨S1024x64, .f32⟩
  | _, _ => ⟨S2x4x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdConvQ.lean ====
abbrev S2x4x768 : Shape := ⟨3, ![2, 4, 768]⟩
abbrev S8x768 : Shape := ⟨2, ![8, 768]⟩

abbrev nBuf : Space → Nat
  | .hbm => 11
  | .vmem => 7
  | .smem => 0
  | _ => 0

abbrev bufTy : (tb : Table) → Fin (tcTables nBuf tb) → BufTy
  | .hbm, ⟨0, _⟩ => ⟨S2x4x768, .f32⟩
  | .hbm, ⟨1, _⟩ => ⟨S2x4x768, .f32⟩
  | .hbm, ⟨2, _⟩ => ⟨S2x4x768, .f32⟩
  | .hbm, ⟨3, _⟩ => ⟨S2x4x768, .f32⟩
  | .hbm, ⟨4, _⟩ => ⟨S8x768, .f32⟩
  | .hbm, ⟨5, _⟩ => ⟨S8x768, .f32⟩
  | .hbm, ⟨6, _⟩ => ⟨S8x768, .f32⟩
  | .hbm, ⟨7, _⟩ => ⟨S8x768, .f32⟩
  | .hbm, ⟨8, _⟩ => ⟨S8x768, .f32⟩
  | .hbm, ⟨9, _⟩ => ⟨S8x768, .f32⟩
  | .hbm, ⟨10, _⟩ => ⟨S8x768, .f32⟩
  | .local _ .vmem, ⟨0, _⟩ => ⟨S8x768, .f32⟩
  | .local _ .vmem, ⟨1, _⟩ => ⟨S8x768, .f32⟩
  | .local _ .vmem, ⟨2, _⟩ => ⟨S8x768, .f32⟩
  | .local _ .vmem, ⟨3, _⟩ => ⟨S8x768, .f32⟩
  | .local _ .vmem, ⟨4, _⟩ => ⟨S8x768, .f32⟩
  | .local _ .vmem, ⟨5, _⟩ => ⟨S8x768, .f32⟩
  | .local _ .vmem, ⟨6, _⟩ => ⟨S8x768, .f32⟩
  | _, _ => ⟨S2x4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdConvQRefIdeal.lean ====
abbrev S2x4x768 : Shape := ⟨3, ![2, 4, 768]⟩
abbrev S_ : Shape := ⟨0, ![]⟩
abbrev S8x768 : Shape := ⟨2, ![8, 768]⟩

abbrev nBuf : Space → Nat
  | .hbm => 40
  | .vmem => 0
  | .smem => 0
  | _ => 0

abbrev bufTy : (tb : Table) → Fin (tcTables nBuf tb) → BufTy
  | .hbm, ⟨0, _⟩ => ⟨S2x4x768, .f32⟩
  | .hbm, ⟨1, _⟩ => ⟨S2x4x768, .f32⟩
  | .hbm, ⟨2, _⟩ => ⟨S2x4x768, .f32⟩
  | .hbm, ⟨3, _⟩ => ⟨S2x4x768, .f32⟩
  | .hbm, ⟨4, _⟩ => ⟨S_, .f32⟩
  | .hbm, ⟨5, _⟩ => ⟨S2x4x768, .f32⟩
  | .hbm, ⟨6, _⟩ => ⟨S2x4x768, .f32⟩
  | .hbm, ⟨7, _⟩ => ⟨S_, .f32⟩
  | .hbm, ⟨8, _⟩ => ⟨S2x4x768, .f32⟩
  | .hbm, ⟨9, _⟩ => ⟨S2x4x768, .f32⟩
  | .hbm, ⟨10, _⟩ => ⟨S2x4x768, .f32⟩
  | .hbm, ⟨11, _⟩ => ⟨S_, .f32⟩
  | .hbm, ⟨12, _⟩ => ⟨S2x4x768, .f32⟩
  | .hbm, ⟨13, _⟩ => ⟨S2x4x768, .f32⟩
  | .hbm, ⟨14, _⟩ => ⟨S2x4x768, .f32⟩
  | .hbm, ⟨15, _⟩ => ⟨S_, .f32⟩
  | .hbm, ⟨16, _⟩ => ⟨S2x4x768, .f32⟩
  | .hbm, ⟨17, _⟩ => ⟨S2x4x768, .f32⟩
  | .hbm, ⟨18, _⟩ => ⟨S2x4x768, .f32⟩
  | .hbm, ⟨19, _⟩ => ⟨S_, .f32⟩
  | .hbm, ⟨20, _⟩ => ⟨S2x4x768, .f32⟩
  | .hbm, ⟨21, _⟩ => ⟨S2x4x768, .f32⟩
  | .hbm, ⟨22, _⟩ => ⟨S_, .f32⟩
  | .hbm, ⟨23, _⟩ => ⟨S2x4x768, .f32⟩
  | .hbm, ⟨24, _⟩ => ⟨S2x4x768, .f32⟩
  | .hbm, ⟨25, _⟩ => ⟨S2x4x768, .f32⟩
  | .hbm, ⟨26, _⟩ => ⟨S_, .f32⟩
  | .hbm, ⟨27, _⟩ => ⟨S2x4x768, .f32⟩
  | .hbm, ⟨28, _⟩ => ⟨S2x4x768, .f32⟩
  | .hbm, ⟨29, _⟩ => ⟨S2x4x768, .f32⟩
  | .hbm, ⟨30, _⟩ => ⟨S_, .f32⟩
  | .hbm, ⟨31, _⟩ => ⟨S2x4x768, .f32⟩
  | .hbm, ⟨32, _⟩ => ⟨S2x4x768, .f32⟩
  | .hbm, ⟨33, _⟩ => ⟨S2x4x768, .f32⟩
  | .hbm, ⟨34, _⟩ => ⟨S_, .f32⟩
  | .hbm, ⟨35, _⟩ => ⟨S2x4x768, .f32⟩
  | .hbm, ⟨36, _⟩ => ⟨S2x4x768, .f32⟩
  | .hbm, ⟨37, _⟩ => ⟨S8x768, .f32⟩
  | .hbm, ⟨38, _⟩ => ⟨S8x768, .f32⟩
  | .hbm, ⟨39, _⟩ => ⟨S8x768, .f32⟩
  | _, _ => ⟨S2x4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdConvF.lean ====
abbrev S2x3x1408 : Shape := ⟨3, ![2, 3, 1408]⟩
abbrev S6x1408 : Shape := ⟨2, ![6, 1408]⟩

abbrev nBuf : Space → Nat
  | .hbm => 11
  | .vmem => 7
  | .smem => 0
  | _ => 0

abbrev bufTy : (tb : Table) → Fin (tcTables nBuf tb) → BufTy
  | .hbm, ⟨0, _⟩ => ⟨S2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S6x1408, .f32⟩
  | .hbm, ⟨5, _⟩ => ⟨S6x1408, .f32⟩
  | .hbm, ⟨6, _⟩ => ⟨S6x1408, .f32⟩
  | .hbm, ⟨7, _⟩ => ⟨S6x1408, .f32⟩
  | .hbm, ⟨8, _⟩ => ⟨S6x1408, .f32⟩
  | .hbm, ⟨9, _⟩ => ⟨S6x1408, .f32⟩
  | .hbm, ⟨10, _⟩ => ⟨S6x1408, .f32⟩
  | .local _ .vmem, ⟨0, _⟩ => ⟨S6x1408, .f32⟩
  | .local _ .vmem, ⟨1, _⟩ => ⟨S6x1408, .f32⟩
  | .local _ .vmem, ⟨2, _⟩ => ⟨S6x1408, .f32⟩
  | .local _ .vmem, ⟨3, _⟩ => ⟨S6x1408, .f32⟩
  | .local _ .vmem, ⟨4, _⟩ => ⟨S6x1408, .f32⟩
  | .local _ .vmem, ⟨5, _⟩ => ⟨S6x1408, .f32⟩
  | .local _ .vmem, ⟨6, _⟩ => ⟨S6x1408, .f32⟩
  | _, _ => ⟨S2x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdConvFRefIdeal.lean ====
abbrev S2x3x1408 : Shape := ⟨3, ![2, 3, 1408]⟩
abbrev S_ : Shape := ⟨0, ![]⟩
abbrev S6x1408 : Shape := ⟨2, ![6, 1408]⟩

abbrev nBuf : Space → Nat
  | .hbm => 40
  | .vmem => 0
  | .smem => 0
  | _ => 0

abbrev bufTy : (tb : Table) → Fin (tcTables nBuf tb) → BufTy
  | .hbm, ⟨0, _⟩ => ⟨S2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S_, .f32⟩
  | .hbm, ⟨5, _⟩ => ⟨S2x3x1408, .f32⟩
  | .hbm, ⟨6, _⟩ => ⟨S2x3x1408, .f32⟩
  | .hbm, ⟨7, _⟩ => ⟨S_, .f32⟩
  | .hbm, ⟨8, _⟩ => ⟨S2x3x1408, .f32⟩
  | .hbm, ⟨9, _⟩ => ⟨S2x3x1408, .f32⟩
  | .hbm, ⟨10, _⟩ => ⟨S2x3x1408, .f32⟩
  | .hbm, ⟨11, _⟩ => ⟨S_, .f32⟩
  | .hbm, ⟨12, _⟩ => ⟨S2x3x1408, .f32⟩
  | .hbm, ⟨13, _⟩ => ⟨S2x3x1408, .f32⟩
  | .hbm, ⟨14, _⟩ => ⟨S2x3x1408, .f32⟩
  | .hbm, ⟨15, _⟩ => ⟨S_, .f32⟩
  | .hbm, ⟨16, _⟩ => ⟨S2x3x1408, .f32⟩
  | .hbm, ⟨17, _⟩ => ⟨S2x3x1408, .f32⟩
  | .hbm, ⟨18, _⟩ => ⟨S2x3x1408, .f32⟩
  | .hbm, ⟨19, _⟩ => ⟨S_, .f32⟩
  | .hbm, ⟨20, _⟩ => ⟨S2x3x1408, .f32⟩
  | .hbm, ⟨21, _⟩ => ⟨S2x3x1408, .f32⟩
  | .hbm, ⟨22, _⟩ => ⟨S_, .f32⟩
  | .hbm, ⟨23, _⟩ => ⟨S2x3x1408, .f32⟩
  | .hbm, ⟨24, _⟩ => ⟨S2x3x1408, .f32⟩
  | .hbm, ⟨25, _⟩ => ⟨S2x3x1408, .f32⟩
  | .hbm, ⟨26, _⟩ => ⟨S_, .f32⟩
  | .hbm, ⟨27, _⟩ => ⟨S2x3x1408, .f32⟩
  | .hbm, ⟨28, _⟩ => ⟨S2x3x1408, .f32⟩
  | .hbm, ⟨29, _⟩ => ⟨S2x3x1408, .f32⟩
  | .hbm, ⟨30, _⟩ => ⟨S_, .f32⟩
  | .hbm, ⟨31, _⟩ => ⟨S2x3x1408, .f32⟩
  | .hbm, ⟨32, _⟩ => ⟨S2x3x1408, .f32⟩
  | .hbm, ⟨33, _⟩ => ⟨S2x3x1408, .f32⟩
  | .hbm, ⟨34, _⟩ => ⟨S_, .f32⟩
  | .hbm, ⟨35, _⟩ => ⟨S2x3x1408, .f32⟩
  | .hbm, ⟨36, _⟩ => ⟨S2x3x1408, .f32⟩
  | .hbm, ⟨37, _⟩ => ⟨S6x1408, .f32⟩
  | .hbm, ⟨38, _⟩ => ⟨S6x1408, .f32⟩
  | .hbm, ⟨39, _⟩ => ⟨S6x1408, .f32⟩
  | _, _ => ⟨S2x3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdMeta.lean ====
abbrev S16x256 : Shape := ⟨2, ![16, 256]⟩

abbrev nBuf : Space → Nat
  | .hbm => 7
  | .vmem => 7
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S16x256, .f32⟩
  | .hbm, ⟨5, _⟩ => ⟨S16x256, .f32⟩
  | .hbm, ⟨6, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdMetaRefIdeal.lean ====
abbrev S16x256 : Shape := ⟨2, ![16, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x256, .f32⟩
  | .hbm, ⟨1, _⟩ => ⟨S16x256, .f32⟩
  | .hbm, ⟨2, _⟩ => ⟨S16x256, .f32⟩
  | .hbm, ⟨3, _⟩ => ⟨S16x256, .f32⟩
  | .hbm, ⟨4, _⟩ => ⟨S_, .f32⟩
  | .hbm, ⟨5, _⟩ => ⟨S16x256, .f32⟩
  | .hbm, ⟨6, _⟩ => ⟨S16x256, .f32⟩
  | .hbm, ⟨7, _⟩ => ⟨S_, .f32⟩
  | .hbm, ⟨8, _⟩ => ⟨S16x256, .f32⟩
  | .hbm, ⟨9, _⟩ => ⟨S16x256, .f32⟩
  | .hbm, ⟨10, _⟩ => ⟨S16x256, .f32⟩
  | .hbm, ⟨11, _⟩ => ⟨S_, .f32⟩
  | .hbm, ⟨12, _⟩ => ⟨S16x256, .f32⟩
  | .hbm, ⟨13, _⟩ => ⟨S16x256, .f32⟩
  | .hbm, ⟨14, _⟩ => ⟨S16x256, .f32⟩
  | .hbm, ⟨15, _⟩ => ⟨S_, .f32⟩
  | .hbm, ⟨16, _⟩ => ⟨S16x256, .f32⟩
  | .hbm, ⟨17, _⟩ => ⟨S16x256, .f32⟩
  | .hbm, ⟨18, _⟩ => ⟨S16x256, .f32⟩
  | .hbm, ⟨19, _⟩ => ⟨S_, .f32⟩
  | .hbm, ⟨20, _⟩ => ⟨S16x256, .f32⟩
  | .hbm, ⟨21, _⟩ => ⟨S16x256, .f32⟩
  | .hbm, ⟨22, _⟩ => ⟨S_, .f32⟩
  | .hbm, ⟨23, _⟩ => ⟨S16x256, .f32⟩
  | .hbm, ⟨24, _⟩ => ⟨S16x256, .f32⟩
  | .hbm, ⟨25, _⟩ => ⟨S16x256, .f32⟩
  | .hbm, ⟨26, _⟩ => ⟨S_, .f32⟩
  | .hbm, ⟨27, _⟩ => ⟨S16x256, .f32⟩
  | .hbm, ⟨28, _⟩ => ⟨S16x256, .f32⟩
  | .hbm, ⟨29, _⟩ => ⟨S16x256, .f32⟩
  | .hbm, ⟨30, _⟩ => ⟨S_, .f32⟩
  | .hbm, ⟨31, _⟩ => ⟨S16x256, .f32⟩
  | .hbm, ⟨32, _⟩ => ⟨S16x256, .f32⟩
  | .hbm, ⟨33, _⟩ => ⟨S16x256, .f32⟩
  | .hbm, ⟨34, _⟩ => ⟨S_, .f32⟩
  | .hbm, ⟨35, _⟩ => ⟨S16x256, .f32⟩
  | .hbm, ⟨36, _⟩ => ⟨S16x256, .f32⟩
  | _, _ => ⟨S16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdNorm.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdNormRefIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdHead.lean ====
abbrev S2x8 : Shape := ⟨2, ![2, 8]⟩

abbrev nBuf : Space → Nat
  | .hbm => 7
  | .vmem => 7
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S2x8, .f32⟩
  | .hbm, ⟨5, _⟩ => ⟨S2x8, .f32⟩
  | .hbm, ⟨6, _⟩ => ⟨S2x8, .f32⟩
  | .local _ .vmem, ⟨0, _⟩ => ⟨S2x8, .f32⟩
  | .local _ .vmem, ⟨1, _⟩ => ⟨S2x8, .f32⟩
  | .local _ .vmem, ⟨2, _⟩ => ⟨S2x8, .f32⟩
  | .local _ .vmem, ⟨3, _⟩ => ⟨S2x8, .f32⟩
  | .local _ .vmem, ⟨4, _⟩ => ⟨S2x8, .f32⟩
  | .local _ .vmem, ⟨5, _⟩ => ⟨S2x8, .f32⟩
  | .local _ .vmem, ⟨6, _⟩ => ⟨S2x8, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdHeadRefIdeal.lean ====
abbrev S2x8 : Shape := ⟨2, ![2, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S_, .f32⟩
  | .hbm, ⟨5, _⟩ => ⟨S2x8, .f32⟩
  | .hbm, ⟨6, _⟩ => ⟨S2x8, .f32⟩
  | .hbm, ⟨7, _⟩ => ⟨S_, .f32⟩
  | .hbm, ⟨8, _⟩ => ⟨S2x8, .f32⟩
  | .hbm, ⟨9, _⟩ => ⟨S2x8, .f32⟩
  | .hbm, ⟨10, _⟩ => ⟨S2x8, .f32⟩
  | .hbm, ⟨11, _⟩ => ⟨S_, .f32⟩
  | .hbm, ⟨12, _⟩ => ⟨S2x8, .f32⟩
  | .hbm, ⟨13, _⟩ => ⟨S2x8, .f32⟩
  | .hbm, ⟨14, _⟩ => ⟨S2x8, .f32⟩
  | .hbm, ⟨15, _⟩ => ⟨S_, .f32⟩
  | .hbm, ⟨16, _⟩ => ⟨S2x8, .f32⟩
  | .hbm, ⟨17, _⟩ => ⟨S2x8, .f32⟩
  | .hbm, ⟨18, _⟩ => ⟨S2x8, .f32⟩
  | .hbm, ⟨19, _⟩ => ⟨S_, .f32⟩
  | .hbm, ⟨20, _⟩ => ⟨S2x8, .f32⟩
  | .hbm, ⟨21, _⟩ => ⟨S2x8, .f32⟩
  | .hbm, ⟨22, _⟩ => ⟨S_, .f32⟩
  | .hbm, ⟨23, _⟩ => ⟨S2x8, .f32⟩
  | .hbm, ⟨24, _⟩ => ⟨S2x8, .f32⟩
  | .hbm, ⟨25, _⟩ => ⟨S2x8, .f32⟩
  | .hbm, ⟨26, _⟩ => ⟨S_, .f32⟩
  | .hbm, ⟨27, _⟩ => ⟨S2x8, .f32⟩
  | .hbm, ⟨28, _⟩ => ⟨S2x8, .f32⟩
  | .hbm, ⟨29, _⟩ => ⟨S2x8, .f32⟩
  | .hbm, ⟨30, _⟩ => ⟨S_, .f32⟩
  | .hbm, ⟨31, _⟩ => ⟨S2x8, .f32⟩
  | .hbm, ⟨32, _⟩ => ⟨S2x8, .f32⟩
  | .hbm, ⟨33, _⟩ => ⟨S2x8, .f32⟩
  | .hbm, ⟨34, _⟩ => ⟨S_, .f32⟩
  | .hbm, ⟨35, _⟩ => ⟨S2x8, .f32⟩
  | .hbm, ⟨36, _⟩ => ⟨S2x8, .f32⟩
  | _, _ => ⟨S2x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdHeadN.lean ====
abbrev S2x128 : Shape := ⟨2, ![2, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdHeadNRefIdeal.lean ====
abbrev S2x128 : Shape := ⟨2, ![2, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S_, .f32⟩
  | .hbm, ⟨5, _⟩ => ⟨S2x128, .f32⟩
  | .hbm, ⟨6, _⟩ => ⟨S2x128, .f32⟩
  | .hbm, ⟨7, _⟩ => ⟨S_, .f32⟩
  | .hbm, ⟨8, _⟩ => ⟨S2x128, .f32⟩
  | .hbm, ⟨9, _⟩ => ⟨S2x128, .f32⟩
  | .hbm, ⟨10, _⟩ => ⟨S2x128, .f32⟩
  | .hbm, ⟨11, _⟩ => ⟨S_, .f32⟩
  | .hbm, ⟨12, _⟩ => ⟨S2x128, .f32⟩
  | .hbm, ⟨13, _⟩ => ⟨S2x128, .f32⟩
  | .hbm, ⟨14, _⟩ => ⟨S2x128, .f32⟩
  | .hbm, ⟨15, _⟩ => ⟨S_, .f32⟩
  | .hbm, ⟨16, _⟩ => ⟨S2x128, .f32⟩
  | .hbm, ⟨17, _⟩ => ⟨S2x128, .f32⟩
  | .hbm, ⟨18, _⟩ => ⟨S2x128, .f32⟩
  | .hbm, ⟨19, _⟩ => ⟨S_, .f32⟩
  | .hbm, ⟨20, _⟩ => ⟨S2x128, .f32⟩
  | .hbm, ⟨21, _⟩ => ⟨S2x128, .f32⟩
  | .hbm, ⟨22, _⟩ => ⟨S_, .f32⟩
  | .hbm, ⟨23, _⟩ => ⟨S2x128, .f32⟩
  | .hbm, ⟨24, _⟩ => ⟨S2x128, .f32⟩
  | .hbm, ⟨25, _⟩ => ⟨S2x128, .f32⟩
  | .hbm, ⟨26, _⟩ => ⟨S_, .f32⟩
  | .hbm, ⟨27, _⟩ => ⟨S2x128, .f32⟩
  | .hbm, ⟨28, _⟩ => ⟨S2x128, .f32⟩
  | .hbm, ⟨29, _⟩ => ⟨S2x128, .f32⟩
  | .hbm, ⟨30, _⟩ => ⟨S_, .f32⟩
  | .hbm, ⟨31, _⟩ => ⟨S2x128, .f32⟩
  | .hbm, ⟨32, _⟩ => ⟨S2x128, .f32⟩
  | .hbm, ⟨33, _⟩ => ⟨S2x128, .f32⟩
  | .hbm, ⟨34, _⟩ => ⟨S_, .f32⟩
  | .hbm, ⟨35, _⟩ => ⟨S2x128, .f32⟩
  | .hbm, ⟨36, _⟩ => ⟨S2x128, .f32⟩
  | _, _ => ⟨S2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdFin.lean ====
abbrev S1024 : Shape := ⟨1, ![1024]⟩
abbrev S1x1024 : Shape := ⟨2, ![1, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdFinRefIdeal.lean ====
abbrev S1024 : Shape := ⟨1, ![1024]⟩
abbrev S_ : Shape := ⟨0, ![]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1024, .f32⟩
  | .hbm, ⟨38, _⟩ => ⟨S1x1024, .f32⟩
  | .hbm, ⟨39, _⟩ => ⟨S1x1024, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Swap.lean ====
abbrev S4x2x1024x1668 : Shape := ⟨4, ![4, 2, 1024, 1668]⟩
abbrev S4x2x1024x1408 : Shape := ⟨4, ![4, 2, 1024, 1408]⟩
abbrev S4x2x704x1024 : Shape := ⟨4, ![4, 2, 704, 1024]⟩
abbrev S4x2x256x1024 : Shape := ⟨4, ![4, 2, 256, 1024]⟩
abbrev S4x2x368x128 : Shape := ⟨4, ![4, 2, 368, 128]⟩
abbrev S4x1024x1668 : Shape := ⟨3, ![4, 1024, 1668]⟩
abbrev S4x1024x1408 : Shape := ⟨3, ![4, 1024, 1408]⟩
abbrev S4x704x1024 : Shape := ⟨3, ![4, 704, 1024]⟩
abbrev S4x256x1024 : Shape := ⟨3, ![4, 256, 1024]⟩
abbrev S4x368x128 : Shape := ⟨3, ![4, 368, 128]⟩
abbrev S20 : Shape := ⟨1, ![20]⟩
abbrev S1 : Shape := ⟨1, ![1]⟩
abbrev S_ : Shape := ⟨0, ![]⟩
abbrev S1x1024x1668 : Shape := ⟨3, ![1, 1024, 1668]⟩
abbrev S1024x1668 : Shape := ⟨2, ![1024, 1668]⟩
abbrev S1x1x1024x1668 : Shape := ⟨4, ![1, 1, 1024, 1668]⟩
abbrev S1x1024x1408 : Shape := ⟨3, ![1, 1024, 1408]⟩
abbrev S1024x1408 : Shape := ⟨2, ![1024, 1408]⟩
abbrev S1x1x1024x1408 : Shape := ⟨4, ![1, 1, 1024, 1408]⟩
abbrev S1x704x1024 : Shape := ⟨3, ![1, 704, 1024]⟩
abbrev S704x1024 : Shape := ⟨2, ![704, 1024]⟩
abbrev S1x1x704x1024 : Shape := ⟨4, ![1, 1, 704, 1024]⟩
abbrev S1x256x1024 : Shape := ⟨3, ![1, 256, 1024]⟩
abbrev S256x1024 : Shape := ⟨2, ![256, 1024]⟩
abbrev S1x1x256x1024 : Shape := ⟨4, ![1, 1, 256, 1024]⟩
abbrev S1x368x128 : Shape := ⟨3, ![1, 368, 128]⟩
abbrev S368x128 : Shape := ⟨2, ![368, 128]⟩
abbrev S1x1x368x128 : Shape := ⟨4, ![1, 1, 368, 128]⟩

abbrev nBuf : Space → Nat
  | .hbm => 10
  | .vmem => 0
  | .smem => 0
  | _ => 0

abbrev bufTy : (tb : Table) → Fin (tcTables nBuf tb) → BufTy
  | .hbm, ⟨0, _⟩ => ⟨S4x2x1024x1668, .f32⟩
  | .hbm, ⟨1, _⟩ => ⟨S4x2x1024x1408, .f32⟩
  | .hbm, ⟨2, _⟩ => ⟨S4x2x704x1024, .f32⟩
  | .hbm, ⟨3, _⟩ => ⟨S4x2x256x1024, .f32⟩
  | .hbm, ⟨4, _⟩ => ⟨S4x2x368x128, .f32⟩
  | .hbm, ⟨5, _⟩ => ⟨S4x1024x1668, .f32⟩
  | .hbm, ⟨6, _⟩ => ⟨S4x1024x1408, .f32⟩
  | .hbm, ⟨7, _⟩ => ⟨S4x704x1024, .f32⟩
  | .hbm, ⟨8, _⟩ => ⟨S4x256x1024, .f32⟩
  | .hbm, ⟨9, _⟩ => ⟨S4x368x128, .f32⟩
  | _, _ => ⟨S4x2x1024x1668, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 2
abbrev τ : Topo := Topo.v7x

variable {F : FTy → Type} [FloatOps F]

abbrev grid0 : Pipeline.Grid := .none

def k0_off1 (d0 : Dev nD) : Fin 4 → Nat :=
  let c0_i32 : BitVec 32 := 0#32
  let c1_i32_0 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v3 : BitVec 32 := Scalar.subi c1_i32_0 v2
  let c0_i32_47 : BitVec 32 := 0#32
  let c0_i32_48 : BitVec 32 := 0#32
  ![0, v3.toNat, 0, 0]
def k0_dev1 (d0 : Dev nD) : Nat :=
  let c0_i32_44 : BitVec 32 := 0#32
  let c1_i32_1 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v4 : BitVec 32 := Scalar.subi c1_i32_1 v2
  let c1_i32_43 : BitVec 32 := 1#32
  let v43 : BitVec 32 := Scalar.muli v4 c1_i32_43
  let v44 : BitVec 32 := Scalar.addi c0_i32_44 v43
  v44.toNat
def k0_off2 (d0 : Dev nD) : Fin 4 → Nat :=
  let c1_i32_49 : BitVec 32 := 1#32
  let c1_i32_2 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v5 : BitVec 32 := Scalar.subi c1_i32_2 v2
  let c0_i32_57 : BitVec 32 := 0#32
  let c0_i32_58 : BitVec 32 := 0#32
  ![1, v5.toNat, 0, 0]
def k0_dev2 (d0 : Dev nD) : Nat :=
  let c0_i32_54 : BitVec 32 := 0#32
  let c1_i32_3 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v6 : BitVec 32 := Scalar.subi c1_i32_3 v2
  let c1_i32_53 : BitVec 32 := 1#32
  let v53 : BitVec 32 := Scalar.muli v6 c1_i32_53
  let v54 : BitVec 32 := Scalar.addi c0_i32_54 v53
  v54.toNat
def k0_off3 (d0 : Dev nD) : Fin 4 → Nat :=
  let c2_i32_59 : BitVec 32 := 2#32
  let c1_i32_4 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v7 : BitVec 32 := Scalar.subi c1_i32_4 v2
  let c0_i32_67 : BitVec 32 := 0#32
  let c0_i32_68 : BitVec 32 := 0#32
  ![2, v7.toNat, 0, 0]
def k0_dev3 (d0 : Dev nD) : Nat :=
  let c0_i32_64 : BitVec 32 := 0#32
  let c1_i32_5 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v8 : BitVec 32 := Scalar.subi c1_i32_5 v2
  let c1_i32_63 : BitVec 32 := 1#32
  let v63 : BitVec 32 := Scalar.muli v8 c1_i32_63
  let v64 : BitVec 32 := Scalar.addi c0_i32_64 v63
  v64.toNat
def k0_off4 (d0 : Dev nD) : Fin 4 → Nat :=
  let c3_i32 : BitVec 32 := 3#32
  let c1_i32_6 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v9 : BitVec 32 := Scalar.subi c1_i32_6 v2
  let c0_i32_76 : BitVec 32 := 0#32
  let c0_i32_77 : BitVec 32 := 0#32
  ![3, v9.toNat, 0, 0]
def k0_dev4 (d0 : Dev nD) : Nat :=
  let c0_i32_73 : BitVec 32 := 0#32
  let c1_i32_7 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v10 : BitVec 32 := Scalar.subi c1_i32_7 v2
  let c1_i32_72 : BitVec 32 := 1#32
  let v73 : BitVec 32 := Scalar.muli v10 c1_i32_72
  let v74 : BitVec 32 := Scalar.addi c0_i32_73 v73
  v74.toNat
def k0_off5 (d0 : Dev nD) : Fin 4 → Nat :=
  let c0_i32_78 : BitVec 32 := 0#32
  let c1_i32_8 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v11 : BitVec 32 := Scalar.subi c1_i32_8 v2
  let c0_i32_85 : BitVec 32 := 0#32
  let c0_i32_86 : BitVec 32 := 0#32
  ![0, v11.toNat, 0, 0]
def k0_dev5 (d0 : Dev nD) : Nat :=
  let c0_i32_82 : BitVec 32 := 0#32
  let c1_i32_9 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v12 : BitVec 32 := Scalar.subi c1_i32_9 v2
  let c1_i32_81 : BitVec 32 := 1#32
  let v83 : BitVec 32 := Scalar.muli v12 c1_i32_81
  let v84 : BitVec 32 := Scalar.addi c0_i32_82 v83
  v84.toNat
def k0_off6 (d0 : Dev nD) : Fin 4 → Nat :=
  let c1_i32_87 : BitVec 32 := 1#32
  let c1_i32_10 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v13 : BitVec 32 := Scalar.subi c1_i32_10 v2
  let c0_i32_94 : BitVec 32 := 0#32
  let c0_i32_95 : BitVec 32 := 0#32
  ![1, v13.toNat, 0, 0]
def k0_dev6 (d0 : Dev nD) : Nat :=
  let c0_i32_91 : BitVec 32 := 0#32
  let c1_i32_11 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v14 : BitVec 32 := Scalar.subi c1_i32_11 v2
  let c1_i32_90 : BitVec 32 := 1#32
  let v93 : BitVec 32 := Scalar.muli v14 c1_i32_90
  let v94 : BitVec 32 := Scalar.addi c0_i32_91 v93
  v94.toNat
def k0_off7 (d0 : Dev nD) : Fin 4 → Nat :=
  let c2_i32_96 : BitVec 32 := 2#32
  let c1_i32_12 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v15 : BitVec 32 := Scalar.subi c1_i32_12 v2
  let c0_i32_103 : BitVec 32 := 0#32
  let c0_i32_104 : BitVec 32 := 0#32
  ![2, v15.toNat, 0, 0]
def k0_dev7 (d0 : Dev nD) : Nat :=
  let c0_i32_100 : BitVec 32 := 0#32
  let c1_i32_13 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v16 : BitVec 32 := Scalar.subi c1_i32_13 v2
  let c1_i32_99 : BitVec 32 := 1#32
  let v103 : BitVec 32 := Scalar.muli v16 c1_i32_99
  let v104 : BitVec 32 := Scalar.addi c0_i32_100 v103
  v104.toNat
def k0_off8 (d0 : Dev nD) : Fin 4 → Nat :=
  let c3_i32_105 : BitVec 32 := 3#32
  let c1_i32_14 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v17 : BitVec 32 := Scalar.subi c1_i32_14 v2
  let c0_i32_112 : BitVec 32 := 0#32
  let c0_i32_113 : BitVec 32 := 0#32
  ![3, v17.toNat, 0, 0]
def k0_dev8 (d0 : Dev nD) : Nat :=
  let c0_i32_109 : BitVec 32 := 0#32
  let c1_i32_15 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v18 : BitVec 32 := Scalar.subi c1_i32_15 v2
  let c1_i32_108 : BitVec 32 := 1#32
  let v113 : BitVec 32 := Scalar.muli v18 c1_i32_108
  let v114 : BitVec 32 := Scalar.addi c0_i32_109 v113
  v114.toNat
def k0_off9 (d0 : Dev nD) : Fin 4 → Nat :=
  let c0_i32_114 : BitVec 32 := 0#32
  let c1_i32_16 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v19 : BitVec 32 := Scalar.subi c1_i32_16 v2
  let c0_i32_121 : BitVec 32 := 0#32
  let c0_i32_122 : BitVec 32 := 0#32
  ![0, v19.toNat, 0, 0]
def k0_dev9 (d0 : Dev nD) : Nat :=
  let c0_i32_118 : BitVec 32 := 0#32
  let c1_i32_17 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v20 : BitVec 32 := Scalar.subi c1_i32_17 v2
  let c1_i32_117 : BitVec 32 := 1#32
  let v123 : BitVec 32 := Scalar.muli v20 c1_i32_117
  let v124 : BitVec 32 := Scalar.addi c0_i32_118 v123
  v124.toNat
def k0_off10 (d0 : Dev nD) : Fin 4 → Nat :=
  let c1_i32_123 : BitVec 32 := 1#32
  let c1_i32_18 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v21 : BitVec 32 := Scalar.subi c1_i32_18 v2
  let c0_i32_130 : BitVec 32 := 0#32
  let c0_i32_131 : BitVec 32 := 0#32
  ![1, v21.toNat, 0, 0]
def k0_dev10 (d0 : Dev nD) : Nat :=
  let c0_i32_127 : BitVec 32 := 0#32
  let c1_i32_19 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v22 : BitVec 32 := Scalar.subi c1_i32_19 v2
  let c1_i32_126 : BitVec 32 := 1#32
  let v133 : BitVec 32 := Scalar.muli v22 c1_i32_126
  let v134 : BitVec 32 := Scalar.addi c0_i32_127 v133
  v134.toNat
def k0_off11 (d0 : Dev nD) : Fin 4 → Nat :=
  let c2_i32_132 : BitVec 32 := 2#32
  let c1_i32_20 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v23 : BitVec 32 := Scalar.subi c1_i32_20 v2
  let c0_i32_139 : BitVec 32 := 0#32
  let c0_i32_140 : BitVec 32 := 0#32
  ![2, v23.toNat, 0, 0]
def k0_dev11 (d0 : Dev nD) : Nat :=
  let c0_i32_136 : BitVec 32 := 0#32
  let c1_i32_21 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v24 : BitVec 32 := Scalar.subi c1_i32_21 v2
  let c1_i32_135 : BitVec 32 := 1#32
  let v143 : BitVec 32 := Scalar.muli v24 c1_i32_135
  let v144 : BitVec 32 := Scalar.addi c0_i32_136 v143
  v144.toNat
def k0_off12 (d0 : Dev nD) : Fin 4 → Nat :=
  let c3_i32_141 : BitVec 32 := 3#32
  let c1_i32_22 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v25 : BitVec 32 := Scalar.subi c1_i32_22 v2
  let c0_i32_148 : BitVec 32 := 0#32
  let c0_i32_149 : BitVec 32 := 0#32
  ![3, v25.toNat, 0, 0]
def k0_dev12 (d0 : Dev nD) : Nat :=
  let c0_i32_145 : BitVec 32 := 0#32
  let c1_i32_23 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v26 : BitVec 32 := Scalar.subi c1_i32_23 v2
  let c1_i32_144 : BitVec 32 := 1#32
  let v153 : BitVec 32 := Scalar.muli v26 c1_i32_144
  let v154 : BitVec 32 := Scalar.addi c0_i32_145 v153
  v154.toNat
def k0_off13 (d0 : Dev nD) : Fin 4 → Nat :=
  let c0_i32_150 : BitVec 32 := 0#32
  let c1_i32_24 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v27 : BitVec 32 := Scalar.subi c1_i32_24 v2
  let c0_i32_157 : BitVec 32 := 0#32
  let c0_i32_158 : BitVec 32 := 0#32
  ![0, v27.toNat, 0, 0]
def k0_dev13 (d0 : Dev nD) : Nat :=
  let c0_i32_154 : BitVec 32 := 0#32
  let c1_i32_25 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v28 : BitVec 32 := Scalar.subi c1_i32_25 v2
  let c1_i32_153 : BitVec 32 := 1#32
  let v163 : BitVec 32 := Scalar.muli v28 c1_i32_153
  let v164 : BitVec 32 := Scalar.addi c0_i32_154 v163
  v164.toNat
def k0_off14 (d0 : Dev nD) : Fin 4 → Nat :=
  let c1_i32_159 : BitVec 32 := 1#32
  let c1_i32_26 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v29 : BitVec 32 := Scalar.subi c1_i32_26 v2
  let c0_i32_166 : BitVec 32 := 0#32
  let c0_i32_167 : BitVec 32 := 0#32
  ![1, v29.toNat, 0, 0]
def k0_dev14 (d0 : Dev nD) : Nat :=
  let c0_i32_163 : BitVec 32 := 0#32
  let c1_i32_27 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v30 : BitVec 32 := Scalar.subi c1_i32_27 v2
  let c1_i32_162 : BitVec 32 := 1#32
  let v173 : BitVec 32 := Scalar.muli v30 c1_i32_162
  let v174 : BitVec 32 := Scalar.addi c0_i32_163 v173
  v174.toNat
def k0_off15 (d0 : Dev nD) : Fin 4 → Nat :=
  let c2_i32_168 : BitVec 32 := 2#32
  let c1_i32_28 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v31 : BitVec 32 := Scalar.subi c1_i32_28 v2
  let c0_i32_175 : BitVec 32 := 0#32
  let c0_i32_176 : BitVec 32 := 0#32
  ![2, v31.toNat, 0, 0]
def k0_dev15 (d0 : Dev nD) : Nat :=
  let c0_i32_172 : BitVec 32 := 0#32
  let c1_i32_29 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v32 : BitVec 32 := Scalar.subi c1_i32_29 v2
  let c1_i32_171 : BitVec 32 := 1#32
  let v183 : BitVec 32 := Scalar.muli v32 c1_i32_171
  let v184 : BitVec 32 := Scalar.addi c0_i32_172 v183
  v184.toNat
def k0_off16 (d0 : Dev nD) : Fin 4 → Nat :=
  let c3_i32_177 : BitVec 32 := 3#32
  let c1_i32_30 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v33 : BitVec 32 := Scalar.subi c1_i32_30 v2
  let c0_i32_184 : BitVec 32 := 0#32
  let c0_i32_185 : BitVec 32 := 0#32
  ![3, v33.toNat, 0, 0]
def k0_dev16 (d0 : Dev nD) : Nat :=
  let c0_i32_181 : BitVec 32 := 0#32
  let c1_i32_31 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v34 : BitVec 32 := Scalar.subi c1_i32_31 v2
  let c1_i32_180 : BitVec 32 := 1#32
  let v193 : BitVec 32 := Scalar.muli v34 c1_i32_180
  let v194 : BitVec 32 := Scalar.addi c0_i32_181 v193
  v194.toNat
def k0_off17 (d0 : Dev nD) : Fin 4 → Nat :=
  let c0_i32_186 : BitVec 32 := 0#32
  let c1_i32_32 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v35 : BitVec 32 := Scalar.subi c1_i32_32 v2
  let c0_i32_193 : BitVec 32 := 0#32
  let c0_i32_194 : BitVec 32 := 0#32
  ![0, v35.toNat, 0, 0]
def k0_dev17 (d0 : Dev nD) : Nat :=
  let c0_i32_190 : BitVec 32 := 0#32
  let c1_i32_33 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v36 : BitVec 32 := Scalar.subi c1_i32_33 v2
  let c1_i32_189 : BitVec 32 := 1#32
  let v203 : BitVec 32 := Scalar.muli v36 c1_i32_189
  let v204 : BitVec 32 := Scalar.addi c0_i32_190 v203
  v204.toNat
def k0_off18 (d0 : Dev nD) : Fin 4 → Nat :=
  let c1_i32_195 : BitVec 32 := 1#32
  let c1_i32_34 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v37 : BitVec 32 := Scalar.subi c1_i32_34 v2
  let c0_i32_202 : BitVec 32 := 0#32
  let c0_i32_203 : BitVec 32 := 0#32
  ![1, v37.toNat, 0, 0]
def k0_dev18 (d0 : Dev nD) : Nat :=
  let c0_i32_199 : BitVec 32 := 0#32
  let c1_i32_35 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v38 : BitVec 32 := Scalar.subi c1_i32_35 v2
  let c1_i32_198 : BitVec 32 := 1#32
  let v213 : BitVec 32 := Scalar.muli v38 c1_i32_198
  let v214 : BitVec 32 := Scalar.addi c0_i32_199 v213
  v214.toNat
def k0_off19 (d0 : Dev nD) : Fin 4 → Nat :=
  let c2_i32_204 : BitVec 32 := 2#32
  let c1_i32_36 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v39 : BitVec 32 := Scalar.subi c1_i32_36 v2
  let c0_i32_211 : BitVec 32 := 0#32
  let c0_i32_212 : BitVec 32 := 0#32
  ![2, v39.toNat, 0, 0]
def k0_dev19 (d0 : Dev nD) : Nat :=
  let c0_i32_208 : BitVec 32 := 0#32
  let c1_i32_37 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v40 : BitVec 32 := Scalar.subi c1_i32_37 v2
  let c1_i32_207 : BitVec 32 := 1#32
  let v223 : BitVec 32 := Scalar.muli v40 c1_i32_207
  let v224 : BitVec 32 := Scalar.addi c0_i32_208 v223
  v224.toNat
def k0_off20 (d0 : Dev nD) : Fin 4 → Nat :=
  let c3_i32_213 : BitVec 32 := 3#32
  let c1_i32_38 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v41 : BitVec 32 := Scalar.subi c1_i32_38 v2
  let c0_i32_220 : BitVec 32 := 0#32
  let c0_i32_221 : BitVec 32 := 0#32
  ![3, v41.toNat, 0, 0]
def k0_dev20 (d0 : Dev nD) : Nat :=
  let c0_i32_217 : BitVec 32 := 0#32
  let c1_i32_39 : BitVec 32 := 1#32
  let v0 : BitVec 32 := Dev.word d0
  let c1_i32 : BitVec 32 := 1#32
  let v1 : BitVec 32 := Scalar.divsi v0 c1_i32
  let c2_i32 : BitVec 32 := 2#32
  let v2 : BitVec 32 := Scalar.remsi v1 c2_i32
  let v42 : BitVec 32 := Scalar.subi c1_i32_39 v2
  let c1_i32_216 : BitVec 32 := 1#32
  let v233 : BitVec 32 := Scalar.muli v42 c1_i32_216
  let v234 : BitVec 32 := Scalar.addi c0_i32_217 v233
  v234.toNat
-- ==== SwapRefIdeal.lean ====
abbrev S8x2x1024x1668 : Shape := ⟨4, ![8, 2, 1024, 1668]⟩
abbrev S8x2x1024x1408 : Shape := ⟨4, ![8, 2, 1024, 1408]⟩
abbrev S8x2x704x1024 : Shape := ⟨4, ![8, 2, 704, 1024]⟩
abbrev S8x2x256x1024 : Shape := ⟨4, ![8, 2, 256, 1024]⟩
abbrev S8x2x368x128 : Shape := ⟨4, ![8, 2, 368, 128]⟩
abbrev S4x1x1024x1668 : Shape := ⟨4, ![4, 1, 1024, 1668]⟩
abbrev S4x1024x1668 : Shape := ⟨3, ![4, 1024, 1668]⟩
abbrev S8x1024x1668 : Shape := ⟨3, ![8, 1024, 1668]⟩
abbrev S4x1x1024x1408 : Shape := ⟨4, ![4, 1, 1024, 1408]⟩
abbrev S4x1024x1408 : Shape := ⟨3, ![4, 1024, 1408]⟩
abbrev S8x1024x1408 : Shape := ⟨3, ![8, 1024, 1408]⟩
abbrev S4x1x704x1024 : Shape := ⟨4, ![4, 1, 704, 1024]⟩
abbrev S4x704x1024 : Shape := ⟨3, ![4, 704, 1024]⟩
abbrev S8x704x1024 : Shape := ⟨3, ![8, 704, 1024]⟩
abbrev S4x1x256x1024 : Shape := ⟨4, ![4, 1, 256, 1024]⟩
abbrev S4x256x1024 : Shape := ⟨3, ![4, 256, 1024]⟩
abbrev S8x256x1024 : Shape := ⟨3, ![8, 256, 1024]⟩
abbrev S4x1x368x128 : Shape := ⟨4, ![4, 1, 368, 128]⟩
abbrev S4x368x128 : Shape := ⟨3, ![4, 368, 128]⟩
abbrev S8x368x128 : Shape := ⟨3, ![8, 368, 128]⟩

abbrev nBuf : Space → Nat
  | .hbm => 30
  | .vmem => 0
  | .smem => 0
  | _ => 0

abbrev bufTy : (tb : Table) → Fin (tcTables nBuf tb) → BufTy
  | .hbm, ⟨0, _⟩ => ⟨S8x2x1024x1668, .f32⟩
  | .hbm, ⟨1, _⟩ => ⟨S8x2x1024x1408, .f32⟩
  | .hbm, ⟨2, _⟩ => ⟨S8x2x704x1024, .f32⟩
  | .hbm, ⟨3, _⟩ => ⟨S8x2x256x1024, .f32⟩
  | .hbm, ⟨4, _⟩ => ⟨S8x2x368x128, .f32⟩
  | .hbm, ⟨5, _⟩ => ⟨S4x1x1024x1668, .f32⟩
  | .hbm, ⟨6, _⟩ => ⟨S4x1024x1668, .f32⟩
  | .hbm, ⟨7, _⟩ => ⟨S4x1x1024x1668, .f32⟩
  | .hbm, ⟨8, _⟩ => ⟨S4x1024x1668, .f32⟩
  | .hbm, ⟨9, _⟩ => ⟨S8x1024x1668, .f32⟩
  | .hbm, ⟨10, _⟩ => ⟨S4x1x1024x1408, .f32⟩
  | .hbm, ⟨11, _⟩ => ⟨S4x1024x1408, .f32⟩
  | .hbm, ⟨12, _⟩ => ⟨S4x1x1024x1408, .f32⟩
  | .hbm, ⟨13, _⟩ => ⟨S4x1024x1408, .f32⟩
  | .hbm, ⟨14, _⟩ => ⟨S8x1024x1408, .f32⟩
  | .hbm, ⟨15, _⟩ => ⟨S4x1x704x1024, .f32⟩
  | .hbm, ⟨16, _⟩ => ⟨S4x704x1024, .f32⟩
  | .hbm, ⟨17, _⟩ => ⟨S4x1x704x1024, .f32⟩
  | .hbm, ⟨18, _⟩ => ⟨S4x704x1024, .f32⟩
  | .hbm, ⟨19, _⟩ => ⟨S8x704x1024, .f32⟩
  | .hbm, ⟨20, _⟩ => ⟨S4x1x256x1024, .f32⟩
  | .hbm, ⟨21, _⟩ => ⟨S4x256x1024, .f32⟩
  | .hbm, ⟨22, _⟩ => ⟨S4x1x256x1024, .f32⟩
  | .hbm, ⟨23, _⟩ => ⟨S4x256x1024, .f32⟩
  | .hbm, ⟨24, _⟩ => ⟨S8x256x1024, .f32⟩
  | .hbm, ⟨25, _⟩ => ⟨S4x1x368x128, .f32⟩
  | .hbm, ⟨26, _⟩ => ⟨S4x368x128, .f32⟩
  | .hbm, ⟨27, _⟩ => ⟨S4x1x368x128, .f32⟩
  | .hbm, ⟨28, _⟩ => ⟨S4x368x128, .f32⟩
  | .hbm, ⟨29, _⟩ => ⟨S8x368x128, .f32⟩
  | _, _ => ⟨S8x2x1024x1668, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Scat.lean ====
abbrev S4x1024x1668 : Shape := ⟨3, ![4, 1024, 1668]⟩
abbrev S4x1024x1408 : Shape := ⟨3, ![4, 1024, 1408]⟩
abbrev S4x704x1024 : Shape := ⟨3, ![4, 704, 1024]⟩
abbrev S4x256x1024 : Shape := ⟨3, ![4, 256, 1024]⟩
abbrev S4x368x128 : Shape := ⟨3, ![4, 368, 128]⟩
abbrev S15 : Shape := ⟨1, ![15]⟩
abbrev S1 : Shape := ⟨1, ![1]⟩
abbrev S_ : Shape := ⟨0, ![]⟩
abbrev S1x1024x1668 : Shape := ⟨3, ![1, 1024, 1668]⟩
abbrev S1024x1668 : Shape := ⟨2, ![1024, 1668]⟩
abbrev S1x1024x1408 : Shape := ⟨3, ![1, 1024, 1408]⟩
abbrev S1024x1408 : Shape := ⟨2, ![1024, 1408]⟩
abbrev S1x704x1024 : Shape := ⟨3, ![1, 704, 1024]⟩
abbrev S704x1024 : Shape := ⟨2, ![704, 1024]⟩
abbrev S1x256x1024 : Shape := ⟨3, ![1, 256, 1024]⟩
abbrev S256x1024 : Shape := ⟨2, ![256, 1024]⟩
abbrev S1x368x128 : Shape := ⟨3, ![1, 368, 128]⟩
abbrev S368x128 : Shape := ⟨2, ![368, 128]⟩

abbrev nBuf : Space → Nat
  | .hbm => 105
  | .vmem => 0
  | .smem => 0
  | _ => 0

abbrev bufTy : (tb : Table) → Fin (tcTables nBuf tb) → BufTy
  | .hbm, ⟨0, _⟩ => ⟨S4x1024x1668, .bf16⟩
  | .hbm, ⟨1, _⟩ => ⟨S4x1024x1408, .bf16⟩
  | .hbm, ⟨2, _⟩ => ⟨S4x704x1024, .bf16⟩
  | .hbm, ⟨3, _⟩ => ⟨S4x256x1024, .bf16⟩
  | .hbm, ⟨4, _⟩ => ⟨S4x368x128, .f32⟩
  | .hbm, ⟨5, _⟩ => ⟨S4x1024x1668, .bf16⟩
  | .hbm, ⟨6, _⟩ => ⟨S4x1024x1408, .bf16⟩
  | .hbm, ⟨7, _⟩ => ⟨S4x704x1024, .bf16⟩
  | .hbm, ⟨8, _⟩ => ⟨S4x256x1024, .bf16⟩
  | .hbm, ⟨9, _⟩ => ⟨S4x368x128, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1x1024x1668, .bf16⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S4x1024x1668, .bf16⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S1x1024x1408, .bf16⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S4x1024x1408, .bf16⟩
  | .hbm, ⟨57, _⟩ => ⟨S_, .i32⟩
  | .hbm, ⟨58, _⟩ => ⟨S_, .i1⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S1x704x1024, .bf16⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S4x704x1024, .bf16⟩
  | .hbm, ⟨73, _⟩ => ⟨S_, .i32⟩
  | .hbm, ⟨74, _⟩ => ⟨S_, .i1⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S1x256x1024, .bf16⟩
  | .hbm, ⟨81, _⟩ => ⟨S_, .i32⟩
  | .hbm, ⟨82, _⟩ => ⟨S_, .i1⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S4x256x1024, .bf16⟩
  | .hbm, ⟨89, _⟩ => ⟨S_, .i32⟩
  | .hbm, ⟨90, _⟩ => ⟨S_, .i1⟩
  | .hbm, ⟨91, _⟩ => ⟨S_, .i32⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S1x368x128, .f32⟩
  | .hbm, ⟨97, _⟩ => ⟨S_, .i32⟩
  | .hbm, ⟨98, _⟩ => ⟨S_, .i1⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S4x368x128, .f32⟩
  | _, _ => ⟨S4x1024x1668, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_c : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_c_2 : Ref sig .tc := ⟨.hbm, 18, rfl⟩
abbrev main_c_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_c_5 : Ref sig .tc := ⟨.hbm, 27, rfl⟩
abbrev main_v13 : Ref sig .tc := ⟨.hbm, 28, rfl⟩
abbrev main_v14 : Ref sig .tc := ⟨.hbm, 29, rfl⟩
abbrev main_c_6 : Ref sig .tc := ⟨.hbm, 30, rfl⟩
abbrev main_c_7 : Ref sig .tc := ⟨.hbm, 31, rfl⟩
abbrev main_v15 : Ref sig .tc := ⟨.hbm, 32, rfl⟩
abbrev main_c_8 : Ref sig .tc := ⟨.hbm, 33, rfl⟩
abbrev main_v16 : Ref sig .tc := ⟨.hbm, 34, rfl⟩
abbrev main_c_9 : Ref sig .tc := ⟨.hbm, 35, rfl⟩
abbrev main_v17 : Ref sig .tc := ⟨.hbm, 36, rfl⟩
abbrev main_v18 : Ref sig .tc := ⟨.hbm, 37, rfl⟩
abbrev main_c_10 : Ref sig .tc := ⟨.hbm, 38, rfl⟩
abbrev main_c_11 : Ref sig .tc := ⟨.hbm, 39, rfl⟩
abbrev main_v19 : Ref sig .tc := ⟨.hbm, 40, rfl⟩
abbrev main_c_12 : Ref sig .tc := ⟨.hbm, 41, rfl⟩
abbrev main_v20 : Ref sig .tc := ⟨.hbm, 42, rfl⟩
abbrev main_c_13 : Ref sig .tc := ⟨.hbm, 43, rfl⟩
abbrev main_v21 : Ref sig .tc := ⟨.hbm, 44, rfl⟩
abbrev main_v22 : Ref sig .tc := ⟨.hbm, 45, rfl⟩
abbrev main_c_14 : Ref sig .tc := ⟨.hbm, 46, rfl⟩
abbrev main_c_15 : Ref sig .tc := ⟨.hbm, 47, rfl⟩
abbrev main_v23 : Ref sig .tc := ⟨.hbm, 48, rfl⟩
abbrev main_c_16 : Ref sig .tc := ⟨.hbm, 49, rfl⟩
abbrev main_v24 : Ref sig .tc := ⟨.hbm, 50, rfl⟩
abbrev main_c_17 : Ref sig .tc := ⟨.hbm, 51, rfl⟩
abbrev main_v25 : Ref sig .tc := ⟨.hbm, 52, rfl⟩
abbrev main_v26 : Ref sig .tc := ⟨.hbm, 53, rfl⟩
abbrev main_c_18 : Ref sig .tc := ⟨.hbm, 54, rfl⟩
abbrev main_c_19 : Ref sig .tc := ⟨.hbm, 55, rfl⟩
abbrev main_v27 : Ref sig .tc := ⟨.hbm, 56, rfl⟩
abbrev main_c_20 : Ref sig .tc := ⟨.hbm, 57, rfl⟩
abbrev main_v28 : Ref sig .tc := ⟨.hbm, 58, rfl⟩
abbrev main_c_21 : Ref sig .tc := ⟨.hbm, 59, rfl⟩
abbrev main_v29 : Ref sig .tc := ⟨.hbm, 60, rfl⟩
abbrev main_v30 : Ref sig .tc := ⟨.hbm, 61, rfl⟩
abbrev main_c_22 : Ref sig .tc := ⟨.hbm, 62, rfl⟩
abbrev main_c_23 : Ref sig .tc := ⟨.hbm, 63, rfl⟩
abbrev main_v31 : Ref sig .tc := ⟨.hbm, 64, rfl⟩
abbrev main_c_24 : Ref sig .tc := ⟨.hbm, 65, rfl⟩
abbrev main_v32 : Ref sig .tc := ⟨.hbm, 66, rfl⟩
abbrev main_c_25 : Ref sig .tc := ⟨.hbm, 67, rfl⟩
abbrev main_v33 : Ref sig .tc := ⟨.hbm, 68, rfl⟩
abbrev main_v34 : Ref sig .tc := ⟨.hbm, 69, rfl⟩
abbrev main_c_26 : Ref sig .tc := ⟨.hbm, 70, rfl⟩
abbrev main_c_27 : Ref sig .tc := ⟨.hbm, 71, rfl⟩
abbrev main_v35 : Ref sig .tc := ⟨.hbm, 72, rfl⟩
abbrev main_c_28 : Ref sig .tc := ⟨.hbm, 73, rfl⟩
abbrev main_v36 : Ref sig .tc := ⟨.hbm, 74, rfl⟩
abbrev main_c_29 : Ref sig .tc := ⟨.hbm, 75, rfl⟩
abbrev main_v37 : Ref sig .tc := ⟨.hbm, 76, rfl⟩
abbrev main_v38 : Ref sig .tc := ⟨.hbm, 77, rfl⟩
abbrev main_c_30 : Ref sig .tc := ⟨.hbm, 78, rfl⟩
abbrev main_c_31 : Ref sig .tc := ⟨.hbm, 79, rfl⟩
abbrev main_v39 : Ref sig .tc := ⟨.hbm, 80, rfl⟩
abbrev main_c_32 : Ref sig .tc := ⟨.hbm, 81, rfl⟩
abbrev main_v40 : Ref sig .tc := ⟨.hbm, 82, rfl⟩
abbrev main_c_33 : Ref sig .tc := ⟨.hbm, 83, rfl⟩
abbrev main_v41 : Ref sig .tc := ⟨.hbm, 84, rfl⟩
abbrev main_v42 : Ref sig .tc := ⟨.hbm, 85, rfl⟩
abbrev main_c_34 : Ref sig .tc := ⟨.hbm, 86, rfl⟩
abbrev main_c_35 : Ref sig .tc := ⟨.hbm, 87, rfl⟩
abbrev main_v43 : Ref sig .tc := ⟨.hbm, 88, rfl⟩
abbrev main_c_36 : Ref sig .tc := ⟨.hbm, 89, rfl⟩
abbrev main_v44 : Ref sig .tc := ⟨.hbm, 90, rfl⟩
abbrev main_c_37 : Ref sig .tc := ⟨.hbm, 91, rfl⟩
abbrev main_v45 : Ref sig .tc := ⟨.hbm, 92, rfl⟩
abbrev main_v46 : Ref sig .tc := ⟨.hbm, 93, rfl⟩
abbrev main_c_38 : Ref sig .tc := ⟨.hbm, 94, rfl⟩
abbrev main_c_39 : Ref sig .tc := ⟨.hbm, 95, rfl⟩
abbrev main_v47 : Ref sig .tc := ⟨.hbm, 96, rfl⟩
abbrev main_c_40 : Ref sig .tc := ⟨.hbm, 97, rfl⟩
abbrev main_v48 : Ref sig .tc := ⟨.hbm, 98, rfl⟩
abbrev main_c_41 : Ref sig .tc := ⟨.hbm, 99, rfl⟩
abbrev main_v49 : Ref sig .tc := ⟨.hbm, 100, rfl⟩
abbrev main_v50 : Ref sig .tc := ⟨.hbm, 101, rfl⟩
abbrev main_c_42 : Ref sig .tc := ⟨.hbm, 102, rfl⟩
abbrev main_c_43 : Ref sig .tc := ⟨.hbm, 103, rfl⟩
abbrev main_v51 : Ref sig .tc := ⟨.hbm, 104, rfl⟩

abbrev nD : Nat := 4
abbrev τ : Topo := Topo.v7x

variable {F : FTy → Type} [FloatOps F]

abbrev grid0 : Pipeline.Grid := .none

def k0_off1 (d0 : Dev nD) : Fin 3 → Nat :=
  let c2_i32_6 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v10 : BitVec 32 := Scalar.muli c2_i32_6 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v11 : BitVec 32 := Scalar.addi v10 v5
  let c0_i32_26 : BitVec 32 := 0#32
  let c0_i32_27 : BitVec 32 := 0#32
  ![v11.toNat, 0, 0]
def k0_off2 (d0 : Dev nD) : Fin 3 → Nat :=
  let c2_i32_7 : BitVec 32 := 2#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let v12 : BitVec 32 := Scalar.muli c2_i32_7 v6
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v13 : BitVec 32 := Scalar.addi v12 v5
  let c0_i32_28 : BitVec 32 := 0#32
  let c0_i32_29 : BitVec 32 := 0#32
  ![v13.toNat, 0, 0]
def k0_dev1 (d0 : Dev nD) : Nat :=
  let c0_i32_24 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_23 : BitVec 32 := 2#32
  let v42 : BitVec 32 := Scalar.muli v6 c2_i32_23
  let v43 : BitVec 32 := Scalar.addi c0_i32_24 v42
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_25 : BitVec 32 := 1#32
  let v44 : BitVec 32 := Scalar.muli v5 c1_i32_25
  let v45 : BitVec 32 := Scalar.addi v43 v44
  v45.toNat
def k0_off3 (d0 : Dev nD) : Fin 3 → Nat :=
  let c2_i32_8 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v14 : BitVec 32 := Scalar.muli c2_i32_8 v2
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let v15 : BitVec 32 := Scalar.addi v14 v7
  let c0_i32_37 : BitVec 32 := 0#32
  let c0_i32_38 : BitVec 32 := 0#32
  ![v15.toNat, 0, 0]
def k0_dev2 (d0 : Dev nD) : Nat :=
  let c0_i32_33 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_32 : BitVec 32 := 2#32
  let v54 : BitVec 32 := Scalar.muli v2 c2_i32_32
  let v55 : BitVec 32 := Scalar.addi c0_i32_33 v54
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_34 : BitVec 32 := 1#32
  let v56 : BitVec 32 := Scalar.muli v7 c1_i32_34
  let v57 : BitVec 32 := Scalar.addi v55 v56
  v57.toNat
def k0_off4 (d0 : Dev nD) : Fin 3 → Nat :=
  let c2_i32_9 : BitVec 32 := 2#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let v16 : BitVec 32 := Scalar.muli c2_i32_9 v8
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let v17 : BitVec 32 := Scalar.addi v16 v9
  let c0_i32_46 : BitVec 32 := 0#32
  let c0_i32_47 : BitVec 32 := 0#32
  ![v17.toNat, 0, 0]
def k0_dev3 (d0 : Dev nD) : Nat :=
  let c0_i32_42 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_41 : BitVec 32 := 2#32
  let v66 : BitVec 32 := Scalar.muli v8 c2_i32_41
  let v67 : BitVec 32 := Scalar.addi c0_i32_42 v66
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_43 : BitVec 32 := 1#32
  let v68 : BitVec 32 := Scalar.muli v9 c1_i32_43
  let v69 : BitVec 32 := Scalar.addi v67 v68
  v69.toNat
def k0_off5 (d0 : Dev nD) : Fin 3 → Nat :=
  let c2_i32_6 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v10 : BitVec 32 := Scalar.muli c2_i32_6 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v11 : BitVec 32 := Scalar.addi v10 v5
  let c0_i32_52 : BitVec 32 := 0#32
  let c0_i32_53 : BitVec 32 := 0#32
  ![v11.toNat, 0, 0]
def k0_off6 (d0 : Dev nD) : Fin 3 → Nat :=
  let c2_i32_10 : BitVec 32 := 2#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let v18 : BitVec 32 := Scalar.muli c2_i32_10 v6
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v19 : BitVec 32 := Scalar.addi v18 v5
  let c0_i32_54 : BitVec 32 := 0#32
  let c0_i32_55 : BitVec 32 := 0#32
  ![v19.toNat, 0, 0]
def k0_dev4 (d0 : Dev nD) : Nat :=
  let c0_i32_50 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_49 : BitVec 32 := 2#32
  let v78 : BitVec 32 := Scalar.muli v6 c2_i32_49
  let v79 : BitVec 32 := Scalar.addi c0_i32_50 v78
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_51 : BitVec 32 := 1#32
  let v80 : BitVec 32 := Scalar.muli v5 c1_i32_51
  let v81 : BitVec 32 := Scalar.addi v79 v80
  v81.toNat
def k0_off7 (d0 : Dev nD) : Fin 3 → Nat :=
  let c2_i32_11 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v20 : BitVec 32 := Scalar.muli c2_i32_11 v2
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let v21 : BitVec 32 := Scalar.addi v20 v7
  let c0_i32_62 : BitVec 32 := 0#32
  let c0_i32_63 : BitVec 32 := 0#32
  ![v21.toNat, 0, 0]
def k0_dev5 (d0 : Dev nD) : Nat :=
  let c0_i32_58 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_57 : BitVec 32 := 2#32
  let v90 : BitVec 32 := Scalar.muli v2 c2_i32_57
  let v91 : BitVec 32 := Scalar.addi c0_i32_58 v90
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_59 : BitVec 32 := 1#32
  let v92 : BitVec 32 := Scalar.muli v7 c1_i32_59
  let v93 : BitVec 32 := Scalar.addi v91 v92
  v93.toNat
def k0_off8 (d0 : Dev nD) : Fin 3 → Nat :=
  let c2_i32_12 : BitVec 32 := 2#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let v22 : BitVec 32 := Scalar.muli c2_i32_12 v8
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let v23 : BitVec 32 := Scalar.addi v22 v9
  let c0_i32_70 : BitVec 32 := 0#32
  let c0_i32_71 : BitVec 32 := 0#32
  ![v23.toNat, 0, 0]
def k0_dev6 (d0 : Dev nD) : Nat :=
  let c0_i32_66 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_65 : BitVec 32 := 2#32
  let v102 : BitVec 32 := Scalar.muli v8 c2_i32_65
  let v103 : BitVec 32 := Scalar.addi c0_i32_66 v102
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_67 : BitVec 32 := 1#32
  let v104 : BitVec 32 := Scalar.muli v9 c1_i32_67
  let v105 : BitVec 32 := Scalar.addi v103 v104
  v105.toNat
def k0_off9 (d0 : Dev nD) : Fin 3 → Nat :=
  let c2_i32_6 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v10 : BitVec 32 := Scalar.muli c2_i32_6 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v11 : BitVec 32 := Scalar.addi v10 v5
  let c0_i32_76 : BitVec 32 := 0#32
  let c0_i32_77 : BitVec 32 := 0#32
  ![v11.toNat, 0, 0]
def k0_off10 (d0 : Dev nD) : Fin 3 → Nat :=
  let c2_i32_13 : BitVec 32 := 2#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let v24 : BitVec 32 := Scalar.muli c2_i32_13 v6
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v25 : BitVec 32 := Scalar.addi v24 v5
  let c0_i32_78 : BitVec 32 := 0#32
  let c0_i32_79 : BitVec 32 := 0#32
  ![v25.toNat, 0, 0]
def k0_dev7 (d0 : Dev nD) : Nat :=
  let c0_i32_74 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_73 : BitVec 32 := 2#32
  let v114 : BitVec 32 := Scalar.muli v6 c2_i32_73
  let v115 : BitVec 32 := Scalar.addi c0_i32_74 v114
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_75 : BitVec 32 := 1#32
  let v116 : BitVec 32 := Scalar.muli v5 c1_i32_75
  let v117 : BitVec 32 := Scalar.addi v115 v116
  v117.toNat
def k0_off11 (d0 : Dev nD) : Fin 3 → Nat :=
  let c2_i32_14 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v26 : BitVec 32 := Scalar.muli c2_i32_14 v2
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let v27 : BitVec 32 := Scalar.addi v26 v7
  let c0_i32_86 : BitVec 32 := 0#32
  let c0_i32_87 : BitVec 32 := 0#32
  ![v27.toNat, 0, 0]
def k0_dev8 (d0 : Dev nD) : Nat :=
  let c0_i32_82 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_81 : BitVec 32 := 2#32
  let v126 : BitVec 32 := Scalar.muli v2 c2_i32_81
  let v127 : BitVec 32 := Scalar.addi c0_i32_82 v126
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_83 : BitVec 32 := 1#32
  let v128 : BitVec 32 := Scalar.muli v7 c1_i32_83
  let v129 : BitVec 32 := Scalar.addi v127 v128
  v129.toNat
def k0_off12 (d0 : Dev nD) : Fin 3 → Nat :=
  let c2_i32_15 : BitVec 32 := 2#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let v28 : BitVec 32 := Scalar.muli c2_i32_15 v8
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let v29 : BitVec 32 := Scalar.addi v28 v9
  let c0_i32_94 : BitVec 32 := 0#32
  let c0_i32_95 : BitVec 32 := 0#32
  ![v29.toNat, 0, 0]
def k0_dev9 (d0 : Dev nD) : Nat :=
  let c0_i32_90 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_89 : BitVec 32 := 2#32
  let v138 : BitVec 32 := Scalar.muli v8 c2_i32_89
  let v139 : BitVec 32 := Scalar.addi c0_i32_90 v138
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_91 : BitVec 32 := 1#32
  let v140 : BitVec 32 := Scalar.muli v9 c1_i32_91
  let v141 : BitVec 32 := Scalar.addi v139 v140
  v141.toNat
def k0_off13 (d0 : Dev nD) : Fin 3 → Nat :=
  let c2_i32_6 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v10 : BitVec 32 := Scalar.muli c2_i32_6 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v11 : BitVec 32 := Scalar.addi v10 v5
  let c0_i32_100 : BitVec 32 := 0#32
  let c0_i32_101 : BitVec 32 := 0#32
  ![v11.toNat, 0, 0]
def k0_off14 (d0 : Dev nD) : Fin 3 → Nat :=
  let c2_i32_16 : BitVec 32 := 2#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let v30 : BitVec 32 := Scalar.muli c2_i32_16 v6
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v31 : BitVec 32 := Scalar.addi v30 v5
  let c0_i32_102 : BitVec 32 := 0#32
  let c0_i32_103 : BitVec 32 := 0#32
  ![v31.toNat, 0, 0]
def k0_dev10 (d0 : Dev nD) : Nat :=
  let c0_i32_98 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_97 : BitVec 32 := 2#32
  let v150 : BitVec 32 := Scalar.muli v6 c2_i32_97
  let v151 : BitVec 32 := Scalar.addi c0_i32_98 v150
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_99 : BitVec 32 := 1#32
  let v152 : BitVec 32 := Scalar.muli v5 c1_i32_99
  let v153 : BitVec 32 := Scalar.addi v151 v152
  v153.toNat
def k0_off15 (d0 : Dev nD) : Fin 3 → Nat :=
  let c2_i32_17 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.muli c2_i32_17 v2
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let v33 : BitVec 32 := Scalar.addi v32 v7
  let c0_i32_110 : BitVec 32 := 0#32
  let c0_i32_111 : BitVec 32 := 0#32
  ![v33.toNat, 0, 0]
def k0_dev11 (d0 : Dev nD) : Nat :=
  let c0_i32_106 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_105 : BitVec 32 := 2#32
  let v162 : BitVec 32 := Scalar.muli v2 c2_i32_105
  let v163 : BitVec 32 := Scalar.addi c0_i32_106 v162
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_107 : BitVec 32 := 1#32
  let v164 : BitVec 32 := Scalar.muli v7 c1_i32_107
  let v165 : BitVec 32 := Scalar.addi v163 v164
  v165.toNat
def k0_off16 (d0 : Dev nD) : Fin 3 → Nat :=
  let c2_i32_18 : BitVec 32 := 2#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let v34 : BitVec 32 := Scalar.muli c2_i32_18 v8
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let v35 : BitVec 32 := Scalar.addi v34 v9
  let c0_i32_118 : BitVec 32 := 0#32
  let c0_i32_119 : BitVec 32 := 0#32
  ![v35.toNat, 0, 0]
def k0_dev12 (d0 : Dev nD) : Nat :=
  let c0_i32_114 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_113 : BitVec 32 := 2#32
  let v174 : BitVec 32 := Scalar.muli v8 c2_i32_113
  let v175 : BitVec 32 := Scalar.addi c0_i32_114 v174
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_115 : BitVec 32 := 1#32
  let v176 : BitVec 32 := Scalar.muli v9 c1_i32_115
  let v177 : BitVec 32 := Scalar.addi v175 v176
  v177.toNat
def k0_off17 (d0 : Dev nD) : Fin 3 → Nat :=
  let c2_i32_6 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v10 : BitVec 32 := Scalar.muli c2_i32_6 v2
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v11 : BitVec 32 := Scalar.addi v10 v5
  let c0_i32_124 : BitVec 32 := 0#32
  let c0_i32_125 : BitVec 32 := 0#32
  ![v11.toNat, 0, 0]
def k0_off18 (d0 : Dev nD) : Fin 3 → Nat :=
  let c2_i32_19 : BitVec 32 := 2#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let v36 : BitVec 32 := Scalar.muli c2_i32_19 v6
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v37 : BitVec 32 := Scalar.addi v36 v5
  let c0_i32_126 : BitVec 32 := 0#32
  let c0_i32_127 : BitVec 32 := 0#32
  ![v37.toNat, 0, 0]
def k0_dev13 (d0 : Dev nD) : Nat :=
  let c0_i32_122 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_121 : BitVec 32 := 2#32
  let v186 : BitVec 32 := Scalar.muli v6 c2_i32_121
  let v187 : BitVec 32 := Scalar.addi c0_i32_122 v186
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_123 : BitVec 32 := 1#32
  let v188 : BitVec 32 := Scalar.muli v5 c1_i32_123
  let v189 : BitVec 32 := Scalar.addi v187 v188
  v189.toNat
def k0_off19 (d0 : Dev nD) : Fin 3 → Nat :=
  let c2_i32_20 : BitVec 32 := 2#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v38 : BitVec 32 := Scalar.muli c2_i32_20 v2
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let v39 : BitVec 32 := Scalar.addi v38 v7
  let c0_i32_134 : BitVec 32 := 0#32
  let c0_i32_135 : BitVec 32 := 0#32
  ![v39.toNat, 0, 0]
def k0_dev14 (d0 : Dev nD) : Nat :=
  let c0_i32_130 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_129 : BitVec 32 := 2#32
  let v198 : BitVec 32 := Scalar.muli v2 c2_i32_129
  let v199 : BitVec 32 := Scalar.addi c0_i32_130 v198
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_131 : BitVec 32 := 1#32
  let v200 : BitVec 32 := Scalar.muli v7 c1_i32_131
  let v201 : BitVec 32 := Scalar.addi v199 v200
  v201.toNat
def k0_off20 (d0 : Dev nD) : Fin 3 → Nat :=
  let c2_i32_21 : BitVec 32 := 2#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let v40 : BitVec 32 := Scalar.muli c2_i32_21 v8
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let v41 : BitVec 32 := Scalar.addi v40 v9
  let c0_i32_142 : BitVec 32 := 0#32
  let c0_i32_143 : BitVec 32 := 0#32
  ![v41.toNat, 0, 0]
def k0_dev15 (d0 : Dev nD) : Nat :=
  let c0_i32_138 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c2_i32_137 : BitVec 32 := 2#32
  let v210 : BitVec 32 := Scalar.muli v8 c2_i32_137
  let v211 : BitVec 32 := Scalar.addi c0_i32_138 v210
  let c1_i32_5 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_5 v5
  let c1_i32_139 : BitVec 32 := 1#32
  let v212 : BitVec 32 := Scalar.muli v9 c1_i32_139
  let v213 : BitVec 32 := Scalar.addi v211 v212
  v213.toNat
-- ==== ScatRefIdeal.lean ====
abbrev S16x1024x1668 : Shape := ⟨3, ![16, 1024, 1668]⟩
abbrev S16x1024x1408 : Shape := ⟨3, ![16, 1024, 1408]⟩
abbrev S16x704x1024 : Shape := ⟨3, ![16, 704, 1024]⟩
abbrev S16x256x1024 : Shape := ⟨3, ![16, 256, 1024]⟩
abbrev S16x368x128 : Shape := ⟨3, ![16, 368, 128]⟩
abbrev S4x4x1024x1668 : Shape := ⟨4, ![4, 4, 1024, 1668]⟩
abbrev S4x4x1024x1408 : Shape := ⟨4, ![4, 4, 1024, 1408]⟩
abbrev S4x4x704x1024 : Shape := ⟨4, ![4, 4, 704, 1024]⟩
abbrev S4x4x256x1024 : Shape := ⟨4, ![4, 4, 256, 1024]⟩
abbrev S4x4x368x128 : Shape := ⟨4, ![4, 4, 368, 128]⟩

abbrev nBuf : Space → Nat
  | .hbm => 20
  | .vmem => 0
  | .smem => 0
  | _ => 0

abbrev bufTy : (tb : Table) → Fin (tcTables nBuf tb) → BufTy
  | .hbm, ⟨0, _⟩ => ⟨S16x1024x1668, .bf16⟩
  | .hbm, ⟨1, _⟩ => ⟨S16x1024x1408, .bf16⟩
  | .hbm, ⟨2, _⟩ => ⟨S16x704x1024, .bf16⟩
  | .hbm, ⟨3, _⟩ => ⟨S16x256x1024, .bf16⟩
  | .hbm, ⟨4, _⟩ => ⟨S16x368x128, .f32⟩
  | .hbm, ⟨5, _⟩ => ⟨S4x4x1024x1668, .bf16⟩
  | .hbm, ⟨6, _⟩ => ⟨S4x4x1024x1668, .bf16⟩
  | .hbm, ⟨7, _⟩ => ⟨S16x1024x1668, .bf16⟩
  | .hbm, ⟨8, _⟩ => ⟨S4x4x1024x1408, .bf16⟩
  | .hbm, ⟨9, _⟩ => ⟨S4x4x1024x1408, .bf16⟩
  | .hbm, ⟨10, _⟩ => ⟨S16x1024x1408, .bf16⟩
  | .hbm, ⟨11, _⟩ => ⟨S4x4x704x1024, .bf16⟩
  | .hbm, ⟨12, _⟩ => ⟨S4x4x704x1024, .bf16⟩
  | .hbm, ⟨13, _⟩ => ⟨S16x704x1024, .bf16⟩
  | .hbm, ⟨14, _⟩ => ⟨S4x4x256x1024, .bf16⟩
  | .hbm, ⟨15, _⟩ => ⟨S4x4x256x1024, .bf16⟩
  | .hbm, ⟨16, _⟩ => ⟨S16x256x1024, .bf16⟩
  | .hbm, ⟨17, _⟩ => ⟨S4x4x368x128, .f32⟩
  | .hbm, ⟨18, _⟩ => ⟨S4x4x368x128, .f32⟩
  | .hbm, ⟨19, _⟩ => ⟨S16x368x128, .f32⟩
  | _, _ => ⟨S16x1024x1668, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Gath.lean ====
abbrev S2x1024x1668 : Shape := ⟨3, ![2, 1024, 1668]⟩
abbrev S2x1024x1408 : Shape := ⟨3, ![2, 1024, 1408]⟩
abbrev S2x704x1024 : Shape := ⟨3, ![2, 704, 1024]⟩
abbrev S2x256x1024 : Shape := ⟨3, ![2, 256, 1024]⟩
abbrev S2x416x128 : Shape := ⟨3, ![2, 416, 128]⟩
abbrev S4x2x1024x1668 : Shape := ⟨4, ![4, 2, 1024, 1668]⟩
abbrev S4x2x1024x1408 : Shape := ⟨4, ![4, 2, 1024, 1408]⟩
abbrev S4x2x704x1024 : Shape := ⟨4, ![4, 2, 704, 1024]⟩
abbrev S4x2x256x1024 : Shape := ⟨4, ![4, 2, 256, 1024]⟩
abbrev S4x2x416x128 : Shape := ⟨4, ![4, 2, 416, 128]⟩
abbrev S30 : Shape := ⟨1, ![30]⟩
abbrev S1 : Shape := ⟨1, ![1]⟩
abbrev S_ : Shape := ⟨0, ![]⟩
abbrev S1x1x1024x1668 : Shape := ⟨4, ![1, 1, 1024, 1668]⟩
abbrev S1024x1668 : Shape := ⟨2, ![1024, 1668]⟩
abbrev S1x1024x1668 : Shape := ⟨3, ![1, 1024, 1668]⟩
abbrev S1x1x1024x1408 : Shape := ⟨4, ![1, 1, 1024, 1408]⟩
abbrev S1024x1408 : Shape := ⟨2, ![1024, 1408]⟩
abbrev S1x1024x1408 : Shape := ⟨3, ![1, 1024, 1408]⟩
abbrev S1x1x704x1024 : Shape := ⟨4, ![1, 1, 704, 1024]⟩
abbrev S704x1024 : Shape := ⟨2, ![704, 1024]⟩
abbrev S1x704x1024 : Shape := ⟨3, ![1, 704, 1024]⟩
abbrev S1x1x256x1024 : Shape := ⟨4, ![1, 1, 256, 1024]⟩
abbrev S256x1024 : Shape := ⟨2, ![256, 1024]⟩
abbrev S1x256x1024 : Shape := ⟨3, ![1, 256, 1024]⟩
abbrev S1x1x416x128 : Shape := ⟨4, ![1, 1, 416, 128]⟩
abbrev S416x128 : Shape := ⟨2, ![416, 128]⟩
abbrev S1x416x128 : Shape := ⟨3, ![1, 416, 128]⟩
abbrev S1x2x1024x1668 : Shape := ⟨4, ![1, 2, 1024, 1668]⟩
abbrev S1x2x1024x1408 : Shape := ⟨4, ![1, 2, 1024, 1408]⟩
abbrev S1x2x704x1024 : Shape := ⟨4, ![1, 2, 704, 1024]⟩
abbrev S1x2x256x1024 : Shape := ⟨4, ![1, 2, 256, 1024]⟩
abbrev S1x2x416x128 : Shape := ⟨4, ![1, 2, 416, 128]⟩

abbrev nBuf : Space → Nat
  | .hbm => 75
  | .vmem => 0
  | .smem => 0
  | _ => 0

abbrev bufTy : (tb : Table) → Fin (tcTables nBuf tb) → BufTy
  | .hbm, ⟨0, _⟩ => ⟨S2x1024x1668, .bf16⟩
  | .hbm, ⟨1, _⟩ => ⟨S2x1024x1408, .bf16⟩
  | .hbm, ⟨2, _⟩ => ⟨S2x704x1024, .bf16⟩
  | .hbm, ⟨3, _⟩ => ⟨S2x256x1024, .bf16⟩
  | .hbm, ⟨4, _⟩ => ⟨S2x416x128, .bf16⟩
  | .hbm, ⟨5, _⟩ => ⟨S4x2x1024x1668, .bf16⟩
  | .hbm, ⟨6, _⟩ => ⟨S4x2x1024x1408, .bf16⟩
  | .hbm, ⟨7, _⟩ => ⟨S4x2x704x1024, .bf16⟩
  | .hbm, ⟨8, _⟩ => ⟨S4x2x256x1024, .bf16⟩
  | .hbm, ⟨9, _⟩ => ⟨S4x2x416x128, .bf16⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1x2x1024x1668, .bf16⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S4x2x1024x1668, .bf16⟩
  | .hbm, ⟨35, _⟩ => ⟨S1x2x1024x1408, .bf16⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S4x2x1024x1408, .bf16⟩
  | .hbm, ⟨45, _⟩ => ⟨S1x2x704x1024, .bf16⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S4x2x704x1024, .bf16⟩
  | .hbm, ⟨55, _⟩ => ⟨S1x2x256x1024, .bf16⟩
  | .hbm, ⟨56, _⟩ => ⟨S_, .i32⟩
  | .hbm, ⟨57, _⟩ => ⟨S_, .i1⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S4x2x256x1024, .bf16⟩
  | .hbm, ⟨65, _⟩ => ⟨S1x2x416x128, .bf16⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S4x2x416x128, .bf16⟩
  | _, _ => ⟨S2x1024x1668, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_c : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_c_2 : Ref sig .tc := ⟨.hbm, 18, rfl⟩
abbrev main_c_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_c_5 : Ref sig .tc := ⟨.hbm, 28, rfl⟩
abbrev main_v14 : Ref sig .tc := ⟨.hbm, 29, rfl⟩
abbrev main_v15 : Ref sig .tc := ⟨.hbm, 30, rfl⟩
abbrev main_c_6 : Ref sig .tc := ⟨.hbm, 31, rfl⟩
abbrev main_c_7 : Ref sig .tc := ⟨.hbm, 32, rfl⟩
abbrev main_c_8 : Ref sig .tc := ⟨.hbm, 33, rfl⟩
abbrev main_v16 : Ref sig .tc := ⟨.hbm, 34, rfl⟩
abbrev main_v17 : Ref sig .tc := ⟨.hbm, 35, rfl⟩
abbrev main_c_9 : Ref sig .tc := ⟨.hbm, 36, rfl⟩
abbrev main_v18 : Ref sig .tc := ⟨.hbm, 37, rfl⟩
abbrev main_c_10 : Ref sig .tc := ⟨.hbm, 38, rfl⟩
abbrev main_v19 : Ref sig .tc := ⟨.hbm, 39, rfl⟩
abbrev main_v20 : Ref sig .tc := ⟨.hbm, 40, rfl⟩
abbrev main_c_11 : Ref sig .tc := ⟨.hbm, 41, rfl⟩
abbrev main_c_12 : Ref sig .tc := ⟨.hbm, 42, rfl⟩
abbrev main_c_13 : Ref sig .tc := ⟨.hbm, 43, rfl⟩
abbrev main_v21 : Ref sig .tc := ⟨.hbm, 44, rfl⟩
abbrev main_v22 : Ref sig .tc := ⟨.hbm, 45, rfl⟩
abbrev main_c_14 : Ref sig .tc := ⟨.hbm, 46, rfl⟩
abbrev main_v23 : Ref sig .tc := ⟨.hbm, 47, rfl⟩
abbrev main_c_15 : Ref sig .tc := ⟨.hbm, 48, rfl⟩
abbrev main_v24 : Ref sig .tc := ⟨.hbm, 49, rfl⟩
abbrev main_v25 : Ref sig .tc := ⟨.hbm, 50, rfl⟩
abbrev main_c_16 : Ref sig .tc := ⟨.hbm, 51, rfl⟩
abbrev main_c_17 : Ref sig .tc := ⟨.hbm, 52, rfl⟩
abbrev main_c_18 : Ref sig .tc := ⟨.hbm, 53, rfl⟩
abbrev main_v26 : Ref sig .tc := ⟨.hbm, 54, rfl⟩
abbrev main_v27 : Ref sig .tc := ⟨.hbm, 55, rfl⟩
abbrev main_c_19 : Ref sig .tc := ⟨.hbm, 56, rfl⟩
abbrev main_v28 : Ref sig .tc := ⟨.hbm, 57, rfl⟩
abbrev main_c_20 : Ref sig .tc := ⟨.hbm, 58, rfl⟩
abbrev main_v29 : Ref sig .tc := ⟨.hbm, 59, rfl⟩
abbrev main_v30 : Ref sig .tc := ⟨.hbm, 60, rfl⟩
abbrev main_c_21 : Ref sig .tc := ⟨.hbm, 61, rfl⟩
abbrev main_c_22 : Ref sig .tc := ⟨.hbm, 62, rfl⟩
abbrev main_c_23 : Ref sig .tc := ⟨.hbm, 63, rfl⟩
abbrev main_v31 : Ref sig .tc := ⟨.hbm, 64, rfl⟩
abbrev main_v32 : Ref sig .tc := ⟨.hbm, 65, rfl⟩
abbrev main_c_24 : Ref sig .tc := ⟨.hbm, 66, rfl⟩
abbrev main_v33 : Ref sig .tc := ⟨.hbm, 67, rfl⟩
abbrev main_c_25 : Ref sig .tc := ⟨.hbm, 68, rfl⟩
abbrev main_v34 : Ref sig .tc := ⟨.hbm, 69, rfl⟩
abbrev main_v35 : Ref sig .tc := ⟨.hbm, 70, rfl⟩
abbrev main_c_26 : Ref sig .tc := ⟨.hbm, 71, rfl⟩
abbrev main_c_27 : Ref sig .tc := ⟨.hbm, 72, rfl⟩
abbrev main_c_28 : Ref sig .tc := ⟨.hbm, 73, rfl⟩
abbrev main_v36 : Ref sig .tc := ⟨.hbm, 74, rfl⟩

abbrev nD : Nat := 8
abbrev τ : Topo := Topo.v7x

variable {F : FTy → Type} [FloatOps F]

abbrev grid0 : Pipeline.Grid := .none

def k0_off1 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_27 : BitVec 32 := 0#32
  let c0_i32_28 : BitVec 32 := 0#32
  ![v14.toNat, v8.toNat, 0, 0]
def k0_off2 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_29 : BitVec 32 := 0#32
  let c0_i32_30 : BitVec 32 := 0#32
  ![v8.toNat, 0, 0]
def k0_dev1 (d0 : Dev nD) : Nat :=
  let c0_i32_24 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_23 : BitVec 32 := 4#32
  let v43 : BitVec 32 := Scalar.muli v9 c4_i32_23
  let v44 : BitVec 32 := Scalar.addi c0_i32_24 v43
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_25 : BitVec 32 := 2#32
  let v45 : BitVec 32 := Scalar.muli v5 c2_i32_25
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v47 : BitVec 32 := Scalar.muli v8 c1_i32_26
  let v48 : BitVec 32 := Scalar.addi v46 v47
  v48.toNat
def k0_dev2 (d0 : Dev nD) : Nat :=
  let c0_i32_34 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_33 : BitVec 32 := 4#32
  let v57 : BitVec 32 := Scalar.muli v2 c4_i32_33
  let v58 : BitVec 32 := Scalar.addi c0_i32_34 v57
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_35 : BitVec 32 := 2#32
  let v59 : BitVec 32 := Scalar.muli v10 c2_i32_35
  let v60 : BitVec 32 := Scalar.addi v58 v59
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v61 : BitVec 32 := Scalar.muli v8 c1_i32_36
  let v62 : BitVec 32 := Scalar.addi v60 v61
  v62.toNat
def k0_dev3 (d0 : Dev nD) : Nat :=
  let c0_i32_44 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_43 : BitVec 32 := 4#32
  let v71 : BitVec 32 := Scalar.muli v11 c4_i32_43
  let v72 : BitVec 32 := Scalar.addi c0_i32_44 v71
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_45 : BitVec 32 := 2#32
  let v73 : BitVec 32 := Scalar.muli v12 c2_i32_45
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_46 : BitVec 32 := 1#32
  let v75 : BitVec 32 := Scalar.muli v8 c1_i32_46
  let v76 : BitVec 32 := Scalar.addi v74 v75
  v76.toNat
def k0_off3 (d0 : Dev nD) : Fin 4 → Nat :=
  let c2_i32_10 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_10 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_56 : BitVec 32 := 0#32
  let c0_i32_57 : BitVec 32 := 0#32
  ![v20.toNat, v8.toNat, 0, 0]
def k0_off4 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_58 : BitVec 32 := 0#32
  let c0_i32_59 : BitVec 32 := 0#32
  ![v8.toNat, 0, 0]
def k0_dev4 (d0 : Dev nD) : Nat :=
  let c0_i32_53 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_52 : BitVec 32 := 4#32
  let v85 : BitVec 32 := Scalar.muli v9 c4_i32_52
  let v86 : BitVec 32 := Scalar.addi c0_i32_53 v85
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_54 : BitVec 32 := 2#32
  let v87 : BitVec 32 := Scalar.muli v5 c2_i32_54
  let v88 : BitVec 32 := Scalar.addi v86 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_55 : BitVec 32 := 1#32
  let v89 : BitVec 32 := Scalar.muli v8 c1_i32_55
  let v90 : BitVec 32 := Scalar.addi v88 v89
  v90.toNat
def k0_dev5 (d0 : Dev nD) : Nat :=
  let c0_i32_62 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_61 : BitVec 32 := 4#32
  let v99 : BitVec 32 := Scalar.muli v2 c4_i32_61
  let v100 : BitVec 32 := Scalar.addi c0_i32_62 v99
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_63 : BitVec 32 := 2#32
  let v101 : BitVec 32 := Scalar.muli v10 c2_i32_63
  let v102 : BitVec 32 := Scalar.addi v100 v101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_64 : BitVec 32 := 1#32
  let v103 : BitVec 32 := Scalar.muli v8 c1_i32_64
  let v104 : BitVec 32 := Scalar.addi v102 v103
  v104.toNat
def k0_dev6 (d0 : Dev nD) : Nat :=
  let c0_i32_71 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_70 : BitVec 32 := 4#32
  let v113 : BitVec 32 := Scalar.muli v11 c4_i32_70
  let v114 : BitVec 32 := Scalar.addi c0_i32_71 v113
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_72 : BitVec 32 := 2#32
  let v115 : BitVec 32 := Scalar.muli v12 c2_i32_72
  let v116 : BitVec 32 := Scalar.addi v114 v115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_73 : BitVec 32 := 1#32
  let v117 : BitVec 32 := Scalar.muli v8 c1_i32_73
  let v118 : BitVec 32 := Scalar.addi v116 v117
  v118.toNat
def k0_off5 (d0 : Dev nD) : Fin 4 → Nat :=
  let c2_i32_13 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.muli c2_i32_13 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v26 : BitVec 32 := Scalar.addi v25 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_83 : BitVec 32 := 0#32
  let c0_i32_84 : BitVec 32 := 0#32
  ![v26.toNat, v8.toNat, 0, 0]
def k0_off6 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_85 : BitVec 32 := 0#32
  let c0_i32_86 : BitVec 32 := 0#32
  ![v8.toNat, 0, 0]
def k0_dev7 (d0 : Dev nD) : Nat :=
  let c0_i32_80 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_79 : BitVec 32 := 4#32
  let v127 : BitVec 32 := Scalar.muli v9 c4_i32_79
  let v128 : BitVec 32 := Scalar.addi c0_i32_80 v127
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_81 : BitVec 32 := 2#32
  let v129 : BitVec 32 := Scalar.muli v5 c2_i32_81
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v131 : BitVec 32 := Scalar.muli v8 c1_i32_82
  let v132 : BitVec 32 := Scalar.addi v130 v131
  v132.toNat
def k0_dev8 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_88 : BitVec 32 := 4#32
  let v141 : BitVec 32 := Scalar.muli v2 c4_i32_88
  let v142 : BitVec 32 := Scalar.addi c0_i32_89 v141
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_90 : BitVec 32 := 2#32
  let v143 : BitVec 32 := Scalar.muli v10 c2_i32_90
  let v144 : BitVec 32 := Scalar.addi v142 v143
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_91 : BitVec 32 := 1#32
  let v145 : BitVec 32 := Scalar.muli v8 c1_i32_91
  let v146 : BitVec 32 := Scalar.addi v144 v145
  v146.toNat
def k0_dev9 (d0 : Dev nD) : Nat :=
  let c0_i32_98 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_97 : BitVec 32 := 4#32
  let v155 : BitVec 32 := Scalar.muli v11 c4_i32_97
  let v156 : BitVec 32 := Scalar.addi c0_i32_98 v155
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_99 : BitVec 32 := 2#32
  let v157 : BitVec 32 := Scalar.muli v12 c2_i32_99
  let v158 : BitVec 32 := Scalar.addi v156 v157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_100 : BitVec 32 := 1#32
  let v159 : BitVec 32 := Scalar.muli v8 c1_i32_100
  let v160 : BitVec 32 := Scalar.addi v158 v159
  v160.toNat
def k0_off7 (d0 : Dev nD) : Fin 4 → Nat :=
  let c2_i32_16 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v31 : BitVec 32 := Scalar.muli c2_i32_16 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.addi v31 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_110 : BitVec 32 := 0#32
  let c0_i32_111 : BitVec 32 := 0#32
  ![v32.toNat, v8.toNat, 0, 0]
def k0_off8 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_112 : BitVec 32 := 0#32
  let c0_i32_113 : BitVec 32 := 0#32
  ![v8.toNat, 0, 0]
def k0_dev10 (d0 : Dev nD) : Nat :=
  let c0_i32_107 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_106 : BitVec 32 := 4#32
  let v169 : BitVec 32 := Scalar.muli v9 c4_i32_106
  let v170 : BitVec 32 := Scalar.addi c0_i32_107 v169
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_108 : BitVec 32 := 2#32
  let v171 : BitVec 32 := Scalar.muli v5 c2_i32_108
  let v172 : BitVec 32 := Scalar.addi v170 v171
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_109 : BitVec 32 := 1#32
  let v173 : BitVec 32 := Scalar.muli v8 c1_i32_109
  let v174 : BitVec 32 := Scalar.addi v172 v173
  v174.toNat
def k0_dev11 (d0 : Dev nD) : Nat :=
  let c0_i32_116 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_115 : BitVec 32 := 4#32
  let v183 : BitVec 32 := Scalar.muli v2 c4_i32_115
  let v184 : BitVec 32 := Scalar.addi c0_i32_116 v183
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_117 : BitVec 32 := 2#32
  let v185 : BitVec 32 := Scalar.muli v10 c2_i32_117
  let v186 : BitVec 32 := Scalar.addi v184 v185
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_118 : BitVec 32 := 1#32
  let v187 : BitVec 32 := Scalar.muli v8 c1_i32_118
  let v188 : BitVec 32 := Scalar.addi v186 v187
  v188.toNat
def k0_dev12 (d0 : Dev nD) : Nat :=
  let c0_i32_125 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_124 : BitVec 32 := 4#32
  let v197 : BitVec 32 := Scalar.muli v11 c4_i32_124
  let v198 : BitVec 32 := Scalar.addi c0_i32_125 v197
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_126 : BitVec 32 := 2#32
  let v199 : BitVec 32 := Scalar.muli v12 c2_i32_126
  let v200 : BitVec 32 := Scalar.addi v198 v199
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_127 : BitVec 32 := 1#32
  let v201 : BitVec 32 := Scalar.muli v8 c1_i32_127
  let v202 : BitVec 32 := Scalar.addi v200 v201
  v202.toNat
def k0_off9 (d0 : Dev nD) : Fin 4 → Nat :=
  let c2_i32_19 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.muli c2_i32_19 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v38 : BitVec 32 := Scalar.addi v37 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_137 : BitVec 32 := 0#32
  let c0_i32_138 : BitVec 32 := 0#32
  ![v38.toNat, v8.toNat, 0, 0]
def k0_off10 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_139 : BitVec 32 := 0#32
  let c0_i32_140 : BitVec 32 := 0#32
  ![v8.toNat, 0, 0]
def k0_dev13 (d0 : Dev nD) : Nat :=
  let c0_i32_134 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_133 : BitVec 32 := 4#32
  let v211 : BitVec 32 := Scalar.muli v9 c4_i32_133
  let v212 : BitVec 32 := Scalar.addi c0_i32_134 v211
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_135 : BitVec 32 := 2#32
  let v213 : BitVec 32 := Scalar.muli v5 c2_i32_135
  let v214 : BitVec 32 := Scalar.addi v212 v213
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_136 : BitVec 32 := 1#32
  let v215 : BitVec 32 := Scalar.muli v8 c1_i32_136
  let v216 : BitVec 32 := Scalar.addi v214 v215
  v216.toNat
def k0_dev14 (d0 : Dev nD) : Nat :=
  let c0_i32_143 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_142 : BitVec 32 := 4#32
  let v225 : BitVec 32 := Scalar.muli v2 c4_i32_142
  let v226 : BitVec 32 := Scalar.addi c0_i32_143 v225
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_144 : BitVec 32 := 2#32
  let v227 : BitVec 32 := Scalar.muli v10 c2_i32_144
  let v228 : BitVec 32 := Scalar.addi v226 v227
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_145 : BitVec 32 := 1#32
  let v229 : BitVec 32 := Scalar.muli v8 c1_i32_145
  let v230 : BitVec 32 := Scalar.addi v228 v229
  v230.toNat
def k0_dev15 (d0 : Dev nD) : Nat :=
  let c0_i32_152 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_151 : BitVec 32 := 4#32
  let v239 : BitVec 32 := Scalar.muli v11 c4_i32_151
  let v240 : BitVec 32 := Scalar.addi c0_i32_152 v239
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_153 : BitVec 32 := 2#32
  let v241 : BitVec 32 := Scalar.muli v12 c2_i32_153
  let v242 : BitVec 32 := Scalar.addi v240 v241
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_154 : BitVec 32 := 1#32
  let v243 : BitVec 32 := Scalar.muli v8 c1_i32_154
  let v244 : BitVec 32 := Scalar.addi v242 v243
  v244.toNat
def k0_off11 (d0 : Dev nD) : Fin 4 → Nat :=
  let c2_i32_159 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v253 : BitVec 32 := Scalar.muli c2_i32_159 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v254 : BitVec 32 := Scalar.addi v253 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_166 : BitVec 32 := 0#32
  let c0_i32_167 : BitVec 32 := 0#32
  ![v254.toNat, v8.toNat, 0, 0]
def k0_dev16 (d0 : Dev nD) : Nat :=
  let c0_i32_174 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_173 : BitVec 32 := 4#32
  let v270 : BitVec 32 := Scalar.muli v2 c4_i32_173
  let v271 : BitVec 32 := Scalar.addi c0_i32_174 v270
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_175 : BitVec 32 := 2#32
  let v272 : BitVec 32 := Scalar.muli v5 c2_i32_175
  let v273 : BitVec 32 := Scalar.addi v271 v272
  let c1_i32_170 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v267 : BitVec 32 := Scalar.subi c1_i32_170 v8
  let c1_i32_176 : BitVec 32 := 1#32
  let v274 : BitVec 32 := Scalar.muli v267 c1_i32_176
  let v275 : BitVec 32 := Scalar.addi v273 v274
  v275.toNat
def k0_off12 (d0 : Dev nD) : Fin 4 → Nat :=
  let c2_i32_181 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v284 : BitVec 32 := Scalar.muli c2_i32_181 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v285 : BitVec 32 := Scalar.addi v284 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_188 : BitVec 32 := 0#32
  let c0_i32_189 : BitVec 32 := 0#32
  ![v285.toNat, v8.toNat, 0, 0]
def k0_dev17 (d0 : Dev nD) : Nat :=
  let c0_i32_197 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_196 : BitVec 32 := 4#32
  let v301 : BitVec 32 := Scalar.muli v2 c4_i32_196
  let v302 : BitVec 32 := Scalar.addi c0_i32_197 v301
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_198 : BitVec 32 := 2#32
  let v303 : BitVec 32 := Scalar.muli v5 c2_i32_198
  let v304 : BitVec 32 := Scalar.addi v302 v303
  let c1_i32_192 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v298 : BitVec 32 := Scalar.subi c1_i32_192 v8
  let c1_i32_199 : BitVec 32 := 1#32
  let v305 : BitVec 32 := Scalar.muli v298 c1_i32_199
  let v306 : BitVec 32 := Scalar.addi v304 v305
  v306.toNat
def k0_off13 (d0 : Dev nD) : Fin 4 → Nat :=
  let c2_i32_204 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v315 : BitVec 32 := Scalar.muli c2_i32_204 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v316 : BitVec 32 := Scalar.addi v315 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_211 : BitVec 32 := 0#32
  let c0_i32_212 : BitVec 32 := 0#32
  ![v316.toNat, v8.toNat, 0, 0]
def k0_dev18 (d0 : Dev nD) : Nat :=
  let c0_i32_219 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_218 : BitVec 32 := 4#32
  let v332 : BitVec 32 := Scalar.muli v2 c4_i32_218
  let v333 : BitVec 32 := Scalar.addi c0_i32_219 v332
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_220 : BitVec 32 := 2#32
  let v334 : BitVec 32 := Scalar.muli v5 c2_i32_220
  let v335 : BitVec 32 := Scalar.addi v333 v334
  let c1_i32_215 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v329 : BitVec 32 := Scalar.subi c1_i32_215 v8
  let c1_i32_221 : BitVec 32 := 1#32
  let v336 : BitVec 32 := Scalar.muli v329 c1_i32_221
  let v337 : BitVec 32 := Scalar.addi v335 v336
  v337.toNat
def k0_off14 (d0 : Dev nD) : Fin 4 → Nat :=
  let c2_i32_226 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v346 : BitVec 32 := Scalar.muli c2_i32_226 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v347 : BitVec 32 := Scalar.addi v346 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_233 : BitVec 32 := 0#32
  let c0_i32_234 : BitVec 32 := 0#32
  ![v347.toNat, v8.toNat, 0, 0]
def k0_dev19 (d0 : Dev nD) : Nat :=
  let c0_i32_241 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_240 : BitVec 32 := 4#32
  let v363 : BitVec 32 := Scalar.muli v2 c4_i32_240
  let v364 : BitVec 32 := Scalar.addi c0_i32_241 v363
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_242 : BitVec 32 := 2#32
  let v365 : BitVec 32 := Scalar.muli v5 c2_i32_242
  let v366 : BitVec 32 := Scalar.addi v364 v365
  let c1_i32_237 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v360 : BitVec 32 := Scalar.subi c1_i32_237 v8
  let c1_i32_243 : BitVec 32 := 1#32
  let v367 : BitVec 32 := Scalar.muli v360 c1_i32_243
  let v368 : BitVec 32 := Scalar.addi v366 v367
  v368.toNat
def k0_off15 (d0 : Dev nD) : Fin 4 → Nat :=
  let c2_i32_248 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v377 : BitVec 32 := Scalar.muli c2_i32_248 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v378 : BitVec 32 := Scalar.addi v377 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_255 : BitVec 32 := 0#32
  let c0_i32_256 : BitVec 32 := 0#32
  ![v378.toNat, v8.toNat, 0, 0]
def k0_dev20 (d0 : Dev nD) : Nat :=
  let c0_i32_263 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_262 : BitVec 32 := 4#32
  let v394 : BitVec 32 := Scalar.muli v2 c4_i32_262
  let v395 : BitVec 32 := Scalar.addi c0_i32_263 v394
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_264 : BitVec 32 := 2#32
  let v396 : BitVec 32 := Scalar.muli v5 c2_i32_264
  let v397 : BitVec 32 := Scalar.addi v395 v396
  let c1_i32_259 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v391 : BitVec 32 := Scalar.subi c1_i32_259 v8
  let c1_i32_265 : BitVec 32 := 1#32
  let v398 : BitVec 32 := Scalar.muli v391 c1_i32_265
  let v399 : BitVec 32 := Scalar.addi v397 v398
  v399.toNat
def k0_off16 (d0 : Dev nD) : Fin 4 → Nat :=
  let c2_i32_270 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v408 : BitVec 32 := Scalar.muli c2_i32_270 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v409 : BitVec 32 := Scalar.addi v408 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_277 : BitVec 32 := 0#32
  let c0_i32_278 : BitVec 32 := 0#32
  ![v409.toNat, v8.toNat, 0, 0]
def k0_dev21 (d0 : Dev nD) : Nat :=
  let c0_i32_285 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_284 : BitVec 32 := 4#32
  let v425 : BitVec 32 := Scalar.muli v2 c4_i32_284
  let v426 : BitVec 32 := Scalar.addi c0_i32_285 v425
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_286 : BitVec 32 := 2#32
  let v427 : BitVec 32 := Scalar.muli v5 c2_i32_286
  let v428 : BitVec 32 := Scalar.addi v426 v427
  let c1_i32_281 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v422 : BitVec 32 := Scalar.subi c1_i32_281 v8
  let c1_i32_287 : BitVec 32 := 1#32
  let v429 : BitVec 32 := Scalar.muli v422 c1_i32_287
  let v430 : BitVec 32 := Scalar.addi v428 v429
  v430.toNat
def k0_off17 (d0 : Dev nD) : Fin 4 → Nat :=
  let c2_i32_292 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v439 : BitVec 32 := Scalar.muli c2_i32_292 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v440 : BitVec 32 := Scalar.addi v439 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_299 : BitVec 32 := 0#32
  let c0_i32_300 : BitVec 32 := 0#32
  ![v440.toNat, v8.toNat, 0, 0]
def k0_dev22 (d0 : Dev nD) : Nat :=
  let c0_i32_307 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_306 : BitVec 32 := 4#32
  let v456 : BitVec 32 := Scalar.muli v2 c4_i32_306
  let v457 : BitVec 32 := Scalar.addi c0_i32_307 v456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_308 : BitVec 32 := 2#32
  let v458 : BitVec 32 := Scalar.muli v5 c2_i32_308
  let v459 : BitVec 32 := Scalar.addi v457 v458
  let c1_i32_303 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v453 : BitVec 32 := Scalar.subi c1_i32_303 v8
  let c1_i32_309 : BitVec 32 := 1#32
  let v460 : BitVec 32 := Scalar.muli v453 c1_i32_309
  let v461 : BitVec 32 := Scalar.addi v459 v460
  v461.toNat
def k0_off18 (d0 : Dev nD) : Fin 4 → Nat :=
  let c2_i32_314 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v470 : BitVec 32 := Scalar.muli c2_i32_314 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v471 : BitVec 32 := Scalar.addi v470 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_321 : BitVec 32 := 0#32
  let c0_i32_322 : BitVec 32 := 0#32
  ![v471.toNat, v8.toNat, 0, 0]
def k0_dev23 (d0 : Dev nD) : Nat :=
  let c0_i32_329 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_328 : BitVec 32 := 4#32
  let v487 : BitVec 32 := Scalar.muli v2 c4_i32_328
  let v488 : BitVec 32 := Scalar.addi c0_i32_329 v487
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_330 : BitVec 32 := 2#32
  let v489 : BitVec 32 := Scalar.muli v5 c2_i32_330
  let v490 : BitVec 32 := Scalar.addi v488 v489
  let c1_i32_325 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v484 : BitVec 32 := Scalar.subi c1_i32_325 v8
  let c1_i32_331 : BitVec 32 := 1#32
  let v491 : BitVec 32 := Scalar.muli v484 c1_i32_331
  let v492 : BitVec 32 := Scalar.addi v490 v491
  v492.toNat
def k0_off19 (d0 : Dev nD) : Fin 4 → Nat :=
  let c2_i32_336 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v501 : BitVec 32 := Scalar.muli c2_i32_336 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v502 : BitVec 32 := Scalar.addi v501 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_343 : BitVec 32 := 0#32
  let c0_i32_344 : BitVec 32 := 0#32
  ![v502.toNat, v8.toNat, 0, 0]
def k0_dev24 (d0 : Dev nD) : Nat :=
  let c0_i32_351 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_350 : BitVec 32 := 4#32
  let v518 : BitVec 32 := Scalar.muli v2 c4_i32_350
  let v519 : BitVec 32 := Scalar.addi c0_i32_351 v518
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_352 : BitVec 32 := 2#32
  let v520 : BitVec 32 := Scalar.muli v5 c2_i32_352
  let v521 : BitVec 32 := Scalar.addi v519 v520
  let c1_i32_347 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v515 : BitVec 32 := Scalar.subi c1_i32_347 v8
  let c1_i32_353 : BitVec 32 := 1#32
  let v522 : BitVec 32 := Scalar.muli v515 c1_i32_353
  let v523 : BitVec 32 := Scalar.addi v521 v522
  v523.toNat
def k0_off20 (d0 : Dev nD) : Fin 4 → Nat :=
  let c2_i32_358 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v532 : BitVec 32 := Scalar.muli c2_i32_358 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v533 : BitVec 32 := Scalar.addi v532 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_365 : BitVec 32 := 0#32
  let c0_i32_366 : BitVec 32 := 0#32
  ![v533.toNat, v8.toNat, 0, 0]
def k0_dev25 (d0 : Dev nD) : Nat :=
  let c0_i32_373 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_372 : BitVec 32 := 4#32
  let v549 : BitVec 32 := Scalar.muli v2 c4_i32_372
  let v550 : BitVec 32 := Scalar.addi c0_i32_373 v549
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_374 : BitVec 32 := 2#32
  let v551 : BitVec 32 := Scalar.muli v5 c2_i32_374
  let v552 : BitVec 32 := Scalar.addi v550 v551
  let c1_i32_369 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v546 : BitVec 32 := Scalar.subi c1_i32_369 v8
  let c1_i32_375 : BitVec 32 := 1#32
  let v553 : BitVec 32 := Scalar.muli v546 c1_i32_375
  let v554 : BitVec 32 := Scalar.addi v552 v553
  v554.toNat
def k0_off21 (d0 : Dev nD) : Fin 4 → Nat :=
  let c2_i32_380 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v563 : BitVec 32 := Scalar.muli c2_i32_380 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v564 : BitVec 32 := Scalar.addi v563 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_387 : BitVec 32 := 0#32
  let c0_i32_388 : BitVec 32 := 0#32
  ![v564.toNat, v8.toNat, 0, 0]
def k0_dev26 (d0 : Dev nD) : Nat :=
  let c0_i32_395 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_394 : BitVec 32 := 4#32
  let v580 : BitVec 32 := Scalar.muli v2 c4_i32_394
  let v581 : BitVec 32 := Scalar.addi c0_i32_395 v580
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_396 : BitVec 32 := 2#32
  let v582 : BitVec 32 := Scalar.muli v5 c2_i32_396
  let v583 : BitVec 32 := Scalar.addi v581 v582
  let c1_i32_391 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v577 : BitVec 32 := Scalar.subi c1_i32_391 v8
  let c1_i32_397 : BitVec 32 := 1#32
  let v584 : BitVec 32 := Scalar.muli v577 c1_i32_397
  let v585 : BitVec 32 := Scalar.addi v583 v584
  v585.toNat
def k0_off22 (d0 : Dev nD) : Fin 4 → Nat :=
  let c2_i32_402 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v594 : BitVec 32 := Scalar.muli c2_i32_402 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v595 : BitVec 32 := Scalar.addi v594 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_409 : BitVec 32 := 0#32
  let c0_i32_410 : BitVec 32 := 0#32
  ![v595.toNat, v8.toNat, 0, 0]
def k0_dev27 (d0 : Dev nD) : Nat :=
  let c0_i32_417 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_416 : BitVec 32 := 4#32
  let v611 : BitVec 32 := Scalar.muli v2 c4_i32_416
  let v612 : BitVec 32 := Scalar.addi c0_i32_417 v611
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_418 : BitVec 32 := 2#32
  let v613 : BitVec 32 := Scalar.muli v5 c2_i32_418
  let v614 : BitVec 32 := Scalar.addi v612 v613
  let c1_i32_413 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v608 : BitVec 32 := Scalar.subi c1_i32_413 v8
  let c1_i32_419 : BitVec 32 := 1#32
  let v615 : BitVec 32 := Scalar.muli v608 c1_i32_419
  let v616 : BitVec 32 := Scalar.addi v614 v615
  v616.toNat
def k0_off23 (d0 : Dev nD) : Fin 4 → Nat :=
  let c2_i32_424 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v625 : BitVec 32 := Scalar.muli c2_i32_424 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v626 : BitVec 32 := Scalar.addi v625 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_431 : BitVec 32 := 0#32
  let c0_i32_432 : BitVec 32 := 0#32
  ![v626.toNat, v8.toNat, 0, 0]
def k0_dev28 (d0 : Dev nD) : Nat :=
  let c0_i32_439 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_438 : BitVec 32 := 4#32
  let v642 : BitVec 32 := Scalar.muli v2 c4_i32_438
  let v643 : BitVec 32 := Scalar.addi c0_i32_439 v642
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_440 : BitVec 32 := 2#32
  let v644 : BitVec 32 := Scalar.muli v5 c2_i32_440
  let v645 : BitVec 32 := Scalar.addi v643 v644
  let c1_i32_435 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v639 : BitVec 32 := Scalar.subi c1_i32_435 v8
  let c1_i32_441 : BitVec 32 := 1#32
  let v646 : BitVec 32 := Scalar.muli v639 c1_i32_441
  let v647 : BitVec 32 := Scalar.addi v645 v646
  v647.toNat
def k0_off24 (d0 : Dev nD) : Fin 4 → Nat :=
  let c2_i32_446 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v656 : BitVec 32 := Scalar.muli c2_i32_446 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v657 : BitVec 32 := Scalar.addi v656 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_453 : BitVec 32 := 0#32
  let c0_i32_454 : BitVec 32 := 0#32
  ![v657.toNat, v8.toNat, 0, 0]
def k0_dev29 (d0 : Dev nD) : Nat :=
  let c0_i32_461 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_460 : BitVec 32 := 4#32
  let v673 : BitVec 32 := Scalar.muli v2 c4_i32_460
  let v674 : BitVec 32 := Scalar.addi c0_i32_461 v673
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_462 : BitVec 32 := 2#32
  let v675 : BitVec 32 := Scalar.muli v5 c2_i32_462
  let v676 : BitVec 32 := Scalar.addi v674 v675
  let c1_i32_457 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v670 : BitVec 32 := Scalar.subi c1_i32_457 v8
  let c1_i32_463 : BitVec 32 := 1#32
  let v677 : BitVec 32 := Scalar.muli v670 c1_i32_463
  let v678 : BitVec 32 := Scalar.addi v676 v677
  v678.toNat
def k0_off25 (d0 : Dev nD) : Fin 4 → Nat :=
  let c2_i32_468 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v687 : BitVec 32 := Scalar.muli c2_i32_468 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v688 : BitVec 32 := Scalar.addi v687 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_475 : BitVec 32 := 0#32
  let c0_i32_476 : BitVec 32 := 0#32
  ![v688.toNat, v8.toNat, 0, 0]
def k0_dev30 (d0 : Dev nD) : Nat :=
  let c0_i32_483 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_482 : BitVec 32 := 4#32
  let v704 : BitVec 32 := Scalar.muli v2 c4_i32_482
  let v705 : BitVec 32 := Scalar.addi c0_i32_483 v704
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_484 : BitVec 32 := 2#32
  let v706 : BitVec 32 := Scalar.muli v5 c2_i32_484
  let v707 : BitVec 32 := Scalar.addi v705 v706
  let c1_i32_479 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v701 : BitVec 32 := Scalar.subi c1_i32_479 v8
  let c1_i32_485 : BitVec 32 := 1#32
  let v708 : BitVec 32 := Scalar.muli v701 c1_i32_485
  let v709 : BitVec 32 := Scalar.addi v707 v708
  v709.toNat
def k0_off26 (d0 : Dev nD) : Fin 4 → Nat :=
  let c2_i32_491 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v719 : BitVec 32 := Scalar.muli c2_i32_491 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v720 : BitVec 32 := Scalar.addi v719 v5
  let c1_i32_490 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v718 : BitVec 32 := Scalar.subi c1_i32_490 v8
  let c0_i32_498 : BitVec 32 := 0#32
  let c0_i32_499 : BitVec 32 := 0#32
  ![v720.toNat, v718.toNat, 0, 0]
def k0_off27 (d0 : Dev nD) : Fin 4 → Nat :=
  let c2_i32_503 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v734 : BitVec 32 := Scalar.muli c2_i32_503 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v735 : BitVec 32 := Scalar.addi v734 v10
  let c1_i32_502 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v733 : BitVec 32 := Scalar.subi c1_i32_502 v8
  let c0_i32_510 : BitVec 32 := 0#32
  let c0_i32_511 : BitVec 32 := 0#32
  ![v735.toNat, v733.toNat, 0, 0]
def k0_off28 (d0 : Dev nD) : Fin 4 → Nat :=
  let c2_i32_515 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v749 : BitVec 32 := Scalar.muli c2_i32_515 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v750 : BitVec 32 := Scalar.addi v749 v12
  let c1_i32_514 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v748 : BitVec 32 := Scalar.subi c1_i32_514 v8
  let c0_i32_522 : BitVec 32 := 0#32
  let c0_i32_523 : BitVec 32 := 0#32
  ![v750.toNat, v748.toNat, 0, 0]
def k0_off29 (d0 : Dev nD) : Fin 4 → Nat :=
  let c2_i32_527 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v764 : BitVec 32 := Scalar.muli c2_i32_527 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v765 : BitVec 32 := Scalar.addi v764 v5
  let c1_i32_526 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v763 : BitVec 32 := Scalar.subi c1_i32_526 v8
  let c0_i32_534 : BitVec 32 := 0#32
  let c0_i32_535 : BitVec 32 := 0#32
  ![v765.toNat, v763.toNat, 0, 0]
def k0_off30 (d0 : Dev nD) : Fin 4 → Nat :=
  let c2_i32_539 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v779 : BitVec 32 := Scalar.muli c2_i32_539 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v780 : BitVec 32 := Scalar.addi v779 v10
  let c1_i32_538 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v778 : BitVec 32 := Scalar.subi c1_i32_538 v8
  let c0_i32_546 : BitVec 32 := 0#32
  let c0_i32_547 : BitVec 32 := 0#32
  ![v780.toNat, v778.toNat, 0, 0]
def k0_off31 (d0 : Dev nD) : Fin 4 → Nat :=
  let c2_i32_551 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v794 : BitVec 32 := Scalar.muli c2_i32_551 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v795 : BitVec 32 := Scalar.addi v794 v12
  let c1_i32_550 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v793 : BitVec 32 := Scalar.subi c1_i32_550 v8
  let c0_i32_558 : BitVec 32 := 0#32
  let c0_i32_559 : BitVec 32 := 0#32
  ![v795.toNat, v793.toNat, 0, 0]
def k0_off32 (d0 : Dev nD) : Fin 4 → Nat :=
  let c2_i32_563 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v809 : BitVec 32 := Scalar.muli c2_i32_563 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v810 : BitVec 32 := Scalar.addi v809 v5
  let c1_i32_562 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v808 : BitVec 32 := Scalar.subi c1_i32_562 v8
  let c0_i32_570 : BitVec 32 := 0#32
  let c0_i32_571 : BitVec 32 := 0#32
  ![v810.toNat, v808.toNat, 0, 0]
def k0_off33 (d0 : Dev nD) : Fin 4 → Nat :=
  let c2_i32_575 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v824 : BitVec 32 := Scalar.muli c2_i32_575 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v825 : BitVec 32 := Scalar.addi v824 v10
  let c1_i32_574 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v823 : BitVec 32 := Scalar.subi c1_i32_574 v8
  let c0_i32_582 : BitVec 32 := 0#32
  let c0_i32_583 : BitVec 32 := 0#32
  ![v825.toNat, v823.toNat, 0, 0]
def k0_off34 (d0 : Dev nD) : Fin 4 → Nat :=
  let c2_i32_587 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v839 : BitVec 32 := Scalar.muli c2_i32_587 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v840 : BitVec 32 := Scalar.addi v839 v12
  let c1_i32_586 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v838 : BitVec 32 := Scalar.subi c1_i32_586 v8
  let c0_i32_594 : BitVec 32 := 0#32
  let c0_i32_595 : BitVec 32 := 0#32
  ![v840.toNat, v838.toNat, 0, 0]
def k0_off35 (d0 : Dev nD) : Fin 4 → Nat :=
  let c2_i32_599 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v854 : BitVec 32 := Scalar.muli c2_i32_599 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v855 : BitVec 32 := Scalar.addi v854 v5
  let c1_i32_598 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v853 : BitVec 32 := Scalar.subi c1_i32_598 v8
  let c0_i32_606 : BitVec 32 := 0#32
  let c0_i32_607 : BitVec 32 := 0#32
  ![v855.toNat, v853.toNat, 0, 0]
def k0_off36 (d0 : Dev nD) : Fin 4 → Nat :=
  let c2_i32_611 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v869 : BitVec 32 := Scalar.muli c2_i32_611 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v870 : BitVec 32 := Scalar.addi v869 v10
  let c1_i32_610 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v868 : BitVec 32 := Scalar.subi c1_i32_610 v8
  let c0_i32_618 : BitVec 32 := 0#32
  let c0_i32_619 : BitVec 32 := 0#32
  ![v870.toNat, v868.toNat, 0, 0]
def k0_off37 (d0 : Dev nD) : Fin 4 → Nat :=
  let c2_i32_623 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v884 : BitVec 32 := Scalar.muli c2_i32_623 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v885 : BitVec 32 := Scalar.addi v884 v12
  let c1_i32_622 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v883 : BitVec 32 := Scalar.subi c1_i32_622 v8
  let c0_i32_630 : BitVec 32 := 0#32
  let c0_i32_631 : BitVec 32 := 0#32
  ![v885.toNat, v883.toNat, 0, 0]
def k0_off38 (d0 : Dev nD) : Fin 4 → Nat :=
  let c2_i32_635 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v899 : BitVec 32 := Scalar.muli c2_i32_635 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v900 : BitVec 32 := Scalar.addi v899 v5
  let c1_i32_634 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v898 : BitVec 32 := Scalar.subi c1_i32_634 v8
  let c0_i32_642 : BitVec 32 := 0#32
  let c0_i32_643 : BitVec 32 := 0#32
  ![v900.toNat, v898.toNat, 0, 0]
def k0_off39 (d0 : Dev nD) : Fin 4 → Nat :=
  let c2_i32_647 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v914 : BitVec 32 := Scalar.muli c2_i32_647 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v915 : BitVec 32 := Scalar.addi v914 v10
  let c1_i32_646 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v913 : BitVec 32 := Scalar.subi c1_i32_646 v8
  let c0_i32_654 : BitVec 32 := 0#32
  let c0_i32_655 : BitVec 32 := 0#32
  ![v915.toNat, v913.toNat, 0, 0]
def k0_off40 (d0 : Dev nD) : Fin 4 → Nat :=
  let c2_i32_659 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v929 : BitVec 32 := Scalar.muli c2_i32_659 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v930 : BitVec 32 := Scalar.addi v929 v12
  let c1_i32_658 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v928 : BitVec 32 := Scalar.subi c1_i32_658 v8
  let c0_i32_666 : BitVec 32 := 0#32
  let c0_i32_667 : BitVec 32 := 0#32
  ![v930.toNat, v928.toNat, 0, 0]
-- ==== GathRefIdeal.lean ====
abbrev S8x1024x1668 : Shape := ⟨3, ![8, 1024, 1668]⟩
abbrev S8x1024x1408 : Shape := ⟨3, ![8, 1024, 1408]⟩
abbrev S8x704x1024 : Shape := ⟨3, ![8, 704, 1024]⟩
abbrev S8x256x1024 : Shape := ⟨3, ![8, 256, 1024]⟩
abbrev S8x416x128 : Shape := ⟨3, ![8, 416, 128]⟩
abbrev S4x2x1024x1668 : Shape := ⟨4, ![4, 2, 1024, 1668]⟩
abbrev S4x2x1024x1408 : Shape := ⟨4, ![4, 2, 1024, 1408]⟩
abbrev S4x2x704x1024 : Shape := ⟨4, ![4, 2, 704, 1024]⟩
abbrev S4x2x256x1024 : Shape := ⟨4, ![4, 2, 256, 1024]⟩
abbrev S4x2x416x128 : Shape := ⟨4, ![4, 2, 416, 128]⟩

abbrev nBuf : Space → Nat
  | .hbm => 10
  | .vmem => 0
  | .smem => 0
  | _ => 0

abbrev bufTy : (tb : Table) → Fin (tcTables nBuf tb) → BufTy
  | .hbm, ⟨0, _⟩ => ⟨S8x1024x1668, .bf16⟩
  | .hbm, ⟨1, _⟩ => ⟨S8x1024x1408, .bf16⟩
  | .hbm, ⟨2, _⟩ => ⟨S8x704x1024, .bf16⟩
  | .hbm, ⟨3, _⟩ => ⟨S8x256x1024, .bf16⟩
  | .hbm, ⟨4, _⟩ => ⟨S8x416x128, .bf16⟩
  | .hbm, ⟨5, _⟩ => ⟨S4x2x1024x1668, .bf16⟩
  | .hbm, ⟨6, _⟩ => ⟨S4x2x1024x1408, .bf16⟩
  | .hbm, ⟨7, _⟩ => ⟨S4x2x704x1024, .bf16⟩
  | .hbm, ⟨8, _⟩ => ⟨S4x2x256x1024, .bf16⟩
  | .hbm, ⟨9, _⟩ => ⟨S4x2x416x128, .bf16⟩
  | _, _ => ⟨S8x1024x1668, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Proof.Adam.lean ====
module

public import Idealize.ShloMosaic.Adequacy
public import Idealize.ShloMosaic.Init
public import Idealize.ShloMosaic.Lib.Pointwise

@[expose] public section

noncomputable section
open Idealize.ShloMosaic

namespace Cert.Step

/-- A decimal constant of the optimiser as the extended real it stands for. -/
def lit (b : BitVec 32) : EReal := (Scalar.ofBits .f32 b : Ideal .f32)

/-- The first moment after a step with gradient `g`. -/
def mom1 (g m : EReal) : EReal := lit 0x3F666666#32 * m + lit 0x3DCCCCCD#32 * g

/-- The second moment after a step with gradient `g`. -/
def mom2 (g v : EReal) : EReal := lit 0x3F7FBE77#32 * v + lit 0x3A83126F#32 * (g * g)

/-- The change of a weight in one AdamW step. -/
def adamDelta (w g m v : EReal) : EReal :=
  lit 0xBA83126F#32 * (Ideal.div (Ideal.div (mom1 g m) (lit 0x3F26BD02#32)) (Ideal.sqrt (Ideal.div (mom2 g v) (lit 0x3C231ACC#32)) + lit 0x322BCC77#32) + lit 0x3C23D70A#32 * w)
-- ==== Proof.Rows.lean ====
module

public import Idealize.ShloMosaic.Lib.Pipeline.ValueKit
public import Idealize.ShloMosaic.Lib.Pipeline.ReadBack
public import Idealize.ShloMosaic.Lib.Pointwise
public import Idealize.ShloMosaic.Lib.WritesUnit
public import Idealize.ShloMosaic.Lib.KernelVsHost

@[expose] public section

open Idealize.ShloMosaic
open scoped BigOperators

namespace Cert.Step

variable {Val : EltTy → Type} {sig : RefSig} {κ : Kind} {sp : Space} {e : EltTy} {m n : ℕ}

/-- Row `o + i` of a matrix reads row `i` of the last piece stored, that piece being whole rows from row `o`. -/
theorem canon_row_mem [∀ e, Nonempty (Val e)] {k o : ℕ} (inb : ∀ a, (![o, 0] : Fin 2 → ℕ) a + (![k, n] : Fin 2 → ℕ) a ≤ (⟨2, ![m, n]⟩ : Shape).size a)
    (w : (⟨2, ![k, n]⟩ : Shape).Idx → Val e) (L : List (View.Piece Val (⟨2, ![m, n]⟩ : Shape) e)) (i : Fin k) (c : Fin n) (a : Fin m) (ha : a.val = o + i.val) :
    View.canon ((⟨Rect.unit (s := ⟨2, ![m, n]⟩) ![o, 0] ![k, n] inb, w⟩ : View.Piece Val (⟨2, ![m, n]⟩ : Shape) e) :: L) (ix2 a c) = w (ix2 i c) := by
  have hy : (Rect.unit (s := ⟨2, ![m, n]⟩) ![o, 0] ![k, n] inb).emb (ix2 i c : (⟨2, ![k, n]⟩ : Shape).Idx) = ix2 a c := by
    funext b
    apply Fin.ext
    fin_cases b
    · show o + 1 * i.val = a.val; omega
    · show 0 + 1 * c.val = c.val; omega
  rw [← hy]; exact View.canon_cons_emb (Rect.unit (s := ⟨2, ![m, n]⟩) ![o, 0] ![k, n] inb) w L _

/-- A row outside the rows of the last piece reads what the earlier pieces left. -/
theorem canon_row_not_mem [∀ e, Nonempty (Val e)] {k o : ℕ} (inb : ∀ a, (![o, 0] : Fin 2 → ℕ) a + (![k, n] : Fin 2 → ℕ) a ≤ (⟨2, ![m, n]⟩ : Shape).size a)
    (w : (⟨2, ![k, n]⟩ : Shape).Idx → Val e) (L : List (View.Piece Val (⟨2, ![m, n]⟩ : Shape) e)) (a : Fin m) (c : Fin n) (ha : a.val < o ∨ o + k ≤ a.val) :
    View.canon ((⟨Rect.unit (s := ⟨2, ![m, n]⟩) ![o, 0] ![k, n] inb, w⟩ : View.Piece Val (⟨2, ![m, n]⟩ : Shape) e) :: L) (ix2 a c) = View.canon L (ix2 a c) := by
  refine View.canon_cons_of_not_mem _ L fun hm => ?_; rw [Rect.mem_set_unit] at hm; have h0 : o ≤ a.val ∧ a.val < o + k := hm 0; omega

/-- A matrix whose last piece is whole rows holds `G` when that piece does and, on the other rows, the earlier pieces do. -/
theorem canon_rows_cons [∀ e, Nonempty (Val e)] {k o : ℕ} (inb : ∀ a, (![o, 0] : Fin 2 → ℕ) a + (![k, n] : Fin 2 → ℕ) a ≤ (⟨2, ![m, n]⟩ : Shape).size a)
    (w : (⟨2, ![k, n]⟩ : Shape).Idx → Val e) (L : List (View.Piece Val (⟨2, ![m, n]⟩ : Shape) e)) (g : Val e) (a : Fin m) (c : Fin n) (h1 : ∀ i : Fin k, a.val = o + i.val → w (ix2 i c) = g)
    (h2 : a.val < o ∨ o + k ≤ a.val → View.canon L (ix2 a c) = g) :
    View.canon ((⟨Rect.unit (s := ⟨2, ![m, n]⟩) ![o, 0] ![k, n] inb, w⟩ : View.Piece Val (⟨2, ![m, n]⟩ : Shape) e) :: L) (ix2 a c) = g := by
  by_cases h : o ≤ a.val ∧ a.val < o + k
  · have e : a.val = o + (⟨a.val - o, by omega⟩ : Fin k).val := by show a.val = o + (a.val - o); omega
    exact (canon_row_mem inb w L ⟨a.val - o, by omega⟩ c a e).trans (h1 _ e)
  · rw [canon_row_not_mem inb w L a c (by omega)]; exact h2 (by omega)

/-- The same, of stores over an earlier content. -/
theorem read_rows_cons (v : View sig κ sp (⟨2, ![m, n]⟩ : Shape) e) (f : v.ty.Contents Val) {k o : ℕ} (inb : ∀ a, (![o, 0] : Fin 2 → ℕ) a + (![k, n] : Fin 2 → ℕ) a ≤ (⟨2, ![m, n]⟩ : Shape).size a)
    (w : (⟨2, ![k, n]⟩ : Shape).Idx → Val e) (L : List (View.Piece Val (⟨2, ![m, n]⟩ : Shape) e)) (g : Val e) (a : Fin m) (c : Fin n) (h1 : ∀ i : Fin k, a.val = o + i.val → w (ix2 i c) = g)
    (h2 : a.val < o ∨ o + k ≤ a.val → v.read Val (v.writes Val f L) (ix2 a c) = g) :
    v.read Val (v.writes Val f ((⟨Rect.unit (s := ⟨2, ![m, n]⟩) ![o, 0] ![k, n] inb, w⟩ : View.Piece Val (⟨2, ![m, n]⟩ : Shape) e) :: L)) (ix2 a c) = g := by
  by_cases h : o ≤ a.val ∧ a.val < o + k
  · have e : a.val = o + (⟨a.val - o, by omega⟩ : Fin k).val := by show a.val = o + (a.val - o); omega
    exact (View.read_writes_cons_rows_of_mem v f inb w L (ix2 a c) (ix2 ⟨a.val - o, by omega⟩ c) rfl e rfl).trans (h1 _ e)
  · rw [View.read_writes_cons_rows_of_not_mem v f inb w L (ix2 a c) rfl rfl (show a.val < o ∨ o + k ≤ a.val by omega)]; exact h2 (by omega)

/-- A load of the whole of a matrix stored as two runs of rows reads `G` when each run does. -/
theorem readCov_rows_two [∀ e, Nonempty (Val e)] (v : View sig κ sp (⟨2, ![m, n]⟩ : Shape) e) {k1 o1 k2 o2 : ℕ}
    (inb1 : ∀ a, (![o1, 0] : Fin 2 → ℕ) a + (![k1, n] : Fin 2 → ℕ) a ≤ (⟨2, ![m, n]⟩ : Shape).size a) (inb2 : ∀ a, (![o2, 0] : Fin 2 → ℕ) a + (![k2, n] : Fin 2 → ℕ) a ≤ (⟨2, ![m, n]⟩ : Shape).size a)
    (inb : ∀ a, (![0, 0] : Fin 2 → ℕ) a + (![m, n] : Fin 2 → ℕ) a ≤ (⟨2, ![m, n]⟩ : Shape).size a) (w1 : (⟨2, ![k1, n]⟩ : Shape).Idx → Val e) (w2 : (⟨2, ![k2, n]⟩ : Shape).Idx → Val e)
    (G : Fin m → Fin n → Val e) (hc : ∀ a < m, (o1 ≤ a ∧ a < o1 + k1) ∨ ((a < o1 ∨ o1 + k1 ≤ a) ∧ o2 ≤ a ∧ a < o2 + k2))
    (h1 : ∀ (i : Fin k1) (c : Fin n) (a : Fin m), a.val = o1 + i.val → w1 (ix2 i c) = G a c) (h2 : ∀ (i : Fin k2) (c : Fin n) (a : Fin m), a.val = o2 + i.val → w2 (ix2 i c) = G a c) :
    v.readCov [(⟨Rect.unit (s := ⟨2, ![m, n]⟩) ![o1, 0] ![k1, n] inb1, w1⟩ : View.Piece Val (⟨2, ![m, n]⟩ : Shape) e), ⟨Rect.unit (s := ⟨2, ![m, n]⟩) ![o2, 0] ![k2, n] inb2, w2⟩]
      (Rect.unit (s := ⟨2, ![m, n]⟩) ![0, 0] ![m, n] inb).toLoadRect = fun j => G (j 0) (j 1) := by
  rw [View.readCov_eq_canon']
  funext j
  obtain ⟨a, c, rfl⟩ : ∃ (a : Fin m) (c : Fin n), j = ix2 a c := ⟨j 0, j 1, (ix2_eta j).symm⟩
  have hj : (Rect.unit (s := ⟨2, ![m, n]⟩) ![0, 0] ![m, n] inb).toLoadRect.idx (ix2 a c : (⟨2, ![m, n]⟩ : Shape).Idx) = ix2 a c := by
    funext b
    apply Fin.ext
    fin_cases b
    · show 0 + 1 * a.val = a.val; omega
    · show 0 + 1 * c.val = c.val; omega
  refine (congrArg (View.canon _) hj).trans ?_; rcases hc a.val a.isLt with h | ⟨h, h'⟩
  · exact (canon_row_mem inb1 w1 _ ⟨a.val - o1, by omega⟩ c a (by show a.val = o1 + (a.val - o1); omega)).trans (h1 _ c a (by show a.val = o1 + (a.val - o1); omega))
  · rw [canon_row_not_mem inb1 w1 _ a c h]
    exact (canon_row_mem inb2 w2 _ ⟨a.val - o2, by omega⟩ c a (by show a.val = o2 + (a.val - o2); omega)).trans (h2 _ c a (by show a.val = o2 + (a.val - o2); omega))

/-- Entry `k - s` of a list of `n` entries, and zero in front of the list and behind it. -/
noncomputable def lag (s n : ℕ) (f : Fin n → EReal) (k : ℕ) : EReal :=
  if h : s ≤ k ∧ k - s < n then f ⟨k - s, h.2⟩ else 0

theorem lag_of_eq {s n : ℕ} (f : Fin n → EReal) {k : ℕ} (i : Fin n) (h : k = s + i.val) : lag s n f k = f i := by
  subst h; unfold lag; have : s + i.val - s = i.val := by omega
  rw [dif_pos ⟨by omega, by omega⟩]; exact congrArg f (Fin.ext this)

theorem lag_of_out {s n : ℕ} (f : Fin n → EReal) {k : ℕ} (h : k < s ∨ s + n ≤ k) : lag s n f k = 0 := by unfold lag; exact dif_neg fun hh => by omega

/-- The place and the lag may move together. -/
theorem lag_shift (s n d : ℕ) (f : Fin n → EReal) (k k' : ℕ) (h : k' = k + d) : lag (s + d) n f k' = lag s n f k := by
  subst h; unfold lag; have e : k + d - (s + d) = k - s := by omega
  by_cases hk : s ≤ k ∧ k - s < n
  · rw [dif_pos hk, dif_pos ⟨by omega, by omega⟩]; exact congrArg f (Fin.ext e)
  · rw [dif_neg hk, dif_neg fun hh => hk ⟨by omega, by omega⟩]

/-- A matrix with rows of zeros in front of it and behind it, entry by entry. -/
theorem pad_rows {k N lo hi : ℕ} (x : (⟨2, ![k, n]⟩ : Shape).Idx → EReal) {u : Shape} (v : u.Idx → EReal)
    (h : (⟨2, ![k, n]⟩ : Shape).Pads ![lo, 0] ![hi, 0] ![0, 0] (⟨2, ![N, n]⟩ : Shape)) (hu : 0 < u.numel) (hv : v (Shape.Idx.first hu) = 0) (a : Fin N) (c : Fin n) :
    pad (⟨2, ![N, n]⟩ : Shape) ![lo, 0] ![hi, 0] ![0, 0] x v h hu (ix2 a c) = lag lo k (fun i => x (ix2 i c)) a.val := by
  by_cases hk : lo ≤ a.val ∧ a.val - lo < k
  · rw [lag_of_eq _ (⟨a.val - lo, hk.2⟩ : Fin k) (by show a.val = lo + (a.val - lo); omega)]; refine pad_apply_of_inside _ _ _ x v h hu (ix2 a c) (ix2 ⟨a.val - lo, hk.2⟩ c) fun b => ?_
    fin_cases b
    · show a.val = lo + (a.val - lo) * (0 + 1); omega
    · show c.val = 0 + c.val * (0 + 1); omega
  · rw [lag_of_out _ (by omega)]; refine (pad_apply_of_not_inside _ _ _ x v h hu (ix2 a c) (0 : Fin 2) fun hh => ?_).trans hv; have h1 : lo ≤ a.val := hh.1
    have h2 : (a.val - lo) / (0 + 1) < k := hh.2.2; rw [Nat.div_one] at h2; exact hk ⟨h1, h2⟩

/-- A matrix set below rows of zeros, entry by entry. -/
theorem zeros_above {s k N : ℕ} (z : (⟨2, ![s, n]⟩ : Shape).Idx → EReal) (x : (⟨2, ![k, n]⟩ : Shape).Idx → EReal)
    (h : Shape.Concatenates [(⟨2, ![s, n]⟩ : Shape), (⟨2, ![k, n]⟩ : Shape)] (⟨2, ![N, n]⟩ : Shape) 0) (hz : ∀ j, z j = 0) (a : Fin N) (ha : a.val < s + k) (c : Fin n) :
    concatenate (⟨2, ![N, n]⟩ : Shape) 0 [⟨(⟨2, ![s, n]⟩ : Shape), z⟩, ⟨(⟨2, ![k, n]⟩ : Shape), x⟩] h (ix2 a c) = lag s k (fun i => x (ix2 i c)) a.val := by
  by_cases hk : a.val < s
  · rw [lag_of_out _ (by omega)]; refine (concatenate_pair_apply_left (0 : Fin 2) z x h (ix2 a c) rfl (ix2 ⟨a.val, hk⟩ c) fun b => ?_).trans (hz _)
    fin_cases b <;> rfl
  · rw [lag_of_eq _ (⟨a.val - s, by omega⟩ : Fin k) (by show a.val = s + (a.val - s); omega)]
    refine concatenate_pair_apply_right (0 : Fin 2) z x h (ix2 a c) rfl rfl (ix2 ⟨a.val - s, by omega⟩ c) (fun b hb => ?_) ?_
    · fin_cases b
      · exact absurd rfl hb
      · rfl
    · show a.val - s + s = a.val; omega

/-- A factor common to the whole list comes out. -/
theorem lag_mul (s n : ℕ) (f : Fin n → EReal) (w : EReal) (k : ℕ) : lag s n (fun i => f i * w) k = lag s n f k * w := by
  unfold lag; by_cases h : s ≤ k ∧ k - s < n
  · rw [dif_pos h, dif_pos h]
  · rw [dif_neg h, dif_neg h, zero_mul]

/-- The integer zero, turned into a number. -/
theorem sitofp_zero : FloatOps.sitofp (F := Ideal) FTy.f32 (0#32) = (0 : EReal) := by show (((0#32 : BitVec 32).toInt : ℝ) : EReal) = 0; simp

/-- A matrix whose last piece is whole columns holds `g` when that piece does and, on the other columns, the earlier pieces do. -/
theorem canon_cols_cons [∀ e, Nonempty (Val e)] {k o : ℕ} (inb : ∀ a, (![0, o] : Fin 2 → ℕ) a + (![m, k] : Fin 2 → ℕ) a ≤ (⟨2, ![m, n]⟩ : Shape).size a)
    (w : (⟨2, ![m, k]⟩ : Shape).Idx → Val e) (L : List (View.Piece Val (⟨2, ![m, n]⟩ : Shape) e)) (g : Val e) (a : Fin m) (c : Fin n) (h1 : ∀ i : Fin k, c.val = o + i.val → w (ix2 a i) = g)
    (h2 : c.val < o ∨ o + k ≤ c.val → View.canon L (ix2 a c) = g) :
    View.canon ((⟨Rect.unit (s := ⟨2, ![m, n]⟩) ![0, o] ![m, k] inb, w⟩ : View.Piece Val (⟨2, ![m, n]⟩ : Shape) e) :: L) (ix2 a c) = g := by
  by_cases h : o ≤ c.val ∧ c.val < o + k
  · have hy : (Rect.unit (s := ⟨2, ![m, n]⟩) ![0, o] ![m, k] inb).emb (ix2 a ⟨c.val - o, by omega⟩ : (⟨2, ![m, k]⟩ : Shape).Idx) = ix2 a c := by
      funext b
      apply Fin.ext
      fin_cases b
      · show 0 + 1 * a.val = a.val; omega
      · show o + 1 * (c.val - o) = c.val; omega
    rw [← hy]; exact (View.canon_cons_emb (Rect.unit (s := ⟨2, ![m, n]⟩) ![0, o] ![m, k] inb) w L _).trans (h1 ⟨c.val - o, by omega⟩ (by show c.val = o + (c.val - o); omega))
  · refine (View.canon_cons_of_not_mem _ L fun hm => ?_).trans (h2 (by omega)); rw [Rect.mem_set_unit] at hm; have h0 : o ≤ c.val ∧ c.val < o + k := hm 1; exact h h0

/-- A group of columns set among groups of zeros, entry by entry. -/
theorem pad_group {p q N lo hi : ℕ} (x : (⟨3, ![p, 1, q]⟩ : Shape).Idx → EReal) {u : Shape} (v : u.Idx → EReal)
    (h : (⟨3, ![p, 1, q]⟩ : Shape).Pads ![0, lo, 0] ![0, hi, 0] ![0, 0, 0] (⟨3, ![p, N, q]⟩ : Shape)) (hu : 0 < u.numel) (hv : v (Shape.Idx.first hu) = 0) (a : Fin p) (g : Fin N) (c : Fin q) :
    pad (⟨3, ![p, N, q]⟩ : Shape) ![0, lo, 0] ![0, hi, 0] ![0, 0, 0] x v h hu (ix3 a g c) = if g.val = lo then x (ix3 a 0 c) else 0 := by
  by_cases hk : g.val = lo
  · rw [if_pos hk]; refine pad_apply_of_inside _ _ _ x v h hu (ix3 a g c) (ix3 a 0 c) fun b => ?_
    fin_cases b
    · show a.val = 0 + a.val * (0 + 1); omega
    · show g.val = lo + 0 * (0 + 1); omega
    · show c.val = 0 + c.val * (0 + 1); omega
  · rw [if_neg hk]; refine (pad_apply_of_not_inside _ _ _ x v h hu (ix3 a g c) (1 : Fin 3) fun hh => ?_).trans hv; have h1 : lo ≤ g.val := hh.1; have h2 : (g.val - lo) / (0 + 1) < 1 := hh.2.2
    rw [Nat.div_one] at h2; omega
-- ==== Proof.Sums.lean ====
module

public import Idealize.ShloMosaic.Lib.Pipeline.ValueKit
public import Idealize.ShloMosaic.Lib.Pointwise

@[expose] public section

open Idealize.ShloMosaic
open scoped BigOperators

namespace Cert.Step

/-- The dot product of two lists of `n` extended reals. -/
noncomputable def dot (n : ℕ) (f g : Fin n → EReal) : EReal := ∑ l : Fin n, f l * g l

/-- The root-mean-square factor of a row of 1024 entries, with the two constants the programs print. -/
noncomputable def rmsInv (x : Fin 1024 → EReal) : EReal :=
  Ideal.rsqrt (Ideal.div (dot 1024 x x) (Ideal.ofBits .f32 1149239296#32) + Ideal.ofBits .f32 897988541#32)

/-- A row normalised by its root mean square and scaled by a gain. -/
noncomputable def rms (x g : Fin 1024 → EReal) (k : Fin 1024) : EReal := x k * rmsInv x * g k

theorem rms_congr {x x' g g' : Fin 1024 → EReal} {k k' : Fin 1024} (hx : x = x') (hg : g = g') (hk : k = k') : rms x g k = rms x' g' k' := by rw [hx, hg, hk]

/-- Entry `k` of a row times a matrix, plus a row. -/
noncomputable def affine (n : ℕ) (y : Fin n → EReal) (w : Fin n → Fin 1024 → EReal) (h : Fin 1024 → EReal)
    (k : Fin 1024) : EReal := dot n y (fun l => w l k) + h k

theorem affine_comm (n : ℕ) (y : Fin n → EReal) (w : Fin n → Fin 1024 → EReal) (h : Fin 1024 → EReal) : affine n y w h = fun k => h k + dot n y (fun l => w l k) := funext fun _ => add_comm _ _

/-- The mean square of a row plus the constant, under the root. -/
noncomputable def meanSq (x : Fin 1024 → EReal) : EReal :=
  Ideal.div (dot 1024 x x) (Ideal.ofBits .f32 1149239296#32) + Ideal.ofBits .f32 897988541#32

/-- The factor a row's own entries take in the gradient of its normalisation; `d` is the cotangent times the gain. -/
noncomputable def rmsPull (x d : Fin 1024 → EReal) : EReal :=
  Ideal.div (dot 1024 x d * (Ideal.ofBits .f32 3204448256#32 * Ideal.div (rmsInv x) (meanSq x)))
    (Ideal.ofBits .f32 1149239296#32)

/-- Entry `k` of the gradient of a row's normalisation. -/
noncomputable def rmsGrad (x d : Fin 1024 → EReal) (k : Fin 1024) : EReal :=
  d k * rmsInv x + x k * rmsPull x d + rmsPull x d * x k

/-- A product of two entries, and their sum. -/
noncomputable def times (a b : EReal) : EReal := a * b

noncomputable def plus (a b : EReal) : EReal := a + b

/-- The sum of `n` extended reals. -/
noncomputable def total (n : ℕ) (f : Fin n → EReal) : EReal := ∑ i : Fin n, f i

/-- `x + r` from row 48 on, and zero on the rows in front. -/
noncomputable def lead (i : ℕ) (x r : EReal) : EReal := if 48 ≤ i then x + r else 0

/-- Four terms summed from the last to the first. -/
theorem rev4 (a b c d : EReal) : d + c + b + a = a + b + c + d := by rw [add_comm (d + c + b), add_comm (d + c), add_comm d, ← add_assoc, ← add_assoc]

/-- A grid run of `J` points that collects in a scratch `s` and writes the output `o` only at its last point. The first
    point stores its term, each later point adds its own to what the point before left, and the last point writes
    that sum to the output instead: the output is the sum of the run's `J` terms. -/
theorem run_total {ι M : Type*} [AddCommMonoid M] {N : ℕ} (o s : (n : ℕ) → n < N → ι → M) (J : ℕ) [NeZero J] (hJ : 2 ≤ J) (term : Fin N → ι → M)
    (h0 : ∀ t : Fin N, t.val % J = 0 → ∀ i, s t.val t.isLt i = term t i) (hs : ∀ t : Fin N, ¬t.val % J = 0 → ¬t.val % J = J - 1 → ∀ i,
      s t.val t.isLt i = s (t.val - 1) (Nat.lt_of_le_of_lt (Nat.sub_le _ _) t.isLt) i + term t i) (hl : ∀ t : Fin N, t.val % J = J - 1 → ∀ i,
      o t.val t.isLt i = s (t.val - 1) (Nat.lt_of_le_of_lt (Nat.sub_le _ _) t.isLt) i + term t i) (t : Fin N) (hr : t.val % J = J - 1) (i : ι) : o t.val t.isLt i =
      ∑ k : Fin J, term ⟨J * (t.val / J) + k.val, Pipeline.run_point_lt_of_flush t hr k⟩ i := by
  have key := Pipeline.eq_sum_fin_of_reset_step_apply_of_flush
    (fun n h => if n % J = J - 1 then o n h else s n h) J (fun _ => 0) term
    (fun u h i => by
      rw [if_neg (by omega), h0 u h i, zero_add])
    (fun u h i => by
      have before : ¬(u.val - 1) % J = J - 1 := by
        have e1 : u.val = J * (u.val / J) + u.val % J := (Nat.div_add_mod _ _).symm; have e2 := Nat.mod_lt u.val (show 0 < J by omega); intro e
        have e3 : u.val - 1 = J * (u.val / J) + (u.val % J - 1) := by omega
        rw [e3, Nat.mul_add_mod, Nat.mod_eq_of_lt (by omega)] at e; omega
      show (if u.val % J = J - 1 then o u.val u.isLt else s u.val u.isLt) i =
        (if (u.val - 1) % J = J - 1 then o (u.val - 1) _ else s (u.val - 1) _) i + term u i
      rw [if_neg before]
      split_ifs with e
      · exact hl u e i
      · exact hs u h e i)
    t hr i
  rw [if_pos hr, zero_add] at key; exact key
-- ==== Proof.Kit.lean ====
module

public import proofs.«01_k».proof.Defs
public import proofs.«01_k».proof.Proof.Adam
public import proofs.«01_k».proof.Proof.Rows
public import proofs.«01_k».proof.Proof.Sums
public import Idealize.ShloMosaic.Adequacy
public import Idealize.ShloMosaic.Init
public import Idealize.ShloMosaic.Lib.Pipeline.ReadBack
public import Idealize.ShloMosaic.Lib.Pipeline.ValueKit
public import Idealize.ShloMosaic.Lib.Pointwise
public import Idealize.ShloMosaic.Lib.Tactic.ValueTie
public import Idealize.ShloMosaic.Lib.WordCmp
-- ==== Proof.DownW.lean ====
module

public import proofs.«01_k».proof.Proof.Kit
public import proofs.«01_k».proof.Proof.Gen.DownWIdeal.Value
public import proofs.«01_k».proof.Proof.Gen.DownWRefIdeal.Run

@[expose] public section
set_option maxRecDepth 16384
noncomputable section
open Idealize ShloMosaic TcCoe SL.Sem

namespace Cert.DownWIdeal.Prod

open Gen Step

variable (m : (ℓ : Loc nD τ sig) → Buf (Elt Ideal) ℓ)

/-- The block indices at each grid point: the run of 5 points walks along the contracted axis. -/
theorem idx : ∀ t : Fin cfg0.N, win0_0.index t = ![t.val / 5, t.val % 5] ∧ win0_1.index t = ![t.val % 5, 0] ∧ win0_2.index t = ![t.val / 5, 0] := (by decide +kernel : ∀ t : Fin grid0.N, _)

/-- One point's partial product. -/
def part (x0 : Vec Ideal S1408x1664 .bf16) (x1 : Vec Ideal S1664x1024 .bf16) (y : S1408x1024.Idx) : EReal := dot 1664 (fun k => x1 (ix2 k (y 1))) (fun k => x0 (ix2 (y 0) k))

theorem pay1 (x0 : Vec Ideal S1408x1664 .bf16) (x1 : Vec Ideal S1664x1024 .bf16) (y : S1408x1024.Idx) : k0_pay2 (F := Ideal) x0 x1 y = part x0 x1 y := by
  pointwise [k0_pay2, k0_pay1, part, dot]; exact Finset.sum_congr rfl fun _ _ => mul_comm _ _

theorem pay3 (x0 : Vec Ideal S1408x1664 .bf16) (x1 : Vec Ideal S1664x1024 .bf16) (v : Vec Ideal S1408x1024 .f32) (y : S1408x1024.Idx) :
    k0_pay3 (F := Ideal) x0 x1 v y = v y + part x0 x1 y ∧ k0_pay4 (F := Ideal) x0 x1 v y = v y + part x0 x1 y := by
  constructor <;> pointwise [k0_pay3, k0_pay4, k0_pay1, part, dot] <;>
    exact congrArg (v y + ·) (Finset.sum_congr rfl fun _ _ => mul_comm _ _)

/-- The result array: row `j 0` of the first operand against column `j 1` of the second, over all 8320 rows. -/
theorem final (c : Dev nD) : (dats m 0 c).arrAt 2 (cfgs 0).N = fun j => dot 8320 (fun l => m (c.tc.loc main_arg1) (ix2 l (j 1))) (fun l => m (c.tc.loc main_arg0) (ix2 (j 0) l)) := by
  refine (dats m 0 c).arrAt_eq_of_covers 2 _ (by decide +kernel) fun t hf y => ?_; blk_simp
  rw [after0_2, run_total (fun n h => (outsAt0 m c n h).1) (fun n h => (outsAt0 m c n h).2) 5 (by omega)
    (fun t => part (iblk m c 0 t) (iblk m c 1 t))
    (fun t h y => by
      rw [outsAt0_A m c t h (by omega) (by omega)]; frame_out; exact pay1 _ _ y)
    (fun t h h' y => by
      rw [outsAt0_B m c t h (by omega) h']; frame_out; simp only [read_unread_whole]; exact (pay3 _ _ _ y).1)
    (fun t h y => by
      rw [outsAt0_C m c t (by omega) (by omega) h]; frame_out; simp only [read_unread_whole]; exact (pay3 _ _ _ y).2)
    t ((flush0_2 t).mp hf) _]
  refine Fin.sum_mul_add_congr fun s k hl => ?_; refine congrArg₂ (fun a b : EReal => a * b) ?_ ?_ <;> blk_ext [iblk, V, idx t, idx ⟨_, Pipeline.run_point_lt_of_flush t ((flush0_2 t).mp hf) s⟩]

/-- The weight gradient of the down projection is the reference's. -/
theorem _root_.Cert.Step.downW : algebraic_DownWIdeal_DownWRefIdeal := by
  pair_intro
  · run_from Gen.run_main m g
  · hlo_run
    rw [final]
    funext j
    pointwise [dot]
-- ==== Proof.UpW.lean ====
module

public import proofs.«01_k».proof.Proof.Kit
public import proofs.«01_k».proof.Proof.Gen.UpWIdeal.Value
public import proofs.«01_k».proof.Proof.Gen.UpWRefIdeal.Run

@[expose] public section
set_option maxRecDepth 16384
noncomputable section
open Idealize ShloMosaic TcCoe SL.Sem

namespace Cert.UpWIdeal.Prod

open Gen Step

variable (m : (ℓ : Loc nD τ sig) → Buf (Elt Ideal) ℓ)

/-- The block indices at each grid point: the run of 5 points walks along the contracted axis. -/
theorem idx : ∀ t : Fin cfg0.N, win0_0.index t = ![0, t.val % 5] ∧ win0_1.index t = ![t.val % 5, t.val / 5] ∧ win0_2.index t = ![0, t.val / 5] := (by decide +kernel : ∀ t : Fin grid0.N, _)

/-- One point's partial product. -/
def part (x0 : Vec Ideal S1024x1664 .bf16) (x1 : Vec Ideal S1664x1408 .bf16) (y : S1024x1408.Idx) : EReal := dot 1664 (fun k => x1 (ix2 k (y 1))) (fun k => x0 (ix2 (y 0) k))

theorem pay1 (x0 : Vec Ideal S1024x1664 .bf16) (x1 : Vec Ideal S1664x1408 .bf16) (y : S1024x1408.Idx) : k0_pay2 (F := Ideal) x0 x1 y = part x0 x1 y := by
  pointwise [k0_pay2, k0_pay1, part, dot]; exact Finset.sum_congr rfl fun _ _ => mul_comm _ _

theorem pay3 (x0 : Vec Ideal S1024x1664 .bf16) (x1 : Vec Ideal S1664x1408 .bf16) (v : Vec Ideal S1024x1408 .f32) (y : S1024x1408.Idx) :
    k0_pay3 (F := Ideal) x0 x1 v y = v y + part x0 x1 y ∧ k0_pay4 (F := Ideal) x0 x1 v y = v y + part x0 x1 y := by
  constructor <;> pointwise [k0_pay3, k0_pay4, k0_pay1, part, dot] <;>
    exact congrArg (v y + ·) (Finset.sum_congr rfl fun _ _ => mul_comm _ _)

/-- The result array: row `j 0` of the first operand against column `j 1` of the second, over all 8320 rows. -/
theorem final (c : Dev nD) : (dats m 0 c).arrAt 2 (cfgs 0).N = fun j => dot 8320 (fun l => m (c.tc.loc main_arg1) (ix2 l (j 1))) (fun l => m (c.tc.loc main_arg0) (ix2 (j 0) l)) := by
  refine (dats m 0 c).arrAt_eq_of_covers 2 _ (by decide +kernel) fun t hf y => ?_; blk_simp
  rw [after0_2, run_total (fun n h => (outsAt0 m c n h).1) (fun n h => (outsAt0 m c n h).2) 5 (by omega)
    (fun t => part (iblk m c 0 t) (iblk m c 1 t))
    (fun t h y => by
      rw [outsAt0_A m c t h (by omega) (by omega)]; frame_out; exact pay1 _ _ y)
    (fun t h h' y => by
      rw [outsAt0_B m c t h (by omega) h']; frame_out; simp only [read_unread_whole]; exact (pay3 _ _ _ y).1)
    (fun t h y => by
      rw [outsAt0_C m c t (by omega) (by omega) h]; frame_out; simp only [read_unread_whole]; exact (pay3 _ _ _ y).2)
    t ((flush0_2 t).mp hf) _]
  refine Fin.sum_mul_add_congr fun s k hl => ?_; refine congrArg₂ (fun a b : EReal => a * b) ?_ ?_ <;> blk_ext [iblk, V, idx t, idx ⟨_, Pipeline.run_point_lt_of_flush t ((flush0_2 t).mp hf) s⟩]

/-- The weight gradient of an up projection is the reference's. -/
theorem _root_.Cert.Step.upW : algebraic_UpWIdeal_UpWRefIdeal := by
  pair_intro
  · run_from Gen.run_main m g
  · hlo_run
    rw [final]
    funext j
    pointwise [dot]
-- ==== Proof.OutW.lean ====
module

public import proofs.«01_k».proof.Proof.Kit
public import proofs.«01_k».proof.Proof.Gen.OutWIdeal.Value
public import proofs.«01_k».proof.Proof.Gen.OutWRefIdeal.Run

@[expose] public section
set_option maxRecDepth 16384
noncomputable section
open Idealize ShloMosaic TcCoe SL.Sem

namespace Cert.OutWIdeal.Prod

open Gen Step

variable (m : (ℓ : Loc nD τ sig) → Buf (Elt Ideal) ℓ)

/-- The block indices at each grid point: the run of 5 points walks along the contracted axis. -/
theorem idx : ∀ t : Fin cfg0.N, win0_0.index t = ![0, t.val % 5] ∧ win0_1.index t = ![t.val % 5, 0] ∧ win0_2.index t = ![0, 0] := (by decide +kernel : ∀ t : Fin grid0.N, _)

/-- One point's partial product. -/
def part (x0 : Vec Ideal S1024x1664 .bf16) (x1 : Vec Ideal S1664x1024 .bf16) (y : S1024x1024.Idx) : EReal := dot 1664 (fun k => x1 (ix2 k (y 1))) (fun k => x0 (ix2 (y 0) k))

theorem pay1 (x0 : Vec Ideal S1024x1664 .bf16) (x1 : Vec Ideal S1664x1024 .bf16) (y : S1024x1024.Idx) : k0_pay2 (F := Ideal) x0 x1 y = part x0 x1 y := by
  pointwise [k0_pay2, k0_pay1, part, dot]; exact Finset.sum_congr rfl fun _ _ => mul_comm _ _

theorem pay3 (x0 : Vec Ideal S1024x1664 .bf16) (x1 : Vec Ideal S1664x1024 .bf16) (v : Vec Ideal S1024x1024 .f32) (y : S1024x1024.Idx) :
    k0_pay3 (F := Ideal) x0 x1 v y = v y + part x0 x1 y ∧ k0_pay4 (F := Ideal) x0 x1 v y = v y + part x0 x1 y := by
  constructor <;> pointwise [k0_pay3, k0_pay4, k0_pay1, part, dot] <;>
    exact congrArg (v y + ·) (Finset.sum_congr rfl fun _ _ => mul_comm _ _)

/-- The result array: row `j 0` of the first operand against column `j 1` of the second, over all 8320 rows. -/
theorem final (c : Dev nD) : (dats m 0 c).arrAt 2 (cfgs 0).N = fun j => dot 8320 (fun l => m (c.tc.loc main_arg1) (ix2 l (j 1))) (fun l => m (c.tc.loc main_arg0) (ix2 (j 0) l)) := by
  refine (dats m 0 c).arrAt_eq_of_covers 2 _ (by decide +kernel) fun t hf y => ?_; blk_simp
  rw [after0_2, run_total (fun n h => (outsAt0 m c n h).1) (fun n h => (outsAt0 m c n h).2) 5 (by omega)
    (fun t => part (iblk m c 0 t) (iblk m c 1 t))
    (fun t h y => by
      rw [outsAt0_A m c t h (by omega) (by omega)]; frame_out; exact pay1 _ _ y)
    (fun t h h' y => by
      rw [outsAt0_B m c t h (by omega) h']; frame_out; simp only [read_unread_whole]; exact (pay3 _ _ _ y).1)
    (fun t h y => by
      rw [outsAt0_C m c t (by omega) (by omega) h]; frame_out; simp only [read_unread_whole]; exact (pay3 _ _ _ y).2)
    t ((flush0_2 t).mp hf) _]
  refine Fin.sum_mul_add_congr fun s k hl => ?_; refine congrArg₂ (fun a b : EReal => a * b) ?_ ?_ <;> blk_ext [iblk, V, idx t, idx ⟨_, Pipeline.run_point_lt_of_flush t ((flush0_2 t).mp hf) s⟩]

/-- The weight gradient of the output projection is the reference's. -/
theorem _root_.Cert.Step.outW : algebraic_OutWIdeal_OutWRefIdeal := by
  pair_intro
  · run_from Gen.run_main m g
  · hlo_run
    rw [final]
    funext j
    pointwise [dot]
-- ==== Proof.QkvW.lean ====
module

public import proofs.«01_k».proof.Proof.Kit
public import proofs.«01_k».proof.Proof.Gen.QkvWIdeal.Value
public import proofs.«01_k».proof.Proof.Gen.QkvWRefIdeal.Run

@[expose] public section
set_option maxRecDepth 16384
noncomputable section
open Idealize ShloMosaic TcCoe SL.Sem

namespace Cert.QkvWIdeal.Prod

open Gen Step

variable (m : (ℓ : Loc nD τ sig) → Buf (Elt Ideal) ℓ)

/-- The block indices at each grid point: the run of 5 points walks along the contracted axis. -/
theorem idx : ∀ t : Fin cfg0.N, win0_0.index t = ![0, t.val % 5] ∧ win0_1.index t = ![t.val % 5, t.val / 5] ∧ win0_2.index t = ![0, t.val / 5] := (by decide +kernel : ∀ t : Fin grid0.N, _)

/-- One point's partial product. -/
def part (x0 : Vec Ideal S1024x1664 .bf16) (x1 : Vec Ideal S1664x1536 .bf16) (y : S1024x1536.Idx) : EReal := dot 1664 (fun k => x1 (ix2 k (y 1))) (fun k => x0 (ix2 (y 0) k))

theorem pay1 (x0 : Vec Ideal S1024x1664 .bf16) (x1 : Vec Ideal S1664x1536 .bf16) (y : S1024x1536.Idx) : k0_pay2 (F := Ideal) x0 x1 y = part x0 x1 y := by
  pointwise [k0_pay2, k0_pay1, part, dot]; exact Finset.sum_congr rfl fun _ _ => mul_comm _ _

theorem pay3 (x0 : Vec Ideal S1024x1664 .bf16) (x1 : Vec Ideal S1664x1536 .bf16) (v : Vec Ideal S1024x1536 .f32) (y : S1024x1536.Idx) :
    k0_pay3 (F := Ideal) x0 x1 v y = v y + part x0 x1 y ∧ k0_pay4 (F := Ideal) x0 x1 v y = v y + part x0 x1 y := by
  constructor <;> pointwise [k0_pay3, k0_pay4, k0_pay1, part, dot] <;>
    exact congrArg (v y + ·) (Finset.sum_congr rfl fun _ _ => mul_comm _ _)

/-- The result array: row `j 0` of the first operand against column `j 1` of the second, over all 8320 rows. -/
theorem final (c : Dev nD) : (dats m 0 c).arrAt 2 (cfgs 0).N = fun j => dot 8320 (fun l => m (c.tc.loc main_arg1) (ix2 l (j 1))) (fun l => m (c.tc.loc main_arg0) (ix2 (j 0) l)) := by
  refine (dats m 0 c).arrAt_eq_of_covers 2 _ (by decide +kernel) fun t hf y => ?_; blk_simp
  rw [after0_2, run_total (fun n h => (outsAt0 m c n h).1) (fun n h => (outsAt0 m c n h).2) 5 (by omega)
    (fun t => part (iblk m c 0 t) (iblk m c 1 t))
    (fun t h y => by
      rw [outsAt0_A m c t h (by omega) (by omega)]; frame_out; exact pay1 _ _ y)
    (fun t h h' y => by
      rw [outsAt0_B m c t h (by omega) h']; frame_out; simp only [read_unread_whole]; exact (pay3 _ _ _ y).1)
    (fun t h y => by
      rw [outsAt0_C m c t (by omega) (by omega) h]; frame_out; simp only [read_unread_whole]; exact (pay3 _ _ _ y).2)
    t ((flush0_2 t).mp hf) _]
  refine Fin.sum_mul_add_congr fun s k hl => ?_; refine congrArg₂ (fun a b : EReal => a * b) ?_ ?_ <;> blk_ext [iblk, V, idx t, idx ⟨_, Pipeline.run_point_lt_of_flush t ((flush0_2 t).mp hf) s⟩]

/-- The weight gradient of the query, key and value projection is the reference's. -/
theorem _root_.Cert.Step.qkvW : algebraic_QkvWIdeal_QkvWRefIdeal := by
  pair_intro
  · run_from Gen.run_main m g
  · hlo_run
    rw [final]
    funext j
    pointwise [dot]
-- ==== Proof.GateW.lean ====
module

public import proofs.«01_k».proof.Proof.Kit
public import proofs.«01_k».proof.Proof.Gen.GateWIdeal.Value
public import proofs.«01_k».proof.Proof.Gen.GateWRefIdeal.Run

@[expose] public section
set_option maxRecDepth 16384
noncomputable section
open Idealize ShloMosaic TcCoe SL.Sem

namespace Cert.GateWIdeal.Prod

open Gen Step

variable (m : (ℓ : Loc nD τ sig) → Buf (Elt Ideal) ℓ)

/-- The block indices at each grid point: the run of 5 points walks along the contracted axis. -/
theorem idx : ∀ t : Fin cfg0.N, win0_0.index t = ![0, t.val % 5] ∧ win0_1.index t = ![t.val % 5, t.val / 5] ∧ win0_2.index t = ![0, t.val / 5] := (by decide +kernel : ∀ t : Fin grid0.N, _)

/-- One point's partial product. -/
def part (x0 : Vec Ideal S1024x1664 .bf16) (x1 : Vec Ideal S1664x1024 .bf16) (y : S1024x1024.Idx) : EReal := dot 1664 (fun k => x1 (ix2 k (y 1))) (fun k => x0 (ix2 (y 0) k))

theorem pay1 (x0 : Vec Ideal S1024x1664 .bf16) (x1 : Vec Ideal S1664x1024 .bf16) (y : S1024x1024.Idx) : k0_pay2 (F := Ideal) x0 x1 y = part x0 x1 y := by
  pointwise [k0_pay2, k0_pay1, part, dot]; exact Finset.sum_congr rfl fun _ _ => mul_comm _ _

theorem pay3 (x0 : Vec Ideal S1024x1664 .bf16) (x1 : Vec Ideal S1664x1024 .bf16) (v : Vec Ideal S1024x1024 .f32) (y : S1024x1024.Idx) :
    k0_pay3 (F := Ideal) x0 x1 v y = v y + part x0 x1 y ∧ k0_pay4 (F := Ideal) x0 x1 v y = v y + part x0 x1 y := by
  constructor <;> pointwise [k0_pay3, k0_pay4, k0_pay1, part, dot] <;>
    exact congrArg (v y + ·) (Finset.sum_congr rfl fun _ _ => mul_comm _ _)

/-- The result array: row `j 0` of the first operand against column `j 1` of the second, over all 8320 rows. -/
theorem final (c : Dev nD) : (dats m 0 c).arrAt 2 (cfgs 0).N = fun j => dot 8320 (fun l => m (c.tc.loc main_arg1) (ix2 l (j 1))) (fun l => m (c.tc.loc main_arg0) (ix2 (j 0) l)) := by
  refine (dats m 0 c).arrAt_eq_of_covers 2 _ (by decide +kernel) fun t hf y => ?_; blk_simp
  rw [after0_2, run_total (fun n h => (outsAt0 m c n h).1) (fun n h => (outsAt0 m c n h).2) 5 (by omega)
    (fun t => part (iblk m c 0 t) (iblk m c 1 t))
    (fun t h y => by
      rw [outsAt0_A m c t h (by omega) (by omega)]; frame_out; exact pay1 _ _ y)
    (fun t h h' y => by
      rw [outsAt0_B m c t h (by omega) h']; frame_out; simp only [read_unread_whole]; exact (pay3 _ _ _ y).1)
    (fun t h y => by
      rw [outsAt0_C m c t (by omega) (by omega) h]; frame_out; simp only [read_unread_whole]; exact (pay3 _ _ _ y).2)
    t ((flush0_2 t).mp hf) _]
  refine Fin.sum_mul_add_congr fun s k hl => ?_; refine congrArg₂ (fun a b : EReal => a * b) ?_ ?_ <;> blk_ext [iblk, V, idx t, idx ⟨_, Pipeline.run_point_lt_of_flush t ((flush0_2 t).mp hf) s⟩]

/-- The weight gradient of the gate projection is the reference's. -/
theorem _root_.Cert.Step.gateW : algebraic_GateWIdeal_GateWRefIdeal := by
  pair_intro
  · run_from Gen.run_main m g
  · hlo_run
    rw [final]
    funext j
    pointwise [dot]
-- ==== Proof.PoolBaW.lean ====
module

public import proofs.«01_k».proof.Proof.Kit
public import proofs.«01_k».proof.Proof.Gen.PoolBaWIdeal.Value
public import proofs.«01_k».proof.Proof.Gen.PoolBaWRefIdeal.Run

@[expose] public section
set_option maxRecDepth 16384
noncomputable section
open Idealize ShloMosaic TcCoe SL.Sem

namespace Cert.PoolBaWIdeal.Prod

open Gen Step

variable (m : (ℓ : Loc nD τ sig) → Buf (Elt Ideal) ℓ)

/-- The block indices at each grid point: the run of 5 points walks along the contracted axis. -/
theorem idx : ∀ t : Fin cfg0.N, win0_0.index t = ![0, t.val % 5] ∧ win0_1.index t = ![t.val % 5, 0] ∧ win0_2.index t = ![0, 0] := (by decide +kernel : ∀ t : Fin grid0.N, _)

/-- One point's partial product. -/
def part (x0 : Vec Ideal S1024x1664 .bf16) (x1 : Vec Ideal S1664x640 .bf16) (y : S1024x640.Idx) : EReal := dot 1664 (fun k => x1 (ix2 k (y 1))) (fun k => x0 (ix2 (y 0) k))

theorem pay1 (x0 : Vec Ideal S1024x1664 .bf16) (x1 : Vec Ideal S1664x640 .bf16) (y : S1024x640.Idx) : k0_pay2 (F := Ideal) x0 x1 y = part x0 x1 y := by
  pointwise [k0_pay2, k0_pay1, part, dot]; exact Finset.sum_congr rfl fun _ _ => mul_comm _ _

theorem pay3 (x0 : Vec Ideal S1024x1664 .bf16) (x1 : Vec Ideal S1664x640 .bf16) (v : Vec Ideal S1024x640 .f32) (y : S1024x640.Idx) :
    k0_pay3 (F := Ideal) x0 x1 v y = v y + part x0 x1 y ∧ k0_pay4 (F := Ideal) x0 x1 v y = v y + part x0 x1 y := by
  constructor <;> pointwise [k0_pay3, k0_pay4, k0_pay1, part, dot] <;>
    exact congrArg (v y + ·) (Finset.sum_congr rfl fun _ _ => mul_comm _ _)

/-- The result array: row `j 0` of the first operand against column `j 1` of the second, over all 8320 rows. -/
theorem final (c : Dev nD) : (dats m 0 c).arrAt 2 (cfgs 0).N = fun j => dot 8320 (fun l => m (c.tc.loc main_arg1) (ix2 l (j 1))) (fun l => m (c.tc.loc main_arg0) (ix2 (j 0) l)) := by
  refine (dats m 0 c).arrAt_eq_of_covers 2 _ (by decide +kernel) fun t hf y => ?_; blk_simp
  rw [after0_2, run_total (fun n h => (outsAt0 m c n h).1) (fun n h => (outsAt0 m c n h).2) 5 (by omega)
    (fun t => part (iblk m c 0 t) (iblk m c 1 t))
    (fun t h y => by
      rw [outsAt0_A m c t h (by omega) (by omega)]; frame_out; exact pay1 _ _ y)
    (fun t h h' y => by
      rw [outsAt0_B m c t h (by omega) h']; frame_out; simp only [read_unread_whole]; exact (pay3 _ _ _ y).1)
    (fun t h y => by
      rw [outsAt0_C m c t (by omega) (by omega) h]; frame_out; simp only [read_unread_whole]; exact (pay3 _ _ _ y).2)
    t ((flush0_2 t).mp hf) _]
  refine Fin.sum_mul_add_congr fun s k hl => ?_; refine congrArg₂ (fun a b : EReal => a * b) ?_ ?_ <;> blk_ext [iblk, V, idx t, idx ⟨_, Pipeline.run_point_lt_of_flush t ((flush0_2 t).mp hf) s⟩]

/-- The weight gradient of the pool and beta projection is the reference's. -/
theorem _root_.Cert.Step.poolBaW : algebraic_PoolBaWIdeal_PoolBaWRefIdeal := by
  pair_intro
  · run_from Gen.run_main m g
  · hlo_run
    rw [final]
    funext j
    pointwise [dot]
-- ==== Proof.DownX.lean ====
module

public import proofs.«01_k».proof.Proof.Kit
public import proofs.«01_k».proof.Proof.Gen.DownXIdeal.Value
public import proofs.«01_k».proof.Proof.Gen.DownXRefIdeal.Run

@[expose] public section
set_option maxRecDepth 16384
noncomputable section
open Idealize ShloMosaic TcCoe SL.Sem

namespace Cert.DownXIdeal.Prod

open Gen Step

variable (m : (ℓ : Loc nD τ sig) → Buf (Elt Ideal) ℓ)

/-- The block indices at each grid point. -/
theorem idx : ∀ t : Fin cfg0.N, win0_0.index t = ![t.val % 13, 0] ∧ win0_1.index t = ![t.val / 13, 0] ∧ win0_2.index t = ![t.val % 13, t.val / 13] := (by decide +kernel : ∀ t : Fin grid0.N, _)

/-- The result array: row `j 0` of the cotangent against row `j 1` of the weight. -/
theorem final (c : Dev nD) : (dats m 0 c).arrAt 2 (cfgs 0).N = fun j => dot 1024 (fun l => m (c.tc.loc main_arg0) (ix2 (j 0) l)) (fun l => m (c.tc.loc main_arg1) (ix2 (j 1) l)) := by
  refine (dats m 0 c).arrAt_eq_of_covers 2 _ (by decide +kernel) fun t hf y => ?_; blk_simp; rw [after0_2]; unfold outsAt0; frame_out
  refine (show _ = dot 1024 (fun l => iblk m c 0 t (ix2 (y 0) l)) (fun l => iblk m c 1 t (ix2 (y 1) l)) by
    pointwise [k0_pay1, dot]).trans ?_
  refine Finset.sum_congr rfl fun l _ => congrArg₂ (fun a b : EReal => a * b) ?_ ?_ <;> blk_ext [iblk, V, idx t]

/-- The input gradient of the down projection is the reference's. -/
theorem _root_.Cert.Step.downX : algebraic_DownXIdeal_DownXRefIdeal := by
  pair_intro
  · run_from Gen.run_main m g
  · hlo_run
    rw [final]
    funext j
    pointwise [dot]
-- ==== Proof.OutX.lean ====
module

public import proofs.«01_k».proof.Proof.Kit
public import proofs.«01_k».proof.Proof.Gen.OutXIdeal.Value
public import proofs.«01_k».proof.Proof.Gen.OutXRefIdeal.Run

@[expose] public section
set_option maxRecDepth 16384
noncomputable section
open Idealize ShloMosaic TcCoe SL.Sem

namespace Cert.OutXIdeal.Prod

open Gen Step

variable (m : (ℓ : Loc nD τ sig) → Buf (Elt Ideal) ℓ)

/-- The block indices at each grid point. -/
theorem idx : ∀ t : Fin cfg0.N, win0_0.index t = ![t.val, 0] ∧ win0_1.index t = ![0, 0] ∧ win0_2.index t = ![t.val, 0] := (by decide +kernel : ∀ t : Fin grid0.N, _)

/-- The result array: row `j 0` of the cotangent against row `j 1` of the weight. -/
theorem final (c : Dev nD) : (dats m 0 c).arrAt 2 (cfgs 0).N = fun j => dot 1024 (fun l => m (c.tc.loc main_arg0) (ix2 (j 0) l)) (fun l => m (c.tc.loc main_arg1) (ix2 (j 1) l)) := by
  refine (dats m 0 c).arrAt_eq_of_covers 2 _ (by decide +kernel) fun t hf y => ?_; blk_simp; rw [after0_2]; unfold outsAt0; frame_out
  refine (show _ = dot 1024 (fun l => iblk m c 0 t (ix2 (y 0) l)) (fun l => iblk m c 1 t (ix2 (y 1) l)) by
    pointwise [k0_pay1, dot]).trans ?_
  refine Finset.sum_congr rfl fun l _ => congrArg₂ (fun a b : EReal => a * b) ?_ ?_ <;> blk_ext [iblk, V, idx t]

/-- The input gradient of the output projection is the reference's. -/
theorem _root_.Cert.Step.outX : algebraic_OutXIdeal_OutXRefIdeal := by
  pair_intro
  · run_from Gen.run_main m g
  · hlo_run
    rw [final]
    funext j
    pointwise [dot]
-- ==== Proof.UpX.lean ====
module

public import proofs.«01_k».proof.Proof.Kit
public import proofs.«01_k».proof.Proof.Gen.UpXIdeal.Value
public import proofs.«01_k».proof.Proof.Gen.UpXRefIdeal.Run

@[expose] public section
set_option maxRecDepth 16384
noncomputable section
open Idealize ShloMosaic TcCoe SL.Sem

namespace Cert.UpXIdeal.Prod

open Gen Step

variable (m : (ℓ : Loc nD τ sig) → Buf (Elt Ideal) ℓ)

/-- The block indices at each grid point. -/
theorem idx : ∀ t : Fin cfg0.N, win0_0.index t = ![t.val, 0] ∧ win0_1.index t = ![0, 0] ∧ win0_2.index t = ![t.val, 0] ∧ win0_3.index t = ![0, 0] ∧ win0_4.index t = ![t.val, 0] :=
  (by decide +kernel : ∀ t : Fin grid0.N, _)

/-- The result array: the two products' sum. -/
theorem final (c : Dev nD) : (dats m 0 c).arrAt 4 (cfgs 0).N = fun j => dot 2816 (fun l => m (c.tc.loc main_arg0) (ix2 (j 0) l)) (fun l => m (c.tc.loc main_arg1) (ix2 (j 1) l)) +
      dot 2816 (fun l => m (c.tc.loc main_arg2) (ix2 (j 0) l)) (fun l => m (c.tc.loc main_arg3) (ix2 (j 1) l)) := by
  refine (dats m 0 c).arrAt_eq_of_covers 4 _ (by decide +kernel) fun t hf y => ?_; blk_simp; rw [after0_4]; frame_out
  refine (show _ = dot 2816 (fun l => iblk m c 0 t (ix2 (y 0) l)) (fun l => iblk m c 1 t (ix2 (y 1) l)) +
      dot 2816 (fun l => iblk m c 2 t (ix2 (y 0) l)) (fun l => iblk m c 3 t (ix2 (y 1) l)) by
    pointwise [k0_pay1, dot]).trans ?_
  refine congrArg₂ (fun a b : EReal => a + b) ?_ ?_ <;>
    refine Finset.sum_congr rfl fun l _ => congrArg₂ (fun a b : EReal => a * b) ?_ ?_ <;> blk_ext [iblk, V, idx t]

/-- The input gradient of the two up projections is the reference's. -/
theorem _root_.Cert.Step.upX : algebraic_UpXIdeal_UpXRefIdeal := by
  pair_intro
  · run_from Gen.run_main m g
  · hlo_run
    rw [final]
    funext j
    pointwise [dot]; exact add_comm (_ : EReal) _
-- ==== Proof.InX.lean ====
module

public import proofs.«01_k».proof.Proof.Kit
public import proofs.«01_k».proof.Proof.Gen.InXIdeal.Value
public import proofs.«01_k».proof.Proof.Gen.InXRefIdeal.Run

@[expose] public section
set_option maxRecDepth 16384
noncomputable section
open Idealize ShloMosaic TcCoe SL.Sem

namespace Cert.InXIdeal.Prod

open Gen Step

variable (m : (ℓ : Loc nD τ sig) → Buf (Elt Ideal) ℓ)

/-- The block indices at each grid point. -/
theorem idx : ∀ t : Fin cfg0.N, win0_0.index t = ![t.val, 0] ∧ win0_1.index t = ![0, 0] ∧ win0_2.index t = ![t.val, 0] ∧ win0_3.index t = ![0, 0] ∧ win0_4.index t = ![t.val, 0]
    ∧ win0_5.index t = ![0, 0] ∧ win0_6.index t = ![t.val, 0] ∧ win0_7.index t = ![0, 0] ∧ win0_8.index t = ![t.val, 0] :=
  (by decide +kernel : ∀ t : Fin grid0.N, _)

/-- The result array: the four products' sum. -/
theorem final (c : Dev nD) : (dats m 0 c).arrAt 8 (cfgs 0).N = fun j => dot 3072 (fun l => m (c.tc.loc main_arg0) (ix2 (j 0) l)) (fun l => m (c.tc.loc main_arg1) (ix2 (j 1) l)) +
      dot 1024 (fun l => m (c.tc.loc main_arg2) (ix2 (j 0) l)) (fun l => m (c.tc.loc main_arg3) (ix2 (j 1) l)) + dot 2048 (fun l => m (c.tc.loc main_arg4) (ix2 (j 0) l))
        (fun l => m (c.tc.loc main_arg5) (ix2 (j 1) l)) + dot 640 (fun l => m (c.tc.loc main_arg6) (ix2 (j 0) l)) (fun l => m (c.tc.loc main_arg7) (ix2 (j 1) l)) := by
  refine (dats m 0 c).arrAt_eq_of_covers 8 _ (by decide +kernel) fun t hf y => ?_; blk_simp; rw [after0_8]; frame_out
  refine (show _ = dot 3072 (fun l => iblk m c 0 t (ix2 (y 0) l)) (fun l => iblk m c 1 t (ix2 (y 1) l)) +
      dot 1024 (fun l => iblk m c 2 t (ix2 (y 0) l)) (fun l => iblk m c 3 t (ix2 (y 1) l)) +
      dot 2048 (fun l => iblk m c 4 t (ix2 (y 0) l)) (fun l => iblk m c 5 t (ix2 (y 1) l)) +
      dot 640 (fun l => iblk m c 6 t (ix2 (y 0) l)) (fun l => iblk m c 7 t (ix2 (y 1) l)) by
    pointwise [k0_pay1, dot]).trans ?_
  refine congrArg₂ (fun a b : EReal => a + b) (congrArg₂ (fun a b : EReal => a + b) (congrArg₂ (fun a b : EReal => a + b) ?_ ?_) ?_) ?_ <;>
    refine Finset.sum_congr rfl fun l _ => congrArg₂ (fun a b : EReal => a * b) ?_ ?_ <;> blk_ext [iblk, V, idx t]

/-- The input gradient of the four input projections is the reference's. -/
theorem _root_.Cert.Step.inX : algebraic_InXIdeal_InXRefIdeal := by
  pair_intro
  · run_from Gen.run_main m g
  · hlo_run
    rw [final]
    funext j
    pointwise [dot]; exact rev4 _ _ _ _
-- ==== Proof.QkvF.lean ====
module

public import proofs.«01_k».proof.Proof.Kit
public import proofs.«01_k».proof.Proof.Gen.QkvFIdeal.Value
public import proofs.«01_k».proof.Proof.Gen.QkvFRefIdeal.Run

@[expose] public section
set_option maxRecDepth 16384
noncomputable section
open Idealize ShloMosaic TcCoe SL.Sem

namespace Cert.QkvFIdeal.Prod

open Gen Step

variable (m : (ℓ : Loc nD τ sig) → Buf (Elt Ideal) ℓ)

/-- The block indices at each grid point. -/
theorem idx : ∀ t : Fin cfg0.N, win0_0.index t = ![t.val, 0] ∧ win0_1.index t = ![0, 0] ∧ win0_2.index t = ![t.val, 0] := (by decide +kernel : ∀ t : Fin grid0.N, _)

/-- The result array: row `j 0` of the activations against column `j 1` of the weight. -/
theorem final (c : Dev nD) : (dats m 0 c).arrAt 2 (cfgs 0).N = fun j => dot 1024 (fun l => m (c.tc.loc main_arg0) (ix2 (j 0) l)) (fun l => m (c.tc.loc main_arg1) (ix2 l (j 1))) := by
  refine (dats m 0 c).arrAt_eq_of_covers 2 _ (by decide +kernel) fun t hf y => ?_; blk_simp; rw [after0_2]; unfold outsAt0; frame_out
  refine (show _ = dot 1024 (fun l => iblk m c 0 t (ix2 (y 0) l)) (fun l => iblk m c 1 t (ix2 l (y 1))) by
    pointwise [k0_pay1, dot]).trans ?_
  refine Finset.sum_congr rfl fun l _ => congrArg₂ (fun a b : EReal => a * b) ?_ ?_ <;> blk_ext [iblk, V, idx t]

/-- The forward product of the query, key and value projection is the reference's. -/
theorem _root_.Cert.Step.qkvF : algebraic_QkvFIdeal_QkvFRefIdeal := by
  pair_intro
  · run_from Gen.run_main m g
  · hlo_run
    rw [final]
    funext j
    pointwise [dot]
-- ==== Proof.ZF.lean ====
module

public import proofs.«01_k».proof.Proof.Kit
public import proofs.«01_k».proof.Proof.Gen.ZFIdeal.Value
public import proofs.«01_k».proof.Proof.Gen.ZFRefIdeal.Run

@[expose] public section
set_option maxRecDepth 16384
noncomputable section
open Idealize ShloMosaic TcCoe SL.Sem

namespace Cert.ZFIdeal.Prod

open Gen Step

variable (m : (ℓ : Loc nD τ sig) → Buf (Elt Ideal) ℓ)

/-- The block indices at each grid point. -/
theorem idx : ∀ t : Fin cfg0.N, win0_0.index t = ![t.val, 0] ∧ win0_1.index t = ![0, 0] ∧ win0_2.index t = ![t.val, 0] := (by decide +kernel : ∀ t : Fin grid0.N, _)

/-- The result array: row `j 0` of the activations against column `j 1` of the weight. -/
theorem final (c : Dev nD) : (dats m 0 c).arrAt 2 (cfgs 0).N = fun j => dot 1024 (fun l => m (c.tc.loc main_arg0) (ix2 (j 0) l)) (fun l => m (c.tc.loc main_arg1) (ix2 l (j 1))) := by
  refine (dats m 0 c).arrAt_eq_of_covers 2 _ (by decide +kernel) fun t hf y => ?_; blk_simp; rw [after0_2]; unfold outsAt0; frame_out
  refine (show _ = dot 1024 (fun l => iblk m c 0 t (ix2 (y 0) l)) (fun l => iblk m c 1 t (ix2 l (y 1))) by
    pointwise [k0_pay1, dot]).trans ?_
  refine Finset.sum_congr rfl fun l _ => congrArg₂ (fun a b : EReal => a * b) ?_ ?_ <;> blk_ext [iblk, V, idx t]

/-- The forward product of the output gate projection is the reference's. -/
theorem _root_.Cert.Step.zF : algebraic_ZFIdeal_ZFRefIdeal := by
  pair_intro
  · run_from Gen.run_main m g
  · hlo_run
    rw [final]
    funext j
    pointwise [dot]
-- ==== Proof.GateF.lean ====
module

public import proofs.«01_k».proof.Proof.Kit
public import proofs.«01_k».proof.Proof.Gen.GateFIdeal.Value
public import proofs.«01_k».proof.Proof.Gen.GateFRefIdeal.Run

@[expose] public section
set_option maxRecDepth 16384
noncomputable section
open Idealize ShloMosaic TcCoe SL.Sem

namespace Cert.GateFIdeal.Prod

open Gen Step

variable (m : (ℓ : Loc nD τ sig) → Buf (Elt Ideal) ℓ)

/-- The block indices at each grid point. -/
theorem idx : ∀ t : Fin cfg0.N, win0_0.index t = ![t.val, 0] ∧ win0_1.index t = ![0, 0] ∧ win0_2.index t = ![t.val, 0] := (by decide +kernel : ∀ t : Fin grid0.N, _)

/-- The result array: row `j 0` of the activations against column `j 1` of the weight. -/
theorem final (c : Dev nD) : (dats m 0 c).arrAt 2 (cfgs 0).N = fun j => dot 1024 (fun l => m (c.tc.loc main_arg0) (ix2 (j 0) l)) (fun l => m (c.tc.loc main_arg1) (ix2 l (j 1))) := by
  refine (dats m 0 c).arrAt_eq_of_covers 2 _ (by decide +kernel) fun t hf y => ?_; blk_simp; rw [after0_2]; unfold outsAt0; frame_out
  refine (show _ = dot 1024 (fun l => iblk m c 0 t (ix2 (y 0) l)) (fun l => iblk m c 1 t (ix2 l (y 1))) by
    pointwise [k0_pay1, dot]).trans ?_
  refine Finset.sum_congr rfl fun l _ => congrArg₂ (fun a b : EReal => a * b) ?_ ?_ <;> blk_ext [iblk, V, idx t]

/-- The forward product of the branch gate projection is the reference's. -/
theorem _root_.Cert.Step.gateF : algebraic_GateFIdeal_GateFRefIdeal := by
  pair_intro
  · run_from Gen.run_main m g
  · hlo_run
    rw [final]
    funext j
    pointwise [dot]
-- ==== Proof.PoolBaF.lean ====
module

public import proofs.«01_k».proof.Proof.Kit
public import proofs.«01_k».proof.Proof.Gen.PoolBaFIdeal.Value
public import proofs.«01_k».proof.Proof.Gen.PoolBaFRefIdeal.Run

@[expose] public section
set_option maxRecDepth 16384
noncomputable section
open Idealize ShloMosaic TcCoe SL.Sem

namespace Cert.PoolBaFIdeal.Prod

open Gen Step

variable (m : (ℓ : Loc nD τ sig) → Buf (Elt Ideal) ℓ)

/-- The block indices at each grid point. -/
theorem idx : ∀ t : Fin cfg0.N, win0_0.index t = ![t.val, 0] ∧ win0_1.index t = ![0, 0] ∧ win0_2.index t = ![t.val, 0] := (by decide +kernel : ∀ t : Fin grid0.N, _)

/-- The result array: row `j 0` of the activations against column `j 1` of the weight. -/
theorem final (c : Dev nD) : (dats m 0 c).arrAt 2 (cfgs 0).N = fun j => dot 1024 (fun l => m (c.tc.loc main_arg0) (ix2 (j 0) l)) (fun l => m (c.tc.loc main_arg1) (ix2 l (j 1))) := by
  refine (dats m 0 c).arrAt_eq_of_covers 2 _ (by decide +kernel) fun t hf y => ?_; blk_simp; rw [after0_2]; unfold outsAt0; frame_out
  refine (show _ = dot 1024 (fun l => iblk m c 0 t (ix2 (y 0) l)) (fun l => iblk m c 1 t (ix2 l (y 1))) by
    pointwise [k0_pay1, dot]).trans ?_
  refine Finset.sum_congr rfl fun l _ => congrArg₂ (fun a b : EReal => a * b) ?_ ?_ <;> blk_ext [iblk, V, idx t]

/-- The forward product of the pool and beta projection is the reference's. -/
theorem _root_.Cert.Step.poolBaF : algebraic_PoolBaFIdeal_PoolBaFRefIdeal := by
  pair_intro
  · run_from Gen.run_main m g
  · hlo_run
    rw [final]
    funext j
    pointwise [dot]
-- ==== Proof.UpF.lean ====
module

public import proofs.«01_k».proof.Proof.Kit
public import proofs.«01_k».proof.Proof.Gen.UpFIdeal.Value
public import proofs.«01_k».proof.Proof.Gen.UpFRefIdeal.Run

@[expose] public section
set_option maxRecDepth 16384
noncomputable section
open Idealize ShloMosaic TcCoe SL.Sem

namespace Cert.UpFIdeal.Prod

open Gen Step

variable (m : (ℓ : Loc nD τ sig) → Buf (Elt Ideal) ℓ)

/-- The block indices at each grid point. -/
theorem idx : ∀ t : Fin cfg0.N, win0_0.index t = ![t.val, 0] ∧ win0_1.index t = ![0, 0] ∧ win0_2.index t = ![t.val, 0] := (by decide +kernel : ∀ t : Fin grid0.N, _)

/-- The result array: row `j 0` of the activations against column `j 1` of the weight. -/
theorem final (c : Dev nD) : (dats m 0 c).arrAt 2 (cfgs 0).N = fun j => dot 1024 (fun l => m (c.tc.loc main_arg0) (ix2 (j 0) l)) (fun l => m (c.tc.loc main_arg1) (ix2 l (j 1))) := by
  refine (dats m 0 c).arrAt_eq_of_covers 2 _ (by decide +kernel) fun t hf y => ?_; blk_simp; rw [after0_2]; unfold outsAt0; frame_out
  refine (show _ = dot 1024 (fun l => iblk m c 0 t (ix2 (y 0) l)) (fun l => iblk m c 1 t (ix2 l (y 1))) by
    pointwise [k0_pay1, dot]).trans ?_
  refine Finset.sum_congr rfl fun l _ => congrArg₂ (fun a b : EReal => a * b) ?_ ?_ <;> blk_ext [iblk, V, idx t]

/-- The forward product of the up projection is the reference's. -/
theorem _root_.Cert.Step.upF : algebraic_UpFIdeal_UpFRefIdeal := by
  pair_intro
  · run_from Gen.run_main m g
  · hlo_run
    rw [final]
    funext j
    pointwise [dot]
-- ==== Proof.Rms.lean ====
module

public import proofs.«01_k».proof.Proof.Kit
public import proofs.«01_k».proof.Proof.Gen.RmsIdeal.Value
public import proofs.«01_k».proof.Proof.Gen.RmsRefIdeal.Read

@[expose] public section
set_option maxRecDepth 16384
noncomputable section
open Idealize ShloMosaic TcCoe SL.Sem

namespace Cert.RmsIdeal.Prod

open Gen Step

variable (m : (ℓ : Loc nD τ sig) → Buf (Elt Ideal) ℓ) (c : Dev nD) (t : Fin cfg0.N)

/-- The block indices at each grid point. -/
theorem idx : ∀ t : Fin cfg0.N, win0_0.index t = ![t.val, 0] ∧ win0_1.index t = ![0, 0] ∧ win0_2.index t = ![t.val, 0] ∧ win0_3.index t = ![t.val, 0] ∧ win0_4.index t = ![t.val, 0]
    ∧ win0_5.index t = ![t.val, 0] ∧ win0_6.index t = ![0, 0] :=
  (by decide +kernel : ∀ t : Fin grid0.N, _)

/-- Row `i` of the input. -/
def row (c : Dev nD) (i : Fin 8320) : Fin 1024 → EReal := fun k => m (c.tc.loc main_arg0) (ix2 i k)

/-- Row `i` of the cotangent times the gain. -/
def ct (c : Dev nD) (i : Fin 8320) : Fin 1024 → EReal := fun k =>
  times (m (c.tc.loc main_arg2) (ix2 i k)) (m (c.tc.loc main_arg1) (ix2 0 k))

/-- Row `i` of the gradient: zero on the 48 rows in front of the sequence, and the residual cotangent added. -/
def grad (c : Dev nD) (i : Fin 8320) (k : Fin 1024) : EReal := lead i.val (rmsGrad (row m c i) (ct m c i) k) (m (c.tc.loc main_arg3) (ix2 i k))

/-- The same row of the input, of the cotangent times the gain, from the blocks of grid point `t`. -/
def blkRow (i : Fin 640) : Fin 1024 → EReal := fun k => iblk m c 0 t (ix2 i k)

def blkCt (i : Fin 640) : Fin 1024 → EReal := fun k =>
  times (iblk m c 2 t (ix2 i k)) (iblk m c 1 t (ix2 0 k))

theorem blkRow_eq (i : Fin 640) (a : Fin 8320) (ha : a.val = t.val * 640 + i.val) : blkRow m c t i = row m c a := by
  funext k
  unfold blkRow row
  blk_ext [iblk, V, idx t]

theorem blkCt_eq (i : Fin 640) (a : Fin 8320) (ha : a.val = t.val * 640 + i.val) : blkCt m c t i = ct m c a := by
  funext k
  refine congrArg₂ times ?_ ?_ <;> blk_ext [iblk, V, idx t]

/-- The block of gradients of one grid point. -/
def blkGrad (i : Fin 640) (k : Fin 1024) : EReal := lead (t.val * 640 + i.val) (rmsGrad (blkRow m c t i) (blkCt m c t i) k) (iblk m c 3 t (ix2 i k))

/-- The kernel's test of a row's place against 48, as a test of natural numbers. -/
theorem mask (t : Fin cfg0.N) (i : Fin 640) (x r : EReal) : Scalar.select (IntOp.cmpi .sge (IntOp.addi (IntOp.muli (BitVec.ofNat 32 (grid0.coords t 0).val) 640#32) (BitVec.ofNat 32 i.val)) 48#32)
      (x + r) (0 : EReal) = lead (t.val * 640 + i.val) x r := by
  have ht : (grid0.coords t 0).val = t.val := (by decide +kernel : ∀ t : Fin grid0.N, (grid0.coords t 0).val = t.val) t; have h1 : t.val < 13 := t.isLt
  rw [ht, WordCmp.muli_ofNat, WordCmp.addi_ofNat]; unfold lead; simp (disch := word_cmp_side) only [hlo_ix]

/-- What a point stores in its block of the gradient. -/
theorem stored (y : S640x1024.Idx) : k0_pay1 (k0_pay8 (iblk m c 0 t) (iblk m c 1 t) (iblk m c 2 t)) (k0_pay9 (grid0.coords t)) (iblk m c 3 t) y = blkGrad m c t (y 0) (y 1) := by
  refine Eq.trans ?_ (mask t (y 0) (rmsGrad (blkRow m c t (y 0)) (blkCt m c t (y 0)) (y 1)) (iblk m c 3 t (ix2 (y 0) (y 1))))
  pointwise [k0_pay1, k0_pay8, k0_pay9, k0_pay6, k0_pay5, Fin.sum_univ_one, rmsGrad, rmsPull, rmsInv, meanSq, dot, times, blkRow, blkCt]
  rfl

theorem blkGrad_eq (i : Fin 640) (k : Fin 1024) (a : Fin 8320) (b : Fin 1024) (ha : a.val = t.val * 640 + i.val) (hb : k = b) : blkGrad m c t i k = grad m c a b := by
  subst hb; unfold blkGrad grad; rw [blkRow_eq m c t i a ha, blkCt_eq m c t i a ha, ← ha]; refine congrArg (lead a.val _) ?_
  blk_ext [iblk, V, idx t]

/-- First result: the gradient of the input. -/
theorem final4 (c : Dev nD) : (dats m 0 c).arrAt 4 (cfgs 0).N = fun j => grad m c (j 0) (j 1) := by
  refine (dats m 0 c).arrAt_eq_of_covers 4 _ (by decide +kernel) fun t hf y => ?_; blk_simp; rw [after0_4]; refine Eq.trans (b := blkGrad m c t (y 0) (y 1)) ?_ (blkGrad_eq m c t _ _ _ _ ?_ ?_)
  · by_cases h0 : t.val % 13 = 0
    · rw [outsAt0_A m c t h0]; frame_out; exact stored m c t y
    · rw [outsAt0_B m c t h0]; frame_out; exact stored m c t y
  · blk_simp [idx t]
  · refine Fin.ext ?_; blk_simp [idx t]

/-- Second result: the same, in the narrower format. -/
theorem final5 (c : Dev nD) : (dats m 0 c).arrAt 5 (cfgs 0).N = fun j => grad m c (j 0) (j 1) := by
  refine (dats m 0 c).arrAt_eq_of_covers 5 _ (by decide +kernel) fun t hf y => ?_; blk_simp; rw [after0_5]; refine Eq.trans (b := blkGrad m c t (y 0) (y 1)) ?_ (blkGrad_eq m c t _ _ _ _ ?_ ?_)
  · by_cases h0 : t.val % 13 = 0
    · rw [outsAt0_A m c t h0]; frame_out; exact stored m c t y
    · rw [outsAt0_B m c t h0]; frame_out; exact stored m c t y
  · blk_simp [idx t]
  · refine Fin.ext ?_; blk_simp [idx t]

/-- Entry `k` of the gradient of the gain: the sum over the rows. -/
def gainGrad (c : Dev nD) (k : Fin 1024) : EReal := total 8320 fun i => rms (row m c i) (fun k => m (c.tc.loc main_arg2) (ix2 i k)) k

/-- The part of it from the rows of one grid point. -/
def blkGain (y : S1x1024.Idx) : EReal := total 640 fun i => rms (blkRow m c t i) (fun k => iblk m c 2 t (ix2 i k)) (y 1)

theorem gainStored (y : S1x1024.Idx) : k0_pay7 (iblk m c 0 t) (iblk m c 2 t) y = blkGain m c t y := by pointwise [k0_pay7, k0_pay6, k0_pay5, blkGain, blkRow, total, rms, rmsInv, dot]

/-- Third result: the gradient of the gain. -/
theorem final6 (c : Dev nD) : (dats m 0 c).arrAt 6 (cfgs 0).N = fun j => gainGrad m c (j 1) := by
  refine (dats m 0 c).arrAt_eq_of_covers 6 _ (by decide +kernel) fun t hf y => ?_; blk_simp
  rw [after0_6, Pipeline.eq_sum_fin_of_reset_step_apply_of_flush (fun n h => (outsAt0 m c n h).2.2) 13 (fun _ => (0 : EReal))
    (blkGain m c) (fun t h y => by
      rw [outsAt0_A m c t h]; frame_out; refine Eq.trans ?_ (congrArg ((0 : EReal) + ·) (gainStored m c t y))
      pointwise [k0_pay4, k0_pay3]) (fun t h y => by
      rw [outsAt0_B m c t h]; frame_out; refine Eq.trans ?_ (congrArg (_ + ·) (gainStored m c t y))
      pointwise [k0_pay4]) t ((flush0_6 t).mp hf), zero_add]
  refine Fin.sum_mul_add_congr fun s k hl => ?_; have hs := s.isLt; have ht : t.val < 13 := t.isLt; refine rms_congr (blkRow_eq m c _ _ _ ?_) ?_ ?_
  · show s.val * 640 + k.val = (13 * (t.val / 13) + s.val) * 640 + k.val; omega
  · funext l
    blk_ext [iblk, V, idx t, idx ⟨_, Pipeline.run_point_lt_of_flush t ((flush0_6 t).mp hf) s⟩]
  · refine Fin.ext ?_; blk_simp [idx t]

end Cert.RmsIdeal.Prod

namespace Cert.RmsRefIdeal.Prod

open Read Step

/-- The reference's test of a row's place against 48, as a test of natural numbers. -/
theorem mask (i : Fin 8320) (x r : EReal) : Scalar.select (IntOp.cmpi .sge (BitVec.ofNat 32 i.val) 48#32) (x + r) (0 : EReal) = lead i.val x r := by
  unfold lead; simp (disch := word_cmp_side) only [hlo_ix]

/-- The reference's gradient of the input, entry by entry. -/
theorem grad (x0 x2 x3 : S8320x1024.Idx → EReal) (x1 : S1x1024.Idx → EReal) (j : S8320x1024.Idx) : val_main_v39 (F := Ideal) x0 x1 x2 x3 j = lead (j 0).val
      (rmsGrad (fun k => x0 (ix2 (j 0) k)) (fun k => times (x2 (ix2 (j 0) k)) (x1 (ix2 0 k))) (j 1)) (x3 (ix2 (j 0) (j 1))) := by
  refine Eq.trans ?_ (mask (j 0) _ _); have z : val_main_call0_v0 (F := Ideal) = val_main_cst_7 (F := Ideal) := rfl
  pointwise [val_main_v39, val_main_call0_v1, val_main_v38, val_main_call0_v2, z, val_main_cst_7, val_main_v37, val_main_v36, val_main_v35, val_main_v34,
    val_main_c, val_main_v33, val_main_v32, val_main_v31, val_main_v30, val_main_v29, val_main_v28, val_main_v27, val_main_v26, val_main_v25, val_main_v24,
    val_main_v23, val_main_v22, val_main_v21, val_main_v20, val_main_v19, val_main_v18, val_main_v11, val_main_v10, val_main_v9, val_main_v8, val_main_v7,
    val_main_v6, val_main_v5, val_main_v4, val_main_v3, val_main_v2, val_main_v1, val_main_v0, val_main_cst, val_main_cst_0, val_main_cst_1, val_main_cst_2,
    val_main_cst_4, val_main_cst_5, val_main_cst_6, Fin.sum_univ_one, rmsGrad, rmsPull, rmsInv,
    meanSq, dot, times]

/-- The reference's gradient of the gain, entry by entry. -/
theorem gain (x0 x2 : S8320x1024.Idx → EReal) (j : S1x1024.Idx) : val_main_v17 (F := Ideal) x0 x2 j = total 8320 fun i => rms (fun k => x0 (ix2 i k)) (fun k => x2 (ix2 i k)) (j 1) := by
  pointwise [val_main_v17, val_main_v16, val_main_v15, val_main_v12, val_main_v11, val_main_v7, val_main_v6, val_main_v5, val_main_v4, val_main_v3,
    val_main_v2, val_main_v1, val_main_v0, val_main_cst, val_main_cst_0, val_main_cst_1, val_main_cst_3, total, rms,
    rmsInv, dot]

/-- The gradient of the normalisation is the reference's. -/
theorem _root_.Cert.Step.rmsB : algebraic_RmsIdeal_RmsRefIdeal := by
  pair_intro
  · run_from RmsIdeal.Gen.run_main m g
  · refine (θ_run defs _ _).mono (fun _ h c => ?_) (Value.run (F := Ideal) m' g'); obtain ⟨h1, h2, h3, rest⟩ := h c; refine ⟨h1.trans ?_, h2.trans ?_, h3.trans ?_, rest⟩
    · rw [Read.val_main_v39_eq, RmsIdeal.Prod.final4]
      funext j
      rw [grad]; simp only [hagree c]; rfl
    · rw [Read.val_main_v40_eq, RmsIdeal.Prod.final5]
      funext j
      refine (grad _ _ _ _ j).trans ?_; simp only [hagree c]; rfl
    · rw [Read.val_main_v17_eq, RmsIdeal.Prod.final6]
      funext j
      rw [gain]; simp only [hagree c]; rfl
-- ==== Proof.OutF.lean ====
module

public import proofs.«01_k».proof.Proof.Kit
public import proofs.«01_k».proof.Proof.Gen.OutFIdeal.Value
public import proofs.«01_k».proof.Proof.Gen.OutFRefIdeal.Run

@[expose] public section
set_option maxRecDepth 16384
noncomputable section
open Idealize ShloMosaic TcCoe SL.Sem

namespace Cert.OutFIdeal.Prod

open Gen Step

variable (m : (ℓ : Loc nD τ sig) → Buf (Elt Ideal) ℓ) (c : Dev nD) (t : Fin cfg0.N)

/-- The block indices at each grid point. -/
theorem idx : ∀ t : Fin cfg0.N, win0_0.index t = ![t.val, 0] ∧ win0_1.index t = ![0, 0] ∧ win0_2.index t = ![t.val, 0] ∧ win0_3.index t = ![0, 0] ∧ win0_4.index t = ![t.val, 0]
    ∧ win0_5.index t = ![t.val, 0] ∧ win0_6.index t = ![0, t.val] :=
  (by decide +kernel : ∀ t : Fin grid0.N, _)

/-- Row `i` of the residual stream after the product is added. -/
def row (c : Dev nD) (i : Fin 8320) : Fin 1024 → EReal :=
  affine 1024 (fun l => m (c.tc.loc main_arg0) (ix2 i l))
    (fun l k => m (c.tc.loc main_arg1) (ix2 l k)) (fun k => m (c.tc.loc main_arg2) (ix2 i k))

/-- The gain. -/
def gain (c : Dev nD) : Fin 1024 → EReal := fun k => m (c.tc.loc main_arg3) (ix2 0 k)

/-- The same row from the blocks of grid point `t`. -/
def blkRow (i : Fin 640) : Fin 1024 → EReal :=
  affine 1024 (fun l => iblk m c 0 t (ix2 i l)) (fun l k => iblk m c 1 t (ix2 l k))
    (fun k => iblk m c 2 t (ix2 i k))

theorem blkRow_eq (i : Fin 640) (a : Fin 8320) (ha : a.val = t.val * 640 + i.val) : blkRow m c t i = row m c a := by
  funext k
  refine congrArg₂ (fun a b : EReal => a + b) (Finset.sum_congr rfl fun l _ => congrArg₂ (fun a b : EReal => a * b) ?_ ?_) ?_ <;> blk_ext [iblk, V, idx t]

theorem blkGain_eq : (fun k : Fin 1024 => iblk m c 3 t (ix2 0 k)) = gain m c := by
  funext k
  unfold gain
  blk_ext [iblk, V, idx t]

/-- First result: the residual stream. -/
theorem final4 (c : Dev nD) : (dats m 0 c).arrAt 4 (cfgs 0).N = fun j => row m c (j 0) (j 1) := by
  refine (dats m 0 c).arrAt_eq_of_covers 4 _ (by decide +kernel) fun t hf y => ?_; blk_simp; rw [after0_4]; unfold outsAt0; frame_out
  refine (show _ = blkRow m c t (y 0) (y 1) by
    pointwise [k0_pay1, blkRow, affine, dot]).trans ?_
  refine congr (blkRow_eq m c t _ _ ?_) ?_
  · blk_simp [idx t]
  · refine Fin.ext ?_; blk_simp [idx t]

/-- Second result: its normalised rows. -/
theorem final5 (c : Dev nD) : (dats m 0 c).arrAt 5 (cfgs 0).N = fun j => rms (row m c (j 0)) (gain m c) (j 1) := by
  refine (dats m 0 c).arrAt_eq_of_covers 5 _ (by decide +kernel) fun t hf y => ?_; blk_simp; rw [after0_5]; unfold outsAt0; frame_out
  refine (show _ = rms (blkRow m c t (y 0)) (fun k => iblk m c 3 t (ix2 0 k)) (y 1) by
    pointwise [k0_pay3, k0_pay2, k0_pay1, blkRow, rms, rmsInv, affine, dot]).trans ?_
  refine rms_congr (blkRow_eq m c t _ _ ?_) (blkGain_eq m c t) ?_
  · blk_simp [idx t]
  · refine Fin.ext ?_; blk_simp [idx t]

/-- Third result: the same, transposed. -/
theorem final6 (c : Dev nD) : (dats m 0 c).arrAt 6 (cfgs 0).N = fun j => rms (row m c (j 1)) (gain m c) (j 0) := by
  refine (dats m 0 c).arrAt_eq_of_covers 6 _ (by decide +kernel) fun t hf y => ?_; blk_simp; rw [after0_6]; unfold outsAt0; frame_out
  refine (show _ = rms (blkRow m c t (y 1)) (fun k => iblk m c 3 t (ix2 0 k)) (y 0) by
    pointwise [k0_pay4, k0_pay2, k0_pay1, blkRow, rms, rmsInv, affine, dot]).trans ?_
  refine rms_congr (blkRow_eq m c t _ _ ?_) (blkGain_eq m c t) ?_
  · blk_simp [idx t]
  · refine Fin.ext ?_; blk_simp [idx t]

/-- The output projection with its residual sum and the normalised rows is the reference's. -/
theorem _root_.Cert.Step.outF : algebraic_OutFIdeal_OutFRefIdeal := by
  pair_intro
  · run_from Gen.run_main m g
  · hlo_run
    · rw [final4]
      funext j
      pointwise [row, affine, dot]; exact add_comm (_ : EReal) _
    · rw [final5]
      funext j
      simp only [row, affine_comm]; pointwise [gain, rms, rmsInv, dot]
    · rw [final6]
      funext j
      simp only [row, affine_comm]; pointwise [gain, rms, rmsInv, dot]
-- ==== Proof.DownF.lean ====
module

public import proofs.«01_k».proof.Proof.Kit
public import proofs.«01_k».proof.Proof.Gen.DownFIdeal.Value
public import proofs.«01_k».proof.Proof.Gen.DownFRefIdeal.Run

@[expose] public section
set_option maxRecDepth 16384
noncomputable section
open Idealize ShloMosaic TcCoe SL.Sem

namespace Cert.DownFIdeal.Prod

open Gen Step

variable (m : (ℓ : Loc nD τ sig) → Buf (Elt Ideal) ℓ) (c : Dev nD) (t : Fin cfg0.N)

/-- The block indices at each grid point. -/
theorem idx : ∀ t : Fin cfg0.N, win0_0.index t = ![t.val, 0] ∧ win0_1.index t = ![0, 0] ∧ win0_2.index t = ![t.val, 0] ∧ win0_3.index t = ![0, 0] ∧ win0_4.index t = ![t.val, 0]
    ∧ win0_5.index t = ![t.val, 0] ∧ win0_6.index t = ![0, t.val] :=
  (by decide +kernel : ∀ t : Fin grid0.N, _)

/-- Row `i` of the residual stream after the product is added. -/
def row (c : Dev nD) (i : Fin 8320) : Fin 1024 → EReal :=
  affine 2816 (fun l => m (c.tc.loc main_arg0) (ix2 i l))
    (fun l k => m (c.tc.loc main_arg1) (ix2 l k)) (fun k => m (c.tc.loc main_arg2) (ix2 i k))

/-- The gain. -/
def gain (c : Dev nD) : Fin 1024 → EReal := fun k => m (c.tc.loc main_arg3) (ix2 0 k)

/-- The same row from the blocks of grid point `t`. -/
def blkRow (i : Fin 640) : Fin 1024 → EReal :=
  affine 2816 (fun l => iblk m c 0 t (ix2 i l)) (fun l k => iblk m c 1 t (ix2 l k))
    (fun k => iblk m c 2 t (ix2 i k))

theorem blkRow_eq (i : Fin 640) (a : Fin 8320) (ha : a.val = t.val * 640 + i.val) : blkRow m c t i = row m c a := by
  funext k
  refine congrArg₂ (fun a b : EReal => a + b) (Finset.sum_congr rfl fun l _ => congrArg₂ (fun a b : EReal => a * b) ?_ ?_) ?_ <;> blk_ext [iblk, V, idx t]

theorem blkGain_eq : (fun k : Fin 1024 => iblk m c 3 t (ix2 0 k)) = gain m c := by
  funext k
  unfold gain
  blk_ext [iblk, V, idx t]

/-- First result: the residual stream. -/
theorem final4 (c : Dev nD) : (dats m 0 c).arrAt 4 (cfgs 0).N = fun j => row m c (j 0) (j 1) := by
  refine (dats m 0 c).arrAt_eq_of_covers 4 _ (by decide +kernel) fun t hf y => ?_; blk_simp; rw [after0_4]; unfold outsAt0; frame_out
  refine (show _ = blkRow m c t (y 0) (y 1) by
    pointwise [k0_pay1, blkRow, affine, dot]).trans ?_
  refine congr (blkRow_eq m c t _ _ ?_) ?_
  · blk_simp [idx t]
  · refine Fin.ext ?_; blk_simp [idx t]

/-- Second result: its normalised rows. -/
theorem final5 (c : Dev nD) : (dats m 0 c).arrAt 5 (cfgs 0).N = fun j => rms (row m c (j 0)) (gain m c) (j 1) := by
  refine (dats m 0 c).arrAt_eq_of_covers 5 _ (by decide +kernel) fun t hf y => ?_; blk_simp; rw [after0_5]; unfold outsAt0; frame_out
  refine (show _ = rms (blkRow m c t (y 0)) (fun k => iblk m c 3 t (ix2 0 k)) (y 1) by
    pointwise [k0_pay3, k0_pay2, k0_pay1, blkRow, rms, rmsInv, affine, dot]).trans ?_
  refine rms_congr (blkRow_eq m c t _ _ ?_) (blkGain_eq m c t) ?_
  · blk_simp [idx t]
  · refine Fin.ext ?_; blk_simp [idx t]

/-- Third result: the same, transposed. -/
theorem final6 (c : Dev nD) : (dats m 0 c).arrAt 6 (cfgs 0).N = fun j => rms (row m c (j 1)) (gain m c) (j 0) := by
  refine (dats m 0 c).arrAt_eq_of_covers 6 _ (by decide +kernel) fun t hf y => ?_; blk_simp; rw [after0_6]; unfold outsAt0; frame_out
  refine (show _ = rms (blkRow m c t (y 1)) (fun k => iblk m c 3 t (ix2 0 k)) (y 0) by
    pointwise [k0_pay4, k0_pay2, k0_pay1, blkRow, rms, rmsInv, affine, dot]).trans ?_
  refine rms_congr (blkRow_eq m c t _ _ ?_) (blkGain_eq m c t) ?_
  · blk_simp [idx t]
  · refine Fin.ext ?_; blk_simp [idx t]

/-- The down projection with its residual sum and the normalised rows is the reference's. -/
theorem _root_.Cert.Step.downF : algebraic_DownFIdeal_DownFRefIdeal := by
  pair_intro
  · run_from Gen.run_main m g
  · hlo_run
    · rw [final4]
      funext j
      pointwise [row, affine, dot]; exact add_comm (_ : EReal) _
    · rw [final5]
      funext j
      simp only [row, affine_comm]; pointwise [gain, rms, rmsInv, dot]
    · rw [final6]
      funext j
      simp only [row, affine_comm]; pointwise [gain, rms, rmsInv, dot]
-- ==== Proof.Conv.lean ====
module

public import proofs.«01_k».proof.Proof.Kit
public import proofs.«01_k».proof.Proof.Gen.ConvIdeal.Value
public import proofs.«01_k».proof.Proof.Gen.ConvRefIdeal.Read

@[expose] public section
set_option maxRecDepth 16384
noncomputable section
open Idealize ShloMosaic TcCoe SL.Sem

namespace Cert.ConvIdeal.Prod

open Gen Step

variable (m : (ℓ : Loc nD τ sig) → Buf (Elt Ideal) ℓ) (c : Dev nD) (t : Fin cfg0.N)

/-- The block indices at each grid point. -/
theorem idx : ∀ t : Fin cfg0.N, win0_0.index t = ![t.val % 13, t.val / 13] ∧ win0_1.index t = ![t.val % 13 * 80 - 1, t.val / 13] ∧ win0_2.index t = ![t.val % 13, t.val / 13]
    ∧ win0_3.index t = ![min ((t.val % 13 + 1) * 80) 1039, t.val / 13] ∧ win0_4.index t = ![0, t.val / 13] ∧ win0_5.index t = ![t.val % 13, t.val / 13] ∧ win0_6.index t = ![0, t.val / 13] :=
  (by decide +kernel : ∀ t : Fin grid0.N, _)

/-- Column `k` of the input of the convolution. -/
def xcol (c : Dev nD) (k : Fin 3072) : Fin 8320 → EReal := fun i => m (c.tc.loc main_arg0) (ix2 i k)

/-- Column `k` of the cotangent. -/
def dcol (c : Dev nD) (k : Fin 3072) : Fin 8320 → EReal := fun i => m (c.tc.loc main_arg1) (ix2 i k)

/-- The column of the whole arrays that column `q` of a block of point `t` is. -/
def col (t : Fin cfg0.N) (q : Fin 1536) : Fin 3072 := ⟨t.val / 13 * 1536 + q.val, by
  have h : t.val < 26 := t.isLt
  omega⟩

theorem coord1 (t : Fin cfg0.N) : (grid0.coords t 1).val = t.val % 13 := (by decide +kernel : ∀ t : Fin grid0.N, (grid0.coords t 1).val = t.val % 13) t

/-- The rows of the input a point works on: eight rows before its block, then its block. -/
theorem xbuf : (View.whole cc0_scratch0).readCov [(⟨Rect.unit ![8, 0] ![640, 1536] inb_S648x1536_S640x1536_8_0, k0_pay5 (iblk m c 0 t)⟩ : View.Piece (Elt Ideal) S648x1536 .f32),
        ⟨Rect.unit ![0, 0] ![8, 1536] inb_S648x1536_S8x1536_0_0, k0_pay4 (grid0.coords t) (iblk m c 1 t)⟩] (Rect.unit ![0, 0] ![648, 1536] inb_S648x1536_S648x1536_0_0).toLoadRect
      = fun j => lag 8 8320 (xcol m c (col t (j 1))) (t.val % 13 * 640 + (j 0).val) := by
  have ht : t.val < 26 := t.isLt
  refine readCov_rows_two (Val := Elt Ideal) (e := .f32) (m := 648) (n := 1536) (k1 := 640) (o1 := 8) (k2 := 8) (o2 := 0)
    (View.whole cc0_scratch0) _ _ _ _ _
    (fun (a : Fin 648) q => lag 8 8320 (xcol m c (col t q)) (t.val % 13 * 640 + a.val)) (by omega) ?_ ?_
  · intro i q a ha; rw [lag_of_eq _ (⟨t.val % 13 * 640 + i.val, by omega⟩ : Fin 8320) (by show _ = 8 + (t.val % 13 * 640 + i.val); omega)]; unfold xcol
    refine Eq.trans (b := iblk m c 0 t (ix2 i q)) ?_ ?_
    · pointwise [k0_pay5]
    · unfold col
      blk_ext [iblk, V, idx t]
  · intro i q a ha; by_cases h : t.val % 13 = 0
    · rw [lag_of_out _ (by omega)]; refine Eq.trans (b := Scalar.select (IntOp.cmpi .sgt (BitVec.ofNat 32 (grid0.coords t 1).val) 0#32) (iblk m c 1 t (ix2 i q)) (0 : EReal)) ?_ ?_
      · pointwise [k0_pay4]; rfl
      · rw [coord1, h]; rfl
    · rw [lag_of_eq _ (⟨t.val % 13 * 640 + i.val - 8, by omega⟩ : Fin 8320) (by show _ = 8 + (t.val % 13 * 640 + i.val - 8); omega)]
      refine Eq.trans (b := Scalar.select (IntOp.cmpi .sgt (BitVec.ofNat 32 (grid0.coords t 1).val) 0#32) (iblk m c 1 t (ix2 i q)) (0 : EReal)) ?_ ?_
      · pointwise [k0_pay4]; rfl
      · rw [coord1]; have hp : 0 < t.val % 13 := by omega
        simp (disch := word_cmp_side) only [hlo_ix]; rw [if_pos hp]; unfold xcol col
        blk_ext [iblk, V, idx t]

/-- The rows of the cotangent a point works on: its block, then the eight rows behind it. -/
theorem dbuf : (View.whole cc0_scratch1).readCov [(⟨Rect.unit ![640, 0] ![8, 1536] inb_S648x1536_S8x1536_640_0, k0_pay7 (grid0.coords t) (iblk m c 3 t)⟩ : View.Piece (Elt Ideal) S648x1536 .f32),
        ⟨Rect.unit ![0, 0] ![640, 1536] inb_S648x1536_S640x1536_0_0, k0_pay6 (iblk m c 2 t)⟩] (Rect.unit ![0, 0] ![648, 1536] inb_S648x1536_S648x1536_0_0).toLoadRect
      = fun j => lag 0 8320 (dcol m c (col t (j 1))) (t.val % 13 * 640 + (j 0).val) := by
  have ht : t.val < 26 := t.isLt
  refine readCov_rows_two (Val := Elt Ideal) (e := .f32) (m := 648) (n := 1536) (k1 := 8) (o1 := 640) (k2 := 640) (o2 := 0)
    (View.whole cc0_scratch1) _ _ _ _ _
    (fun (a : Fin 648) q => lag 0 8320 (dcol m c (col t q)) (t.val % 13 * 640 + a.val)) (by omega) ?_ ?_
  · intro i q a ha; by_cases h : t.val % 13 = 12
    · rw [lag_of_out _ (by omega)]; refine Eq.trans (b := Scalar.select (IntOp.cmpi .slt (BitVec.ofNat 32 (grid0.coords t 1).val) 12#32) (iblk m c 3 t (ix2 i q)) (0 : EReal)) ?_ ?_
      · pointwise [k0_pay7]; rfl
      · rw [coord1, h]; rfl
    · rw [lag_of_eq _ (⟨t.val % 13 * 640 + 640 + i.val, by omega⟩ : Fin 8320) (by show _ = 0 + (t.val % 13 * 640 + 640 + i.val); omega)]
      refine Eq.trans (b := Scalar.select (IntOp.cmpi .slt (BitVec.ofNat 32 (grid0.coords t 1).val) 12#32) (iblk m c 3 t (ix2 i q)) (0 : EReal)) ?_ ?_
      · pointwise [k0_pay7]; rfl
      · rw [coord1]; have hp : t.val % 13 < 12 := by omega
        simp (disch := word_cmp_side) only [hlo_ix]; rw [if_pos hp]; unfold dcol col
        blk_ext [iblk, V, idx t]
  · intro i q a ha; rw [lag_of_eq _ (⟨t.val % 13 * 640 + i.val, by omega⟩ : Fin 8320) (by show _ = 0 + (t.val % 13 * 640 + i.val); omega)]; unfold dcol
    refine Eq.trans (b := iblk m c 2 t (ix2 i q)) ?_ ?_
    · pointwise [k0_pay6]
    · unfold col
      blk_ext [iblk, V, idx t]

/-- The weight of tap `j` in column `k`. -/
def tap (c : Dev nD) (j : Fin 4) (k : Fin 3072) : EReal := m (c.tc.loc main_arg2) (ix2 j k)

theorem tap_eq (j : Fin 4) (q : Fin 1536) : tap m c j (col t q) = iblk m c 4 t (ix2 j q) := by
  unfold tap col
  blk_ext [iblk, V, idx t]

/-- The gradient of the input: the cotangents of the next rows, each times its tap. -/
def dx (c : Dev nD) (r : ℕ) (k : Fin 3072) : EReal :=
  times (lag 0 8320 (dcol m c k) (r + 3)) (tap m c 0 k)
    + times (lag 0 8320 (dcol m c k) (r + 2)) (tap m c 1 k)
    + times (lag 0 8320 (dcol m c k) (r + 1)) (tap m c 2 k)
    + times (lag 0 8320 (dcol m c k) r) (tap m c 3 k)

theorem stored (y : S640x1536.Idx) : k0_pay9 (iblk m c 4 t) (fun j : S648x1536.Idx => lag 0 8320 (dcol m c (col t (j 1))) (t.val % 13 * 640 + (j 0).val))
        (k0_pay8 (fun j : S648x1536.Idx => lag 0 8320 (dcol m c (col t (j 1))) (t.val % 13 * 640 + (j 0).val))) y = dx m c (t.val % 13 * 640 + (y 0).val) (col t (y 1)) := by
  have hy : (y 0).val < 640 := (y 0).isLt; have e1 : ((y 0).val + 648 - 645) % 648 = (y 0).val + 3 := by omega
  have e2 : ((y 0).val + 648 - 646) % 648 = (y 0).val + 2 := by omega
  have e3 : ((y 0).val + 648 - 647) % 648 = (y 0).val + 1 := by omega
  pointwise [k0_pay9, k0_pay8]; rw [e1, e2, e3]; unfold dx times; rw [tap_eq m c t 0 (y 1), tap_eq m c t 1 (y 1), tap_eq m c t 2 (y 1), tap_eq m c t 3 (y 1)]; rfl

theorem final5 (c : Dev nD) : (dats m 0 c).arrAt 5 (cfgs 0).N = fun j => dx m c (j 0).val (j 1) := by
  refine (dats m 0 c).arrAt_eq_of_covers 5 _ (by decide +kernel) fun t hf y => ?_; blk_simp; rw [after0_5]
  refine Eq.trans (b := dx m c (t.val % 13 * 640 + (y 0).val) (col t (y 1))) ?_ (congr (congrArg (dx m c) ?_) ?_)
  · by_cases h0 : t.val % 13 = 0
    · rw [outsAt0_A m c t h0]; frame_out; rw [dbuf m c t]; exact stored m c t y
    · rw [outsAt0_B m c t h0]; frame_out; rw [dbuf m c t]; exact stored m c t y
  · blk_simp [idx t]
  · refine Fin.ext ?_; unfold col; blk_simp [idx t]

/-- The part of the gradient of tap `j` from the rows of one point. -/
def blkTap (j : ℕ) (q : Fin 1536) : EReal := total 640 fun r => times (iblk m c 2 t (ix2 r q)) (lag 8 8320 (xcol m c (col t q)) (t.val % 13 * 640 + (r.val + 5 + j)))

/-- The same on the eight rows stored, of which four are taps. -/
def blkTaps (y : S8x1536.Idx) : EReal := if (y 0).val < 4 then blkTap m c t (y 0).val (y 1) else 0

/-- The rows of the input a point works on, as one array. -/
def xrows : S648x1536.Idx → EReal := fun j =>
  lag 8 8320 (xcol m c (col t (j 1))) (t.val % 13 * 640 + (j 0).val)

/- What each of the four stores of one row leaves: the row read before, plus the sum of the products of the two blocks. -/
theorem row3 (d : S640x1536.Idx → EReal) (x : S648x1536.Idx → EReal) (acc : S1x1536.Idx → EReal) (i : Fin 1) (q : Fin 1536) : k0_pay3 (F := Ideal) d x acc (ix2 i q)
      = acc (ix2 i q) + total 640 fun r => times (d (ix2 r q)) (x (ix2 ⟨r.val + 8, by omega⟩ q)) := by
  pointwise [k0_pay3, total, times]
  exact congrArg (acc (ix2 i q) + ·) (Finset.sum_congr rfl fun r _ => congrArg (d (ix2 r q) * ·) (congrArg (fun b => x (ix2 b q)) (Fin.ext (by
    show 8 + r.val = r.val + 8
    omega))))

theorem row2 (d : S640x1536.Idx → EReal) (x : S648x1536.Idx → EReal) (acc : S1x1536.Idx → EReal) (i : Fin 1) (q : Fin 1536) : k0_pay2 (F := Ideal) d x acc (ix2 i q)
      = acc (ix2 i q) + total 640 fun r => times (d (ix2 r q)) (x (ix2 ⟨r.val + 7, by omega⟩ q)) := by
  pointwise [k0_pay2, total, times]
  exact congrArg (acc (ix2 i q) + ·) (Finset.sum_congr rfl fun r _ => congrArg (d (ix2 r q) * ·) (congrArg (fun b => x (ix2 b q)) (Fin.ext (by
    show (8 + r.val + 648 - 1) % 648 = r.val + 7
    omega))))

theorem row1 (d : S640x1536.Idx → EReal) (x : S648x1536.Idx → EReal) (acc : S1x1536.Idx → EReal) (i : Fin 1) (q : Fin 1536) : k0_pay1 (F := Ideal) (k0_pay12 acc) (k0_pay13 d x) (ix2 i q)
      = acc (ix2 i q) + total 640 fun r => times (d (ix2 r q)) (x (ix2 ⟨r.val + 6, by omega⟩ q)) := by
  pointwise [k0_pay1, k0_pay12, k0_pay13, total, times]
  exact congrArg (acc (ix2 i q) + ·) (Finset.sum_congr rfl fun r _ => congrArg (d (ix2 r q) * ·) (congrArg (fun b => x (ix2 b q)) (Fin.ext (by
    show (8 + r.val + 648 - 2) % 648 = r.val + 6
    omega))))

theorem row0 (d : S640x1536.Idx → EReal) (x : S648x1536.Idx → EReal) (acc : S1x1536.Idx → EReal) (i : Fin 1) (q : Fin 1536) : k0_pay11 (F := Ideal) d x acc (ix2 i q)
      = acc (ix2 i q) + total 640 fun r => times (d (ix2 r q)) (x (ix2 ⟨r.val + 5, by omega⟩ q)) := by
  pointwise [k0_pay11, total, times]
  exact congrArg (acc (ix2 i q) + ·) (Finset.sum_congr rfl fun r _ => congrArg (d (ix2 r q) * ·) (congrArg (fun b => x (ix2 b q)) (Fin.ext (by
    show (8 + r.val + 648 - 3) % 648 = r.val + 5
    omega))))

/-- The sum over the rows of a block, for the tap of row `a`. -/
theorem tapsOf (a : Fin 8) (q : Fin 1536) (j k : ℕ) (ha : a.val = j) (hj : j < 4) (hk : k = 5 + j) (h : ∀ r : Fin 640, r.val + k < 648) :
    (total 640 fun r => times (iblk m c 2 t (ix2 r q)) (xrows m c t (ix2 ⟨r.val + k, h r⟩ q))) = blkTaps m c t (ix2 a q) := by
  subst ha hk; unfold blkTaps; rw [if_pos (show ((ix2 a q : S8x1536.Idx) 0).val < 4 from hj)]; refine Finset.sum_congr rfl fun r _ => congrArg (times _) ?_
  exact congrArg (lag 8 8320 (xcol m c (col t q))) (show t.val % 13 * 640 + (r.val + (5 + a.val)) = t.val % 13 * 640 + (r.val + 5 + a.val) by omega)

theorem taps_out (a : Fin 8) (q : Fin 1536) (ha : 4 ≤ a.val) : blkTaps m c t (ix2 a q) = 0 := by
  unfold blkTaps; exact if_neg (show ¬((ix2 a q : S8x1536.Idx) 0).val < 4 from by show ¬a.val < 4; omega)

/-- At the first point of a column block the sums start from zero. -/
theorem reset (h0 : t.val % 13 = 0) (y : S8x1536.Idx) : (outsAt0 m c t.val t.isLt).2 y = 0 + blkTaps m c t y := by
  have z : ∀ y, k0_pay10 (F := Ideal) y = (0 : EReal) := fun y => by pointwise [k0_pay10]
  rw [outsAt0_A m c t h0]; frame_out; simp only [xbuf m c t]; simp (disch := decide) only [↓ View.readCov_skip, ↓ View.readCov_cons_toLoadRect, ↓ View.readCov_fill]
  obtain ⟨a, q, rfl⟩ : ∃ (a : Fin 8) (q : Fin 1536), y = ix2 a q := ⟨y 0, y 1, (ix2_eta y).symm⟩
  refine canon_rows_cons _ _ _ _ a q (fun i hi => (row3 _ _ _ i q).trans (congrArg₂ (· + ·) (z _) (tapsOf m c t a q 3 _ (by omega) (by omega) rfl _))) fun h3 => ?_
  refine canon_rows_cons _ _ _ _ a q (fun i hi => (row2 _ _ _ i q).trans (congrArg₂ (· + ·) (z _) (tapsOf m c t a q 2 _ (by omega) (by omega) rfl _))) fun h2 => ?_
  refine canon_rows_cons _ _ _ _ a q (fun i hi => (row1 _ _ _ i q).trans (congrArg₂ (· + ·) (z _) (tapsOf m c t a q 1 _ (by omega) (by omega) rfl _))) fun h1 => ?_
  refine canon_rows_cons _ _ _ _ a q (fun i hi => (row0 _ _ _ i q).trans (congrArg₂ (· + ·) (z _) (tapsOf m c t a q 0 _ (by omega) (by omega) rfl _))) fun h0 => ?_
  refine canon_rows_cons _ _ _ _ a q (fun i hi => ?_) fun h => ?_
  · rw [taps_out m c t a q (by omega), zero_add]; exact z _
  · have := a.isLt; omega

/-- At every other point its part is added. -/
theorem step (h0 : ¬t.val % 13 = 0) (y : S8x1536.Idx) : (outsAt0 m c t.val t.isLt).2 y = (outsAt0 m c (t.val - 1) (by have := t.isLt; omega)).2 y + blkTaps m c t y := by
  rw [outsAt0_B m c t h0]; frame_out; simp only [xbuf m c t]; obtain ⟨a, q, rfl⟩ : ∃ (a : Fin 8) (q : Fin 1536), y = ix2 a q := ⟨y 0, y 1, (ix2_eta y).symm⟩
  refine read_rows_cons _ _ _ _ _ _ a q (fun i hi => (row3 _ _ _ i q).trans (congrArg₂ (· + ·) ?_ (tapsOf m c t a q 3 _ (by omega) (by omega) rfl _))) fun h3 => ?_
  · refine congrArg (outsAt0 m c (t.val - 1) _).2 (funext fun b => Fin.ext ?_)
    fin_cases b
    · show 3 + 1 * i.val = a.val; omega
    · show 0 + 1 * q.val = q.val; omega
  refine read_rows_cons _ _ _ _ _ _ a q (fun i hi => (row2 _ _ _ i q).trans (congrArg₂ (· + ·) ?_ (tapsOf m c t a q 2 _ (by omega) (by omega) rfl _))) fun h2 => ?_
  · refine congrArg (outsAt0 m c (t.val - 1) _).2 (funext fun b => Fin.ext ?_)
    fin_cases b
    · show 2 + 1 * i.val = a.val; omega
    · show 0 + 1 * q.val = q.val; omega
  refine read_rows_cons _ _ _ _ _ _ a q (fun i hi => (row1 _ _ _ i q).trans (congrArg₂ (· + ·) ?_ (tapsOf m c t a q 1 _ (by omega) (by omega) rfl _))) fun h1 => ?_
  · refine congrArg (outsAt0 m c (t.val - 1) _).2 (funext fun b => Fin.ext ?_)
    fin_cases b
    · show 1 + 1 * i.val = a.val; omega
    · show 0 + 1 * q.val = q.val; omega
  refine read_rows_cons _ _ _ _ _ _ a q (fun i hi => (row0 _ _ _ i q).trans (congrArg₂ (· + ·) ?_ (tapsOf m c t a q 0 _ (by omega) (by omega) rfl _))) fun h0 => ?_
  · refine congrArg (outsAt0 m c (t.val - 1) _).2 (funext fun b => Fin.ext ?_)
    fin_cases b
    · show 0 + 1 * i.val = a.val; omega
    · show 0 + 1 * q.val = q.val; omega
  rw [taps_out m c t a q (by omega), add_zero]; exact congrFun (Memref.IsWhole.read_unread _ _) _

/-- The gradient of the taps: of tap `j`, the sum over the rows of the cotangent times the input `3 - j` rows before. -/
def dw (c : Dev nD) (j : ℕ) (k : Fin 3072) : EReal := if j < 4 then total 8320 fun r => times (dcol m c k r) (lag 3 8320 (xcol m c k) (r.val + j)) else 0

/-- The part of one point, from the whole arrays. -/
theorem blkTaps_eq (y : S8x1536.Idx) (h : (y 0).val < 4) (k : Fin 3072) (hk : k = col t (y 1)) : blkTaps m c t y = ∑ r : Fin 640, times (dcol m c k ⟨t.val % 13 * 640 + r.val, by omega⟩)
      (lag 3 8320 (xcol m c k) (t.val % 13 * 640 + r.val + (y 0).val)) := by
  have ht : t.val < 26 := t.isLt; subst hk; unfold blkTaps; rw [if_pos h]; unfold blkTap total; refine Finset.sum_congr rfl fun r _ => congrArg₂ times ?_ ?_
  · unfold dcol col
    blk_ext [iblk, V, idx t]
  · exact lag_shift 3 8320 5 _ _ _ (by omega)

/-- Second result: the gradient of the taps. -/
theorem final6 (c : Dev nD) : (dats m 0 c).arrAt 6 (cfgs 0).N = fun j => dw m c (j 0).val (j 1) := by
  refine (dats m 0 c).arrAt_eq_of_covers 6 _ (by decide +kernel) fun t hf y => ?_; have ht : t.val < 26 := t.isLt; blk_simp
  rw [after0_6, Pipeline.eq_sum_fin_of_reset_step_apply_of_flush (fun n h => (outsAt0 m c n h).2) 13 (fun _ => (0 : EReal))
    (blkTaps m c) (fun t h y => reset m c t h y) (fun t h y => step m c t h y) t ((flush0_6 t).mp hf), zero_add]
  refine Eq.trans (b := dw m c (y 0).val (col t (y 1))) ?_ (congr (congrArg (dw m c) ?_) ?_)
  · unfold dw; by_cases h : (y 0).val < 4
    · rw [if_pos h]
      have hsum : ∀ s : Fin 13, blkTaps m c ⟨13 * (t.val / 13) + s.val, Pipeline.run_point_lt_of_flush t ((flush0_6 t).mp hf) s⟩ y
          = ∑ r : Fin 640, times (dcol m c (col t (y 1)) ⟨s.val * 640 + r.val, by omega⟩)
            (lag 3 8320 (xcol m c (col t (y 1))) (s.val * 640 + r.val + (y 0).val)) := fun s => by
        have hs := s.isLt
        rw [blkTaps_eq m c _ y h (col t (y 1)) (Fin.ext (by
          show t.val / 13 * 1536 + (y 1).val = (13 * (t.val / 13) + s.val) / 13 * 1536 + (y 1).val
          omega))]
        have e : (13 * (t.val / 13) + s.val) % 13 = s.val := by omega
        simp only [e]
      rw [Finset.sum_congr rfl fun s _ => hsum s]; refine Fin.sum_mul_add_congr fun s r hl => ?_; rfl
    · rw [if_neg h]; refine Finset.sum_eq_zero fun s _ => ?_; unfold blkTaps; rw [if_neg h]
  · blk_simp [idx t]
  · refine Fin.ext ?_; unfold col; blk_simp [idx t]

end Cert.ConvIdeal.Prod

namespace Cert.ConvRefIdeal.Prod

open Read Step

/-- The input below three rows of zeros. -/
theorem xext (x0 : S8320x3072.Idx → EReal) (a : Fin 8323) (k : Fin 3072) : val_main_v1 (F := Ideal) x0 (ix2 a k) = lag 3 8320 (fun i => x0 (ix2 i k)) a.val :=
  zeros_above _ _ _ (fun j => by pointwise [val_main_v0, val_main_cst]) a a.isLt k

theorem pad3 (x1 : S8320x3072.Idx → EReal) (x2 : S4x3072.Idx → EReal) (a : Fin 8323) (k : Fin 3072) :
    val_main_v40 (F := Ideal) x1 x2 (ix2 a k) = lag 3 8320 (fun i => x1 (ix2 i k)) a.val * x2 (ix2 3 k) := by
  refine (pad_rows (val_main_v36 (F := Ideal) x1 x2) (val_main_cst_4 (F := Ideal)) _ _ (by pointwise [val_main_cst_4]) a k).trans ?_; rw [← lag_mul]
  refine congrArg (fun f => lag 3 8320 f a.val) (funext fun i => ?_); pointwise [val_main_v36, val_main_v31, val_main_v35, val_main_v26, val_main_v25, val_main_v24]

theorem pad2 (x1 : S8320x3072.Idx → EReal) (x2 : S4x3072.Idx → EReal) (a : Fin 8323) (k : Fin 3072) :
    val_main_v50 (F := Ideal) x1 x2 (ix2 a k) = lag 2 8320 (fun i => x1 (ix2 i k)) a.val * x2 (ix2 2 k) := by
  refine (pad_rows (val_main_v45 (F := Ideal) x1 x2) (val_main_cst_8 (F := Ideal)) _ _ (by pointwise [val_main_cst_8]) a k).trans ?_; rw [← lag_mul]
  refine congrArg (fun f => lag 2 8320 f a.val) (funext fun i => ?_); pointwise [val_main_v45, val_main_v30, val_main_v44, val_main_v19, val_main_v18, val_main_v17]

theorem pad1 (x1 : S8320x3072.Idx → EReal) (x2 : S4x3072.Idx → EReal) (a : Fin 8323) (k : Fin 3072) :
    val_main_v61 (F := Ideal) x1 x2 (ix2 a k) = lag 1 8320 (fun i => x1 (ix2 i k)) a.val * x2 (ix2 1 k) := by
  refine (pad_rows (val_main_v56 (F := Ideal) x1 x2) (val_main_cst_12 (F := Ideal)) _ _ (by pointwise [val_main_cst_12]) a k).trans ?_; rw [← lag_mul]
  refine congrArg (fun f => lag 1 8320 f a.val) (funext fun i => ?_); pointwise [val_main_v56, val_main_v30, val_main_v55, val_main_v12, val_main_v11, val_main_v10]

theorem pad0 (x1 : S8320x3072.Idx → EReal) (x2 : S4x3072.Idx → EReal) (a : Fin 8323) (k : Fin 3072) :
    val_main_v72 (F := Ideal) x1 x2 (ix2 a k) = lag 0 8320 (fun i => x1 (ix2 i k)) a.val * x2 (ix2 0 k) := by
  refine (pad_rows (val_main_v67 (F := Ideal) x1 x2) (val_main_cst_16 (F := Ideal)) _ _ (by pointwise [val_main_cst_16]) a k).trans ?_; rw [← lag_mul]
  refine congrArg (fun f => lag 0 8320 f a.val) (funext fun i => ?_); pointwise [val_main_v67, val_main_v30, val_main_v66, val_main_v6, val_main_v5, val_main_v4]

/-- The reference's gradient of the input, entry by entry. -/
theorem dx (x1 : S8320x3072.Idx → EReal) (x2 : S4x3072.Idx → EReal) (j : S8320x3072.Idx) : val_main_v76 (F := Ideal) x1 x2 j =
      times (lag 0 8320 (fun i => x1 (ix2 i (j 1))) ((j 0).val + 3)) (x2 (ix2 0 (j 1))) + times (lag 0 8320 (fun i => x1 (ix2 i (j 1))) ((j 0).val + 2)) (x2 (ix2 1 (j 1)))
        + times (lag 0 8320 (fun i => x1 (ix2 i (j 1))) ((j 0).val + 1)) (x2 (ix2 2 (j 1))) + times (lag 0 8320 (fun i => x1 (ix2 i (j 1))) (j 0).val) (x2 (ix2 3 (j 1))) := by
  pointwise [val_main_v76, val_main_v75, val_main_v73, val_main_v62, val_main_v51]
  refine Eq.trans (congrArg₂ (· + ·) (congrArg₂ (· + ·) (congrArg₂ (· + ·) (pad3 x1 x2 _ (j 1)) (pad2 x1 x2 _ (j 1))) (pad1 x1 x2 _ (j 1))) (pad0 x1 x2 _ (j 1))) ?_
  have hs : ∀ f : Fin 8320 → EReal, lag 3 8320 f (3 + (j 0).val) = lag 0 8320 f (j 0).val
      ∧ lag 2 8320 f (3 + (j 0).val) = lag 0 8320 f ((j 0).val + 1)
      ∧ lag 1 8320 f (3 + (j 0).val) = lag 0 8320 f ((j 0).val + 2)
      ∧ lag 0 8320 f (3 + (j 0).val) = lag 0 8320 f ((j 0).val + 3) := fun f =>
    ⟨lag_shift 0 8320 3 f _ _ (by omega), lag_shift 0 8320 2 f _ _ (by omega),
      lag_shift 0 8320 1 f _ _ (by omega), congrArg _ (by omega)⟩
  obtain ⟨h3, h2, h1, h0⟩ := hs (fun i => x1 (ix2 i (j 1)))
  refine Eq.trans (congrArg₂ (· + ·) (congrArg₂ (· + ·) (congrArg₂ (· + ·) (congrArg (· * _) h3) (congrArg (· * _) h2)) (congrArg (· * _) h1)) (congrArg (· * _) h0)) ?_
  exact rev4 _ _ _ _

theorem tap3 (x0 x1 : S8320x3072.Idx → EReal) (i : Fin 1) (k : Fin 3072) : val_main_v38 (F := Ideal) x0 x1 (ix2 i k) =
      total 8320 fun r => times (x1 (ix2 r k)) (lag 3 8320 (fun i => x0 (ix2 i k)) (r.val + 3)) := by
  refine Eq.trans (b := ∑ r : Fin 8320, val_main_v1 (F := Ideal) x0 (ix2 ⟨3 + r.val, by omega⟩ k) * x1 (ix2 r k)) ?_ ?_
  · pointwise [val_main_v38, val_main_v37, val_main_v34, val_main_v33, val_main_v32, val_main_v23, val_main_v31, val_main_cst_1, val_main_cst_2, Fin.sum_univ_one]
  · refine Finset.sum_congr rfl fun r _ => ?_; refine (congrArg (· * _) (xext x0 _ k)).trans ((mul_comm _ _).trans ?_)
    exact congrArg (fun n => x1 (ix2 r k) * lag 3 8320 _ n) (Nat.add_comm 3 r.val)

theorem tap2 (x0 x1 : S8320x3072.Idx → EReal) (i : Fin 1) (k : Fin 3072) : val_main_v47 (F := Ideal) x0 x1 (ix2 i k) =
      total 8320 fun r => times (x1 (ix2 r k)) (lag 3 8320 (fun i => x0 (ix2 i k)) (r.val + 2)) := by
  refine Eq.trans (b := ∑ r : Fin 8320, val_main_v1 (F := Ideal) x0 (ix2 ⟨2 + r.val, by omega⟩ k) * x1 (ix2 r k)) ?_ ?_
  · pointwise [val_main_v47, val_main_v46, val_main_v43, val_main_v42, val_main_v41, val_main_v16, val_main_v30, val_main_cst_5, val_main_cst_6, Fin.sum_univ_one]
  · refine Finset.sum_congr rfl fun r _ => ?_; refine (congrArg (· * _) (xext x0 _ k)).trans ((mul_comm _ _).trans ?_)
    exact congrArg (fun n => x1 (ix2 r k) * lag 3 8320 _ n) (Nat.add_comm 2 r.val)

theorem tap1 (x0 x1 : S8320x3072.Idx → EReal) (i : Fin 1) (k : Fin 3072) : val_main_v58 (F := Ideal) x0 x1 (ix2 i k) =
      total 8320 fun r => times (x1 (ix2 r k)) (lag 3 8320 (fun i => x0 (ix2 i k)) (r.val + 1)) := by
  refine Eq.trans (b := ∑ r : Fin 8320, val_main_v1 (F := Ideal) x0 (ix2 ⟨1 + r.val, by omega⟩ k) * x1 (ix2 r k)) ?_ ?_
  · pointwise [val_main_v58, val_main_v57, val_main_v54, val_main_v53, val_main_v52, val_main_v9, val_main_v30, val_main_cst_9, val_main_cst_10, Fin.sum_univ_one]
  · refine Finset.sum_congr rfl fun r _ => ?_; refine (congrArg (· * _) (xext x0 _ k)).trans ((mul_comm _ _).trans ?_)
    exact congrArg (fun n => x1 (ix2 r k) * lag 3 8320 _ n) (Nat.add_comm 1 r.val)

theorem tap0 (x0 x1 : S8320x3072.Idx → EReal) (i : Fin 1) (k : Fin 3072) : val_main_v69 (F := Ideal) x0 x1 (ix2 i k) =
      total 8320 fun r => times (x1 (ix2 r k)) (lag 3 8320 (fun i => x0 (ix2 i k)) (r.val + 0)) := by
  refine Eq.trans (b := ∑ r : Fin 8320, val_main_v1 (F := Ideal) x0 (ix2 ⟨0 + r.val, by omega⟩ k) * x1 (ix2 r k)) ?_ ?_
  · pointwise [val_main_v69, val_main_v68, val_main_v65, val_main_v64, val_main_v63, val_main_v3, val_main_v30, val_main_cst_13, val_main_cst_14, Fin.sum_univ_one]
  · refine Finset.sum_congr rfl fun r _ => ?_; refine (congrArg (· * _) (xext x0 _ k)).trans ((mul_comm _ _).trans ?_)
    exact congrArg (fun n => x1 (ix2 r k) * lag 3 8320 _ n) (Nat.add_comm 0 r.val)

/-- The four sums, each in its own row. -/
theorem taps (x0 x1 : S8320x3072.Idx → EReal) (a : Fin 4) (k : Fin 3072) : val_main_v71 (F := Ideal) x0 x1 (ix2 a k) =
      total 8320 fun r => times (x1 (ix2 r k)) (lag 3 8320 (fun i => x0 (ix2 i k)) (r.val + a.val)) := by
  have p3 : val_main_v39 (F := Ideal) x0 x1 (ix2 a k) = lag 3 1 (fun i => val_main_v38 (F := Ideal) x0 x1 (ix2 i k)) a.val :=
    pad_rows _ _ _ _ (by pointwise [val_main_cst_3]) a k
  have p2 : val_main_v48 (F := Ideal) x0 x1 (ix2 a k) = lag 2 1 (fun i => val_main_v47 (F := Ideal) x0 x1 (ix2 i k)) a.val :=
    pad_rows _ _ _ _ (by pointwise [val_main_cst_7]) a k
  have p1 : val_main_v59 (F := Ideal) x0 x1 (ix2 a k) = lag 1 1 (fun i => val_main_v58 (F := Ideal) x0 x1 (ix2 i k)) a.val :=
    pad_rows _ _ _ _ (by pointwise [val_main_cst_11]) a k
  have p0 : val_main_v70 (F := Ideal) x0 x1 (ix2 a k) = lag 0 1 (fun i => val_main_v69 (F := Ideal) x0 x1 (ix2 i k)) a.val :=
    pad_rows _ _ _ _ (by pointwise [val_main_cst_15]) a k
  pointwise [val_main_v71, val_main_v60, val_main_v49]; rw [p3, p2, p1, p0]; simp only [tap3, tap2, tap1, tap0]
  fin_cases a <;> simp [lag]

theorem dw (x0 x1 : S8320x3072.Idx → EReal) (a : Fin 8) (k : Fin 3072) : val_main_v77 (F := Ideal) x0 x1 (ix2 a k) =
      if a.val < 4 then total 8320 fun r => times (x1 (ix2 r k)) (lag 3 8320 (fun i => x0 (ix2 i k)) (r.val + a.val)) else 0 := by
  refine (pad_rows (val_main_v71 (F := Ideal) x0 x1) (val_main_call0_v0 (F := Ideal)) _ _ (by
    pointwise [val_main_call0_v0, val_main_c]
    exact Step.sitofp_zero) a k).trans ?_
  by_cases h : a.val < 4
  · rw [if_pos h, lag_of_eq _ (⟨a.val, h⟩ : Fin 4) (Nat.zero_add _).symm]; exact taps x0 x1 ⟨a.val, h⟩ k
  · rw [if_neg h]; exact lag_of_out _ (by omega)

/-- The two gradients of the convolution are the reference's. -/
theorem _root_.Cert.Step.conv : algebraic_ConvIdeal_ConvRefIdeal := by
  pair_intro
  · run_from ConvIdeal.Gen.run_main m g
  · refine (θ_run defs _ _).mono (fun _ h c => ?_) (Value.run (F := Ideal) m' g'); obtain ⟨h1, h2, rest⟩ := h c; refine ⟨h1.trans ?_, h2.trans ?_, rest⟩
    · rw [Read.val_main_v76_eq, ConvIdeal.Prod.final5]
      funext j
      refine (dx _ _ j).trans ?_; simp only [hagree c]; rfl
    · rw [Read.val_main_v77_eq, ConvIdeal.Prod.final6]
      funext j
      obtain ⟨a, k, rfl⟩ : ∃ (a : Fin 8) (k : Fin 3072), j = ix2 a k := ⟨j 0, j 1, (ix2_eta j).symm⟩; refine (dw _ _ a k).trans ?_; simp only [hagree c]; rfl
-- ==== Proof.Mix.lean ====
module

public import proofs.«01_k».proof.Proof.Kit
public import proofs.«01_k».proof.Proof.Gen.MixIdeal.Value
public import proofs.«01_k».proof.Proof.Gen.MixRefIdeal.Read

@[expose] public section
set_option maxRecDepth 16384
noncomputable section
open Idealize ShloMosaic TcCoe SL.Sem

namespace Cert.Step

/-- The logistic function. -/
def sig (x : EReal) : EReal := Ideal.logistic x

/-- The logistic function as the quotient the reference writes. -/
theorem sig_eq (x : EReal) : Ideal.div 1 (1 + Ideal.exp (-x)) = sig x := rfl

/-- Column `k` of the pooled branch before its scale: of the four groups of 128 columns, the one of `k` times its weight. -/
def mixPre (p : Fin 512 → EReal) (w : Fin 4 → Fin 128 → Fin 256 → EReal) (k : Fin 1024) : EReal :=
  total 128 fun l => times (p ⟨k.val / 256 * 128 + l.val, by omega⟩) (w ⟨k.val / 256, by omega⟩ l ⟨k.val % 256, by omega⟩)

/-- The cotangent of the pooled branch: of its scaled value. -/
def mixB (g : Fin 2048 → EReal) (dy : Fin 1024 → EReal) (k : Fin 1024) : EReal := times (sig (g ⟨1024 + k.val, by omega⟩)) (dy k)

/-- The cotangent of the pooled branch before its scale. -/
def mixCt (g : Fin 2048 → EReal) (s dy : Fin 1024 → EReal) (k : Fin 1024) : EReal := times (mixB g dy k) (s k)

/-- The cotangent of the recurrent branch. -/
def mixA (g : Fin 2048 → EReal) (dy : Fin 1024 → EReal) (k : Fin 1024) : EReal := times (sig (g ⟨k.val, by omega⟩)) (dy k)

/-- The derivative of the logistic function. -/
def sigGrad (x : EReal) : EReal := times (sig x) (1 - sig x)

/-- The gradient of the gates: the first half gates the recurrent branch, the second the pooled one. -/
def mixG (ya : Fin 1024 → EReal) (g : Fin 2048 → EReal) (p : Fin 512 → EReal) (w : Fin 4 → Fin 128 → Fin 256 → EReal) (s dy : Fin 1024 → EReal) (k : Fin 2048) : EReal :=
  if h : k.val < 1024 then times (times (dy ⟨k.val, h⟩) (ya ⟨k.val, h⟩)) (sigGrad (g k))
  else times (times (dy ⟨k.val - 1024, by omega⟩) (times (mixPre p w ⟨k.val - 1024, by omega⟩) (s ⟨k.val - 1024, by omega⟩))) (sigGrad (g k))

/-- The gradient of the pooled input. -/
def mixP (g : Fin 2048 → EReal) (w : Fin 4 → Fin 128 → Fin 256 → EReal) (s dy : Fin 1024 → EReal) (l : Fin 512) : EReal :=
  total 256 fun q => times (mixCt g s dy ⟨l.val / 128 * 256 + q.val, by omega⟩) (w ⟨l.val / 128, by omega⟩ ⟨l.val % 128, by omega⟩ q)

/-- One row's part of the gradient of the pooled branch's weight. -/
def mixW (g : Fin 2048 → EReal) (p : Fin 512 → EReal) (s dy : Fin 1024 → EReal) (a : Fin 4) (l : Fin 128) (q : Fin 256) : EReal :=
  times (p ⟨a.val * 128 + l.val, by omega⟩) (mixCt g s dy ⟨a.val * 256 + q.val, by omega⟩)

/-- One row's part of the gradient of the pooled branch's scale. -/
def mixS (g : Fin 2048 → EReal) (p : Fin 512 → EReal) (w : Fin 4 → Fin 128 → Fin 256 → EReal) (dy : Fin 1024 → EReal) (k : Fin 1024) : EReal := times (mixPre p w k) (mixB g dy k)

end Cert.Step

namespace Cert.MixIdeal.Prod

open Gen Step

variable (m : (ℓ : Loc nD τ sig) → Buf (Elt Ideal) ℓ) (c : Dev nD) (t : Fin cfg0.N)

/-- The block indices at each grid point. -/
theorem idx : ∀ t : Fin cfg0.N, win0_0.index t = ![t.val, 0] ∧ win0_1.index t = ![t.val, 0] ∧ win0_2.index t = ![t.val, 0] ∧ win0_3.index t = ![0, 0, 0] ∧ win0_4.index t = ![0, 0]
    ∧ win0_5.index t = ![t.val, 0] ∧ win0_6.index t = ![t.val, 0] ∧ win0_7.index t = ![t.val, 0] ∧ win0_8.index t = ![t.val, 0] ∧ win0_9.index t = ![0, 0, 0] ∧ win0_10.index t = ![0, 0] :=
  (by decide +kernel : ∀ t : Fin grid0.N, _)

section Block

variable (ya : S320x1024.Idx → EReal) (g : S320x2048.Idx → EReal) (p : S320x512.Idx → EReal) (w : S4x128x256.Idx → EReal)
  (s : S1x1024.Idx → EReal) (dy : S320x1024.Idx → EReal)

/-- Row `i` of a block. -/
def rowOf {n : ℕ} (x : (⟨2, ![320, n]⟩ : Shape).Idx → EReal) (i : Fin 320) : Fin n → EReal := fun k => x (ix2 i k)

/-- The weight and the scale as functions of their coordinates. -/
def wgt (w : S4x128x256.Idx → EReal) : Fin 4 → Fin 128 → Fin 256 → EReal := fun a l q => w (ix3 a l q)

def scl (s : S1x1024.Idx → EReal) : Fin 1024 → EReal := fun k => s (ix2 0 k)

theorem pre (i : Fin 320) (k : Fin 1024) : k0_pay13 (F := Ideal) p w (ix2 i k) = mixPre (rowOf p i) (wgt w) k := by
  pointwise [k0_pay13, k0_pay5, k0_pay6, k0_pay7, k0_pay8, k0_pay9, k0_pay10, k0_pay11, k0_pay12]; unfold mixPre total times rowOf wgt; have hk := k.isLt
  split_ifs with h1 h2 h3
  all_goals
    refine Finset.sum_congr rfl fun x _ => congrArg₂ (· * ·) (congrArg (fun b => p (ix2 i b)) (Fin.ext ?_))
      (congrArg₂ (fun a b => w (ix3 a x b)) (Fin.ext ?_) (Fin.ext ?_))
  all_goals simp only [Fin.val_zero, Fin.val_one, Fin.val_two]
  all_goals first | omega | (show 3 = k.val / 256; omega)

theorem a1 (i : Fin 320) (k : Fin 1024) : k0_pay22 (F := Ideal) (k0_pay15 g) dy (ix2 i k) = mixA (rowOf g i) (rowOf dy i) k := by
  pointwise [k0_pay22, k0_pay15, k0_pay19, mixA, times, Step.sig, rowOf]

theorem b1 (i : Fin 320) (k : Fin 1024) : k0_pay21 (F := Ideal) (k0_pay17 g) dy (ix2 i k) = mixB (rowOf g i) (rowOf dy i) k := by
  pointwise [k0_pay21, k0_pay17, k0_pay20, mixB, times, Step.sig, rowOf]

theorem ct (i : Fin 320) (k : Fin 1024) : k0_pay25 (F := Ideal) s (k0_pay17 g) dy (ix2 i k) = mixCt (rowOf g i) (scl s) (rowOf dy i) k := by
  refine Eq.trans (b := k0_pay21 (F := Ideal) (k0_pay17 g) dy (ix2 i k) * s (ix2 0 k)) ?_ ?_
  · pointwise [k0_pay25]
  · exact congrArg (· * s (ix2 0 k)) (b1 g dy i k)

theorem gates (i : Fin 320) (k : Fin 2048) : k0_pay36 (F := Ideal) (k0_pay23 ya (k0_pay14 p w s) (k0_pay16 g) (k0_pay18 g) dy) (ix2 i k)
      = mixG (rowOf ya i) (rowOf g i) (rowOf p i) (wgt w) (scl s) (rowOf dy i) k := by
  pointwise [k0_pay36, k0_pay23, k0_pay14, k0_pay16, k0_pay18, k0_pay15, k0_pay17, k0_pay19, k0_pay20]; unfold mixG; by_cases h : k.val < 1024
  · rw [dif_pos h, dif_pos h, dif_pos h, zero_add]; rfl
  · rw [dif_neg h, dif_neg h, dif_neg h, add_zero]; have e : (⟨1024 + (k.val - 1024), by omega⟩ : Fin 2048) = k := Fin.ext (by show 1024 + (k.val - 1024) = k.val; omega)
    refine congrArg₂ (· * ·) (congrArg (_ * ·) (congrArg (· * _) (pre p w i _))) ?_
    exact congrArg (fun b => sigGrad (g (ix2 i b))) e

theorem pooled (i : Fin 320) (l : Fin 512) : k0_pay35 (F := Ideal) (k0_pay6 w) (k0_pay8 w) (k0_pay26 s (k0_pay17 g) dy) (k0_pay27 s (k0_pay17 g) dy)
      (k0_pay30 s (k0_pay12 w) (k0_pay17 g) dy) (k0_pay31 s (k0_pay10 w) (k0_pay17 g) dy) (FloatOps.ofBits FTy.f32 0#32) k0_pay33 (ix2 i l) = mixP (rowOf g i) (wgt w) (scl s) (rowOf dy i) l := by
  pointwise [k0_pay35, k0_pay6, k0_pay8, k0_pay26, k0_pay27, k0_pay30, k0_pay31, k0_pay12, k0_pay10, k0_pay28, k0_pay29, k0_pay33]; unfold mixP total times wgt; have hl := l.isLt
  rcases (by omega : l.val < 128 ∨ (¬l.val < 128 ∧ l.val < 256) ∨ (¬l.val < 128 ∧ ¬l.val < 256 ∧ l.val < 384)
    ∨ (¬l.val < 128 ∧ ¬l.val < 256 ∧ ¬l.val < 384)) with h1 | ⟨h1, h2⟩ | ⟨h1, h2, h3⟩ | ⟨h1, h2, h3⟩
  · have h2 : l.val < 256 := by omega
    have h3 : l.val < 384 := by omega
    simp only [dif_pos h1, dif_pos h2, dif_pos h3, zero_add]
    refine Finset.sum_congr rfl fun x _ => congrArg₂ (· * ·) ((ct g s dy i _).trans (congrArg (mixCt _ _ _) (Fin.ext ?_)))
      (congrArg₂ (fun a b => w (ix3 a b x)) (Fin.ext ?_) (Fin.ext ?_))
    all_goals simp only [Fin.val_zero, Fin.val_one, Fin.val_two]
    all_goals first | omega | (show 3 = l.val / 128; omega)
  · have h3 : l.val < 384 := by omega
    simp only [dif_neg h1, dif_pos h2, dif_pos h3, zero_add, add_zero]
    refine Finset.sum_congr rfl fun x _ => congrArg₂ (· * ·) ((ct g s dy i _).trans (congrArg (mixCt _ _ _) (Fin.ext ?_)))
      (congrArg₂ (fun a b => w (ix3 a b x)) (Fin.ext ?_) (Fin.ext ?_))
    all_goals simp only [Fin.val_zero, Fin.val_one, Fin.val_two]
    all_goals first | omega | (show 3 = l.val / 128; omega)
  · simp only [dif_neg h1, dif_neg h2, dif_pos h3, zero_add, add_zero]
    refine Finset.sum_congr rfl fun x _ => congrArg₂ (· * ·) ((ct g s dy i _).trans (congrArg (mixCt _ _ _) (Fin.ext ?_)))
      (congrArg₂ (fun a b => w (ix3 a b x)) (Fin.ext ?_) (Fin.ext ?_))
    all_goals simp only [Fin.val_zero, Fin.val_one, Fin.val_two]
    all_goals first | omega | (show 3 = l.val / 128; omega)
  · simp only [dif_neg h1, dif_neg h2, dif_neg h3, zero_add, add_zero]
    refine Finset.sum_congr rfl fun x _ => congrArg₂ (· * ·) ((ct g s dy i _).trans (congrArg (mixCt _ _ _) (Fin.ext ?_)))
      (congrArg₂ (fun a b => w (ix3 a b x)) (Fin.ext ?_) (Fin.ext ?_))
    all_goals simp only [Fin.val_zero, Fin.val_one, Fin.val_two]
    all_goals first | omega | (show 3 = l.val / 128; omega)

theorem weight (acc : S4x128x256.Idx → EReal) (a : Fin 4) (l : Fin 128) (q : Fin 256) : k0_pay3 (F := Ideal) (k0_pay34 (k0_pay5 p) (k0_pay7 p) (k0_pay26 s (k0_pay17 g) dy) (k0_pay27 s (k0_pay17 g) dy)
        (k0_pay32 s (k0_pay9 p) (k0_pay11 p) (k0_pay17 g) dy)) acc (ix3 a l q) = acc (ix3 a l q) + total 320 fun i => mixW (rowOf g i) (rowOf p i) (scl s) (rowOf dy i) a l q := by
  pointwise [k0_pay3, k0_pay34, k0_pay5, k0_pay7, k0_pay26, k0_pay27, k0_pay32, k0_pay9, k0_pay11, k0_pay28, k0_pay29]; refine congrArg (acc (ix3 a l q) + ·) ?_
  unfold mixW total times; have ha := a.isLt
  split_ifs
  all_goals try split_ifs
  all_goals try split_ifs
  all_goals first | (exfalso; omega) | skip
  all_goals simp only [zero_add, add_zero]
  all_goals
    refine Finset.sum_congr rfl fun x _ => congrArg₂ (· * ·) (congrArg (fun b => p (ix2 x b)) (Fin.ext ?_))
      ((ct g s dy x _).trans (congrArg (mixCt _ _ _) (Fin.ext ?_)))
  all_goals (simp only []; omega)

theorem scale (acc : S1x1024.Idx → EReal) (k : Fin 1024) : k0_pay4 (F := Ideal) (k0_pay24 (k0_pay13 p w) (k0_pay17 g) dy) acc (ix2 0 k)
      = acc (ix2 0 k) + total 320 fun i => mixS (rowOf g i) (rowOf p i) (wgt w) (rowOf dy i) k := by
  pointwise [k0_pay4, k0_pay24]; exact congrArg (acc (ix2 0 k) + ·) (Finset.sum_congr rfl fun x _ => congrArg₂ (· * ·) (pre p w x k) (b1 g dy x k))

end Block

/-- Row `i` of each input, and the weight and the scale. -/
def gya (c : Dev nD) (i : Fin 8320) : Fin 1024 → EReal := fun k => m (c.tc.loc main_arg0) (ix2 i k)

def gg (c : Dev nD) (i : Fin 8320) : Fin 2048 → EReal := fun k => m (c.tc.loc main_arg1) (ix2 i k)

def gp (c : Dev nD) (i : Fin 8320) : Fin 512 → EReal := fun k => m (c.tc.loc main_arg2) (ix2 i k)

def gw (c : Dev nD) : Fin 4 → Fin 128 → Fin 256 → EReal := fun a l q => m (c.tc.loc main_arg3) (ix3 a l q)

def gs (c : Dev nD) : Fin 1024 → EReal := fun k => m (c.tc.loc main_arg4) (ix2 0 k)

def gdy (c : Dev nD) (i : Fin 8320) : Fin 1024 → EReal := fun k => m (c.tc.loc main_arg5) (ix2 i k)

section Rows

variable (c : Dev nD) (t : Fin cfg0.N) (i : Fin 320) (a : Fin 8320) (ha : a.val = t.val * 320 + i.val)

include ha

theorem ya_eq : rowOf (iblk m c 0 t) i = gya m c a := by
  funext k
  unfold rowOf gya
  blk_ext [iblk, V, idx t]

theorem g_eq : rowOf (iblk m c 1 t) i = gg m c a := by
  funext k
  unfold rowOf gg
  blk_ext [iblk, V, idx t]

theorem p_eq : rowOf (iblk m c 2 t) i = gp m c a := by
  funext k
  unfold rowOf gp
  blk_ext [iblk, V, idx t]

theorem dy_eq : rowOf (iblk m c 5 t) i = gdy m c a := by
  funext k
  unfold rowOf gdy
  blk_ext [iblk, V, idx t]

end Rows

theorem w_eq : wgt (iblk m c 3 t) = gw m c := by
  funext a l q
  unfold wgt gw
  blk_ext [iblk, V, idx t]

theorem s_eq : scl (iblk m c 4 t) = gs m c := by
  funext k
  unfold scl gs
  blk_ext [iblk, V, idx t]

/-- First result: the cotangent of the recurrent branch. -/
theorem final6 (c : Dev nD) : (dats m 0 c).arrAt 6 (cfgs 0).N = fun j => mixA (gg m c (j 0)) (gdy m c (j 0)) (j 1) := by
  refine (dats m 0 c).arrAt_eq_of_covers 6 _ (by decide +kernel) fun t hf y => ?_; blk_simp; rw [after0_6]
  obtain ⟨i, k, rfl⟩ : ∃ (i : Fin 320) (k : Fin 1024), y = ix2 i k := ⟨y 0, y 1, (ix2_eta y).symm⟩; refine Eq.trans (b := mixA (rowOf (iblk m c 1 t) i) (rowOf (iblk m c 5 t) i) k) ?_ (congr ?_ ?_)
  · refine Eq.trans ?_ (a1 (iblk m c 1 t) (iblk m c 5 t) i k); by_cases h0 : t.val % 26 = 0
    · rw [outsAt0_A m c t h0]; frame_out
    · rw [outsAt0_B m c t h0]; frame_out
  · refine congrArg₂ mixA (g_eq m c t i _ ?_) (dy_eq m c t i _ ?_) <;> blk_simp [idx t]
  · refine Fin.ext ?_; blk_simp [idx t]

/-- Second result: the gradient of the gates. -/
theorem final7 (c : Dev nD) : (dats m 0 c).arrAt 7 (cfgs 0).N = fun j => mixG (gya m c (j 0)) (gg m c (j 0)) (gp m c (j 0)) (gw m c) (gs m c) (gdy m c (j 0)) (j 1) := by
  refine (dats m 0 c).arrAt_eq_of_covers 7 _ (by decide +kernel) fun t hf y => ?_; blk_simp; rw [after0_7]
  obtain ⟨i, k, rfl⟩ : ∃ (i : Fin 320) (k : Fin 2048), y = ix2 i k := ⟨y 0, y 1, (ix2_eta y).symm⟩
  refine Eq.trans (b := mixG (rowOf (iblk m c 0 t) i) (rowOf (iblk m c 1 t) i) (rowOf (iblk m c 2 t) i) (wgt (iblk m c 3 t)) (scl (iblk m c 4 t)) (rowOf (iblk m c 5 t) i) k) ?_ (congr ?_ ?_)
  · refine Eq.trans ?_ (gates (iblk m c 0 t) (iblk m c 1 t) (iblk m c 2 t) (iblk m c 3 t) (iblk m c 4 t) (iblk m c 5 t) i k); by_cases h0 : t.val % 26 = 0
    · rw [outsAt0_A m c t h0]; frame_out
    · rw [outsAt0_B m c t h0]; frame_out
  · refine congr (congr (congr (congr (congrArg₂ mixG (ya_eq m c t i _ ?_) (g_eq m c t i _ ?_)) (p_eq m c t i _ ?_)) (w_eq m c t)) (s_eq m c t)) (dy_eq m c t i _ ?_) <;> blk_simp [idx t]
  · refine Fin.ext ?_; blk_simp [idx t]

/-- Third result: the gradient of the pooled input. -/
theorem final8 (c : Dev nD) : (dats m 0 c).arrAt 8 (cfgs 0).N = fun j => mixP (gg m c (j 0)) (gw m c) (gs m c) (gdy m c (j 0)) (j 1) := by
  refine (dats m 0 c).arrAt_eq_of_covers 8 _ (by decide +kernel) fun t hf y => ?_; blk_simp; rw [after0_8]
  obtain ⟨i, k, rfl⟩ : ∃ (i : Fin 320) (k : Fin 512), y = ix2 i k := ⟨y 0, y 1, (ix2_eta y).symm⟩
  refine Eq.trans (b := mixP (rowOf (iblk m c 1 t) i) (wgt (iblk m c 3 t)) (scl (iblk m c 4 t)) (rowOf (iblk m c 5 t) i) k) ?_ (congr ?_ ?_)
  · refine Eq.trans ?_ (pooled (iblk m c 1 t) (iblk m c 3 t) (iblk m c 4 t) (iblk m c 5 t) i k); by_cases h0 : t.val % 26 = 0
    · rw [outsAt0_A m c t h0]; frame_out
    · rw [outsAt0_B m c t h0]; frame_out
  · refine congr (congr (congrArg₂ mixP (g_eq m c t i _ ?_) (w_eq m c t)) (s_eq m c t)) (dy_eq m c t i _ ?_) <;> blk_simp [idx t]
  · refine Fin.ext ?_; blk_simp [idx t]

/-- The parts of one point in the gradients of the weight and of the scale. -/
def blkW (y : S4x128x256.Idx) : EReal := total 320 fun i => mixW (rowOf (iblk m c 1 t) i) (rowOf (iblk m c 2 t) i) (scl (iblk m c 4 t)) (rowOf (iblk m c 5 t) i) (y 0) (y 1) (y 2)

def blkS (y : S1x1024.Idx) : EReal := total 320 fun i => mixS (rowOf (iblk m c 1 t) i) (rowOf (iblk m c 2 t) i) (wgt (iblk m c 3 t)) (rowOf (iblk m c 5 t) i) (y 1)

/-- Fourth result: the gradient of the pooled branch's weight. -/
theorem final9 (c : Dev nD) : (dats m 0 c).arrAt 9 (cfgs 0).N = fun j =>
    total 8320 fun i => mixW (gg m c i) (gp m c i) (gs m c) (gdy m c i) (j 0) (j 1) (j 2) := by
  refine (dats m 0 c).arrAt_eq_of_covers 9 _ (by decide +kernel) fun t hf y => ?_; have ht : t.val < 26 := t.isLt; blk_simp
  rw [after0_9, Pipeline.eq_sum_fin_of_reset_step_apply_of_flush (fun n h => (outsAt0 m c n h).2.2.2.1) 26 (fun _ => (0 : EReal))
    (blkW m c) (fun t h y => by
      obtain ⟨a, l, q, rfl⟩ : ∃ (a : Fin 4) (l : Fin 128) (q : Fin 256), y = ix3 a l q := ⟨y 0, y 1, y 2, (ix3_eta y).symm⟩; rw [outsAt0_A m c t h]; frame_out
      refine (weight (iblk m c 1 t) (iblk m c 2 t) (iblk m c 4 t) (iblk m c 5 t) _ a l q).trans (congrArg₂ (· + ·) ?_ rfl)
      pointwise [k0_pay1]) (fun t h y => by
      obtain ⟨a, l, q, rfl⟩ : ∃ (a : Fin 4) (l : Fin 128) (q : Fin 256), y = ix3 a l q := ⟨y 0, y 1, y 2, (ix3_eta y).symm⟩; rw [outsAt0_B m c t h]; frame_out
      exact weight (iblk m c 1 t) (iblk m c 2 t) (iblk m c 4 t) (iblk m c 5 t) _ a l q) t ((flush0_9 t).mp hf), zero_add]
  refine Fin.sum_mul_add_congr fun s k hl => ?_; have hs := s.isLt; have ha : (s.val * 320 + k.val : ℕ) = (26 * (t.val / 26) + s.val) * 320 + k.val := by omega
  refine congr (congr (congr (congr (congr (congrArg₂ mixW (g_eq m c _ k _ ha) (p_eq m c _ k _ ha)) (s_eq m c _)) (dy_eq m c _ k _ ha)) ?_) ?_) ?_
  all_goals
    refine Fin.ext ?_; blk_simp [idx t]

/-- Fifth result: the gradient of the pooled branch's scale. -/
theorem final10 (c : Dev nD) : (dats m 0 c).arrAt 10 (cfgs 0).N = fun j =>
    total 8320 fun i => mixS (gg m c i) (gp m c i) (gw m c) (gdy m c i) (j 1) := by
  refine (dats m 0 c).arrAt_eq_of_covers 10 _ (by decide +kernel) fun t hf y => ?_; have ht : t.val < 26 := t.isLt; blk_simp
  rw [after0_10, Pipeline.eq_sum_fin_of_reset_step_apply_of_flush (fun n h => (outsAt0 m c n h).2.2.2.2) 26 (fun _ => (0 : EReal))
    (blkS m c) (fun t h y => by
      obtain ⟨a, k, rfl⟩ : ∃ (a : Fin 1) (k : Fin 1024), y = ix2 a k := ⟨y 0, y 1, (ix2_eta y).symm⟩; obtain rfl : a = 0 := Subsingleton.elim _ _; rw [outsAt0_A m c t h]; frame_out
      refine (scale (iblk m c 1 t) (iblk m c 2 t) (iblk m c 3 t) (iblk m c 5 t) _ k).trans (congrArg₂ (· + ·) ?_ rfl)
      pointwise [k0_pay2]) (fun t h y => by
      obtain ⟨a, k, rfl⟩ : ∃ (a : Fin 1) (k : Fin 1024), y = ix2 a k := ⟨y 0, y 1, (ix2_eta y).symm⟩; obtain rfl : a = 0 := Subsingleton.elim _ _; rw [outsAt0_B m c t h]; frame_out
      exact scale (iblk m c 1 t) (iblk m c 2 t) (iblk m c 3 t) (iblk m c 5 t) _ k) t ((flush0_10 t).mp hf), zero_add]
  refine Fin.sum_mul_add_congr fun s k hl => ?_; have hs := s.isLt; have ha : (s.val * 320 + k.val : ℕ) = (26 * (t.val / 26) + s.val) * 320 + k.val := by omega
  refine congr (congr (congr (congrArg₂ mixS (g_eq m c _ k _ ha) (p_eq m c _ k _ ha)) (w_eq m c _)) (dy_eq m c _ k _ ha)) ?_; refine Fin.ext ?_; blk_simp [idx t]

end Cert.MixIdeal.Prod

namespace Cert.MixRefIdeal.Prod

open Read Step

variable (x0 : S8320x1024.Idx → EReal) (x1 : S8320x2048.Idx → EReal) (x2 : S8320x512.Idx → EReal) (x3 : S4x128x256.Idx → EReal)
  (x4 : S1x1024.Idx → EReal) (x5 : S8320x1024.Idx → EReal)

def rowOf {n : ℕ} (x : (⟨2, ![8320, n]⟩ : Shape).Idx → EReal) (i : Fin 8320) : Fin n → EReal := fun k => x (ix2 i k)

def wgt (w : S4x128x256.Idx → EReal) : Fin 4 → Fin 128 → Fin 256 → EReal := fun a l q => w (ix3 a l q)

def scl (s : S1x1024.Idx → EReal) : Fin 1024 → EReal := fun k => s (ix2 0 k)

theorem pre (i : Fin 8320) (k : Fin 1024) : val_main_v3 (F := Ideal) x2 x3 (ix2 i k) = mixPre (rowOf x2 i) (wgt x3) k := by
  refine Eq.trans (b := ∑ x : Fin 128, x3 (ix3 ⟨k.val / 256, by omega⟩ x ⟨k.val % 256, by omega⟩) * x2 (ix2 i ⟨k.val / 256 * 128 + x.val, by omega⟩)) ?_ ?_
  · pointwise [val_main_v3, val_main_v2, val_main_v1, val_main_v0]
  · exact Finset.sum_congr rfl fun x _ => mul_comm _ _

theorem ct (a : Fin 4) (q : Fin 256) (i : Fin 8320) : val_main_v34 (F := Ideal) x1 x4 x5 (ix3 a q i) = mixCt (rowOf x1 i) (scl x4) (rowOf x5 i) ⟨a.val * 256 + q.val, by omega⟩ := by
  pointwise [val_main_v34, val_main_v33, val_main_v32, val_main_v22, val_main_v16, val_main_v11, val_main_v10, val_main_v9, val_main_v8,
    val_main_v7, val_main_v6, val_main_cst, val_main_cst_0, val_main_v21, val_main_v31]
  rfl

theorem b1 (i : Fin 8320) (k : Fin 1024) : val_main_v22 (F := Ideal) x1 x5 (ix2 i k) = mixB (rowOf x1 i) (rowOf x5 i) k := by
  pointwise [val_main_v22, val_main_v16, val_main_v11, val_main_v10, val_main_v9, val_main_v8, val_main_v7, val_main_v6, val_main_cst, val_main_cst_0, val_main_v21]
  rfl

theorem a1 (i : Fin 8320) (k : Fin 1024) : val_main_v24 (F := Ideal) x1 x5 (ix2 i k) = mixA (rowOf x1 i) (rowOf x5 i) k := by
  pointwise [val_main_v24, val_main_v15, val_main_v11, val_main_v10, val_main_v9, val_main_v8, val_main_v7, val_main_v6, val_main_cst, val_main_cst_0, val_main_v20]
  rfl

theorem gates (i : Fin 8320) (k : Fin 2048) : val_main_v40 (F := Ideal) x0 x1 x2 x3 x4 x5 (ix2 i k)
    = mixG (rowOf x0 i) (rowOf x1 i) (rowOf x2 i) (wgt x3) (scl x4) (rowOf x5 i) k := by
  pointwise [val_main_v40, val_main_v27, val_main_v26, val_main_v25, val_main_v23, val_main_v5, val_main_v4, val_main_v14, val_main_v13, val_main_v12, val_main_cst_1, val_main_v11, val_main_v10, val_main_v9, val_main_v8,
    val_main_v7, val_main_v6, val_main_cst, val_main_cst_0, val_main_v20, val_main_v21]
  unfold mixG; by_cases h : k.val < 1024
  · rw [dif_pos h, dif_pos h]; rfl
  · rw [dif_neg h, dif_neg h]; exact congrArg (· * _) (congrArg (_ * ·) (congrArg (· * _) (pre x2 x3 i _)))

theorem pooled (i : Fin 8320) (l : Fin 512) : val_main_v39 (F := Ideal) x1 x3 x4 x5 (ix2 i l)
    = mixP (rowOf x1 i) (wgt x3) (scl x4) (rowOf x5 i) l := by
  refine Eq.trans (b := ∑ q : Fin 256, val_main_v34 (F := Ideal) x1 x4 x5 (ix3 ⟨l.val / 128, by omega⟩ q i) * x3 (ix3 ⟨l.val / 128, by omega⟩ ⟨l.val % 128, by omega⟩ q)) ?_ ?_
  · pointwise [val_main_v39, val_main_v36, val_main_v35]
  · exact Finset.sum_congr rfl fun q _ => congrArg (· * _) (ct x1 x4 x5 _ q i)

theorem weight (a : Fin 4) (l : Fin 128) (q : Fin 256) : val_main_v38 (F := Ideal) x1 x2 x4 x5 (ix3 a l q)
    = total 8320 fun i => mixW (rowOf x1 i) (rowOf x2 i) (scl x4) (rowOf x5 i) a l q := by
  refine Eq.trans (b := ∑ i : Fin 8320, val_main_v34 (F := Ideal) x1 x4 x5 (ix3 a q i) * x2 (ix2 i ⟨a.val * 128 + l.val, by omega⟩)) ?_ ?_
  · pointwise [val_main_v38, val_main_v37, val_main_v0]
  · exact Finset.sum_congr rfl fun i _ => (congrArg (· * _) (ct x1 x4 x5 a q i)).trans (mul_comm _ _)

theorem scale (i : Fin 1) (k : Fin 1024) : val_main_v30 (F := Ideal) x1 x2 x3 x5 (ix2 i k)
    = total 8320 fun i => mixS (rowOf x1 i) (rowOf x2 i) (wgt x3) (rowOf x5 i) k := by
  refine Eq.trans (b := ∑ i : Fin 8320, val_main_v3 (F := Ideal) x2 x3 (ix2 i k) * val_main_v22 (F := Ideal) x1 x5 (ix2 i k)) ?_ ?_
  · pointwise [val_main_v30, val_main_v29, val_main_v28, val_main_cst_2]
  · exact Finset.sum_congr rfl fun i _ => congrArg₂ (· * ·) (pre x2 x3 i k) (b1 x1 x5 i k)

/-- The five gradients of the merge of the two branches are the reference's. -/
theorem _root_.Cert.Step.mix : algebraic_MixIdeal_MixRefIdeal := by
  pair_intro
  · run_from MixIdeal.Gen.run_main m g
  · refine (θ_run defs _ _).mono (fun _ h c => ?_) (Value.run (F := Ideal) m' g'); obtain ⟨h1, h2, h3, h4, h5, rest⟩ := h c
    refine ⟨h1.trans ?_, h2.trans ?_, h3.trans ?_, h4.trans ?_, h5.trans ?_, rest⟩
    · rw [Read.val_main_v24_eq, MixIdeal.Prod.final6]
      funext j
      obtain ⟨a, k, rfl⟩ : ∃ (a : Fin 8320) (k : Fin 1024), j = ix2 a k := ⟨j 0, j 1, (ix2_eta j).symm⟩; refine (a1 _ _ a k).trans ?_; simp only [hagree c]; rfl
    · rw [Read.val_main_v40_eq, MixIdeal.Prod.final7]
      funext j
      obtain ⟨a, k, rfl⟩ : ∃ (a : Fin 8320) (k : Fin 2048), j = ix2 a k := ⟨j 0, j 1, (ix2_eta j).symm⟩; refine (gates _ _ _ _ _ _ a k).trans ?_; simp only [hagree c]; rfl
    · rw [Read.val_main_v39_eq, MixIdeal.Prod.final8]
      funext j
      obtain ⟨a, k, rfl⟩ : ∃ (a : Fin 8320) (k : Fin 512), j = ix2 a k := ⟨j 0, j 1, (ix2_eta j).symm⟩; refine (pooled _ _ _ _ a k).trans ?_; simp only [hagree c]; rfl
    · rw [Read.val_main_v38_eq, MixIdeal.Prod.final9]
      funext j
      obtain ⟨a, l, q, rfl⟩ : ∃ (a : Fin 4) (l : Fin 128) (q : Fin 256), j = ix3 a l q := ⟨j 0, j 1, j 2, (ix3_eta j).symm⟩; refine (weight _ _ _ _ a l q).trans ?_; simp only [hagree c]; rfl
    · rw [Read.val_main_v30_eq, MixIdeal.Prod.final10]
      funext j
      obtain ⟨a, k, rfl⟩ : ∃ (a : Fin 1) (k : Fin 1024), j = ix2 a k := ⟨j 0, j 1, (ix2_eta j).symm⟩; refine (scale _ _ _ _ a k).trans ?_; simp only [hagree c]; rfl
-- ==== Proof.Pool.lean ====
module

public import proofs.«01_k».proof.Proof.Kit
public import proofs.«01_k».proof.Proof.Gen.PoolIdeal.Value
public import proofs.«01_k».proof.Proof.Gen.PoolRefIdeal.Read

@[expose] public section
set_option maxRecDepth 16384
noncomputable section
open Idealize ShloMosaic TcCoe SL.Sem

namespace Cert.Step

/-- How many rows the window of `w` rows that ends in row `i` holds: the row's place behind the 48 leading rows, at least one and at
    most `w`. -/
def cnt (w : ℕ) (i : ℕ) : EReal := FloatOps.sitofp (F := Ideal) FTy.f32 (IntOp.minsi (BitVec.ofNat 32 w) (IntOp.maxsi 1#32 (BitVec.ofNat 32 i - 48#32 + 1#32)))

/-- The width of the windows of a column, by its group of 128. -/
def size (q : ℕ) : ℕ := if q < 128 then 2 else if q < 256 then 4 else if q < 384 then 8 else 16

/-- A column over the counts of its rows. -/
def part (f : Fin 8320 → EReal) (w : ℕ) : Fin 8320 → EReal := fun i => Ideal.div (f i) (cnt w i.val)

/-- No window is empty. -/
theorem cnt_ne_zero (w : ℕ) (hw : 0 < w ∧ w < 17) (i : ℕ) : cnt w i ≠ 0 := by
  have key : ∀ (a x : BitVec 32), 0 < a.toInt → 0 < (IntOp.minsi a (IntOp.maxsi 1#32 x)).toInt := fun a x ha => by
    have h1 : 0 < (IntOp.maxsi 1#32 x).toInt := by
      unfold IntOp.maxsi; by_cases h : x.slt 1#32
      · rw [if_pos h]
        decide
      · rw [if_neg h]; rw [BitVec.slt_iff_toInt_lt] at h; have : (1#32 : BitVec 32).toInt = 1 := by decide
        omega
    unfold IntOp.minsi
    split
    · exact ha
    · exact h1
  have hk := key (BitVec.ofNat 32 w) (BitVec.ofNat 32 i - 48#32 + 1#32) (by
    rw [WordCmp.toInt_ofNat_of_lt (by norm_num; omega)]
    omega)
  unfold cnt; show (((IntOp.minsi (BitVec.ofNat 32 w) (IntOp.maxsi 1#32 (BitVec.ofNat 32 i - 48#32 + 1#32))).toInt : ℝ) : EReal) ≠ 0; intro h; have h2 := EReal.coe_eq_zero.mp h
  have h3 := Int.cast_eq_zero.mp h2; omega

theorem div_cnt (f : Fin 8320 → EReal) (w : ℕ) (hw : 0 < w ∧ w < 17) (k : ℕ) : Ideal.div (lag 0 8320 f k) (cnt w k) = lag 0 8320 (part f w) k := by
  by_cases h : k < 8320
  · rw [lag_of_eq f ⟨k, h⟩ (Nat.zero_add k).symm, lag_of_eq (part f w) ⟨k, h⟩ (Nat.zero_add k).symm]; rfl
  · rw [lag_of_out f (by omega), lag_of_out (part f w) (by omega)]; unfold Ideal.div; rw [if_neg (cnt_ne_zero w hw k), zero_mul]

theorem sum_down2 (f : ℕ → EReal) (r : ℕ) : ∑ j ∈ Finset.range 2, f (r + j) = f (r + (1 - 0)) + f (r + (1 - 1)) := by
  simp only [Finset.sum_range_succ, Finset.range_zero, Finset.sum_empty, zero_add]; norm_num only
  ac_rfl

theorem sum_down4 (f : ℕ → EReal) (r : ℕ) : ∑ j ∈ Finset.range 4, f (r + j) = f (r + (3 - 0)) + f (r + (3 - 1)) + f (r + (3 - 2)) + f (r + (3 - 3)) := by
  simp only [Finset.sum_range_succ, Finset.range_zero, Finset.sum_empty, zero_add]; norm_num only
  ac_rfl

theorem sum_down8 (f : ℕ → EReal) (r : ℕ) : ∑ j ∈ Finset.range 8, f (r + j) = f (r + (7 - 0)) + f (r + (7 - 1)) + f (r + (7 - 2)) + f (r + (7 - 3)) + f (r + (7 - 4)) + f (r + (7 - 5)) + f (r + (7 - 6)) + f (r + (7 - 7)) := by
  simp only [Finset.sum_range_succ, Finset.range_zero, Finset.sum_empty, zero_add]; norm_num only
  ac_rfl

theorem sum_down16 (f : ℕ → EReal) (r : ℕ) : ∑ j ∈ Finset.range 16, f (r + j) = f (r + (15 - 0)) + f (r + (15 - 1)) + f (r + (15 - 2)) + f (r + (15 - 3)) + f (r + (15 - 4)) + f (r + (15 - 5)) + f (r + (15 - 6)) + f (r + (15 - 7)) + f (r + (15 - 8)) + f (r + (15 - 9)) + f (r + (15 - 10)) + f (r + (15 - 11)) + f (r + (15 - 12)) + f (r + (15 - 13)) + f (r + (15 - 14)) + f (r + (15 - 15)) := by
  simp only [Finset.sum_range_succ, Finset.range_zero, Finset.sum_empty, zero_add]; norm_num only
  ac_rfl

end Cert.Step

namespace Cert.PoolIdeal.Prod

open Gen Step

variable (m : (ℓ : Loc nD τ sig) → Buf (Elt Ideal) ℓ) (c : Dev nD) (t : Fin cfg0.N)

/-- The block indices at each grid point. -/
theorem idx : ∀ t : Fin cfg0.N, win0_0.index t = ![t.val, 0] ∧ win0_1.index t = ![min ((t.val + 1) * 40) 519, 0] ∧ win0_2.index t = ![t.val, 0] := (by decide +kernel : ∀ t : Fin grid0.N, _)

/-- A matrix added to itself `s` rows up. -/
def up (s : BitVec 32) (x : FVec Ideal S656x128 .f32) : FVec Ideal S656x128 .f32 := addf x (dynamicRotate 0 s none x rotates_S656x128_d0)

/-- Rotating by `656 - n` adds the row `n` behind, as long as there is one. -/
def Moves (s : BitVec 32) (n : ℕ) : Prop := ∀ (x : S656x128.Idx → EReal) (r : Fin 656) (k : Fin 128) (h : r.val + n < 656),
  up s x (ix2 r k) = x (ix2 r k) + x (ix2 ⟨r.val + n, h⟩ k)

theorem up1 : Moves 655#32 1 := fun x r k h => by
  have e : (r.val + 656 - 655) % 656 = r.val + 1 := by omega
  pointwise [up]; simp only [e]

theorem up2 : Moves 654#32 2 := fun x r k h => by
  have e : (r.val + 656 - 654) % 656 = r.val + 2 := by omega
  pointwise [up]; simp only [e]

theorem up4 : Moves 652#32 4 := fun x r k h => by
  have e : (r.val + 656 - 652) % 656 = r.val + 4 := by omega
  pointwise [up]; simp only [e]

theorem up8 : Moves 648#32 8 := fun x r k h => by
  have e : (r.val + 656 - 648) % 656 = r.val + 8 := by omega
  pointwise [up]; simp only [e]

/-- Column `k` of `x` holds, from each row on, the sums of `n` entries of `f`. -/
def Sums (n : ℕ) (x : S656x128.Idx → EReal) (k : Fin 128) (f : ℕ → EReal) : Prop := ∀ (a : ℕ) (h : a < 656), a + n ≤ 656 → x (ix2 ⟨a, h⟩ k) = ∑ j ∈ Finset.range n, f (a + j)

/-- Adding the column `n` rows up doubles the number of entries summed. -/
theorem Sums.twice {n : ℕ} {x : S656x128.Idx → EReal} {k : Fin 128} {f : ℕ → EReal} (hx : Sums n x k f) {s : BitVec 32} (hs : Moves s n) (hn : 0 < n) : Sums (n + n) (up s x) k f := fun a h ha => by
  rw [hs x ⟨a, h⟩ k (by show a + n < 656; omega), hx a h (by omega), Finset.sum_range_add]
  refine congrArg (_ + ·) ((hx (a + n) (by omega) (by omega)).trans (Finset.sum_congr rfl fun j _ => congrArg f (by omega)))

/-- The word of a row's place, behind the 48 leading rows. -/
theorem place (t : grid0.Coords) (r : Fin 656) (z : Fin 1) : k0_pay4 t (ix2 r z) = BitVec.ofNat 32 ((t 0).val * 640 + r.val) - 48#32 := by
  pointwise [k0_pay4]; show IntOp.subi (IntOp.addi (IntOp.muli (BitVec.ofNat 32 (t 0).val) (BitVec.ofNat 32 640)) (BitVec.ofNat 32 r.val)) 48#32 = _; rw [WordCmp.muli_ofNat, WordCmp.addi_ofNat]; rfl

/-- The rows of a group of columns over their counts. -/
def over (w : ℕ) (o : ℕ) (ho : o + 128 ≤ 512) (t : grid0.Coords) (d : S656x512.Idx → EReal) : S656x128.Idx → EReal := fun j =>
  Ideal.div (d (ix2 (j 0) ⟨o + (j 1).val, by have h : (j 1).val < 128 := (j 1).isLt; omega⟩)) (cnt w ((t 0).val * 640 + (j 0).val))

theorem group0 (t : grid0.Coords) (d : S656x512.Idx → EReal) (r : Fin 640) (k : Fin 128) :
    k0_pay5 (F := Ideal) t d (ix2 r k) = up 655#32 (over 2 0 (by omega) t d) (ix2 ⟨r.val, by omega⟩ k) - d (ix2 ⟨r.val, by omega⟩ ⟨0 + k.val, by omega⟩) := by
  have e : (divf (extractStridedSlice S656x128 ![0, 0] (d : FVec Ideal S656x512 .f32) slices_S656x512_o0_0_S656x128) (broadcastTo S656x128 (sitofp .f32 (minsi (broadcast S656x1 2#32) (maxsi (broadcast S656x1 1#32) (addi (k0_pay4 t) (broadcast S656x1 1#32))))) broadcasts_S656x1_S656x128) : FVec Ideal S656x128 .f32) = over 2 0 (by omega) t d := by
    funext j
    obtain ⟨a, b, rfl⟩ : ∃ (a : Fin 656) (b : Fin 128), j = ix2 a b := ⟨j 0, j 1, (ix2_eta j).symm⟩; pointwise [k0_pay9, k0_pay6, over]; rw [place]; rfl
  rw [← e]
  have e2 : ∀ x : S656x128.Idx → EReal, (truncf .bf16 (subf (extractStridedSlice S640x128 ![0, 0] x slices_S656x128_o0_0_S640x128) (extractStridedSlice S640x128 ![0, 0] d slices_S656x512_o0_0_S640x128)) bitsLt_bf16_f32 : FVec Ideal S640x128 .bf16) (ix2 r k)
      = x (ix2 ⟨r.val, by omega⟩ k) - d (ix2 ⟨r.val, by omega⟩ ⟨0 + k.val, by omega⟩) := fun x => by
    pointwise
  exact e2 _

theorem group1 (t : grid0.Coords) (d : S656x512.Idx → EReal) (r : Fin 640) (k : Fin 128) :
    k0_pay7 (F := Ideal) (k0_pay4 t) d (k0_pay6 d) (ix2 r k) = up 654#32 (up 655#32 (over 4 128 (by omega) t d)) (ix2 ⟨r.val, by omega⟩ k) - d (ix2 ⟨r.val, by omega⟩ ⟨128 + k.val, by omega⟩) := by
  have e : (divf (k0_pay6 (F := Ideal) d) (broadcastTo S656x128 (sitofp .f32 (minsi (broadcast S656x1 4#32) (maxsi (broadcast S656x1 1#32) (addi (k0_pay4 t) (broadcast S656x1 1#32))))) broadcasts_S656x1_S656x128) : FVec Ideal S656x128 .f32) = over 4 128 (by omega) t d := by
    funext j
    obtain ⟨a, b, rfl⟩ : ∃ (a : Fin 656) (b : Fin 128), j = ix2 a b := ⟨j 0, j 1, (ix2_eta j).symm⟩; pointwise [k0_pay9, k0_pay6, over]; rw [place]; rfl
  rw [← e]
  have e2 : ∀ x : S656x128.Idx → EReal, (truncf .bf16 (subf (extractStridedSlice S640x128 ![0, 0] x slices_S656x128_o0_0_S640x128) (extractStridedSlice S640x128 ![0, 128] d slices_S656x512_o0_128_S640x128)) bitsLt_bf16_f32 : FVec Ideal S640x128 .bf16) (ix2 r k)
      = x (ix2 ⟨r.val, by omega⟩ k) - d (ix2 ⟨r.val, by omega⟩ ⟨128 + k.val, by omega⟩) := fun x => by
    pointwise
  exact e2 _

theorem group2 (t : grid0.Coords) (d : S656x512.Idx → EReal) (r : Fin 640) (k : Fin 128) :
    k0_pay8 (F := Ideal) (k0_pay4 t) d (ix2 r k) = up 652#32 (up 654#32 (up 655#32 (over 8 256 (by omega) t d))) (ix2 ⟨r.val, by omega⟩ k) - d (ix2 ⟨r.val, by omega⟩ ⟨256 + k.val, by omega⟩) := by
  have e : (divf (extractStridedSlice S656x128 ![0, 256] (d : FVec Ideal S656x512 .f32) slices_S656x512_o0_256_S656x128) (broadcastTo S656x128 (sitofp .f32 (minsi (broadcast S656x1 8#32) (maxsi (broadcast S656x1 1#32) (addi (k0_pay4 t) (broadcast S656x1 1#32))))) broadcasts_S656x1_S656x128) : FVec Ideal S656x128 .f32) = over 8 256 (by omega) t d := by
    funext j
    obtain ⟨a, b, rfl⟩ : ∃ (a : Fin 656) (b : Fin 128), j = ix2 a b := ⟨j 0, j 1, (ix2_eta j).symm⟩; pointwise [k0_pay9, k0_pay6, over]; rw [place]; rfl
  rw [← e]
  have e2 : ∀ x : S656x128.Idx → EReal, (truncf .bf16 (subf (extractStridedSlice S640x128 ![0, 0] x slices_S656x128_o0_0_S640x128) (extractStridedSlice S640x128 ![0, 256] d slices_S656x512_o0_256_S640x128)) bitsLt_bf16_f32 : FVec Ideal S640x128 .bf16) (ix2 r k)
      = x (ix2 ⟨r.val, by omega⟩ k) - d (ix2 ⟨r.val, by omega⟩ ⟨256 + k.val, by omega⟩) := fun x => by
    pointwise
  exact e2 _

theorem group3 (t : grid0.Coords) (d : S656x512.Idx → EReal) (r : Fin 640) (k : Fin 128) :
    k0_pay1 (F := Ideal) d (k0_pay9 d) (k0_pay10 (k0_pay4 t)) (ix2 r k) = up 648#32 (up 652#32 (up 654#32 (up 655#32 (over 16 384 (by omega) t d)))) (ix2 ⟨r.val, by omega⟩ k) - d (ix2 ⟨r.val, by omega⟩ ⟨384 + k.val, by omega⟩) := by
  have e : (divf (k0_pay9 (F := Ideal) d) (broadcastTo S656x128 (sitofp .f32 (minsi (broadcast S656x1 16#32) (maxsi (broadcast S656x1 1#32) (addi (k0_pay4 t) (broadcast S656x1 1#32))))) broadcasts_S656x1_S656x128) : FVec Ideal S656x128 .f32) = over 16 384 (by omega) t d := by
    funext j
    obtain ⟨a, b, rfl⟩ : ∃ (a : Fin 656) (b : Fin 128), j = ix2 a b := ⟨j 0, j 1, (ix2_eta j).symm⟩; pointwise [k0_pay9, k0_pay6, over]; rw [place]; rfl
  rw [← e]
  have e2 : ∀ x : S656x128.Idx → EReal, (truncf .bf16 (subf (extractStridedSlice S640x128 ![0, 0] x slices_S656x128_o0_0_S640x128) (extractStridedSlice S640x128 ![0, 384] d slices_S656x512_o0_384_S640x128)) bitsLt_bf16_f32 : FVec Ideal S640x128 .bf16) (ix2 r k)
      = x (ix2 ⟨r.val, by omega⟩ k) - d (ix2 ⟨r.val, by omega⟩ ⟨384 + k.val, by omega⟩) := fun x => by
    pointwise
  exact e2 _

/-- Column `k` of the cotangent. -/
def dcol (c : Dev nD) (k : Fin 512) : Fin 8320 → EReal := fun i => m (c.tc.loc main_arg0) (ix2 i k)

theorem coord0 (t : Fin cfg0.N) : (grid0.coords t 0).val = t.val := (by decide +kernel : ∀ t : Fin grid0.N, (grid0.coords t 0).val = t.val) t

/-- The rows of the cotangent a point works on. -/
def drows : S656x512.Idx → EReal := fun j =>
  lag 0 8320 (dcol m c (j 1)) (t.val * 640 + (j 0).val)

/-- What the buffer holds: the block of the point, then the sixteen rows behind it. -/
theorem dbuf : (View.whole cc0_scratch0).readCov [(⟨Rect.unit ![640, 0] ![16, 512] inb_S656x512_S16x512_640_0, k0_pay3 (grid0.coords t) (iblk m c 1 t)⟩ : View.Piece (Elt Ideal) S656x512 .f32),
        ⟨Rect.unit ![0, 0] ![640, 512] inb_S656x512_S640x512_0_0, k0_pay2 (iblk m c 0 t)⟩] (Rect.unit ![0, 0] ![656, 512] inb_S656x512_S656x512_0_0).toLoadRect = drows m c t := by
  have ht : t.val < 13 := t.isLt
  refine readCov_rows_two (Val := Elt Ideal) (e := .f32) (m := 656) (n := 512) (k1 := 16) (o1 := 640) (k2 := 640) (o2 := 0)
    (View.whole cc0_scratch0) _ _ _ _ _
    (fun (a : Fin 656) q => lag 0 8320 (dcol m c q) (t.val * 640 + a.val)) (by omega) ?_ ?_
  · intro i q a ha; by_cases h : t.val = 12
    · rw [lag_of_out _ (by omega)]; refine Eq.trans (b := Scalar.select (IntOp.cmpi .slt (BitVec.ofNat 32 (grid0.coords t 0).val) 12#32) (iblk m c 1 t (ix2 i q)) (0 : EReal)) ?_ ?_
      · pointwise [k0_pay3]; rfl
      · rw [coord0, h]; rfl
    · rw [lag_of_eq _ (⟨t.val * 640 + 640 + i.val, by omega⟩ : Fin 8320) (by show _ = 0 + (t.val * 640 + 640 + i.val); omega)]
      refine Eq.trans (b := Scalar.select (IntOp.cmpi .slt (BitVec.ofNat 32 (grid0.coords t 0).val) 12#32) (iblk m c 1 t (ix2 i q)) (0 : EReal)) ?_ ?_
      · pointwise [k0_pay3]; rfl
      · rw [coord0]; have hp : t.val < 12 := by omega
        simp (disch := word_cmp_side) only [hlo_ix]; rw [if_pos hp]; unfold dcol
        blk_ext [iblk, V, idx t]
  · intro i q a ha; rw [lag_of_eq _ (⟨t.val * 640 + i.val, by omega⟩ : Fin 8320) (by show _ = 0 + (t.val * 640 + i.val); omega)]; unfold dcol; refine Eq.trans (b := iblk m c 0 t (ix2 i q)) ?_ ?_
    · pointwise [k0_pay2]
    · blk_ext [iblk, V, idx t]

/-- Over their counts, the rows a point works on are the rows of the whole array over theirs. -/
theorem sums1 (w : ℕ) (hw : 0 < w ∧ w < 17) (o : ℕ) (ho : o + 128 ≤ 512) (k : Fin 128) (q : Fin 512) (hq : q.val = o + k.val) :
    Sums 1 (over w o ho (grid0.coords t) (drows m c t)) k (fun a => lag 0 8320 (part (dcol m c q) w) (t.val * 640 + a)) := fun a h _ => by
  rw [Finset.sum_range_one]; refine Eq.trans ?_ (div_cnt (dcol m c q) w hw (t.val * 640 + a)); unfold over; rw [coord0]; have e : (⟨o + k.val, by omega⟩ : Fin 512) = q := Fin.ext hq.symm
  show Ideal.div (lag 0 8320 (dcol m c ⟨o + k.val, _⟩) (t.val * 640 + a)) _ = _; rw [e]; rfl

/-- The gradient of the windows: the sum, over the windows a row lies in, of their cotangents over their counts, less the row's own cotangent. -/
def back (c : Dev nD) (r : ℕ) (q : Fin 512) : EReal :=
  (∑ j ∈ Finset.range (size q.val), lag 0 8320 (part (dcol m c q) (size q.val)) (r + j))
    - lag 0 8320 (dcol m c q) r

theorem close (w : ℕ) (x : S656x128.Idx → EReal) (a : Fin 640) (q : Fin 512) (k : Fin 128) (o : ℕ) (hq : q.val = o + k.val) (hs : size q.val = w) (h16 : w < 17)
    (hx : Sums w x k (fun a => lag 0 8320 (part (dcol m c q) w) (t.val * 640 + a))) :
    x (ix2 ⟨a.val, by omega⟩ k) - drows m c t (ix2 ⟨a.val, by omega⟩ ⟨o + k.val, by omega⟩) = back m c (t.val * 640 + a.val) q := by
  have e : (⟨o + k.val, by omega⟩ : Fin 512) = q := Fin.ext hq.symm; rw [e, hx a.val (by omega) (by omega)]; unfold back; rw [hs]
  refine congrArg₂ (fun a b : EReal => a - b) (Finset.sum_congr rfl fun j _ => congrArg _ (by omega)) rfl

theorem final2 (c : Dev nD) : (dats m 0 c).arrAt 2 (cfgs 0).N = fun j => back m c (j 0).val (j 1) := by
  refine (dats m 0 c).arrAt_eq_of_covers 2 _ (by decide +kernel) fun t hf y => ?_; have ht : t.val < 13 := t.isLt; blk_simp; rw [after0_2]; unfold outsAt0; frame_out; simp only [dbuf m c t]
  obtain ⟨a, q, rfl⟩ : ∃ (a : Fin 640) (q : Fin 512), y = ix2 a q := ⟨y 0, y 1, (ix2_eta y).symm⟩; refine Eq.trans (b := back m c (t.val * 640 + a.val) q) ?_ (congr (congrArg (back m c) ?_) ?_)
  · refine canon_cols_cons _ _ _ _ a q (fun k hk => (group3 _ _ a k).trans (close m c t 16 _ a q k 384 hk ?_ (by omega) ?_)) fun h3 => ?_
    · unfold size; split_ifs <;> omega
    · exact (((sums1 m c t 16 (by omega) 384 (by omega) k q hk).twice up1 (by omega)).twice up2 (by omega)).twice up4 (by omega) |>.twice up8 (by omega)
    refine canon_cols_cons _ _ _ _ a q (fun k hk => (group2 _ _ a k).trans (close m c t 8 _ a q k 256 hk ?_ (by omega) ?_)) fun h2 => ?_
    · unfold size; split_ifs <;> omega
    · exact (((sums1 m c t 8 (by omega) 256 (by omega) k q hk).twice up1 (by omega)).twice up2 (by omega)).twice up4 (by omega)
    refine canon_cols_cons _ _ _ _ a q (fun k hk => (group1 _ _ a k).trans (close m c t 4 _ a q k 128 hk ?_ (by omega) ?_)) fun h1 => ?_
    · unfold size; split_ifs <;> omega
    · exact ((sums1 m c t 4 (by omega) 128 (by omega) k q hk).twice up1 (by omega)).twice up2 (by omega)
    refine canon_cols_cons _ _ _ _ a q (fun k hk => (group0 _ _ a k).trans (close m c t 2 _ a q k 0 hk ?_ (by omega) ?_)) fun h0 => ?_
    · unfold size; split_ifs <;> omega
    · exact (sums1 m c t 2 (by omega) 0 (by omega) k q hk).twice up1 (by omega)
    have := q.isLt; omega
  · blk_simp [idx t]
  · refine Fin.ext ?_; blk_simp [idx t]

end Cert.PoolIdeal.Prod

namespace Cert.PoolRefIdeal.Prod

open Gen Read Step

variable (x0 : S8320x512.Idx → EReal)

theorem part3 (k : Fin 128) : (fun i : Fin 8320 => val_main_v130 (F := Ideal) x0 (ix2 i k)) = part (fun i => x0 (ix2 i ⟨384 + k.val, by omega⟩)) 16 := by
  funext r
  pointwise [val_main_v130, val_main_v129, val_main_v127, val_main_v126, val_main_v119, val_main_v109, val_main_v108, val_main_v107, val_main_call3_v4, val_main_call3_v3, val_main_call3_v2, val_main_call3_v1, val_main_call3_v0, val_main_c_19, val_main_c_18, val_main_v106, val_main_v105, val_main_c_17, val_main_v4, val_main_v3, val_main_c, val_main_v2, part]
  rfl

theorem chain3 (k : Fin 128) (r : Fin 8320) : val_main_v161 (F := Ideal) x0 (ix2 ⟨15 + r.val, by omega⟩ k)
      = ∑ j ∈ Finset.range 16, lag 0 8320 (part (fun i => x0 (ix2 i ⟨384 + k.val, by omega⟩)) 16) (r.val + j) := by
  rw [← part3 x0 k]
  have p : ∀ (lo hi : ℕ) (h : (⟨2, ![8320, 128]⟩ : Shape).Pads ![lo, 0] ![hi, 0] ![0, 0] (⟨2, ![8335, 128]⟩ : Shape)) (a : Fin 8335), a.val = 15 + r.val → lo < 16 →
      pad (⟨2, ![8335, 128]⟩ : Shape) ![lo, 0] ![hi, 0] ![0, 0] (val_main_v130 (F := Ideal) x0) (val_main_cst_20 (F := Ideal)) h h_S_ (ix2 a k)
        = lag 0 8320 (fun i : Fin 8320 => val_main_v130 (F := Ideal) x0 (ix2 i k)) (r.val + (15 - lo)) := fun lo hi h a ha hl =>
    (pad_rows _ _ h h_S_ (by pointwise [val_main_cst_20]) a k).trans
      ((congrArg (fun n => lag n 8320 _ a.val) (Nat.zero_add lo).symm).trans (lag_shift 0 8320 lo _ _ _ (by omega)))
  rw [sum_down16]
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (p 0 _ _ _ rfl (by omega)) (p 1 _ _ _ rfl (by omega))) (p 2 _ _ _ rfl (by omega))) (p 3 _ _ _ rfl (by omega))) (p 4 _ _ _ rfl (by omega))) (p 5 _ _ _ rfl (by omega))) (p 6 _ _ _ rfl (by omega))) (p 7 _ _ _ rfl (by omega))) (p 8 _ _ _ rfl (by omega))) (p 9 _ _ _ rfl (by omega))) (p 10 _ _ _ rfl (by omega))) (p 11 _ _ _ rfl (by omega))) (p 12 _ _ _ rfl (by omega))) (p 13 _ _ _ rfl (by omega))) (p 14 _ _ _ rfl (by omega))) (p 15 _ _ _ rfl (by omega))

theorem own3 (r : Fin 8320) (z : Fin 1) (k : Fin 128) :
    val_main_v165 (F := Ideal) x0 (ix3 r z k) = (∑ j ∈ Finset.range 16, lag 0 8320 (part (fun i => x0 (ix2 i ⟨384 + k.val, by omega⟩)) 16) (r.val + j)) - x0 (ix2 r ⟨384 + k.val, by omega⟩) := by
  rw [← chain3, sub_eq_add_neg, add_comm]; pointwise [val_main_v165, val_main_v164, val_main_v128, val_main_v127, val_main_v126, val_main_v119, val_main_v163]

theorem set3 (r : Fin 8320) (g : Fin 4) (k : Fin 128) : val_main_v166 (F := Ideal) x0 (ix3 r g k) = if g.val = 3 then val_main_v165 (F := Ideal) x0 (ix3 r 0 k) else 0 :=
  pad_group _ _ _ h_S_ (by pointwise [val_main_cst_36]) r g k

theorem part2 (k : Fin 128) : (fun i : Fin 8320 => val_main_v169 (F := Ideal) x0 (ix2 i k)) = part (fun i => x0 (ix2 i ⟨256 + k.val, by omega⟩)) 8 := by
  funext r
  pointwise [val_main_v169, val_main_v168, val_main_v125, val_main_v124, val_main_v119, val_main_v65, val_main_v64, val_main_v63, val_main_call2_v4, val_main_call2_v3, val_main_call2_v2, val_main_call2_v1, val_main_call2_v0, val_main_c_14, val_main_c_13, val_main_v62, val_main_v61, val_main_c_12, val_main_v4, val_main_v3, val_main_c, val_main_v2, part]
  rfl

theorem chain2 (k : Fin 128) (r : Fin 8320) : val_main_v184 (F := Ideal) x0 (ix2 ⟨7 + r.val, by omega⟩ k)
      = ∑ j ∈ Finset.range 8, lag 0 8320 (part (fun i => x0 (ix2 i ⟨256 + k.val, by omega⟩)) 8) (r.val + j) := by
  rw [← part2 x0 k]
  have p : ∀ (lo hi : ℕ) (h : (⟨2, ![8320, 128]⟩ : Shape).Pads ![lo, 0] ![hi, 0] ![0, 0] (⟨2, ![8327, 128]⟩ : Shape)) (a : Fin 8327), a.val = 7 + r.val → lo < 8 →
      pad (⟨2, ![8327, 128]⟩ : Shape) ![lo, 0] ![hi, 0] ![0, 0] (val_main_v169 (F := Ideal) x0) (val_main_cst_37 (F := Ideal)) h h_S_ (ix2 a k)
        = lag 0 8320 (fun i : Fin 8320 => val_main_v169 (F := Ideal) x0 (ix2 i k)) (r.val + (7 - lo)) := fun lo hi h a ha hl =>
    (pad_rows _ _ h h_S_ (by pointwise [val_main_cst_37]) a k).trans
      ((congrArg (fun n => lag n 8320 _ a.val) (Nat.zero_add lo).symm).trans (lag_shift 0 8320 lo _ _ _ (by omega)))
  rw [sum_down8]
  exact congrArg₂ (· + ·) (congrArg₂ (· + ·) (congrArg₂ (· + ·) (congrArg₂ (· + ·) (congrArg₂ (· + ·) (congrArg₂ (· + ·) (congrArg₂ (· + ·) (p 0 _ _ _ rfl (by omega)) (p 1 _ _ _ rfl (by omega))) (p 2 _ _ _ rfl (by omega))) (p 3 _ _ _ rfl (by omega))) (p 4 _ _ _ rfl (by omega))) (p 5 _ _ _ rfl (by omega))) (p 6 _ _ _ rfl (by omega))) (p 7 _ _ _ rfl (by omega))

theorem own2 (r : Fin 8320) (z : Fin 1) (k : Fin 128) :
    val_main_v188 (F := Ideal) x0 (ix3 r z k) = (∑ j ∈ Finset.range 8, lag 0 8320 (part (fun i => x0 (ix2 i ⟨256 + k.val, by omega⟩)) 8) (r.val + j)) - x0 (ix2 r ⟨256 + k.val, by omega⟩) := by
  rw [← chain2, sub_eq_add_neg, add_comm]; pointwise [val_main_v188, val_main_v187, val_main_v167, val_main_v125, val_main_v124, val_main_v119, val_main_v186]

theorem set2 (r : Fin 8320) (g : Fin 4) (k : Fin 128) : val_main_v189 (F := Ideal) x0 (ix3 r g k) = if g.val = 2 then val_main_v188 (F := Ideal) x0 (ix3 r 0 k) else 0 :=
  pad_group _ _ _ h_S_ (by pointwise [val_main_cst_45]) r g k

theorem part1 (k : Fin 128) : (fun i : Fin 8320 => val_main_v193 (F := Ideal) x0 (ix2 i k)) = part (fun i => x0 (ix2 i ⟨128 + k.val, by omega⟩)) 4 := by
  funext r
  pointwise [val_main_v193, val_main_v192, val_main_v123, val_main_v122, val_main_v119, val_main_v37, val_main_v36, val_main_v35, val_main_call1_v4, val_main_call1_v3, val_main_call1_v2, val_main_call1_v1, val_main_call1_v0, val_main_c_9, val_main_c_8, val_main_v34, val_main_v33, val_main_c_7, val_main_v4, val_main_v3, val_main_c, val_main_v2, part]
  rfl

theorem chain1 (k : Fin 128) (r : Fin 8320) : val_main_v200 (F := Ideal) x0 (ix2 ⟨3 + r.val, by omega⟩ k)
      = ∑ j ∈ Finset.range 4, lag 0 8320 (part (fun i => x0 (ix2 i ⟨128 + k.val, by omega⟩)) 4) (r.val + j) := by
  rw [← part1 x0 k]
  have p : ∀ (lo hi : ℕ) (h : (⟨2, ![8320, 128]⟩ : Shape).Pads ![lo, 0] ![hi, 0] ![0, 0] (⟨2, ![8323, 128]⟩ : Shape)) (a : Fin 8323), a.val = 3 + r.val → lo < 4 →
      pad (⟨2, ![8323, 128]⟩ : Shape) ![lo, 0] ![hi, 0] ![0, 0] (val_main_v193 (F := Ideal) x0) (val_main_cst_46 (F := Ideal)) h h_S_ (ix2 a k)
        = lag 0 8320 (fun i : Fin 8320 => val_main_v193 (F := Ideal) x0 (ix2 i k)) (r.val + (3 - lo)) := fun lo hi h a ha hl =>
    (pad_rows _ _ h h_S_ (by pointwise [val_main_cst_46]) a k).trans
      ((congrArg (fun n => lag n 8320 _ a.val) (Nat.zero_add lo).symm).trans (lag_shift 0 8320 lo _ _ _ (by omega)))
  rw [sum_down4]; exact congrArg₂ (· + ·) (congrArg₂ (· + ·) (congrArg₂ (· + ·) (p 0 _ _ _ rfl (by omega)) (p 1 _ _ _ rfl (by omega))) (p 2 _ _ _ rfl (by omega))) (p 3 _ _ _ rfl (by omega))

theorem own1 (r : Fin 8320) (z : Fin 1) (k : Fin 128) :
    val_main_v204 (F := Ideal) x0 (ix3 r z k) = (∑ j ∈ Finset.range 4, lag 0 8320 (part (fun i => x0 (ix2 i ⟨128 + k.val, by omega⟩)) 4) (r.val + j)) - x0 (ix2 r ⟨128 + k.val, by omega⟩) := by
  rw [← chain1, sub_eq_add_neg, add_comm]; pointwise [val_main_v204, val_main_v203, val_main_v191, val_main_v123, val_main_v122, val_main_v119, val_main_v202]

theorem set1 (r : Fin 8320) (g : Fin 4) (k : Fin 128) : val_main_v205 (F := Ideal) x0 (ix3 r g k) = if g.val = 1 then val_main_v204 (F := Ideal) x0 (ix3 r 0 k) else 0 :=
  pad_group _ _ _ h_S_ (by pointwise [val_main_cst_50]) r g k

theorem part0 (k : Fin 128) : (fun i : Fin 8320 => val_main_v209 (F := Ideal) x0 (ix2 i k)) = part (fun i => x0 (ix2 i ⟨0 + k.val, by omega⟩)) 2 := by
  funext r
  pointwise [val_main_v209, val_main_v208, val_main_v121, val_main_v120, val_main_v119, val_main_v17, val_main_v16, val_main_v15, val_main_call0_v4, val_main_call0_v3, val_main_call0_v2, val_main_call0_v1, val_main_call0_v0, val_main_c_4, val_main_c_3, val_main_v14, val_main_v13, val_main_c_2, val_main_v4, val_main_v3, val_main_c, val_main_v2, part]
  rfl

theorem chain0 (k : Fin 128) (r : Fin 8320) : val_main_v212 (F := Ideal) x0 (ix2 ⟨1 + r.val, by omega⟩ k)
      = ∑ j ∈ Finset.range 2, lag 0 8320 (part (fun i => x0 (ix2 i ⟨0 + k.val, by omega⟩)) 2) (r.val + j) := by
  rw [← part0 x0 k]
  have p : ∀ (lo hi : ℕ) (h : (⟨2, ![8320, 128]⟩ : Shape).Pads ![lo, 0] ![hi, 0] ![0, 0] (⟨2, ![8321, 128]⟩ : Shape)) (a : Fin 8321), a.val = 1 + r.val → lo < 2 →
      pad (⟨2, ![8321, 128]⟩ : Shape) ![lo, 0] ![hi, 0] ![0, 0] (val_main_v209 (F := Ideal) x0) (val_main_cst_51 (F := Ideal)) h h_S_ (ix2 a k)
        = lag 0 8320 (fun i : Fin 8320 => val_main_v209 (F := Ideal) x0 (ix2 i k)) (r.val + (1 - lo)) := fun lo hi h a ha hl =>
    (pad_rows _ _ h h_S_ (by pointwise [val_main_cst_51]) a k).trans
      ((congrArg (fun n => lag n 8320 _ a.val) (Nat.zero_add lo).symm).trans (lag_shift 0 8320 lo _ _ _ (by omega)))
  rw [sum_down2]; exact congrArg₂ (· + ·) (p 0 _ _ _ rfl (by omega)) (p 1 _ _ _ rfl (by omega))

theorem own0 (r : Fin 8320) (z : Fin 1) (k : Fin 128) : val_main_v216 (F := Ideal) x0 (ix3 r z k) = (∑ j ∈ Finset.range 2, lag 0 8320 (part (fun i => x0 (ix2 i ⟨0 + k.val, by omega⟩)) 2) (r.val + j))
      - x0 (ix2 r ⟨0 + k.val, by omega⟩) := by
  rw [← chain0, sub_eq_add_neg, add_comm]; pointwise [val_main_v216, val_main_v215, val_main_v207, val_main_v121, val_main_v120, val_main_v119, val_main_v214]

theorem set0 (r : Fin 8320) (g : Fin 4) (k : Fin 128) : val_main_v217 (F := Ideal) x0 (ix3 r g k) = if g.val = 0 then val_main_v216 (F := Ideal) x0 (ix3 r 0 k) else 0 :=
  pad_group _ _ _ h_S_ (by pointwise [val_main_cst_53]) r g k

/-- The reference's gradient, entry by entry. -/
theorem out (r : Fin 8320) (q : Fin 512) : val_main_v220 (F := Ideal) x0 (ix2 r q) = (∑ j ∈ Finset.range (size q.val), lag 0 8320 (part (fun i => x0 (ix2 i q)) (size q.val)) (r.val + j))
        - x0 (ix2 r q) := by
  pointwise [val_main_v220, val_main_v219, val_main_v218, val_main_v206, val_main_v190]; rw [set3, set2, set1, set0]; have hd := Nat.div_add_mod q.val 128; have hq := q.isLt
  have fin : ∀ (o w : ℕ) (h : o + q.val % 128 < 512), o + q.val % 128 = q.val → size q.val = w →
      (∑ j ∈ Finset.range w, lag 0 8320 (part (fun i => x0 (ix2 i ⟨o + q.val % 128, h⟩)) w) (r.val + j)) - x0 (ix2 r ⟨o + q.val % 128, h⟩)
        = (∑ j ∈ Finset.range (size q.val), lag 0 8320 (part (fun i => x0 (ix2 i q)) (size q.val)) (r.val + j)) - x0 (ix2 r q) := fun o w h e hs => by
    have e' : (⟨o + q.val % 128, h⟩ : Fin 512) = q := Fin.ext e; rw [e', hs]
  rcases (by omega : q.val / 128 = 0 ∨ q.val / 128 = 1 ∨ q.val / 128 = 2 ∨ q.val / 128 = 3) with h | h | h | h
  · simp only [h, if_true, if_false, zero_add, add_zero, OfNat.zero_ne_ofNat, one_ne_zero, zero_ne_one, OfNat.ofNat_ne_zero]
    exact (own0 x0 r 0 _).trans (fin 0 2 (by omega) (by omega) (by unfold size; split_ifs <;> omega))
  · simp only [h, if_true, if_false, zero_add, add_zero, OfNat.one_ne_ofNat, one_ne_zero]; exact (own1 x0 r 0 _).trans (fin 128 4 (by omega) (by omega) (by unfold size; split_ifs <;> omega))
  · simp only [h, if_true, if_false, zero_add, add_zero, OfNat.ofNat_ne_one, OfNat.ofNat_ne_zero, Nat.reduceEqDiff]
    exact (own2 x0 r 0 _).trans (fin 256 8 (by omega) (by omega) (by unfold size; split_ifs <;> omega))
  · simp only [h, if_true, if_false, zero_add, add_zero, OfNat.ofNat_ne_one, OfNat.ofNat_ne_zero, Nat.reduceEqDiff]
    exact (own3 x0 r 0 _).trans (fin 384 16 (by omega) (by omega) (by unfold size; split_ifs <;> omega))

/-- The gradient of the pool windows is the reference's. -/
theorem _root_.Cert.Step.pool : algebraic_PoolIdeal_PoolRefIdeal := by
  pair_intro
  · run_from PoolIdeal.Gen.run_main m g
  · refine (θ_run defs _ _).mono (fun _ h c => ?_) (Value.run (F := Ideal) m' g'); obtain ⟨h1, rest⟩ := h c; refine ⟨h1.trans ?_, rest⟩; rw [Read.val_main_v220_eq, PoolIdeal.Prod.final2]
    funext j
    obtain ⟨a, k, rfl⟩ : ∃ (a : Fin 8320) (k : Fin 512), j = ix2 a k := ⟨j 0, j 1, (ix2_eta j).symm⟩; refine (out _ a k).trans ?_; simp only [hagree c]; unfold PoolIdeal.Prod.back
    exact congrArg₂ (fun a b : EReal => a - b) rfl (lag_of_eq (s := 0) (PoolIdeal.Prod.dcol m c k) a (Nat.zero_add _).symm).symm
-- ==== Proof.FfnMid.lean ====
module

public import proofs.«01_k».proof.Proof.Kit
public import proofs.«01_k».proof.Proof.Gen.FfnMidIdeal.Value
public import proofs.«01_k».proof.Proof.Gen.FfnMidRefIdeal.Read

@[expose] public section
set_option maxRecDepth 16384
noncomputable section
open Idealize ShloMosaic TcCoe SL.Sem

namespace Cert.Step

/-- The gradient of `silu a * b` with respect to `a`, of cotangent `d`. -/
def gateGrad (a b d : EReal) : EReal := d * b * Ideal.logistic a + a * (d * b) * (Ideal.logistic a * (1 - Ideal.logistic a))

/-- The gradient of `silu a * b` with respect to `b`, of cotangent `d`. -/
def valGrad (a d : EReal) : EReal := a * Ideal.logistic a * d

/-- The gradient of the input of a convolution with three taps, from a column of the cotangent. -/
def dx3 (d : Fin 8320 → EReal) (w : Fin 3 → EReal) (r : ℕ) : EReal := times (lag 0 8320 d (r + 2)) (w 0) + times (lag 0 8320 d (r + 1)) (w 1) + times (lag 0 8320 d r) (w 2)

/-- The gradient of its taps, each in its own row, the rows behind them zero. -/
def dw3 (d x : Fin 8320 → EReal) (j : ℕ) : EReal := if j < 3 then total 8320 fun r => times (d r) (lag 2 8320 x (r.val + j)) else 0

end Cert.Step

namespace Cert.FfnMidIdeal.Prod

open Gen Step

variable (m : (ℓ : Loc nD τ sig) → Buf (Elt Ideal) ℓ)

/-- The block indices at each grid point. -/
theorem idx : ∀ t : Fin cfg0.N, win0_0.index t = ![t.val % 26, t.val / 26] ∧ win0_1.index t = ![t.val % 26 * 40 - 1, t.val / 26] ∧ win0_2.index t = ![t.val % 26, t.val / 26]
    ∧ win0_3.index t = ![t.val % 26 * 40 - 1, t.val / 26] ∧ win0_4.index t = ![t.val % 26, t.val / 26] ∧ win0_5.index t = ![min ((t.val % 26 + 1) * 40) 1039, t.val / 26]
    ∧ win0_6.index t = ![t.val % 26, t.val / 26] ∧ win0_7.index t = ![min ((t.val % 26 + 1) * 40) 1039, t.val / 26] ∧ win0_8.index t = ![t.val % 26, t.val / 26]
    ∧ win0_9.index t = ![min ((t.val % 26 + 1) * 40) 1039, t.val / 26] ∧ win0_10.index t = ![0, t.val / 26] ∧ win0_11.index t = ![0, t.val / 26] ∧ win0_12.index t = ![t.val % 26, t.val / 26]
    ∧ win0_13.index t = ![t.val % 26, t.val / 26] ∧ win0_14.index t = ![0, t.val / 26] ∧ win0_15.index t = ![0, t.val / 26] :=
  (by decide +kernel : ∀ t : Fin grid0.N, _)

/-- The convolved gate input, which the host hands to the call, is the reference's. -/
theorem cg_eq (c : Dev nD) : V m c main_v21 = FfnMidRefIdeal.Read.val_main_v22 (F := Ideal)
    (m (c.tc.loc main_arg0)) (m (c.tc.loc main_arg3)) := by
  unfold_abbrev_sides
  after_results
  rfl

/-- The convolved value input, likewise. -/
theorem cv_eq (c : Dev nD) : V m c main_v43 = FfnMidRefIdeal.Read.val_main_v45 (F := Ideal)
    (m (c.tc.loc main_arg1)) (m (c.tc.loc main_arg4)) := by
  unfold_abbrev_sides
  after_results
  rfl

theorem coord1 (t : Fin cfg0.N) : (grid0.coords t 1).val = t.val % 26 := (by decide +kernel : ∀ t : Fin grid0.N, (grid0.coords t 1).val = t.val % 26) t

/-- The column of the whole arrays that column `q` of a block of point `t` is. -/
def col (t : Fin cfg0.N) (q : Fin 1408) : Fin 2816 := ⟨t.val / 26 * 1408 + q.val, by
  have h : t.val < 52 := t.isLt
  omega⟩

/-- Column `k` of the input of the gate convolution. -/
def gcol (c : Dev nD) (k : Fin 2816) : Fin 8320 → EReal := fun i => m (c.tc.loc main_arg0) (ix2 i k)

/-- Column `k` of the input of the value convolution. -/
def vcol (c : Dev nD) (k : Fin 2816) : Fin 8320 → EReal := fun i => m (c.tc.loc main_arg1) (ix2 i k)

/-- Column `k` of the cotangent of the gate convolution. -/
def dgcol (c : Dev nD) (k : Fin 2816) : Fin 8320 → EReal := fun i =>
  gateGrad (V m c main_v21 (ix2 i k)) (V m c main_v43 (ix2 i k)) (m (c.tc.loc main_arg2) (ix2 i k))

/-- Column `k` of the cotangent of the value convolution. -/
def dvcol (c : Dev nD) (k : Fin 2816) : Fin 8320 → EReal := fun i =>
  valGrad (V m c main_v21 (ix2 i k)) (m (c.tc.loc main_arg2) (ix2 i k))

/-- The taps of the gate convolution in column `k`. -/
def gtap (c : Dev nD) (k : Fin 2816) (j : Fin 3) : EReal := m (c.tc.loc main_arg3) (ix2 j k)

/-- The taps of the value convolution in column `k`. -/
def vtap (c : Dev nD) (k : Fin 2816) (j : Fin 3) : EReal := m (c.tc.loc main_arg4) (ix2 j k)

/-- The rows of a column array a point works on, from row `t % 26 * 320 - o` on. -/
def rows (o : ℕ) (t : Fin cfg0.N) (f : Fin 2816 → Fin 8320 → EReal) : S328x1408.Idx → EReal := fun j =>
  lag o 8320 (f (col t (j 1))) (t.val % 26 * 320 + (j 0).val)

/-- Eight rows before the block, then the block. -/
theorem before (t : Fin cfg0.N) (f : Fin 2816 → Fin 8320 → EReal) {sp : Space} (v : View sig .tc sp S328x1408 .f32) (main : S320x1408.Idx → EReal) (halo : S8x1408.Idx → EReal)
    (hm : ∀ (i : Fin 320) (q : Fin 1408) (h : t.val % 26 * 320 + i.val < 8320), main (ix2 i q) = f (col t q) ⟨t.val % 26 * 320 + i.val, h⟩)
    (hh : ∀ (i : Fin 8) (q : Fin 1408) (h : t.val % 26 * 320 + i.val - 8 < 8320), 0 < t.val % 26 → halo (ix2 i q) = f (col t q) ⟨t.val % 26 * 320 + i.val - 8, h⟩)
    (h0 : ∀ (i : Fin 8) (q : Fin 1408), t.val % 26 = 0 → halo (ix2 i q) = 0) : v.readCov [(⟨Rect.unit ![8, 0] ![320, 1408] inb_S328x1408_S320x1408_8_0, main⟩ : View.Piece (Elt Ideal) S328x1408 .f32),
        ⟨Rect.unit ![0, 0] ![8, 1408] inb_S328x1408_S8x1408_0_0, halo⟩] (Rect.unit ![0, 0] ![328, 1408] inb_S328x1408_S328x1408_0_0).toLoadRect = rows 8 t f := by
  have ht : t.val < 52 := t.isLt
  refine readCov_rows_two (Val := Elt Ideal) (e := .f32) (m := 328) (n := 1408) (k1 := 320) (o1 := 8) (k2 := 8) (o2 := 0)
    v _ _ _ _ _
    (fun (a : Fin 328) q => lag 8 8320 (f (col t q)) (t.val % 26 * 320 + a.val)) (by omega) ?_ ?_
  · intro i q a ha; rw [lag_of_eq _ (⟨t.val % 26 * 320 + i.val, by omega⟩ : Fin 8320) (by show _ = 8 + (t.val % 26 * 320 + i.val); omega)]; exact hm i q _
  · intro i q a ha; by_cases h : t.val % 26 = 0
    · rw [lag_of_out _ (by omega)]; exact h0 i q h
    · rw [lag_of_eq _ (⟨t.val % 26 * 320 + i.val - 8, by omega⟩ : Fin 8320) (by show _ = 8 + (t.val % 26 * 320 + i.val - 8); omega)]; exact hh i q _ (by omega)

/-- The block, then eight rows behind it. -/
theorem behind (t : Fin cfg0.N) (f : Fin 2816 → Fin 8320 → EReal) {sp : Space} (v : View sig .tc sp S328x1408 .f32) (main : S320x1408.Idx → EReal) (halo : S8x1408.Idx → EReal)
    (hm : ∀ (i : Fin 320) (q : Fin 1408) (h : t.val % 26 * 320 + i.val < 8320), main (ix2 i q) = f (col t q) ⟨t.val % 26 * 320 + i.val, h⟩)
    (hh : ∀ (i : Fin 8) (q : Fin 1408) (h : t.val % 26 * 320 + 320 + i.val < 8320), t.val % 26 < 25 → halo (ix2 i q) = f (col t q) ⟨t.val % 26 * 320 + 320 + i.val, h⟩)
    (h0 : ∀ (i : Fin 8) (q : Fin 1408), t.val % 26 = 25 → halo (ix2 i q) = 0) : v.readCov [(⟨Rect.unit ![320, 0] ![8, 1408] inb_S328x1408_S8x1408_320_0, halo⟩ : View.Piece (Elt Ideal) S328x1408 .f32),
        ⟨Rect.unit ![0, 0] ![320, 1408] inb_S328x1408_S320x1408_0_0, main⟩] (Rect.unit ![0, 0] ![328, 1408] inb_S328x1408_S328x1408_0_0).toLoadRect = rows 0 t f := by
  have ht : t.val < 52 := t.isLt
  refine readCov_rows_two (Val := Elt Ideal) (e := .f32) (m := 328) (n := 1408) (k1 := 8) (o1 := 320) (k2 := 320) (o2 := 0)
    v _ _ _ _ _
    (fun (a : Fin 328) q => lag 0 8320 (f (col t q)) (t.val % 26 * 320 + a.val)) (by omega) ?_ ?_
  · intro i q a ha; by_cases h : t.val % 26 = 25
    · rw [lag_of_out _ (by omega)]; exact h0 i q h
    · rw [lag_of_eq _ (⟨t.val % 26 * 320 + 320 + i.val, by omega⟩ : Fin 8320) (by show _ = 0 + (t.val % 26 * 320 + 320 + i.val); omega)]; exact hh i q _ (by omega)
  · intro i q a ha; rw [lag_of_eq _ (⟨t.val % 26 * 320 + i.val, by omega⟩ : Fin 8320) (by show _ = 0 + (t.val % 26 * 320 + i.val); omega)]; exact hm i q _

/-- The rows of the gate's input a point works on. -/
theorem gbuf (c : Dev nD) (t : Fin cfg0.N) : (View.whole cc0_scratch0).readCov
      [(⟨Rect.unit ![8, 0] ![320, 1408] inb_S328x1408_S320x1408_8_0, k0_pay17 (iblk m c 0 t)⟩ : View.Piece (Elt Ideal) S328x1408 .f32),
        ⟨Rect.unit ![0, 0] ![8, 1408] inb_S328x1408_S8x1408_0_0, k0_pay16 (BitVec.ofNat 32 (grid0.coords t 1).val) 0#32 (iblk m c 1 t)⟩]
      (Rect.unit ![0, 0] ![328, 1408] inb_S328x1408_S328x1408_0_0).toLoadRect = rows 8 t (gcol m c) := by
  have ht : t.val < 52 := t.isLt
  have hs : ∀ (i : Fin 8) (q : Fin 1408), k0_pay16 (F := Ideal) (BitVec.ofNat 32 (grid0.coords t 1).val) 0#32 (iblk m c 1 t) (ix2 i q)
      = Scalar.select (IntOp.cmpi .sgt (BitVec.ofNat 32 (grid0.coords t 1).val) 0#32) (iblk m c 1 t (ix2 i q)) (0 : EReal) := fun i q => by
    pointwise [k0_pay16]; rfl
  refine before t (gcol m c) _ _ _ (fun i q h => ?_) (fun i q h hp => ?_) (fun i q h => ?_)
  · refine Eq.trans (b := iblk m c 0 t (ix2 i q)) (by pointwise [k0_pay17]) ?_; unfold gcol col
    blk_ext [iblk, V, idx t]
  · rw [hs, coord1]; simp (disch := word_cmp_side) only [hlo_ix]; rw [if_pos hp]; unfold gcol col
    blk_ext [iblk, V, idx t]
  · rw [hs, coord1, h]; rfl

/-- The rows of the value's input a point works on. -/
theorem vbuf (c : Dev nD) (t : Fin cfg0.N) : (View.whole cc0_scratch1).readCov
      [(⟨Rect.unit ![8, 0] ![320, 1408] inb_S328x1408_S320x1408_8_0, k0_pay27 (iblk m c 2 t)⟩ : View.Piece (Elt Ideal) S328x1408 .f32),
        ⟨Rect.unit ![0, 0] ![8, 1408] inb_S328x1408_S8x1408_0_0, k0_pay26 (Scalar.cmpi .sgt (BitVec.ofNat 32 (grid0.coords t 1).val) 0#32) (iblk m c 3 t)⟩]
      (Rect.unit ![0, 0] ![328, 1408] inb_S328x1408_S328x1408_0_0).toLoadRect = rows 8 t (vcol m c) := by
  have ht : t.val < 52 := t.isLt
  have hs : ∀ (i : Fin 8) (q : Fin 1408), k0_pay26 (F := Ideal) (Scalar.cmpi .sgt (BitVec.ofNat 32 (grid0.coords t 1).val) 0#32) (iblk m c 3 t) (ix2 i q)
      = Scalar.select (IntOp.cmpi .sgt (BitVec.ofNat 32 (grid0.coords t 1).val) 0#32) (iblk m c 3 t (ix2 i q)) (0 : EReal) := fun i q => by
    pointwise [k0_pay26]; rfl
  refine before t (vcol m c) _ _ _ (fun i q h => ?_) (fun i q h hp => ?_) (fun i q h => ?_)
  · refine Eq.trans (b := iblk m c 2 t (ix2 i q)) (by pointwise [k0_pay27]) ?_; unfold vcol col
    blk_ext [iblk, V, idx t]
  · rw [hs, coord1]; simp (disch := word_cmp_side) only [hlo_ix]; rw [if_pos hp]; unfold vcol col
    blk_ext [iblk, V, idx t]
  · rw [hs, coord1, h]; rfl

/-- An entry of the cotangent of the gate convolution, computed from the blocks of a point. -/
theorem dgmain (c : Dev nD) (t : Fin cfg0.N) (i : Fin 320) (q : Fin 1408) (h : t.val % 26 * 320 + i.val < 8320) :
    k0_pay8 (F := Ideal) (iblk m c 4 t) (iblk m c 6 t) (iblk m c 8 t) (ix2 i q) = dgcol m c (col t q) ⟨t.val % 26 * 320 + i.val, h⟩ := by
  refine Eq.trans (b := gateGrad (iblk m c 4 t (ix2 i q)) (iblk m c 6 t (ix2 i q)) (iblk m c 8 t (ix2 i q))) ?_ ?_
  · pointwise [k0_pay8, k0_pay5, k0_pay6]
    try rfl
  · unfold dgcol col; refine congr (congrArg₂ gateGrad ?_ ?_) ?_
    · blk_ext [iblk, idx t]
    · blk_ext [iblk, idx t]
    · blk_ext [iblk, V, idx t]

/-- The same of the value convolution. -/
theorem dvmain (c : Dev nD) (t : Fin cfg0.N) (i : Fin 320) (q : Fin 1408) (h : t.val % 26 * 320 + i.val < 8320) :
    k0_pay7 (F := Ideal) (iblk m c 4 t) (iblk m c 8 t) (ix2 i q) = dvcol m c (col t q) ⟨t.val % 26 * 320 + i.val, h⟩ := by
  refine Eq.trans (b := valGrad (iblk m c 4 t (ix2 i q)) (iblk m c 8 t (ix2 i q))) ?_ ?_
  · pointwise [k0_pay7, k0_pay5, k0_pay6]
    try rfl
  · unfold dvcol col; refine congrArg₂ valGrad ?_ ?_
    · blk_ext [iblk, idx t]
    · blk_ext [iblk, V, idx t]

/-- The eight rows of the cotangent behind a block, zero behind the last block. -/
theorem next (c : Dev nD) (t : Fin cfg0.N) (i : Fin 8) (q : Fin 1408) : k0_pay10 (F := Ideal) (grid0.coords t) (iblk m c 9 t) (ix2 i q)
      = Scalar.select (IntOp.cmpi .slt (BitVec.ofNat 32 (grid0.coords t 1).val) 25#32) (iblk m c 9 t (ix2 i q)) (0 : EReal) := by
  pointwise [k0_pay10]; rfl

/-- The rows of the gate's cotangent a point works on. -/
theorem dgbuf (c : Dev nD) (t : Fin cfg0.N) : (View.whole cc0_scratch2).readCov [(⟨Rect.unit ![320, 0] ![8, 1408] inb_S328x1408_S8x1408_320_0,
          k0_pay19 (Scalar.cmpi .slt (BitVec.ofNat 32 (grid0.coords t 1).val) 25#32) (k0_pay13 (grid0.coords t) (iblk m c 5 t) (iblk m c 7 t) (iblk m c 9 t))⟩ : View.Piece (Elt Ideal) S328x1408 .f32),
        ⟨Rect.unit ![0, 0] ![320, 1408] inb_S328x1408_S320x1408_0_0, k0_pay18 (k0_pay8 (iblk m c 4 t) (iblk m c 6 t) (iblk m c 8 t))⟩]
      (Rect.unit ![0, 0] ![328, 1408] inb_S328x1408_S328x1408_0_0).toLoadRect = rows 0 t (dgcol m c) := by
  have ht : t.val < 52 := t.isLt
  have hs : ∀ (i : Fin 8) (q : Fin 1408), k0_pay19 (F := Ideal) (Scalar.cmpi .slt (BitVec.ofNat 32 (grid0.coords t 1).val) 25#32)
      (k0_pay13 (grid0.coords t) (iblk m c 5 t) (iblk m c 7 t) (iblk m c 9 t)) (ix2 i q)
      = Scalar.select (IntOp.cmpi .slt (BitVec.ofNat 32 (grid0.coords t 1).val) 25#32)
        (gateGrad (iblk m c 5 t (ix2 i q)) (iblk m c 7 t (ix2 i q))
          (k0_pay10 (F := Ideal) (grid0.coords t) (iblk m c 9 t) (ix2 i q))) (0 : EReal) := fun i q => by
    pointwise [k0_pay19, k0_pay13, k0_pay9, k0_pay11]; rfl
  refine behind t (dgcol m c) _ _ _ (fun i q h => ?_) (fun i q h hp => ?_) (fun i q h => ?_)
  · refine Eq.trans (b := k0_pay8 (F := Ideal) (iblk m c 4 t) (iblk m c 6 t) (iblk m c 8 t) (ix2 i q)) (by pointwise [k0_pay18]) ?_; exact dgmain m c t i q h
  · rw [hs, next, coord1]; simp (disch := word_cmp_side) only [hlo_ix]; rw [if_pos hp, if_pos hp]; unfold dgcol col; refine congr (congrArg₂ gateGrad ?_ ?_) ?_
    · blk_ext [iblk, idx t]
    · blk_ext [iblk, idx t]
    · blk_ext [iblk, V, idx t]
  · rw [hs, coord1, h]; rfl

/-- The rows of the value's cotangent a point works on. -/
theorem dvbuf (c : Dev nD) (t : Fin cfg0.N) : (View.whole cc0_scratch3).readCov [(⟨Rect.unit ![320, 0] ![8, 1408] inb_S328x1408_S8x1408_320_0,
          k0_pay29 (Scalar.cmpi .slt (BitVec.ofNat 32 (grid0.coords t 1).val) 25#32) (k0_pay12 (grid0.coords t) (iblk m c 5 t) (iblk m c 9 t))⟩ : View.Piece (Elt Ideal) S328x1408 .f32),
        ⟨Rect.unit ![0, 0] ![320, 1408] inb_S328x1408_S320x1408_0_0, k0_pay28 (k0_pay7 (iblk m c 4 t) (iblk m c 8 t))⟩] (Rect.unit ![0, 0] ![328, 1408] inb_S328x1408_S328x1408_0_0).toLoadRect
      = rows 0 t (dvcol m c) := by
  have ht : t.val < 52 := t.isLt
  have hs : ∀ (i : Fin 8) (q : Fin 1408), k0_pay29 (F := Ideal) (Scalar.cmpi .slt (BitVec.ofNat 32 (grid0.coords t 1).val) 25#32)
      (k0_pay12 (grid0.coords t) (iblk m c 5 t) (iblk m c 9 t)) (ix2 i q)
      = Scalar.select (IntOp.cmpi .slt (BitVec.ofNat 32 (grid0.coords t 1).val) 25#32)
        (valGrad (iblk m c 5 t (ix2 i q))
          (k0_pay10 (F := Ideal) (grid0.coords t) (iblk m c 9 t) (ix2 i q))) (0 : EReal) := fun i q => by
    pointwise [k0_pay29, k0_pay12, k0_pay9, k0_pay11]; rfl
  refine behind t (dvcol m c) _ _ _ (fun i q h => ?_) (fun i q h hp => ?_) (fun i q h => ?_)
  · refine Eq.trans (b := k0_pay7 (F := Ideal) (iblk m c 4 t) (iblk m c 8 t) (ix2 i q)) (by pointwise [k0_pay28]) ?_; exact dvmain m c t i q h
  · rw [hs, next, coord1]; simp (disch := word_cmp_side) only [hlo_ix]; rw [if_pos hp, if_pos hp]; unfold dvcol col; refine congrArg₂ valGrad ?_ ?_
    · blk_ext [iblk, idx t]
    · blk_ext [iblk, V, idx t]
  · rw [hs, coord1, h]; rfl

/-- The stored block of the gate's input gradient. -/
theorem gstored (w : S3x1408.Idx → EReal) (d : S328x1408.Idx → EReal) (y : S320x1408.Idx) : k0_pay22 (F := Ideal) w (k0_pay20 w d) (k0_pay21 d) y
      = times (d (ix2 ⟨(y 0).val + 2, by have : (y 0).val < 320 := (y 0).isLt; omega⟩ (y 1))) (w (ix2 0 (y 1)))
        + times (d (ix2 ⟨(y 0).val + 1, by have : (y 0).val < 320 := (y 0).isLt; omega⟩ (y 1))) (w (ix2 1 (y 1)))
        + times (d (ix2 ⟨(y 0).val, by have : (y 0).val < 320 := (y 0).isLt; omega⟩ (y 1))) (w (ix2 2 (y 1))) := by
  have hy : (y 0).val < 320 := (y 0).isLt; have e1 : ((y 0).val + 328 - 326) % 328 = (y 0).val + 2 := by omega
  have e2 : ((y 0).val + 328 - 327) % 328 = (y 0).val + 1 := by omega
  pointwise [k0_pay22, k0_pay20, k0_pay21]; simp only [e1, e2]; rfl

/-- The stored block of the value's input gradient. -/
theorem vstored (w : S3x1408.Idx → EReal) (d : S328x1408.Idx → EReal) (y : S320x1408.Idx) : k0_pay1 (F := Ideal) (k0_pay30 w d) y
      = times (d (ix2 ⟨(y 0).val + 2, by have : (y 0).val < 320 := (y 0).isLt; omega⟩ (y 1))) (w (ix2 0 (y 1)))
        + times (d (ix2 ⟨(y 0).val + 1, by have : (y 0).val < 320 := (y 0).isLt; omega⟩ (y 1))) (w (ix2 1 (y 1)))
        + times (d (ix2 ⟨(y 0).val, by have : (y 0).val < 320 := (y 0).isLt; omega⟩ (y 1))) (w (ix2 2 (y 1))) := by
  have hy : (y 0).val < 320 := (y 0).isLt; have e1 : ((y 0).val + 328 - 326) % 328 = (y 0).val + 2 := by omega
  have e2 : ((y 0).val + 328 - 327) % 328 = (y 0).val + 1 := by omega
  pointwise [k0_pay1, k0_pay30]; simp only [e1, e2]; rfl

/-- The stored gradient, from the rows a point works on. -/
theorem dx_rows (t : Fin cfg0.N) (f : Fin 2816 → Fin 8320 → EReal) (w : Fin 2816 → Fin 3 → EReal) (v : S3x1408.Idx → EReal)
    (hv : ∀ (j : Fin 3) (q : Fin 1408), v (ix2 j q) = w (col t q) j) (r : ℕ) (q : Fin 1408) (hr : r + 2 < 328) :
    times (rows 0 t f (ix2 ⟨r + 2, hr⟩ q)) (v (ix2 0 q)) + times (rows 0 t f (ix2 ⟨r + 1, by omega⟩ q)) (v (ix2 1 q)) + times (rows 0 t f (ix2 ⟨r, by omega⟩ q)) (v (ix2 2 q))
      = dx3 (f (col t q)) (w (col t q)) (t.val % 26 * 320 + r) := by
  rw [hv, hv, hv]; rfl

/-- The gradient of the gate's input. -/
def gdx (c : Dev nD) (r : ℕ) (k : Fin 2816) : EReal := dx3 (dgcol m c k) (gtap m c k) r

/-- The gradient of the value's input. -/
def vdx (c : Dev nD) (r : ℕ) (k : Fin 2816) : EReal := dx3 (dvcol m c k) (vtap m c k) r

/-- First result: the gradient of the gate's input. -/
theorem final12 (c : Dev nD) : (dats m 0 c).arrAt 12 (cfgs 0).N = fun j => gdx m c (j 0).val (j 1) := by
  refine (dats m 0 c).arrAt_eq_of_covers 12 _ (by decide +kernel) fun t hf y => ?_; blk_simp; rw [after0_12]; have hy : ((y : S320x1408.Idx) 0).val < 320 := (y 0).isLt
  have hw : ∀ (j : Fin 3) (q : Fin 1408), iblk m c 10 t (ix2 j q) = gtap m c (col t q) j := fun j q => by
    unfold gtap col
    blk_ext [iblk, V, idx t]
  refine Eq.trans (b := (gdx m c) (t.val % 26 * 320 + (y 0).val) (col t (y 1))) ?_
    (congr (congrArg (gdx m c) ?_) ?_)
  · refine Eq.trans ?_ (dx_rows t (dgcol m c) (gtap m c) (iblk m c 10 t) hw (y 0).val (y 1) (by omega)); by_cases h0 : t.val % 26 = 0
    · rw [outsAt0_A m c t h0]; frame_out; rw [dgbuf m c t]; exact gstored (iblk m c 10 t) (rows 0 t (dgcol m c)) y
    · rw [outsAt0_B m c t h0]; frame_out; rw [dgbuf m c t]; exact gstored (iblk m c 10 t) (rows 0 t (dgcol m c)) y
  · blk_simp [idx t]
  · refine Fin.ext ?_; unfold col; blk_simp [idx t]

/-- Second result: the gradient of the value's input. -/
theorem final13 (c : Dev nD) : (dats m 0 c).arrAt 13 (cfgs 0).N = fun j => vdx m c (j 0).val (j 1) := by
  refine (dats m 0 c).arrAt_eq_of_covers 13 _ (by decide +kernel) fun t hf y => ?_; blk_simp; rw [after0_13]; have hy : ((y : S320x1408.Idx) 0).val < 320 := (y 0).isLt
  have hw : ∀ (j : Fin 3) (q : Fin 1408), iblk m c 11 t (ix2 j q) = vtap m c (col t q) j := fun j q => by
    unfold vtap col
    blk_ext [iblk, V, idx t]
  refine Eq.trans (b := (vdx m c) (t.val % 26 * 320 + (y 0).val) (col t (y 1))) ?_
    (congr (congrArg (vdx m c) ?_) ?_)
  · refine Eq.trans ?_ (dx_rows t (dvcol m c) (vtap m c) (iblk m c 11 t) hw (y 0).val (y 1) (by omega)); by_cases h0 : t.val % 26 = 0
    · rw [outsAt0_A m c t h0]; frame_out; rw [dvbuf m c t]; exact vstored (iblk m c 11 t) (rows 0 t (dvcol m c)) y
    · rw [outsAt0_B m c t h0]; frame_out; rw [dvbuf m c t]; exact vstored (iblk m c 11 t) (rows 0 t (dvcol m c)) y
  · blk_simp [idx t]
  · refine Fin.ext ?_; unfold col; blk_simp [idx t]

/-- The part of the gradient of the taps from the rows of one point, on the eight rows stored, of which three are taps. -/
def part (t : Fin cfg0.N) (d x : Fin 2816 → Fin 8320 → EReal) (y : S8x1408.Idx) : EReal :=
  if (y 0).val < 3 then ∑ r : Fin 320, times (d (col t (y 1)) ⟨t.val % 26 * 320 + r.val, by omega⟩)
    (lag 2 8320 (x (col t (y 1))) (t.val % 26 * 320 + r.val + (y 0).val)) else 0

/-- A store of one row: the row read before, plus the sum over the block of the products with the rows `k` further on. -/
def Adds (p : (S1x1408.Idx → EReal) → S1x1408.Idx → EReal) (d : S320x1408.Idx → EReal) (x : S328x1408.Idx → EReal) (k : ℕ) : Prop :=
  ∀ (acc : S1x1408.Idx → EReal) (i : Fin 1) (q : Fin 1408), p acc (ix2 i q)
    = acc (ix2 i q) + total 320 fun r => times (d (ix2 r q)) (x (ix2 ⟨(r.val + k) % 328, Nat.mod_lt _ (by omega)⟩ q))

theorem row23 (d : S320x1408.Idx → EReal) (x : S328x1408.Idx → EReal) : Adds (k0_pay23 (F := Ideal) d x) d x 6 ∧ Adds (k0_pay2 (F := Ideal) d x) d x 6 := by
  constructor <;> intro acc i q <;> pointwise [k0_pay23, k0_pay2, total, times] <;>
    exact congrArg (acc (ix2 i q) + ·) (Finset.sum_congr rfl fun r _ => congrArg (d (ix2 r q) * ·) (congrArg (fun b => x (ix2 b q)) (Fin.ext (by
      show (8 + r.val + 328 - 2) % 328 = (r.val + 6) % 328
      omega))))

theorem row24 (d : S320x1408.Idx → EReal) (x : S328x1408.Idx → EReal) : Adds (k0_pay24 (F := Ideal) d x) d x 7 ∧ Adds (k0_pay3 (F := Ideal) d x) d x 7 := by
  constructor <;> intro acc i q <;> pointwise [k0_pay24, k0_pay3, total, times] <;>
    exact congrArg (acc (ix2 i q) + ·) (Finset.sum_congr rfl fun r _ => congrArg (d (ix2 r q) * ·) (congrArg (fun b => x (ix2 b q)) (Fin.ext (by
      show (8 + r.val + 328 - 1) % 328 = (r.val + 7) % 328
      omega))))

theorem row25 (d : S320x1408.Idx → EReal) (x : S328x1408.Idx → EReal) : Adds (k0_pay25 (F := Ideal) d x) d x 8 ∧ Adds (k0_pay4 (F := Ideal) d x) d x 8 := by
  constructor <;> intro acc i q <;> pointwise [k0_pay25, k0_pay4, total, times] <;>
    exact congrArg (acc (ix2 i q) + ·) (Finset.sum_congr rfl fun r _ => congrArg (d (ix2 r q) * ·) (congrArg (fun b => x (ix2 b q)) (Fin.ext (by
      show 8 + r.val = (r.val + 8) % 328
      omega))))

/-- The sum of a store, in rows of the whole arrays. -/
theorem part_eq (t : Fin cfg0.N) (d x : Fin 2816 → Fin 8320 → EReal) (D : S320x1408.Idx → EReal)
    (hD : ∀ (i : Fin 320) (q : Fin 1408) (h : t.val % 26 * 320 + i.val < 8320), D (ix2 i q) = d (col t q) ⟨t.val % 26 * 320 + i.val, h⟩)
    (a : Fin 8) (q : Fin 1408) (j k : ℕ) (ha : a.val = j) (hj : j < 3) (hk : k = 6 + j) : (total 320 fun r => times (D (ix2 r q)) (rows 8 t x (ix2 ⟨(r.val + k) % 328, Nat.mod_lt _ (by omega)⟩ q)))
      = part t d x (ix2 a q) := by
  subst ha hk; unfold part; rw [if_pos (show ((ix2 a q : S8x1408.Idx) 0).val < 3 from hj)]; refine Finset.sum_congr rfl fun r _ => congrArg₂ times (hD r q _) ?_; refine lag_shift 2 8320 6 _ _ _ ?_
  show t.val % 26 * 320 + (r.val + (6 + a.val)) % 328 = t.val % 26 * 320 + r.val + a.val + 6; rw [Nat.mod_eq_of_lt (show r.val + (6 + a.val) < 328 by omega)]; omega

theorem part_out (t : Fin cfg0.N) (d x : Fin 2816 → Fin 8320 → EReal) (a : Fin 8) (q : Fin 1408) (ha : 3 ≤ a.val) : part t d x (ix2 a q) = 0 := by
  unfold part; exact if_neg (show ¬((ix2 a q : S8x1408.Idx) 0).val < 3 from by show ¬a.val < 3; omega)

/-- The three stores of a first point, which add to zeros. -/
theorem first (t : Fin cfg0.N) (d x : Fin 2816 → Fin 8320 → EReal) (D : S320x1408.Idx → EReal)
    (hD : ∀ (i : Fin 320) (q : Fin 1408) (h : t.val % 26 * 320 + i.val < 8320), D (ix2 i q) = d (col t q) ⟨t.val % 26 * 320 + i.val, h⟩)
    (p0 p1 p2 : (S1x1408.Idx → EReal) → S1x1408.Idx → EReal) (z : S8x1408.Idx → EReal) (hz : ∀ y, z y = 0)
    (h0 : Adds p0 D (rows 8 t x) 6) (h1 : Adds p1 D (rows 8 t x) 7) (h2 : Adds p2 D (rows 8 t x) 8)
    (a0 a1 a2 : S1x1408.Idx → EReal) (z0 : ∀ y, a0 y = 0) (z1 : ∀ y, a1 y = 0) (z2 : ∀ y, a2 y = 0) (y : S8x1408.Idx) : View.canon
      [(⟨Rect.unit ![2, 0] ![1, 1408] inb_S8x1408_S1x1408_2_0, p2 a2⟩ : View.Piece (Elt Ideal) S8x1408 .f32), ⟨Rect.unit ![1, 0] ![1, 1408] inb_S8x1408_S1x1408_1_0, p1 a1⟩,
        ⟨Rect.unit ![0, 0] ![1, 1408] inb_S8x1408_S1x1408_0_0, p0 a0⟩, ⟨Rect.unit ![0, 0] ![8, 1408] inb_S8x1408_S8x1408_0_0, z⟩] y = 0 + part t d x y := by
  obtain ⟨a, q, rfl⟩ : ∃ (a : Fin 8) (q : Fin 1408), y = ix2 a q := ⟨y 0, y 1, (ix2_eta y).symm⟩
  refine canon_rows_cons _ _ _ _ a q (fun i hi => (h2 _ i q).trans (congrArg₂ (· + ·) (z2 _) (part_eq t d x D hD a q 2 8 (by omega) (by omega) rfl))) fun _ => ?_
  refine canon_rows_cons _ _ _ _ a q (fun i hi => (h1 _ i q).trans (congrArg₂ (· + ·) (z1 _) (part_eq t d x D hD a q 1 7 (by omega) (by omega) rfl))) fun _ => ?_
  refine canon_rows_cons _ _ _ _ a q (fun i hi => (h0 _ i q).trans (congrArg₂ (· + ·) (z0 _) (part_eq t d x D hD a q 0 6 (by omega) (by omega) rfl))) fun _ => ?_
  refine canon_rows_cons _ _ _ _ a q (fun i hi => ?_) fun h => ?_
  · rw [part_out t d x a q (by omega), zero_add]; exact hz _
  · have := a.isLt; omega

/-- The row loaded before a store. -/
theorem old_row (old : S8x1408.Idx → EReal) (j : ℕ) (inb : ∀ a, (![j, 0] : Fin 2 → ℕ) a + (![1, 1408] : Fin 2 → ℕ) a ≤ S8x1408.size a) (i : Fin 1) (a : Fin 8) (q : Fin 1408) (hi : a.val = j + i.val) :
    View.ld (Val := Elt Ideal) (e' := .f32) (S := S8x1408) old (Rect.unit (s := S8x1408) ![j, 0] ![1, 1408] inb) (ix2 i q) = old (ix2 a q) := by
  refine congrArg old (funext fun b => Fin.ext ?_)
  fin_cases b
  · show j + 1 * i.val = a.val; omega
  · show 0 + 1 * q.val = q.val; omega

/-- The three stores of every other point, which add to the rows left before. -/
theorem later (t : Fin cfg0.N) (d x : Fin 2816 → Fin 8320 → EReal) (D : S320x1408.Idx → EReal)
    (hD : ∀ (i : Fin 320) (q : Fin 1408) (h : t.val % 26 * 320 + i.val < 8320), D (ix2 i q) = d (col t q) ⟨t.val % 26 * 320 + i.val, h⟩)
    (p0 p1 p2 : (S1x1408.Idx → EReal) → S1x1408.Idx → EReal) (old : S8x1408.Idx → EReal) (h0 : Adds p0 D (rows 8 t x) 6) (h1 : Adds p1 D (rows 8 t x) 7) (h2 : Adds p2 D (rows 8 t x) 8)
    {sp : Space} (v : View sig .tc sp S8x1408 .f32) (g : v.ty.Contents (Elt Ideal)) (hg : v.read (Elt Ideal) g = old) (y : S8x1408.Idx) : v.read (Elt Ideal) (v.writes (Elt Ideal) g
      [(⟨Rect.unit ![2, 0] ![1, 1408] inb_S8x1408_S1x1408_2_0, p2 (View.ld (Val := Elt Ideal) (e' := .f32) (S := S8x1408) old (Rect.unit (s := S8x1408) ![2, 0] ![1, 1408] inb_S8x1408_S1x1408_2_0))⟩ : View.Piece (Elt Ideal) S8x1408 .f32),
        ⟨Rect.unit ![1, 0] ![1, 1408] inb_S8x1408_S1x1408_1_0, p1 (View.ld (Val := Elt Ideal) (e' := .f32) (S := S8x1408) old (Rect.unit (s := S8x1408) ![1, 0] ![1, 1408] inb_S8x1408_S1x1408_1_0))⟩,
        ⟨Rect.unit ![0, 0] ![1, 1408] inb_S8x1408_S1x1408_0_0, p0 (View.ld (Val := Elt Ideal) (e' := .f32) (S := S8x1408) old (Rect.unit (s := S8x1408) ![0, 0] ![1, 1408] inb_S8x1408_S1x1408_0_0))⟩]) y
      = old y + part t d x y := by
  obtain ⟨a, q, rfl⟩ : ∃ (a : Fin 8) (q : Fin 1408), y = ix2 a q := ⟨y 0, y 1, (ix2_eta y).symm⟩
  refine read_rows_cons _ _ _ _ _ _ a q (fun i hi => (h2 _ i q).trans (congrArg₂ (· + ·) ?_ (part_eq t d x D hD a q 2 8 (by omega) (by omega) rfl))) fun _ => ?_
  · exact old_row old 2 _ i a q hi
  refine read_rows_cons _ _ _ _ _ _ a q (fun i hi => (h1 _ i q).trans (congrArg₂ (· + ·) ?_ (part_eq t d x D hD a q 1 7 (by omega) (by omega) rfl))) fun _ => ?_
  · exact old_row old 1 _ i a q hi
  refine read_rows_cons _ _ _ _ _ _ a q (fun i hi => (h0 _ i q).trans (congrArg₂ (· + ·) ?_ (part_eq t d x D hD a q 0 6 (by omega) (by omega) rfl))) fun _ => ?_
  · exact old_row old 0 _ i a q hi
  rw [part_out t d x a q (by omega), add_zero]; exact congrFun hg _

/-- What the first points of a column block leave in the gate's taps, and what every other point adds. -/
theorem greset (c : Dev nD) (t : Fin cfg0.N) (h0 : t.val % 26 = 0) (y : S8x1408.Idx) : (outsAt0 m c t.val t.isLt).2.2.1 y = 0 + part t (dgcol m c) (gcol m c) y := by
  have z : ∀ y, k0_pay14 (F := Ideal) y = (0 : EReal) := fun y => by pointwise [k0_pay14]
  rw [outsAt0_A m c t h0]; frame_out; simp only [gbuf m c t]; simp (disch := decide) only [↓ View.readCov_skip, ↓ View.readCov_cons_toLoadRect, ↓ View.readCov_fill]
  exact first t (dgcol m c) (gcol m c) _ (dgmain m c t) _ _ _ _ z (row23 _ _).1 (row24 _ _).1 (row25 _ _).1 _ _ _ (fun y => z _) (fun y => z _) (fun y => z _) y

theorem gstep (c : Dev nD) (t : Fin cfg0.N) (h0 : ¬t.val % 26 = 0) (y : S8x1408.Idx) :
    (outsAt0 m c t.val t.isLt).2.2.1 y = (outsAt0 m c (t.val - 1) (by have := t.isLt; omega)).2.2.1 y + part t (dgcol m c) (gcol m c) y := by
  rw [outsAt0_B m c t h0]; frame_out; simp only [gbuf m c t]
  exact later t (dgcol m c) (gcol m c) _ (dgmain m c t) _ _ _ _ (row23 _ _).1 (row24 _ _).1 (row25 _ _).1 _ _ (Memref.IsWhole.read_unread _ _) y

/-- The same for the value's taps. -/
theorem vreset (c : Dev nD) (t : Fin cfg0.N) (h0 : t.val % 26 = 0) (y : S8x1408.Idx) : (outsAt0 m c t.val t.isLt).2.2.2 y = 0 + part t (dvcol m c) (vcol m c) y := by
  have z : ∀ y, k0_pay15 (F := Ideal) y = (0 : EReal) := fun y => by pointwise [k0_pay15]
  rw [outsAt0_A m c t h0]; frame_out; simp only [vbuf m c t]; simp (disch := decide) only [↓ View.readCov_skip, ↓ View.readCov_cons_toLoadRect, ↓ View.readCov_fill]
  exact first t (dvcol m c) (vcol m c) _ (dvmain m c t) _ _ _ _ z (row23 _ _).2 (row24 _ _).2 (row25 _ _).2 _ _ _ (fun y => z _) (fun y => z _) (fun y => z _) y

theorem vstep (c : Dev nD) (t : Fin cfg0.N) (h0 : ¬t.val % 26 = 0) (y : S8x1408.Idx) :
    (outsAt0 m c t.val t.isLt).2.2.2 y = (outsAt0 m c (t.val - 1) (by have := t.isLt; omega)).2.2.2 y + part t (dvcol m c) (vcol m c) y := by
  rw [outsAt0_B m c t h0]; frame_out; simp only [vbuf m c t]
  exact later t (dvcol m c) (vcol m c) _ (dvmain m c t) _ _ _ _ (row23 _ _).2 (row24 _ _).2 (row25 _ _).2 _ _ (Memref.IsWhole.read_unread _ _) y

/-- The parts of the points of one column block add up to the whole sum. -/
theorem parts (t : Fin cfg0.N) (d x : Fin 2816 → Fin 8320 → EReal) (y : S8x1408.Idx) (h : ∀ s : Fin 26, 26 * (t.val / 26) + s.val < cfg0.N) :
    ∑ s : Fin 26, part ⟨26 * (t.val / 26) + s.val, h s⟩ d x y = dw3 (d (col t (y 1))) (x (col t (y 1))) (y 0).val := by
  unfold part dw3; by_cases h3 : (y 0).val < 3
  · simp only [if_pos h3]
    have hc : ∀ s : Fin 26, col ⟨26 * (t.val / 26) + s.val, h s⟩ (y 1) = col t (y 1) := fun s => Fin.ext (by
      have hs := s.isLt; show (26 * (t.val / 26) + s.val) / 26 * 1408 + (y 1).val = t.val / 26 * 1408 + (y 1).val
      omega)
    have e : ∀ s : Fin 26, (26 * (t.val / 26) + s.val) % 26 = s.val := fun s => by have := s.isLt; omega
    simp only [hc, e]; refine Fin.sum_mul_add_congr fun s r hl => ?_; rfl
  · simp only [if_neg h3]; exact Finset.sum_const_zero

/-- The gradients of the two sets of taps. -/
def gdw (c : Dev nD) (j : ℕ) (k : Fin 2816) : EReal := dw3 (dgcol m c k) (gcol m c k) j

def vdw (c : Dev nD) (j : ℕ) (k : Fin 2816) : EReal := dw3 (dvcol m c k) (vcol m c k) j

/-- Third result: the gradient of the gate's taps. -/
theorem final14 (c : Dev nD) : (dats m 0 c).arrAt 14 (cfgs 0).N = fun j => gdw m c (j 0).val (j 1) := by
  refine (dats m 0 c).arrAt_eq_of_covers 14 _ (by decide +kernel) fun t hf y => ?_; blk_simp
  rw [after0_14, Pipeline.eq_sum_fin_of_reset_step_apply_of_flush (fun n h => (outsAt0 m c n h).2.2.1) 26 (fun _ => (0 : EReal))
    (fun t => part t (dgcol m c) (gcol m c)) (fun t h y => greset m c t h y) (fun t h y => gstep m c t h y) t ((flush0_14 t).mp hf), zero_add]
  refine Eq.trans (b := gdw m c (y 0).val (col t (y 1))) ?_ (congr (congrArg (gdw m c) ?_) ?_)
  · exact parts t (dgcol m c) (gcol m c) y _
  · blk_simp [idx t]
  · refine Fin.ext ?_; unfold col; blk_simp [idx t]

/-- Fourth result: the gradient of the value's taps. -/
theorem final15 (c : Dev nD) : (dats m 0 c).arrAt 15 (cfgs 0).N = fun j => vdw m c (j 0).val (j 1) := by
  refine (dats m 0 c).arrAt_eq_of_covers 15 _ (by decide +kernel) fun t hf y => ?_; blk_simp
  rw [after0_15, Pipeline.eq_sum_fin_of_reset_step_apply_of_flush (fun n h => (outsAt0 m c n h).2.2.2) 26 (fun _ => (0 : EReal))
    (fun t => part t (dvcol m c) (vcol m c)) (fun t h y => vreset m c t h y) (fun t h y => vstep m c t h y) t ((flush0_15 t).mp hf), zero_add]
  refine Eq.trans (b := vdw m c (y 0).val (col t (y 1))) ?_ (congr (congrArg (vdw m c) ?_) ?_)
  · exact parts t (dvcol m c) (vcol m c) y _
  · blk_simp [idx t]
  · refine Fin.ext ?_; unfold col; blk_simp [idx t]

end Cert.FfnMidIdeal.Prod

namespace Cert.FfnMidRefIdeal.Prod

open Gen Read Step

variable (x0 x1 x2 : S8320x2816.Idx → EReal) (x3 x4 : S3x2816.Idx → EReal)

set_option quotPrecheck false
local notation:max "𝐠" f:max => f (F := Ideal) x0 x1 x2 x3 x4
local notation:max "𝐰" f:max => f (F := Ideal) x0 x1 x2 x3
local notation:max "𝐮" f:max => f (F := Ideal) x0 x2 x3 x4
local notation:max "𝐝" => val_main_v50 (F := Ideal) x0 x1 x2 x3 x4
local notation:max "𝐯" => val_main_v48 (F := Ideal) x0 x2 x3

/-- Two rows of zeros above the gate's input. -/
theorem gext (a : Fin 8322) (k : Fin 2816) : val_main_v1 (F := Ideal) x0 (ix2 a k) = lag 2 8320 (fun i => x0 (ix2 i k)) a.val :=
  zeros_above _ _ _ (fun j => by pointwise [val_main_v0, val_main_cst]) a a.isLt k

/-- Two rows of zeros above the value's input. -/
theorem vext (a : Fin 8322) (k : Fin 2816) : val_main_v24 (F := Ideal) x1 (ix2 a k) = lag 2 8320 (fun i => x1 (ix2 i k)) a.val :=
  zeros_above _ _ _ (fun j => by pointwise [val_main_v23, val_main_cst_1]) a a.isLt k

/-- The reference's cotangent of the gate convolution, entry by entry. -/
theorem dg (i : Fin 8320) (k : Fin 2816) : 𝐝 (ix2 i k) = gateGrad (val_main_v22 (F := Ideal) x0 x3 (ix2 i k)) (val_main_v45 (F := Ideal) x1 x4 (ix2 i k)) (x2 (ix2 i k)) := by
  pointwise [val_main_v50, val_main_call1_v1, val_main_call1_v2, val_main_call1_v0, val_main_v49, val_main_v46_2, val_main_v46_1, val_main_call0_v7,
    val_main_call0_v6, val_main_call0_cst_1, val_main_call0_v4, val_main_call0_cst_0, val_main_call0_v3, val_main_call0_v2, val_main_call0_cst, val_main_call0_v1, val_main_call0_v0]
  rfl

/-- The reference's cotangent of the value convolution, entry by entry. -/
theorem dv (i : Fin 8320) (k : Fin 2816) : 𝐯 (ix2 i k) = valGrad (val_main_v22 (F := Ideal) x0 x3 (ix2 i k)) (x2 (ix2 i k)) := by
  pointwise [val_main_v48, val_main_v46_0, val_main_v46_2, val_main_call0_v4, val_main_call0_cst_0, val_main_call0_v3, val_main_call0_v2, val_main_call0_cst, val_main_call0_v1, val_main_call0_v0]
  rfl

/-- Three shifted products, added, are the gradient of the input. -/
theorem shifted (d : Fin 8320 → EReal) (w : Fin 3 → EReal) (r : ℕ) : lag 2 8320 d (2 + r) * w 2 + lag 1 8320 d (2 + r) * w 1 + lag 0 8320 d (2 + r) * w 0 = dx3 d w r := by
  have h2 : lag 2 8320 d (2 + r) = lag 0 8320 d r := lag_shift 0 8320 2 d _ _ (by omega); have h1 : lag 1 8320 d (2 + r) = lag 0 8320 d (r + 1) := lag_shift 0 8320 1 d _ _ (by omega)
  rw [h2, h1, Nat.add_comm 2 r]; unfold dx3 times; exact (add_comm _ _).trans ((congrArg (_ + ·) (add_comm _ _)).trans (add_assoc _ _ _).symm)

/- Each of the three shifted products of the two input gradients. -/
theorem gpad2 (a : Fin 8322) (k : Fin 2816) : 𝐠 val_main_v92 (ix2 a k) = lag 2 8320 (fun i => 𝐝 (ix2 i k)) a.val * x3 (ix2 2 k) := by
  refine (pad_rows (𝐠 val_main_v88) (val_main_cst_18 (F := Ideal)) _ _ (by pointwise [val_main_cst_18]) a k).trans ?_; rw [← lag_mul]
  refine congrArg (fun f => lag 2 8320 f a.val) (funext fun i => ?_); pointwise [val_main_v88, val_main_v87, val_main_v19, val_main_v18, val_main_v17]

theorem gpad1 (a : Fin 8322) (k : Fin 2816) : 𝐠 val_main_v102 (ix2 a k) = lag 1 8320 (fun i => 𝐝 (ix2 i k)) a.val * x3 (ix2 1 k) := by
  refine (pad_rows (𝐠 val_main_v97) (val_main_cst_22 (F := Ideal)) _ _ (by pointwise [val_main_cst_22]) a k).trans ?_; rw [← lag_mul]
  refine congrArg (fun f => lag 1 8320 f a.val) (funext fun i => ?_); pointwise [val_main_v97, val_main_v96, val_main_v12, val_main_v11, val_main_v10]

theorem gpad0 (a : Fin 8322) (k : Fin 2816) : 𝐠 val_main_v113 (ix2 a k) = lag 0 8320 (fun i => 𝐝 (ix2 i k)) a.val * x3 (ix2 0 k) := by
  refine (pad_rows (𝐠 val_main_v108) (val_main_cst_26 (F := Ideal)) _ _ (by pointwise [val_main_cst_26]) a k).trans ?_; rw [← lag_mul]
  refine congrArg (fun f => lag 0 8320 f a.val) (funext fun i => ?_); pointwise [val_main_v108, val_main_v107, val_main_v6, val_main_v5, val_main_v4]

theorem vpad2 (a : Fin 8322) (k : Fin 2816) : 𝐮 val_main_v59 (ix2 a k) = lag 2 8320 (fun i => 𝐯 (ix2 i k)) a.val * x4 (ix2 2 k) := by
  refine (pad_rows (𝐮 val_main_v55) (val_main_cst_6 (F := Ideal)) _ _ (by pointwise [val_main_cst_6]) a k).trans ?_; rw [← lag_mul]; refine congrArg (fun f => lag 2 8320 f a.val) (funext fun i => ?_)
  pointwise [val_main_v55, val_main_v54, val_main_v42, val_main_v41, val_main_v40]

theorem vpad1 (a : Fin 8322) (k : Fin 2816) : 𝐮 val_main_v69 (ix2 a k) = lag 1 8320 (fun i => 𝐯 (ix2 i k)) a.val * x4 (ix2 1 k) := by
  refine (pad_rows (𝐮 val_main_v64) (val_main_cst_10 (F := Ideal)) _ _ (by pointwise [val_main_cst_10]) a k).trans ?_; rw [← lag_mul]
  refine congrArg (fun f => lag 1 8320 f a.val) (funext fun i => ?_); pointwise [val_main_v64, val_main_v63, val_main_v35, val_main_v34, val_main_v33]

theorem vpad0 (a : Fin 8322) (k : Fin 2816) : 𝐮 val_main_v80 (ix2 a k) = lag 0 8320 (fun i => 𝐯 (ix2 i k)) a.val * x4 (ix2 0 k) := by
  refine (pad_rows (𝐮 val_main_v75) (val_main_cst_14 (F := Ideal)) _ _ (by pointwise [val_main_cst_14]) a k).trans ?_; rw [← lag_mul]
  refine congrArg (fun f => lag 0 8320 f a.val) (funext fun i => ?_); pointwise [val_main_v75, val_main_v74, val_main_v29, val_main_v28, val_main_v27]

/-- The reference's gradient of the gate's input. -/
theorem gdx (j : S8320x2816.Idx) : 𝐠 val_main_v117 j = dx3 (fun i => 𝐝 (ix2 i (j 1))) (fun a => x3 (ix2 a (j 1))) (j 0).val := by
  pointwise [val_main_v117, val_main_v116, val_main_v114, val_main_v103]
  exact (congrArg₂ (· + ·) (congrArg₂ (· + ·) (gpad2 x0 x1 x2 x3 x4 _ (j 1)) (gpad1 x0 x1 x2 x3 x4 _ (j 1))) (gpad0 x0 x1 x2 x3 x4 _ (j 1))).trans
    (shifted _ (fun a => x3 (ix2 a (j 1))) _)

/-- The reference's gradient of the value's input. -/
theorem vdx (j : S8320x2816.Idx) : 𝐮 val_main_v118 j = dx3 (fun i => 𝐯 (ix2 i (j 1))) (fun a => x4 (ix2 a (j 1))) (j 0).val := by
  pointwise [val_main_v118, val_main_v83, val_main_v81, val_main_v70]
  exact (congrArg₂ (· + ·) (congrArg₂ (· + ·) (vpad2 x0 x2 x3 x4 _ (j 1)) (vpad1 x0 x2 x3 x4 _ (j 1))) (vpad0 x0 x2 x3 x4 _ (j 1))).trans
    (shifted _ (fun a => x4 (ix2 a (j 1))) _)

/-- A sum over the rows of a product of two columns, as a sum over the rows of the gradient times a shifted input. -/
theorem sum_tap (d x : Fin 8320 → EReal) (e : Fin 8322 → EReal) (j : ℕ) (hj : j < 3) (he : ∀ a : Fin 8322, e a = lag 2 8320 x a.val) : ∑ r : Fin 8320, e ⟨j + r.val, by omega⟩ * d r = dw3 d x j := by
  unfold dw3; rw [if_pos hj]; refine Finset.sum_congr rfl fun r _ => ?_; rw [he]; refine (mul_comm _ _).trans (congrArg (fun n => d r * lag 2 8320 x n) (Nat.add_comm j r.val))

/- Each of the six sums over the rows. -/
theorem gtap2 (i : Fin 1) (k : Fin 2816) : 𝐠 val_main_v90 (ix2 i k) = dw3 (fun i => 𝐝 (ix2 i k)) (fun i => x0 (ix2 i k)) 2 := by
  refine Eq.trans ?_ (sum_tap _ _ (fun a => val_main_v1 (F := Ideal) x0 (ix2 a k)) 2 (by omega) fun a => gext x0 a k)
  pointwise [val_main_v90, val_main_v89, val_main_v86, val_main_v85, val_main_v84, val_main_v16, val_main_cst_15, val_main_cst_16, Fin.sum_univ_one]

theorem gtap1 (i : Fin 1) (k : Fin 2816) : 𝐠 val_main_v99 (ix2 i k) = dw3 (fun i => 𝐝 (ix2 i k)) (fun i => x0 (ix2 i k)) 1 := by
  refine Eq.trans ?_ (sum_tap _ _ (fun a => val_main_v1 (F := Ideal) x0 (ix2 a k)) 1 (by omega) fun a => gext x0 a k)
  pointwise [val_main_v99, val_main_v98, val_main_v95, val_main_v94, val_main_v93, val_main_v9, val_main_cst_19, val_main_cst_20, Fin.sum_univ_one]

theorem gtap0 (i : Fin 1) (k : Fin 2816) : 𝐠 val_main_v110 (ix2 i k) = dw3 (fun i => 𝐝 (ix2 i k)) (fun i => x0 (ix2 i k)) 0 := by
  refine Eq.trans ?_ (sum_tap _ _ (fun a => val_main_v1 (F := Ideal) x0 (ix2 a k)) 0 (by omega) fun a => gext x0 a k)
  pointwise [val_main_v110, val_main_v109, val_main_v106, val_main_v105, val_main_v104, val_main_v3, val_main_cst_23, val_main_cst_24, Fin.sum_univ_one]

theorem vtap2 (i : Fin 1) (k : Fin 2816) : 𝐰 val_main_v57 (ix2 i k) = dw3 (fun i => 𝐯 (ix2 i k)) (fun i => x1 (ix2 i k)) 2 := by
  refine Eq.trans ?_ (sum_tap _ _ (fun a => val_main_v24 (F := Ideal) x1 (ix2 a k)) 2 (by omega) fun a => vext x1 a k)
  pointwise [val_main_v57, val_main_v56, val_main_v53, val_main_v52, val_main_v51, val_main_v39, val_main_cst_3, val_main_cst_4, Fin.sum_univ_one]

theorem vtap1 (i : Fin 1) (k : Fin 2816) : 𝐰 val_main_v66 (ix2 i k) = dw3 (fun i => 𝐯 (ix2 i k)) (fun i => x1 (ix2 i k)) 1 := by
  refine Eq.trans ?_ (sum_tap _ _ (fun a => val_main_v24 (F := Ideal) x1 (ix2 a k)) 1 (by omega) fun a => vext x1 a k)
  pointwise [val_main_v66, val_main_v65, val_main_v62, val_main_v61, val_main_v60, val_main_v32, val_main_cst_7, val_main_cst_8, Fin.sum_univ_one]

theorem vtap0 (i : Fin 1) (k : Fin 2816) : 𝐰 val_main_v77 (ix2 i k) = dw3 (fun i => 𝐯 (ix2 i k)) (fun i => x1 (ix2 i k)) 0 := by
  refine Eq.trans ?_ (sum_tap _ _ (fun a => val_main_v24 (F := Ideal) x1 (ix2 a k)) 0 (by omega) fun a => vext x1 a k)
  pointwise [val_main_v77, val_main_v76, val_main_v73, val_main_v72, val_main_v71, val_main_v26, val_main_cst_11, val_main_cst_12, Fin.sum_univ_one]

/- The six sums, each in its own row, then zero rows. -/
theorem gtaps (a : Fin 3) (k : Fin 2816) : 𝐠 val_main_v112 (ix2 a k) = dw3 (fun i => 𝐝 (ix2 i k)) (fun i => x0 (ix2 i k)) a.val := by
  have p2 : 𝐠 val_main_v91 (ix2 a k) = lag 2 1 (fun i => 𝐠 val_main_v90 (ix2 i k)) a.val :=
    pad_rows _ _ _ _ (by pointwise [val_main_cst_17]) a k
  have p1 : 𝐠 val_main_v100 (ix2 a k) = lag 1 1 (fun i => 𝐠 val_main_v99 (ix2 i k)) a.val :=
    pad_rows _ _ _ _ (by pointwise [val_main_cst_21]) a k
  have p0 : 𝐠 val_main_v111 (ix2 a k) = lag 0 1 (fun i => 𝐠 val_main_v110 (ix2 i k)) a.val :=
    pad_rows _ _ _ _ (by pointwise [val_main_cst_25]) a k
  pointwise [val_main_v112, val_main_v101]; rw [p2, p1, p0]; simp only [gtap2, gtap1, gtap0]
  fin_cases a <;> simp [lag]

theorem gdw (a : Fin 8) (k : Fin 2816) : 𝐠 val_main_v119 (ix2 a k) = dw3 (fun i => 𝐝 (ix2 i k)) (fun i => x0 (ix2 i k)) a.val := by
  refine (pad_rows (𝐠 val_main_v112) (val_main_call2_v0 (F := Ideal)) _ _ (by
    pointwise [val_main_call2_v0, val_main_c]
    exact Step.sitofp_zero) a k).trans ?_
  by_cases h : a.val < 3
  · rw [lag_of_eq _ (⟨a.val, h⟩ : Fin 3) (Nat.zero_add _).symm]; exact gtaps x0 x1 x2 x3 x4 ⟨a.val, h⟩ k
  · rw [lag_of_out _ (by omega)]; unfold dw3; rw [if_neg h]

theorem vtaps (a : Fin 3) (k : Fin 2816) : 𝐰 val_main_v79 (ix2 a k) = dw3 (fun i => 𝐯 (ix2 i k)) (fun i => x1 (ix2 i k)) a.val := by
  have p2 : 𝐰 val_main_v58 (ix2 a k) = lag 2 1 (fun i => 𝐰 val_main_v57 (ix2 i k)) a.val :=
    pad_rows _ _ _ _ (by pointwise [val_main_cst_5]) a k
  have p1 : 𝐰 val_main_v67 (ix2 a k) = lag 1 1 (fun i => 𝐰 val_main_v66 (ix2 i k)) a.val :=
    pad_rows _ _ _ _ (by pointwise [val_main_cst_9]) a k
  have p0 : 𝐰 val_main_v78 (ix2 a k) = lag 0 1 (fun i => 𝐰 val_main_v77 (ix2 i k)) a.val :=
    pad_rows _ _ _ _ (by pointwise [val_main_cst_13]) a k
  pointwise [val_main_v79, val_main_v68]; rw [p2, p1, p0]; simp only [vtap2, vtap1, vtap0]
  fin_cases a <;> simp [lag]

theorem vdw (a : Fin 8) (k : Fin 2816) : 𝐰 val_main_v120 (ix2 a k) = dw3 (fun i => 𝐯 (ix2 i k)) (fun i => x1 (ix2 i k)) a.val := by
  refine (pad_rows (𝐰 val_main_v79) (val_main_call3_v0 (F := Ideal)) _ _ (by
    pointwise [val_main_call3_v0, val_main_c_27]
    exact Step.sitofp_zero) a k).trans ?_
  by_cases h : a.val < 3
  · rw [lag_of_eq _ (⟨a.val, h⟩ : Fin 3) (Nat.zero_add _).symm]; exact vtaps x0 x1 x2 x3 ⟨a.val, h⟩ k
  · rw [lag_of_out _ (by omega)]; unfold dw3; rw [if_neg h]

variable (m : (ℓ : Loc FfnMidIdeal.nD FfnMidIdeal.τ FfnMidIdeal.sig) → Buf (Elt Ideal) ℓ) (c : Dev FfnMidIdeal.nD)

local notation "𝟎" => m ((Dev.tc c).loc FfnMidIdeal.main_arg0)
local notation "𝟏" => m ((Dev.tc c).loc FfnMidIdeal.main_arg1)
local notation "𝟐" => m ((Dev.tc c).loc FfnMidIdeal.main_arg2)
local notation "𝟑" => m ((Dev.tc c).loc FfnMidIdeal.main_arg3)
local notation "𝟒" => m ((Dev.tc c).loc FfnMidIdeal.main_arg4)

/-- The reference's four results, of the arrays the call is given, are what the call leaves. -/
theorem dg_eq (k : Fin 2816) : (fun i : Fin 8320 => val_main_v50 (F := Ideal) 𝟎 𝟏 𝟐 𝟑 𝟒 (ix2 i k)) = FfnMidIdeal.Prod.dgcol m c k := funext fun i => by
  refine (Prod.dg 𝟎 𝟏 𝟐 𝟑 𝟒 i k).trans ?_; unfold FfnMidIdeal.Prod.dgcol; rw [FfnMidIdeal.Prod.cg_eq, FfnMidIdeal.Prod.cv_eq]

theorem gdx_eq (j : (⟨2, ![8320, 2816]⟩ : Shape).Idx) : val_main_v117 (F := Ideal) 𝟎 𝟏 𝟐 𝟑 𝟒 j = FfnMidIdeal.Prod.gdx m c (j 0).val (j 1) := by
  refine (Prod.gdx _ _ _ _ _ j).trans ?_; exact congrArg (fun d => dx3 d _ _) (dg_eq m c (j 1))

theorem dv_eq (k : Fin 2816) : (fun i : Fin 8320 => val_main_v48 (F := Ideal) 𝟎 𝟐 𝟑 (ix2 i k)) = FfnMidIdeal.Prod.dvcol m c k := funext fun i => by
  refine (Prod.dv 𝟎 𝟐 𝟑 i k).trans ?_; unfold FfnMidIdeal.Prod.dvcol; rw [FfnMidIdeal.Prod.cg_eq]

theorem vdx_eq (j : (⟨2, ![8320, 2816]⟩ : Shape).Idx) : val_main_v118 (F := Ideal) 𝟎 𝟐 𝟑 𝟒 j = FfnMidIdeal.Prod.vdx m c (j 0).val (j 1) := by
  refine (Prod.vdx _ _ _ _ j).trans ?_; exact congrArg (fun d => dx3 d _ _) (dv_eq m c (j 1))

theorem gdw_eq (j : (⟨2, ![8, 2816]⟩ : Shape).Idx) : val_main_v119 (F := Ideal) 𝟎 𝟏 𝟐 𝟑 𝟒 j = FfnMidIdeal.Prod.gdw m c (j 0).val (j 1) := by
  obtain ⟨a, k, rfl⟩ : ∃ (a : Fin 8) (k : Fin 2816), j = ix2 a k := ⟨j 0, j 1, (ix2_eta j).symm⟩; refine (Prod.gdw _ _ _ _ _ a k).trans ?_; exact congrArg (fun d => dw3 d _ _) (dg_eq m c k)

theorem vdw_eq (j : (⟨2, ![8, 2816]⟩ : Shape).Idx) : val_main_v120 (F := Ideal) 𝟎 𝟏 𝟐 𝟑 j = FfnMidIdeal.Prod.vdw m c (j 0).val (j 1) := by
  obtain ⟨a, k, rfl⟩ : ∃ (a : Fin 8) (k : Fin 2816), j = ix2 a k := ⟨j 0, j 1, (ix2_eta j).symm⟩; refine (Prod.vdw _ _ _ _ a k).trans ?_; exact congrArg (fun d => dw3 d _ _) (dv_eq m c k)

/-- The gradients of the middle of the gated block, of both convolutions and of their taps, are the reference's. -/
theorem _root_.Cert.Step.ffnMid : algebraic_FfnMidIdeal_FfnMidRefIdeal := by
  pair_intro
  · exact FfnMidIdeal.Value.run_blocks (F := Ideal) m g
  · refine (θ_run defs _ _).mono (fun _ h c => ?_) (Value.run (F := Ideal) m' g'); obtain ⟨h1, h2, h3, h4, rest⟩ := h c; refine ⟨h1.trans ?_, h2.trans ?_, h3.trans ?_, h4.trans ?_, rest⟩
    · rw [Read.val_main_v117_eq, FfnMidIdeal.Prod.final12]; simp only [hagree c]; exact funext (gdx_eq m c)
    · rw [Read.val_main_v118_eq, FfnMidIdeal.Prod.final13]; simp only [hagree c]; exact funext (vdx_eq m c)
    · rw [Read.val_main_v119_eq, FfnMidIdeal.Prod.final14]; simp only [hagree c]; exact funext (gdw_eq m c)
    · rw [Read.val_main_v120_eq, FfnMidIdeal.Prod.final15]; simp only [hagree c]; exact funext (vdw_eq m c)
-- ==== Proof.RmsF.lean ====
module

public import proofs.«01_k».proof.Proof.Kit
public import proofs.«01_k».proof.Proof.Gen.RmsFIdeal.Value
public import proofs.«01_k».proof.Proof.Gen.RmsFRefIdeal.Run

@[expose] public section
set_option maxRecDepth 16384
noncomputable section
open Idealize ShloMosaic TcCoe SL.Sem

namespace Cert.RmsFIdeal.Prod

open Gen Step

variable (m : (ℓ : Loc nD τ sig) → Buf (Elt Ideal) ℓ)

/-- The block indices at each grid point. -/
theorem idx : ∀ t : Fin cfg0.N, win0_0.index t = ![t.val, 0] ∧ win0_1.index t = ![0, 0] ∧ win0_2.index t = ![t.val, 0] ∧ win0_3.index t = ![0, t.val] := (by decide +kernel : ∀ t : Fin grid0.N, _)

/-- Row `i` of the residual stream. -/
def row (c : Dev nD) (i : Fin 8320) : Fin 1024 → EReal := fun k => m (c.tc.loc main_arg0) (ix2 i k)

/-- The gain. -/
def gain (c : Dev nD) : Fin 1024 → EReal := fun k => m (c.tc.loc main_arg1) (ix2 0 k)

theorem blkRow_eq (c : Dev nD) (t : Fin cfg0.N) (i : Fin 640) (a : Fin 8320) (ha : a.val = t.val * 640 + i.val) : (fun k : Fin 1024 => iblk m c 0 t (ix2 i k)) = row m c a := by
  funext k
  unfold row
  blk_ext [iblk, V, idx t]

theorem blkGain_eq (c : Dev nD) (t : Fin cfg0.N) : (fun k : Fin 1024 => iblk m c 1 t (ix2 0 k)) = gain m c := by
  funext k
  unfold gain
  blk_ext [iblk, V, idx t]

/-- First result: the normalised rows. -/
theorem final2 (c : Dev nD) : (dats m 0 c).arrAt 2 (cfgs 0).N = fun j => rms (row m c (j 0)) (gain m c) (j 1) := by
  refine (dats m 0 c).arrAt_eq_of_covers 2 _ (by decide +kernel) fun t hf y => ?_; blk_simp; rw [after0_2]; frame_out
  refine (show _ = rms (fun k => iblk m c 0 t (ix2 (y 0) k)) (fun k => iblk m c 1 t (ix2 0 k)) (y 1) by
    pointwise [k0_pay2, k0_pay1, rms, rmsInv, dot]).trans ?_
  refine rms_congr (blkRow_eq m c t _ _ ?_) (blkGain_eq m c t) ?_
  · blk_simp [idx t]
  · refine Fin.ext ?_; blk_simp [idx t]

/-- Second result: the same, transposed. -/
theorem final3 (c : Dev nD) : (dats m 0 c).arrAt 3 (cfgs 0).N = fun j => rms (row m c (j 1)) (gain m c) (j 0) := by
  refine (dats m 0 c).arrAt_eq_of_covers 3 _ (by decide +kernel) fun t hf y => ?_; blk_simp; rw [after0_3]; frame_out
  refine (show _ = rms (fun k => iblk m c 0 t (ix2 (y 1) k)) (fun k => iblk m c 1 t (ix2 0 k)) (y 0) by
    pointwise [k0_pay3, k0_pay1, rms, rmsInv, dot]).trans ?_
  refine rms_congr (blkRow_eq m c t _ _ ?_) (blkGain_eq m c t) ?_
  · blk_simp [idx t]
  · refine Fin.ext ?_; blk_simp [idx t]

/-- The first normalisation of a layer is the reference's. -/
theorem _root_.Cert.Step.rmsF : algebraic_RmsFIdeal_RmsFRefIdeal := by
  pair_intro
  · run_from Gen.run_main m g
  · hlo_run
    · rw [final2]
      funext j
      pointwise [row, gain, rms, rmsInv, dot]
    · rw [final3]
      funext j
      pointwise [row, gain, rms, rmsInv, dot]
-- ==== Proof.ConvF.lean ====
module

public import proofs.«01_k».proof.Proof.Kit
public import proofs.«01_k».proof.Proof.Gen.ConvFIdeal.Value
public import proofs.«01_k».proof.Proof.Gen.ConvFRefIdeal.Read

@[expose] public section
set_option maxRecDepth 16384
noncomputable section
open Idealize ShloMosaic TcCoe SL.Sem

namespace Cert.ConvFIdeal.Prod

open Gen Step

variable (m : (ℓ : Loc nD τ sig) → Buf (Elt Ideal) ℓ) (c : Dev nD) (t : Fin cfg0.N)

/-- The block indices at each grid point. -/
theorem idx : ∀ t : Fin cfg0.N, win0_0.index t = ![t.val / 2, t.val % 2] ∧ win0_1.index t = ![t.val / 2 * 80 - 1, t.val % 2] ∧ win0_2.index t = ![0, t.val % 2]
    ∧ win0_3.index t = ![t.val / 2, t.val % 2] :=
  (by decide +kernel : ∀ t : Fin grid0.N, _)

/-- Column `k` of the input of the convolution. -/
def xcol (c : Dev nD) (k : Fin 3072) : Fin 8320 → EReal := fun i => m (c.tc.loc main_arg0) (ix2 i k)

/-- The column of the whole arrays that column `q` of a block of point `t` is. -/
def col (t : Fin cfg0.N) (q : Fin 1536) : Fin 3072 := ⟨t.val % 2 * 1536 + q.val, by omega⟩

theorem coord0 (t : Fin cfg0.N) : (grid0.coords t 0).val = t.val / 2 := (by decide +kernel : ∀ t : Fin grid0.N, (grid0.coords t 0).val = t.val / 2) t

/-- The rows of the input a point works on: eight rows before its block, then its block. -/
theorem xbuf : (View.whole cc0_scratch0).readCov [(⟨Rect.unit ![8, 0] ![640, 1536] inb_S648x1536_S640x1536_8_0, k0_pay2 (iblk m c 0 t)⟩ : View.Piece (Elt Ideal) S648x1536 .f32),
        ⟨Rect.unit ![0, 0] ![8, 1536] inb_S648x1536_S8x1536_0_0, k0_pay1 (grid0.coords t) (iblk m c 1 t)⟩] (Rect.unit ![0, 0] ![648, 1536] inb_S648x1536_S648x1536_0_0).toLoadRect
      = fun j => lag 8 8320 (xcol m c (col t (j 1))) (t.val / 2 * 640 + (j 0).val) := by
  have ht : t.val < 26 := t.isLt
  refine readCov_rows_two (Val := Elt Ideal) (e := .f32) (m := 648) (n := 1536) (k1 := 640) (o1 := 8) (k2 := 8) (o2 := 0)
    (View.whole cc0_scratch0) _ _ _ _ _
    (fun (a : Fin 648) q => lag 8 8320 (xcol m c (col t q)) (t.val / 2 * 640 + a.val)) (by omega) ?_ ?_
  · intro i q a ha; rw [lag_of_eq _ (⟨t.val / 2 * 640 + i.val, by omega⟩ : Fin 8320) (by show _ = 8 + (t.val / 2 * 640 + i.val); omega)]; unfold xcol
    refine Eq.trans (b := iblk m c 0 t (ix2 i q)) ?_ ?_
    · pointwise [k0_pay2]
    · unfold col
      blk_ext [iblk, V, idx t]
  · intro i q a ha; by_cases h : t.val / 2 = 0
    · rw [lag_of_out _ (by omega)]; refine Eq.trans (b := Scalar.select (IntOp.cmpi .sgt (BitVec.ofNat 32 (grid0.coords t 0).val) 0#32) (iblk m c 1 t (ix2 i q)) (0 : EReal)) ?_ ?_
      · pointwise [k0_pay1]; rfl
      · rw [coord0, h]; rfl
    · rw [lag_of_eq _ (⟨t.val / 2 * 640 + i.val - 8, by omega⟩ : Fin 8320) (by show _ = 8 + (t.val / 2 * 640 + i.val - 8); omega)]
      refine Eq.trans (b := Scalar.select (IntOp.cmpi .sgt (BitVec.ofNat 32 (grid0.coords t 0).val) 0#32) (iblk m c 1 t (ix2 i q)) (0 : EReal)) ?_ ?_
      · pointwise [k0_pay1]; rfl
      · rw [coord0]; have hp : 0 < t.val / 2 := by omega
        simp (disch := word_cmp_side) only [hlo_ix]; rw [if_pos hp]; unfold xcol col
        blk_ext [iblk, V, idx t]

/-- The weight of tap `j` in column `k`. -/
def tap (c : Dev nD) (j : Fin 4) (k : Fin 3072) : EReal := m (c.tc.loc main_arg1) (ix2 j k)

theorem tap_eq (j : Fin 4) (q : Fin 1536) : tap m c j (col t q) = iblk m c 2 t (ix2 j q) := by
  unfold tap col
  blk_ext [iblk, V, idx t]

/-- The convolution: each of the last four rows times its tap. -/
def out (c : Dev nD) (r : ℕ) (k : Fin 3072) : EReal :=
  lag 3 8320 (xcol m c k) r * tap m c 0 k + lag 3 8320 (xcol m c k) (r + 1) * tap m c 1 k
    + lag 3 8320 (xcol m c k) (r + 2) * tap m c 2 k + lag 3 8320 (xcol m c k) (r + 3) * tap m c 3 k

/-- What a point stores, entry by entry. -/
theorem stored (y : S640x1536.Idx) : k0_pay3 (fun j : S648x1536.Idx => lag 8 8320 (xcol m c (col t (j 1))) (t.val / 2 * 640 + (j 0).val)) (iblk m c 2 t) y
      = out m c (t.val / 2 * 640 + (y 0).val) (col t (y 1)) := by
  have hy : (y 0).val < 640 := (y 0).isLt; have e1 : (8 + (y 0).val + 648 - 3) % 648 = (y 0).val + 5 := by omega
  have e2 : (8 + (y 0).val + 648 - 2) % 648 = (y 0).val + 6 := by omega
  have e3 : (8 + (y 0).val + 648 - 1) % 648 = (y 0).val + 7 := by omega
  pointwise [k0_pay3]; rw [e1, e2, e3]; unfold out; rw [tap_eq m c t 0 (y 1), tap_eq m c t 1 (y 1), tap_eq m c t 2 (y 1), tap_eq m c t 3 (y 1)]
  have f : ∀ p d, p = d + 5 → lag 8 8320 (xcol m c (col t (y 1))) (t.val / 2 * 640 + p)
      = lag 3 8320 (xcol m c (col t (y 1))) (t.val / 2 * 640 + d) :=
    fun p d h => lag_shift 3 8320 5 _ _ _ (by omega)
  have f0 := f ((y 0).val + 5) (y 0).val rfl; have f1 := f ((y 0).val + 6) ((y 0).val + 1) rfl; have f2 := f ((y 0).val + 7) ((y 0).val + 2) rfl
  have f3 := f (8 + (y 0).val) ((y 0).val + 3) (by omega); rw [f0, f1, f2, f3]; rfl

/-- The result: the convolution. -/
theorem final3 (c : Dev nD) : (dats m 0 c).arrAt 3 (cfgs 0).N = fun j => out m c (j 0).val (j 1) := by
  refine (dats m 0 c).arrAt_eq_of_covers 3 _ (by decide +kernel) fun t hf y => ?_; blk_simp; rw [after0_3]
  refine Eq.trans (b := out m c (t.val / 2 * 640 + (y 0).val) (col t (y 1))) ?_ (congr (congrArg (out m c) ?_) ?_)
  · unfold outsAt0; frame_out; rw [xbuf m c t]; exact stored m c t y
  · blk_simp [idx t]
  · refine Fin.ext ?_; unfold col; blk_simp [idx t]

end Cert.ConvFIdeal.Prod

namespace Cert.ConvFRefIdeal.Prod

open Gen Read Step

/-- Three rows of zeros above the input. -/
theorem ext (x0 : S8320x3072.Idx → EReal) (a : Fin 8323) (k : Fin 3072) : val_main_v1 (F := Ideal) x0 (ix2 a k) = lag 3 8320 (fun i => x0 (ix2 i k)) a.val :=
  zeros_above _ _ _ (fun j => by pointwise [val_main_v0, val_main_cst]) a a.isLt k

/-- The reference's convolution, entry by entry. -/
theorem conv (x0 : S8320x3072.Idx → EReal) (x1 : S4x3072.Idx → EReal) (i : Fin 8320) (k : Fin 3072) : val_main_v28 (F := Ideal) x0 x1 (ix2 i k)
      = lag 3 8320 (fun i => x0 (ix2 i k)) i.val * x1 (ix2 0 k) + lag 3 8320 (fun i => x0 (ix2 i k)) (i.val + 1) * x1 (ix2 1 k)
        + lag 3 8320 (fun i => x0 (ix2 i k)) (i.val + 2) * x1 (ix2 2 k) + lag 3 8320 (fun i => x0 (ix2 i k)) (i.val + 3) * x1 (ix2 3 k) := by
  have e0 := ext x0 ⟨i.val, by omega⟩ k; have e1 := ext x0 ⟨i.val + 1, by omega⟩ k; have e2 := ext x0 ⟨i.val + 2, by omega⟩ k; have e3 := ext x0 ⟨i.val + 3, by omega⟩ k; rw [← e0, ← e1, ← e2, ← e3]
  pointwise [val_main_v28, val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10, val_main_v9, val_main_v8,
    val_main_v7, val_main_v6, val_main_v5, val_main_v4, val_main_v3, val_main_v2]
  simp only [Nat.add_comm]

/-- The convolution of the projected rows is the reference's. -/
theorem _root_.Cert.Step.convF : algebraic_ConvFIdeal_ConvFRefIdeal := by
  pair_intro
  · exact ConvFIdeal.Value.run_blocks (F := Ideal) m g
  · refine (θ_run defs _ _).mono (fun _ h c => ?_) (Value.run (F := Ideal) m' g'); obtain ⟨h1, rest⟩ := h c; refine ⟨h1.trans ?_, rest⟩; rw [Read.val_main_v28_eq, ConvFIdeal.Prod.final3]
    simp only [hagree c]
    funext j
    obtain ⟨i, k, rfl⟩ : ∃ (i : Fin 8320) (k : Fin 3072), j = ix2 i k := ⟨j 0, j 1, (ix2_eta j).symm⟩; exact conv _ _ i k
-- ==== Proof.PoolF.lean ====
module

public import proofs.«01_k».proof.Proof.Kit
public import proofs.«01_k».proof.Proof.Gen.PoolFIdeal.Value
public import proofs.«01_k».proof.Proof.Gen.PoolFRefIdeal.Read

@[expose] public section
set_option maxRecDepth 16384
noncomputable section
open Idealize ShloMosaic TcCoe SL.Sem

namespace Cert.Step

/-- How many rows the window of `w` rows that ends in row `i` holds: the row's place behind the 48 leading rows, at least one and at
    most `w`. -/
def held (w : ℕ) (i : ℕ) : EReal := FloatOps.sitofp (F := Ideal) FTy.f32 (IntOp.minsi (BitVec.ofNat 32 w) (IntOp.maxsi 1#32 (BitVec.ofNat 32 i - 48#32 + 1#32)))

/-- The width of the windows of a column, by its group of 128. -/
def wide (q : ℕ) : ℕ := if q < 128 then 2 else if q < 256 then 4 else if q < 384 then 8 else 16

/-- The mean of the window of `w` rows that ends in row `r`, less the row itself. -/
def mean (w : ℕ) (f : Fin 8320 → EReal) (r : Fin 8320) : EReal := Ideal.div (∑ j ∈ Finset.range w, lag 16 8320 f (r.val + 16 - j)) (held w r.val) - f r

end Cert.Step

namespace Cert.PoolFIdeal.Prod

open Gen Step

variable (m : (ℓ : Loc nD τ sig) → Buf (Elt Ideal) ℓ) (c : Dev nD) (t : Fin cfg0.N)

/-- The block indices at each grid point. -/
theorem idx : ∀ t : Fin cfg0.N, win0_0.index t = ![t.val, 0] ∧ win0_1.index t = ![t.val * 40 - 1, 0] ∧ win0_2.index t = ![t.val, 0] := (by decide +kernel : ∀ t : Fin grid0.N, _)

theorem coord0 (t : Fin cfg0.N) : (grid0.coords t 0).val = t.val := (by decide +kernel : ∀ t : Fin grid0.N, (grid0.coords t 0).val = t.val) t

/-- A matrix added to itself `s` rows down. -/
def down (s : BitVec 32) (x : FVec Ideal S656x512 .f32) : FVec Ideal S656x512 .f32 := addf x (dynamicRotate 0 s none x rotates_S656x512_d0)

/-- Rotating by `n` adds the row `n` before, as long as there is one. -/
def Moves (s : BitVec 32) (n : ℕ) : Prop := ∀ (x : S656x512.Idx → EReal) (r : Fin 656) (k : Fin 512), n ≤ r.val →
  down s x (ix2 r k) = x (ix2 r k) + x (ix2 ⟨r.val - n, by omega⟩ k)

theorem down1 : Moves 1#32 1 := fun x r k h => by
  have e : (r.val + 656 - 1) % 656 = r.val - 1 := by omega
  pointwise [down]; simp only [e]

theorem down2 : Moves 2#32 2 := fun x r k h => by
  have e : (r.val + 656 - 2) % 656 = r.val - 2 := by omega
  pointwise [down]; simp only [e]

theorem down4 : Moves 4#32 4 := fun x r k h => by
  have e : (r.val + 656 - 4) % 656 = r.val - 4 := by omega
  pointwise [down]; simp only [e]

theorem down8 : Moves 8#32 8 := fun x r k h => by
  have e : (r.val + 656 - 8) % 656 = r.val - 8 := by omega
  pointwise [down]; simp only [e]

/-- Column `k` of `x` holds, from each row back, the sums of `n` entries of `f`. -/
def Sums (n : ℕ) (x : S656x512.Idx → EReal) (k : Fin 512) (f : ℕ → EReal) : Prop := ∀ (a : ℕ) (h : a < 656), n ≤ a + 1 → x (ix2 ⟨a, h⟩ k) = ∑ j ∈ Finset.range n, f (a - j)

/-- Adding the column `n` rows down doubles the number of entries summed. -/
theorem Sums.twice {n : ℕ} {x : S656x512.Idx → EReal} {k : Fin 512} {f : ℕ → EReal} (hx : Sums n x k f) {s : BitVec 32} (hs : Moves s n) (hn : 0 < n) : Sums (n + n) (down s x) k f := fun a h ha => by
  rw [hs x ⟨a, h⟩ k (by show n ≤ a; omega), hx a h (by omega), Finset.sum_range_add]
  refine congrArg (_ + ·) ((hx (a - n) (by omega) (by omega)).trans (Finset.sum_congr rfl fun j _ => congrArg f (by omega)))

/-- The word of a row's place, behind the 48 leading rows. -/
theorem place (t : grid0.Coords) (r : Fin 640) (z : Fin 1) : k0_pay3 t (ix2 r z) = BitVec.ofNat 32 ((t 0).val * 640 + r.val) - 48#32 := by
  pointwise [k0_pay3]; show IntOp.subi (IntOp.addi (IntOp.muli (BitVec.ofNat 32 (t 0).val) (BitVec.ofNat 32 640)) (BitVec.ofNat 32 r.val)) 48#32 = _; rw [WordCmp.muli_ofNat, WordCmp.addi_ofNat]; rfl

/-- The sums of windows of 2, 4, 8 and 16 rows. -/
def win2 (x : S656x512.Idx → EReal) : S656x512.Idx → EReal := down 1#32 x

def win4 (x : S656x512.Idx → EReal) : S656x512.Idx → EReal := down 2#32 (win2 x)

def win8 (x : S656x512.Idx → EReal) : S656x512.Idx → EReal := down 4#32 (win4 x)

def win16 (x : S656x512.Idx → EReal) : S656x512.Idx → EReal := down 8#32 (win8 x)

theorem pay5_eq (x : S656x512.Idx → EReal) : k0_pay5 (F := Ideal) x = win2 x := rfl

theorem pay8_eq (x : S656x512.Idx → EReal) : k0_pay8 (F := Ideal) (k0_pay5 x) (k0_pay7 x) = win4 x := rfl

theorem pay10_eq (x : S656x512.Idx → EReal) : k0_pay10 (F := Ideal) (k0_pay5 x) (k0_pay7 x) = win8 x := rfl

theorem group0 (t : grid0.Coords) (x : S656x512.Idx → EReal) (r : Fin 640) (k : Fin 128) : k0_pay6 (F := Ideal) t x (ix2 r k)
      = Ideal.div (win2 x (ix2 ⟨16 + r.val, by omega⟩ ⟨0 + k.val, by omega⟩)) (held 2 ((t 0).val * 640 + r.val)) - x (ix2 ⟨16 + r.val, by omega⟩ ⟨0 + k.val, by omega⟩) := by
  unfold k0_pay6; rw [pay5_eq]; generalize win2 x = y; pointwise [k0_pay4]; rw [place]; simp only [Nat.zero_add]; rfl

theorem group1 (t : grid0.Coords) (x : S656x512.Idx → EReal) (r : Fin 640) (k : Fin 128) : k0_pay9 (F := Ideal) (k0_pay3 t) (k0_pay4 x) (k0_pay5 x) (k0_pay7 x) (ix2 r k)
      = Ideal.div (win4 x (ix2 ⟨16 + r.val, by omega⟩ ⟨128 + k.val, by omega⟩)) (held 4 ((t 0).val * 640 + r.val)) - x (ix2 ⟨16 + r.val, by omega⟩ ⟨128 + k.val, by omega⟩) := by
  unfold k0_pay9; rw [pay8_eq]; generalize win4 x = y; pointwise [k0_pay4]; rw [place]; rfl

theorem group2 (t : grid0.Coords) (x : S656x512.Idx → EReal) (r : Fin 640) (k : Fin 128) : k0_pay11 (F := Ideal) (k0_pay3 t) (k0_pay4 x) (k0_pay5 x) (k0_pay7 x) (ix2 r k)
      = Ideal.div (win8 x (ix2 ⟨16 + r.val, by omega⟩ ⟨256 + k.val, by omega⟩)) (held 8 ((t 0).val * 640 + r.val)) - x (ix2 ⟨16 + r.val, by omega⟩ ⟨256 + k.val, by omega⟩) := by
  unfold k0_pay11; rw [pay10_eq]; generalize win8 x = y; pointwise [k0_pay4]; rw [place]; rfl

theorem group3 (t : grid0.Coords) (x : S656x512.Idx → EReal) (r : Fin 640) (k : Fin 128) : k0_pay12 (F := Ideal) (k0_pay3 t) (k0_pay4 x) (k0_pay5 x) (k0_pay7 x) (ix2 r k)
      = Ideal.div (win16 x (ix2 ⟨16 + r.val, by omega⟩ ⟨384 + k.val, by omega⟩)) (held 16 ((t 0).val * 640 + r.val)) - x (ix2 ⟨16 + r.val, by omega⟩ ⟨384 + k.val, by omega⟩) := by
  unfold k0_pay12; rw [pay10_eq]
  show (subf (divf (extractStridedSlice S640x128 ![16, 384] (win16 x : FVec Ideal S656x512 .f32) slices_S656x512_o16_384_S640x128) _) _ : FVec Ideal S640x128 .f32) (ix2 r k) = _
  generalize win16 x = y; pointwise [k0_pay4]; rw [place]; rfl

/-- Column `k` of the input. -/
def xcol (c : Dev nD) (k : Fin 512) : Fin 8320 → EReal := fun i => m (c.tc.loc main_arg0) (ix2 i ⟨k.val, by omega⟩)

/-- The rows of the input a point works on, from sixteen rows before its block on. -/
def xrows : S656x512.Idx → EReal := fun j =>
  lag 16 8320 (xcol m c (j 1)) (t.val * 640 + (j 0).val)

/-- Entry by entry, the block of a point. -/
theorem main_at (i : Fin 640) (q : Fin 512) (h : t.val * 640 + i.val < 8320) : X0_0 m c t (ix2 i q) = m (c.tc.loc main_arg0) (ix2 ⟨t.val * 640 + i.val, h⟩ ⟨q.val, by omega⟩) := by
  unfold X0_0 Pipeline.Window.fill; rw [dif_pos (moved0_0 t (ix2 i q))]; unfold iblk; refine congrArg (m (c.tc.loc main_arg0)) (funext fun a => Fin.ext ?_); have e := (idx t).1
  fin_cases a
  · show win0_0.index t 0 * 640 + 1 * i.val = t.val * 640 + i.val; rw [e]; simp
  · show win0_0.index t 1 * 512 + 1 * q.val = q.val; rw [e]; simp

/-- Entry by entry, the sixteen rows before the block of a point. -/
theorem halo_at (i : Fin 16) (q : Fin 512) (h : t.val * 640 + i.val - 16 < 8320) (h0 : t.val ≠ 0) :
    X0_1 m c t (ix2 i q) = m (c.tc.loc main_arg0) (ix2 ⟨t.val * 640 + i.val - 16, h⟩ ⟨q.val, by omega⟩) := by
  unfold X0_1 Pipeline.Window.fill; rw [dif_pos (moved0_1 t (ix2 i q))]; unfold iblk; refine congrArg (m (c.tc.loc main_arg0)) (funext fun a => Fin.ext ?_); have e := (idx t).2.1
  fin_cases a
  · show win0_1.index t 0 * 16 + 1 * i.val = t.val * 640 + i.val - 16; rw [e]; show (t.val * 40 - 1) * 16 + 1 * i.val = t.val * 640 + i.val - 16; omega
  · show win0_1.index t 1 * 512 + 1 * q.val = q.val; rw [e]; simp

/-- What the buffer holds: sixteen rows before the block of the point, then the block. -/
theorem xbuf {sp : Space} (v : View sig .tc sp S656x512 .f32) : v.readCov [(⟨Rect.unit ![16, 0] ![640, 512] inb_S656x512_S640x512_16_0, k0_pay2 (X0_0 m c t)⟩ : View.Piece (Elt Ideal) S656x512 .f32),
        ⟨Rect.unit ![0, 0] ![16, 512] inb_S656x512_S16x512_0_0, k0_pay1 (grid0.coords t) (X0_1 m c t)⟩] (Rect.unit ![0, 0] ![656, 512] inb_S656x512_S656x512_0_0).toLoadRect = xrows m c t := by
  have ht : t.val < 13 := t.isLt
  refine readCov_rows_two (Val := Elt Ideal) (e := .f32) (m := 656) (n := 512) (k1 := 640) (o1 := 16) (k2 := 16) (o2 := 0)
    v _ _ _ _ _
    (fun (a : Fin 656) q => lag 16 8320 (xcol m c q) (t.val * 640 + a.val)) (by omega) ?_ ?_
  · intro i q a ha; rw [lag_of_eq _ (⟨t.val * 640 + i.val, by omega⟩ : Fin 8320) (by show _ = 16 + (t.val * 640 + i.val); omega)]; unfold xcol; refine Eq.trans (b := X0_0 m c t (ix2 i q)) ?_ ?_
    · pointwise [k0_pay2]
    · exact main_at m c t i q _
  · intro i q a ha
    have e : k0_pay1 (grid0.coords t) (X0_1 m c t) (ix2 i q)
        = Scalar.select (IntOp.cmpi .sgt (BitVec.ofNat 32 (grid0.coords t 0).val) 0#32) (X0_1 m c t (ix2 i q)) (0 : EReal) := by
      pointwise [k0_pay1]; rfl
    by_cases h : t.val = 0
    · rw [lag_of_out _ (by omega)]; refine e.trans ?_; rw [coord0, h]; rfl
    · rw [lag_of_eq _ (⟨t.val * 640 + i.val - 16, by omega⟩ : Fin 8320) (by show _ = 16 + (t.val * 640 + i.val - 16); omega)]; refine e.trans ?_; rw [coord0]; have hp : 0 < t.val := by omega
      simp (disch := word_cmp_side) only [hlo_ix]; rw [if_pos hp]; unfold xcol; exact halo_at m c t i q _ h

/-- Each row is the sum of one entry. -/
theorem sums1 (q : Fin 512) : Sums 1 (xrows m c t) q (fun a => lag 16 8320 (xcol m c q) (t.val * 640 + a)) := fun a h _ => by
  rw [Finset.sum_range_one]; rfl

theorem sums2 (q : Fin 512) : Sums 2 (win2 (xrows m c t)) q (fun a => lag 16 8320 (xcol m c q) (t.val * 640 + a)) := (sums1 m c t q).twice down1 (by omega)

theorem sums4 (q : Fin 512) : Sums 4 (win4 (xrows m c t)) q (fun a => lag 16 8320 (xcol m c q) (t.val * 640 + a)) := (sums2 m c t q).twice down2 (by omega)

theorem sums8 (q : Fin 512) : Sums 8 (win8 (xrows m c t)) q (fun a => lag 16 8320 (xcol m c q) (t.val * 640 + a)) := (sums4 m c t q).twice down4 (by omega)

theorem sums16 (q : Fin 512) : Sums 16 (win16 (xrows m c t)) q (fun a => lag 16 8320 (xcol m c q) (t.val * 640 + a)) := (sums8 m c t q).twice down8 (by omega)

/-- The row of the whole arrays that row `i` of a block of point `t` is. -/
def row (t : Fin cfg0.N) (i : Fin 640) : Fin 8320 := ⟨t.val * 640 + i.val, by
  have h : t.val < 13 := t.isLt
  omega⟩

/-- The result: the means of the windows, less the rows. -/
def out (c : Dev nD) (r : Fin 8320) (q : Fin 512) : EReal := mean (wide q.val) (xcol m c q) r

theorem close (w : ℕ) (x : S656x512.Idx → EReal) (a : Fin 640) (q : Fin 512) (k : Fin 128) (o : ℕ) (ho : o + 128 ≤ 512) (hq : q.val = o + k.val) (hs : wide q.val = w) (h16 : w < 17)
    (hx : Sums w x q (fun a => lag 16 8320 (xcol m c q) (t.val * 640 + a))) : Ideal.div (x (ix2 ⟨16 + a.val, by omega⟩ ⟨o + k.val, by omega⟩)) (held w ((grid0.coords t 0).val * 640 + a.val))
      - xrows m c t (ix2 ⟨16 + a.val, by omega⟩ ⟨o + k.val, by omega⟩) = out m c (row t a) q := by
  have ht : t.val < 13 := t.isLt; have e : (⟨o + k.val, by omega⟩ : Fin 512) = q := Fin.ext hq.symm; rw [e, hx (16 + a.val) (by omega) (by omega), coord0]; unfold out mean; rw [hs]
  refine congrArg₂ (fun a b : EReal => a - b) (congrArg (fun s => Ideal.div s _) (Finset.sum_congr rfl fun j hj => congrArg _ ?_)) ?_
  · have := Finset.mem_range.mp hj; show _ = t.val * 640 + a.val + 16 - j; omega
  · exact lag_of_eq (xcol m c q) (row t a) (by show t.val * 640 + (16 + a.val) = 16 + (t.val * 640 + a.val); omega)

theorem final2 (c : Dev nD) : (dats m 0 c).arrAt 2 (cfgs 0).N = fun j => out m c (j 0) (j 1) := by
  refine (dats m 0 c).arrAt_eq_of_covers 2 _ (by decide +kernel) fun t hf y => ?_; have ht : t.val < 13 := t.isLt; blk_simp; rw [after0_2]; unfold outsAt0; frame_out
  simp only [xbuf m c t (View.whole cc0_scratch0)]; obtain ⟨a, q, rfl⟩ : ∃ (a : Fin 640) (q : Fin 512), y = ix2 a q := ⟨y 0, y 1, (ix2_eta y).symm⟩
  refine Eq.trans (b := out m c (row t a) q) ?_ (congr (congrArg (out m c) ?_) ?_)
  · refine canon_cols_cons _ _ _ _ a q (fun k hk => (group3 _ _ a k).trans (close m c t 16 _ a q k 384 (by omega) hk ?_ (by omega) (sums16 m c t q))) fun h3 => ?_
    · unfold wide; split_ifs <;> omega
    refine canon_cols_cons _ _ _ _ a q (fun k hk => (group2 _ _ a k).trans (close m c t 8 _ a q k 256 (by omega) hk ?_ (by omega) (sums8 m c t q))) fun h2 => ?_
    · unfold wide; split_ifs <;> omega
    refine canon_cols_cons _ _ _ _ a q (fun k hk => (group1 _ _ a k).trans (close m c t 4 _ a q k 128 (by omega) hk ?_ (by omega) (sums4 m c t q))) fun h1 => ?_
    · unfold wide; split_ifs <;> omega
    refine canon_cols_cons _ _ _ _ a q (fun k hk => (group0 _ _ a k).trans (close m c t 2 _ a q k 0 (by omega) hk ?_ (by omega) (sums2 m c t q))) fun h0 => ?_
    · unfold wide; split_ifs <;> omega
    have := q.isLt; omega
  · refine Fin.ext ?_; unfold row; blk_simp [idx t]
  · refine Fin.ext ?_; blk_simp [idx t]

end Cert.PoolFIdeal.Prod

namespace Cert.PoolFRefIdeal.Prod

open Gen Read Step

variable (x0 : S8320x640.Idx → EReal)

/-- The window of `s + 1` rows, counted from the `s` rows of zeros in front of the array. -/
theorem recount (f : Fin 8320 → EReal) (s r : ℕ) (hs : s < 16) : (∑ j ∈ Finset.range (s + 1), lag 16 8320 f (r + 16 - j)) = ∑ j ∈ Finset.range (s + 1), lag s 8320 f (s - j + r) := by
  refine Finset.sum_congr rfl fun j hj => ?_; have := Finset.mem_range.mp hj; have e := lag_shift s 8320 (16 - s) f (s - j + r) (r + 16 - j) (by omega)
  rwa [show s + (16 - s) = 16 by omega] at e

/-- Group 0: its columns, the zeros in front of them, and its result. -/
theorem col0 (i : Fin 8320) (k : Fin 128) : val_main_v6 (F := Ideal) x0 (ix2 i k) = x0 (ix2 i ⟨0 + k.val, by omega⟩) := by pointwise [val_main_v6, val_main_v5, val_main_v1, val_main_v0]

theorem ext0 (a : Fin 8321) (k : Fin 128) : val_main_v8 (F := Ideal) x0 (ix2 a k) = lag 1 8320 (fun i => x0 (ix2 i ⟨0 + k.val, by omega⟩)) a.val :=
  (zeros_above _ _ _ (fun j => by pointwise [val_main_v7, val_main_cst]) a a.isLt k).trans
    (congrArg (fun f => lag 1 8320 f a.val) (funext fun i => col0 x0 i k))

theorem own0 (i : Fin 8320) (k : Fin 128) : val_main_v19 (F := Ideal) x0 (ix2 i k) = mean 2 (fun i => x0 (ix2 i ⟨0 + k.val, by omega⟩)) i := by
  unfold mean; rw [recount _ 1 i.val (by omega)]; simp only [Finset.sum_range_succ, Finset.range_zero, Finset.sum_empty, zero_add, Nat.sub_zero, Nat.reduceSub]
  pointwise [val_main_v19, val_main_v18, val_main_v17, val_main_v16, val_main_v15, val_main_v14, val_main_v13, val_main_v12, val_main_v11, val_main_v10, val_main_v9, val_main_call0_v0, val_main_call0_v1, val_main_call0_v2, val_main_call0_v3, val_main_call0_v4, val_main_c_0, val_main_c_1, val_main_c_2, val_main_v4, val_main_v3, val_main_c, val_main_v2]
  simp only [ext0, col0, Nat.zero_add]; rfl

/-- Group 1: its columns, the zeros in front of them, and its result. -/
theorem col1 (i : Fin 8320) (k : Fin 128) : val_main_v21 (F := Ideal) x0 (ix2 i k) = x0 (ix2 i ⟨128 + k.val, by omega⟩) := by pointwise [val_main_v21, val_main_v20, val_main_v1, val_main_v0]

theorem ext1 (a : Fin 8323) (k : Fin 128) : val_main_v23 (F := Ideal) x0 (ix2 a k) = lag 3 8320 (fun i => x0 (ix2 i ⟨128 + k.val, by omega⟩)) a.val :=
  (zeros_above _ _ _ (fun j => by pointwise [val_main_v22, val_main_cst_3]) a a.isLt k).trans
    (congrArg (fun f => lag 3 8320 f a.val) (funext fun i => col1 x0 i k))

theorem own1 (i : Fin 8320) (k : Fin 128) : val_main_v38 (F := Ideal) x0 (ix2 i k) = mean 4 (fun i => x0 (ix2 i ⟨128 + k.val, by omega⟩)) i := by
  unfold mean; rw [recount _ 3 i.val (by omega)]; simp only [Finset.sum_range_succ, Finset.range_zero, Finset.sum_empty, zero_add, Nat.sub_zero, Nat.reduceSub]
  pointwise [val_main_v38, val_main_v37, val_main_v36, val_main_v35, val_main_v34, val_main_v33, val_main_v32, val_main_v31, val_main_v30, val_main_v29, val_main_v28, val_main_v27, val_main_v26, val_main_v25, val_main_v24, val_main_call1_v0, val_main_call1_v1, val_main_call1_v2, val_main_call1_v3, val_main_call1_v4, val_main_c_4, val_main_c_5, val_main_c_6, val_main_v4, val_main_v3, val_main_c, val_main_v2]
  simp only [ext1, col1]; rfl

/-- Group 2: its columns, the zeros in front of them, and its result. -/
theorem col2 (i : Fin 8320) (k : Fin 128) : val_main_v40 (F := Ideal) x0 (ix2 i k) = x0 (ix2 i ⟨256 + k.val, by omega⟩) := by pointwise [val_main_v40, val_main_v39, val_main_v1, val_main_v0]

theorem ext2 (a : Fin 8327) (k : Fin 128) : val_main_v42 (F := Ideal) x0 (ix2 a k) = lag 7 8320 (fun i => x0 (ix2 i ⟨256 + k.val, by omega⟩)) a.val :=
  (zeros_above _ _ _ (fun j => by pointwise [val_main_v41, val_main_cst_7]) a a.isLt k).trans
    (congrArg (fun f => lag 7 8320 f a.val) (funext fun i => col2 x0 i k))

theorem own2 (i : Fin 8320) (k : Fin 128) : val_main_v65 (F := Ideal) x0 (ix2 i k) = mean 8 (fun i => x0 (ix2 i ⟨256 + k.val, by omega⟩)) i := by
  unfold mean; rw [recount _ 7 i.val (by omega)]; simp only [Finset.sum_range_succ, Finset.range_zero, Finset.sum_empty, zero_add, Nat.sub_zero, Nat.reduceSub]
  pointwise [val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_call2_v0, val_main_call2_v1, val_main_call2_v2, val_main_call2_v3, val_main_call2_v4, val_main_c_8, val_main_c_9, val_main_c_10, val_main_v4, val_main_v3, val_main_c, val_main_v2]
  simp only [ext2, col2]; rfl

/-- Group 3: its columns, the zeros in front of them, and its result. -/
theorem col3 (i : Fin 8320) (k : Fin 128) : val_main_v67 (F := Ideal) x0 (ix2 i k) = x0 (ix2 i ⟨384 + k.val, by omega⟩) := by pointwise [val_main_v67, val_main_v66, val_main_v1, val_main_v0]

theorem ext3 (a : Fin 8335) (k : Fin 128) : val_main_v69 (F := Ideal) x0 (ix2 a k) = lag 15 8320 (fun i => x0 (ix2 i ⟨384 + k.val, by omega⟩)) a.val :=
  (zeros_above _ _ _ (fun j => by pointwise [val_main_v68, val_main_cst_11]) a a.isLt k).trans
    (congrArg (fun f => lag 15 8320 f a.val) (funext fun i => col3 x0 i k))

theorem own3 (i : Fin 8320) (k : Fin 128) : val_main_v108 (F := Ideal) x0 (ix2 i k) = mean 16 (fun i => x0 (ix2 i ⟨384 + k.val, by omega⟩)) i := by
  unfold mean; rw [recount _ 15 i.val (by omega)]; simp only [Finset.sum_range_succ, Finset.range_zero, Finset.sum_empty, zero_add, Nat.sub_zero, Nat.reduceSub]
  pointwise [val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_call3_v0, val_main_call3_v1, val_main_call3_v2, val_main_call3_v3, val_main_call3_v4, val_main_c_12, val_main_c_13, val_main_c_14, val_main_v4, val_main_v3, val_main_c, val_main_v2]
  simp only [ext3, col3]; rfl

/-- Four groups of columns side by side. -/
theorem stack (a0 a1 a2 a3 : S8320x1x128.Idx → EReal) (i : Fin 8320) (q : Fin 512) :
    (shapeCast (⟨2, ![8320, 512]⟩ : Shape) (concatenate S8320x4x128 1 [⟨S8320x1x128, a0⟩, ⟨S8320x1x128, a1⟩, ⟨S8320x1x128, a2⟩, ⟨S8320x1x128, a3⟩]
      concatenates_S8320x1x128_S8320x1x128_S8320x1x128_S8320x1x128_S8320x4x128_d1 : FVec Ideal S8320x4x128 .f32) shapeCasts_S8320x4x128_S8320x512 : FVec Ideal S8320x512 .f32) (ix2 i q)
      = if q.val < 128 then a0 (ix3 i 0 ⟨q.val % 128, by omega⟩) else if q.val < 256 then a1 (ix3 i 0 ⟨q.val % 128, by omega⟩)
        else if q.val < 384 then a2 (ix3 i 0 ⟨q.val % 128, by omega⟩) else a3 (ix3 i 0 ⟨q.val % 128, by omega⟩) := by
  have hq := q.isLt; pointwise; by_cases h1 : q.val < 128
  · rw [dif_pos (by omega), if_pos h1]; exact congrArg (fun b => a0 (ix3 i b _)) (Subsingleton.elim _ _)
  by_cases h2 : q.val < 256
  · rw [dif_neg (by omega), dif_pos (by omega), if_neg h1, if_pos h2]; exact congrArg (fun b => a1 (ix3 i b _)) (Subsingleton.elim _ _)
  by_cases h3 : q.val < 384
  · rw [dif_neg (by omega), dif_neg (by omega), dif_pos (by omega), if_neg h1, if_neg h2, if_pos h3]; exact congrArg (fun b => a2 (ix3 i b _)) (Subsingleton.elim _ _)
  · rw [dif_neg (by omega), dif_neg (by omega), dif_neg (by omega), if_neg h1, if_neg h2, if_neg h3]; exact congrArg (fun b => a3 (ix3 i b _)) (Subsingleton.elim _ _)

/-- The reference's result, entry by entry. -/
theorem all (i : Fin 8320) (q : Fin 512) : val_main_v114 (F := Ideal) x0 (ix2 i q) = mean (wide q.val) (fun i => x0 (ix2 i ⟨q.val, by omega⟩)) i := by
  have hq := q.isLt
  have key : ∀ (o w : ℕ) (h : o ≤ q.val ∧ q.val < o + 128) (ho : o + 128 ≤ 512), wide q.val = w →
      mean w (fun i => x0 (ix2 i ⟨o + q.val % 128, by omega⟩)) i = mean (wide q.val) (fun i => x0 (ix2 i ⟨q.val, by omega⟩)) i ∨ ¬ 128 ∣ o := by
    intro o w h ho hw; by_cases hd : 128 ∣ o
    · refine Or.inl ?_; rw [hw]; refine congrArg (fun f => mean w f i) (funext fun i => congrArg (fun b => x0 (ix2 i b)) (Fin.ext ?_)); show o + q.val % 128 = q.val; omega
    · exact Or.inr hd
  have s0 : ∀ k, val_main_v109 (F := Ideal) x0 (ix3 i 0 k) = val_main_v19 (F := Ideal) x0 (ix2 i k) := fun k => by pointwise [val_main_v109]
  have s1 : ∀ k, val_main_v110 (F := Ideal) x0 (ix3 i 0 k) = val_main_v38 (F := Ideal) x0 (ix2 i k) := fun k => by pointwise [val_main_v110]
  have s2 : ∀ k, val_main_v111 (F := Ideal) x0 (ix3 i 0 k) = val_main_v65 (F := Ideal) x0 (ix2 i k) := fun k => by pointwise [val_main_v111]
  have s3 : ∀ k, val_main_v112 (F := Ideal) x0 (ix3 i 0 k) = val_main_v108 (F := Ideal) x0 (ix2 i k) := fun k => by pointwise [val_main_v112]
  refine (stack (val_main_v109 (F := Ideal) x0) (val_main_v110 (F := Ideal) x0) (val_main_v111 (F := Ideal) x0) (val_main_v112 (F := Ideal) x0) i q).trans ?_; simp only [s0, s1, s2, s3]
  split_ifs with h1 h2 h3
  · exact (own0 x0 i _).trans ((key 0 2 (by omega) (by omega) (by unfold wide; split_ifs <;> omega)).resolve_right (by decide))
  · exact (own1 x0 i _).trans ((key 128 4 (by omega) (by omega) (by unfold wide; split_ifs <;> omega)).resolve_right (by decide))
  · exact (own2 x0 i _).trans ((key 256 8 (by omega) (by omega) (by unfold wide; split_ifs <;> omega)).resolve_right (by decide))
  · exact (own3 x0 i _).trans ((key 384 16 (by omega) (by omega) (by unfold wide; split_ifs <;> omega)).resolve_right (by decide))

/-- The means of the windows, less the rows, are the reference's. -/
theorem _root_.Cert.Step.poolF : algebraic_PoolFIdeal_PoolFRefIdeal := by
  pair_intro
  · exact PoolFIdeal.Value.run_blocks (F := Ideal) m g
  · refine (θ_run defs _ _).mono (fun _ h c => ?_) (Value.run (F := Ideal) m' g'); obtain ⟨h1, rest⟩ := h c; refine ⟨h1.trans ?_, rest⟩; rw [Read.val_main_v114_eq, PoolFIdeal.Prod.final2]
    simp only [hagree c]
    funext j
    obtain ⟨i, k, rfl⟩ : ∃ (i : Fin 8320) (k : Fin 512), j = ix2 i k := ⟨j 0, j 1, (ix2_eta j).symm⟩; exact all _ i k
-- ==== Proof.MixF.lean ====
module

public import proofs.«01_k».proof.Proof.Kit
public import proofs.«01_k».proof.Proof.Gen.MixFIdeal.Value
public import proofs.«01_k».proof.Proof.Gen.MixFRefIdeal.Read

@[expose] public section
set_option maxRecDepth 16384
noncomputable section
open Idealize ShloMosaic TcCoe SL.Sem

namespace Cert.Step

/-- Column `k` of the pooled branch before its scale: of the four groups of 128 columns, the one of `k` times its weight. -/
def poolPre (p : Fin 512 → EReal) (w : Fin 4 → Fin 128 → Fin 256 → EReal) (k : Fin 1024) : EReal :=
  total 128 fun l => p ⟨k.val / 256 * 128 + l.val, by omega⟩ * w ⟨k.val / 256, by omega⟩ l ⟨k.val % 256, by omega⟩

/-- The two branches of a row, each times its gate, added. -/
def blend (ya : Fin 1024 → EReal) (g : Fin 2048 → EReal) (p : Fin 512 → EReal) (w : Fin 4 → Fin 128 → Fin 256 → EReal) (s : Fin 1024 → EReal) (k : Fin 1024) : EReal :=
  Ideal.logistic (g ⟨k.val, by omega⟩) * ya k + Ideal.logistic (g ⟨1024 + k.val, by omega⟩) * (poolPre p w k * s k)

end Cert.Step

namespace Cert.MixFIdeal.Prod

open Gen Step

variable (m : (ℓ : Loc nD τ sig) → Buf (Elt Ideal) ℓ)

/-- The block indices at each grid point. -/
theorem idx : ∀ t : Fin cfg0.N, win0_0.index t = ![t.val, 0] ∧ win0_1.index t = ![t.val, 0] ∧ win0_2.index t = ![t.val, 0] ∧ win0_3.index t = ![0, 0, 0] ∧ win0_4.index t = ![0, 0]
    ∧ win0_5.index t = ![t.val, 0] ∧ win0_6.index t = ![0, t.val] :=
  (by decide +kernel : ∀ t : Fin grid0.N, _)

/-- Row `i` of a matrix of `n` columns, and the weight and the scale as functions of their coordinates. -/
def rowOf {r n : ℕ} (x : (⟨2, ![r, n]⟩ : Shape).Idx → EReal) (i : Fin r) : Fin n → EReal := fun k => x (ix2 i k)

def wgt (w : S4x128x256.Idx → EReal) : Fin 4 → Fin 128 → Fin 256 → EReal := fun a l q => w (ix3 a l q)

def scl (s : S1x1024.Idx → EReal) : Fin 1024 → EReal := fun k => s (ix2 0 k)

/-- The merged branches of a block, entry by entry. -/
theorem merged (ya : S640x1024.Idx → EReal) (g : S640x2048.Idx → EReal) (p : S640x512.Idx → EReal) (w : S4x128x256.Idx → EReal) (s : S1x1024.Idx → EReal) (i : Fin 640) (k : Fin 1024) :
    k0_pay2 (F := Ideal) ya g p w s (ix2 i k) = blend (rowOf ya i) (rowOf g i) (rowOf p i) (wgt w) (scl s) k := by
  pointwise [k0_pay2]; unfold blend rowOf scl; refine congrArg₂ (fun a b : EReal => a + b) rfl (congrArg₂ (fun a b : EReal => a * b) rfl (congrArg₂ (fun a b : EReal => a * b) ?_ rfl))
  unfold poolPre total wgt; have hk := k.isLt
  split_ifs with h1 h2 h3
  all_goals
    refine Finset.sum_congr rfl fun x _ => congrArg₂ (· * ·) (congrArg (fun b => p (ix2 i b)) (Fin.ext ?_))
      (congrArg₂ (fun a b => w (ix3 a x b)) (Fin.ext ?_) (Fin.ext ?_))
  all_goals simp only [Fin.val_zero, Fin.val_one, Fin.val_two]
  all_goals first | omega | (show 3 = k.val / 256; omega)

/-- Row `r` of the result. -/
def out (c : Dev nD) (r : Fin 8320) (k : Fin 1024) : EReal :=
  blend (rowOf (m (c.tc.loc main_arg0)) r) (rowOf (m (c.tc.loc main_arg1)) r)
    (rowOf (m (c.tc.loc main_arg2)) r) (wgt (m (c.tc.loc main_arg3))) (scl (m (c.tc.loc main_arg4))) k

/-- The row of the whole arrays that row `i` of a block of point `t` is. -/
def row (t : Fin cfg0.N) (i : Fin 640) : Fin 8320 := ⟨t.val * 640 + i.val, by
  have h : t.val < 13 := t.isLt
  omega⟩

theorem block (c : Dev nD) (t : Fin cfg0.N) (i : Fin 640) (k : Fin 1024) :
    k0_pay2 (F := Ideal) (iblk m c 0 t) (iblk m c 1 t) (iblk m c 2 t) (iblk m c 3 t) (iblk m c 4 t) (ix2 i k) = out m c (row t i) k := by
  have h0 : rowOf (iblk m c 0 t) i = rowOf (m (c.tc.loc main_arg0)) (row t i) := funext fun k => by
    unfold rowOf row
    blk_ext [iblk, V, idx t]
  have h1 : rowOf (iblk m c 1 t) i = rowOf (m (c.tc.loc main_arg1)) (row t i) := funext fun k => by
    unfold rowOf row
    blk_ext [iblk, V, idx t]
  have h2 : rowOf (iblk m c 2 t) i = rowOf (m (c.tc.loc main_arg2)) (row t i) := funext fun k => by
    unfold rowOf row
    blk_ext [iblk, V, idx t]
  have h3 : wgt (iblk m c 3 t) = wgt (m (c.tc.loc main_arg3)) := funext fun a => funext fun l => funext fun q => by
    unfold wgt
    blk_ext [iblk, V, idx t]
  have h4 : scl (iblk m c 4 t) = scl (m (c.tc.loc main_arg4)) := funext fun k => by
    unfold scl
    blk_ext [iblk, V, idx t]
  refine (merged _ _ _ _ _ i k).trans ?_; unfold out; exact congrFun (congr (congr (congr (congr (congrArg blend h0) h1) h2) h3) h4) k

/-- The transposed result of a block, entry by entry. -/
theorem flip (x : S640x1024.Idx → EReal) (i : Fin 640) (k : Fin 1024) : k0_pay1 (F := Ideal) x (ix2 k i) = x (ix2 i k) := by pointwise [k0_pay1]

theorem final5 (c : Dev nD) : (dats m 0 c).arrAt 5 (cfgs 0).N = fun j => out m c (j 0) (j 1) := by
  refine (dats m 0 c).arrAt_eq_of_covers 5 _ (by decide +kernel) fun t hf y => ?_; blk_simp; rw [after0_5]; refine Eq.trans (b := out m c (row t (y 0)) (y 1)) ?_ (congr (congrArg (out m c) ?_) ?_)
  · frame_out; obtain ⟨a, k, rfl⟩ : ∃ (a : Fin 640) (k : Fin 1024), y = ix2 a k := ⟨y 0, y 1, (ix2_eta y).symm⟩; exact block m c t a k
  · refine Fin.ext ?_; unfold row; blk_simp [idx t]
  · refine Fin.ext ?_; blk_simp [idx t]

theorem blockT (c : Dev nD) (t : Fin cfg0.N) (y : S1024x640.Idx) : k0_pay1 (F := Ideal) (k0_pay2 (F := Ideal) (iblk m c 0 t) (iblk m c 1 t) (iblk m c 2 t) (iblk m c 3 t) (iblk m c 4 t)) y
      = out m c (row t (y 1)) (y 0) := by
  obtain ⟨k, i, rfl⟩ : ∃ (k : Fin 1024) (i : Fin 640), y = ix2 k i := ⟨y 0, y 1, (ix2_eta y).symm⟩; exact (flip _ i k).trans (block m c t i k)

theorem final6 (c : Dev nD) : (dats m 0 c).arrAt 6 (cfgs 0).N = fun j => out m c (j 1) (j 0) := by
  refine (dats m 0 c).arrAt_eq_of_covers 6 _ (by decide +kernel) fun t hf y => ?_; blk_simp; rw [after0_6]; refine Eq.trans (b := out m c (row t (y 1)) (y 0)) ?_ (congr (congrArg (out m c) ?_) ?_)
  · frame_out; exact blockT m c t y
  · refine Fin.ext ?_; unfold row; blk_simp [idx t]
  · refine Fin.ext ?_; blk_simp [idx t]

end Cert.MixFIdeal.Prod

namespace Cert.MixFRefIdeal.Prod

open Gen Read Step

/-- The reference's merged branches, entry by entry. -/
theorem merged (x0 : S8320x1024.Idx → EReal) (x1 : S8320x2048.Idx → EReal) (x2 : S8320x512.Idx → EReal) (x3 : S4x128x256.Idx → EReal) (x4 : S1x1024.Idx → EReal) (i : Fin 8320) (k : Fin 1024) :
    val_main_v16 (F := Ideal) x0 x1 x2 x3 x4 (ix2 i k) = blend (fun k => x0 (ix2 i k)) (fun k => x1 (ix2 i k)) (fun k => x2 (ix2 i k)) (fun a l q => x3 (ix3 a l q)) (fun k => x4 (ix2 0 k)) k := by
  pointwise [val_main_v16, val_main_v15, val_main_v14, val_main_v13, val_main_v12, val_main_v11, val_main_v10, val_main_cst_0, val_main_v9, val_main_v8,
    val_main_cst, val_main_v7, val_main_v6, val_main_v5, val_main_v4, val_main_v3, val_main_v2, val_main_v1, val_main_v0]
  unfold blend poolPre total; refine congrArg₂ (fun a b : EReal => a + b) rfl (congrArg₂ (fun a b : EReal => a * b) rfl (congrArg₂ (fun a b : EReal => a * b) ?_ rfl))
  exact Finset.sum_congr rfl fun l _ => mul_comm _ _

/-- The two gated branches, merged, are the reference's. -/
theorem _root_.Cert.Step.mixF : algebraic_MixFIdeal_MixFRefIdeal := by
  pair_intro
  · exact MixFIdeal.Value.run_blocks (F := Ideal) m g
  · refine (θ_run defs _ _).mono (fun _ h c => ?_) (Value.run (F := Ideal) m' g'); obtain ⟨h1, h2, rest⟩ := h c; refine ⟨h1.trans ?_, h2.trans ?_, rest⟩
    · rw [Read.val_main_v17_eq, MixFIdeal.Prod.final5]; simp only [hagree c]
      funext j
      obtain ⟨i, k, rfl⟩ : ∃ (i : Fin 8320) (k : Fin 1024), j = ix2 i k := ⟨j 0, j 1, (ix2_eta j).symm⟩; exact merged _ _ _ _ _ i k
    · rw [Read.val_main_v19_eq, MixFIdeal.Prod.final6]; simp only [hagree c]
      funext j
      obtain ⟨k, i, rfl⟩ : ∃ (k : Fin 1024) (i : Fin 8320), j = ix2 k i := ⟨j 0, j 1, (ix2_eta j).symm⟩
      refine Eq.trans (b := Read.val_main_v16 (F := Ideal) _ _ _ _ _ (ix2 i k)) ?_ (merged _ _ _ _ _ i k); pointwise [Read.val_main_v19, Read.val_main_v18]
-- ==== Proof.FfnF.lean ====
module

public import proofs.«01_k».proof.Proof.Kit
public import proofs.«01_k».proof.Proof.Gen.FfnFIdeal.Value
public import proofs.«01_k».proof.Proof.Gen.FfnFRefIdeal.Read

@[expose] public section
set_option maxRecDepth 16384
noncomputable section
open Idealize ShloMosaic TcCoe SL.Sem

namespace Cert.Step

/-- A convolution with three taps at row `r`: each of the last three rows times its tap. -/
def conv3 (x : Fin 8320 → EReal) (w : Fin 3 → EReal) (r : ℕ) : EReal := lag 2 8320 x r * w 0 + lag 2 8320 x (r + 1) * w 1 + lag 2 8320 x (r + 2) * w 2

/-- The activation `silu a * b`. -/
def act (a b : EReal) : EReal := a * Ideal.logistic a * b

end Cert.Step

namespace Cert.FfnFIdeal.Prod

open Gen Step

variable (m : (ℓ : Loc nD τ sig) → Buf (Elt Ideal) ℓ) (c : Dev nD) (t : Fin cfg0.N)

/-- The block indices at each grid point. -/
theorem idx : ∀ t : Fin cfg0.N, win0_0.index t = ![t.val / 2, t.val % 2] ∧ win0_1.index t = ![t.val / 2 * 80 - 1, t.val % 2] ∧ win0_2.index t = ![t.val / 2, t.val % 2]
    ∧ win0_3.index t = ![t.val / 2 * 80 - 1, t.val % 2] ∧ win0_4.index t = ![0, t.val % 2] ∧ win0_5.index t = ![0, t.val % 2] ∧ win0_6.index t = ![t.val / 2, t.val % 2]
    ∧ win0_7.index t = ![t.val / 2, t.val % 2] ∧ win0_8.index t = ![t.val / 2, t.val % 2] ∧ win0_9.index t = ![t.val % 2, t.val / 2] :=
  (by decide +kernel : ∀ t : Fin grid0.N, _)

theorem coord0 (t : Fin cfg0.N) : (grid0.coords t 0).val = t.val / 2 := (by decide +kernel : ∀ t : Fin grid0.N, (grid0.coords t 0).val = t.val / 2) t

/-- The column of the whole arrays that column `q` of a block of point `t` is. -/
def col (t : Fin cfg0.N) (q : Fin 1408) : Fin 2816 := ⟨t.val % 2 * 1408 + q.val, by omega⟩

/-- Column `k` of the gate's input. -/
def gcol (c : Dev nD) (k : Fin 2816) : Fin 8320 → EReal := fun i => m (c.tc.loc main_arg0) (ix2 i k)

/-- Column `k` of the value's input. -/
def vcol (c : Dev nD) (k : Fin 2816) : Fin 8320 → EReal := fun i => m (c.tc.loc main_arg1) (ix2 i k)

/-- The gate's taps in column `k`. -/
def gtap (c : Dev nD) (k : Fin 2816) (j : Fin 3) : EReal := m (c.tc.loc main_arg2) (ix2 j k)

/-- The value's taps in column `k`. -/
def vtap (c : Dev nD) (k : Fin 2816) (j : Fin 3) : EReal := m (c.tc.loc main_arg3) (ix2 j k)

theorem gtap_eq (j : Fin 3) (q : Fin 1408) : iblk m c 4 t (ix2 j q) = gtap m c (col t q) j := by
  unfold gtap col
  blk_ext [iblk, V, idx t]

theorem vtap_eq (j : Fin 3) (q : Fin 1408) : iblk m c 5 t (ix2 j q) = vtap m c (col t q) j := by
  unfold vtap col
  blk_ext [iblk, V, idx t]

/-- The rows of a column array a point works on, from eight rows before its block on. -/
def rows (t : Fin cfg0.N) (f : Fin 2816 → Fin 8320 → EReal) : S648x1408.Idx → EReal := fun j =>
  lag 8 8320 (f (col t (j 1))) (t.val / 2 * 640 + (j 0).val)

/-- Eight rows before the block, then the block. -/
theorem before (t : Fin cfg0.N) (f : Fin 2816 → Fin 8320 → EReal) {sp : Space} (v : View sig .tc sp S648x1408 .f32) (main : S640x1408.Idx → EReal) (halo : S8x1408.Idx → EReal)
    (hm : ∀ (i : Fin 640) (q : Fin 1408) (h : t.val / 2 * 640 + i.val < 8320), main (ix2 i q) = f (col t q) ⟨t.val / 2 * 640 + i.val, h⟩)
    (hh : ∀ (i : Fin 8) (q : Fin 1408) (h : t.val / 2 * 640 + i.val - 8 < 8320), 0 < t.val / 2 → halo (ix2 i q) = f (col t q) ⟨t.val / 2 * 640 + i.val - 8, h⟩)
    (h0 : ∀ (i : Fin 8) (q : Fin 1408), t.val / 2 = 0 → halo (ix2 i q) = 0) : v.readCov [(⟨Rect.unit ![8, 0] ![640, 1408] inb_S648x1408_S640x1408_8_0, main⟩ : View.Piece (Elt Ideal) S648x1408 .f32),
        ⟨Rect.unit ![0, 0] ![8, 1408] inb_S648x1408_S8x1408_0_0, halo⟩] (Rect.unit ![0, 0] ![648, 1408] inb_S648x1408_S648x1408_0_0).toLoadRect = rows t f := by
  have ht : t.val < 26 := t.isLt
  refine readCov_rows_two (Val := Elt Ideal) (e := .f32) (m := 648) (n := 1408) (k1 := 640) (o1 := 8) (k2 := 8) (o2 := 0)
    v _ _ _ _ _
    (fun (a : Fin 648) q => lag 8 8320 (f (col t q)) (t.val / 2 * 640 + a.val)) (by omega) ?_ ?_
  · intro i q a ha; rw [lag_of_eq _ (⟨t.val / 2 * 640 + i.val, by omega⟩ : Fin 8320) (by show _ = 8 + (t.val / 2 * 640 + i.val); omega)]; exact hm i q _
  · intro i q a ha; by_cases h : t.val / 2 = 0
    · rw [lag_of_out _ (by omega)]; exact h0 i q h
    · rw [lag_of_eq _ (⟨t.val / 2 * 640 + i.val - 8, by omega⟩ : Fin 8320) (by show _ = 8 + (t.val / 2 * 640 + i.val - 8); omega)]; exact hh i q _ (by omega)

/-- A row of the halo block where it lies inside the array. -/
theorem halo_in (t : Fin cfg0.N) (x z : EReal) (h : 0 < t.val / 2) : Scalar.select (IntOp.cmpi .sgt (BitVec.ofNat 32 (grid0.coords t 0).val) 0#32) x z = x := by
  have ht : t.val < 26 := t.isLt; rw [coord0]; simp (disch := word_cmp_side) only [hlo_ix]; rw [if_pos h]

/-- A row of the halo block before the array. -/
theorem halo_out (t : Fin cfg0.N) (x z : EReal) (h : t.val / 2 = 0) : Scalar.select (IntOp.cmpi .sgt (BitVec.ofNat 32 (grid0.coords t 0).val) 0#32) x z = z := by rw [coord0, h]; rfl

/-- The gate's rows. -/
theorem gbuf {sp : Space} (v : View sig .tc sp S648x1408 .f32) : v.readCov
      [(⟨Rect.unit ![8, 0] ![640, 1408] inb_S648x1408_S640x1408_8_0, k0_pay8 (iblk m c 0 t)⟩ : View.Piece (Elt Ideal) S648x1408 .f32),
        ⟨Rect.unit ![0, 0] ![8, 1408] inb_S648x1408_S8x1408_0_0, k0_pay7 (grid0.coords t) (iblk m c 1 t)⟩]
      (Rect.unit ![0, 0] ![648, 1408] inb_S648x1408_S648x1408_0_0).toLoadRect = rows t (gcol m c) := by
  have ht : t.val < 26 := t.isLt
  have e : ∀ (i : Fin 8) (q : Fin 1408), k0_pay7 (grid0.coords t) (iblk m c 1 t) (ix2 i q)
      = Scalar.select (IntOp.cmpi .sgt (BitVec.ofNat 32 (grid0.coords t 0).val) 0#32) (iblk m c 1 t (ix2 i q)) (0 : EReal) := fun i q => by
    pointwise [k0_pay7]; rfl
  refine before t (gcol m c) v _ _ (fun i q h => ?_) (fun i q h hp => ?_) fun i q h => ?_
  · refine Eq.trans (b := iblk m c 0 t (ix2 i q)) (by pointwise [k0_pay8]) ?_; unfold gcol col
    blk_ext [iblk, V, idx t]
  · rw [e, halo_in t _ _ hp]; unfold gcol col
    blk_ext [iblk, V, idx t]
  · rw [e, halo_out t _ _ h]

/-- The value's rows. -/
theorem vbuf {sp : Space} (v : View sig .tc sp S648x1408 .f32) : v.readCov
      [(⟨Rect.unit ![8, 0] ![640, 1408] inb_S648x1408_S640x1408_8_0, k0_pay2 (iblk m c 2 t)⟩ : View.Piece (Elt Ideal) S648x1408 .f32), ⟨Rect.unit ![0, 0] ![8, 1408] inb_S648x1408_S8x1408_0_0,
          k0_pay1 (Scalar.cmpi .sgt (BitVec.ofNat 32 (grid0.coords t 0).val) 0#32) (iblk m c 3 t) k0_pay10⟩]
      (Rect.unit ![0, 0] ![648, 1408] inb_S648x1408_S648x1408_0_0).toLoadRect = rows t (vcol m c) := by
  have ht : t.val < 26 := t.isLt
  have e : ∀ (i : Fin 8) (q : Fin 1408), k0_pay1 (Scalar.cmpi .sgt (BitVec.ofNat 32 (grid0.coords t 0).val) 0#32) (iblk m c 3 t) k0_pay10 (ix2 i q)
      = Scalar.select (IntOp.cmpi .sgt (BitVec.ofNat 32 (grid0.coords t 0).val) 0#32) (iblk m c 3 t (ix2 i q)) (0 : EReal) := fun i q => by
    pointwise [k0_pay1, k0_pay10]; rfl
  refine before t (vcol m c) v _ _ (fun i q h => ?_) (fun i q h hp => ?_) fun i q h => ?_
  · refine Eq.trans (b := iblk m c 2 t (ix2 i q)) (by pointwise [k0_pay2]) ?_; unfold vcol col
    blk_ext [iblk, V, idx t]
  · rw [e, halo_in t _ _ hp]; unfold vcol col
    blk_ext [iblk, V, idx t]
  · rw [e, halo_out t _ _ h]

/-- Rows of the array at three places of the block's rows. -/
theorem shifted (t : Fin cfg0.N) (f : Fin 8320 → EReal) (a : ℕ) : lag 8 8320 f (t.val / 2 * 640 + (a + 6)) = lag 2 8320 f (t.val / 2 * 640 + a)
      ∧ lag 8 8320 f (t.val / 2 * 640 + (a + 7)) = lag 2 8320 f (t.val / 2 * 640 + a + 1) ∧ lag 8 8320 f (t.val / 2 * 640 + (8 + a)) = lag 2 8320 f (t.val / 2 * 640 + a + 2) :=
  ⟨lag_shift 2 8320 6 _ _ _ (by omega), lag_shift 2 8320 6 _ _ _ (by omega), lag_shift 2 8320 6 _ _ _ (by omega)⟩

/-- The gate's convolution on a block, entry by entry. -/
theorem gconv (i : Fin 640) (q : Fin 1408) : k0_pay9 (rows t (gcol m c)) (iblk m c 4 t) (ix2 i q) = conv3 (gcol m c (col t q)) (gtap m c (col t q)) (t.val / 2 * 640 + i.val) := by
  have e1 : (8 + i.val + 648 - 2) % 648 = i.val + 6 := by omega
  have e2 : (8 + i.val + 648 - 1) % 648 = i.val + 7 := by omega
  obtain ⟨f0, f1, f2⟩ := shifted t (gcol m c (col t q)) i.val; unfold conv3; rw [← gtap_eq m c t 0 q, ← gtap_eq m c t 1 q, ← gtap_eq m c t 2 q, ← f0, ← f1, ← f2]; pointwise [k0_pay9]
  simp only [e1, e2]; rfl

/-- The value's convolution on a block, entry by entry. -/
theorem vconv (i : Fin 640) (q : Fin 1408) : k0_pay3 (rows t (vcol m c)) (iblk m c 5 t) (ix2 i q) = conv3 (vcol m c (col t q)) (vtap m c (col t q)) (t.val / 2 * 640 + i.val) := by
  have e1 : (8 + i.val + 648 - 2) % 648 = i.val + 6 := by omega
  have e2 : (8 + i.val + 648 - 1) % 648 = i.val + 7 := by omega
  obtain ⟨f0, f1, f2⟩ := shifted t (vcol m c (col t q)) i.val; unfold conv3; rw [← vtap_eq m c t 0 q, ← vtap_eq m c t 1 q, ← vtap_eq m c t 2 q, ← f0, ← f1, ← f2]; pointwise [k0_pay3]
  simp only [e1, e2]; rfl

/-- The gate's convolution. -/
def gate (c : Dev nD) (r : ℕ) (k : Fin 2816) : EReal := conv3 (gcol m c k) (gtap m c k) r

/-- The value's convolution. -/
def value (c : Dev nD) (r : ℕ) (k : Fin 2816) : EReal := conv3 (vcol m c k) (vtap m c k) r

/-- The activation. -/
def actv (c : Dev nD) (r : ℕ) (k : Fin 2816) : EReal := act (gate m c r k) (value m c r k)

/-- The activation from its two factors, entry by entry. -/
theorem pay4_at (v28 : S640x1408.Idx → EReal) (v41 : S648x1408.Idx → EReal) (v42 : S3x1408.Idx → EReal) (i : Fin 640) (q : Fin 1408) :
    k0_pay4 (F := Ideal) v28 v41 v42 (ix2 i q) = act (v28 (ix2 i q)) (k0_pay3 (F := Ideal) v41 v42 (ix2 i q)) := by
  pointwise [k0_pay4]; rfl

theorem final6 (c : Dev nD) : (dats m 0 c).arrAt 6 (cfgs 0).N = fun j => gate m c (j 0).val (j 1) := by
  refine (dats m 0 c).arrAt_eq_of_covers 6 _ (by decide +kernel) fun t hf y => ?_; blk_simp; rw [after0_6]
  refine Eq.trans (b := gate m c (t.val / 2 * 640 + (y 0).val) (col t (y 1))) ?_ (congr (congrArg (gate m c) ?_) ?_)
  · unfold outsAt0; frame_out; rw [gbuf m c t]; obtain ⟨a, k, rfl⟩ : ∃ (a : Fin 640) (k : Fin 1408), y = ix2 a k := ⟨y 0, y 1, (ix2_eta y).symm⟩; exact gconv m c t a k
  · blk_simp [idx t]
  · refine Fin.ext ?_; unfold col; blk_simp [idx t]

theorem final7 (c : Dev nD) : (dats m 0 c).arrAt 7 (cfgs 0).N = fun j => value m c (j 0).val (j 1) := by
  refine (dats m 0 c).arrAt_eq_of_covers 7 _ (by decide +kernel) fun t hf y => ?_; blk_simp; rw [after0_7]
  refine Eq.trans (b := value m c (t.val / 2 * 640 + (y 0).val) (col t (y 1))) ?_ (congr (congrArg (value m c) ?_) ?_)
  · unfold outsAt0; frame_out; rw [vbuf m c t]; obtain ⟨a, k, rfl⟩ : ∃ (a : Fin 640) (k : Fin 1408), y = ix2 a k := ⟨y 0, y 1, (ix2_eta y).symm⟩; exact vconv m c t a k
  · blk_simp [idx t]
  · refine Fin.ext ?_; unfold col; blk_simp [idx t]

/-- The activation of a block, entry by entry. -/
theorem act_at (i : Fin 640) (q : Fin 1408) : k0_pay4 (k0_pay9 (rows t (gcol m c)) (iblk m c 4 t)) (rows t (vcol m c)) (iblk m c 5 t) (ix2 i q) = actv m c (t.val / 2 * 640 + i.val) (col t q) :=
  (pay4_at _ _ _ i q).trans (congr (congrArg act (gconv m c t i q)) (vconv m c t i q))

theorem final8 (c : Dev nD) : (dats m 0 c).arrAt 8 (cfgs 0).N = fun j => actv m c (j 0).val (j 1) := by
  refine (dats m 0 c).arrAt_eq_of_covers 8 _ (by decide +kernel) fun t hf y => ?_; blk_simp; rw [after0_8]
  refine Eq.trans (b := actv m c (t.val / 2 * 640 + (y 0).val) (col t (y 1))) ?_ (congr (congrArg (actv m c) ?_) ?_)
  · unfold outsAt0; frame_out; rw [gbuf m c t, vbuf m c t]; obtain ⟨a, k, rfl⟩ : ∃ (a : Fin 640) (k : Fin 1408), y = ix2 a k := ⟨y 0, y 1, (ix2_eta y).symm⟩; exact act_at m c t a k
  · blk_simp [idx t]
  · refine Fin.ext ?_; unfold col; blk_simp [idx t]

/-- The transposed activation, entry by entry. -/
theorem pay6_at (v28 : S640x1408.Idx → EReal) (v41 : S648x1408.Idx → EReal) (v42 : S3x1408.Idx → EReal) (i : Fin 640) (q : Fin 1408) :
    k0_pay6 (F := Ideal) v28 v41 v42 (ix2 q i) = k0_pay4 (F := Ideal) v28 v41 v42 (ix2 i q) := by
  unfold k0_pay6; generalize k0_pay4 (F := Ideal) v28 v41 v42 = x; pointwise

/-- The transposed activation of a block, entry by entry. -/
theorem actT_at (y : S1408x640.Idx) : k0_pay6 (k0_pay9 (rows t (gcol m c)) (iblk m c 4 t)) (rows t (vcol m c)) (iblk m c 5 t) y = actv m c (t.val / 2 * 640 + (y 1).val) (col t (y 0)) := by
  obtain ⟨q, i, rfl⟩ : ∃ (q : Fin 1408) (i : Fin 640), y = ix2 q i := ⟨y 0, y 1, (ix2_eta y).symm⟩; exact (pay6_at _ _ _ i q).trans (act_at m c t i q)

theorem final9 (c : Dev nD) : (dats m 0 c).arrAt 9 (cfgs 0).N = fun j => actv m c (j 1).val (j 0) := by
  refine (dats m 0 c).arrAt_eq_of_covers 9 _ (by decide +kernel) fun t hf y => ?_; blk_simp; rw [after0_9]
  refine Eq.trans (b := actv m c (t.val / 2 * 640 + (y 1).val) (col t (y 0))) ?_ (congr (congrArg (actv m c) ?_) ?_)
  · unfold outsAt0; frame_out; rw [gbuf m c t, vbuf m c t]; exact actT_at m c t y
  · blk_simp [idx t]
  · refine Fin.ext ?_; unfold col; blk_simp [idx t]

end Cert.FfnFIdeal.Prod

namespace Cert.FfnFRefIdeal.Prod

open Gen Read Step

/-- Two rows of zeros above the gate's input. -/
theorem gext (x0 : S8320x2816.Idx → EReal) (a : Fin 8322) (k : Fin 2816) : val_main_v1 (F := Ideal) x0 (ix2 a k) = lag 2 8320 (fun i => x0 (ix2 i k)) a.val :=
  zeros_above _ _ _ (fun j => by pointwise [val_main_v0, val_main_cst]) a a.isLt k

/-- Two rows of zeros above the value's input. -/
theorem vext (x1 : S8320x2816.Idx → EReal) (a : Fin 8322) (k : Fin 2816) : val_main_v23 (F := Ideal) x1 (ix2 a k) = lag 2 8320 (fun i => x1 (ix2 i k)) a.val :=
  zeros_above _ _ _ (fun j => by pointwise [val_main_v22, val_main_cst_0]) a a.isLt k

/-- The reference's convolution of the gate, entry by entry. -/
theorem gconv (x0 : S8320x2816.Idx → EReal) (x2 : S3x2816.Idx → EReal) (i : Fin 8320) (k : Fin 2816) :
    val_main_v21 (F := Ideal) x0 x2 (ix2 i k) = conv3 (fun i => x0 (ix2 i k)) (fun j => x2 (ix2 j k)) i.val := by
  have e0 := gext x0 ⟨i.val, by omega⟩ k; have e1 := gext x0 ⟨i.val + 1, by omega⟩ k; have e2 := gext x0 ⟨i.val + 2, by omega⟩ k; unfold conv3; rw [← e0, ← e1, ← e2]
  pointwise [val_main_v21, val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2]
  simp only [Nat.add_comm]

/-- The reference's convolution of the value, entry by entry. -/
theorem vconv (x1 : S8320x2816.Idx → EReal) (x3 : S3x2816.Idx → EReal) (i : Fin 8320) (k : Fin 2816) :
    val_main_v43 (F := Ideal) x1 x3 (ix2 i k) = conv3 (fun i => x1 (ix2 i k)) (fun j => x3 (ix2 j k)) i.val := by
  have e0 := vext x1 ⟨i.val, by omega⟩ k; have e1 := vext x1 ⟨i.val + 1, by omega⟩ k; have e2 := vext x1 ⟨i.val + 2, by omega⟩ k; unfold conv3; rw [← e0, ← e1, ← e2]
  pointwise [val_main_v43, val_main_v42, val_main_v41, val_main_v40, val_main_v39, val_main_v38, val_main_v37, val_main_v36, val_main_v35, val_main_v34,
    val_main_v33, val_main_v32, val_main_v31, val_main_v30, val_main_v29, val_main_v28, val_main_v27, val_main_v26, val_main_v25, val_main_v24]
  simp only [Nat.add_comm]

/-- The reference's activation, entry by entry. -/
theorem actv (x0 x1 : S8320x2816.Idx → EReal) (x2 x3 : S3x2816.Idx → EReal) (i : Fin 8320) (k : Fin 2816) : val_main_v45 (F := Ideal) x0 x1 x2 x3 (ix2 i k)
      = act (conv3 (fun i => x0 (ix2 i k)) (fun j => x2 (ix2 j k)) i.val) (conv3 (fun i => x1 (ix2 i k)) (fun j => x3 (ix2 j k)) i.val) := by
  rw [← gconv, ← vconv]
  pointwise [val_main_v45, val_main_v44, val_main_call0_v5, val_main_call0_v4, val_main_call0_cst_0, val_main_call0_v3, val_main_call0_v2, val_main_call0_cst, val_main_call0_v1, val_main_call0_v0]
  rfl

/-- The middle of the gated block, both convolutions and the activation, is the reference's. -/
theorem _root_.Cert.Step.ffnF : algebraic_FfnFIdeal_FfnFRefIdeal := by
  pair_intro
  · exact FfnFIdeal.Value.run_blocks (F := Ideal) m g
  · refine (θ_run defs _ _).mono (fun _ h c => ?_) (Value.run (F := Ideal) m' g'); obtain ⟨h1, h2, h3, h4, rest⟩ := h c; refine ⟨h1.trans ?_, h2.trans ?_, h3.trans ?_, h4.trans ?_, rest⟩
    · rw [Read.val_main_v21_eq, FfnFIdeal.Prod.final6]; simp only [hagree c]
      funext j
      obtain ⟨i, k, rfl⟩ : ∃ (i : Fin 8320) (k : Fin 2816), j = ix2 i k := ⟨j 0, j 1, (ix2_eta j).symm⟩; exact gconv _ _ i k
    · rw [Read.val_main_v43_eq, FfnFIdeal.Prod.final7]; simp only [hagree c]
      funext j
      obtain ⟨i, k, rfl⟩ : ∃ (i : Fin 8320) (k : Fin 2816), j = ix2 i k := ⟨j 0, j 1, (ix2_eta j).symm⟩; exact vconv _ _ i k
    · rw [Read.val_main_v46_eq, FfnFIdeal.Prod.final8]; simp only [hagree c]
      funext j
      obtain ⟨i, k, rfl⟩ : ∃ (i : Fin 8320) (k : Fin 2816), j = ix2 i k := ⟨j 0, j 1, (ix2_eta j).symm⟩; exact actv _ _ _ _ i k
    · rw [Read.val_main_v48_eq, FfnFIdeal.Prod.final9]; simp only [hagree c]
      funext j
      obtain ⟨k, i, rfl⟩ : ∃ (k : Fin 2816) (i : Fin 8320), j = ix2 k i := ⟨j 0, j 1, (ix2_eta j).symm⟩; refine Eq.trans (b := Read.val_main_v45 (F := Ideal) _ _ _ _ (ix2 i k)) ?_ (actv _ _ _ _ i k)
      pointwise [Read.val_main_v48, Read.val_main_v47]
-- ==== Proof.DownL.lean ====
module

public import proofs.«01_k».proof.Proof.Kit
public import proofs.«01_k».proof.Proof.Gen.DownLIdeal.Value
public import proofs.«01_k».proof.Proof.Gen.DownLRefIdeal.Run

@[expose] public section
set_option maxRecDepth 16384
noncomputable section
open Idealize ShloMosaic TcCoe SL.Sem

namespace Cert.DownLIdeal.Prod

open Gen Step

variable (m : (ℓ : Loc nD τ sig) → Buf (Elt Ideal) ℓ)

/-- The block indices at each grid point. -/
theorem idx : ∀ t : Fin cfg0.N, win0_0.index t = ![t.val, 0] ∧ win0_1.index t = ![0, 0] ∧ win0_2.index t = ![t.val, 0] ∧ win0_3.index t = ![t.val, 0] := (by decide +kernel : ∀ t : Fin grid0.N, _)

/-- Row `i` of the residual stream after the product is added. -/
def row (c : Dev nD) (i : Fin 8320) : Fin 1024 → EReal :=
  affine 2816 (fun l => m (c.tc.loc main_arg0) (ix2 i l))
    (fun l k => m (c.tc.loc main_arg1) (ix2 l k)) (fun k => m (c.tc.loc main_arg2) (ix2 i k))

/-- The same row from the blocks of grid point `t`. -/
def blkRow (c : Dev nD) (t : Fin cfg0.N) (i : Fin 640) : Fin 1024 → EReal :=
  affine 2816 (fun l => iblk m c 0 t (ix2 i l)) (fun l k => iblk m c 1 t (ix2 l k))
    (fun k => iblk m c 2 t (ix2 i k))

theorem blkRow_eq (c : Dev nD) (t : Fin cfg0.N) (i : Fin 640) (a : Fin 8320) (ha : a.val = t.val * 640 + i.val) : blkRow m c t i = row m c a := by
  funext k
  refine congrArg₂ (fun a b : EReal => a + b) (Finset.sum_congr rfl fun l _ => congrArg₂ (fun a b : EReal => a * b) ?_ ?_) ?_ <;> blk_ext [iblk, V, idx t]

/-- The result: the residual stream. -/
theorem final3 (c : Dev nD) : (dats m 0 c).arrAt 3 (cfgs 0).N = fun j => row m c (j 0) (j 1) := by
  refine (dats m 0 c).arrAt_eq_of_covers 3 _ (by decide +kernel) fun t hf y => ?_; blk_simp; rw [after0_3]; unfold outsAt0; frame_out
  refine (show _ = blkRow m c t (y 0) (y 1) by
    pointwise [k0_pay1, blkRow, affine, dot]).trans ?_
  refine congr (blkRow_eq m c t _ _ ?_) ?_
  · blk_simp [idx t]
  · refine Fin.ext ?_; blk_simp [idx t]

/-- The last down projection with its residual sum is the reference's. -/
theorem _root_.Cert.Step.downL : algebraic_DownLIdeal_DownLRefIdeal := by
  pair_intro
  · run_from Gen.run_main m g
  · hlo_run
    · rw [final3]
      funext j
      pointwise [row, affine, dot]; exact add_comm (_ : EReal) _
-- ==== Proof.Loss.lean ====
module

public import proofs.«01_k».proof.Proof.Kit
public import proofs.«01_k».proof.Proof.Gen.LossIdeal.Value
public import proofs.«01_k».proof.Proof.Gen.LossRefIdeal.Read

@[expose] public section
set_option maxRecDepth 16384
noncomputable section
open Idealize ShloMosaic TcCoe SL.Sem

namespace Cert.Step

/-- `v` on the 8192 rows of the sequence, and zero on the 64 rows in front and the 64 behind. -/
def inside (n : ℕ) (v : EReal) : EReal := if 64 ≤ n ∧ n < 8256 then v else 0

/-- The normalised row less its target. -/
def miss (x g z : Fin 1024 → EReal) (k : Fin 1024) : EReal := x k * rmsInv x * g k - z k

/-- What one row contributes to the sum under the loss. -/
def rowLoss (n : ℕ) (e : Fin 1024 → EReal) : EReal := inside n (Ideal.div (dot 1024 e e) (Ideal.ofBits .f32 1149239296#32))

/-- The factor of the loss on one entry, before the square's own factor two. -/
def share : EReal := Ideal.div (Ideal.ofBits .f32 1056964608#32 * Ideal.ofBits .f32 1065353216#32) (Ideal.ofBits .f32 1149239296#32)

/-- The gradient of the loss by one entry of a normalised row. -/
def pullback (n : ℕ) (e : Fin 1024 → EReal) (k : Fin 1024) : EReal := inside n (share * (Ideal.ofBits .f32 1073741824#32 * e k))

/-- One row's part of the gradient of the gain. -/
def gainTerm (n : ℕ) (x e : Fin 1024 → EReal) (k : Fin 1024) : EReal := x k * rmsInv x * pullback n e k

theorem gainTerm_congr {n n' : ℕ} {x x' e e' : Fin 1024 → EReal} {k k' : Fin 1024} (hn : n = n') (hx : x = x') (he : e = e') (hk : k = k') :
    gainTerm n x e k = gainTerm n' x' e' k' := by rw [hn, hx, he, hk]

theorem rowLoss_congr {n n' : ℕ} {e e' : Fin 1024 → EReal} (hn : n = n') (he : e = e') : rowLoss n e = rowLoss n' e' := by rw [hn, he]

theorem lit_two : Ideal.ofBits .f32 1073741824#32 = 2 := by rw [show (2 : EReal) = ((2 : ℝ) : EReal) by norm_cast]; simp [Ideal.ofBits, Ideal.ieee, -EReal.coe_mul]; norm_num

theorem lit_half : Ideal.ofBits .f32 1056964608#32 = ((1 / 2 : ℝ) : EReal) := by simp [Ideal.ofBits, Ideal.ieee, -EReal.coe_mul]; norm_num

theorem lit_width : Ideal.ofBits .f32 1149239296#32 = ((1024 : ℝ) : EReal) := by simp [Ideal.ofBits, Ideal.ieee, -EReal.coe_mul]; norm_num

/-- The two equal terms of the gradient of a square, and the factor two. -/
theorem twice (n : ℕ) (s e : EReal) : inside n (inside n e * s + s * inside n e) = inside n (s * (Ideal.ofBits .f32 1073741824#32 * e)) := by
  unfold inside
  split_ifs
  · rw [lit_two, mul_comm e s, mul_left_comm, ← one_add_one_eq_two, EReal.right_distrib_of_nonneg zero_le_one zero_le_one, one_mul]
  · rfl

/-- A row outside the sequence has error zero, and its mean square is zero. -/
theorem rowLoss_of (n : ℕ) (e : Fin 1024 → EReal) : Ideal.div (∑ k : Fin 1024, inside n (e k) * inside n (e k)) (Ideal.ofBits .f32 1149239296#32) = rowLoss n e := by
  unfold rowLoss inside dot
  split_ifs
  · rfl
  · rw [lit_width, Ideal.div_coe (by norm_num)]; simp

/-- A half of a sum is the sum of the halves. -/
theorem half_sum {ι : Type*} [Fintype ι] (f : ι → EReal) : ∑ i, Ideal.ofBits .f32 1056964608#32 * f i = Ideal.ofBits .f32 1056964608#32 * ∑ i, f i := by
  classical
  have key : ∀ s : Finset ι, ∑ i ∈ s, Ideal.ofBits .f32 1056964608#32 * f i = Ideal.ofBits .f32 1056964608#32 * ∑ i ∈ s, f i := by
    intro s
    induction s using Finset.induction_on with
    | empty => simp
    | insert a s ha ih =>
      rw [Finset.sum_insert ha, Finset.sum_insert ha, ih, lit_half, EReal.left_distrib_of_nonneg_of_ne_top (by exact_mod_cast (by norm_num : (0 : ℝ) ≤ 1 / 2)) (EReal.coe_ne_top _)]
  exact key Finset.univ

/-- A sum over all rows of what is zero outside the sequence is the sum over the rows of the sequence. -/
theorem inside_sum (f : Fin 8320 → EReal) : ∑ a : Fin 8320, inside a.val (f a) = ∑ i : Fin 8192, f ⟨64 + i.val, by omega⟩ := by
  have e := Fin.sum_univ_add (a := 64) (b := 8192 + 64) (fun a : Fin 8320 => inside a.val (f a))
  have e' := Fin.sum_univ_add (a := 8192) (b := 64) (fun a : Fin (8192 + 64) => inside (64 + a.val) (f ⟨64 + a.val, by omega⟩))
  have z1 : ∀ i : Fin 64, inside i.val (f ⟨i.val, by omega⟩) = 0 := fun i => if_neg (by omega)
  have z2 : ∀ i : Fin 64, inside (64 + (8192 + i.val)) (f ⟨64 + (8192 + i.val), by omega⟩) = 0 := fun i => if_neg (by omega)
  have z3 : ∀ i : Fin 8192, inside (64 + i.val) (f ⟨64 + i.val, by omega⟩) = f ⟨64 + i.val, by omega⟩ := fun i => if_pos (by omega); refine e.trans ?_
  refine (congrArg₂ (· + ·) (Finset.sum_eq_zero fun i _ => z1 i) e').trans ?_
  rw [zero_add]; refine (congrArg₂ (· + ·) (Finset.sum_congr rfl fun i _ => z3 i) (Finset.sum_eq_zero fun i _ => z2 i)).trans ?_
  rw [add_zero]

/-- The gradient rows inside the zeros are the gradient rows masked. -/
theorem pullback_lag (e : ℕ → Fin 1024 → EReal) (n : ℕ) (k : Fin 1024) : lag 64 8192 (fun i => share * (Ideal.ofBits .f32 1073741824#32 * e (64 + i.val) k)) n = pullback n (e n) k := by
  unfold pullback inside; by_cases h : 64 ≤ n ∧ n < 8256
  · rw [if_pos h, lag_of_eq _ (⟨n - 64, by omega⟩ : Fin 8192) (by show n = 64 + (n - 64); omega)]; show share * (_ * e (64 + (n - 64)) k) = _; rw [Nat.add_sub_cancel' h.1]
  · rw [if_neg h, lag_of_out _ (by omega)]

end Cert.Step

namespace Cert.LossIdeal.Prod

open Gen Step

variable (m : (ℓ : Loc nD τ sig) → Buf (Elt Ideal) ℓ) (c : Dev nD) (t : Fin cfg0.N)

/-- The block indices at each grid point. -/
theorem idx : ∀ t : Fin cfg0.N, win0_0.index t = ![t.val, 0] ∧ win0_1.index t = ![0, 0] ∧ win0_2.index t = ![t.val, 0] ∧ win0_3.index t = ![0, 0] ∧ win0_4.index t = ![t.val, 0]
    ∧ win0_5.index t = ![t.val, 0] ∧ win0_6.index t = ![0, 0] :=
  (by decide +kernel : ∀ t : Fin grid0.N, _)

/-- The kernel's two tests of a row's place, as tests of natural numbers. -/
theorem mask (t : Fin cfg0.N) (i : Fin 640) (v : EReal) :
    Scalar.select (IntOp.andi (IntOp.cmpi .sge (IntOp.addi (IntOp.muli (BitVec.ofNat 32 (grid0.coords t 0).val) 640#32) (BitVec.ofNat 32 i.val)) 64#32)
      (IntOp.cmpi .slt (IntOp.addi (IntOp.muli (BitVec.ofNat 32 (grid0.coords t 0).val) 640#32) (BitVec.ofNat 32 i.val)) 8256#32)) v (0 : EReal) = inside (t.val * 640 + i.val) v := by
  have ht : (grid0.coords t 0).val = t.val := (by decide +kernel : ∀ t : Fin grid0.N, (grid0.coords t 0).val = t.val) t; have h1 : t.val < 13 := t.isLt
  rw [ht, WordCmp.muli_ofNat, WordCmp.addi_ofNat]; unfold inside; simp (disch := word_cmp_side) only [hlo_ix]

/-- The masked error of a block. -/
theorem err_at (t : Fin cfg0.N) (z h : S640x1024.Idx → EReal) (g : S1x1024.Idx → EReal) (i : Fin 640) (k : Fin 1024) :
    k0_pay10 (F := Ideal) (grid0.coords t) z h g (ix2 i k) = inside (t.val * 640 + i.val) (miss (fun k => h (ix2 i k)) (fun k => g (ix2 0 k)) (fun k => z (ix2 i k)) k) := by
  refine Eq.trans ?_ (mask t i _); pointwise [k0_pay10, k0_pay9, k0_pay8, k0_pay6, k0_pay5, miss, rmsInv, dot]; rfl

/-- The masked gradient of a block by the normalised rows. -/
theorem pull_at (t : Fin cfg0.N) (z h : S640x1024.Idx → EReal) (g : S1x1024.Idx → EReal) (i : Fin 640) (k : Fin 1024) :
    k0_pay12 (F := Ideal) (k0_pay9 (grid0.coords t)) (k0_pay10 (F := Ideal) (grid0.coords t) z h g) (ix2 i k)
      = pullback (t.val * 640 + i.val) (miss (fun k => h (ix2 i k)) (fun k => g (ix2 0 k)) (fun k => z (ix2 i k))) k := by
  refine Eq.trans ?_ (twice _ share _); rw [← err_at t z h g i k]; generalize k0_pay10 (F := Ideal) (grid0.coords t) z h g = e; refine Eq.trans ?_ (mask t i _)
  pointwise [k0_pay12, k0_pay9, Fin.sum_univ_one, share]; rfl

/-- The gradient block of arbitrary rows. -/
theorem grad_at (h : S640x1024.Idx → EReal) (g : S1x1024.Idx → EReal) (w : IVec S640x1024 1) (e : S640x1024.Idx → EReal) (y : S640x1024.Idx) :
    k0_pay14 (F := Ideal) h g (k0_pay6 h) (k0_pay7 h) w e y = rmsGrad (fun k => h (ix2 (y 0) k)) (fun k => times (k0_pay12 (F := Ideal) w e (ix2 (y 0) k)) (g (ix2 0 k))) (y 1) := by
  unfold k0_pay14; generalize k0_pay12 (F := Ideal) w e = q
  pointwise [k0_pay7, k0_pay6, k0_pay5, Fin.sum_univ_one, rmsGrad, rmsPull, rmsInv, meanSq, dot, times]

/-- The part of the gain's gradient from a block of arbitrary rows. -/
theorem gain_at (h : S640x1024.Idx → EReal) (w : IVec S640x1024 1) (e : S640x1024.Idx → EReal) (y : S1x1024.Idx) : k0_pay13 (F := Ideal) (k0_pay8 h) w e y = total 640 fun i =>
      h (ix2 i (y 1)) * rmsInv (fun k => h (ix2 i k)) * k0_pay12 (F := Ideal) w e (ix2 i (y 1)) := by
  unfold k0_pay13; generalize k0_pay12 (F := Ideal) w e = q; pointwise [k0_pay8, k0_pay6, k0_pay5, total, rmsInv, dot]

/-- The part of the loss from a block of arbitrary rows. -/
theorem loss_at (t : Fin cfg0.N) (z h : S640x1024.Idx → EReal) (g : S1x1024.Idx → EReal) (y : S1x1.Idx) :
    k0_pay11 (F := Ideal) (grid0.coords t) z h g y = Ideal.ofBits .f32 1056964608#32 * ∑ i : Fin 640,
      rowLoss (t.val * 640 + i.val) (miss (fun k => h (ix2 i k)) (fun k => g (ix2 0 k)) (fun k => z (ix2 i k))) := by
  refine Eq.trans (b := Ideal.ofBits .f32 1056964608#32 * ∑ i : Fin 640, Ideal.div (∑ k : Fin 1024,
    k0_pay10 (F := Ideal) (grid0.coords t) z h g (ix2 i k) * k0_pay10 (F := Ideal) (grid0.coords t) z h g (ix2 i k)) (Ideal.ofBits .f32 1149239296#32)) ?_ ?_
  · unfold k0_pay11; generalize k0_pay10 (F := Ideal) (grid0.coords t) z h g = e; pointwise []
  · refine congrArg _ (Finset.sum_congr rfl fun i _ => ?_); simp only [err_at]; exact rowLoss_of _ _

/-- Row `i` of the input, and its error. -/
def row (c : Dev nD) (i : Fin 8320) : Fin 1024 → EReal := fun k => m (c.tc.loc main_arg0) (ix2 i k)

def err (c : Dev nD) (i : Fin 8320) : Fin 1024 → EReal := miss (row m c i)
  (fun k => m (c.tc.loc main_arg1) (ix2 0 k)) (fun k => m (c.tc.loc main_arg2) (ix2 i k))

/-- Row `i` of the gradient by the input. -/
def grad (c : Dev nD) (i : Fin 8320) (k : Fin 1024) : EReal := rmsGrad (row m c i) (fun k => times (pullback i.val (err m c i) k) (m (c.tc.loc main_arg1) (ix2 0 k))) k

/-- The same from the blocks of grid point `t`. -/
def blkRow (i : Fin 640) : Fin 1024 → EReal := fun k => iblk m c 0 t (ix2 i k)

def blkErr (i : Fin 640) : Fin 1024 → EReal := miss (blkRow m c t i)
  (fun k => iblk m c 1 t (ix2 0 k)) (fun k => iblk m c 2 t (ix2 i k))

def blkGrad (i : Fin 640) (k : Fin 1024) : EReal := rmsGrad (blkRow m c t i) (fun k => times (pullback (t.val * 640 + i.val) (blkErr m c t i) k) (iblk m c 1 t (ix2 0 k))) k

theorem blkRow_eq (i : Fin 640) (a : Fin 8320) (ha : a.val = t.val * 640 + i.val) : blkRow m c t i = row m c a := by
  funext k
  unfold blkRow row
  blk_ext [iblk, V, idx t]

theorem blkGain_eq : (fun k => iblk m c 1 t (ix2 0 k) : Fin 1024 → EReal) = fun k => m (c.tc.loc main_arg1) (ix2 0 k) := by
  funext k
  blk_ext [iblk, V, idx t]

theorem blkErr_eq (i : Fin 640) (a : Fin 8320) (ha : a.val = t.val * 640 + i.val) : blkErr m c t i = err m c a := by
  unfold blkErr err; rw [blkRow_eq m c t i a ha, blkGain_eq]; refine congrArg _ ?_
  funext k
  blk_ext [iblk, V, idx t]

theorem blkGrad_eq (i : Fin 640) (k : Fin 1024) (a : Fin 8320) (b : Fin 1024) (ha : a.val = t.val * 640 + i.val) (hb : k = b) : blkGrad m c t i k = grad m c a b := by
  subst hb; unfold blkGrad grad; rw [blkRow_eq m c t i a ha, blkErr_eq m c t i a ha, ← ha]; refine congrArg (fun d => rmsGrad (row m c a) d k) ?_
  funext l
  exact congrArg _ (congrFun (blkGain_eq m c t) l)

/-- What a point stores in its block of the gradient. -/
theorem stored (y : S640x1024.Idx) : k0_pay14 (F := Ideal) (iblk m c 0 t) (iblk m c 1 t) (k0_pay6 (iblk m c 0 t)) (k0_pay7 (iblk m c 0 t)) (k0_pay9 (grid0.coords t))
      (k0_pay10 (grid0.coords t) (iblk m c 2 t) (iblk m c 0 t) (iblk m c 1 t)) y = blkGrad m c t (y 0) (y 1) := by
  exact (grad_at _ _ _ _ y).trans (congrArg (fun d => rmsGrad (blkRow m c t (y 0)) d (y 1)) (funext fun k => congrArg (fun a => times a (iblk m c 1 t (ix2 0 k))) (pull_at t _ _ _ (y 0) k)))

/-- Second result: the gradient of the input. -/
theorem final4 (c : Dev nD) : (dats m 0 c).arrAt 4 (cfgs 0).N = fun j => grad m c (j 0) (j 1) := by
  refine (dats m 0 c).arrAt_eq_of_covers 4 _ (by decide +kernel) fun t hf y => ?_; blk_simp; rw [after0_4]; refine Eq.trans (b := blkGrad m c t (y 0) (y 1)) ?_ (blkGrad_eq m c t _ _ _ _ ?_ ?_)
  · by_cases h0 : t.val % 13 = 0
    · rw [outsAt0_A m c t h0]; frame_out; exact stored m c t y
    · rw [outsAt0_B m c t h0]; frame_out; exact stored m c t y
  · blk_simp [idx t]
  · refine Fin.ext ?_; blk_simp [idx t]

/-- Third result: the same, in the narrower format. -/
theorem final5 (c : Dev nD) : (dats m 0 c).arrAt 5 (cfgs 0).N = fun j => grad m c (j 0) (j 1) := by
  refine (dats m 0 c).arrAt_eq_of_covers 5 _ (by decide +kernel) fun t hf y => ?_; blk_simp; rw [after0_5]; refine Eq.trans (b := blkGrad m c t (y 0) (y 1)) ?_ (blkGrad_eq m c t _ _ _ _ ?_ ?_)
  · by_cases h0 : t.val % 13 = 0
    · rw [outsAt0_A m c t h0]; frame_out; exact stored m c t y
    · rw [outsAt0_B m c t h0]; frame_out; exact stored m c t y
  · blk_simp [idx t]
  · refine Fin.ext ?_; blk_simp [idx t]

/-- Entry `k` of the gradient of the gain: the sum over the rows. -/
def gainGrad (c : Dev nD) (k : Fin 1024) : EReal := total 8320 fun i => gainTerm i.val (row m c i) (err m c i) k

/-- The part of it from the rows of one grid point. -/
def blkGain (y : S1x1024.Idx) : EReal := total 640 fun i => gainTerm (t.val * 640 + i.val) (blkRow m c t i) (blkErr m c t i) (y 1)

theorem gainStored (y : S1x1024.Idx) : k0_pay13 (F := Ideal) (k0_pay8 (iblk m c 0 t)) (k0_pay9 (grid0.coords t))
      (k0_pay10 (grid0.coords t) (iblk m c 2 t) (iblk m c 0 t) (iblk m c 1 t)) y = blkGain m c t y := by
  exact (gain_at _ _ _ y).trans (congrArg (total 640) (funext fun i => congrArg (fun a => blkRow m c t i (y 1) * rmsInv (blkRow m c t i) * a) (pull_at t _ _ _ i (y 1))))

/-- Fourth result: the gradient of the gain. -/
theorem final6 (c : Dev nD) : (dats m 0 c).arrAt 6 (cfgs 0).N = fun j => gainGrad m c (j 1) := by
  refine (dats m 0 c).arrAt_eq_of_covers 6 _ (by decide +kernel) fun t hf y => ?_; blk_simp
  rw [after0_6, Pipeline.eq_sum_fin_of_reset_step_apply_of_flush (fun n h => (outsAt0 m c n h).2.2.2) 13 (fun _ => (0 : EReal))
    (blkGain m c) (fun t h y => by
      rw [outsAt0_A m c t h]; frame_out; refine Eq.trans ?_ (congrArg ((0 : EReal) + ·) (gainStored m c t y))
      pointwise [k0_pay3, k0_pay1]) (fun t h y => by
      rw [outsAt0_B m c t h]; frame_out; refine Eq.trans ?_ (congrArg (_ + ·) (gainStored m c t y))
      pointwise [k0_pay3]) t ((flush0_6 t).mp hf), zero_add]
  refine Fin.sum_mul_add_congr fun s k hl => ?_; have hs := s.isLt; have ht : t.val < 13 := t.isLt
  have ha : (⟨s.val * 640 + k.val, hl⟩ : Fin 8320).val = (13 * (t.val / 13) + s.val) * 640 + k.val := by
    show s.val * 640 + k.val = (13 * (t.val / 13) + s.val) * 640 + k.val; omega
  refine gainTerm_congr ha.symm (blkRow_eq m c _ k _ ha) (blkErr_eq m c _ k _ ha) (Fin.ext ?_); blk_simp [idx t]

/-- The loss: half the sum over the rows. -/
def loss (c : Dev nD) : EReal := Ideal.ofBits .f32 1056964608#32 * ∑ i : Fin 8320, rowLoss i.val (err m c i)

/-- The part of it from the rows of one grid point. -/
def blkLoss (_ : S1x128.Idx) : EReal := Ideal.ofBits .f32 1056964608#32 * ∑ i : Fin 640, rowLoss (t.val * 640 + i.val) (blkErr m c t i)

theorem lossStored (y : S1x128.Idx) : k0_pay11 (F := Ideal) (grid0.coords t) (iblk m c 2 t) (iblk m c 0 t) (iblk m c 1 t) (ix2 0 0) = blkLoss m c t y := loss_at t _ _ _ _

/-- First result: the loss, in every place of its row. -/
theorem final3 (c : Dev nD) : (dats m 0 c).arrAt 3 (cfgs 0).N = fun _ => loss m c := by
  refine (dats m 0 c).arrAt_eq_of_covers 3 _ (by decide +kernel) fun t hf y => ?_; blk_simp
  rw [after0_3, Pipeline.eq_sum_fin_of_reset_step_apply_of_flush (fun n h => (outsAt0 m c n h).1) 13 (fun _ => (0 : EReal))
    (blkLoss m c) (fun t h y => by
      rw [outsAt0_A m c t h]; frame_out; refine Eq.trans ?_ (congrArg ((0 : EReal) + ·) (lossStored m c t y))
      generalize k0_pay11 (F := Ideal) (grid0.coords t) (iblk m c 2 t) (iblk m c 0 t) (iblk m c 1 t) = q; pointwise [k0_pay4, k0_pay2]) (fun t h y => by
      rw [outsAt0_B m c t h]; frame_out; refine Eq.trans ?_ (congrArg (_ + ·) (lossStored m c t y))
      generalize k0_pay11 (F := Ideal) (grid0.coords t) (iblk m c 2 t) (iblk m c 0 t) (iblk m c 1 t) = q
      pointwise [k0_pay4]) t ((flush0_3 t).mp hf), zero_add]
  refine (half_sum _).trans (congrArg _ ?_); refine Fin.sum_mul_add_congr fun s k hl => ?_; have hs := s.isLt; have ht : t.val < 13 := t.isLt
  have ha : (⟨s.val * 640 + k.val, hl⟩ : Fin 8320).val = (13 * (t.val / 13) + s.val) * 640 + k.val := by
    show s.val * 640 + k.val = (13 * (t.val / 13) + s.val) * 640 + k.val; omega
  exact rowLoss_congr ha.symm (blkErr_eq m c _ k _ ha)

end Cert.LossIdeal.Prod

namespace Cert.LossRefIdeal.Prod

open Read Step

variable (x0 x2 : S8320x1024.Idx → EReal) (x1 : S1x1024.Idx → EReal)

/-- Row `n` of the reference's normalised input less its target; zero rows past the end. -/
def err (n : ℕ) : Fin 1024 → EReal := if h : n < 8320 then miss (fun k => x0 (ix2 ⟨n, h⟩ k)) (fun k => x1 (ix2 0 k)) (fun k => x2 (ix2 ⟨n, h⟩ k)) else 0

theorem err_of (i : Fin 8320) : err x0 x2 x1 i.val = miss (fun k => x0 (ix2 i k)) (fun k => x1 (ix2 0 k)) (fun k => x2 (ix2 i k)) := dif_pos i.isLt

/-- The error of row `i`. -/
def errRow (i : Fin 8320) : Fin 1024 → EReal := miss (fun k => x0 (ix2 i k)) (fun k => x1 (ix2 0 k)) (fun k => x2 (ix2 i k))

/-- The reference's error, entry by entry. -/
theorem miss_at (i : Fin 8192) (k : Fin 1024) : val_main_v17 (F := Ideal) x0 x1 x2 (ix2 i k) = err x0 x2 x1 (64 + i.val) k := by
  refine Eq.trans ?_ (congrFun (err_of x0 x2 x1 ⟨64 + i.val, by omega⟩).symm k)
  pointwise [val_main_v17, val_main_v16, val_main_v15, val_main_v14, val_main_v13, val_main_v12, val_main_v11, val_main_v7, val_main_v6, val_main_v5,
    val_main_v4, val_main_v3, val_main_v2, val_main_v1, val_main_v0, val_main_cst, val_main_cst_0, val_main_cst_1, miss, rmsInv, dot]

/-- The reference's gradient by the normalised rows. -/
theorem pull_at (a : Fin 8320) (k : Fin 1024) : val_main_v32 (F := Ideal) x0 x1 x2 (ix2 a k) = pullback a.val (errRow x0 x2 x1 a) k := by
  unfold errRow; rw [← err_of x0 x2 x1 a]; unfold val_main_v32; rw [pad_rows _ _ _ _ (by pointwise [val_main_cst_11])]
  refine Eq.trans (congrArg (fun f => lag 64 8192 f a.val) (funext fun i => ?_)) (pullback_lag (err x0 x2 x1) a.val k); rw [← miss_at]
  pointwise [val_main_v31, val_main_v30, val_main_v29, val_main_v28, val_main_v27, val_main_v26, val_main_v20, val_main_v19, val_main_cst_3, val_main_cst_8, val_main_cst_9, val_main_cst_10, share]

/-- The reference's gradient of the input, entry by entry. -/
theorem grad (j : S8320x1024.Idx) : val_main_v51 (F := Ideal) x0 x1 x2 j = rmsGrad (fun k => x0 (ix2 (j 0) k))
      (fun k => times (pullback (j 0).val (errRow x0 x2 x1 (j 0)) k) (x1 (ix2 0 k))) (j 1) := by
  refine Eq.trans ?_ (congrArg (fun d => rmsGrad (fun k => x0 (ix2 (j 0) k)) d (j 1)) (funext fun k => congrArg (fun a => times a (x1 (ix2 0 k))) (pull_at x0 x2 x1 (j 0) k)))
  unfold val_main_v51 val_main_v49 val_main_v50 val_main_v48 val_main_v47 val_main_v46 val_main_v45 val_main_v43 val_main_v42 val_main_v40 val_main_v39 val_main_v38 val_main_v37
  generalize val_main_v32 (F := Ideal) x0 x1 x2 = q
  pointwise [val_main_v44, val_main_v41, val_main_v36, val_main_v10, val_main_v9, val_main_v8, val_main_v7, val_main_v6, val_main_v5, val_main_v4, val_main_v3, val_main_v2, val_main_v1, val_main_v0,
    val_main_cst, val_main_cst_0, val_main_cst_1, val_main_cst_2, val_main_cst_13, val_main_cst_14, val_main_cst_15, Fin.sum_univ_one,
    rmsGrad, rmsPull, rmsInv, meanSq, dot, times]

/-- The reference's gradient of the gain, entry by entry. -/
theorem gain (j : S1x1024.Idx) : val_main_v35 (F := Ideal) x0 x1 x2 j = total 8320 fun i =>
      x0 (ix2 i (j 1)) * rmsInv (fun k => x0 (ix2 i k)) * pullback i.val (errRow x0 x2 x1 i) (j 1) := by
  refine Eq.trans ?_ (congrArg (total 8320) (funext fun i => congrArg (fun a => x0 (ix2 i (j 1)) * rmsInv (fun k => x0 (ix2 i k)) * a) (pull_at x0 x2 x1 i (j 1))))
  unfold val_main_v35 val_main_v34 val_main_v33; generalize val_main_v32 (F := Ideal) x0 x1 x2 = q
  pointwise [val_main_v12, val_main_v11, val_main_v7, val_main_v6, val_main_v5, val_main_v4, val_main_v3,
    val_main_v2, val_main_v1, val_main_v0, val_main_cst, val_main_cst_0, val_main_cst_1, val_main_cst_12, total,
    rmsInv, dot]

/-- The reference's loss. -/
theorem loss (j : S1x128.Idx) : val_main_v52 (F := Ideal) x0 x1 x2 j = Ideal.ofBits .f32 1056964608#32 * ∑ i : Fin 8320, rowLoss i.val (errRow x0 x2 x1 i) := by
  have e : errRow x0 x2 x1 = fun i : Fin 8320 => err x0 x2 x1 i.val := funext fun i => (err_of x0 x2 x1 i).symm; rw [e]; unfold rowLoss
  rw [inside_sum fun i => Ideal.div (dot 1024 (err x0 x2 x1 i.val) (err x0 x2 x1 i.val)) (Ideal.ofBits .f32 1149239296#32)]; unfold dot; simp only [← miss_at]
  unfold val_main_v52 val_main_v25 val_main_v24 val_main_v23 val_main_v21 val_main_v18; generalize val_main_v17 (F := Ideal) x0 x1 x2 = e
  pointwise [val_main_v22, val_main_cst_4, val_main_cst_5, val_main_cst_6, val_main_cst_7]

/-- The loss head, its gradient by the input and its gradient by the gain are the reference's. -/
theorem _root_.Cert.Step.loss : algebraic_LossIdeal_LossRefIdeal := by
  pair_intro
  · exact LossIdeal.Value.run_blocks (F := Ideal) m g
  · refine (θ_run defs _ _).mono (fun _ h c => ?_) (Value.run (F := Ideal) m' g'); obtain ⟨h1, h2, h3, h4, rest⟩ := h c; refine ⟨h1.trans ?_, h2.trans ?_, h3.trans ?_, h4.trans ?_, rest⟩
    · rw [Read.val_main_v52_eq, LossIdeal.Prod.final3]
      funext j
      rw [Prod.loss]; simp only [hagree c]; rfl
    · rw [Read.val_main_v51_eq, LossIdeal.Prod.final4]
      funext j
      rw [grad]; simp only [hagree c]; rfl
    · rw [Read.val_main_v53_eq, LossIdeal.Prod.final5]
      funext j
      refine (grad _ _ _ j).trans ?_; simp only [hagree c]; rfl
    · rw [Read.val_main_v35_eq, LossIdeal.Prod.final6]
      funext j
      rw [gain]; simp only [hagree c]; rfl
-- ==== Proof.AdIn.lean ====
module

public import proofs.«01_k».proof.Proof.Kit
public import proofs.«01_k».proof.Proof.Gen.AdInIdeal.Value
public import proofs.«01_k».proof.Proof.Gen.AdInRefIdeal.Read

@[expose] public section
set_option maxRecDepth 16384
noncomputable section
open Idealize ShloMosaic TcCoe SL.Sem

namespace Cert.AdInIdeal.Prod

open Gen Step

variable (m : (ℓ : Loc nD τ sig) → Buf (Elt Ideal) ℓ)

/-- Each grid point works on its own block of rows, the same one in every array. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

/-- The three results: the change of the weight, the first moment and the second moment. -/
theorem final (c : Dev nD) : (dats m 0 c).arrAt 4 (cfgs 0).N = (fun j => adamDelta (V m c main_v0 j) (V m c main_v1 j) (V m c main_v2 j) (V m c main_v3 j))
    ∧ (dats m 0 c).arrAt 5 (cfgs 0).N = (fun j => mom1 (V m c main_v1 j) (V m c main_v2 j)) ∧ (dats m 0 c).arrAt 6 (cfgs 0).N = (fun j => mom2 (V m c main_v1 j) (V m c main_v3 j)) := by
  refine ⟨(dats m 0 c).arrAt_eq_of_covers 4 _ (by decide +kernel) fun t hf y => ?_, (dats m 0 c).arrAt_eq_of_covers 5 _ (by decide +kernel) fun t hf y => ?_, (dats m 0 c).arrAt_eq_of_covers 6 _ (by decide +kernel) fun t hf y => ?_⟩ <;> blk_simp
  · rw [after0_4]; frame_out
    refine (show _ = adamDelta (iblk m c 0 t y) (iblk m c 1 t y) (iblk m c 2 t y) (iblk m c 3 t y) by
      pointwise [k0_pay4, k0_pay3, k0_pay2, k0_pay1, adamDelta, mom1, mom2, lit]).trans ?_
    congr 1 <;> blk_ext [iblk, idx t]
  · rw [after0_5]; frame_out
    refine (show _ = mom1 (iblk m c 1 t y) (iblk m c 2 t y) by
      pointwise [k0_pay2, k0_pay1, mom1, lit]).trans ?_
    congr 1 <;> blk_ext [iblk, idx t]
  · rw [after0_6]; frame_out
    refine (show _ = mom2 (iblk m c 1 t y) (iblk m c 3 t y) by
      pointwise [k0_pay3, k0_pay1, mom2, lit]).trans ?_
    congr 1 <;> blk_ext [iblk, idx t]

/-- What the call gets in place of an argument: the argument's rows. -/
theorem rows (c : Dev nD) : V m c main_v0 = shapeCast _ (m (c.tc.loc main_arg0)) shapeCasts_S2x1024x1668_S2048x1668
    ∧ V m c main_v1 = shapeCast _ (m (c.tc.loc main_arg1)) shapeCasts_S2x1024x1668_S2048x1668 ∧ V m c main_v2 = shapeCast _ (m (c.tc.loc main_arg2)) shapeCasts_S2x1024x1668_S2048x1668
    ∧ V m c main_v3 = shapeCast _ (m (c.tc.loc main_arg3)) shapeCasts_S2x1024x1668_S2048x1668 := by
  refine ⟨?_, ?_, ?_, ?_⟩ <;> (unfold_abbrev_sides; after_results; rfl)

/-- The optimiser step of this weight is the reference's. -/
theorem _root_.Cert.Step.adIn : algebraic_AdInIdeal_AdInRefIdeal := by
  pair_intro
  · exact Value.run_blocks (F := Ideal) m g
  · refine (θ_run AdInRefIdeal.defs _ _).mono (fun _ h c => ?_) (AdInRefIdeal.Value.run (F := Ideal) m' g'); obtain ⟨h1, h2, h3, rest⟩ := h c; obtain ⟨e0, e1, e2, e3⟩ := rows m c
    obtain ⟨f4, f5, f6⟩ := final m c; refine ⟨h1.trans (.trans ?_ f4.symm), h2.trans (.trans ?_ f5.symm), h3.trans (.trans ?_ f6.symm), rest⟩ <;> (simp only [e0, e1, e2, e3, hagree c]; rfl)
-- ==== Proof.AdUp.lean ====
module

public import proofs.«01_k».proof.Proof.Kit
public import proofs.«01_k».proof.Proof.Gen.AdUpIdeal.Value
public import proofs.«01_k».proof.Proof.Gen.AdUpRefIdeal.Read

@[expose] public section
set_option maxRecDepth 16384
noncomputable section
open Idealize ShloMosaic TcCoe SL.Sem

namespace Cert.AdUpIdeal.Prod

open Gen Step

variable (m : (ℓ : Loc nD τ sig) → Buf (Elt Ideal) ℓ)

/-- Each grid point works on its own block of rows, the same one in every array. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

/-- The three results: the change of the weight, the first moment and the second moment. -/
theorem final (c : Dev nD) : (dats m 0 c).arrAt 4 (cfgs 0).N = (fun j => adamDelta (V m c main_v0 j) (V m c main_v1 j) (V m c main_v2 j) (V m c main_v3 j))
    ∧ (dats m 0 c).arrAt 5 (cfgs 0).N = (fun j => mom1 (V m c main_v1 j) (V m c main_v2 j)) ∧ (dats m 0 c).arrAt 6 (cfgs 0).N = (fun j => mom2 (V m c main_v1 j) (V m c main_v3 j)) := by
  refine ⟨(dats m 0 c).arrAt_eq_of_covers 4 _ (by decide +kernel) fun t hf y => ?_, (dats m 0 c).arrAt_eq_of_covers 5 _ (by decide +kernel) fun t hf y => ?_, (dats m 0 c).arrAt_eq_of_covers 6 _ (by decide +kernel) fun t hf y => ?_⟩ <;> blk_simp
  · rw [after0_4]; frame_out
    refine (show _ = adamDelta (iblk m c 0 t y) (iblk m c 1 t y) (iblk m c 2 t y) (iblk m c 3 t y) by
      pointwise [k0_pay4, k0_pay3, k0_pay2, k0_pay1, adamDelta, mom1, mom2, lit]).trans ?_
    congr 1 <;> blk_ext [iblk, idx t]
  · rw [after0_5]; frame_out
    refine (show _ = mom1 (iblk m c 1 t y) (iblk m c 2 t y) by
      pointwise [k0_pay2, k0_pay1, mom1, lit]).trans ?_
    congr 1 <;> blk_ext [iblk, idx t]
  · rw [after0_6]; frame_out
    refine (show _ = mom2 (iblk m c 1 t y) (iblk m c 3 t y) by
      pointwise [k0_pay3, k0_pay1, mom2, lit]).trans ?_
    congr 1 <;> blk_ext [iblk, idx t]

/-- What the call gets in place of an argument: the argument's rows. -/
theorem rows (c : Dev nD) : V m c main_v0 = shapeCast _ (m (c.tc.loc main_arg0)) shapeCasts_S2x1024x1408_S2048x1408
    ∧ V m c main_v1 = shapeCast _ (m (c.tc.loc main_arg1)) shapeCasts_S2x1024x1408_S2048x1408 ∧ V m c main_v2 = shapeCast _ (m (c.tc.loc main_arg2)) shapeCasts_S2x1024x1408_S2048x1408
    ∧ V m c main_v3 = shapeCast _ (m (c.tc.loc main_arg3)) shapeCasts_S2x1024x1408_S2048x1408 := by
  refine ⟨?_, ?_, ?_, ?_⟩ <;> (unfold_abbrev_sides; after_results; rfl)

/-- The optimiser step of this weight is the reference's. -/
theorem _root_.Cert.Step.adUp : algebraic_AdUpIdeal_AdUpRefIdeal := by
  pair_intro
  · exact Value.run_blocks (F := Ideal) m g
  · refine (θ_run AdUpRefIdeal.defs _ _).mono (fun _ h c => ?_) (AdUpRefIdeal.Value.run (F := Ideal) m' g'); obtain ⟨h1, h2, h3, rest⟩ := h c; obtain ⟨e0, e1, e2, e3⟩ := rows m c
    obtain ⟨f4, f5, f6⟩ := final m c; refine ⟨h1.trans (.trans ?_ f4.symm), h2.trans (.trans ?_ f5.symm), h3.trans (.trans ?_ f6.symm), rest⟩ <;> (simp only [e0, e1, e2, e3, hagree c]; rfl)
-- ==== Proof.AdOut.lean ====
module

public import proofs.«01_k».proof.Proof.Kit
public import proofs.«01_k».proof.Proof.Gen.AdOutIdeal.Value
public import proofs.«01_k».proof.Proof.Gen.AdOutRefIdeal.Read

@[expose] public section
set_option maxRecDepth 16384
noncomputable section
open Idealize ShloMosaic TcCoe SL.Sem

namespace Cert.AdOutIdeal.Prod

open Gen Step

variable (m : (ℓ : Loc nD τ sig) → Buf (Elt Ideal) ℓ)

/-- Each grid point works on its own block of rows, the same one in every array. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

/-- The three results: the change of the weight, the first moment and the second moment. -/
theorem final (c : Dev nD) : (dats m 0 c).arrAt 4 (cfgs 0).N = (fun j => adamDelta (V m c main_v0 j) (V m c main_v1 j) (V m c main_v2 j) (V m c main_v3 j))
    ∧ (dats m 0 c).arrAt 5 (cfgs 0).N = (fun j => mom1 (V m c main_v1 j) (V m c main_v2 j)) ∧ (dats m 0 c).arrAt 6 (cfgs 0).N = (fun j => mom2 (V m c main_v1 j) (V m c main_v3 j)) := by
  refine ⟨(dats m 0 c).arrAt_eq_of_covers 4 _ (by decide +kernel) fun t hf y => ?_, (dats m 0 c).arrAt_eq_of_covers 5 _ (by decide +kernel) fun t hf y => ?_, (dats m 0 c).arrAt_eq_of_covers 6 _ (by decide +kernel) fun t hf y => ?_⟩ <;> blk_simp
  · rw [after0_4]; frame_out
    refine (show _ = adamDelta (iblk m c 0 t y) (iblk m c 1 t y) (iblk m c 2 t y) (iblk m c 3 t y) by
      pointwise [k0_pay4, k0_pay3, k0_pay2, k0_pay1, adamDelta, mom1, mom2, lit]).trans ?_
    congr 1 <;> blk_ext [iblk, idx t]
  · rw [after0_5]; frame_out
    refine (show _ = mom1 (iblk m c 1 t y) (iblk m c 2 t y) by
      pointwise [k0_pay2, k0_pay1, mom1, lit]).trans ?_
    congr 1 <;> blk_ext [iblk, idx t]
  · rw [after0_6]; frame_out
    refine (show _ = mom2 (iblk m c 1 t y) (iblk m c 3 t y) by
      pointwise [k0_pay3, k0_pay1, mom2, lit]).trans ?_
    congr 1 <;> blk_ext [iblk, idx t]

/-- What the call gets in place of an argument: the argument's rows. -/
theorem rows (c : Dev nD) : V m c main_v0 = shapeCast _ (m (c.tc.loc main_arg0)) shapeCasts_S2x256x1024_S512x1024
    ∧ V m c main_v1 = shapeCast _ (m (c.tc.loc main_arg1)) shapeCasts_S2x256x1024_S512x1024 ∧ V m c main_v2 = shapeCast _ (m (c.tc.loc main_arg2)) shapeCasts_S2x256x1024_S512x1024
    ∧ V m c main_v3 = shapeCast _ (m (c.tc.loc main_arg3)) shapeCasts_S2x256x1024_S512x1024 := by
  refine ⟨?_, ?_, ?_, ?_⟩ <;> (unfold_abbrev_sides; after_results; rfl)

/-- The optimiser step of this weight is the reference's. -/
theorem _root_.Cert.Step.adOut : algebraic_AdOutIdeal_AdOutRefIdeal := by
  pair_intro
  · exact Value.run_blocks (F := Ideal) m g
  · refine (θ_run AdOutRefIdeal.defs _ _).mono (fun _ h c => ?_) (AdOutRefIdeal.Value.run (F := Ideal) m' g'); obtain ⟨h1, h2, h3, rest⟩ := h c; obtain ⟨e0, e1, e2, e3⟩ := rows m c
    obtain ⟨f4, f5, f6⟩ := final m c; refine ⟨h1.trans (.trans ?_ f4.symm), h2.trans (.trans ?_ f5.symm), h3.trans (.trans ?_ f6.symm), rest⟩ <;> (simp only [e0, e1, e2, e3, hagree c]; rfl)
-- ==== Proof.AdDown.lean ====
module

public import proofs.«01_k».proof.Proof.Kit
public import proofs.«01_k».proof.Proof.Gen.AdDownIdeal.Value
public import proofs.«01_k».proof.Proof.Gen.AdDownRefIdeal.Read

@[expose] public section
set_option maxRecDepth 16384
noncomputable section
open Idealize ShloMosaic TcCoe SL.Sem

namespace Cert.AdDownIdeal.Prod

open Gen Step

variable (m : (ℓ : Loc nD τ sig) → Buf (Elt Ideal) ℓ)

/-- Each grid point works on its own block of rows, the same one in every array. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

/-- The three results: the change of the weight, the first moment and the second moment. -/
theorem final (c : Dev nD) : (dats m 0 c).arrAt 4 (cfgs 0).N = (fun j => adamDelta (V m c main_v0 j) (V m c main_v1 j) (V m c main_v2 j) (V m c main_v3 j))
    ∧ (dats m 0 c).arrAt 5 (cfgs 0).N = (fun j => mom1 (V m c main_v1 j) (V m c main_v2 j)) ∧ (dats m 0 c).arrAt 6 (cfgs 0).N = (fun j => mom2 (V m c main_v1 j) (V m c main_v3 j)) := by
  refine ⟨(dats m 0 c).arrAt_eq_of_covers 4 _ (by decide +kernel) fun t hf y => ?_, (dats m 0 c).arrAt_eq_of_covers 5 _ (by decide +kernel) fun t hf y => ?_, (dats m 0 c).arrAt_eq_of_covers 6 _ (by decide +kernel) fun t hf y => ?_⟩ <;> blk_simp
  · rw [after0_4]; frame_out
    refine (show _ = adamDelta (iblk m c 0 t y) (iblk m c 1 t y) (iblk m c 2 t y) (iblk m c 3 t y) by
      pointwise [k0_pay4, k0_pay3, k0_pay2, k0_pay1, adamDelta, mom1, mom2, lit]).trans ?_
    congr 1 <;> blk_ext [iblk, idx t]
  · rw [after0_5]; frame_out
    refine (show _ = mom1 (iblk m c 1 t y) (iblk m c 2 t y) by
      pointwise [k0_pay2, k0_pay1, mom1, lit]).trans ?_
    congr 1 <;> blk_ext [iblk, idx t]
  · rw [after0_6]; frame_out
    refine (show _ = mom2 (iblk m c 1 t y) (iblk m c 3 t y) by
      pointwise [k0_pay3, k0_pay1, mom2, lit]).trans ?_
    congr 1 <;> blk_ext [iblk, idx t]

/-- What the call gets in place of an argument: the argument's rows. -/
theorem rows (c : Dev nD) : V m c main_v0 = shapeCast _ (m (c.tc.loc main_arg0)) shapeCasts_S2x704x1024_S1408x1024
    ∧ V m c main_v1 = shapeCast _ (m (c.tc.loc main_arg1)) shapeCasts_S2x704x1024_S1408x1024 ∧ V m c main_v2 = shapeCast _ (m (c.tc.loc main_arg2)) shapeCasts_S2x704x1024_S1408x1024
    ∧ V m c main_v3 = shapeCast _ (m (c.tc.loc main_arg3)) shapeCasts_S2x704x1024_S1408x1024 := by
  refine ⟨?_, ?_, ?_, ?_⟩ <;> (unfold_abbrev_sides; after_results; rfl)

/-- The optimiser step of this weight is the reference's. -/
theorem _root_.Cert.Step.adDown : algebraic_AdDownIdeal_AdDownRefIdeal := by
  pair_intro
  · exact Value.run_blocks (F := Ideal) m g
  · refine (θ_run AdDownRefIdeal.defs _ _).mono (fun _ h c => ?_) (AdDownRefIdeal.Value.run (F := Ideal) m' g'); obtain ⟨h1, h2, h3, rest⟩ := h c; obtain ⟨e0, e1, e2, e3⟩ := rows m c
    obtain ⟨f4, f5, f6⟩ := final m c; refine ⟨h1.trans (.trans ?_ f4.symm), h2.trans (.trans ?_ f5.symm), h3.trans (.trans ?_ f6.symm), rest⟩ <;> (simp only [e0, e1, e2, e3, hagree c]; rfl)
-- ==== Proof.AdPool.lean ====
module

public import proofs.«01_k».proof.Proof.Kit
public import proofs.«01_k».proof.Proof.Gen.AdPoolIdeal.Value
public import proofs.«01_k».proof.Proof.Gen.AdPoolRefIdeal.Read

@[expose] public section
set_option maxRecDepth 16384
noncomputable section
open Idealize ShloMosaic TcCoe SL.Sem

namespace Cert.AdPoolIdeal.Prod

open Gen Step

variable (m : (ℓ : Loc nD τ sig) → Buf (Elt Ideal) ℓ)

/-- Each grid point works on its own block of rows, the same one in every array. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

/-- The three results: the change of the weight, the first moment and the second moment. -/
theorem final (c : Dev nD) : (dats m 0 c).arrAt 4 (cfgs 0).N = (fun j => adamDelta (V m c main_v0 j) (V m c main_v1 j) (V m c main_v2 j) (V m c main_v3 j))
    ∧ (dats m 0 c).arrAt 5 (cfgs 0).N = (fun j => mom1 (V m c main_v1 j) (V m c main_v2 j)) ∧ (dats m 0 c).arrAt 6 (cfgs 0).N = (fun j => mom2 (V m c main_v1 j) (V m c main_v3 j)) := by
  refine ⟨(dats m 0 c).arrAt_eq_of_covers 4 _ (by decide +kernel) fun t hf y => ?_, (dats m 0 c).arrAt_eq_of_covers 5 _ (by decide +kernel) fun t hf y => ?_, (dats m 0 c).arrAt_eq_of_covers 6 _ (by decide +kernel) fun t hf y => ?_⟩ <;> blk_simp
  · rw [after0_4]; frame_out
    refine (show _ = adamDelta (iblk m c 0 t y) (iblk m c 1 t y) (iblk m c 2 t y) (iblk m c 3 t y) by
      pointwise [k0_pay4, k0_pay3, k0_pay2, k0_pay1, adamDelta, mom1, mom2, lit]).trans ?_
    congr 1 <;> blk_ext [iblk, idx t]
  · rw [after0_5]; frame_out
    refine (show _ = mom1 (iblk m c 1 t y) (iblk m c 2 t y) by
      pointwise [k0_pay2, k0_pay1, mom1, lit]).trans ?_
    congr 1 <;> blk_ext [iblk, idx t]
  · rw [after0_6]; frame_out
    refine (show _ = mom2 (iblk m c 1 t y) (iblk m c 3 t y) by
      pointwise [k0_pay3, k0_pay1, mom2, lit]).trans ?_
    congr 1 <;> blk_ext [iblk, idx t]

/-- What the call gets in place of an argument: the argument's rows. -/
theorem rows (c : Dev nD) : V m c main_v0 = shapeCast _ (m (c.tc.loc main_arg0)) shapeCasts_S2x4x128x64_S1024x64 ∧ V m c main_v1 = shapeCast _ (m (c.tc.loc main_arg1)) shapeCasts_S2x4x128x64_S1024x64
    ∧ V m c main_v2 = shapeCast _ (m (c.tc.loc main_arg2)) shapeCasts_S2x4x128x64_S1024x64 ∧ V m c main_v3 = shapeCast _ (m (c.tc.loc main_arg3)) shapeCasts_S2x4x128x64_S1024x64 := by
  refine ⟨?_, ?_, ?_, ?_⟩ <;> (unfold_abbrev_sides; after_results; rfl)

/-- The optimiser step of this weight is the reference's. -/
theorem _root_.Cert.Step.adPool : algebraic_AdPoolIdeal_AdPoolRefIdeal := by
  pair_intro
  · exact Value.run_blocks (F := Ideal) m g
  · refine (θ_run AdPoolRefIdeal.defs _ _).mono (fun _ h c => ?_) (AdPoolRefIdeal.Value.run (F := Ideal) m' g'); obtain ⟨h1, h2, h3, rest⟩ := h c; obtain ⟨e0, e1, e2, e3⟩ := rows m c
    obtain ⟨f4, f5, f6⟩ := final m c; refine ⟨h1.trans (.trans ?_ f4.symm), h2.trans (.trans ?_ f5.symm), h3.trans (.trans ?_ f6.symm), rest⟩ <;> (simp only [e0, e1, e2, e3, hagree c]; rfl)
-- ==== Proof.AdConvQ.lean ====
module

public import proofs.«01_k».proof.Proof.Kit
public import proofs.«01_k».proof.Proof.Gen.AdConvQIdeal.Value
public import proofs.«01_k».proof.Proof.Gen.AdConvQRefIdeal.Read

@[expose] public section
set_option maxRecDepth 16384
noncomputable section
open Idealize ShloMosaic TcCoe SL.Sem

namespace Cert.AdConvQIdeal.Prod

open Gen Step

variable (m : (ℓ : Loc nD τ sig) → Buf (Elt Ideal) ℓ)

/-- Each grid point works on its own block of rows, the same one in every array. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

/-- The three results: the change of the weight, the first moment and the second moment. -/
theorem final (c : Dev nD) : (dats m 0 c).arrAt 4 (cfgs 0).N = (fun j => adamDelta (V m c main_v0 j) (V m c main_v1 j) (V m c main_v2 j) (V m c main_v3 j))
    ∧ (dats m 0 c).arrAt 5 (cfgs 0).N = (fun j => mom1 (V m c main_v1 j) (V m c main_v2 j)) ∧ (dats m 0 c).arrAt 6 (cfgs 0).N = (fun j => mom2 (V m c main_v1 j) (V m c main_v3 j)) := by
  refine ⟨(dats m 0 c).arrAt_eq_of_covers 4 _ (by decide +kernel) fun t hf y => ?_, (dats m 0 c).arrAt_eq_of_covers 5 _ (by decide +kernel) fun t hf y => ?_, (dats m 0 c).arrAt_eq_of_covers 6 _ (by decide +kernel) fun t hf y => ?_⟩ <;> blk_simp
  · rw [after0_4]; frame_out
    refine (show _ = adamDelta (iblk m c 0 t y) (iblk m c 1 t y) (iblk m c 2 t y) (iblk m c 3 t y) by
      pointwise [k0_pay4, k0_pay3, k0_pay2, k0_pay1, adamDelta, mom1, mom2, lit]).trans ?_
    congr 1 <;> blk_ext [iblk, idx t]
  · rw [after0_5]; frame_out
    refine (show _ = mom1 (iblk m c 1 t y) (iblk m c 2 t y) by
      pointwise [k0_pay2, k0_pay1, mom1, lit]).trans ?_
    congr 1 <;> blk_ext [iblk, idx t]
  · rw [after0_6]; frame_out
    refine (show _ = mom2 (iblk m c 1 t y) (iblk m c 3 t y) by
      pointwise [k0_pay3, k0_pay1, mom2, lit]).trans ?_
    congr 1 <;> blk_ext [iblk, idx t]

/-- What the call gets in place of an argument: the argument's rows. -/
theorem rows (c : Dev nD) : V m c main_v0 = shapeCast _ (m (c.tc.loc main_arg0)) shapeCasts_S2x4x768_S8x768 ∧ V m c main_v1 = shapeCast _ (m (c.tc.loc main_arg1)) shapeCasts_S2x4x768_S8x768
    ∧ V m c main_v2 = shapeCast _ (m (c.tc.loc main_arg2)) shapeCasts_S2x4x768_S8x768 ∧ V m c main_v3 = shapeCast _ (m (c.tc.loc main_arg3)) shapeCasts_S2x4x768_S8x768 := by
  refine ⟨?_, ?_, ?_, ?_⟩ <;> (unfold_abbrev_sides; after_results; rfl)

/-- The optimiser step of this weight is the reference's. -/
theorem _root_.Cert.Step.adConvQ : algebraic_AdConvQIdeal_AdConvQRefIdeal := by
  pair_intro
  · exact Value.run_blocks (F := Ideal) m g
  · refine (θ_run AdConvQRefIdeal.defs _ _).mono (fun _ h c => ?_) (AdConvQRefIdeal.Value.run (F := Ideal) m' g'); obtain ⟨h1, h2, h3, rest⟩ := h c; obtain ⟨e0, e1, e2, e3⟩ := rows m c
    obtain ⟨f4, f5, f6⟩ := final m c; refine ⟨h1.trans (.trans ?_ f4.symm), h2.trans (.trans ?_ f5.symm), h3.trans (.trans ?_ f6.symm), rest⟩ <;> (simp only [e0, e1, e2, e3, hagree c]; rfl)
-- ==== Proof.AdConvF.lean ====
module

public import proofs.«01_k».proof.Proof.Kit
public import proofs.«01_k».proof.Proof.Gen.AdConvFIdeal.Value
public import proofs.«01_k».proof.Proof.Gen.AdConvFRefIdeal.Read

@[expose] public section
set_option maxRecDepth 16384
noncomputable section
open Idealize ShloMosaic TcCoe SL.Sem

namespace Cert.AdConvFIdeal.Prod

open Gen Step

variable (m : (ℓ : Loc nD τ sig) → Buf (Elt Ideal) ℓ)

/-- Each grid point works on its own block of rows, the same one in every array. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

/-- The three results: the change of the weight, the first moment and the second moment. -/
theorem final (c : Dev nD) : (dats m 0 c).arrAt 4 (cfgs 0).N = (fun j => adamDelta (V m c main_v0 j) (V m c main_v1 j) (V m c main_v2 j) (V m c main_v3 j))
    ∧ (dats m 0 c).arrAt 5 (cfgs 0).N = (fun j => mom1 (V m c main_v1 j) (V m c main_v2 j)) ∧ (dats m 0 c).arrAt 6 (cfgs 0).N = (fun j => mom2 (V m c main_v1 j) (V m c main_v3 j)) := by
  refine ⟨(dats m 0 c).arrAt_eq_of_covers 4 _ (by decide +kernel) fun t hf y => ?_, (dats m 0 c).arrAt_eq_of_covers 5 _ (by decide +kernel) fun t hf y => ?_, (dats m 0 c).arrAt_eq_of_covers 6 _ (by decide +kernel) fun t hf y => ?_⟩ <;> blk_simp
  · rw [after0_4]; frame_out
    refine (show _ = adamDelta (iblk m c 0 t y) (iblk m c 1 t y) (iblk m c 2 t y) (iblk m c 3 t y) by
      pointwise [k0_pay4, k0_pay3, k0_pay2, k0_pay1, adamDelta, mom1, mom2, lit]).trans ?_
    congr 1 <;> blk_ext [iblk, idx t]
  · rw [after0_5]; frame_out
    refine (show _ = mom1 (iblk m c 1 t y) (iblk m c 2 t y) by
      pointwise [k0_pay2, k0_pay1, mom1, lit]).trans ?_
    congr 1 <;> blk_ext [iblk, idx t]
  · rw [after0_6]; frame_out
    refine (show _ = mom2 (iblk m c 1 t y) (iblk m c 3 t y) by
      pointwise [k0_pay3, k0_pay1, mom2, lit]).trans ?_
    congr 1 <;> blk_ext [iblk, idx t]

/-- What the call gets in place of an argument: the argument's rows. -/
theorem rows (c : Dev nD) : V m c main_v0 = shapeCast _ (m (c.tc.loc main_arg0)) shapeCasts_S2x3x1408_S6x1408 ∧ V m c main_v1 = shapeCast _ (m (c.tc.loc main_arg1)) shapeCasts_S2x3x1408_S6x1408
    ∧ V m c main_v2 = shapeCast _ (m (c.tc.loc main_arg2)) shapeCasts_S2x3x1408_S6x1408 ∧ V m c main_v3 = shapeCast _ (m (c.tc.loc main_arg3)) shapeCasts_S2x3x1408_S6x1408 := by
  refine ⟨?_, ?_, ?_, ?_⟩ <;> (unfold_abbrev_sides; after_results; rfl)

/-- The optimiser step of this weight is the reference's. -/
theorem _root_.Cert.Step.adConvF : algebraic_AdConvFIdeal_AdConvFRefIdeal := by
  pair_intro
  · exact Value.run_blocks (F := Ideal) m g
  · refine (θ_run AdConvFRefIdeal.defs _ _).mono (fun _ h c => ?_) (AdConvFRefIdeal.Value.run (F := Ideal) m' g'); obtain ⟨h1, h2, h3, rest⟩ := h c; obtain ⟨e0, e1, e2, e3⟩ := rows m c
    obtain ⟨f4, f5, f6⟩ := final m c; refine ⟨h1.trans (.trans ?_ f4.symm), h2.trans (.trans ?_ f5.symm), h3.trans (.trans ?_ f6.symm), rest⟩ <;> (simp only [e0, e1, e2, e3, hagree c]; rfl)
-- ==== Proof.AdMeta.lean ====
module

public import proofs.«01_k».proof.Proof.Kit
public import proofs.«01_k».proof.Proof.Gen.AdMetaIdeal.Value
public import proofs.«01_k».proof.Proof.Gen.AdMetaRefIdeal.Read

@[expose] public section
set_option maxRecDepth 16384
noncomputable section
open Idealize ShloMosaic TcCoe SL.Sem

namespace Cert.AdMetaIdeal.Prod

open Gen Step

variable (m : (ℓ : Loc nD τ sig) → Buf (Elt Ideal) ℓ)

/-- Each grid point works on its own block of rows, the same one in every array. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

/-- The three results: the change of the weight, the first moment and the second moment. -/
theorem final (c : Dev nD) : (dats m 0 c).arrAt 4 (cfgs 0).N = (fun j => adamDelta (V m c main_arg0 j) (V m c main_arg1 j) (V m c main_arg2 j) (V m c main_arg3 j))
    ∧ (dats m 0 c).arrAt 5 (cfgs 0).N = (fun j => mom1 (V m c main_arg1 j) (V m c main_arg2 j)) ∧ (dats m 0 c).arrAt 6 (cfgs 0).N = (fun j => mom2 (V m c main_arg1 j) (V m c main_arg3 j)) := by
  refine ⟨(dats m 0 c).arrAt_eq_of_covers 4 _ (by decide +kernel) fun t hf y => ?_, (dats m 0 c).arrAt_eq_of_covers 5 _ (by decide +kernel) fun t hf y => ?_, (dats m 0 c).arrAt_eq_of_covers 6 _ (by decide +kernel) fun t hf y => ?_⟩ <;> blk_simp
  · rw [after0_4]; frame_out
    refine (show _ = adamDelta (iblk m c 0 t y) (iblk m c 1 t y) (iblk m c 2 t y) (iblk m c 3 t y) by
      pointwise [k0_pay3, k0_pay2, k0_pay1, adamDelta, mom1, mom2, lit]).trans ?_
    congr 1 <;> blk_ext [iblk, idx t]
  · rw [after0_5]; frame_out
    refine (show _ = mom1 (iblk m c 1 t y) (iblk m c 2 t y) by
      pointwise [k0_pay1, mom1, lit]).trans ?_
    congr 1 <;> blk_ext [iblk, idx t]
  · rw [after0_6]; frame_out
    refine (show _ = mom2 (iblk m c 1 t y) (iblk m c 3 t y) by
      pointwise [k0_pay2, mom2, lit]).trans ?_
    congr 1 <;> blk_ext [iblk, idx t]

/-- The optimiser step of this weight is the reference's. -/
theorem _root_.Cert.Step.adMeta : algebraic_AdMetaIdeal_AdMetaRefIdeal := by
  pair_intro
  · exact Value.run_blocks (F := Ideal) m g
  · refine (θ_run AdMetaRefIdeal.defs _ _).mono (fun _ h c => ?_) (AdMetaRefIdeal.Value.run (F := Ideal) m' g'); obtain ⟨h1, h2, h3, rest⟩ := h c; obtain ⟨f4, f5, f6⟩ := final m c
    refine ⟨h1.trans (.trans ?_ f4.symm), h2.trans (.trans ?_ f5.symm), h3.trans (.trans ?_ f6.symm), rest⟩ <;> (simp only [hagree c]; rfl)
-- ==== Proof.AdNorm.lean ====
module

public import proofs.«01_k».proof.Proof.Kit
public import proofs.«01_k».proof.Proof.Gen.AdNormIdeal.Value
public import proofs.«01_k».proof.Proof.Gen.AdNormRefIdeal.Read

@[expose] public section
set_option maxRecDepth 16384
noncomputable section
open Idealize ShloMosaic TcCoe SL.Sem

namespace Cert.AdNormIdeal.Prod

open Gen Step

variable (m : (ℓ : Loc nD τ sig) → Buf (Elt Ideal) ℓ)

/-- Each grid point works on its own block of rows, the same one in every array. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

/-- The three results: the change of the weight, the first moment and the second moment. -/
theorem final (c : Dev nD) : (dats m 0 c).arrAt 4 (cfgs 0).N = (fun j => adamDelta (V m c main_arg0 j) (V m c main_arg1 j) (V m c main_arg2 j) (V m c main_arg3 j))
    ∧ (dats m 0 c).arrAt 5 (cfgs 0).N = (fun j => mom1 (V m c main_arg1 j) (V m c main_arg2 j)) ∧ (dats m 0 c).arrAt 6 (cfgs 0).N = (fun j => mom2 (V m c main_arg1 j) (V m c main_arg3 j)) := by
  refine ⟨(dats m 0 c).arrAt_eq_of_covers 4 _ (by decide +kernel) fun t hf y => ?_, (dats m 0 c).arrAt_eq_of_covers 5 _ (by decide +kernel) fun t hf y => ?_, (dats m 0 c).arrAt_eq_of_covers 6 _ (by decide +kernel) fun t hf y => ?_⟩ <;> blk_simp
  · rw [after0_4]; frame_out
    refine (show _ = adamDelta (iblk m c 0 t y) (iblk m c 1 t y) (iblk m c 2 t y) (iblk m c 3 t y) by
      pointwise [k0_pay3, k0_pay2, k0_pay1, adamDelta, mom1, mom2, lit]).trans ?_
    congr 1 <;> blk_ext [iblk, idx t]
  · rw [after0_5]; frame_out
    refine (show _ = mom1 (iblk m c 1 t y) (iblk m c 2 t y) by
      pointwise [k0_pay1, mom1, lit]).trans ?_
    congr 1 <;> blk_ext [iblk, idx t]
  · rw [after0_6]; frame_out
    refine (show _ = mom2 (iblk m c 1 t y) (iblk m c 3 t y) by
      pointwise [k0_pay2, mom2, lit]).trans ?_
    congr 1 <;> blk_ext [iblk, idx t]

/-- The optimiser step of this weight is the reference's. -/
theorem _root_.Cert.Step.adNorm : algebraic_AdNormIdeal_AdNormRefIdeal := by
  pair_intro
  · exact Value.run_blocks (F := Ideal) m g
  · refine (θ_run AdNormRefIdeal.defs _ _).mono (fun _ h c => ?_) (AdNormRefIdeal.Value.run (F := Ideal) m' g'); obtain ⟨h1, h2, h3, rest⟩ := h c; obtain ⟨f4, f5, f6⟩ := final m c
    refine ⟨h1.trans (.trans ?_ f4.symm), h2.trans (.trans ?_ f5.symm), h3.trans (.trans ?_ f6.symm), rest⟩ <;> (simp only [hagree c]; rfl)
-- ==== Proof.AdHead.lean ====
module

public import proofs.«01_k».proof.Proof.Kit
public import proofs.«01_k».proof.Proof.Gen.AdHeadIdeal.Value
public import proofs.«01_k».proof.Proof.Gen.AdHeadRefIdeal.Read

@[expose] public section
set_option maxRecDepth 16384
noncomputable section
open Idealize ShloMosaic TcCoe SL.Sem

namespace Cert.AdHeadIdeal.Prod

open Gen Step

variable (m : (ℓ : Loc nD τ sig) → Buf (Elt Ideal) ℓ)

/-- Each grid point works on its own block of rows, the same one in every array. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

/-- The three results: the change of the weight, the first moment and the second moment. -/
theorem final (c : Dev nD) : (dats m 0 c).arrAt 4 (cfgs 0).N = (fun j => adamDelta (V m c main_arg0 j) (V m c main_arg1 j) (V m c main_arg2 j) (V m c main_arg3 j))
    ∧ (dats m 0 c).arrAt 5 (cfgs 0).N = (fun j => mom1 (V m c main_arg1 j) (V m c main_arg2 j)) ∧ (dats m 0 c).arrAt 6 (cfgs 0).N = (fun j => mom2 (V m c main_arg1 j) (V m c main_arg3 j)) := by
  refine ⟨(dats m 0 c).arrAt_eq_of_covers 4 _ (by decide +kernel) fun t hf y => ?_, (dats m 0 c).arrAt_eq_of_covers 5 _ (by decide +kernel) fun t hf y => ?_, (dats m 0 c).arrAt_eq_of_covers 6 _ (by decide +kernel) fun t hf y => ?_⟩ <;> blk_simp
  · rw [after0_4]; frame_out
    refine (show _ = adamDelta (iblk m c 0 t y) (iblk m c 1 t y) (iblk m c 2 t y) (iblk m c 3 t y) by
      pointwise [k0_pay3, k0_pay2, k0_pay1, adamDelta, mom1, mom2, lit]).trans ?_
    congr 1 <;> blk_ext [iblk, idx t]
  · rw [after0_5]; frame_out
    refine (show _ = mom1 (iblk m c 1 t y) (iblk m c 2 t y) by
      pointwise [k0_pay1, mom1, lit]).trans ?_
    congr 1 <;> blk_ext [iblk, idx t]
  · rw [after0_6]; frame_out
    refine (show _ = mom2 (iblk m c 1 t y) (iblk m c 3 t y) by
      pointwise [k0_pay2, mom2, lit]).trans ?_
    congr 1 <;> blk_ext [iblk, idx t]

/-- The optimiser step of this weight is the reference's. -/
theorem _root_.Cert.Step.adHead : algebraic_AdHeadIdeal_AdHeadRefIdeal := by
  pair_intro
  · exact Value.run_blocks (F := Ideal) m g
  · refine (θ_run AdHeadRefIdeal.defs _ _).mono (fun _ h c => ?_) (AdHeadRefIdeal.Value.run (F := Ideal) m' g'); obtain ⟨h1, h2, h3, rest⟩ := h c; obtain ⟨f4, f5, f6⟩ := final m c
    refine ⟨h1.trans (.trans ?_ f4.symm), h2.trans (.trans ?_ f5.symm), h3.trans (.trans ?_ f6.symm), rest⟩ <;> (simp only [hagree c]; rfl)
-- ==== Proof.AdHeadN.lean ====
module

public import proofs.«01_k».proof.Proof.Kit
public import proofs.«01_k».proof.Proof.Gen.AdHeadNIdeal.Value
public import proofs.«01_k».proof.Proof.Gen.AdHeadNRefIdeal.Read

@[expose] public section
set_option maxRecDepth 16384
noncomputable section
open Idealize ShloMosaic TcCoe SL.Sem

namespace Cert.AdHeadNIdeal.Prod

open Gen Step

variable (m : (ℓ : Loc nD τ sig) → Buf (Elt Ideal) ℓ)

/-- Each grid point works on its own block of rows, the same one in every array. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

/-- The three results: the change of the weight, the first moment and the second moment. -/
theorem final (c : Dev nD) : (dats m 0 c).arrAt 4 (cfgs 0).N = (fun j => adamDelta (V m c main_arg0 j) (V m c main_arg1 j) (V m c main_arg2 j) (V m c main_arg3 j))
    ∧ (dats m 0 c).arrAt 5 (cfgs 0).N = (fun j => mom1 (V m c main_arg1 j) (V m c main_arg2 j)) ∧ (dats m 0 c).arrAt 6 (cfgs 0).N = (fun j => mom2 (V m c main_arg1 j) (V m c main_arg3 j)) := by
  refine ⟨(dats m 0 c).arrAt_eq_of_covers 4 _ (by decide +kernel) fun t hf y => ?_, (dats m 0 c).arrAt_eq_of_covers 5 _ (by decide +kernel) fun t hf y => ?_, (dats m 0 c).arrAt_eq_of_covers 6 _ (by decide +kernel) fun t hf y => ?_⟩ <;> blk_simp
  · rw [after0_4]; frame_out
    refine (show _ = adamDelta (iblk m c 0 t y) (iblk m c 1 t y) (iblk m c 2 t y) (iblk m c 3 t y) by
      pointwise [k0_pay3, k0_pay2, k0_pay1, adamDelta, mom1, mom2, lit]).trans ?_
    congr 1 <;> blk_ext [iblk, idx t]
  · rw [after0_5]; frame_out
    refine (show _ = mom1 (iblk m c 1 t y) (iblk m c 2 t y) by
      pointwise [k0_pay1, mom1, lit]).trans ?_
    congr 1 <;> blk_ext [iblk, idx t]
  · rw [after0_6]; frame_out
    refine (show _ = mom2 (iblk m c 1 t y) (iblk m c 3 t y) by
      pointwise [k0_pay2, mom2, lit]).trans ?_
    congr 1 <;> blk_ext [iblk, idx t]

/-- The optimiser step of this weight is the reference's. -/
theorem _root_.Cert.Step.adHeadN : algebraic_AdHeadNIdeal_AdHeadNRefIdeal := by
  pair_intro
  · exact Value.run_blocks (F := Ideal) m g
  · refine (θ_run AdHeadNRefIdeal.defs _ _).mono (fun _ h c => ?_) (AdHeadNRefIdeal.Value.run (F := Ideal) m' g'); obtain ⟨h1, h2, h3, rest⟩ := h c; obtain ⟨f4, f5, f6⟩ := final m c
    refine ⟨h1.trans (.trans ?_ f4.symm), h2.trans (.trans ?_ f5.symm), h3.trans (.trans ?_ f6.symm), rest⟩ <;> (simp only [hagree c]; rfl)
-- ==== Proof.AdFin.lean ====
module

public import proofs.«01_k».proof.Proof.Kit
public import proofs.«01_k».proof.Proof.Gen.AdFinIdeal.Value
public import proofs.«01_k».proof.Proof.Gen.AdFinRefIdeal.Read

@[expose] public section
set_option maxRecDepth 16384
noncomputable section
open Idealize ShloMosaic TcCoe SL.Sem

namespace Cert.AdFinIdeal.Prod

open Gen Step

variable (m : (ℓ : Loc nD τ sig) → Buf (Elt Ideal) ℓ)

/-- Each grid point works on its own block of rows, the same one in every array. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] :=
  (by decide +kernel : ∀ t : Fin grid0.N, _)

/-- The three results: the change of the weight, the first moment and the second moment. -/
theorem final (c : Dev nD) : (dats m 0 c).arrAt 4 (cfgs 0).N = (fun j => adamDelta (V m c main_v0 j) (V m c main_v1 j) (V m c main_v2 j) (V m c main_v3 j))
    ∧ (dats m 0 c).arrAt 5 (cfgs 0).N = (fun j => mom1 (V m c main_v1 j) (V m c main_v2 j)) ∧ (dats m 0 c).arrAt 6 (cfgs 0).N = (fun j => mom2 (V m c main_v1 j) (V m c main_v3 j)) := by
  refine ⟨(dats m 0 c).arrAt_eq_of_covers 4 _ (by decide +kernel) fun t hf y => ?_, (dats m 0 c).arrAt_eq_of_covers 5 _ (by decide +kernel) fun t hf y => ?_, (dats m 0 c).arrAt_eq_of_covers 6 _ (by decide +kernel) fun t hf y => ?_⟩ <;> blk_simp
  · rw [after0_4]; frame_out
    refine (show _ = adamDelta (iblk m c 0 t y) (iblk m c 1 t y) (iblk m c 2 t y) (iblk m c 3 t y) by
      pointwise [k0_pay4, k0_pay3, k0_pay2, k0_pay1, adamDelta, mom1, mom2, lit]).trans ?_
    congr 1 <;> blk_ext [iblk, idx t]
  · rw [after0_5]; frame_out
    refine (show _ = mom1 (iblk m c 1 t y) (iblk m c 2 t y) by
      pointwise [k0_pay2, k0_pay1, mom1, lit]).trans ?_
    congr 1 <;> blk_ext [iblk, idx t]
  · rw [after0_6]; frame_out
    refine (show _ = mom2 (iblk m c 1 t y) (iblk m c 3 t y) by
      pointwise [k0_pay3, k0_pay1, mom2, lit]).trans ?_
    congr 1 <;> blk_ext [iblk, idx t]

/-- What the call gets in place of an argument: the argument's rows. -/
theorem rows (c : Dev nD) : V m c main_v0 = shapeCast _ (m (c.tc.loc main_arg0)) shapeCasts_S1024_S1x1024 ∧ V m c main_v1 = shapeCast _ (m (c.tc.loc main_arg1)) shapeCasts_S1024_S1x1024
    ∧ V m c main_v2 = shapeCast _ (m (c.tc.loc main_arg2)) shapeCasts_S1024_S1x1024 ∧ V m c main_v3 = shapeCast _ (m (c.tc.loc main_arg3)) shapeCasts_S1024_S1x1024 := by
  refine ⟨?_, ?_, ?_, ?_⟩ <;> (unfold_abbrev_sides; after_results; rfl)

/-- The optimiser step of this weight is the reference's. -/
theorem _root_.Cert.Step.adFin : algebraic_AdFinIdeal_AdFinRefIdeal := by
  pair_intro
  · exact Value.run_blocks (F := Ideal) m g
  · refine (θ_run AdFinRefIdeal.defs _ _).mono (fun _ h c => ?_) (AdFinRefIdeal.Value.run (F := Ideal) m' g'); obtain ⟨h1, h2, h3, rest⟩ := h c; obtain ⟨e0, e1, e2, e3⟩ := rows m c
    obtain ⟨f4, f5, f6⟩ := final m c; refine ⟨h1.trans (.trans ?_ f4.symm), h2.trans (.trans ?_ f5.symm), h3.trans (.trans ?_ f6.symm), rest⟩ <;> (simp only [e0, e1, e2, e3, hagree c]; rfl)
-- ==== Proof.SwapFlow.lean ====
/-
The exchange between the two cores of a chip: the kernel's body as a list of twenty copies and twenty pairs of waits.

Copy `k` (of twenty: four slots of each of five arrays) takes the slab `[slot, 1 - c]` of this core's array to the slot of
the other core's result, pays `send k` here when the slab is read and `recv k` there when it has landed. The body starts
all twenty, then waits for `send k` and `recv k` in turn.
-/
module

public import proofs.«01_k».proof.Proof.Gen.SwapIdeal
public import proofs.«01_k».proof.Proof.Gen.SwapIdeal.Launch
public import Idealize.ShloMosaic.Lib.Pipeline.Launch
public import Idealize.ShloMosaic.Lib.Pipeline.Kit
public import Idealize.ShloMosaic.Lib.Tactic

@[expose] public section
noncomputable section
namespace Cert.SwapProof

open SwapIdeal Gen

open Idealize.ShloMosaic
open Idealize.ShloMosaic.TcCoe
open Idealize.SL Idealize.SL.Sem

variable {F : FTy → Type} [FloatOps F]

/-! ## The five arrays -/

/-- Array `a`'s rows and lanes. -/
abbrev Rw : Fin 5 → ℕ := fun | 0 => 1024 | 1 => 1024 | 2 => 704 | 3 => 256 | 4 => 368
abbrev Ln : Fin 5 → ℕ := fun | 0 => 1668 | 1 => 1408 | 2 => 1024 | 3 => 1024 | 4 => 128

/-- The shapes of array `a` on one core, of its slab, of its result, of a result's slot, and of one matrix. -/
abbrev SI (a : Fin 5) : Shape := ⟨4, ![4, 2, Rw a, Ln a]⟩
abbrev SJ (a : Fin 5) : Shape := ⟨4, ![1, 1, Rw a, Ln a]⟩
abbrev SO (a : Fin 5) : Shape := ⟨3, ![4, Rw a, Ln a]⟩
abbrev SP (a : Fin 5) : Shape := ⟨3, ![1, Rw a, Ln a]⟩
abbrev SM (a : Fin 5) : Shape := ⟨2, ![Rw a, Ln a]⟩

def inM : (a : Fin 5) → Memref sig .tc .hbm (SI a) .f32 := fun
  | 0 => Memref.whole main_arg0 | 1 => Memref.whole main_arg1 | 2 => Memref.whole main_arg2 | 3 => Memref.whole main_arg3 | 4 => Memref.whole main_arg4
def outM : (a : Fin 5) → Memref sig .tc .hbm (SO a) .f32 := fun
  | 0 => Memref.whole main_v1_0 | 1 => Memref.whole main_v1_1 | 2 => Memref.whole main_v1_2 | 3 => Memref.whole main_v1_3 | 4 => Memref.whole main_v1_4

theorem sqJ : ∀ a : Fin 5, (SJ a).Squeezes (SM a) := by decide
theorem sqP : ∀ a : Fin 5, (SP a).Squeezes (SM a) := by decide

/-! ## The twenty copies -/

/-- A copy: its array and its slot. -/
abbrev Cp : Type := Fin 5 × Fin 4
abbrev arr (k : Cp) : Fin 5 := k.1
abbrev slot (k : Cp) : Fin 4 := k.2
/-- Its place in the kernel's order, which is its semaphores' place. -/
def num (k : Cp) : Fin 20 := ⟨4 * k.1.val + k.2.val, by omega⟩

/-- Where copy `k` of core `d` starts reading, and the core it sends to, as the kernel computes them. -/
def offT : Fin 20 → Dev nD → Fin 4 → Nat :=
  ![k0_off1, k0_off2, k0_off3, k0_off4, k0_off5, k0_off6, k0_off7, k0_off8, k0_off9, k0_off10, k0_off11, k0_off12, k0_off13, k0_off14, k0_off15, k0_off16, k0_off17, k0_off18, k0_off19, k0_off20]
def tgtT : Fin 20 → Dev nD → Nat :=
  ![k0_dev1, k0_dev2, k0_dev3, k0_dev4, k0_dev5, k0_dev6, k0_dev7, k0_dev8, k0_dev9, k0_dev10, k0_dev11, k0_dev12, k0_dev13, k0_dev14, k0_dev15, k0_dev16, k0_dev17, k0_dev18, k0_dev19, k0_dev20]

def off (k : Cp) : Dev nD → Fin 4 → Nat := offT (num k)
def tgt (k : Cp) : Dev nD → Nat := tgtT (num k)

/-- Copy `k` reads from `[slot k, 1 - d, 0, 0]` and sends to core `1 - d`. -/
theorem off_eq : ∀ (k : Cp) (d : Dev nD), off k d = ![(slot k).val, 1 - d.val, 0, 0] := by decide +kernel
theorem tgt_eq : ∀ (k : Cp) (d : Dev nD), tgt k d = 1 - d.val := by decide +kernel
theorem tgt_lt (k : Cp) (d : Dev nD) : tgt k d < nD := by rw [tgt_eq]; have : nD = 2 := rfl; omega

theorem off_inb (k : Cp) (d : Dev nD) (i : Fin 4) : off k d i + (SJ (arr k)).size i ≤ (SI (arr k)).size i := by
  rw [off_eq]; have h1 := (slot k).isLt
  fin_cases i
  · show (slot k).val + 1 ≤ 4; omega
  · show 1 - d.val + 1 ≤ 2; omega
  · exact (Nat.zero_add _).le
  · exact (Nat.zero_add _).le
theorem slot_inb (k : Cp) (i : Fin 3) : (![(slot k).val, 0, 0] : Fin 3 → Nat) i + (SP (arr k)).size i ≤ (SO (arr k)).size i := by
  have h1 := (slot k).isLt
  fin_cases i
  · show (slot k).val + 1 ≤ 4; omega
  · exact (Nat.zero_add _).le
  · exact (Nat.zero_add _).le
theorem sem_inb : ∀ (k : Cp) (i : Fin 1), (![(num k).val] : Fin 1 → Nat) i + S1.size i ≤ S20.size i := by decide

/-- What copy `k` of core `d` reads, and the slot it writes. -/
def src (k : Cp) (d : Dev nD) : Memref sig .tc .hbm (SM (arr k)) .f32 :=
  ((inM (arr k)).slice (Rect.unit (s := SI (arr k)) (off k d) (SJ (arr k)).size (off_inb k d)) (fun _ => rfl)).squeeze (SM (arr k)) (sqJ (arr k))
def dst (k : Cp) : Memref sig .tc .hbm (SM (arr k)) .f32 :=
  ((outM (arr k)).slice (Rect.unit (s := SO (arr k)) ![(slot k).val, 0, 0] (SP (arr k)).size (slot_inb k)) (fun _ => rfl)).squeeze (SM (arr k)) (sqP (arr k))
def sendS (k : Cp) : DmaSem sig := ((cc0_scratch0.slice (Rect.unit (s := S20) ![(num k).val] S1.size (sem_inb k))).squeeze S_ squeezes_S1_S_).sem
def recvS (k : Cp) : DmaSem sig := ((cc0_scratch1.slice (Rect.unit (s := S20) ![(num k).val] S1.size (sem_inb k))).squeeze S_ squeezes_S1_S_).sem

theorem src_exact (k : Cp) (d : Dev nD) : (src k d).view.WordExact := (View.wordExact_bits rfl).reshape _ _
theorem dst_exact (k : Cp) : (dst k).view.WordExact := (View.wordExact_bits rfl).reshape _ _
theorem dst_shared : ∀ k : Cp, (dst k).view.ref.isScScratch = false := by decide +kernel

abbrev TProg (F : FTy → Type) := Prog (TpuEff nD τ sig (Elt F) Λ₀ .tc) PUnit

/-- Start copy `k`. -/
def start1 (k : Cp) (d : Dev nD) : TpuEff nD τ sig (Elt F) Λ₀ .tc PUnit :=
  .enqueueDma (src k d) (.remote (Dev.tc (⟨tgt k d, tgt_lt k d⟩ : Dev nD)) (dst k) (.dma (sendS k)) (dst_shared k)) (.dma (recvS k)) (src_exact k d) (dst_exact k)
    ⟨⟨rfl, Or.inl rfl⟩, trivial⟩
/-- The two waits of copy `k`: its reading here, the other core's landing here. -/
def waitS1 (k : Cp) (d : Dev nD) : TpuEff nD τ sig (Elt F) Λ₀ .tc PUnit := .waitDma2 (sendS k) (dst k) (src k d) (dst_exact k) (src_exact k d)
def waitR1 (k : Cp) (d : Dev nD) : TpuEff nD τ sig (Elt F) Λ₀ .tc PUnit := .waitDma2 (recvS k) (src k d) (dst k) (src_exact k d) (dst_exact k)

def starts (d : Dev nD) : List (Cp) → TProg F → TProg F
  | [], K => K
  | k :: ks, K => Prog.op (start1 k d) fun _ => starts d ks K
def waits (d : Dev nD) : List (Cp) → TProg F → TProg F
  | [], K => K
  | k :: ks, K => Prog.op (waitS1 k d) fun _ => Prog.op (waitR1 k d) fun _ => waits d ks K

def slots : List (Cp) := [(0, 0), (0, 1), (0, 2), (0, 3), (1, 0), (1, 1), (1, 2), (1, 3), (2, 0), (2, 1), (2, 2), (2, 3), (3, 0), (3, 1), (3, 2), (3, 3), (4, 0), (4, 1), (4, 2), (4, 3)]

/-- The kernel's body on its ten arrays. -/
abbrev kernel : TProg F := cc0_swap_other_halves (Memref.whole main_arg0) (Memref.isWhole_whole _) (Memref.whole main_arg1) (Memref.isWhole_whole _)
  (Memref.whole main_arg2) (Memref.isWhole_whole _) (Memref.whole main_arg3) (Memref.isWhole_whole _) (Memref.whole main_arg4) (Memref.isWhole_whole _)
  (Memref.whole main_v1_0) (Memref.isWhole_whole _) (Memref.whole main_v1_1) (Memref.isWhole_whole _) (Memref.whole main_v1_2) (Memref.isWhole_whole _)
  (Memref.whole main_v1_3) (Memref.isWhole_whole _) (Memref.whole main_v1_4) (Memref.isWhole_whole _) cc0_scratch0 cc0_scratch1

set_option maxRecDepth 16384 in
set_option maxHeartbeats 4000000 in
/-- The kernel is its device id, then the twenty copies, then their forty waits. -/
theorem kernel_eq : (kernel : TProg F) = Prog.op .deviceId fun d => starts d slots (waits d slots (Prog.ret ⟨⟩)) := rfl
-- ==== Proof.SwapMesh.lean ====
/-
The exchange's protocol, and the kernel's body under it.

Every copy `k` of core `c` has two semaphores: `send k` here, which says that the slab has been read, and `recv k` on the
other core, which says that it has landed there. Each semaphore has one round, paid once. Paying `send k` gives this core
its slab back; paying `recv k` there gives the other core the slot of its result, with the slab written into it. Core `c`
starts owning the other core's five results, since nothing tells it later that the other core has entered the kernel.
-/
module

public import proofs.«01_k».proof.Proof.SwapFlow
public import Idealize.ShloMosaic.Lib.Pipeline.BigSepL

@[expose] public section
noncomputable section
namespace Cert.SwapProof

open SwapIdeal Gen

open Idealize ShloMosaic TcCoe SL RA BI BIBase Laws ProofMode Sem
open Idealize.ShloMosaic.Rounds

variable {F : FTy → Type} [FloatOps F]

abbrev UU : Type := UR sig nD τ × UR sig nD τ

local notation "𝕄" => MT nD τ sig Unit (Elt F) ℕ UU ℕ
local notation:max c:max "♯" => (c : Thread nD τ)

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ)

/-! ## The other core -/

/-- The other core of the chip. -/
def peer (c : Dev nD) : Dev nD := ⟨1 - c.val, by have : nD = 2 := rfl; omega⟩
theorem peer_peer (c : Dev nD) : peer (peer c) = c := by revert c; decide
theorem peer_ne (c : Dev nD) : peer c ≠ c := by revert c; decide
/-- Every copy of core `c` goes to the other core. -/
theorem tgt_peer (k : Cp) (c : Dev nD) : (⟨tgt k c, tgt_lt k c⟩ : Dev nD) = peer c := Fin.ext (tgt_eq k c)
/-- Changing places, as a permutation of the cores. -/
def swap : Dev nD ≃ Dev nD := ⟨peer, peer, peer_peer, peer_peer⟩

/-! ## The semaphores -/

/-- A semaphore of the kernel: `(false, k)` is `send k`, `(true, k)` is `recv k`. -/
abbrev Cl : Type := Bool × Cp
abbrev osem (b : Cl) : SemLoc sig := .dma (match b.1 with | false => sendS b.2 | true => recvS b.2)
abbrev kcell (cb : Dev nD × Cl) : GSem nD τ sig := ((cb.1 : Thread nD τ), osem cb.2)
abbrev sendCell (c : Dev nD) (k : Cp) : GSem nD τ sig := (c♯, .dma (sendS k))
abbrev recvCell (c : Dev nD) (k : Cp) : GSem nD τ sig := (c♯, .dma (recvS k))

/-- Which of the kernel's semaphores a semaphore is. -/
def which : SemLoc sig → Cl
  | .dma q => (decide (20 ≤ q.val), (⟨q.val % 20 / 4, by omega⟩, ⟨q.val % 4, by omega⟩))
  | .reg _ => (false, (0, 0))
theorem which_osem : ∀ b : Cl, which (osem b) = b := by decide +kernel
theorem osem_injective : Function.Injective osem := fun a b h => by rw [← which_osem a, h, which_osem]
theorem kcell_injective : Function.Injective (kcell : Dev nD × Cl → GSem nD τ sig) := by
  rintro ⟨c, b⟩ ⟨c', b'⟩ h
  have h1 : c = c' := congrArg (fun g : GSem nD τ sig => g.1.1) h; have h2 : b = b' := osem_injective (congrArg Prod.snd h); rw [h1, h2]

/-- What a copy counts on each of its semaphores. -/
def N (k : Cp) : ℕ := (dst k).view.dmaCredit
theorem N_pos (k : Cp) : 0 < N k := View.dmaCredit_pos _ ((by decide +kernel : ∀ k : Cp, 0 < (SM (arr k)).numel) k)
theorem src_credit (k : Cp) (d : Dev nD) : (src k d).view.dmaCredit = N k := rfl

/-! ## Contents -/

/-- The slab that copy `k` of core `c` reads, at what the core's array holds at the start. -/
def srcPts (k : Cp) (c : Dev nD) : sProp 𝕄 := (src k c).view.loc c♯ ↦[(src k c).view.set]{fullShare} m ((src k c).view.loc c♯)
/-- Core `c`'s slot for copy `k`, at contents `f`. -/
def dstPts (k : Cp) (c : Dev nD) (f : Buf (Elt F) ((dst k).view.loc c♯)) : sProp 𝕄 := (dst k).view.loc c♯ ↦[(dst k).view.set]{fullShare} f
/-- Core `c`'s result once the other core's copy `k` has landed in it. -/
def landed (k : Cp) (c : Dev nD) : Buf (Elt F) ((dst k).view.loc c♯) :=
  (dst k).view.write (Elt F) (m ((dst k).view.loc c♯))
    ((src k (peer c)).view.read (Elt F) (m ((src k (peer c)).view.loc (peer c : Thread nD τ)))) Finset.univ

instance srcPts_storable (k : Cp) (c : Dev nD) : BI.Storable (upEmb : UEmb _ 𝕄) (srcPts (F := F) m k c) := by unfold srcPts; infer_instance
instance dstPts_storable (k : Cp) (c : Dev nD) (f) : BI.Storable (upEmb : UEmb _ 𝕄) (dstPts (F := F) k c f) := by unfold dstPts; infer_instance

/-! ## The schedule -/

/-- What paying semaphore `b` of core `c` hands over. -/
def pay (b : Cl) (c : Dev nD) : sProp 𝕄 := match b.1 with
  | false => srcPts m b.2 c
  | true => dstPts b.2 c (landed m b.2 c)

instance pay_storable (b : Cl) (c : Dev nD) : BI.Storable (upEmb : UEmb _ 𝕄) (pay (F := F) m b c) := by
  rcases b with ⟨_ | _, k⟩
  · show BI.Storable upEmb (srcPts m k c); infer_instance
  · show BI.Storable upEmb (dstPts k c (landed m k c)); infer_instance

/-- One round on every semaphore, paid once. -/
def swapRd : Rounds.Schedule (GSem nD τ sig) Unit 𝕄 where
  duties _ r := if r = 0 then {()} else ∅
  unitless _ := False
  amount g _ _ := N (which g.2).2
  payload g _ _ := pay m (which g.2) g.1.1
  amount_pos g _ _ _ := N_pos _

instance swapRd_storable (g : GSem nD τ sig) (r : ℕ) (d : Unit) : BI.Storable (upEmb : UEmb _ 𝕄) ((swapRd (F := F) m).payload g r d) := pay_storable m (which g.2) g.1.1

section Sched
omit [FloatOps F]

theorem duties_0 (g : GSem nD τ sig) : (swapRd (F := F) m).duties g 0 = {()} := by dsimp only [swapRd]; exact if_pos rfl
theorem duties_later (g : GSem nD τ sig) : ∀ r, 1 ≤ r → (swapRd (F := F) m).duties g r = ∅ := fun r hr => by dsimp only [swapRd]; exact if_neg (by omega)
theorem amount_at (c : Dev nD) (b : Cl) (u : Unit) : (swapRd (F := F) m).amount (kcell (c, b)) 0 u = N b.2 := by show N (which (osem b)).2 = N b.2; rw [which_osem]
theorem payload_at (c : Dev nD) (b : Cl) (u : Unit) : (swapRd (F := F) m).payload (kcell (c, b)) 0 u = pay m b c := by show pay m (which (osem b)) c = pay m b c; rw [which_osem]
theorem expect_at (c : Dev nD) (b : Cl) : (swapRd (F := F) m).expect (kcell (c, b)) 0 = N b.2 := by unfold Schedule.expect Schedule.amountOf; rw [duties_0, Finset.sum_singleton, amount_at]
theorem rest_at (c : Dev nD) (b : Cl) : bigSep ((swapRd (F := F) m).duties (kcell (c, b)) 0 \ ∅) (fun u => (swapRd (F := F) m).payload (kcell (c, b)) 0 u) = pay m b c := by
  rw [Finset.sdiff_empty, duties_0, bigSep_singleton, payload_at]

end Sched

/-- The invariants of all semaphores, and that each has reached its round: what every core knows. -/
def records (K : Dev nD × Cl → ℕ) : sProp 𝕄 :=
  iprop((bigSep Finset.univ fun cb : Dev nD × Cl => cellInv ER (swapRd m) (K cb) (kcell cb)) ∗ bigSep Finset.univ fun cb : Dev nD × Cl => reached ER (kcell cb) 0)
instance records_persistent (K : Dev nD × Cl → ℕ) : BI.Persistent (records m K) := by unfold records; infer_instance

theorem inv_of (K : Dev nD × Cl → ℕ) (cb : Dev nD × Cl) : records m K ⊢ cellInv ER (swapRd m) (K cb) (kcell cb) := by
  unfold records; exact BI.sep_and.trans (and_elimL.trans (bigSep_elim (Finset.mem_univ cb)))
theorem reached_of (K : Dev nD × Cl → ℕ) (cb : Dev nD × Cl) : records m K ⊢ reached ER (kcell cb) 0 := by unfold records; exact BI.sep_and.trans (and_elimR.trans (bigSep_elim (Finset.mem_univ cb)))

/-- What copy `k` of core `c` starts with. -/
def copyPre (c : Dev nD) (k : Cp) : sProp 𝕄 := iprop(srcPts m k c ∗ dstPts k (peer c) (m _) ∗ dutyTok ER (sendCell c k) 0 () ∗ dutyTok ER (recvCell (peer c) k) 0 ())
/-- What its pair of waits starts with, and what they end with. -/
def waitPre (c : Dev nD) (k : Cp) : sProp 𝕄 := iprop(cred (tallyAt (recvCell c k) () (N k)) ∗ atPos ER (sendCell c k) 0 ∅ 0 ∗ atPos ER (recvCell c k) 0 ∅ 0)
def waitPost (c : Dev nD) (k : Cp) : sProp 𝕄 := iprop(srcPts m k c ∗ dstPts k c (landed m k c) ∗ semVal (sendCell c k) 0 ∗ semVal (recvCell c k) 0)

/-- What core `c` owes the other core's semaphores before the copies of a list. -/
def owed (c : Dev nD) : List Cp → CellTallies nD τ sig Unit
  | [] => 0
  | k :: ks => owed c ks + tallyAt (recvCell (peer c) k) () (N k)

/-! ## The body -/

abbrev 𝒱₀ : Variants := Variants.none
set_option quotPrecheck false in
local notation:max "𝕨" c:max => wp frame (wpE (defs₀ (F := F)) 𝒱₀ (c : Thread nD τ) none) Set.univ

variable (K : Dev nD × Cl → ℕ)

set_option maxHeartbeats 800000 in
/-- One copy: the slab and the slot go in, the credit of `send k` comes out. -/
theorem wp_start1 (c n : Dev nD) (k : Cp) (hn : n = peer c) {hsc : (dst k).view.ref.isScScratch = false} {hsrc : (src k c).view.WordExact}
    {hdst : (dst k).view.WordExact} {hsem : DmaTarget.Typed .hbm (.dma (recvS k)) (.remote (Dev.tc n : Thread nD τ) (dst k) (.dma (sendS k)) hsc)}
    (T : PUnit → TProg F) (Q : PUnit → sProp 𝕄) (W : Waits sig Unit) (O : CellTallies nD τ sig Unit) : iprop(records m K ∗ copyPre m c k ∗ owes c♯ (O + tallyAt (recvCell (peer c) k) () (N k)) W)
      ⊢ iprop(((cred (tallyAt (sendCell c k) () (N k)) ∗ owes c♯ O W) -∗ 𝕨 c (T ⟨⟩) Q) -∗ 𝕨 c
            (.op (.enqueueDma (src k c) (.remote (Dev.tc n : Thread nD τ) (dst k) (.dma (sendS k)) hsc) (.dma (recvS k)) hsrc hdst hsem) T) Q) := by
  subst hn
  refine BIBase.Entails.trans ?_ (Rounds.wp_send_pointsTo (defs := defs₀ (F := F)) 𝒱₀ ER (swapRd m) c♯ none (κ₁ := K (c, (false, k))) (κ₂ := K (peer c, (true, k)))
    (src := src k c) (dst := dst k) (c' := (peer c : Thread nD τ)) (sS := .dma (sendS k)) (sem := .dma (recvS k))
    (hsc := hsc) (hsrc := hsrc) (hdst := hdst) (hsem := hsem) (k := T) (Q := Q) (q := fullShare)
    (fs := m ((src k c).view.loc c♯)) (fd := m ((dst k).view.loc (peer c : Thread nD τ)))
    (r₁ := 0) (r₂ := 0) (d₁ := ()) (d₂ := ()) (Es := Set.univ)
    (by rw [duties_0]; exact Finset.mem_singleton_self _) (by rw [duties_0]; exact Finset.mem_singleton_self _)
    () () (N k) rfl (amount_at m c (false, k) ()) (amount_at m (peer c) (true, k) ()) O rfl (W := W)
    (Entails.of_eq (payload_at m c (false, k) ()).symm)
    (Entails.of_eq (by
      refine Eq.trans ?_ (payload_at m (peer c) (true, k) ()).symm; show _ = dstPts k (peer c) (landed m k (peer c))
      unfold dstPts landed; rw [peer_peer])))
  unfold copyPre srcPts dstPts; iintro ⟨#HR, ⟨Hs, Hd, Ht, Htp⟩, HO⟩; isplitr; · iapply (inv_of m K (c, (false, k))); iexact HR
  isplitr; · iapply (inv_of m K (peer c, (true, k))); iexact HR
  iframe Hs Hd HO Ht; isplitr; · iapply (reached_of m K (c, (false, k))); iexact HR
  iframe Htp; iapply (reached_of m K (peer c, (true, k))); iexact HR

/-- All copies of a list, one after the other. -/
theorem wp_starts (c : Dev nD) (T : TProg F) (Q : PUnit → sProp 𝕄) (W : Waits sig Unit) : ∀ ks : List Cp, iprop(records m K ∗ bigSepL ks (copyPre m c) ∗ owes c♯ (owed c ks) W)
      ⊢ iprop(((bigSepL ks (fun k => cred (tallyAt (sendCell c k) () (N k))) ∗ owes c♯ 0 W) -∗ 𝕨 c T Q) -∗ 𝕨 c (starts c ks T) Q)
  | [] => by
    iintro ⟨-, Hb, HO⟩ Hk; iapply Hk; iframe Hb; iexact HO
  | k :: ks => by
    rw [bigSepL_cons', bigSepL_cons']; iintro ⟨#HR, ⟨Hk0, Hks⟩, HO⟩ Hk; iapply (wp_start1 m K c _ k (tgt_peer k c) (fun _ => starts c ks T) Q W (owed c ks)) $$ [Hk0 HO]
    · isplitr; · iexact HR
      iframe Hk0; iexact HO
    iintro ⟨Hc, HO⟩; iapply (wp_starts c T Q W ks) $$ [Hks HO]
    · isplitr; · iexact HR
      iframe Hks; iexact HO
    iintro ⟨Hcs, HO⟩; iapply Hk
    isplitl [Hc Hcs]
    · iframe Hc; iexact Hcs
    iexact HO

/-- One wait, of semaphore `b`: what its payer handed over, and its counter at zero for good. -/
theorem wp_wait1 (c : Dev nD) (b : Cl) (w : TpuEff nD τ sig (Elt F) Λ₀ .tc PUnit)
    (hw : ∀ Kt : PUnit → sProp 𝕄, wpE (defs₀ (F := F)) 𝒱₀ c♯ none Set.univ w Kt = waitSpec c♯ Set.univ (osem b) (N b.2) Kt) (T : PUnit → TProg F) (Q : PUnit → sProp 𝕄) (W : Waits sig Unit) :
    iprop(records m K ∗ cred (tallyAt (kcell (c, b)) () (N b.2)) ∗ owes c♯ 0 W ∗ atPos ER (kcell (c, b)) 0 ∅ 0) ⊢ iprop(((pay m b c ∗ semVal (kcell (c, b)) 0 ∗ owes c♯ 0 (insert (osem b, ()) W))
            -∗ 𝕨 c (T ⟨⟩) Q) -∗ 𝕨 c (.op w T) Q) := by
  iintro ⟨#HR, Hc, HO, Hat⟩ Hk; ihave #HI := (inv_of m K (c, b)) $$ HR
  iapply (Rounds.wp_wait_rest_token 𝒱₀ ER (swapRd m) c♯ none (κ := K (c, b)) hw (Set.mem_univ _) () (O := 0) (W := W) (R := 0) (m := 0) (T := ∅)
      (by rw [Nat.zero_add]; exact (expect_at m c b).symm)) $$ [Hc HO Hat]
  · isplitr; · iexact HI
    iframe Hc HO; isplitr; · rw [MayWait_zero]; iempintro
    iexact Hat
  iintro ⟨HO, Hat, -, Hpay⟩; ihave Hp := (Entails.of_eq (rest_at m c b)) $$ Hpay
  imod (Rounds.cell_close ER (swapRd m) (Set.mem_univ (K (c, b))) (fun h => h) (R := 0 + 1) (duties_later m (kcell (c, b)))) $$ [Hat] with Hz
  · isplitr; · iexact HI
    iexact Hat
  iapply Hk; iframe Hp Hz; iexact HO

/-- The two waits of a copy are waits for its amount on its two semaphores. -/
theorem waitS1_eq (c : Dev nD) (k : Cp) (Kt : PUnit → sProp 𝕄) : wpE (defs₀ (F := F)) 𝒱₀ c♯ none Set.univ (waitS1 k c) Kt = waitSpec c♯ Set.univ (osem (false, k)) (N k) Kt := rfl
theorem waitR1_eq (c : Dev nD) (k : Cp) (Kt : PUnit → sProp 𝕄) : wpE (defs₀ (F := F)) 𝒱₀ c♯ none Set.univ (waitR1 k c) Kt = waitSpec c♯ Set.univ (osem (true, k)) (N k) Kt := rfl

/-- All waits of a list, in pairs. -/
theorem wp_waits (c : Dev nD) (T : TProg F) (Q : PUnit → sProp 𝕄) : ∀ (ks : List Cp) (W : Waits sig Unit),
    iprop(records m K ∗ bigSepL ks (fun k => cred (tallyAt (sendCell c k) () (N k))) ∗ bigSepL ks (waitPre c) ∗ owes c♯ 0 W) ⊢ iprop(((bigSepL ks (waitPost m c) ∗ ∃ W', owes c♯ 0 W') -∗ 𝕨 c T Q)
          -∗ 𝕨 c (waits c ks T) Q)
  | [], W => by
    iintro ⟨-, -, Hb, HO⟩ Hk; iapply Hk; iframe Hb; iexists W; iexact HO
  | k :: ks, W => by
    rw [bigSepL_cons', bigSepL_cons', bigSepL_cons']; unfold waitPre; iintro ⟨#HR, ⟨HcS, HcSs⟩, ⟨⟨HcV, HaS, HaV⟩, Hks⟩, HO⟩ Hk
    iapply (wp_wait1 m K c (false, k) (waitS1 k c) (waitS1_eq c k) (fun _ => Prog.op (waitR1 k c) fun _ => waits c ks T) Q W) $$ [HcS HO HaS]
    · isplitr; · iexact HR
      iframe HcS HO; iexact HaS
    iintro ⟨Hs, HzS, HO⟩
    iapply (wp_wait1 m K c (true, k) (waitR1 k c) (waitR1_eq c k) (fun _ => waits c ks T) Q _) $$ [HcV HO HaV]
    · isplitr; · iexact HR
      iframe HcV HO; iexact HaV
    iintro ⟨Hd, HzV, HO⟩; iapply (wp_waits c T Q ks _) $$ [HcSs Hks HO]
    · isplitr; · iexact HR
      iframe HcSs
      isplitl [Hks]; · unfold waitPre; iexact Hks
      iexact HO
    iintro ⟨Hps, HO⟩; iapply Hk
    isplitr [HO]
    · isplitl [Hs Hd HzS HzV]
      · unfold waitPost
        isplitl [Hs]; · iapply (Entails.of_eq (show pay m (false, k) c = srcPts m k c from rfl)); iexact Hs
        isplitl [Hd]; · iapply (Entails.of_eq (show pay m (true, k) c = dstPts k c (landed m k c) from rfl)); iexact Hd
        iframe HzS; iexact HzV
      iexact Hps
    iexact HO

/-- What the body starts and ends with, besides what it owes. -/
def bodyPre (c : Dev nD) : sProp 𝕄 := iprop(records m K ∗ (bigSep Finset.univ (copyPre m c)) ∗ bigSep Finset.univ (waitPre (F := F) c))
def bodyPost (c : Dev nD) : sProp 𝕄 := bigSep Finset.univ (waitPost m c)

theorem slots_univ : (Finset.univ : Finset Cp) = slots.toFinset := by decide
theorem slots_nodup : slots.Nodup := by decide
theorem bigSep_slots (Φ : Cp → sProp 𝕄) : bigSep Finset.univ Φ = bigSepL slots Φ := bigSep_univ_eq_bigSepL slots slots_univ slots_nodup Φ

/-- The body: twenty copies, then forty waits. -/
theorem sound_body (c : Dev nD) (Q : PUnit → sProp 𝕄) (W : Waits sig Unit) : iprop(bodyPre m K c ∗ owes c♯ (owed c slots) W ∗ ((bodyPost m c ∗ ∃ W', owes c♯ 0 W') -∗ Q ⟨⟩))
      ⊢ 𝕨 c (kernel : TProg F) Q := by
  rw [kernel_eq]; unfold bodyPre bodyPost; rw [bigSep_slots, bigSep_slots, bigSep_slots]; simp only [wp_deviceId]; iintro ⟨⟨#HR, Hc, Hw⟩, HO, Hk⟩
  iapply (wp_starts m K c (waits c slots (Prog.ret ⟨⟩)) Q W slots) $$ [Hc HO]
  · isplitr; · iexact HR
    iframe Hc; iexact HO
  iintro ⟨Hcr, HO⟩; iapply (wp_waits m K c (Prog.ret ⟨⟩) Q slots W) $$ [Hcr Hw HO]
  · isplitr; · iexact HR
    iframe Hcr Hw; iexact HO
  iintro H; rw [wp_ret]; imodintro; iapply Hk; iexact H
-- ==== Proof.SwapDeal.lean ====
/-
The exchange's launch, first part: how the two cores' buffers are cut into slabs and slots, and how the cores' holdings,
the semaphores and the protocol's own records are dealt: each core gets the other core's slots.
-/
module

public import proofs.«01_k».proof.Proof.SwapMesh

@[expose] public section
noncomputable section
namespace Cert.SwapProof

open SwapIdeal Gen

open Idealize ShloMosaic TcCoe SL RA BI BIBase Laws ProofMode Sem
open Idealize.ShloMosaic.Rounds

variable {F : FTy → Type} [FloatOps F]

local notation "𝕄" => MT nD τ sig Unit (Elt F) ℕ UU ℕ
local notation:max c:max "♯" => (c : Thread nD τ)
local notation "⨂" f:max => bigSep Finset.univ f

variable (m : (ℓ : Loc nD τ sig) → Buf (Elt F) ℓ) (ρ : Dev nD → PrngReg)

/-! ## Slabs and slots -/

/-- Array `a` of core `c`, and its result. -/
abbrev inLoc (a : Fin 5) (c : Dev nD) : Loc nD τ sig := (inM a).view.loc c♯
abbrev outLoc (a : Fin 5) (c : Dev nD) : Loc nD τ sig := (outM a).view.loc c♯

/-- The elements of array `a` that copy `(a, s)` of core `c` reads; the elements of result `a` in slot `s`. -/
def slab (a : Fin 5) (c : Dev nD) (s : Fin 4) : Finset (Idx (inLoc a c)) := (src (a, s) c).view.set
def room (a : Fin 5) (c : Dev nD) (s : Fin 4) : Finset (Idx (outLoc a c)) := (dst (a, s)).view.set

theorem src_set (k : Cp) (c : Dev nD) : (src k c).view.set = (Rect.unit (s := SI (arr k)) (off k c) (SJ (arr k)).size (off_inb k c)).set.map (inM (arr k)).view.emb :=
  (View.set_reshape _ _).trans (View.set_slice _ _)
theorem dst_set (k : Cp) : (dst k).view.set = (Rect.unit (s := SO (arr k)) ![(slot k).val, 0, 0] (SP (arr k)).size (slot_inb k)).set.map (outM (arr k)).view.emb :=
  (View.set_reshape _ _).trans (View.set_slice _ _)

/-- Slots at different places do not meet, whichever array they are of. -/
theorem sep_slots {s t : Fin 4} (h : s ≠ t) : s.val + 1 ≤ t.val ∨ t.val + 1 ≤ s.val := by have := Fin.val_ne_of_ne h; omega
theorem slab_disjoint (a : Fin 5) (c : Dev nD) : ∀ s ∈ (Finset.univ : Finset (Fin 4)), ∀ t ∈ (Finset.univ : Finset (Fin 4)), s ≠ t → Disjoint (slab a c s) (slab a c t) := fun s _ t _ h => by
  show Disjoint (src (a, s) c).view.set (src (a, t) c).view.set; rw [src_set, src_set]; refine (Finset.disjoint_map _).mpr (Rect.unit_disjoint 0 ?_); rw [off_eq, off_eq]; exact sep_slots h
theorem room_disjoint (a : Fin 5) (c : Dev nD) : ∀ s ∈ (Finset.univ : Finset (Fin 4)), ∀ t ∈ (Finset.univ : Finset (Fin 4)), s ≠ t → Disjoint (room a c s) (room a c t) := fun s _ t _ h => by
  show Disjoint (dst (a, s)).view.set (dst (a, t)).view.set; rw [dst_set, dst_set]; exact (Finset.disjoint_map _).mpr (Rect.unit_disjoint 0 (sep_slots h))

/-- What of array `a` core `c` keeps while its slabs are on their way. -/
def kept (a : Fin 5) (c : Dev nD) : sProp 𝕄 := inLoc a c ↦[Finset.univ \ Finset.univ.biUnion (slab a c)]{fullShare} m (inLoc a c)

theorem in_split (a : Fin 5) (c : Dev nD) : (inLoc a c ↦{fullShare} m (inLoc a c) : sProp 𝕄) ⊢ iprop((⨂ fun s => srcPts m (a, s) c) ∗ kept m a c) := by
  refine (pointsTo_split_subset (Finset.subset_univ (Finset.univ.biUnion (slab a c)))).1.trans (sep_mono_left (Entails.of_eq ?_)); exact pointsTo_biUnion Finset.univ (slab a c) (slab_disjoint a c)
theorem out_split (a : Fin 5) (c : Dev nD) : (outLoc a c ↦{fullShare} m (outLoc a c) : sProp 𝕄) ⊢ ⨂ fun s => dstPts (a, s) c (m _) := by
  refine (pointsTo_split_subset (Finset.subset_univ (Finset.univ.biUnion (room a c)))).1.trans ?_; rw [pointsTo_biUnion Finset.univ (room a c) (room_disjoint a c)]; exact BI.sep_and.trans and_elimL

theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
theorem bigSep_cl (Φ : Cl → sProp 𝕄) : bigSep Finset.univ Φ = iprop((⨂ fun k => Φ (false, k)) ∗ ⨂ fun k => Φ (true, k)) := by
  rw [bigSep_univ_prod, bigSep_univ_eq_bigSepL [false, true] (by decide) (by decide)]; rfl

/-- A core's ten buffers, as its slabs, what it keeps of its arrays, and the slots of its results. -/
theorem cut (c : Dev nD) : (unscopedBufs c (fun b => m (c♯.loc b)) : sProp 𝕄) ⊢ iprop((⨂ fun k => srcPts m k c) ∗ (⨂ fun a => kept m a c) ∗ ⨂ fun k => dstPts k c (m _)) := by
  have h1 : (unscopedBufs c (fun b => m (c♯.loc b)) : sProp 𝕄)
      ⊢ iprop((⨂ fun a => (inLoc a c ↦{fullShare} m (inLoc a c) : sProp 𝕄)) ∗ ⨂ fun a => (outLoc a c ↦{fullShare} m (outLoc a c) : sProp 𝕄)) := by
    rw [Pipeline.unscopedBufs_split₀ cfgs (0 : Fin 1) winFacts0.arr_unscoped c]
    rw [show Pipeline.unscopedRest (cfgs (0 : Fin 1)).spec c (fun b => m (c♯.loc b)) = _ from
      unscopedRest0_eq (Val := Elt F) c (fun b => m (c♯.loc b)), bigSep_fin5, bigSep_fin5]
    iintro ⟨-, H0, H1, H2, H3, H4, O0, O1, O2, O3, O4⟩
    isplitl [H0 H1 H2 H3 H4]
    · iframe H0 H1 H2 H3; iexact H4
    · iframe O0 O1 O2 O3; iexact O4
  refine BIBase.Entails.trans h1 (BIBase.Entails.trans (BIClass.sep_mono (bigSep_mono fun a _ => in_split m a c) (bigSep_mono fun a _ => out_split m a c)) ?_)
  rw [bigSep_sep', bigSep_univ_prod (fun k : Cp => srcPts m k c), bigSep_univ_prod (fun k : Cp => dstPts k c (m _))]; iintro ⟨⟨H1, H2⟩, H3⟩; iframe H1 H2; iexact H3

theorem cut_all : (⨂ fun c : Dev nD => unscopedBufs c (fun b => m (c♯.loc b)) : sProp 𝕄) ⊢ iprop((⨂ fun c : Dev nD => ⨂ fun k => srcPts m k c) ∗ (⨂ fun c : Dev nD => ⨂ fun a => kept m a c)
          ∗ ⨂ fun c : Dev nD => ⨂ fun k => dstPts k c (m _)) := by
  rw [← bigSep_sep', ← bigSep_sep']; exact bigSep_mono fun c _ => cut m c

/-! ## The protocol's records -/

theorem ownSemFacts : Pipeline.OwnSemFacts cfg0.spec osem := ⟨by decide +kernel, osem_injective, fun _ w => w.elim0⟩

def swapCells : Finset (GSem nD τ sig) := Finset.univ.map ⟨kcell, kcell_injective⟩
def swapToks : Finset (GSem nD τ sig × ℕ × Unit) := Finset.univ.map ⟨fun cb : Dev nD × Cl => (kcell cb, 0, ()), fun _ _ h => kcell_injective (congrArg Prod.fst h)⟩

def u₀ : UU := (initOf (Pipeline.cells cfgs cellOf_inj) (Pipeline.launchToks cfgs cellOf_inj), initOf swapCells swapToks)

/-- A core's records at the launch: its semaphores' states, their positions, and their payers' rights. -/
def G (c : Dev nD) : sProp 𝕄 :=
  iprop((⨂ fun b : Cl => roundState ER (swapRd m) (kcell (c, b)) 0) ∗ (⨂ fun b : Cl => reached ER (kcell (c, b)) 0) ∗ (⨂ fun b : Cl => atPos ER (kcell (c, b)) 0 ∅ 0)
    ∗ ⨂ fun b : Cl => dutyTok ER (kcell (c, b)) 0 ())

theorem fund : BI.own (ER (initOf swapCells swapToks)) ⊢ (|==> bigSep Finset.univ (G m) : sProp 𝕄) := by
  have hX (Φ : GSem nD τ sig → sProp 𝕄) : bigSep swapCells Φ = ⨂ fun c : Dev nD => ⨂ fun b : Cl => Φ (kcell (c, b)) := by
    unfold swapCells; rw [bigSep_map, bigSep_univ_prod]; rfl
  have hT : bigSep swapToks (fun x => (dutyTok ER x.1 x.2.1 x.2.2 : sProp 𝕄))
      = ⨂ fun c : Dev nD => ⨂ fun b : Cl => dutyTok ER (kcell (c, b)) 0 () := by
    unfold swapToks; rw [bigSep_map, bigSep_univ_prod]; rfl
  iintro HX; imod (Rounds.fund ER (swapRd m) swapCells swapToks) $$ HX with ⟨Hst, Hr, Hat, Htok⟩; imodintro; ihave Hst' := (Entails.of_eq (hX fun g => roundState ER (swapRd m) g 0)) $$ Hst
  ihave Hat' := (Entails.of_eq (hX fun g => atPos ER g 0 ∅ 0)) $$ Hat; ihave Hr' := (Entails.of_eq (hX fun g => reached ER g 0)) $$ Hr; ihave Htok' := (Entails.of_eq hT) $$ Htok
  unfold G; simp only [bigSep_sep']; iframe Hst' Hr' Hat'; iexact Htok'

/-! ## The deal -/

/-- What core `c` gets, apart from what all cores know. -/
def share (c : Dev nD) : sProp 𝕄 :=
  iprop((⨂ fun k => srcPts m k c) ∗ (⨂ fun a => kept m a c) ∗ (⨂ fun k => dstPts k (peer c) (m _)) ∗ (⨂ fun k => atPos ER (sendCell c k) 0 ∅ 0) ∗ (⨂ fun k => atPos ER (recvCell c k) 0 ∅ 0)
    ∗ (⨂ fun k => dutyTok ER (sendCell c k) 0 ()) ∗ ⨂ fun k => dutyTok ER (recvCell (peer c) k) 0 ())

/-- What core `c` enters the kernel with. -/
def dealt (c : Dev nD) : sProp 𝕄 := iprop(∃ K, records m K ∗ share m c)

/-- The counters at zero and the states of all semaphores become their invariants. -/
theorem alloc : iprop((⨂ fun c : Dev nD => ⨂ fun b : Cl => semVal (kcell (c, b)) 0) ∗ ⨂ fun c : Dev nD => ⨂ fun b : Cl => roundState ER (swapRd m) (kcell (c, b)) 0)
      ⊢ (|={Set.univ}=> ∃ K : Dev nD × Cl → ℕ, ⨂ fun cb : Dev nD × Cl => cellInv ER (swapRd m) (K cb) (kcell cb) : sProp 𝕄) := by
  rw [← bigSep_univ_prod (fun cb : Dev nD × Cl => (semVal (kcell cb) 0 : sProp 𝕄)), ← bigSep_univ_prod (fun cb : Dev nD × Cl => (roundState ER (swapRd m) (kcell cb) 0 : sProp 𝕄)), ← bigSep_sep']
  refine BIBase.Entails.trans ((bigSep_mono fun cb _ => (Rounds.body_intro ER (swapRd m) (kcell cb)).trans inv_alloc).trans (bigSep_fupd _ _)) (BI.fupd_mono ?_)
  exact BI.bigSep_exists_pi Finset.univ (fun (cb : Dev nD × Cl) (κ : ℕ) => (cellInv ER (swapRd m) κ (kcell cb) : sProp 𝕄))

theorem bigSep_with {I : Type} [DecidableEq I] {S : Finset I} {R : sProp 𝕄} [BI.Persistent R] {Φ Ψ : I → sProp 𝕄} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All cores' semaphores, buffers and records, dealt to the cores. -/
theorem deal : iprop((⨂ fun c : Dev nD => (Pipeline.ownSems0 (Ix := Unit) (Name := ℕ) (U := UU) (Lvl := ℕ) (Val := Elt F) (τ := τ) osem c))
        ∗ (⨂ fun c : Dev nD => unscopedBufs c (fun b => m (c♯.loc b))) ∗ bigSep Finset.univ (G m)) ⊢ (|={Set.univ}=> bigSep Finset.univ (dealt m) : sProp 𝕄) := by
  unfold G; rw [bigSep_sep', bigSep_sep', bigSep_sep']; iintro ⟨Hs, Hb, Hst, Hr, Hat, Htok⟩; imod (alloc m) $$ [Hs Hst] with ⟨%K, #HI⟩
  · iframe Hs; iexact Hst
  ihave Hr' := (Entails.of_eq (bigSep_univ_prod (fun cb : Dev nD × Cl => (reached ER (kcell cb) 0 : sProp 𝕄))).symm) $$ Hr; icases Hr' with #HR; imodintro
  iapply (bigSep_with (R := records m K) (Φ := share m) (Ψ := dealt m) fun c _ => (show iprop(records m K ∗ share m c) ⊢ dealt m c from by
    unfold dealt; iintro H; iexists K; iexact H))
  isplitr
  · unfold records
    isplitl; · iexact HI
    iexact HR
  ihave Hc := (cut_all m) $$ Hb; ihave Hat' := (Entails.of_eq (bigSep_congr (s := Finset.univ) fun (c : Dev nD) _ => bigSep_cl fun b : Cl => (atPos ER (kcell (c, b)) 0 ∅ 0 : sProp 𝕄))) $$ Hat
  ihave Htok' := (Entails.of_eq (bigSep_congr (s := Finset.univ) fun (c : Dev nD) _ => bigSep_cl fun b : Cl => (dutyTok ER (kcell (c, b)) 0 () : sProp 𝕄))) $$ Htok; unfold share
  simp only [bigSep_sep']
  rw [ bigSep_univ_equiv swap (fun c : Dev nD => ⨂ fun k => (dutyTok ER (kcell (c, (true, k))) 0 () : sProp 𝕄)), bigSep_univ_equiv swap (fun c : Dev nD => ⨂ fun k => (dstPts k c (m _) : sProp 𝕄))]
  icases Hc with ⟨H1, H2, H3⟩; icases Hat' with ⟨H4, H5⟩; icases Htok' with ⟨H6, H7⟩; iframe H1 H2 H3 H4 H5 H6; iexact H7

/-! ## What is owed and credited at the launch -/

def O₀ (c : Dev nD) : CellTallies nD τ sig Unit := owed c slots

theorem recv_eq_iff {c d : Dev nD} {k l : Cp} : recvCell c k = recvCell d l ↔ c = d ∧ k = l :=
  ⟨fun h => by
    have := kcell_injective (a₁ := (c, (true, k))) (a₂ := (d, (true, l))) h
    exact ⟨congrArg Prod.fst this, congrArg (fun x => x.2.2) this⟩, fun ⟨h, h'⟩ => by rw [h, h']⟩

theorem owed_at (c d : Dev nD) (k : Cp) : ∀ ks : List Cp, owed d ks (recvCell c k) () = if c = peer d then ks.count k * N k else 0
  | [] => by
    show (0 : CellTallies nD τ sig Unit) (recvCell c k) () = _; rw [List.count_nil, Nat.zero_mul, ite_self]; rfl
  | l :: ks => by
    show (owed d ks + tallyAt (recvCell (peer d) l) () (N l)) (recvCell c k) () = _; rw [Pi.add_apply, Finsupp.add_apply, owed_at c d k ks, tallyAt_apply, List.count_cons]; by_cases hc : c = peer d
    · rw [if_pos hc, if_pos hc]; by_cases hk : k = l
      · subst hk; rw [if_pos ⟨by rw [hc], rfl⟩]; simp [Nat.add_mul]
      · rw [if_neg (fun h => hk (recv_eq_iff.mp h.1).2), if_neg (by simpa using fun h => hk h.symm)]; simp
    · rw [if_neg hc, if_neg hc, if_neg (fun h => hc (recv_eq_iff.mp h.1).1)]

theorem launch_recv (c : Dev nD) (k : Cp) : tallyOn (recvCell c k) (launchCredit (Pipeline.owing O₀) 0 (recvCell c k)) = (tallyAt (recvCell c k) () (N k) : CellTallies nD τ sig Unit) := by
  unfold tallyAt; refine congrArg _ (Finsupp.ext fun u => ?_); cases u; rw [Pipeline.launchCredit_owing, Finsupp.single_eq_same]
  have h : ∀ d : Dev nD, O₀ d (recvCell c k) () = if d = peer c then N k else 0 := fun d => by
    unfold O₀; rw [owed_at, (by decide : ∀ k : Cp, slots.count k = 1) k, Nat.one_mul]; by_cases hd : d = peer c
    · rw [if_pos hd, if_pos (by rw [hd, peer_peer])]
    · rw [if_neg hd, if_neg (fun h => hd (by rw [h, peer_peer]))]
  rw [Finset.sum_congr rfl fun d _ => h d, Finset.sum_ite_eq' Finset.univ (peer c) fun _ => N k, if_pos (Finset.mem_univ _)]

/-- The launch gives core `c` the credit of the twenty landings it will wait for. -/
theorem creds (c : Dev nD) : (Pipeline.launchCred O₀ c : sProp 𝕄) ⊢ ⨂ fun k => cred (tallyAt (recvCell c k) () (N k)) := by
  unfold Pipeline.launchCred; have hi : Set.InjOn (fun k : Cp => osem (true, k)) (Finset.univ : Finset Cp) := fun a _ b _ h => congrArg Prod.snd (osem_injective h)
  refine BIBase.Entails.trans (bigSep_subset (Finset.subset_univ (Finset.univ.image fun k : Cp => osem (true, k)))) (Entails.of_eq ?_); rw [bigSep_image_of_injOn hi]
  exact bigSep_congr fun k _ => by rw [← launch_recv]
-- ==== Proof.SwapRun.lean ====
/-
The exchange's launch, second part: what each core holds before and after the kernel, and the run of the whole machine, from
which the final memory is read: every core's arrays are unchanged, and slot `s` of its result holds the slab the other core sent.
-/
module

public import proofs.«01_k».proof.Proof.SwapDeal

@[expose] public section
noncomputable section
namespace Cert.SwapProof

open SwapIdeal Gen

open Idealize ShloMosaic TcCoe SL RA BI BIBase Laws ProofMode Sem
open Idealize.ShloMosaic.Rounds
open Idealize.ShloMosaic.Pipeline (Dat Cfg BodyObligation)

variable {F : FTy → Type} [FloatOps F]

local notation "𝕄" => MT nD τ sig Unit (Elt F) ℕ UU ℕ
local notation:max c:max "♯" => (c : Thread nD τ)
local notation:max "𝕚" => Pipeline.idleSems0 cfgs cellOf_inj 0 ownSemFacts
local notation "⨂" f:max => bigSep Finset.univ f
local notation "𝕠" => Pipeline.ownSems0 (Ix := Unit) (Name := ℕ) (U := UU) (Lvl := ℕ) (Val := Elt F) (τ := τ)

variable (m : (ℓ : Loc nD τ sig) → Buf (Elt F) ℓ) (ρ : Dev nD → PrngReg) (c : Dev nD)

/-! ## Before and after the kernel -/

/-- What core `c` brings to the kernel. -/
def brought : sProp 𝕄 := iprop(dealt m c ∗ Pipeline.launchCred O₀ c)
/-- What it takes away: its slabs, its slots with what landed there, and the rest of its arrays. -/
def taken : sProp 𝕄 := iprop((⨂ fun k => srcPts m k c) ∗ (⨂ fun k => dstPts k c (landed m k c)) ∗ ⨂ fun a => kept m a c)

def before : sProp 𝕄 := iprop((∃ K, bodyPre m K c) ∗ ⨂ fun a => kept m a c)
def after : sProp 𝕄 := iprop(bodyPost m c ∗ ⨂ fun a => kept m a c)

/-- The kernel has no windows: its proof data are what is held and owed before and after its one step. -/
def dats (_ : Fin 1) (c : Dev nD) : Dat τ (Elt F) Unit ℕ UU ℕ cfg0 c where
  A w := absurd w.isLt (Nat.not_lt_zero _)
  after w _ := absurd w.isLt (Nat.not_lt_zero _)
  Φ t := match t with
    | ⟨0, _⟩ => before m c
    | ⟨_ + 1, _⟩ => after m c
  q _ := fullShare
  owed t := match t with
    | ⟨0, _⟩ => O₀ c
    | ⟨_ + 1, _⟩ => 0

theorem none_intro (Φ : Fin cfg0.W → sProp 𝕄) : (iprop(emp) : sProp 𝕄) ⊢ bigSep Finset.univ Φ := BI.bigSep_intro_persistent (S := Finset.univ) fun w _ => absurd w.isLt (Nat.not_lt_zero _)

theorem before_intro : brought m c ⊢ before m c := by
  unfold brought dealt share before bodyPre; iintro ⟨⟨%K, #HR, Hs, Hk, Hd, Ha, Hb, Ht, Hu⟩, Hc⟩; ihave Hc' := (creds (F := F) c) $$ Hc
  isplitr [Hk]
  · iexists K; isplitr; · iexact HR
    unfold copyPre waitPre; simp only [bigSep_sep']
    isplitl [Hs Hd Ht Hu]
    · iframe Hs Hd Ht; iexact Hu
    iframe Hc' Ha; iexact Hb
  iexact Hk

theorem after_exit : after m c ⊢ iprop(taken m c ∗ 𝕠 osem c) := by
  unfold after bodyPost waitPost taken
  rw [show (𝕠 osem c : sProp 𝕄)
    = ⨂ fun b : Cl => semVal (kcell (c, b)) 0 from rfl, bigSep_cl]
  simp only [bigSep_sep']; iintro ⟨⟨H1, H2, H3, H4⟩, Hk⟩
  isplitl [H1 H2 Hk]
  · iframe H1 H2; iexact Hk
  iframe H3; iexact H4

theorem body_obligation : BodyObligation (dats (F := F) m 0 c) (defs₀ (F := F)) 𝒱₀ () Set.univ := fun t => by
  rw [show t = t0_0 from fin_N0 t]; show iprop(before m c ∗ (dats m 0 c).owesAt () t0_0.castSucc ∗ _) ⊢ wp frame (wpE (defs₀ (F := F)) 𝒱₀ c none) Set.univ (kernel : TProg F) _
  unfold before Dat.owesAt Pipeline.owesWithin; rw [show (dats m 0 c).owed t0_0.castSucc = O₀ c from rfl]; iintro ⟨⟨⟨%K, Hb⟩, Hk⟩, ⟨%W, %hW, HO⟩, -⟩; iapply (sound_body m K c _ W); iframe Hb HO
  iintro ⟨Hp, %W', HO⟩
  isplitl [Hp Hk]
  · iapply (Entails.of_eq (show after m c = (dats m 0 c).Φ t0_0.succ from rfl)); unfold after; iframe Hp; iexact Hk
  isplitl [HO]
  · iexists W'; isplitr; · ipureintro; exact fun _ _ => Or.inl trivial
    iexact HO
  iapply (none_intro _); iempintro

/-! ## The region -/

abbrev pcs : Fin 1 → Pipeline.PCfg sig Λ₀ (Elt F) := fun p => (cfgs p).toPCfg
abbrev adm : (p : Fin 1) → (pcs (F := F) p).Adm := fun p => (cfgs p).toPCfg_adm
set_option quotPrecheck false in
local notation:max "𝕎" c:max => wp frame (wpE (Pipeline.defs (pcs (F := F)) defs₀) (Variants.lift 𝒱₀) (c : Thread nD τ) none) Set.univ

theorem entry_intro (κ : GSem nD τ sig → ℕ) (c : Dev nD) : (owes c♯ (O₀ c) ∅ : sProp 𝕄) ⊢ Pipeline.EntryPre (Pipeline.pin (pcs (F := F)) adm) (dats m) () EP κ 0 c := by
  have ha : (iprop(emp) : sProp 𝕄) ⊢ (dats m 0 c).arrays ((dats m 0 c).arrAt · 0) := none_intro _
  have hw : (iprop(emp) : sProp 𝕄) ⊢ Pipeline.PerCore.cellsWaits (fun _ : Dev nD => Pipeline.pin (pcs (F := F)) adm) (dats m) () 0 c := none_intro _
  have hi : (iprop(emp) : sProp 𝕄) ⊢ Pipeline.PerCore.cellsInit (fun _ : Dev nD => Pipeline.pin (pcs (F := F)) adm) (dats m) EP κ 0 c := none_intro _
  have ht : (iprop(emp) : sProp 𝕄) ⊢ Pipeline.PerCore.toksInit (fun _ : Dev nD => Pipeline.pin (pcs (F := F)) adm) EP 0 c := none_intro _; unfold Pipeline.EntryPre Pipeline.PerCore.EntryPre
  iintro HO; isplitr; · iapply ha; iempintro
  isplitl
  · unfold Dat.owesAt Pipeline.owesWithin; iexists ∅; isplitr; · ipureintro; rw [Finset.coe_empty]; exact Set.empty_subset _
    iexact HO
  isplitr; · iapply hw; iempintro
  isplitr; · iapply hi; iempintro
  iapply ht; iempintro

theorem exit_elim : Pipeline.EntryPost (Pipeline.pin (pcs (F := F)) adm) (dats m) () 0 c ⊢ (iprop(∃ W, owes c♯ 0 W) : sProp 𝕄) := by
  unfold Pipeline.EntryPost Pipeline.PerCore.EntryPost Dat.owesAt Pipeline.owesWithin; iintro ⟨-, ⟨%W, -, HW⟩⟩; iexists W; iexact HW

/-! ## Reading the final memory -/

/-- What a core's final memory must show: its arrays as they were, and its slots holding what landed there. -/
def Shows (s : MemSt nD τ sig (Elt F)) : Prop :=
  (∀ a, s.mem (inLoc a c) = m (inLoc a c))
    ∧ ∀ (k : Cp), ∀ i ∈ (dst k).view.set, s.mem ((dst k).view.loc c♯) i = landed m k c i

theorem read_one {ℓ : Loc nD τ sig} {I : Finset (Idx ℓ)} {f : Buf (Elt F) ℓ} (s' : Phys nD τ sig (Elt F)) :
    iprop((ℓ ↦[I]{fullShare} f : sProp 𝕄) ∗ Idealize.ShloMosaic.SI s') ⊢ (⌜∀ i ∈ I, s'.mem.mem ℓ i = f i⌝ : sProp 𝕄) :=
  sep_comm.1.trans SI_pointsTo_agree

/-- Every piece of a family of pieces can be read. -/
theorem read_each {I : Type} [DecidableEq I] [Fintype I] {ℓ : I → Loc nD τ sig} {S : (i : I) → Finset (Idx (ℓ i))} {f : (i : I) → Buf (Elt F) (ℓ i)} (s' : Phys nD τ sig (Elt F)) :
    iprop((⨂ fun i => (ℓ i ↦[S i]{fullShare} f i : sProp 𝕄)) ∗ Idealize.ShloMosaic.SI s') ⊢ (<pers> ⌜∀ i, ∀ j ∈ S i, s'.mem.mem (ℓ i) j = f i j⌝ : sProp 𝕄) :=
  ((forall_intro fun i => (BIClass.sep_mono (BI.bigSep_elim (Finset.mem_univ i)) .rfl).trans (read_one s')).trans pure_forall.2).trans Laws.persistently_pure.2

theorem shows_of_pieces {c : Dev nD} {s : MemSt nD τ sig (Elt F)} (h1 : ∀ k : Cp, ∀ i ∈ (src k c).view.set, s.mem ((src k c).view.loc c♯) i = m _ i)
    (h2 : ∀ k : Cp, ∀ i ∈ (dst k).view.set, s.mem ((dst k).view.loc c♯) i = landed m k c i)
    (h3 : ∀ a : Fin 5, ∀ i ∈ Finset.univ \ Finset.univ.biUnion (slab a c), s.mem (inLoc a c) i = m (inLoc a c) i) : Shows m c s := by
  refine ⟨fun a => funext fun i => ?_, h2⟩; by_cases hi : i ∈ Finset.univ.biUnion (slab a c)
  · obtain ⟨t, -, ht⟩ := Finset.mem_biUnion.mp hi; exact h1 (a, t) i ht
  · exact h3 a i (Finset.mem_sdiff.mpr ⟨Finset.mem_univ _, hi⟩)

theorem taken_read (s' : Phys nD τ sig (Elt F)) : iprop(taken m c ∗ Idealize.ShloMosaic.SI s') ⊢ (<pers> ⌜Shows m c s'.mem⌝ : sProp 𝕄) := by
  unfold taken; iintro ⟨⟨H1, H2, H3⟩, HSI⟩; ihave %h1 := (read_each (F := F) (I := Cp) (ℓ := fun k => (src k c).view.loc c♯) (S := fun k => (src k c).view.set) (f := fun k => m _) s') $$ [H1 HSI]
  · iframe H1; iexact HSI
  ihave %h2 := (read_each (F := F) (I := Cp) (ℓ := fun k => (dst k).view.loc c♯) (S := fun k => (dst k).view.set) (f := fun k => landed m k c) s') $$ [H2 HSI]
  · iframe H2; iexact HSI
  ihave %h3 := (read_each (F := F) (I := Fin 5) (ℓ := fun a => inLoc a c) (S := fun a => Finset.univ \ Finset.univ.biUnion (slab a c)) (f := fun a => m _) s') $$ [H3 HSI]
  · iframe H3; iexact HSI
  ipureintro; exact shows_of_pieces m h1 h2 h3

/-! ## The run -/

/-- What a core holds before `@main` and after it. -/
def pre : sProp 𝕄 := iprop(scopedBufs c♯ ∗ 𝕚 c ∗ owes c♯ (O₀ c) ∅ ∗ brought m c)
def fin : sProp 𝕄 := iprop(taken m c ∗ scopedSems0 c♯)

theorem sems_split : (scopedSems0 c♯ : sProp 𝕄) = iprop((Pipeline.cellsSems0 cfgs 0 c ∗ Pipeline.ownSems0 osem c) ∗ 𝕚 c) := Pipeline.scopedSems0_split cfgs cellOf_inj 0 winFacts0.to₀ ownSemFacts c
theorem bufs_split : (scopedBufs c♯ : sProp 𝕄) = iprop(Dat.staging (cfgs 0) c ∗ Pipeline.scopedRest (cfgs 0).spec c) :=
  Pipeline.scopedBufs_split cfgs 0 winFacts0.stage_scoped winFacts0.stage_inj stage_whole0 c

/-- A core's initial holdings, sorted. -/
theorem core_init : (coreInit (Pipeline.owing O₀) 0 (⟨m, fun _ => 0, ρ⟩ : MemSt nD τ sig (Elt F)) c♯ : sProp 𝕄) ⊢ iprop((scopedBufs c♯ ∗ 𝕚 c ∗ owes c♯ (O₀ c) ∅ ∗ Pipeline.launchCred O₀ c)
          ∗ 𝕠 osem c ∗ unscopedBufs c (fun b => m (c♯.loc b))) := by
  refine BIBase.Entails.trans (Pipeline.coreInit_boundary_owing O₀ m ρ c) ?_; unfold boundary; rw [sems_split c]; iintro ⟨⟨Hsc, ⟨⟨-, Hos⟩, Hidle⟩, -⟩, Hub, -, HL, -, -, Hcr⟩
  isplitr [Hos Hub]
  · iframe Hsc Hidle
    isplitl [HL] <;> iassumption
  isplitl [Hos] <;> iassumption

theorem cores_init : (⨂ fun c : Dev nD => (coreInit (Pipeline.owing O₀) 0 (⟨m, fun _ => 0, ρ⟩ : MemSt nD τ sig (Elt F)) c♯ : sProp 𝕄))
      ⊢ iprop(((⨂ fun c : Dev nD => scopedBufs c♯) ∗ (⨂ fun c : Dev nD => 𝕚 c) ∗ (⨂ fun c : Dev nD => owes c♯ (O₀ c) ∅) ∗ (⨂ fun c : Dev nD => Pipeline.launchCred O₀ c))
          ∗ (⨂ fun c : Dev nD => 𝕠 osem c) ∗ (⨂ fun c : Dev nD => unscopedBufs c (fun b => m (c♯.loc b)))) := by
  refine BIBase.Entails.trans (bigSep_mono fun c _ => core_init m ρ c) ?_; simp only [bigSep_sep']; exact BI.Entails.refl _

theorem start_all : iprop((⨂ fun c : Dev nD => (coreInit (Pipeline.owing O₀) 0 (⟨m, fun _ => 0, ρ⟩ : MemSt nD τ sig (Elt F)) c♯ : sProp 𝕄)) ∗ ownU u₀)
      ⊢ iprop(|={Set.univ}=> ∃ _ : Unit, bigSep Finset.univ (pre m) ∗ emp) := by
  unfold u₀; iintro ⟨Hcores, Hu⟩; ihave Hc := (cores_init m ρ) $$ Hcores; icases Hc with ⟨⟨H1, H2, H3, H4⟩, Hos, Hub⟩; ihave H := (ownU_pair _ _) $$ Hu; icases H with ⟨-, HX⟩
  imod (fund m) $$ HX with HG; imod (deal m) $$ [Hos Hub HG] with HD
  · iframe Hos
    isplitl [Hub] <;> iassumption
  imodintro; iexists ()
  isplitr []
  · unfold pre brought; simp only [bigSep_sep']; iframe H1 H2 H3
    isplitl [HD] <;> iassumption
  · iempintro

theorem region_in {P R : sProp 𝕄} : iprop(brought m c ∗ P ∗ R) ⊢ (dats m 0 c).Φ 0 := (BI.sep_and.trans and_elimL).trans ((before_intro m c).trans (Entails.of_eq rfl))
theorem region_out : iprop((dats m 0 c).Φ (Fin.last cfg0.N) ∗ Pipeline.cellsSems0 cfgs 0 c ∗ Dat.staging (cfgs 0) c ∗ 𝕚 c) ⊢ iprop(taken m c ∗ scopedSems0 c♯ ∗ scopedBufs c♯) := by
  rw [sems_split c, bufs_split c, show (dats m 0 c).Φ (Fin.last cfg0.N) = after m c from rfl,
    show Pipeline.scopedRest (cfgs (0 : Fin 1)).spec c = _ from scopedRest0_eq (Val := Elt F) c]
  iintro ⟨HΦ, Hcells, Hst, Hidle⟩; ihave H := (after_exit m c) $$ HΦ; icases H with ⟨HY, Hos⟩; iframe HY
  isplitl [Hcells Hos Hidle]
  · isplitl [Hcells Hos]; · isplitl [Hcells] <;> iassumption
    iexact Hidle
  iframe Hst; iempintro

theorem no_tables : (iprop(emp) : sProp 𝕄) ⊢ Pipeline.prefHeld ((pcs (F := F)) 0).pre c (fun _ => fullShare) ((adm (F := F)) 0).1 :=
  BI.bigSep_intro_persistent (S := Finset.univ) fun w _ => absurd w.isLt (Nat.not_lt_zero _)

/-- The kernel's call, between what a core brings and what it takes away. -/
theorem region {Q : PUnit → sProp 𝕄} : iprop(Pipeline.EntryPre (Pipeline.pin (pcs (F := F)) adm) (dats m) () EP (fun _ => 0) 0 c
        ∗ Pipeline.prefHeld ((pcs (F := F)) 0).pre c (fun _ => fullShare) ((adm (F := F)) 0).1 ∗ brought m c ∗ 𝕚 c ∗ scopedBufs c♯)
      ⊢ iprop(((Pipeline.EntryPost (Pipeline.pin (pcs (F := F)) adm) (dats m) () 0 c ∗ taken m c ∗ scopedSems0 c♯ ∗ scopedBufs c♯) -∗ 𝕎 c (.ret ⟨⟩) Q) -∗ 𝕎 c
            (.op (.customCall (Pipeline.entry (0 : Fin 1)) ()) fun _ => .ret ⟨⟩) Q) :=
  Pipeline.wp_customCall_entry_frame (pcs (F := F)) adm (dats m) () EP (fun _ => 0) cellOf_inj (0 : Fin 1) defs₀ 𝒱₀ (fun _ => fullShare) c Set.univ
      (fun _ _ => Set.mem_univ _) (body_obligation m c).loose (fun w => absurd w.isLt (Nat.not_lt_zero _)) none (fun u h => nomatch h)
      (X := brought m c) (Y := taken m c) (R := Pipeline.scopedRest (cfgs 0).spec c) (I := 𝕚 c)
      (Entails.of_eq (bufs_split c)) (region_in m c) (region_out m c)

/-- One core's run of `@main`. -/
theorem core_run : pre m c ⊢ 𝕎 c (.op (.customCall (Pipeline.entry (0 : Fin 1)) ()) fun _ => .ret (⟨⟩ : PUnit)) (fun _ => post (liftTc (fin m) BI.emp) c♯) := by
  unfold pre; iintro ⟨Hsc, Hidle, HO, HX⟩; iapply (region m c) $$ [Hsc Hidle HO HX]
  · isplitl [HO]; · iapply (entry_intro m _ c); iexact HO
    isplitr; · iapply (no_tables c); iempintro
    iframe HX
    isplitl [Hidle] <;> iassumption
  iintro ⟨Hpost, HY, Hss, -⟩; rw [wp_ret]; imodintro; unfold post; simp only [liftTc_tc, fin]
  isplitr [Hpost]
  · isplitl [HY] <;> iassumption
  · iapply (exit_elim m c); iexact Hpost

/-- From any memory with every counter at zero the exchange runs to an end in which all counters are zero again, every core's
    arrays are unchanged and its slots hold what the other core sent. -/
theorem run_main : θ_run defs (onTc (τ := τ) (main (F := F))) ⟨m, fun _ => 0, ρ⟩ (fun r => (∀ c, Shows m c r.2) ∧ r.2.sem = fun _ => 0) := by
  refine (θ_run defs _ _).mono (Q := fun r => (∀ c : Dev nD, Shows m c r.2 ∧ ∀ sm : SemLoc sig, sm.isScoped .tc = true → r.2.sem (c♯, sm) = 0) ∧ ∀ g' : GSem nD τ sig, g'.1.2 ≠ .tc → r.2.sem g' = 0)
    (fun r hr => ⟨fun c => (hr.1 c).1, sem_eq_zero_of_scoped (by decide +kernel) (sems_of_reads (fun c => (hr.1 c).2) hr.2)⟩) (adequate_tpu defs _ _ _
    (reflect_intro_fupd_tc_sems (Ix := Unit) (Name := ℕ) (U := UU) (Lvl := ℕ) (X := Unit) (Variants.lift 𝒱₀) (Pipeline.owing O₀) 0 (noBookings fun _ => le_rfl) (Pipeline.owing_of_ne O₀) u₀
      (fun _ => pre m) (fun _ => fin m) (fun _ => iprop(emp)) Set.univ (start_all m ρ) (fun _ c => core_run m c) fun _ => ?_))
  have hcore (c : Dev nD) (s' : Phys nD τ sig (Elt F)) : iprop(fin m c ∗ Idealize.ShloMosaic.SI s') ⊢ (|={Set.univ}=>
      iprop(⌜Shows m c s'.mem ∧ ∀ sm : SemLoc sig, sm.isScoped .tc = true → s'.mem.sem (c♯, sm) = 0⌝ ∗ Idealize.ShloMosaic.SI s') : sProp 𝕄) := by
    unfold fin; iintro ⟨⟨Ha, Hss⟩, HSI⟩; ihave %hz := (tcScoped_read_pers c s') $$ [Hss HSI]
    · isplitl [Hss] <;> iassumption
    ihave %hr := (taken_read m c s') $$ [Ha HSI]
    · isplitl [Ha] <;> iassumption
    imodintro; isplitr; · ipureintro; exact ⟨hr, hz⟩
    iexact HSI
  iintro ⟨H, -, Hsc⟩ %s' HSI; ihave %hsc := (scSems_read_zero m ρ s') $$ [Hsc HSI]
  · isplitl [Hsc] <;> iassumption
  imod (posts_fupd Finset.univ hcore s') $$ [H HSI] with %h
  · isplitl [H] <;> iassumption
  imodintro; ipureintro; exact ⟨fun c => h c (Finset.mem_univ c), hsc⟩
-- ==== Proof.SwapValue.lean ====
/-
The exchange against its reference: the reference, on one device, takes of each stack of eight shards the second four's first
halves and then the first four's second halves. Its run; what a core's result shows of the other core's array; and that
this is the core's block of the reference's result.
-/
module

public import proofs.«01_k».proof.Proof.SwapRun
public import proofs.«01_k».proof.Proof.Gen.SwapRefIdeal
public import proofs.«01_k».proof.Proof.Gen.Swap
public import proofs.«01_k».proof.Defs
public import Idealize.ShloMosaic.Lib.StableHlo.Run
public import Idealize.ShloMosaic.Lib.Pipeline.Value

@[expose] public section
noncomputable section
namespace Cert.SwapRef

open Cert.SwapRefIdeal Cert.SwapRefIdeal.Gen
open Idealize.ShloMosaic Idealize.ShloMosaic.TcCoe Idealize.ShloMosaic.StableHlo Idealize.SL.Sem
open Cert.SwapProof (Rw Ln SI SO)

variable {F : FTy → Type} [FloatOps F]

/-! ## The reference -/

/-- Its arrays, a half of four shards, and its results. -/
abbrev WI (a : Fin 5) : Shape := ⟨4, ![8, 2, Rw a, Ln a]⟩
abbrev WH (a : Fin 5) : Shape := ⟨4, ![4, 1, Rw a, Ln a]⟩
abbrev WO (a : Fin 5) : Shape := ⟨3, ![8, Rw a, Ln a]⟩

theorem cut4 : ∀ a : Fin 5, (WI a).Slices ![4, 0, 0, 0] (WH a) := by decide
theorem cut0 : ∀ a : Fin 5, (WI a).Slices ![0, 1, 0, 0] (WH a) := by decide
theorem drop1 : ∀ a : Fin 5, (WH a).ShapeCasts (SO a) := by decide
theorem join : ∀ a : Fin 5, Shape.Concatenates [SO a, SO a] (WO a) 0 := by decide
theorem tilesI : ∀ a : Fin 5, Layout.Tiles (SI a) (WI a) 0 2 := by decide
theorem tilesO : ∀ a : Fin 5, Layout.Tiles (SO a) (WO a) 0 2 := by decide

/-- The reference's result `a`. -/
def joined {α : Type} (a : Fin 5) (p : (WI a).Idx → α) : (WO a).Idx → α :=
  concatenate (WO a) 0 [⟨SO a, shapeCast (SO a) (extractStridedSlice (WH a) ![4, 0, 0, 0] p (cut4 a)) (drop1 a)⟩,
    ⟨SO a, shapeCast (SO a) (extractStridedSlice (WH a) ![0, 1, 0, 0] p (cut0 a)) (drop1 a)⟩] (join a)

abbrev ops : List (HloOp τ sig (Elt F)) :=
  [ unary main_arg0 main_v0 ((extractStridedSlice S4x1x1024x1668 ![4, 0, 0, 0] · slices_S8x2x1024x1668_S4x1x1024x1668_4_0_0_0) : (⟨S8x2x1024x1668, .f32⟩ : BufTy).Contents (Elt F) → (⟨S4x1x1024x1668, .f32⟩ : BufTy).Contents (Elt F)),
    reshape main_v0 main_v1 (rfl : (.f32 : EltTy) = .f32) shapeCasts_S4x1x1024x1668_S4x1024x1668,
    unary main_arg0 main_v2 ((extractStridedSlice S4x1x1024x1668 ![0, 1, 0, 0] · slices_S8x2x1024x1668_S4x1x1024x1668_0_1_0_0) : (⟨S8x2x1024x1668, .f32⟩ : BufTy).Contents (Elt F) → (⟨S4x1x1024x1668, .f32⟩ : BufTy).Contents (Elt F)),
    reshape main_v2 main_v3 (rfl : (.f32 : EltTy) = .f32) shapeCasts_S4x1x1024x1668_S4x1024x1668,
    binary main_v1 main_v3 main_v4 ((fun a b => concatenate S8x1024x1668 0 [⟨S4x1024x1668, a⟩, ⟨S4x1024x1668, b⟩] concatenates_S4x1024x1668_S4x1024x1668_S8x1024x1668_d0) : (⟨S4x1024x1668, .f32⟩ : BufTy).Contents (Elt F) → (⟨S4x1024x1668, .f32⟩ : BufTy).Contents (Elt F) → (⟨S8x1024x1668, .f32⟩ : BufTy).Contents (Elt F)),
    unary main_arg1 main_v5 ((extractStridedSlice S4x1x1024x1408 ![4, 0, 0, 0] · slices_S8x2x1024x1408_S4x1x1024x1408_4_0_0_0) : (⟨S8x2x1024x1408, .f32⟩ : BufTy).Contents (Elt F) → (⟨S4x1x1024x1408, .f32⟩ : BufTy).Contents (Elt F)),
    reshape main_v5 main_v6 (rfl : (.f32 : EltTy) = .f32) shapeCasts_S4x1x1024x1408_S4x1024x1408,
    unary main_arg1 main_v7 ((extractStridedSlice S4x1x1024x1408 ![0, 1, 0, 0] · slices_S8x2x1024x1408_S4x1x1024x1408_0_1_0_0) : (⟨S8x2x1024x1408, .f32⟩ : BufTy).Contents (Elt F) → (⟨S4x1x1024x1408, .f32⟩ : BufTy).Contents (Elt F)),
    reshape main_v7 main_v8 (rfl : (.f32 : EltTy) = .f32) shapeCasts_S4x1x1024x1408_S4x1024x1408,
    binary main_v6 main_v8 main_v9 ((fun a b => concatenate S8x1024x1408 0 [⟨S4x1024x1408, a⟩, ⟨S4x1024x1408, b⟩] concatenates_S4x1024x1408_S4x1024x1408_S8x1024x1408_d0) : (⟨S4x1024x1408, .f32⟩ : BufTy).Contents (Elt F) → (⟨S4x1024x1408, .f32⟩ : BufTy).Contents (Elt F) → (⟨S8x1024x1408, .f32⟩ : BufTy).Contents (Elt F)),
    unary main_arg2 main_v10 ((extractStridedSlice S4x1x704x1024 ![4, 0, 0, 0] · slices_S8x2x704x1024_S4x1x704x1024_4_0_0_0) : (⟨S8x2x704x1024, .f32⟩ : BufTy).Contents (Elt F) → (⟨S4x1x704x1024, .f32⟩ : BufTy).Contents (Elt F)),
    reshape main_v10 main_v11 (rfl : (.f32 : EltTy) = .f32) shapeCasts_S4x1x704x1024_S4x704x1024,
    unary main_arg2 main_v12 ((extractStridedSlice S4x1x704x1024 ![0, 1, 0, 0] · slices_S8x2x704x1024_S4x1x704x1024_0_1_0_0) : (⟨S8x2x704x1024, .f32⟩ : BufTy).Contents (Elt F) → (⟨S4x1x704x1024, .f32⟩ : BufTy).Contents (Elt F)),
    reshape main_v12 main_v13 (rfl : (.f32 : EltTy) = .f32) shapeCasts_S4x1x704x1024_S4x704x1024,
    binary main_v11 main_v13 main_v14 ((fun a b => concatenate S8x704x1024 0 [⟨S4x704x1024, a⟩, ⟨S4x704x1024, b⟩] concatenates_S4x704x1024_S4x704x1024_S8x704x1024_d0) : (⟨S4x704x1024, .f32⟩ : BufTy).Contents (Elt F) → (⟨S4x704x1024, .f32⟩ : BufTy).Contents (Elt F) → (⟨S8x704x1024, .f32⟩ : BufTy).Contents (Elt F)),
    unary main_arg3 main_v15 ((extractStridedSlice S4x1x256x1024 ![4, 0, 0, 0] · slices_S8x2x256x1024_S4x1x256x1024_4_0_0_0) : (⟨S8x2x256x1024, .f32⟩ : BufTy).Contents (Elt F) → (⟨S4x1x256x1024, .f32⟩ : BufTy).Contents (Elt F)),
    reshape main_v15 main_v16 (rfl : (.f32 : EltTy) = .f32) shapeCasts_S4x1x256x1024_S4x256x1024,
    unary main_arg3 main_v17 ((extractStridedSlice S4x1x256x1024 ![0, 1, 0, 0] · slices_S8x2x256x1024_S4x1x256x1024_0_1_0_0) : (⟨S8x2x256x1024, .f32⟩ : BufTy).Contents (Elt F) → (⟨S4x1x256x1024, .f32⟩ : BufTy).Contents (Elt F)),
    reshape main_v17 main_v18 (rfl : (.f32 : EltTy) = .f32) shapeCasts_S4x1x256x1024_S4x256x1024,
    binary main_v16 main_v18 main_v19 ((fun a b => concatenate S8x256x1024 0 [⟨S4x256x1024, a⟩, ⟨S4x256x1024, b⟩] concatenates_S4x256x1024_S4x256x1024_S8x256x1024_d0) : (⟨S4x256x1024, .f32⟩ : BufTy).Contents (Elt F) → (⟨S4x256x1024, .f32⟩ : BufTy).Contents (Elt F) → (⟨S8x256x1024, .f32⟩ : BufTy).Contents (Elt F)),
    unary main_arg4 main_v20 ((extractStridedSlice S4x1x368x128 ![4, 0, 0, 0] · slices_S8x2x368x128_S4x1x368x128_4_0_0_0) : (⟨S8x2x368x128, .f32⟩ : BufTy).Contents (Elt F) → (⟨S4x1x368x128, .f32⟩ : BufTy).Contents (Elt F)),
    reshape main_v20 main_v21 (rfl : (.f32 : EltTy) = .f32) shapeCasts_S4x1x368x128_S4x368x128,
    unary main_arg4 main_v22 ((extractStridedSlice S4x1x368x128 ![0, 1, 0, 0] · slices_S8x2x368x128_S4x1x368x128_0_1_0_0) : (⟨S8x2x368x128, .f32⟩ : BufTy).Contents (Elt F) → (⟨S4x1x368x128, .f32⟩ : BufTy).Contents (Elt F)),
    reshape main_v22 main_v23 (rfl : (.f32 : EltTy) = .f32) shapeCasts_S4x1x368x128_S4x368x128,
    binary main_v21 main_v23 main_v24 ((fun a b => concatenate S8x368x128 0 [⟨S4x368x128, a⟩, ⟨S4x368x128, b⟩] concatenates_S4x368x128_S4x368x128_S8x368x128_d0) : (⟨S4x368x128, .f32⟩ : BufTy).Contents (Elt F) → (⟨S4x368x128, .f32⟩ : BufTy).Contents (Elt F) → (⟨S8x368x128, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  by repeat (first | exact unary_bufs_sub .. | exact reshape_bufs_sub .. | exact binary_bufs_sub .. | refine ⟨?_, ?_⟩)

set_option maxHeartbeats 2000000 in
/-- The reference ends with each result joined from its array, and its arrays unchanged. -/
theorem run (m : (ℓ : Loc nD τ sig) → Buf (Elt F) ℓ) (ρ : Dev nD → PrngReg) : θ_run defs (onTc (τ := τ) (main (F := F))) ⟨m, fun _ => 0, ρ⟩ fun r => ∀ c : Dev nD,
      r.2.mem (c.tc.loc main_v4) = joined (α := Elt F .f32) 0 (m (c.tc.loc main_arg0)) ∧ r.2.mem (c.tc.loc main_v9) = joined (α := Elt F .f32) 1 (m (c.tc.loc main_arg1))
      ∧ r.2.mem (c.tc.loc main_v14) = joined (α := Elt F .f32) 2 (m (c.tc.loc main_arg2)) ∧ r.2.mem (c.tc.loc main_v19) = joined (α := Elt F .f32) 3 (m (c.tc.loc main_arg3))
      ∧ r.2.mem (c.tc.loc main_v24) = joined (α := Elt F .f32) 4 (m (c.tc.loc main_arg4)) ∧ r.2.mem (c.tc.loc main_arg0) = m (c.tc.loc main_arg0)
      ∧ r.2.mem (c.tc.loc main_arg1) = m (c.tc.loc main_arg1) ∧ r.2.mem (c.tc.loc main_arg2) = m (c.tc.loc main_arg2) ∧ r.2.mem (c.tc.loc main_arg3) = m (c.tc.loc main_arg3)
      ∧ r.2.mem (c.tc.loc main_arg4) = m (c.tc.loc main_arg4) :=
  (θ_run defs _ _).mono (fun _ h c => by and_intros <;> exact (h c _).trans (by after_results_simp <;> rfl))
    (run_seq scopedRefs_eq scopedSems_eq defs main (fun _ => ops) main_eq (fun _ => ops_sub) m ρ)

/-! ## What a result of the reference holds -/

/-- Element `(x, y)` of half `e` of shard `s` of a core's array `a`; of the same half in a stack of halves; of a core's result. -/
def at4 (a : Fin 5) (s : Fin 4) (e : Fin 2) (x : Fin (Rw a)) (y : Fin (Ln a)) : (SI a).Idx := fun
  | ⟨0, _⟩ => s | ⟨1, _⟩ => e | ⟨2, _⟩ => x | ⟨3, _⟩ => y
def at1 (a : Fin 5) (s : Fin 4) (x : Fin (Rw a)) (y : Fin (Ln a)) : (WH a).Idx := fun
  | ⟨0, _⟩ => s | ⟨1, _⟩ => ⟨0, Nat.one_pos⟩ | ⟨2, _⟩ => x | ⟨3, _⟩ => y
def at3 (a : Fin 5) (s : Fin 4) (x : Fin (Rw a)) (y : Fin (Ln a)) : (SO a).Idx := fun
  | ⟨0, _⟩ => s | ⟨1, _⟩ => x | ⟨2, _⟩ => y

theorem at3_eta (a : Fin 5) (i : (SO a).Idx) : at3 a (i 0) (i 1) (i 2) = i := funext fun b => by fin_cases b <;> rfl

theorem drop1_apply {α : Type} (a : Fin 5) (x : (WH a).Idx → α) (s : Fin 4) (u : Fin (Rw a)) (v : Fin (Ln a)) : shapeCast (SO a) x (drop1 a) (at3 a s u v) = x (at1 a s u v) := by
  refine shapeCast_apply x (drop1 a) _ _ ?_; rw [Shape.rowMajor_val_four, Shape.rowMajor_val_three]; show ((s.val * 1 + 0) * Rw a + u.val) * Ln a + v.val = (s.val * Rw a + u.val) * Ln a + v.val
  rw [Nat.mul_one, Nat.add_zero]

/-- Block `c` of a result of the reference: the other block's halves number `c`. -/
theorem joined_apply {α : Type} (a : Fin 5) (p : (WI a).Idx → α) (c : Fin 2) (s : Fin 4) (u : Fin (Rw a)) (v : Fin (Ln a)) :
    joined a p ((tilesO a).idx c (at3 a s u v)) = p ((tilesI a).idx (1 - c) (at4 a s c u v)) := by
  unfold joined
  fin_cases c
  · rw [concatenate_pair_apply_left (t := WO a) (s₁ := SO a) (s₂ := SO a) 0 _ _ _ _ rfl (at3 a s u v) (fun b => by
      fin_cases b
      · show s.val = 0 * 4 + s.val; omega
      · rfl
      · rfl), drop1_apply]
    refine extractStridedSlice_apply _ p (cut4 a) _ _ fun b => ?_
    fin_cases b
    · show 1 * 4 + s.val = 4 + s.val; omega
    · rfl
    · show u.val = 0 + u.val; omega
    · show v.val = 0 + v.val; omega
  · rw [concatenate_pair_apply_right (t := WO a) (s₁ := SO a) (s₂ := SO a) 0 _ _ _ _ rfl rfl (at3 a s u v) (fun b hb => by
      fin_cases b
      · exact absurd rfl hb
      · rfl
      · rfl) (by show s.val + 4 = 1 * 4 + s.val; omega), drop1_apply]
    refine extractStridedSlice_apply _ p (cut0 a) _ _ fun b => ?_
    fin_cases b
    · show 0 * 4 + s.val = 0 + s.val; omega
    · rfl
    · show u.val = 0 + u.val; omega
    · show v.val = 0 + v.val; omega

end Cert.SwapRef

namespace Cert.SwapProof

open SwapIdeal Gen
open Idealize ShloMosaic TcCoe SL.Sem
open SwapRef (at3 at4 at3_eta WI WO tilesI tilesO joined joined_apply)

variable {F : FTy → Type} [FloatOps F]

/-! ## What a core's result holds -/

/-- Element `(x, y)` of one matrix. -/
def at2 (a : Fin 5) (x : Fin (Rw a)) (y : Fin (Ln a)) : (SM a).Idx := fun
  | ⟨0, _⟩ => x | ⟨1, _⟩ => y

/-- The element of a slot and of a slab that is element `(x, y)` of their matrix. -/
def atP (a : Fin 5) (x : Fin (Rw a)) (y : Fin (Ln a)) : (SP a).Idx := fun
  | ⟨0, _⟩ => ⟨0, Nat.one_pos⟩ | ⟨1, _⟩ => x | ⟨2, _⟩ => y
def atJ (a : Fin 5) (x : Fin (Rw a)) (y : Fin (Ln a)) : (SJ a).Idx := fun
  | ⟨0, _⟩ => ⟨0, Nat.one_pos⟩ | ⟨1, _⟩ => ⟨0, Nat.one_pos⟩ | ⟨2, _⟩ => x | ⟨3, _⟩ => y

/-- Slot `s` of a result holds what is at `s` of the result. -/
theorem read_dst (a : Fin 5) (s : Fin 4) (c : Dev nD) (f : Buf (Elt F) (outLoc a c)) (x : Fin (Rw a)) (y : Fin (Ln a)) :
    (dst (a, s)).view.read (Elt F) f (at2 a x y) = (outM a).view.read (Elt F) f (at3 a s x y) := by
  have h : Shape.reshapeEquiv (sqP a).numel_eq (at2 a x y) = atP a x y := Shape.reshapeEquiv_eq_of_rowMajor _ (by
    rw [Shape.rowMajor_val_three, Shape.rowMajor_val_two]; show (0 * Rw a + x.val) * Ln a + y.val = x.val * Ln a + y.val
    rw [Nat.zero_mul, Nat.zero_add])
  show (outM a).view.read (Elt F) f ((Rect.unit (s := SO a) ![s.val, 0, 0] (SP a).size (slot_inb (a, s))).emb (Shape.reshapeEquiv (sqP a).numel_eq (at2 a x y))) = _; rw [h]
  refine congrArg _ (funext fun b => Fin.ext ?_)
  fin_cases b
  · show s.val + 1 * 0 = s.val; omega
  · show 0 + 1 * x.val = x.val; omega
  · show 0 + 1 * y.val = y.val; omega

/-- Copy `(a, s)` of core `c` reads the half of shard `s` that is the other core's. -/
theorem read_src (a : Fin 5) (s : Fin 4) (c : Dev nD) (f : Buf (Elt F) (inLoc a c)) (x : Fin (Rw a)) (y : Fin (Ln a)) :
    (src (a, s) c).view.read (Elt F) f (at2 a x y) = (inM a).view.read (Elt F) f (at4 a s (peer c) x y) := by
  have h : Shape.reshapeEquiv (sqJ a).numel_eq (at2 a x y) = atJ a x y := Shape.reshapeEquiv_eq_of_rowMajor _ (by
    rw [Shape.rowMajor_val_four, Shape.rowMajor_val_two]; show ((0 * 1 + 0) * Rw a + x.val) * Ln a + y.val = x.val * Ln a + y.val
    rw [Nat.zero_mul, Nat.zero_add])
  show (inM a).view.read (Elt F) f ((Rect.unit (s := SI a) (off (a, s) c) (SJ a).size (off_inb (a, s) c)).emb (Shape.reshapeEquiv (sqJ a).numel_eq (at2 a x y))) = _; rw [h]
  refine congrArg _ (funext fun b => Fin.ext ?_); show off (a, s) c b + 1 * (atJ a x y b).val = _; rw [off_eq]
  fin_cases b
  · show s.val + 1 * 0 = s.val; omega
  · show 1 - c.val + 1 * 0 = 1 - c.val; omega
  · show 0 + 1 * x.val = x.val; omega
  · show 0 + 1 * y.val = y.val; omega

variable (m : (ℓ : Loc nD τ sig) → Buf (Elt F) ℓ)

/-- Result `a` of core `c` holds at slot `s` the half of the other core's shard `s` that is `c`'s. -/
theorem moved {c : Dev nD} {st : MemSt nD τ sig (Elt F)} (h : Shows m c st) (a : Fin 5) (s : Fin 4) (x : Fin (Rw a)) (y : Fin (Ln a)) :
    (outM a).view.read (Elt F) (st.mem (outLoc a c)) (at3 a s x y) = (inM a).view.read (Elt F) (m (inLoc a (peer c))) (at4 a s c x y) := by
  have h1 : (dst (a, s)).view.read (Elt F) (st.mem (outLoc a c)) = (src (a, s) (peer c)).view.read (Elt F) (m (inLoc a (peer c))) :=
    (View.read_congr fun i hi => h.2 (a, s) i hi).trans (View.read_write_univ _ _)
  rw [← read_dst, h1, read_src, peer_peer]

theorem other (c : Dev nD) : (1 - c : Fin 2) = peer c := by revert c; decide

/-- Where every core's array `a` is its block of `p`, result `a` of core `c` is its block of what the reference joins of `p`. -/
theorem result {c : Dev nD} {st : MemSt nD τ sig (Elt F)} (h : Shows m c st) (a : Fin 5) (p : (WI a).Idx → Elt F .f32)
    (hp : ∀ d : Dev nD, (inM a).view.read (Elt F) (m (inLoc a d)) = Layout.block (SI a) (WI a) 0 2 d p (h := tilesI a)) :
    (outM a).view.read (Elt F) (st.mem (outLoc a c)) = Layout.block (SO a) (WO a) 0 2 c (joined a p) (h := tilesO a) := by
  have H (s : Fin 4) (x : Fin (Rw a)) (y : Fin (Ln a)) : (outM a).view.read (Elt F) (st.mem (outLoc a c)) (at3 a s x y)
      = Layout.block (SO a) (WO a) 0 2 c (joined a p) (h := tilesO a) (at3 a s x y) := by
    rw [moved m h, hp]; refine Eq.trans ?_ (joined_apply a p c s x y).symm; show p ((tilesI a).idx (peer c) _) = p ((tilesI a).idx (1 - c) _); rw [other]
  exact funext fun i => at3_eta a i ▸ H (i 0) (i 1) (i 2)

/-! ## The claims -/

/-- Every run of the kernel ends with its arrays unchanged and every semaphore back at zero. -/
def Frame (F : FTy → Type) [FloatOps F] : Prop :=
  ∀ (m : (ℓ : Loc nD τ sig) → Buf (Elt F) ℓ) (g : Dev nD → PrngReg),
    θ_run (defs (F := F)) (onTc (τ := τ) (main (F := F))) ⟨m, fun _ => 0, g⟩ (fun r => (∀ c : Dev nD, r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0)

theorem frame : Frame F := fun m g => (θ_run defs _ _).mono
  (fun _ h => ⟨fun c => ⟨(h.1 c).1 0, (h.1 c).1 1, (h.1 c).1 2, (h.1 c).1 3, (h.1 c).1 4⟩, h.2⟩) (run_main m g)

set_option maxRecDepth 16384 in
/-- The kernel over machine numbers is the same text. -/
theorem quiet_swap : quiescent_Swap := fun m g _ => frame (F := Bits) m g
set_option maxRecDepth 16384 in
/-- The kernel over real numbers. -/
theorem quiet_ideal : quiescent_SwapIdeal := fun m g _ => frame (F := Ideal) m g
/-- The reference has no semaphore. -/
theorem quiet_ref : quiescent_SwapRefIdeal := fun m g _ => (θ_run _ _ _).mono
  (fun r h => ⟨fun c => (h c).2.2.2.2.2, sem_eq_zero_of_no_sems rfl r.2⟩) (SwapRef.run m g)

/-- From arrays dealt in blocks, every core's result is its block of the reference's. -/
theorem value : algebraic_SwapIdeal_SwapRefIdeal := fun m g m' g' _ hb =>
  ⟨joined (α := Elt Ideal .f32) 0 (m' ((0 : Dev SwapRefIdeal.nD).tc.loc SwapRefIdeal.main_arg0)), joined (α := Elt Ideal .f32) 1 (m' ((0 : Dev SwapRefIdeal.nD).tc.loc SwapRefIdeal.main_arg1)),
      joined (α := Elt Ideal .f32) 2 (m' ((0 : Dev SwapRefIdeal.nD).tc.loc SwapRefIdeal.main_arg2)),
      joined (α := Elt Ideal .f32) 3 (m' ((0 : Dev SwapRefIdeal.nD).tc.loc SwapRefIdeal.main_arg3)),
      joined (α := Elt Ideal .f32) 4 (m' ((0 : Dev SwapRefIdeal.nD).tc.loc SwapRefIdeal.main_arg4)),
    (θ_run defs _ _).mono (fun _ h c => ⟨result m (h.1 c) 0 _ fun d => (hb d).1, result m (h.1 c) 1 _ fun d => (hb d).2.1, result m (h.1 c) 2 _ fun d => (hb d).2.2.1,
      result m (h.1 c) 3 _ fun d => (hb d).2.2.2.1,
      result m (h.1 c) 4 _ fun d => (hb d).2.2.2.2,
      (h.1 c).1 0, (h.1 c).1 1, (h.1 c).1 2, (h.1 c).1 3, (h.1 c).1 4⟩) (run_main m g),
    (θ_run _ _ _).mono (fun _ h => h 0) (SwapRef.run m' g')⟩
-- ==== Proof.ScatFlow.lean ====
/-
The exchange among the four chips: the kernel's body as a list of fifteen copies and their thirty waits.

Copy `k` (of fifteen: three other chips for each of five arrays) takes block `peer k d` of this chip's array to block `d` of
that chip's result, pays `send k` here when it has been read and `recv k` there when it has landed. The body starts all
fifteen, then waits for the fifteen landings here, then for the fifteen readings.
-/
module

public import proofs.«01_k».proof.Proof.Gen.ScatIdeal
public import proofs.«01_k».proof.Proof.Gen.ScatIdeal.Launch
public import Idealize.ShloMosaic.Lib.Pipeline.Launch
public import Idealize.ShloMosaic.Lib.Pipeline.Kit
public import Idealize.ShloMosaic.Lib.Tactic

@[expose] public section
noncomputable section
namespace Cert.ScatProof

open ScatIdeal Gen

open Idealize.ShloMosaic
open Idealize.ShloMosaic.TcCoe
open Idealize.SL Idealize.SL.Sem

variable {F : FTy → Type} [FloatOps F]

/-! ## The five arrays -/

/-- Array `a`'s rows, lanes and element type. -/
abbrev Rw : Fin 5 → ℕ := fun | 0 => 1024 | 1 => 1024 | 2 => 704 | 3 => 256 | 4 => 368
abbrev Ln : Fin 5 → ℕ := fun | 0 => 1668 | 1 => 1408 | 2 => 1024 | 3 => 1024 | 4 => 128
abbrev ET : Fin 5 → EltTy := fun | 0 => .bf16 | 1 => .bf16 | 2 => .bf16 | 3 => .bf16 | 4 => .f32

/-- The shapes of array `a` and of its result on one chip, of a block, and of one matrix. -/
abbrev SO (a : Fin 5) : Shape := ⟨3, ![4, Rw a, Ln a]⟩
abbrev SP (a : Fin 5) : Shape := ⟨3, ![1, Rw a, Ln a]⟩
abbrev SM (a : Fin 5) : Shape := ⟨2, ![Rw a, Ln a]⟩

def inM : (a : Fin 5) → Memref sig .tc .hbm (SO a) (ET a) := fun
  | 0 => Memref.whole main_arg0 | 1 => Memref.whole main_arg1 | 2 => Memref.whole main_arg2 | 3 => Memref.whole main_arg3 | 4 => Memref.whole main_arg4
def outM : (a : Fin 5) → Memref sig .tc .hbm (SO a) (ET a) := fun
  | 0 => Memref.whole main_v1_0 | 1 => Memref.whole main_v1_1 | 2 => Memref.whole main_v1_2 | 3 => Memref.whole main_v1_3 | 4 => Memref.whole main_v1_4
theorem inM_whole : ∀ a : Fin 5, (inM a).IsWhole := fun
  | 0 => Memref.isWhole_whole _ | 1 => Memref.isWhole_whole _ | 2 => Memref.isWhole_whole _ | 3 => Memref.isWhole_whole _ | 4 => Memref.isWhole_whole _
theorem outM_whole : ∀ a : Fin 5, (outM a).IsWhole := fun
  | 0 => Memref.isWhole_whole _ | 1 => Memref.isWhole_whole _ | 2 => Memref.isWhole_whole _ | 3 => Memref.isWhole_whole _ | 4 => Memref.isWhole_whole _

theorem sqP : ∀ a : Fin 5, (SP a).Squeezes (SM a) := by decide

/-! ## The fifteen copies -/

/-- A copy: its array and which of the other chips it goes to. -/
abbrev Cp : Type := Fin 5 × Fin 3
abbrev arr (k : Cp) : Fin 5 := k.1
/-- Its place in the kernel's order, which is its semaphores' place. -/
def num (k : Cp) : Fin 15 := ⟨3 * k.1.val + k.2.val, by omega⟩

/-- The chip that copy `k` of chip `d` goes to, which is the chip that sends to `d` by copy `k`. -/
def pal : Fin 3 → Dev nD → Dev nD := ![![2, 3, 0, 1], ![1, 0, 3, 2], ![3, 2, 1, 0]]
abbrev peer (k : Cp) (d : Dev nD) : Dev nD := pal k.2 d
theorem peer_peer (k : Cp) (c : Dev nD) : peer k (peer k c) = c := (by decide : ∀ (j : Fin 3) (c : Dev nD), pal j (pal j c) = c) k.2 c
theorem peer_ne (k : Cp) (c : Dev nD) : peer k c ≠ c := (by decide : ∀ (j : Fin 3) (c : Dev nD), pal j c ≠ c) k.2 c

/-- Where blocks `d` and `peer k d` of chip `d` start, and the chip that copy `k` goes to, as the kernel computes them. -/
def ownT : Fin 5 → Dev nD → Fin 3 → Nat := ![k0_off1, k0_off5, k0_off9, k0_off13, k0_off17]
def palT : Fin 15 → Dev nD → Fin 3 → Nat := ![k0_off2, k0_off3, k0_off4, k0_off6, k0_off7, k0_off8, k0_off10, k0_off11, k0_off12, k0_off14, k0_off15, k0_off16, k0_off18, k0_off19, k0_off20]
def tgtT : Fin 15 → Dev nD → Nat := ![k0_dev1, k0_dev2, k0_dev3, k0_dev4, k0_dev5, k0_dev6, k0_dev7, k0_dev8, k0_dev9, k0_dev10, k0_dev11, k0_dev12, k0_dev13, k0_dev14, k0_dev15]

theorem own_eq : ∀ (a : Fin 5) (d : Dev nD), ownT a d = ![d.val, 0, 0] := by decide +kernel
theorem pal_eq : ∀ (k : Cp) (d : Dev nD), palT (num k) d = ![(peer k d).val, 0, 0] := by decide +kernel
theorem tgt_eq : ∀ (k : Cp) (d : Dev nD), tgtT (num k) d = (peer k d).val := by decide +kernel
theorem tgt_lt (k : Cp) (d : Dev nD) : tgtT (num k) d < nD := by rw [tgt_eq]; exact (peer k d).isLt

/-- A block starting at `[s, 0, 0]` lies in its array, and is whole rows of it. -/
theorem blk_inb (a : Fin 5) (s : Dev nD) (i : Fin 3) : (![s.val, 0, 0] : Fin 3 → Nat) i + (SP a).size i ≤ (SO a).size i := by
  have h1 : s.val < 4 := s.isLt
  fin_cases i
  · show s.val + 1 ≤ 4; omega
  · exact (Nat.zero_add _).le
  · exact (Nat.zero_add _).le
theorem own_inb (a : Fin 5) (d : Dev nD) (i : Fin 3) : ownT a d i + (SP a).size i ≤ (SO a).size i := by rw [own_eq]; exact blk_inb a d i
theorem pal_inb (k : Cp) (d : Dev nD) (i : Fin 3) : palT (num k) d i + (SP (arr k)).size i ≤ (SO (arr k)).size i := by rw [pal_eq]; exact blk_inb (arr k) _ i
theorem words (a : Fin 5) (o : Fin 3 → Nat) (h : ∀ i, o i + (SP a).size i ≤ (SO a).size i) (h1 : o 1 = 0) (p : ℕ) :
    (Rect.unit (s := SO a) o (SP a).size h).WholeWords p := .inr ⟨(by decide : 2 ≤ 3), rfl, h1, rfl⟩
theorem sem_inb : ∀ (k : Cp) (i : Fin 1), (![(num k).val] : Fin 1 → Nat) i + S1.size i ≤ S15.size i := by decide

/-- Block of an array at an offset. -/
def blk (a : Fin 5) (M : Memref sig .tc .hbm (SO a) (ET a)) (o : Fin 3 → Nat) (h : ∀ i, o i + (SP a).size i ≤ (SO a).size i) :
    Memref sig .tc .hbm (SM a) (ET a) := (M.slice (Rect.unit (s := SO a) o (SP a).size h) (fun _ => rfl)).squeeze (SM a) (sqP a)
theorem blk_exact (a : Fin 5) (M : Memref sig .tc .hbm (SO a) (ET a)) (hM : M.IsWhole) (o : Fin 3 → Nat) (h : ∀ i, o i + (SP a).size i ≤ (SO a).size i) (h1 : o 1 = 0) : (blk a M o h).view.WordExact :=
  (hM.wordExact_slice rfl _ (words a o h h1 _)).reshape _ _

/-- What copy `k` of chip `d` reads, the block it writes, and the block of this chip that is written by the same copy of the other. -/
def src (k : Cp) (d : Dev nD) : Memref sig .tc .hbm (SM (arr k)) (ET (arr k)) := blk (arr k) (inM (arr k)) (palT (num k) d) (pal_inb k d)
def dst (k : Cp) (d : Dev nD) : Memref sig .tc .hbm (SM (arr k)) (ET (arr k)) := blk (arr k) (outM (arr k)) (ownT (arr k) d) (own_inb (arr k) d)
def got (k : Cp) (d : Dev nD) : Memref sig .tc .hbm (SM (arr k)) (ET (arr k)) := blk (arr k) (outM (arr k)) (palT (num k) d) (pal_inb k d)
def sendS (k : Cp) : DmaSem sig := ((cc0_scratch0.slice (Rect.unit (s := S15) ![(num k).val] S1.size (sem_inb k))).squeeze S_ squeezes_S1_S_).sem
def recvS (k : Cp) : DmaSem sig := ((cc0_scratch1.slice (Rect.unit (s := S15) ![(num k).val] S1.size (sem_inb k))).squeeze S_ squeezes_S1_S_).sem

theorem src_exact (k : Cp) (d : Dev nD) : (src k d).view.WordExact := blk_exact _ _ (inM_whole _) _ _ (by rw [pal_eq]; rfl)
theorem dst_exact (k : Cp) (d : Dev nD) : (dst k d).view.WordExact := blk_exact _ _ (outM_whole _) _ _ (by rw [own_eq]; rfl)
theorem got_exact (k : Cp) (d : Dev nD) : (got k d).view.WordExact := blk_exact _ _ (outM_whole _) _ _ (by rw [pal_eq]; rfl)
theorem dst_shared : ∀ (k : Cp) (d : Dev nD), (dst k d).view.ref.isScScratch = false := by decide +kernel

abbrev TProg (F : FTy → Type) := Prog (TpuEff nD τ sig (Elt F) Λ₀ .tc) PUnit

/-- Start copy `k`. -/
def start1 (k : Cp) (d : Dev nD) : TpuEff nD τ sig (Elt F) Λ₀ .tc PUnit :=
  .enqueueDma (src k d) (.remote (Dev.tc (⟨tgtT (num k) d, tgt_lt k d⟩ : Dev nD)) (dst k d) (.dma (sendS k)) (dst_shared k d)) (.dma (recvS k)) (src_exact k d) (dst_exact k d)
    ⟨⟨rfl, Or.inl rfl⟩, trivial⟩
/-- The two waits of copy `k`: its reading here, the other chip's landing here. -/
def waitS1 (k : Cp) (d : Dev nD) : TpuEff nD τ sig (Elt F) Λ₀ .tc PUnit := .waitDma2 (sendS k) (dst k d) (src k d) (dst_exact k d) (src_exact k d)
def waitR1 (k : Cp) (d : Dev nD) : TpuEff nD τ sig (Elt F) Λ₀ .tc PUnit := .waitDma2 (recvS k) (got k d) (got k d) (got_exact k d) (got_exact k d)

def starts (d : Dev nD) : List Cp → TProg F → TProg F
  | [], K => K
  | k :: ks, K => Prog.op (start1 k d) fun _ => starts d ks K
/-- The waits of one kind. -/
def waits (w : Cp → Dev nD → TpuEff nD τ sig (Elt F) Λ₀ .tc PUnit) (d : Dev nD) : List Cp → TProg F → TProg F
  | [], K => K
  | k :: ks, K => Prog.op (w k d) fun _ => waits w d ks K

def slots : List Cp := [(0, 0), (0, 1), (0, 2), (1, 0), (1, 1), (1, 2), (2, 0), (2, 1), (2, 2), (3, 0), (3, 1), (3, 2), (4, 0), (4, 1), (4, 2)]

/-- The kernel's body on its ten arrays. -/
abbrev kernel : TProg F := cc0_scatter_to_chips (Memref.whole main_arg0) (Memref.isWhole_whole _) (Memref.whole main_arg1) (Memref.isWhole_whole _)
  (Memref.whole main_arg2) (Memref.isWhole_whole _) (Memref.whole main_arg3) (Memref.isWhole_whole _) (Memref.whole main_arg4) (Memref.isWhole_whole _)
  (Memref.whole main_v1_0) (Memref.isWhole_whole _) (Memref.whole main_v1_1) (Memref.isWhole_whole _) (Memref.whole main_v1_2) (Memref.isWhole_whole _)
  (Memref.whole main_v1_3) (Memref.isWhole_whole _) (Memref.whole main_v1_4) (Memref.isWhole_whole _) cc0_scratch0 cc0_scratch1

set_option maxRecDepth 16384 in
set_option maxHeartbeats 4000000 in
/-- The kernel is its device id, then the fifteen copies, then their landings, then their readings. -/
theorem kernel_eq : (kernel : TProg F) = Prog.op .deviceId fun d => starts d slots (waits waitR1 d slots (waits waitS1 d slots (Prog.ret ⟨⟩))) := rfl
-- ==== Proof.ScatMesh.lean ====
/-
The exchange's protocol, and the kernel's body under it.

Every copy `k` of chip `c` has two semaphores: `send k` here, which says that the block has been read, and `recv k` on the
chip `peer k c`, which says that it has landed there. Each semaphore has one round, paid once. Paying `send k` gives this
chip its block back; paying `recv k` there gives the other chip block `c` of its result, with what was sent written into it.
Chip `c` starts owning block `c` of each other chip's five results, since nothing tells it later that the other chip has
entered the kernel.
-/
module

public import proofs.«01_k».proof.Proof.ScatFlow
public import Idealize.ShloMosaic.Lib.Pipeline.BigSepL

@[expose] public section
noncomputable section
namespace Cert.ScatProof

open ScatIdeal Gen

open Idealize ShloMosaic TcCoe SL RA BI BIBase Laws ProofMode Sem
open Idealize.ShloMosaic.Rounds

variable {F : FTy → Type} [FloatOps F]

abbrev UU : Type := UR sig nD τ × UR sig nD τ

local notation "𝕄" => MT nD τ sig Unit (Elt F) ℕ UU ℕ
local notation:max c:max "♯" => (c : Thread nD τ)

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ)

/-! ## The other chips -/

theorem tgt_peer (k : Cp) (c : Dev nD) : (⟨tgtT (num k) c, tgt_lt k c⟩ : Dev nD) = peer k c := Fin.ext (tgt_eq k c)
/-- Changing places along copy `k`, as a permutation of the chips. -/
def turn (k : Cp) : Dev nD ≃ Dev nD := ⟨peer k, peer k, peer_peer k, peer_peer k⟩

/-! ## The semaphores -/

/-- A semaphore of the kernel: `(false, k)` is `send k`, `(true, k)` is `recv k`. -/
abbrev Cl : Type := Bool × Cp
abbrev osem (b : Cl) : SemLoc sig := .dma (match b.1 with | false => sendS b.2 | true => recvS b.2)
abbrev kcell (cb : Dev nD × Cl) : GSem nD τ sig := ((cb.1 : Thread nD τ), osem cb.2)
abbrev sendCell (c : Dev nD) (k : Cp) : GSem nD τ sig := (c♯, .dma (sendS k))
abbrev recvCell (c : Dev nD) (k : Cp) : GSem nD τ sig := (c♯, .dma (recvS k))

/-- Which of the kernel's semaphores a semaphore is. -/
def which : SemLoc sig → Cl
  | .dma q => (decide (15 ≤ q.val), (⟨q.val % 15 / 3, by omega⟩, ⟨q.val % 3, by omega⟩))
  | .reg _ => (false, (0, 0))
theorem which_osem : ∀ b : Cl, which (osem b) = b := by decide +kernel
theorem osem_injective : Function.Injective osem := fun a b h => by rw [← which_osem a, h, which_osem]
theorem kcell_injective : Function.Injective (kcell : Dev nD × Cl → GSem nD τ sig) := by
  rintro ⟨c, b⟩ ⟨c', b'⟩ h
  have h1 : c = c' := congrArg (fun g : GSem nD τ sig => g.1.1) h; have h2 : b = b' := osem_injective (congrArg Prod.snd h); rw [h1, h2]

/-- What a copy counts on each of its semaphores. -/
def N (k : Cp) : ℕ := (dst k 0).view.dmaCredit
theorem N_pos (k : Cp) : 0 < N k := View.dmaCredit_pos _ ((by decide +kernel : ∀ k : Cp, 0 < (SM (arr k)).numel) k)

/-! ## Contents -/

/-- The block that copy `k` of chip `c` reads, at what the chip's array holds at the start. -/
def srcPts (k : Cp) (c : Dev nD) : sProp 𝕄 := (src k c).view.loc c♯ ↦[(src k c).view.set]{fullShare} m ((src k c).view.loc c♯)
/-- Chip `c`'s result once copy `k` of chip `s` has landed in it. -/
def landed (k : Cp) (s c : Dev nD) : Buf (Elt F) ((dst k s).view.loc c♯) :=
  (dst k s).view.write (Elt F) (m ((dst k s).view.loc c♯)) ((src k s).view.read (Elt F) (m ((src k s).view.loc s♯))) Finset.univ
/-- The block of chip `c` that copy `k` of chip `s` goes to, as it is at the start, and once the copy has landed. -/
def freePts (k : Cp) (s c : Dev nD) : sProp 𝕄 := (dst k s).view.loc c♯ ↦[(dst k s).view.set]{fullShare} m ((dst k s).view.loc c♯)
def landPts (k : Cp) (s c : Dev nD) : sProp 𝕄 := (dst k s).view.loc c♯ ↦[(dst k s).view.set]{fullShare} landed m k s c

instance srcPts_storable (k : Cp) (c : Dev nD) : BI.Storable (upEmb : UEmb _ 𝕄) (srcPts (F := F) m k c) := by unfold srcPts; infer_instance
instance landPts_storable (k : Cp) (s c : Dev nD) : BI.Storable (upEmb : UEmb _ 𝕄) (landPts (F := F) m k s c) := by unfold landPts; infer_instance

/-! ## The schedule -/

/-- What paying semaphore `b` of chip `c` hands over. -/
def pay (b : Cl) (c : Dev nD) : sProp 𝕄 := match b.1 with
  | false => srcPts m b.2 c
  | true => landPts m b.2 (peer b.2 c) c

instance pay_storable (b : Cl) (c : Dev nD) : BI.Storable (upEmb : UEmb _ 𝕄) (pay (F := F) m b c) := by
  rcases b with ⟨_ | _, k⟩
  · show BI.Storable upEmb (srcPts m k c); infer_instance
  · show BI.Storable upEmb (landPts m k (peer k c) c); infer_instance

/-- One round on every semaphore, paid once. -/
def scatRd : Rounds.Schedule (GSem nD τ sig) Unit 𝕄 where
  duties _ r := if r = 0 then {()} else ∅
  unitless _ := False
  amount g _ _ := N (which g.2).2
  payload g _ _ := pay m (which g.2) g.1.1
  amount_pos g _ _ _ := N_pos _

instance scatRd_storable (g : GSem nD τ sig) (r : ℕ) (d : Unit) : BI.Storable (upEmb : UEmb _ 𝕄) ((scatRd (F := F) m).payload g r d) := pay_storable m (which g.2) g.1.1

section Sched
omit [FloatOps F]

theorem duties_0 (g : GSem nD τ sig) : (scatRd (F := F) m).duties g 0 = {()} := by dsimp only [scatRd]; exact if_pos rfl
theorem duties_later (g : GSem nD τ sig) : ∀ r, 1 ≤ r → (scatRd (F := F) m).duties g r = ∅ := fun r hr => by dsimp only [scatRd]; exact if_neg (by omega)
theorem amount_at (c : Dev nD) (b : Cl) (u : Unit) : (scatRd (F := F) m).amount (kcell (c, b)) 0 u = N b.2 := by show N (which (osem b)).2 = N b.2; rw [which_osem]
theorem payload_at (c : Dev nD) (b : Cl) (u : Unit) : (scatRd (F := F) m).payload (kcell (c, b)) 0 u = pay m b c := by show pay m (which (osem b)) c = pay m b c; rw [which_osem]
theorem expect_at (c : Dev nD) (b : Cl) : (scatRd (F := F) m).expect (kcell (c, b)) 0 = N b.2 := by unfold Schedule.expect Schedule.amountOf; rw [duties_0, Finset.sum_singleton, amount_at]
theorem rest_at (c : Dev nD) (b : Cl) : bigSep ((scatRd (F := F) m).duties (kcell (c, b)) 0 \ ∅) (fun u => (scatRd (F := F) m).payload (kcell (c, b)) 0 u) = pay m b c := by
  rw [Finset.sdiff_empty, duties_0, bigSep_singleton, payload_at]

end Sched

/-- The invariants of all semaphores, and that each has reached its round: what every chip knows. -/
def records (K : Dev nD × Cl → ℕ) : sProp 𝕄 :=
  iprop((bigSep Finset.univ fun cb : Dev nD × Cl => cellInv ER (scatRd m) (K cb) (kcell cb)) ∗ bigSep Finset.univ fun cb : Dev nD × Cl => reached ER (kcell cb) 0)
instance records_persistent (K : Dev nD × Cl → ℕ) : BI.Persistent (records m K) := by unfold records; infer_instance

theorem inv_of (K : Dev nD × Cl → ℕ) (cb : Dev nD × Cl) : records m K ⊢ cellInv ER (scatRd m) (K cb) (kcell cb) := by
  unfold records; exact BI.sep_and.trans (and_elimL.trans (bigSep_elim (Finset.mem_univ cb)))
theorem reached_of (K : Dev nD × Cl → ℕ) (cb : Dev nD × Cl) : records m K ⊢ reached ER (kcell cb) 0 := by unfold records; exact BI.sep_and.trans (and_elimR.trans (bigSep_elim (Finset.mem_univ cb)))

/-- What copy `k` of chip `c` starts with. -/
def copyPre (c : Dev nD) (k : Cp) : sProp 𝕄 := iprop(srcPts m k c ∗ freePts m k c (peer k c) ∗ dutyTok ER (sendCell c k) 0 () ∗ dutyTok ER (recvCell (peer k c) k) 0 ())
/-- What its pair of waits starts with, and what they end with. -/
def waitPre (c : Dev nD) (k : Cp) : sProp 𝕄 := iprop(cred (tallyAt (recvCell c k) () (N k)) ∗ atPos ER (sendCell c k) 0 ∅ 0 ∗ atPos ER (recvCell c k) 0 ∅ 0)
def waitPost (c : Dev nD) (k : Cp) : sProp 𝕄 := iprop(srcPts m k c ∗ landPts m k (peer k c) c ∗ semVal (sendCell c k) 0 ∗ semVal (recvCell c k) 0)

/-- What chip `c` owes the other chips' semaphores before the copies of a list. -/
def owed (c : Dev nD) : List Cp → CellTallies nD τ sig Unit
  | [] => 0
  | k :: ks => owed c ks + tallyAt (recvCell (peer k c) k) () (N k)

/-! ## The body -/

abbrev 𝒱₀ : Variants := Variants.none
set_option quotPrecheck false in
local notation:max "𝕨" c:max => wp frame (wpE (defs₀ (F := F)) 𝒱₀ (c : Thread nD τ) none) Set.univ

variable (K : Dev nD × Cl → ℕ)

set_option maxHeartbeats 800000 in
/-- One copy: the slab and the slot go in, the credit of `send k` comes out. -/
theorem wp_start1 (c n : Dev nD) (k : Cp) (hn : n = peer k c) {hsc : (dst k c).view.ref.isScScratch = false} {hsrc : (src k c).view.WordExact}
    {hdst : (dst k c).view.WordExact} {hsem : DmaTarget.Typed .hbm (.dma (recvS k)) (.remote (Dev.tc n : Thread nD τ) (dst k c) (.dma (sendS k)) hsc)}
    (T : PUnit → TProg F) (Q : PUnit → sProp 𝕄) (W : Waits sig Unit) (O : CellTallies nD τ sig Unit) : iprop(records m K ∗ copyPre m c k ∗ owes c♯ (O + tallyAt (recvCell (peer k c) k) () (N k)) W)
      ⊢ iprop(((cred (tallyAt (sendCell c k) () (N k)) ∗ owes c♯ O W) -∗ 𝕨 c (T ⟨⟩) Q) -∗ 𝕨 c
            (.op (.enqueueDma (src k c) (.remote (Dev.tc n : Thread nD τ) (dst k c) (.dma (sendS k)) hsc) (.dma (recvS k)) hsrc hdst hsem) T) Q) := by
  subst hn
  refine BIBase.Entails.trans ?_ (Rounds.wp_send_pointsTo (defs := defs₀ (F := F)) 𝒱₀ ER (scatRd m) c♯ none (κ₁ := K (c, (false, k))) (κ₂ := K (peer k c, (true, k)))
    (src := src k c) (dst := dst k c) (c' := (peer k c : Thread nD τ)) (sS := .dma (sendS k)) (sem := .dma (recvS k))
    (hsc := hsc) (hsrc := hsrc) (hdst := hdst) (hsem := hsem) (k := T) (Q := Q) (q := fullShare)
    (fs := m ((src k c).view.loc c♯)) (fd := m ((dst k c).view.loc (peer k c : Thread nD τ)))
    (r₁ := 0) (r₂ := 0) (d₁ := ()) (d₂ := ()) (Es := Set.univ)
    (by rw [duties_0]; exact Finset.mem_singleton_self _) (by rw [duties_0]; exact Finset.mem_singleton_self _)
    () () (N k) rfl (amount_at m c (false, k) ()) (amount_at m (peer k c) (true, k) ()) O rfl (W := W)
    (Entails.of_eq (payload_at m c (false, k) ()).symm)
    (Entails.of_eq (by
      refine Eq.trans ?_ (payload_at m (peer k c) (true, k) ()).symm; show _ = landPts m k (peer k (peer k c)) (peer k c)
      rw [peer_peer]; rfl)))
  unfold copyPre srcPts freePts; iintro ⟨#HR, ⟨Hs, Hd, Ht, Htp⟩, HO⟩; isplitr; · iapply (inv_of m K (c, (false, k))); iexact HR
  isplitr; · iapply (inv_of m K (peer k c, (true, k))); iexact HR
  iframe Hs Hd HO Ht; isplitr; · iapply (reached_of m K (c, (false, k))); iexact HR
  iframe Htp; iapply (reached_of m K (peer k c, (true, k))); iexact HR

/-- All copies of a list, one after the other. -/
theorem wp_starts (c : Dev nD) (T : TProg F) (Q : PUnit → sProp 𝕄) (W : Waits sig Unit) : ∀ ks : List Cp, iprop(records m K ∗ bigSepL ks (copyPre m c) ∗ owes c♯ (owed c ks) W)
      ⊢ iprop(((bigSepL ks (fun k => cred (tallyAt (sendCell c k) () (N k))) ∗ owes c♯ 0 W) -∗ 𝕨 c T Q) -∗ 𝕨 c (starts c ks T) Q)
  | [] => by
    iintro ⟨-, Hb, HO⟩ Hk; iapply Hk; iframe Hb; iexact HO
  | k :: ks => by
    rw [bigSepL_cons', bigSepL_cons']; iintro ⟨#HR, ⟨Hk0, Hks⟩, HO⟩ Hk; iapply (wp_start1 m K c _ k (tgt_peer k c) (fun _ => starts c ks T) Q W (owed c ks)) $$ [Hk0 HO]
    · isplitr; · iexact HR
      iframe Hk0; iexact HO
    iintro ⟨Hc, HO⟩; iapply (wp_starts c T Q W ks) $$ [Hks HO]
    · isplitr; · iexact HR
      iframe Hks; iexact HO
    iintro ⟨Hcs, HO⟩; iapply Hk
    isplitl [Hc Hcs]
    · iframe Hc; iexact Hcs
    iexact HO

/-- One wait, of semaphore `b`: what its payer handed over, and its counter at zero for good. -/
theorem wp_wait1 (c : Dev nD) (b : Cl) (w : TpuEff nD τ sig (Elt F) Λ₀ .tc PUnit)
    (hw : ∀ Kt : PUnit → sProp 𝕄, wpE (defs₀ (F := F)) 𝒱₀ c♯ none Set.univ w Kt = waitSpec c♯ Set.univ (osem b) (N b.2) Kt) (T : PUnit → TProg F) (Q : PUnit → sProp 𝕄) (W : Waits sig Unit) :
    iprop(records m K ∗ cred (tallyAt (kcell (c, b)) () (N b.2)) ∗ owes c♯ 0 W ∗ atPos ER (kcell (c, b)) 0 ∅ 0) ⊢ iprop(((pay m b c ∗ semVal (kcell (c, b)) 0 ∗ owes c♯ 0 (insert (osem b, ()) W))
            -∗ 𝕨 c (T ⟨⟩) Q) -∗ 𝕨 c (.op w T) Q) := by
  iintro ⟨#HR, Hc, HO, Hat⟩ Hk; ihave #HI := (inv_of m K (c, b)) $$ HR
  iapply (Rounds.wp_wait_rest_token 𝒱₀ ER (scatRd m) c♯ none (κ := K (c, b)) hw (Set.mem_univ _) () (O := 0) (W := W) (R := 0) (m := 0) (T := ∅)
      (by rw [Nat.zero_add]; exact (expect_at m c b).symm)) $$ [Hc HO Hat]
  · isplitr; · iexact HI
    iframe Hc HO; isplitr; · rw [MayWait_zero]; iempintro
    iexact Hat
  iintro ⟨HO, Hat, -, Hpay⟩; ihave Hp := (Entails.of_eq (rest_at m c b)) $$ Hpay
  imod (Rounds.cell_close ER (scatRd m) (Set.mem_univ (K (c, b))) (fun h => h) (R := 0 + 1) (duties_later m (kcell (c, b)))) $$ [Hat] with Hz
  · isplitr; · iexact HI
    iexact Hat
  iapply Hk; iframe Hp Hz; iexact HO

/-- The two waits of a copy are waits for its amount on its two semaphores. -/
theorem waitS1_eq (c : Dev nD) (k : Cp) (Kt : PUnit → sProp 𝕄) : wpE (defs₀ (F := F)) 𝒱₀ c♯ none Set.univ (waitS1 k c) Kt = waitSpec c♯ Set.univ (osem (false, k)) (N k) Kt := rfl
theorem waitR1_eq (c : Dev nD) (k : Cp) (Kt : PUnit → sProp 𝕄) : wpE (defs₀ (F := F)) 𝒱₀ c♯ none Set.univ (waitR1 k c) Kt = waitSpec c♯ Set.univ (osem (true, k)) (N k) Kt := rfl

/-- All waits of a list, all of one kind `b`. -/
theorem wp_waits (c : Dev nD) (b : Bool) (w : Cp → Dev nD → TpuEff nD τ sig (Elt F) Λ₀ .tc PUnit) (hw : ∀ (k : Cp) (Kt : PUnit → sProp 𝕄),
      wpE (defs₀ (F := F)) 𝒱₀ c♯ none Set.univ (w k c) Kt = waitSpec c♯ Set.univ (osem (b, k)) (N k) Kt) (T : TProg F) (Q : PUnit → sProp 𝕄) : ∀ (ks : List Cp) (W : Waits sig Unit),
    iprop(records m K ∗ bigSepL ks (fun k => cred (tallyAt (kcell (c, (b, k))) () (N k))) ∗ bigSepL ks (fun k => atPos ER (kcell (c, (b, k))) 0 ∅ 0) ∗ owes c♯ 0 W)
      ⊢ iprop(((bigSepL ks (fun k => pay m (b, k) c) ∗ bigSepL ks (fun k => semVal (kcell (c, (b, k))) 0) ∗ ∃ W', owes c♯ 0 W') -∗ 𝕨 c T Q) -∗ 𝕨 c (waits w c ks T) Q)
  | [], W => by
    iintro ⟨-, Ha, Hb, HO⟩ Hk; iapply Hk; iframe Ha Hb; iexists W; iexact HO
  | k :: ks, W => by
    rw [bigSepL_cons', bigSepL_cons', bigSepL_cons', bigSepL_cons']; iintro ⟨#HR, ⟨Hc, Hcs⟩, ⟨Ha, Has⟩, HO⟩ Hk
    iapply (wp_wait1 m K c (b, k) (w k c) (hw k) (fun _ => waits w c ks T) Q W) $$ [Hc HO Ha]
    · isplitr; · iexact HR
      iframe Hc HO; iexact Ha
    iintro ⟨Hp, Hz, HO⟩; iapply (wp_waits c b w hw T Q ks _) $$ [Hcs Has HO]
    · isplitr; · iexact HR
      iframe Hcs Has; iexact HO
    iintro ⟨Hps, Hzs, HO⟩; iapply Hk
    isplitl [Hp Hps]
    · iframe Hp; iexact Hps
    isplitl [Hz Hzs]
    · iframe Hz; iexact Hzs
    iexact HO

/-- What the body starts and ends with, besides what it owes. -/
def bodyPre (c : Dev nD) : sProp 𝕄 := iprop(records m K ∗ (bigSep Finset.univ (copyPre m c)) ∗ bigSep Finset.univ (waitPre (F := F) c))
def bodyPost (c : Dev nD) : sProp 𝕄 := bigSep Finset.univ (waitPost m c)

theorem slots_univ : (Finset.univ : Finset Cp) = slots.toFinset := by decide
theorem slots_nodup : slots.Nodup := by decide
theorem bigSep_slots (Φ : Cp → sProp 𝕄) : bigSep Finset.univ Φ = bigSepL slots Φ := bigSep_univ_eq_bigSepL slots slots_univ slots_nodup Φ

/-- The body: fifteen copies, then the fifteen landings, then the fifteen readings. -/
theorem sound_body (c : Dev nD) (Q : PUnit → sProp 𝕄) (W : Waits sig Unit) : iprop(bodyPre m K c ∗ owes c♯ (owed c slots) W ∗ ((bodyPost m c ∗ ∃ W', owes c♯ 0 W') -∗ Q ⟨⟩))
      ⊢ 𝕨 c (kernel : TProg F) Q := by
  rw [kernel_eq]; unfold bodyPre bodyPost waitPre waitPost; simp only [bigSep_sep', bigSep_slots]; simp only [wp_deviceId]; iintro ⟨⟨#HR, Hc, ⟨HcR, HaS, HaR⟩⟩, HO, Hk⟩
  iapply (wp_starts m K c (waits waitR1 c slots (waits waitS1 c slots (Prog.ret ⟨⟩))) Q W slots) $$ [Hc HO]
  · isplitr; · iexact HR
    iframe Hc; iexact HO
  iintro ⟨HcS, HO⟩; iapply (wp_waits m K c true waitR1 (waitR1_eq c) (waits waitS1 c slots (Prog.ret ⟨⟩)) Q slots W) $$ [HcR HaR HO]
  · isplitr; · iexact HR
    iframe HcR HaR; iexact HO
  iintro ⟨HpR, HzR, ⟨%W', HO⟩⟩; iapply (wp_waits m K c false waitS1 (waitS1_eq c) (Prog.ret ⟨⟩) Q slots W') $$ [HcS HaS HO]
  · isplitr; · iexact HR
    iframe HcS HaS; iexact HO
  iintro ⟨HpS, HzS, HO⟩; rw [wp_ret]; imodintro; iapply Hk
  isplitr [HO]
  · iframe HpS HpR HzS; iexact HzR
  iexact HO
-- ==== Proof.ScatDeal.lean ====
/-
The exchange's launch, first part: how the four chips' buffers are cut into blocks and joined again, and how the chips'
holdings, the semaphores and the protocol's own records are dealt: each chip gets its block of every other chip's results.
-/
module

public import proofs.«01_k».proof.Proof.ScatMesh
public import Idealize.ShloMosaic.Lib.Pipeline.Frame

@[expose] public section
noncomputable section
namespace Cert.ScatProof

open ScatIdeal Gen

open Idealize ShloMosaic TcCoe SL RA BI BIBase Laws ProofMode Sem
open Idealize.ShloMosaic.Rounds

variable {F : FTy → Type} [FloatOps F]

local notation "𝕄" => MT nD τ sig Unit (Elt F) ℕ UU ℕ
local notation:max c:max "♯" => (c : Thread nD τ)
local notation "⨂" f:max => bigSep Finset.univ f

variable (m : (ℓ : Loc nD τ sig) → Buf (Elt F) ℓ) (ρ : Dev nD → PrngReg)

/-! ## Blocks -/

/-- Array `a` of chip `c`, and its result. -/
abbrev inLoc (a : Fin 5) (c : Dev nD) : Loc nD τ sig := (inM a).view.loc c♯
abbrev outLoc (a : Fin 5) (c : Dev nD) : Loc nD τ sig := (outM a).view.loc c♯

/-- The elements of array `a` that copy `(a, j)` of chip `c` reads; the elements of result `a` that the other chip's writes. -/
def slab (a : Fin 5) (c : Dev nD) (j : Fin 3) : Finset (Idx (inLoc a c)) := (src (a, j) c).view.set
def room (a : Fin 5) (c : Dev nD) (j : Fin 3) : Finset (Idx (outLoc a c)) := (dst (a, j) (pal j c)).view.set

theorem blk_set (a : Fin 5) (M : Memref sig .tc .hbm (SO a) (ET a)) (o : Fin 3 → Nat) (h : ∀ i, o i + (SP a).size i ≤ (SO a).size i) :
    (blk a M o h).view.set = (Rect.unit (s := SO a) o (SP a).size h).set.map M.view.emb :=
  (View.set_reshape _ _).trans (View.set_slice _ _)

/-- Blocks at different places do not meet. -/
theorem blk_disjoint (a : Fin 5) (M : Memref sig .tc .hbm (SO a) (ET a)) (o o' : Fin 3 → Nat) (h h') (e : o 0 ≠ o' 0) : Disjoint (blk a M o h).view.set (blk a M o' h').view.set := by
  rw [blk_set, blk_set]; refine (Finset.disjoint_map _).mpr (Rect.unit_disjoint 0 ?_); show o 0 + 1 ≤ o' 0 ∨ o' 0 + 1 ≤ o 0; omega
theorem pal_ne : ∀ (i j : Fin 3) (c : Dev nD), i ≠ j → (pal i c).val ≠ (pal j c).val := by decide
theorem slab_disjoint (a : Fin 5) (c : Dev nD) : ∀ i ∈ (Finset.univ : Finset (Fin 3)), ∀ j ∈ (Finset.univ : Finset (Fin 3)), i ≠ j →
    Disjoint (slab a c i) (slab a c j) := fun i _ j _ h => blk_disjoint a _ _ _ _ _ (by rw [pal_eq, pal_eq]; exact pal_ne i j c h)
theorem room_disjoint (a : Fin 5) (c : Dev nD) : ∀ i ∈ (Finset.univ : Finset (Fin 3)), ∀ j ∈ (Finset.univ : Finset (Fin 3)), i ≠ j →
    Disjoint (room a c i) (room a c j) := fun i _ j _ h => blk_disjoint a _ _ _ _ _ (by rw [own_eq, own_eq]; exact pal_ne i j c h)

/-- What of array `a` and of its result chip `c` keeps while the copies are on their way. -/
def keptIn (a : Fin 5) (c : Dev nD) : sProp 𝕄 := inLoc a c ↦[Finset.univ \ Finset.univ.biUnion (slab a c)]{fullShare} m (inLoc a c)
def keptOut (a : Fin 5) (c : Dev nD) : sProp 𝕄 := outLoc a c ↦[Finset.univ \ Finset.univ.biUnion (room a c)]{fullShare} m (outLoc a c)

theorem in_cut (a : Fin 5) (c : Dev nD) : (inLoc a c ↦{fullShare} m (inLoc a c) : sProp 𝕄) ⊣⊢ iprop((⨂ fun j => srcPts m (a, j) c) ∗ keptIn m a c) := by
  have h := pointsTo_split_subset (Ix := Unit) (Name := ℕ) (U := UU) (Lvl := ℕ) (q := fullShare) (f := m (inLoc a c)) (Finset.subset_univ (Finset.univ.biUnion (slab a c)))
  rw [pointsTo_biUnion Finset.univ (slab a c) (slab_disjoint a c)] at h; exact h
theorem out_cut (a : Fin 5) (c : Dev nD) : (outLoc a c ↦{fullShare} m (outLoc a c) : sProp 𝕄) ⊢ iprop((⨂ fun j => freePts m (a, j) (pal j c) c) ∗ keptOut m a c) := by
  have h := pointsTo_split_subset (Ix := Unit) (Name := ℕ) (U := UU) (Lvl := ℕ) (q := fullShare) (f := m (outLoc a c)) (Finset.subset_univ (Finset.univ.biUnion (room a c)))
  rw [pointsTo_biUnion Finset.univ (room a c) (room_disjoint a c)] at h; exact h.1
/-- The blocks of a result, with what landed in them, and the rest of it, are a whole result that holds what landed. -/
theorem out_join (a : Fin 5) (c : Dev nD) : iprop((⨂ fun j => landPts m (a, j) (pal j c) c) ∗ keptOut m a c)
      ⊢ (iprop(∃ g : Buf (Elt F) (outLoc a c), ⌜∀ j, ∀ i ∈ room a c j, g i = landed m (a, j) (pal j c) c i⌝ ∗ outLoc a c ↦{fullShare} g) : sProp 𝕄) := by
  classical
  have hj := pointsTo_biUnion_join (Ix := Unit) (Name := ℕ) (U := UU) (Lvl := ℕ) (q := fullShare) Finset.univ (room a c) (fun j => landed m (a, j) (pal j c) c) (m (outLoc a c)) (room_disjoint a c)
  refine BIBase.Entails.trans (sep_mono_left hj) ?_; unfold keptOut; iintro ⟨⟨%g, %hg, H⟩, Hk⟩
  have e1 : (outLoc a c ↦[Finset.univ.biUnion (room a c)]{fullShare} g : sProp 𝕄)
      = outLoc a c ↦[Finset.univ.biUnion (room a c)]{fullShare} fun i => if i ∈ Finset.univ.biUnion (room a c) then g i else m (outLoc a c) i :=
    pointsTo_congr fun i hi => (if_pos hi).symm
  have e2 : (outLoc a c ↦[Finset.univ \ Finset.univ.biUnion (room a c)]{fullShare} m (outLoc a c) : sProp 𝕄)
      = outLoc a c ↦[Finset.univ \ Finset.univ.biUnion (room a c)]{fullShare} fun i => if i ∈ Finset.univ.biUnion (room a c) then g i else m (outLoc a c) i :=
    pointsTo_congr fun i hi => (if_neg (Finset.mem_sdiff.mp hi).2).symm
  iexists fun i => if i ∈ Finset.univ.biUnion (room a c) then g i else m (outLoc a c) i
  isplitr
  · ipureintro; exact fun j i hi => (if_pos (Finset.mem_biUnion.mpr ⟨j, Finset.mem_univ j, hi⟩)).trans (hg j (Finset.mem_univ j) i hi)
  ihave H' := (Entails.of_eq e1) $$ H; ihave Hk' := (Entails.of_eq e2) $$ Hk; iapply (pointsTo_split_subset (Finset.subset_univ (Finset.univ.biUnion (room a c)))).2
  isplitl [H'] <;> iassumption

theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
theorem bigSep_bool {I : Type} [DecidableEq I] [Fintype I] (Φ : Bool × I → sProp 𝕄) : bigSep Finset.univ Φ = iprop((⨂ fun k => Φ (false, k)) ∗ ⨂ fun k => Φ (true, k)) := by
  rw [bigSep_univ_prod, bigSep_univ_eq_bigSepL [false, true] (by decide) (by decide)]; rfl
theorem bigSep_cl (Φ : Cl → sProp 𝕄) : bigSep Finset.univ Φ = iprop((⨂ fun k => Φ (false, k)) ∗ ⨂ fun k => Φ (true, k)) := bigSep_bool Φ

/-! ## A chip's buffers -/

/-- The ten buffers of the kernel: `(false, a)` is array `a`, `(true, a)` its result. -/
def bufOf (x : Bool × Fin 5) : DevRef τ sig := match x.1 with
  | false => (inM x.2).view.ref
  | true => (outM x.2).view.ref
theorem bufOf_injective : Function.Injective bufOf := by decide +kernel
def ten : Finset (DevRef τ sig) := Finset.univ.map ⟨bufOf, bufOf_injective⟩
theorem ten_sub : ten ⊆ Pipeline.ucRefs τ sig := fun b hb => by
  obtain ⟨x, -, rfl⟩ := Finset.mem_map.mp hb; exact Finset.mem_filter.mpr ⟨by revert x; decide +kernel, by revert x; decide +kernel⟩

/-- The buffers' contents at the start, and with the results at `g`. -/
abbrev V₀ (c : Dev nD) : Valuation τ sig (Elt F) := fun b => m (c, b)
abbrev W (c : Dev nD) (g : (a : Fin 5) → Buf (Elt F) (outLoc a c)) : Valuation τ sig (Elt F) :=
  Function.update (Function.update (Function.update (Function.update (Function.update (V₀ m c) main_v1_0 (g 0)) main_v1_1 (g 1)) main_v1_2 (g 2)) main_v1_3 (g 3)) main_v1_4 (g 4)

theorem held_ten (c : Dev nD) (V : Valuation τ sig (Elt F)) : (StableHlo.held c♯ ten V : sProp 𝕄) = iprop((⨂ fun a => (inLoc a c ↦{fullShare} V (bufOf (false, a)) : sProp 𝕄))
          ∗ ⨂ fun a => (outLoc a c ↦{fullShare} V (bufOf (true, a)) : sProp 𝕄)) := by
  unfold StableHlo.held ten; rw [bigSep_map, bigSep_bool]; rfl

/-- What chip `c` keeps, of its arrays, of its results, and every other buffer. -/
def others (c : Dev nD) : sProp 𝕄 := StableHlo.held c♯ (Pipeline.ucRefs τ sig \ ten) (V₀ m c)
def kept (c : Dev nD) : sProp 𝕄 := iprop((⨂ fun a => keptIn m a c) ∗ (⨂ fun a => keptOut m a c) ∗ others m c)

/-- A chip's buffers, as what it sends, what it will be sent, and what it keeps. -/
theorem cut (c : Dev nD) : (unscopedBufs c (fun b => m (c♯.loc b)) : sProp 𝕄) ⊢ iprop((⨂ fun k => srcPts m k c) ∗ (⨂ fun k => freePts m k (peer k c) c) ∗ kept m c) := by
  rw [show (unscopedBufs c (fun b => m (c♯.loc b)) : sProp 𝕄) = StableHlo.held c♯ (Pipeline.ucRefs τ sig) (V₀ m c)
    from Pipeline.unscopedBufs_held (Ix := Unit) (Name := ℕ) (U := UU) (Lvl := ℕ) c (V₀ m c), StableHlo.held_sub_split _ ten_sub, held_ten]
  refine BIBase.Entails.trans (BIClass.sep_mono (BIClass.sep_mono (bigSep_mono fun a _ => (in_cut m a c).1) (bigSep_mono fun a _ => out_cut m a c)) .rfl) ?_
  rw [bigSep_sep', bigSep_sep', bigSep_univ_prod (fun k : Cp => srcPts m k c), bigSep_univ_prod (fun k : Cp => freePts m k (peer k c) c)]; unfold kept others; iintro ⟨⟨⟨H1, H2⟩, H3, H4⟩, H5⟩
  iframe H1 H3 H2 H4; iexact H5

/-- What the results must hold after the kernel. -/
def Got (c : Dev nD) (g : (a : Fin 5) → Buf (Elt F) (outLoc a c)) : Prop := ∀ a j, ∀ i ∈ room a c j, g a i = landed m (a, j) (pal j c) c i

theorem W_in (c : Dev nD) (g : (a : Fin 5) → Buf (Elt F) (outLoc a c)) : ∀ a : Fin 5, W m c g (bufOf (false, a)) = m (inLoc a c) := fun
  | 0 => rfl | 1 => rfl | 2 => rfl | 3 => rfl | 4 => rfl
theorem W_out (c : Dev nD) (g : (a : Fin 5) → Buf (Elt F) (outLoc a c)) : ∀ a : Fin 5, W m c g (bufOf (true, a)) = g a := fun
  | 0 => rfl | 1 => rfl | 2 => rfl | 3 => rfl | 4 => rfl
theorem W_others (c : Dev nD) (g : (a : Fin 5) → Buf (Elt F) (outLoc a c)) (b : DevRef τ sig) (hb : b ∈ Pipeline.ucRefs τ sig \ ten) : W m c g b = V₀ m c b := by
  have h : ∀ a, b ≠ bufOf (true, a) := fun a e => (Finset.mem_sdiff.mp hb).2 (Finset.mem_map.mpr ⟨(true, a), Finset.mem_univ _, e.symm⟩)
  exact (Function.update_of_ne (h 4) _ _).trans ((Function.update_of_ne (h 3) _ _).trans ((Function.update_of_ne (h 2) _ _).trans
    ((Function.update_of_ne (h 1) _ _).trans (Function.update_of_ne (h 0) _ _))))

theorem held_W (c : Dev nD) (g : (a : Fin 5) → Buf (Elt F) (outLoc a c)) : (StableHlo.held c♯ ten (W m c g) : sProp 𝕄)
      = iprop((⨂ fun a => (inLoc a c ↦{fullShare} m (inLoc a c) : sProp 𝕄)) ∗ ⨂ fun a => (outLoc a c ↦{fullShare} g a : sProp 𝕄)) :=
  (held_ten c _).trans (congrArg₂ (fun x y : sProp 𝕄 => iprop(x ∗ y)) (bigSep_congr fun a _ => congrArg (fun f => (inLoc a c ↦{fullShare} f : sProp 𝕄)) (W_in m c g a))
    (bigSep_congr fun a _ => congrArg (fun f => (outLoc a c ↦{fullShare} f : sProp 𝕄)) (W_out m c g a)))

/-- One choice for all results. -/
theorem out_joins (c : Dev nD) : iprop((⨂ fun k => landPts m k (peer k c) c) ∗ ⨂ fun a => keptOut m a c) ⊢ (iprop(∃ g, ⌜Got m c g⌝ ∗ ⨂ fun a => outLoc a c ↦{fullShare} g a) : sProp 𝕄) := by
  rw [bigSep_univ_prod (fun k : Cp => landPts m k (peer k c) c), ← bigSep_sep']; refine BIBase.Entails.trans (bigSep_mono fun a _ => out_join m a c) ?_
  haveI : ∀ a : Fin 5, Nonempty (Buf (Elt F) (outLoc a c)) := fun a => ⟨m (outLoc a c)⟩
  refine BIBase.Entails.trans (BI.bigSep_exists_pi Finset.univ (fun (a : Fin 5) (g : Buf (Elt F) (outLoc a c)) =>
    (iprop(⌜∀ j, ∀ i ∈ room a c j, g i = landed m (a, j) (pal j c) c i⌝ ∗ outLoc a c ↦{fullShare} g) : sProp 𝕄))) ?_
  iintro ⟨%g, H⟩; ihave H' := (bigSep_pure_sep Finset.univ (fun a => ∀ j, ∀ i ∈ room a c j, g a i = landed m (a, j) (pal j c) c i) (fun a => (outLoc a c ↦{fullShare} g a : sProp 𝕄))) $$ H
  icases H' with ⟨%hg, H'⟩; iexists g; isplitr; · ipureintro; exact fun a => hg a (Finset.mem_univ a)
  iexact H'

theorem ins_join (c : Dev nD) : iprop((⨂ fun a : Fin 5 => ⨂ fun j : Fin 3 => srcPts m (a, j) c) ∗ ⨂ fun a => keptIn m a c) ⊢ (⨂ fun a => (inLoc a c ↦{fullShare} m (inLoc a c) : sProp 𝕄)) := by
  rw [← bigSep_sep']; exact bigSep_mono fun a _ => (in_cut m a c).2

/-- What a chip sent, what landed with it and what it kept, as all its buffers with the results at some contents that hold what landed. -/
theorem uncut (c : Dev nD) : iprop((⨂ fun k => srcPts m k c) ∗ (⨂ fun k => landPts m k (peer k c) c) ∗ kept m c)
      ⊢ (iprop(∃ g, ⌜Got m c g⌝ ∗ StableHlo.held c♯ (Pipeline.ucRefs τ sig) (W m c g)) : sProp 𝕄) := by
  unfold kept others; rw [bigSep_univ_prod (fun k : Cp => srcPts m k c)]; iintro ⟨H1, H2, H3, H4, H5⟩; ihave H := (out_joins m c) $$ [H2 H4]
  · isplitl [H2] <;> iassumption
  icases H with ⟨%g, %hg, H⟩; ihave Hi := (ins_join m c) $$ [H1 H3]
  · isplitl [H1] <;> iassumption
  iexists g; isplitr; · ipureintro; exact hg
  ihave H5' := (Entails.of_eq (StableHlo.held_congr c♯ fun b hb => (W_others m c g b hb).symm)) $$ H5; iapply (Entails.of_eq (StableHlo.held_sub_split _ ten_sub (W m c g)).symm)
  isplitr [H5']
  · iapply (Entails.of_eq (held_W m c g).symm)
    isplitl [Hi] <;> iassumption
  iexact H5'

/-! ## The protocol's records -/

theorem ownSemFacts : Pipeline.OwnSemFacts cfg0.spec osem := ⟨by decide +kernel, osem_injective, fun _ w => w.elim0⟩

def scatCells : Finset (GSem nD τ sig) := Finset.univ.map ⟨kcell, kcell_injective⟩
def scatToks : Finset (GSem nD τ sig × ℕ × Unit) := Finset.univ.map ⟨fun cb : Dev nD × Cl => (kcell cb, 0, ()), fun _ _ h => kcell_injective (congrArg Prod.fst h)⟩

def u₀ : UU := (initOf (Pipeline.cells cfgs cellOf_inj) (Pipeline.launchToks cfgs cellOf_inj), initOf scatCells scatToks)

/-- A chip's records at the launch: its semaphores' states, their positions, and their payers' rights. -/
def G (c : Dev nD) : sProp 𝕄 :=
  iprop((⨂ fun b : Cl => roundState ER (scatRd m) (kcell (c, b)) 0) ∗ (⨂ fun b : Cl => reached ER (kcell (c, b)) 0) ∗ (⨂ fun b : Cl => atPos ER (kcell (c, b)) 0 ∅ 0)
    ∗ ⨂ fun b : Cl => dutyTok ER (kcell (c, b)) 0 ())

theorem fund : BI.own (ER (initOf scatCells scatToks)) ⊢ (|==> bigSep Finset.univ (G m) : sProp 𝕄) := by
  have hX (Φ : GSem nD τ sig → sProp 𝕄) : bigSep scatCells Φ = ⨂ fun c : Dev nD => ⨂ fun b : Cl => Φ (kcell (c, b)) := by
    unfold scatCells; rw [bigSep_map, bigSep_univ_prod]; rfl
  have hT : bigSep scatToks (fun x => (dutyTok ER x.1 x.2.1 x.2.2 : sProp 𝕄))
      = ⨂ fun c : Dev nD => ⨂ fun b : Cl => dutyTok ER (kcell (c, b)) 0 () := by
    unfold scatToks; rw [bigSep_map, bigSep_univ_prod]; rfl
  iintro HX; imod (Rounds.fund ER (scatRd m) scatCells scatToks) $$ HX with ⟨Hst, Hr, Hat, Htok⟩; imodintro; ihave Hst' := (Entails.of_eq (hX fun g => roundState ER (scatRd m) g 0)) $$ Hst
  ihave Hat' := (Entails.of_eq (hX fun g => atPos ER g 0 ∅ 0)) $$ Hat; ihave Hr' := (Entails.of_eq (hX fun g => reached ER g 0)) $$ Hr; ihave Htok' := (Entails.of_eq hT) $$ Htok
  unfold G; simp only [bigSep_sep']; iframe Hst' Hr' Hat'; iexact Htok'

/-! ## The deal -/

/-- What chip `c` gets, apart from what all chips know. -/
def share (c : Dev nD) : sProp 𝕄 :=
  iprop((⨂ fun k => srcPts m k c) ∗ kept m c ∗ (⨂ fun k => freePts m k c (peer k c)) ∗ (⨂ fun k => atPos ER (sendCell c k) 0 ∅ 0) ∗ (⨂ fun k => atPos ER (recvCell c k) 0 ∅ 0)
    ∗ (⨂ fun k => dutyTok ER (sendCell c k) 0 ()) ∗ ⨂ fun k => dutyTok ER (recvCell (peer k c) k) 0 ())

/-- What chip `c` enters the kernel with. -/
def dealt (c : Dev nD) : sProp 𝕄 := iprop(∃ K, records m K ∗ share m c)

/-- The counters at zero and the states of all semaphores become their invariants. -/
theorem alloc : iprop((⨂ fun c : Dev nD => ⨂ fun b : Cl => semVal (kcell (c, b)) 0) ∗ ⨂ fun c : Dev nD => ⨂ fun b : Cl => roundState ER (scatRd m) (kcell (c, b)) 0)
      ⊢ (|={Set.univ}=> ∃ K : Dev nD × Cl → ℕ, ⨂ fun cb : Dev nD × Cl => cellInv ER (scatRd m) (K cb) (kcell cb) : sProp 𝕄) := by
  rw [← bigSep_univ_prod (fun cb : Dev nD × Cl => (semVal (kcell cb) 0 : sProp 𝕄)), ← bigSep_univ_prod (fun cb : Dev nD × Cl => (roundState ER (scatRd m) (kcell cb) 0 : sProp 𝕄)), ← bigSep_sep']
  refine BIBase.Entails.trans ((bigSep_mono fun cb _ => (Rounds.body_intro ER (scatRd m) (kcell cb)).trans inv_alloc).trans (bigSep_fupd _ _)) (BI.fupd_mono ?_)
  exact BI.bigSep_exists_pi Finset.univ (fun (cb : Dev nD × Cl) (κ : ℕ) => (cellInv ER (scatRd m) κ (kcell cb) : sProp 𝕄))

theorem bigSep_with {I : Type} [DecidableEq I] {S : Finset I} {R : sProp 𝕄} [BI.Persistent R] {Φ Ψ : I → sProp 𝕄} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Records of every chip and copy, told by who is at the other end. -/
theorem redeal (Φ : Cp → Dev nD → sProp 𝕄) : (⨂ fun c : Dev nD => ⨂ fun k => Φ k c) = ⨂ fun c : Dev nD => ⨂ fun k => Φ k (peer k c) := by
  rw [BI.bigSep_univ_comm (fun (c : Dev nD) (k : Cp) => Φ k c), BI.bigSep_univ_comm (fun (c : Dev nD) (k : Cp) => Φ k (peer k c))]; exact bigSep_congr fun k _ => BI.bigSep_univ_equiv (turn k) _
theorem cut_all : (⨂ fun c : Dev nD => unscopedBufs c (fun b => m (c♯.loc b)) : sProp 𝕄) ⊢ iprop((⨂ fun c : Dev nD => ⨂ fun k => srcPts m k c)
          ∗ (⨂ fun c : Dev nD => ⨂ fun k => freePts m k c (peer k c)) ∗ ⨂ fun c : Dev nD => kept m c) := by
  refine BIBase.Entails.trans (bigSep_mono fun c _ => cut m c) ?_; rw [bigSep_sep', bigSep_sep', redeal (fun k c => freePts m k (peer k c) c)]; simp only [peer_peer]; exact BI.Entails.refl _

/-- All chips' semaphores, buffers and records, dealt to the chips. -/
theorem deal : iprop((⨂ fun c : Dev nD => (Pipeline.ownSems0 (Ix := Unit) (Name := ℕ) (U := UU) (Lvl := ℕ) (Val := Elt F) (τ := τ) osem c))
        ∗ (⨂ fun c : Dev nD => unscopedBufs c (fun b => m (c♯.loc b))) ∗ bigSep Finset.univ (G m)) ⊢ (|={Set.univ}=> bigSep Finset.univ (dealt m) : sProp 𝕄) := by
  unfold G; rw [bigSep_sep', bigSep_sep', bigSep_sep']; iintro ⟨Hs, Hb, Hst, Hr, Hat, Htok⟩; imod (alloc m) $$ [Hs Hst] with ⟨%K, #HI⟩
  · iframe Hs; iexact Hst
  ihave Hr' := (Entails.of_eq (bigSep_univ_prod (fun cb : Dev nD × Cl => (reached ER (kcell cb) 0 : sProp 𝕄))).symm) $$ Hr; icases Hr' with #HR; imodintro
  iapply (bigSep_with (R := records m K) (Φ := share m) (Ψ := dealt m) fun c _ => (show iprop(records m K ∗ share m c) ⊢ dealt m c from by
    unfold dealt; iintro H; iexists K; iexact H))
  isplitr
  · unfold records
    isplitl; · iexact HI
    iexact HR
  ihave Hc := (cut_all m) $$ Hb; ihave Hat' := (Entails.of_eq (bigSep_congr (s := Finset.univ) fun (c : Dev nD) _ => bigSep_cl fun b : Cl => (atPos ER (kcell (c, b)) 0 ∅ 0 : sProp 𝕄))) $$ Hat
  ihave Htok' := (Entails.of_eq (bigSep_congr (s := Finset.univ) fun (c : Dev nD) _ => bigSep_cl fun b : Cl => (dutyTok ER (kcell (c, b)) 0 () : sProp 𝕄))) $$ Htok; unfold share
  simp only [bigSep_sep']; rw [redeal (fun k c => (dutyTok ER (kcell (c, (true, k))) 0 () : sProp 𝕄))]; icases Hc with ⟨H1, H3, H2⟩; icases Hat' with ⟨H4, H5⟩; icases Htok' with ⟨H6, H7⟩
  iframe H1 H2 H3 H4 H5 H6; iexact H7

/-! ## What is owed and credited at the launch -/

def O₀ (c : Dev nD) : CellTallies nD τ sig Unit := owed c slots

theorem recv_eq_iff {c d : Dev nD} {k l : Cp} : recvCell c k = recvCell d l ↔ c = d ∧ k = l :=
  ⟨fun h => by
    have := kcell_injective (a₁ := (c, (true, k))) (a₂ := (d, (true, l))) h
    exact ⟨congrArg Prod.fst this, congrArg (fun x => x.2.2) this⟩, fun ⟨h, h'⟩ => by rw [h, h']⟩

theorem owed_at (c d : Dev nD) (k : Cp) : ∀ ks : List Cp, owed d ks (recvCell c k) () = if c = peer k d then ks.count k * N k else 0
  | [] => by
    show (0 : CellTallies nD τ sig Unit) (recvCell c k) () = _; rw [List.count_nil, Nat.zero_mul, ite_self]; rfl
  | l :: ks => by
    show (owed d ks + tallyAt (recvCell (peer l d) l) () (N l)) (recvCell c k) () = _; rw [Pi.add_apply, Finsupp.add_apply, owed_at c d k ks, tallyAt_apply, List.count_cons]; by_cases hk : k = l
    · subst hk; by_cases hc : c = peer k d
      · rw [if_pos hc, if_pos hc, if_pos ⟨by rw [hc], rfl⟩]; simp [Nat.add_mul]
      · rw [if_neg hc, if_neg hc, if_neg (fun h => hc (recv_eq_iff.mp h.1).1)]
    · have h1 : ¬ (l == k) = true := by simpa using fun h => hk h.symm
      by_cases hc : c = peer k d
      · rw [if_pos hc, if_pos hc, if_neg (fun h => hk (recv_eq_iff.mp h.1).2), if_neg h1]; simp
      · rw [if_neg hc, if_neg hc, if_neg (fun h => hk (recv_eq_iff.mp h.1).2)]

theorem launch_recv (c : Dev nD) (k : Cp) : tallyOn (recvCell c k) (launchCredit (Pipeline.owing O₀) 0 (recvCell c k)) = (tallyAt (recvCell c k) () (N k) : CellTallies nD τ sig Unit) := by
  unfold tallyAt; refine congrArg _ (Finsupp.ext fun u => ?_); cases u; rw [Pipeline.launchCredit_owing, Finsupp.single_eq_same]
  have h : ∀ d : Dev nD, O₀ d (recvCell c k) () = if d = peer k c then N k else 0 := fun d => by
    unfold O₀; rw [owed_at, (by decide : ∀ k : Cp, slots.count k = 1) k, Nat.one_mul]; by_cases hd : d = peer k c
    · rw [if_pos hd, if_pos (by rw [hd, peer_peer])]
    · rw [if_neg hd, if_neg (fun h => hd (by rw [h, peer_peer]))]
  rw [Finset.sum_congr rfl fun d _ => h d, Finset.sum_ite_eq' Finset.univ (peer k c) fun _ => N k, if_pos (Finset.mem_univ _)]

/-- The launch gives chip `c` the credit of the fifteen landings it will wait for. -/
theorem creds (c : Dev nD) : (Pipeline.launchCred O₀ c : sProp 𝕄) ⊢ ⨂ fun k => cred (tallyAt (recvCell c k) () (N k)) := by
  unfold Pipeline.launchCred; have hi : Set.InjOn (fun k : Cp => osem (true, k)) (Finset.univ : Finset Cp) := fun a _ b _ h => congrArg Prod.snd (osem_injective h)
  refine BIBase.Entails.trans (bigSep_subset (Finset.subset_univ (Finset.univ.image fun k : Cp => osem (true, k)))) (Entails.of_eq ?_); rw [bigSep_image_of_injOn hi]
  exact bigSep_congr fun k _ => by rw [← launch_recv]
-- ==== Proof.ScatRun.lean ====
/-
The exchange's launch, second part: what each chip holds before and after the kernel, the host operations that follow it, and
the run of the whole machine, from which the final memory is read.
-/
module

public import proofs.«01_k».proof.Proof.ScatDeal
public import proofs.«01_k».proof.Proof.Gen.ScatIdeal.Regions

@[expose] public section
noncomputable section
namespace Cert.ScatProof

open ScatIdeal Gen

open Idealize ShloMosaic TcCoe SL RA BI BIBase Laws ProofMode Sem
open Idealize.ShloMosaic.Rounds
open Idealize.ShloMosaic.Pipeline (Dat Cfg BodyObligation)

variable {F : FTy → Type} [FloatOps F]

local notation "𝕄" => MT nD τ sig Unit (Elt F) ℕ UU ℕ
local notation:max c:max "♯" => (c : Thread nD τ)
set_option quotPrecheck false in
local notation:max "ℙ" => Prog (TpuEff nD τ sig (Elt F) (Pipeline.Sig Λ₀ (Fin 1) fun p => (pcfgs (F := F) p).Adm) .tc) PUnit
local notation:max "𝕚" => Pipeline.idleSems0 cfgs cellOf_inj 0 ownSemFacts
local notation "⨂" f:max => bigSep Finset.univ f
local notation "𝕠" => Pipeline.ownSems0 (Ix := Unit) (Name := ℕ) (U := UU) (Lvl := ℕ) (Val := Elt F) (τ := τ)

variable (m : (ℓ : Loc nD τ sig) → Buf (Elt F) ℓ) (ρ : Dev nD → PrngReg) (c : Dev nD)

/-! ## Before and after the kernel -/

/-- What chip `c` brings to the kernel. -/
def brought : sProp 𝕄 := iprop(dealt m c ∗ Pipeline.launchCred O₀ c)
/-- What it takes away: the blocks it sent, its results with what landed there, and every other buffer. -/
def taken : sProp 𝕄 := iprop((⨂ fun k => srcPts m k c) ∗ (⨂ fun k => landPts m k (peer k c) c) ∗ kept m c)

def before : sProp 𝕄 := iprop((∃ K, bodyPre m K c) ∗ kept m c)
def afterwards : sProp 𝕄 := iprop(bodyPost m c ∗ kept m c)

/-- The kernel has no windows: its proof data are what is held and owed before and after its one step. -/
def dats (_ : Fin 1) (c : Dev nD) : Dat τ (Elt F) Unit ℕ UU ℕ cfg0 c where
  A w := absurd w.isLt (Nat.not_lt_zero _)
  after w _ := absurd w.isLt (Nat.not_lt_zero _)
  Φ t := match t with
    | ⟨0, _⟩ => before m c
    | ⟨_ + 1, _⟩ => afterwards m c
  q _ := fullShare
  owed t := match t with
    | ⟨0, _⟩ => O₀ c
    | ⟨_ + 1, _⟩ => 0

theorem none_intro (Φ : Fin cfg0.W → sProp 𝕄) : (iprop(emp) : sProp 𝕄) ⊢ bigSep Finset.univ Φ := BI.bigSep_intro_persistent (S := Finset.univ) fun w _ => absurd w.isLt (Nat.not_lt_zero _)

theorem before_intro : brought m c ⊢ before m c := by
  unfold brought dealt share before bodyPre; iintro ⟨⟨%K, #HR, Hs, Hk, Hd, Ha, Hb, Ht, Hu⟩, Hc⟩; ihave Hc' := (creds (F := F) c) $$ Hc
  isplitr [Hk]
  · iexists K; isplitr; · iexact HR
    unfold copyPre waitPre; simp only [bigSep_sep']
    isplitl [Hs Hd Ht Hu]
    · iframe Hs Hd Ht; iexact Hu
    iframe Hc' Ha; iexact Hb
  iexact Hk

theorem after_exit : afterwards m c ⊢ iprop(taken m c ∗ 𝕠 osem c) := by
  unfold afterwards bodyPost waitPost taken
  rw [show (𝕠 osem c : sProp 𝕄)
    = ⨂ fun b : Cl => semVal (kcell (c, b)) 0 from rfl, bigSep_cl]
  simp only [bigSep_sep']; iintro ⟨⟨H1, H2, H3, H4⟩, Hk⟩
  isplitl [H1 H2 Hk]
  · iframe H1 H2; iexact Hk
  iframe H3; iexact H4

theorem body_obligation : BodyObligation (dats (F := F) m 0 c) (defs₀ (F := F)) 𝒱₀ () Set.univ := fun t => by
  rw [show t = t0_0 from fin_N0 t]; show iprop(before m c ∗ (dats m 0 c).owesAt () t0_0.castSucc ∗ _) ⊢ wp frame (wpE (defs₀ (F := F)) 𝒱₀ c none) Set.univ (kernel : TProg F) _
  unfold before Dat.owesAt Pipeline.owesWithin; rw [show (dats m 0 c).owed t0_0.castSucc = O₀ c from rfl]; iintro ⟨⟨⟨%K, Hb⟩, Hk⟩, ⟨%W, %hW, HO⟩, -⟩; iapply (sound_body m K c _ W); iframe Hb HO
  iintro ⟨Hp, %W', HO⟩
  isplitl [Hp Hk]
  · iapply (Entails.of_eq (show afterwards m c = (dats m 0 c).Φ t0_0.succ from rfl)); unfold afterwards; iframe Hp; iexact Hk
  isplitl [HO]
  · iexists W'; isplitr; · ipureintro; exact fun _ _ => Or.inl trivial
    iexact HO
  iapply (none_intro _); iempintro

/-! ## The region -/

abbrev pcs : Fin 1 → Pipeline.PCfg sig Λ₀ (Elt F) := fun p => (cfgs p).toPCfg
abbrev adm : (p : Fin 1) → (pcs (F := F) p).Adm := fun p => (cfgs p).toPCfg_adm
set_option quotPrecheck false in
local notation:max "𝕎" c:max => wp frame (wpE (Pipeline.defs (pcs (F := F)) defs₀) (Variants.lift 𝒱₀) (c : Thread nD τ) none) Set.univ

theorem entry_intro (κ : GSem nD τ sig → ℕ) (c : Dev nD) : (owes c♯ (O₀ c) ∅ : sProp 𝕄) ⊢ Pipeline.EntryPre (Pipeline.pin (pcs (F := F)) adm) (dats m) () EP κ 0 c := by
  have ha : (iprop(emp) : sProp 𝕄) ⊢ (dats m 0 c).arrays ((dats m 0 c).arrAt · 0) := none_intro _
  have hw : (iprop(emp) : sProp 𝕄) ⊢ Pipeline.PerCore.cellsWaits (fun _ : Dev nD => Pipeline.pin (pcs (F := F)) adm) (dats m) () 0 c := none_intro _
  have hi : (iprop(emp) : sProp 𝕄) ⊢ Pipeline.PerCore.cellsInit (fun _ : Dev nD => Pipeline.pin (pcs (F := F)) adm) (dats m) EP κ 0 c := none_intro _
  have ht : (iprop(emp) : sProp 𝕄) ⊢ Pipeline.PerCore.toksInit (fun _ : Dev nD => Pipeline.pin (pcs (F := F)) adm) EP 0 c := none_intro _; unfold Pipeline.EntryPre Pipeline.PerCore.EntryPre
  iintro HO; isplitr; · iapply ha; iempintro
  isplitl
  · unfold Dat.owesAt Pipeline.owesWithin; iexists ∅; isplitr; · ipureintro; rw [Finset.coe_empty]; exact Set.empty_subset _
    iexact HO
  isplitr; · iapply hw; iempintro
  isplitr; · iapply hi; iempintro
  iapply ht; iempintro

theorem exit_elim : Pipeline.EntryPost (Pipeline.pin (pcs (F := F)) adm) (dats m) () 0 c ⊢ (iprop(∃ W, owes c♯ 0 W) : sProp 𝕄) := by
  unfold Pipeline.EntryPost Pipeline.PerCore.EntryPost Dat.owesAt Pipeline.owesWithin; iintro ⟨-, ⟨%W, -, HW⟩⟩; iexists W; iexact HW

/-! ## Reading the final memory -/

/-- What a chip's final memory must show: every buffer is as the host operations leave it, from results that hold what landed. -/
def Shows (s : MemSt nD τ sig (Elt F)) : Prop := ∃ g, Got m c g ∧ ∀ b ∈ Pipeline.ucRefs τ sig, s.mem (c, b) = StableHlo.after (hostOps1 (F := F) c) (W m c g) b

theorem read_one {ℓ : Loc nD τ sig} {I : Finset (Idx ℓ)} {f : Buf (Elt F) ℓ} (s' : Phys nD τ sig (Elt F)) :
    iprop((ℓ ↦[I]{fullShare} f : sProp 𝕄) ∗ Idealize.ShloMosaic.SI s') ⊢ (⌜∀ i ∈ I, s'.mem.mem ℓ i = f i⌝ : sProp 𝕄) :=
  sep_comm.1.trans SI_pointsTo_agree

/-- Every buffer of a set can be read. -/
theorem held_read (S : Finset (DevRef τ sig)) (V : Valuation τ sig (Elt F)) (s' : Phys nD τ sig (Elt F)) :
    iprop((StableHlo.held c♯ S V : sProp 𝕄) ∗ Idealize.ShloMosaic.SI s') ⊢ (⌜∀ b, b ∈ S → s'.mem.mem (c, b) = V b⌝ : sProp 𝕄) :=
  (forall_intro fun b => (forall_intro fun hb => (BIClass.sep_mono (BI.bigSep_elim hb) .rfl).trans ((read_one s').trans (Laws.pure_mono fun h => funext fun i => h i (Finset.mem_univ i)))).trans
    pure_forall.2).trans pure_forall.2

/-- What a chip holds at the end. -/
def left : sProp 𝕄 := iprop(∃ g, ⌜Got m c g⌝ ∗ StableHlo.held c♯ (Pipeline.ucRefs τ sig) (StableHlo.after (hostOps1 (F := F) c) (W m c g)))

theorem left_read (s' : Phys nD τ sig (Elt F)) : iprop(left m c ∗ Idealize.ShloMosaic.SI s') ⊢ (<pers> ⌜Shows m c s'.mem⌝ : sProp 𝕄) := by
  unfold left; iintro ⟨⟨%g, %hg, H⟩, HSI⟩; ihave %h := (held_read (F := F) c _ _ s') $$ [H HSI]
  · isplitl [H] <;> iassumption
  ipureintro; exact ⟨g, hg, h⟩

/-! ## The run -/

/-- What a chip holds before `@main` and after it. -/
def pre : sProp 𝕄 := iprop(scopedBufs c♯ ∗ 𝕚 c ∗ owes c♯ (O₀ c) ∅ ∗ opIdle c♯ ∗ brought m c)
def fin : sProp 𝕄 := iprop(left m c ∗ scopedSems0 c♯)

theorem sems_split : (scopedSems0 c♯ : sProp 𝕄) = iprop((Pipeline.cellsSems0 cfgs 0 c ∗ Pipeline.ownSems0 osem c) ∗ 𝕚 c) := Pipeline.scopedSems0_split cfgs cellOf_inj 0 winFacts0.to₀ ownSemFacts c
theorem bufs_split : (scopedBufs c♯ : sProp 𝕄) = iprop(Dat.staging (cfgs 0) c ∗ Pipeline.scopedRest (cfgs 0).spec c) :=
  Pipeline.scopedBufs_split cfgs 0 winFacts0.stage_scoped winFacts0.stage_inj stage_whole0 c

/-- A chip's initial holdings, sorted. -/
theorem core_init : (coreInit (Pipeline.owing O₀) 0 (⟨m, fun _ => 0, ρ⟩ : MemSt nD τ sig (Elt F)) c♯ : sProp 𝕄) ⊢ iprop((scopedBufs c♯ ∗ 𝕚 c ∗ owes c♯ (O₀ c) ∅ ∗ opIdle c♯ ∗ Pipeline.launchCred O₀ c)
          ∗ 𝕠 osem c ∗ unscopedBufs c (fun b => m (c♯.loc b))) := by
  refine BIBase.Entails.trans (Pipeline.coreInit_boundary_owing O₀ m ρ c) ?_; unfold boundary; rw [sems_split c]; iintro ⟨⟨Hsc, ⟨⟨-, Hos⟩, Hidle⟩, Hop⟩, Hub, -, HL, -, -, Hcr⟩
  isplitr [Hos Hub]
  · iframe Hsc Hidle HL
    isplitl [Hop] <;> iassumption
  isplitl [Hos] <;> iassumption

theorem cores_init : (⨂ fun c : Dev nD => (coreInit (Pipeline.owing O₀) 0 (⟨m, fun _ => 0, ρ⟩ : MemSt nD τ sig (Elt F)) c♯ : sProp 𝕄))
      ⊢ iprop(((⨂ fun c : Dev nD => scopedBufs c♯) ∗ (⨂ fun c : Dev nD => 𝕚 c)
            ∗ (⨂ fun c : Dev nD => owes c♯ (O₀ c) ∅) ∗ (⨂ fun c : Dev nD => (opIdle c♯ : sProp 𝕄)) ∗ (⨂ fun c : Dev nD => Pipeline.launchCred O₀ c)) ∗ (⨂ fun c : Dev nD => 𝕠 osem c)
          ∗ (⨂ fun c : Dev nD => unscopedBufs c (fun b => m (c♯.loc b)))) := by
  refine BIBase.Entails.trans (bigSep_mono fun c _ => core_init m ρ c) ?_; simp only [bigSep_sep']; exact BI.Entails.refl _

theorem start_all : iprop((⨂ fun c : Dev nD => (coreInit (Pipeline.owing O₀) 0 (⟨m, fun _ => 0, ρ⟩ : MemSt nD τ sig (Elt F)) c♯ : sProp 𝕄)) ∗ ownU u₀)
      ⊢ iprop(|={Set.univ}=> ∃ _ : Unit, bigSep Finset.univ (pre m) ∗ emp) := by
  unfold u₀; iintro ⟨Hcores, Hu⟩; ihave Hc := (cores_init m ρ) $$ Hcores; icases Hc with ⟨⟨H1, H2, H3, H5, H4⟩, Hos, Hub⟩; ihave H := (ownU_pair _ _) $$ Hu; icases H with ⟨-, HX⟩
  imod (fund m) $$ HX with HG; imod (deal m) $$ [Hos Hub HG] with HD
  · iframe Hos
    isplitl [Hub] <;> iassumption
  imodintro; iexists ()
  isplitr []
  · unfold pre brought; simp only [bigSep_sep']; iframe H1 H2 H3 H5
    isplitl [HD] <;> iassumption
  · iempintro

theorem region_in {P R : sProp 𝕄} : iprop(brought m c ∗ P ∗ R) ⊢ (dats m 0 c).Φ 0 := (BI.sep_and.trans and_elimL).trans ((before_intro m c).trans (Entails.of_eq rfl))
theorem region_out : iprop((dats m 0 c).Φ (Fin.last cfg0.N) ∗ Pipeline.cellsSems0 cfgs 0 c ∗ Dat.staging (cfgs 0) c ∗ 𝕚 c) ⊢ iprop(taken m c ∗ scopedSems0 c♯ ∗ scopedBufs c♯) := by
  rw [sems_split c, bufs_split c, show (dats m 0 c).Φ (Fin.last cfg0.N) = afterwards m c from rfl,
    show Pipeline.scopedRest (cfgs (0 : Fin 1)).spec c = _ from scopedRest0_eq (Val := Elt F) c]
  iintro ⟨HΦ, Hcells, Hst, Hidle⟩; ihave H := (after_exit m c) $$ HΦ; icases H with ⟨HY, Hos⟩; iframe HY
  isplitl [Hcells Hos Hidle]
  · isplitl [Hcells Hos]; · isplitl [Hcells] <;> iassumption
    iexact Hidle
  iframe Hst; iempintro

theorem no_tables : (iprop(emp) : sProp 𝕄) ⊢ Pipeline.prefHeld ((pcs (F := F)) 0).pre c (fun _ => fullShare) ((adm (F := F)) 0).1 :=
  BI.bigSep_intro_persistent (S := Finset.univ) fun w _ => absurd w.isLt (Nat.not_lt_zero _)

/-- The kernel's call, between what a chip brings and what it takes away. -/
theorem region {k : PUnit → ℙ} {Q : PUnit → sProp 𝕄} : iprop(Pipeline.EntryPre (Pipeline.pin (pcs (F := F)) adm) (dats m) () EP (fun _ => 0) 0 c
        ∗ Pipeline.prefHeld ((pcs (F := F)) 0).pre c (fun _ => fullShare) ((adm (F := F)) 0).1 ∗ brought m c ∗ 𝕚 c ∗ scopedBufs c♯)
      ⊢ iprop(((Pipeline.EntryPost (Pipeline.pin (pcs (F := F)) adm) (dats m) () 0 c ∗ taken m c ∗ scopedSems0 c♯ ∗ scopedBufs c♯) -∗ 𝕎 c (k ⟨⟩) Q) -∗ 𝕎 c
            (.op (.customCall (Pipeline.entry (0 : Fin 1)) ()) k) Q) :=
  Pipeline.wp_customCall_entry_frame (pcs (F := F)) adm (dats m) () EP (fun _ => 0) cellOf_inj (0 : Fin 1) defs₀ 𝒱₀ (fun _ => fullShare) c Set.univ
      (fun _ _ => Set.mem_univ _) (body_obligation m c).loose (fun w => absurd w.isLt (Nat.not_lt_zero _)) none (fun u h => nomatch h)
      (X := brought m c) (Y := taken m c) (R := Pipeline.scopedRest (cfgs 0).spec c) (I := 𝕚 c)
      (Entails.of_eq (bufs_split c)) (region_in m c) (region_out m c)

/-- The host operations after the kernel, and the end. -/
theorem rest_run (l : List (HloOp τ sig (Elt F))) (hl : l = hostOps1 c) (g : (a : Fin 5) → Buf (Elt F) (outLoc a c)) (hg : Got m c g) :
    iprop(boundary c♯ ∗ StableHlo.held c♯ (Pipeline.ucRefs τ sig) (W m c g) ∗ ∃ O, owes c♯ 0 O) ⊢ (𝕎 c (StableHlo.seq l >>= fun _ => .ret (⟨⟩ : PUnit))
        (fun _ => post (liftTc (fin m) BI.emp) c♯) : sProp 𝕄) := by
  iintro ⟨Hb, Hh, Ho⟩
  iapply (StableHlo.wp_seq (Variants.lift 𝒱₀) none Set.univ c (Pipeline.ucRefs τ sig) (fun _ => .ret (⟨⟩ : PUnit)) l
    (fun op h => by rw [hl] at h; exact Pipeline.sub_ucRefs op ((List.forall_iff_forall_mem.mp (hostOps1_sub c)) op h))
    (fun op h => by rw [hl] at h; exact (List.forall_iff_forall_mem.mp (hostOps1_fresh c)) op h) (W m c g)) $$ [Hb Hh]
  · isplitl [Hb] <;> iassumption
  iintro ⟨Hb, Hh⟩; rw [wp_ret]; imodintro; unfold post boundary; simp only [liftTc_tc, fin]; icases Hb with ⟨-, Hss, -⟩
  isplitr [Ho]
  · isplitl [Hh]
    · unfold left; iexists g; isplitr; · ipureintro; exact hg
      rw [← hl]; iexact Hh
    · iexact Hss
  · iexact Ho

/-- One chip's run: the kernel, then the host operations. -/
theorem core_run' (l : List (HloOp τ sig (Elt F))) (hl : l = hostOps1 c) : pre m c ⊢ (𝕎 c (.op (.customCall (Pipeline.entry (0 : Fin 1)) ()) fun _ => StableHlo.seq l >>= fun _ => .ret (⟨⟩ : PUnit))
      (fun _ => post (liftTc (fin m) BI.emp) c♯) : sProp 𝕄) := by
  unfold pre; iintro ⟨Hsc, Hidle, HO, Hop, HX⟩; iapply (region m c) $$ [Hsc Hidle HO HX]
  · isplitl [HO]; · iapply (entry_intro m _ c); iexact HO
    isplitr; · iapply (no_tables c); iempintro
    iframe HX
    isplitl [Hidle] <;> iassumption
  iintro ⟨Hpost, HY, Hss, Hsb⟩; unfold taken; ihave HY' := (uncut m c) $$ HY; icases HY' with ⟨%g, %hg, Hh⟩; iapply (rest_run m c l hl g hg)
  isplitl [Hss Hsb Hop]
  · unfold boundary; iframe Hsb
    isplitl [Hss] <;> iassumption
  iframe Hh; iapply (exit_elim m c); iexact Hpost

/-- The whole `@main`, told from its parts. -/
theorem chain_eq (e : _) (l : List (HloOp τ sig (Elt F))) : (Pipeline.chain [Prog.lift e, StableHlo.seq l] : ℙ) = .op e fun _ => StableHlo.seq l >>= fun _ => .ret (⟨⟩ : PUnit) := rfl

theorem core_run (p : ℙ) (l : List (HloOp τ sig (Elt F))) (hl : l = hostOps1 c) (hp : p = Pipeline.chain [Prog.lift (.customCall (Pipeline.entry 0) ()), StableHlo.seq l]) : pre m c ⊢ (𝕎 c p
      (fun _ => post (liftTc (fin m) BI.emp) c♯) : sProp 𝕄) := by
  rw [hp, chain_eq]; exact core_run' m c l hl

theorem run_of (p : Dev nD → ℙ) (hp : ∀ c, p c = Pipeline.chain [Prog.lift (.customCall (Pipeline.entry 0) ()), StableHlo.seq (hostOps1 c)]) :
    θ_run defs (onTc (τ := τ) p) ⟨m, fun _ => 0, ρ⟩ (fun r => (∀ c, Shows m c r.2) ∧ r.2.sem = fun _ => 0) := by
  refine (θ_run defs _ _).mono (Q := fun r => (∀ c : Dev nD, Shows m c r.2 ∧ ∀ sm : SemLoc sig, sm.isScoped .tc = true → r.2.sem (c♯, sm) = 0) ∧ ∀ g' : GSem nD τ sig, g'.1.2 ≠ .tc → r.2.sem g' = 0)
    (fun r hr => ⟨fun c => (hr.1 c).1, sem_eq_zero_of_scoped (by decide +kernel) (sems_of_reads (fun c => (hr.1 c).2) hr.2)⟩) (adequate_tpu defs _ _ _
    (reflect_intro_fupd_tc_sems (Ix := Unit) (Name := ℕ) (U := UU) (Lvl := ℕ) (X := Unit) (Variants.lift 𝒱₀) (Pipeline.owing O₀) 0 (noBookings fun _ => le_rfl) (Pipeline.owing_of_ne O₀) u₀
      (fun _ => pre m) (fun _ => fin m) (fun _ => iprop(emp)) Set.univ (start_all m ρ) (fun _ c => core_run m c (p c) (hostOps1 c) rfl (hp c)) fun _ => ?_))
  have hcore (c : Dev nD) (s' : Phys nD τ sig (Elt F)) : iprop(fin m c ∗ Idealize.ShloMosaic.SI s') ⊢ (|={Set.univ}=>
      iprop(⌜Shows m c s'.mem ∧ ∀ sm : SemLoc sig, sm.isScoped .tc = true → s'.mem.sem (c♯, sm) = 0⌝ ∗ Idealize.ShloMosaic.SI s') : sProp 𝕄) := by
    unfold fin; iintro ⟨⟨Ha, Hss⟩, HSI⟩; ihave %hz := (tcScoped_read_pers c s') $$ [Hss HSI]
    · isplitl [Hss] <;> iassumption
    ihave %hr := (left_read m c s') $$ [Ha HSI]
    · isplitl [Ha] <;> iassumption
    imodintro; isplitr; · ipureintro; exact ⟨hr, hz⟩
    iexact HSI
  iintro ⟨H, -, Hsc⟩ %s' HSI; ihave %hsc := (scSems_read_zero m ρ s') $$ [Hsc HSI]
  · isplitl [Hsc] <;> iassumption
  imod (posts_fupd Finset.univ hcore s') $$ [H HSI] with %h
  · isplitl [H] <;> iassumption
  imodintro; ipureintro; exact ⟨fun c => h c (Finset.mem_univ c), hsc⟩

/-- From any memory with every counter at zero the exchange runs to an end in which all counters are zero again and every chip's
    memory is as shown. -/
theorem run_main : θ_run defs (onTc (τ := τ) (main (F := F))) ⟨m, fun _ => 0, ρ⟩ (fun r => (∀ c, Shows m c r.2) ∧ r.2.sem = fun _ => 0) := run_of m ρ main main_chain
-- ==== Proof.Cut.lean ====
/- Host operations cut in pieces: what a buffer holds after all of them, by the piece that writes it. -/
module

public import Idealize.ShloMosaic.Lib.StableHlo.Run
public import Idealize.ShloMosaic.Lib.Pipeline.Value

@[expose] public section
noncomputable section
namespace Cert.Step

open Idealize.ShloMosaic Idealize.ShloMosaic.TcCoe Idealize.ShloMosaic.StableHlo

variable {F : FTy → Type} [FloatOps F] {τ : Topo} {sig : RefSig} {l : List (HloOp τ sig (Elt F))} {L : List (Ref sig .tc)} {r : Ref sig .tc}

theorem after_cut (l : List (HloOp τ sig (Elt F))) (n : ℕ) (V : Valuation τ sig (Elt F)) : after l V = after (l.drop n) (after (l.take n) V) := by rw [← after_append, List.take_append_drop]

/-- A line that does not write a buffer leaves it. -/
theorem kept_of (hm : l.map HloOp.writes = L.map fun r => {Proc.devRef (τ := τ) .tc r}) (V : Valuation τ sig (Elt F)) (h : r ∉ L) : after l V r = V r :=
  after_of_writes_sub l V (forall_writes_sub_of_map hm) h

/-- What a buffer that the lines from `n + k` on leave holds at the end, what one that the lines before `n` leave holds at `n`, and
    what one written before line 15 only holds at `n`. -/
theorem end_of (hm : l.map HloOp.writes = L.map fun r => {Proc.devRef (τ := τ) .tc r}) (V : Valuation τ sig (Elt F)) (n k : ℕ)
    (h : r ∉ (L.drop n).drop k) : after l V r = after ((l.drop n).take k) (after (l.take n) V) r := by
  rw [after_cut l n V, after_cut (l.drop n) k]; exact kept_of (by rw [List.map_drop, List.map_drop, List.map_drop, List.map_drop, hm]) _ h
theorem start_of (hm : l.map HloOp.writes = L.map fun r => {Proc.devRef (τ := τ) .tc r}) (V : Valuation τ sig (Elt F)) (n : ℕ)
    (h : r ∉ L.take n) : after (l.take n) V r = V r :=
  kept_of (by rw [List.map_take, List.map_take, hm]) V h
theorem early_of (hm : l.map HloOp.writes = L.map fun r => {Proc.devRef (τ := τ) .tc r}) (V : Valuation τ sig (Elt F)) (n : ℕ) (hn : 15 ≤ n)
    (h : r ∉ (L.take n).drop 15) : after (l.take n) V r = after (l.take 15) V r := by
  rw [after_cut (l.take n) 15 V, List.take_take, Nat.min_eq_left hn]; exact kept_of (by rw [List.map_drop, List.map_drop, List.map_take, List.map_take, hm]) _ h
-- ==== Proof.ScatHost.lean ====
/-
The host operations after the kernel: each result is the kernel's, with this chip's own block of its array written at this
chip's place.
-/
module

public import proofs.«01_k».proof.Proof.ScatRun
public import proofs.«01_k».proof.Proof.Cut

@[expose] public section
set_option maxRecDepth 16384
noncomputable section
namespace Cert.ScatProof

open Cert.ScatIdeal Cert.ScatIdeal.Gen
open Step Idealize.ShloMosaic Idealize.ShloMosaic.TcCoe Idealize.ShloMosaic.StableHlo Idealize.SL.Sem

variable {F : FTy → Type} [FloatOps F]

set_option quotPrecheck false in
local notation "𝐬" r:max => BitVec.toInt ((_ : Valuation τ sig (Elt F)) (Proc.devRef .tc r) (Shape.Idx.first h_S_))

/-! ## The chip's place -/

/-- The chip's number as the host computes it; the same, counted from the end when negative; the place of its block. -/
def me (c : Dev nD) : (⟨S_, .i32⟩ : BufTy).Contents (Elt F) :=
  addi (muli (constantI S_ 32 2#32) (Host.remui (Host.divui (constantI S_ 32 (Dev.word c)) (constantI S_ 32 2#32)) (constantI S_ 32 2#32)))
    (Host.remui (Host.divui (constantI S_ 32 (Dev.word c)) (constantI S_ 32 1#32)) (constantI S_ 32 2#32))
def wrapped (c : Dev nD) : (⟨S_, .i32⟩ : BufTy).Contents (Elt F) := select (cmpi .slt (me (F := F) c) (constantI S_ 32 0#32)) (addi (me (F := F) c) (constantI S_ 32 4#32)) (me (F := F) c)
def at0 (c : Dev nD) (k : Fin 3) : Int := ((![wrapped (F := F) c, constantI S_ 32 0#32, constantI S_ 32 0#32] : Fin 3 → (⟨S_, .i32⟩ : BufTy).Contents (Elt F)) k (Shape.Idx.first h_S_)).toInt

/-- That place is the chip's own. -/
theorem at0_eq (c : Dev nD) (k : Fin 3) : at0 (F := F) c k = (((![c.val, 0, 0] : Fin 3 → Nat) k : Nat) : Int) := by fin_cases c <;> fin_cases k <;> rfl

/-! ## The host operations, cut in pieces -/

theorem at_congr {α : Type} {s t : Shape} {x : s.Idx → α} {q : s.Idx → α} {st st' st1 : Fin s.rank → Int} {h : s.Slices (fun _ => 0) t} {h' : s.Slices (fun _ => 0) t}
    (e : ∀ k, st k = st1 k) (e' : ∀ k, st' k = st1 k) :
    Host.dynamicUpdateSlice x (Host.dynamicSlice t q st h) st' h' = Host.dynamicUpdateSlice x (Host.dynamicSlice t q st1 h) st1 h' := by
  rw [funext e, funext e']

theorem maps (c : Dev nD) : (hostOps1 (F := F) c).map HloOp.writes = hostOps1_W.map fun r => {Proc.devRef (τ := τ) .tc r} := rfl

theorem me_of (c : Dev nD) (V : Valuation τ sig (Elt F)) : after ((hostOps1 (F := F) c).take 15) V main_v11 = me (F := F) c := by
  show after [_, _, _, _, _, _, _, _, _, _, _, _, _, _, _] V main_v11 = _; after_results_simp; rfl

/-! ## The results -/

set_option maxHeartbeats 2000000 in
theorem host0 (c : Dev nD) (V : Valuation τ sig (Elt F)) : after (hostOps1 (F := F) c) V main_v19 = Host.dynamicUpdateSlice (V main_v1_0)
    (Host.dynamicSlice S1x1024x1668 (V main_arg0) (at0 (F := F) c) sliceFits_S4x1024x1668_S1x1024x1668) (at0 (F := F) c) updateFits_S4x1024x1668_S1x1024x1668 := by
  have hV := (early_of (maps c) V 15 (by decide) (by decide)).trans (me_of c V)
  rw [end_of (maps c) V 15 16 (by decide), ← start_of (maps c) V 15 (r := main_v1_0) (by decide), ← start_of (maps c) V 15 (r := main_arg0) (by decide)]
  generalize after ((hostOps1 c).take 15) V = W at hV ⊢; show after [_, _, _, _, _, _, _, _, _, _, _, _, _, _, _, _] W _ = _; after_results_simp; refine at_congr (fun k => ?_) (fun k => ?_)
  · match k with
    | 0 => show 𝐬 main_v14 = _; after_results_simp; rw [hV]; rfl
    | 1 => show 𝐬 main_c_6 = _; after_results_simp; rfl
    | 2 => show 𝐬 main_c_7 = _; after_results_simp; rfl
  · match k with
    | 0 => show 𝐬 main_v18 = _; after_results_simp; rw [hV]; rfl
    | 1 => show 𝐬 main_c_10 = _; after_results_simp; rfl
    | 2 => show 𝐬 main_c_11 = _; after_results_simp; rfl

set_option maxHeartbeats 2000000 in
theorem host1 (c : Dev nD) (V : Valuation τ sig (Elt F)) : after (hostOps1 (F := F) c) V main_v27 = Host.dynamicUpdateSlice (V main_v1_1)
    (Host.dynamicSlice S1x1024x1408 (V main_arg1) (at0 (F := F) c) sliceFits_S4x1024x1408_S1x1024x1408) (at0 (F := F) c) updateFits_S4x1024x1408_S1x1024x1408 := by
  have hV := (early_of (maps c) V 31 (by decide) (by decide)).trans (me_of c V)
  rw [end_of (maps c) V 31 16 (by decide), ← start_of (maps c) V 31 (r := main_v1_1) (by decide), ← start_of (maps c) V 31 (r := main_arg1) (by decide)]
  generalize after ((hostOps1 c).take 31) V = W at hV ⊢; show after [_, _, _, _, _, _, _, _, _, _, _, _, _, _, _, _] W _ = _; after_results_simp; refine at_congr (fun k => ?_) (fun k => ?_)
  · match k with
    | 0 => show 𝐬 main_v22 = _; after_results_simp; rw [hV]; rfl
    | 1 => show 𝐬 main_c_14 = _; after_results_simp; rfl
    | 2 => show 𝐬 main_c_15 = _; after_results_simp; rfl
  · match k with
    | 0 => show 𝐬 main_v26 = _; after_results_simp; rw [hV]; rfl
    | 1 => show 𝐬 main_c_18 = _; after_results_simp; rfl
    | 2 => show 𝐬 main_c_19 = _; after_results_simp; rfl

set_option maxHeartbeats 2000000 in
theorem host2 (c : Dev nD) (V : Valuation τ sig (Elt F)) : after (hostOps1 (F := F) c) V main_v35 = Host.dynamicUpdateSlice (V main_v1_2)
    (Host.dynamicSlice S1x704x1024 (V main_arg2) (at0 (F := F) c) sliceFits_S4x704x1024_S1x704x1024) (at0 (F := F) c) updateFits_S4x704x1024_S1x704x1024 := by
  have hV := (early_of (maps c) V 47 (by decide) (by decide)).trans (me_of c V)
  rw [end_of (maps c) V 47 16 (by decide), ← start_of (maps c) V 47 (r := main_v1_2) (by decide), ← start_of (maps c) V 47 (r := main_arg2) (by decide)]
  generalize after ((hostOps1 c).take 47) V = W at hV ⊢; show after [_, _, _, _, _, _, _, _, _, _, _, _, _, _, _, _] W _ = _; after_results_simp; refine at_congr (fun k => ?_) (fun k => ?_)
  · match k with
    | 0 => show 𝐬 main_v30 = _; after_results_simp; rw [hV]; rfl
    | 1 => show 𝐬 main_c_22 = _; after_results_simp; rfl
    | 2 => show 𝐬 main_c_23 = _; after_results_simp; rfl
  · match k with
    | 0 => show 𝐬 main_v34 = _; after_results_simp; rw [hV]; rfl
    | 1 => show 𝐬 main_c_26 = _; after_results_simp; rfl
    | 2 => show 𝐬 main_c_27 = _; after_results_simp; rfl

set_option maxHeartbeats 2000000 in
theorem host3 (c : Dev nD) (V : Valuation τ sig (Elt F)) : after (hostOps1 (F := F) c) V main_v43 = Host.dynamicUpdateSlice (V main_v1_3)
    (Host.dynamicSlice S1x256x1024 (V main_arg3) (at0 (F := F) c) sliceFits_S4x256x1024_S1x256x1024) (at0 (F := F) c) updateFits_S4x256x1024_S1x256x1024 := by
  have hV := (early_of (maps c) V 63 (by decide) (by decide)).trans (me_of c V)
  rw [end_of (maps c) V 63 16 (by decide), ← start_of (maps c) V 63 (r := main_v1_3) (by decide), ← start_of (maps c) V 63 (r := main_arg3) (by decide)]
  generalize after ((hostOps1 c).take 63) V = W at hV ⊢; show after [_, _, _, _, _, _, _, _, _, _, _, _, _, _, _, _] W _ = _; after_results_simp; refine at_congr (fun k => ?_) (fun k => ?_)
  · match k with
    | 0 => show 𝐬 main_v38 = _; after_results_simp; rw [hV]; rfl
    | 1 => show 𝐬 main_c_30 = _; after_results_simp; rfl
    | 2 => show 𝐬 main_c_31 = _; after_results_simp; rfl
  · match k with
    | 0 => show 𝐬 main_v42 = _; after_results_simp; rw [hV]; rfl
    | 1 => show 𝐬 main_c_34 = _; after_results_simp; rfl
    | 2 => show 𝐬 main_c_35 = _; after_results_simp; rfl

set_option maxHeartbeats 2000000 in
theorem host4 (c : Dev nD) (V : Valuation τ sig (Elt F)) : after (hostOps1 (F := F) c) V main_v51 = Host.dynamicUpdateSlice (V main_v1_4)
    (Host.dynamicSlice S1x368x128 (V main_arg4) (at0 (F := F) c) sliceFits_S4x368x128_S1x368x128) (at0 (F := F) c) updateFits_S4x368x128_S1x368x128 := by
  have hV := (early_of (maps c) V 79 (by decide) (by decide)).trans (me_of c V)
  rw [end_of (maps c) V 79 16 (by decide), ← start_of (maps c) V 79 (r := main_v1_4) (by decide), ← start_of (maps c) V 79 (r := main_arg4) (by decide)]
  generalize after ((hostOps1 c).take 79) V = W at hV ⊢; show after [_, _, _, _, _, _, _, _, _, _, _, _, _, _, _, _] W _ = _; after_results_simp; refine at_congr (fun k => ?_) (fun k => ?_)
  · match k with
    | 0 => show 𝐬 main_v46 = _; after_results_simp; rw [hV]; rfl
    | 1 => show 𝐬 main_c_38 = _; after_results_simp; rfl
    | 2 => show 𝐬 main_c_39 = _; after_results_simp; rfl
  · match k with
    | 0 => show 𝐬 main_v50 = _; after_results_simp; rw [hV]; rfl
    | 1 => show 𝐬 main_c_42 = _; after_results_simp; rfl
    | 2 => show 𝐬 main_c_43 = _; after_results_simp; rfl
-- ==== Proof.ScatValue.lean ====
/-
The exchange against its reference: the reference, on one device, reads each stack of sixteen blocks as four by four, the chip
that holds a block by the chip that it is for, and turns the two about. Its run; what a chip's result shows of the others'
arrays; and that this is the chip's block of the reference's result.
-/
module

public import proofs.«01_k».proof.Proof.ScatRun
public import proofs.«01_k».proof.Proof.ScatHost
public import proofs.«01_k».proof.Proof.Gen.ScatRefIdeal
public import proofs.«01_k».proof.Proof.Gen.Scat
public import proofs.«01_k».proof.Defs
public import Idealize.ShloMosaic.Lib.StableHlo.Run
public import Idealize.ShloMosaic.Lib.Pipeline.Value
public import Idealize.ShloMosaic.Lib.WordCmp
public import Idealize.ShloMosaic.Lib.Pointwise.ShapeOpsCore

@[expose] public section
noncomputable section
namespace Cert.ScatRef

open Cert.ScatRefIdeal Cert.ScatRefIdeal.Gen
open Idealize.ShloMosaic Idealize.ShloMosaic.TcCoe Idealize.ShloMosaic.StableHlo Idealize.SL.Sem
open Cert.ScatProof (Rw Ln SO)

variable {F : FTy → Type} [FloatOps F]

/-! ## The reference -/

/-- Its arrays and results; the same as four by four blocks. -/
abbrev WI (a : Fin 5) : Shape := ⟨3, ![16, Rw a, Ln a]⟩
abbrev WQ (a : Fin 5) : Shape := ⟨4, ![4, 4, Rw a, Ln a]⟩

theorem four : ∀ a : Fin 5, (WI a).ShapeCasts (WQ a) := by decide
theorem turn : ∀ a : Fin 5, (WQ a).Transposes [1, 0, 2, 3] (WQ a) := by decide
theorem back : ∀ a : Fin 5, (WQ a).ShapeCasts (WI a) := by decide
theorem tiles : ∀ a : Fin 5, Layout.Tiles (SO a) (WI a) 0 4 := by decide

/-- The reference's result `a`. -/
def turned {α : Type} (a : Fin 5) (p : (WI a).Idx → α) : (WI a).Idx → α := shapeCast (WI a) (transpose (WQ a) [1, 0, 2, 3] (shapeCast (WQ a) p (four a)) (turn a)) (back a)

abbrev ops : List (HloOp τ sig (Elt F)) :=
  [ reshape main_arg0 main_v0 (rfl : (.bf16 : EltTy) = .bf16) shapeCasts_S16x1024x1668_S4x4x1024x1668,
    unary main_v0 main_v1 ((transpose S4x4x1024x1668 [1, 0, 2, 3] · transposes_S4x4x1024x1668_S4x4x1024x1668_1_0_2_3) : (⟨S4x4x1024x1668, .bf16⟩ : BufTy).Contents (Elt F) → (⟨S4x4x1024x1668, .bf16⟩ : BufTy).Contents (Elt F)),
    reshape main_v1 main_v2 (rfl : (.bf16 : EltTy) = .bf16) shapeCasts_S4x4x1024x1668_S16x1024x1668,
    reshape main_arg1 main_v3 (rfl : (.bf16 : EltTy) = .bf16) shapeCasts_S16x1024x1408_S4x4x1024x1408,
    unary main_v3 main_v4 ((transpose S4x4x1024x1408 [1, 0, 2, 3] · transposes_S4x4x1024x1408_S4x4x1024x1408_1_0_2_3) : (⟨S4x4x1024x1408, .bf16⟩ : BufTy).Contents (Elt F) → (⟨S4x4x1024x1408, .bf16⟩ : BufTy).Contents (Elt F)),
    reshape main_v4 main_v5 (rfl : (.bf16 : EltTy) = .bf16) shapeCasts_S4x4x1024x1408_S16x1024x1408,
    reshape main_arg2 main_v6 (rfl : (.bf16 : EltTy) = .bf16) shapeCasts_S16x704x1024_S4x4x704x1024,
    unary main_v6 main_v7 ((transpose S4x4x704x1024 [1, 0, 2, 3] · transposes_S4x4x704x1024_S4x4x704x1024_1_0_2_3) : (⟨S4x4x704x1024, .bf16⟩ : BufTy).Contents (Elt F) → (⟨S4x4x704x1024, .bf16⟩ : BufTy).Contents (Elt F)),
    reshape main_v7 main_v8 (rfl : (.bf16 : EltTy) = .bf16) shapeCasts_S4x4x704x1024_S16x704x1024,
    reshape main_arg3 main_v9 (rfl : (.bf16 : EltTy) = .bf16) shapeCasts_S16x256x1024_S4x4x256x1024,
    unary main_v9 main_v10 ((transpose S4x4x256x1024 [1, 0, 2, 3] · transposes_S4x4x256x1024_S4x4x256x1024_1_0_2_3) : (⟨S4x4x256x1024, .bf16⟩ : BufTy).Contents (Elt F) → (⟨S4x4x256x1024, .bf16⟩ : BufTy).Contents (Elt F)),
    reshape main_v10 main_v11 (rfl : (.bf16 : EltTy) = .bf16) shapeCasts_S4x4x256x1024_S16x256x1024,
    reshape main_arg4 main_v12 (rfl : (.f32 : EltTy) = .f32) shapeCasts_S16x368x128_S4x4x368x128,
    unary main_v12 main_v13 ((transpose S4x4x368x128 [1, 0, 2, 3] · transposes_S4x4x368x128_S4x4x368x128_1_0_2_3) : (⟨S4x4x368x128, .f32⟩ : BufTy).Contents (Elt F) → (⟨S4x4x368x128, .f32⟩ : BufTy).Contents (Elt F)),
    reshape main_v13 main_v14 (rfl : (.f32 : EltTy) = .f32) shapeCasts_S4x4x368x128_S16x368x128 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  by repeat (first | exact unary_bufs_sub .. | exact reshape_bufs_sub .. | exact binary_bufs_sub .. | refine ⟨?_, ?_⟩)

set_option maxHeartbeats 2000000 in
/-- The reference ends with each result turned from its array, and its arrays unchanged. -/
theorem run (m : (ℓ : Loc nD τ sig) → Buf (Elt F) ℓ) (ρ : Dev nD → PrngReg) : θ_run defs (onTc (τ := τ) (main (F := F))) ⟨m, fun _ => 0, ρ⟩ fun r => ∀ c : Dev nD,
      r.2.mem (c.tc.loc main_v2) = turned (α := Elt F .bf16) 0 (m (c.tc.loc main_arg0)) ∧ r.2.mem (c.tc.loc main_v5) = turned (α := Elt F .bf16) 1 (m (c.tc.loc main_arg1))
      ∧ r.2.mem (c.tc.loc main_v8) = turned (α := Elt F .bf16) 2 (m (c.tc.loc main_arg2)) ∧ r.2.mem (c.tc.loc main_v11) = turned (α := Elt F .bf16) 3 (m (c.tc.loc main_arg3))
      ∧ r.2.mem (c.tc.loc main_v14) = turned (α := Elt F .f32) 4 (m (c.tc.loc main_arg4)) ∧ r.2.mem (c.tc.loc main_arg0) = m (c.tc.loc main_arg0)
      ∧ r.2.mem (c.tc.loc main_arg1) = m (c.tc.loc main_arg1) ∧ r.2.mem (c.tc.loc main_arg2) = m (c.tc.loc main_arg2) ∧ r.2.mem (c.tc.loc main_arg3) = m (c.tc.loc main_arg3)
      ∧ r.2.mem (c.tc.loc main_arg4) = m (c.tc.loc main_arg4) :=
  (θ_run defs _ _).mono (fun _ h c => by and_intros <;> exact (h c _).trans (by after_results_simp <;> rfl))
    (run_seq scopedRefs_eq scopedSems_eq defs main (fun _ => ops) main_eq (fun _ => ops_sub) m ρ)

/-! ## What a result of the reference holds -/

/-- Element `(x, y)` of block `s` of a chip's array `a`; of block `(c, s)` of the four by four. -/
def at3 (a : Fin 5) (s : Fin 4) (x : Fin (Rw a)) (y : Fin (Ln a)) : (SO a).Idx := fun
  | ⟨0, _⟩ => s | ⟨1, _⟩ => x | ⟨2, _⟩ => y
def at4 (a : Fin 5) (c s : Fin 4) (x : Fin (Rw a)) (y : Fin (Ln a)) : (WQ a).Idx := fun
  | ⟨0, _⟩ => c | ⟨1, _⟩ => s | ⟨2, _⟩ => x | ⟨3, _⟩ => y

theorem at3_eta (a : Fin 5) (i : (SO a).Idx) : at3 a (i 0) (i 1) (i 2) = i := funext fun b => by fin_cases b <;> rfl

/-- Block `s` of chip `c` is block `(c, s)`. -/
theorem place (a : Fin 5) (c s : Fin 4) (u : Fin (Rw a)) (v : Fin (Ln a)) : ((WQ a).rowMajor (at4 a c s u v)).val = ((WI a).rowMajor ((tiles a).idx c (at3 a s u v))).val := by
  rw [Shape.rowMajor_val_four, Shape.rowMajor_val_three]; rfl

/-- Block `s` of chip `c` of a result of the reference is block `c` of chip `s` of its array. -/
theorem turned_apply {α : Type} (a : Fin 5) (p : (WI a).Idx → α) (c s : Fin 4) (u : Fin (Rw a)) (v : Fin (Ln a)) : turned a p ((tiles a).idx c (at3 a s u v)) = p ((tiles a).idx s (at3 a c u v)) := by
  unfold turned; refine (shapeCast_apply _ (back a) _ (at4 a c s u v) (place a c s u v)).trans ?_
  refine (transpose_apply _ _ (turn a) _ (at4 a s c u v) fun b => ?_).trans (shapeCast_apply p (four a) _ _ (place a s c u v).symm)
  fin_cases b <;> rfl

end Cert.ScatRef

namespace Cert.ScatProof

open ScatIdeal Gen
open Idealize ShloMosaic TcCoe SL.Sem
open ScatRef (at3 at3_eta WI tiles turned turned_apply)

variable {F : FTy → Type} [FloatOps F]
local notation:max c:max "♯" => (c : Thread nD τ)

/-! ## What a chip's result holds -/

/-- Element `(x, y)` of one matrix, and of a block. -/
def at2 (a : Fin 5) (x : Fin (Rw a)) (y : Fin (Ln a)) : (SM a).Idx := fun
  | ⟨0, _⟩ => x | ⟨1, _⟩ => y
def atP (a : Fin 5) (x : Fin (Rw a)) (y : Fin (Ln a)) : (SP a).Idx := fun
  | ⟨0, _⟩ => ⟨0, Nat.one_pos⟩ | ⟨1, _⟩ => x | ⟨2, _⟩ => y

/-- The block at `[s, 0, 0]` of an array holds what is at `s` of the array. -/
theorem read_blk (a : Fin 5) (M : Memref sig .tc .hbm (SO a) (ET a)) (o : Fin 3 → Nat) (h) (s : Dev nD) (ho : o = ![s.val, 0, 0]) (f : M.view.ty.Contents (Elt F)) (x : Fin (Rw a)) (y : Fin (Ln a)) :
    (blk a M o h).view.read (Elt F) f (at2 a x y) = M.view.read (Elt F) f (at3 a s x y) := by
  have h' : Shape.reshapeEquiv (sqP a).numel_eq (at2 a x y) = atP a x y := Shape.reshapeEquiv_eq_of_rowMajor _ (by
    rw [Shape.rowMajor_val_three, Shape.rowMajor_val_two]; show (0 * Rw a + x.val) * Ln a + y.val = x.val * Ln a + y.val
    rw [Nat.zero_mul, Nat.zero_add])
  show M.view.read (Elt F) f ((Rect.unit (s := SO a) o (SP a).size h).emb (Shape.reshapeEquiv (sqP a).numel_eq (at2 a x y))) = _; rw [h']; refine congrArg _ (funext fun b => Fin.ext ?_)
  show o b + 1 * (atP a x y b).val = _; rw [ho]
  fin_cases b
  · show s.val + 1 * 0 = s.val; omega
  · show 0 + 1 * x.val = x.val; omega
  · show 0 + 1 * y.val = y.val; omega

variable (m : (ℓ : Loc nD τ sig) → Buf (Elt F) ℓ)

/-- After the kernel, a result holds at every other chip's place that chip's block for this one. -/
theorem moved {c : Dev nD} {g : (a : Fin 5) → Buf (Elt F) (outLoc a c)} (h : Got m c g) (a : Fin 5) (j : Fin 3) (x : Fin (Rw a)) (y : Fin (Ln a)) :
    (outM a).view.read (Elt F) (g a) (at3 a (pal j c) x y) = (inM a).view.read (Elt F) (m (inLoc a (pal j c))) (at3 a c x y) := by
  have h1 : (dst (a, j) (pal j c)).view.read (Elt F) (g a) = (src (a, j) (pal j c)).view.read (Elt F) (m (inLoc a (pal j c))) :=
    (View.read_congr fun i hi => h a j i hi).trans (View.read_write_univ _ _)
  have h2 := congrFun h1 (at2 a x y)
  rw [show (dst (a, j) (pal j c)).view.read (Elt F) (g a) (at2 a x y) = _ from read_blk a (outM a) _ _ (pal j c) (own_eq a _) (g a) x y,
    show (src (a, j) (pal j c)).view.read (Elt F) (m (inLoc a (pal j c))) (at2 a x y) = _ from
      read_blk a (inM a) _ _ c ((pal_eq (a, j) _).trans (by rw [show peer (a, j) (pal j c) = c from peer_peer (a, j) c])) _ x y] at h2
  exact h2

/-- Block `c` of `x` replaced by block `c` of `q`. -/
def own {α : Type} (a : Fin 5) (c : Dev nD) (x q : (SO a).Idx → α) (h : (SO a).Slices (fun _ => 0) (SP a)) : (SO a).Idx → α :=
  Host.dynamicUpdateSlice x (Host.dynamicSlice (SP a) q (at0 (F := F) c) h) (at0 (F := F) c) h

theorem fits (a : Fin 5) (c : Dev nD) : (SO a).Slices (![c.val, 0, 0] : Fin 3 → Nat) (SP a) := ⟨rfl, blk_inb a c⟩

theorem own_apply {α : Type} (a : Fin 5) (c : Dev nD) (x q : (SO a).Idx → α) (h) (s : Fin 4) (u : Fin (Rw a)) (v : Fin (Ln a)) :
    own (F := F) a c x q h (at3 a s u v) = if s = c then q (at3 a s u v) else x (at3 a s u v) := by
  unfold own
  rw [Idealize.ShloMosaic.WordCmp.dynamicSlice_eq_extract (SP a) q _ h _ (fits a c) (at0_eq c), Idealize.ShloMosaic.WordCmp.dynamicUpdateSlice_eq_update x _ _ h _ (fits a c) (at0_eq c), Idealize.ShloMosaic.updateSlice_apply]
  by_cases hs : s = c
  · subst hs
    rw [if_pos rfl, dif_pos (fun b => by
      fin_cases b
      · exact ⟨le_rfl, Nat.lt_succ_self _⟩
      · exact ⟨Nat.zero_le _, (Nat.zero_add (Rw a)).symm ▸ u.isLt⟩
      · exact ⟨Nat.zero_le _, (Nat.zero_add (Ln a)).symm ▸ v.isLt⟩)]
    refine extractStridedSlice_apply _ q (fits a s) _ _ fun b => ?_
    fin_cases b
    · show s.val = s.val + (s.val - s.val); omega
    · show u.val = 0 + (u.val - 0); omega
    · show v.val = 0 + (v.val - 0); omega
  · rw [if_neg hs, dif_neg (fun hin => hs (Fin.ext (by
      have h0 := hin 0; have h1 : c.val ≤ s.val := h0.1; have h2 : s.val < c.val + 1 := h0.2
      omega)))]

theorem pal_cover : ∀ s c : Dev nD, s ≠ c → ∃ j, s = pal j c := by decide

/-- Where every chip's array `a` is its block of `p`, result `a` of chip `c` is its block of what the reference turns of `p`. -/
theorem result {c : Dev nD} {g : (a : Fin 5) → Buf (Elt F) (outLoc a c)} (h : Got m c g) (a : Fin 5) (p : (WI a).Idx → Elt F (ET a)) (h0)
    (hp : ∀ d : Dev nD, (inM a).view.read (Elt F) (m (inLoc a d)) = Layout.block (SO a) (WI a) 0 4 d p (h := tiles a)) :
    own (F := F) a c ((outM a).view.read (Elt F) (g a)) ((inM a).view.read (Elt F) (m (inLoc a c))) h0 = Layout.block (SO a) (WI a) 0 4 c (turned a p) (h := tiles a) := by
  have H (s : Fin 4) (x : Fin (Rw a)) (y : Fin (Ln a)) :
      own (F := F) a c ((outM a).view.read (Elt F) (g a)) ((inM a).view.read (Elt F) (m (inLoc a c))) h0 (at3 a s x y)
        = Layout.block (SO a) (WI a) 0 4 c (turned a p) (h := tiles a) (at3 a s x y) := by
    rw [own_apply]; refine Eq.trans ?_ (turned_apply a p c s x y).symm; by_cases hs : s = c
    · subst hs; rw [if_pos rfl, hp]; rfl
    · obtain ⟨j, rfl⟩ := pal_cover s c hs; rw [if_neg hs, moved m h, hp]; rfl
  exact funext fun i => at3_eta a i ▸ H (i 0) (i 1) (i 2)

/-! ## The end of a run -/

theorem unscoped : ∀ r ∈ ([main_arg0, main_arg1, main_arg2, main_arg3, main_arg4, main_v19, main_v27, main_v35, main_v43, main_v51] : List (Ref sig .tc)),
    Proc.devRef .tc r ∈ Pipeline.ucRefs τ sig := fun r hr => Finset.mem_filter.mpr ⟨by revert r; decide +kernel, by revert r; decide +kernel⟩

/-- No host operation writes an array. -/
theorem args {c : Dev nD} {st : MemSt nD τ sig (Elt F)} (h : Shows m c st) (a : Fin 5) : st.mem (inLoc a c) = m (inLoc a c) := by
  obtain ⟨g, -, h⟩ := h
  have H (r : Ref sig .tc) (hr : r ∉ hostOps1_W) (hu : Proc.devRef .tc r ∈ Pipeline.ucRefs τ sig) : st.mem (c♯.loc r) = W m c g r :=
    (h _ hu).trans (StableHlo.after_of_writes_sub (hostOps1 c) _ (hostOps1_writes c) hr)
  match a with
  | 0 => exact (H main_arg0 (by decide) (unscoped _ (by decide))).trans (W_in m c g 0)
  | 1 => exact (H main_arg1 (by decide) (unscoped _ (by decide))).trans (W_in m c g 1)
  | 2 => exact (H main_arg2 (by decide) (unscoped _ (by decide))).trans (W_in m c g 2)
  | 3 => exact (H main_arg3 (by decide) (unscoped _ (by decide))).trans (W_in m c g 3)
  | 4 => exact (H main_arg4 (by decide) (unscoped _ (by decide))).trans (W_in m c g 4)

/-! ## The claims -/

/-- Every run of the kernel ends with its arrays unchanged and every semaphore back at zero. -/
def Frame (F : FTy → Type) [FloatOps F] : Prop :=
  ∀ (m : (ℓ : Loc nD τ sig) → Buf (Elt F) ℓ) (g : Dev nD → PrngReg),
    θ_run (defs (F := F)) (onTc (τ := τ) (main (F := F))) ⟨m, fun _ => 0, g⟩ (fun r => (∀ c : Dev nD, r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0)

theorem frame : Frame F := fun m g => (θ_run defs _ _).mono
  (fun _ h => ⟨fun c => ⟨args m (h.1 c) 0, args m (h.1 c) 1, args m (h.1 c) 2, args m (h.1 c) 3, args m (h.1 c) 4⟩, h.2⟩) (run_main m g)

set_option maxRecDepth 16384 in
set_option maxHeartbeats 4000000 in
/-- The kernel over machine numbers is the same text. -/
theorem quiet_scat : quiescent_Scat := fun m g _ => frame (F := Bits) m g
set_option maxRecDepth 16384 in
/-- The kernel over real numbers. -/
theorem quiet_ideal : quiescent_ScatIdeal := fun m g _ => frame (F := Ideal) m g
/-- The reference has no semaphore. -/
theorem quiet_ref : quiescent_ScatRefIdeal := fun m g _ => (θ_run _ _ _).mono
  (fun r h => ⟨fun c => (h c).2.2.2.2.2, sem_eq_zero_of_no_sems rfl r.2⟩) (ScatRef.run m g)

/-- From arrays dealt in blocks, every chip's result is its block of the reference's. -/
theorem value : algebraic_ScatIdeal_ScatRefIdeal := fun m g m' g' _ hb =>
  ⟨turned (α := Elt Ideal .bf16) 0 (m' ((0 : Dev ScatRefIdeal.nD).tc.loc ScatRefIdeal.main_arg0)), turned (α := Elt Ideal .bf16) 1 (m' ((0 : Dev ScatRefIdeal.nD).tc.loc ScatRefIdeal.main_arg1)),
      turned (α := Elt Ideal .bf16) 2 (m' ((0 : Dev ScatRefIdeal.nD).tc.loc ScatRefIdeal.main_arg2)),
      turned (α := Elt Ideal .bf16) 3 (m' ((0 : Dev ScatRefIdeal.nD).tc.loc ScatRefIdeal.main_arg3)),
      turned (α := Elt Ideal .f32) 4 (m' ((0 : Dev ScatRefIdeal.nD).tc.loc ScatRefIdeal.main_arg4)),
    (θ_run defs _ _).mono (fun _ h c => by
      obtain ⟨gg, hg, hv⟩ := h.1 c
      exact ⟨((hv _ (unscoped main_v19 (by decide))).trans (host0 c _)).trans (result m hg 0 _ _ fun d => (hb d).1), ((hv _ (unscoped main_v27 (by decide))).trans (host1 c _)).trans (result m hg 1 _ _ fun d => (hb d).2.1),
        ((hv _ (unscoped main_v35 (by decide))).trans (host2 c _)).trans (result m hg 2 _ _ fun d => (hb d).2.2.1), ((hv _ (unscoped main_v43 (by decide))).trans (host3 c _)).trans (result m hg 3 _ _ fun d => (hb d).2.2.2.1),
        ((hv _ (unscoped main_v51 (by decide))).trans (host4 c _)).trans (result m hg 4 _ _ fun d => (hb d).2.2.2.2),
        args m (h.1 c) 0, args m (h.1 c) 1, args m (h.1 c) 2, args m (h.1 c) 3, args m (h.1 c) 4⟩) (run_main m g),
    (θ_run _ _ _).mono (fun _ h => h 0) (ScatRef.run m' g')⟩
-- ==== Proof.GathFlow.lean ====
/-
The gathering of the four chips' shards: the kernel's body as a list of thirty copies and their waits.

A copy is of one of five arrays, is a first one or a passed one, and names one of the three other chips. The first copy `j`
takes this core's half of this chip's array to the same core of chip `j`, into that chip's and half's place of its result.
The passed copy `j` takes what the first copy of chip `j` brought here to the other core of this chip, into the same place
there. The body starts the fifteen first copies; then for each it waits for the landing here and starts the passed copy; then
it waits for the landings of the passed copies, and for the readings of all.
-/
module

public import proofs.«01_k».proof.Proof.Gen.GathIdeal
public import proofs.«01_k».proof.Proof.Gen.GathIdeal.Launch
public import Idealize.ShloMosaic.Lib.Pipeline.Launch
public import Idealize.ShloMosaic.Lib.Pipeline.Kit
public import Idealize.ShloMosaic.Lib.Tactic

@[expose] public section
noncomputable section
namespace Cert.GathProof

open GathIdeal Gen

open Idealize.ShloMosaic
open Idealize.ShloMosaic.TcCoe
open Idealize.SL Idealize.SL.Sem

variable {F : FTy → Type} [FloatOps F]

/-! ## The five arrays -/

/-- Array `a`'s rows and lanes. -/
abbrev Rw : Fin 5 → ℕ := fun | 0 => 1024 | 1 => 1024 | 2 => 704 | 3 => 256 | 4 => 416
abbrev Ln : Fin 5 → ℕ := fun | 0 => 1668 | 1 => 1408 | 2 => 1024 | 3 => 1024 | 4 => 128

/-- The shapes of array `a` on one chip, of its result, of a half of each, and of one matrix. -/
abbrev SI (a : Fin 5) : Shape := ⟨3, ![2, Rw a, Ln a]⟩
abbrev SO (a : Fin 5) : Shape := ⟨4, ![4, 2, Rw a, Ln a]⟩
abbrev SH (a : Fin 5) : Shape := ⟨3, ![1, Rw a, Ln a]⟩
abbrev SP (a : Fin 5) : Shape := ⟨4, ![1, 1, Rw a, Ln a]⟩
abbrev SM (a : Fin 5) : Shape := ⟨2, ![Rw a, Ln a]⟩

def inM : (a : Fin 5) → Memref sig .tc .hbm (SI a) .bf16 := fun
  | 0 => Memref.whole main_arg0 | 1 => Memref.whole main_arg1 | 2 => Memref.whole main_arg2 | 3 => Memref.whole main_arg3 | 4 => Memref.whole main_arg4
def outM : (a : Fin 5) → Memref sig .tc .hbm (SO a) .bf16 := fun
  | 0 => Memref.whole main_v1_0 | 1 => Memref.whole main_v1_1 | 2 => Memref.whole main_v1_2 | 3 => Memref.whole main_v1_3 | 4 => Memref.whole main_v1_4
theorem inM_whole : ∀ a : Fin 5, (inM a).IsWhole := fun
  | 0 => Memref.isWhole_whole _ | 1 => Memref.isWhole_whole _ | 2 => Memref.isWhole_whole _ | 3 => Memref.isWhole_whole _ | 4 => Memref.isWhole_whole _
theorem outM_whole : ∀ a : Fin 5, (outM a).IsWhole := fun
  | 0 => Memref.isWhole_whole _ | 1 => Memref.isWhole_whole _ | 2 => Memref.isWhole_whole _ | 3 => Memref.isWhole_whole _ | 4 => Memref.isWhole_whole _

theorem sqH : ∀ a : Fin 5, (SH a).Squeezes (SM a) := by decide
theorem sqP : ∀ a : Fin 5, (SP a).Squeezes (SM a) := by decide

/-! ## The thirty copies -/

/-- An array and another chip; a copy: its array, whether it is a passed one, and the chip. -/
abbrev Cp : Type := Fin 5 × Fin 3
abbrev Kp : Type := Fin 5 × (Bool × Fin 3)
abbrev arr (k : Kp) : Fin 5 := k.1
abbrev one (k : Cp) : Kp := (k.1, (false, k.2))
abbrev two (k : Cp) : Kp := (k.1, (true, k.2))
/-- Places in the kernel's orders: of an array and chip, and of a copy's semaphores. -/
def pos (a : Fin 5) (j : Fin 3) : Fin 15 := ⟨3 * a.val + j.val, by omega⟩
def num (k : Kp) : Fin 30 := ⟨6 * k.1.val + (if k.2.1 then 3 else 0) + k.2.2.val, by split <;> omega⟩

/-- The device that copy `k` of device `d` goes to, which is the device that sends to `d` by copy `k`. -/
def pal : Fin 3 → Dev nD → Dev nD := ![![4, 5, 6, 7, 0, 1, 2, 3], ![2, 3, 0, 1, 6, 7, 4, 5], ![6, 7, 4, 5, 2, 3, 0, 1]]
def sib : Dev nD → Dev nD := ![1, 0, 3, 2, 5, 4, 7, 6]
def go (q : Bool × Fin 3) (d : Dev nD) : Dev nD := if q.1 then sib d else pal q.2 d
abbrev peer (k : Kp) (d : Dev nD) : Dev nD := go k.2 d
theorem peer_peer (k : Kp) (c : Dev nD) : peer k (peer k c) = c := (by decide : ∀ (q : Bool × Fin 3) (c : Dev nD), go q (go q c) = c) k.2 c

/-- Device `d`'s chip and core. -/
def chip (d : Dev nD) : ℕ := d.val / 2
def core (d : Dev nD) : ℕ := d.val % 2

/-- Where the places start and where the copies go, as the kernel computes them: this core's half of an array; this chip's and
    core's place; another chip's and this core's place; another chip's and the other core's place. -/
def halfT : Fin 5 → Dev nD → Fin 3 → Nat := ![k0_off2, k0_off4, k0_off6, k0_off8, k0_off10]
def ownT : Fin 5 → Dev nD → Fin 4 → Nat := ![k0_off1, k0_off3, k0_off5, k0_off7, k0_off9]
def nearT : Fin 15 → Dev nD → Fin 4 → Nat := ![k0_off11, k0_off12, k0_off13, k0_off14, k0_off15, k0_off16, k0_off17, k0_off18, k0_off19, k0_off20, k0_off21, k0_off22, k0_off23, k0_off24, k0_off25]
def farT : Fin 15 → Dev nD → Fin 4 → Nat := ![k0_off26, k0_off27, k0_off28, k0_off29, k0_off30, k0_off31, k0_off32, k0_off33, k0_off34, k0_off35, k0_off36, k0_off37, k0_off38, k0_off39, k0_off40]
def tgtT : Fin 30 → Dev nD → Nat :=
  ![k0_dev1, k0_dev2, k0_dev3, k0_dev16, k0_dev17, k0_dev18, k0_dev4, k0_dev5, k0_dev6, k0_dev19, k0_dev20, k0_dev21, k0_dev7, k0_dev8, k0_dev9, k0_dev22, k0_dev23,
    k0_dev24, k0_dev10, k0_dev11, k0_dev12, k0_dev25, k0_dev26, k0_dev27, k0_dev13, k0_dev14, k0_dev15, k0_dev28, k0_dev29, k0_dev30]

theorem half_eq : ∀ (a : Fin 5) (d : Dev nD), halfT a d = ![core d, 0, 0] := by decide +kernel
theorem own_eq : ∀ (a : Fin 5) (d : Dev nD), ownT a d = ![chip d, core d, 0, 0] := by decide +kernel
theorem near_eq : ∀ (a : Fin 5) (j : Fin 3) (d : Dev nD), nearT (pos a j) d = ![chip (pal j d), core d, 0, 0] := by decide +kernel
theorem far_eq : ∀ (a : Fin 5) (j : Fin 3) (d : Dev nD), farT (pos a j) d = ![chip (pal j d), core (sib d), 0, 0] := by decide +kernel
theorem tgt_eq : ∀ (k : Kp) (d : Dev nD), tgtT (num k) d = (peer k d).val := by decide +kernel
theorem tgt_lt (k : Kp) (d : Dev nD) : tgtT (num k) d < nD := by rw [tgt_eq]; exact (peer k d).isLt

/-- The place that copy `k` of device `d` writes, and the place of device `d` that the other device's writes. -/
def dstT (k : Kp) (d : Dev nD) : Fin 4 → Nat := match k.2 with
  | (false, _) => ownT k.1 d
  | (true, j) => nearT (pos k.1 j) d
def gotT (k : Kp) (d : Dev nD) : Fin 4 → Nat := match k.2 with
  | (false, j) => nearT (pos k.1 j) d
  | (true, j) => farT (pos k.1 j) d
theorem dst_off : ∀ (k : Kp) (d : Dev nD), dstT k d = ![chip (if k.2.1 then pal k.2.2 d else d), core d, 0, 0]
  | (a, (false, _)), d => own_eq a d
  | (a, (true, j)), d => near_eq a j d
theorem got_off : ∀ (k : Kp) (d : Dev nD), gotT k d = ![chip (pal k.2.2 d), core (if k.2.1 then sib d else d), 0, 0]
  | (a, (false, j)), d => near_eq a j d
  | (a, (true, j)), d => far_eq a j d

/-- A place lies in its array, and is whole rows of it. -/
theorem blk_inb (a : Fin 5) (s h : ℕ) (hs : s < 4) (hh : h < 2) (i : Fin 4) : (![s, h, 0, 0] : Fin 4 → Nat) i + (SP a).size i ≤ (SO a).size i := by
  fin_cases i
  · show s + 1 ≤ 4; omega
  · show h + 1 ≤ 2; omega
  · exact (Nat.zero_add _).le
  · exact (Nat.zero_add _).le
theorem chip_lt (d : Dev nD) : chip d < 4 := by have : d.val < 8 := d.isLt; unfold chip; omega
theorem core_lt (d : Dev nD) : core d < 2 := by unfold core; omega
theorem half_inb (a : Fin 5) (d : Dev nD) (i : Fin 3) : halfT a d i + (SH a).size i ≤ (SI a).size i := by
  rw [half_eq]; have := core_lt d
  fin_cases i
  · show core d + 1 ≤ 2; omega
  · exact (Nat.zero_add _).le
  · exact (Nat.zero_add _).le
theorem dst_inb (k : Kp) (d : Dev nD) (i : Fin 4) : dstT k d i + (SP (arr k)).size i ≤ (SO (arr k)).size i := by rw [dst_off]; exact blk_inb _ _ _ (chip_lt _) (core_lt _) i
theorem got_inb (k : Kp) (d : Dev nD) (i : Fin 4) : gotT k d i + (SP (arr k)).size i ≤ (SO (arr k)).size i := by rw [got_off]; exact blk_inb _ _ _ (chip_lt _) (core_lt _) i
theorem sem_inb : ∀ (k : Kp) (i : Fin 1), (![(num k).val] : Fin 1 → Nat) i + S1.size i ≤ S30.size i := by decide

/-- This core's half of an array, and a place of a result. -/
def hlf (a : Fin 5) (o : Fin 3 → Nat) (h : ∀ i, o i + (SH a).size i ≤ (SI a).size i) : Memref sig .tc .hbm (SM a) .bf16 :=
  ((inM a).slice (Rect.unit (s := SI a) o (SH a).size h) (fun _ => rfl)).squeeze (SM a) (sqH a)
def blk (a : Fin 5) (o : Fin 4 → Nat) (h : ∀ i, o i + (SP a).size i ≤ (SO a).size i) : Memref sig .tc .hbm (SM a) .bf16 :=
  ((outM a).slice (Rect.unit (s := SO a) o (SP a).size h) (fun _ => rfl)).squeeze (SM a) (sqP a)
theorem hlf_exact (a : Fin 5) (o : Fin 3 → Nat) (h : ∀ i, o i + (SH a).size i ≤ (SI a).size i) (h1 : o 1 = 0) : (hlf a o h).view.WordExact :=
  ((inM_whole a).wordExact_slice rfl _ (.inr ⟨(by decide : 2 ≤ 3), rfl, h1, rfl⟩)).reshape _ _
theorem blk_exact (a : Fin 5) (o : Fin 4 → Nat) (h : ∀ i, o i + (SP a).size i ≤ (SO a).size i) (h1 : o 2 = 0) : (blk a o h).view.WordExact :=
  ((outM_whole a).wordExact_slice rfl _ (.inr ⟨(by decide : 2 ≤ 4), rfl, h1, rfl⟩)).reshape _ _
theorem blk_congr (a : Fin 5) {o o' : Fin 4 → Nat} {h h'} (e : o = o') : blk a o h = blk a o' h' := by subst e; rfl

/-- What copy `k` of device `d` reads, the place it writes, and the place of this device that is written by the same copy of the other. -/
def src : (k : Kp) → Dev nD → Memref sig .tc .hbm (SM (arr k)) .bf16
  | (a, (false, _)), d => hlf a (halfT a d) (half_inb a d)
  | (a, (true, j)), d => blk a (gotT (a, (false, j)) d) (got_inb (a, (false, j)) d)
def dst (k : Kp) (d : Dev nD) : Memref sig .tc .hbm (SM (arr k)) .bf16 := blk (arr k) (dstT k d) (dst_inb k d)
def got (k : Kp) (d : Dev nD) : Memref sig .tc .hbm (SM (arr k)) .bf16 := blk (arr k) (gotT k d) (got_inb k d)
def sendS (k : Kp) : DmaSem sig := ((cc0_scratch0.slice (Rect.unit (s := S30) ![(num k).val] S1.size (sem_inb k))).squeeze S_ squeezes_S1_S_).sem
def recvS (k : Kp) : DmaSem sig := ((cc0_scratch1.slice (Rect.unit (s := S30) ![(num k).val] S1.size (sem_inb k))).squeeze S_ squeezes_S1_S_).sem

theorem src_exact : ∀ (k : Kp) (d : Dev nD), (src k d).view.WordExact
  | (a, (false, _)), d => hlf_exact _ _ _ (by rw [half_eq]; rfl)
  | (a, (true, j)), d => blk_exact _ _ _ (by rw [got_off]; rfl)
theorem dst_exact (k : Kp) (d : Dev nD) : (dst k d).view.WordExact := blk_exact _ _ _ (by rw [dst_off]; rfl)
theorem got_exact (k : Kp) (d : Dev nD) : (got k d).view.WordExact := blk_exact _ _ _ (by rw [got_off]; rfl)
theorem dst_shared : ∀ (k : Kp) (d : Dev nD), (dst k d).view.ref.isScScratch = false := by decide +kernel

/-- Copy `k` writes the place that its target waits for. -/
theorem dst_got (k : Kp) (d : Dev nD) : dst k d = got k (peer k d) := blk_congr k.1 (by
  rw [dst_off, got_off]
  exact (by decide +kernel : ∀ (q : Bool × Fin 3) (d : Dev nD), (![chip (if q.1 then pal q.2 d else d), core d, 0, 0] : Fin 4 → Nat)
    = ![chip (pal q.2 (go q d)), core (if q.1 then sib (go q d) else go q d), 0, 0]) k.2 d)

abbrev TProg (F : FTy → Type) := Prog (TpuEff nD τ sig (Elt F) Λ₀ .tc) PUnit

/-- Start copy `k`. -/
def start1 (k : Kp) (d : Dev nD) : TpuEff nD τ sig (Elt F) Λ₀ .tc PUnit :=
  .enqueueDma (src k d) (.remote (Dev.tc (⟨tgtT (num k) d, tgt_lt k d⟩ : Dev nD)) (dst k d) (.dma (sendS k)) (dst_shared k d)) (.dma (recvS k)) (src_exact k d) (dst_exact k d)
    ⟨⟨rfl, Or.inl rfl⟩, trivial⟩
/-- The two waits of copy `k`: its reading here, the other device's landing here. -/
def waitS1 (k : Kp) (d : Dev nD) : TpuEff nD τ sig (Elt F) Λ₀ .tc PUnit := .waitDma2 (sendS k) (dst k d) (src k d) (dst_exact k d) (src_exact k d)
def waitR1 (k : Kp) (d : Dev nD) : TpuEff nD τ sig (Elt F) Λ₀ .tc PUnit := .waitDma2 (recvS k) (got k d) (got k d) (got_exact k d) (got_exact k d)

/-- The first copies; the landings of the first copies, each followed by its passed copy. -/
def starts (d : Dev nD) : List Cp → TProg F → TProg F
  | [], K => K
  | k :: ks, K => Prog.op (start1 (one k) d) fun _ => starts d ks K
def passes (d : Dev nD) : List Cp → TProg F → TProg F
  | [], K => K
  | k :: ks, K => Prog.op (waitR1 (one k) d) fun _ => Prog.op (start1 (two k) d) fun _ => passes d ks K
/-- The waits of one kind. -/
def waits (w : Kp → Dev nD → TpuEff nD τ sig (Elt F) Λ₀ .tc PUnit) (f : Cp → Kp) (d : Dev nD) : List Cp → TProg F → TProg F
  | [], K => K
  | k :: ks, K => Prog.op (w (f k) d) fun _ => waits w f d ks K

def slots : List Cp := [(0, 0), (0, 1), (0, 2), (1, 0), (1, 1), (1, 2), (2, 0), (2, 1), (2, 2), (3, 0), (3, 1), (3, 2), (4, 0), (4, 1), (4, 2)]

/-- The kernel's body on its ten arrays. -/
abbrev kernel : TProg F := cc0_gather_shards (Memref.whole main_arg0) (Memref.isWhole_whole _) (Memref.whole main_arg1) (Memref.isWhole_whole _)
  (Memref.whole main_arg2) (Memref.isWhole_whole _) (Memref.whole main_arg3) (Memref.isWhole_whole _) (Memref.whole main_arg4) (Memref.isWhole_whole _)
  (Memref.whole main_v1_0) (Memref.isWhole_whole _) (Memref.whole main_v1_1) (Memref.isWhole_whole _) (Memref.whole main_v1_2) (Memref.isWhole_whole _)
  (Memref.whole main_v1_3) (Memref.isWhole_whole _) (Memref.whole main_v1_4) (Memref.isWhole_whole _) cc0_scratch0 cc0_scratch1

set_option maxRecDepth 32768 in
set_option maxHeartbeats 8000000 in
/-- The kernel is its device id, then the first copies, the passes, the last landings, and the readings. -/
theorem kernel_eq : (kernel : TProg F) = Prog.op .deviceId fun d => starts d slots (passes d slots
    (waits waitR1 two d slots (waits waitS1 one d slots (waits waitS1 two d slots (Prog.ret ⟨⟩))))) := rfl
-- ==== Proof.GathMesh.lean ====
/-
The gathering's protocol, and the kernel's body under it.

Every copy `k` of device `c` has two semaphores: `send k` here, which says that its source has been read, and `recv k` on the
device `peer k c`, which says that it has landed there. Each semaphore has one round, paid once. Paying `send k` gives this
device its source back: of a first copy a third of the half it reads, since three copies read it; of a passed copy the place
it reads, which a first copy has filled. Paying `recv k` there gives the other device the place of its result that copy `k`
writes, filled. Each device starts owning the places on other devices that its copies write.

A device that waits for a first copy still owes the other core of its chip the passed copies, so the first copies' landings are
below the passed ones' in the order of waiting.
-/
module

public import proofs.«01_k».proof.Proof.GathFlow
public import Idealize.ShloMosaic.Lib.Pipeline.BigSepL
public import Idealize.ShloMosaic.Lib.Transfers

@[expose] public section
noncomputable section
namespace Cert.GathProof

open GathIdeal Gen

open Idealize ShloMosaic TcCoe SL RA BI BIBase Laws ProofMode Sem
open Idealize.ShloMosaic.Rounds

variable {F : FTy → Type} [FloatOps F]

abbrev UU : Type := UR sig nD τ × UR sig nD τ

local notation "𝕄" => MT nD τ sig Unit (Elt F) ℕ UU ℕ
local notation:max c:max "♯" => (c : Thread nD τ)
local notation "⨂" f:max => bigSep Finset.univ f

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ)

/-! ## The other devices -/

theorem tgt_peer (k : Kp) (c : Dev nD) : (⟨tgtT (num k) c, tgt_lt k c⟩ : Dev nD) = peer k c := Fin.ext (tgt_eq k c)
/-- Changing places along copy `k`, as a permutation of the devices. -/
def turn (k : Kp) : Dev nD ≃ Dev nD := ⟨peer k, peer k, peer_peer k, peer_peer k⟩

/-! ## The semaphores -/

/-- A semaphore of the kernel: `(false, k)` is `send k`, `(true, k)` is `recv k`. -/
abbrev Cl : Type := Bool × Kp
abbrev osem (b : Cl) : SemLoc sig := .dma (match b.1 with | false => sendS b.2 | true => recvS b.2)
abbrev kcell (cb : Dev nD × Cl) : GSem nD τ sig := ((cb.1 : Thread nD τ), osem cb.2)
abbrev sendCell (c : Dev nD) (k : Kp) : GSem nD τ sig := (c♯, .dma (sendS k))
abbrev recvCell (c : Dev nD) (k : Kp) : GSem nD τ sig := (c♯, .dma (recvS k))

/-- Which of the kernel's semaphores a semaphore is. -/
def which : SemLoc sig → Cl
  | .dma q => (decide (30 ≤ q.val), (⟨q.val % 30 / 6, by omega⟩, (decide (3 ≤ q.val % 6), ⟨q.val % 3, by omega⟩)))
  | .reg _ => (false, (0, (false, 0)))
theorem which_osem : ∀ b : Cl, which (osem b) = b := by decide +kernel
theorem osem_injective : Function.Injective osem := fun a b h => by rw [← which_osem a, h, which_osem]
theorem kcell_injective : Function.Injective (kcell : Dev nD × Cl → GSem nD τ sig) := by
  rintro ⟨c, b⟩ ⟨c', b'⟩ h
  have h1 : c = c' := congrArg (fun g : GSem nD τ sig => g.1.1) h; have h2 : b = b' := osem_injective (congrArg Prod.snd h); rw [h1, h2]

/-- What a copy counts on each of its semaphores. -/
def N (k : Kp) : ℕ := (dst k 0).view.dmaCredit
theorem N_pos (k : Kp) : 0 < N k := View.dmaCredit_pos _ ((by decide +kernel : ∀ k : Kp, 0 < (SM (arr k)).numel) k)

/-! ## Contents -/

/-- What the first copy `k` of device `s` carries; what the source of a copy holds when it starts; what copy `k` of `s` carries. -/
def first (k : Cp) (s : Dev nD) : (SM k.1).Idx → Elt F .bf16 := (src (one k) s).view.read (Elt F) (m ((src (one k) s).view.loc s♯))
def cont : (k : Kp) → (s : Dev nD) → Buf (Elt F) ((src k s).view.loc s♯)
  | (a, (false, j)), s => m ((src (one (a, j)) s).view.loc s♯)
  | (a, (true, j)), s => (got (one (a, j)) s).view.write (Elt F) (m ((got (one (a, j)) s).view.loc s♯)) (first m (a, j) (peer (one (a, j)) s)) Finset.univ
def load (k : Kp) (s : Dev nD) : (SM (arr k)).Idx → Elt F .bf16 := (src k s).view.read (Elt F) (cont m k s)
/-- The part of its source that a copy takes along: a third for the three first copies of a half, all for a passed copy. -/
def part (k : Kp) : PosShare TreeShare := if k.2.1 then fullShare else Transfers.dealOf fullShare Finset.univ k.2.2

/-- A place of device `c` as it is at the start, and with `v` written into it. -/
def freeAt {a : Fin 5} (M : Memref sig .tc .hbm (SM a) .bf16) (c : Dev nD) : sProp 𝕄 := M.view.loc c♯ ↦[M.view.set]{fullShare} m (M.view.loc c♯)
def landAt {a : Fin 5} (M : Memref sig .tc .hbm (SM a) .bf16) (c : Dev nD) (v : (SM a).Idx → Elt F .bf16) : sProp 𝕄 :=
  M.view.loc c♯ ↦[M.view.set]{fullShare} M.view.write (Elt F) (m (M.view.loc c♯)) v Finset.univ

/-- What copy `k` of device `c` takes along; the place of device `c` that the other device's copy `k` goes to, as it is at the
    start, and once that copy has landed. -/
def srcPts (k : Kp) (c : Dev nD) : sProp 𝕄 := (src k c).view.loc c♯ ↦[(src k c).view.set]{part k} cont m k c
def freePts (k : Kp) (c : Dev nD) : sProp 𝕄 := freeAt m (got k c) c
def landPts (k : Kp) (c : Dev nD) : sProp 𝕄 := landAt m (got k c) c (load m k (peer k c))

/-- What a first copy brought is what the passed copy takes along. -/
theorem land_src (k : Cp) (c : Dev nD) : landPts (F := F) m (one k) c = srcPts m (two k) c := rfl

instance srcPts_storable (k : Kp) (c : Dev nD) : BI.Storable (upEmb : UEmb _ 𝕄) (srcPts (F := F) m k c) := by unfold srcPts; infer_instance
instance landPts_storable (k : Kp) (c : Dev nD) : BI.Storable (upEmb : UEmb _ 𝕄) (landPts (F := F) m k c) := by unfold landPts landAt; infer_instance

/-! ## The schedule -/

/-- What paying semaphore `b` of device `c` hands over. -/
def pay (b : Cl) (c : Dev nD) : sProp 𝕄 := match b.1 with
  | false => srcPts m b.2 c
  | true => landPts m b.2 c

instance pay_storable (b : Cl) (c : Dev nD) : BI.Storable (upEmb : UEmb _ 𝕄) (pay (F := F) m b c) := by
  rcases b with ⟨_ | _, k⟩
  · show BI.Storable upEmb (srcPts m k c); infer_instance
  · show BI.Storable upEmb (landPts m k c); infer_instance

/-- One round on every semaphore, paid once. -/
def gathRd : Rounds.Schedule (GSem nD τ sig) Unit 𝕄 where
  duties _ r := if r = 0 then {()} else ∅
  unitless _ := False
  amount g _ _ := N (which g.2).2
  payload g _ _ := pay m (which g.2) g.1.1
  amount_pos g _ _ _ := N_pos _

instance gathRd_storable (g : GSem nD τ sig) (r : ℕ) (d : Unit) : BI.Storable (upEmb : UEmb _ 𝕄) ((gathRd (F := F) m).payload g r d) := pay_storable m (which g.2) g.1.1

section Sched
omit [FloatOps F]

theorem duties_0 (g : GSem nD τ sig) : (gathRd (F := F) m).duties g 0 = {()} := by dsimp only [gathRd]; exact if_pos rfl
theorem duties_later (g : GSem nD τ sig) : ∀ r, 1 ≤ r → (gathRd (F := F) m).duties g r = ∅ := fun r hr => by dsimp only [gathRd]; exact if_neg (by omega)
theorem amount_at (c : Dev nD) (b : Cl) (u : Unit) : (gathRd (F := F) m).amount (kcell (c, b)) 0 u = N b.2 := by show N (which (osem b)).2 = N b.2; rw [which_osem]
theorem payload_at (c : Dev nD) (b : Cl) (u : Unit) : (gathRd (F := F) m).payload (kcell (c, b)) 0 u = pay m b c := by show pay m (which (osem b)) c = pay m b c; rw [which_osem]
theorem expect_at (c : Dev nD) (b : Cl) : (gathRd (F := F) m).expect (kcell (c, b)) 0 = N b.2 := by unfold Schedule.expect Schedule.amountOf; rw [duties_0, Finset.sum_singleton, amount_at]
theorem rest_at (c : Dev nD) (b : Cl) : bigSep ((gathRd (F := F) m).duties (kcell (c, b)) 0 \ ∅) (fun u => (gathRd (F := F) m).payload (kcell (c, b)) 0 u) = pay m b c := by
  rw [Finset.sdiff_empty, duties_0, bigSep_singleton, payload_at]

end Sched

/-- The order of waiting: the landings of the passed copies above all others. -/
def lv (g : GSem nD τ sig) (_ : Unit) : ℕ := if (which g.2).2.2.1 then 1 else 0
def Lw (g : GSem nD τ sig) : Finset Unit := if g.1.2 = .tc then {()} else ∅

/-- The invariants of all semaphores, that each has reached its round, and the order of waiting: what every device knows. -/
def records (K : Dev nD × Cl → ℕ) : sProp 𝕄 :=
  iprop((⨂ fun cb : Dev nD × Cl => cellInv ER (gathRd m) (K cb) (kcell cb)) ∗ (⨂ fun cb : Dev nD × Cl => reached ER (kcell cb) 0) ∗ levAts Lw lv)
instance records_persistent (K : Dev nD × Cl → ℕ) : BI.Persistent (records m K) := by unfold records; infer_instance

theorem inv_of (K : Dev nD × Cl → ℕ) (cb : Dev nD × Cl) : records m K ⊢ cellInv ER (gathRd m) (K cb) (kcell cb) := by
  unfold records; exact BI.sep_and.trans (and_elimL.trans (bigSep_elim (Finset.mem_univ cb)))
theorem reached_of (K : Dev nD × Cl → ℕ) (cb : Dev nD × Cl) : records m K ⊢ reached ER (kcell cb) 0 := by
  unfold records; exact BI.sep_and.trans (and_elimR.trans (BI.sep_and.trans (and_elimL.trans (bigSep_elim (Finset.mem_univ cb)))))
theorem levels_of (K : Dev nD × Cl → ℕ) : records m K ⊢ levAts Lw lv := by unfold records; exact BI.sep_and.trans (and_elimR.trans (BI.sep_and.trans and_elimR))

/-- What copy `k` of device `c` starts with besides its source. -/
def goPre (c : Dev nD) (k : Kp) : sProp 𝕄 := iprop(freePts m k (peer k c) ∗ dutyTok ER (sendCell c k) 0 () ∗ dutyTok ER (recvCell (peer k c) k) 0 ())
/-- What the wait for the landing of copy `k` starts with. -/
def landPre (c : Dev nD) (k : Kp) : sProp 𝕄 := iprop(cred (tallyAt (recvCell c k) () (N k)) ∗ atPos ER (recvCell c k) 0 ∅ 0)

/-- What device `c` owes other devices' semaphores before the copies of a list, where it owes `Z` after them. -/
def owed (f : Cp → Kp) (Z : CellTallies nD τ sig Unit) (c : Dev nD) : List Cp → CellTallies nD τ sig Unit
  | [] => Z
  | k :: ks => owed f Z c ks + tallyAt (recvCell (peer (f k) c) (f k)) () (N (f k))

theorem owed_pos {c : Dev nD} {g : GSem nD τ sig} {u : Unit} : ∀ ks : List Cp, 0 < owed two 0 c ks g u → g.1.2 = .tc ∧ lv g u = 1
  | [], h => absurd h (Nat.lt_irrefl 0)
  | k :: ks, h => by
    have h' : 0 < owed two 0 c ks g u + tallyAt (recvCell (peer (two k) c) (two k)) () (N (two k)) g u := h; rw [tallyAt_apply] at h'; by_cases hg : g = recvCell (peer (two k) c) (two k) ∧ u = ()
    · refine ⟨by rw [hg.1], ?_⟩; unfold lv; rw [show g.2 = osem (true, two k) by rw [hg.1], which_osem]; rfl
    · rw [if_neg hg] at h'; exact owed_pos ks h'

/-- While only passed copies are owed, one may wait for a first copy. -/
theorem may (c : Dev nD) (k : Cp) (ks : List Cp) : (levAts Lw lv : sProp 𝕄) ⊢ MayWait c♯ (osem (true, one k)) () (owed two 0 c ks) := by
  refine MayOwe.of_cut 0 (fun p _ => Finset.mem_singleton_self _) (fun g u h => ?_) (fun p hp => ?_) (fun g u h => ?_)
  · unfold Lw; rw [if_pos (owed_pos ks h).1]; exact Finset.mem_singleton_self _
  · obtain rfl := Finset.mem_singleton.mp hp; show (if (which (osem (true, one k))).2.2.1 then 1 else 0) ≤ 0; rw [which_osem]; exact le_rfl
  · rw [(owed_pos ks h).2]; exact Nat.one_pos

/-! ## The body -/

abbrev 𝒱₀ : Variants := Variants.none
set_option quotPrecheck false in
local notation:max "𝕨" c:max => wp frame (wpE (defs₀ (F := F)) 𝒱₀ (c : Thread nD τ) none) Set.univ

variable (K : Dev nD × Cl → ℕ)

set_option maxHeartbeats 800000 in
/-- One copy: the slab and the slot go in, the credit of `send k` comes out. -/
theorem wp_start1 (c n : Dev nD) (k : Kp) (hn : n = peer k c) {hsc : (dst k c).view.ref.isScScratch = false} {hsrc : (src k c).view.WordExact}
    {hdst : (dst k c).view.WordExact} {hsem : DmaTarget.Typed .hbm (.dma (recvS k)) (.remote (Dev.tc n : Thread nD τ) (dst k c) (.dma (sendS k)) hsc)}
    (T : PUnit → TProg F) (Q : PUnit → sProp 𝕄) (W : Waits sig Unit) (O : CellTallies nD τ sig Unit) :
    iprop(records m K ∗ srcPts m k c ∗ goPre m c k ∗ owes c♯ (O + tallyAt (recvCell (peer k c) k) () (N k)) W) ⊢ iprop(((cred (tallyAt (sendCell c k) () (N k)) ∗ owes c♯ O W) -∗ 𝕨 c (T ⟨⟩) Q) -∗ 𝕨 c
            (.op (.enqueueDma (src k c) (.remote (Dev.tc n : Thread nD τ) (dst k c) (.dma (sendS k)) hsc) (.dma (recvS k)) hsrc hdst hsem) T) Q) := by
  subst hn
  refine BIBase.Entails.trans ?_ (Rounds.wp_send_pointsTo (defs := defs₀ (F := F)) 𝒱₀ ER (gathRd m) c♯ none (κ₁ := K (c, (false, k))) (κ₂ := K (peer k c, (true, k)))
    (src := src k c) (dst := dst k c) (c' := (peer k c : Thread nD τ)) (sS := .dma (sendS k)) (sem := .dma (recvS k))
    (hsc := hsc) (hsrc := hsrc) (hdst := hdst) (hsem := hsem) (k := T) (Q := Q) (q := part k)
    (fs := cont m k c) (fd := m ((dst k c).view.loc (peer k c : Thread nD τ)))
    (r₁ := 0) (r₂ := 0) (d₁ := ()) (d₂ := ()) (Es := Set.univ)
    (by rw [duties_0]; exact Finset.mem_singleton_self _) (by rw [duties_0]; exact Finset.mem_singleton_self _)
    () () (N k) rfl (amount_at m c (false, k) ()) (amount_at m (peer k c) (true, k) ()) O rfl (W := W)
    (Entails.of_eq (payload_at m c (false, k) ()).symm)
    (Entails.of_eq (by
      refine Eq.trans ?_ (payload_at m (peer k c) (true, k) ()).symm; show landAt m (dst k c) (peer k c) (load m k c) = landAt m (got k (peer k c)) (peer k c) (load m k (peer k (peer k c)))
      rw [peer_peer, dst_got])))
  unfold goPre srcPts freePts; rw [← dst_got]; unfold freeAt; iintro ⟨#HR, Hs, ⟨Hd, Ht, Htp⟩, HO⟩; isplitr; · iapply (inv_of m K (c, (false, k))); iexact HR
  isplitr; · iapply (inv_of m K (peer k c, (true, k))); iexact HR
  iframe Hs Hd HO Ht; isplitr; · iapply (reached_of m K (c, (false, k))); iexact HR
  iframe Htp; iapply (reached_of m K (peer k c, (true, k))); iexact HR

/-- The first copies of a list, one after the other. -/
theorem wp_starts (c : Dev nD) (T : TProg F) (Q : PUnit → sProp 𝕄) (W : Waits sig Unit) (Z : CellTallies nD τ sig Unit) : ∀ ks : List Cp,
    iprop(records m K ∗ bigSepL ks (fun k => srcPts m (one k) c) ∗ bigSepL ks (fun k => goPre m c (one k)) ∗ owes c♯ (owed one Z c ks) W)
      ⊢ iprop(((bigSepL ks (fun k => cred (tallyAt (sendCell c (one k)) () (N (one k)))) ∗ owes c♯ Z W) -∗ 𝕨 c T Q) -∗ 𝕨 c (starts c ks T) Q)
  | [] => by
    iintro ⟨-, Hb, -, HO⟩ Hk; iapply Hk; iframe Hb; iexact HO
  | k :: ks => by
    rw [bigSepL_cons', bigSepL_cons', bigSepL_cons']; iintro ⟨#HR, ⟨Hs0, Hss⟩, ⟨Hk0, Hks⟩, HO⟩ Hk
    iapply (wp_start1 m K c _ (one k) (tgt_peer _ c) (fun _ => starts c ks T) Q W (owed one Z c ks)) $$ [Hs0 Hk0 HO]
    · isplitr; · iexact HR
      iframe Hs0 Hk0; iexact HO
    iintro ⟨Hc, HO⟩; iapply (wp_starts c T Q W Z ks) $$ [Hss Hks HO]
    · isplitr; · iexact HR
      iframe Hss Hks; iexact HO
    iintro ⟨Hcs, HO⟩; iapply Hk
    isplitl [Hc Hcs]
    · iframe Hc; iexact Hcs
    iexact HO

/-- One wait, of semaphore `b`: what its payer handed over, and its counter at zero for good. -/
theorem wp_wait1 (c : Dev nD) (b : Cl) (w : TpuEff nD τ sig (Elt F) Λ₀ .tc PUnit)
    (hw : ∀ Kt : PUnit → sProp 𝕄, wpE (defs₀ (F := F)) 𝒱₀ c♯ none Set.univ w Kt = waitSpec c♯ Set.univ (osem b) (N b.2) Kt)
    (T : PUnit → TProg F) (Q : PUnit → sProp 𝕄) (W : Waits sig Unit) (O : CellTallies nD τ sig Unit) (hO : (levAts Lw lv : sProp 𝕄) ⊢ MayWait c♯ (osem b) () O) :
    iprop(records m K ∗ cred (tallyAt (kcell (c, b)) () (N b.2)) ∗ owes c♯ O W ∗ atPos ER (kcell (c, b)) 0 ∅ 0) ⊢ iprop(((pay m b c ∗ semVal (kcell (c, b)) 0 ∗ owes c♯ O (insert (osem b, ()) W))
            -∗ 𝕨 c (T ⟨⟩) Q) -∗ 𝕨 c (.op w T) Q) := by
  iintro ⟨#HR, Hc, HO, Hat⟩ Hk; ihave #HI := (inv_of m K (c, b)) $$ HR
  iapply (Rounds.wp_wait_rest_token 𝒱₀ ER (gathRd m) c♯ none (κ := K (c, b)) hw (Set.mem_univ _) () (O := O) (W := W) (R := 0) (m := 0) (T := ∅)
      (by rw [Nat.zero_add]; exact (expect_at m c b).symm)) $$ [Hc HO Hat]
  · isplitr; · iexact HI
    iframe Hc HO; isplitr; · iapply hO; iapply (levels_of m K); iexact HR
    iexact Hat
  iintro ⟨HO, Hat, -, Hpay⟩; ihave Hp := (Entails.of_eq (rest_at m c b)) $$ Hpay
  imod (Rounds.cell_close ER (gathRd m) (Set.mem_univ (K (c, b))) (fun h => h) (R := 0 + 1) (duties_later m (kcell (c, b)))) $$ [Hat] with Hz
  · isplitr; · iexact HI
    iexact Hat
  iapply Hk; iframe Hp Hz; iexact HO

/-- The two waits of a copy are waits for its amount on its two semaphores. -/
theorem waitS1_eq (c : Dev nD) (k : Kp) (Kt : PUnit → sProp 𝕄) : wpE (defs₀ (F := F)) 𝒱₀ c♯ none Set.univ (waitS1 k c) Kt = waitSpec c♯ Set.univ (osem (false, k)) (N k) Kt := rfl
theorem waitR1_eq (c : Dev nD) (k : Kp) (Kt : PUnit → sProp 𝕄) : wpE (defs₀ (F := F)) 𝒱₀ c♯ none Set.univ (waitR1 k c) Kt = waitSpec c♯ Set.univ (osem (true, k)) (N k) Kt := rfl

/-- The landings of the first copies of a list, each passed on: what the passed copies take along is what landed. -/
theorem wp_passes (c : Dev nD) (T : TProg F) (Q : PUnit → sProp 𝕄) : ∀ (ks : List Cp) (W : Waits sig Unit),
    iprop(records m K ∗ bigSepL ks (fun k => landPre (F := F) c (one k)) ∗ bigSepL ks (fun k => goPre m c (two k)) ∗ owes c♯ (owed two 0 c ks) W)
      ⊢ iprop(((bigSepL ks (fun k => semVal (recvCell c (one k)) 0) ∗ bigSepL ks (fun k => cred (tallyAt (sendCell c (two k)) () (N (two k)))) ∗ ∃ W', owes c♯ 0 W') -∗ 𝕨 c T Q)
          -∗ 𝕨 c (passes c ks T) Q)
  | [], W => by
    iintro ⟨-, Ha, Hb, HO⟩ Hk; iapply Hk; iframe Ha Hb; iexists W; iexact HO
  | k :: ks, W => by
    rw [bigSepL_cons', bigSepL_cons', bigSepL_cons', bigSepL_cons']; unfold landPre; iintro ⟨#HR, ⟨⟨Hc, Ha⟩, Hls⟩, ⟨Hg, Hgs⟩, HO⟩ Hk
    iapply (wp_wait1 m K c (true, one k) (waitR1 (one k) c) (waitR1_eq c (one k)) (fun _ => Prog.op (start1 (two k) c) fun _ => passes c ks T) Q W
      (owed two 0 c (k :: ks)) (may c k (k :: ks))) $$ [Hc HO Ha]
    · isplitr; · iexact HR
      iframe Hc HO; iexact Ha
    iintro ⟨Hp, Hz, HO⟩; ihave Hs := (show pay m (true, one k) c ⊢ srcPts m (two k) c from Entails.of_eq (land_src m k c)) $$ Hp
    iapply (wp_start1 m K c _ (two k) (tgt_peer _ c) (fun _ => passes c ks T) Q _ (owed two 0 c ks)) $$ [Hs Hg HO]
    · isplitr; · iexact HR
      iframe Hs Hg; iexact HO
    iintro ⟨Hc, HO⟩; iapply (wp_passes c T Q ks _) $$ [Hls Hgs HO]
    · isplitr; · iexact HR
      iframe Hls Hgs; iexact HO
    iintro ⟨Hzs, Hcs, HO⟩; iapply Hk
    isplitl [Hz Hzs]
    · iframe Hz; iexact Hzs
    isplitl [Hc Hcs]
    · iframe Hc; iexact Hcs
    iexact HO

/-- All waits of a list, all of one kind `b`. -/
theorem wp_waits (c : Dev nD) (b : Bool) (w : Kp → Dev nD → TpuEff nD τ sig (Elt F) Λ₀ .tc PUnit) (hw : ∀ (k : Kp) (Kt : PUnit → sProp 𝕄),
      wpE (defs₀ (F := F)) 𝒱₀ c♯ none Set.univ (w k c) Kt = waitSpec c♯ Set.univ (osem (b, k)) (N k) Kt) (f : Cp → Kp) (T : TProg F) (Q : PUnit → sProp 𝕄) : ∀ (ks : List Cp) (W : Waits sig Unit),
    iprop(records m K ∗ bigSepL ks (fun k => cred (tallyAt (kcell (c, (b, f k))) () (N (f k)))) ∗ bigSepL ks (fun k => atPos ER (kcell (c, (b, f k))) 0 ∅ 0) ∗ owes c♯ 0 W)
      ⊢ iprop(((bigSepL ks (fun k => pay m (b, f k) c) ∗ bigSepL ks (fun k => semVal (kcell (c, (b, f k))) 0) ∗ ∃ W', owes c♯ 0 W') -∗ 𝕨 c T Q) -∗ 𝕨 c (waits w f c ks T) Q)
  | [], W => by
    iintro ⟨-, Ha, Hb, HO⟩ Hk; iapply Hk; iframe Ha Hb; iexists W; iexact HO
  | k :: ks, W => by
    rw [bigSepL_cons', bigSepL_cons', bigSepL_cons', bigSepL_cons']; iintro ⟨#HR, ⟨Hc, Hcs⟩, ⟨Ha, Has⟩, HO⟩ Hk
    iapply (wp_wait1 m K c (b, f k) (w (f k) c) (hw (f k)) (fun _ => waits w f c ks T) Q W 0 (by rw [MayWait_zero]; exact BI.Affine.affine)) $$ [Hc HO Ha]
    · isplitr; · iexact HR
      iframe Hc HO; iexact Ha
    iintro ⟨Hp, Hz, HO⟩; iapply (wp_waits c b w hw f T Q ks _) $$ [Hcs Has HO]
    · isplitr; · iexact HR
      iframe Hcs Has; iexact HO
    iintro ⟨Hps, Hzs, HO⟩; iapply Hk
    isplitl [Hp Hps]
    · iframe Hp; iexact Hps
    isplitl [Hz Hzs]
    · iframe Hz; iexact Hzs
    iexact HO

/-- What the body starts and ends with, besides what it owes. -/
def bodyPre (c : Dev nD) : sProp 𝕄 :=
  iprop(records m K ∗ (⨂ fun k : Cp => srcPts m (one k) c) ∗ (⨂ fun k : Cp => goPre m c (one k))
    ∗ (⨂ fun k : Cp => goPre m c (two k)) ∗ (⨂ fun k : Cp => landPre (F := F) c (one k)) ∗ (⨂ fun k : Cp => landPre (F := F) c (two k))
    ∗ (⨂ fun k : Cp => atPos ER (sendCell c (one k)) 0 ∅ 0) ∗ ⨂ fun k : Cp => atPos ER (sendCell c (two k)) 0 ∅ 0)
def bodyPost (c : Dev nD) : sProp 𝕄 :=
  iprop(((⨂ fun k : Cp => srcPts m (one k) c) ∗ (⨂ fun k : Cp => srcPts m (two k) c) ∗ ⨂ fun k : Cp => landPts m (two k) c)
    ∗ ((⨂ fun k : Cp => semVal (sendCell c (one k)) 0) ∗ ⨂ fun k : Cp => semVal (sendCell c (two k)) 0)
    ∗ (⨂ fun k : Cp => semVal (recvCell c (one k)) 0) ∗ ⨂ fun k : Cp => semVal (recvCell c (two k)) 0)

theorem slots_univ : (Finset.univ : Finset Cp) = slots.toFinset := by decide
theorem slots_nodup : slots.Nodup := by decide
theorem bigSep_slots (Φ : Cp → sProp 𝕄) : bigSep Finset.univ Φ = bigSepL slots Φ := bigSep_univ_eq_bigSepL slots slots_univ slots_nodup Φ

/-- What a device owes at the start: the landings of its thirty copies. -/
def O₀ (c : Dev nD) : CellTallies nD τ sig Unit := owed one (owed two 0 c slots) c slots

/-- The body. -/
theorem sound_body (c : Dev nD) (Q : PUnit → sProp 𝕄) (W : Waits sig Unit) : iprop(bodyPre m K c ∗ owes c♯ (O₀ c) W ∗ ((bodyPost m c ∗ ∃ W', owes c♯ 0 W') -∗ Q ⟨⟩)) ⊢ 𝕨 c (kernel : TProg F) Q := by
  rw [kernel_eq]
  have e : (⨂ fun k : Cp => landPre (F := F) c (two k))
      = iprop((⨂ fun k : Cp => cred (tallyAt (recvCell c (two k)) () (N (two k)))) ∗ ⨂ fun k : Cp => atPos ER (recvCell c (two k)) 0 ∅ 0) := by
    unfold landPre; rw [bigSep_sep']
  unfold bodyPre bodyPost O₀; rw [e]; simp only [bigSep_slots]; simp only [wp_deviceId]; iintro ⟨⟨#HR, Hs, Hg1, Hg2, Hl1, ⟨Hl2, Hl3⟩, Ha1, Ha2⟩, HO, Hk⟩
  iapply (wp_starts m K c (passes c slots (waits waitR1 two c slots (waits waitS1 one c slots (waits waitS1 two c slots (Prog.ret ⟨⟩))))) Q W (owed two 0 c slots) slots) $$ [Hs Hg1 HO]
  · isplitr; · iexact HR
    iframe Hs Hg1; iexact HO
  iintro ⟨Hc1, HO⟩; iapply (wp_passes m K c (waits waitR1 two c slots (waits waitS1 one c slots (waits waitS1 two c slots (Prog.ret ⟨⟩)))) Q slots W) $$ [Hl1 Hg2 HO]
  · isplitr; · iexact HR
    iframe Hl1 Hg2; iexact HO
  iintro ⟨Hz1, Hc2, ⟨%W1, HO⟩⟩; iapply (wp_waits m K c true waitR1 (waitR1_eq c) two (waits waitS1 one c slots (waits waitS1 two c slots (Prog.ret ⟨⟩))) Q slots W1) $$ [Hl2 Hl3 HO]
  · isplitr; · iexact HR
    iframe Hl2 Hl3; iexact HO
  iintro ⟨Hp, Hz2, ⟨%W2, HO⟩⟩; iapply (wp_waits m K c false waitS1 (waitS1_eq c) one (waits waitS1 two c slots (Prog.ret ⟨⟩)) Q slots W2) $$ [Hc1 Ha1 HO]
  · isplitr; · iexact HR
    iframe Hc1 Ha1; iexact HO
  iintro ⟨Hs1, Hy1, ⟨%W3, HO⟩⟩; iapply (wp_waits m K c false waitS1 (waitS1_eq c) two (Prog.ret ⟨⟩) Q slots W3) $$ [Hc2 Ha2 HO]
  · isplitr; · iexact HR
    iframe Hc2 Ha2; iexact HO
  iintro ⟨Hs2, Hy2, HO⟩; rw [wp_ret]; imodintro; iapply Hk
  isplitr [HO]
  · isplitl [Hs1 Hs2 Hp]
    · iframe Hs1 Hs2; iexact Hp
    isplitl [Hy1 Hy2]
    · iframe Hy1; iexact Hy2
    iframe Hz1; iexact Hz2
  iexact HO
-- ==== Proof.GathDeal.lean ====
/-
The gathering's launch, first part: how the eight devices' buffers are cut into halves and places and joined again, and how the
devices' holdings, the semaphores and the protocol's own records are dealt: each device gets the places on the others that its
copies write.
-/
module

public import proofs.«01_k».proof.Proof.GathMesh
public import Idealize.ShloMosaic.Lib.Pipeline.Frame

@[expose] public section
noncomputable section
namespace Cert.GathProof

open GathIdeal Gen

open Idealize ShloMosaic TcCoe SL RA BI BIBase Laws ProofMode Sem
open Idealize.ShloMosaic.Rounds

variable {F : FTy → Type} [FloatOps F]

local notation "𝕄" => MT nD τ sig Unit (Elt F) ℕ UU ℕ
local notation:max c:max "♯" => (c : Thread nD τ)
local notation "⨂" f:max => bigSep Finset.univ f

variable (m : (ℓ : Loc nD τ sig) → Buf (Elt F) ℓ) (ρ : Dev nD → PrngReg)

/-! ## Places -/

/-- Array `a` of device `c`, and its result. -/
abbrev inLoc (a : Fin 5) (c : Dev nD) : Loc nD τ sig := (inM a).view.loc c♯
abbrev outLoc (a : Fin 5) (c : Dev nD) : Loc nD τ sig := (outM a).view.loc c♯

/-- The elements of array `a` that device `c`'s first copies read; the elements of result `a` that a copy to it writes. -/
def slab (a : Fin 5) (c : Dev nD) : Finset (Idx (inLoc a c)) := (src (a, (false, 0)) c).view.set
def room (a : Fin 5) (c : Dev nD) (q : Bool × Fin 3) : Finset (Idx (outLoc a c)) := (got (a, q) c).view.set

theorem blk_set (a : Fin 5) (o : Fin 4 → Nat) (h : ∀ i, o i + (SP a).size i ≤ (SO a).size i) : (blk a o h).view.set = (Rect.unit (s := SO a) o (SP a).size h).set.map (outM a).view.emb :=
  (View.set_reshape _ _).trans (View.set_slice _ _)

/-- Different places do not meet. -/
theorem blk_disjoint (a : Fin 5) (o o' : Fin 4 → Nat) (h h') (e : o 0 ≠ o' 0 ∨ o 1 ≠ o' 1) : Disjoint (blk a o h).view.set (blk a o' h').view.set := by
  rw [blk_set, blk_set]; refine (Finset.disjoint_map _).mpr ?_; rcases e with e | e
  · refine Rect.unit_disjoint 0 ?_; show o 0 + 1 ≤ o' 0 ∨ o' 0 + 1 ≤ o 0; omega
  · refine Rect.unit_disjoint 1 ?_; show o 1 + 1 ≤ o' 1 ∨ o' 1 + 1 ≤ o 1; omega
theorem room_disjoint (a : Fin 5) (c : Dev nD) : ∀ i ∈ (Finset.univ : Finset (Bool × Fin 3)), ∀ j ∈ (Finset.univ : Finset (Bool × Fin 3)), i ≠ j →
    Disjoint (room a c i) (room a c j) := fun i _ j _ h => blk_disjoint a _ _ _ _ (by
  rw [got_off, got_off]
  exact (by decide +kernel : ∀ (q q' : Bool × Fin 3) (c : Dev nD), q ≠ q' → chip (pal q.2 c) ≠ chip (pal q'.2 c)
    ∨ core (if q.1 then sib c else c) ≠ core (if q'.1 then sib c else c)) i j c h)

/-- What device `c`'s result `a` holds where copy `q` has landed. -/
def landed (a : Fin 5) (c : Dev nD) (q : Bool × Fin 3) : Buf (Elt F) (outLoc a c) := (got (a, q) c).view.write (Elt F) (m (outLoc a c)) (load m (a, q) (peer (a, q) c)) Finset.univ

/-- What of array `a` and of its result device `c` keeps while the copies are on their way. -/
def keptIn (a : Fin 5) (c : Dev nD) : sProp 𝕄 := inLoc a c ↦[Finset.univ \ slab a c]{fullShare} m (inLoc a c)
def keptOut (a : Fin 5) (c : Dev nD) : sProp 𝕄 := outLoc a c ↦[Finset.univ \ Finset.univ.biUnion (room a c)]{fullShare} m (outLoc a c)

theorem in_cut (a : Fin 5) (c : Dev nD) : (inLoc a c ↦{fullShare} m (inLoc a c) : sProp 𝕄) ⊣⊢ iprop((⨂ fun j => srcPts m (one (a, j)) c) ∗ keptIn m a c) := by
  have h := pointsTo_split_subset (Ix := Unit) (Name := ℕ) (U := UU) (Lvl := ℕ) (q := fullShare) (f := m (inLoc a c)) (Finset.subset_univ (slab a c))
  rw [Transfers.pointsTo_deal (ℓ := inLoc a c) (S := slab a c) (f := m (inLoc a c)) (Finset.univ : Finset (Fin 3)) ⟨0, Finset.mem_univ 0⟩ fullShare] at h; exact h
theorem out_cut (a : Fin 5) (c : Dev nD) : (outLoc a c ↦{fullShare} m (outLoc a c) : sProp 𝕄) ⊢ iprop((⨂ fun q => freePts m (a, q) c) ∗ keptOut m a c) := by
  have h := pointsTo_split_subset (Ix := Unit) (Name := ℕ) (U := UU) (Lvl := ℕ) (q := fullShare) (f := m (outLoc a c)) (Finset.subset_univ (Finset.univ.biUnion (room a c)))
  rw [pointsTo_biUnion Finset.univ (room a c) (room_disjoint a c)] at h; exact h.1
/-- The places of a result, with what landed in them, and the rest of it, are a whole result that holds what landed. -/
theorem out_join (a : Fin 5) (c : Dev nD) : iprop((⨂ fun q => landPts m (a, q) c) ∗ keptOut m a c)
      ⊢ (iprop(∃ g : Buf (Elt F) (outLoc a c), ⌜∀ j, ∀ i ∈ room a c j, g i = landed m a c j i⌝ ∗ outLoc a c ↦{fullShare} g) : sProp 𝕄) := by
  classical
  have hj := pointsTo_biUnion_join (Ix := Unit) (Name := ℕ) (U := UU) (Lvl := ℕ) (q := fullShare) Finset.univ (room a c) (landed m a c) (m (outLoc a c)) (room_disjoint a c)
  refine BIBase.Entails.trans (sep_mono_left hj) ?_; unfold keptOut; iintro ⟨⟨%g, %hg, H⟩, Hk⟩
  have e1 : (outLoc a c ↦[Finset.univ.biUnion (room a c)]{fullShare} g : sProp 𝕄)
      = outLoc a c ↦[Finset.univ.biUnion (room a c)]{fullShare} fun i => if i ∈ Finset.univ.biUnion (room a c) then g i else m (outLoc a c) i :=
    pointsTo_congr fun i hi => (if_pos hi).symm
  have e2 : (outLoc a c ↦[Finset.univ \ Finset.univ.biUnion (room a c)]{fullShare} m (outLoc a c) : sProp 𝕄)
      = outLoc a c ↦[Finset.univ \ Finset.univ.biUnion (room a c)]{fullShare} fun i => if i ∈ Finset.univ.biUnion (room a c) then g i else m (outLoc a c) i :=
    pointsTo_congr fun i hi => (if_neg (Finset.mem_sdiff.mp hi).2).symm
  iexists fun i => if i ∈ Finset.univ.biUnion (room a c) then g i else m (outLoc a c) i
  isplitr
  · ipureintro; exact fun j i hi => (if_pos (Finset.mem_biUnion.mpr ⟨j, Finset.mem_univ j, hi⟩)).trans (hg j (Finset.mem_univ j) i hi)
  ihave H' := (Entails.of_eq e1) $$ H; ihave Hk' := (Entails.of_eq e2) $$ Hk; iapply (pointsTo_split_subset (Finset.subset_univ (Finset.univ.biUnion (room a c)))).2
  isplitl [H'] <;> iassumption

theorem bigSep_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ
theorem bigSep_bool {I : Type} [DecidableEq I] [Fintype I] (Φ : Bool × I → sProp 𝕄) : bigSep Finset.univ Φ = iprop((⨂ fun k => Φ (false, k)) ∗ ⨂ fun k => Φ (true, k)) := by
  rw [bigSep_univ_prod, bigSep_univ_eq_bigSepL [false, true] (by decide) (by decide)]; rfl
theorem bigSep_cl (Φ : Cl → sProp 𝕄) : bigSep Finset.univ Φ = iprop((⨂ fun k => Φ (false, k)) ∗ ⨂ fun k => Φ (true, k)) := bigSep_bool Φ
/-- First and passed copies apart. -/
theorem bigSep_kp (Φ : Kp → sProp 𝕄) : bigSep Finset.univ Φ = iprop((⨂ fun k : Cp => Φ (one k)) ∗ ⨂ fun k : Cp => Φ (two k)) := by
  rw [bigSep_univ_prod Φ, bigSep_congr fun a _ => bigSep_bool fun q => Φ (a, q), bigSep_sep', bigSep_univ_prod (fun k : Cp => Φ (one k)), bigSep_univ_prod (fun k : Cp => Φ (two k))]

/-! ## A device's buffers -/

/-- The ten buffers of the kernel: `(false, a)` is array `a`, `(true, a)` its result. -/
def bufOf (x : Bool × Fin 5) : DevRef τ sig := match x.1 with
  | false => (inM x.2).view.ref
  | true => (outM x.2).view.ref
theorem bufOf_injective : Function.Injective bufOf := by decide +kernel
def ten : Finset (DevRef τ sig) := Finset.univ.map ⟨bufOf, bufOf_injective⟩
theorem ten_sub : ten ⊆ Pipeline.ucRefs τ sig := fun b hb => by
  obtain ⟨x, -, rfl⟩ := Finset.mem_map.mp hb; exact Finset.mem_filter.mpr ⟨by revert x; decide +kernel, by revert x; decide +kernel⟩

/-- The buffers' contents at the start, and with the results at `g`. -/
abbrev V₀ (c : Dev nD) : Valuation τ sig (Elt F) := fun b => m (c, b)
abbrev W (c : Dev nD) (g : (a : Fin 5) → Buf (Elt F) (outLoc a c)) : Valuation τ sig (Elt F) :=
  Function.update (Function.update (Function.update (Function.update (Function.update (V₀ m c) main_v1_0 (g 0)) main_v1_1 (g 1)) main_v1_2 (g 2)) main_v1_3 (g 3)) main_v1_4 (g 4)

theorem held_ten (c : Dev nD) (V : Valuation τ sig (Elt F)) : (StableHlo.held c♯ ten V : sProp 𝕄) = iprop((⨂ fun a => (inLoc a c ↦{fullShare} V (bufOf (false, a)) : sProp 𝕄))
          ∗ ⨂ fun a => (outLoc a c ↦{fullShare} V (bufOf (true, a)) : sProp 𝕄)) := by
  unfold StableHlo.held ten; rw [bigSep_map, bigSep_bool]; rfl

/-- What device `c` keeps, of its arrays, of its results, and every other buffer. -/
def others (c : Dev nD) : sProp 𝕄 := StableHlo.held c♯ (Pipeline.ucRefs τ sig \ ten) (V₀ m c)
def kept (c : Dev nD) : sProp 𝕄 := iprop((⨂ fun a => keptIn m a c) ∗ (⨂ fun a => keptOut m a c) ∗ others m c)

/-- A device's buffers, as what it sends, what it will be sent, and what it keeps. -/
theorem cut (c : Dev nD) : (unscopedBufs c (fun b => m (c♯.loc b)) : sProp 𝕄) ⊢ iprop((⨂ fun k : Cp => srcPts m (one k) c) ∗ (⨂ fun k => freePts m k c) ∗ kept m c) := by
  rw [show (unscopedBufs c (fun b => m (c♯.loc b)) : sProp 𝕄) = StableHlo.held c♯ (Pipeline.ucRefs τ sig) (V₀ m c)
    from Pipeline.unscopedBufs_held (Ix := Unit) (Name := ℕ) (U := UU) (Lvl := ℕ) c (V₀ m c), StableHlo.held_sub_split _ ten_sub, held_ten]
  refine BIBase.Entails.trans (BIClass.sep_mono (BIClass.sep_mono (bigSep_mono fun a _ => (in_cut m a c).1) (bigSep_mono fun a _ => out_cut m a c)) .rfl) ?_
  rw [bigSep_sep', bigSep_sep', bigSep_univ_prod (fun k : Cp => srcPts m (one k) c), bigSep_univ_prod (fun k : Kp => freePts m k c)]; unfold kept others; iintro ⟨⟨⟨H1, H2⟩, H3, H4⟩, H5⟩
  iframe H1 H3 H2 H4; iexact H5

/-- What the results must hold after the kernel. -/
def Got (c : Dev nD) (g : (a : Fin 5) → Buf (Elt F) (outLoc a c)) : Prop := ∀ a j, ∀ i ∈ room a c j, g a i = landed m a c j i

theorem W_in (c : Dev nD) (g : (a : Fin 5) → Buf (Elt F) (outLoc a c)) : ∀ a : Fin 5, W m c g (bufOf (false, a)) = m (inLoc a c) := fun
  | 0 => rfl | 1 => rfl | 2 => rfl | 3 => rfl | 4 => rfl
theorem W_out (c : Dev nD) (g : (a : Fin 5) → Buf (Elt F) (outLoc a c)) : ∀ a : Fin 5, W m c g (bufOf (true, a)) = g a := fun
  | 0 => rfl | 1 => rfl | 2 => rfl | 3 => rfl | 4 => rfl
theorem W_others (c : Dev nD) (g : (a : Fin 5) → Buf (Elt F) (outLoc a c)) (b : DevRef τ sig) (hb : b ∈ Pipeline.ucRefs τ sig \ ten) : W m c g b = V₀ m c b := by
  have h : ∀ a, b ≠ bufOf (true, a) := fun a e => (Finset.mem_sdiff.mp hb).2 (Finset.mem_map.mpr ⟨(true, a), Finset.mem_univ _, e.symm⟩)
  exact (Function.update_of_ne (h 4) _ _).trans ((Function.update_of_ne (h 3) _ _).trans ((Function.update_of_ne (h 2) _ _).trans
    ((Function.update_of_ne (h 1) _ _).trans (Function.update_of_ne (h 0) _ _))))

theorem held_W (c : Dev nD) (g : (a : Fin 5) → Buf (Elt F) (outLoc a c)) : (StableHlo.held c♯ ten (W m c g) : sProp 𝕄)
      = iprop((⨂ fun a => (inLoc a c ↦{fullShare} m (inLoc a c) : sProp 𝕄)) ∗ ⨂ fun a => (outLoc a c ↦{fullShare} g a : sProp 𝕄)) :=
  (held_ten c _).trans (congrArg₂ (fun x y : sProp 𝕄 => iprop(x ∗ y)) (bigSep_congr fun a _ => congrArg (fun f => (inLoc a c ↦{fullShare} f : sProp 𝕄)) (W_in m c g a))
    (bigSep_congr fun a _ => congrArg (fun f => (outLoc a c ↦{fullShare} f : sProp 𝕄)) (W_out m c g a)))

/-- One choice for all results. -/
theorem out_joins (c : Dev nD) : iprop((⨂ fun k => landPts m k c) ∗ ⨂ fun a => keptOut m a c) ⊢ (iprop(∃ g, ⌜Got m c g⌝ ∗ ⨂ fun a => outLoc a c ↦{fullShare} g a) : sProp 𝕄) := by
  rw [bigSep_univ_prod (fun k : Kp => landPts m k c), ← bigSep_sep']; refine BIBase.Entails.trans (bigSep_mono fun a _ => out_join m a c) ?_
  haveI : ∀ a : Fin 5, Nonempty (Buf (Elt F) (outLoc a c)) := fun a => ⟨m (outLoc a c)⟩
  refine BIBase.Entails.trans (BI.bigSep_exists_pi Finset.univ (fun (a : Fin 5) (g : Buf (Elt F) (outLoc a c)) =>
    (iprop(⌜∀ j, ∀ i ∈ room a c j, g i = landed m a c j i⌝ ∗ outLoc a c ↦{fullShare} g) : sProp 𝕄))) ?_
  iintro ⟨%g, H⟩; ihave H' := (bigSep_pure_sep Finset.univ (fun a => ∀ j, ∀ i ∈ room a c j, g a i = landed m a c j i) (fun a => (outLoc a c ↦{fullShare} g a : sProp 𝕄))) $$ H
  icases H' with ⟨%hg, H'⟩; iexists g; isplitr; · ipureintro; exact fun a => hg a (Finset.mem_univ a)
  iexact H'

theorem ins_join (c : Dev nD) : iprop((⨂ fun a : Fin 5 => ⨂ fun j : Fin 3 => srcPts m (one (a, j)) c) ∗ ⨂ fun a => keptIn m a c) ⊢ (⨂ fun a => (inLoc a c ↦{fullShare} m (inLoc a c) : sProp 𝕄)) := by
  rw [← bigSep_sep']; exact bigSep_mono fun a _ => (in_cut m a c).2

/-- What a device sent, what landed with it and what it kept, as all its buffers with the results at some contents that hold what landed. -/
theorem uncut (c : Dev nD) : iprop((⨂ fun k : Cp => srcPts m (one k) c) ∗ (⨂ fun k => landPts m k c) ∗ kept m c)
      ⊢ (iprop(∃ g, ⌜Got m c g⌝ ∗ StableHlo.held c♯ (Pipeline.ucRefs τ sig) (W m c g)) : sProp 𝕄) := by
  unfold kept others; rw [bigSep_univ_prod (fun k : Cp => srcPts m (one k) c)]; iintro ⟨H1, H2, H3, H4, H5⟩; ihave H := (out_joins m c) $$ [H2 H4]
  · isplitl [H2] <;> iassumption
  icases H with ⟨%g, %hg, H⟩; ihave Hi := (ins_join m c) $$ [H1 H3]
  · isplitl [H1] <;> iassumption
  iexists g; isplitr; · ipureintro; exact hg
  ihave H5' := (Entails.of_eq (StableHlo.held_congr c♯ fun b hb => (W_others m c g b hb).symm)) $$ H5; iapply (Entails.of_eq (StableHlo.held_sub_split _ ten_sub (W m c g)).symm)
  isplitr [H5']
  · iapply (Entails.of_eq (held_W m c g).symm)
    isplitl [Hi] <;> iassumption
  iexact H5'

/-! ## The protocol's records -/

theorem ownSemFacts : Pipeline.OwnSemFacts cfg0.spec osem := ⟨by decide +kernel, osem_injective, fun _ w => w.elim0⟩

def gathCells : Finset (GSem nD τ sig) := Finset.univ.map ⟨kcell, kcell_injective⟩
def gathToks : Finset (GSem nD τ sig × ℕ × Unit) := Finset.univ.map ⟨fun cb : Dev nD × Cl => (kcell cb, 0, ()), fun _ _ h => kcell_injective (congrArg Prod.fst h)⟩

def u₀ : UU := (initOf (Pipeline.cells cfgs cellOf_inj) (Pipeline.launchToks cfgs cellOf_inj), initOf gathCells gathToks)

/-- A device's records at the launch: its semaphores' states, their positions, and their payers' rights. -/
def G (c : Dev nD) : sProp 𝕄 :=
  iprop((⨂ fun b : Cl => roundState ER (gathRd m) (kcell (c, b)) 0) ∗ (⨂ fun b : Cl => reached ER (kcell (c, b)) 0) ∗ (⨂ fun b : Cl => atPos ER (kcell (c, b)) 0 ∅ 0)
    ∗ ⨂ fun b : Cl => dutyTok ER (kcell (c, b)) 0 ())

theorem fund : BI.own (ER (initOf gathCells gathToks)) ⊢ (|==> bigSep Finset.univ (G m) : sProp 𝕄) := by
  have hX (Φ : GSem nD τ sig → sProp 𝕄) : bigSep gathCells Φ = ⨂ fun c : Dev nD => ⨂ fun b : Cl => Φ (kcell (c, b)) := by
    unfold gathCells; rw [bigSep_map, bigSep_univ_prod]; rfl
  have hT : bigSep gathToks (fun x => (dutyTok ER x.1 x.2.1 x.2.2 : sProp 𝕄))
      = ⨂ fun c : Dev nD => ⨂ fun b : Cl => dutyTok ER (kcell (c, b)) 0 () := by
    unfold gathToks; rw [bigSep_map, bigSep_univ_prod]; rfl
  iintro HX; imod (Rounds.fund ER (gathRd m) gathCells gathToks) $$ HX with ⟨Hst, Hr, Hat, Htok⟩; imodintro; ihave Hst' := (Entails.of_eq (hX fun g => roundState ER (gathRd m) g 0)) $$ Hst
  ihave Hat' := (Entails.of_eq (hX fun g => atPos ER g 0 ∅ 0)) $$ Hat; ihave Hr' := (Entails.of_eq (hX fun g => reached ER g 0)) $$ Hr; ihave Htok' := (Entails.of_eq hT) $$ Htok
  unfold G; simp only [bigSep_sep']; iframe Hst' Hr' Hat'; iexact Htok'

/-! ## The deal -/

/-- What device `c` gets, apart from what all devices know. -/
def share (c : Dev nD) : sProp 𝕄 :=
  iprop((⨂ fun k : Cp => srcPts m (one k) c) ∗ kept m c ∗ (⨂ fun k => freePts m k (peer k c)) ∗ (⨂ fun k => atPos ER (sendCell c k) 0 ∅ 0) ∗ (⨂ fun k => atPos ER (recvCell c k) 0 ∅ 0)
    ∗ (⨂ fun k => dutyTok ER (sendCell c k) 0 ()) ∗ ⨂ fun k => dutyTok ER (recvCell (peer k c) k) 0 ())

/-- What device `c` enters the kernel with. -/
def dealt (c : Dev nD) : sProp 𝕄 := iprop(∃ K, records m K ∗ share m c)

/-- The counters at zero and the states of all semaphores become their invariants. -/
theorem alloc : iprop((⨂ fun c : Dev nD => ⨂ fun b : Cl => semVal (kcell (c, b)) 0) ∗ ⨂ fun c : Dev nD => ⨂ fun b : Cl => roundState ER (gathRd m) (kcell (c, b)) 0)
      ⊢ (|={Set.univ}=> ∃ K : Dev nD × Cl → ℕ, ⨂ fun cb : Dev nD × Cl => cellInv ER (gathRd m) (K cb) (kcell cb) : sProp 𝕄) := by
  rw [← bigSep_univ_prod (fun cb : Dev nD × Cl => (semVal (kcell cb) 0 : sProp 𝕄)), ← bigSep_univ_prod (fun cb : Dev nD × Cl => (roundState ER (gathRd m) (kcell cb) 0 : sProp 𝕄)), ← bigSep_sep']
  refine BIBase.Entails.trans ((bigSep_mono fun cb _ => (Rounds.body_intro ER (gathRd m) (kcell cb)).trans inv_alloc).trans (bigSep_fupd _ _)) (BI.fupd_mono ?_)
  exact BI.bigSep_exists_pi Finset.univ (fun (cb : Dev nD × Cl) (κ : ℕ) => (cellInv ER (gathRd m) κ (kcell cb) : sProp 𝕄))

theorem bigSep_with {I : Type} [DecidableEq I] {S : Finset I} {R : sProp 𝕄} [BI.Persistent R] {Φ Ψ : I → sProp 𝕄} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Records of every device and copy, told by who is at the other end. -/
theorem redeal (Φ : Kp → Dev nD → sProp 𝕄) : (⨂ fun c : Dev nD => ⨂ fun k => Φ k c) = ⨂ fun c : Dev nD => ⨂ fun k => Φ k (peer k c) := by
  rw [BI.bigSep_univ_comm (fun (c : Dev nD) (k : Kp) => Φ k c), BI.bigSep_univ_comm (fun (c : Dev nD) (k : Kp) => Φ k (peer k c))]; exact bigSep_congr fun k _ => BI.bigSep_univ_equiv (turn k) _
theorem cut_all : (⨂ fun c : Dev nD => unscopedBufs c (fun b => m (c♯.loc b)) : sProp 𝕄) ⊢ iprop((⨂ fun c : Dev nD => ⨂ fun k : Cp => srcPts m (one k) c)
          ∗ (⨂ fun c : Dev nD => ⨂ fun k => freePts m k (peer k c)) ∗ ⨂ fun c : Dev nD => kept m c) := by
  refine BIBase.Entails.trans (bigSep_mono fun c _ => cut m c) ?_; rw [bigSep_sep', bigSep_sep', redeal (fun k c => freePts m k c)]

/-- All devices' semaphores, buffers and records, dealt to the devices. -/
theorem deal : iprop((⨂ fun c : Dev nD => (Pipeline.ownSems0 (Ix := Unit) (Name := ℕ) (U := UU) (Lvl := ℕ) (Val := Elt F) (τ := τ) osem c))
        ∗ (⨂ fun c : Dev nD => unscopedBufs c (fun b => m (c♯.loc b))) ∗ bigSep Finset.univ (G m) ∗ levAts Lw lv) ⊢ (|={Set.univ}=> bigSep Finset.univ (dealt m) : sProp 𝕄) := by
  unfold G; rw [bigSep_sep', bigSep_sep', bigSep_sep']; iintro ⟨Hs, Hb, ⟨Hst, Hr, Hat, Htok⟩, #HL⟩; imod (alloc m) $$ [Hs Hst] with ⟨%K, #HI⟩
  · iframe Hs; iexact Hst
  ihave Hr' := (Entails.of_eq (bigSep_univ_prod (fun cb : Dev nD × Cl => (reached ER (kcell cb) 0 : sProp 𝕄))).symm) $$ Hr; icases Hr' with #HR; imodintro
  iapply (bigSep_with (R := records m K) (Φ := share m) (Ψ := dealt m) fun c _ => (show iprop(records m K ∗ share m c) ⊢ dealt m c from by
    unfold dealt; iintro H; iexists K; iexact H))
  isplitr
  · unfold records
    isplitl; · iexact HI
    isplitl; · iexact HR
    iexact HL
  ihave Hc := (cut_all m) $$ Hb; ihave Hat' := (Entails.of_eq (bigSep_congr (s := Finset.univ) fun (c : Dev nD) _ => bigSep_cl fun b : Cl => (atPos ER (kcell (c, b)) 0 ∅ 0 : sProp 𝕄))) $$ Hat
  ihave Htok' := (Entails.of_eq (bigSep_congr (s := Finset.univ) fun (c : Dev nD) _ => bigSep_cl fun b : Cl => (dutyTok ER (kcell (c, b)) 0 () : sProp 𝕄))) $$ Htok; unfold share
  simp only [bigSep_sep']; rw [redeal (fun k c => (dutyTok ER (kcell (c, (true, k))) 0 () : sProp 𝕄))]; icases Hc with ⟨H1, H3, H2⟩; icases Hat' with ⟨H4, H5⟩; icases Htok' with ⟨H6, H7⟩
  iframe H1 H2 H3 H4 H5 H6; iexact H7

/-! ## What is owed and credited at the launch -/

theorem recv_eq_iff {c d : Dev nD} {k l : Kp} : recvCell c k = recvCell d l ↔ c = d ∧ k = l :=
  ⟨fun h => by
    have := kcell_injective (a₁ := (c, (true, k))) (a₂ := (d, (true, l))) h
    exact ⟨congrArg Prod.fst this, congrArg (fun x => x.2.2) this⟩, fun ⟨h, h'⟩ => by rw [h, h']⟩

theorem owed_at (f : Cp → Kp) (Z : CellTallies nD τ sig Unit) (c d : Dev nD) (k : Kp) : ∀ ks : List Cp,
    owed f Z d ks (recvCell c k) () = Z (recvCell c k) () + if c = peer k d then (ks.map f).count k * N k else 0
  | [] => by
    show Z (recvCell c k) () = _; rw [List.map_nil, List.count_nil, Nat.zero_mul, ite_self, Nat.add_zero]
  | l :: ks => by
    show (owed f Z d ks + tallyAt (recvCell (peer (f l) d) (f l)) () (N (f l))) (recvCell c k) () = _
    rw [Pi.add_apply, Finsupp.add_apply, owed_at f Z c d k ks, tallyAt_apply, List.map_cons, List.count_cons, Nat.add_assoc]; refine congrArg (Z (recvCell c k) () + ·) ?_
    by_cases hk : k = f l
    · subst hk; by_cases hc : c = peer (f l) d
      · rw [if_pos hc, if_pos hc, if_pos ⟨by rw [hc], rfl⟩]; simp [Nat.add_mul]
      · rw [if_neg hc, if_neg hc, if_neg (fun h => hc (recv_eq_iff.mp h.1).1)]
    · have h1 : ¬ (f l == k) = true := by simpa using fun h => hk h.symm
      by_cases hc : c = peer k d
      · rw [if_pos hc, if_pos hc, if_neg (fun h => hk (recv_eq_iff.mp h.1).2), if_neg h1]; simp
      · rw [if_neg hc, if_neg hc, if_neg (fun h => hk (recv_eq_iff.mp h.1).2)]

theorem launch_recv (c : Dev nD) (k : Kp) : tallyOn (recvCell c k) (launchCredit (Pipeline.owing O₀) 0 (recvCell c k)) = (tallyAt (recvCell c k) () (N k) : CellTallies nD τ sig Unit) := by
  unfold tallyAt; refine congrArg _ (Finsupp.ext fun u => ?_); cases u; rw [Pipeline.launchCredit_owing, Finsupp.single_eq_same]
  have h : ∀ d : Dev nD, O₀ d (recvCell c k) () = if d = peer k c then N k else 0 := fun d => by
    unfold O₀; rw [owed_at, owed_at]; show 0 + _ + _ = _; by_cases hd : d = peer k c
    · rw [if_pos hd, if_pos (by rw [hd, peer_peer]), if_pos (by rw [hd, peer_peer]), Nat.zero_add, ← Nat.add_mul,
        (by decide +kernel : ∀ k : Kp, (slots.map two).count k + (slots.map one).count k = 1) k, Nat.one_mul]
    · have hc : ¬ c = peer k d := fun h => hd (by rw [h, peer_peer]); rw [if_neg hd, if_neg hc, if_neg hc]
  rw [Finset.sum_congr rfl fun d _ => h d, Finset.sum_ite_eq' Finset.univ (peer k c) fun _ => N k, if_pos (Finset.mem_univ _)]

/-- The launch gives device `c` the credit of the thirty landings it will wait for. -/
theorem creds (c : Dev nD) : (Pipeline.launchCred O₀ c : sProp 𝕄) ⊢ ⨂ fun k => cred (tallyAt (recvCell c k) () (N k)) := by
  unfold Pipeline.launchCred; have hi : Set.InjOn (fun k : Kp => osem (true, k)) (Finset.univ : Finset Kp) := fun a _ b _ h => congrArg Prod.snd (osem_injective h)
  refine BIBase.Entails.trans (bigSep_subset (Finset.subset_univ (Finset.univ.image fun k : Kp => osem (true, k)))) (Entails.of_eq ?_); rw [bigSep_image_of_injOn hi]
  exact bigSep_congr fun k _ => by rw [← launch_recv]
-- ==== Proof.GathRun.lean ====
/-
The gathering's launch, second part: what each device holds before and after the kernel, the host operations that follow it, and
the run of the whole machine, from which the final memory is read.
-/
module

public import proofs.«01_k».proof.Proof.GathDeal
public import proofs.«01_k».proof.Proof.Gen.GathIdeal.Regions
public import Idealize.ShloMosaic.Harness.Basic

@[expose] public section
noncomputable section
namespace Cert.GathProof

open GathIdeal Gen

open Idealize ShloMosaic TcCoe SL RA BI BIBase Laws ProofMode Sem
open Idealize.ShloMosaic.Rounds
open Idealize.ShloMosaic.Pipeline (Dat Cfg BodyObligation)

variable {F : FTy → Type} [FloatOps F]

local notation "𝕄" => MT nD τ sig Unit (Elt F) ℕ UU ℕ
local notation:max c:max "♯" => (c : Thread nD τ)
set_option quotPrecheck false in
local notation:max "ℙ" => Prog (TpuEff nD τ sig (Elt F) (Pipeline.Sig Λ₀ (Fin 1) fun p => (pcfgs (F := F) p).Adm) .tc) PUnit
local notation:max "𝕚" => Pipeline.idleSems0 cfgs cellOf_inj 0 ownSemFacts
local notation "⨂" f:max => bigSep Finset.univ f
local notation "𝕠" => Pipeline.ownSems0 (Ix := Unit) (Name := ℕ) (U := UU) (Lvl := ℕ) (Val := Elt F) (τ := τ)

variable (m : (ℓ : Loc nD τ sig) → Buf (Elt F) ℓ) (ρ : Dev nD → PrngReg) (c : Dev nD)

/-! ## Before and after the kernel -/

/-- What device `c` brings to the kernel. -/
def brought : sProp 𝕄 := iprop(dealt m c ∗ Pipeline.launchCred O₀ c)
/-- What it takes away: the halves it sent, its results with what landed there, and every other buffer. -/
def taken : sProp 𝕄 := iprop((⨂ fun k : Cp => srcPts m (one k) c) ∗ (⨂ fun k => landPts m k c) ∗ kept m c)

def before : sProp 𝕄 := iprop((∃ K, bodyPre m K c) ∗ kept m c)
def afterwards : sProp 𝕄 := iprop(bodyPost m c ∗ kept m c)

/-- The kernel has no windows: its proof data are what is held and owed before and after its one step. -/
def dats (_ : Fin 1) (c : Dev nD) : Dat τ (Elt F) Unit ℕ UU ℕ cfg0 c where
  A w := absurd w.isLt (Nat.not_lt_zero _)
  after w _ := absurd w.isLt (Nat.not_lt_zero _)
  Φ t := match t with
    | ⟨0, _⟩ => before m c
    | ⟨_ + 1, _⟩ => afterwards m c
  q _ := fullShare
  owed t := match t with
    | ⟨0, _⟩ => O₀ c
    | ⟨_ + 1, _⟩ => 0

theorem none_intro (Φ : Fin cfg0.W → sProp 𝕄) : (iprop(emp) : sProp 𝕄) ⊢ bigSep Finset.univ Φ := BI.bigSep_intro_persistent (S := Finset.univ) fun w _ => absurd w.isLt (Nat.not_lt_zero _)

theorem before_intro : brought m c ⊢ before m c := by
  unfold brought dealt share before bodyPre; iintro ⟨⟨%K, #HR, Hs, Hk, Hd, Ha, Hb, Ht, Hu⟩, Hc⟩; ihave Hc' := (creds (F := F) c) $$ Hc
  isplitr [Hk]
  · iexists K; isplitr; · iexact HR
    ihave Hg := (Entails.of_eq (bigSep_kp (goPre m c))) $$ [Hd Ht Hu]
    · unfold goPre; simp only [bigSep_sep']; iframe Hd Ht; iexact Hu
    ihave Hl := (Entails.of_eq (bigSep_kp (landPre (F := F) c))) $$ [Hc' Hb]
    · unfold landPre; simp only [bigSep_sep']; iframe Hc'; iexact Hb
    ihave Ha' := (Entails.of_eq (bigSep_kp fun k => (atPos ER (sendCell c k) 0 ∅ 0 : sProp 𝕄))) $$ Ha; icases Hg with ⟨Hg1, Hg2⟩; icases Hl with ⟨Hl1, Hl2⟩; icases Ha' with ⟨Ha1, Ha2⟩
    iframe Hs Hg1 Hg2 Hl1 Hl2 Ha1; iexact Ha2
  iexact Hk

theorem after_exit : afterwards m c ⊢ iprop(taken m c ∗ 𝕠 osem c) := by
  unfold afterwards bodyPost taken
  rw [show (𝕠 osem c : sProp 𝕄)
    = ⨂ fun b : Cl => semVal (kcell (c, b)) 0 from rfl, bigSep_cl, bigSep_kp, bigSep_kp, bigSep_kp]
  iintro ⟨⟨⟨H1, H2, H3⟩, H4, H5⟩, Hk⟩
  isplitl [H1 H2 H3 Hk]
  · iframe H1
    isplitl [H2 H3]
    · isplitl [H2]
      · iapply (show (⨂ fun k : Cp => srcPts m (two k) c) ⊢ (⨂ fun k : Cp => landPts m (one k) c) from
          bigSep_mono fun k _ => Entails.of_eq (land_src m k c).symm)
        iexact H2
      iexact H3
    iexact Hk
  iframe H4; iexact H5

set_option maxRecDepth 32768 in
theorem body_obligation : BodyObligation (dats (F := F) m 0 c) (defs₀ (F := F)) 𝒱₀ () Set.univ := fun t => by
  rw [show t = t0_0 from fin_N0 t]; show iprop(before m c ∗ (dats m 0 c).owesAt () t0_0.castSucc ∗ _) ⊢ wp frame (wpE (defs₀ (F := F)) 𝒱₀ c none) Set.univ (kernel : TProg F) _
  unfold before Dat.owesAt Pipeline.owesWithin; rw [show (dats m 0 c).owed t0_0.castSucc = O₀ c from rfl]; iintro ⟨⟨⟨%K, Hb⟩, Hk⟩, ⟨%W, %hW, HO⟩, -⟩; iapply (sound_body m K c _ W); iframe Hb HO
  iintro ⟨Hp, %W', HO⟩
  isplitl [Hp Hk]
  · iapply (Entails.of_eq (show afterwards m c = (dats m 0 c).Φ t0_0.succ from rfl)); unfold afterwards; iframe Hp; iexact Hk
  isplitl [HO]
  · iexists W'; isplitr; · ipureintro; exact fun _ _ => Or.inl trivial
    iexact HO
  iapply (none_intro _); iempintro

/-! ## The region -/

abbrev pcs : Fin 1 → Pipeline.PCfg sig Λ₀ (Elt F) := fun p => (cfgs p).toPCfg
abbrev adm : (p : Fin 1) → (pcs (F := F) p).Adm := fun p => (cfgs p).toPCfg_adm
set_option quotPrecheck false in
local notation:max "𝕎" c:max => wp frame (wpE (Pipeline.defs (pcs (F := F)) defs₀) (Variants.lift 𝒱₀) (c : Thread nD τ) none) Set.univ

theorem entry_intro (κ : GSem nD τ sig → ℕ) (c : Dev nD) : (owes c♯ (O₀ c) ∅ : sProp 𝕄) ⊢ Pipeline.EntryPre (Pipeline.pin (pcs (F := F)) adm) (dats m) () EP κ 0 c := by
  have ha : (iprop(emp) : sProp 𝕄) ⊢ (dats m 0 c).arrays ((dats m 0 c).arrAt · 0) := none_intro _
  have hw : (iprop(emp) : sProp 𝕄) ⊢ Pipeline.PerCore.cellsWaits (fun _ : Dev nD => Pipeline.pin (pcs (F := F)) adm) (dats m) () 0 c := none_intro _
  have hi : (iprop(emp) : sProp 𝕄) ⊢ Pipeline.PerCore.cellsInit (fun _ : Dev nD => Pipeline.pin (pcs (F := F)) adm) (dats m) EP κ 0 c := none_intro _
  have ht : (iprop(emp) : sProp 𝕄) ⊢ Pipeline.PerCore.toksInit (fun _ : Dev nD => Pipeline.pin (pcs (F := F)) adm) EP 0 c := none_intro _; unfold Pipeline.EntryPre Pipeline.PerCore.EntryPre
  iintro HO; isplitr; · iapply ha; iempintro
  isplitl
  · unfold Dat.owesAt Pipeline.owesWithin; iexists ∅; isplitr; · ipureintro; rw [Finset.coe_empty]; exact Set.empty_subset _
    iexact HO
  isplitr; · iapply hw; iempintro
  isplitr; · iapply hi; iempintro
  iapply ht; iempintro

theorem exit_elim : Pipeline.EntryPost (Pipeline.pin (pcs (F := F)) adm) (dats m) () 0 c ⊢ (iprop(∃ W, owes c♯ 0 W) : sProp 𝕄) := by
  unfold Pipeline.EntryPost Pipeline.PerCore.EntryPost Dat.owesAt Pipeline.owesWithin; iintro ⟨-, ⟨%W, -, HW⟩⟩; iexists W; iexact HW

/-! ## Reading the final memory -/

/-- What a chip's final memory must show: every buffer is as the host operations leave it, from results that hold what landed. -/
def Shows (s : MemSt nD τ sig (Elt F)) : Prop := ∃ g, Got m c g ∧ ∀ b ∈ Pipeline.ucRefs τ sig, s.mem (c, b) = StableHlo.after (hostOps1 (F := F) c) (W m c g) b

theorem read_one {ℓ : Loc nD τ sig} {I : Finset (Idx ℓ)} {f : Buf (Elt F) ℓ} (s' : Phys nD τ sig (Elt F)) :
    iprop((ℓ ↦[I]{fullShare} f : sProp 𝕄) ∗ Idealize.ShloMosaic.SI s') ⊢ (⌜∀ i ∈ I, s'.mem.mem ℓ i = f i⌝ : sProp 𝕄) :=
  sep_comm.1.trans SI_pointsTo_agree

/-- Every buffer of a set can be read. -/
theorem held_read (S : Finset (DevRef τ sig)) (V : Valuation τ sig (Elt F)) (s' : Phys nD τ sig (Elt F)) :
    iprop((StableHlo.held c♯ S V : sProp 𝕄) ∗ Idealize.ShloMosaic.SI s') ⊢ (⌜∀ b, b ∈ S → s'.mem.mem (c, b) = V b⌝ : sProp 𝕄) :=
  (forall_intro fun b => (forall_intro fun hb => (BIClass.sep_mono (BI.bigSep_elim hb) .rfl).trans ((read_one s').trans (Laws.pure_mono fun h => funext fun i => h i (Finset.mem_univ i)))).trans
    pure_forall.2).trans pure_forall.2

/-- What a device holds at the end. -/
def left : sProp 𝕄 := iprop(∃ g, ⌜Got m c g⌝ ∗ StableHlo.held c♯ (Pipeline.ucRefs τ sig) (StableHlo.after (hostOps1 (F := F) c) (W m c g)))

theorem left_read (s' : Phys nD τ sig (Elt F)) : iprop(left m c ∗ Idealize.ShloMosaic.SI s') ⊢ (<pers> ⌜Shows m c s'.mem⌝ : sProp 𝕄) := by
  unfold left; iintro ⟨⟨%g, %hg, H⟩, HSI⟩; ihave %h := (held_read (F := F) c _ _ s') $$ [H HSI]
  · isplitl [H] <;> iassumption
  ipureintro; exact ⟨g, hg, h⟩

/-! ## The run -/

/-- What a device holds before `@main` and after it. -/
def pre : sProp 𝕄 := iprop(scopedBufs c♯ ∗ 𝕚 c ∗ owes c♯ (O₀ c) ∅ ∗ opIdle c♯ ∗ brought m c)
def fin : sProp 𝕄 := iprop(left m c ∗ scopedSems0 c♯)

theorem sems_split : (scopedSems0 c♯ : sProp 𝕄) = iprop((Pipeline.cellsSems0 cfgs 0 c ∗ Pipeline.ownSems0 osem c) ∗ 𝕚 c) := Pipeline.scopedSems0_split cfgs cellOf_inj 0 winFacts0.to₀ ownSemFacts c
theorem bufs_split : (scopedBufs c♯ : sProp 𝕄) = iprop(Dat.staging (cfgs 0) c ∗ Pipeline.scopedRest (cfgs 0).spec c) :=
  Pipeline.scopedBufs_split cfgs 0 winFacts0.stage_scoped winFacts0.stage_inj stage_whole0 c

/-- A device's initial holdings, sorted. -/
theorem core_init : (coreInit (Pipeline.owing O₀) 0 (⟨m, fun _ => 0, ρ⟩ : MemSt nD τ sig (Elt F)) c♯ : sProp 𝕄)
      ⊢ iprop((scopedBufs c♯ ∗ 𝕚 c ∗ owes c♯ (O₀ c) ∅ ∗ opIdle c♯ ∗ Pipeline.launchCred O₀ c ∗ levels0 c) ∗ 𝕠 osem c ∗ unscopedBufs c (fun b => m (c♯.loc b))) := by
  refine BIBase.Entails.trans (Pipeline.coreInit_boundary_owing O₀ m ρ c) ?_; unfold boundary; rw [sems_split c]; iintro ⟨⟨Hsc, ⟨⟨-, Hos⟩, Hidle⟩, Hop⟩, Hub, -, HL, Hlv, -, Hcr⟩
  isplitr [Hos Hub]
  · iframe Hsc Hidle HL Hop
    isplitl [Hcr] <;> iassumption
  isplitl [Hos] <;> iassumption

theorem cores_init : (⨂ fun c : Dev nD => (coreInit (Pipeline.owing O₀) 0 (⟨m, fun _ => 0, ρ⟩ : MemSt nD τ sig (Elt F)) c♯ : sProp 𝕄))
      ⊢ iprop(((⨂ fun c : Dev nD => scopedBufs c♯) ∗ (⨂ fun c : Dev nD => 𝕚 c)
            ∗ (⨂ fun c : Dev nD => owes c♯ (O₀ c) ∅) ∗ (⨂ fun c : Dev nD => (opIdle c♯ : sProp 𝕄)) ∗ (⨂ fun c : Dev nD => Pipeline.launchCred O₀ c) ∗ (⨂ fun c : Dev nD => levels0 c))
          ∗ (⨂ fun c : Dev nD => 𝕠 osem c) ∗ (⨂ fun c : Dev nD => unscopedBufs c (fun b => m (c♯.loc b)))) := by
  refine BIBase.Entails.trans (bigSep_mono fun c _ => core_init m ρ c) ?_; simp only [bigSep_sep']; exact BI.Entails.refl _

/-- The devices fix the order of waiting. -/
theorem order : (⨂ fun c : Dev nD => levels0 c : sProp 𝕄) ⊢ (|==> levAts Lw lv : sProp 𝕄) := (Smoke.lev_assign_devs (fun _ => {()}) lv).trans (BI.bupd_mono (BI.sep_and.trans and_elimR))

theorem start_all : iprop((⨂ fun c : Dev nD => (coreInit (Pipeline.owing O₀) 0 (⟨m, fun _ => 0, ρ⟩ : MemSt nD τ sig (Elt F)) c♯ : sProp 𝕄)) ∗ ownU u₀)
      ⊢ iprop(|={Set.univ}=> ∃ _ : Unit, bigSep Finset.univ (pre m) ∗ emp) := by
  unfold u₀; iintro ⟨Hcores, Hu⟩; ihave Hc := (cores_init m ρ) $$ Hcores; icases Hc with ⟨⟨H1, H2, H3, H5, H4, Hlv⟩, Hos, Hub⟩; ihave H := (ownU_pair _ _) $$ Hu; icases H with ⟨-, HX⟩
  imod (fund m) $$ HX with HG; imod (order (F := F)) $$ Hlv with HL; imod (deal m) $$ [Hos Hub HG HL] with HD
  · iframe Hos Hub
    isplitl [HG] <;> iassumption
  imodintro; iexists ()
  isplitr []
  · unfold pre brought; simp only [bigSep_sep']; iframe H1 H2 H3 H5
    isplitl [HD] <;> iassumption
  · iempintro

theorem region_in {P R : sProp 𝕄} : iprop(brought m c ∗ P ∗ R) ⊢ (dats m 0 c).Φ 0 := (BI.sep_and.trans and_elimL).trans ((before_intro m c).trans (Entails.of_eq rfl))
theorem region_out : iprop((dats m 0 c).Φ (Fin.last cfg0.N) ∗ Pipeline.cellsSems0 cfgs 0 c ∗ Dat.staging (cfgs 0) c ∗ 𝕚 c) ⊢ iprop(taken m c ∗ scopedSems0 c♯ ∗ scopedBufs c♯) := by
  rw [sems_split c, bufs_split c, show (dats m 0 c).Φ (Fin.last cfg0.N) = afterwards m c from rfl,
    show Pipeline.scopedRest (cfgs (0 : Fin 1)).spec c = _ from scopedRest0_eq (Val := Elt F) c]
  iintro ⟨HΦ, Hcells, Hst, Hidle⟩; ihave H := (after_exit m c) $$ HΦ; icases H with ⟨HY, Hos⟩; iframe HY
  isplitl [Hcells Hos Hidle]
  · isplitl [Hcells Hos]; · isplitl [Hcells] <;> iassumption
    iexact Hidle
  iframe Hst; iempintro

theorem no_tables : (iprop(emp) : sProp 𝕄) ⊢ Pipeline.prefHeld ((pcs (F := F)) 0).pre c (fun _ => fullShare) ((adm (F := F)) 0).1 :=
  BI.bigSep_intro_persistent (S := Finset.univ) fun w _ => absurd w.isLt (Nat.not_lt_zero _)

/-- The kernel's call, between what a device brings and what it takes away. -/
theorem region {k : PUnit → ℙ} {Q : PUnit → sProp 𝕄} : iprop(Pipeline.EntryPre (Pipeline.pin (pcs (F := F)) adm) (dats m) () EP (fun _ => 0) 0 c
        ∗ Pipeline.prefHeld ((pcs (F := F)) 0).pre c (fun _ => fullShare) ((adm (F := F)) 0).1 ∗ brought m c ∗ 𝕚 c ∗ scopedBufs c♯)
      ⊢ iprop(((Pipeline.EntryPost (Pipeline.pin (pcs (F := F)) adm) (dats m) () 0 c ∗ taken m c ∗ scopedSems0 c♯ ∗ scopedBufs c♯) -∗ 𝕎 c (k ⟨⟩) Q) -∗ 𝕎 c
            (.op (.customCall (Pipeline.entry (0 : Fin 1)) ()) k) Q) :=
  Pipeline.wp_customCall_entry_frame (pcs (F := F)) adm (dats m) () EP (fun _ => 0) cellOf_inj (0 : Fin 1) defs₀ 𝒱₀ (fun _ => fullShare) c Set.univ
      (fun _ _ => Set.mem_univ _) (body_obligation m c).loose (fun w => absurd w.isLt (Nat.not_lt_zero _)) none (fun u h => nomatch h)
      (X := brought m c) (Y := taken m c) (R := Pipeline.scopedRest (cfgs 0).spec c) (I := 𝕚 c)
      (Entails.of_eq (bufs_split c)) (region_in m c) (region_out m c)

/-- The host operations after the kernel, and the end. -/
theorem rest_run (l : List (HloOp τ sig (Elt F))) (hl : l = hostOps1 c) (g : (a : Fin 5) → Buf (Elt F) (outLoc a c)) (hg : Got m c g) :
    iprop(boundary c♯ ∗ StableHlo.held c♯ (Pipeline.ucRefs τ sig) (W m c g) ∗ ∃ O, owes c♯ 0 O) ⊢ (𝕎 c (StableHlo.seq l >>= fun _ => .ret (⟨⟩ : PUnit))
        (fun _ => post (liftTc (fin m) BI.emp) c♯) : sProp 𝕄) := by
  iintro ⟨Hb, Hh, Ho⟩
  iapply (StableHlo.wp_seq (Variants.lift 𝒱₀) none Set.univ c (Pipeline.ucRefs τ sig) (fun _ => .ret (⟨⟩ : PUnit)) l
    (fun op h => by rw [hl] at h; exact Pipeline.sub_ucRefs op ((List.forall_iff_forall_mem.mp (hostOps1_sub c)) op h))
    (fun op h => by rw [hl] at h; exact (List.forall_iff_forall_mem.mp (hostOps1_fresh c)) op h) (W m c g)) $$ [Hb Hh]
  · isplitl [Hb] <;> iassumption
  iintro ⟨Hb, Hh⟩; rw [wp_ret]; imodintro; unfold post boundary; simp only [liftTc_tc, fin]; icases Hb with ⟨-, Hss, -⟩
  isplitr [Ho]
  · isplitl [Hh]
    · unfold left; iexists g; isplitr; · ipureintro; exact hg
      rw [← hl]; iexact Hh
    · iexact Hss
  · iexact Ho

/-- One device's run: the kernel, then the host operations. -/
theorem core_run' (l : List (HloOp τ sig (Elt F))) (hl : l = hostOps1 c) : pre m c ⊢ (𝕎 c (.op (.customCall (Pipeline.entry (0 : Fin 1)) ()) fun _ => StableHlo.seq l >>= fun _ => .ret (⟨⟩ : PUnit))
      (fun _ => post (liftTc (fin m) BI.emp) c♯) : sProp 𝕄) := by
  unfold pre; iintro ⟨Hsc, Hidle, HO, Hop, HX⟩; iapply (region m c) $$ [Hsc Hidle HO HX]
  · isplitl [HO]; · iapply (entry_intro m _ c); iexact HO
    isplitr; · iapply (no_tables c); iempintro
    iframe HX
    isplitl [Hidle] <;> iassumption
  iintro ⟨Hpost, HY, Hss, Hsb⟩; unfold taken; ihave HY' := (uncut m c) $$ HY; icases HY' with ⟨%g, %hg, Hh⟩; iapply (rest_run m c l hl g hg)
  isplitl [Hss Hsb Hop]
  · unfold boundary; iframe Hsb
    isplitl [Hss] <;> iassumption
  iframe Hh; iapply (exit_elim m c); iexact Hpost

/-- The whole `@main`, told from its parts. -/
theorem chain_eq (e : _) (l : List (HloOp τ sig (Elt F))) : (Pipeline.chain [Prog.lift e, StableHlo.seq l] : ℙ) = .op e fun _ => StableHlo.seq l >>= fun _ => .ret (⟨⟩ : PUnit) := rfl

theorem core_run (p : ℙ) (l : List (HloOp τ sig (Elt F))) (hl : l = hostOps1 c) (hp : p = Pipeline.chain [Prog.lift (.customCall (Pipeline.entry 0) ()), StableHlo.seq l]) : pre m c ⊢ (𝕎 c p
      (fun _ => post (liftTc (fin m) BI.emp) c♯) : sProp 𝕄) := by
  rw [hp, chain_eq]; exact core_run' m c l hl

theorem run_of (p : Dev nD → ℙ) (hp : ∀ c, p c = Pipeline.chain [Prog.lift (.customCall (Pipeline.entry 0) ()), StableHlo.seq (hostOps1 c)]) :
    θ_run defs (onTc (τ := τ) p) ⟨m, fun _ => 0, ρ⟩ (fun r => (∀ c, Shows m c r.2) ∧ r.2.sem = fun _ => 0) := by
  refine (θ_run defs _ _).mono (Q := fun r => (∀ c : Dev nD, Shows m c r.2 ∧ ∀ sm : SemLoc sig, sm.isScoped .tc = true → r.2.sem (c♯, sm) = 0) ∧ ∀ g' : GSem nD τ sig, g'.1.2 ≠ .tc → r.2.sem g' = 0)
    (fun r hr => ⟨fun c => (hr.1 c).1, sem_eq_zero_of_scoped (by decide +kernel) (sems_of_reads (fun c => (hr.1 c).2) hr.2)⟩) (adequate_tpu defs _ _ _
    (reflect_intro_fupd_tc_sems (Ix := Unit) (Name := ℕ) (U := UU) (Lvl := ℕ) (X := Unit) (Variants.lift 𝒱₀) (Pipeline.owing O₀) 0 (noBookings fun _ => le_rfl) (Pipeline.owing_of_ne O₀) u₀
      (fun _ => pre m) (fun _ => fin m) (fun _ => iprop(emp)) Set.univ (start_all m ρ) (fun _ c => core_run m c (p c) (hostOps1 c) rfl (hp c)) fun _ => ?_))
  have hcore (c : Dev nD) (s' : Phys nD τ sig (Elt F)) : iprop(fin m c ∗ Idealize.ShloMosaic.SI s') ⊢ (|={Set.univ}=>
      iprop(⌜Shows m c s'.mem ∧ ∀ sm : SemLoc sig, sm.isScoped .tc = true → s'.mem.sem (c♯, sm) = 0⌝ ∗ Idealize.ShloMosaic.SI s') : sProp 𝕄) := by
    unfold fin; iintro ⟨⟨Ha, Hss⟩, HSI⟩; ihave %hz := (tcScoped_read_pers c s') $$ [Hss HSI]
    · isplitl [Hss] <;> iassumption
    ihave %hr := (left_read m c s') $$ [Ha HSI]
    · isplitl [Ha] <;> iassumption
    imodintro; isplitr; · ipureintro; exact ⟨hr, hz⟩
    iexact HSI
  iintro ⟨H, -, Hsc⟩ %s' HSI; ihave %hsc := (scSems_read_zero m ρ s') $$ [Hsc HSI]
  · isplitl [Hsc] <;> iassumption
  imod (posts_fupd Finset.univ hcore s') $$ [H HSI] with %h
  · isplitl [H] <;> iassumption
  imodintro; ipureintro; exact ⟨fun c => h c (Finset.mem_univ c), hsc⟩

/-- From any memory with every counter at zero the gathering runs to an end in which all counters are zero again and every device's
    memory is as shown. -/
theorem run_main : θ_run defs (onTc (τ := τ) (main (F := F))) ⟨m, fun _ => 0, ρ⟩ (fun r => (∀ c, Shows m c r.2) ∧ r.2.sem = fun _ => 0) := run_of m ρ main main_chain
-- ==== Proof.GathHost.lean ====
/-
The host operations after the kernel: each result is the kernel's, with this chip's own array written at this chip's place.
-/
module

public import proofs.«01_k».proof.Proof.GathRun
public import proofs.«01_k».proof.Proof.Cut

@[expose] public section
set_option maxRecDepth 16384
noncomputable section
namespace Cert.GathProof

open Cert.GathIdeal Cert.GathIdeal.Gen
open Step Idealize.ShloMosaic Idealize.ShloMosaic.TcCoe Idealize.ShloMosaic.StableHlo Idealize.SL.Sem

variable {F : FTy → Type} [FloatOps F]

set_option quotPrecheck false in
local notation "𝐬" r:max => BitVec.toInt ((_ : Valuation τ sig (Elt F)) (Proc.devRef .tc r) (Shape.Idx.first h_S_))

/-! ## The chip's place -/

/-- The chip's number as the host computes it; the same, counted from the end when negative; the chip's place in a result. -/
def me (c : Dev nD) : (⟨S_, .i32⟩ : BufTy).Contents (Elt F) :=
  addi (muli (constantI S_ 32 2#32) (Host.remui (Host.divui (constantI S_ 32 (Dev.word c)) (constantI S_ 32 4#32)) (constantI S_ 32 2#32)))
    (Host.remui (Host.divui (constantI S_ 32 (Dev.word c)) (constantI S_ 32 2#32)) (constantI S_ 32 2#32))
def wrapped (c : Dev nD) : (⟨S_, .i32⟩ : BufTy).Contents (Elt F) := select (cmpi .slt (me (F := F) c) (constantI S_ 32 0#32)) (addi (me (F := F) c) (constantI S_ 32 4#32)) (me (F := F) c)
def at0 (c : Dev nD) (k : Fin 4) : Int :=
  ((![wrapped (F := F) c, constantI S_ 32 0#32, constantI S_ 32 0#32, constantI S_ 32 0#32] : Fin 4 → (⟨S_, .i32⟩ : BufTy).Contents (Elt F)) k (Shape.Idx.first h_S_)).toInt

/-- That place is the chip's own. -/
theorem at0_eq (c : Dev nD) (k : Fin 4) : at0 (F := F) c k = (((![chip c, 0, 0, 0] : Fin 4 → Nat) k : Nat) : Int) := by fin_cases c <;> fin_cases k <;> rfl

/-! ## The host operations, cut in pieces -/

theorem at_congr {α : Type} {s t : Shape} {x : s.Idx → α} {u : t.Idx → α} {st st1 : Fin s.rank → Int} {h : s.Slices (fun _ => 0) t} (e : ∀ k, st k = st1 k) :
    Host.dynamicUpdateSlice x u st h = Host.dynamicUpdateSlice x u st1 h := by
  rw [funext e]

theorem maps (c : Dev nD) : (hostOps1 (F := F) c).map HloOp.writes = hostOps1_W.map fun r => {Proc.devRef (τ := τ) .tc r} := rfl

theorem me_of (c : Dev nD) (V : Valuation τ sig (Elt F)) : after ((hostOps1 (F := F) c).take 15) V main_v11 = me (F := F) c := by
  show after [_, _, _, _, _, _, _, _, _, _, _, _, _, _, _] V main_v11 = _; after_results_simp; rfl

/-! ## The results -/

set_option maxHeartbeats 2000000 in
theorem host0 (c : Dev nD) (V : Valuation τ sig (Elt F)) : after (hostOps1 (F := F) c) V main_v16 = Host.dynamicUpdateSlice (V main_v1_0)
      (broadcastInDim S1x2x1024x1668 ![1, 2, 3] bcast_S2x1024x1668_S1x2x1024x1668_1_2_3 (V main_arg0)) (at0 (F := F) c) updateFits_S4x2x1024x1668_S1x2x1024x1668 := by
  have hV := (early_of (maps c) V 15 (by decide) (by decide)).trans (me_of c V)
  rw [end_of (maps c) V 15 10 (by decide), ← start_of (maps c) V 15 (r := main_v1_0) (by decide), ← start_of (maps c) V 15 (r := main_arg0) (by decide)]
  generalize after ((hostOps1 c).take 15) V = W at hV ⊢; show after [_, _, _, _, _, _, _, _, _, _] W _ = _; after_results_simp; refine at_congr fun k => ?_
  match k with
    | 0 => show 𝐬 main_v15 = _; after_results_simp; rw [hV]; rfl
    | 1 => show 𝐬 main_c_6 = _; after_results_simp; rfl
    | 2 => show 𝐬 main_c_7 = _; after_results_simp; rfl
    | 3 => show 𝐬 main_c_8 = _; after_results_simp; rfl

set_option maxHeartbeats 2000000 in
theorem host1 (c : Dev nD) (V : Valuation τ sig (Elt F)) : after (hostOps1 (F := F) c) V main_v21 = Host.dynamicUpdateSlice (V main_v1_1)
      (broadcastInDim S1x2x1024x1408 ![1, 2, 3] bcast_S2x1024x1408_S1x2x1024x1408_1_2_3 (V main_arg1)) (at0 (F := F) c) updateFits_S4x2x1024x1408_S1x2x1024x1408 := by
  have hV := (early_of (maps c) V 25 (by decide) (by decide)).trans (me_of c V)
  rw [end_of (maps c) V 25 10 (by decide), ← start_of (maps c) V 25 (r := main_v1_1) (by decide), ← start_of (maps c) V 25 (r := main_arg1) (by decide)]
  generalize after ((hostOps1 c).take 25) V = W at hV ⊢; show after [_, _, _, _, _, _, _, _, _, _] W _ = _; after_results_simp; refine at_congr fun k => ?_
  match k with
    | 0 => show 𝐬 main_v20 = _; after_results_simp; rw [hV]; rfl
    | 1 => show 𝐬 main_c_11 = _; after_results_simp; rfl
    | 2 => show 𝐬 main_c_12 = _; after_results_simp; rfl
    | 3 => show 𝐬 main_c_13 = _; after_results_simp; rfl

set_option maxHeartbeats 2000000 in
theorem host2 (c : Dev nD) (V : Valuation τ sig (Elt F)) : after (hostOps1 (F := F) c) V main_v26 = Host.dynamicUpdateSlice (V main_v1_2)
      (broadcastInDim S1x2x704x1024 ![1, 2, 3] bcast_S2x704x1024_S1x2x704x1024_1_2_3 (V main_arg2)) (at0 (F := F) c) updateFits_S4x2x704x1024_S1x2x704x1024 := by
  have hV := (early_of (maps c) V 35 (by decide) (by decide)).trans (me_of c V)
  rw [end_of (maps c) V 35 10 (by decide), ← start_of (maps c) V 35 (r := main_v1_2) (by decide), ← start_of (maps c) V 35 (r := main_arg2) (by decide)]
  generalize after ((hostOps1 c).take 35) V = W at hV ⊢; show after [_, _, _, _, _, _, _, _, _, _] W _ = _; after_results_simp; refine at_congr fun k => ?_
  match k with
    | 0 => show 𝐬 main_v25 = _; after_results_simp; rw [hV]; rfl
    | 1 => show 𝐬 main_c_16 = _; after_results_simp; rfl
    | 2 => show 𝐬 main_c_17 = _; after_results_simp; rfl
    | 3 => show 𝐬 main_c_18 = _; after_results_simp; rfl

set_option maxHeartbeats 2000000 in
theorem host3 (c : Dev nD) (V : Valuation τ sig (Elt F)) : after (hostOps1 (F := F) c) V main_v31 = Host.dynamicUpdateSlice (V main_v1_3)
      (broadcastInDim S1x2x256x1024 ![1, 2, 3] bcast_S2x256x1024_S1x2x256x1024_1_2_3 (V main_arg3)) (at0 (F := F) c) updateFits_S4x2x256x1024_S1x2x256x1024 := by
  have hV := (early_of (maps c) V 45 (by decide) (by decide)).trans (me_of c V)
  rw [end_of (maps c) V 45 10 (by decide), ← start_of (maps c) V 45 (r := main_v1_3) (by decide), ← start_of (maps c) V 45 (r := main_arg3) (by decide)]
  generalize after ((hostOps1 c).take 45) V = W at hV ⊢; show after [_, _, _, _, _, _, _, _, _, _] W _ = _; after_results_simp; refine at_congr fun k => ?_
  match k with
    | 0 => show 𝐬 main_v30 = _; after_results_simp; rw [hV]; rfl
    | 1 => show 𝐬 main_c_21 = _; after_results_simp; rfl
    | 2 => show 𝐬 main_c_22 = _; after_results_simp; rfl
    | 3 => show 𝐬 main_c_23 = _; after_results_simp; rfl

set_option maxHeartbeats 2000000 in
theorem host4 (c : Dev nD) (V : Valuation τ sig (Elt F)) : after (hostOps1 (F := F) c) V main_v36 = Host.dynamicUpdateSlice (V main_v1_4)
      (broadcastInDim S1x2x416x128 ![1, 2, 3] bcast_S2x416x128_S1x2x416x128_1_2_3 (V main_arg4)) (at0 (F := F) c) updateFits_S4x2x416x128_S1x2x416x128 := by
  have hV := (early_of (maps c) V 55 (by decide) (by decide)).trans (me_of c V)
  rw [end_of (maps c) V 55 10 (by decide), ← start_of (maps c) V 55 (r := main_v1_4) (by decide), ← start_of (maps c) V 55 (r := main_arg4) (by decide)]
  generalize after ((hostOps1 c).take 55) V = W at hV ⊢; show after [_, _, _, _, _, _, _, _, _, _] W _ = _; after_results_simp; refine at_congr fun k => ?_
  match k with
    | 0 => show 𝐬 main_v35 = _; after_results_simp; rw [hV]; rfl
    | 1 => show 𝐬 main_c_26 = _; after_results_simp; rfl
    | 2 => show 𝐬 main_c_27 = _; after_results_simp; rfl
    | 3 => show 𝐬 main_c_28 = _; after_results_simp; rfl
-- ==== Proof.GathValue.lean ====
/-
The gathering against its reference: the reference, on one device, reads each stack of eight matrices as four chips by two
halves. Its run; what a device's result shows of the others' arrays; and that every device's result is the reference's.
-/
module

public import proofs.«01_k».proof.Proof.GathRun
public import proofs.«01_k».proof.Proof.GathHost
public import proofs.«01_k».proof.Proof.Gen.GathRefIdeal
public import proofs.«01_k».proof.Proof.Gen.Gath
public import proofs.«01_k».proof.Defs
public import Idealize.ShloMosaic.Lib.StableHlo.Run
public import Idealize.ShloMosaic.Lib.Pipeline.Value
public import Idealize.ShloMosaic.Lib.WordCmp
public import Idealize.ShloMosaic.Lib.Pointwise.ShapeOpsCore

@[expose] public section
noncomputable section
namespace Cert.GathRef

open Cert.GathRefIdeal Cert.GathRefIdeal.Gen
open Idealize.ShloMosaic Idealize.ShloMosaic.TcCoe Idealize.ShloMosaic.StableHlo Idealize.SL.Sem
open Cert.GathProof (Rw Ln SI SO chip core chip_lt core_lt)

variable {F : FTy → Type} [FloatOps F]

/-! ## The reference -/

/-- Its arrays; each array is the devices' arrays laid along the rows, a chip's two cores having the same. -/
abbrev WI (a : Fin 5) : Shape := ⟨3, ![8, Rw a, Ln a]⟩
theorem four : ∀ a : Fin 5, (WI a).ShapeCasts (SO a) := by decide
theorem tiles : ∀ a : Fin 5, Layout.TilesN (SI a) (WI a) (fun b => Layout.cutSize [2, 2, 2] ((![[0, 1], [], []] : Fin 3 → List Nat) b)) := by decide
/-- The reference's result `a`; device `d`'s part of array `a`. -/
def split {α : Type} (a : Fin 5) (p : (WI a).Idx → α) : (SO a).Idx → α := shapeCast (SO a) p (four a)
def own {α : Type} (a : Fin 5) (d : Fin 8) (p : (WI a).Idx → α) : (SI a).Idx → α := Layout.blockN (SI a) (WI a) (Layout.meshBlock [2, 2, 2] ![[0, 1], [], []] d) p (tiles a)

abbrev ops : List (HloOp τ sig (Elt F)) :=
  [ reshape main_arg0 main_v0 (rfl : (.bf16 : EltTy) = .bf16) shapeCasts_S8x1024x1668_S4x2x1024x1668, reshape main_arg1 main_v1 (rfl : (.bf16 : EltTy) = .bf16) shapeCasts_S8x1024x1408_S4x2x1024x1408,
    reshape main_arg2 main_v2 (rfl : (.bf16 : EltTy) = .bf16) shapeCasts_S8x704x1024_S4x2x704x1024,
    reshape main_arg3 main_v3 (rfl : (.bf16 : EltTy) = .bf16) shapeCasts_S8x256x1024_S4x2x256x1024,
    reshape main_arg4 main_v4 (rfl : (.bf16 : EltTy) = .bf16) shapeCasts_S8x416x128_S4x2x416x128 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  by repeat (first | exact unary_bufs_sub .. | exact reshape_bufs_sub .. | exact binary_bufs_sub .. | refine ⟨?_, ?_⟩)

set_option maxHeartbeats 2000000 in
/-- The reference ends with each result split from its array, and its arrays unchanged. -/
theorem run (m : (ℓ : Loc nD τ sig) → Buf (Elt F) ℓ) (ρ : Dev nD → PrngReg) : θ_run defs (onTc (τ := τ) (main (F := F))) ⟨m, fun _ => 0, ρ⟩ fun r => ∀ c : Dev nD,
      r.2.mem (c.tc.loc main_v0) = split (α := Elt F .bf16) 0 (m (c.tc.loc main_arg0)) ∧ r.2.mem (c.tc.loc main_v1) = split (α := Elt F .bf16) 1 (m (c.tc.loc main_arg1))
      ∧ r.2.mem (c.tc.loc main_v2) = split (α := Elt F .bf16) 2 (m (c.tc.loc main_arg2)) ∧ r.2.mem (c.tc.loc main_v3) = split (α := Elt F .bf16) 3 (m (c.tc.loc main_arg3))
      ∧ r.2.mem (c.tc.loc main_v4) = split (α := Elt F .bf16) 4 (m (c.tc.loc main_arg4)) ∧ r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3) ∧ r.2.mem (c.tc.loc main_arg4) = m (c.tc.loc main_arg4) :=
  (θ_run defs _ _).mono (fun _ h c => by and_intros <;> exact (h c _).trans (by after_results_simp <;> rfl))
    (run_seq scopedRefs_eq scopedSems_eq defs main (fun _ => ops) main_eq (fun _ => ops_sub) m ρ)

/-! ## Single elements -/

/-- Element `(x, y)` of half `h` of a device's array; of half `h` of chip `s` of a result; of the reference's array. -/
def at3 (a : Fin 5) (h : Fin 2) (x : Fin (Rw a)) (y : Fin (Ln a)) : (SI a).Idx := fun
  | ⟨0, _⟩ => h | ⟨1, _⟩ => x | ⟨2, _⟩ => y
def at4 (a : Fin 5) (s : Fin 4) (h : Fin 2) (x : Fin (Rw a)) (y : Fin (Ln a)) : (SO a).Idx := fun
  | ⟨0, _⟩ => s | ⟨1, _⟩ => h | ⟨2, _⟩ => x | ⟨3, _⟩ => y
def atW (a : Fin 5) (s : Fin 4) (h : Fin 2) (x : Fin (Rw a)) (y : Fin (Ln a)) : (WI a).Idx := fun
  | ⟨0, _⟩ => ⟨s.val * 2 + h.val, by show s.val * 2 + h.val < 8; omega⟩ | ⟨1, _⟩ => x | ⟨2, _⟩ => y

theorem at4_eta (a : Fin 5) (i : (SO a).Idx) : at4 a (i 0) (i 1) (i 2) (i 3) = i := funext fun b => by fin_cases b <;> rfl

/-- Device `d`'s chip and core, as places. -/
def chipF (d : Fin 8) : Fin 4 := ⟨chip d, chip_lt d⟩
def coreF (d : Fin 8) : Fin 2 := ⟨core d, core_lt d⟩

/-- Half `h` of chip `s` of the reference's result. -/
theorem split_apply {α : Type} (a : Fin 5) (p : (WI a).Idx → α) (s : Fin 4) (h : Fin 2) (u : Fin (Rw a)) (v : Fin (Ln a)) : split a p (at4 a s h u v) = p (atW a s h u v) :=
  shapeCast_apply p (four a) _ _ (by
    rw [Shape.rowMajor_val_four, Shape.rowMajor_val_three]
    rfl)

theorem lin_eq : ∀ d : Fin 8, Layout.meshLin [2, 2, 2] d.val [0, 1] = chip d := by decide

/-- Half `h` of device `d`'s part. -/
theorem own_apply {α : Type} (a : Fin 5) (p : (WI a).Idx → α) (d : Fin 8) (h : Fin 2) (u : Fin (Rw a)) (v : Fin (Ln a)) : own a d p (at3 a h u v) = p (atW a (chipF d) h u v) := by
  refine congrArg p (funext fun b => Fin.ext ?_)
  fin_cases b
  · show Layout.meshLin [2, 2, 2] d.val [0, 1] * 2 + h.val = chip d * 2 + h.val; rw [lin_eq]
  · show 0 * Rw a + u.val = u.val; omega
  · show 0 * Ln a + v.val = v.val; omega

end Cert.GathRef

namespace Cert.GathProof

open GathIdeal Gen
open Idealize ShloMosaic TcCoe SL.Sem
open GathRef (at3 at4 at4_eta atW WI own own_apply split split_apply chipF coreF)

variable {F : FTy → Type} [FloatOps F]
local notation:max c:max "♯" => (c : Thread nD τ)

/-! ## What a device's result holds -/

/-- Element `(x, y)` of one matrix, of a half of an array and of a place. -/
def at2 (a : Fin 5) (x : Fin (Rw a)) (y : Fin (Ln a)) : (SM a).Idx := fun
  | ⟨0, _⟩ => x | ⟨1, _⟩ => y
def atH (a : Fin 5) (x : Fin (Rw a)) (y : Fin (Ln a)) : (SH a).Idx := fun
  | ⟨0, _⟩ => ⟨0, Nat.one_pos⟩ | ⟨1, _⟩ => x | ⟨2, _⟩ => y
def atP (a : Fin 5) (x : Fin (Rw a)) (y : Fin (Ln a)) : (SP a).Idx := fun
  | ⟨0, _⟩ => ⟨0, Nat.one_pos⟩ | ⟨1, _⟩ => ⟨0, Nat.one_pos⟩ | ⟨2, _⟩ => x | ⟨3, _⟩ => y

/-- The half at `[h, 0, 0]` of an array holds what is at `h` of the array. -/
theorem read_hlf (a : Fin 5) (o : Fin 3 → Nat) (hi) (h : Fin 2) (ho : o = ![h.val, 0, 0]) (f : (inM a).view.ty.Contents (Elt F)) (x : Fin (Rw a)) (y : Fin (Ln a)) :
    (hlf a o hi).view.read (Elt F) f (at2 a x y) = (inM a).view.read (Elt F) f (at3 a h x y) := by
  have h' : Shape.reshapeEquiv (sqH a).numel_eq (at2 a x y) = atH a x y := Shape.reshapeEquiv_eq_of_rowMajor _ (by
    rw [Shape.rowMajor_val_three, Shape.rowMajor_val_two]; show (0 * Rw a + x.val) * Ln a + y.val = x.val * Ln a + y.val
    rw [Nat.zero_mul, Nat.zero_add])
  show (inM a).view.read (Elt F) f ((Rect.unit (s := SI a) o (SH a).size hi).emb (Shape.reshapeEquiv (sqH a).numel_eq (at2 a x y))) = _; rw [h']; refine congrArg _ (funext fun b => Fin.ext ?_)
  show o b + 1 * (atH a x y b).val = _; rw [ho]
  fin_cases b
  · show h.val + 1 * 0 = h.val; omega
  · show 0 + 1 * x.val = x.val; omega
  · show 0 + 1 * y.val = y.val; omega

/-- The place at `[s, h, 0, 0]` of a result holds what is at half `h` of chip `s` of the result. -/
theorem read_blk (a : Fin 5) (o : Fin 4 → Nat) (hi) (s : Fin 4) (h : Fin 2) (ho : o = ![s.val, h.val, 0, 0]) (f : (outM a).view.ty.Contents (Elt F)) (x : Fin (Rw a)) (y : Fin (Ln a)) :
    (blk a o hi).view.read (Elt F) f (at2 a x y) = (outM a).view.read (Elt F) f (at4 a s h x y) := by
  have h' : Shape.reshapeEquiv (sqP a).numel_eq (at2 a x y) = atP a x y := Shape.reshapeEquiv_eq_of_rowMajor _ (by
    rw [Shape.rowMajor_val_four, Shape.rowMajor_val_two]; show ((0 * 1 + 0) * Rw a + x.val) * Ln a + y.val = x.val * Ln a + y.val
    rw [Nat.zero_mul, Nat.zero_add])
  show (outM a).view.read (Elt F) f ((Rect.unit (s := SO a) o (SP a).size hi).emb (Shape.reshapeEquiv (sqP a).numel_eq (at2 a x y))) = _; rw [h']; refine congrArg _ (funext fun b => Fin.ext ?_)
  show o b + 1 * (atP a x y b).val = _; rw [ho]
  fin_cases b
  · show s.val + 1 * 0 = s.val; omega
  · show h.val + 1 * 0 = h.val; omega
  · show 0 + 1 * x.val = x.val; omega
  · show 0 + 1 * y.val = y.val; omega

variable (m : (ℓ : Loc nD τ sig) → Buf (Elt F) ℓ)

/-- A first copy carries the half of its device's core. -/
theorem first_apply (k : Cp) (d : Dev nD) (x : Fin (Rw k.1)) (y : Fin (Ln k.1)) : first m k d (at2 k.1 x y) = (inM k.1).view.read (Elt F) (m (inLoc k.1 d)) (at3 k.1 (coreF d) x y) :=
  read_hlf k.1 (halfT k.1 d) (half_inb k.1 d) (coreF d) (half_eq k.1 d) _ x y

/-- The device whose array copy `q` brings to device `c`, at first hand or passed on. -/
def orig (q : Bool × Fin 3) (c : Dev nD) : Dev nD := pal q.2 (if q.1 then sib c else c)
theorem orig_chip : ∀ (q : Bool × Fin 3) (c : Dev nD), chip (pal q.2 c) = chip (orig q c) := by decide
theorem orig_core : ∀ (q : Bool × Fin 3) (c : Dev nD), core (if q.1 then sib c else c) = core (orig q c) := by decide

theorem load_eq (a : Fin 5) : ∀ (q : Bool × Fin 3) (c : Dev nD), load m (a, q) (peer (a, q) c) = first m (a, q.2) (orig q c)
  | (false, j), c => rfl
  | (true, j), c => View.read_write_univ _ _

/-- After the kernel, a result holds at the place of every device of another chip that device's half. -/
theorem moved {c : Dev nD} {g : (a : Fin 5) → Buf (Elt F) (outLoc a c)} (h : Got m c g) (a : Fin 5) (q : Bool × Fin 3) (x : Fin (Rw a)) (y : Fin (Ln a)) :
    (outM a).view.read (Elt F) (g a) (at4 a (chipF (orig q c)) (coreF (orig q c)) x y) = (inM a).view.read (Elt F) (m (inLoc a (orig q c))) (at3 a (coreF (orig q c)) x y) := by
  have h1 : (got (a, q) c).view.read (Elt F) (g a) = load m (a, q) (peer (a, q) c) :=
    (View.read_congr fun i hi => h a q i hi).trans (View.read_write_univ _ _)
  have h2 := congrFun (h1.trans (load_eq m a q c)) (at2 a x y)
  rw [show (got (a, q) c).view.read (Elt F) (g a) (at2 a x y) = _ from
      read_blk a (gotT (a, q) c) _ (chipF (orig q c)) (coreF (orig q c)) ((got_off (a, q) c).trans (by
        show (![chip (pal q.2 c), core (if q.1 then sib c else c), 0, 0] : Fin 4 → Nat) = ![chip (orig q c), core (orig q c), 0, 0]
        rw [orig_chip, orig_core])) (g a) x y,
    first_apply m (a, q.2)] at h2
  exact h2

/-- A device's own array as its chip's part of a result. -/
abbrev SU (a : Fin 5) : Shape := ⟨4, ![1, 2, Rw a, Ln a]⟩
/-- The chip's part of `x` replaced by `p`. -/
def fill {α : Type} (a : Fin 5) (c : Dev nD) (x : (SO a).Idx → α) (p : (SI a).Idx → α) (hb : (SI a).BroadcastsInDim (SU a) ![1, 2, 3]) (hu : (SO a).Slices (fun _ => 0) (SU a)) : (SO a).Idx → α :=
  Host.dynamicUpdateSlice x (broadcastInDim (SU a) ![1, 2, 3] hb p) (at0 (F := F) c) hu

theorem fits (a : Fin 5) (c : Dev nD) : (SO a).Slices (![chip c, 0, 0, 0] : Fin 4 → Nat) (SU a) := ⟨rfl, fun i => by
  have := chip_lt c
  fin_cases i
  · show chip c + 1 ≤ 4; omega
  · exact (Nat.zero_add _).le
  · exact (Nat.zero_add _).le
  · exact (Nat.zero_add _).le⟩

theorem fill_apply {α : Type} (a : Fin 5) (c : Dev nD) (x : (SO a).Idx → α) (p : (SI a).Idx → α) (hb hu) (s : Fin 4) (h : Fin 2) (u : Fin (Rw a)) (v : Fin (Ln a)) :
    fill (F := F) a c x p hb hu (at4 a s h u v) = if s = chipF c then p (at3 a h u v) else x (at4 a s h u v) := by
  unfold fill; rw [Idealize.ShloMosaic.WordCmp.dynamicUpdateSlice_eq_update x _ _ hu _ (fits a c) (at0_eq c), Idealize.ShloMosaic.updateSlice_apply]; by_cases hs : s = chipF c
  · subst hs
    rw [if_pos rfl, dif_pos (fun b => by
      fin_cases b
      · exact ⟨le_rfl, Nat.lt_succ_self _⟩
      · exact ⟨Nat.zero_le _, (Nat.zero_add 2).symm ▸ h.isLt⟩
      · exact ⟨Nat.zero_le _, (Nat.zero_add (Rw a)).symm ▸ u.isLt⟩
      · exact ⟨Nat.zero_le _, (Nat.zero_add (Ln a)).symm ▸ v.isLt⟩)]
    refine broadcastInDim_apply _ hb p _ _ fun b => ?_; have hR : Rw a ≠ 1 := (by decide : ∀ a, Rw a ≠ 1) a; have hL : Ln a ≠ 1 := (by decide : ∀ a, Ln a ≠ 1) a
    fin_cases b
    · show h.val = if (2 : ℕ) = 1 then 0 else h.val - 0; rw [if_neg (by decide)]; rfl
    · show u.val = if Rw a = 1 then 0 else u.val - 0; rw [if_neg hR]; rfl
    · show v.val = if Ln a = 1 then 0 else v.val - 0; rw [if_neg hL]; rfl
  · rw [if_neg hs, dif_neg (fun hin => hs (Fin.ext (by
      have h0 := hin 0; have h1 : chip c ≤ s.val := h0.1; have h2 : s.val < chip c + 1 := h0.2; show s.val = chip c
      omega)))]

theorem cover : ∀ (c : Dev nD) (s : Fin 4) (h : Fin 2), s ≠ chipF c → ∃ q : Bool × Fin 3, s = chipF (orig q c) ∧ h = coreF (orig q c) := by decide +kernel

/-- Where every device's array `a` is its part of `p`, result `a` of every device is what the reference splits of `p`. -/
theorem result {c : Dev nD} {g : (a : Fin 5) → Buf (Elt F) (outLoc a c)} (hg : Got m c g) (a : Fin 5) (p : (WI a).Idx → Elt F .bf16) (hb hu)
    (hp : ∀ d : Dev nD, (inM a).view.read (Elt F) (m (inLoc a d)) = own a d p) :
    fill (F := F) a c ((outM a).view.read (Elt F) (g a)) ((inM a).view.read (Elt F) (m (inLoc a c))) hb hu = split a p := by
  have H (s : Fin 4) (h : Fin 2) (x : Fin (Rw a)) (y : Fin (Ln a)) :
      fill (F := F) a c ((outM a).view.read (Elt F) (g a)) ((inM a).view.read (Elt F) (m (inLoc a c))) hb hu (at4 a s h x y) = split a p (at4 a s h x y) := by
    rw [fill_apply, split_apply]; by_cases hs : s = chipF c
    · subst hs; rw [if_pos rfl, hp, own_apply]
    · obtain ⟨q, rfl, rfl⟩ := cover c s h hs; rw [if_neg hs, moved m hg, hp, own_apply]
  exact funext fun i => at4_eta a i ▸ H (i 0) (i 1) (i 2) (i 3)

/-! ## The end of a run -/

theorem unscoped : ∀ r ∈ ([main_arg0, main_arg1, main_arg2, main_arg3, main_arg4, main_v16, main_v21, main_v26, main_v31, main_v36] : List (Ref sig .tc)),
    Proc.devRef .tc r ∈ Pipeline.ucRefs τ sig := fun r hr => Finset.mem_filter.mpr ⟨by revert r; decide +kernel, by revert r; decide +kernel⟩

/-- No host operation writes an array. -/
theorem args {c : Dev nD} {st : MemSt nD τ sig (Elt F)} (h : Shows m c st) (a : Fin 5) : st.mem (inLoc a c) = m (inLoc a c) := by
  obtain ⟨g, -, h⟩ := h
  have H (r : Ref sig .tc) (hr : r ∉ hostOps1_W) (hu : Proc.devRef .tc r ∈ Pipeline.ucRefs τ sig) : st.mem (c♯.loc r) = W m c g r :=
    (h _ hu).trans (StableHlo.after_of_writes_sub (hostOps1 c) _ (hostOps1_writes c) hr)
  match a with
  | 0 => exact (H main_arg0 (by decide) (unscoped _ (by decide))).trans (W_in m c g 0)
  | 1 => exact (H main_arg1 (by decide) (unscoped _ (by decide))).trans (W_in m c g 1)
  | 2 => exact (H main_arg2 (by decide) (unscoped _ (by decide))).trans (W_in m c g 2)
  | 3 => exact (H main_arg3 (by decide) (unscoped _ (by decide))).trans (W_in m c g 3)
  | 4 => exact (H main_arg4 (by decide) (unscoped _ (by decide))).trans (W_in m c g 4)

/-! ## The claims -/

/-- Every run of the kernel ends with its arrays unchanged and every semaphore back at zero. -/
def Frame (F : FTy → Type) [FloatOps F] : Prop :=
  ∀ (m : (ℓ : Loc nD τ sig) → Buf (Elt F) ℓ) (g : Dev nD → PrngReg),
    θ_run (defs (F := F)) (onTc (τ := τ) (main (F := F))) ⟨m, fun _ => 0, g⟩ (fun r => (∀ c : Dev nD, r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0)

theorem frame : Frame F := fun m g => (θ_run defs _ _).mono
  (fun _ h => ⟨fun c => ⟨args m (h.1 c) 0, args m (h.1 c) 1, args m (h.1 c) 2, args m (h.1 c) 3, args m (h.1 c) 4⟩, h.2⟩) (run_main m g)

set_option maxRecDepth 16384 in
set_option maxHeartbeats 4000000 in
/-- The kernel over machine numbers is the same text. -/
theorem quiet_gath : quiescent_Gath := fun m g _ => frame (F := Bits) m g
set_option maxRecDepth 16384 in
/-- The kernel over real numbers. -/
theorem quiet_ideal : quiescent_GathIdeal := fun m g _ => frame (F := Ideal) m g
/-- The reference has no semaphore. -/
theorem quiet_ref : quiescent_GathRefIdeal := fun m g _ => (θ_run _ _ _).mono
  (fun r h => ⟨fun c => (h c).2.2.2.2.2, sem_eq_zero_of_no_sems rfl r.2⟩) (GathRef.run m g)

/-- From arrays dealt over the chips, every device's result is the whole of the reference's. -/
theorem value : algebraic_GathIdeal_GathRefIdeal := fun m g m' g' _ hb =>
  ⟨split (α := Elt Ideal .bf16) 0 (m' ((0 : Dev GathRefIdeal.nD).tc.loc GathRefIdeal.main_arg0)), split (α := Elt Ideal .bf16) 1 (m' ((0 : Dev GathRefIdeal.nD).tc.loc GathRefIdeal.main_arg1)),
      split (α := Elt Ideal .bf16) 2 (m' ((0 : Dev GathRefIdeal.nD).tc.loc GathRefIdeal.main_arg2)),
      split (α := Elt Ideal .bf16) 3 (m' ((0 : Dev GathRefIdeal.nD).tc.loc GathRefIdeal.main_arg3)),
      split (α := Elt Ideal .bf16) 4 (m' ((0 : Dev GathRefIdeal.nD).tc.loc GathRefIdeal.main_arg4)),
    (θ_run defs _ _).mono (fun _ h c => by
      obtain ⟨gg, hg, hv⟩ := h.1 c
      exact ⟨((hv _ (unscoped main_v16 (by decide))).trans (host0 c _)).trans (result m hg 0 _ _ _ fun d => (hb d).1),
        ((hv _ (unscoped main_v21 (by decide))).trans (host1 c _)).trans (result m hg 1 _ _ _ fun d => (hb d).2.1),
        ((hv _ (unscoped main_v26 (by decide))).trans (host2 c _)).trans (result m hg 2 _ _ _ fun d => (hb d).2.2.1),
        ((hv _ (unscoped main_v31 (by decide))).trans (host3 c _)).trans (result m hg 3 _ _ _ fun d => (hb d).2.2.2.1),
        ((hv _ (unscoped main_v36 (by decide))).trans (host4 c _)).trans (result m hg 4 _ _ _ fun d => (hb d).2.2.2.2),
        args m (h.1 c) 0, args m (h.1 c) 1, args m (h.1 c) 2, args m (h.1 c) 3, args m (h.1 c) 4⟩) (run_main m g),
    (θ_run _ _ _).mono (fun _ h => h 0) (GathRef.run m' g')⟩
-- ==== Proof.Quiet.lean ====
/- The frame of a host program: a program without semaphores ends with none of its counters moved. -/
module

public import Idealize.ShloMosaic.Adequacy
public import Idealize.ShloMosaic.Init
public import Idealize.ShloMosaic.Lib.Quiescent

@[expose] public section

namespace Cert.Step

open Idealize.ShloMosaic Idealize.SL.Sem

/-- A run of a program that has no semaphore at all, of which `X` holds of every device at the end, ends quiescent,
    with whatever `A` follows from `X`. -/
theorem quiet {nD : Nat} {τ : Topo} {sig : RefSig} {Val : EltTy → Type} {Λ : Labels} {defs : Defs nD τ sig Val Λ} {p : (c : Thread nD τ) → Prog (TpuEff nD τ sig Val Λ c.2) PUnit}
    {s : MemSt nD τ sig Val} {X A : PUnit × MemSt nD τ sig Val → Dev nD → Prop} (hs : sig.nSem + sig.nDmaSem = 0) (hA : ∀ r c, X r c → A r c) (h : θ_run defs p s fun r => ∀ c, X r c) :
    θ_run defs p s fun r => (∀ c, A r c) ∧ r.2.sem = fun _ => 0 :=
  (θ_run defs p s).mono (fun r hr => ⟨fun c => hA r c (hr c), sem_eq_zero_of_no_sems hs r.2⟩) h
-- ==== Proof.lean ====
module

public import proofs.«01_k».proof.Defs
public import proofs.«01_k».proof.Proof.DownW
public import proofs.«01_k».proof.Proof.Gen.DownW.Frame
public import proofs.«01_k».proof.Proof.UpW
public import proofs.«01_k».proof.Proof.Gen.UpW.Frame
public import proofs.«01_k».proof.Proof.OutW
public import proofs.«01_k».proof.Proof.Gen.OutW.Frame
public import proofs.«01_k».proof.Proof.QkvW
public import proofs.«01_k».proof.Proof.Gen.QkvW.Frame
public import proofs.«01_k».proof.Proof.GateW
public import proofs.«01_k».proof.Proof.Gen.GateW.Frame
public import proofs.«01_k».proof.Proof.PoolBaW
public import proofs.«01_k».proof.Proof.Gen.PoolBaW.Frame
public import proofs.«01_k».proof.Proof.DownX
public import proofs.«01_k».proof.Proof.Gen.DownX.Frame
public import proofs.«01_k».proof.Proof.OutX
public import proofs.«01_k».proof.Proof.Gen.OutX.Frame
public import proofs.«01_k».proof.Proof.UpX
public import proofs.«01_k».proof.Proof.Gen.UpX.Frame
public import proofs.«01_k».proof.Proof.InX
public import proofs.«01_k».proof.Proof.Gen.InX.Frame
public import proofs.«01_k».proof.Proof.QkvF
public import proofs.«01_k».proof.Proof.Gen.QkvF.Frame
public import proofs.«01_k».proof.Proof.ZF
public import proofs.«01_k».proof.Proof.Gen.ZF.Frame
public import proofs.«01_k».proof.Proof.GateF
public import proofs.«01_k».proof.Proof.Gen.GateF.Frame
public import proofs.«01_k».proof.Proof.PoolBaF
public import proofs.«01_k».proof.Proof.Gen.PoolBaF.Frame
public import proofs.«01_k».proof.Proof.UpF
public import proofs.«01_k».proof.Proof.Gen.UpF.Frame
public import proofs.«01_k».proof.Proof.Rms
public import proofs.«01_k».proof.Proof.Gen.Rms.Frame
public import proofs.«01_k».proof.Proof.OutF
public import proofs.«01_k».proof.Proof.Gen.OutF.Frame
public import proofs.«01_k».proof.Proof.DownF
public import proofs.«01_k».proof.Proof.Gen.DownF.Frame
public import proofs.«01_k».proof.Proof.Conv
public import proofs.«01_k».proof.Proof.Gen.Conv.Frame
public import proofs.«01_k».proof.Proof.Mix
public import proofs.«01_k».proof.Proof.Gen.Mix.Frame
public import proofs.«01_k».proof.Proof.Pool
public import proofs.«01_k».proof.Proof.Gen.Pool.Frame
public import proofs.«01_k».proof.Proof.FfnMid
public import proofs.«01_k».proof.Proof.Gen.FfnMid.Frame
public import proofs.«01_k».proof.Proof.RmsF
public import proofs.«01_k».proof.Proof.Gen.RmsF.Frame
public import proofs.«01_k».proof.Proof.ConvF
public import proofs.«01_k».proof.Proof.Gen.ConvF.Frame
public import proofs.«01_k».proof.Proof.PoolF
public import proofs.«01_k».proof.Proof.Gen.PoolF.Frame
public import proofs.«01_k».proof.Proof.MixF
public import proofs.«01_k».proof.Proof.Gen.MixF.Frame
public import proofs.«01_k».proof.Proof.FfnF
public import proofs.«01_k».proof.Proof.Gen.FfnF.Frame
public import proofs.«01_k».proof.Proof.DownL
public import proofs.«01_k».proof.Proof.Gen.DownL.Frame
public import proofs.«01_k».proof.Proof.Loss
public import proofs.«01_k».proof.Proof.Gen.Loss.Frame
public import proofs.«01_k».proof.Proof.AdIn
public import proofs.«01_k».proof.Proof.Gen.AdIn.Frame
public import proofs.«01_k».proof.Proof.AdUp
public import proofs.«01_k».proof.Proof.Gen.AdUp.Frame
public import proofs.«01_k».proof.Proof.AdOut
public import proofs.«01_k».proof.Proof.Gen.AdOut.Frame
public import proofs.«01_k».proof.Proof.AdDown
public import proofs.«01_k».proof.Proof.Gen.AdDown.Frame
public import proofs.«01_k».proof.Proof.AdPool
public import proofs.«01_k».proof.Proof.Gen.AdPool.Frame
public import proofs.«01_k».proof.Proof.AdConvQ
public import proofs.«01_k».proof.Proof.Gen.AdConvQ.Frame
public import proofs.«01_k».proof.Proof.AdConvF
public import proofs.«01_k».proof.Proof.Gen.AdConvF.Frame
public import proofs.«01_k».proof.Proof.AdMeta
public import proofs.«01_k».proof.Proof.Gen.AdMeta.Frame
public import proofs.«01_k».proof.Proof.AdNorm
public import proofs.«01_k».proof.Proof.Gen.AdNorm.Frame
public import proofs.«01_k».proof.Proof.AdHead
public import proofs.«01_k».proof.Proof.Gen.AdHead.Frame
public import proofs.«01_k».proof.Proof.AdHeadN
public import proofs.«01_k».proof.Proof.Gen.AdHeadN.Frame
public import proofs.«01_k».proof.Proof.AdFin
public import proofs.«01_k».proof.Proof.Gen.AdFin.Frame
public import proofs.«01_k».proof.Proof.Gen.GdnB.Frame
public import proofs.«01_k».proof.Proof.Gen.GdnBIdeal.Frame
public import proofs.«01_k».proof.Proof.SwapValue
public import proofs.«01_k».proof.Proof.ScatValue
public import proofs.«01_k».proof.Proof.GathValue
public import proofs.«01_k».proof.Proof.Gen.Swap
public import proofs.«01_k».proof.Proof.Gen.SwapRefIdeal
public import proofs.«01_k».proof.Proof.Gen.Scat
public import proofs.«01_k».proof.Proof.Gen.ScatRefIdeal
public import proofs.«01_k».proof.Proof.Gen.Gath
public import proofs.«01_k».proof.Proof.Gen.GathRefIdeal
public import proofs.«01_k».proof.Proof.Quiet

@[expose] public section

noncomputable section

namespace Cert.Proof

open Idealize.ShloMosaic Idealize.SL.Sem

set_option quotPrecheck false
local notation "𝒻" f => fun m ρ _ => f m ρ
local notation "𝓆" f => fun m ρ _ => Step.quiet (by decide) (fun _ _ h => h.2) (f (F := Ideal) m ρ)
local notation "𝓇" f => fun m ρ _ => Step.quiet (by decide) (fun _ _ h => h.2.2.2) (f (F := Ideal) m ρ)
local notation "𝓉" f => fun m ρ _ => Step.quiet (by decide) (fun _ _ h => h.2.2.2.2) (f (F := Ideal) m ρ)
local notation "𝓊" f => fun m ρ _ => Step.quiet (by decide) (fun _ _ h => h.2.2) (f (F := Ideal) m ρ)

/-- Every claim stated in the statement: the witnesses of the programs' facts, then the frames, then of each call that the
    idealised kernel is the kernel and that it returns what its reference returns. -/
theorem claim : Cert.Claim := ⟨GdnB.Gen.facts, GdnBIdeal.Gen.facts, DownW.Gen.facts, DownWIdeal.Gen.facts, DownWRefIdeal.Gen.facts, UpW.Gen.facts, UpWIdeal.Gen.facts, UpWRefIdeal.Gen.facts,
    OutW.Gen.facts, OutWIdeal.Gen.facts, OutWRefIdeal.Gen.facts, QkvW.Gen.facts, QkvWIdeal.Gen.facts, QkvWRefIdeal.Gen.facts, GateW.Gen.facts, GateWIdeal.Gen.facts, GateWRefIdeal.Gen.facts,
    PoolBaW.Gen.facts, PoolBaWIdeal.Gen.facts, PoolBaWRefIdeal.Gen.facts, DownX.Gen.facts, DownXIdeal.Gen.facts, DownXRefIdeal.Gen.facts, OutX.Gen.facts, OutXIdeal.Gen.facts,
    OutXRefIdeal.Gen.facts, UpX.Gen.facts, UpXIdeal.Gen.facts, UpXRefIdeal.Gen.facts, InX.Gen.facts, InXIdeal.Gen.facts, InXRefIdeal.Gen.facts, QkvF.Gen.facts, QkvFIdeal.Gen.facts,
    QkvFRefIdeal.Gen.facts, ZF.Gen.facts, ZFIdeal.Gen.facts, ZFRefIdeal.Gen.facts, GateF.Gen.facts, GateFIdeal.Gen.facts, GateFRefIdeal.Gen.facts, PoolBaF.Gen.facts, PoolBaFIdeal.Gen.facts,
    PoolBaFRefIdeal.Gen.facts, UpF.Gen.facts, UpFIdeal.Gen.facts, UpFRefIdeal.Gen.facts, Rms.Gen.facts, RmsIdeal.Gen.facts, RmsRefIdeal.Gen.facts, OutF.Gen.facts, OutFIdeal.Gen.facts,
    OutFRefIdeal.Gen.facts, DownF.Gen.facts, DownFIdeal.Gen.facts, DownFRefIdeal.Gen.facts, Conv.Gen.facts, ConvIdeal.Gen.facts, ConvRefIdeal.Gen.facts, Mix.Gen.facts, MixIdeal.Gen.facts,
    MixRefIdeal.Gen.facts, Pool.Gen.facts, PoolIdeal.Gen.facts, PoolRefIdeal.Gen.facts, FfnMid.Gen.facts, FfnMidIdeal.Gen.facts, FfnMidRefIdeal.Gen.facts, RmsF.Gen.facts, RmsFIdeal.Gen.facts,
    RmsFRefIdeal.Gen.facts, ConvF.Gen.facts, ConvFIdeal.Gen.facts, ConvFRefIdeal.Gen.facts, PoolF.Gen.facts, PoolFIdeal.Gen.facts, PoolFRefIdeal.Gen.facts, MixF.Gen.facts, MixFIdeal.Gen.facts,
    MixFRefIdeal.Gen.facts, FfnF.Gen.facts, FfnFIdeal.Gen.facts, FfnFRefIdeal.Gen.facts, DownL.Gen.facts, DownLIdeal.Gen.facts, DownLRefIdeal.Gen.facts, Loss.Gen.facts, LossIdeal.Gen.facts,
    LossRefIdeal.Gen.facts, AdIn.Gen.facts, AdInIdeal.Gen.facts, AdInRefIdeal.Gen.facts, AdUp.Gen.facts, AdUpIdeal.Gen.facts, AdUpRefIdeal.Gen.facts, AdOut.Gen.facts, AdOutIdeal.Gen.facts,
    AdOutRefIdeal.Gen.facts, AdDown.Gen.facts, AdDownIdeal.Gen.facts, AdDownRefIdeal.Gen.facts, AdPool.Gen.facts, AdPoolIdeal.Gen.facts, AdPoolRefIdeal.Gen.facts, AdConvQ.Gen.facts,
    AdConvQIdeal.Gen.facts, AdConvQRefIdeal.Gen.facts, AdConvF.Gen.facts, AdConvFIdeal.Gen.facts, AdConvFRefIdeal.Gen.facts, AdMeta.Gen.facts, AdMetaIdeal.Gen.facts, AdMetaRefIdeal.Gen.facts,
    AdNorm.Gen.facts, AdNormIdeal.Gen.facts, AdNormRefIdeal.Gen.facts, AdHead.Gen.facts, AdHeadIdeal.Gen.facts, AdHeadRefIdeal.Gen.facts, AdHeadN.Gen.facts, AdHeadNIdeal.Gen.facts,
    AdHeadNRefIdeal.Gen.facts, AdFin.Gen.facts, AdFinIdeal.Gen.facts, AdFinRefIdeal.Gen.facts, Swap.Gen.facts, SwapIdeal.Gen.facts, SwapRefIdeal.Gen.facts, Scat.Gen.facts, ScatIdeal.Gen.facts,
    ScatRefIdeal.Gen.facts, Gath.Gen.facts, GathIdeal.Gen.facts, GathRefIdeal.Gen.facts,
    𝒻 GdnB.Gen.frame, 𝒻 GdnBIdeal.Gen.frame, 𝒻 DownW.Gen.frame, 𝒻 DownWIdeal.Gen.frame, 𝓆 DownWRefIdeal.Value.run, 𝒻 UpW.Gen.frame, 𝒻 UpWIdeal.Gen.frame, 𝓆 UpWRefIdeal.Value.run, 𝒻
    OutW.Gen.frame, 𝒻 OutWIdeal.Gen.frame, 𝓆 OutWRefIdeal.Value.run, 𝒻 QkvW.Gen.frame, 𝒻 QkvWIdeal.Gen.frame, 𝓆 QkvWRefIdeal.Value.run, 𝒻 GateW.Gen.frame, 𝒻 GateWIdeal.Gen.frame, 𝓆
    GateWRefIdeal.Value.run, 𝒻 PoolBaW.Gen.frame, 𝒻 PoolBaWIdeal.Gen.frame, 𝓆 PoolBaWRefIdeal.Value.run, 𝒻 DownX.Gen.frame, 𝒻 DownXIdeal.Gen.frame, 𝓆 DownXRefIdeal.Value.run, 𝒻 OutX.Gen.frame,
    𝒻 OutXIdeal.Gen.frame, 𝓆 OutXRefIdeal.Value.run, 𝒻 UpX.Gen.frame, 𝒻 UpXIdeal.Gen.frame, 𝓆 UpXRefIdeal.Value.run, 𝒻 InX.Gen.frame, 𝒻 InXIdeal.Gen.frame, 𝓆 InXRefIdeal.Value.run, 𝒻
    QkvF.Gen.frame, 𝒻 QkvFIdeal.Gen.frame, 𝓆 QkvFRefIdeal.Value.run, 𝒻 ZF.Gen.frame, 𝒻 ZFIdeal.Gen.frame, 𝓆 ZFRefIdeal.Value.run, 𝒻 GateF.Gen.frame, 𝒻 GateFIdeal.Gen.frame, 𝓆
    GateFRefIdeal.Value.run, 𝒻 PoolBaF.Gen.frame, 𝒻 PoolBaFIdeal.Gen.frame, 𝓆 PoolBaFRefIdeal.Value.run, 𝒻 UpF.Gen.frame, 𝒻 UpFIdeal.Gen.frame, 𝓆 UpFRefIdeal.Value.run, 𝒻 Rms.Gen.frame, 𝒻
    RmsIdeal.Gen.frame, 𝓇 RmsRefIdeal.Value.run, 𝒻 OutF.Gen.frame, 𝒻 OutFIdeal.Gen.frame, 𝓇 OutFRefIdeal.Value.run, 𝒻 DownF.Gen.frame, 𝒻 DownFIdeal.Gen.frame, 𝓇 DownFRefIdeal.Value.run, 𝒻
    Conv.Gen.frame, 𝒻 ConvIdeal.Gen.frame, 𝓊 ConvRefIdeal.Value.run, 𝒻 Mix.Gen.frame, 𝒻 MixIdeal.Gen.frame, fun m ρ _ => Step.quiet (by decide) (fun _ _ h => h.2.2.2.2.2)
    (MixRefIdeal.Value.run (F := Ideal) m ρ), 𝒻 Pool.Gen.frame, 𝒻 PoolIdeal.Gen.frame, 𝓆 PoolRefIdeal.Value.run, 𝒻 FfnMid.Gen.frame, 𝒻 FfnMidIdeal.Gen.frame, 𝓉 FfnMidRefIdeal.Value.run, 𝒻
    RmsF.Gen.frame, 𝒻 RmsFIdeal.Gen.frame, 𝓊 RmsFRefIdeal.Value.run, 𝒻 ConvF.Gen.frame, 𝒻 ConvFIdeal.Gen.frame, 𝓆 ConvFRefIdeal.Value.run, 𝒻 PoolF.Gen.frame, 𝒻 PoolFIdeal.Gen.frame, 𝓆
    PoolFRefIdeal.Value.run, 𝒻 MixF.Gen.frame, 𝒻 MixFIdeal.Gen.frame, 𝓊 MixFRefIdeal.Value.run, 𝒻 FfnF.Gen.frame, 𝒻 FfnFIdeal.Gen.frame, 𝓉 FfnFRefIdeal.Value.run, 𝒻 DownL.Gen.frame, 𝒻
    DownLIdeal.Gen.frame, 𝓆 DownLRefIdeal.Value.run, 𝒻 Loss.Gen.frame, 𝒻 LossIdeal.Gen.frame, 𝓉 LossRefIdeal.Value.run, 𝒻 AdIn.Gen.frame, 𝒻 AdInIdeal.Gen.frame, 𝓇 AdInRefIdeal.Value.run, 𝒻
    AdUp.Gen.frame, 𝒻 AdUpIdeal.Gen.frame, 𝓇 AdUpRefIdeal.Value.run, 𝒻 AdOut.Gen.frame, 𝒻 AdOutIdeal.Gen.frame, 𝓇 AdOutRefIdeal.Value.run, 𝒻 AdDown.Gen.frame, 𝒻 AdDownIdeal.Gen.frame, 𝓇
    AdDownRefIdeal.Value.run, 𝒻 AdPool.Gen.frame, 𝒻 AdPoolIdeal.Gen.frame, 𝓇 AdPoolRefIdeal.Value.run, 𝒻 AdConvQ.Gen.frame, 𝒻 AdConvQIdeal.Gen.frame, 𝓇 AdConvQRefIdeal.Value.run, 𝒻
    AdConvF.Gen.frame, 𝒻 AdConvFIdeal.Gen.frame, 𝓇 AdConvFRefIdeal.Value.run, 𝒻 AdMeta.Gen.frame, 𝒻 AdMetaIdeal.Gen.frame, 𝓇 AdMetaRefIdeal.Value.run, 𝒻 AdNorm.Gen.frame, 𝒻
    AdNormIdeal.Gen.frame, 𝓇 AdNormRefIdeal.Value.run, 𝒻 AdHead.Gen.frame, 𝒻 AdHeadIdeal.Gen.frame, 𝓇 AdHeadRefIdeal.Value.run, 𝒻 AdHeadN.Gen.frame, 𝒻 AdHeadNIdeal.Gen.frame, 𝓇
    AdHeadNRefIdeal.Value.run, 𝒻 AdFin.Gen.frame, 𝒻 AdFinIdeal.Gen.frame, 𝓇 AdFinRefIdeal.Value.run, SwapProof.quiet_swap, SwapProof.quiet_ideal, SwapProof.quiet_ref, ScatProof.quiet_scat,
    ScatProof.quiet_ideal, ScatProof.quiet_ref, GathProof.quiet_gath, GathProof.quiet_ideal, GathProof.quiet_ref, trivial, trivial, Step.downW, trivial, Step.upW, trivial, Step.outW, trivial,
    Step.qkvW, trivial, Step.gateW, trivial, Step.poolBaW, trivial, Step.downX, trivial, Step.outX, trivial, Step.upX, trivial, Step.inX, trivial, Step.qkvF, trivial, Step.zF, trivial,
    Step.gateF, trivial, Step.poolBaF, trivial, Step.upF, trivial, Step.rmsB, trivial, Step.outF, trivial, Step.downF, trivial, Step.conv, trivial, Step.mix, trivial, Step.pool, trivial,
    Step.ffnMid, trivial, Step.rmsF, trivial, Step.convF, trivial, Step.poolF, trivial, Step.mixF, trivial, Step.ffnF, trivial, Step.downL, trivial, Step.loss, trivial, Step.adIn, trivial,
    Step.adUp, trivial, Step.adOut, trivial, Step.adDown, trivial, Step.adPool, trivial, Step.adConvQ, trivial, Step.adConvF, trivial, Step.adMeta, trivial, Step.adNorm, trivial, Step.adHead,
    trivial, Step.adHeadN, trivial, Step.adFin, trivial, SwapProof.value, trivial, ScatProof.value, trivial, GathProof.value⟩
